-- ==== Defs.lean ====
def Pre_ConvInput (m : (ℓ : Loc Cert.ConvInput.nD Cert.ConvInput.τ Cert.ConvInput.sig) → Buf (Elt Bits) ℓ) : Prop :=
  True

def Pre_ConvInputIdeal (m : (ℓ : Loc Cert.ConvInputIdeal.nD Cert.ConvInputIdeal.τ Cert.ConvInputIdeal.sig) → Buf (Elt Ideal) ℓ) : Prop :=
  True

def Pre_ConvInputRefIdeal (m : (ℓ : Loc Cert.ConvInputRefIdeal.nD Cert.ConvInputRefIdeal.τ Cert.ConvInputRefIdeal.sig) → Buf (Elt Ideal) ℓ) : Prop :=
  True

def Pre_ScanGrad (m : (ℓ : Loc Cert.ScanGrad.nD Cert.ScanGrad.τ Cert.ScanGrad.sig) → Buf (Elt Bits) ℓ) : Prop :=
  True

def Pre_ScanGradIdeal (m : (ℓ : Loc Cert.ScanGradIdeal.nD Cert.ScanGradIdeal.τ Cert.ScanGradIdeal.sig) → Buf (Elt Ideal) ℓ) : Prop :=
  True

def Pre_ScanGradIdeal_finite_scan [hPre_finite_scan : Cert.Pre_finite_scan.Facts] (m : (ℓ : Loc Cert.ScanGradIdeal.nD Cert.ScanGradIdeal.τ Cert.ScanGradIdeal.sig) → Buf (Elt Ideal) ℓ) : Prop :=
  ∀ c : Dev Cert.ScanGradIdeal.nD,
    (Cert.Pre_finite_scan.fn (F := Ideal) (m ((c.tc : Thread Cert.ScanGradIdeal.nD Cert.ScanGradIdeal.τ).loc Cert.ScanGradIdeal.main_arg0)) (m ((c.tc : Thread Cert.ScanGradIdeal.nD Cert.ScanGradIdeal.τ).loc Cert.ScanGradIdeal.main_arg1)) (m ((c.tc : Thread Cert.ScanGradIdeal.nD Cert.ScanGradIdeal.τ).loc Cert.ScanGradIdeal.main_arg2)) (m ((c.tc : Thread Cert.ScanGradIdeal.nD Cert.ScanGradIdeal.τ).loc Cert.ScanGradIdeal.main_arg3)) (m ((c.tc : Thread Cert.ScanGradIdeal.nD Cert.ScanGradIdeal.τ).loc Cert.ScanGradIdeal.main_arg4)) (m ((c.tc : Thread Cert.ScanGradIdeal.nD Cert.ScanGradIdeal.τ).loc Cert.ScanGradIdeal.main_arg5))) = (fun _ => 1#1)

def Pre_ScanGradRefIdeal (m : (ℓ : Loc Cert.ScanGradRefIdeal.nD Cert.ScanGradRefIdeal.τ Cert.ScanGradRefIdeal.sig) → Buf (Elt Ideal) ℓ) : Prop :=
  True

def Pre_ScanGradRefIdeal_finite_scan [hPre_finite_scan : Cert.Pre_finite_scan.Facts] (m : (ℓ : Loc Cert.ScanGradRefIdeal.nD Cert.ScanGradRefIdeal.τ Cert.ScanGradRefIdeal.sig) → Buf (Elt Ideal) ℓ) : Prop :=
  ∀ c : Dev Cert.ScanGradRefIdeal.nD,
    (Cert.Pre_finite_scan.fn (F := Ideal) (m ((c.tc : Thread Cert.ScanGradRefIdeal.nD Cert.ScanGradRefIdeal.τ).loc Cert.ScanGradRefIdeal.main_arg0)) (m ((c.tc : Thread Cert.ScanGradRefIdeal.nD Cert.ScanGradRefIdeal.τ).loc Cert.ScanGradRefIdeal.main_arg1)) (m ((c.tc : Thread Cert.ScanGradRefIdeal.nD Cert.ScanGradRefIdeal.τ).loc Cert.ScanGradRefIdeal.main_arg2)) (m ((c.tc : Thread Cert.ScanGradRefIdeal.nD Cert.ScanGradRefIdeal.τ).loc Cert.ScanGradRefIdeal.main_arg3)) (m ((c.tc : Thread Cert.ScanGradRefIdeal.nD Cert.ScanGradRefIdeal.τ).loc Cert.ScanGradRefIdeal.main_arg4)) (m ((c.tc : Thread Cert.ScanGradRefIdeal.nD Cert.ScanGradRefIdeal.τ).loc Cert.ScanGradRefIdeal.main_arg5))) = (fun _ => 1#1)

def Pre_ConvGate (m : (ℓ : Loc Cert.ConvGate.nD Cert.ConvGate.τ Cert.ConvGate.sig) → Buf (Elt Bits) ℓ) : Prop :=
  True

def Pre_ConvGateIdeal (m : (ℓ : Loc Cert.ConvGateIdeal.nD Cert.ConvGateIdeal.τ Cert.ConvGateIdeal.sig) → Buf (Elt Ideal) ℓ) : Prop :=
  True

def Pre_ConvGateIdeal_finite_gate [hPre_finite_gate : Cert.Pre_finite_gate.Facts] (m : (ℓ : Loc Cert.ConvGateIdeal.nD Cert.ConvGateIdeal.τ Cert.ConvGateIdeal.sig) → Buf (Elt Ideal) ℓ) : Prop :=
  ∀ c : Dev Cert.ConvGateIdeal.nD,
    (Cert.Pre_finite_gate.fn (F := Ideal) (m ((c.tc : Thread Cert.ConvGateIdeal.nD Cert.ConvGateIdeal.τ).loc Cert.ConvGateIdeal.main_arg0)) (m ((c.tc : Thread Cert.ConvGateIdeal.nD Cert.ConvGateIdeal.τ).loc Cert.ConvGateIdeal.main_arg1)) (m ((c.tc : Thread Cert.ConvGateIdeal.nD Cert.ConvGateIdeal.τ).loc Cert.ConvGateIdeal.main_arg2)) (m ((c.tc : Thread Cert.ConvGateIdeal.nD Cert.ConvGateIdeal.τ).loc Cert.ConvGateIdeal.main_arg3)) (m ((c.tc : Thread Cert.ConvGateIdeal.nD Cert.ConvGateIdeal.τ).loc Cert.ConvGateIdeal.main_arg4))) = (fun _ => 1#1)

def Pre_ConvGateRefIdeal (m : (ℓ : Loc Cert.ConvGateRefIdeal.nD Cert.ConvGateRefIdeal.τ Cert.ConvGateRefIdeal.sig) → Buf (Elt Ideal) ℓ) : Prop :=
  True

def Pre_ConvGateRefIdeal_finite_gate [hPre_finite_gate : Cert.Pre_finite_gate.Facts] (m : (ℓ : Loc Cert.ConvGateRefIdeal.nD Cert.ConvGateRefIdeal.τ Cert.ConvGateRefIdeal.sig) → Buf (Elt Ideal) ℓ) : Prop :=
  ∀ c : Dev Cert.ConvGateRefIdeal.nD,
    (Cert.Pre_finite_gate.fn (F := Ideal) (m ((c.tc : Thread Cert.ConvGateRefIdeal.nD Cert.ConvGateRefIdeal.τ).loc Cert.ConvGateRefIdeal.main_arg0)) (m ((c.tc : Thread Cert.ConvGateRefIdeal.nD Cert.ConvGateRefIdeal.τ).loc Cert.ConvGateRefIdeal.main_arg1)) (m ((c.tc : Thread Cert.ConvGateRefIdeal.nD Cert.ConvGateRefIdeal.τ).loc Cert.ConvGateRefIdeal.main_arg2)) (m ((c.tc : Thread Cert.ConvGateRefIdeal.nD Cert.ConvGateRefIdeal.τ).loc Cert.ConvGateRefIdeal.main_arg3)) (m ((c.tc : Thread Cert.ConvGateRefIdeal.nD Cert.ConvGateRefIdeal.τ).loc Cert.ConvGateRefIdeal.main_arg4))) = (fun _ => 1#1)

def Pre_GluGate (m : (ℓ : Loc Cert.GluGate.nD Cert.GluGate.τ Cert.GluGate.sig) → Buf (Elt Bits) ℓ) : Prop :=
  True

def Pre_GluGateIdeal (m : (ℓ : Loc Cert.GluGateIdeal.nD Cert.GluGateIdeal.τ Cert.GluGateIdeal.sig) → Buf (Elt Ideal) ℓ) : Prop :=
  True

def Pre_GluGateIdeal_finite_glu [hPre_finite_glu : Cert.Pre_finite_glu.Facts] (m : (ℓ : Loc Cert.GluGateIdeal.nD Cert.GluGateIdeal.τ Cert.GluGateIdeal.sig) → Buf (Elt Ideal) ℓ) : Prop :=
  ∀ c : Dev Cert.GluGateIdeal.nD,
    (Cert.Pre_finite_glu.fn (F := Ideal) (m ((c.tc : Thread Cert.GluGateIdeal.nD Cert.GluGateIdeal.τ).loc Cert.GluGateIdeal.main_arg0)) (m ((c.tc : Thread Cert.GluGateIdeal.nD Cert.GluGateIdeal.τ).loc Cert.GluGateIdeal.main_arg1)) (m ((c.tc : Thread Cert.GluGateIdeal.nD Cert.GluGateIdeal.τ).loc Cert.GluGateIdeal.main_arg2)) (m ((c.tc : Thread Cert.GluGateIdeal.nD Cert.GluGateIdeal.τ).loc Cert.GluGateIdeal.main_arg3))) = (fun _ => 1#1)

def Pre_GluGateRefIdeal (m : (ℓ : Loc Cert.GluGateRefIdeal.nD Cert.GluGateRefIdeal.τ Cert.GluGateRefIdeal.sig) → Buf (Elt Ideal) ℓ) : Prop :=
  True

def Pre_GluGateRefIdeal_finite_glu [hPre_finite_glu : Cert.Pre_finite_glu.Facts] (m : (ℓ : Loc Cert.GluGateRefIdeal.nD Cert.GluGateRefIdeal.τ Cert.GluGateRefIdeal.sig) → Buf (Elt Ideal) ℓ) : Prop :=
  ∀ c : Dev Cert.GluGateRefIdeal.nD,
    (Cert.Pre_finite_glu.fn (F := Ideal) (m ((c.tc : Thread Cert.GluGateRefIdeal.nD Cert.GluGateRefIdeal.τ).loc Cert.GluGateRefIdeal.main_arg0)) (m ((c.tc : Thread Cert.GluGateRefIdeal.nD Cert.GluGateRefIdeal.τ).loc Cert.GluGateRefIdeal.main_arg1)) (m ((c.tc : Thread Cert.GluGateRefIdeal.nD Cert.GluGateRefIdeal.τ).loc Cert.GluGateRefIdeal.main_arg2)) (m ((c.tc : Thread Cert.GluGateRefIdeal.nD Cert.GluGateRefIdeal.τ).loc Cert.GluGateRefIdeal.main_arg3))) = (fun _ => 1#1)

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradIdeal_finite_ln [hPre_finite_ln : Cert.Pre_finite_ln.Facts] (m : (ℓ : Loc Cert.NormGradIdeal.nD Cert.NormGradIdeal.τ Cert.NormGradIdeal.sig) → Buf (Elt Ideal) ℓ) : Prop :=
  ∀ c : Dev Cert.NormGradIdeal.nD,
    (Cert.Pre_finite_ln.fn (F := Ideal) (m ((c.tc : Thread Cert.NormGradIdeal.nD Cert.NormGradIdeal.τ).loc Cert.NormGradIdeal.main_arg0)) (m ((c.tc : Thread Cert.NormGradIdeal.nD Cert.NormGradIdeal.τ).loc Cert.NormGradIdeal.main_arg1)) (m ((c.tc : Thread Cert.NormGradIdeal.nD Cert.NormGradIdeal.τ).loc Cert.NormGradIdeal.main_arg2)) (m ((c.tc : Thread Cert.NormGradIdeal.nD Cert.NormGradIdeal.τ).loc Cert.NormGradIdeal.main_arg3)) (m ((c.tc : Thread Cert.NormGradIdeal.nD Cert.NormGradIdeal.τ).loc Cert.NormGradIdeal.main_arg4))) = (fun _ => 1#1)

def Pre_NormGradRefIdeal (m : (ℓ : Loc Cert.NormGradRefIdeal.nD Cert.NormGradRefIdeal.τ Cert.NormGradRefIdeal.sig) → Buf (Elt Ideal) ℓ) : Prop :=
  True

def Pre_NormGradRefIdeal_finite_ln [hPre_finite_ln : Cert.Pre_finite_ln.Facts] (m : (ℓ : Loc Cert.NormGradRefIdeal.nD Cert.NormGradRefIdeal.τ Cert.NormGradRefIdeal.sig) → Buf (Elt Ideal) ℓ) : Prop :=
  ∀ c : Dev Cert.NormGradRefIdeal.nD,
    (Cert.Pre_finite_ln.fn (F := Ideal) (m ((c.tc : Thread Cert.NormGradRefIdeal.nD Cert.NormGradRefIdeal.τ).loc Cert.NormGradRefIdeal.main_arg0)) (m ((c.tc : Thread Cert.NormGradRefIdeal.nD Cert.NormGradRefIdeal.τ).loc Cert.NormGradRefIdeal.main_arg1)) (m ((c.tc : Thread Cert.NormGradRefIdeal.nD Cert.NormGradRefIdeal.τ).loc Cert.NormGradRefIdeal.main_arg2)) (m ((c.tc : Thread Cert.NormGradRefIdeal.nD Cert.NormGradRefIdeal.τ).loc Cert.NormGradRefIdeal.main_arg3)) (m ((c.tc : Thread Cert.NormGradRefIdeal.nD Cert.NormGradRefIdeal.τ).loc Cert.NormGradRefIdeal.main_arg4))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_SwigluGrad (m : (ℓ : Loc Cert.SwigluGrad.nD Cert.SwigluGrad.τ Cert.SwigluGrad.sig) → Buf (Elt Bits) ℓ) : Prop :=
  True

def Pre_SwigluGradIdeal (m : (ℓ : Loc Cert.SwigluGradIdeal.nD Cert.SwigluGradIdeal.τ Cert.SwigluGradIdeal.sig) → Buf (Elt Ideal) ℓ) : Prop :=
  True

def Pre_SwigluGradIdeal_finite_dact [hPre_finite_dact : Cert.Pre_finite_dact.Facts] (m : (ℓ : Loc Cert.SwigluGradIdeal.nD Cert.SwigluGradIdeal.τ Cert.SwigluGradIdeal.sig) → Buf (Elt Ideal) ℓ) : Prop :=
  ∀ c : Dev Cert.SwigluGradIdeal.nD,
    (Cert.Pre_finite_dact.fn (F := Ideal) (m ((c.tc : Thread Cert.SwigluGradIdeal.nD Cert.SwigluGradIdeal.τ).loc Cert.SwigluGradIdeal.main_arg0)) (m ((c.tc : Thread Cert.SwigluGradIdeal.nD Cert.SwigluGradIdeal.τ).loc Cert.SwigluGradIdeal.main_arg1)) (m ((c.tc : Thread Cert.SwigluGradIdeal.nD Cert.SwigluGradIdeal.τ).loc Cert.SwigluGradIdeal.main_arg2)) (m ((c.tc : Thread Cert.SwigluGradIdeal.nD Cert.SwigluGradIdeal.τ).loc Cert.SwigluGradIdeal.main_arg3))) = (fun _ => 1#1)

def Pre_SwigluGradRefIdeal (m : (ℓ : Loc Cert.SwigluGradRefIdeal.nD Cert.SwigluGradRefIdeal.τ Cert.SwigluGradRefIdeal.sig) → Buf (Elt Ideal) ℓ) : Prop :=
  True

def Pre_SwigluGradRefIdeal_finite_dact [hPre_finite_dact : Cert.Pre_finite_dact.Facts] (m : (ℓ : Loc Cert.SwigluGradRefIdeal.nD Cert.SwigluGradRefIdeal.τ Cert.SwigluGradRefIdeal.sig) → Buf (Elt Ideal) ℓ) : Prop :=
  ∀ c : Dev Cert.SwigluGradRefIdeal.nD,
    (Cert.Pre_finite_dact.fn (F := Ideal) (m ((c.tc : Thread Cert.SwigluGradRefIdeal.nD Cert.SwigluGradRefIdeal.τ).loc Cert.SwigluGradRefIdeal.main_arg0)) (m ((c.tc : Thread Cert.SwigluGradRefIdeal.nD Cert.SwigluGradRefIdeal.τ).loc Cert.SwigluGradRefIdeal.main_arg1)) (m ((c.tc : Thread Cert.SwigluGradRefIdeal.nD Cert.SwigluGradRefIdeal.τ).loc Cert.SwigluGradRefIdeal.main_arg2)) (m ((c.tc : Thread Cert.SwigluGradRefIdeal.nD Cert.SwigluGradRefIdeal.τ).loc Cert.SwigluGradRefIdeal.main_arg3))) = (fun _ => 1#1)

def Pre_GeluGrad (m : (ℓ : Loc Cert.GeluGrad.nD Cert.GeluGrad.τ Cert.GeluGrad.sig) → Buf (Elt Bits) ℓ) : Prop :=
  True

def Pre_GeluGradIdeal (m : (ℓ : Loc Cert.GeluGradIdeal.nD Cert.GeluGradIdeal.τ Cert.GeluGradIdeal.sig) → Buf (Elt Ideal) ℓ) : Prop :=
  True

def Pre_GeluGradIdeal_finite_dys [hPre_finite_dys : Cert.Pre_finite_dys.Facts] (m : (ℓ : Loc Cert.GeluGradIdeal.nD Cert.GeluGradIdeal.τ Cert.GeluGradIdeal.sig) → Buf (Elt Ideal) ℓ) : Prop :=
  ∀ c : Dev Cert.GeluGradIdeal.nD,
    (Cert.Pre_finite_dys.fn (F := Ideal) (m ((c.tc : Thread Cert.GeluGradIdeal.nD Cert.GeluGradIdeal.τ).loc Cert.GeluGradIdeal.main_arg0)) (m ((c.tc : Thread Cert.GeluGradIdeal.nD Cert.GeluGradIdeal.τ).loc Cert.GeluGradIdeal.main_arg1)) (m ((c.tc : Thread Cert.GeluGradIdeal.nD Cert.GeluGradIdeal.τ).loc Cert.GeluGradIdeal.main_arg2)) (m ((c.tc : Thread Cert.GeluGradIdeal.nD Cert.GeluGradIdeal.τ).loc Cert.GeluGradIdeal.main_arg3))) = (fun _ => 1#1)

def Pre_GeluGradRefIdeal (m : (ℓ : Loc Cert.GeluGradRefIdeal.nD Cert.GeluGradRefIdeal.τ Cert.GeluGradRefIdeal.sig) → Buf (Elt Ideal) ℓ) : Prop :=
  True

def Pre_GeluGradRefIdeal_finite_dys [hPre_finite_dys : Cert.Pre_finite_dys.Facts] (m : (ℓ : Loc Cert.GeluGradRefIdeal.nD Cert.GeluGradRefIdeal.τ Cert.GeluGradRefIdeal.sig) → Buf (Elt Ideal) ℓ) : Prop :=
  ∀ c : Dev Cert.GeluGradRefIdeal.nD,
    (Cert.Pre_finite_dys.fn (F := Ideal) (m ((c.tc : Thread Cert.GeluGradRefIdeal.nD Cert.GeluGradRefIdeal.τ).loc Cert.GeluGradRefIdeal.main_arg0)) (m ((c.tc : Thread Cert.GeluGradRefIdeal.nD Cert.GeluGradRefIdeal.τ).loc Cert.GeluGradRefIdeal.main_arg1)) (m ((c.tc : Thread Cert.GeluGradRefIdeal.nD Cert.GeluGradRefIdeal.τ).loc Cert.GeluGradRefIdeal.main_arg2)) (m ((c.tc : Thread Cert.GeluGradRefIdeal.nD Cert.GeluGradRefIdeal.τ).loc Cert.GeluGradRefIdeal.main_arg3))) = (fun _ => 1#1)

def Pre_ReadGrad (m : (ℓ : Loc Cert.ReadGrad.nD Cert.ReadGrad.τ Cert.ReadGrad.sig) → Buf (Elt Bits) ℓ) : Prop :=
  True

def Pre_ReadGradIdeal (m : (ℓ : Loc Cert.ReadGradIdeal.nD Cert.ReadGradIdeal.τ Cert.ReadGradIdeal.sig) → Buf (Elt Ideal) ℓ) : Prop :=
  True

def Pre_ReadGradRefIdeal (m : (ℓ : Loc Cert.ReadGradRefIdeal.nD Cert.ReadGradRefIdeal.τ Cert.ReadGradRefIdeal.sig) → Buf (Elt Ideal) ℓ) : Prop :=
  True

def Pre_SkipGrad (m : (ℓ : Loc Cert.SkipGrad.nD Cert.SkipGrad.τ Cert.SkipGrad.sig) → Buf (Elt Bits) ℓ) : Prop :=
  True

def Pre_SkipGradIdeal (m : (ℓ : Loc Cert.SkipGradIdeal.nD Cert.SkipGradIdeal.τ Cert.SkipGradIdeal.sig) → Buf (Elt Ideal) ℓ) : Prop :=
  True

def Pre_SkipGradRefIdeal (m : (ℓ : Loc Cert.SkipGradRefIdeal.nD Cert.SkipGradRefIdeal.τ Cert.SkipGradRefIdeal.sig) → Buf (Elt Ideal) ℓ) : Prop :=
  True

def Pre_InputGrad (m : (ℓ : Loc Cert.InputGrad.nD Cert.InputGrad.τ Cert.InputGrad.sig) → Buf (Elt Bits) ℓ) : Prop :=
  True

def Pre_InputGradIdeal (m : (ℓ : Loc Cert.InputGradIdeal.nD Cert.InputGradIdeal.τ Cert.InputGradIdeal.sig) → Buf (Elt Ideal) ℓ) : Prop :=
  True

def Pre_InputGradRefIdeal (m : (ℓ : Loc Cert.InputGradRefIdeal.nD Cert.InputGradRefIdeal.τ Cert.InputGradRefIdeal.sig) → Buf (Elt Ideal) ℓ) : Prop :=
  True

def Pre_ConvOut (m : (ℓ : Loc Cert.ConvOut.nD Cert.ConvOut.τ Cert.ConvOut.sig) → Buf (Elt Bits) ℓ) : Prop :=
  True

def Pre_ConvOutIdeal (m : (ℓ : Loc Cert.ConvOutIdeal.nD Cert.ConvOutIdeal.τ Cert.ConvOutIdeal.sig) → Buf (Elt Ideal) ℓ) : Prop :=
  True

def Pre_ConvOutRefIdeal (m : (ℓ : Loc Cert.ConvOutRefIdeal.nD Cert.ConvOutRefIdeal.τ Cert.ConvOutRefIdeal.sig) → Buf (Elt Ideal) ℓ) : Prop :=
  True

def Pre_SwigluUp (m : (ℓ : Loc Cert.SwigluUp.nD Cert.SwigluUp.τ Cert.SwigluUp.sig) → Buf (Elt Bits) ℓ) : Prop :=
  True

def Pre_SwigluUpIdeal (m : (ℓ : Loc Cert.SwigluUpIdeal.nD Cert.SwigluUpIdeal.τ Cert.SwigluUpIdeal.sig) → Buf (Elt Ideal) ℓ) : Prop :=
  True

def Pre_SwigluUpRefIdeal (m : (ℓ : Loc Cert.SwigluUpRefIdeal.nD Cert.SwigluUpRefIdeal.τ Cert.SwigluUpRefIdeal.sig) → Buf (Elt Ideal) ℓ) : Prop :=
  True

def Pre_DownNorm (m : (ℓ : Loc Cert.DownNorm.nD Cert.DownNorm.τ Cert.DownNorm.sig) → Buf (Elt Bits) ℓ) : Prop :=
  True

def Pre_DownNormIdeal (m : (ℓ : Loc Cert.DownNormIdeal.nD Cert.DownNormIdeal.τ Cert.DownNormIdeal.sig) → Buf (Elt Ideal) ℓ) : Prop :=
  True

def Pre_DownNormRefIdeal (m : (ℓ : Loc Cert.DownNormRefIdeal.nD Cert.DownNormRefIdeal.τ Cert.DownNormRefIdeal.sig) → Buf (Elt Ideal) ℓ) : Prop :=
  True

def Pre_ReadOut (m : (ℓ : Loc Cert.ReadOut.nD Cert.ReadOut.τ Cert.ReadOut.sig) → Buf (Elt Bits) ℓ) : Prop :=
  True

def Pre_ReadOutIdeal (m : (ℓ : Loc Cert.ReadOutIdeal.nD Cert.ReadOutIdeal.τ Cert.ReadOutIdeal.sig) → Buf (Elt Ideal) ℓ) : Prop :=
  True

def Pre_ReadOutIdeal_finite_yout [hPre_finite_yout : Cert.Pre_finite_yout.Facts] (m : (ℓ : Loc Cert.ReadOutIdeal.nD Cert.ReadOutIdeal.τ Cert.ReadOutIdeal.sig) → Buf (Elt Ideal) ℓ) : Prop :=
  ∀ c : Dev Cert.ReadOutIdeal.nD,
    (Cert.Pre_finite_yout.fn (F := Ideal) (m ((c.tc : Thread Cert.ReadOutIdeal.nD Cert.ReadOutIdeal.τ).loc Cert.ReadOutIdeal.main_arg0)) (m ((c.tc : Thread Cert.ReadOutIdeal.nD Cert.ReadOutIdeal.τ).loc Cert.ReadOutIdeal.main_arg1)) (m ((c.tc : Thread Cert.ReadOutIdeal.nD Cert.ReadOutIdeal.τ).loc Cert.ReadOutIdeal.main_arg2)) (m ((c.tc : Thread Cert.ReadOutIdeal.nD Cert.ReadOutIdeal.τ).loc Cert.ReadOutIdeal.main_arg3)) (m ((c.tc : Thread Cert.ReadOutIdeal.nD Cert.ReadOutIdeal.τ).loc Cert.ReadOutIdeal.main_arg4)) (m ((c.tc : Thread Cert.ReadOutIdeal.nD Cert.ReadOutIdeal.τ).loc Cert.ReadOutIdeal.main_arg5))) = (fun _ => 1#1)

def Pre_ReadOutRefIdeal (m : (ℓ : Loc Cert.ReadOutRefIdeal.nD Cert.ReadOutRefIdeal.τ Cert.ReadOutRefIdeal.sig) → Buf (Elt Ideal) ℓ) : Prop :=
  True

def Pre_ReadOutRefIdeal_finite_yout [hPre_finite_yout : Cert.Pre_finite_yout.Facts] (m : (ℓ : Loc Cert.ReadOutRefIdeal.nD Cert.ReadOutRefIdeal.τ Cert.ReadOutRefIdeal.sig) → Buf (Elt Ideal) ℓ) : Prop :=
  ∀ c : Dev Cert.ReadOutRefIdeal.nD,
    (Cert.Pre_finite_yout.fn (F := Ideal) (m ((c.tc : Thread Cert.ReadOutRefIdeal.nD Cert.ReadOutRefIdeal.τ).loc Cert.ReadOutRefIdeal.main_arg0)) (m ((c.tc : Thread Cert.ReadOutRefIdeal.nD Cert.ReadOutRefIdeal.τ).loc Cert.ReadOutRefIdeal.main_arg1)) (m ((c.tc : Thread Cert.ReadOutRefIdeal.nD Cert.ReadOutRefIdeal.τ).loc Cert.ReadOutRefIdeal.main_arg2)) (m ((c.tc : Thread Cert.ReadOutRefIdeal.nD Cert.ReadOutRefIdeal.τ).loc Cert.ReadOutRefIdeal.main_arg3)) (m ((c.tc : Thread Cert.ReadOutRefIdeal.nD Cert.ReadOutRefIdeal.τ).loc Cert.ReadOutRefIdeal.main_arg4)) (m ((c.tc : Thread Cert.ReadOutRefIdeal.nD Cert.ReadOutRefIdeal.τ).loc Cert.ReadOutRefIdeal.main_arg5))) = (fun _ => 1#1)

def Pre_GluOut (m : (ℓ : Loc Cert.GluOut.nD Cert.GluOut.τ Cert.GluOut.sig) → Buf (Elt Bits) ℓ) : Prop :=
  True

def Pre_GluOutIdeal (m : (ℓ : Loc Cert.GluOutIdeal.nD Cert.GluOutIdeal.τ Cert.GluOutIdeal.sig) → Buf (Elt Ideal) ℓ) : Prop :=
  True

def Pre_GluOutRefIdeal (m : (ℓ : Loc Cert.GluOutRefIdeal.nD Cert.GluOutRefIdeal.τ Cert.GluOutRefIdeal.sig) → Buf (Elt Ideal) ℓ) : Prop :=
  True

def Pre_HalfSwap (m : (ℓ : Loc Cert.HalfSwap.nD Cert.HalfSwap.τ Cert.HalfSwap.sig) → Buf (Elt Bits) ℓ) : Prop :=
  True

def Pre_HalfSwapIdeal (m : (ℓ : Loc Cert.HalfSwapIdeal.nD Cert.HalfSwapIdeal.τ Cert.HalfSwapIdeal.sig) → Buf (Elt Ideal) ℓ) : Prop :=
  True

def Pre_HalfSwapRefIdeal (m : (ℓ : Loc Cert.HalfSwapRefIdeal.nD Cert.HalfSwapRefIdeal.τ Cert.HalfSwapRefIdeal.sig) → Buf (Elt Ideal) ℓ) : Prop :=
  True

def Pre_ChipSwap (m : (ℓ : Loc Cert.ChipSwap.nD Cert.ChipSwap.τ Cert.ChipSwap.sig) → Buf (Elt Bits) ℓ) : Prop :=
  True

def Pre_ChipSwapIdeal (m : (ℓ : Loc Cert.ChipSwapIdeal.nD Cert.ChipSwapIdeal.τ Cert.ChipSwapIdeal.sig) → Buf (Elt Ideal) ℓ) : Prop :=
  True

def Pre_ChipSwapRefIdeal (m : (ℓ : Loc Cert.ChipSwapRefIdeal.nD Cert.ChipSwapRefIdeal.τ Cert.ChipSwapRefIdeal.sig) → Buf (Elt Ideal) ℓ) : Prop :=
  True

def Pre_JoinHalves (m : (ℓ : Loc Cert.JoinHalves.nD Cert.JoinHalves.τ Cert.JoinHalves.sig) → Buf (Elt Bits) ℓ) : Prop :=
  True

def Pre_JoinHalvesIdeal (m : (ℓ : Loc Cert.JoinHalvesIdeal.nD Cert.JoinHalvesIdeal.τ Cert.JoinHalvesIdeal.sig) → Buf (Elt Ideal) ℓ) : Prop :=
  True

def Pre_JoinHalvesRefIdeal (m : (ℓ : Loc Cert.JoinHalvesRefIdeal.nD Cert.JoinHalvesRefIdeal.τ Cert.JoinHalvesRefIdeal.sig) → Buf (Elt Ideal) ℓ) : Prop :=
  True

def Pre_ChipGather (m : (ℓ : Loc Cert.ChipGather.nD Cert.ChipGather.τ Cert.ChipGather.sig) → Buf (Elt Bits) ℓ) : Prop :=
  True

def Pre_ChipGatherIdeal (m : (ℓ : Loc Cert.ChipGatherIdeal.nD Cert.ChipGatherIdeal.τ Cert.ChipGatherIdeal.sig) → Buf (Elt Ideal) ℓ) : Prop :=
  True

def Pre_ChipGatherRefIdeal (m : (ℓ : Loc Cert.ChipGatherRefIdeal.nD Cert.ChipGatherRefIdeal.τ Cert.ChipGatherRefIdeal.sig) → Buf (Elt Ideal) ℓ) : Prop :=
  True

def Pre_WeightCols (m : (ℓ : Loc Cert.WeightCols.nD Cert.WeightCols.τ Cert.WeightCols.sig) → Buf (Elt Bits) ℓ) : Prop :=
  True

def Pre_WeightColsIdeal (m : (ℓ : Loc Cert.WeightColsIdeal.nD Cert.WeightColsIdeal.τ Cert.WeightColsIdeal.sig) → Buf (Elt Ideal) ℓ) : Prop :=
  True

def Pre_WeightColsRefIdeal (m : (ℓ : Loc Cert.WeightColsRefIdeal.nD Cert.WeightColsRefIdeal.τ Cert.WeightColsRefIdeal.sig) → Buf (Elt Ideal) ℓ) : Prop :=
  True

def Pre_WeightRows (m : (ℓ : Loc Cert.WeightRows.nD Cert.WeightRows.τ Cert.WeightRows.sig) → Buf (Elt Bits) ℓ) : Prop :=
  True

def Pre_WeightRowsIdeal (m : (ℓ : Loc Cert.WeightRowsIdeal.nD Cert.WeightRowsIdeal.τ Cert.WeightRowsIdeal.sig) → Buf (Elt Ideal) ℓ) : Prop :=
  True

def Pre_WeightRowsRefIdeal (m : (ℓ : Loc Cert.WeightRowsRefIdeal.nD Cert.WeightRowsRefIdeal.τ Cert.WeightRowsRefIdeal.sig) → Buf (Elt Ideal) ℓ) : Prop :=
  True

def Pre_BlockWeights (m : (ℓ : Loc Cert.BlockWeights.nD Cert.BlockWeights.τ Cert.BlockWeights.sig) → Buf (Elt Bits) ℓ) : Prop :=
  True

def Pre_BlockWeightsIdeal (m : (ℓ : Loc Cert.BlockWeightsIdeal.nD Cert.BlockWeightsIdeal.τ Cert.BlockWeightsIdeal.sig) → Buf (Elt Ideal) ℓ) : Prop :=
  True

def Pre_BlockWeightsRefIdeal (m : (ℓ : Loc Cert.BlockWeightsRefIdeal.nD Cert.BlockWeightsRefIdeal.τ Cert.BlockWeightsRefIdeal.sig) → Buf (Elt Ideal) ℓ) : Prop :=
  True

def Pre_AdamLarge (m : (ℓ : Loc Cert.AdamLarge.nD Cert.AdamLarge.τ Cert.AdamLarge.sig) → Buf (Elt Bits) ℓ) : Prop :=
  True

def Pre_AdamLargeIdeal (m : (ℓ : Loc Cert.AdamLargeIdeal.nD Cert.AdamLargeIdeal.τ Cert.AdamLargeIdeal.sig) → Buf (Elt Ideal) ℓ) : Prop :=
  True

def Pre_AdamLargeRefIdeal (m : (ℓ : Loc Cert.AdamLargeRefIdeal.nD Cert.AdamLargeRefIdeal.τ Cert.AdamLargeRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AddPairs (m : (ℓ : Loc Cert.AddPairs.nD Cert.AddPairs.τ Cert.AddPairs.sig) → Buf (Elt Bits) ℓ) : Prop :=
  True

def Pre_AddPairsIdeal (m : (ℓ : Loc Cert.AddPairsIdeal.nD Cert.AddPairsIdeal.τ Cert.AddPairsIdeal.sig) → Buf (Elt Ideal) ℓ) : Prop :=
  True

def Pre_AddPairsRefIdeal (m : (ℓ : Loc Cert.AddPairsRefIdeal.nD Cert.AddPairsRefIdeal.τ Cert.AddPairsRefIdeal.sig) → Buf (Elt Ideal) ℓ) : Prop :=
  True

def Pre_SumChips (m : (ℓ : Loc Cert.SumChips.nD Cert.SumChips.τ Cert.SumChips.sig) → Buf (Elt Bits) ℓ) : Prop :=
  True

def Pre_SumChipsIdeal (m : (ℓ : Loc Cert.SumChipsIdeal.nD Cert.SumChipsIdeal.τ Cert.SumChipsIdeal.sig) → Buf (Elt Ideal) ℓ) : Prop :=
  True

def Pre_SumChipsRefIdeal (m : (ℓ : Loc Cert.SumChipsRefIdeal.nD Cert.SumChipsRefIdeal.τ Cert.SumChipsRefIdeal.sig) → Buf (Elt Ideal) ℓ) : Prop :=
  True

def Pre_CastPlace (m : (ℓ : Loc Cert.CastPlace.nD Cert.CastPlace.τ Cert.CastPlace.sig) → Buf (Elt Bits) ℓ) : Prop :=
  True

def Pre_CastPlaceIdeal (m : (ℓ : Loc Cert.CastPlaceIdeal.nD Cert.CastPlaceIdeal.τ Cert.CastPlaceIdeal.sig) → Buf (Elt Ideal) ℓ) : Prop :=
  True

def Pre_CastPlaceRefIdeal (m : (ℓ : Loc Cert.CastPlaceRefIdeal.nD Cert.CastPlaceRefIdeal.τ Cert.CastPlaceRefIdeal.sig) → Buf (Elt Ideal) ℓ) : Prop :=
  True

def quiescent_ConvInput [hConvInput : Cert.ConvInput.Facts] : Prop :=
  ∀ (m : (ℓ : Loc Cert.ConvInput.nD Cert.ConvInput.τ Cert.ConvInput.sig) → Buf (Elt Bits) ℓ) (g : Dev Cert.ConvInput.nD → PrngReg), Pre_ConvInput m →
    θ_run (Cert.ConvInput.defs (F := Bits)) (onTc (τ := Cert.ConvInput.τ) (Cert.ConvInput.main (F := Bits))) ⟨m, fun _ => 0, g⟩ (fun r => (∀ c : Dev Cert.ConvInput.nD,
      r.2.mem ((c.tc : Thread Cert.ConvInput.nD Cert.ConvInput.τ).loc Cert.ConvInput.main_arg0) = m ((c.tc : Thread Cert.ConvInput.nD Cert.ConvInput.τ).loc Cert.ConvInput.main_arg0)
      ∧ r.2.mem ((c.tc : Thread Cert.ConvInput.nD Cert.ConvInput.τ).loc Cert.ConvInput.main_arg1) = m ((c.tc : Thread Cert.ConvInput.nD Cert.ConvInput.τ).loc Cert.ConvInput.main_arg1)
      ∧ r.2.mem ((c.tc : Thread Cert.ConvInput.nD Cert.ConvInput.τ).loc Cert.ConvInput.main_arg2) = m ((c.tc : Thread Cert.ConvInput.nD Cert.ConvInput.τ).loc Cert.ConvInput.main_arg2))
      ∧ r.2.sem = fun _ => 0)

def quiescent_ConvInputIdeal [hConvInputIdeal : Cert.ConvInputIdeal.Facts] : Prop :=
  ∀ (m : (ℓ : Loc Cert.ConvInputIdeal.nD Cert.ConvInputIdeal.τ Cert.ConvInputIdeal.sig) → Buf (Elt Ideal) ℓ) (g : Dev Cert.ConvInputIdeal.nD → PrngReg), Pre_ConvInputIdeal m →
    θ_run (Cert.ConvInputIdeal.defs (F := Ideal)) (onTc (τ := Cert.ConvInputIdeal.τ) (Cert.ConvInputIdeal.main (F := Ideal))) ⟨m, fun _ => 0, g⟩ (fun r => (∀ c : Dev Cert.ConvInputIdeal.nD,
      r.2.mem ((c.tc : Thread Cert.ConvInputIdeal.nD Cert.ConvInputIdeal.τ).loc Cert.ConvInputIdeal.main_arg0) = m ((c.tc : Thread Cert.ConvInputIdeal.nD Cert.ConvInputIdeal.τ).loc Cert.ConvInputIdeal.main_arg0)
      ∧ r.2.mem ((c.tc : Thread Cert.ConvInputIdeal.nD Cert.ConvInputIdeal.τ).loc Cert.ConvInputIdeal.main_arg1) = m ((c.tc : Thread Cert.ConvInputIdeal.nD Cert.ConvInputIdeal.τ).loc Cert.ConvInputIdeal.main_arg1)
      ∧ r.2.mem ((c.tc : Thread Cert.ConvInputIdeal.nD Cert.ConvInputIdeal.τ).loc Cert.ConvInputIdeal.main_arg2) = m ((c.tc : Thread Cert.ConvInputIdeal.nD Cert.ConvInputIdeal.τ).loc Cert.ConvInputIdeal.main_arg2))
      ∧ r.2.sem = fun _ => 0)

def quiescent_ConvInputRefIdeal [hConvInputRefIdeal : Cert.ConvInputRefIdeal.Facts] : Prop :=
  ∀ (m : (ℓ : Loc Cert.ConvInputRefIdeal.nD Cert.ConvInputRefIdeal.τ Cert.ConvInputRefIdeal.sig) → Buf (Elt Ideal) ℓ) (g : Dev Cert.ConvInputRefIdeal.nD → PrngReg), Pre_ConvInputRefIdeal m →
    θ_run (Cert.ConvInputRefIdeal.defs (F := Ideal)) (onTc (τ := Cert.ConvInputRefIdeal.τ) (Cert.ConvInputRefIdeal.main (F := Ideal))) ⟨m, fun _ => 0, g⟩ (fun r => (∀ c : Dev Cert.ConvInputRefIdeal.nD,
      r.2.mem ((c.tc : Thread Cert.ConvInputRefIdeal.nD Cert.ConvInputRefIdeal.τ).loc Cert.ConvInputRefIdeal.main_arg0) = m ((c.tc : Thread Cert.ConvInputRefIdeal.nD Cert.ConvInputRefIdeal.τ).loc Cert.ConvInputRefIdeal.main_arg0)
      ∧ r.2.mem ((c.tc : Thread Cert.ConvInputRefIdeal.nD Cert.ConvInputRefIdeal.τ).loc Cert.ConvInputRefIdeal.main_arg1) = m ((c.tc : Thread Cert.ConvInputRefIdeal.nD Cert.ConvInputRefIdeal.τ).loc Cert.ConvInputRefIdeal.main_arg1)
      ∧ r.2.mem ((c.tc : Thread Cert.ConvInputRefIdeal.nD Cert.ConvInputRefIdeal.τ).loc Cert.ConvInputRefIdeal.main_arg2) = m ((c.tc : Thread Cert.ConvInputRefIdeal.nD Cert.ConvInputRefIdeal.τ).loc Cert.ConvInputRefIdeal.main_arg2))
      ∧ r.2.sem = fun _ => 0)

def quiescent_ScanGrad [hScanGrad : Cert.ScanGrad.Facts] : Prop :=
  ∀ (m : (ℓ : Loc Cert.ScanGrad.nD Cert.ScanGrad.τ Cert.ScanGrad.sig) → Buf (Elt Bits) ℓ) (g : Dev Cert.ScanGrad.nD → PrngReg), Pre_ScanGrad m →
    θ_run (Cert.ScanGrad.defs (F := Bits)) (onTc (τ := Cert.ScanGrad.τ) (Cert.ScanGrad.main (F := Bits))) ⟨m, fun _ => 0, g⟩ (fun r => (∀ c : Dev Cert.ScanGrad.nD,
      r.2.mem ((c.tc : Thread Cert.ScanGrad.nD Cert.ScanGrad.τ).loc Cert.ScanGrad.main_arg0) = m ((c.tc : Thread Cert.ScanGrad.nD Cert.ScanGrad.τ).loc Cert.ScanGrad.main_arg0)
      ∧ r.2.mem ((c.tc : Thread Cert.ScanGrad.nD Cert.ScanGrad.τ).loc Cert.ScanGrad.main_arg1) = m ((c.tc : Thread Cert.ScanGrad.nD Cert.ScanGrad.τ).loc Cert.ScanGrad.main_arg1)
      ∧ r.2.mem ((c.tc : Thread Cert.ScanGrad.nD Cert.ScanGrad.τ).loc Cert.ScanGrad.main_arg2) = m ((c.tc : Thread Cert.ScanGrad.nD Cert.ScanGrad.τ).loc Cert.ScanGrad.main_arg2)
      ∧ r.2.mem ((c.tc : Thread Cert.ScanGrad.nD Cert.ScanGrad.τ).loc Cert.ScanGrad.main_arg3) = m ((c.tc : Thread Cert.ScanGrad.nD Cert.ScanGrad.τ).loc Cert.ScanGrad.main_arg3)
      ∧ r.2.mem ((c.tc : Thread Cert.ScanGrad.nD Cert.ScanGrad.τ).loc Cert.ScanGrad.main_arg4) = m ((c.tc : Thread Cert.ScanGrad.nD Cert.ScanGrad.τ).loc Cert.ScanGrad.main_arg4)
      ∧ r.2.mem ((c.tc : Thread Cert.ScanGrad.nD Cert.ScanGrad.τ).loc Cert.ScanGrad.main_arg5) = m ((c.tc : Thread Cert.ScanGrad.nD Cert.ScanGrad.τ).loc Cert.ScanGrad.main_arg5))
      ∧ r.2.sem = fun _ => 0)

def quiescent_ScanGradIdeal [hScanGradIdeal : Cert.ScanGradIdeal.Facts] : Prop :=
  ∀ (m : (ℓ : Loc Cert.ScanGradIdeal.nD Cert.ScanGradIdeal.τ Cert.ScanGradIdeal.sig) → Buf (Elt Ideal) ℓ) (g : Dev Cert.ScanGradIdeal.nD → PrngReg), Pre_ScanGradIdeal m →
    θ_run (Cert.ScanGradIdeal.defs (F := Ideal)) (onTc (τ := Cert.ScanGradIdeal.τ) (Cert.ScanGradIdeal.main (F := Ideal))) ⟨m, fun _ => 0, g⟩ (fun r => (∀ c : Dev Cert.ScanGradIdeal.nD,
      r.2.mem ((c.tc : Thread Cert.ScanGradIdeal.nD Cert.ScanGradIdeal.τ).loc Cert.ScanGradIdeal.main_arg0) = m ((c.tc : Thread Cert.ScanGradIdeal.nD Cert.ScanGradIdeal.τ).loc Cert.ScanGradIdeal.main_arg0)
      ∧ r.2.mem ((c.tc : Thread Cert.ScanGradIdeal.nD Cert.ScanGradIdeal.τ).loc Cert.ScanGradIdeal.main_arg1) = m ((c.tc : Thread Cert.ScanGradIdeal.nD Cert.ScanGradIdeal.τ).loc Cert.ScanGradIdeal.main_arg1)
      ∧ r.2.mem ((c.tc : Thread Cert.ScanGradIdeal.nD Cert.ScanGradIdeal.τ).loc Cert.ScanGradIdeal.main_arg2) = m ((c.tc : Thread Cert.ScanGradIdeal.nD Cert.ScanGradIdeal.τ).loc Cert.ScanGradIdeal.main_arg2)
      ∧ r.2.mem ((c.tc : Thread Cert.ScanGradIdeal.nD Cert.ScanGradIdeal.τ).loc Cert.ScanGradIdeal.main_arg3) = m ((c.tc : Thread Cert.ScanGradIdeal.nD Cert.ScanGradIdeal.τ).loc Cert.ScanGradIdeal.main_arg3)
      ∧ r.2.mem ((c.tc : Thread Cert.ScanGradIdeal.nD Cert.ScanGradIdeal.τ).loc Cert.ScanGradIdeal.main_arg4) = m ((c.tc : Thread Cert.ScanGradIdeal.nD Cert.ScanGradIdeal.τ).loc Cert.ScanGradIdeal.main_arg4)
      ∧ r.2.mem ((c.tc : Thread Cert.ScanGradIdeal.nD Cert.ScanGradIdeal.τ).loc Cert.ScanGradIdeal.main_arg5) = m ((c.tc : Thread Cert.ScanGradIdeal.nD Cert.ScanGradIdeal.τ).loc Cert.ScanGradIdeal.main_arg5))
      ∧ r.2.sem = fun _ => 0)

def quiescent_ScanGradIdeal_pre_finite_scan [hScanGradIdeal : Cert.ScanGradIdeal.Facts] [hPre_finite_scan : Cert.Pre_finite_scan.Facts] : Prop :=
  ∀ (m : (ℓ : Loc Cert.ScanGradIdeal.nD Cert.ScanGradIdeal.τ Cert.ScanGradIdeal.sig) → Buf (Elt Ideal) ℓ) (g : Dev Cert.ScanGradIdeal.nD → PrngReg), Pre_ScanGradIdeal_finite_scan m →
    θ_run (Cert.ScanGradIdeal.defs (F := Ideal)) (onTc (τ := Cert.ScanGradIdeal.τ) (Cert.ScanGradIdeal.main (F := Ideal))) ⟨m, fun _ => 0, g⟩ (fun r => (∀ c : Dev Cert.ScanGradIdeal.nD,
      r.2.mem ((c.tc : Thread Cert.ScanGradIdeal.nD Cert.ScanGradIdeal.τ).loc Cert.ScanGradIdeal.main_arg0) = m ((c.tc : Thread Cert.ScanGradIdeal.nD Cert.ScanGradIdeal.τ).loc Cert.ScanGradIdeal.main_arg0)
      ∧ r.2.mem ((c.tc : Thread Cert.ScanGradIdeal.nD Cert.ScanGradIdeal.τ).loc Cert.ScanGradIdeal.main_arg1) = m ((c.tc : Thread Cert.ScanGradIdeal.nD Cert.ScanGradIdeal.τ).loc Cert.ScanGradIdeal.main_arg1)
      ∧ r.2.mem ((c.tc : Thread Cert.ScanGradIdeal.nD Cert.ScanGradIdeal.τ).loc Cert.ScanGradIdeal.main_arg2) = m ((c.tc : Thread Cert.ScanGradIdeal.nD Cert.ScanGradIdeal.τ).loc Cert.ScanGradIdeal.main_arg2)
      ∧ r.2.mem ((c.tc : Thread Cert.ScanGradIdeal.nD Cert.ScanGradIdeal.τ).loc Cert.ScanGradIdeal.main_arg3) = m ((c.tc : Thread Cert.ScanGradIdeal.nD Cert.ScanGradIdeal.τ).loc Cert.ScanGradIdeal.main_arg3)
      ∧ r.2.mem ((c.tc : Thread Cert.ScanGradIdeal.nD Cert.ScanGradIdeal.τ).loc Cert.ScanGradIdeal.main_arg4) = m ((c.tc : Thread Cert.ScanGradIdeal.nD Cert.ScanGradIdeal.τ).loc Cert.ScanGradIdeal.main_arg4)
      ∧ r.2.mem ((c.tc : Thread Cert.ScanGradIdeal.nD Cert.ScanGradIdeal.τ).loc Cert.ScanGradIdeal.main_arg5) = m ((c.tc : Thread Cert.ScanGradIdeal.nD Cert.ScanGradIdeal.τ).loc Cert.ScanGradIdeal.main_arg5))
      ∧ r.2.sem = fun _ => 0)

def quiescent_ScanGradRefIdeal [hScanGradRefIdeal : Cert.ScanGradRefIdeal.Facts] : Prop :=
  ∀ (m : (ℓ : Loc Cert.ScanGradRefIdeal.nD Cert.ScanGradRefIdeal.τ Cert.ScanGradRefIdeal.sig) → Buf (Elt Ideal) ℓ) (g : Dev Cert.ScanGradRefIdeal.nD → PrngReg), Pre_ScanGradRefIdeal m →
    θ_run (Cert.ScanGradRefIdeal.defs (F := Ideal)) (onTc (τ := Cert.ScanGradRefIdeal.τ) (Cert.ScanGradRefIdeal.main (F := Ideal))) ⟨m, fun _ => 0, g⟩ (fun r => (∀ c : Dev Cert.ScanGradRefIdeal.nD,
      r.2.mem ((c.tc : Thread Cert.ScanGradRefIdeal.nD Cert.ScanGradRefIdeal.τ).loc Cert.ScanGradRefIdeal.main_arg0) = m ((c.tc : Thread Cert.ScanGradRefIdeal.nD Cert.ScanGradRefIdeal.τ).loc Cert.ScanGradRefIdeal.main_arg0)
      ∧ r.2.mem ((c.tc : Thread Cert.ScanGradRefIdeal.nD Cert.ScanGradRefIdeal.τ).loc Cert.ScanGradRefIdeal.main_arg1) = m ((c.tc : Thread Cert.ScanGradRefIdeal.nD Cert.ScanGradRefIdeal.τ).loc Cert.ScanGradRefIdeal.main_arg1)
      ∧ r.2.mem ((c.tc : Thread Cert.ScanGradRefIdeal.nD Cert.ScanGradRefIdeal.τ).loc Cert.ScanGradRefIdeal.main_arg2) = m ((c.tc : Thread Cert.ScanGradRefIdeal.nD Cert.ScanGradRefIdeal.τ).loc Cert.ScanGradRefIdeal.main_arg2)
      ∧ r.2.mem ((c.tc : Thread Cert.ScanGradRefIdeal.nD Cert.ScanGradRefIdeal.τ).loc Cert.ScanGradRefIdeal.main_arg3) = m ((c.tc : Thread Cert.ScanGradRefIdeal.nD Cert.ScanGradRefIdeal.τ).loc Cert.ScanGradRefIdeal.main_arg3)
      ∧ r.2.mem ((c.tc : Thread Cert.ScanGradRefIdeal.nD Cert.ScanGradRefIdeal.τ).loc Cert.ScanGradRefIdeal.main_arg4) = m ((c.tc : Thread Cert.ScanGradRefIdeal.nD Cert.ScanGradRefIdeal.τ).loc Cert.ScanGradRefIdeal.main_arg4)
      ∧ r.2.mem ((c.tc : Thread Cert.ScanGradRefIdeal.nD Cert.ScanGradRefIdeal.τ).loc Cert.ScanGradRefIdeal.main_arg5) = m ((c.tc : Thread Cert.ScanGradRefIdeal.nD Cert.ScanGradRefIdeal.τ).loc Cert.ScanGradRefIdeal.main_arg5))
      ∧ r.2.sem = fun _ => 0)

def quiescent_ScanGradRefIdeal_pre_finite_scan [hScanGradRefIdeal : Cert.ScanGradRefIdeal.Facts] [hPre_finite_scan : Cert.Pre_finite_scan.Facts] : Prop :=
  ∀ (m : (ℓ : Loc Cert.ScanGradRefIdeal.nD Cert.ScanGradRefIdeal.τ Cert.ScanGradRefIdeal.sig) → Buf (Elt Ideal) ℓ) (g : Dev Cert.ScanGradRefIdeal.nD → PrngReg), Pre_ScanGradRefIdeal_finite_scan m →
    θ_run (Cert.ScanGradRefIdeal.defs (F := Ideal)) (onTc (τ := Cert.ScanGradRefIdeal.τ) (Cert.ScanGradRefIdeal.main (F := Ideal))) ⟨m, fun _ => 0, g⟩ (fun r => (∀ c : Dev Cert.ScanGradRefIdeal.nD,
      r.2.mem ((c.tc : Thread Cert.ScanGradRefIdeal.nD Cert.ScanGradRefIdeal.τ).loc Cert.ScanGradRefIdeal.main_arg0) = m ((c.tc : Thread Cert.ScanGradRefIdeal.nD Cert.ScanGradRefIdeal.τ).loc Cert.ScanGradRefIdeal.main_arg0)
      ∧ r.2.mem ((c.tc : Thread Cert.ScanGradRefIdeal.nD Cert.ScanGradRefIdeal.τ).loc Cert.ScanGradRefIdeal.main_arg1) = m ((c.tc : Thread Cert.ScanGradRefIdeal.nD Cert.ScanGradRefIdeal.τ).loc Cert.ScanGradRefIdeal.main_arg1)
      ∧ r.2.mem ((c.tc : Thread Cert.ScanGradRefIdeal.nD Cert.ScanGradRefIdeal.τ).loc Cert.ScanGradRefIdeal.main_arg2) = m ((c.tc : Thread Cert.ScanGradRefIdeal.nD Cert.ScanGradRefIdeal.τ).loc Cert.ScanGradRefIdeal.main_arg2)
      ∧ r.2.mem ((c.tc : Thread Cert.ScanGradRefIdeal.nD Cert.ScanGradRefIdeal.τ).loc Cert.ScanGradRefIdeal.main_arg3) = m ((c.tc : Thread Cert.ScanGradRefIdeal.nD Cert.ScanGradRefIdeal.τ).loc Cert.ScanGradRefIdeal.main_arg3)
      ∧ r.2.mem ((c.tc : Thread Cert.ScanGradRefIdeal.nD Cert.ScanGradRefIdeal.τ).loc Cert.ScanGradRefIdeal.main_arg4) = m ((c.tc : Thread Cert.ScanGradRefIdeal.nD Cert.ScanGradRefIdeal.τ).loc Cert.ScanGradRefIdeal.main_arg4)
      ∧ r.2.mem ((c.tc : Thread Cert.ScanGradRefIdeal.nD Cert.ScanGradRefIdeal.τ).loc Cert.ScanGradRefIdeal.main_arg5) = m ((c.tc : Thread Cert.ScanGradRefIdeal.nD Cert.ScanGradRefIdeal.τ).loc Cert.ScanGradRefIdeal.main_arg5))
      ∧ r.2.sem = fun _ => 0)

def quiescent_ConvGate [hConvGate : Cert.ConvGate.Facts] : Prop :=
  ∀ (m : (ℓ : Loc Cert.ConvGate.nD Cert.ConvGate.τ Cert.ConvGate.sig) → Buf (Elt Bits) ℓ) (g : Dev Cert.ConvGate.nD → PrngReg), Pre_ConvGate m →
    θ_run (Cert.ConvGate.defs (F := Bits)) (onTc (τ := Cert.ConvGate.τ) (Cert.ConvGate.main (F := Bits))) ⟨m, fun _ => 0, g⟩ (fun r => (∀ c : Dev Cert.ConvGate.nD,
      r.2.mem ((c.tc : Thread Cert.ConvGate.nD Cert.ConvGate.τ).loc Cert.ConvGate.main_arg0) = m ((c.tc : Thread Cert.ConvGate.nD Cert.ConvGate.τ).loc Cert.ConvGate.main_arg0)
      ∧ r.2.mem ((c.tc : Thread Cert.ConvGate.nD Cert.ConvGate.τ).loc Cert.ConvGate.main_arg1) = m ((c.tc : Thread Cert.ConvGate.nD Cert.ConvGate.τ).loc Cert.ConvGate.main_arg1)
      ∧ r.2.mem ((c.tc : Thread Cert.ConvGate.nD Cert.ConvGate.τ).loc Cert.ConvGate.main_arg2) = m ((c.tc : Thread Cert.ConvGate.nD Cert.ConvGate.τ).loc Cert.ConvGate.main_arg2)
      ∧ r.2.mem ((c.tc : Thread Cert.ConvGate.nD Cert.ConvGate.τ).loc Cert.ConvGate.main_arg3) = m ((c.tc : Thread Cert.ConvGate.nD Cert.ConvGate.τ).loc Cert.ConvGate.main_arg3)
      ∧ r.2.mem ((c.tc : Thread Cert.ConvGate.nD Cert.ConvGate.τ).loc Cert.ConvGate.main_arg4) = m ((c.tc : Thread Cert.ConvGate.nD Cert.ConvGate.τ).loc Cert.ConvGate.main_arg4))
      ∧ r.2.sem = fun _ => 0)

def quiescent_ConvGateIdeal [hConvGateIdeal : Cert.ConvGateIdeal.Facts] : Prop :=
  ∀ (m : (ℓ : Loc Cert.ConvGateIdeal.nD Cert.ConvGateIdeal.τ Cert.ConvGateIdeal.sig) → Buf (Elt Ideal) ℓ) (g : Dev Cert.ConvGateIdeal.nD → PrngReg), Pre_ConvGateIdeal m →
    θ_run (Cert.ConvGateIdeal.defs (F := Ideal)) (onTc (τ := Cert.ConvGateIdeal.τ) (Cert.ConvGateIdeal.main (F := Ideal))) ⟨m, fun _ => 0, g⟩ (fun r => (∀ c : Dev Cert.ConvGateIdeal.nD,
      r.2.mem ((c.tc : Thread Cert.ConvGateIdeal.nD Cert.ConvGateIdeal.τ).loc Cert.ConvGateIdeal.main_arg0) = m ((c.tc : Thread Cert.ConvGateIdeal.nD Cert.ConvGateIdeal.τ).loc Cert.ConvGateIdeal.main_arg0)
      ∧ r.2.mem ((c.tc : Thread Cert.ConvGateIdeal.nD Cert.ConvGateIdeal.τ).loc Cert.ConvGateIdeal.main_arg1) = m ((c.tc : Thread Cert.ConvGateIdeal.nD Cert.ConvGateIdeal.τ).loc Cert.ConvGateIdeal.main_arg1)
      ∧ r.2.mem ((c.tc : Thread Cert.ConvGateIdeal.nD Cert.ConvGateIdeal.τ).loc Cert.ConvGateIdeal.main_arg2) = m ((c.tc : Thread Cert.ConvGateIdeal.nD Cert.ConvGateIdeal.τ).loc Cert.ConvGateIdeal.main_arg2)
      ∧ r.2.mem ((c.tc : Thread Cert.ConvGateIdeal.nD Cert.ConvGateIdeal.τ).loc Cert.ConvGateIdeal.main_arg3) = m ((c.tc : Thread Cert.ConvGateIdeal.nD Cert.ConvGateIdeal.τ).loc Cert.ConvGateIdeal.main_arg3)
      ∧ r.2.mem ((c.tc : Thread Cert.ConvGateIdeal.nD Cert.ConvGateIdeal.τ).loc Cert.ConvGateIdeal.main_arg4) = m ((c.tc : Thread Cert.ConvGateIdeal.nD Cert.ConvGateIdeal.τ).loc Cert.ConvGateIdeal.main_arg4))
      ∧ r.2.sem = fun _ => 0)

def quiescent_ConvGateIdeal_pre_finite_gate [hConvGateIdeal : Cert.ConvGateIdeal.Facts] [hPre_finite_gate : Cert.Pre_finite_gate.Facts] : Prop :=
  ∀ (m : (ℓ : Loc Cert.ConvGateIdeal.nD Cert.ConvGateIdeal.τ Cert.ConvGateIdeal.sig) → Buf (Elt Ideal) ℓ) (g : Dev Cert.ConvGateIdeal.nD → PrngReg), Pre_ConvGateIdeal_finite_gate m →
    θ_run (Cert.ConvGateIdeal.defs (F := Ideal)) (onTc (τ := Cert.ConvGateIdeal.τ) (Cert.ConvGateIdeal.main (F := Ideal))) ⟨m, fun _ => 0, g⟩ (fun r => (∀ c : Dev Cert.ConvGateIdeal.nD,
      r.2.mem ((c.tc : Thread Cert.ConvGateIdeal.nD Cert.ConvGateIdeal.τ).loc Cert.ConvGateIdeal.main_arg0) = m ((c.tc : Thread Cert.ConvGateIdeal.nD Cert.ConvGateIdeal.τ).loc Cert.ConvGateIdeal.main_arg0)
      ∧ r.2.mem ((c.tc : Thread Cert.ConvGateIdeal.nD Cert.ConvGateIdeal.τ).loc Cert.ConvGateIdeal.main_arg1) = m ((c.tc : Thread Cert.ConvGateIdeal.nD Cert.ConvGateIdeal.τ).loc Cert.ConvGateIdeal.main_arg1)
      ∧ r.2.mem ((c.tc : Thread Cert.ConvGateIdeal.nD Cert.ConvGateIdeal.τ).loc Cert.ConvGateIdeal.main_arg2) = m ((c.tc : Thread Cert.ConvGateIdeal.nD Cert.ConvGateIdeal.τ).loc Cert.ConvGateIdeal.main_arg2)
      ∧ r.2.mem ((c.tc : Thread Cert.ConvGateIdeal.nD Cert.ConvGateIdeal.τ).loc Cert.ConvGateIdeal.main_arg3) = m ((c.tc : Thread Cert.ConvGateIdeal.nD Cert.ConvGateIdeal.τ).loc Cert.ConvGateIdeal.main_arg3)
      ∧ r.2.mem ((c.tc : Thread Cert.ConvGateIdeal.nD Cert.ConvGateIdeal.τ).loc Cert.ConvGateIdeal.main_arg4) = m ((c.tc : Thread Cert.ConvGateIdeal.nD Cert.ConvGateIdeal.τ).loc Cert.ConvGateIdeal.main_arg4))
      ∧ r.2.sem = fun _ => 0)

def quiescent_ConvGateRefIdeal [hConvGateRefIdeal : Cert.ConvGateRefIdeal.Facts] : Prop :=
  ∀ (m : (ℓ : Loc Cert.ConvGateRefIdeal.nD Cert.ConvGateRefIdeal.τ Cert.ConvGateRefIdeal.sig) → Buf (Elt Ideal) ℓ) (g : Dev Cert.ConvGateRefIdeal.nD → PrngReg), Pre_ConvGateRefIdeal m →
    θ_run (Cert.ConvGateRefIdeal.defs (F := Ideal)) (onTc (τ := Cert.ConvGateRefIdeal.τ) (Cert.ConvGateRefIdeal.main (F := Ideal))) ⟨m, fun _ => 0, g⟩ (fun r => (∀ c : Dev Cert.ConvGateRefIdeal.nD,
      r.2.mem ((c.tc : Thread Cert.ConvGateRefIdeal.nD Cert.ConvGateRefIdeal.τ).loc Cert.ConvGateRefIdeal.main_arg0) = m ((c.tc : Thread Cert.ConvGateRefIdeal.nD Cert.ConvGateRefIdeal.τ).loc Cert.ConvGateRefIdeal.main_arg0)
      ∧ r.2.mem ((c.tc : Thread Cert.ConvGateRefIdeal.nD Cert.ConvGateRefIdeal.τ).loc Cert.ConvGateRefIdeal.main_arg1) = m ((c.tc : Thread Cert.ConvGateRefIdeal.nD Cert.ConvGateRefIdeal.τ).loc Cert.ConvGateRefIdeal.main_arg1)
      ∧ r.2.mem ((c.tc : Thread Cert.ConvGateRefIdeal.nD Cert.ConvGateRefIdeal.τ).loc Cert.ConvGateRefIdeal.main_arg2) = m ((c.tc : Thread Cert.ConvGateRefIdeal.nD Cert.ConvGateRefIdeal.τ).loc Cert.ConvGateRefIdeal.main_arg2)
      ∧ r.2.mem ((c.tc : Thread Cert.ConvGateRefIdeal.nD Cert.ConvGateRefIdeal.τ).loc Cert.ConvGateRefIdeal.main_arg3) = m ((c.tc : Thread Cert.ConvGateRefIdeal.nD Cert.ConvGateRefIdeal.τ).loc Cert.ConvGateRefIdeal.main_arg3)
      ∧ r.2.mem ((c.tc : Thread Cert.ConvGateRefIdeal.nD Cert.ConvGateRefIdeal.τ).loc Cert.ConvGateRefIdeal.main_arg4) = m ((c.tc : Thread Cert.ConvGateRefIdeal.nD Cert.ConvGateRefIdeal.τ).loc Cert.ConvGateRefIdeal.main_arg4))
      ∧ r.2.sem = fun _ => 0)

def quiescent_ConvGateRefIdeal_pre_finite_gate [hConvGateRefIdeal : Cert.ConvGateRefIdeal.Facts] [hPre_finite_gate : Cert.Pre_finite_gate.Facts] : Prop :=
  ∀ (m : (ℓ : Loc Cert.ConvGateRefIdeal.nD Cert.ConvGateRefIdeal.τ Cert.ConvGateRefIdeal.sig) → Buf (Elt Ideal) ℓ) (g : Dev Cert.ConvGateRefIdeal.nD → PrngReg), Pre_ConvGateRefIdeal_finite_gate m →
    θ_run (Cert.ConvGateRefIdeal.defs (F := Ideal)) (onTc (τ := Cert.ConvGateRefIdeal.τ) (Cert.ConvGateRefIdeal.main (F := Ideal))) ⟨m, fun _ => 0, g⟩ (fun r => (∀ c : Dev Cert.ConvGateRefIdeal.nD,
      r.2.mem ((c.tc : Thread Cert.ConvGateRefIdeal.nD Cert.ConvGateRefIdeal.τ).loc Cert.ConvGateRefIdeal.main_arg0) = m ((c.tc : Thread Cert.ConvGateRefIdeal.nD Cert.ConvGateRefIdeal.τ).loc Cert.ConvGateRefIdeal.main_arg0)
      ∧ r.2.mem ((c.tc : Thread Cert.ConvGateRefIdeal.nD Cert.ConvGateRefIdeal.τ).loc Cert.ConvGateRefIdeal.main_arg1) = m ((c.tc : Thread Cert.ConvGateRefIdeal.nD Cert.ConvGateRefIdeal.τ).loc Cert.ConvGateRefIdeal.main_arg1)
      ∧ r.2.mem ((c.tc : Thread Cert.ConvGateRefIdeal.nD Cert.ConvGateRefIdeal.τ).loc Cert.ConvGateRefIdeal.main_arg2) = m ((c.tc : Thread Cert.ConvGateRefIdeal.nD Cert.ConvGateRefIdeal.τ).loc Cert.ConvGateRefIdeal.main_arg2)
      ∧ r.2.mem ((c.tc : Thread Cert.ConvGateRefIdeal.nD Cert.ConvGateRefIdeal.τ).loc Cert.ConvGateRefIdeal.main_arg3) = m ((c.tc : Thread Cert.ConvGateRefIdeal.nD Cert.ConvGateRefIdeal.τ).loc Cert.ConvGateRefIdeal.main_arg3)
      ∧ r.2.mem ((c.tc : Thread Cert.ConvGateRefIdeal.nD Cert.ConvGateRefIdeal.τ).loc Cert.ConvGateRefIdeal.main_arg4) = m ((c.tc : Thread Cert.ConvGateRefIdeal.nD Cert.ConvGateRefIdeal.τ).loc Cert.ConvGateRefIdeal.main_arg4))
      ∧ r.2.sem = fun _ => 0)

def quiescent_GluGate [hGluGate : Cert.GluGate.Facts] : Prop :=
  ∀ (m : (ℓ : Loc Cert.GluGate.nD Cert.GluGate.τ Cert.GluGate.sig) → Buf (Elt Bits) ℓ) (g : Dev Cert.GluGate.nD → PrngReg), Pre_GluGate m →
    θ_run (Cert.GluGate.defs (F := Bits)) (onTc (τ := Cert.GluGate.τ) (Cert.GluGate.main (F := Bits))) ⟨m, fun _ => 0, g⟩ (fun r => (∀ c : Dev Cert.GluGate.nD,
      r.2.mem ((c.tc : Thread Cert.GluGate.nD Cert.GluGate.τ).loc Cert.GluGate.main_arg0) = m ((c.tc : Thread Cert.GluGate.nD Cert.GluGate.τ).loc Cert.GluGate.main_arg0)
      ∧ r.2.mem ((c.tc : Thread Cert.GluGate.nD Cert.GluGate.τ).loc Cert.GluGate.main_arg1) = m ((c.tc : Thread Cert.GluGate.nD Cert.GluGate.τ).loc Cert.GluGate.main_arg1)
      ∧ r.2.mem ((c.tc : Thread Cert.GluGate.nD Cert.GluGate.τ).loc Cert.GluGate.main_arg2) = m ((c.tc : Thread Cert.GluGate.nD Cert.GluGate.τ).loc Cert.GluGate.main_arg2)
      ∧ r.2.mem ((c.tc : Thread Cert.GluGate.nD Cert.GluGate.τ).loc Cert.GluGate.main_arg3) = m ((c.tc : Thread Cert.GluGate.nD Cert.GluGate.τ).loc Cert.GluGate.main_arg3))
      ∧ r.2.sem = fun _ => 0)

def quiescent_GluGateIdeal [hGluGateIdeal : Cert.GluGateIdeal.Facts] : Prop :=
  ∀ (m : (ℓ : Loc Cert.GluGateIdeal.nD Cert.GluGateIdeal.τ Cert.GluGateIdeal.sig) → Buf (Elt Ideal) ℓ) (g : Dev Cert.GluGateIdeal.nD → PrngReg), Pre_GluGateIdeal m →
    θ_run (Cert.GluGateIdeal.defs (F := Ideal)) (onTc (τ := Cert.GluGateIdeal.τ) (Cert.GluGateIdeal.main (F := Ideal))) ⟨m, fun _ => 0, g⟩ (fun r => (∀ c : Dev Cert.GluGateIdeal.nD,
      r.2.mem ((c.tc : Thread Cert.GluGateIdeal.nD Cert.GluGateIdeal.τ).loc Cert.GluGateIdeal.main_arg0) = m ((c.tc : Thread Cert.GluGateIdeal.nD Cert.GluGateIdeal.τ).loc Cert.GluGateIdeal.main_arg0)
      ∧ r.2.mem ((c.tc : Thread Cert.GluGateIdeal.nD Cert.GluGateIdeal.τ).loc Cert.GluGateIdeal.main_arg1) = m ((c.tc : Thread Cert.GluGateIdeal.nD Cert.GluGateIdeal.τ).loc Cert.GluGateIdeal.main_arg1)
      ∧ r.2.mem ((c.tc : Thread Cert.GluGateIdeal.nD Cert.GluGateIdeal.τ).loc Cert.GluGateIdeal.main_arg2) = m ((c.tc : Thread Cert.GluGateIdeal.nD Cert.GluGateIdeal.τ).loc Cert.GluGateIdeal.main_arg2)
      ∧ r.2.mem ((c.tc : Thread Cert.GluGateIdeal.nD Cert.GluGateIdeal.τ).loc Cert.GluGateIdeal.main_arg3) = m ((c.tc : Thread Cert.GluGateIdeal.nD Cert.GluGateIdeal.τ).loc Cert.GluGateIdeal.main_arg3))
      ∧ r.2.sem = fun _ => 0)

def quiescent_GluGateIdeal_pre_finite_glu [hGluGateIdeal : Cert.GluGateIdeal.Facts] [hPre_finite_glu : Cert.Pre_finite_glu.Facts] : Prop :=
  ∀ (m : (ℓ : Loc Cert.GluGateIdeal.nD Cert.GluGateIdeal.τ Cert.GluGateIdeal.sig) → Buf (Elt Ideal) ℓ) (g : Dev Cert.GluGateIdeal.nD → PrngReg), Pre_GluGateIdeal_finite_glu m →
    θ_run (Cert.GluGateIdeal.defs (F := Ideal)) (onTc (τ := Cert.GluGateIdeal.τ) (Cert.GluGateIdeal.main (F := Ideal))) ⟨m, fun _ => 0, g⟩ (fun r => (∀ c : Dev Cert.GluGateIdeal.nD,
      r.2.mem ((c.tc : Thread Cert.GluGateIdeal.nD Cert.GluGateIdeal.τ).loc Cert.GluGateIdeal.main_arg0) = m ((c.tc : Thread Cert.GluGateIdeal.nD Cert.GluGateIdeal.τ).loc Cert.GluGateIdeal.main_arg0)
      ∧ r.2.mem ((c.tc : Thread Cert.GluGateIdeal.nD Cert.GluGateIdeal.τ).loc Cert.GluGateIdeal.main_arg1) = m ((c.tc : Thread Cert.GluGateIdeal.nD Cert.GluGateIdeal.τ).loc Cert.GluGateIdeal.main_arg1)
      ∧ r.2.mem ((c.tc : Thread Cert.GluGateIdeal.nD Cert.GluGateIdeal.τ).loc Cert.GluGateIdeal.main_arg2) = m ((c.tc : Thread Cert.GluGateIdeal.nD Cert.GluGateIdeal.τ).loc Cert.GluGateIdeal.main_arg2)
      ∧ r.2.mem ((c.tc : Thread Cert.GluGateIdeal.nD Cert.GluGateIdeal.τ).loc Cert.GluGateIdeal.main_arg3) = m ((c.tc : Thread Cert.GluGateIdeal.nD Cert.GluGateIdeal.τ).loc Cert.GluGateIdeal.main_arg3))
      ∧ r.2.sem = fun _ => 0)

def quiescent_GluGateRefIdeal [hGluGateRefIdeal : Cert.GluGateRefIdeal.Facts] : Prop :=
  ∀ (m : (ℓ : Loc Cert.GluGateRefIdeal.nD Cert.GluGateRefIdeal.τ Cert.GluGateRefIdeal.sig) → Buf (Elt Ideal) ℓ) (g : Dev Cert.GluGateRefIdeal.nD → PrngReg), Pre_GluGateRefIdeal m →
    θ_run (Cert.GluGateRefIdeal.defs (F := Ideal)) (onTc (τ := Cert.GluGateRefIdeal.τ) (Cert.GluGateRefIdeal.main (F := Ideal))) ⟨m, fun _ => 0, g⟩ (fun r => (∀ c : Dev Cert.GluGateRefIdeal.nD,
      r.2.mem ((c.tc : Thread Cert.GluGateRefIdeal.nD Cert.GluGateRefIdeal.τ).loc Cert.GluGateRefIdeal.main_arg0) = m ((c.tc : Thread Cert.GluGateRefIdeal.nD Cert.GluGateRefIdeal.τ).loc Cert.GluGateRefIdeal.main_arg0)
      ∧ r.2.mem ((c.tc : Thread Cert.GluGateRefIdeal.nD Cert.GluGateRefIdeal.τ).loc Cert.GluGateRefIdeal.main_arg1) = m ((c.tc : Thread Cert.GluGateRefIdeal.nD Cert.GluGateRefIdeal.τ).loc Cert.GluGateRefIdeal.main_arg1)
      ∧ r.2.mem ((c.tc : Thread Cert.GluGateRefIdeal.nD Cert.GluGateRefIdeal.τ).loc Cert.GluGateRefIdeal.main_arg2) = m ((c.tc : Thread Cert.GluGateRefIdeal.nD Cert.GluGateRefIdeal.τ).loc Cert.GluGateRefIdeal.main_arg2)
      ∧ r.2.mem ((c.tc : Thread Cert.GluGateRefIdeal.nD Cert.GluGateRefIdeal.τ).loc Cert.GluGateRefIdeal.main_arg3) = m ((c.tc : Thread Cert.GluGateRefIdeal.nD Cert.GluGateRefIdeal.τ).loc Cert.GluGateRefIdeal.main_arg3))
      ∧ r.2.sem = fun _ => 0)

def quiescent_GluGateRefIdeal_pre_finite_glu [hGluGateRefIdeal : Cert.GluGateRefIdeal.Facts] [hPre_finite_glu : Cert.Pre_finite_glu.Facts] : Prop :=
  ∀ (m : (ℓ : Loc Cert.GluGateRefIdeal.nD Cert.GluGateRefIdeal.τ Cert.GluGateRefIdeal.sig) → Buf (Elt Ideal) ℓ) (g : Dev Cert.GluGateRefIdeal.nD → PrngReg), Pre_GluGateRefIdeal_finite_glu m →
    θ_run (Cert.GluGateRefIdeal.defs (F := Ideal)) (onTc (τ := Cert.GluGateRefIdeal.τ) (Cert.GluGateRefIdeal.main (F := Ideal))) ⟨m, fun _ => 0, g⟩ (fun r => (∀ c : Dev Cert.GluGateRefIdeal.nD,
      r.2.mem ((c.tc : Thread Cert.GluGateRefIdeal.nD Cert.GluGateRefIdeal.τ).loc Cert.GluGateRefIdeal.main_arg0) = m ((c.tc : Thread Cert.GluGateRefIdeal.nD Cert.GluGateRefIdeal.τ).loc Cert.GluGateRefIdeal.main_arg0)
      ∧ r.2.mem ((c.tc : Thread Cert.GluGateRefIdeal.nD Cert.GluGateRefIdeal.τ).loc Cert.GluGateRefIdeal.main_arg1) = m ((c.tc : Thread Cert.GluGateRefIdeal.nD Cert.GluGateRefIdeal.τ).loc Cert.GluGateRefIdeal.main_arg1)
      ∧ r.2.mem ((c.tc : Thread Cert.GluGateRefIdeal.nD Cert.GluGateRefIdeal.τ).loc Cert.GluGateRefIdeal.main_arg2) = m ((c.tc : Thread Cert.GluGateRefIdeal.nD Cert.GluGateRefIdeal.τ).loc Cert.GluGateRefIdeal.main_arg2)
      ∧ r.2.mem ((c.tc : Thread Cert.GluGateRefIdeal.nD Cert.GluGateRefIdeal.τ).loc Cert.GluGateRefIdeal.main_arg3) = m ((c.tc : Thread Cert.GluGateRefIdeal.nD Cert.GluGateRefIdeal.τ).loc Cert.GluGateRefIdeal.main_arg3))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3)
      ∧ r.2.mem ((c.tc : Thread Cert.NormGrad.nD Cert.NormGrad.τ).loc Cert.NormGrad.main_arg4) = m ((c.tc : Thread Cert.NormGrad.nD Cert.NormGrad.τ).loc Cert.NormGrad.main_arg4))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ r.2.sem = fun _ => 0)

def quiescent_NormGradIdeal_pre_finite_ln [hNormGradIdeal : Cert.NormGradIdeal.Facts] [hPre_finite_ln : Cert.Pre_finite_ln.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal_finite_ln m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ r.2.sem = fun _ => 0)

def quiescent_NormGradRefIdeal [hNormGradRefIdeal : Cert.NormGradRefIdeal.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3)
      ∧ r.2.mem ((c.tc : Thread Cert.NormGradRefIdeal.nD Cert.NormGradRefIdeal.τ).loc Cert.NormGradRefIdeal.main_arg4) = m ((c.tc : Thread Cert.NormGradRefIdeal.nD Cert.NormGradRefIdeal.τ).loc Cert.NormGradRefIdeal.main_arg4))
      ∧ r.2.sem = fun _ => 0)

def quiescent_NormGradRefIdeal_pre_finite_ln [hNormGradRefIdeal : Cert.NormGradRefIdeal.Facts] [hPre_finite_ln : Cert.Pre_finite_ln.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal_finite_ln m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3)
      ∧ r.2.mem ((c.tc : Thread Cert.NormGradRefIdeal.nD Cert.NormGradRefIdeal.τ).loc Cert.NormGradRefIdeal.main_arg4) = m ((c.tc : Thread Cert.NormGradRefIdeal.nD Cert.NormGradRefIdeal.τ).loc Cert.NormGradRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_SwigluGrad [hSwigluGrad : Cert.SwigluGrad.Facts] : Prop :=
  ∀ (m : (ℓ : Loc Cert.SwigluGrad.nD Cert.SwigluGrad.τ Cert.SwigluGrad.sig) → Buf (Elt Bits) ℓ) (g : Dev Cert.SwigluGrad.nD → PrngReg), Pre_SwigluGrad m →
    θ_run (Cert.SwigluGrad.defs (F := Bits)) (onTc (τ := Cert.SwigluGrad.τ) (Cert.SwigluGrad.main (F := Bits))) ⟨m, fun _ => 0, g⟩ (fun r => (∀ c : Dev Cert.SwigluGrad.nD,
      r.2.mem ((c.tc : Thread Cert.SwigluGrad.nD Cert.SwigluGrad.τ).loc Cert.SwigluGrad.main_arg0) = m ((c.tc : Thread Cert.SwigluGrad.nD Cert.SwigluGrad.τ).loc Cert.SwigluGrad.main_arg0)
      ∧ r.2.mem ((c.tc : Thread Cert.SwigluGrad.nD Cert.SwigluGrad.τ).loc Cert.SwigluGrad.main_arg1) = m ((c.tc : Thread Cert.SwigluGrad.nD Cert.SwigluGrad.τ).loc Cert.SwigluGrad.main_arg1)
      ∧ r.2.mem ((c.tc : Thread Cert.SwigluGrad.nD Cert.SwigluGrad.τ).loc Cert.SwigluGrad.main_arg2) = m ((c.tc : Thread Cert.SwigluGrad.nD Cert.SwigluGrad.τ).loc Cert.SwigluGrad.main_arg2)
      ∧ r.2.mem ((c.tc : Thread Cert.SwigluGrad.nD Cert.SwigluGrad.τ).loc Cert.SwigluGrad.main_arg3) = m ((c.tc : Thread Cert.SwigluGrad.nD Cert.SwigluGrad.τ).loc Cert.SwigluGrad.main_arg3))
      ∧ r.2.sem = fun _ => 0)

def quiescent_SwigluGradIdeal [hSwigluGradIdeal : Cert.SwigluGradIdeal.Facts] : Prop :=
  ∀ (m : (ℓ : Loc Cert.SwigluGradIdeal.nD Cert.SwigluGradIdeal.τ Cert.SwigluGradIdeal.sig) → Buf (Elt Ideal) ℓ) (g : Dev Cert.SwigluGradIdeal.nD → PrngReg), Pre_SwigluGradIdeal m →
    θ_run (Cert.SwigluGradIdeal.defs (F := Ideal)) (onTc (τ := Cert.SwigluGradIdeal.τ) (Cert.SwigluGradIdeal.main (F := Ideal))) ⟨m, fun _ => 0, g⟩ (fun r => (∀ c : Dev Cert.SwigluGradIdeal.nD,
      r.2.mem ((c.tc : Thread Cert.SwigluGradIdeal.nD Cert.SwigluGradIdeal.τ).loc Cert.SwigluGradIdeal.main_arg0) = m ((c.tc : Thread Cert.SwigluGradIdeal.nD Cert.SwigluGradIdeal.τ).loc Cert.SwigluGradIdeal.main_arg0)
      ∧ r.2.mem ((c.tc : Thread Cert.SwigluGradIdeal.nD Cert.SwigluGradIdeal.τ).loc Cert.SwigluGradIdeal.main_arg1) = m ((c.tc : Thread Cert.SwigluGradIdeal.nD Cert.SwigluGradIdeal.τ).loc Cert.SwigluGradIdeal.main_arg1)
      ∧ r.2.mem ((c.tc : Thread Cert.SwigluGradIdeal.nD Cert.SwigluGradIdeal.τ).loc Cert.SwigluGradIdeal.main_arg2) = m ((c.tc : Thread Cert.SwigluGradIdeal.nD Cert.SwigluGradIdeal.τ).loc Cert.SwigluGradIdeal.main_arg2)
      ∧ r.2.mem ((c.tc : Thread Cert.SwigluGradIdeal.nD Cert.SwigluGradIdeal.τ).loc Cert.SwigluGradIdeal.main_arg3) = m ((c.tc : Thread Cert.SwigluGradIdeal.nD Cert.SwigluGradIdeal.τ).loc Cert.SwigluGradIdeal.main_arg3))
      ∧ r.2.sem = fun _ => 0)

def quiescent_SwigluGradIdeal_pre_finite_dact [hSwigluGradIdeal : Cert.SwigluGradIdeal.Facts] [hPre_finite_dact : Cert.Pre_finite_dact.Facts] : Prop :=
  ∀ (m : (ℓ : Loc Cert.SwigluGradIdeal.nD Cert.SwigluGradIdeal.τ Cert.SwigluGradIdeal.sig) → Buf (Elt Ideal) ℓ) (g : Dev Cert.SwigluGradIdeal.nD → PrngReg), Pre_SwigluGradIdeal_finite_dact m →
    θ_run (Cert.SwigluGradIdeal.defs (F := Ideal)) (onTc (τ := Cert.SwigluGradIdeal.τ) (Cert.SwigluGradIdeal.main (F := Ideal))) ⟨m, fun _ => 0, g⟩ (fun r => (∀ c : Dev Cert.SwigluGradIdeal.nD,
      r.2.mem ((c.tc : Thread Cert.SwigluGradIdeal.nD Cert.SwigluGradIdeal.τ).loc Cert.SwigluGradIdeal.main_arg0) = m ((c.tc : Thread Cert.SwigluGradIdeal.nD Cert.SwigluGradIdeal.τ).loc Cert.SwigluGradIdeal.main_arg0)
      ∧ r.2.mem ((c.tc : Thread Cert.SwigluGradIdeal.nD Cert.SwigluGradIdeal.τ).loc Cert.SwigluGradIdeal.main_arg1) = m ((c.tc : Thread Cert.SwigluGradIdeal.nD Cert.SwigluGradIdeal.τ).loc Cert.SwigluGradIdeal.main_arg1)
      ∧ r.2.mem ((c.tc : Thread Cert.SwigluGradIdeal.nD Cert.SwigluGradIdeal.τ).loc Cert.SwigluGradIdeal.main_arg2) = m ((c.tc : Thread Cert.SwigluGradIdeal.nD Cert.SwigluGradIdeal.τ).loc Cert.SwigluGradIdeal.main_arg2)
      ∧ r.2.mem ((c.tc : Thread Cert.SwigluGradIdeal.nD Cert.SwigluGradIdeal.τ).loc Cert.SwigluGradIdeal.main_arg3) = m ((c.tc : Thread Cert.SwigluGradIdeal.nD Cert.SwigluGradIdeal.τ).loc Cert.SwigluGradIdeal.main_arg3))
      ∧ r.2.sem = fun _ => 0)

def quiescent_SwigluGradRefIdeal [hSwigluGradRefIdeal : Cert.SwigluGradRefIdeal.Facts] : Prop :=
  ∀ (m : (ℓ : Loc Cert.SwigluGradRefIdeal.nD Cert.SwigluGradRefIdeal.τ Cert.SwigluGradRefIdeal.sig) → Buf (Elt Ideal) ℓ) (g : Dev Cert.SwigluGradRefIdeal.nD → PrngReg), Pre_SwigluGradRefIdeal m →
    θ_run (Cert.SwigluGradRefIdeal.defs (F := Ideal)) (onTc (τ := Cert.SwigluGradRefIdeal.τ) (Cert.SwigluGradRefIdeal.main (F := Ideal))) ⟨m, fun _ => 0, g⟩ (fun r => (∀ c : Dev Cert.SwigluGradRefIdeal.nD,
      r.2.mem ((c.tc : Thread Cert.SwigluGradRefIdeal.nD Cert.SwigluGradRefIdeal.τ).loc Cert.SwigluGradRefIdeal.main_arg0) = m ((c.tc : Thread Cert.SwigluGradRefIdeal.nD Cert.SwigluGradRefIdeal.τ).loc Cert.SwigluGradRefIdeal.main_arg0)
      ∧ r.2.mem ((c.tc : Thread Cert.SwigluGradRefIdeal.nD Cert.SwigluGradRefIdeal.τ).loc Cert.SwigluGradRefIdeal.main_arg1) = m ((c.tc : Thread Cert.SwigluGradRefIdeal.nD Cert.SwigluGradRefIdeal.τ).loc Cert.SwigluGradRefIdeal.main_arg1)
      ∧ r.2.mem ((c.tc : Thread Cert.SwigluGradRefIdeal.nD Cert.SwigluGradRefIdeal.τ).loc Cert.SwigluGradRefIdeal.main_arg2) = m ((c.tc : Thread Cert.SwigluGradRefIdeal.nD Cert.SwigluGradRefIdeal.τ).loc Cert.SwigluGradRefIdeal.main_arg2)
      ∧ r.2.mem ((c.tc : Thread Cert.SwigluGradRefIdeal.nD Cert.SwigluGradRefIdeal.τ).loc Cert.SwigluGradRefIdeal.main_arg3) = m ((c.tc : Thread Cert.SwigluGradRefIdeal.nD Cert.SwigluGradRefIdeal.τ).loc Cert.SwigluGradRefIdeal.main_arg3))
      ∧ r.2.sem = fun _ => 0)

def quiescent_SwigluGradRefIdeal_pre_finite_dact [hSwigluGradRefIdeal : Cert.SwigluGradRefIdeal.Facts] [hPre_finite_dact : Cert.Pre_finite_dact.Facts] : Prop :=
  ∀ (m : (ℓ : Loc Cert.SwigluGradRefIdeal.nD Cert.SwigluGradRefIdeal.τ Cert.SwigluGradRefIdeal.sig) → Buf (Elt Ideal) ℓ) (g : Dev Cert.SwigluGradRefIdeal.nD → PrngReg), Pre_SwigluGradRefIdeal_finite_dact m →
    θ_run (Cert.SwigluGradRefIdeal.defs (F := Ideal)) (onTc (τ := Cert.SwigluGradRefIdeal.τ) (Cert.SwigluGradRefIdeal.main (F := Ideal))) ⟨m, fun _ => 0, g⟩ (fun r => (∀ c : Dev Cert.SwigluGradRefIdeal.nD,
      r.2.mem ((c.tc : Thread Cert.SwigluGradRefIdeal.nD Cert.SwigluGradRefIdeal.τ).loc Cert.SwigluGradRefIdeal.main_arg0) = m ((c.tc : Thread Cert.SwigluGradRefIdeal.nD Cert.SwigluGradRefIdeal.τ).loc Cert.SwigluGradRefIdeal.main_arg0)
      ∧ r.2.mem ((c.tc : Thread Cert.SwigluGradRefIdeal.nD Cert.SwigluGradRefIdeal.τ).loc Cert.SwigluGradRefIdeal.main_arg1) = m ((c.tc : Thread Cert.SwigluGradRefIdeal.nD Cert.SwigluGradRefIdeal.τ).loc Cert.SwigluGradRefIdeal.main_arg1)
      ∧ r.2.mem ((c.tc : Thread Cert.SwigluGradRefIdeal.nD Cert.SwigluGradRefIdeal.τ).loc Cert.SwigluGradRefIdeal.main_arg2) = m ((c.tc : Thread Cert.SwigluGradRefIdeal.nD Cert.SwigluGradRefIdeal.τ).loc Cert.SwigluGradRefIdeal.main_arg2)
      ∧ r.2.mem ((c.tc : Thread Cert.SwigluGradRefIdeal.nD Cert.SwigluGradRefIdeal.τ).loc Cert.SwigluGradRefIdeal.main_arg3) = m ((c.tc : Thread Cert.SwigluGradRefIdeal.nD Cert.SwigluGradRefIdeal.τ).loc Cert.SwigluGradRefIdeal.main_arg3))
      ∧ r.2.sem = fun _ => 0)

def quiescent_GeluGrad [hGeluGrad : Cert.GeluGrad.Facts] : Prop :=
  ∀ (m : (ℓ : Loc Cert.GeluGrad.nD Cert.GeluGrad.τ Cert.GeluGrad.sig) → Buf (Elt Bits) ℓ) (g : Dev Cert.GeluGrad.nD → PrngReg), Pre_GeluGrad m →
    θ_run (Cert.GeluGrad.defs (F := Bits)) (onTc (τ := Cert.GeluGrad.τ) (Cert.GeluGrad.main (F := Bits))) ⟨m, fun _ => 0, g⟩ (fun r => (∀ c : Dev Cert.GeluGrad.nD,
      r.2.mem ((c.tc : Thread Cert.GeluGrad.nD Cert.GeluGrad.τ).loc Cert.GeluGrad.main_arg0) = m ((c.tc : Thread Cert.GeluGrad.nD Cert.GeluGrad.τ).loc Cert.GeluGrad.main_arg0)
      ∧ r.2.mem ((c.tc : Thread Cert.GeluGrad.nD Cert.GeluGrad.τ).loc Cert.GeluGrad.main_arg1) = m ((c.tc : Thread Cert.GeluGrad.nD Cert.GeluGrad.τ).loc Cert.GeluGrad.main_arg1)
      ∧ r.2.mem ((c.tc : Thread Cert.GeluGrad.nD Cert.GeluGrad.τ).loc Cert.GeluGrad.main_arg2) = m ((c.tc : Thread Cert.GeluGrad.nD Cert.GeluGrad.τ).loc Cert.GeluGrad.main_arg2)
      ∧ r.2.mem ((c.tc : Thread Cert.GeluGrad.nD Cert.GeluGrad.τ).loc Cert.GeluGrad.main_arg3) = m ((c.tc : Thread Cert.GeluGrad.nD Cert.GeluGrad.τ).loc Cert.GeluGrad.main_arg3))
      ∧ r.2.sem = fun _ => 0)

def quiescent_GeluGradIdeal [hGeluGradIdeal : Cert.GeluGradIdeal.Facts] : Prop :=
  ∀ (m : (ℓ : Loc Cert.GeluGradIdeal.nD Cert.GeluGradIdeal.τ Cert.GeluGradIdeal.sig) → Buf (Elt Ideal) ℓ) (g : Dev Cert.GeluGradIdeal.nD → PrngReg), Pre_GeluGradIdeal m →
    θ_run (Cert.GeluGradIdeal.defs (F := Ideal)) (onTc (τ := Cert.GeluGradIdeal.τ) (Cert.GeluGradIdeal.main (F := Ideal))) ⟨m, fun _ => 0, g⟩ (fun r => (∀ c : Dev Cert.GeluGradIdeal.nD,
      r.2.mem ((c.tc : Thread Cert.GeluGradIdeal.nD Cert.GeluGradIdeal.τ).loc Cert.GeluGradIdeal.main_arg0) = m ((c.tc : Thread Cert.GeluGradIdeal.nD Cert.GeluGradIdeal.τ).loc Cert.GeluGradIdeal.main_arg0)
      ∧ r.2.mem ((c.tc : Thread Cert.GeluGradIdeal.nD Cert.GeluGradIdeal.τ).loc Cert.GeluGradIdeal.main_arg1) = m ((c.tc : Thread Cert.GeluGradIdeal.nD Cert.GeluGradIdeal.τ).loc Cert.GeluGradIdeal.main_arg1)
      ∧ r.2.mem ((c.tc : Thread Cert.GeluGradIdeal.nD Cert.GeluGradIdeal.τ).loc Cert.GeluGradIdeal.main_arg2) = m ((c.tc : Thread Cert.GeluGradIdeal.nD Cert.GeluGradIdeal.τ).loc Cert.GeluGradIdeal.main_arg2)
      ∧ r.2.mem ((c.tc : Thread Cert.GeluGradIdeal.nD Cert.GeluGradIdeal.τ).loc Cert.GeluGradIdeal.main_arg3) = m ((c.tc : Thread Cert.GeluGradIdeal.nD Cert.GeluGradIdeal.τ).loc Cert.GeluGradIdeal.main_arg3))
      ∧ r.2.sem = fun _ => 0)

def quiescent_GeluGradIdeal_pre_finite_dys [hGeluGradIdeal : Cert.GeluGradIdeal.Facts] [hPre_finite_dys : Cert.Pre_finite_dys.Facts] : Prop :=
  ∀ (m : (ℓ : Loc Cert.GeluGradIdeal.nD Cert.GeluGradIdeal.τ Cert.GeluGradIdeal.sig) → Buf (Elt Ideal) ℓ) (g : Dev Cert.GeluGradIdeal.nD → PrngReg), Pre_GeluGradIdeal_finite_dys m →
    θ_run (Cert.GeluGradIdeal.defs (F := Ideal)) (onTc (τ := Cert.GeluGradIdeal.τ) (Cert.GeluGradIdeal.main (F := Ideal))) ⟨m, fun _ => 0, g⟩ (fun r => (∀ c : Dev Cert.GeluGradIdeal.nD,
      r.2.mem ((c.tc : Thread Cert.GeluGradIdeal.nD Cert.GeluGradIdeal.τ).loc Cert.GeluGradIdeal.main_arg0) = m ((c.tc : Thread Cert.GeluGradIdeal.nD Cert.GeluGradIdeal.τ).loc Cert.GeluGradIdeal.main_arg0)
      ∧ r.2.mem ((c.tc : Thread Cert.GeluGradIdeal.nD Cert.GeluGradIdeal.τ).loc Cert.GeluGradIdeal.main_arg1) = m ((c.tc : Thread Cert.GeluGradIdeal.nD Cert.GeluGradIdeal.τ).loc Cert.GeluGradIdeal.main_arg1)
      ∧ r.2.mem ((c.tc : Thread Cert.GeluGradIdeal.nD Cert.GeluGradIdeal.τ).loc Cert.GeluGradIdeal.main_arg2) = m ((c.tc : Thread Cert.GeluGradIdeal.nD Cert.GeluGradIdeal.τ).loc Cert.GeluGradIdeal.main_arg2)
      ∧ r.2.mem ((c.tc : Thread Cert.GeluGradIdeal.nD Cert.GeluGradIdeal.τ).loc Cert.GeluGradIdeal.main_arg3) = m ((c.tc : Thread Cert.GeluGradIdeal.nD Cert.GeluGradIdeal.τ).loc Cert.GeluGradIdeal.main_arg3))
      ∧ r.2.sem = fun _ => 0)

def quiescent_GeluGradRefIdeal [hGeluGradRefIdeal : Cert.GeluGradRefIdeal.Facts] : Prop :=
  ∀ (m : (ℓ : Loc Cert.GeluGradRefIdeal.nD Cert.GeluGradRefIdeal.τ Cert.GeluGradRefIdeal.sig) → Buf (Elt Ideal) ℓ) (g : Dev Cert.GeluGradRefIdeal.nD → PrngReg), Pre_GeluGradRefIdeal m →
    θ_run (Cert.GeluGradRefIdeal.defs (F := Ideal)) (onTc (τ := Cert.GeluGradRefIdeal.τ) (Cert.GeluGradRefIdeal.main (F := Ideal))) ⟨m, fun _ => 0, g⟩ (fun r => (∀ c : Dev Cert.GeluGradRefIdeal.nD,
      r.2.mem ((c.tc : Thread Cert.GeluGradRefIdeal.nD Cert.GeluGradRefIdeal.τ).loc Cert.GeluGradRefIdeal.main_arg0) = m ((c.tc : Thread Cert.GeluGradRefIdeal.nD Cert.GeluGradRefIdeal.τ).loc Cert.GeluGradRefIdeal.main_arg0)
      ∧ r.2.mem ((c.tc : Thread Cert.GeluGradRefIdeal.nD Cert.GeluGradRefIdeal.τ).loc Cert.GeluGradRefIdeal.main_arg1) = m ((c.tc : Thread Cert.GeluGradRefIdeal.nD Cert.GeluGradRefIdeal.τ).loc Cert.GeluGradRefIdeal.main_arg1)
      ∧ r.2.mem ((c.tc : Thread Cert.GeluGradRefIdeal.nD Cert.GeluGradRefIdeal.τ).loc Cert.GeluGradRefIdeal.main_arg2) = m ((c.tc : Thread Cert.GeluGradRefIdeal.nD Cert.GeluGradRefIdeal.τ).loc Cert.GeluGradRefIdeal.main_arg2)
      ∧ r.2.mem ((c.tc : Thread Cert.GeluGradRefIdeal.nD Cert.GeluGradRefIdeal.τ).loc Cert.GeluGradRefIdeal.main_arg3) = m ((c.tc : Thread Cert.GeluGradRefIdeal.nD Cert.GeluGradRefIdeal.τ).loc Cert.GeluGradRefIdeal.main_arg3))
      ∧ r.2.sem = fun _ => 0)

def quiescent_GeluGradRefIdeal_pre_finite_dys [hGeluGradRefIdeal : Cert.GeluGradRefIdeal.Facts] [hPre_finite_dys : Cert.Pre_finite_dys.Facts] : Prop :=
  ∀ (m : (ℓ : Loc Cert.GeluGradRefIdeal.nD Cert.GeluGradRefIdeal.τ Cert.GeluGradRefIdeal.sig) → Buf (Elt Ideal) ℓ) (g : Dev Cert.GeluGradRefIdeal.nD → PrngReg), Pre_GeluGradRefIdeal_finite_dys m →
    θ_run (Cert.GeluGradRefIdeal.defs (F := Ideal)) (onTc (τ := Cert.GeluGradRefIdeal.τ) (Cert.GeluGradRefIdeal.main (F := Ideal))) ⟨m, fun _ => 0, g⟩ (fun r => (∀ c : Dev Cert.GeluGradRefIdeal.nD,
      r.2.mem ((c.tc : Thread Cert.GeluGradRefIdeal.nD Cert.GeluGradRefIdeal.τ).loc Cert.GeluGradRefIdeal.main_arg0) = m ((c.tc : Thread Cert.GeluGradRefIdeal.nD Cert.GeluGradRefIdeal.τ).loc Cert.GeluGradRefIdeal.main_arg0)
      ∧ r.2.mem ((c.tc : Thread Cert.GeluGradRefIdeal.nD Cert.GeluGradRefIdeal.τ).loc Cert.GeluGradRefIdeal.main_arg1) = m ((c.tc : Thread Cert.GeluGradRefIdeal.nD Cert.GeluGradRefIdeal.τ).loc Cert.GeluGradRefIdeal.main_arg1)
      ∧ r.2.mem ((c.tc : Thread Cert.GeluGradRefIdeal.nD Cert.GeluGradRefIdeal.τ).loc Cert.GeluGradRefIdeal.main_arg2) = m ((c.tc : Thread Cert.GeluGradRefIdeal.nD Cert.GeluGradRefIdeal.τ).loc Cert.GeluGradRefIdeal.main_arg2)
      ∧ r.2.mem ((c.tc : Thread Cert.GeluGradRefIdeal.nD Cert.GeluGradRefIdeal.τ).loc Cert.GeluGradRefIdeal.main_arg3) = m ((c.tc : Thread Cert.GeluGradRefIdeal.nD Cert.GeluGradRefIdeal.τ).loc Cert.GeluGradRefIdeal.main_arg3))
      ∧ r.2.sem = fun _ => 0)

def quiescent_ReadGrad [hReadGrad : Cert.ReadGrad.Facts] : Prop :=
  ∀ (m : (ℓ : Loc Cert.ReadGrad.nD Cert.ReadGrad.τ Cert.ReadGrad.sig) → Buf (Elt Bits) ℓ) (g : Dev Cert.ReadGrad.nD → PrngReg), Pre_ReadGrad m →
    θ_run (Cert.ReadGrad.defs (F := Bits)) (onTc (τ := Cert.ReadGrad.τ) (Cert.ReadGrad.main (F := Bits))) ⟨m, fun _ => 0, g⟩ (fun r => (∀ c : Dev Cert.ReadGrad.nD,
      r.2.mem ((c.tc : Thread Cert.ReadGrad.nD Cert.ReadGrad.τ).loc Cert.ReadGrad.main_arg0) = m ((c.tc : Thread Cert.ReadGrad.nD Cert.ReadGrad.τ).loc Cert.ReadGrad.main_arg0)
      ∧ r.2.mem ((c.tc : Thread Cert.ReadGrad.nD Cert.ReadGrad.τ).loc Cert.ReadGrad.main_arg1) = m ((c.tc : Thread Cert.ReadGrad.nD Cert.ReadGrad.τ).loc Cert.ReadGrad.main_arg1)
      ∧ r.2.mem ((c.tc : Thread Cert.ReadGrad.nD Cert.ReadGrad.τ).loc Cert.ReadGrad.main_arg2) = m ((c.tc : Thread Cert.ReadGrad.nD Cert.ReadGrad.τ).loc Cert.ReadGrad.main_arg2)
      ∧ r.2.mem ((c.tc : Thread Cert.ReadGrad.nD Cert.ReadGrad.τ).loc Cert.ReadGrad.main_arg3) = m ((c.tc : Thread Cert.ReadGrad.nD Cert.ReadGrad.τ).loc Cert.ReadGrad.main_arg3)
      ∧ r.2.mem ((c.tc : Thread Cert.ReadGrad.nD Cert.ReadGrad.τ).loc Cert.ReadGrad.main_arg4) = m ((c.tc : Thread Cert.ReadGrad.nD Cert.ReadGrad.τ).loc Cert.ReadGrad.main_arg4)
      ∧ r.2.mem ((c.tc : Thread Cert.ReadGrad.nD Cert.ReadGrad.τ).loc Cert.ReadGrad.main_arg5) = m ((c.tc : Thread Cert.ReadGrad.nD Cert.ReadGrad.τ).loc Cert.ReadGrad.main_arg5))
      ∧ r.2.sem = fun _ => 0)

def quiescent_ReadGradIdeal [hReadGradIdeal : Cert.ReadGradIdeal.Facts] : Prop :=
  ∀ (m : (ℓ : Loc Cert.ReadGradIdeal.nD Cert.ReadGradIdeal.τ Cert.ReadGradIdeal.sig) → Buf (Elt Ideal) ℓ) (g : Dev Cert.ReadGradIdeal.nD → PrngReg), Pre_ReadGradIdeal m →
    θ_run (Cert.ReadGradIdeal.defs (F := Ideal)) (onTc (τ := Cert.ReadGradIdeal.τ) (Cert.ReadGradIdeal.main (F := Ideal))) ⟨m, fun _ => 0, g⟩ (fun r => (∀ c : Dev Cert.ReadGradIdeal.nD,
      r.2.mem ((c.tc : Thread Cert.ReadGradIdeal.nD Cert.ReadGradIdeal.τ).loc Cert.ReadGradIdeal.main_arg0) = m ((c.tc : Thread Cert.ReadGradIdeal.nD Cert.ReadGradIdeal.τ).loc Cert.ReadGradIdeal.main_arg0)
      ∧ r.2.mem ((c.tc : Thread Cert.ReadGradIdeal.nD Cert.ReadGradIdeal.τ).loc Cert.ReadGradIdeal.main_arg1) = m ((c.tc : Thread Cert.ReadGradIdeal.nD Cert.ReadGradIdeal.τ).loc Cert.ReadGradIdeal.main_arg1)
      ∧ r.2.mem ((c.tc : Thread Cert.ReadGradIdeal.nD Cert.ReadGradIdeal.τ).loc Cert.ReadGradIdeal.main_arg2) = m ((c.tc : Thread Cert.ReadGradIdeal.nD Cert.ReadGradIdeal.τ).loc Cert.ReadGradIdeal.main_arg2)
      ∧ r.2.mem ((c.tc : Thread Cert.ReadGradIdeal.nD Cert.ReadGradIdeal.τ).loc Cert.ReadGradIdeal.main_arg3) = m ((c.tc : Thread Cert.ReadGradIdeal.nD Cert.ReadGradIdeal.τ).loc Cert.ReadGradIdeal.main_arg3)
      ∧ r.2.mem ((c.tc : Thread Cert.ReadGradIdeal.nD Cert.ReadGradIdeal.τ).loc Cert.ReadGradIdeal.main_arg4) = m ((c.tc : Thread Cert.ReadGradIdeal.nD Cert.ReadGradIdeal.τ).loc Cert.ReadGradIdeal.main_arg4)
      ∧ r.2.mem ((c.tc : Thread Cert.ReadGradIdeal.nD Cert.ReadGradIdeal.τ).loc Cert.ReadGradIdeal.main_arg5) = m ((c.tc : Thread Cert.ReadGradIdeal.nD Cert.ReadGradIdeal.τ).loc Cert.ReadGradIdeal.main_arg5))
      ∧ r.2.sem = fun _ => 0)

def quiescent_ReadGradRefIdeal [hReadGradRefIdeal : Cert.ReadGradRefIdeal.Facts] : Prop :=
  ∀ (m : (ℓ : Loc Cert.ReadGradRefIdeal.nD Cert.ReadGradRefIdeal.τ Cert.ReadGradRefIdeal.sig) → Buf (Elt Ideal) ℓ) (g : Dev Cert.ReadGradRefIdeal.nD → PrngReg), Pre_ReadGradRefIdeal m →
    θ_run (Cert.ReadGradRefIdeal.defs (F := Ideal)) (onTc (τ := Cert.ReadGradRefIdeal.τ) (Cert.ReadGradRefIdeal.main (F := Ideal))) ⟨m, fun _ => 0, g⟩ (fun r => (∀ c : Dev Cert.ReadGradRefIdeal.nD,
      r.2.mem ((c.tc : Thread Cert.ReadGradRefIdeal.nD Cert.ReadGradRefIdeal.τ).loc Cert.ReadGradRefIdeal.main_arg0) = m ((c.tc : Thread Cert.ReadGradRefIdeal.nD Cert.ReadGradRefIdeal.τ).loc Cert.ReadGradRefIdeal.main_arg0)
      ∧ r.2.mem ((c.tc : Thread Cert.ReadGradRefIdeal.nD Cert.ReadGradRefIdeal.τ).loc Cert.ReadGradRefIdeal.main_arg1) = m ((c.tc : Thread Cert.ReadGradRefIdeal.nD Cert.ReadGradRefIdeal.τ).loc Cert.ReadGradRefIdeal.main_arg1)
      ∧ r.2.mem ((c.tc : Thread Cert.ReadGradRefIdeal.nD Cert.ReadGradRefIdeal.τ).loc Cert.ReadGradRefIdeal.main_arg2) = m ((c.tc : Thread Cert.ReadGradRefIdeal.nD Cert.ReadGradRefIdeal.τ).loc Cert.ReadGradRefIdeal.main_arg2)
      ∧ r.2.mem ((c.tc : Thread Cert.ReadGradRefIdeal.nD Cert.ReadGradRefIdeal.τ).loc Cert.ReadGradRefIdeal.main_arg3) = m ((c.tc : Thread Cert.ReadGradRefIdeal.nD Cert.ReadGradRefIdeal.τ).loc Cert.ReadGradRefIdeal.main_arg3)
      ∧ r.2.mem ((c.tc : Thread Cert.ReadGradRefIdeal.nD Cert.ReadGradRefIdeal.τ).loc Cert.ReadGradRefIdeal.main_arg4) = m ((c.tc : Thread Cert.ReadGradRefIdeal.nD Cert.ReadGradRefIdeal.τ).loc Cert.ReadGradRefIdeal.main_arg4)
      ∧ r.2.mem ((c.tc : Thread Cert.ReadGradRefIdeal.nD Cert.ReadGradRefIdeal.τ).loc Cert.ReadGradRefIdeal.main_arg5) = m ((c.tc : Thread Cert.ReadGradRefIdeal.nD Cert.ReadGradRefIdeal.τ).loc Cert.ReadGradRefIdeal.main_arg5))
      ∧ r.2.sem = fun _ => 0)

def quiescent_SkipGrad [hSkipGrad : Cert.SkipGrad.Facts] : Prop :=
  ∀ (m : (ℓ : Loc Cert.SkipGrad.nD Cert.SkipGrad.τ Cert.SkipGrad.sig) → Buf (Elt Bits) ℓ) (g : Dev Cert.SkipGrad.nD → PrngReg), Pre_SkipGrad m →
    θ_run (Cert.SkipGrad.defs (F := Bits)) (onTc (τ := Cert.SkipGrad.τ) (Cert.SkipGrad.main (F := Bits))) ⟨m, fun _ => 0, g⟩ (fun r => (∀ c : Dev Cert.SkipGrad.nD,
      r.2.mem ((c.tc : Thread Cert.SkipGrad.nD Cert.SkipGrad.τ).loc Cert.SkipGrad.main_arg0) = m ((c.tc : Thread Cert.SkipGrad.nD Cert.SkipGrad.τ).loc Cert.SkipGrad.main_arg0)
      ∧ r.2.mem ((c.tc : Thread Cert.SkipGrad.nD Cert.SkipGrad.τ).loc Cert.SkipGrad.main_arg1) = m ((c.tc : Thread Cert.SkipGrad.nD Cert.SkipGrad.τ).loc Cert.SkipGrad.main_arg1))
      ∧ r.2.sem = fun _ => 0)

def quiescent_SkipGradIdeal [hSkipGradIdeal : Cert.SkipGradIdeal.Facts] : Prop :=
  ∀ (m : (ℓ : Loc Cert.SkipGradIdeal.nD Cert.SkipGradIdeal.τ Cert.SkipGradIdeal.sig) → Buf (Elt Ideal) ℓ) (g : Dev Cert.SkipGradIdeal.nD → PrngReg), Pre_SkipGradIdeal m →
    θ_run (Cert.SkipGradIdeal.defs (F := Ideal)) (onTc (τ := Cert.SkipGradIdeal.τ) (Cert.SkipGradIdeal.main (F := Ideal))) ⟨m, fun _ => 0, g⟩ (fun r => (∀ c : Dev Cert.SkipGradIdeal.nD,
      r.2.mem ((c.tc : Thread Cert.SkipGradIdeal.nD Cert.SkipGradIdeal.τ).loc Cert.SkipGradIdeal.main_arg0) = m ((c.tc : Thread Cert.SkipGradIdeal.nD Cert.SkipGradIdeal.τ).loc Cert.SkipGradIdeal.main_arg0)
      ∧ r.2.mem ((c.tc : Thread Cert.SkipGradIdeal.nD Cert.SkipGradIdeal.τ).loc Cert.SkipGradIdeal.main_arg1) = m ((c.tc : Thread Cert.SkipGradIdeal.nD Cert.SkipGradIdeal.τ).loc Cert.SkipGradIdeal.main_arg1))
      ∧ r.2.sem = fun _ => 0)

def quiescent_SkipGradRefIdeal [hSkipGradRefIdeal : Cert.SkipGradRefIdeal.Facts] : Prop :=
  ∀ (m : (ℓ : Loc Cert.SkipGradRefIdeal.nD Cert.SkipGradRefIdeal.τ Cert.SkipGradRefIdeal.sig) → Buf (Elt Ideal) ℓ) (g : Dev Cert.SkipGradRefIdeal.nD → PrngReg), Pre_SkipGradRefIdeal m →
    θ_run (Cert.SkipGradRefIdeal.defs (F := Ideal)) (onTc (τ := Cert.SkipGradRefIdeal.τ) (Cert.SkipGradRefIdeal.main (F := Ideal))) ⟨m, fun _ => 0, g⟩ (fun r => (∀ c : Dev Cert.SkipGradRefIdeal.nD,
      r.2.mem ((c.tc : Thread Cert.SkipGradRefIdeal.nD Cert.SkipGradRefIdeal.τ).loc Cert.SkipGradRefIdeal.main_arg0) = m ((c.tc : Thread Cert.SkipGradRefIdeal.nD Cert.SkipGradRefIdeal.τ).loc Cert.SkipGradRefIdeal.main_arg0)
      ∧ r.2.mem ((c.tc : Thread Cert.SkipGradRefIdeal.nD Cert.SkipGradRefIdeal.τ).loc Cert.SkipGradRefIdeal.main_arg1) = m ((c.tc : Thread Cert.SkipGradRefIdeal.nD Cert.SkipGradRefIdeal.τ).loc Cert.SkipGradRefIdeal.main_arg1))
      ∧ r.2.sem = fun _ => 0)

def quiescent_InputGrad [hInputGrad : Cert.InputGrad.Facts] : Prop :=
  ∀ (m : (ℓ : Loc Cert.InputGrad.nD Cert.InputGrad.τ Cert.InputGrad.sig) → Buf (Elt Bits) ℓ) (g : Dev Cert.InputGrad.nD → PrngReg), Pre_InputGrad m →
    θ_run (Cert.InputGrad.defs (F := Bits)) (onTc (τ := Cert.InputGrad.τ) (Cert.InputGrad.main (F := Bits))) ⟨m, fun _ => 0, g⟩ (fun r => (∀ c : Dev Cert.InputGrad.nD,
      r.2.mem ((c.tc : Thread Cert.InputGrad.nD Cert.InputGrad.τ).loc Cert.InputGrad.main_arg0) = m ((c.tc : Thread Cert.InputGrad.nD Cert.InputGrad.τ).loc Cert.InputGrad.main_arg0)
      ∧ r.2.mem ((c.tc : Thread Cert.InputGrad.nD Cert.InputGrad.τ).loc Cert.InputGrad.main_arg1) = m ((c.tc : Thread Cert.InputGrad.nD Cert.InputGrad.τ).loc Cert.InputGrad.main_arg1)
      ∧ r.2.mem ((c.tc : Thread Cert.InputGrad.nD Cert.InputGrad.τ).loc Cert.InputGrad.main_arg2) = m ((c.tc : Thread Cert.InputGrad.nD Cert.InputGrad.τ).loc Cert.InputGrad.main_arg2)
      ∧ r.2.mem ((c.tc : Thread Cert.InputGrad.nD Cert.InputGrad.τ).loc Cert.InputGrad.main_arg3) = m ((c.tc : Thread Cert.InputGrad.nD Cert.InputGrad.τ).loc Cert.InputGrad.main_arg3)
      ∧ r.2.mem ((c.tc : Thread Cert.InputGrad.nD Cert.InputGrad.τ).loc Cert.InputGrad.main_arg4) = m ((c.tc : Thread Cert.InputGrad.nD Cert.InputGrad.τ).loc Cert.InputGrad.main_arg4))
      ∧ r.2.sem = fun _ => 0)

def quiescent_InputGradIdeal [hInputGradIdeal : Cert.InputGradIdeal.Facts] : Prop :=
  ∀ (m : (ℓ : Loc Cert.InputGradIdeal.nD Cert.InputGradIdeal.τ Cert.InputGradIdeal.sig) → Buf (Elt Ideal) ℓ) (g : Dev Cert.InputGradIdeal.nD → PrngReg), Pre_InputGradIdeal m →
    θ_run (Cert.InputGradIdeal.defs (F := Ideal)) (onTc (τ := Cert.InputGradIdeal.τ) (Cert.InputGradIdeal.main (F := Ideal))) ⟨m, fun _ => 0, g⟩ (fun r => (∀ c : Dev Cert.InputGradIdeal.nD,
      r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
      ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1)
      ∧ r.2.mem ((c.tc : Thread Cert.InputGradIdeal.nD Cert.InputGradIdeal.τ).loc Cert.InputGradIdeal.main_arg2) = m ((c.tc : Thread Cert.InputGradIdeal.nD Cert.InputGradIdeal.τ).loc Cert.InputGradIdeal.main_arg2)
      ∧ r.2.mem ((c.tc : Thread Cert.InputGradIdeal.nD Cert.InputGradIdeal.τ).loc Cert.InputGradIdeal.main_arg3) = m ((c.tc : Thread Cert.InputGradIdeal.nD Cert.InputGradIdeal.τ).loc Cert.InputGradIdeal.main_arg3)
      ∧ r.2.mem ((c.tc : Thread Cert.InputGradIdeal.nD Cert.InputGradIdeal.τ).loc Cert.InputGradIdeal.main_arg4) = m ((c.tc : Thread Cert.InputGradIdeal.nD Cert.InputGradIdeal.τ).loc Cert.InputGradIdeal.main_arg4))
      ∧ r.2.sem = fun _ => 0)

def quiescent_InputGradRefIdeal [hInputGradRefIdeal : Cert.InputGradRefIdeal.Facts] : Prop :=
  ∀ (m : (ℓ : Loc Cert.InputGradRefIdeal.nD Cert.InputGradRefIdeal.τ Cert.InputGradRefIdeal.sig) → Buf (Elt Ideal) ℓ) (g : Dev Cert.InputGradRefIdeal.nD → PrngReg), Pre_InputGradRefIdeal m →
    θ_run (Cert.InputGradRefIdeal.defs (F := Ideal)) (onTc (τ := Cert.InputGradRefIdeal.τ) (Cert.InputGradRefIdeal.main (F := Ideal))) ⟨m, fun _ => 0, g⟩ (fun r => (∀ c : Dev Cert.InputGradRefIdeal.nD,
      r.2.mem ((c.tc : Thread Cert.InputGradRefIdeal.nD Cert.InputGradRefIdeal.τ).loc Cert.InputGradRefIdeal.main_arg0) = m ((c.tc : Thread Cert.InputGradRefIdeal.nD Cert.InputGradRefIdeal.τ).loc Cert.InputGradRefIdeal.main_arg0)
      ∧ r.2.mem ((c.tc : Thread Cert.InputGradRefIdeal.nD Cert.InputGradRefIdeal.τ).loc Cert.InputGradRefIdeal.main_arg1) = m ((c.tc : Thread Cert.InputGradRefIdeal.nD Cert.InputGradRefIdeal.τ).loc Cert.InputGradRefIdeal.main_arg1)
      ∧ r.2.mem ((c.tc : Thread Cert.InputGradRefIdeal.nD Cert.InputGradRefIdeal.τ).loc Cert.InputGradRefIdeal.main_arg2) = m ((c.tc : Thread Cert.InputGradRefIdeal.nD Cert.InputGradRefIdeal.τ).loc Cert.InputGradRefIdeal.main_arg2)
      ∧ r.2.mem ((c.tc : Thread Cert.InputGradRefIdeal.nD Cert.InputGradRefIdeal.τ).loc Cert.InputGradRefIdeal.main_arg3) = m ((c.tc : Thread Cert.InputGradRefIdeal.nD Cert.InputGradRefIdeal.τ).loc Cert.InputGradRefIdeal.main_arg3)
      ∧ r.2.mem ((c.tc : Thread Cert.InputGradRefIdeal.nD Cert.InputGradRefIdeal.τ).loc Cert.InputGradRefIdeal.main_arg4) = m ((c.tc : Thread Cert.InputGradRefIdeal.nD Cert.InputGradRefIdeal.τ).loc Cert.InputGradRefIdeal.main_arg4))
      ∧ r.2.sem = fun _ => 0)

def quiescent_ConvOut [hConvOut : Cert.ConvOut.Facts] : Prop :=
  ∀ (m : (ℓ : Loc Cert.ConvOut.nD Cert.ConvOut.τ Cert.ConvOut.sig) → Buf (Elt Bits) ℓ) (g : Dev Cert.ConvOut.nD → PrngReg), Pre_ConvOut m →
    θ_run (Cert.ConvOut.defs (F := Bits)) (onTc (τ := Cert.ConvOut.τ) (Cert.ConvOut.main (F := Bits))) ⟨m, fun _ => 0, g⟩ (fun r => (∀ c : Dev Cert.ConvOut.nD,
      r.2.mem ((c.tc : Thread Cert.ConvOut.nD Cert.ConvOut.τ).loc Cert.ConvOut.main_arg0) = m ((c.tc : Thread Cert.ConvOut.nD Cert.ConvOut.τ).loc Cert.ConvOut.main_arg0)
      ∧ r.2.mem ((c.tc : Thread Cert.ConvOut.nD Cert.ConvOut.τ).loc Cert.ConvOut.main_arg1) = m ((c.tc : Thread Cert.ConvOut.nD Cert.ConvOut.τ).loc Cert.ConvOut.main_arg1)
      ∧ r.2.mem ((c.tc : Thread Cert.ConvOut.nD Cert.ConvOut.τ).loc Cert.ConvOut.main_arg2) = m ((c.tc : Thread Cert.ConvOut.nD Cert.ConvOut.τ).loc Cert.ConvOut.main_arg2)
      ∧ r.2.mem ((c.tc : Thread Cert.ConvOut.nD Cert.ConvOut.τ).loc Cert.ConvOut.main_arg3) = m ((c.tc : Thread Cert.ConvOut.nD Cert.ConvOut.τ).loc Cert.ConvOut.main_arg3))
      ∧ r.2.sem = fun _ => 0)

def quiescent_ConvOutIdeal [hConvOutIdeal : Cert.ConvOutIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg), Pre_ConvOutIdeal m →
    θ_run (Cert.ConvOutIdeal.defs (F := Ideal)) (onTc (τ := Cert.ConvOutIdeal.τ) (Cert.ConvOutIdeal.main (F := Ideal))) ⟨m, fun _ => 0, g⟩ (fun r => (∀ c : Dev Cert.ConvOutIdeal.nD,
      r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
      ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
      ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
      ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3))
      ∧ r.2.sem = fun _ => 0)

def quiescent_ConvOutRefIdeal [hConvOutRefIdeal : Cert.ConvOutRefIdeal.Facts] : Prop :=
  ∀ (m : (ℓ : Loc Cert.ConvOutRefIdeal.nD Cert.ConvOutRefIdeal.τ Cert.ConvOutRefIdeal.sig) → Buf (Elt Ideal) ℓ) (g : Dev Cert.ConvOutRefIdeal.nD → PrngReg), Pre_ConvOutRefIdeal m →
    θ_run (Cert.ConvOutRefIdeal.defs (F := Ideal)) (onTc (τ := Cert.ConvOutRefIdeal.τ) (Cert.ConvOutRefIdeal.main (F := Ideal))) ⟨m, fun _ => 0, g⟩ (fun r => (∀ c : Dev Cert.ConvOutRefIdeal.nD,
      r.2.mem ((c.tc : Thread Cert.ConvOutRefIdeal.nD Cert.ConvOutRefIdeal.τ).loc Cert.ConvOutRefIdeal.main_arg0) = m ((c.tc : Thread Cert.ConvOutRefIdeal.nD Cert.ConvOutRefIdeal.τ).loc Cert.ConvOutRefIdeal.main_arg0)
      ∧ r.2.mem ((c.tc : Thread Cert.ConvOutRefIdeal.nD Cert.ConvOutRefIdeal.τ).loc Cert.ConvOutRefIdeal.main_arg1) = m ((c.tc : Thread Cert.ConvOutRefIdeal.nD Cert.ConvOutRefIdeal.τ).loc Cert.ConvOutRefIdeal.main_arg1)
      ∧ r.2.mem ((c.tc : Thread Cert.ConvOutRefIdeal.nD Cert.ConvOutRefIdeal.τ).loc Cert.ConvOutRefIdeal.main_arg2) = m ((c.tc : Thread Cert.ConvOutRefIdeal.nD Cert.ConvOutRefIdeal.τ).loc Cert.ConvOutRefIdeal.main_arg2)
      ∧ r.2.mem ((c.tc : Thread Cert.ConvOutRefIdeal.nD Cert.ConvOutRefIdeal.τ).loc Cert.ConvOutRefIdeal.main_arg3) = m ((c.tc : Thread Cert.ConvOutRefIdeal.nD Cert.ConvOutRefIdeal.τ).loc Cert.ConvOutRefIdeal.main_arg3))
      ∧ r.2.sem = fun _ => 0)

def quiescent_SwigluUp [hSwigluUp : Cert.SwigluUp.Facts] : Prop :=
  ∀ (m : (ℓ : Loc Cert.SwigluUp.nD Cert.SwigluUp.τ Cert.SwigluUp.sig) → Buf (Elt Bits) ℓ) (g : Dev Cert.SwigluUp.nD → PrngReg), Pre_SwigluUp m →
    θ_run (Cert.SwigluUp.defs (F := Bits)) (onTc (τ := Cert.SwigluUp.τ) (Cert.SwigluUp.main (F := Bits))) ⟨m, fun _ => 0, g⟩ (fun r => (∀ c : Dev Cert.SwigluUp.nD,
      r.2.mem ((c.tc : Thread Cert.SwigluUp.nD Cert.SwigluUp.τ).loc Cert.SwigluUp.main_arg0) = m ((c.tc : Thread Cert.SwigluUp.nD Cert.SwigluUp.τ).loc Cert.SwigluUp.main_arg0)
      ∧ r.2.mem ((c.tc : Thread Cert.SwigluUp.nD Cert.SwigluUp.τ).loc Cert.SwigluUp.main_arg1) = m ((c.tc : Thread Cert.SwigluUp.nD Cert.SwigluUp.τ).loc Cert.SwigluUp.main_arg1)
      ∧ r.2.mem ((c.tc : Thread Cert.SwigluUp.nD Cert.SwigluUp.τ).loc Cert.SwigluUp.main_arg2) = m ((c.tc : Thread Cert.SwigluUp.nD Cert.SwigluUp.τ).loc Cert.SwigluUp.main_arg2))
      ∧ r.2.sem = fun _ => 0)

def quiescent_SwigluUpIdeal [hSwigluUpIdeal : Cert.SwigluUpIdeal.Facts] : Prop :=
  ∀ (m : (ℓ : Loc Cert.SwigluUpIdeal.nD Cert.SwigluUpIdeal.τ Cert.SwigluUpIdeal.sig) → Buf (Elt Ideal) ℓ) (g : Dev Cert.SwigluUpIdeal.nD → PrngReg), Pre_SwigluUpIdeal m →
    θ_run (Cert.SwigluUpIdeal.defs (F := Ideal)) (onTc (τ := Cert.SwigluUpIdeal.τ) (Cert.SwigluUpIdeal.main (F := Ideal))) ⟨m, fun _ => 0, g⟩ (fun r => (∀ c : Dev Cert.SwigluUpIdeal.nD,
      r.2.mem ((c.tc : Thread Cert.SwigluUpIdeal.nD Cert.SwigluUpIdeal.τ).loc Cert.SwigluUpIdeal.main_arg0) = m ((c.tc : Thread Cert.SwigluUpIdeal.nD Cert.SwigluUpIdeal.τ).loc Cert.SwigluUpIdeal.main_arg0)
      ∧ r.2.mem ((c.tc : Thread Cert.SwigluUpIdeal.nD Cert.SwigluUpIdeal.τ).loc Cert.SwigluUpIdeal.main_arg1) = m ((c.tc : Thread Cert.SwigluUpIdeal.nD Cert.SwigluUpIdeal.τ).loc Cert.SwigluUpIdeal.main_arg1)
      ∧ r.2.mem ((c.tc : Thread Cert.SwigluUpIdeal.nD Cert.SwigluUpIdeal.τ).loc Cert.SwigluUpIdeal.main_arg2) = m ((c.tc : Thread Cert.SwigluUpIdeal.nD Cert.SwigluUpIdeal.τ).loc Cert.SwigluUpIdeal.main_arg2))
      ∧ r.2.sem = fun _ => 0)

def quiescent_SwigluUpRefIdeal [hSwigluUpRefIdeal : Cert.SwigluUpRefIdeal.Facts] : Prop :=
  ∀ (m : (ℓ : Loc Cert.SwigluUpRefIdeal.nD Cert.SwigluUpRefIdeal.τ Cert.SwigluUpRefIdeal.sig) → Buf (Elt Ideal) ℓ) (g : Dev Cert.SwigluUpRefIdeal.nD → PrngReg), Pre_SwigluUpRefIdeal m →
    θ_run (Cert.SwigluUpRefIdeal.defs (F := Ideal)) (onTc (τ := Cert.SwigluUpRefIdeal.τ) (Cert.SwigluUpRefIdeal.main (F := Ideal))) ⟨m, fun _ => 0, g⟩ (fun r => (∀ c : Dev Cert.SwigluUpRefIdeal.nD,
      r.2.mem ((c.tc : Thread Cert.SwigluUpRefIdeal.nD Cert.SwigluUpRefIdeal.τ).loc Cert.SwigluUpRefIdeal.main_arg0) = m ((c.tc : Thread Cert.SwigluUpRefIdeal.nD Cert.SwigluUpRefIdeal.τ).loc Cert.SwigluUpRefIdeal.main_arg0)
      ∧ r.2.mem ((c.tc : Thread Cert.SwigluUpRefIdeal.nD Cert.SwigluUpRefIdeal.τ).loc Cert.SwigluUpRefIdeal.main_arg1) = m ((c.tc : Thread Cert.SwigluUpRefIdeal.nD Cert.SwigluUpRefIdeal.τ).loc Cert.SwigluUpRefIdeal.main_arg1)
      ∧ r.2.mem ((c.tc : Thread Cert.SwigluUpRefIdeal.nD Cert.SwigluUpRefIdeal.τ).loc Cert.SwigluUpRefIdeal.main_arg2) = m ((c.tc : Thread Cert.SwigluUpRefIdeal.nD Cert.SwigluUpRefIdeal.τ).loc Cert.SwigluUpRefIdeal.main_arg2))
      ∧ r.2.sem = fun _ => 0)

def quiescent_DownNorm [hDownNorm : Cert.DownNorm.Facts] : Prop :=
  ∀ (m : (ℓ : Loc Cert.DownNorm.nD Cert.DownNorm.τ Cert.DownNorm.sig) → Buf (Elt Bits) ℓ) (g : Dev Cert.DownNorm.nD → PrngReg), Pre_DownNorm m →
    θ_run (Cert.DownNorm.defs (F := Bits)) (onTc (τ := Cert.DownNorm.τ) (Cert.DownNorm.main (F := Bits))) ⟨m, fun _ => 0, g⟩ (fun r => (∀ c : Dev Cert.DownNorm.nD,
      r.2.mem ((c.tc : Thread Cert.DownNorm.nD Cert.DownNorm.τ).loc Cert.DownNorm.main_arg0) = m ((c.tc : Thread Cert.DownNorm.nD Cert.DownNorm.τ).loc Cert.DownNorm.main_arg0)
      ∧ r.2.mem ((c.tc : Thread Cert.DownNorm.nD Cert.DownNorm.τ).loc Cert.DownNorm.main_arg1) = m ((c.tc : Thread Cert.DownNorm.nD Cert.DownNorm.τ).loc Cert.DownNorm.main_arg1)
      ∧ r.2.mem ((c.tc : Thread Cert.DownNorm.nD Cert.DownNorm.τ).loc Cert.DownNorm.main_arg2) = m ((c.tc : Thread Cert.DownNorm.nD Cert.DownNorm.τ).loc Cert.DownNorm.main_arg2)
      ∧ r.2.mem ((c.tc : Thread Cert.DownNorm.nD Cert.DownNorm.τ).loc Cert.DownNorm.main_arg3) = m ((c.tc : Thread Cert.DownNorm.nD Cert.DownNorm.τ).loc Cert.DownNorm.main_arg3)
      ∧ r.2.mem ((c.tc : Thread Cert.DownNorm.nD Cert.DownNorm.τ).loc Cert.DownNorm.main_arg4) = m ((c.tc : Thread Cert.DownNorm.nD Cert.DownNorm.τ).loc Cert.DownNorm.main_arg4))
      ∧ r.2.sem = fun _ => 0)

def quiescent_DownNormIdeal [hDownNormIdeal : Cert.DownNormIdeal.Facts] : Prop :=
  ∀ (m : (ℓ : Loc Cert.DownNormIdeal.nD Cert.DownNormIdeal.τ Cert.DownNormIdeal.sig) → Buf (Elt Ideal) ℓ) (g : Dev Cert.DownNormIdeal.nD → PrngReg), Pre_DownNormIdeal m →
    θ_run (Cert.DownNormIdeal.defs (F := Ideal)) (onTc (τ := Cert.DownNormIdeal.τ) (Cert.DownNormIdeal.main (F := Ideal))) ⟨m, fun _ => 0, g⟩ (fun r => (∀ c : Dev Cert.DownNormIdeal.nD,
      r.2.mem ((c.tc : Thread Cert.DownNormIdeal.nD Cert.DownNormIdeal.τ).loc Cert.DownNormIdeal.main_arg0) = m ((c.tc : Thread Cert.DownNormIdeal.nD Cert.DownNormIdeal.τ).loc Cert.DownNormIdeal.main_arg0)
      ∧ r.2.mem ((c.tc : Thread Cert.DownNormIdeal.nD Cert.DownNormIdeal.τ).loc Cert.DownNormIdeal.main_arg1) = m ((c.tc : Thread Cert.DownNormIdeal.nD Cert.DownNormIdeal.τ).loc Cert.DownNormIdeal.main_arg1)
      ∧ r.2.mem ((c.tc : Thread Cert.DownNormIdeal.nD Cert.DownNormIdeal.τ).loc Cert.DownNormIdeal.main_arg2) = m ((c.tc : Thread Cert.DownNormIdeal.nD Cert.DownNormIdeal.τ).loc Cert.DownNormIdeal.main_arg2)
      ∧ r.2.mem ((c.tc : Thread Cert.DownNormIdeal.nD Cert.DownNormIdeal.τ).loc Cert.DownNormIdeal.main_arg3) = m ((c.tc : Thread Cert.DownNormIdeal.nD Cert.DownNormIdeal.τ).loc Cert.DownNormIdeal.main_arg3)
      ∧ r.2.mem ((c.tc : Thread Cert.DownNormIdeal.nD Cert.DownNormIdeal.τ).loc Cert.DownNormIdeal.main_arg4) = m ((c.tc : Thread Cert.DownNormIdeal.nD Cert.DownNormIdeal.τ).loc Cert.DownNormIdeal.main_arg4))
      ∧ r.2.sem = fun _ => 0)

def quiescent_DownNormRefIdeal [hDownNormRefIdeal : Cert.DownNormRefIdeal.Facts] : Prop :=
  ∀ (m : (ℓ : Loc Cert.DownNormRefIdeal.nD Cert.DownNormRefIdeal.τ Cert.DownNormRefIdeal.sig) → Buf (Elt Ideal) ℓ) (g : Dev Cert.DownNormRefIdeal.nD → PrngReg), Pre_DownNormRefIdeal m →
    θ_run (Cert.DownNormRefIdeal.defs (F := Ideal)) (onTc (τ := Cert.DownNormRefIdeal.τ) (Cert.DownNormRefIdeal.main (F := Ideal))) ⟨m, fun _ => 0, g⟩ (fun r => (∀ c : Dev Cert.DownNormRefIdeal.nD,
      r.2.mem ((c.tc : Thread Cert.DownNormRefIdeal.nD Cert.DownNormRefIdeal.τ).loc Cert.DownNormRefIdeal.main_arg0) = m ((c.tc : Thread Cert.DownNormRefIdeal.nD Cert.DownNormRefIdeal.τ).loc Cert.DownNormRefIdeal.main_arg0)
      ∧ r.2.mem ((c.tc : Thread Cert.DownNormRefIdeal.nD Cert.DownNormRefIdeal.τ).loc Cert.DownNormRefIdeal.main_arg1) = m ((c.tc : Thread Cert.DownNormRefIdeal.nD Cert.DownNormRefIdeal.τ).loc Cert.DownNormRefIdeal.main_arg1)
      ∧ r.2.mem ((c.tc : Thread Cert.DownNormRefIdeal.nD Cert.DownNormRefIdeal.τ).loc Cert.DownNormRefIdeal.main_arg2) = m ((c.tc : Thread Cert.DownNormRefIdeal.nD Cert.DownNormRefIdeal.τ).loc Cert.DownNormRefIdeal.main_arg2)
      ∧ r.2.mem ((c.tc : Thread Cert.DownNormRefIdeal.nD Cert.DownNormRefIdeal.τ).loc Cert.DownNormRefIdeal.main_arg3) = m ((c.tc : Thread Cert.DownNormRefIdeal.nD Cert.DownNormRefIdeal.τ).loc Cert.DownNormRefIdeal.main_arg3)
      ∧ r.2.mem ((c.tc : Thread Cert.DownNormRefIdeal.nD Cert.DownNormRefIdeal.τ).loc Cert.DownNormRefIdeal.main_arg4) = m ((c.tc : Thread Cert.DownNormRefIdeal.nD Cert.DownNormRefIdeal.τ).loc Cert.DownNormRefIdeal.main_arg4))
      ∧ r.2.sem = fun _ => 0)

def quiescent_ReadOut [hReadOut : Cert.ReadOut.Facts] : Prop :=
  ∀ (m : (ℓ : Loc Cert.ReadOut.nD Cert.ReadOut.τ Cert.ReadOut.sig) → Buf (Elt Bits) ℓ) (g : Dev Cert.ReadOut.nD → PrngReg), Pre_ReadOut m →
    θ_run (Cert.ReadOut.defs (F := Bits)) (onTc (τ := Cert.ReadOut.τ) (Cert.ReadOut.main (F := Bits))) ⟨m, fun _ => 0, g⟩ (fun r => (∀ c : Dev Cert.ReadOut.nD,
      r.2.mem ((c.tc : Thread Cert.ReadOut.nD Cert.ReadOut.τ).loc Cert.ReadOut.main_arg0) = m ((c.tc : Thread Cert.ReadOut.nD Cert.ReadOut.τ).loc Cert.ReadOut.main_arg0)
      ∧ r.2.mem ((c.tc : Thread Cert.ReadOut.nD Cert.ReadOut.τ).loc Cert.ReadOut.main_arg1) = m ((c.tc : Thread Cert.ReadOut.nD Cert.ReadOut.τ).loc Cert.ReadOut.main_arg1)
      ∧ r.2.mem ((c.tc : Thread Cert.ReadOut.nD Cert.ReadOut.τ).loc Cert.ReadOut.main_arg2) = m ((c.tc : Thread Cert.ReadOut.nD Cert.ReadOut.τ).loc Cert.ReadOut.main_arg2)
      ∧ r.2.mem ((c.tc : Thread Cert.ReadOut.nD Cert.ReadOut.τ).loc Cert.ReadOut.main_arg3) = m ((c.tc : Thread Cert.ReadOut.nD Cert.ReadOut.τ).loc Cert.ReadOut.main_arg3)
      ∧ r.2.mem ((c.tc : Thread Cert.ReadOut.nD Cert.ReadOut.τ).loc Cert.ReadOut.main_arg4) = m ((c.tc : Thread Cert.ReadOut.nD Cert.ReadOut.τ).loc Cert.ReadOut.main_arg4)
      ∧ r.2.mem ((c.tc : Thread Cert.ReadOut.nD Cert.ReadOut.τ).loc Cert.ReadOut.main_arg5) = m ((c.tc : Thread Cert.ReadOut.nD Cert.ReadOut.τ).loc Cert.ReadOut.main_arg5))
      ∧ r.2.sem = fun _ => 0)

def quiescent_ReadOutIdeal [hReadOutIdeal : Cert.ReadOutIdeal.Facts] : Prop :=
  ∀ (m : (ℓ : Loc Cert.ReadOutIdeal.nD Cert.ReadOutIdeal.τ Cert.ReadOutIdeal.sig) → Buf (Elt Ideal) ℓ) (g : Dev Cert.ReadOutIdeal.nD → PrngReg), Pre_ReadOutIdeal m →
    θ_run (Cert.ReadOutIdeal.defs (F := Ideal)) (onTc (τ := Cert.ReadOutIdeal.τ) (Cert.ReadOutIdeal.main (F := Ideal))) ⟨m, fun _ => 0, g⟩ (fun r => (∀ c : Dev Cert.ReadOutIdeal.nD,
      r.2.mem ((c.tc : Thread Cert.ReadOutIdeal.nD Cert.ReadOutIdeal.τ).loc Cert.ReadOutIdeal.main_arg0) = m ((c.tc : Thread Cert.ReadOutIdeal.nD Cert.ReadOutIdeal.τ).loc Cert.ReadOutIdeal.main_arg0)
      ∧ r.2.mem ((c.tc : Thread Cert.ReadOutIdeal.nD Cert.ReadOutIdeal.τ).loc Cert.ReadOutIdeal.main_arg1) = m ((c.tc : Thread Cert.ReadOutIdeal.nD Cert.ReadOutIdeal.τ).loc Cert.ReadOutIdeal.main_arg1)
      ∧ r.2.mem ((c.tc : Thread Cert.ReadOutIdeal.nD Cert.ReadOutIdeal.τ).loc Cert.ReadOutIdeal.main_arg2) = m ((c.tc : Thread Cert.ReadOutIdeal.nD Cert.ReadOutIdeal.τ).loc Cert.ReadOutIdeal.main_arg2)
      ∧ r.2.mem ((c.tc : Thread Cert.ReadOutIdeal.nD Cert.ReadOutIdeal.τ).loc Cert.ReadOutIdeal.main_arg3) = m ((c.tc : Thread Cert.ReadOutIdeal.nD Cert.ReadOutIdeal.τ).loc Cert.ReadOutIdeal.main_arg3)
      ∧ r.2.mem ((c.tc : Thread Cert.ReadOutIdeal.nD Cert.ReadOutIdeal.τ).loc Cert.ReadOutIdeal.main_arg4) = m ((c.tc : Thread Cert.ReadOutIdeal.nD Cert.ReadOutIdeal.τ).loc Cert.ReadOutIdeal.main_arg4)
      ∧ r.2.mem ((c.tc : Thread Cert.ReadOutIdeal.nD Cert.ReadOutIdeal.τ).loc Cert.ReadOutIdeal.main_arg5) = m ((c.tc : Thread Cert.ReadOutIdeal.nD Cert.ReadOutIdeal.τ).loc Cert.ReadOutIdeal.main_arg5))
      ∧ r.2.sem = fun _ => 0)

def quiescent_ReadOutIdeal_pre_finite_yout [hReadOutIdeal : Cert.ReadOutIdeal.Facts] [hPre_finite_yout : Cert.Pre_finite_yout.Facts] : Prop :=
  ∀ (m : (ℓ : Loc Cert.ReadOutIdeal.nD Cert.ReadOutIdeal.τ Cert.ReadOutIdeal.sig) → Buf (Elt Ideal) ℓ) (g : Dev Cert.ReadOutIdeal.nD → PrngReg), Pre_ReadOutIdeal_finite_yout m →
    θ_run (Cert.ReadOutIdeal.defs (F := Ideal)) (onTc (τ := Cert.ReadOutIdeal.τ) (Cert.ReadOutIdeal.main (F := Ideal))) ⟨m, fun _ => 0, g⟩ (fun r => (∀ c : Dev Cert.ReadOutIdeal.nD,
      r.2.mem ((c.tc : Thread Cert.ReadOutIdeal.nD Cert.ReadOutIdeal.τ).loc Cert.ReadOutIdeal.main_arg0) = m ((c.tc : Thread Cert.ReadOutIdeal.nD Cert.ReadOutIdeal.τ).loc Cert.ReadOutIdeal.main_arg0)
      ∧ r.2.mem ((c.tc : Thread Cert.ReadOutIdeal.nD Cert.ReadOutIdeal.τ).loc Cert.ReadOutIdeal.main_arg1) = m ((c.tc : Thread Cert.ReadOutIdeal.nD Cert.ReadOutIdeal.τ).loc Cert.ReadOutIdeal.main_arg1)
      ∧ r.2.mem ((c.tc : Thread Cert.ReadOutIdeal.nD Cert.ReadOutIdeal.τ).loc Cert.ReadOutIdeal.main_arg2) = m ((c.tc : Thread Cert.ReadOutIdeal.nD Cert.ReadOutIdeal.τ).loc Cert.ReadOutIdeal.main_arg2)
      ∧ r.2.mem ((c.tc : Thread Cert.ReadOutIdeal.nD Cert.ReadOutIdeal.τ).loc Cert.ReadOutIdeal.main_arg3) = m ((c.tc : Thread Cert.ReadOutIdeal.nD Cert.ReadOutIdeal.τ).loc Cert.ReadOutIdeal.main_arg3)
      ∧ r.2.mem ((c.tc : Thread Cert.ReadOutIdeal.nD Cert.ReadOutIdeal.τ).loc Cert.ReadOutIdeal.main_arg4) = m ((c.tc : Thread Cert.ReadOutIdeal.nD Cert.ReadOutIdeal.τ).loc Cert.ReadOutIdeal.main_arg4)
      ∧ r.2.mem ((c.tc : Thread Cert.ReadOutIdeal.nD Cert.ReadOutIdeal.τ).loc Cert.ReadOutIdeal.main_arg5) = m ((c.tc : Thread Cert.ReadOutIdeal.nD Cert.ReadOutIdeal.τ).loc Cert.ReadOutIdeal.main_arg5))
      ∧ r.2.sem = fun _ => 0)

def quiescent_ReadOutRefIdeal [hReadOutRefIdeal : Cert.ReadOutRefIdeal.Facts] : Prop :=
  ∀ (m : (ℓ : Loc Cert.ReadOutRefIdeal.nD Cert.ReadOutRefIdeal.τ Cert.ReadOutRefIdeal.sig) → Buf (Elt Ideal) ℓ) (g : Dev Cert.ReadOutRefIdeal.nD → PrngReg), Pre_ReadOutRefIdeal m →
    θ_run (Cert.ReadOutRefIdeal.defs (F := Ideal)) (onTc (τ := Cert.ReadOutRefIdeal.τ) (Cert.ReadOutRefIdeal.main (F := Ideal))) ⟨m, fun _ => 0, g⟩ (fun r => (∀ c : Dev Cert.ReadOutRefIdeal.nD,
      r.2.mem ((c.tc : Thread Cert.ReadOutRefIdeal.nD Cert.ReadOutRefIdeal.τ).loc Cert.ReadOutRefIdeal.main_arg0) = m ((c.tc : Thread Cert.ReadOutRefIdeal.nD Cert.ReadOutRefIdeal.τ).loc Cert.ReadOutRefIdeal.main_arg0)
      ∧ r.2.mem ((c.tc : Thread Cert.ReadOutRefIdeal.nD Cert.ReadOutRefIdeal.τ).loc Cert.ReadOutRefIdeal.main_arg1) = m ((c.tc : Thread Cert.ReadOutRefIdeal.nD Cert.ReadOutRefIdeal.τ).loc Cert.ReadOutRefIdeal.main_arg1)
      ∧ r.2.mem ((c.tc : Thread Cert.ReadOutRefIdeal.nD Cert.ReadOutRefIdeal.τ).loc Cert.ReadOutRefIdeal.main_arg2) = m ((c.tc : Thread Cert.ReadOutRefIdeal.nD Cert.ReadOutRefIdeal.τ).loc Cert.ReadOutRefIdeal.main_arg2)
      ∧ r.2.mem ((c.tc : Thread Cert.ReadOutRefIdeal.nD Cert.ReadOutRefIdeal.τ).loc Cert.ReadOutRefIdeal.main_arg3) = m ((c.tc : Thread Cert.ReadOutRefIdeal.nD Cert.ReadOutRefIdeal.τ).loc Cert.ReadOutRefIdeal.main_arg3)
      ∧ r.2.mem ((c.tc : Thread Cert.ReadOutRefIdeal.nD Cert.ReadOutRefIdeal.τ).loc Cert.ReadOutRefIdeal.main_arg4) = m ((c.tc : Thread Cert.ReadOutRefIdeal.nD Cert.ReadOutRefIdeal.τ).loc Cert.ReadOutRefIdeal.main_arg4)
      ∧ r.2.mem ((c.tc : Thread Cert.ReadOutRefIdeal.nD Cert.ReadOutRefIdeal.τ).loc Cert.ReadOutRefIdeal.main_arg5) = m ((c.tc : Thread Cert.ReadOutRefIdeal.nD Cert.ReadOutRefIdeal.τ).loc Cert.ReadOutRefIdeal.main_arg5))
      ∧ r.2.sem = fun _ => 0)

def quiescent_ReadOutRefIdeal_pre_finite_yout [hReadOutRefIdeal : Cert.ReadOutRefIdeal.Facts] [hPre_finite_yout : Cert.Pre_finite_yout.Facts] : Prop :=
  ∀ (m : (ℓ : Loc Cert.ReadOutRefIdeal.nD Cert.ReadOutRefIdeal.τ Cert.ReadOutRefIdeal.sig) → Buf (Elt Ideal) ℓ) (g : Dev Cert.ReadOutRefIdeal.nD → PrngReg), Pre_ReadOutRefIdeal_finite_yout m →
    θ_run (Cert.ReadOutRefIdeal.defs (F := Ideal)) (onTc (τ := Cert.ReadOutRefIdeal.τ) (Cert.ReadOutRefIdeal.main (F := Ideal))) ⟨m, fun _ => 0, g⟩ (fun r => (∀ c : Dev Cert.ReadOutRefIdeal.nD,
      r.2.mem ((c.tc : Thread Cert.ReadOutRefIdeal.nD Cert.ReadOutRefIdeal.τ).loc Cert.ReadOutRefIdeal.main_arg0) = m ((c.tc : Thread Cert.ReadOutRefIdeal.nD Cert.ReadOutRefIdeal.τ).loc Cert.ReadOutRefIdeal.main_arg0)
      ∧ r.2.mem ((c.tc : Thread Cert.ReadOutRefIdeal.nD Cert.ReadOutRefIdeal.τ).loc Cert.ReadOutRefIdeal.main_arg1) = m ((c.tc : Thread Cert.ReadOutRefIdeal.nD Cert.ReadOutRefIdeal.τ).loc Cert.ReadOutRefIdeal.main_arg1)
      ∧ r.2.mem ((c.tc : Thread Cert.ReadOutRefIdeal.nD Cert.ReadOutRefIdeal.τ).loc Cert.ReadOutRefIdeal.main_arg2) = m ((c.tc : Thread Cert.ReadOutRefIdeal.nD Cert.ReadOutRefIdeal.τ).loc Cert.ReadOutRefIdeal.main_arg2)
      ∧ r.2.mem ((c.tc : Thread Cert.ReadOutRefIdeal.nD Cert.ReadOutRefIdeal.τ).loc Cert.ReadOutRefIdeal.main_arg3) = m ((c.tc : Thread Cert.ReadOutRefIdeal.nD Cert.ReadOutRefIdeal.τ).loc Cert.ReadOutRefIdeal.main_arg3)
      ∧ r.2.mem ((c.tc : Thread Cert.ReadOutRefIdeal.nD Cert.ReadOutRefIdeal.τ).loc Cert.ReadOutRefIdeal.main_arg4) = m ((c.tc : Thread Cert.ReadOutRefIdeal.nD Cert.ReadOutRefIdeal.τ).loc Cert.ReadOutRefIdeal.main_arg4)
      ∧ r.2.mem ((c.tc : Thread Cert.ReadOutRefIdeal.nD Cert.ReadOutRefIdeal.τ).loc Cert.ReadOutRefIdeal.main_arg5) = m ((c.tc : Thread Cert.ReadOutRefIdeal.nD Cert.ReadOutRefIdeal.τ).loc Cert.ReadOutRefIdeal.main_arg5))
      ∧ r.2.sem = fun _ => 0)

def quiescent_GluOut [hGluOut : Cert.GluOut.Facts] : Prop :=
  ∀ (m : (ℓ : Loc Cert.GluOut.nD Cert.GluOut.τ Cert.GluOut.sig) → Buf (Elt Bits) ℓ) (g : Dev Cert.GluOut.nD → PrngReg), Pre_GluOut m →
    θ_run (Cert.GluOut.defs (F := Bits)) (onTc (τ := Cert.GluOut.τ) (Cert.GluOut.main (F := Bits))) ⟨m, fun _ => 0, g⟩ (fun r => (∀ c : Dev Cert.GluOut.nD,
      r.2.mem ((c.tc : Thread Cert.GluOut.nD Cert.GluOut.τ).loc Cert.GluOut.main_arg0) = m ((c.tc : Thread Cert.GluOut.nD Cert.GluOut.τ).loc Cert.GluOut.main_arg0)
      ∧ r.2.mem ((c.tc : Thread Cert.GluOut.nD Cert.GluOut.τ).loc Cert.GluOut.main_arg1) = m ((c.tc : Thread Cert.GluOut.nD Cert.GluOut.τ).loc Cert.GluOut.main_arg1)
      ∧ r.2.mem ((c.tc : Thread Cert.GluOut.nD Cert.GluOut.τ).loc Cert.GluOut.main_arg2) = m ((c.tc : Thread Cert.GluOut.nD Cert.GluOut.τ).loc Cert.GluOut.main_arg2))
      ∧ r.2.sem = fun _ => 0)

def quiescent_GluOutIdeal [hGluOutIdeal : Cert.GluOutIdeal.Facts] : Prop :=
  ∀ (m : (ℓ : Loc Cert.GluOutIdeal.nD Cert.GluOutIdeal.τ Cert.GluOutIdeal.sig) → Buf (Elt Ideal) ℓ) (g : Dev Cert.GluOutIdeal.nD → PrngReg), Pre_GluOutIdeal m →
    θ_run (Cert.GluOutIdeal.defs (F := Ideal)) (onTc (τ := Cert.GluOutIdeal.τ) (Cert.GluOutIdeal.main (F := Ideal))) ⟨m, fun _ => 0, g⟩ (fun r => (∀ c : Dev Cert.GluOutIdeal.nD,
      r.2.mem ((c.tc : Thread Cert.GluOutIdeal.nD Cert.GluOutIdeal.τ).loc Cert.GluOutIdeal.main_arg0) = m ((c.tc : Thread Cert.GluOutIdeal.nD Cert.GluOutIdeal.τ).loc Cert.GluOutIdeal.main_arg0)
      ∧ r.2.mem ((c.tc : Thread Cert.GluOutIdeal.nD Cert.GluOutIdeal.τ).loc Cert.GluOutIdeal.main_arg1) = m ((c.tc : Thread Cert.GluOutIdeal.nD Cert.GluOutIdeal.τ).loc Cert.GluOutIdeal.main_arg1)
      ∧ r.2.mem ((c.tc : Thread Cert.GluOutIdeal.nD Cert.GluOutIdeal.τ).loc Cert.GluOutIdeal.main_arg2) = m ((c.tc : Thread Cert.GluOutIdeal.nD Cert.GluOutIdeal.τ).loc Cert.GluOutIdeal.main_arg2))
      ∧ r.2.sem = fun _ => 0)

def quiescent_GluOutRefIdeal [hGluOutRefIdeal : Cert.GluOutRefIdeal.Facts] : Prop :=
  ∀ (m : (ℓ : Loc Cert.GluOutRefIdeal.nD Cert.GluOutRefIdeal.τ Cert.GluOutRefIdeal.sig) → Buf (Elt Ideal) ℓ) (g : Dev Cert.GluOutRefIdeal.nD → PrngReg), Pre_GluOutRefIdeal m →
    θ_run (Cert.GluOutRefIdeal.defs (F := Ideal)) (onTc (τ := Cert.GluOutRefIdeal.τ) (Cert.GluOutRefIdeal.main (F := Ideal))) ⟨m, fun _ => 0, g⟩ (fun r => (∀ c : Dev Cert.GluOutRefIdeal.nD,
      r.2.mem ((c.tc : Thread Cert.GluOutRefIdeal.nD Cert.GluOutRefIdeal.τ).loc Cert.GluOutRefIdeal.main_arg0) = m ((c.tc : Thread Cert.GluOutRefIdeal.nD Cert.GluOutRefIdeal.τ).loc Cert.GluOutRefIdeal.main_arg0)
      ∧ r.2.mem ((c.tc : Thread Cert.GluOutRefIdeal.nD Cert.GluOutRefIdeal.τ).loc Cert.GluOutRefIdeal.main_arg1) = m ((c.tc : Thread Cert.GluOutRefIdeal.nD Cert.GluOutRefIdeal.τ).loc Cert.GluOutRefIdeal.main_arg1)
      ∧ r.2.mem ((c.tc : Thread Cert.GluOutRefIdeal.nD Cert.GluOutRefIdeal.τ).loc Cert.GluOutRefIdeal.main_arg2) = m ((c.tc : Thread Cert.GluOutRefIdeal.nD Cert.GluOutRefIdeal.τ).loc Cert.GluOutRefIdeal.main_arg2))
      ∧ r.2.sem = fun _ => 0)

def quiescent_HalfSwap [hHalfSwap : Cert.HalfSwap.Facts] : Prop :=
  ∀ (m : (ℓ : Loc Cert.HalfSwap.nD Cert.HalfSwap.τ Cert.HalfSwap.sig) → Buf (Elt Bits) ℓ) (g : Dev Cert.HalfSwap.nD → PrngReg), Pre_HalfSwap m →
    θ_run (Cert.HalfSwap.defs (F := Bits)) (onTc (τ := Cert.HalfSwap.τ) (Cert.HalfSwap.main (F := Bits))) ⟨m, fun _ => 0, g⟩ (fun r => (∀ c : Dev Cert.HalfSwap.nD,
      r.2.mem ((c.tc : Thread Cert.HalfSwap.nD Cert.HalfSwap.τ).loc Cert.HalfSwap.main_arg0) = m ((c.tc : Thread Cert.HalfSwap.nD Cert.HalfSwap.τ).loc Cert.HalfSwap.main_arg0)
      ∧ r.2.mem ((c.tc : Thread Cert.HalfSwap.nD Cert.HalfSwap.τ).loc Cert.HalfSwap.main_arg1) = m ((c.tc : Thread Cert.HalfSwap.nD Cert.HalfSwap.τ).loc Cert.HalfSwap.main_arg1)
      ∧ r.2.mem ((c.tc : Thread Cert.HalfSwap.nD Cert.HalfSwap.τ).loc Cert.HalfSwap.main_arg2) = m ((c.tc : Thread Cert.HalfSwap.nD Cert.HalfSwap.τ).loc Cert.HalfSwap.main_arg2)
      ∧ r.2.mem ((c.tc : Thread Cert.HalfSwap.nD Cert.HalfSwap.τ).loc Cert.HalfSwap.main_arg3) = m ((c.tc : Thread Cert.HalfSwap.nD Cert.HalfSwap.τ).loc Cert.HalfSwap.main_arg3)
      ∧ r.2.mem ((c.tc : Thread Cert.HalfSwap.nD Cert.HalfSwap.τ).loc Cert.HalfSwap.main_arg4) = m ((c.tc : Thread Cert.HalfSwap.nD Cert.HalfSwap.τ).loc Cert.HalfSwap.main_arg4)
      ∧ r.2.mem ((c.tc : Thread Cert.HalfSwap.nD Cert.HalfSwap.τ).loc Cert.HalfSwap.main_arg5) = m ((c.tc : Thread Cert.HalfSwap.nD Cert.HalfSwap.τ).loc Cert.HalfSwap.main_arg5)
      ∧ r.2.mem ((c.tc : Thread Cert.HalfSwap.nD Cert.HalfSwap.τ).loc Cert.HalfSwap.main_arg6) = m ((c.tc : Thread Cert.HalfSwap.nD Cert.HalfSwap.τ).loc Cert.HalfSwap.main_arg6)
      ∧ r.2.mem ((c.tc : Thread Cert.HalfSwap.nD Cert.HalfSwap.τ).loc Cert.HalfSwap.main_arg7) = m ((c.tc : Thread Cert.HalfSwap.nD Cert.HalfSwap.τ).loc Cert.HalfSwap.main_arg7)
      ∧ r.2.mem ((c.tc : Thread Cert.HalfSwap.nD Cert.HalfSwap.τ).loc Cert.HalfSwap.main_arg8) = m ((c.tc : Thread Cert.HalfSwap.nD Cert.HalfSwap.τ).loc Cert.HalfSwap.main_arg8))
      ∧ r.2.sem = fun _ => 0)

def quiescent_HalfSwapIdeal [hHalfSwapIdeal : Cert.HalfSwapIdeal.Facts] : Prop :=
  ∀ (m : (ℓ : Loc Cert.HalfSwapIdeal.nD Cert.HalfSwapIdeal.τ Cert.HalfSwapIdeal.sig) → Buf (Elt Ideal) ℓ) (g : Dev Cert.HalfSwapIdeal.nD → PrngReg), Pre_HalfSwapIdeal m →
    θ_run (Cert.HalfSwapIdeal.defs (F := Ideal)) (onTc (τ := Cert.HalfSwapIdeal.τ) (Cert.HalfSwapIdeal.main (F := Ideal))) ⟨m, fun _ => 0, g⟩ (fun r => (∀ c : Dev Cert.HalfSwapIdeal.nD,
      r.2.mem ((c.tc : Thread Cert.HalfSwapIdeal.nD Cert.HalfSwapIdeal.τ).loc Cert.HalfSwapIdeal.main_arg0) = m ((c.tc : Thread Cert.HalfSwapIdeal.nD Cert.HalfSwapIdeal.τ).loc Cert.HalfSwapIdeal.main_arg0)
      ∧ r.2.mem ((c.tc : Thread Cert.HalfSwapIdeal.nD Cert.HalfSwapIdeal.τ).loc Cert.HalfSwapIdeal.main_arg1) = m ((c.tc : Thread Cert.HalfSwapIdeal.nD Cert.HalfSwapIdeal.τ).loc Cert.HalfSwapIdeal.main_arg1)
      ∧ r.2.mem ((c.tc : Thread Cert.HalfSwapIdeal.nD Cert.HalfSwapIdeal.τ).loc Cert.HalfSwapIdeal.main_arg2) = m ((c.tc : Thread Cert.HalfSwapIdeal.nD Cert.HalfSwapIdeal.τ).loc Cert.HalfSwapIdeal.main_arg2)
      ∧ r.2.mem ((c.tc : Thread Cert.HalfSwapIdeal.nD Cert.HalfSwapIdeal.τ).loc Cert.HalfSwapIdeal.main_arg3) = m ((c.tc : Thread Cert.HalfSwapIdeal.nD Cert.HalfSwapIdeal.τ).loc Cert.HalfSwapIdeal.main_arg3)
      ∧ r.2.mem ((c.tc : Thread Cert.HalfSwapIdeal.nD Cert.HalfSwapIdeal.τ).loc Cert.HalfSwapIdeal.main_arg4) = m ((c.tc : Thread Cert.HalfSwapIdeal.nD Cert.HalfSwapIdeal.τ).loc Cert.HalfSwapIdeal.main_arg4)
      ∧ r.2.mem ((c.tc : Thread Cert.HalfSwapIdeal.nD Cert.HalfSwapIdeal.τ).loc Cert.HalfSwapIdeal.main_arg5) = m ((c.tc : Thread Cert.HalfSwapIdeal.nD Cert.HalfSwapIdeal.τ).loc Cert.HalfSwapIdeal.main_arg5)
      ∧ r.2.mem ((c.tc : Thread Cert.HalfSwapIdeal.nD Cert.HalfSwapIdeal.τ).loc Cert.HalfSwapIdeal.main_arg6) = m ((c.tc : Thread Cert.HalfSwapIdeal.nD Cert.HalfSwapIdeal.τ).loc Cert.HalfSwapIdeal.main_arg6)
      ∧ r.2.mem ((c.tc : Thread Cert.HalfSwapIdeal.nD Cert.HalfSwapIdeal.τ).loc Cert.HalfSwapIdeal.main_arg7) = m ((c.tc : Thread Cert.HalfSwapIdeal.nD Cert.HalfSwapIdeal.τ).loc Cert.HalfSwapIdeal.main_arg7)
      ∧ r.2.mem ((c.tc : Thread Cert.HalfSwapIdeal.nD Cert.HalfSwapIdeal.τ).loc Cert.HalfSwapIdeal.main_arg8) = m ((c.tc : Thread Cert.HalfSwapIdeal.nD Cert.HalfSwapIdeal.τ).loc Cert.HalfSwapIdeal.main_arg8))
      ∧ r.2.sem = fun _ => 0)

def quiescent_HalfSwapRefIdeal [hHalfSwapRefIdeal : Cert.HalfSwapRefIdeal.Facts] : Prop :=
  ∀ (m : (ℓ : Loc Cert.HalfSwapRefIdeal.nD Cert.HalfSwapRefIdeal.τ Cert.HalfSwapRefIdeal.sig) → Buf (Elt Ideal) ℓ) (g : Dev Cert.HalfSwapRefIdeal.nD → PrngReg), Pre_HalfSwapRefIdeal m →
    θ_run (Cert.HalfSwapRefIdeal.defs (F := Ideal)) (onTc (τ := Cert.HalfSwapRefIdeal.τ) (Cert.HalfSwapRefIdeal.main (F := Ideal))) ⟨m, fun _ => 0, g⟩ (fun r => (∀ c : Dev Cert.HalfSwapRefIdeal.nD,
      r.2.mem ((c.tc : Thread Cert.HalfSwapRefIdeal.nD Cert.HalfSwapRefIdeal.τ).loc Cert.HalfSwapRefIdeal.main_arg0) = m ((c.tc : Thread Cert.HalfSwapRefIdeal.nD Cert.HalfSwapRefIdeal.τ).loc Cert.HalfSwapRefIdeal.main_arg0)
      ∧ r.2.mem ((c.tc : Thread Cert.HalfSwapRefIdeal.nD Cert.HalfSwapRefIdeal.τ).loc Cert.HalfSwapRefIdeal.main_arg1) = m ((c.tc : Thread Cert.HalfSwapRefIdeal.nD Cert.HalfSwapRefIdeal.τ).loc Cert.HalfSwapRefIdeal.main_arg1)
      ∧ r.2.mem ((c.tc : Thread Cert.HalfSwapRefIdeal.nD Cert.HalfSwapRefIdeal.τ).loc Cert.HalfSwapRefIdeal.main_arg2) = m ((c.tc : Thread Cert.HalfSwapRefIdeal.nD Cert.HalfSwapRefIdeal.τ).loc Cert.HalfSwapRefIdeal.main_arg2)
      ∧ r.2.mem ((c.tc : Thread Cert.HalfSwapRefIdeal.nD Cert.HalfSwapRefIdeal.τ).loc Cert.HalfSwapRefIdeal.main_arg3) = m ((c.tc : Thread Cert.HalfSwapRefIdeal.nD Cert.HalfSwapRefIdeal.τ).loc Cert.HalfSwapRefIdeal.main_arg3)
      ∧ r.2.mem ((c.tc : Thread Cert.HalfSwapRefIdeal.nD Cert.HalfSwapRefIdeal.τ).loc Cert.HalfSwapRefIdeal.main_arg4) = m ((c.tc : Thread Cert.HalfSwapRefIdeal.nD Cert.HalfSwapRefIdeal.τ).loc Cert.HalfSwapRefIdeal.main_arg4)
      ∧ r.2.mem ((c.tc : Thread Cert.HalfSwapRefIdeal.nD Cert.HalfSwapRefIdeal.τ).loc Cert.HalfSwapRefIdeal.main_arg5) = m ((c.tc : Thread Cert.HalfSwapRefIdeal.nD Cert.HalfSwapRefIdeal.τ).loc Cert.HalfSwapRefIdeal.main_arg5)
      ∧ r.2.mem ((c.tc : Thread Cert.HalfSwapRefIdeal.nD Cert.HalfSwapRefIdeal.τ).loc Cert.HalfSwapRefIdeal.main_arg6) = m ((c.tc : Thread Cert.HalfSwapRefIdeal.nD Cert.HalfSwapRefIdeal.τ).loc Cert.HalfSwapRefIdeal.main_arg6)
      ∧ r.2.mem ((c.tc : Thread Cert.HalfSwapRefIdeal.nD Cert.HalfSwapRefIdeal.τ).loc Cert.HalfSwapRefIdeal.main_arg7) = m ((c.tc : Thread Cert.HalfSwapRefIdeal.nD Cert.HalfSwapRefIdeal.τ).loc Cert.HalfSwapRefIdeal.main_arg7)
      ∧ r.2.mem ((c.tc : Thread Cert.HalfSwapRefIdeal.nD Cert.HalfSwapRefIdeal.τ).loc Cert.HalfSwapRefIdeal.main_arg8) = m ((c.tc : Thread Cert.HalfSwapRefIdeal.nD Cert.HalfSwapRefIdeal.τ).loc Cert.HalfSwapRefIdeal.main_arg8))
      ∧ r.2.sem = fun _ => 0)

def quiescent_ChipSwap [hChipSwap : Cert.ChipSwap.Facts] : Prop :=
  ∀ (m : (ℓ : Loc Cert.ChipSwap.nD Cert.ChipSwap.τ Cert.ChipSwap.sig) → Buf (Elt Bits) ℓ) (g : Dev Cert.ChipSwap.nD → PrngReg), Pre_ChipSwap m →
    θ_run (Cert.ChipSwap.defs (F := Bits)) (onTc (τ := Cert.ChipSwap.τ) (Cert.ChipSwap.main (F := Bits))) ⟨m, fun _ => 0, g⟩ (fun r => (∀ c : Dev Cert.ChipSwap.nD,
      r.2.mem ((c.tc : Thread Cert.ChipSwap.nD Cert.ChipSwap.τ).loc Cert.ChipSwap.main_arg0) = m ((c.tc : Thread Cert.ChipSwap.nD Cert.ChipSwap.τ).loc Cert.ChipSwap.main_arg0)
      ∧ r.2.mem ((c.tc : Thread Cert.ChipSwap.nD Cert.ChipSwap.τ).loc Cert.ChipSwap.main_arg1) = m ((c.tc : Thread Cert.ChipSwap.nD Cert.ChipSwap.τ).loc Cert.ChipSwap.main_arg1)
      ∧ r.2.mem ((c.tc : Thread Cert.ChipSwap.nD Cert.ChipSwap.τ).loc Cert.ChipSwap.main_arg2) = m ((c.tc : Thread Cert.ChipSwap.nD Cert.ChipSwap.τ).loc Cert.ChipSwap.main_arg2)
      ∧ r.2.mem ((c.tc : Thread Cert.ChipSwap.nD Cert.ChipSwap.τ).loc Cert.ChipSwap.main_arg3) = m ((c.tc : Thread Cert.ChipSwap.nD Cert.ChipSwap.τ).loc Cert.ChipSwap.main_arg3)
      ∧ r.2.mem ((c.tc : Thread Cert.ChipSwap.nD Cert.ChipSwap.τ).loc Cert.ChipSwap.main_arg4) = m ((c.tc : Thread Cert.ChipSwap.nD Cert.ChipSwap.τ).loc Cert.ChipSwap.main_arg4)
      ∧ r.2.mem ((c.tc : Thread Cert.ChipSwap.nD Cert.ChipSwap.τ).loc Cert.ChipSwap.main_arg5) = m ((c.tc : Thread Cert.ChipSwap.nD Cert.ChipSwap.τ).loc Cert.ChipSwap.main_arg5)
      ∧ r.2.mem ((c.tc : Thread Cert.ChipSwap.nD Cert.ChipSwap.τ).loc Cert.ChipSwap.main_arg6) = m ((c.tc : Thread Cert.ChipSwap.nD Cert.ChipSwap.τ).loc Cert.ChipSwap.main_arg6)
      ∧ r.2.mem ((c.tc : Thread Cert.ChipSwap.nD Cert.ChipSwap.τ).loc Cert.ChipSwap.main_arg7) = m ((c.tc : Thread Cert.ChipSwap.nD Cert.ChipSwap.τ).loc Cert.ChipSwap.main_arg7)
      ∧ r.2.mem ((c.tc : Thread Cert.ChipSwap.nD Cert.ChipSwap.τ).loc Cert.ChipSwap.main_arg8) = m ((c.tc : Thread Cert.ChipSwap.nD Cert.ChipSwap.τ).loc Cert.ChipSwap.main_arg8))
      ∧ r.2.sem = fun _ => 0)

def quiescent_ChipSwapIdeal [hChipSwapIdeal : Cert.ChipSwapIdeal.Facts] : Prop :=
  ∀ (m : (ℓ : Loc Cert.ChipSwapIdeal.nD Cert.ChipSwapIdeal.τ Cert.ChipSwapIdeal.sig) → Buf (Elt Ideal) ℓ) (g : Dev Cert.ChipSwapIdeal.nD → PrngReg), Pre_ChipSwapIdeal m →
    θ_run (Cert.ChipSwapIdeal.defs (F := Ideal)) (onTc (τ := Cert.ChipSwapIdeal.τ) (Cert.ChipSwapIdeal.main (F := Ideal))) ⟨m, fun _ => 0, g⟩ (fun r => (∀ c : Dev Cert.ChipSwapIdeal.nD,
      r.2.mem ((c.tc : Thread Cert.ChipSwapIdeal.nD Cert.ChipSwapIdeal.τ).loc Cert.ChipSwapIdeal.main_arg0) = m ((c.tc : Thread Cert.ChipSwapIdeal.nD Cert.ChipSwapIdeal.τ).loc Cert.ChipSwapIdeal.main_arg0)
      ∧ r.2.mem ((c.tc : Thread Cert.ChipSwapIdeal.nD Cert.ChipSwapIdeal.τ).loc Cert.ChipSwapIdeal.main_arg1) = m ((c.tc : Thread Cert.ChipSwapIdeal.nD Cert.ChipSwapIdeal.τ).loc Cert.ChipSwapIdeal.main_arg1)
      ∧ r.2.mem ((c.tc : Thread Cert.ChipSwapIdeal.nD Cert.ChipSwapIdeal.τ).loc Cert.ChipSwapIdeal.main_arg2) = m ((c.tc : Thread Cert.ChipSwapIdeal.nD Cert.ChipSwapIdeal.τ).loc Cert.ChipSwapIdeal.main_arg2)
      ∧ r.2.mem ((c.tc : Thread Cert.ChipSwapIdeal.nD Cert.ChipSwapIdeal.τ).loc Cert.ChipSwapIdeal.main_arg3) = m ((c.tc : Thread Cert.ChipSwapIdeal.nD Cert.ChipSwapIdeal.τ).loc Cert.ChipSwapIdeal.main_arg3)
      ∧ r.2.mem ((c.tc : Thread Cert.ChipSwapIdeal.nD Cert.ChipSwapIdeal.τ).loc Cert.ChipSwapIdeal.main_arg4) = m ((c.tc : Thread Cert.ChipSwapIdeal.nD Cert.ChipSwapIdeal.τ).loc Cert.ChipSwapIdeal.main_arg4)
      ∧ r.2.mem ((c.tc : Thread Cert.ChipSwapIdeal.nD Cert.ChipSwapIdeal.τ).loc Cert.ChipSwapIdeal.main_arg5) = m ((c.tc : Thread Cert.ChipSwapIdeal.nD Cert.ChipSwapIdeal.τ).loc Cert.ChipSwapIdeal.main_arg5)
      ∧ r.2.mem ((c.tc : Thread Cert.ChipSwapIdeal.nD Cert.ChipSwapIdeal.τ).loc Cert.ChipSwapIdeal.main_arg6) = m ((c.tc : Thread Cert.ChipSwapIdeal.nD Cert.ChipSwapIdeal.τ).loc Cert.ChipSwapIdeal.main_arg6)
      ∧ r.2.mem ((c.tc : Thread Cert.ChipSwapIdeal.nD Cert.ChipSwapIdeal.τ).loc Cert.ChipSwapIdeal.main_arg7) = m ((c.tc : Thread Cert.ChipSwapIdeal.nD Cert.ChipSwapIdeal.τ).loc Cert.ChipSwapIdeal.main_arg7)
      ∧ r.2.mem ((c.tc : Thread Cert.ChipSwapIdeal.nD Cert.ChipSwapIdeal.τ).loc Cert.ChipSwapIdeal.main_arg8) = m ((c.tc : Thread Cert.ChipSwapIdeal.nD Cert.ChipSwapIdeal.τ).loc Cert.ChipSwapIdeal.main_arg8))
      ∧ r.2.sem = fun _ => 0)

def quiescent_ChipSwapRefIdeal [hChipSwapRefIdeal : Cert.ChipSwapRefIdeal.Facts] : Prop :=
  ∀ (m : (ℓ : Loc Cert.ChipSwapRefIdeal.nD Cert.ChipSwapRefIdeal.τ Cert.ChipSwapRefIdeal.sig) → Buf (Elt Ideal) ℓ) (g : Dev Cert.ChipSwapRefIdeal.nD → PrngReg), Pre_ChipSwapRefIdeal m →
    θ_run (Cert.ChipSwapRefIdeal.defs (F := Ideal)) (onTc (τ := Cert.ChipSwapRefIdeal.τ) (Cert.ChipSwapRefIdeal.main (F := Ideal))) ⟨m, fun _ => 0, g⟩ (fun r => (∀ c : Dev Cert.ChipSwapRefIdeal.nD,
      r.2.mem ((c.tc : Thread Cert.ChipSwapRefIdeal.nD Cert.ChipSwapRefIdeal.τ).loc Cert.ChipSwapRefIdeal.main_arg0) = m ((c.tc : Thread Cert.ChipSwapRefIdeal.nD Cert.ChipSwapRefIdeal.τ).loc Cert.ChipSwapRefIdeal.main_arg0)
      ∧ r.2.mem ((c.tc : Thread Cert.ChipSwapRefIdeal.nD Cert.ChipSwapRefIdeal.τ).loc Cert.ChipSwapRefIdeal.main_arg1) = m ((c.tc : Thread Cert.ChipSwapRefIdeal.nD Cert.ChipSwapRefIdeal.τ).loc Cert.ChipSwapRefIdeal.main_arg1)
      ∧ r.2.mem ((c.tc : Thread Cert.ChipSwapRefIdeal.nD Cert.ChipSwapRefIdeal.τ).loc Cert.ChipSwapRefIdeal.main_arg2) = m ((c.tc : Thread Cert.ChipSwapRefIdeal.nD Cert.ChipSwapRefIdeal.τ).loc Cert.ChipSwapRefIdeal.main_arg2)
      ∧ r.2.mem ((c.tc : Thread Cert.ChipSwapRefIdeal.nD Cert.ChipSwapRefIdeal.τ).loc Cert.ChipSwapRefIdeal.main_arg3) = m ((c.tc : Thread Cert.ChipSwapRefIdeal.nD Cert.ChipSwapRefIdeal.τ).loc Cert.ChipSwapRefIdeal.main_arg3)
      ∧ r.2.mem ((c.tc : Thread Cert.ChipSwapRefIdeal.nD Cert.ChipSwapRefIdeal.τ).loc Cert.ChipSwapRefIdeal.main_arg4) = m ((c.tc : Thread Cert.ChipSwapRefIdeal.nD Cert.ChipSwapRefIdeal.τ).loc Cert.ChipSwapRefIdeal.main_arg4)
      ∧ r.2.mem ((c.tc : Thread Cert.ChipSwapRefIdeal.nD Cert.ChipSwapRefIdeal.τ).loc Cert.ChipSwapRefIdeal.main_arg5) = m ((c.tc : Thread Cert.ChipSwapRefIdeal.nD Cert.ChipSwapRefIdeal.τ).loc Cert.ChipSwapRefIdeal.main_arg5)
      ∧ r.2.mem ((c.tc : Thread Cert.ChipSwapRefIdeal.nD Cert.ChipSwapRefIdeal.τ).loc Cert.ChipSwapRefIdeal.main_arg6) = m ((c.tc : Thread Cert.ChipSwapRefIdeal.nD Cert.ChipSwapRefIdeal.τ).loc Cert.ChipSwapRefIdeal.main_arg6)
      ∧ r.2.mem ((c.tc : Thread Cert.ChipSwapRefIdeal.nD Cert.ChipSwapRefIdeal.τ).loc Cert.ChipSwapRefIdeal.main_arg7) = m ((c.tc : Thread Cert.ChipSwapRefIdeal.nD Cert.ChipSwapRefIdeal.τ).loc Cert.ChipSwapRefIdeal.main_arg7)
      ∧ r.2.mem ((c.tc : Thread Cert.ChipSwapRefIdeal.nD Cert.ChipSwapRefIdeal.τ).loc Cert.ChipSwapRefIdeal.main_arg8) = m ((c.tc : Thread Cert.ChipSwapRefIdeal.nD Cert.ChipSwapRefIdeal.τ).loc Cert.ChipSwapRefIdeal.main_arg8))
      ∧ r.2.sem = fun _ => 0)

def quiescent_JoinHalves [hJoinHalves : Cert.JoinHalves.Facts] : Prop :=
  ∀ (m : (ℓ : Loc Cert.JoinHalves.nD Cert.JoinHalves.τ Cert.JoinHalves.sig) → Buf (Elt Bits) ℓ) (g : Dev Cert.JoinHalves.nD → PrngReg), Pre_JoinHalves m →
    θ_run (Cert.JoinHalves.defs (F := Bits)) (onTc (τ := Cert.JoinHalves.τ) (Cert.JoinHalves.main (F := Bits))) ⟨m, fun _ => 0, g⟩ (fun r => (∀ c : Dev Cert.JoinHalves.nD,
      r.2.mem ((c.tc : Thread Cert.JoinHalves.nD Cert.JoinHalves.τ).loc Cert.JoinHalves.main_arg0) = m ((c.tc : Thread Cert.JoinHalves.nD Cert.JoinHalves.τ).loc Cert.JoinHalves.main_arg0)
      ∧ r.2.mem ((c.tc : Thread Cert.JoinHalves.nD Cert.JoinHalves.τ).loc Cert.JoinHalves.main_arg1) = m ((c.tc : Thread Cert.JoinHalves.nD Cert.JoinHalves.τ).loc Cert.JoinHalves.main_arg1)
      ∧ r.2.mem ((c.tc : Thread Cert.JoinHalves.nD Cert.JoinHalves.τ).loc Cert.JoinHalves.main_arg2) = m ((c.tc : Thread Cert.JoinHalves.nD Cert.JoinHalves.τ).loc Cert.JoinHalves.main_arg2)
      ∧ r.2.mem ((c.tc : Thread Cert.JoinHalves.nD Cert.JoinHalves.τ).loc Cert.JoinHalves.main_arg3) = m ((c.tc : Thread Cert.JoinHalves.nD Cert.JoinHalves.τ).loc Cert.JoinHalves.main_arg3)
      ∧ r.2.mem ((c.tc : Thread Cert.JoinHalves.nD Cert.JoinHalves.τ).loc Cert.JoinHalves.main_arg4) = m ((c.tc : Thread Cert.JoinHalves.nD Cert.JoinHalves.τ).loc Cert.JoinHalves.main_arg4)
      ∧ r.2.mem ((c.tc : Thread Cert.JoinHalves.nD Cert.JoinHalves.τ).loc Cert.JoinHalves.main_arg5) = m ((c.tc : Thread Cert.JoinHalves.nD Cert.JoinHalves.τ).loc Cert.JoinHalves.main_arg5)
      ∧ r.2.mem ((c.tc : Thread Cert.JoinHalves.nD Cert.JoinHalves.τ).loc Cert.JoinHalves.main_arg6) = m ((c.tc : Thread Cert.JoinHalves.nD Cert.JoinHalves.τ).loc Cert.JoinHalves.main_arg6)
      ∧ r.2.mem ((c.tc : Thread Cert.JoinHalves.nD Cert.JoinHalves.τ).loc Cert.JoinHalves.main_arg7) = m ((c.tc : Thread Cert.JoinHalves.nD Cert.JoinHalves.τ).loc Cert.JoinHalves.main_arg7)
      ∧ r.2.mem ((c.tc : Thread Cert.JoinHalves.nD Cert.JoinHalves.τ).loc Cert.JoinHalves.main_arg8) = m ((c.tc : Thread Cert.JoinHalves.nD Cert.JoinHalves.τ).loc Cert.JoinHalves.main_arg8))
      ∧ r.2.sem = fun _ => 0)

def quiescent_JoinHalvesIdeal [hJoinHalvesIdeal : Cert.JoinHalvesIdeal.Facts] : Prop :=
  ∀ (m : (ℓ : Loc Cert.JoinHalvesIdeal.nD Cert.JoinHalvesIdeal.τ Cert.JoinHalvesIdeal.sig) → Buf (Elt Ideal) ℓ) (g : Dev Cert.JoinHalvesIdeal.nD → PrngReg), Pre_JoinHalvesIdeal m →
    θ_run (Cert.JoinHalvesIdeal.defs (F := Ideal)) (onTc (τ := Cert.JoinHalvesIdeal.τ) (Cert.JoinHalvesIdeal.main (F := Ideal))) ⟨m, fun _ => 0, g⟩ (fun r => (∀ c : Dev Cert.JoinHalvesIdeal.nD,
      r.2.mem ((c.tc : Thread Cert.JoinHalvesIdeal.nD Cert.JoinHalvesIdeal.τ).loc Cert.JoinHalvesIdeal.main_arg0) = m ((c.tc : Thread Cert.JoinHalvesIdeal.nD Cert.JoinHalvesIdeal.τ).loc Cert.JoinHalvesIdeal.main_arg0)
      ∧ r.2.mem ((c.tc : Thread Cert.JoinHalvesIdeal.nD Cert.JoinHalvesIdeal.τ).loc Cert.JoinHalvesIdeal.main_arg1) = m ((c.tc : Thread Cert.JoinHalvesIdeal.nD Cert.JoinHalvesIdeal.τ).loc Cert.JoinHalvesIdeal.main_arg1)
      ∧ r.2.mem ((c.tc : Thread Cert.JoinHalvesIdeal.nD Cert.JoinHalvesIdeal.τ).loc Cert.JoinHalvesIdeal.main_arg2) = m ((c.tc : Thread Cert.JoinHalvesIdeal.nD Cert.JoinHalvesIdeal.τ).loc Cert.JoinHalvesIdeal.main_arg2)
      ∧ r.2.mem ((c.tc : Thread Cert.JoinHalvesIdeal.nD Cert.JoinHalvesIdeal.τ).loc Cert.JoinHalvesIdeal.main_arg3) = m ((c.tc : Thread Cert.JoinHalvesIdeal.nD Cert.JoinHalvesIdeal.τ).loc Cert.JoinHalvesIdeal.main_arg3)
      ∧ r.2.mem ((c.tc : Thread Cert.JoinHalvesIdeal.nD Cert.JoinHalvesIdeal.τ).loc Cert.JoinHalvesIdeal.main_arg4) = m ((c.tc : Thread Cert.JoinHalvesIdeal.nD Cert.JoinHalvesIdeal.τ).loc Cert.JoinHalvesIdeal.main_arg4)
      ∧ r.2.mem ((c.tc : Thread Cert.JoinHalvesIdeal.nD Cert.JoinHalvesIdeal.τ).loc Cert.JoinHalvesIdeal.main_arg5) = m ((c.tc : Thread Cert.JoinHalvesIdeal.nD Cert.JoinHalvesIdeal.τ).loc Cert.JoinHalvesIdeal.main_arg5)
      ∧ r.2.mem ((c.tc : Thread Cert.JoinHalvesIdeal.nD Cert.JoinHalvesIdeal.τ).loc Cert.JoinHalvesIdeal.main_arg6) = m ((c.tc : Thread Cert.JoinHalvesIdeal.nD Cert.JoinHalvesIdeal.τ).loc Cert.JoinHalvesIdeal.main_arg6)
      ∧ r.2.mem ((c.tc : Thread Cert.JoinHalvesIdeal.nD Cert.JoinHalvesIdeal.τ).loc Cert.JoinHalvesIdeal.main_arg7) = m ((c.tc : Thread Cert.JoinHalvesIdeal.nD Cert.JoinHalvesIdeal.τ).loc Cert.JoinHalvesIdeal.main_arg7)
      ∧ r.2.mem ((c.tc : Thread Cert.JoinHalvesIdeal.nD Cert.JoinHalvesIdeal.τ).loc Cert.JoinHalvesIdeal.main_arg8) = m ((c.tc : Thread Cert.JoinHalvesIdeal.nD Cert.JoinHalvesIdeal.τ).loc Cert.JoinHalvesIdeal.main_arg8))
      ∧ r.2.sem = fun _ => 0)

def quiescent_JoinHalvesRefIdeal [hJoinHalvesRefIdeal : Cert.JoinHalvesRefIdeal.Facts] : Prop :=
  ∀ (m : (ℓ : Loc Cert.JoinHalvesRefIdeal.nD Cert.JoinHalvesRefIdeal.τ Cert.JoinHalvesRefIdeal.sig) → Buf (Elt Ideal) ℓ) (g : Dev Cert.JoinHalvesRefIdeal.nD → PrngReg), Pre_JoinHalvesRefIdeal m →
    θ_run (Cert.JoinHalvesRefIdeal.defs (F := Ideal)) (onTc (τ := Cert.JoinHalvesRefIdeal.τ) (Cert.JoinHalvesRefIdeal.main (F := Ideal))) ⟨m, fun _ => 0, g⟩ (fun r => (∀ c : Dev Cert.JoinHalvesRefIdeal.nD,
      r.2.mem ((c.tc : Thread Cert.JoinHalvesRefIdeal.nD Cert.JoinHalvesRefIdeal.τ).loc Cert.JoinHalvesRefIdeal.main_arg0) = m ((c.tc : Thread Cert.JoinHalvesRefIdeal.nD Cert.JoinHalvesRefIdeal.τ).loc Cert.JoinHalvesRefIdeal.main_arg0)
      ∧ r.2.mem ((c.tc : Thread Cert.JoinHalvesRefIdeal.nD Cert.JoinHalvesRefIdeal.τ).loc Cert.JoinHalvesRefIdeal.main_arg1) = m ((c.tc : Thread Cert.JoinHalvesRefIdeal.nD Cert.JoinHalvesRefIdeal.τ).loc Cert.JoinHalvesRefIdeal.main_arg1)
      ∧ r.2.mem ((c.tc : Thread Cert.JoinHalvesRefIdeal.nD Cert.JoinHalvesRefIdeal.τ).loc Cert.JoinHalvesRefIdeal.main_arg2) = m ((c.tc : Thread Cert.JoinHalvesRefIdeal.nD Cert.JoinHalvesRefIdeal.τ).loc Cert.JoinHalvesRefIdeal.main_arg2)
      ∧ r.2.mem ((c.tc : Thread Cert.JoinHalvesRefIdeal.nD Cert.JoinHalvesRefIdeal.τ).loc Cert.JoinHalvesRefIdeal.main_arg3) = m ((c.tc : Thread Cert.JoinHalvesRefIdeal.nD Cert.JoinHalvesRefIdeal.τ).loc Cert.JoinHalvesRefIdeal.main_arg3)
      ∧ r.2.mem ((c.tc : Thread Cert.JoinHalvesRefIdeal.nD Cert.JoinHalvesRefIdeal.τ).loc Cert.JoinHalvesRefIdeal.main_arg4) = m ((c.tc : Thread Cert.JoinHalvesRefIdeal.nD Cert.JoinHalvesRefIdeal.τ).loc Cert.JoinHalvesRefIdeal.main_arg4)
      ∧ r.2.mem ((c.tc : Thread Cert.JoinHalvesRefIdeal.nD Cert.JoinHalvesRefIdeal.τ).loc Cert.JoinHalvesRefIdeal.main_arg5) = m ((c.tc : Thread Cert.JoinHalvesRefIdeal.nD Cert.JoinHalvesRefIdeal.τ).loc Cert.JoinHalvesRefIdeal.main_arg5)
      ∧ r.2.mem ((c.tc : Thread Cert.JoinHalvesRefIdeal.nD Cert.JoinHalvesRefIdeal.τ).loc Cert.JoinHalvesRefIdeal.main_arg6) = m ((c.tc : Thread Cert.JoinHalvesRefIdeal.nD Cert.JoinHalvesRefIdeal.τ).loc Cert.JoinHalvesRefIdeal.main_arg6)
      ∧ r.2.mem ((c.tc : Thread Cert.JoinHalvesRefIdeal.nD Cert.JoinHalvesRefIdeal.τ).loc Cert.JoinHalvesRefIdeal.main_arg7) = m ((c.tc : Thread Cert.JoinHalvesRefIdeal.nD Cert.JoinHalvesRefIdeal.τ).loc Cert.JoinHalvesRefIdeal.main_arg7)
      ∧ r.2.mem ((c.tc : Thread Cert.JoinHalvesRefIdeal.nD Cert.JoinHalvesRefIdeal.τ).loc Cert.JoinHalvesRefIdeal.main_arg8) = m ((c.tc : Thread Cert.JoinHalvesRefIdeal.nD Cert.JoinHalvesRefIdeal.τ).loc Cert.JoinHalvesRefIdeal.main_arg8))
      ∧ r.2.sem = fun _ => 0)

def quiescent_ChipGather [hChipGather : Cert.ChipGather.Facts] : Prop :=
  ∀ (m : (ℓ : Loc Cert.ChipGather.nD Cert.ChipGather.τ Cert.ChipGather.sig) → Buf (Elt Bits) ℓ) (g : Dev Cert.ChipGather.nD → PrngReg), Pre_ChipGather m →
    θ_run (Cert.ChipGather.defs (F := Bits)) (onTc (τ := Cert.ChipGather.τ) (Cert.ChipGather.main (F := Bits))) ⟨m, fun _ => 0, g⟩ (fun r => (∀ c : Dev Cert.ChipGather.nD,
      r.2.mem ((c.tc : Thread Cert.ChipGather.nD Cert.ChipGather.τ).loc Cert.ChipGather.main_arg0) = m ((c.tc : Thread Cert.ChipGather.nD Cert.ChipGather.τ).loc Cert.ChipGather.main_arg0)
      ∧ r.2.mem ((c.tc : Thread Cert.ChipGather.nD Cert.ChipGather.τ).loc Cert.ChipGather.main_arg1) = m ((c.tc : Thread Cert.ChipGather.nD Cert.ChipGather.τ).loc Cert.ChipGather.main_arg1)
      ∧ r.2.mem ((c.tc : Thread Cert.ChipGather.nD Cert.ChipGather.τ).loc Cert.ChipGather.main_arg2) = m ((c.tc : Thread Cert.ChipGather.nD Cert.ChipGather.τ).loc Cert.ChipGather.main_arg2)
      ∧ r.2.mem ((c.tc : Thread Cert.ChipGather.nD Cert.ChipGather.τ).loc Cert.ChipGather.main_arg3) = m ((c.tc : Thread Cert.ChipGather.nD Cert.ChipGather.τ).loc Cert.ChipGather.main_arg3)
      ∧ r.2.mem ((c.tc : Thread Cert.ChipGather.nD Cert.ChipGather.τ).loc Cert.ChipGather.main_arg4) = m ((c.tc : Thread Cert.ChipGather.nD Cert.ChipGather.τ).loc Cert.ChipGather.main_arg4)
      ∧ r.2.mem ((c.tc : Thread Cert.ChipGather.nD Cert.ChipGather.τ).loc Cert.ChipGather.main_arg5) = m ((c.tc : Thread Cert.ChipGather.nD Cert.ChipGather.τ).loc Cert.ChipGather.main_arg5)
      ∧ r.2.mem ((c.tc : Thread Cert.ChipGather.nD Cert.ChipGather.τ).loc Cert.ChipGather.main_arg6) = m ((c.tc : Thread Cert.ChipGather.nD Cert.ChipGather.τ).loc Cert.ChipGather.main_arg6)
      ∧ r.2.mem ((c.tc : Thread Cert.ChipGather.nD Cert.ChipGather.τ).loc Cert.ChipGather.main_arg7) = m ((c.tc : Thread Cert.ChipGather.nD Cert.ChipGather.τ).loc Cert.ChipGather.main_arg7)
      ∧ r.2.mem ((c.tc : Thread Cert.ChipGather.nD Cert.ChipGather.τ).loc Cert.ChipGather.main_arg8) = m ((c.tc : Thread Cert.ChipGather.nD Cert.ChipGather.τ).loc Cert.ChipGather.main_arg8))
      ∧ r.2.sem = fun _ => 0)

def quiescent_ChipGatherIdeal [hChipGatherIdeal : Cert.ChipGatherIdeal.Facts] : Prop :=
  ∀ (m : (ℓ : Loc Cert.ChipGatherIdeal.nD Cert.ChipGatherIdeal.τ Cert.ChipGatherIdeal.sig) → Buf (Elt Ideal) ℓ) (g : Dev Cert.ChipGatherIdeal.nD → PrngReg), Pre_ChipGatherIdeal m →
    θ_run (Cert.ChipGatherIdeal.defs (F := Ideal)) (onTc (τ := Cert.ChipGatherIdeal.τ) (Cert.ChipGatherIdeal.main (F := Ideal))) ⟨m, fun _ => 0, g⟩ (fun r => (∀ c : Dev Cert.ChipGatherIdeal.nD,
      r.2.mem ((c.tc : Thread Cert.ChipGatherIdeal.nD Cert.ChipGatherIdeal.τ).loc Cert.ChipGatherIdeal.main_arg0) = m ((c.tc : Thread Cert.ChipGatherIdeal.nD Cert.ChipGatherIdeal.τ).loc Cert.ChipGatherIdeal.main_arg0)
      ∧ r.2.mem ((c.tc : Thread Cert.ChipGatherIdeal.nD Cert.ChipGatherIdeal.τ).loc Cert.ChipGatherIdeal.main_arg1) = m ((c.tc : Thread Cert.ChipGatherIdeal.nD Cert.ChipGatherIdeal.τ).loc Cert.ChipGatherIdeal.main_arg1)
      ∧ r.2.mem ((c.tc : Thread Cert.ChipGatherIdeal.nD Cert.ChipGatherIdeal.τ).loc Cert.ChipGatherIdeal.main_arg2) = m ((c.tc : Thread Cert.ChipGatherIdeal.nD Cert.ChipGatherIdeal.τ).loc Cert.ChipGatherIdeal.main_arg2)
      ∧ r.2.mem ((c.tc : Thread Cert.ChipGatherIdeal.nD Cert.ChipGatherIdeal.τ).loc Cert.ChipGatherIdeal.main_arg3) = m ((c.tc : Thread Cert.ChipGatherIdeal.nD Cert.ChipGatherIdeal.τ).loc Cert.ChipGatherIdeal.main_arg3)
      ∧ r.2.mem ((c.tc : Thread Cert.ChipGatherIdeal.nD Cert.ChipGatherIdeal.τ).loc Cert.ChipGatherIdeal.main_arg4) = m ((c.tc : Thread Cert.ChipGatherIdeal.nD Cert.ChipGatherIdeal.τ).loc Cert.ChipGatherIdeal.main_arg4)
      ∧ r.2.mem ((c.tc : Thread Cert.ChipGatherIdeal.nD Cert.ChipGatherIdeal.τ).loc Cert.ChipGatherIdeal.main_arg5) = m ((c.tc : Thread Cert.ChipGatherIdeal.nD Cert.ChipGatherIdeal.τ).loc Cert.ChipGatherIdeal.main_arg5)
      ∧ r.2.mem ((c.tc : Thread Cert.ChipGatherIdeal.nD Cert.ChipGatherIdeal.τ).loc Cert.ChipGatherIdeal.main_arg6) = m ((c.tc : Thread Cert.ChipGatherIdeal.nD Cert.ChipGatherIdeal.τ).loc Cert.ChipGatherIdeal.main_arg6)
      ∧ r.2.mem ((c.tc : Thread Cert.ChipGatherIdeal.nD Cert.ChipGatherIdeal.τ).loc Cert.ChipGatherIdeal.main_arg7) = m ((c.tc : Thread Cert.ChipGatherIdeal.nD Cert.ChipGatherIdeal.τ).loc Cert.ChipGatherIdeal.main_arg7)
      ∧ r.2.mem ((c.tc : Thread Cert.ChipGatherIdeal.nD Cert.ChipGatherIdeal.τ).loc Cert.ChipGatherIdeal.main_arg8) = m ((c.tc : Thread Cert.ChipGatherIdeal.nD Cert.ChipGatherIdeal.τ).loc Cert.ChipGatherIdeal.main_arg8))
      ∧ r.2.sem = fun _ => 0)

def quiescent_ChipGatherRefIdeal [hChipGatherRefIdeal : Cert.ChipGatherRefIdeal.Facts] : Prop :=
  ∀ (m : (ℓ : Loc Cert.ChipGatherRefIdeal.nD Cert.ChipGatherRefIdeal.τ Cert.ChipGatherRefIdeal.sig) → Buf (Elt Ideal) ℓ) (g : Dev Cert.ChipGatherRefIdeal.nD → PrngReg), Pre_ChipGatherRefIdeal m →
    θ_run (Cert.ChipGatherRefIdeal.defs (F := Ideal)) (onTc (τ := Cert.ChipGatherRefIdeal.τ) (Cert.ChipGatherRefIdeal.main (F := Ideal))) ⟨m, fun _ => 0, g⟩ (fun r => (∀ c : Dev Cert.ChipGatherRefIdeal.nD,
      r.2.mem ((c.tc : Thread Cert.ChipGatherRefIdeal.nD Cert.ChipGatherRefIdeal.τ).loc Cert.ChipGatherRefIdeal.main_arg0) = m ((c.tc : Thread Cert.ChipGatherRefIdeal.nD Cert.ChipGatherRefIdeal.τ).loc Cert.ChipGatherRefIdeal.main_arg0)
      ∧ r.2.mem ((c.tc : Thread Cert.ChipGatherRefIdeal.nD Cert.ChipGatherRefIdeal.τ).loc Cert.ChipGatherRefIdeal.main_arg1) = m ((c.tc : Thread Cert.ChipGatherRefIdeal.nD Cert.ChipGatherRefIdeal.τ).loc Cert.ChipGatherRefIdeal.main_arg1)
      ∧ r.2.mem ((c.tc : Thread Cert.ChipGatherRefIdeal.nD Cert.ChipGatherRefIdeal.τ).loc Cert.ChipGatherRefIdeal.main_arg2) = m ((c.tc : Thread Cert.ChipGatherRefIdeal.nD Cert.ChipGatherRefIdeal.τ).loc Cert.ChipGatherRefIdeal.main_arg2)
      ∧ r.2.mem ((c.tc : Thread Cert.ChipGatherRefIdeal.nD Cert.ChipGatherRefIdeal.τ).loc Cert.ChipGatherRefIdeal.main_arg3) = m ((c.tc : Thread Cert.ChipGatherRefIdeal.nD Cert.ChipGatherRefIdeal.τ).loc Cert.ChipGatherRefIdeal.main_arg3)
      ∧ r.2.mem ((c.tc : Thread Cert.ChipGatherRefIdeal.nD Cert.ChipGatherRefIdeal.τ).loc Cert.ChipGatherRefIdeal.main_arg4) = m ((c.tc : Thread Cert.ChipGatherRefIdeal.nD Cert.ChipGatherRefIdeal.τ).loc Cert.ChipGatherRefIdeal.main_arg4)
      ∧ r.2.mem ((c.tc : Thread Cert.ChipGatherRefIdeal.nD Cert.ChipGatherRefIdeal.τ).loc Cert.ChipGatherRefIdeal.main_arg5) = m ((c.tc : Thread Cert.ChipGatherRefIdeal.nD Cert.ChipGatherRefIdeal.τ).loc Cert.ChipGatherRefIdeal.main_arg5)
      ∧ r.2.mem ((c.tc : Thread Cert.ChipGatherRefIdeal.nD Cert.ChipGatherRefIdeal.τ).loc Cert.ChipGatherRefIdeal.main_arg6) = m ((c.tc : Thread Cert.ChipGatherRefIdeal.nD Cert.ChipGatherRefIdeal.τ).loc Cert.ChipGatherRefIdeal.main_arg6)
      ∧ r.2.mem ((c.tc : Thread Cert.ChipGatherRefIdeal.nD Cert.ChipGatherRefIdeal.τ).loc Cert.ChipGatherRefIdeal.main_arg7) = m ((c.tc : Thread Cert.ChipGatherRefIdeal.nD Cert.ChipGatherRefIdeal.τ).loc Cert.ChipGatherRefIdeal.main_arg7)
      ∧ r.2.mem ((c.tc : Thread Cert.ChipGatherRefIdeal.nD Cert.ChipGatherRefIdeal.τ).loc Cert.ChipGatherRefIdeal.main_arg8) = m ((c.tc : Thread Cert.ChipGatherRefIdeal.nD Cert.ChipGatherRefIdeal.τ).loc Cert.ChipGatherRefIdeal.main_arg8))
      ∧ r.2.sem = fun _ => 0)

def quiescent_WeightCols [hWeightCols : Cert.WeightCols.Facts] : Prop :=
  ∀ (m : (ℓ : Loc Cert.WeightCols.nD Cert.WeightCols.τ Cert.WeightCols.sig) → Buf (Elt Bits) ℓ) (g : Dev Cert.WeightCols.nD → PrngReg), Pre_WeightCols m →
    θ_run (Cert.WeightCols.defs (F := Bits)) (onTc (τ := Cert.WeightCols.τ) (Cert.WeightCols.main (F := Bits))) ⟨m, fun _ => 0, g⟩ (fun r => (∀ c : Dev Cert.WeightCols.nD,
      r.2.mem ((c.tc : Thread Cert.WeightCols.nD Cert.WeightCols.τ).loc Cert.WeightCols.main_arg0) = m ((c.tc : Thread Cert.WeightCols.nD Cert.WeightCols.τ).loc Cert.WeightCols.main_arg0)
      ∧ r.2.mem ((c.tc : Thread Cert.WeightCols.nD Cert.WeightCols.τ).loc Cert.WeightCols.main_arg1) = m ((c.tc : Thread Cert.WeightCols.nD Cert.WeightCols.τ).loc Cert.WeightCols.main_arg1))
      ∧ r.2.sem = fun _ => 0)

def quiescent_WeightColsIdeal [hWeightColsIdeal : Cert.WeightColsIdeal.Facts] : Prop :=
  ∀ (m : (ℓ : Loc Cert.WeightColsIdeal.nD Cert.WeightColsIdeal.τ Cert.WeightColsIdeal.sig) → Buf (Elt Ideal) ℓ) (g : Dev Cert.WeightColsIdeal.nD → PrngReg), Pre_WeightColsIdeal m →
    θ_run (Cert.WeightColsIdeal.defs (F := Ideal)) (onTc (τ := Cert.WeightColsIdeal.τ) (Cert.WeightColsIdeal.main (F := Ideal))) ⟨m, fun _ => 0, g⟩ (fun r => (∀ c : Dev Cert.WeightColsIdeal.nD,
      r.2.mem ((c.tc : Thread Cert.WeightColsIdeal.nD Cert.WeightColsIdeal.τ).loc Cert.WeightColsIdeal.main_arg0) = m ((c.tc : Thread Cert.WeightColsIdeal.nD Cert.WeightColsIdeal.τ).loc Cert.WeightColsIdeal.main_arg0)
      ∧ r.2.mem ((c.tc : Thread Cert.WeightColsIdeal.nD Cert.WeightColsIdeal.τ).loc Cert.WeightColsIdeal.main_arg1) = m ((c.tc : Thread Cert.WeightColsIdeal.nD Cert.WeightColsIdeal.τ).loc Cert.WeightColsIdeal.main_arg1))
      ∧ r.2.sem = fun _ => 0)

def quiescent_WeightColsRefIdeal [hWeightColsRefIdeal : Cert.WeightColsRefIdeal.Facts] : Prop :=
  ∀ (m : (ℓ : Loc Cert.WeightColsRefIdeal.nD Cert.WeightColsRefIdeal.τ Cert.WeightColsRefIdeal.sig) → Buf (Elt Ideal) ℓ) (g : Dev Cert.WeightColsRefIdeal.nD → PrngReg), Pre_WeightColsRefIdeal m →
    θ_run (Cert.WeightColsRefIdeal.defs (F := Ideal)) (onTc (τ := Cert.WeightColsRefIdeal.τ) (Cert.WeightColsRefIdeal.main (F := Ideal))) ⟨m, fun _ => 0, g⟩ (fun r => (∀ c : Dev Cert.WeightColsRefIdeal.nD,
      r.2.mem ((c.tc : Thread Cert.WeightColsRefIdeal.nD Cert.WeightColsRefIdeal.τ).loc Cert.WeightColsRefIdeal.main_arg0) = m ((c.tc : Thread Cert.WeightColsRefIdeal.nD Cert.WeightColsRefIdeal.τ).loc Cert.WeightColsRefIdeal.main_arg0)
      ∧ r.2.mem ((c.tc : Thread Cert.WeightColsRefIdeal.nD Cert.WeightColsRefIdeal.τ).loc Cert.WeightColsRefIdeal.main_arg1) = m ((c.tc : Thread Cert.WeightColsRefIdeal.nD Cert.WeightColsRefIdeal.τ).loc Cert.WeightColsRefIdeal.main_arg1))
      ∧ r.2.sem = fun _ => 0)

def quiescent_WeightRows [hWeightRows : Cert.WeightRows.Facts] : Prop :=
  ∀ (m : (ℓ : Loc Cert.WeightRows.nD Cert.WeightRows.τ Cert.WeightRows.sig) → Buf (Elt Bits) ℓ) (g : Dev Cert.WeightRows.nD → PrngReg), Pre_WeightRows m →
    θ_run (Cert.WeightRows.defs (F := Bits)) (onTc (τ := Cert.WeightRows.τ) (Cert.WeightRows.main (F := Bits))) ⟨m, fun _ => 0, g⟩ (fun r => (∀ c : Dev Cert.WeightRows.nD,
      r.2.mem ((c.tc : Thread Cert.WeightRows.nD Cert.WeightRows.τ).loc Cert.WeightRows.main_arg0) = m ((c.tc : Thread Cert.WeightRows.nD Cert.WeightRows.τ).loc Cert.WeightRows.main_arg0)
      ∧ r.2.mem ((c.tc : Thread Cert.WeightRows.nD Cert.WeightRows.τ).loc Cert.WeightRows.main_arg1) = m ((c.tc : Thread Cert.WeightRows.nD Cert.WeightRows.τ).loc Cert.WeightRows.main_arg1))
      ∧ r.2.sem = fun _ => 0)

def quiescent_WeightRowsIdeal [hWeightRowsIdeal : Cert.WeightRowsIdeal.Facts] : Prop :=
  ∀ (m : (ℓ : Loc Cert.WeightRowsIdeal.nD Cert.WeightRowsIdeal.τ Cert.WeightRowsIdeal.sig) → Buf (Elt Ideal) ℓ) (g : Dev Cert.WeightRowsIdeal.nD → PrngReg), Pre_WeightRowsIdeal m →
    θ_run (Cert.WeightRowsIdeal.defs (F := Ideal)) (onTc (τ := Cert.WeightRowsIdeal.τ) (Cert.WeightRowsIdeal.main (F := Ideal))) ⟨m, fun _ => 0, g⟩ (fun r => (∀ c : Dev Cert.WeightRowsIdeal.nD,
      r.2.mem ((c.tc : Thread Cert.WeightRowsIdeal.nD Cert.WeightRowsIdeal.τ).loc Cert.WeightRowsIdeal.main_arg0) = m ((c.tc : Thread Cert.WeightRowsIdeal.nD Cert.WeightRowsIdeal.τ).loc Cert.WeightRowsIdeal.main_arg0)
      ∧ r.2.mem ((c.tc : Thread Cert.WeightRowsIdeal.nD Cert.WeightRowsIdeal.τ).loc Cert.WeightRowsIdeal.main_arg1) = m ((c.tc : Thread Cert.WeightRowsIdeal.nD Cert.WeightRowsIdeal.τ).loc Cert.WeightRowsIdeal.main_arg1))
      ∧ r.2.sem = fun _ => 0)

def quiescent_WeightRowsRefIdeal [hWeightRowsRefIdeal : Cert.WeightRowsRefIdeal.Facts] : Prop :=
  ∀ (m : (ℓ : Loc Cert.WeightRowsRefIdeal.nD Cert.WeightRowsRefIdeal.τ Cert.WeightRowsRefIdeal.sig) → Buf (Elt Ideal) ℓ) (g : Dev Cert.WeightRowsRefIdeal.nD → PrngReg), Pre_WeightRowsRefIdeal m →
    θ_run (Cert.WeightRowsRefIdeal.defs (F := Ideal)) (onTc (τ := Cert.WeightRowsRefIdeal.τ) (Cert.WeightRowsRefIdeal.main (F := Ideal))) ⟨m, fun _ => 0, g⟩ (fun r => (∀ c : Dev Cert.WeightRowsRefIdeal.nD,
      r.2.mem ((c.tc : Thread Cert.WeightRowsRefIdeal.nD Cert.WeightRowsRefIdeal.τ).loc Cert.WeightRowsRefIdeal.main_arg0) = m ((c.tc : Thread Cert.WeightRowsRefIdeal.nD Cert.WeightRowsRefIdeal.τ).loc Cert.WeightRowsRefIdeal.main_arg0)
      ∧ r.2.mem ((c.tc : Thread Cert.WeightRowsRefIdeal.nD Cert.WeightRowsRefIdeal.τ).loc Cert.WeightRowsRefIdeal.main_arg1) = m ((c.tc : Thread Cert.WeightRowsRefIdeal.nD Cert.WeightRowsRefIdeal.τ).loc Cert.WeightRowsRefIdeal.main_arg1))
      ∧ r.2.sem = fun _ => 0)

def quiescent_BlockWeights [hBlockWeights : Cert.BlockWeights.Facts] : Prop :=
  ∀ (m : (ℓ : Loc Cert.BlockWeights.nD Cert.BlockWeights.τ Cert.BlockWeights.sig) → Buf (Elt Bits) ℓ) (g : Dev Cert.BlockWeights.nD → PrngReg), Pre_BlockWeights m →
    θ_run (Cert.BlockWeights.defs (F := Bits)) (onTc (τ := Cert.BlockWeights.τ) (Cert.BlockWeights.main (F := Bits))) ⟨m, fun _ => 0, g⟩ (fun r => (∀ c : Dev Cert.BlockWeights.nD,
      r.2.mem ((c.tc : Thread Cert.BlockWeights.nD Cert.BlockWeights.τ).loc Cert.BlockWeights.main_arg0) = m ((c.tc : Thread Cert.BlockWeights.nD Cert.BlockWeights.τ).loc Cert.BlockWeights.main_arg0)
      ∧ r.2.mem ((c.tc : Thread Cert.BlockWeights.nD Cert.BlockWeights.τ).loc Cert.BlockWeights.main_arg1) = m ((c.tc : Thread Cert.BlockWeights.nD Cert.BlockWeights.τ).loc Cert.BlockWeights.main_arg1))
      ∧ r.2.sem = fun _ => 0)

def quiescent_BlockWeightsIdeal [hBlockWeightsIdeal : Cert.BlockWeightsIdeal.Facts] : Prop :=
  ∀ (m : (ℓ : Loc Cert.BlockWeightsIdeal.nD Cert.BlockWeightsIdeal.τ Cert.BlockWeightsIdeal.sig) → Buf (Elt Ideal) ℓ) (g : Dev Cert.BlockWeightsIdeal.nD → PrngReg), Pre_BlockWeightsIdeal m →
    θ_run (Cert.BlockWeightsIdeal.defs (F := Ideal)) (onTc (τ := Cert.BlockWeightsIdeal.τ) (Cert.BlockWeightsIdeal.main (F := Ideal))) ⟨m, fun _ => 0, g⟩ (fun r => (∀ c : Dev Cert.BlockWeightsIdeal.nD,
      r.2.mem ((c.tc : Thread Cert.BlockWeightsIdeal.nD Cert.BlockWeightsIdeal.τ).loc Cert.BlockWeightsIdeal.main_arg0) = m ((c.tc : Thread Cert.BlockWeightsIdeal.nD Cert.BlockWeightsIdeal.τ).loc Cert.BlockWeightsIdeal.main_arg0)
      ∧ r.2.mem ((c.tc : Thread Cert.BlockWeightsIdeal.nD Cert.BlockWeightsIdeal.τ).loc Cert.BlockWeightsIdeal.main_arg1) = m ((c.tc : Thread Cert.BlockWeightsIdeal.nD Cert.BlockWeightsIdeal.τ).loc Cert.BlockWeightsIdeal.main_arg1))
      ∧ r.2.sem = fun _ => 0)

def quiescent_BlockWeightsRefIdeal [hBlockWeightsRefIdeal : Cert.BlockWeightsRefIdeal.Facts] : Prop :=
  ∀ (m : (ℓ : Loc Cert.BlockWeightsRefIdeal.nD Cert.BlockWeightsRefIdeal.τ Cert.BlockWeightsRefIdeal.sig) → Buf (Elt Ideal) ℓ) (g : Dev Cert.BlockWeightsRefIdeal.nD → PrngReg), Pre_BlockWeightsRefIdeal m →
    θ_run (Cert.BlockWeightsRefIdeal.defs (F := Ideal)) (onTc (τ := Cert.BlockWeightsRefIdeal.τ) (Cert.BlockWeightsRefIdeal.main (F := Ideal))) ⟨m, fun _ => 0, g⟩ (fun r => (∀ c : Dev Cert.BlockWeightsRefIdeal.nD,
      r.2.mem ((c.tc : Thread Cert.BlockWeightsRefIdeal.nD Cert.BlockWeightsRefIdeal.τ).loc Cert.BlockWeightsRefIdeal.main_arg0) = m ((c.tc : Thread Cert.BlockWeightsRefIdeal.nD Cert.BlockWeightsRefIdeal.τ).loc Cert.BlockWeightsRefIdeal.main_arg0)
      ∧ r.2.mem ((c.tc : Thread Cert.BlockWeightsRefIdeal.nD Cert.BlockWeightsRefIdeal.τ).loc Cert.BlockWeightsRefIdeal.main_arg1) = m ((c.tc : Thread Cert.BlockWeightsRefIdeal.nD Cert.BlockWeightsRefIdeal.τ).loc Cert.BlockWeightsRefIdeal.main_arg1))
      ∧ r.2.sem = fun _ => 0)

def quiescent_AdamLarge [hAdamLarge : Cert.AdamLarge.Facts] : Prop :=
  ∀ (m : (ℓ : Loc Cert.AdamLarge.nD Cert.AdamLarge.τ Cert.AdamLarge.sig) → Buf (Elt Bits) ℓ) (g : Dev Cert.AdamLarge.nD → PrngReg), Pre_AdamLarge m →
    θ_run (Cert.AdamLarge.defs (F := Bits)) (onTc (τ := Cert.AdamLarge.τ) (Cert.AdamLarge.main (F := Bits))) ⟨m, fun _ => 0, g⟩ (fun r => (∀ c : Dev Cert.AdamLarge.nD,
      r.2.mem ((c.tc : Thread Cert.AdamLarge.nD Cert.AdamLarge.τ).loc Cert.AdamLarge.main_arg0) = m ((c.tc : Thread Cert.AdamLarge.nD Cert.AdamLarge.τ).loc Cert.AdamLarge.main_arg0)
      ∧ r.2.mem ((c.tc : Thread Cert.AdamLarge.nD Cert.AdamLarge.τ).loc Cert.AdamLarge.main_arg1) = m ((c.tc : Thread Cert.AdamLarge.nD Cert.AdamLarge.τ).loc Cert.AdamLarge.main_arg1)
      ∧ r.2.mem ((c.tc : Thread Cert.AdamLarge.nD Cert.AdamLarge.τ).loc Cert.AdamLarge.main_arg2) = m ((c.tc : Thread Cert.AdamLarge.nD Cert.AdamLarge.τ).loc Cert.AdamLarge.main_arg2)
      ∧ r.2.mem ((c.tc : Thread Cert.AdamLarge.nD Cert.AdamLarge.τ).loc Cert.AdamLarge.main_arg3) = m ((c.tc : Thread Cert.AdamLarge.nD Cert.AdamLarge.τ).loc Cert.AdamLarge.main_arg3)
      ∧ r.2.mem ((c.tc : Thread Cert.AdamLarge.nD Cert.AdamLarge.τ).loc Cert.AdamLarge.main_arg4) = m ((c.tc : Thread Cert.AdamLarge.nD Cert.AdamLarge.τ).loc Cert.AdamLarge.main_arg4)
      ∧ r.2.mem ((c.tc : Thread Cert.AdamLarge.nD Cert.AdamLarge.τ).loc Cert.AdamLarge.main_arg5) = m ((c.tc : Thread Cert.AdamLarge.nD Cert.AdamLarge.τ).loc Cert.AdamLarge.main_arg5)
      ∧ r.2.mem ((c.tc : Thread Cert.AdamLarge.nD Cert.AdamLarge.τ).loc Cert.AdamLarge.main_arg6) = m ((c.tc : Thread Cert.AdamLarge.nD Cert.AdamLarge.τ).loc Cert.AdamLarge.main_arg6))
      ∧ r.2.sem = fun _ => 0)

def quiescent_AdamLargeIdeal [hAdamLargeIdeal : Cert.AdamLargeIdeal.Facts] : Prop :=
  ∀ (m : (ℓ : Loc Cert.AdamLargeIdeal.nD Cert.AdamLargeIdeal.τ Cert.AdamLargeIdeal.sig) → Buf (Elt Ideal) ℓ) (g : Dev Cert.AdamLargeIdeal.nD → PrngReg), Pre_AdamLargeIdeal m →
    θ_run (Cert.AdamLargeIdeal.defs (F := Ideal)) (onTc (τ := Cert.AdamLargeIdeal.τ) (Cert.AdamLargeIdeal.main (F := Ideal))) ⟨m, fun _ => 0, g⟩ (fun r => (∀ c : Dev Cert.AdamLargeIdeal.nD,
      r.2.mem ((c.tc : Thread Cert.AdamLargeIdeal.nD Cert.AdamLargeIdeal.τ).loc Cert.AdamLargeIdeal.main_arg0) = m ((c.tc : Thread Cert.AdamLargeIdeal.nD Cert.AdamLargeIdeal.τ).loc Cert.AdamLargeIdeal.main_arg0)
      ∧ r.2.mem ((c.tc : Thread Cert.AdamLargeIdeal.nD Cert.AdamLargeIdeal.τ).loc Cert.AdamLargeIdeal.main_arg1) = m ((c.tc : Thread Cert.AdamLargeIdeal.nD Cert.AdamLargeIdeal.τ).loc Cert.AdamLargeIdeal.main_arg1)
      ∧ r.2.mem ((c.tc : Thread Cert.AdamLargeIdeal.nD Cert.AdamLargeIdeal.τ).loc Cert.AdamLargeIdeal.main_arg2) = m ((c.tc : Thread Cert.AdamLargeIdeal.nD Cert.AdamLargeIdeal.τ).loc Cert.AdamLargeIdeal.main_arg2)
      ∧ r.2.mem ((c.tc : Thread Cert.AdamLargeIdeal.nD Cert.AdamLargeIdeal.τ).loc Cert.AdamLargeIdeal.main_arg3) = m ((c.tc : Thread Cert.AdamLargeIdeal.nD Cert.AdamLargeIdeal.τ).loc Cert.AdamLargeIdeal.main_arg3)
      ∧ r.2.mem ((c.tc : Thread Cert.AdamLargeIdeal.nD Cert.AdamLargeIdeal.τ).loc Cert.AdamLargeIdeal.main_arg4) = m ((c.tc : Thread Cert.AdamLargeIdeal.nD Cert.AdamLargeIdeal.τ).loc Cert.AdamLargeIdeal.main_arg4)
      ∧ r.2.mem ((c.tc : Thread Cert.AdamLargeIdeal.nD Cert.AdamLargeIdeal.τ).loc Cert.AdamLargeIdeal.main_arg5) = m ((c.tc : Thread Cert.AdamLargeIdeal.nD Cert.AdamLargeIdeal.τ).loc Cert.AdamLargeIdeal.main_arg5)
      ∧ r.2.mem ((c.tc : Thread Cert.AdamLargeIdeal.nD Cert.AdamLargeIdeal.τ).loc Cert.AdamLargeIdeal.main_arg6) = m ((c.tc : Thread Cert.AdamLargeIdeal.nD Cert.AdamLargeIdeal.τ).loc Cert.AdamLargeIdeal.main_arg6))
      ∧ r.2.sem = fun _ => 0)

def quiescent_AdamLargeRefIdeal [hAdamLargeRefIdeal : Cert.AdamLargeRefIdeal.Facts] : Prop :=
  ∀ (m : (ℓ : Loc Cert.AdamLargeRefIdeal.nD Cert.AdamLargeRefIdeal.τ Cert.AdamLargeRefIdeal.sig) → Buf (Elt Ideal) ℓ) (g : Dev Cert.AdamLargeRefIdeal.nD → PrngReg), Pre_AdamLargeRefIdeal m →
    θ_run (Cert.AdamLargeRefIdeal.defs (F := Ideal)) (onTc (τ := Cert.AdamLargeRefIdeal.τ) (Cert.AdamLargeRefIdeal.main (F := Ideal))) ⟨m, fun _ => 0, g⟩ (fun r => (∀ c : Dev Cert.AdamLargeRefIdeal.nD,
      r.2.mem ((c.tc : Thread Cert.AdamLargeRefIdeal.nD Cert.AdamLargeRefIdeal.τ).loc Cert.AdamLargeRefIdeal.main_arg0) = m ((c.tc : Thread Cert.AdamLargeRefIdeal.nD Cert.AdamLargeRefIdeal.τ).loc Cert.AdamLargeRefIdeal.main_arg0)
      ∧ r.2.mem ((c.tc : Thread Cert.AdamLargeRefIdeal.nD Cert.AdamLargeRefIdeal.τ).loc Cert.AdamLargeRefIdeal.main_arg1) = m ((c.tc : Thread Cert.AdamLargeRefIdeal.nD Cert.AdamLargeRefIdeal.τ).loc Cert.AdamLargeRefIdeal.main_arg1)
      ∧ r.2.mem ((c.tc : Thread Cert.AdamLargeRefIdeal.nD Cert.AdamLargeRefIdeal.τ).loc Cert.AdamLargeRefIdeal.main_arg2) = m ((c.tc : Thread Cert.AdamLargeRefIdeal.nD Cert.AdamLargeRefIdeal.τ).loc Cert.AdamLargeRefIdeal.main_arg2)
      ∧ r.2.mem ((c.tc : Thread Cert.AdamLargeRefIdeal.nD Cert.AdamLargeRefIdeal.τ).loc Cert.AdamLargeRefIdeal.main_arg3) = m ((c.tc : Thread Cert.AdamLargeRefIdeal.nD Cert.AdamLargeRefIdeal.τ).loc Cert.AdamLargeRefIdeal.main_arg3)
      ∧ r.2.mem ((c.tc : Thread Cert.AdamLargeRefIdeal.nD Cert.AdamLargeRefIdeal.τ).loc Cert.AdamLargeRefIdeal.main_arg4) = m ((c.tc : Thread Cert.AdamLargeRefIdeal.nD Cert.AdamLargeRefIdeal.τ).loc Cert.AdamLargeRefIdeal.main_arg4)
      ∧ r.2.mem ((c.tc : Thread Cert.AdamLargeRefIdeal.nD Cert.AdamLargeRefIdeal.τ).loc Cert.AdamLargeRefIdeal.main_arg5) = m ((c.tc : Thread Cert.AdamLargeRefIdeal.nD Cert.AdamLargeRefIdeal.τ).loc Cert.AdamLargeRefIdeal.main_arg5)
      ∧ r.2.mem ((c.tc : Thread Cert.AdamLargeRefIdeal.nD Cert.AdamLargeRefIdeal.τ).loc Cert.AdamLargeRefIdeal.main_arg6) = m ((c.tc : Thread Cert.AdamLargeRefIdeal.nD Cert.AdamLargeRefIdeal.τ).loc Cert.AdamLargeRefIdeal.main_arg6))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AddPairs [hAddPairs : Cert.AddPairs.Facts] : Prop :=
  ∀ (m : (ℓ : Loc Cert.AddPairs.nD Cert.AddPairs.τ Cert.AddPairs.sig) → Buf (Elt Bits) ℓ) (g : Dev Cert.AddPairs.nD → PrngReg), Pre_AddPairs m →
    θ_run (Cert.AddPairs.defs (F := Bits)) (onTc (τ := Cert.AddPairs.τ) (Cert.AddPairs.main (F := Bits))) ⟨m, fun _ => 0, g⟩ (fun r => (∀ c : Dev Cert.AddPairs.nD,
      r.2.mem ((c.tc : Thread Cert.AddPairs.nD Cert.AddPairs.τ).loc Cert.AddPairs.main_arg0) = m ((c.tc : Thread Cert.AddPairs.nD Cert.AddPairs.τ).loc Cert.AddPairs.main_arg0)
      ∧ r.2.mem ((c.tc : Thread Cert.AddPairs.nD Cert.AddPairs.τ).loc Cert.AddPairs.main_arg1) = m ((c.tc : Thread Cert.AddPairs.nD Cert.AddPairs.τ).loc Cert.AddPairs.main_arg1))
      ∧ r.2.sem = fun _ => 0)

def quiescent_AddPairsIdeal [hAddPairsIdeal : Cert.AddPairsIdeal.Facts] : Prop :=
  ∀ (m : (ℓ : Loc Cert.AddPairsIdeal.nD Cert.AddPairsIdeal.τ Cert.AddPairsIdeal.sig) → Buf (Elt Ideal) ℓ) (g : Dev Cert.AddPairsIdeal.nD → PrngReg), Pre_AddPairsIdeal m →
    θ_run (Cert.AddPairsIdeal.defs (F := Ideal)) (onTc (τ := Cert.AddPairsIdeal.τ) (Cert.AddPairsIdeal.main (F := Ideal))) ⟨m, fun _ => 0, g⟩ (fun r => (∀ c : Dev Cert.AddPairsIdeal.nD,
      r.2.mem ((c.tc : Thread Cert.AddPairsIdeal.nD Cert.AddPairsIdeal.τ).loc Cert.AddPairsIdeal.main_arg0) = m ((c.tc : Thread Cert.AddPairsIdeal.nD Cert.AddPairsIdeal.τ).loc Cert.AddPairsIdeal.main_arg0)
      ∧ r.2.mem ((c.tc : Thread Cert.AddPairsIdeal.nD Cert.AddPairsIdeal.τ).loc Cert.AddPairsIdeal.main_arg1) = m ((c.tc : Thread Cert.AddPairsIdeal.nD Cert.AddPairsIdeal.τ).loc Cert.AddPairsIdeal.main_arg1))
      ∧ r.2.sem = fun _ => 0)

def quiescent_AddPairsRefIdeal [hAddPairsRefIdeal : Cert.AddPairsRefIdeal.Facts] : Prop :=
  ∀ (m : (ℓ : Loc Cert.AddPairsRefIdeal.nD Cert.AddPairsRefIdeal.τ Cert.AddPairsRefIdeal.sig) → Buf (Elt Ideal) ℓ) (g : Dev Cert.AddPairsRefIdeal.nD → PrngReg), Pre_AddPairsRefIdeal m →
    θ_run (Cert.AddPairsRefIdeal.defs (F := Ideal)) (onTc (τ := Cert.AddPairsRefIdeal.τ) (Cert.AddPairsRefIdeal.main (F := Ideal))) ⟨m, fun _ => 0, g⟩ (fun r => (∀ c : Dev Cert.AddPairsRefIdeal.nD,
      r.2.mem ((c.tc : Thread Cert.AddPairsRefIdeal.nD Cert.AddPairsRefIdeal.τ).loc Cert.AddPairsRefIdeal.main_arg0) = m ((c.tc : Thread Cert.AddPairsRefIdeal.nD Cert.AddPairsRefIdeal.τ).loc Cert.AddPairsRefIdeal.main_arg0)
      ∧ r.2.mem ((c.tc : Thread Cert.AddPairsRefIdeal.nD Cert.AddPairsRefIdeal.τ).loc Cert.AddPairsRefIdeal.main_arg1) = m ((c.tc : Thread Cert.AddPairsRefIdeal.nD Cert.AddPairsRefIdeal.τ).loc Cert.AddPairsRefIdeal.main_arg1))
      ∧ r.2.sem = fun _ => 0)

def quiescent_SumChips [hSumChips : Cert.SumChips.Facts] : Prop :=
  ∀ (m : (ℓ : Loc Cert.SumChips.nD Cert.SumChips.τ Cert.SumChips.sig) → Buf (Elt Bits) ℓ) (g : Dev Cert.SumChips.nD → PrngReg), Pre_SumChips m →
    θ_run (Cert.SumChips.defs (F := Bits)) (onTc (τ := Cert.SumChips.τ) (Cert.SumChips.main (F := Bits))) ⟨m, fun _ => 0, g⟩ (fun r => (∀ c : Dev Cert.SumChips.nD,
      r.2.mem ((c.tc : Thread Cert.SumChips.nD Cert.SumChips.τ).loc Cert.SumChips.main_arg0) = m ((c.tc : Thread Cert.SumChips.nD Cert.SumChips.τ).loc Cert.SumChips.main_arg0))
      ∧ r.2.sem = fun _ => 0)

def quiescent_SumChipsIdeal [hSumChipsIdeal : Cert.SumChipsIdeal.Facts] : Prop :=
  ∀ (m : (ℓ : Loc Cert.SumChipsIdeal.nD Cert.SumChipsIdeal.τ Cert.SumChipsIdeal.sig) → Buf (Elt Ideal) ℓ) (g : Dev Cert.SumChipsIdeal.nD → PrngReg), Pre_SumChipsIdeal m →
    θ_run (Cert.SumChipsIdeal.defs (F := Ideal)) (onTc (τ := Cert.SumChipsIdeal.τ) (Cert.SumChipsIdeal.main (F := Ideal))) ⟨m, fun _ => 0, g⟩ (fun r => (∀ c : Dev Cert.SumChipsIdeal.nD,
      r.2.mem ((c.tc : Thread Cert.SumChipsIdeal.nD Cert.SumChipsIdeal.τ).loc Cert.SumChipsIdeal.main_arg0) = m ((c.tc : Thread Cert.SumChipsIdeal.nD Cert.SumChipsIdeal.τ).loc Cert.SumChipsIdeal.main_arg0))
      ∧ r.2.sem = fun _ => 0)

def quiescent_SumChipsRefIdeal [hSumChipsRefIdeal : Cert.SumChipsRefIdeal.Facts] : Prop :=
  ∀ (m : (ℓ : Loc Cert.SumChipsRefIdeal.nD Cert.SumChipsRefIdeal.τ Cert.SumChipsRefIdeal.sig) → Buf (Elt Ideal) ℓ) (g : Dev Cert.SumChipsRefIdeal.nD → PrngReg), Pre_SumChipsRefIdeal m →
    θ_run (Cert.SumChipsRefIdeal.defs (F := Ideal)) (onTc (τ := Cert.SumChipsRefIdeal.τ) (Cert.SumChipsRefIdeal.main (F := Ideal))) ⟨m, fun _ => 0, g⟩ (fun r => (∀ c : Dev Cert.SumChipsRefIdeal.nD,
      r.2.mem ((c.tc : Thread Cert.SumChipsRefIdeal.nD Cert.SumChipsRefIdeal.τ).loc Cert.SumChipsRefIdeal.main_arg0) = m ((c.tc : Thread Cert.SumChipsRefIdeal.nD Cert.SumChipsRefIdeal.τ).loc Cert.SumChipsRefIdeal.main_arg0))
      ∧ r.2.sem = fun _ => 0)

def quiescent_CastPlace [hCastPlace : Cert.CastPlace.Facts] : Prop :=
  ∀ (m : (ℓ : Loc Cert.CastPlace.nD Cert.CastPlace.τ Cert.CastPlace.sig) → Buf (Elt Bits) ℓ) (g : Dev Cert.CastPlace.nD → PrngReg), Pre_CastPlace m →
    θ_run (Cert.CastPlace.defs (F := Bits)) (onTc (τ := Cert.CastPlace.τ) (Cert.CastPlace.main (F := Bits))) ⟨m, fun _ => 0, g⟩ (fun r => (∀ c : Dev Cert.CastPlace.nD,
      r.2.mem ((c.tc : Thread Cert.CastPlace.nD Cert.CastPlace.τ).loc Cert.CastPlace.main_arg0) = m ((c.tc : Thread Cert.CastPlace.nD Cert.CastPlace.τ).loc Cert.CastPlace.main_arg0))
      ∧ r.2.sem = fun _ => 0)

def quiescent_CastPlaceIdeal [hCastPlaceIdeal : Cert.CastPlaceIdeal.Facts] : Prop :=
  ∀ (m : (ℓ : Loc Cert.CastPlaceIdeal.nD Cert.CastPlaceIdeal.τ Cert.CastPlaceIdeal.sig) → Buf (Elt Ideal) ℓ) (g : Dev Cert.CastPlaceIdeal.nD → PrngReg), Pre_CastPlaceIdeal m →
    θ_run (Cert.CastPlaceIdeal.defs (F := Ideal)) (onTc (τ := Cert.CastPlaceIdeal.τ) (Cert.CastPlaceIdeal.main (F := Ideal))) ⟨m, fun _ => 0, g⟩ (fun r => (∀ c : Dev Cert.CastPlaceIdeal.nD,
      r.2.mem ((c.tc : Thread Cert.CastPlaceIdeal.nD Cert.CastPlaceIdeal.τ).loc Cert.CastPlaceIdeal.main_arg0) = m ((c.tc : Thread Cert.CastPlaceIdeal.nD Cert.CastPlaceIdeal.τ).loc Cert.CastPlaceIdeal.main_arg0))
      ∧ r.2.sem = fun _ => 0)

def quiescent_CastPlaceRefIdeal [hCastPlaceRefIdeal : Cert.CastPlaceRefIdeal.Facts] : Prop :=
  ∀ (m : (ℓ : Loc Cert.CastPlaceRefIdeal.nD Cert.CastPlaceRefIdeal.τ Cert.CastPlaceRefIdeal.sig) → Buf (Elt Ideal) ℓ) (g : Dev Cert.CastPlaceRefIdeal.nD → PrngReg), Pre_CastPlaceRefIdeal m →
    θ_run (Cert.CastPlaceRefIdeal.defs (F := Ideal)) (onTc (τ := Cert.CastPlaceRefIdeal.τ) (Cert.CastPlaceRefIdeal.main (F := Ideal))) ⟨m, fun _ => 0, g⟩ (fun r => (∀ c : Dev Cert.CastPlaceRefIdeal.nD,
      r.2.mem ((c.tc : Thread Cert.CastPlaceRefIdeal.nD Cert.CastPlaceRefIdeal.τ).loc Cert.CastPlaceRefIdeal.main_arg0) = m ((c.tc : Thread Cert.CastPlaceRefIdeal.nD Cert.CastPlaceRefIdeal.τ).loc Cert.CastPlaceRefIdeal.main_arg0))
      ∧ r.2.sem = fun _ => 0)

def preserves_ConvInput_ConvInputIdeal : Prop :=
  True

def algebraic_ConvInputIdeal_ConvInputRefIdeal [hConvInputIdeal : Cert.ConvInputIdeal.Facts] [hConvInputRefIdeal : Cert.ConvInputRefIdeal.Facts] : Prop :=
  ∀ (m : (ℓ : Loc Cert.ConvInputIdeal.nD Cert.ConvInputIdeal.τ Cert.ConvInputIdeal.sig) → Buf (Elt Ideal) ℓ) (g : Dev Cert.ConvInputIdeal.nD → PrngReg)
    (m' : (ℓ : Loc Cert.ConvInputRefIdeal.nD Cert.ConvInputRefIdeal.τ Cert.ConvInputRefIdeal.sig) → Buf (Elt Ideal) ℓ) (g' : Dev Cert.ConvInputRefIdeal.nD → PrngReg), Pre_ConvInputIdeal m →
    (∀ c : Dev Cert.ConvInputIdeal.nD,
      m' ((c.tc : Thread Cert.ConvInputRefIdeal.nD Cert.ConvInputRefIdeal.τ).loc Cert.ConvInputRefIdeal.main_arg0) = m ((c.tc : Thread Cert.ConvInputIdeal.nD Cert.ConvInputIdeal.τ).loc Cert.ConvInputIdeal.main_arg0)
      ∧ m' ((c.tc : Thread Cert.ConvInputRefIdeal.nD Cert.ConvInputRefIdeal.τ).loc Cert.ConvInputRefIdeal.main_arg1) = m ((c.tc : Thread Cert.ConvInputIdeal.nD Cert.ConvInputIdeal.τ).loc Cert.ConvInputIdeal.main_arg1)
      ∧ m' ((c.tc : Thread Cert.ConvInputRefIdeal.nD Cert.ConvInputRefIdeal.τ).loc Cert.ConvInputRefIdeal.main_arg2) = m ((c.tc : Thread Cert.ConvInputIdeal.nD Cert.ConvInputIdeal.τ).loc Cert.ConvInputIdeal.main_arg2)) →
    ∃ (v0 : (c : Dev Cert.ConvInputIdeal.nD) → Buf (Elt Ideal) ((c.tc : Thread Cert.ConvInputIdeal.nD Cert.ConvInputIdeal.τ).loc Cert.ConvInputIdeal.main_v0_0)) (v1 : (c : Dev Cert.ConvInputIdeal.nD) → Buf (Elt Ideal) ((c.tc : Thread Cert.ConvInputIdeal.nD Cert.ConvInputIdeal.τ).loc Cert.ConvInputIdeal.main_v0_1)),
      θ_run (Cert.ConvInputIdeal.defs (F := Ideal)) (onTc (τ := Cert.ConvInputIdeal.τ) (Cert.ConvInputIdeal.main (F := Ideal))) ⟨m, fun _ => 0, g⟩ (fun r => ∀ c : Dev Cert.ConvInputIdeal.nD,
          r.2.mem ((c.tc : Thread Cert.ConvInputIdeal.nD Cert.ConvInputIdeal.τ).loc Cert.ConvInputIdeal.main_v0_0) = v0 c
          ∧ r.2.mem ((c.tc : Thread Cert.ConvInputIdeal.nD Cert.ConvInputIdeal.τ).loc Cert.ConvInputIdeal.main_v0_1) = v1 c
          ∧ r.2.mem ((c.tc : Thread Cert.ConvInputIdeal.nD Cert.ConvInputIdeal.τ).loc Cert.ConvInputIdeal.main_arg0) = m ((c.tc : Thread Cert.ConvInputIdeal.nD Cert.ConvInputIdeal.τ).loc Cert.ConvInputIdeal.main_arg0)
          ∧ r.2.mem ((c.tc : Thread Cert.ConvInputIdeal.nD Cert.ConvInputIdeal.τ).loc Cert.ConvInputIdeal.main_arg1) = m ((c.tc : Thread Cert.ConvInputIdeal.nD Cert.ConvInputIdeal.τ).loc Cert.ConvInputIdeal.main_arg1)
          ∧ r.2.mem ((c.tc : Thread Cert.ConvInputIdeal.nD Cert.ConvInputIdeal.τ).loc Cert.ConvInputIdeal.main_arg2) = m ((c.tc : Thread Cert.ConvInputIdeal.nD Cert.ConvInputIdeal.τ).loc Cert.ConvInputIdeal.main_arg2))
      ∧ θ_run (Cert.ConvInputRefIdeal.defs (F := Ideal)) (onTc (τ := Cert.ConvInputRefIdeal.τ) (Cert.ConvInputRefIdeal.main (F := Ideal))) ⟨m', fun _ => 0, g'⟩ (fun r => ∀ c : Dev Cert.ConvInputRefIdeal.nD,
          r.2.mem ((c.tc : Thread Cert.ConvInputRefIdeal.nD Cert.ConvInputRefIdeal.τ).loc Cert.ConvInputRefIdeal.main_v49) = v0 c
          ∧ r.2.mem ((c.tc : Thread Cert.ConvInputRefIdeal.nD Cert.ConvInputRefIdeal.τ).loc Cert.ConvInputRefIdeal.main_v50) = v1 c
          ∧ r.2.mem ((c.tc : Thread Cert.ConvInputRefIdeal.nD Cert.ConvInputRefIdeal.τ).loc Cert.ConvInputRefIdeal.main_arg0) = m' ((c.tc : Thread Cert.ConvInputRefIdeal.nD Cert.ConvInputRefIdeal.τ).loc Cert.ConvInputRefIdeal.main_arg0)
          ∧ r.2.mem ((c.tc : Thread Cert.ConvInputRefIdeal.nD Cert.ConvInputRefIdeal.τ).loc Cert.ConvInputRefIdeal.main_arg1) = m' ((c.tc : Thread Cert.ConvInputRefIdeal.nD Cert.ConvInputRefIdeal.τ).loc Cert.ConvInputRefIdeal.main_arg1)
          ∧ r.2.mem ((c.tc : Thread Cert.ConvInputRefIdeal.nD Cert.ConvInputRefIdeal.τ).loc Cert.ConvInputRefIdeal.main_arg2) = m' ((c.tc : Thread Cert.ConvInputRefIdeal.nD Cert.ConvInputRefIdeal.τ).loc Cert.ConvInputRefIdeal.main_arg2))

def preserves_ScanGrad_ScanGradIdeal : Prop :=
  True

def algebraic_ScanGradIdeal_ScanGradRefIdeal_pre_finite_scan [hScanGradIdeal : Cert.ScanGradIdeal.Facts] [hScanGradRefIdeal : Cert.ScanGradRefIdeal.Facts] [hPre_finite_scan : Cert.Pre_finite_scan.Facts] : Prop :=
  ∀ (m : (ℓ : Loc Cert.ScanGradIdeal.nD Cert.ScanGradIdeal.τ Cert.ScanGradIdeal.sig) → Buf (Elt Ideal) ℓ) (g : Dev Cert.ScanGradIdeal.nD → PrngReg)
    (m' : (ℓ : Loc Cert.ScanGradRefIdeal.nD Cert.ScanGradRefIdeal.τ Cert.ScanGradRefIdeal.sig) → Buf (Elt Ideal) ℓ) (g' : Dev Cert.ScanGradRefIdeal.nD → PrngReg), Pre_ScanGradIdeal_finite_scan m →
    (∀ c : Dev Cert.ScanGradIdeal.nD,
      m' ((c.tc : Thread Cert.ScanGradRefIdeal.nD Cert.ScanGradRefIdeal.τ).loc Cert.ScanGradRefIdeal.main_arg0) = m ((c.tc : Thread Cert.ScanGradIdeal.nD Cert.ScanGradIdeal.τ).loc Cert.ScanGradIdeal.main_arg0)
      ∧ m' ((c.tc : Thread Cert.ScanGradRefIdeal.nD Cert.ScanGradRefIdeal.τ).loc Cert.ScanGradRefIdeal.main_arg1) = m ((c.tc : Thread Cert.ScanGradIdeal.nD Cert.ScanGradIdeal.τ).loc Cert.ScanGradIdeal.main_arg1)
      ∧ m' ((c.tc : Thread Cert.ScanGradRefIdeal.nD Cert.ScanGradRefIdeal.τ).loc Cert.ScanGradRefIdeal.main_arg2) = m ((c.tc : Thread Cert.ScanGradIdeal.nD Cert.ScanGradIdeal.τ).loc Cert.ScanGradIdeal.main_arg2)
      ∧ m' ((c.tc : Thread Cert.ScanGradRefIdeal.nD Cert.ScanGradRefIdeal.τ).loc Cert.ScanGradRefIdeal.main_arg3) = m ((c.tc : Thread Cert.ScanGradIdeal.nD Cert.ScanGradIdeal.τ).loc Cert.ScanGradIdeal.main_arg3)
      ∧ m' ((c.tc : Thread Cert.ScanGradRefIdeal.nD Cert.ScanGradRefIdeal.τ).loc Cert.ScanGradRefIdeal.main_arg4) = m ((c.tc : Thread Cert.ScanGradIdeal.nD Cert.ScanGradIdeal.τ).loc Cert.ScanGradIdeal.main_arg4)
      ∧ m' ((c.tc : Thread Cert.ScanGradRefIdeal.nD Cert.ScanGradRefIdeal.τ).loc Cert.ScanGradRefIdeal.main_arg5) = m ((c.tc : Thread Cert.ScanGradIdeal.nD Cert.ScanGradIdeal.τ).loc Cert.ScanGradIdeal.main_arg5)) →
    ∃ (v0 : (c : Dev Cert.ScanGradIdeal.nD) → Buf (Elt Ideal) ((c.tc : Thread Cert.ScanGradIdeal.nD Cert.ScanGradIdeal.τ).loc Cert.ScanGradIdeal.main_v2_0)) (v1 : (c : Dev Cert.ScanGradIdeal.nD) → Buf (Elt Ideal) ((c.tc : Thread Cert.ScanGradIdeal.nD Cert.ScanGradIdeal.τ).loc Cert.ScanGradIdeal.main_v2_1)) (v2 : (c : Dev Cert.ScanGradIdeal.nD) → Buf (Elt Ideal) ((c.tc : Thread Cert.ScanGradIdeal.nD Cert.ScanGradIdeal.τ).loc Cert.ScanGradIdeal.main_v2_2)) (v3 : (c : Dev Cert.ScanGradIdeal.nD) → Buf (Elt Ideal) ((c.tc : Thread Cert.ScanGradIdeal.nD Cert.ScanGradIdeal.τ).loc Cert.ScanGradIdeal.main_v2_3)) (v4 : (c : Dev Cert.ScanGradIdeal.nD) → Buf (Elt Ideal) ((c.tc : Thread Cert.ScanGradIdeal.nD Cert.ScanGradIdeal.τ).loc Cert.ScanGradIdeal.main_v0_0)) (v5 : (c : Dev Cert.ScanGradIdeal.nD) → Buf (Elt Ideal) ((c.tc : Thread Cert.ScanGradIdeal.nD Cert.ScanGradIdeal.τ).loc Cert.ScanGradIdeal.main_v0_1)),
      θ_run (Cert.ScanGradIdeal.defs (F := Ideal)) (onTc (τ := Cert.ScanGradIdeal.τ) (Cert.ScanGradIdeal.main (F := Ideal))) ⟨m, fun _ => 0, g⟩ (fun r => ∀ c : Dev Cert.ScanGradIdeal.nD,
          r.2.mem ((c.tc : Thread Cert.ScanGradIdeal.nD Cert.ScanGradIdeal.τ).loc Cert.ScanGradIdeal.main_v2_0) = v0 c
          ∧ r.2.mem ((c.tc : Thread Cert.ScanGradIdeal.nD Cert.ScanGradIdeal.τ).loc Cert.ScanGradIdeal.main_v2_1) = v1 c
          ∧ r.2.mem ((c.tc : Thread Cert.ScanGradIdeal.nD Cert.ScanGradIdeal.τ).loc Cert.ScanGradIdeal.main_v2_2) = v2 c
          ∧ r.2.mem ((c.tc : Thread Cert.ScanGradIdeal.nD Cert.ScanGradIdeal.τ).loc Cert.ScanGradIdeal.main_v2_3) = v3 c
          ∧ r.2.mem ((c.tc : Thread Cert.ScanGradIdeal.nD Cert.ScanGradIdeal.τ).loc Cert.ScanGradIdeal.main_v0_0) = v4 c
          ∧ r.2.mem ((c.tc : Thread Cert.ScanGradIdeal.nD Cert.ScanGradIdeal.τ).loc Cert.ScanGradIdeal.main_v0_1) = v5 c
          ∧ r.2.mem ((c.tc : Thread Cert.ScanGradIdeal.nD Cert.ScanGradIdeal.τ).loc Cert.ScanGradIdeal.main_arg0) = m ((c.tc : Thread Cert.ScanGradIdeal.nD Cert.ScanGradIdeal.τ).loc Cert.ScanGradIdeal.main_arg0)
          ∧ r.2.mem ((c.tc : Thread Cert.ScanGradIdeal.nD Cert.ScanGradIdeal.τ).loc Cert.ScanGradIdeal.main_arg1) = m ((c.tc : Thread Cert.ScanGradIdeal.nD Cert.ScanGradIdeal.τ).loc Cert.ScanGradIdeal.main_arg1)
          ∧ r.2.mem ((c.tc : Thread Cert.ScanGradIdeal.nD Cert.ScanGradIdeal.τ).loc Cert.ScanGradIdeal.main_arg2) = m ((c.tc : Thread Cert.ScanGradIdeal.nD Cert.ScanGradIdeal.τ).loc Cert.ScanGradIdeal.main_arg2)
          ∧ r.2.mem ((c.tc : Thread Cert.ScanGradIdeal.nD Cert.ScanGradIdeal.τ).loc Cert.ScanGradIdeal.main_arg3) = m ((c.tc : Thread Cert.ScanGradIdeal.nD Cert.ScanGradIdeal.τ).loc Cert.ScanGradIdeal.main_arg3)
          ∧ r.2.mem ((c.tc : Thread Cert.ScanGradIdeal.nD Cert.ScanGradIdeal.τ).loc Cert.ScanGradIdeal.main_arg4) = m ((c.tc : Thread Cert.ScanGradIdeal.nD Cert.ScanGradIdeal.τ).loc Cert.ScanGradIdeal.main_arg4)
          ∧ r.2.mem ((c.tc : Thread Cert.ScanGradIdeal.nD Cert.ScanGradIdeal.τ).loc Cert.ScanGradIdeal.main_arg5) = m ((c.tc : Thread Cert.ScanGradIdeal.nD Cert.ScanGradIdeal.τ).loc Cert.ScanGradIdeal.main_arg5))
      ∧ θ_run (Cert.ScanGradRefIdeal.defs (F := Ideal)) (onTc (τ := Cert.ScanGradRefIdeal.τ) (Cert.ScanGradRefIdeal.main (F := Ideal))) ⟨m', fun _ => 0, g'⟩ (fun r => ∀ c : Dev Cert.ScanGradRefIdeal.nD,
          r.2.mem ((c.tc : Thread Cert.ScanGradRefIdeal.nD Cert.ScanGradRefIdeal.τ).loc Cert.ScanGradRefIdeal.main_v20) = v0 c
          ∧ r.2.mem ((c.tc : Thread Cert.ScanGradRefIdeal.nD Cert.ScanGradRefIdeal.τ).loc Cert.ScanGradRefIdeal.main_v19) = v1 c
          ∧ r.2.mem ((c.tc : Thread Cert.ScanGradRefIdeal.nD Cert.ScanGradRefIdeal.τ).loc Cert.ScanGradRefIdeal.main_v18_7) = v2 c
          ∧ r.2.mem ((c.tc : Thread Cert.ScanGradRefIdeal.nD Cert.ScanGradRefIdeal.τ).loc Cert.ScanGradRefIdeal.main_v18_8) = v3 c
          ∧ r.2.mem ((c.tc : Thread Cert.ScanGradRefIdeal.nD Cert.ScanGradRefIdeal.τ).loc Cert.ScanGradRefIdeal.main_v21) = v4 c
          ∧ r.2.mem ((c.tc : Thread Cert.ScanGradRefIdeal.nD Cert.ScanGradRefIdeal.τ).loc Cert.ScanGradRefIdeal.main_v22) = v5 c
          ∧ r.2.mem ((c.tc : Thread Cert.ScanGradRefIdeal.nD Cert.ScanGradRefIdeal.τ).loc Cert.ScanGradRefIdeal.main_arg0) = m' ((c.tc : Thread Cert.ScanGradRefIdeal.nD Cert.ScanGradRefIdeal.τ).loc Cert.ScanGradRefIdeal.main_arg0)
          ∧ r.2.mem ((c.tc : Thread Cert.ScanGradRefIdeal.nD Cert.ScanGradRefIdeal.τ).loc Cert.ScanGradRefIdeal.main_arg1) = m' ((c.tc : Thread Cert.ScanGradRefIdeal.nD Cert.ScanGradRefIdeal.τ).loc Cert.ScanGradRefIdeal.main_arg1)
          ∧ r.2.mem ((c.tc : Thread Cert.ScanGradRefIdeal.nD Cert.ScanGradRefIdeal.τ).loc Cert.ScanGradRefIdeal.main_arg2) = m' ((c.tc : Thread Cert.ScanGradRefIdeal.nD Cert.ScanGradRefIdeal.τ).loc Cert.ScanGradRefIdeal.main_arg2)
          ∧ r.2.mem ((c.tc : Thread Cert.ScanGradRefIdeal.nD Cert.ScanGradRefIdeal.τ).loc Cert.ScanGradRefIdeal.main_arg3) = m' ((c.tc : Thread Cert.ScanGradRefIdeal.nD Cert.ScanGradRefIdeal.τ).loc Cert.ScanGradRefIdeal.main_arg3)
          ∧ r.2.mem ((c.tc : Thread Cert.ScanGradRefIdeal.nD Cert.ScanGradRefIdeal.τ).loc Cert.ScanGradRefIdeal.main_arg4) = m' ((c.tc : Thread Cert.ScanGradRefIdeal.nD Cert.ScanGradRefIdeal.τ).loc Cert.ScanGradRefIdeal.main_arg4)
          ∧ r.2.mem ((c.tc : Thread Cert.ScanGradRefIdeal.nD Cert.ScanGradRefIdeal.τ).loc Cert.ScanGradRefIdeal.main_arg5) = m' ((c.tc : Thread Cert.ScanGradRefIdeal.nD Cert.ScanGradRefIdeal.τ).loc Cert.ScanGradRefIdeal.main_arg5))

def preserves_ConvGate_ConvGateIdeal : Prop :=
  True

def algebraic_ConvGateIdeal_ConvGateRefIdeal_pre_finite_gate [hConvGateIdeal : Cert.ConvGateIdeal.Facts] [hConvGateRefIdeal : Cert.ConvGateRefIdeal.Facts] [hPre_finite_gate : Cert.Pre_finite_gate.Facts] : Prop :=
  ∀ (m : (ℓ : Loc Cert.ConvGateIdeal.nD Cert.ConvGateIdeal.τ Cert.ConvGateIdeal.sig) → Buf (Elt Ideal) ℓ) (g : Dev Cert.ConvGateIdeal.nD → PrngReg)
    (m' : (ℓ : Loc Cert.ConvGateRefIdeal.nD Cert.ConvGateRefIdeal.τ Cert.ConvGateRefIdeal.sig) → Buf (Elt Ideal) ℓ) (g' : Dev Cert.ConvGateRefIdeal.nD → PrngReg), Pre_ConvGateIdeal_finite_gate m →
    (∀ c : Dev Cert.ConvGateIdeal.nD,
      m' ((c.tc : Thread Cert.ConvGateRefIdeal.nD Cert.ConvGateRefIdeal.τ).loc Cert.ConvGateRefIdeal.main_arg0) = m ((c.tc : Thread Cert.ConvGateIdeal.nD Cert.ConvGateIdeal.τ).loc Cert.ConvGateIdeal.main_arg0)
      ∧ m' ((c.tc : Thread Cert.ConvGateRefIdeal.nD Cert.ConvGateRefIdeal.τ).loc Cert.ConvGateRefIdeal.main_arg1) = m ((c.tc : Thread Cert.ConvGateIdeal.nD Cert.ConvGateIdeal.τ).loc Cert.ConvGateIdeal.main_arg1)
      ∧ m' ((c.tc : Thread Cert.ConvGateRefIdeal.nD Cert.ConvGateRefIdeal.τ).loc Cert.ConvGateRefIdeal.main_arg2) = m ((c.tc : Thread Cert.ConvGateIdeal.nD Cert.ConvGateIdeal.τ).loc Cert.ConvGateIdeal.main_arg2)
      ∧ m' ((c.tc : Thread Cert.ConvGateRefIdeal.nD Cert.ConvGateRefIdeal.τ).loc Cert.ConvGateRefIdeal.main_arg3) = m ((c.tc : Thread Cert.ConvGateIdeal.nD Cert.ConvGateIdeal.τ).loc Cert.ConvGateIdeal.main_arg3)
      ∧ m' ((c.tc : Thread Cert.ConvGateRefIdeal.nD Cert.ConvGateRefIdeal.τ).loc Cert.ConvGateRefIdeal.main_arg4) = m ((c.tc : Thread Cert.ConvGateIdeal.nD Cert.ConvGateIdeal.τ).loc Cert.ConvGateIdeal.main_arg4)) →
    ∃ (v0 : (c : Dev Cert.ConvGateIdeal.nD) → Buf (Elt Ideal) ((c.tc : Thread Cert.ConvGateIdeal.nD Cert.ConvGateIdeal.τ).loc Cert.ConvGateIdeal.main_v2_0)) (v1 : (c : Dev Cert.ConvGateIdeal.nD) → Buf (Elt Ideal) ((c.tc : Thread Cert.ConvGateIdeal.nD Cert.ConvGateIdeal.τ).loc Cert.ConvGateIdeal.main_v2_1)) (v2 : (c : Dev Cert.ConvGateIdeal.nD) → Buf (Elt Ideal) ((c.tc : Thread Cert.ConvGateIdeal.nD Cert.ConvGateIdeal.τ).loc Cert.ConvGateIdeal.main_v2_2)) (v3 : (c : Dev Cert.ConvGateIdeal.nD) → Buf (Elt Ideal) ((c.tc : Thread Cert.ConvGateIdeal.nD Cert.ConvGateIdeal.τ).loc Cert.ConvGateIdeal.main_v2_3)) (v4 : (c : Dev Cert.ConvGateIdeal.nD) → Buf (Elt Ideal) ((c.tc : Thread Cert.ConvGateIdeal.nD Cert.ConvGateIdeal.τ).loc Cert.ConvGateIdeal.main_v2_4)) (v5 : (c : Dev Cert.ConvGateIdeal.nD) → Buf (Elt Ideal) ((c.tc : Thread Cert.ConvGateIdeal.nD Cert.ConvGateIdeal.τ).loc Cert.ConvGateIdeal.main_v2_5)) (v6 : (c : Dev Cert.ConvGateIdeal.nD) → Buf (Elt Ideal) ((c.tc : Thread Cert.ConvGateIdeal.nD Cert.ConvGateIdeal.τ).loc Cert.ConvGateIdeal.main_v2_6)),
      θ_run (Cert.ConvGateIdeal.defs (F := Ideal)) (onTc (τ := Cert.ConvGateIdeal.τ) (Cert.ConvGateIdeal.main (F := Ideal))) ⟨m, fun _ => 0, g⟩ (fun r => ∀ c : Dev Cert.ConvGateIdeal.nD,
          r.2.mem ((c.tc : Thread Cert.ConvGateIdeal.nD Cert.ConvGateIdeal.τ).loc Cert.ConvGateIdeal.main_v2_0) = v0 c
          ∧ r.2.mem ((c.tc : Thread Cert.ConvGateIdeal.nD Cert.ConvGateIdeal.τ).loc Cert.ConvGateIdeal.main_v2_1) = v1 c
          ∧ r.2.mem ((c.tc : Thread Cert.ConvGateIdeal.nD Cert.ConvGateIdeal.τ).loc Cert.ConvGateIdeal.main_v2_2) = v2 c
          ∧ r.2.mem ((c.tc : Thread Cert.ConvGateIdeal.nD Cert.ConvGateIdeal.τ).loc Cert.ConvGateIdeal.main_v2_3) = v3 c
          ∧ r.2.mem ((c.tc : Thread Cert.ConvGateIdeal.nD Cert.ConvGateIdeal.τ).loc Cert.ConvGateIdeal.main_v2_4) = v4 c
          ∧ r.2.mem ((c.tc : Thread Cert.ConvGateIdeal.nD Cert.ConvGateIdeal.τ).loc Cert.ConvGateIdeal.main_v2_5) = v5 c
          ∧ r.2.mem ((c.tc : Thread Cert.ConvGateIdeal.nD Cert.ConvGateIdeal.τ).loc Cert.ConvGateIdeal.main_v2_6) = v6 c
          ∧ r.2.mem ((c.tc : Thread Cert.ConvGateIdeal.nD Cert.ConvGateIdeal.τ).loc Cert.ConvGateIdeal.main_arg0) = m ((c.tc : Thread Cert.ConvGateIdeal.nD Cert.ConvGateIdeal.τ).loc Cert.ConvGateIdeal.main_arg0)
          ∧ r.2.mem ((c.tc : Thread Cert.ConvGateIdeal.nD Cert.ConvGateIdeal.τ).loc Cert.ConvGateIdeal.main_arg1) = m ((c.tc : Thread Cert.ConvGateIdeal.nD Cert.ConvGateIdeal.τ).loc Cert.ConvGateIdeal.main_arg1)
          ∧ r.2.mem ((c.tc : Thread Cert.ConvGateIdeal.nD Cert.ConvGateIdeal.τ).loc Cert.ConvGateIdeal.main_arg2) = m ((c.tc : Thread Cert.ConvGateIdeal.nD Cert.ConvGateIdeal.τ).loc Cert.ConvGateIdeal.main_arg2)
          ∧ r.2.mem ((c.tc : Thread Cert.ConvGateIdeal.nD Cert.ConvGateIdeal.τ).loc Cert.ConvGateIdeal.main_arg3) = m ((c.tc : Thread Cert.ConvGateIdeal.nD Cert.ConvGateIdeal.τ).loc Cert.ConvGateIdeal.main_arg3)
          ∧ r.2.mem ((c.tc : Thread Cert.ConvGateIdeal.nD Cert.ConvGateIdeal.τ).loc Cert.ConvGateIdeal.main_arg4) = m ((c.tc : Thread Cert.ConvGateIdeal.nD Cert.ConvGateIdeal.τ).loc Cert.ConvGateIdeal.main_arg4))
      ∧ θ_run (Cert.ConvGateRefIdeal.defs (F := Ideal)) (onTc (τ := Cert.ConvGateRefIdeal.τ) (Cert.ConvGateRefIdeal.main (F := Ideal))) ⟨m', fun _ => 0, g'⟩ (fun r => ∀ c : Dev Cert.ConvGateRefIdeal.nD,
          r.2.mem ((c.tc : Thread Cert.ConvGateRefIdeal.nD Cert.ConvGateRefIdeal.τ).loc Cert.ConvGateRefIdeal.main_v98) = v0 c
          ∧ r.2.mem ((c.tc : Thread Cert.ConvGateRefIdeal.nD Cert.ConvGateRefIdeal.τ).loc Cert.ConvGateRefIdeal.main_v72) = v1 c
          ∧ r.2.mem ((c.tc : Thread Cert.ConvGateRefIdeal.nD Cert.ConvGateRefIdeal.τ).loc Cert.ConvGateRefIdeal.main_v99) = v2 c
          ∧ r.2.mem ((c.tc : Thread Cert.ConvGateRefIdeal.nD Cert.ConvGateRefIdeal.τ).loc Cert.ConvGateRefIdeal.main_v100) = v3 c
          ∧ r.2.mem ((c.tc : Thread Cert.ConvGateRefIdeal.nD Cert.ConvGateRefIdeal.τ).loc Cert.ConvGateRefIdeal.main_v101) = v4 c
          ∧ r.2.mem ((c.tc : Thread Cert.ConvGateRefIdeal.nD Cert.ConvGateRefIdeal.τ).loc Cert.ConvGateRefIdeal.main_v102) = v5 c
          ∧ r.2.mem ((c.tc : Thread Cert.ConvGateRefIdeal.nD Cert.ConvGateRefIdeal.τ).loc Cert.ConvGateRefIdeal.main_v103) = v6 c
          ∧ r.2.mem ((c.tc : Thread Cert.ConvGateRefIdeal.nD Cert.ConvGateRefIdeal.τ).loc Cert.ConvGateRefIdeal.main_arg0) = m' ((c.tc : Thread Cert.ConvGateRefIdeal.nD Cert.ConvGateRefIdeal.τ).loc Cert.ConvGateRefIdeal.main_arg0)
          ∧ r.2.mem ((c.tc : Thread Cert.ConvGateRefIdeal.nD Cert.ConvGateRefIdeal.τ).loc Cert.ConvGateRefIdeal.main_arg1) = m' ((c.tc : Thread Cert.ConvGateRefIdeal.nD Cert.ConvGateRefIdeal.τ).loc Cert.ConvGateRefIdeal.main_arg1)
          ∧ r.2.mem ((c.tc : Thread Cert.ConvGateRefIdeal.nD Cert.ConvGateRefIdeal.τ).loc Cert.ConvGateRefIdeal.main_arg2) = m' ((c.tc : Thread Cert.ConvGateRefIdeal.nD Cert.ConvGateRefIdeal.τ).loc Cert.ConvGateRefIdeal.main_arg2)
          ∧ r.2.mem ((c.tc : Thread Cert.ConvGateRefIdeal.nD Cert.ConvGateRefIdeal.τ).loc Cert.ConvGateRefIdeal.main_arg3) = m' ((c.tc : Thread Cert.ConvGateRefIdeal.nD Cert.ConvGateRefIdeal.τ).loc Cert.ConvGateRefIdeal.main_arg3)
          ∧ r.2.mem ((c.tc : Thread Cert.ConvGateRefIdeal.nD Cert.ConvGateRefIdeal.τ).loc Cert.ConvGateRefIdeal.main_arg4) = m' ((c.tc : Thread Cert.ConvGateRefIdeal.nD Cert.ConvGateRefIdeal.τ).loc Cert.ConvGateRefIdeal.main_arg4))

def preserves_GluGate_GluGateIdeal : Prop :=
  True

def algebraic_GluGateIdeal_GluGateRefIdeal_pre_finite_glu [hGluGateIdeal : Cert.GluGateIdeal.Facts] [hGluGateRefIdeal : Cert.GluGateRefIdeal.Facts] [hPre_finite_glu : Cert.Pre_finite_glu.Facts] : Prop :=
  ∀ (m : (ℓ : Loc Cert.GluGateIdeal.nD Cert.GluGateIdeal.τ Cert.GluGateIdeal.sig) → Buf (Elt Ideal) ℓ) (g : Dev Cert.GluGateIdeal.nD → PrngReg)
    (m' : (ℓ : Loc Cert.GluGateRefIdeal.nD Cert.GluGateRefIdeal.τ Cert.GluGateRefIdeal.sig) → Buf (Elt Ideal) ℓ) (g' : Dev Cert.GluGateRefIdeal.nD → PrngReg), Pre_GluGateIdeal_finite_glu m →
    (∀ c : Dev Cert.GluGateIdeal.nD,
      m' ((c.tc : Thread Cert.GluGateRefIdeal.nD Cert.GluGateRefIdeal.τ).loc Cert.GluGateRefIdeal.main_arg0) = m ((c.tc : Thread Cert.GluGateIdeal.nD Cert.GluGateIdeal.τ).loc Cert.GluGateIdeal.main_arg0)
      ∧ m' ((c.tc : Thread Cert.GluGateRefIdeal.nD Cert.GluGateRefIdeal.τ).loc Cert.GluGateRefIdeal.main_arg1) = m ((c.tc : Thread Cert.GluGateIdeal.nD Cert.GluGateIdeal.τ).loc Cert.GluGateIdeal.main_arg1)
      ∧ m' ((c.tc : Thread Cert.GluGateRefIdeal.nD Cert.GluGateRefIdeal.τ).loc Cert.GluGateRefIdeal.main_arg2) = m ((c.tc : Thread Cert.GluGateIdeal.nD Cert.GluGateIdeal.τ).loc Cert.GluGateIdeal.main_arg2)
      ∧ m' ((c.tc : Thread Cert.GluGateRefIdeal.nD Cert.GluGateRefIdeal.τ).loc Cert.GluGateRefIdeal.main_arg3) = m ((c.tc : Thread Cert.GluGateIdeal.nD Cert.GluGateIdeal.τ).loc Cert.GluGateIdeal.main_arg3)) →
    ∃ (v0 : (c : Dev Cert.GluGateIdeal.nD) → Buf (Elt Ideal) ((c.tc : Thread Cert.GluGateIdeal.nD Cert.GluGateIdeal.τ).loc Cert.GluGateIdeal.main_v1_0)) (v1 : (c : Dev Cert.GluGateIdeal.nD) → Buf (Elt Ideal) ((c.tc : Thread Cert.GluGateIdeal.nD Cert.GluGateIdeal.τ).loc Cert.GluGateIdeal.main_v1_1)) (v2 : (c : Dev Cert.GluGateIdeal.nD) → Buf (Elt Ideal) ((c.tc : Thread Cert.GluGateIdeal.nD Cert.GluGateIdeal.τ).loc Cert.GluGateIdeal.main_v1_2)),
      θ_run (Cert.GluGateIdeal.defs (F := Ideal)) (onTc (τ := Cert.GluGateIdeal.τ) (Cert.GluGateIdeal.main (F := Ideal))) ⟨m, fun _ => 0, g⟩ (fun r => ∀ c : Dev Cert.GluGateIdeal.nD,
          r.2.mem ((c.tc : Thread Cert.GluGateIdeal.nD Cert.GluGateIdeal.τ).loc Cert.GluGateIdeal.main_v1_0) = v0 c
          ∧ r.2.mem ((c.tc : Thread Cert.GluGateIdeal.nD Cert.GluGateIdeal.τ).loc Cert.GluGateIdeal.main_v1_1) = v1 c
          ∧ r.2.mem ((c.tc : Thread Cert.GluGateIdeal.nD Cert.GluGateIdeal.τ).loc Cert.GluGateIdeal.main_v1_2) = v2 c
          ∧ r.2.mem ((c.tc : Thread Cert.GluGateIdeal.nD Cert.GluGateIdeal.τ).loc Cert.GluGateIdeal.main_arg0) = m ((c.tc : Thread Cert.GluGateIdeal.nD Cert.GluGateIdeal.τ).loc Cert.GluGateIdeal.main_arg0)
          ∧ r.2.mem ((c.tc : Thread Cert.GluGateIdeal.nD Cert.GluGateIdeal.τ).loc Cert.GluGateIdeal.main_arg1) = m ((c.tc : Thread Cert.GluGateIdeal.nD Cert.GluGateIdeal.τ).loc Cert.GluGateIdeal.main_arg1)
          ∧ r.2.mem ((c.tc : Thread Cert.GluGateIdeal.nD Cert.GluGateIdeal.τ).loc Cert.GluGateIdeal.main_arg2) = m ((c.tc : Thread Cert.GluGateIdeal.nD Cert.GluGateIdeal.τ).loc Cert.GluGateIdeal.main_arg2)
          ∧ r.2.mem ((c.tc : Thread Cert.GluGateIdeal.nD Cert.GluGateIdeal.τ).loc Cert.GluGateIdeal.main_arg3) = m ((c.tc : Thread Cert.GluGateIdeal.nD Cert.GluGateIdeal.τ).loc Cert.GluGateIdeal.main_arg3))
      ∧ θ_run (Cert.GluGateRefIdeal.defs (F := Ideal)) (onTc (τ := Cert.GluGateRefIdeal.τ) (Cert.GluGateRefIdeal.main (F := Ideal))) ⟨m', fun _ => 0, g'⟩ (fun r => ∀ c : Dev Cert.GluGateRefIdeal.nD,
          r.2.mem ((c.tc : Thread Cert.GluGateRefIdeal.nD Cert.GluGateRefIdeal.τ).loc Cert.GluGateRefIdeal.main_v50) = v0 c
          ∧ r.2.mem ((c.tc : Thread Cert.GluGateRefIdeal.nD Cert.GluGateRefIdeal.τ).loc Cert.GluGateRefIdeal.main_v48) = v1 c
          ∧ r.2.mem ((c.tc : Thread Cert.GluGateRefIdeal.nD Cert.GluGateRefIdeal.τ).loc Cert.GluGateRefIdeal.main_v51) = v2 c
          ∧ r.2.mem ((c.tc : Thread Cert.GluGateRefIdeal.nD Cert.GluGateRefIdeal.τ).loc Cert.GluGateRefIdeal.main_arg0) = m' ((c.tc : Thread Cert.GluGateRefIdeal.nD Cert.GluGateRefIdeal.τ).loc Cert.GluGateRefIdeal.main_arg0)
          ∧ r.2.mem ((c.tc : Thread Cert.GluGateRefIdeal.nD Cert.GluGateRefIdeal.τ).loc Cert.GluGateRefIdeal.main_arg1) = m' ((c.tc : Thread Cert.GluGateRefIdeal.nD Cert.GluGateRefIdeal.τ).loc Cert.GluGateRefIdeal.main_arg1)
          ∧ r.2.mem ((c.tc : Thread Cert.GluGateRefIdeal.nD Cert.GluGateRefIdeal.τ).loc Cert.GluGateRefIdeal.main_arg2) = m' ((c.tc : Thread Cert.GluGateRefIdeal.nD Cert.GluGateRefIdeal.τ).loc Cert.GluGateRefIdeal.main_arg2)
          ∧ r.2.mem ((c.tc : Thread Cert.GluGateRefIdeal.nD Cert.GluGateRefIdeal.τ).loc Cert.GluGateRefIdeal.main_arg3) = m' ((c.tc : Thread Cert.GluGateRefIdeal.nD Cert.GluGateRefIdeal.τ).loc Cert.GluGateRefIdeal.main_arg3))

def preserves_NormGrad_NormGradIdeal : Prop :=
  True

def algebraic_NormGradIdeal_NormGradRefIdeal_pre_finite_ln [hNormGradIdeal : Cert.NormGradIdeal.Facts] [hNormGradRefIdeal : Cert.NormGradRefIdeal.Facts] [hPre_finite_ln : Cert.Pre_finite_ln.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradRefIdeal.nD Cert.NormGradRefIdeal.τ Cert.NormGradRefIdeal.sig) → Buf (Elt Ideal) ℓ) (g' : Dev Cert.NormGradRefIdeal.nD → PrngReg), Pre_NormGradIdeal_finite_ln m →
    (∀ c : Dev Cert.NormGradIdeal.nD,
      m' ((c.tc : Thread Cert.NormGradRefIdeal.nD Cert.NormGradRefIdeal.τ).loc Cert.NormGradRefIdeal.main_arg0) = m ((c.tc : Thread Cert.NormGradIdeal.nD Cert.NormGradIdeal.τ).loc Cert.NormGradIdeal.main_arg0)
      ∧ m' ((c.tc : Thread Cert.NormGradRefIdeal.nD Cert.NormGradRefIdeal.τ).loc Cert.NormGradRefIdeal.main_arg1) = m ((c.tc : Thread Cert.NormGradIdeal.nD Cert.NormGradIdeal.τ).loc Cert.NormGradIdeal.main_arg1)
      ∧ m' ((c.tc : Thread Cert.NormGradRefIdeal.nD Cert.NormGradRefIdeal.τ).loc Cert.NormGradRefIdeal.main_arg2) = m ((c.tc : Thread Cert.NormGradIdeal.nD Cert.NormGradIdeal.τ).loc Cert.NormGradIdeal.main_arg2)
      ∧ m' ((c.tc : Thread Cert.NormGradRefIdeal.nD Cert.NormGradRefIdeal.τ).loc Cert.NormGradRefIdeal.main_arg3) = m ((c.tc : Thread Cert.NormGradIdeal.nD Cert.NormGradIdeal.τ).loc Cert.NormGradIdeal.main_arg3)
      ∧ m' ((c.tc : Thread Cert.NormGradRefIdeal.nD Cert.NormGradRefIdeal.τ).loc Cert.NormGradRefIdeal.main_arg4) = m ((c.tc : Thread Cert.NormGradIdeal.nD Cert.NormGradIdeal.τ).loc Cert.NormGradIdeal.main_arg4)) →
    ∃ (v0 : (c : Dev Cert.NormGradIdeal.nD) → Buf (Elt Ideal) ((c.tc : Thread Cert.NormGradIdeal.nD Cert.NormGradIdeal.τ).loc Cert.NormGradIdeal.main_v27_0)) (v1 : (c : Dev Cert.NormGradIdeal.nD) → Buf (Elt Ideal) ((c.tc : Thread Cert.NormGradIdeal.nD Cert.NormGradIdeal.τ).loc Cert.NormGradIdeal.main_v27_1)) (v2 : (c : Dev Cert.NormGradIdeal.nD) → Buf (Elt Ideal) ((c.tc : Thread Cert.NormGradIdeal.nD Cert.NormGradIdeal.τ).loc Cert.NormGradIdeal.main_v27_2)) (v3 : (c : Dev Cert.NormGradIdeal.nD) → Buf (Elt Ideal) ((c.tc : Thread Cert.NormGradIdeal.nD Cert.NormGradIdeal.τ).loc Cert.NormGradIdeal.main_v27_3)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v27_0) = v0 c
          ∧ r.2.mem ((c.tc : Thread Cert.NormGradIdeal.nD Cert.NormGradIdeal.τ).loc Cert.NormGradIdeal.main_v27_1) = v1 c
          ∧ r.2.mem ((c.tc : Thread Cert.NormGradIdeal.nD Cert.NormGradIdeal.τ).loc Cert.NormGradIdeal.main_v27_2) = v2 c
          ∧ r.2.mem ((c.tc : Thread Cert.NormGradIdeal.nD Cert.NormGradIdeal.τ).loc Cert.NormGradIdeal.main_v27_3) = v3 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ θ_run (Cert.NormGradRefIdeal.defs (F := Ideal)) (onTc (τ := Cert.NormGradRefIdeal.τ) (Cert.NormGradRefIdeal.main (F := Ideal))) ⟨m', fun _ => 0, g'⟩ (fun r => ∀ c : Dev Cert.NormGradRefIdeal.nD,
          r.2.mem ((c.tc : Thread Cert.NormGradRefIdeal.nD Cert.NormGradRefIdeal.τ).loc Cert.NormGradRefIdeal.main_v59) = v0 c
          ∧ r.2.mem ((c.tc : Thread Cert.NormGradRefIdeal.nD Cert.NormGradRefIdeal.τ).loc Cert.NormGradRefIdeal.main_v62) = v1 c
          ∧ r.2.mem ((c.tc : Thread Cert.NormGradRefIdeal.nD Cert.NormGradRefIdeal.τ).loc Cert.NormGradRefIdeal.main_v63) = v2 c
          ∧ r.2.mem ((c.tc : Thread Cert.NormGradRefIdeal.nD Cert.NormGradRefIdeal.τ).loc Cert.NormGradRefIdeal.main_v64) = v3 c
          ∧ r.2.mem ((c.tc : Thread Cert.NormGradRefIdeal.nD Cert.NormGradRefIdeal.τ).loc Cert.NormGradRefIdeal.main_arg0) = m' ((c.tc : Thread Cert.NormGradRefIdeal.nD Cert.NormGradRefIdeal.τ).loc Cert.NormGradRefIdeal.main_arg0)
          ∧ r.2.mem ((c.tc : Thread Cert.NormGradRefIdeal.nD Cert.NormGradRefIdeal.τ).loc Cert.NormGradRefIdeal.main_arg1) = m' ((c.tc : Thread Cert.NormGradRefIdeal.nD Cert.NormGradRefIdeal.τ).loc Cert.NormGradRefIdeal.main_arg1)
          ∧ r.2.mem ((c.tc : Thread Cert.NormGradRefIdeal.nD Cert.NormGradRefIdeal.τ).loc Cert.NormGradRefIdeal.main_arg2) = m' ((c.tc : Thread Cert.NormGradRefIdeal.nD Cert.NormGradRefIdeal.τ).loc Cert.NormGradRefIdeal.main_arg2)
          ∧ r.2.mem ((c.tc : Thread Cert.NormGradRefIdeal.nD Cert.NormGradRefIdeal.τ).loc Cert.NormGradRefIdeal.main_arg3) = m' ((c.tc : Thread Cert.NormGradRefIdeal.nD Cert.NormGradRefIdeal.τ).loc Cert.NormGradRefIdeal.main_arg3)
          ∧ r.2.mem ((c.tc : Thread Cert.NormGradRefIdeal.nD Cert.NormGradRefIdeal.τ).loc Cert.NormGradRefIdeal.main_arg4) = m' ((c.tc : Thread Cert.NormGradRefIdeal.nD Cert.NormGradRefIdeal.τ).loc Cert.NormGradRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v8) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_SwigluGrad_SwigluGradIdeal : Prop :=
  True

def algebraic_SwigluGradIdeal_SwigluGradRefIdeal_pre_finite_dact [hSwigluGradIdeal : Cert.SwigluGradIdeal.Facts] [hSwigluGradRefIdeal : Cert.SwigluGradRefIdeal.Facts] [hPre_finite_dact : Cert.Pre_finite_dact.Facts] : Prop :=
  ∀ (m : (ℓ : Loc Cert.SwigluGradIdeal.nD Cert.SwigluGradIdeal.τ Cert.SwigluGradIdeal.sig) → Buf (Elt Ideal) ℓ) (g : Dev Cert.SwigluGradIdeal.nD → PrngReg)
    (m' : (ℓ : Loc Cert.SwigluGradRefIdeal.nD Cert.SwigluGradRefIdeal.τ Cert.SwigluGradRefIdeal.sig) → Buf (Elt Ideal) ℓ) (g' : Dev Cert.SwigluGradRefIdeal.nD → PrngReg), Pre_SwigluGradIdeal_finite_dact m →
    (∀ c : Dev Cert.SwigluGradIdeal.nD,
      m' ((c.tc : Thread Cert.SwigluGradRefIdeal.nD Cert.SwigluGradRefIdeal.τ).loc Cert.SwigluGradRefIdeal.main_arg0) = m ((c.tc : Thread Cert.SwigluGradIdeal.nD Cert.SwigluGradIdeal.τ).loc Cert.SwigluGradIdeal.main_arg0)
      ∧ m' ((c.tc : Thread Cert.SwigluGradRefIdeal.nD Cert.SwigluGradRefIdeal.τ).loc Cert.SwigluGradRefIdeal.main_arg1) = m ((c.tc : Thread Cert.SwigluGradIdeal.nD Cert.SwigluGradIdeal.τ).loc Cert.SwigluGradIdeal.main_arg1)
      ∧ m' ((c.tc : Thread Cert.SwigluGradRefIdeal.nD Cert.SwigluGradRefIdeal.τ).loc Cert.SwigluGradRefIdeal.main_arg2) = m ((c.tc : Thread Cert.SwigluGradIdeal.nD Cert.SwigluGradIdeal.τ).loc Cert.SwigluGradIdeal.main_arg2)
      ∧ m' ((c.tc : Thread Cert.SwigluGradRefIdeal.nD Cert.SwigluGradRefIdeal.τ).loc Cert.SwigluGradRefIdeal.main_arg3) = m ((c.tc : Thread Cert.SwigluGradIdeal.nD Cert.SwigluGradIdeal.τ).loc Cert.SwigluGradIdeal.main_arg3)) →
    ∃ (v0 : (c : Dev Cert.SwigluGradIdeal.nD) → Buf (Elt Ideal) ((c.tc : Thread Cert.SwigluGradIdeal.nD Cert.SwigluGradIdeal.τ).loc Cert.SwigluGradIdeal.main_v3_0)) (v1 : (c : Dev Cert.SwigluGradIdeal.nD) → Buf (Elt Ideal) ((c.tc : Thread Cert.SwigluGradIdeal.nD Cert.SwigluGradIdeal.τ).loc Cert.SwigluGradIdeal.main_v3_1)),
      θ_run (Cert.SwigluGradIdeal.defs (F := Ideal)) (onTc (τ := Cert.SwigluGradIdeal.τ) (Cert.SwigluGradIdeal.main (F := Ideal))) ⟨m, fun _ => 0, g⟩ (fun r => ∀ c : Dev Cert.SwigluGradIdeal.nD,
          r.2.mem ((c.tc : Thread Cert.SwigluGradIdeal.nD Cert.SwigluGradIdeal.τ).loc Cert.SwigluGradIdeal.main_v3_0) = v0 c
          ∧ r.2.mem ((c.tc : Thread Cert.SwigluGradIdeal.nD Cert.SwigluGradIdeal.τ).loc Cert.SwigluGradIdeal.main_v3_1) = v1 c
          ∧ r.2.mem ((c.tc : Thread Cert.SwigluGradIdeal.nD Cert.SwigluGradIdeal.τ).loc Cert.SwigluGradIdeal.main_arg0) = m ((c.tc : Thread Cert.SwigluGradIdeal.nD Cert.SwigluGradIdeal.τ).loc Cert.SwigluGradIdeal.main_arg0)
          ∧ r.2.mem ((c.tc : Thread Cert.SwigluGradIdeal.nD Cert.SwigluGradIdeal.τ).loc Cert.SwigluGradIdeal.main_arg1) = m ((c.tc : Thread Cert.SwigluGradIdeal.nD Cert.SwigluGradIdeal.τ).loc Cert.SwigluGradIdeal.main_arg1)
          ∧ r.2.mem ((c.tc : Thread Cert.SwigluGradIdeal.nD Cert.SwigluGradIdeal.τ).loc Cert.SwigluGradIdeal.main_arg2) = m ((c.tc : Thread Cert.SwigluGradIdeal.nD Cert.SwigluGradIdeal.τ).loc Cert.SwigluGradIdeal.main_arg2)
          ∧ r.2.mem ((c.tc : Thread Cert.SwigluGradIdeal.nD Cert.SwigluGradIdeal.τ).loc Cert.SwigluGradIdeal.main_arg3) = m ((c.tc : Thread Cert.SwigluGradIdeal.nD Cert.SwigluGradIdeal.τ).loc Cert.SwigluGradIdeal.main_arg3))
      ∧ θ_run (Cert.SwigluGradRefIdeal.defs (F := Ideal)) (onTc (τ := Cert.SwigluGradRefIdeal.τ) (Cert.SwigluGradRefIdeal.main (F := Ideal))) ⟨m', fun _ => 0, g'⟩ (fun r => ∀ c : Dev Cert.SwigluGradRefIdeal.nD,
          r.2.mem ((c.tc : Thread Cert.SwigluGradRefIdeal.nD Cert.SwigluGradRefIdeal.τ).loc Cert.SwigluGradRefIdeal.main_v7) = v0 c
          ∧ r.2.mem ((c.tc : Thread Cert.SwigluGradRefIdeal.nD Cert.SwigluGradRefIdeal.τ).loc Cert.SwigluGradRefIdeal.main_v8) = v1 c
          ∧ r.2.mem ((c.tc : Thread Cert.SwigluGradRefIdeal.nD Cert.SwigluGradRefIdeal.τ).loc Cert.SwigluGradRefIdeal.main_arg0) = m' ((c.tc : Thread Cert.SwigluGradRefIdeal.nD Cert.SwigluGradRefIdeal.τ).loc Cert.SwigluGradRefIdeal.main_arg0)
          ∧ r.2.mem ((c.tc : Thread Cert.SwigluGradRefIdeal.nD Cert.SwigluGradRefIdeal.τ).loc Cert.SwigluGradRefIdeal.main_arg1) = m' ((c.tc : Thread Cert.SwigluGradRefIdeal.nD Cert.SwigluGradRefIdeal.τ).loc Cert.SwigluGradRefIdeal.main_arg1)
          ∧ r.2.mem ((c.tc : Thread Cert.SwigluGradRefIdeal.nD Cert.SwigluGradRefIdeal.τ).loc Cert.SwigluGradRefIdeal.main_arg2) = m' ((c.tc : Thread Cert.SwigluGradRefIdeal.nD Cert.SwigluGradRefIdeal.τ).loc Cert.SwigluGradRefIdeal.main_arg2)
          ∧ r.2.mem ((c.tc : Thread Cert.SwigluGradRefIdeal.nD Cert.SwigluGradRefIdeal.τ).loc Cert.SwigluGradRefIdeal.main_arg3) = m' ((c.tc : Thread Cert.SwigluGradRefIdeal.nD Cert.SwigluGradRefIdeal.τ).loc Cert.SwigluGradRefIdeal.main_arg3))

def preserves_GeluGrad_GeluGradIdeal : Prop :=
  IdealRules.named_const.Statement Cert.GeluGradIdeal.κ "gelu_c" .f32 0x3D372713#32 ((8943 / 200000 : ℝ) : EReal)
  ∧ IdealRules.named_const.Statement Cert.GeluGradIdeal.κ "gelu_3c" .f32 0x3E095D4F#32 ((26829 / 200000 : ℝ) : EReal)

def algebraic_GeluGradIdeal_GeluGradRefIdeal_pre_finite_dys [hGeluGradIdeal : Cert.GeluGradIdeal.Facts] [hGeluGradRefIdeal : Cert.GeluGradRefIdeal.Facts] [hPre_finite_dys : Cert.Pre_finite_dys.Facts] : Prop :=
  ∀ (m : (ℓ : Loc Cert.GeluGradIdeal.nD Cert.GeluGradIdeal.τ Cert.GeluGradIdeal.sig) → Buf (Elt Ideal) ℓ) (g : Dev Cert.GeluGradIdeal.nD → PrngReg)
    (m' : (ℓ : Loc Cert.GeluGradRefIdeal.nD Cert.GeluGradRefIdeal.τ Cert.GeluGradRefIdeal.sig) → Buf (Elt Ideal) ℓ) (g' : Dev Cert.GeluGradRefIdeal.nD → PrngReg), Pre_GeluGradIdeal_finite_dys m →
    (∀ c : Dev Cert.GeluGradIdeal.nD,
      m' ((c.tc : Thread Cert.GeluGradRefIdeal.nD Cert.GeluGradRefIdeal.τ).loc Cert.GeluGradRefIdeal.main_arg0) = m ((c.tc : Thread Cert.GeluGradIdeal.nD Cert.GeluGradIdeal.τ).loc Cert.GeluGradIdeal.main_arg0)
      ∧ m' ((c.tc : Thread Cert.GeluGradRefIdeal.nD Cert.GeluGradRefIdeal.τ).loc Cert.GeluGradRefIdeal.main_arg1) = m ((c.tc : Thread Cert.GeluGradIdeal.nD Cert.GeluGradIdeal.τ).loc Cert.GeluGradIdeal.main_arg1)
      ∧ m' ((c.tc : Thread Cert.GeluGradRefIdeal.nD Cert.GeluGradRefIdeal.τ).loc Cert.GeluGradRefIdeal.main_arg2) = m ((c.tc : Thread Cert.GeluGradIdeal.nD Cert.GeluGradIdeal.τ).loc Cert.GeluGradIdeal.main_arg2)
      ∧ m' ((c.tc : Thread Cert.GeluGradRefIdeal.nD Cert.GeluGradRefIdeal.τ).loc Cert.GeluGradRefIdeal.main_arg3) = m ((c.tc : Thread Cert.GeluGradIdeal.nD Cert.GeluGradIdeal.τ).loc Cert.GeluGradIdeal.main_arg3)) →
    ∃ (v0 : (c : Dev Cert.GeluGradIdeal.nD) → Buf (Elt Ideal) ((c.tc : Thread Cert.GeluGradIdeal.nD Cert.GeluGradIdeal.τ).loc Cert.GeluGradIdeal.main_v3)),
      θ_run (Cert.GeluGradIdeal.defs (F := Ideal)) (onTc (τ := Cert.GeluGradIdeal.τ) (Cert.GeluGradIdeal.main (F := Ideal))) ⟨m, fun _ => 0, g⟩ (fun r => ∀ c : Dev Cert.GeluGradIdeal.nD,
          r.2.mem ((c.tc : Thread Cert.GeluGradIdeal.nD Cert.GeluGradIdeal.τ).loc Cert.GeluGradIdeal.main_v3) = v0 c
          ∧ r.2.mem ((c.tc : Thread Cert.GeluGradIdeal.nD Cert.GeluGradIdeal.τ).loc Cert.GeluGradIdeal.main_arg0) = m ((c.tc : Thread Cert.GeluGradIdeal.nD Cert.GeluGradIdeal.τ).loc Cert.GeluGradIdeal.main_arg0)
          ∧ r.2.mem ((c.tc : Thread Cert.GeluGradIdeal.nD Cert.GeluGradIdeal.τ).loc Cert.GeluGradIdeal.main_arg1) = m ((c.tc : Thread Cert.GeluGradIdeal.nD Cert.GeluGradIdeal.τ).loc Cert.GeluGradIdeal.main_arg1)
          ∧ r.2.mem ((c.tc : Thread Cert.GeluGradIdeal.nD Cert.GeluGradIdeal.τ).loc Cert.GeluGradIdeal.main_arg2) = m ((c.tc : Thread Cert.GeluGradIdeal.nD Cert.GeluGradIdeal.τ).loc Cert.GeluGradIdeal.main_arg2)
          ∧ r.2.mem ((c.tc : Thread Cert.GeluGradIdeal.nD Cert.GeluGradIdeal.τ).loc Cert.GeluGradIdeal.main_arg3) = m ((c.tc : Thread Cert.GeluGradIdeal.nD Cert.GeluGradIdeal.τ).loc Cert.GeluGradIdeal.main_arg3))
      ∧ θ_run (Cert.GeluGradRefIdeal.defs (F := Ideal)) (onTc (τ := Cert.GeluGradRefIdeal.τ) (Cert.GeluGradRefIdeal.main (F := Ideal))) ⟨m', fun _ => 0, g'⟩ (fun r => ∀ c : Dev Cert.GeluGradRefIdeal.nD,
          r.2.mem ((c.tc : Thread Cert.GeluGradRefIdeal.nD Cert.GeluGradRefIdeal.τ).loc Cert.GeluGradRefIdeal.main_v36) = v0 c
          ∧ r.2.mem ((c.tc : Thread Cert.GeluGradRefIdeal.nD Cert.GeluGradRefIdeal.τ).loc Cert.GeluGradRefIdeal.main_arg0) = m' ((c.tc : Thread Cert.GeluGradRefIdeal.nD Cert.GeluGradRefIdeal.τ).loc Cert.GeluGradRefIdeal.main_arg0)
          ∧ r.2.mem ((c.tc : Thread Cert.GeluGradRefIdeal.nD Cert.GeluGradRefIdeal.τ).loc Cert.GeluGradRefIdeal.main_arg1) = m' ((c.tc : Thread Cert.GeluGradRefIdeal.nD Cert.GeluGradRefIdeal.τ).loc Cert.GeluGradRefIdeal.main_arg1)
          ∧ r.2.mem ((c.tc : Thread Cert.GeluGradRefIdeal.nD Cert.GeluGradRefIdeal.τ).loc Cert.GeluGradRefIdeal.main_arg2) = m' ((c.tc : Thread Cert.GeluGradRefIdeal.nD Cert.GeluGradRefIdeal.τ).loc Cert.GeluGradRefIdeal.main_arg2)
          ∧ r.2.mem ((c.tc : Thread Cert.GeluGradRefIdeal.nD Cert.GeluGradRefIdeal.τ).loc Cert.GeluGradRefIdeal.main_arg3) = m' ((c.tc : Thread Cert.GeluGradRefIdeal.nD Cert.GeluGradRefIdeal.τ).loc Cert.GeluGradRefIdeal.main_arg3))

def preserves_ReadGrad_ReadGradIdeal : Prop :=
  True

def algebraic_ReadGradIdeal_ReadGradRefIdeal [hReadGradIdeal : Cert.ReadGradIdeal.Facts] [hReadGradRefIdeal : Cert.ReadGradRefIdeal.Facts] : Prop :=
  ∀ (m : (ℓ : Loc Cert.ReadGradIdeal.nD Cert.ReadGradIdeal.τ Cert.ReadGradIdeal.sig) → Buf (Elt Ideal) ℓ) (g : Dev Cert.ReadGradIdeal.nD → PrngReg)
    (m' : (ℓ : Loc Cert.ReadGradRefIdeal.nD Cert.ReadGradRefIdeal.τ Cert.ReadGradRefIdeal.sig) → Buf (Elt Ideal) ℓ) (g' : Dev Cert.ReadGradRefIdeal.nD → PrngReg), Pre_ReadGradIdeal m →
    (∀ c : Dev Cert.ReadGradIdeal.nD,
      m' ((c.tc : Thread Cert.ReadGradRefIdeal.nD Cert.ReadGradRefIdeal.τ).loc Cert.ReadGradRefIdeal.main_arg0) = m ((c.tc : Thread Cert.ReadGradIdeal.nD Cert.ReadGradIdeal.τ).loc Cert.ReadGradIdeal.main_arg0)
      ∧ m' ((c.tc : Thread Cert.ReadGradRefIdeal.nD Cert.ReadGradRefIdeal.τ).loc Cert.ReadGradRefIdeal.main_arg1) = m ((c.tc : Thread Cert.ReadGradIdeal.nD Cert.ReadGradIdeal.τ).loc Cert.ReadGradIdeal.main_arg1)
      ∧ m' ((c.tc : Thread Cert.ReadGradRefIdeal.nD Cert.ReadGradRefIdeal.τ).loc Cert.ReadGradRefIdeal.main_arg2) = m ((c.tc : Thread Cert.ReadGradIdeal.nD Cert.ReadGradIdeal.τ).loc Cert.ReadGradIdeal.main_arg2)
      ∧ m' ((c.tc : Thread Cert.ReadGradRefIdeal.nD Cert.ReadGradRefIdeal.τ).loc Cert.ReadGradRefIdeal.main_arg3) = m ((c.tc : Thread Cert.ReadGradIdeal.nD Cert.ReadGradIdeal.τ).loc Cert.ReadGradIdeal.main_arg3)
      ∧ m' ((c.tc : Thread Cert.ReadGradRefIdeal.nD Cert.ReadGradRefIdeal.τ).loc Cert.ReadGradRefIdeal.main_arg4) = m ((c.tc : Thread Cert.ReadGradIdeal.nD Cert.ReadGradIdeal.τ).loc Cert.ReadGradIdeal.main_arg4)
      ∧ m' ((c.tc : Thread Cert.ReadGradRefIdeal.nD Cert.ReadGradRefIdeal.τ).loc Cert.ReadGradRefIdeal.main_arg5) = m ((c.tc : Thread Cert.ReadGradIdeal.nD Cert.ReadGradIdeal.τ).loc Cert.ReadGradIdeal.main_arg5)) →
    ∃ (v0 : (c : Dev Cert.ReadGradIdeal.nD) → Buf (Elt Ideal) ((c.tc : Thread Cert.ReadGradIdeal.nD Cert.ReadGradIdeal.τ).loc Cert.ReadGradIdeal.main_v29)),
      θ_run (Cert.ReadGradIdeal.defs (F := Ideal)) (onTc (τ := Cert.ReadGradIdeal.τ) (Cert.ReadGradIdeal.main (F := Ideal))) ⟨m, fun _ => 0, g⟩ (fun r => ∀ c : Dev Cert.ReadGradIdeal.nD,
          r.2.mem ((c.tc : Thread Cert.ReadGradIdeal.nD Cert.ReadGradIdeal.τ).loc Cert.ReadGradIdeal.main_v29) = v0 c
          ∧ r.2.mem ((c.tc : Thread Cert.ReadGradIdeal.nD Cert.ReadGradIdeal.τ).loc Cert.ReadGradIdeal.main_arg0) = m ((c.tc : Thread Cert.ReadGradIdeal.nD Cert.ReadGradIdeal.τ).loc Cert.ReadGradIdeal.main_arg0)
          ∧ r.2.mem ((c.tc : Thread Cert.ReadGradIdeal.nD Cert.ReadGradIdeal.τ).loc Cert.ReadGradIdeal.main_arg1) = m ((c.tc : Thread Cert.ReadGradIdeal.nD Cert.ReadGradIdeal.τ).loc Cert.ReadGradIdeal.main_arg1)
          ∧ r.2.mem ((c.tc : Thread Cert.ReadGradIdeal.nD Cert.ReadGradIdeal.τ).loc Cert.ReadGradIdeal.main_arg2) = m ((c.tc : Thread Cert.ReadGradIdeal.nD Cert.ReadGradIdeal.τ).loc Cert.ReadGradIdeal.main_arg2)
          ∧ r.2.mem ((c.tc : Thread Cert.ReadGradIdeal.nD Cert.ReadGradIdeal.τ).loc Cert.ReadGradIdeal.main_arg3) = m ((c.tc : Thread Cert.ReadGradIdeal.nD Cert.ReadGradIdeal.τ).loc Cert.ReadGradIdeal.main_arg3)
          ∧ r.2.mem ((c.tc : Thread Cert.ReadGradIdeal.nD Cert.ReadGradIdeal.τ).loc Cert.ReadGradIdeal.main_arg4) = m ((c.tc : Thread Cert.ReadGradIdeal.nD Cert.ReadGradIdeal.τ).loc Cert.ReadGradIdeal.main_arg4)
          ∧ r.2.mem ((c.tc : Thread Cert.ReadGradIdeal.nD Cert.ReadGradIdeal.τ).loc Cert.ReadGradIdeal.main_arg5) = m ((c.tc : Thread Cert.ReadGradIdeal.nD Cert.ReadGradIdeal.τ).loc Cert.ReadGradIdeal.main_arg5))
      ∧ θ_run (Cert.ReadGradRefIdeal.defs (F := Ideal)) (onTc (τ := Cert.ReadGradRefIdeal.τ) (Cert.ReadGradRefIdeal.main (F := Ideal))) ⟨m', fun _ => 0, g'⟩ (fun r => ∀ c : Dev Cert.ReadGradRefIdeal.nD,
          r.2.mem ((c.tc : Thread Cert.ReadGradRefIdeal.nD Cert.ReadGradRefIdeal.τ).loc Cert.ReadGradRefIdeal.main_v23) = v0 c
          ∧ r.2.mem ((c.tc : Thread Cert.ReadGradRefIdeal.nD Cert.ReadGradRefIdeal.τ).loc Cert.ReadGradRefIdeal.main_arg0) = m' ((c.tc : Thread Cert.ReadGradRefIdeal.nD Cert.ReadGradRefIdeal.τ).loc Cert.ReadGradRefIdeal.main_arg0)
          ∧ r.2.mem ((c.tc : Thread Cert.ReadGradRefIdeal.nD Cert.ReadGradRefIdeal.τ).loc Cert.ReadGradRefIdeal.main_arg1) = m' ((c.tc : Thread Cert.ReadGradRefIdeal.nD Cert.ReadGradRefIdeal.τ).loc Cert.ReadGradRefIdeal.main_arg1)
          ∧ r.2.mem ((c.tc : Thread Cert.ReadGradRefIdeal.nD Cert.ReadGradRefIdeal.τ).loc Cert.ReadGradRefIdeal.main_arg2) = m' ((c.tc : Thread Cert.ReadGradRefIdeal.nD Cert.ReadGradRefIdeal.τ).loc Cert.ReadGradRefIdeal.main_arg2)
          ∧ r.2.mem ((c.tc : Thread Cert.ReadGradRefIdeal.nD Cert.ReadGradRefIdeal.τ).loc Cert.ReadGradRefIdeal.main_arg3) = m' ((c.tc : Thread Cert.ReadGradRefIdeal.nD Cert.ReadGradRefIdeal.τ).loc Cert.ReadGradRefIdeal.main_arg3)
          ∧ r.2.mem ((c.tc : Thread Cert.ReadGradRefIdeal.nD Cert.ReadGradRefIdeal.τ).loc Cert.ReadGradRefIdeal.main_arg4) = m' ((c.tc : Thread Cert.ReadGradRefIdeal.nD Cert.ReadGradRefIdeal.τ).loc Cert.ReadGradRefIdeal.main_arg4)
          ∧ r.2.mem ((c.tc : Thread Cert.ReadGradRefIdeal.nD Cert.ReadGradRefIdeal.τ).loc Cert.ReadGradRefIdeal.main_arg5) = m' ((c.tc : Thread Cert.ReadGradRefIdeal.nD Cert.ReadGradRefIdeal.τ).loc Cert.ReadGradRefIdeal.main_arg5))

def preserves_SkipGrad_SkipGradIdeal : Prop :=
  True

def algebraic_SkipGradIdeal_SkipGradRefIdeal [hSkipGradIdeal : Cert.SkipGradIdeal.Facts] [hSkipGradRefIdeal : Cert.SkipGradRefIdeal.Facts] : Prop :=
  ∀ (m : (ℓ : Loc Cert.SkipGradIdeal.nD Cert.SkipGradIdeal.τ Cert.SkipGradIdeal.sig) → Buf (Elt Ideal) ℓ) (g : Dev Cert.SkipGradIdeal.nD → PrngReg)
    (m' : (ℓ : Loc Cert.SkipGradRefIdeal.nD Cert.SkipGradRefIdeal.τ Cert.SkipGradRefIdeal.sig) → Buf (Elt Ideal) ℓ) (g' : Dev Cert.SkipGradRefIdeal.nD → PrngReg), Pre_SkipGradIdeal m →
    (∀ c : Dev Cert.SkipGradIdeal.nD,
      m' ((c.tc : Thread Cert.SkipGradRefIdeal.nD Cert.SkipGradRefIdeal.τ).loc Cert.SkipGradRefIdeal.main_arg0) = m ((c.tc : Thread Cert.SkipGradIdeal.nD Cert.SkipGradIdeal.τ).loc Cert.SkipGradIdeal.main_arg0)
      ∧ m' ((c.tc : Thread Cert.SkipGradRefIdeal.nD Cert.SkipGradRefIdeal.τ).loc Cert.SkipGradRefIdeal.main_arg1) = m ((c.tc : Thread Cert.SkipGradIdeal.nD Cert.SkipGradIdeal.τ).loc Cert.SkipGradIdeal.main_arg1)) →
    ∃ (v0 : (c : Dev Cert.SkipGradIdeal.nD) → Buf (Elt Ideal) ((c.tc : Thread Cert.SkipGradIdeal.nD Cert.SkipGradIdeal.τ).loc Cert.SkipGradIdeal.main_v0)),
      θ_run (Cert.SkipGradIdeal.defs (F := Ideal)) (onTc (τ := Cert.SkipGradIdeal.τ) (Cert.SkipGradIdeal.main (F := Ideal))) ⟨m, fun _ => 0, g⟩ (fun r => ∀ c : Dev Cert.SkipGradIdeal.nD,
          r.2.mem ((c.tc : Thread Cert.SkipGradIdeal.nD Cert.SkipGradIdeal.τ).loc Cert.SkipGradIdeal.main_v0) = v0 c
          ∧ r.2.mem ((c.tc : Thread Cert.SkipGradIdeal.nD Cert.SkipGradIdeal.τ).loc Cert.SkipGradIdeal.main_arg0) = m ((c.tc : Thread Cert.SkipGradIdeal.nD Cert.SkipGradIdeal.τ).loc Cert.SkipGradIdeal.main_arg0)
          ∧ r.2.mem ((c.tc : Thread Cert.SkipGradIdeal.nD Cert.SkipGradIdeal.τ).loc Cert.SkipGradIdeal.main_arg1) = m ((c.tc : Thread Cert.SkipGradIdeal.nD Cert.SkipGradIdeal.τ).loc Cert.SkipGradIdeal.main_arg1))
      ∧ θ_run (Cert.SkipGradRefIdeal.defs (F := Ideal)) (onTc (τ := Cert.SkipGradRefIdeal.τ) (Cert.SkipGradRefIdeal.main (F := Ideal))) ⟨m', fun _ => 0, g'⟩ (fun r => ∀ c : Dev Cert.SkipGradRefIdeal.nD,
          r.2.mem ((c.tc : Thread Cert.SkipGradRefIdeal.nD Cert.SkipGradRefIdeal.τ).loc Cert.SkipGradRefIdeal.main_v9) = v0 c
          ∧ r.2.mem ((c.tc : Thread Cert.SkipGradRefIdeal.nD Cert.SkipGradRefIdeal.τ).loc Cert.SkipGradRefIdeal.main_arg0) = m' ((c.tc : Thread Cert.SkipGradRefIdeal.nD Cert.SkipGradRefIdeal.τ).loc Cert.SkipGradRefIdeal.main_arg0)
          ∧ r.2.mem ((c.tc : Thread Cert.SkipGradRefIdeal.nD Cert.SkipGradRefIdeal.τ).loc Cert.SkipGradRefIdeal.main_arg1) = m' ((c.tc : Thread Cert.SkipGradRefIdeal.nD Cert.SkipGradRefIdeal.τ).loc Cert.SkipGradRefIdeal.main_arg1))

def preserves_InputGrad_InputGradIdeal : Prop :=
  True

def algebraic_InputGradIdeal_InputGradRefIdeal [hInputGradIdeal : Cert.InputGradIdeal.Facts] [hInputGradRefIdeal : Cert.InputGradRefIdeal.Facts] : Prop :=
  ∀ (m : (ℓ : Loc Cert.InputGradIdeal.nD Cert.InputGradIdeal.τ Cert.InputGradIdeal.sig) → Buf (Elt Ideal) ℓ) (g : Dev Cert.InputGradIdeal.nD → PrngReg)
    (m' : (ℓ : Loc Cert.InputGradRefIdeal.nD Cert.InputGradRefIdeal.τ Cert.InputGradRefIdeal.sig) → Buf (Elt Ideal) ℓ) (g' : Dev Cert.InputGradRefIdeal.nD → PrngReg), Pre_InputGradIdeal m →
    (∀ c : Dev Cert.InputGradIdeal.nD,
      m' ((c.tc : Thread Cert.InputGradRefIdeal.nD Cert.InputGradRefIdeal.τ).loc Cert.InputGradRefIdeal.main_arg0) = m ((c.tc : Thread Cert.InputGradIdeal.nD Cert.InputGradIdeal.τ).loc Cert.InputGradIdeal.main_arg0)
      ∧ m' ((c.tc : Thread Cert.InputGradRefIdeal.nD Cert.InputGradRefIdeal.τ).loc Cert.InputGradRefIdeal.main_arg1) = m ((c.tc : Thread Cert.InputGradIdeal.nD Cert.InputGradIdeal.τ).loc Cert.InputGradIdeal.main_arg1)
      ∧ m' ((c.tc : Thread Cert.InputGradRefIdeal.nD Cert.InputGradRefIdeal.τ).loc Cert.InputGradRefIdeal.main_arg2) = m ((c.tc : Thread Cert.InputGradIdeal.nD Cert.InputGradIdeal.τ).loc Cert.InputGradIdeal.main_arg2)
      ∧ m' ((c.tc : Thread Cert.InputGradRefIdeal.nD Cert.InputGradRefIdeal.τ).loc Cert.InputGradRefIdeal.main_arg3) = m ((c.tc : Thread Cert.InputGradIdeal.nD Cert.InputGradIdeal.τ).loc Cert.InputGradIdeal.main_arg3)
      ∧ m' ((c.tc : Thread Cert.InputGradRefIdeal.nD Cert.InputGradRefIdeal.τ).loc Cert.InputGradRefIdeal.main_arg4) = m ((c.tc : Thread Cert.InputGradIdeal.nD Cert.InputGradIdeal.τ).loc Cert.InputGradIdeal.main_arg4)) →
    ∃ (v0 : (c : Dev Cert.InputGradIdeal.nD) → Buf (Elt Ideal) ((c.tc : Thread Cert.InputGradIdeal.nD Cert.InputGradIdeal.τ).loc Cert.InputGradIdeal.main_v8)),
      θ_run (Cert.InputGradIdeal.defs (F := Ideal)) (onTc (τ := Cert.InputGradIdeal.τ) (Cert.InputGradIdeal.main (F := Ideal))) ⟨m, fun _ => 0, g⟩ (fun r => ∀ c : Dev Cert.InputGradIdeal.nD,
          r.2.mem ((c.tc : Thread Cert.InputGradIdeal.nD Cert.InputGradIdeal.τ).loc Cert.InputGradIdeal.main_v8) = v0 c
          ∧ r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
          ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1)
          ∧ r.2.mem ((c.tc : Thread Cert.InputGradIdeal.nD Cert.InputGradIdeal.τ).loc Cert.InputGradIdeal.main_arg2) = m ((c.tc : Thread Cert.InputGradIdeal.nD Cert.InputGradIdeal.τ).loc Cert.InputGradIdeal.main_arg2)
          ∧ r.2.mem ((c.tc : Thread Cert.InputGradIdeal.nD Cert.InputGradIdeal.τ).loc Cert.InputGradIdeal.main_arg3) = m ((c.tc : Thread Cert.InputGradIdeal.nD Cert.InputGradIdeal.τ).loc Cert.InputGradIdeal.main_arg3)
          ∧ r.2.mem ((c.tc : Thread Cert.InputGradIdeal.nD Cert.InputGradIdeal.τ).loc Cert.InputGradIdeal.main_arg4) = m ((c.tc : Thread Cert.InputGradIdeal.nD Cert.InputGradIdeal.τ).loc Cert.InputGradIdeal.main_arg4))
      ∧ θ_run (Cert.InputGradRefIdeal.defs (F := Ideal)) (onTc (τ := Cert.InputGradRefIdeal.τ) (Cert.InputGradRefIdeal.main (F := Ideal))) ⟨m', fun _ => 0, g'⟩ (fun r => ∀ c : Dev Cert.InputGradRefIdeal.nD,
          r.2.mem ((c.tc : Thread Cert.InputGradRefIdeal.nD Cert.InputGradRefIdeal.τ).loc Cert.InputGradRefIdeal.main_v10) = v0 c
          ∧ r.2.mem ((c.tc : Thread Cert.InputGradRefIdeal.nD Cert.InputGradRefIdeal.τ).loc Cert.InputGradRefIdeal.main_arg0) = m' ((c.tc : Thread Cert.InputGradRefIdeal.nD Cert.InputGradRefIdeal.τ).loc Cert.InputGradRefIdeal.main_arg0)
          ∧ r.2.mem ((c.tc : Thread Cert.InputGradRefIdeal.nD Cert.InputGradRefIdeal.τ).loc Cert.InputGradRefIdeal.main_arg1) = m' ((c.tc : Thread Cert.InputGradRefIdeal.nD Cert.InputGradRefIdeal.τ).loc Cert.InputGradRefIdeal.main_arg1)
          ∧ r.2.mem ((c.tc : Thread Cert.InputGradRefIdeal.nD Cert.InputGradRefIdeal.τ).loc Cert.InputGradRefIdeal.main_arg2) = m' ((c.tc : Thread Cert.InputGradRefIdeal.nD Cert.InputGradRefIdeal.τ).loc Cert.InputGradRefIdeal.main_arg2)
          ∧ r.2.mem ((c.tc : Thread Cert.InputGradRefIdeal.nD Cert.InputGradRefIdeal.τ).loc Cert.InputGradRefIdeal.main_arg3) = m' ((c.tc : Thread Cert.InputGradRefIdeal.nD Cert.InputGradRefIdeal.τ).loc Cert.InputGradRefIdeal.main_arg3)
          ∧ r.2.mem ((c.tc : Thread Cert.InputGradRefIdeal.nD Cert.InputGradRefIdeal.τ).loc Cert.InputGradRefIdeal.main_arg4) = m' ((c.tc : Thread Cert.InputGradRefIdeal.nD Cert.InputGradRefIdeal.τ).loc Cert.InputGradRefIdeal.main_arg4))

def preserves_ConvOut_ConvOutIdeal : Prop :=
  True

def algebraic_ConvOutIdeal_ConvOutRefIdeal [hConvOutIdeal : Cert.ConvOutIdeal.Facts] [hConvOutRefIdeal : Cert.ConvOutRefIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg)
    (m' : (ℓ : Loc Cert.ConvOutRefIdeal.nD Cert.ConvOutRefIdeal.τ Cert.ConvOutRefIdeal.sig) → Buf (Elt Ideal) ℓ) (g' : Dev Cert.ConvOutRefIdeal.nD → PrngReg), Pre_ConvOutIdeal m →
    (∀ c : Dev Cert.ConvOutIdeal.nD,
      m' ((c.tc : Thread Cert.ConvOutRefIdeal.nD Cert.ConvOutRefIdeal.τ).loc Cert.ConvOutRefIdeal.main_arg0) = m ((c.tc : Thread Cert.ConvOutIdeal.nD Cert.ConvOutIdeal.τ).loc Cert.ConvOutIdeal.main_arg0)
      ∧ m' ((c.tc : Thread Cert.ConvOutRefIdeal.nD Cert.ConvOutRefIdeal.τ).loc Cert.ConvOutRefIdeal.main_arg1) = m ((c.tc : Thread Cert.ConvOutIdeal.nD Cert.ConvOutIdeal.τ).loc Cert.ConvOutIdeal.main_arg1)
      ∧ m' ((c.tc : Thread Cert.ConvOutRefIdeal.nD Cert.ConvOutRefIdeal.τ).loc Cert.ConvOutRefIdeal.main_arg2) = m ((c.tc : Thread Cert.ConvOutIdeal.nD Cert.ConvOutIdeal.τ).loc Cert.ConvOutIdeal.main_arg2)
      ∧ m' ((c.tc : Thread Cert.ConvOutRefIdeal.nD Cert.ConvOutRefIdeal.τ).loc Cert.ConvOutRefIdeal.main_arg3) = m ((c.tc : Thread Cert.ConvOutIdeal.nD Cert.ConvOutIdeal.τ).loc Cert.ConvOutIdeal.main_arg3)) →
    ∃ (v0 : (c : Dev Cert.ConvOutIdeal.nD) → Buf (Elt Ideal) ((c.tc : Thread Cert.ConvOutIdeal.nD Cert.ConvOutIdeal.τ).loc Cert.ConvOutIdeal.main_v2)),
      θ_run (Cert.ConvOutIdeal.defs (F := Ideal)) (onTc (τ := Cert.ConvOutIdeal.τ) (Cert.ConvOutIdeal.main (F := Ideal))) ⟨m, fun _ => 0, g⟩ (fun r => ∀ c : Dev Cert.ConvOutIdeal.nD,
          r.2.mem ((c.tc : Thread Cert.ConvOutIdeal.nD Cert.ConvOutIdeal.τ).loc Cert.ConvOutIdeal.main_v2) = v0 c
          ∧ r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
          ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
          ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
          ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3))
      ∧ θ_run (Cert.ConvOutRefIdeal.defs (F := Ideal)) (onTc (τ := Cert.ConvOutRefIdeal.τ) (Cert.ConvOutRefIdeal.main (F := Ideal))) ⟨m', fun _ => 0, g'⟩ (fun r => ∀ c : Dev Cert.ConvOutRefIdeal.nD,
          r.2.mem ((c.tc : Thread Cert.ConvOutRefIdeal.nD Cert.ConvOutRefIdeal.τ).loc Cert.ConvOutRefIdeal.main_v46) = v0 c
          ∧ r.2.mem ((c.tc : Thread Cert.ConvOutRefIdeal.nD Cert.ConvOutRefIdeal.τ).loc Cert.ConvOutRefIdeal.main_arg0) = m' ((c.tc : Thread Cert.ConvOutRefIdeal.nD Cert.ConvOutRefIdeal.τ).loc Cert.ConvOutRefIdeal.main_arg0)
          ∧ r.2.mem ((c.tc : Thread Cert.ConvOutRefIdeal.nD Cert.ConvOutRefIdeal.τ).loc Cert.ConvOutRefIdeal.main_arg1) = m' ((c.tc : Thread Cert.ConvOutRefIdeal.nD Cert.ConvOutRefIdeal.τ).loc Cert.ConvOutRefIdeal.main_arg1)
          ∧ r.2.mem ((c.tc : Thread Cert.ConvOutRefIdeal.nD Cert.ConvOutRefIdeal.τ).loc Cert.ConvOutRefIdeal.main_arg2) = m' ((c.tc : Thread Cert.ConvOutRefIdeal.nD Cert.ConvOutRefIdeal.τ).loc Cert.ConvOutRefIdeal.main_arg2)
          ∧ r.2.mem ((c.tc : Thread Cert.ConvOutRefIdeal.nD Cert.ConvOutRefIdeal.τ).loc Cert.ConvOutRefIdeal.main_arg3) = m' ((c.tc : Thread Cert.ConvOutRefIdeal.nD Cert.ConvOutRefIdeal.τ).loc Cert.ConvOutRefIdeal.main_arg3))

def preserves_SwigluUp_SwigluUpIdeal : Prop :=
  True

def algebraic_SwigluUpIdeal_SwigluUpRefIdeal [hSwigluUpIdeal : Cert.SwigluUpIdeal.Facts] [hSwigluUpRefIdeal : Cert.SwigluUpRefIdeal.Facts] : Prop :=
  ∀ (m : (ℓ : Loc Cert.SwigluUpIdeal.nD Cert.SwigluUpIdeal.τ Cert.SwigluUpIdeal.sig) → Buf (Elt Ideal) ℓ) (g : Dev Cert.SwigluUpIdeal.nD → PrngReg)
    (m' : (ℓ : Loc Cert.SwigluUpRefIdeal.nD Cert.SwigluUpRefIdeal.τ Cert.SwigluUpRefIdeal.sig) → Buf (Elt Ideal) ℓ) (g' : Dev Cert.SwigluUpRefIdeal.nD → PrngReg), Pre_SwigluUpIdeal m →
    (∀ c : Dev Cert.SwigluUpIdeal.nD,
      m' ((c.tc : Thread Cert.SwigluUpRefIdeal.nD Cert.SwigluUpRefIdeal.τ).loc Cert.SwigluUpRefIdeal.main_arg0) = m ((c.tc : Thread Cert.SwigluUpIdeal.nD Cert.SwigluUpIdeal.τ).loc Cert.SwigluUpIdeal.main_arg0)
      ∧ m' ((c.tc : Thread Cert.SwigluUpRefIdeal.nD Cert.SwigluUpRefIdeal.τ).loc Cert.SwigluUpRefIdeal.main_arg1) = m ((c.tc : Thread Cert.SwigluUpIdeal.nD Cert.SwigluUpIdeal.τ).loc Cert.SwigluUpIdeal.main_arg1)
      ∧ m' ((c.tc : Thread Cert.SwigluUpRefIdeal.nD Cert.SwigluUpRefIdeal.τ).loc Cert.SwigluUpRefIdeal.main_arg2) = m ((c.tc : Thread Cert.SwigluUpIdeal.nD Cert.SwigluUpIdeal.τ).loc Cert.SwigluUpIdeal.main_arg2)) →
    ∃ (v0 : (c : Dev Cert.SwigluUpIdeal.nD) → Buf (Elt Ideal) ((c.tc : Thread Cert.SwigluUpIdeal.nD Cert.SwigluUpIdeal.τ).loc Cert.SwigluUpIdeal.main_v7_0)) (v1 : (c : Dev Cert.SwigluUpIdeal.nD) → Buf (Elt Ideal) ((c.tc : Thread Cert.SwigluUpIdeal.nD Cert.SwigluUpIdeal.τ).loc Cert.SwigluUpIdeal.main_v7_1)) (v2 : (c : Dev Cert.SwigluUpIdeal.nD) → Buf (Elt Ideal) ((c.tc : Thread Cert.SwigluUpIdeal.nD Cert.SwigluUpIdeal.τ).loc Cert.SwigluUpIdeal.main_v7_2)),
      θ_run (Cert.SwigluUpIdeal.defs (F := Ideal)) (onTc (τ := Cert.SwigluUpIdeal.τ) (Cert.SwigluUpIdeal.main (F := Ideal))) ⟨m, fun _ => 0, g⟩ (fun r => ∀ c : Dev Cert.SwigluUpIdeal.nD,
          r.2.mem ((c.tc : Thread Cert.SwigluUpIdeal.nD Cert.SwigluUpIdeal.τ).loc Cert.SwigluUpIdeal.main_v7_0) = v0 c
          ∧ r.2.mem ((c.tc : Thread Cert.SwigluUpIdeal.nD Cert.SwigluUpIdeal.τ).loc Cert.SwigluUpIdeal.main_v7_1) = v1 c
          ∧ r.2.mem ((c.tc : Thread Cert.SwigluUpIdeal.nD Cert.SwigluUpIdeal.τ).loc Cert.SwigluUpIdeal.main_v7_2) = v2 c
          ∧ r.2.mem ((c.tc : Thread Cert.SwigluUpIdeal.nD Cert.SwigluUpIdeal.τ).loc Cert.SwigluUpIdeal.main_arg0) = m ((c.tc : Thread Cert.SwigluUpIdeal.nD Cert.SwigluUpIdeal.τ).loc Cert.SwigluUpIdeal.main_arg0)
          ∧ r.2.mem ((c.tc : Thread Cert.SwigluUpIdeal.nD Cert.SwigluUpIdeal.τ).loc Cert.SwigluUpIdeal.main_arg1) = m ((c.tc : Thread Cert.SwigluUpIdeal.nD Cert.SwigluUpIdeal.τ).loc Cert.SwigluUpIdeal.main_arg1)
          ∧ r.2.mem ((c.tc : Thread Cert.SwigluUpIdeal.nD Cert.SwigluUpIdeal.τ).loc Cert.SwigluUpIdeal.main_arg2) = m ((c.tc : Thread Cert.SwigluUpIdeal.nD Cert.SwigluUpIdeal.τ).loc Cert.SwigluUpIdeal.main_arg2))
      ∧ θ_run (Cert.SwigluUpRefIdeal.defs (F := Ideal)) (onTc (τ := Cert.SwigluUpRefIdeal.τ) (Cert.SwigluUpRefIdeal.main (F := Ideal))) ⟨m', fun _ => 0, g'⟩ (fun r => ∀ c : Dev Cert.SwigluUpRefIdeal.nD,
          r.2.mem ((c.tc : Thread Cert.SwigluUpRefIdeal.nD Cert.SwigluUpRefIdeal.τ).loc Cert.SwigluUpRefIdeal.main_v0) = v0 c
          ∧ r.2.mem ((c.tc : Thread Cert.SwigluUpRefIdeal.nD Cert.SwigluUpRefIdeal.τ).loc Cert.SwigluUpRefIdeal.main_v1) = v1 c
          ∧ r.2.mem ((c.tc : Thread Cert.SwigluUpRefIdeal.nD Cert.SwigluUpRefIdeal.τ).loc Cert.SwigluUpRefIdeal.main_v4) = v2 c
          ∧ r.2.mem ((c.tc : Thread Cert.SwigluUpRefIdeal.nD Cert.SwigluUpRefIdeal.τ).loc Cert.SwigluUpRefIdeal.main_arg0) = m' ((c.tc : Thread Cert.SwigluUpRefIdeal.nD Cert.SwigluUpRefIdeal.τ).loc Cert.SwigluUpRefIdeal.main_arg0)
          ∧ r.2.mem ((c.tc : Thread Cert.SwigluUpRefIdeal.nD Cert.SwigluUpRefIdeal.τ).loc Cert.SwigluUpRefIdeal.main_arg1) = m' ((c.tc : Thread Cert.SwigluUpRefIdeal.nD Cert.SwigluUpRefIdeal.τ).loc Cert.SwigluUpRefIdeal.main_arg1)
          ∧ r.2.mem ((c.tc : Thread Cert.SwigluUpRefIdeal.nD Cert.SwigluUpRefIdeal.τ).loc Cert.SwigluUpRefIdeal.main_arg2) = m' ((c.tc : Thread Cert.SwigluUpRefIdeal.nD Cert.SwigluUpRefIdeal.τ).loc Cert.SwigluUpRefIdeal.main_arg2))

def preserves_DownNorm_DownNormIdeal : Prop :=
  True

def algebraic_DownNormIdeal_DownNormRefIdeal [hDownNormIdeal : Cert.DownNormIdeal.Facts] [hDownNormRefIdeal : Cert.DownNormRefIdeal.Facts] : Prop :=
  ∀ (m : (ℓ : Loc Cert.DownNormIdeal.nD Cert.DownNormIdeal.τ Cert.DownNormIdeal.sig) → Buf (Elt Ideal) ℓ) (g : Dev Cert.DownNormIdeal.nD → PrngReg)
    (m' : (ℓ : Loc Cert.DownNormRefIdeal.nD Cert.DownNormRefIdeal.τ Cert.DownNormRefIdeal.sig) → Buf (Elt Ideal) ℓ) (g' : Dev Cert.DownNormRefIdeal.nD → PrngReg), Pre_DownNormIdeal m →
    (∀ c : Dev Cert.DownNormIdeal.nD,
      m' ((c.tc : Thread Cert.DownNormRefIdeal.nD Cert.DownNormRefIdeal.τ).loc Cert.DownNormRefIdeal.main_arg0) = m ((c.tc : Thread Cert.DownNormIdeal.nD Cert.DownNormIdeal.τ).loc Cert.DownNormIdeal.main_arg0)
      ∧ m' ((c.tc : Thread Cert.DownNormRefIdeal.nD Cert.DownNormRefIdeal.τ).loc Cert.DownNormRefIdeal.main_arg1) = m ((c.tc : Thread Cert.DownNormIdeal.nD Cert.DownNormIdeal.τ).loc Cert.DownNormIdeal.main_arg1)
      ∧ m' ((c.tc : Thread Cert.DownNormRefIdeal.nD Cert.DownNormRefIdeal.τ).loc Cert.DownNormRefIdeal.main_arg2) = m ((c.tc : Thread Cert.DownNormIdeal.nD Cert.DownNormIdeal.τ).loc Cert.DownNormIdeal.main_arg2)
      ∧ m' ((c.tc : Thread Cert.DownNormRefIdeal.nD Cert.DownNormRefIdeal.τ).loc Cert.DownNormRefIdeal.main_arg3) = m ((c.tc : Thread Cert.DownNormIdeal.nD Cert.DownNormIdeal.τ).loc Cert.DownNormIdeal.main_arg3)
      ∧ m' ((c.tc : Thread Cert.DownNormRefIdeal.nD Cert.DownNormRefIdeal.τ).loc Cert.DownNormRefIdeal.main_arg4) = m ((c.tc : Thread Cert.DownNormIdeal.nD Cert.DownNormIdeal.τ).loc Cert.DownNormIdeal.main_arg4)) →
    ∃ (v0 : (c : Dev Cert.DownNormIdeal.nD) → Buf (Elt Ideal) ((c.tc : Thread Cert.DownNormIdeal.nD Cert.DownNormIdeal.τ).loc Cert.DownNormIdeal.main_v5_0)) (v1 : (c : Dev Cert.DownNormIdeal.nD) → Buf (Elt Ideal) ((c.tc : Thread Cert.DownNormIdeal.nD Cert.DownNormIdeal.τ).loc Cert.DownNormIdeal.main_v5_1)) (v2 : (c : Dev Cert.DownNormIdeal.nD) → Buf (Elt Ideal) ((c.tc : Thread Cert.DownNormIdeal.nD Cert.DownNormIdeal.τ).loc Cert.DownNormIdeal.main_v5_2)) (v3 : (c : Dev Cert.DownNormIdeal.nD) → Buf (Elt Ideal) ((c.tc : Thread Cert.DownNormIdeal.nD Cert.DownNormIdeal.τ).loc Cert.DownNormIdeal.main_v5_3)),
      θ_run (Cert.DownNormIdeal.defs (F := Ideal)) (onTc (τ := Cert.DownNormIdeal.τ) (Cert.DownNormIdeal.main (F := Ideal))) ⟨m, fun _ => 0, g⟩ (fun r => ∀ c : Dev Cert.DownNormIdeal.nD,
          r.2.mem ((c.tc : Thread Cert.DownNormIdeal.nD Cert.DownNormIdeal.τ).loc Cert.DownNormIdeal.main_v5_0) = v0 c
          ∧ r.2.mem ((c.tc : Thread Cert.DownNormIdeal.nD Cert.DownNormIdeal.τ).loc Cert.DownNormIdeal.main_v5_1) = v1 c
          ∧ r.2.mem ((c.tc : Thread Cert.DownNormIdeal.nD Cert.DownNormIdeal.τ).loc Cert.DownNormIdeal.main_v5_2) = v2 c
          ∧ r.2.mem ((c.tc : Thread Cert.DownNormIdeal.nD Cert.DownNormIdeal.τ).loc Cert.DownNormIdeal.main_v5_3) = v3 c
          ∧ r.2.mem ((c.tc : Thread Cert.DownNormIdeal.nD Cert.DownNormIdeal.τ).loc Cert.DownNormIdeal.main_arg0) = m ((c.tc : Thread Cert.DownNormIdeal.nD Cert.DownNormIdeal.τ).loc Cert.DownNormIdeal.main_arg0)
          ∧ r.2.mem ((c.tc : Thread Cert.DownNormIdeal.nD Cert.DownNormIdeal.τ).loc Cert.DownNormIdeal.main_arg1) = m ((c.tc : Thread Cert.DownNormIdeal.nD Cert.DownNormIdeal.τ).loc Cert.DownNormIdeal.main_arg1)
          ∧ r.2.mem ((c.tc : Thread Cert.DownNormIdeal.nD Cert.DownNormIdeal.τ).loc Cert.DownNormIdeal.main_arg2) = m ((c.tc : Thread Cert.DownNormIdeal.nD Cert.DownNormIdeal.τ).loc Cert.DownNormIdeal.main_arg2)
          ∧ r.2.mem ((c.tc : Thread Cert.DownNormIdeal.nD Cert.DownNormIdeal.τ).loc Cert.DownNormIdeal.main_arg3) = m ((c.tc : Thread Cert.DownNormIdeal.nD Cert.DownNormIdeal.τ).loc Cert.DownNormIdeal.main_arg3)
          ∧ r.2.mem ((c.tc : Thread Cert.DownNormIdeal.nD Cert.DownNormIdeal.τ).loc Cert.DownNormIdeal.main_arg4) = m ((c.tc : Thread Cert.DownNormIdeal.nD Cert.DownNormIdeal.τ).loc Cert.DownNormIdeal.main_arg4))
      ∧ θ_run (Cert.DownNormRefIdeal.defs (F := Ideal)) (onTc (τ := Cert.DownNormRefIdeal.τ) (Cert.DownNormRefIdeal.main (F := Ideal))) ⟨m', fun _ => 0, g'⟩ (fun r => ∀ c : Dev Cert.DownNormRefIdeal.nD,
          r.2.mem ((c.tc : Thread Cert.DownNormRefIdeal.nD Cert.DownNormRefIdeal.τ).loc Cert.DownNormRefIdeal.main_v27) = v0 c
          ∧ r.2.mem ((c.tc : Thread Cert.DownNormRefIdeal.nD Cert.DownNormRefIdeal.τ).loc Cert.DownNormRefIdeal.main_v28) = v1 c
          ∧ r.2.mem ((c.tc : Thread Cert.DownNormRefIdeal.nD Cert.DownNormRefIdeal.τ).loc Cert.DownNormRefIdeal.main_v21) = v2 c
          ∧ r.2.mem ((c.tc : Thread Cert.DownNormRefIdeal.nD Cert.DownNormRefIdeal.τ).loc Cert.DownNormRefIdeal.main_v29) = v3 c
          ∧ r.2.mem ((c.tc : Thread Cert.DownNormRefIdeal.nD Cert.DownNormRefIdeal.τ).loc Cert.DownNormRefIdeal.main_arg0) = m' ((c.tc : Thread Cert.DownNormRefIdeal.nD Cert.DownNormRefIdeal.τ).loc Cert.DownNormRefIdeal.main_arg0)
          ∧ r.2.mem ((c.tc : Thread Cert.DownNormRefIdeal.nD Cert.DownNormRefIdeal.τ).loc Cert.DownNormRefIdeal.main_arg1) = m' ((c.tc : Thread Cert.DownNormRefIdeal.nD Cert.DownNormRefIdeal.τ).loc Cert.DownNormRefIdeal.main_arg1)
          ∧ r.2.mem ((c.tc : Thread Cert.DownNormRefIdeal.nD Cert.DownNormRefIdeal.τ).loc Cert.DownNormRefIdeal.main_arg2) = m' ((c.tc : Thread Cert.DownNormRefIdeal.nD Cert.DownNormRefIdeal.τ).loc Cert.DownNormRefIdeal.main_arg2)
          ∧ r.2.mem ((c.tc : Thread Cert.DownNormRefIdeal.nD Cert.DownNormRefIdeal.τ).loc Cert.DownNormRefIdeal.main_arg3) = m' ((c.tc : Thread Cert.DownNormRefIdeal.nD Cert.DownNormRefIdeal.τ).loc Cert.DownNormRefIdeal.main_arg3)
          ∧ r.2.mem ((c.tc : Thread Cert.DownNormRefIdeal.nD Cert.DownNormRefIdeal.τ).loc Cert.DownNormRefIdeal.main_arg4) = m' ((c.tc : Thread Cert.DownNormRefIdeal.nD Cert.DownNormRefIdeal.τ).loc Cert.DownNormRefIdeal.main_arg4))

def preserves_ReadOut_ReadOutIdeal : Prop :=
  True

def algebraic_ReadOutIdeal_ReadOutRefIdeal_pre_finite_yout [hReadOutIdeal : Cert.ReadOutIdeal.Facts] [hReadOutRefIdeal : Cert.ReadOutRefIdeal.Facts] [hPre_finite_yout : Cert.Pre_finite_yout.Facts] : Prop :=
  ∀ (m : (ℓ : Loc Cert.ReadOutIdeal.nD Cert.ReadOutIdeal.τ Cert.ReadOutIdeal.sig) → Buf (Elt Ideal) ℓ) (g : Dev Cert.ReadOutIdeal.nD → PrngReg)
    (m' : (ℓ : Loc Cert.ReadOutRefIdeal.nD Cert.ReadOutRefIdeal.τ Cert.ReadOutRefIdeal.sig) → Buf (Elt Ideal) ℓ) (g' : Dev Cert.ReadOutRefIdeal.nD → PrngReg), Pre_ReadOutIdeal_finite_yout m →
    (∀ c : Dev Cert.ReadOutIdeal.nD,
      m' ((c.tc : Thread Cert.ReadOutRefIdeal.nD Cert.ReadOutRefIdeal.τ).loc Cert.ReadOutRefIdeal.main_arg0) = m ((c.tc : Thread Cert.ReadOutIdeal.nD Cert.ReadOutIdeal.τ).loc Cert.ReadOutIdeal.main_arg0)
      ∧ m' ((c.tc : Thread Cert.ReadOutRefIdeal.nD Cert.ReadOutRefIdeal.τ).loc Cert.ReadOutRefIdeal.main_arg1) = m ((c.tc : Thread Cert.ReadOutIdeal.nD Cert.ReadOutIdeal.τ).loc Cert.ReadOutIdeal.main_arg1)
      ∧ m' ((c.tc : Thread Cert.ReadOutRefIdeal.nD Cert.ReadOutRefIdeal.τ).loc Cert.ReadOutRefIdeal.main_arg2) = m ((c.tc : Thread Cert.ReadOutIdeal.nD Cert.ReadOutIdeal.τ).loc Cert.ReadOutIdeal.main_arg2)
      ∧ m' ((c.tc : Thread Cert.ReadOutRefIdeal.nD Cert.ReadOutRefIdeal.τ).loc Cert.ReadOutRefIdeal.main_arg3) = m ((c.tc : Thread Cert.ReadOutIdeal.nD Cert.ReadOutIdeal.τ).loc Cert.ReadOutIdeal.main_arg3)
      ∧ m' ((c.tc : Thread Cert.ReadOutRefIdeal.nD Cert.ReadOutRefIdeal.τ).loc Cert.ReadOutRefIdeal.main_arg4) = m ((c.tc : Thread Cert.ReadOutIdeal.nD Cert.ReadOutIdeal.τ).loc Cert.ReadOutIdeal.main_arg4)
      ∧ m' ((c.tc : Thread Cert.ReadOutRefIdeal.nD Cert.ReadOutRefIdeal.τ).loc Cert.ReadOutRefIdeal.main_arg5) = m ((c.tc : Thread Cert.ReadOutIdeal.nD Cert.ReadOutIdeal.τ).loc Cert.ReadOutIdeal.main_arg5)) →
    ∃ (v0 : (c : Dev Cert.ReadOutIdeal.nD) → Buf (Elt Ideal) ((c.tc : Thread Cert.ReadOutIdeal.nD Cert.ReadOutIdeal.τ).loc Cert.ReadOutIdeal.main_v34_0)) (v1 : (c : Dev Cert.ReadOutIdeal.nD) → Buf (Elt Ideal) ((c.tc : Thread Cert.ReadOutIdeal.nD Cert.ReadOutIdeal.τ).loc Cert.ReadOutIdeal.main_v34_1)) (v2 : (c : Dev Cert.ReadOutIdeal.nD) → Buf (Elt Ideal) ((c.tc : Thread Cert.ReadOutIdeal.nD Cert.ReadOutIdeal.τ).loc Cert.ReadOutIdeal.main_v34_2)),
      θ_run (Cert.ReadOutIdeal.defs (F := Ideal)) (onTc (τ := Cert.ReadOutIdeal.τ) (Cert.ReadOutIdeal.main (F := Ideal))) ⟨m, fun _ => 0, g⟩ (fun r => ∀ c : Dev Cert.ReadOutIdeal.nD,
          r.2.mem ((c.tc : Thread Cert.ReadOutIdeal.nD Cert.ReadOutIdeal.τ).loc Cert.ReadOutIdeal.main_v34_0) = v0 c
          ∧ r.2.mem ((c.tc : Thread Cert.ReadOutIdeal.nD Cert.ReadOutIdeal.τ).loc Cert.ReadOutIdeal.main_v34_1) = v1 c
          ∧ r.2.mem ((c.tc : Thread Cert.ReadOutIdeal.nD Cert.ReadOutIdeal.τ).loc Cert.ReadOutIdeal.main_v34_2) = v2 c
          ∧ r.2.mem ((c.tc : Thread Cert.ReadOutIdeal.nD Cert.ReadOutIdeal.τ).loc Cert.ReadOutIdeal.main_arg0) = m ((c.tc : Thread Cert.ReadOutIdeal.nD Cert.ReadOutIdeal.τ).loc Cert.ReadOutIdeal.main_arg0)
          ∧ r.2.mem ((c.tc : Thread Cert.ReadOutIdeal.nD Cert.ReadOutIdeal.τ).loc Cert.ReadOutIdeal.main_arg1) = m ((c.tc : Thread Cert.ReadOutIdeal.nD Cert.ReadOutIdeal.τ).loc Cert.ReadOutIdeal.main_arg1)
          ∧ r.2.mem ((c.tc : Thread Cert.ReadOutIdeal.nD Cert.ReadOutIdeal.τ).loc Cert.ReadOutIdeal.main_arg2) = m ((c.tc : Thread Cert.ReadOutIdeal.nD Cert.ReadOutIdeal.τ).loc Cert.ReadOutIdeal.main_arg2)
          ∧ r.2.mem ((c.tc : Thread Cert.ReadOutIdeal.nD Cert.ReadOutIdeal.τ).loc Cert.ReadOutIdeal.main_arg3) = m ((c.tc : Thread Cert.ReadOutIdeal.nD Cert.ReadOutIdeal.τ).loc Cert.ReadOutIdeal.main_arg3)
          ∧ r.2.mem ((c.tc : Thread Cert.ReadOutIdeal.nD Cert.ReadOutIdeal.τ).loc Cert.ReadOutIdeal.main_arg4) = m ((c.tc : Thread Cert.ReadOutIdeal.nD Cert.ReadOutIdeal.τ).loc Cert.ReadOutIdeal.main_arg4)
          ∧ r.2.mem ((c.tc : Thread Cert.ReadOutIdeal.nD Cert.ReadOutIdeal.τ).loc Cert.ReadOutIdeal.main_arg5) = m ((c.tc : Thread Cert.ReadOutIdeal.nD Cert.ReadOutIdeal.τ).loc Cert.ReadOutIdeal.main_arg5))
      ∧ θ_run (Cert.ReadOutRefIdeal.defs (F := Ideal)) (onTc (τ := Cert.ReadOutRefIdeal.τ) (Cert.ReadOutRefIdeal.main (F := Ideal))) ⟨m', fun _ => 0, g'⟩ (fun r => ∀ c : Dev Cert.ReadOutRefIdeal.nD,
          r.2.mem ((c.tc : Thread Cert.ReadOutRefIdeal.nD Cert.ReadOutRefIdeal.τ).loc Cert.ReadOutRefIdeal.main_v13) = v0 c
          ∧ r.2.mem ((c.tc : Thread Cert.ReadOutRefIdeal.nD Cert.ReadOutRefIdeal.τ).loc Cert.ReadOutRefIdeal.main_v26) = v1 c
          ∧ r.2.mem ((c.tc : Thread Cert.ReadOutRefIdeal.nD Cert.ReadOutRefIdeal.τ).loc Cert.ReadOutRefIdeal.main_v27) = v2 c
          ∧ r.2.mem ((c.tc : Thread Cert.ReadOutRefIdeal.nD Cert.ReadOutRefIdeal.τ).loc Cert.ReadOutRefIdeal.main_arg0) = m' ((c.tc : Thread Cert.ReadOutRefIdeal.nD Cert.ReadOutRefIdeal.τ).loc Cert.ReadOutRefIdeal.main_arg0)
          ∧ r.2.mem ((c.tc : Thread Cert.ReadOutRefIdeal.nD Cert.ReadOutRefIdeal.τ).loc Cert.ReadOutRefIdeal.main_arg1) = m' ((c.tc : Thread Cert.ReadOutRefIdeal.nD Cert.ReadOutRefIdeal.τ).loc Cert.ReadOutRefIdeal.main_arg1)
          ∧ r.2.mem ((c.tc : Thread Cert.ReadOutRefIdeal.nD Cert.ReadOutRefIdeal.τ).loc Cert.ReadOutRefIdeal.main_arg2) = m' ((c.tc : Thread Cert.ReadOutRefIdeal.nD Cert.ReadOutRefIdeal.τ).loc Cert.ReadOutRefIdeal.main_arg2)
          ∧ r.2.mem ((c.tc : Thread Cert.ReadOutRefIdeal.nD Cert.ReadOutRefIdeal.τ).loc Cert.ReadOutRefIdeal.main_arg3) = m' ((c.tc : Thread Cert.ReadOutRefIdeal.nD Cert.ReadOutRefIdeal.τ).loc Cert.ReadOutRefIdeal.main_arg3)
          ∧ r.2.mem ((c.tc : Thread Cert.ReadOutRefIdeal.nD Cert.ReadOutRefIdeal.τ).loc Cert.ReadOutRefIdeal.main_arg4) = m' ((c.tc : Thread Cert.ReadOutRefIdeal.nD Cert.ReadOutRefIdeal.τ).loc Cert.ReadOutRefIdeal.main_arg4)
          ∧ r.2.mem ((c.tc : Thread Cert.ReadOutRefIdeal.nD Cert.ReadOutRefIdeal.τ).loc Cert.ReadOutRefIdeal.main_arg5) = m' ((c.tc : Thread Cert.ReadOutRefIdeal.nD Cert.ReadOutRefIdeal.τ).loc Cert.ReadOutRefIdeal.main_arg5))

def preserves_GluOut_GluOutIdeal : Prop :=
  True

def algebraic_GluOutIdeal_GluOutRefIdeal [hGluOutIdeal : Cert.GluOutIdeal.Facts] [hGluOutRefIdeal : Cert.GluOutRefIdeal.Facts] : Prop :=
  ∀ (m : (ℓ : Loc Cert.GluOutIdeal.nD Cert.GluOutIdeal.τ Cert.GluOutIdeal.sig) → Buf (Elt Ideal) ℓ) (g : Dev Cert.GluOutIdeal.nD → PrngReg)
    (m' : (ℓ : Loc Cert.GluOutRefIdeal.nD Cert.GluOutRefIdeal.τ Cert.GluOutRefIdeal.sig) → Buf (Elt Ideal) ℓ) (g' : Dev Cert.GluOutRefIdeal.nD → PrngReg), Pre_GluOutIdeal m →
    (∀ c : Dev Cert.GluOutIdeal.nD,
      m' ((c.tc : Thread Cert.GluOutRefIdeal.nD Cert.GluOutRefIdeal.τ).loc Cert.GluOutRefIdeal.main_arg0) = m ((c.tc : Thread Cert.GluOutIdeal.nD Cert.GluOutIdeal.τ).loc Cert.GluOutIdeal.main_arg0)
      ∧ m' ((c.tc : Thread Cert.GluOutRefIdeal.nD Cert.GluOutRefIdeal.τ).loc Cert.GluOutRefIdeal.main_arg1) = m ((c.tc : Thread Cert.GluOutIdeal.nD Cert.GluOutIdeal.τ).loc Cert.GluOutIdeal.main_arg1)
      ∧ m' ((c.tc : Thread Cert.GluOutRefIdeal.nD Cert.GluOutRefIdeal.τ).loc Cert.GluOutRefIdeal.main_arg2) = m ((c.tc : Thread Cert.GluOutIdeal.nD Cert.GluOutIdeal.τ).loc Cert.GluOutIdeal.main_arg2)) →
    ∃ (v0 : (c : Dev Cert.GluOutIdeal.nD) → Buf (Elt Ideal) ((c.tc : Thread Cert.GluOutIdeal.nD Cert.GluOutIdeal.τ).loc Cert.GluOutIdeal.main_v4_0)) (v1 : (c : Dev Cert.GluOutIdeal.nD) → Buf (Elt Ideal) ((c.tc : Thread Cert.GluOutIdeal.nD Cert.GluOutIdeal.τ).loc Cert.GluOutIdeal.main_v4_1)),
      θ_run (Cert.GluOutIdeal.defs (F := Ideal)) (onTc (τ := Cert.GluOutIdeal.τ) (Cert.GluOutIdeal.main (F := Ideal))) ⟨m, fun _ => 0, g⟩ (fun r => ∀ c : Dev Cert.GluOutIdeal.nD,
          r.2.mem ((c.tc : Thread Cert.GluOutIdeal.nD Cert.GluOutIdeal.τ).loc Cert.GluOutIdeal.main_v4_0) = v0 c
          ∧ r.2.mem ((c.tc : Thread Cert.GluOutIdeal.nD Cert.GluOutIdeal.τ).loc Cert.GluOutIdeal.main_v4_1) = v1 c
          ∧ r.2.mem ((c.tc : Thread Cert.GluOutIdeal.nD Cert.GluOutIdeal.τ).loc Cert.GluOutIdeal.main_arg0) = m ((c.tc : Thread Cert.GluOutIdeal.nD Cert.GluOutIdeal.τ).loc Cert.GluOutIdeal.main_arg0)
          ∧ r.2.mem ((c.tc : Thread Cert.GluOutIdeal.nD Cert.GluOutIdeal.τ).loc Cert.GluOutIdeal.main_arg1) = m ((c.tc : Thread Cert.GluOutIdeal.nD Cert.GluOutIdeal.τ).loc Cert.GluOutIdeal.main_arg1)
          ∧ r.2.mem ((c.tc : Thread Cert.GluOutIdeal.nD Cert.GluOutIdeal.τ).loc Cert.GluOutIdeal.main_arg2) = m ((c.tc : Thread Cert.GluOutIdeal.nD Cert.GluOutIdeal.τ).loc Cert.GluOutIdeal.main_arg2))
      ∧ θ_run (Cert.GluOutRefIdeal.defs (F := Ideal)) (onTc (τ := Cert.GluOutRefIdeal.τ) (Cert.GluOutRefIdeal.main (F := Ideal))) ⟨m', fun _ => 0, g'⟩ (fun r => ∀ c : Dev Cert.GluOutRefIdeal.nD,
          r.2.mem ((c.tc : Thread Cert.GluOutRefIdeal.nD Cert.GluOutRefIdeal.τ).loc Cert.GluOutRefIdeal.main_v0) = v0 c
          ∧ r.2.mem ((c.tc : Thread Cert.GluOutRefIdeal.nD Cert.GluOutRefIdeal.τ).loc Cert.GluOutRefIdeal.main_v21) = v1 c
          ∧ r.2.mem ((c.tc : Thread Cert.GluOutRefIdeal.nD Cert.GluOutRefIdeal.τ).loc Cert.GluOutRefIdeal.main_arg0) = m' ((c.tc : Thread Cert.GluOutRefIdeal.nD Cert.GluOutRefIdeal.τ).loc Cert.GluOutRefIdeal.main_arg0)
          ∧ r.2.mem ((c.tc : Thread Cert.GluOutRefIdeal.nD Cert.GluOutRefIdeal.τ).loc Cert.GluOutRefIdeal.main_arg1) = m' ((c.tc : Thread Cert.GluOutRefIdeal.nD Cert.GluOutRefIdeal.τ).loc Cert.GluOutRefIdeal.main_arg1)
          ∧ r.2.mem ((c.tc : Thread Cert.GluOutRefIdeal.nD Cert.GluOutRefIdeal.τ).loc Cert.GluOutRefIdeal.main_arg2) = m' ((c.tc : Thread Cert.GluOutRefIdeal.nD Cert.GluOutRefIdeal.τ).loc Cert.GluOutRefIdeal.main_arg2))

def preserves_HalfSwap_HalfSwapIdeal : Prop :=
  True

def algebraic_HalfSwapIdeal_HalfSwapRefIdeal [hHalfSwapIdeal : Cert.HalfSwapIdeal.Facts] [hHalfSwapRefIdeal : Cert.HalfSwapRefIdeal.Facts] : Prop :=
  ∀ (m : (ℓ : Loc Cert.HalfSwapIdeal.nD Cert.HalfSwapIdeal.τ Cert.HalfSwapIdeal.sig) → Buf (Elt Ideal) ℓ) (g : Dev Cert.HalfSwapIdeal.nD → PrngReg)
    (m' : (ℓ : Loc Cert.HalfSwapRefIdeal.nD Cert.HalfSwapRefIdeal.τ Cert.HalfSwapRefIdeal.sig) → Buf (Elt Ideal) ℓ) (g' : Dev Cert.HalfSwapRefIdeal.nD → PrngReg), Pre_HalfSwapIdeal m →
    (∀ c : Dev Cert.HalfSwapIdeal.nD,
      m ((c.tc : Thread Cert.HalfSwapIdeal.nD Cert.HalfSwapIdeal.τ).loc Cert.HalfSwapIdeal.main_arg0) = Layout.block ⟨3, ![4, 2048, 1408]⟩ ⟨3, ![8, 2048, 1408]⟩ 0 2 c (m' (((0 : Dev Cert.HalfSwapRefIdeal.nD).tc : Thread Cert.HalfSwapRefIdeal.nD Cert.HalfSwapRefIdeal.τ).loc Cert.HalfSwapRefIdeal.main_arg0))
      ∧ m ((c.tc : Thread Cert.HalfSwapIdeal.nD Cert.HalfSwapIdeal.τ).loc Cert.HalfSwapIdeal.main_arg1) = Layout.block ⟨3, ![4, 2048, 1408]⟩ ⟨3, ![8, 2048, 1408]⟩ 0 2 c (m' (((0 : Dev Cert.HalfSwapRefIdeal.nD).tc : Thread Cert.HalfSwapRefIdeal.nD Cert.HalfSwapRefIdeal.τ).loc Cert.HalfSwapRefIdeal.main_arg1))
      ∧ m ((c.tc : Thread Cert.HalfSwapIdeal.nD Cert.HalfSwapIdeal.τ).loc Cert.HalfSwapIdeal.main_arg2) = Layout.block ⟨3, ![4, 1408, 2048]⟩ ⟨3, ![8, 1408, 2048]⟩ 0 2 c (m' (((0 : Dev Cert.HalfSwapRefIdeal.nD).tc : Thread Cert.HalfSwapRefIdeal.nD Cert.HalfSwapRefIdeal.τ).loc Cert.HalfSwapRefIdeal.main_arg2))
      ∧ m ((c.tc : Thread Cert.HalfSwapIdeal.nD Cert.HalfSwapIdeal.τ).loc Cert.HalfSwapIdeal.main_arg3) = Layout.block ⟨3, ![4, 2048, 1024]⟩ ⟨3, ![8, 2048, 1024]⟩ 0 2 c (m' (((0 : Dev Cert.HalfSwapRefIdeal.nD).tc : Thread Cert.HalfSwapRefIdeal.nD Cert.HalfSwapRefIdeal.τ).loc Cert.HalfSwapRefIdeal.main_arg3))
      ∧ m ((c.tc : Thread Cert.HalfSwapIdeal.nD Cert.HalfSwapIdeal.τ).loc Cert.HalfSwapIdeal.main_arg4) = Layout.block ⟨3, ![4, 256, 1024]⟩ ⟨3, ![8, 256, 1024]⟩ 0 2 c (m' (((0 : Dev Cert.HalfSwapRefIdeal.nD).tc : Thread Cert.HalfSwapRefIdeal.nD Cert.HalfSwapRefIdeal.τ).loc Cert.HalfSwapRefIdeal.main_arg4))
      ∧ m ((c.tc : Thread Cert.HalfSwapIdeal.nD Cert.HalfSwapIdeal.τ).loc Cert.HalfSwapIdeal.main_arg5) = Layout.block ⟨3, ![4, 512, 2048]⟩ ⟨3, ![8, 512, 2048]⟩ 0 2 c (m' (((0 : Dev Cert.HalfSwapRefIdeal.nD).tc : Thread Cert.HalfSwapRefIdeal.nD Cert.HalfSwapRefIdeal.τ).loc Cert.HalfSwapRefIdeal.main_arg5))
      ∧ m ((c.tc : Thread Cert.HalfSwapIdeal.nD Cert.HalfSwapIdeal.τ).loc Cert.HalfSwapIdeal.main_arg6) = Layout.block ⟨3, ![4, 2048, 1408]⟩ ⟨3, ![8, 2048, 1408]⟩ 0 2 c (m' (((0 : Dev Cert.HalfSwapRefIdeal.nD).tc : Thread Cert.HalfSwapRefIdeal.nD Cert.HalfSwapRefIdeal.τ).loc Cert.HalfSwapRefIdeal.main_arg6))
      ∧ m ((c.tc : Thread Cert.HalfSwapIdeal.nD Cert.HalfSwapIdeal.τ).loc Cert.HalfSwapIdeal.main_arg7) = Layout.block ⟨3, ![4, 2048, 1408]⟩ ⟨3, ![8, 2048, 1408]⟩ 0 2 c (m' (((0 : Dev Cert.HalfSwapRefIdeal.nD).tc : Thread Cert.HalfSwapRefIdeal.nD Cert.HalfSwapRefIdeal.τ).loc Cert.HalfSwapRefIdeal.main_arg7))
      ∧ m ((c.tc : Thread Cert.HalfSwapIdeal.nD Cert.HalfSwapIdeal.τ).loc Cert.HalfSwapIdeal.main_arg8) = Layout.block ⟨3, ![4, 1408, 2048]⟩ ⟨3, ![8, 1408, 2048]⟩ 0 2 c (m' (((0 : Dev Cert.HalfSwapRefIdeal.nD).tc : Thread Cert.HalfSwapRefIdeal.nD Cert.HalfSwapRefIdeal.τ).loc Cert.HalfSwapRefIdeal.main_arg8))) →
    ∃ (v0 : Buf (Elt Ideal) (((0 : Dev Cert.HalfSwapRefIdeal.nD).tc : Thread Cert.HalfSwapRefIdeal.nD Cert.HalfSwapRefIdeal.τ).loc Cert.HalfSwapRefIdeal.main_v2)) (v1 : Buf (Elt Ideal) (((0 : Dev Cert.HalfSwapRefIdeal.nD).tc : Thread Cert.HalfSwapRefIdeal.nD Cert.HalfSwapRefIdeal.τ).loc Cert.HalfSwapRefIdeal.main_v8)) (v2 : Buf (Elt Ideal) (((0 : Dev Cert.HalfSwapRefIdeal.nD).tc : Thread Cert.HalfSwapRefIdeal.nD Cert.HalfSwapRefIdeal.τ).loc Cert.HalfSwapRefIdeal.main_v14)) (v3 : Buf (Elt Ideal) (((0 : Dev Cert.HalfSwapRefIdeal.nD).tc : Thread Cert.HalfSwapRefIdeal.nD Cert.HalfSwapRefIdeal.τ).loc Cert.HalfSwapRefIdeal.main_v20)) (v4 : Buf (Elt Ideal) (((0 : Dev Cert.HalfSwapRefIdeal.nD).tc : Thread Cert.HalfSwapRefIdeal.nD Cert.HalfSwapRefIdeal.τ).loc Cert.HalfSwapRefIdeal.main_v26)) (v5 : Buf (Elt Ideal) (((0 : Dev Cert.HalfSwapRefIdeal.nD).tc : Thread Cert.HalfSwapRefIdeal.nD Cert.HalfSwapRefIdeal.τ).loc Cert.HalfSwapRefIdeal.main_v32)) (v6 : Buf (Elt Ideal) (((0 : Dev Cert.HalfSwapRefIdeal.nD).tc : Thread Cert.HalfSwapRefIdeal.nD Cert.HalfSwapRefIdeal.τ).loc Cert.HalfSwapRefIdeal.main_v38)) (v7 : Buf (Elt Ideal) (((0 : Dev Cert.HalfSwapRefIdeal.nD).tc : Thread Cert.HalfSwapRefIdeal.nD Cert.HalfSwapRefIdeal.τ).loc Cert.HalfSwapRefIdeal.main_v44)) (v8 : Buf (Elt Ideal) (((0 : Dev Cert.HalfSwapRefIdeal.nD).tc : Thread Cert.HalfSwapRefIdeal.nD Cert.HalfSwapRefIdeal.τ).loc Cert.HalfSwapRefIdeal.main_v50)) (v9 : Buf (Elt Ideal) (((0 : Dev Cert.HalfSwapRefIdeal.nD).tc : Thread Cert.HalfSwapRefIdeal.nD Cert.HalfSwapRefIdeal.τ).loc Cert.HalfSwapRefIdeal.main_v5)) (v10 : Buf (Elt Ideal) (((0 : Dev Cert.HalfSwapRefIdeal.nD).tc : Thread Cert.HalfSwapRefIdeal.nD Cert.HalfSwapRefIdeal.τ).loc Cert.HalfSwapRefIdeal.main_v11)) (v11 : Buf (Elt Ideal) (((0 : Dev Cert.HalfSwapRefIdeal.nD).tc : Thread Cert.HalfSwapRefIdeal.nD Cert.HalfSwapRefIdeal.τ).loc Cert.HalfSwapRefIdeal.main_v17)) (v12 : Buf (Elt Ideal) (((0 : Dev Cert.HalfSwapRefIdeal.nD).tc : Thread Cert.HalfSwapRefIdeal.nD Cert.HalfSwapRefIdeal.τ).loc Cert.HalfSwapRefIdeal.main_v23)) (v13 : Buf (Elt Ideal) (((0 : Dev Cert.HalfSwapRefIdeal.nD).tc : Thread Cert.HalfSwapRefIdeal.nD Cert.HalfSwapRefIdeal.τ).loc Cert.HalfSwapRefIdeal.main_v29)) (v14 : Buf (Elt Ideal) (((0 : Dev Cert.HalfSwapRefIdeal.nD).tc : Thread Cert.HalfSwapRefIdeal.nD Cert.HalfSwapRefIdeal.τ).loc Cert.HalfSwapRefIdeal.main_v35)) (v15 : Buf (Elt Ideal) (((0 : Dev Cert.HalfSwapRefIdeal.nD).tc : Thread Cert.HalfSwapRefIdeal.nD Cert.HalfSwapRefIdeal.τ).loc Cert.HalfSwapRefIdeal.main_v41)) (v16 : Buf (Elt Ideal) (((0 : Dev Cert.HalfSwapRefIdeal.nD).tc : Thread Cert.HalfSwapRefIdeal.nD Cert.HalfSwapRefIdeal.τ).loc Cert.HalfSwapRefIdeal.main_v47)) (v17 : Buf (Elt Ideal) (((0 : Dev Cert.HalfSwapRefIdeal.nD).tc : Thread Cert.HalfSwapRefIdeal.nD Cert.HalfSwapRefIdeal.τ).loc Cert.HalfSwapRefIdeal.main_v53)),
      θ_run (Cert.HalfSwapIdeal.defs (F := Ideal)) (onTc (τ := Cert.HalfSwapIdeal.τ) (Cert.HalfSwapIdeal.main (F := Ideal))) ⟨m, fun _ => 0, g⟩ (fun r => ∀ c : Dev Cert.HalfSwapIdeal.nD,
          r.2.mem ((c.tc : Thread Cert.HalfSwapIdeal.nD Cert.HalfSwapIdeal.τ).loc Cert.HalfSwapIdeal.main_v1_0) = Layout.block ⟨3, ![4, 1024, 1408]⟩ ⟨3, ![8, 1024, 1408]⟩ 0 2 c v0
          ∧ r.2.mem ((c.tc : Thread Cert.HalfSwapIdeal.nD Cert.HalfSwapIdeal.τ).loc Cert.HalfSwapIdeal.main_v1_1) = Layout.block ⟨3, ![4, 1024, 1408]⟩ ⟨3, ![8, 1024, 1408]⟩ 0 2 c v1
          ∧ r.2.mem ((c.tc : Thread Cert.HalfSwapIdeal.nD Cert.HalfSwapIdeal.τ).loc Cert.HalfSwapIdeal.main_v1_2) = Layout.block ⟨3, ![4, 704, 2048]⟩ ⟨3, ![8, 704, 2048]⟩ 0 2 c v2
          ∧ r.2.mem ((c.tc : Thread Cert.HalfSwapIdeal.nD Cert.HalfSwapIdeal.τ).loc Cert.HalfSwapIdeal.main_v1_3) = Layout.block ⟨3, ![4, 1024, 1024]⟩ ⟨3, ![8, 1024, 1024]⟩ 0 2 c v3
          ∧ r.2.mem ((c.tc : Thread Cert.HalfSwapIdeal.nD Cert.HalfSwapIdeal.τ).loc Cert.HalfSwapIdeal.main_v1_4) = Layout.block ⟨3, ![4, 128, 1024]⟩ ⟨3, ![8, 128, 1024]⟩ 0 2 c v4
          ∧ r.2.mem ((c.tc : Thread Cert.HalfSwapIdeal.nD Cert.HalfSwapIdeal.τ).loc Cert.HalfSwapIdeal.main_v1_5) = Layout.block ⟨3, ![4, 256, 2048]⟩ ⟨3, ![8, 256, 2048]⟩ 0 2 c v5
          ∧ r.2.mem ((c.tc : Thread Cert.HalfSwapIdeal.nD Cert.HalfSwapIdeal.τ).loc Cert.HalfSwapIdeal.main_v1_6) = Layout.block ⟨3, ![4, 1024, 1408]⟩ ⟨3, ![8, 1024, 1408]⟩ 0 2 c v6
          ∧ r.2.mem ((c.tc : Thread Cert.HalfSwapIdeal.nD Cert.HalfSwapIdeal.τ).loc Cert.HalfSwapIdeal.main_v1_7) = Layout.block ⟨3, ![4, 1024, 1408]⟩ ⟨3, ![8, 1024, 1408]⟩ 0 2 c v7
          ∧ r.2.mem ((c.tc : Thread Cert.HalfSwapIdeal.nD Cert.HalfSwapIdeal.τ).loc Cert.HalfSwapIdeal.main_v1_8) = Layout.block ⟨3, ![4, 704, 2048]⟩ ⟨3, ![8, 704, 2048]⟩ 0 2 c v8
          ∧ r.2.mem ((c.tc : Thread Cert.HalfSwapIdeal.nD Cert.HalfSwapIdeal.τ).loc Cert.HalfSwapIdeal.main_v1_9) = Layout.block ⟨3, ![4, 1024, 1408]⟩ ⟨3, ![8, 1024, 1408]⟩ 0 2 c v9
          ∧ r.2.mem ((c.tc : Thread Cert.HalfSwapIdeal.nD Cert.HalfSwapIdeal.τ).loc Cert.HalfSwapIdeal.main_v1_10) = Layout.block ⟨3, ![4, 1024, 1408]⟩ ⟨3, ![8, 1024, 1408]⟩ 0 2 c v10
          ∧ r.2.mem ((c.tc : Thread Cert.HalfSwapIdeal.nD Cert.HalfSwapIdeal.τ).loc Cert.HalfSwapIdeal.main_v1_11) = Layout.block ⟨3, ![4, 704, 2048]⟩ ⟨3, ![8, 704, 2048]⟩ 0 2 c v11
          ∧ r.2.mem ((c.tc : Thread Cert.HalfSwapIdeal.nD Cert.HalfSwapIdeal.τ).loc Cert.HalfSwapIdeal.main_v1_12) = Layout.block ⟨3, ![4, 1024, 1024]⟩ ⟨3, ![8, 1024, 1024]⟩ 0 2 c v12
          ∧ r.2.mem ((c.tc : Thread Cert.HalfSwapIdeal.nD Cert.HalfSwapIdeal.τ).loc Cert.HalfSwapIdeal.main_v1_13) = Layout.block ⟨3, ![4, 128, 1024]⟩ ⟨3, ![8, 128, 1024]⟩ 0 2 c v13
          ∧ r.2.mem ((c.tc : Thread Cert.HalfSwapIdeal.nD Cert.HalfSwapIdeal.τ).loc Cert.HalfSwapIdeal.main_v1_14) = Layout.block ⟨3, ![4, 256, 2048]⟩ ⟨3, ![8, 256, 2048]⟩ 0 2 c v14
          ∧ r.2.mem ((c.tc : Thread Cert.HalfSwapIdeal.nD Cert.HalfSwapIdeal.τ).loc Cert.HalfSwapIdeal.main_v1_15) = Layout.block ⟨3, ![4, 1024, 1408]⟩ ⟨3, ![8, 1024, 1408]⟩ 0 2 c v15
          ∧ r.2.mem ((c.tc : Thread Cert.HalfSwapIdeal.nD Cert.HalfSwapIdeal.τ).loc Cert.HalfSwapIdeal.main_v1_16) = Layout.block ⟨3, ![4, 1024, 1408]⟩ ⟨3, ![8, 1024, 1408]⟩ 0 2 c v16
          ∧ r.2.mem ((c.tc : Thread Cert.HalfSwapIdeal.nD Cert.HalfSwapIdeal.τ).loc Cert.HalfSwapIdeal.main_v1_17) = Layout.block ⟨3, ![4, 704, 2048]⟩ ⟨3, ![8, 704, 2048]⟩ 0 2 c v17
          ∧ r.2.mem ((c.tc : Thread Cert.HalfSwapIdeal.nD Cert.HalfSwapIdeal.τ).loc Cert.HalfSwapIdeal.main_arg0) = m ((c.tc : Thread Cert.HalfSwapIdeal.nD Cert.HalfSwapIdeal.τ).loc Cert.HalfSwapIdeal.main_arg0)
          ∧ r.2.mem ((c.tc : Thread Cert.HalfSwapIdeal.nD Cert.HalfSwapIdeal.τ).loc Cert.HalfSwapIdeal.main_arg1) = m ((c.tc : Thread Cert.HalfSwapIdeal.nD Cert.HalfSwapIdeal.τ).loc Cert.HalfSwapIdeal.main_arg1)
          ∧ r.2.mem ((c.tc : Thread Cert.HalfSwapIdeal.nD Cert.HalfSwapIdeal.τ).loc Cert.HalfSwapIdeal.main_arg2) = m ((c.tc : Thread Cert.HalfSwapIdeal.nD Cert.HalfSwapIdeal.τ).loc Cert.HalfSwapIdeal.main_arg2)
          ∧ r.2.mem ((c.tc : Thread Cert.HalfSwapIdeal.nD Cert.HalfSwapIdeal.τ).loc Cert.HalfSwapIdeal.main_arg3) = m ((c.tc : Thread Cert.HalfSwapIdeal.nD Cert.HalfSwapIdeal.τ).loc Cert.HalfSwapIdeal.main_arg3)
          ∧ r.2.mem ((c.tc : Thread Cert.HalfSwapIdeal.nD Cert.HalfSwapIdeal.τ).loc Cert.HalfSwapIdeal.main_arg4) = m ((c.tc : Thread Cert.HalfSwapIdeal.nD Cert.HalfSwapIdeal.τ).loc Cert.HalfSwapIdeal.main_arg4)
          ∧ r.2.mem ((c.tc : Thread Cert.HalfSwapIdeal.nD Cert.HalfSwapIdeal.τ).loc Cert.HalfSwapIdeal.main_arg5) = m ((c.tc : Thread Cert.HalfSwapIdeal.nD Cert.HalfSwapIdeal.τ).loc Cert.HalfSwapIdeal.main_arg5)
          ∧ r.2.mem ((c.tc : Thread Cert.HalfSwapIdeal.nD Cert.HalfSwapIdeal.τ).loc Cert.HalfSwapIdeal.main_arg6) = m ((c.tc : Thread Cert.HalfSwapIdeal.nD Cert.HalfSwapIdeal.τ).loc Cert.HalfSwapIdeal.main_arg6)
          ∧ r.2.mem ((c.tc : Thread Cert.HalfSwapIdeal.nD Cert.HalfSwapIdeal.τ).loc Cert.HalfSwapIdeal.main_arg7) = m ((c.tc : Thread Cert.HalfSwapIdeal.nD Cert.HalfSwapIdeal.τ).loc Cert.HalfSwapIdeal.main_arg7)
          ∧ r.2.mem ((c.tc : Thread Cert.HalfSwapIdeal.nD Cert.HalfSwapIdeal.τ).loc Cert.HalfSwapIdeal.main_arg8) = m ((c.tc : Thread Cert.HalfSwapIdeal.nD Cert.HalfSwapIdeal.τ).loc Cert.HalfSwapIdeal.main_arg8))
      ∧ θ_run (Cert.HalfSwapRefIdeal.defs (F := Ideal)) (onTc (τ := Cert.HalfSwapRefIdeal.τ) (Cert.HalfSwapRefIdeal.main (F := Ideal))) ⟨m', fun _ => 0, g'⟩ (fun r =>
          r.2.mem (((0 : Dev Cert.HalfSwapRefIdeal.nD).tc : Thread Cert.HalfSwapRefIdeal.nD Cert.HalfSwapRefIdeal.τ).loc Cert.HalfSwapRefIdeal.main_v2) = v0
          ∧ r.2.mem (((0 : Dev Cert.HalfSwapRefIdeal.nD).tc : Thread Cert.HalfSwapRefIdeal.nD Cert.HalfSwapRefIdeal.τ).loc Cert.HalfSwapRefIdeal.main_v8) = v1
          ∧ r.2.mem (((0 : Dev Cert.HalfSwapRefIdeal.nD).tc : Thread Cert.HalfSwapRefIdeal.nD Cert.HalfSwapRefIdeal.τ).loc Cert.HalfSwapRefIdeal.main_v14) = v2
          ∧ r.2.mem (((0 : Dev Cert.HalfSwapRefIdeal.nD).tc : Thread Cert.HalfSwapRefIdeal.nD Cert.HalfSwapRefIdeal.τ).loc Cert.HalfSwapRefIdeal.main_v20) = v3
          ∧ r.2.mem (((0 : Dev Cert.HalfSwapRefIdeal.nD).tc : Thread Cert.HalfSwapRefIdeal.nD Cert.HalfSwapRefIdeal.τ).loc Cert.HalfSwapRefIdeal.main_v26) = v4
          ∧ r.2.mem (((0 : Dev Cert.HalfSwapRefIdeal.nD).tc : Thread Cert.HalfSwapRefIdeal.nD Cert.HalfSwapRefIdeal.τ).loc Cert.HalfSwapRefIdeal.main_v32) = v5
          ∧ r.2.mem (((0 : Dev Cert.HalfSwapRefIdeal.nD).tc : Thread Cert.HalfSwapRefIdeal.nD Cert.HalfSwapRefIdeal.τ).loc Cert.HalfSwapRefIdeal.main_v38) = v6
          ∧ r.2.mem (((0 : Dev Cert.HalfSwapRefIdeal.nD).tc : Thread Cert.HalfSwapRefIdeal.nD Cert.HalfSwapRefIdeal.τ).loc Cert.HalfSwapRefIdeal.main_v44) = v7
          ∧ r.2.mem (((0 : Dev Cert.HalfSwapRefIdeal.nD).tc : Thread Cert.HalfSwapRefIdeal.nD Cert.HalfSwapRefIdeal.τ).loc Cert.HalfSwapRefIdeal.main_v50) = v8
          ∧ r.2.mem (((0 : Dev Cert.HalfSwapRefIdeal.nD).tc : Thread Cert.HalfSwapRefIdeal.nD Cert.HalfSwapRefIdeal.τ).loc Cert.HalfSwapRefIdeal.main_v5) = v9
          ∧ r.2.mem (((0 : Dev Cert.HalfSwapRefIdeal.nD).tc : Thread Cert.HalfSwapRefIdeal.nD Cert.HalfSwapRefIdeal.τ).loc Cert.HalfSwapRefIdeal.main_v11) = v10
          ∧ r.2.mem (((0 : Dev Cert.HalfSwapRefIdeal.nD).tc : Thread Cert.HalfSwapRefIdeal.nD Cert.HalfSwapRefIdeal.τ).loc Cert.HalfSwapRefIdeal.main_v17) = v11
          ∧ r.2.mem (((0 : Dev Cert.HalfSwapRefIdeal.nD).tc : Thread Cert.HalfSwapRefIdeal.nD Cert.HalfSwapRefIdeal.τ).loc Cert.HalfSwapRefIdeal.main_v23) = v12
          ∧ r.2.mem (((0 : Dev Cert.HalfSwapRefIdeal.nD).tc : Thread Cert.HalfSwapRefIdeal.nD Cert.HalfSwapRefIdeal.τ).loc Cert.HalfSwapRefIdeal.main_v29) = v13
          ∧ r.2.mem (((0 : Dev Cert.HalfSwapRefIdeal.nD).tc : Thread Cert.HalfSwapRefIdeal.nD Cert.HalfSwapRefIdeal.τ).loc Cert.HalfSwapRefIdeal.main_v35) = v14
          ∧ r.2.mem (((0 : Dev Cert.HalfSwapRefIdeal.nD).tc : Thread Cert.HalfSwapRefIdeal.nD Cert.HalfSwapRefIdeal.τ).loc Cert.HalfSwapRefIdeal.main_v41) = v15
          ∧ r.2.mem (((0 : Dev Cert.HalfSwapRefIdeal.nD).tc : Thread Cert.HalfSwapRefIdeal.nD Cert.HalfSwapRefIdeal.τ).loc Cert.HalfSwapRefIdeal.main_v47) = v16
          ∧ r.2.mem (((0 : Dev Cert.HalfSwapRefIdeal.nD).tc : Thread Cert.HalfSwapRefIdeal.nD Cert.HalfSwapRefIdeal.τ).loc Cert.HalfSwapRefIdeal.main_v53) = v17
          ∧ r.2.mem (((0 : Dev Cert.HalfSwapRefIdeal.nD).tc : Thread Cert.HalfSwapRefIdeal.nD Cert.HalfSwapRefIdeal.τ).loc Cert.HalfSwapRefIdeal.main_arg0) = m' (((0 : Dev Cert.HalfSwapRefIdeal.nD).tc : Thread Cert.HalfSwapRefIdeal.nD Cert.HalfSwapRefIdeal.τ).loc Cert.HalfSwapRefIdeal.main_arg0)
          ∧ r.2.mem (((0 : Dev Cert.HalfSwapRefIdeal.nD).tc : Thread Cert.HalfSwapRefIdeal.nD Cert.HalfSwapRefIdeal.τ).loc Cert.HalfSwapRefIdeal.main_arg1) = m' (((0 : Dev Cert.HalfSwapRefIdeal.nD).tc : Thread Cert.HalfSwapRefIdeal.nD Cert.HalfSwapRefIdeal.τ).loc Cert.HalfSwapRefIdeal.main_arg1)
          ∧ r.2.mem (((0 : Dev Cert.HalfSwapRefIdeal.nD).tc : Thread Cert.HalfSwapRefIdeal.nD Cert.HalfSwapRefIdeal.τ).loc Cert.HalfSwapRefIdeal.main_arg2) = m' (((0 : Dev Cert.HalfSwapRefIdeal.nD).tc : Thread Cert.HalfSwapRefIdeal.nD Cert.HalfSwapRefIdeal.τ).loc Cert.HalfSwapRefIdeal.main_arg2)
          ∧ r.2.mem (((0 : Dev Cert.HalfSwapRefIdeal.nD).tc : Thread Cert.HalfSwapRefIdeal.nD Cert.HalfSwapRefIdeal.τ).loc Cert.HalfSwapRefIdeal.main_arg3) = m' (((0 : Dev Cert.HalfSwapRefIdeal.nD).tc : Thread Cert.HalfSwapRefIdeal.nD Cert.HalfSwapRefIdeal.τ).loc Cert.HalfSwapRefIdeal.main_arg3)
          ∧ r.2.mem (((0 : Dev Cert.HalfSwapRefIdeal.nD).tc : Thread Cert.HalfSwapRefIdeal.nD Cert.HalfSwapRefIdeal.τ).loc Cert.HalfSwapRefIdeal.main_arg4) = m' (((0 : Dev Cert.HalfSwapRefIdeal.nD).tc : Thread Cert.HalfSwapRefIdeal.nD Cert.HalfSwapRefIdeal.τ).loc Cert.HalfSwapRefIdeal.main_arg4)
          ∧ r.2.mem (((0 : Dev Cert.HalfSwapRefIdeal.nD).tc : Thread Cert.HalfSwapRefIdeal.nD Cert.HalfSwapRefIdeal.τ).loc Cert.HalfSwapRefIdeal.main_arg5) = m' (((0 : Dev Cert.HalfSwapRefIdeal.nD).tc : Thread Cert.HalfSwapRefIdeal.nD Cert.HalfSwapRefIdeal.τ).loc Cert.HalfSwapRefIdeal.main_arg5)
          ∧ r.2.mem (((0 : Dev Cert.HalfSwapRefIdeal.nD).tc : Thread Cert.HalfSwapRefIdeal.nD Cert.HalfSwapRefIdeal.τ).loc Cert.HalfSwapRefIdeal.main_arg6) = m' (((0 : Dev Cert.HalfSwapRefIdeal.nD).tc : Thread Cert.HalfSwapRefIdeal.nD Cert.HalfSwapRefIdeal.τ).loc Cert.HalfSwapRefIdeal.main_arg6)
          ∧ r.2.mem (((0 : Dev Cert.HalfSwapRefIdeal.nD).tc : Thread Cert.HalfSwapRefIdeal.nD Cert.HalfSwapRefIdeal.τ).loc Cert.HalfSwapRefIdeal.main_arg7) = m' (((0 : Dev Cert.HalfSwapRefIdeal.nD).tc : Thread Cert.HalfSwapRefIdeal.nD Cert.HalfSwapRefIdeal.τ).loc Cert.HalfSwapRefIdeal.main_arg7)
          ∧ r.2.mem (((0 : Dev Cert.HalfSwapRefIdeal.nD).tc : Thread Cert.HalfSwapRefIdeal.nD Cert.HalfSwapRefIdeal.τ).loc Cert.HalfSwapRefIdeal.main_arg8) = m' (((0 : Dev Cert.HalfSwapRefIdeal.nD).tc : Thread Cert.HalfSwapRefIdeal.nD Cert.HalfSwapRefIdeal.τ).loc Cert.HalfSwapRefIdeal.main_arg8))

def preserves_ChipSwap_ChipSwapIdeal : Prop :=
  True

def algebraic_ChipSwapIdeal_ChipSwapRefIdeal [hChipSwapIdeal : Cert.ChipSwapIdeal.Facts] [hChipSwapRefIdeal : Cert.ChipSwapRefIdeal.Facts] : Prop :=
  ∀ (m : (ℓ : Loc Cert.ChipSwapIdeal.nD Cert.ChipSwapIdeal.τ Cert.ChipSwapIdeal.sig) → Buf (Elt Ideal) ℓ) (g : Dev Cert.ChipSwapIdeal.nD → PrngReg)
    (m' : (ℓ : Loc Cert.ChipSwapRefIdeal.nD Cert.ChipSwapRefIdeal.τ Cert.ChipSwapRefIdeal.sig) → Buf (Elt Ideal) ℓ) (g' : Dev Cert.ChipSwapRefIdeal.nD → PrngReg), Pre_ChipSwapIdeal m →
    (∀ c : Dev Cert.ChipSwapIdeal.nD,
      m ((c.tc : Thread Cert.ChipSwapIdeal.nD Cert.ChipSwapIdeal.τ).loc Cert.ChipSwapIdeal.main_arg0) = Layout.block ⟨3, ![4, 1024, 1408]⟩ ⟨3, ![16, 1024, 1408]⟩ 0 4 c (m' (((0 : Dev Cert.ChipSwapRefIdeal.nD).tc : Thread Cert.ChipSwapRefIdeal.nD Cert.ChipSwapRefIdeal.τ).loc Cert.ChipSwapRefIdeal.main_arg0))
      ∧ m ((c.tc : Thread Cert.ChipSwapIdeal.nD Cert.ChipSwapIdeal.τ).loc Cert.ChipSwapIdeal.main_arg1) = Layout.block ⟨3, ![4, 1024, 1408]⟩ ⟨3, ![16, 1024, 1408]⟩ 0 4 c (m' (((0 : Dev Cert.ChipSwapRefIdeal.nD).tc : Thread Cert.ChipSwapRefIdeal.nD Cert.ChipSwapRefIdeal.τ).loc Cert.ChipSwapRefIdeal.main_arg1))
      ∧ m ((c.tc : Thread Cert.ChipSwapIdeal.nD Cert.ChipSwapIdeal.τ).loc Cert.ChipSwapIdeal.main_arg2) = Layout.block ⟨3, ![4, 704, 2048]⟩ ⟨3, ![16, 704, 2048]⟩ 0 4 c (m' (((0 : Dev Cert.ChipSwapRefIdeal.nD).tc : Thread Cert.ChipSwapRefIdeal.nD Cert.ChipSwapRefIdeal.τ).loc Cert.ChipSwapRefIdeal.main_arg2))
      ∧ m ((c.tc : Thread Cert.ChipSwapIdeal.nD Cert.ChipSwapIdeal.τ).loc Cert.ChipSwapIdeal.main_arg3) = Layout.block ⟨3, ![4, 1024, 1024]⟩ ⟨3, ![16, 1024, 1024]⟩ 0 4 c (m' (((0 : Dev Cert.ChipSwapRefIdeal.nD).tc : Thread Cert.ChipSwapRefIdeal.nD Cert.ChipSwapRefIdeal.τ).loc Cert.ChipSwapRefIdeal.main_arg3))
      ∧ m ((c.tc : Thread Cert.ChipSwapIdeal.nD Cert.ChipSwapIdeal.τ).loc Cert.ChipSwapIdeal.main_arg4) = Layout.block ⟨3, ![4, 128, 1024]⟩ ⟨3, ![16, 128, 1024]⟩ 0 4 c (m' (((0 : Dev Cert.ChipSwapRefIdeal.nD).tc : Thread Cert.ChipSwapRefIdeal.nD Cert.ChipSwapRefIdeal.τ).loc Cert.ChipSwapRefIdeal.main_arg4))
      ∧ m ((c.tc : Thread Cert.ChipSwapIdeal.nD Cert.ChipSwapIdeal.τ).loc Cert.ChipSwapIdeal.main_arg5) = Layout.block ⟨3, ![4, 256, 2048]⟩ ⟨3, ![16, 256, 2048]⟩ 0 4 c (m' (((0 : Dev Cert.ChipSwapRefIdeal.nD).tc : Thread Cert.ChipSwapRefIdeal.nD Cert.ChipSwapRefIdeal.τ).loc Cert.ChipSwapRefIdeal.main_arg5))
      ∧ m ((c.tc : Thread Cert.ChipSwapIdeal.nD Cert.ChipSwapIdeal.τ).loc Cert.ChipSwapIdeal.main_arg6) = Layout.block ⟨3, ![4, 1024, 1408]⟩ ⟨3, ![16, 1024, 1408]⟩ 0 4 c (m' (((0 : Dev Cert.ChipSwapRefIdeal.nD).tc : Thread Cert.ChipSwapRefIdeal.nD Cert.ChipSwapRefIdeal.τ).loc Cert.ChipSwapRefIdeal.main_arg6))
      ∧ m ((c.tc : Thread Cert.ChipSwapIdeal.nD Cert.ChipSwapIdeal.τ).loc Cert.ChipSwapIdeal.main_arg7) = Layout.block ⟨3, ![4, 1024, 1408]⟩ ⟨3, ![16, 1024, 1408]⟩ 0 4 c (m' (((0 : Dev Cert.ChipSwapRefIdeal.nD).tc : Thread Cert.ChipSwapRefIdeal.nD Cert.ChipSwapRefIdeal.τ).loc Cert.ChipSwapRefIdeal.main_arg7))
      ∧ m ((c.tc : Thread Cert.ChipSwapIdeal.nD Cert.ChipSwapIdeal.τ).loc Cert.ChipSwapIdeal.main_arg8) = Layout.block ⟨3, ![4, 704, 2048]⟩ ⟨3, ![16, 704, 2048]⟩ 0 4 c (m' (((0 : Dev Cert.ChipSwapRefIdeal.nD).tc : Thread Cert.ChipSwapRefIdeal.nD Cert.ChipSwapRefIdeal.τ).loc Cert.ChipSwapRefIdeal.main_arg8))) →
    ∃ (v0 : Buf (Elt Ideal) (((0 : Dev Cert.ChipSwapRefIdeal.nD).tc : Thread Cert.ChipSwapRefIdeal.nD Cert.ChipSwapRefIdeal.τ).loc Cert.ChipSwapRefIdeal.main_v2)) (v1 : Buf (Elt Ideal) (((0 : Dev Cert.ChipSwapRefIdeal.nD).tc : Thread Cert.ChipSwapRefIdeal.nD Cert.ChipSwapRefIdeal.τ).loc Cert.ChipSwapRefIdeal.main_v5)) (v2 : Buf (Elt Ideal) (((0 : Dev Cert.ChipSwapRefIdeal.nD).tc : Thread Cert.ChipSwapRefIdeal.nD Cert.ChipSwapRefIdeal.τ).loc Cert.ChipSwapRefIdeal.main_v8)) (v3 : Buf (Elt Ideal) (((0 : Dev Cert.ChipSwapRefIdeal.nD).tc : Thread Cert.ChipSwapRefIdeal.nD Cert.ChipSwapRefIdeal.τ).loc Cert.ChipSwapRefIdeal.main_v11)) (v4 : Buf (Elt Ideal) (((0 : Dev Cert.ChipSwapRefIdeal.nD).tc : Thread Cert.ChipSwapRefIdeal.nD Cert.ChipSwapRefIdeal.τ).loc Cert.ChipSwapRefIdeal.main_v14)) (v5 : Buf (Elt Ideal) (((0 : Dev Cert.ChipSwapRefIdeal.nD).tc : Thread Cert.ChipSwapRefIdeal.nD Cert.ChipSwapRefIdeal.τ).loc Cert.ChipSwapRefIdeal.main_v17)) (v6 : Buf (Elt Ideal) (((0 : Dev Cert.ChipSwapRefIdeal.nD).tc : Thread Cert.ChipSwapRefIdeal.nD Cert.ChipSwapRefIdeal.τ).loc Cert.ChipSwapRefIdeal.main_v20)) (v7 : Buf (Elt Ideal) (((0 : Dev Cert.ChipSwapRefIdeal.nD).tc : Thread Cert.ChipSwapRefIdeal.nD Cert.ChipSwapRefIdeal.τ).loc Cert.ChipSwapRefIdeal.main_v23)) (v8 : Buf (Elt Ideal) (((0 : Dev Cert.ChipSwapRefIdeal.nD).tc : Thread Cert.ChipSwapRefIdeal.nD Cert.ChipSwapRefIdeal.τ).loc Cert.ChipSwapRefIdeal.main_v26)),
      θ_run (Cert.ChipSwapIdeal.defs (F := Ideal)) (onTc (τ := Cert.ChipSwapIdeal.τ) (Cert.ChipSwapIdeal.main (F := Ideal))) ⟨m, fun _ => 0, g⟩ (fun r => ∀ c : Dev Cert.ChipSwapIdeal.nD,
          r.2.mem ((c.tc : Thread Cert.ChipSwapIdeal.nD Cert.ChipSwapIdeal.τ).loc Cert.ChipSwapIdeal.main_v1_0) = Layout.block ⟨3, ![4, 1024, 1408]⟩ ⟨3, ![16, 1024, 1408]⟩ 0 4 c v0
          ∧ r.2.mem ((c.tc : Thread Cert.ChipSwapIdeal.nD Cert.ChipSwapIdeal.τ).loc Cert.ChipSwapIdeal.main_v1_1) = Layout.block ⟨3, ![4, 1024, 1408]⟩ ⟨3, ![16, 1024, 1408]⟩ 0 4 c v1
          ∧ r.2.mem ((c.tc : Thread Cert.ChipSwapIdeal.nD Cert.ChipSwapIdeal.τ).loc Cert.ChipSwapIdeal.main_v1_2) = Layout.block ⟨3, ![4, 704, 2048]⟩ ⟨3, ![16, 704, 2048]⟩ 0 4 c v2
          ∧ r.2.mem ((c.tc : Thread Cert.ChipSwapIdeal.nD Cert.ChipSwapIdeal.τ).loc Cert.ChipSwapIdeal.main_v1_3) = Layout.block ⟨3, ![4, 1024, 1024]⟩ ⟨3, ![16, 1024, 1024]⟩ 0 4 c v3
          ∧ r.2.mem ((c.tc : Thread Cert.ChipSwapIdeal.nD Cert.ChipSwapIdeal.τ).loc Cert.ChipSwapIdeal.main_v1_4) = Layout.block ⟨3, ![4, 128, 1024]⟩ ⟨3, ![16, 128, 1024]⟩ 0 4 c v4
          ∧ r.2.mem ((c.tc : Thread Cert.ChipSwapIdeal.nD Cert.ChipSwapIdeal.τ).loc Cert.ChipSwapIdeal.main_v1_5) = Layout.block ⟨3, ![4, 256, 2048]⟩ ⟨3, ![16, 256, 2048]⟩ 0 4 c v5
          ∧ r.2.mem ((c.tc : Thread Cert.ChipSwapIdeal.nD Cert.ChipSwapIdeal.τ).loc Cert.ChipSwapIdeal.main_v1_6) = Layout.block ⟨3, ![4, 1024, 1408]⟩ ⟨3, ![16, 1024, 1408]⟩ 0 4 c v6
          ∧ r.2.mem ((c.tc : Thread Cert.ChipSwapIdeal.nD Cert.ChipSwapIdeal.τ).loc Cert.ChipSwapIdeal.main_v1_7) = Layout.block ⟨3, ![4, 1024, 1408]⟩ ⟨3, ![16, 1024, 1408]⟩ 0 4 c v7
          ∧ r.2.mem ((c.tc : Thread Cert.ChipSwapIdeal.nD Cert.ChipSwapIdeal.τ).loc Cert.ChipSwapIdeal.main_v1_8) = Layout.block ⟨3, ![4, 704, 2048]⟩ ⟨3, ![16, 704, 2048]⟩ 0 4 c v8
          ∧ r.2.mem ((c.tc : Thread Cert.ChipSwapIdeal.nD Cert.ChipSwapIdeal.τ).loc Cert.ChipSwapIdeal.main_arg0) = m ((c.tc : Thread Cert.ChipSwapIdeal.nD Cert.ChipSwapIdeal.τ).loc Cert.ChipSwapIdeal.main_arg0)
          ∧ r.2.mem ((c.tc : Thread Cert.ChipSwapIdeal.nD Cert.ChipSwapIdeal.τ).loc Cert.ChipSwapIdeal.main_arg1) = m ((c.tc : Thread Cert.ChipSwapIdeal.nD Cert.ChipSwapIdeal.τ).loc Cert.ChipSwapIdeal.main_arg1)
          ∧ r.2.mem ((c.tc : Thread Cert.ChipSwapIdeal.nD Cert.ChipSwapIdeal.τ).loc Cert.ChipSwapIdeal.main_arg2) = m ((c.tc : Thread Cert.ChipSwapIdeal.nD Cert.ChipSwapIdeal.τ).loc Cert.ChipSwapIdeal.main_arg2)
          ∧ r.2.mem ((c.tc : Thread Cert.ChipSwapIdeal.nD Cert.ChipSwapIdeal.τ).loc Cert.ChipSwapIdeal.main_arg3) = m ((c.tc : Thread Cert.ChipSwapIdeal.nD Cert.ChipSwapIdeal.τ).loc Cert.ChipSwapIdeal.main_arg3)
          ∧ r.2.mem ((c.tc : Thread Cert.ChipSwapIdeal.nD Cert.ChipSwapIdeal.τ).loc Cert.ChipSwapIdeal.main_arg4) = m ((c.tc : Thread Cert.ChipSwapIdeal.nD Cert.ChipSwapIdeal.τ).loc Cert.ChipSwapIdeal.main_arg4)
          ∧ r.2.mem ((c.tc : Thread Cert.ChipSwapIdeal.nD Cert.ChipSwapIdeal.τ).loc Cert.ChipSwapIdeal.main_arg5) = m ((c.tc : Thread Cert.ChipSwapIdeal.nD Cert.ChipSwapIdeal.τ).loc Cert.ChipSwapIdeal.main_arg5)
          ∧ r.2.mem ((c.tc : Thread Cert.ChipSwapIdeal.nD Cert.ChipSwapIdeal.τ).loc Cert.ChipSwapIdeal.main_arg6) = m ((c.tc : Thread Cert.ChipSwapIdeal.nD Cert.ChipSwapIdeal.τ).loc Cert.ChipSwapIdeal.main_arg6)
          ∧ r.2.mem ((c.tc : Thread Cert.ChipSwapIdeal.nD Cert.ChipSwapIdeal.τ).loc Cert.ChipSwapIdeal.main_arg7) = m ((c.tc : Thread Cert.ChipSwapIdeal.nD Cert.ChipSwapIdeal.τ).loc Cert.ChipSwapIdeal.main_arg7)
          ∧ r.2.mem ((c.tc : Thread Cert.ChipSwapIdeal.nD Cert.ChipSwapIdeal.τ).loc Cert.ChipSwapIdeal.main_arg8) = m ((c.tc : Thread Cert.ChipSwapIdeal.nD Cert.ChipSwapIdeal.τ).loc Cert.ChipSwapIdeal.main_arg8))
      ∧ θ_run (Cert.ChipSwapRefIdeal.defs (F := Ideal)) (onTc (τ := Cert.ChipSwapRefIdeal.τ) (Cert.ChipSwapRefIdeal.main (F := Ideal))) ⟨m', fun _ => 0, g'⟩ (fun r =>
          r.2.mem (((0 : Dev Cert.ChipSwapRefIdeal.nD).tc : Thread Cert.ChipSwapRefIdeal.nD Cert.ChipSwapRefIdeal.τ).loc Cert.ChipSwapRefIdeal.main_v2) = v0
          ∧ r.2.mem (((0 : Dev Cert.ChipSwapRefIdeal.nD).tc : Thread Cert.ChipSwapRefIdeal.nD Cert.ChipSwapRefIdeal.τ).loc Cert.ChipSwapRefIdeal.main_v5) = v1
          ∧ r.2.mem (((0 : Dev Cert.ChipSwapRefIdeal.nD).tc : Thread Cert.ChipSwapRefIdeal.nD Cert.ChipSwapRefIdeal.τ).loc Cert.ChipSwapRefIdeal.main_v8) = v2
          ∧ r.2.mem (((0 : Dev Cert.ChipSwapRefIdeal.nD).tc : Thread Cert.ChipSwapRefIdeal.nD Cert.ChipSwapRefIdeal.τ).loc Cert.ChipSwapRefIdeal.main_v11) = v3
          ∧ r.2.mem (((0 : Dev Cert.ChipSwapRefIdeal.nD).tc : Thread Cert.ChipSwapRefIdeal.nD Cert.ChipSwapRefIdeal.τ).loc Cert.ChipSwapRefIdeal.main_v14) = v4
          ∧ r.2.mem (((0 : Dev Cert.ChipSwapRefIdeal.nD).tc : Thread Cert.ChipSwapRefIdeal.nD Cert.ChipSwapRefIdeal.τ).loc Cert.ChipSwapRefIdeal.main_v17) = v5
          ∧ r.2.mem (((0 : Dev Cert.ChipSwapRefIdeal.nD).tc : Thread Cert.ChipSwapRefIdeal.nD Cert.ChipSwapRefIdeal.τ).loc Cert.ChipSwapRefIdeal.main_v20) = v6
          ∧ r.2.mem (((0 : Dev Cert.ChipSwapRefIdeal.nD).tc : Thread Cert.ChipSwapRefIdeal.nD Cert.ChipSwapRefIdeal.τ).loc Cert.ChipSwapRefIdeal.main_v23) = v7
          ∧ r.2.mem (((0 : Dev Cert.ChipSwapRefIdeal.nD).tc : Thread Cert.ChipSwapRefIdeal.nD Cert.ChipSwapRefIdeal.τ).loc Cert.ChipSwapRefIdeal.main_v26) = v8
          ∧ r.2.mem (((0 : Dev Cert.ChipSwapRefIdeal.nD).tc : Thread Cert.ChipSwapRefIdeal.nD Cert.ChipSwapRefIdeal.τ).loc Cert.ChipSwapRefIdeal.main_arg0) = m' (((0 : Dev Cert.ChipSwapRefIdeal.nD).tc : Thread Cert.ChipSwapRefIdeal.nD Cert.ChipSwapRefIdeal.τ).loc Cert.ChipSwapRefIdeal.main_arg0)
          ∧ r.2.mem (((0 : Dev Cert.ChipSwapRefIdeal.nD).tc : Thread Cert.ChipSwapRefIdeal.nD Cert.ChipSwapRefIdeal.τ).loc Cert.ChipSwapRefIdeal.main_arg1) = m' (((0 : Dev Cert.ChipSwapRefIdeal.nD).tc : Thread Cert.ChipSwapRefIdeal.nD Cert.ChipSwapRefIdeal.τ).loc Cert.ChipSwapRefIdeal.main_arg1)
          ∧ r.2.mem (((0 : Dev Cert.ChipSwapRefIdeal.nD).tc : Thread Cert.ChipSwapRefIdeal.nD Cert.ChipSwapRefIdeal.τ).loc Cert.ChipSwapRefIdeal.main_arg2) = m' (((0 : Dev Cert.ChipSwapRefIdeal.nD).tc : Thread Cert.ChipSwapRefIdeal.nD Cert.ChipSwapRefIdeal.τ).loc Cert.ChipSwapRefIdeal.main_arg2)
          ∧ r.2.mem (((0 : Dev Cert.ChipSwapRefIdeal.nD).tc : Thread Cert.ChipSwapRefIdeal.nD Cert.ChipSwapRefIdeal.τ).loc Cert.ChipSwapRefIdeal.main_arg3) = m' (((0 : Dev Cert.ChipSwapRefIdeal.nD).tc : Thread Cert.ChipSwapRefIdeal.nD Cert.ChipSwapRefIdeal.τ).loc Cert.ChipSwapRefIdeal.main_arg3)
          ∧ r.2.mem (((0 : Dev Cert.ChipSwapRefIdeal.nD).tc : Thread Cert.ChipSwapRefIdeal.nD Cert.ChipSwapRefIdeal.τ).loc Cert.ChipSwapRefIdeal.main_arg4) = m' (((0 : Dev Cert.ChipSwapRefIdeal.nD).tc : Thread Cert.ChipSwapRefIdeal.nD Cert.ChipSwapRefIdeal.τ).loc Cert.ChipSwapRefIdeal.main_arg4)
          ∧ r.2.mem (((0 : Dev Cert.ChipSwapRefIdeal.nD).tc : Thread Cert.ChipSwapRefIdeal.nD Cert.ChipSwapRefIdeal.τ).loc Cert.ChipSwapRefIdeal.main_arg5) = m' (((0 : Dev Cert.ChipSwapRefIdeal.nD).tc : Thread Cert.ChipSwapRefIdeal.nD Cert.ChipSwapRefIdeal.τ).loc Cert.ChipSwapRefIdeal.main_arg5)
          ∧ r.2.mem (((0 : Dev Cert.ChipSwapRefIdeal.nD).tc : Thread Cert.ChipSwapRefIdeal.nD Cert.ChipSwapRefIdeal.τ).loc Cert.ChipSwapRefIdeal.main_arg6) = m' (((0 : Dev Cert.ChipSwapRefIdeal.nD).tc : Thread Cert.ChipSwapRefIdeal.nD Cert.ChipSwapRefIdeal.τ).loc Cert.ChipSwapRefIdeal.main_arg6)
          ∧ r.2.mem (((0 : Dev Cert.ChipSwapRefIdeal.nD).tc : Thread Cert.ChipSwapRefIdeal.nD Cert.ChipSwapRefIdeal.τ).loc Cert.ChipSwapRefIdeal.main_arg7) = m' (((0 : Dev Cert.ChipSwapRefIdeal.nD).tc : Thread Cert.ChipSwapRefIdeal.nD Cert.ChipSwapRefIdeal.τ).loc Cert.ChipSwapRefIdeal.main_arg7)
          ∧ r.2.mem (((0 : Dev Cert.ChipSwapRefIdeal.nD).tc : Thread Cert.ChipSwapRefIdeal.nD Cert.ChipSwapRefIdeal.τ).loc Cert.ChipSwapRefIdeal.main_arg8) = m' (((0 : Dev Cert.ChipSwapRefIdeal.nD).tc : Thread Cert.ChipSwapRefIdeal.nD Cert.ChipSwapRefIdeal.τ).loc Cert.ChipSwapRefIdeal.main_arg8))

def preserves_JoinHalves_JoinHalvesIdeal : Prop :=
  True

def algebraic_JoinHalvesIdeal_JoinHalvesRefIdeal [hJoinHalvesIdeal : Cert.JoinHalvesIdeal.Facts] [hJoinHalvesRefIdeal : Cert.JoinHalvesRefIdeal.Facts] : Prop :=
  ∀ (m : (ℓ : Loc Cert.JoinHalvesIdeal.nD Cert.JoinHalvesIdeal.τ Cert.JoinHalvesIdeal.sig) → Buf (Elt Ideal) ℓ) (g : Dev Cert.JoinHalvesIdeal.nD → PrngReg)
    (m' : (ℓ : Loc Cert.JoinHalvesRefIdeal.nD Cert.JoinHalvesRefIdeal.τ Cert.JoinHalvesRefIdeal.sig) → Buf (Elt Ideal) ℓ) (g' : Dev Cert.JoinHalvesRefIdeal.nD → PrngReg), Pre_JoinHalvesIdeal m →
    (∀ c : Dev Cert.JoinHalvesIdeal.nD,
      m ((c.tc : Thread Cert.JoinHalvesIdeal.nD Cert.JoinHalvesIdeal.τ).loc Cert.JoinHalvesIdeal.main_arg0) = Layout.block ⟨2, ![1024, 1408]⟩ ⟨2, ![2048, 1408]⟩ 0 2 c (m' (((0 : Dev Cert.JoinHalvesRefIdeal.nD).tc : Thread Cert.JoinHalvesRefIdeal.nD Cert.JoinHalvesRefIdeal.τ).loc Cert.JoinHalvesRefIdeal.main_arg0))
      ∧ m ((c.tc : Thread Cert.JoinHalvesIdeal.nD Cert.JoinHalvesIdeal.τ).loc Cert.JoinHalvesIdeal.main_arg1) = Layout.block ⟨2, ![1024, 1408]⟩ ⟨2, ![2048, 1408]⟩ 0 2 c (m' (((0 : Dev Cert.JoinHalvesRefIdeal.nD).tc : Thread Cert.JoinHalvesRefIdeal.nD Cert.JoinHalvesRefIdeal.τ).loc Cert.JoinHalvesRefIdeal.main_arg1))
      ∧ m ((c.tc : Thread Cert.JoinHalvesIdeal.nD Cert.JoinHalvesIdeal.τ).loc Cert.JoinHalvesIdeal.main_arg2) = Layout.block ⟨2, ![704, 2048]⟩ ⟨2, ![1408, 2048]⟩ 0 2 c (m' (((0 : Dev Cert.JoinHalvesRefIdeal.nD).tc : Thread Cert.JoinHalvesRefIdeal.nD Cert.JoinHalvesRefIdeal.τ).loc Cert.JoinHalvesRefIdeal.main_arg2))
      ∧ m ((c.tc : Thread Cert.JoinHalvesIdeal.nD Cert.JoinHalvesIdeal.τ).loc Cert.JoinHalvesIdeal.main_arg3) = Layout.block ⟨2, ![1024, 1024]⟩ ⟨2, ![2048, 1024]⟩ 0 2 c (m' (((0 : Dev Cert.JoinHalvesRefIdeal.nD).tc : Thread Cert.JoinHalvesRefIdeal.nD Cert.JoinHalvesRefIdeal.τ).loc Cert.JoinHalvesRefIdeal.main_arg3))
      ∧ m ((c.tc : Thread Cert.JoinHalvesIdeal.nD Cert.JoinHalvesIdeal.τ).loc Cert.JoinHalvesIdeal.main_arg4) = Layout.block ⟨2, ![128, 1024]⟩ ⟨2, ![256, 1024]⟩ 0 2 c (m' (((0 : Dev Cert.JoinHalvesRefIdeal.nD).tc : Thread Cert.JoinHalvesRefIdeal.nD Cert.JoinHalvesRefIdeal.τ).loc Cert.JoinHalvesRefIdeal.main_arg4))
      ∧ m ((c.tc : Thread Cert.JoinHalvesIdeal.nD Cert.JoinHalvesIdeal.τ).loc Cert.JoinHalvesIdeal.main_arg5) = Layout.block ⟨2, ![256, 2048]⟩ ⟨2, ![512, 2048]⟩ 0 2 c (m' (((0 : Dev Cert.JoinHalvesRefIdeal.nD).tc : Thread Cert.JoinHalvesRefIdeal.nD Cert.JoinHalvesRefIdeal.τ).loc Cert.JoinHalvesRefIdeal.main_arg5))
      ∧ m ((c.tc : Thread Cert.JoinHalvesIdeal.nD Cert.JoinHalvesIdeal.τ).loc Cert.JoinHalvesIdeal.main_arg6) = Layout.block ⟨2, ![1024, 1408]⟩ ⟨2, ![2048, 1408]⟩ 0 2 c (m' (((0 : Dev Cert.JoinHalvesRefIdeal.nD).tc : Thread Cert.JoinHalvesRefIdeal.nD Cert.JoinHalvesRefIdeal.τ).loc Cert.JoinHalvesRefIdeal.main_arg6))
      ∧ m ((c.tc : Thread Cert.JoinHalvesIdeal.nD Cert.JoinHalvesIdeal.τ).loc Cert.JoinHalvesIdeal.main_arg7) = Layout.block ⟨2, ![1024, 1408]⟩ ⟨2, ![2048, 1408]⟩ 0 2 c (m' (((0 : Dev Cert.JoinHalvesRefIdeal.nD).tc : Thread Cert.JoinHalvesRefIdeal.nD Cert.JoinHalvesRefIdeal.τ).loc Cert.JoinHalvesRefIdeal.main_arg7))
      ∧ m ((c.tc : Thread Cert.JoinHalvesIdeal.nD Cert.JoinHalvesIdeal.τ).loc Cert.JoinHalvesIdeal.main_arg8) = Layout.block ⟨2, ![704, 2048]⟩ ⟨2, ![1408, 2048]⟩ 0 2 c (m' (((0 : Dev Cert.JoinHalvesRefIdeal.nD).tc : Thread Cert.JoinHalvesRefIdeal.nD Cert.JoinHalvesRefIdeal.τ).loc Cert.JoinHalvesRefIdeal.main_arg8))) →
    ∃ (v0 : Buf (Elt Ideal) (((0 : Dev Cert.JoinHalvesRefIdeal.nD).tc : Thread Cert.JoinHalvesRefIdeal.nD Cert.JoinHalvesRefIdeal.τ).loc Cert.JoinHalvesRefIdeal.main_v0)) (v1 : Buf (Elt Ideal) (((0 : Dev Cert.JoinHalvesRefIdeal.nD).tc : Thread Cert.JoinHalvesRefIdeal.nD Cert.JoinHalvesRefIdeal.τ).loc Cert.JoinHalvesRefIdeal.main_v1)) (v2 : Buf (Elt Ideal) (((0 : Dev Cert.JoinHalvesRefIdeal.nD).tc : Thread Cert.JoinHalvesRefIdeal.nD Cert.JoinHalvesRefIdeal.τ).loc Cert.JoinHalvesRefIdeal.main_v2)) (v3 : Buf (Elt Ideal) (((0 : Dev Cert.JoinHalvesRefIdeal.nD).tc : Thread Cert.JoinHalvesRefIdeal.nD Cert.JoinHalvesRefIdeal.τ).loc Cert.JoinHalvesRefIdeal.main_v3)) (v4 : Buf (Elt Ideal) (((0 : Dev Cert.JoinHalvesRefIdeal.nD).tc : Thread Cert.JoinHalvesRefIdeal.nD Cert.JoinHalvesRefIdeal.τ).loc Cert.JoinHalvesRefIdeal.main_v4)) (v5 : Buf (Elt Ideal) (((0 : Dev Cert.JoinHalvesRefIdeal.nD).tc : Thread Cert.JoinHalvesRefIdeal.nD Cert.JoinHalvesRefIdeal.τ).loc Cert.JoinHalvesRefIdeal.main_v5)) (v6 : Buf (Elt Ideal) (((0 : Dev Cert.JoinHalvesRefIdeal.nD).tc : Thread Cert.JoinHalvesRefIdeal.nD Cert.JoinHalvesRefIdeal.τ).loc Cert.JoinHalvesRefIdeal.main_v6)) (v7 : Buf (Elt Ideal) (((0 : Dev Cert.JoinHalvesRefIdeal.nD).tc : Thread Cert.JoinHalvesRefIdeal.nD Cert.JoinHalvesRefIdeal.τ).loc Cert.JoinHalvesRefIdeal.main_v7)) (v8 : Buf (Elt Ideal) (((0 : Dev Cert.JoinHalvesRefIdeal.nD).tc : Thread Cert.JoinHalvesRefIdeal.nD Cert.JoinHalvesRefIdeal.τ).loc Cert.JoinHalvesRefIdeal.main_v8)),
      θ_run (Cert.JoinHalvesIdeal.defs (F := Ideal)) (onTc (τ := Cert.JoinHalvesIdeal.τ) (Cert.JoinHalvesIdeal.main (F := Ideal))) ⟨m, fun _ => 0, g⟩ (fun r => ∀ c : Dev Cert.JoinHalvesIdeal.nD,
          r.2.mem ((c.tc : Thread Cert.JoinHalvesIdeal.nD Cert.JoinHalvesIdeal.τ).loc Cert.JoinHalvesIdeal.main_v1_0) = Layout.block ⟨2, ![2048, 1408]⟩ ⟨2, ![4096, 1408]⟩ 0 2 c v0
          ∧ r.2.mem ((c.tc : Thread Cert.JoinHalvesIdeal.nD Cert.JoinHalvesIdeal.τ).loc Cert.JoinHalvesIdeal.main_v1_1) = Layout.block ⟨2, ![2048, 1408]⟩ ⟨2, ![4096, 1408]⟩ 0 2 c v1
          ∧ r.2.mem ((c.tc : Thread Cert.JoinHalvesIdeal.nD Cert.JoinHalvesIdeal.τ).loc Cert.JoinHalvesIdeal.main_v1_2) = Layout.block ⟨2, ![1408, 2048]⟩ ⟨2, ![2816, 2048]⟩ 0 2 c v2
          ∧ r.2.mem ((c.tc : Thread Cert.JoinHalvesIdeal.nD Cert.JoinHalvesIdeal.τ).loc Cert.JoinHalvesIdeal.main_v1_3) = Layout.block ⟨2, ![2048, 1024]⟩ ⟨2, ![4096, 1024]⟩ 0 2 c v3
          ∧ r.2.mem ((c.tc : Thread Cert.JoinHalvesIdeal.nD Cert.JoinHalvesIdeal.τ).loc Cert.JoinHalvesIdeal.main_v1_4) = Layout.block ⟨2, ![256, 1024]⟩ ⟨2, ![512, 1024]⟩ 0 2 c v4
          ∧ r.2.mem ((c.tc : Thread Cert.JoinHalvesIdeal.nD Cert.JoinHalvesIdeal.τ).loc Cert.JoinHalvesIdeal.main_v1_5) = Layout.block ⟨2, ![512, 2048]⟩ ⟨2, ![1024, 2048]⟩ 0 2 c v5
          ∧ r.2.mem ((c.tc : Thread Cert.JoinHalvesIdeal.nD Cert.JoinHalvesIdeal.τ).loc Cert.JoinHalvesIdeal.main_v1_6) = Layout.block ⟨2, ![2048, 1408]⟩ ⟨2, ![4096, 1408]⟩ 0 2 c v6
          ∧ r.2.mem ((c.tc : Thread Cert.JoinHalvesIdeal.nD Cert.JoinHalvesIdeal.τ).loc Cert.JoinHalvesIdeal.main_v1_7) = Layout.block ⟨2, ![2048, 1408]⟩ ⟨2, ![4096, 1408]⟩ 0 2 c v7
          ∧ r.2.mem ((c.tc : Thread Cert.JoinHalvesIdeal.nD Cert.JoinHalvesIdeal.τ).loc Cert.JoinHalvesIdeal.main_v1_8) = Layout.block ⟨2, ![1408, 2048]⟩ ⟨2, ![2816, 2048]⟩ 0 2 c v8
          ∧ r.2.mem ((c.tc : Thread Cert.JoinHalvesIdeal.nD Cert.JoinHalvesIdeal.τ).loc Cert.JoinHalvesIdeal.main_arg0) = m ((c.tc : Thread Cert.JoinHalvesIdeal.nD Cert.JoinHalvesIdeal.τ).loc Cert.JoinHalvesIdeal.main_arg0)
          ∧ r.2.mem ((c.tc : Thread Cert.JoinHalvesIdeal.nD Cert.JoinHalvesIdeal.τ).loc Cert.JoinHalvesIdeal.main_arg1) = m ((c.tc : Thread Cert.JoinHalvesIdeal.nD Cert.JoinHalvesIdeal.τ).loc Cert.JoinHalvesIdeal.main_arg1)
          ∧ r.2.mem ((c.tc : Thread Cert.JoinHalvesIdeal.nD Cert.JoinHalvesIdeal.τ).loc Cert.JoinHalvesIdeal.main_arg2) = m ((c.tc : Thread Cert.JoinHalvesIdeal.nD Cert.JoinHalvesIdeal.τ).loc Cert.JoinHalvesIdeal.main_arg2)
          ∧ r.2.mem ((c.tc : Thread Cert.JoinHalvesIdeal.nD Cert.JoinHalvesIdeal.τ).loc Cert.JoinHalvesIdeal.main_arg3) = m ((c.tc : Thread Cert.JoinHalvesIdeal.nD Cert.JoinHalvesIdeal.τ).loc Cert.JoinHalvesIdeal.main_arg3)
          ∧ r.2.mem ((c.tc : Thread Cert.JoinHalvesIdeal.nD Cert.JoinHalvesIdeal.τ).loc Cert.JoinHalvesIdeal.main_arg4) = m ((c.tc : Thread Cert.JoinHalvesIdeal.nD Cert.JoinHalvesIdeal.τ).loc Cert.JoinHalvesIdeal.main_arg4)
          ∧ r.2.mem ((c.tc : Thread Cert.JoinHalvesIdeal.nD Cert.JoinHalvesIdeal.τ).loc Cert.JoinHalvesIdeal.main_arg5) = m ((c.tc : Thread Cert.JoinHalvesIdeal.nD Cert.JoinHalvesIdeal.τ).loc Cert.JoinHalvesIdeal.main_arg5)
          ∧ r.2.mem ((c.tc : Thread Cert.JoinHalvesIdeal.nD Cert.JoinHalvesIdeal.τ).loc Cert.JoinHalvesIdeal.main_arg6) = m ((c.tc : Thread Cert.JoinHalvesIdeal.nD Cert.JoinHalvesIdeal.τ).loc Cert.JoinHalvesIdeal.main_arg6)
          ∧ r.2.mem ((c.tc : Thread Cert.JoinHalvesIdeal.nD Cert.JoinHalvesIdeal.τ).loc Cert.JoinHalvesIdeal.main_arg7) = m ((c.tc : Thread Cert.JoinHalvesIdeal.nD Cert.JoinHalvesIdeal.τ).loc Cert.JoinHalvesIdeal.main_arg7)
          ∧ r.2.mem ((c.tc : Thread Cert.JoinHalvesIdeal.nD Cert.JoinHalvesIdeal.τ).loc Cert.JoinHalvesIdeal.main_arg8) = m ((c.tc : Thread Cert.JoinHalvesIdeal.nD Cert.JoinHalvesIdeal.τ).loc Cert.JoinHalvesIdeal.main_arg8))
      ∧ θ_run (Cert.JoinHalvesRefIdeal.defs (F := Ideal)) (onTc (τ := Cert.JoinHalvesRefIdeal.τ) (Cert.JoinHalvesRefIdeal.main (F := Ideal))) ⟨m', fun _ => 0, g'⟩ (fun r =>
          r.2.mem (((0 : Dev Cert.JoinHalvesRefIdeal.nD).tc : Thread Cert.JoinHalvesRefIdeal.nD Cert.JoinHalvesRefIdeal.τ).loc Cert.JoinHalvesRefIdeal.main_v0) = v0
          ∧ r.2.mem (((0 : Dev Cert.JoinHalvesRefIdeal.nD).tc : Thread Cert.JoinHalvesRefIdeal.nD Cert.JoinHalvesRefIdeal.τ).loc Cert.JoinHalvesRefIdeal.main_v1) = v1
          ∧ r.2.mem (((0 : Dev Cert.JoinHalvesRefIdeal.nD).tc : Thread Cert.JoinHalvesRefIdeal.nD Cert.JoinHalvesRefIdeal.τ).loc Cert.JoinHalvesRefIdeal.main_v2) = v2
          ∧ r.2.mem (((0 : Dev Cert.JoinHalvesRefIdeal.nD).tc : Thread Cert.JoinHalvesRefIdeal.nD Cert.JoinHalvesRefIdeal.τ).loc Cert.JoinHalvesRefIdeal.main_v3) = v3
          ∧ r.2.mem (((0 : Dev Cert.JoinHalvesRefIdeal.nD).tc : Thread Cert.JoinHalvesRefIdeal.nD Cert.JoinHalvesRefIdeal.τ).loc Cert.JoinHalvesRefIdeal.main_v4) = v4
          ∧ r.2.mem (((0 : Dev Cert.JoinHalvesRefIdeal.nD).tc : Thread Cert.JoinHalvesRefIdeal.nD Cert.JoinHalvesRefIdeal.τ).loc Cert.JoinHalvesRefIdeal.main_v5) = v5
          ∧ r.2.mem (((0 : Dev Cert.JoinHalvesRefIdeal.nD).tc : Thread Cert.JoinHalvesRefIdeal.nD Cert.JoinHalvesRefIdeal.τ).loc Cert.JoinHalvesRefIdeal.main_v6) = v6
          ∧ r.2.mem (((0 : Dev Cert.JoinHalvesRefIdeal.nD).tc : Thread Cert.JoinHalvesRefIdeal.nD Cert.JoinHalvesRefIdeal.τ).loc Cert.JoinHalvesRefIdeal.main_v7) = v7
          ∧ r.2.mem (((0 : Dev Cert.JoinHalvesRefIdeal.nD).tc : Thread Cert.JoinHalvesRefIdeal.nD Cert.JoinHalvesRefIdeal.τ).loc Cert.JoinHalvesRefIdeal.main_v8) = v8
          ∧ r.2.mem (((0 : Dev Cert.JoinHalvesRefIdeal.nD).tc : Thread Cert.JoinHalvesRefIdeal.nD Cert.JoinHalvesRefIdeal.τ).loc Cert.JoinHalvesRefIdeal.main_arg0) = m' (((0 : Dev Cert.JoinHalvesRefIdeal.nD).tc : Thread Cert.JoinHalvesRefIdeal.nD Cert.JoinHalvesRefIdeal.τ).loc Cert.JoinHalvesRefIdeal.main_arg0)
          ∧ r.2.mem (((0 : Dev Cert.JoinHalvesRefIdeal.nD).tc : Thread Cert.JoinHalvesRefIdeal.nD Cert.JoinHalvesRefIdeal.τ).loc Cert.JoinHalvesRefIdeal.main_arg1) = m' (((0 : Dev Cert.JoinHalvesRefIdeal.nD).tc : Thread Cert.JoinHalvesRefIdeal.nD Cert.JoinHalvesRefIdeal.τ).loc Cert.JoinHalvesRefIdeal.main_arg1)
          ∧ r.2.mem (((0 : Dev Cert.JoinHalvesRefIdeal.nD).tc : Thread Cert.JoinHalvesRefIdeal.nD Cert.JoinHalvesRefIdeal.τ).loc Cert.JoinHalvesRefIdeal.main_arg2) = m' (((0 : Dev Cert.JoinHalvesRefIdeal.nD).tc : Thread Cert.JoinHalvesRefIdeal.nD Cert.JoinHalvesRefIdeal.τ).loc Cert.JoinHalvesRefIdeal.main_arg2)
          ∧ r.2.mem (((0 : Dev Cert.JoinHalvesRefIdeal.nD).tc : Thread Cert.JoinHalvesRefIdeal.nD Cert.JoinHalvesRefIdeal.τ).loc Cert.JoinHalvesRefIdeal.main_arg3) = m' (((0 : Dev Cert.JoinHalvesRefIdeal.nD).tc : Thread Cert.JoinHalvesRefIdeal.nD Cert.JoinHalvesRefIdeal.τ).loc Cert.JoinHalvesRefIdeal.main_arg3)
          ∧ r.2.mem (((0 : Dev Cert.JoinHalvesRefIdeal.nD).tc : Thread Cert.JoinHalvesRefIdeal.nD Cert.JoinHalvesRefIdeal.τ).loc Cert.JoinHalvesRefIdeal.main_arg4) = m' (((0 : Dev Cert.JoinHalvesRefIdeal.nD).tc : Thread Cert.JoinHalvesRefIdeal.nD Cert.JoinHalvesRefIdeal.τ).loc Cert.JoinHalvesRefIdeal.main_arg4)
          ∧ r.2.mem (((0 : Dev Cert.JoinHalvesRefIdeal.nD).tc : Thread Cert.JoinHalvesRefIdeal.nD Cert.JoinHalvesRefIdeal.τ).loc Cert.JoinHalvesRefIdeal.main_arg5) = m' (((0 : Dev Cert.JoinHalvesRefIdeal.nD).tc : Thread Cert.JoinHalvesRefIdeal.nD Cert.JoinHalvesRefIdeal.τ).loc Cert.JoinHalvesRefIdeal.main_arg5)
          ∧ r.2.mem (((0 : Dev Cert.JoinHalvesRefIdeal.nD).tc : Thread Cert.JoinHalvesRefIdeal.nD Cert.JoinHalvesRefIdeal.τ).loc Cert.JoinHalvesRefIdeal.main_arg6) = m' (((0 : Dev Cert.JoinHalvesRefIdeal.nD).tc : Thread Cert.JoinHalvesRefIdeal.nD Cert.JoinHalvesRefIdeal.τ).loc Cert.JoinHalvesRefIdeal.main_arg6)
          ∧ r.2.mem (((0 : Dev Cert.JoinHalvesRefIdeal.nD).tc : Thread Cert.JoinHalvesRefIdeal.nD Cert.JoinHalvesRefIdeal.τ).loc Cert.JoinHalvesRefIdeal.main_arg7) = m' (((0 : Dev Cert.JoinHalvesRefIdeal.nD).tc : Thread Cert.JoinHalvesRefIdeal.nD Cert.JoinHalvesRefIdeal.τ).loc Cert.JoinHalvesRefIdeal.main_arg7)
          ∧ r.2.mem (((0 : Dev Cert.JoinHalvesRefIdeal.nD).tc : Thread Cert.JoinHalvesRefIdeal.nD Cert.JoinHalvesRefIdeal.τ).loc Cert.JoinHalvesRefIdeal.main_arg8) = m' (((0 : Dev Cert.JoinHalvesRefIdeal.nD).tc : Thread Cert.JoinHalvesRefIdeal.nD Cert.JoinHalvesRefIdeal.τ).loc Cert.JoinHalvesRefIdeal.main_arg8))

def preserves_ChipGather_ChipGatherIdeal : Prop :=
  True

def algebraic_ChipGatherIdeal_ChipGatherRefIdeal [hChipGatherIdeal : Cert.ChipGatherIdeal.Facts] [hChipGatherRefIdeal : Cert.ChipGatherRefIdeal.Facts] : Prop :=
  ∀ (m : (ℓ : Loc Cert.ChipGatherIdeal.nD Cert.ChipGatherIdeal.τ Cert.ChipGatherIdeal.sig) → Buf (Elt Ideal) ℓ) (g : Dev Cert.ChipGatherIdeal.nD → PrngReg)
    (m' : (ℓ : Loc Cert.ChipGatherRefIdeal.nD Cert.ChipGatherRefIdeal.τ Cert.ChipGatherRefIdeal.sig) → Buf (Elt Ideal) ℓ) (g' : Dev Cert.ChipGatherRefIdeal.nD → PrngReg), Pre_ChipGatherIdeal m →
    (∀ c : Dev Cert.ChipGatherIdeal.nD,
      m ((c.tc : Thread Cert.ChipGatherIdeal.nD Cert.ChipGatherIdeal.τ).loc Cert.ChipGatherIdeal.main_arg0) = Layout.blockN ⟨2, ![2048, 1408]⟩ ⟨2, ![8192, 1408]⟩ (Layout.meshBlock [2, 2, 2] ![[0, 1], []] c) (m' (((0 : Dev Cert.ChipGatherRefIdeal.nD).tc : Thread Cert.ChipGatherRefIdeal.nD Cert.ChipGatherRefIdeal.τ).loc Cert.ChipGatherRefIdeal.main_arg0))
      ∧ m ((c.tc : Thread Cert.ChipGatherIdeal.nD Cert.ChipGatherIdeal.τ).loc Cert.ChipGatherIdeal.main_arg1) = Layout.blockN ⟨2, ![2048, 1408]⟩ ⟨2, ![8192, 1408]⟩ (Layout.meshBlock [2, 2, 2] ![[0, 1], []] c) (m' (((0 : Dev Cert.ChipGatherRefIdeal.nD).tc : Thread Cert.ChipGatherRefIdeal.nD Cert.ChipGatherRefIdeal.τ).loc Cert.ChipGatherRefIdeal.main_arg1))
      ∧ m ((c.tc : Thread Cert.ChipGatherIdeal.nD Cert.ChipGatherIdeal.τ).loc Cert.ChipGatherIdeal.main_arg2) = Layout.blockN ⟨2, ![1408, 2048]⟩ ⟨2, ![5632, 2048]⟩ (Layout.meshBlock [2, 2, 2] ![[0, 1], []] c) (m' (((0 : Dev Cert.ChipGatherRefIdeal.nD).tc : Thread Cert.ChipGatherRefIdeal.nD Cert.ChipGatherRefIdeal.τ).loc Cert.ChipGatherRefIdeal.main_arg2))
      ∧ m ((c.tc : Thread Cert.ChipGatherIdeal.nD Cert.ChipGatherIdeal.τ).loc Cert.ChipGatherIdeal.main_arg3) = Layout.blockN ⟨2, ![2048, 1024]⟩ ⟨2, ![8192, 1024]⟩ (Layout.meshBlock [2, 2, 2] ![[0, 1], []] c) (m' (((0 : Dev Cert.ChipGatherRefIdeal.nD).tc : Thread Cert.ChipGatherRefIdeal.nD Cert.ChipGatherRefIdeal.τ).loc Cert.ChipGatherRefIdeal.main_arg3))
      ∧ m ((c.tc : Thread Cert.ChipGatherIdeal.nD Cert.ChipGatherIdeal.τ).loc Cert.ChipGatherIdeal.main_arg4) = Layout.blockN ⟨2, ![256, 1024]⟩ ⟨2, ![1024, 1024]⟩ (Layout.meshBlock [2, 2, 2] ![[0, 1], []] c) (m' (((0 : Dev Cert.ChipGatherRefIdeal.nD).tc : Thread Cert.ChipGatherRefIdeal.nD Cert.ChipGatherRefIdeal.τ).loc Cert.ChipGatherRefIdeal.main_arg4))
      ∧ m ((c.tc : Thread Cert.ChipGatherIdeal.nD Cert.ChipGatherIdeal.τ).loc Cert.ChipGatherIdeal.main_arg5) = Layout.blockN ⟨2, ![512, 2048]⟩ ⟨2, ![2048, 2048]⟩ (Layout.meshBlock [2, 2, 2] ![[0, 1], []] c) (m' (((0 : Dev Cert.ChipGatherRefIdeal.nD).tc : Thread Cert.ChipGatherRefIdeal.nD Cert.ChipGatherRefIdeal.τ).loc Cert.ChipGatherRefIdeal.main_arg5))
      ∧ m ((c.tc : Thread Cert.ChipGatherIdeal.nD Cert.ChipGatherIdeal.τ).loc Cert.ChipGatherIdeal.main_arg6) = Layout.blockN ⟨2, ![2048, 1408]⟩ ⟨2, ![8192, 1408]⟩ (Layout.meshBlock [2, 2, 2] ![[0, 1], []] c) (m' (((0 : Dev Cert.ChipGatherRefIdeal.nD).tc : Thread Cert.ChipGatherRefIdeal.nD Cert.ChipGatherRefIdeal.τ).loc Cert.ChipGatherRefIdeal.main_arg6))
      ∧ m ((c.tc : Thread Cert.ChipGatherIdeal.nD Cert.ChipGatherIdeal.τ).loc Cert.ChipGatherIdeal.main_arg7) = Layout.blockN ⟨2, ![2048, 1408]⟩ ⟨2, ![8192, 1408]⟩ (Layout.meshBlock [2, 2, 2] ![[0, 1], []] c) (m' (((0 : Dev Cert.ChipGatherRefIdeal.nD).tc : Thread Cert.ChipGatherRefIdeal.nD Cert.ChipGatherRefIdeal.τ).loc Cert.ChipGatherRefIdeal.main_arg7))
      ∧ m ((c.tc : Thread Cert.ChipGatherIdeal.nD Cert.ChipGatherIdeal.τ).loc Cert.ChipGatherIdeal.main_arg8) = Layout.blockN ⟨2, ![1408, 2048]⟩ ⟨2, ![5632, 2048]⟩ (Layout.meshBlock [2, 2, 2] ![[0, 1], []] c) (m' (((0 : Dev Cert.ChipGatherRefIdeal.nD).tc : Thread Cert.ChipGatherRefIdeal.nD Cert.ChipGatherRefIdeal.τ).loc Cert.ChipGatherRefIdeal.main_arg8))) →
    ∃ (v0 : Buf (Elt Ideal) (((0 : Dev Cert.ChipGatherRefIdeal.nD).tc : Thread Cert.ChipGatherRefIdeal.nD Cert.ChipGatherRefIdeal.τ).loc Cert.ChipGatherRefIdeal.main_v0)) (v1 : Buf (Elt Ideal) (((0 : Dev Cert.ChipGatherRefIdeal.nD).tc : Thread Cert.ChipGatherRefIdeal.nD Cert.ChipGatherRefIdeal.τ).loc Cert.ChipGatherRefIdeal.main_v1)) (v2 : Buf (Elt Ideal) (((0 : Dev Cert.ChipGatherRefIdeal.nD).tc : Thread Cert.ChipGatherRefIdeal.nD Cert.ChipGatherRefIdeal.τ).loc Cert.ChipGatherRefIdeal.main_v2)) (v3 : Buf (Elt Ideal) (((0 : Dev Cert.ChipGatherRefIdeal.nD).tc : Thread Cert.ChipGatherRefIdeal.nD Cert.ChipGatherRefIdeal.τ).loc Cert.ChipGatherRefIdeal.main_v3)) (v4 : Buf (Elt Ideal) (((0 : Dev Cert.ChipGatherRefIdeal.nD).tc : Thread Cert.ChipGatherRefIdeal.nD Cert.ChipGatherRefIdeal.τ).loc Cert.ChipGatherRefIdeal.main_v4)) (v5 : Buf (Elt Ideal) (((0 : Dev Cert.ChipGatherRefIdeal.nD).tc : Thread Cert.ChipGatherRefIdeal.nD Cert.ChipGatherRefIdeal.τ).loc Cert.ChipGatherRefIdeal.main_v5)) (v6 : Buf (Elt Ideal) (((0 : Dev Cert.ChipGatherRefIdeal.nD).tc : Thread Cert.ChipGatherRefIdeal.nD Cert.ChipGatherRefIdeal.τ).loc Cert.ChipGatherRefIdeal.main_v6)) (v7 : Buf (Elt Ideal) (((0 : Dev Cert.ChipGatherRefIdeal.nD).tc : Thread Cert.ChipGatherRefIdeal.nD Cert.ChipGatherRefIdeal.τ).loc Cert.ChipGatherRefIdeal.main_v7)) (v8 : Buf (Elt Ideal) (((0 : Dev Cert.ChipGatherRefIdeal.nD).tc : Thread Cert.ChipGatherRefIdeal.nD Cert.ChipGatherRefIdeal.τ).loc Cert.ChipGatherRefIdeal.main_v8)),
      θ_run (Cert.ChipGatherIdeal.defs (F := Ideal)) (onTc (τ := Cert.ChipGatherIdeal.τ) (Cert.ChipGatherIdeal.main (F := Ideal))) ⟨m, fun _ => 0, g⟩ (fun r => ∀ c : Dev Cert.ChipGatherIdeal.nD,
          r.2.mem ((c.tc : Thread Cert.ChipGatherIdeal.nD Cert.ChipGatherIdeal.τ).loc Cert.ChipGatherIdeal.main_v1_0) = v0
          ∧ r.2.mem ((c.tc : Thread Cert.ChipGatherIdeal.nD Cert.ChipGatherIdeal.τ).loc Cert.ChipGatherIdeal.main_v1_1) = v1
          ∧ r.2.mem ((c.tc : Thread Cert.ChipGatherIdeal.nD Cert.ChipGatherIdeal.τ).loc Cert.ChipGatherIdeal.main_v1_2) = v2
          ∧ r.2.mem ((c.tc : Thread Cert.ChipGatherIdeal.nD Cert.ChipGatherIdeal.τ).loc Cert.ChipGatherIdeal.main_v1_3) = v3
          ∧ r.2.mem ((c.tc : Thread Cert.ChipGatherIdeal.nD Cert.ChipGatherIdeal.τ).loc Cert.ChipGatherIdeal.main_v1_4) = v4
          ∧ r.2.mem ((c.tc : Thread Cert.ChipGatherIdeal.nD Cert.ChipGatherIdeal.τ).loc Cert.ChipGatherIdeal.main_v1_5) = v5
          ∧ r.2.mem ((c.tc : Thread Cert.ChipGatherIdeal.nD Cert.ChipGatherIdeal.τ).loc Cert.ChipGatherIdeal.main_v1_6) = v6
          ∧ r.2.mem ((c.tc : Thread Cert.ChipGatherIdeal.nD Cert.ChipGatherIdeal.τ).loc Cert.ChipGatherIdeal.main_v1_7) = v7
          ∧ r.2.mem ((c.tc : Thread Cert.ChipGatherIdeal.nD Cert.ChipGatherIdeal.τ).loc Cert.ChipGatherIdeal.main_v1_8) = v8
          ∧ r.2.mem ((c.tc : Thread Cert.ChipGatherIdeal.nD Cert.ChipGatherIdeal.τ).loc Cert.ChipGatherIdeal.main_arg0) = m ((c.tc : Thread Cert.ChipGatherIdeal.nD Cert.ChipGatherIdeal.τ).loc Cert.ChipGatherIdeal.main_arg0)
          ∧ r.2.mem ((c.tc : Thread Cert.ChipGatherIdeal.nD Cert.ChipGatherIdeal.τ).loc Cert.ChipGatherIdeal.main_arg1) = m ((c.tc : Thread Cert.ChipGatherIdeal.nD Cert.ChipGatherIdeal.τ).loc Cert.ChipGatherIdeal.main_arg1)
          ∧ r.2.mem ((c.tc : Thread Cert.ChipGatherIdeal.nD Cert.ChipGatherIdeal.τ).loc Cert.ChipGatherIdeal.main_arg2) = m ((c.tc : Thread Cert.ChipGatherIdeal.nD Cert.ChipGatherIdeal.τ).loc Cert.ChipGatherIdeal.main_arg2)
          ∧ r.2.mem ((c.tc : Thread Cert.ChipGatherIdeal.nD Cert.ChipGatherIdeal.τ).loc Cert.ChipGatherIdeal.main_arg3) = m ((c.tc : Thread Cert.ChipGatherIdeal.nD Cert.ChipGatherIdeal.τ).loc Cert.ChipGatherIdeal.main_arg3)
          ∧ r.2.mem ((c.tc : Thread Cert.ChipGatherIdeal.nD Cert.ChipGatherIdeal.τ).loc Cert.ChipGatherIdeal.main_arg4) = m ((c.tc : Thread Cert.ChipGatherIdeal.nD Cert.ChipGatherIdeal.τ).loc Cert.ChipGatherIdeal.main_arg4)
          ∧ r.2.mem ((c.tc : Thread Cert.ChipGatherIdeal.nD Cert.ChipGatherIdeal.τ).loc Cert.ChipGatherIdeal.main_arg5) = m ((c.tc : Thread Cert.ChipGatherIdeal.nD Cert.ChipGatherIdeal.τ).loc Cert.ChipGatherIdeal.main_arg5)
          ∧ r.2.mem ((c.tc : Thread Cert.ChipGatherIdeal.nD Cert.ChipGatherIdeal.τ).loc Cert.ChipGatherIdeal.main_arg6) = m ((c.tc : Thread Cert.ChipGatherIdeal.nD Cert.ChipGatherIdeal.τ).loc Cert.ChipGatherIdeal.main_arg6)
          ∧ r.2.mem ((c.tc : Thread Cert.ChipGatherIdeal.nD Cert.ChipGatherIdeal.τ).loc Cert.ChipGatherIdeal.main_arg7) = m ((c.tc : Thread Cert.ChipGatherIdeal.nD Cert.ChipGatherIdeal.τ).loc Cert.ChipGatherIdeal.main_arg7)
          ∧ r.2.mem ((c.tc : Thread Cert.ChipGatherIdeal.nD Cert.ChipGatherIdeal.τ).loc Cert.ChipGatherIdeal.main_arg8) = m ((c.tc : Thread Cert.ChipGatherIdeal.nD Cert.ChipGatherIdeal.τ).loc Cert.ChipGatherIdeal.main_arg8))
      ∧ θ_run (Cert.ChipGatherRefIdeal.defs (F := Ideal)) (onTc (τ := Cert.ChipGatherRefIdeal.τ) (Cert.ChipGatherRefIdeal.main (F := Ideal))) ⟨m', fun _ => 0, g'⟩ (fun r =>
          r.2.mem (((0 : Dev Cert.ChipGatherRefIdeal.nD).tc : Thread Cert.ChipGatherRefIdeal.nD Cert.ChipGatherRefIdeal.τ).loc Cert.ChipGatherRefIdeal.main_v0) = v0
          ∧ r.2.mem (((0 : Dev Cert.ChipGatherRefIdeal.nD).tc : Thread Cert.ChipGatherRefIdeal.nD Cert.ChipGatherRefIdeal.τ).loc Cert.ChipGatherRefIdeal.main_v1) = v1
          ∧ r.2.mem (((0 : Dev Cert.ChipGatherRefIdeal.nD).tc : Thread Cert.ChipGatherRefIdeal.nD Cert.ChipGatherRefIdeal.τ).loc Cert.ChipGatherRefIdeal.main_v2) = v2
          ∧ r.2.mem (((0 : Dev Cert.ChipGatherRefIdeal.nD).tc : Thread Cert.ChipGatherRefIdeal.nD Cert.ChipGatherRefIdeal.τ).loc Cert.ChipGatherRefIdeal.main_v3) = v3
          ∧ r.2.mem (((0 : Dev Cert.ChipGatherRefIdeal.nD).tc : Thread Cert.ChipGatherRefIdeal.nD Cert.ChipGatherRefIdeal.τ).loc Cert.ChipGatherRefIdeal.main_v4) = v4
          ∧ r.2.mem (((0 : Dev Cert.ChipGatherRefIdeal.nD).tc : Thread Cert.ChipGatherRefIdeal.nD Cert.ChipGatherRefIdeal.τ).loc Cert.ChipGatherRefIdeal.main_v5) = v5
          ∧ r.2.mem (((0 : Dev Cert.ChipGatherRefIdeal.nD).tc : Thread Cert.ChipGatherRefIdeal.nD Cert.ChipGatherRefIdeal.τ).loc Cert.ChipGatherRefIdeal.main_v6) = v6
          ∧ r.2.mem (((0 : Dev Cert.ChipGatherRefIdeal.nD).tc : Thread Cert.ChipGatherRefIdeal.nD Cert.ChipGatherRefIdeal.τ).loc Cert.ChipGatherRefIdeal.main_v7) = v7
          ∧ r.2.mem (((0 : Dev Cert.ChipGatherRefIdeal.nD).tc : Thread Cert.ChipGatherRefIdeal.nD Cert.ChipGatherRefIdeal.τ).loc Cert.ChipGatherRefIdeal.main_v8) = v8
          ∧ r.2.mem (((0 : Dev Cert.ChipGatherRefIdeal.nD).tc : Thread Cert.ChipGatherRefIdeal.nD Cert.ChipGatherRefIdeal.τ).loc Cert.ChipGatherRefIdeal.main_arg0) = m' (((0 : Dev Cert.ChipGatherRefIdeal.nD).tc : Thread Cert.ChipGatherRefIdeal.nD Cert.ChipGatherRefIdeal.τ).loc Cert.ChipGatherRefIdeal.main_arg0)
          ∧ r.2.mem (((0 : Dev Cert.ChipGatherRefIdeal.nD).tc : Thread Cert.ChipGatherRefIdeal.nD Cert.ChipGatherRefIdeal.τ).loc Cert.ChipGatherRefIdeal.main_arg1) = m' (((0 : Dev Cert.ChipGatherRefIdeal.nD).tc : Thread Cert.ChipGatherRefIdeal.nD Cert.ChipGatherRefIdeal.τ).loc Cert.ChipGatherRefIdeal.main_arg1)
          ∧ r.2.mem (((0 : Dev Cert.ChipGatherRefIdeal.nD).tc : Thread Cert.ChipGatherRefIdeal.nD Cert.ChipGatherRefIdeal.τ).loc Cert.ChipGatherRefIdeal.main_arg2) = m' (((0 : Dev Cert.ChipGatherRefIdeal.nD).tc : Thread Cert.ChipGatherRefIdeal.nD Cert.ChipGatherRefIdeal.τ).loc Cert.ChipGatherRefIdeal.main_arg2)
          ∧ r.2.mem (((0 : Dev Cert.ChipGatherRefIdeal.nD).tc : Thread Cert.ChipGatherRefIdeal.nD Cert.ChipGatherRefIdeal.τ).loc Cert.ChipGatherRefIdeal.main_arg3) = m' (((0 : Dev Cert.ChipGatherRefIdeal.nD).tc : Thread Cert.ChipGatherRefIdeal.nD Cert.ChipGatherRefIdeal.τ).loc Cert.ChipGatherRefIdeal.main_arg3)
          ∧ r.2.mem (((0 : Dev Cert.ChipGatherRefIdeal.nD).tc : Thread Cert.ChipGatherRefIdeal.nD Cert.ChipGatherRefIdeal.τ).loc Cert.ChipGatherRefIdeal.main_arg4) = m' (((0 : Dev Cert.ChipGatherRefIdeal.nD).tc : Thread Cert.ChipGatherRefIdeal.nD Cert.ChipGatherRefIdeal.τ).loc Cert.ChipGatherRefIdeal.main_arg4)
          ∧ r.2.mem (((0 : Dev Cert.ChipGatherRefIdeal.nD).tc : Thread Cert.ChipGatherRefIdeal.nD Cert.ChipGatherRefIdeal.τ).loc Cert.ChipGatherRefIdeal.main_arg5) = m' (((0 : Dev Cert.ChipGatherRefIdeal.nD).tc : Thread Cert.ChipGatherRefIdeal.nD Cert.ChipGatherRefIdeal.τ).loc Cert.ChipGatherRefIdeal.main_arg5)
          ∧ r.2.mem (((0 : Dev Cert.ChipGatherRefIdeal.nD).tc : Thread Cert.ChipGatherRefIdeal.nD Cert.ChipGatherRefIdeal.τ).loc Cert.ChipGatherRefIdeal.main_arg6) = m' (((0 : Dev Cert.ChipGatherRefIdeal.nD).tc : Thread Cert.ChipGatherRefIdeal.nD Cert.ChipGatherRefIdeal.τ).loc Cert.ChipGatherRefIdeal.main_arg6)
          ∧ r.2.mem (((0 : Dev Cert.ChipGatherRefIdeal.nD).tc : Thread Cert.ChipGatherRefIdeal.nD Cert.ChipGatherRefIdeal.τ).loc Cert.ChipGatherRefIdeal.main_arg7) = m' (((0 : Dev Cert.ChipGatherRefIdeal.nD).tc : Thread Cert.ChipGatherRefIdeal.nD Cert.ChipGatherRefIdeal.τ).loc Cert.ChipGatherRefIdeal.main_arg7)
          ∧ r.2.mem (((0 : Dev Cert.ChipGatherRefIdeal.nD).tc : Thread Cert.ChipGatherRefIdeal.nD Cert.ChipGatherRefIdeal.τ).loc Cert.ChipGatherRefIdeal.main_arg8) = m' (((0 : Dev Cert.ChipGatherRefIdeal.nD).tc : Thread Cert.ChipGatherRefIdeal.nD Cert.ChipGatherRefIdeal.τ).loc Cert.ChipGatherRefIdeal.main_arg8))

def preserves_WeightCols_WeightColsIdeal : Prop :=
  True

def algebraic_WeightColsIdeal_WeightColsRefIdeal [hWeightColsIdeal : Cert.WeightColsIdeal.Facts] [hWeightColsRefIdeal : Cert.WeightColsRefIdeal.Facts] : Prop :=
  ∀ (m : (ℓ : Loc Cert.WeightColsIdeal.nD Cert.WeightColsIdeal.τ Cert.WeightColsIdeal.sig) → Buf (Elt Ideal) ℓ) (g : Dev Cert.WeightColsIdeal.nD → PrngReg)
    (m' : (ℓ : Loc Cert.WeightColsRefIdeal.nD Cert.WeightColsRefIdeal.τ Cert.WeightColsRefIdeal.sig) → Buf (Elt Ideal) ℓ) (g' : Dev Cert.WeightColsRefIdeal.nD → PrngReg), Pre_WeightColsIdeal m →
    (∀ c : Dev Cert.WeightColsIdeal.nD,
      m' ((c.tc : Thread Cert.WeightColsRefIdeal.nD Cert.WeightColsRefIdeal.τ).loc Cert.WeightColsRefIdeal.main_arg0) = m ((c.tc : Thread Cert.WeightColsIdeal.nD Cert.WeightColsIdeal.τ).loc Cert.WeightColsIdeal.main_arg0)
      ∧ m' ((c.tc : Thread Cert.WeightColsRefIdeal.nD Cert.WeightColsRefIdeal.τ).loc Cert.WeightColsRefIdeal.main_arg1) = m ((c.tc : Thread Cert.WeightColsIdeal.nD Cert.WeightColsIdeal.τ).loc Cert.WeightColsIdeal.main_arg1)) →
    ∃ (v0 : (c : Dev Cert.WeightColsIdeal.nD) → Buf (Elt Ideal) ((c.tc : Thread Cert.WeightColsIdeal.nD Cert.WeightColsIdeal.τ).loc Cert.WeightColsIdeal.main_v2)),
      θ_run (Cert.WeightColsIdeal.defs (F := Ideal)) (onTc (τ := Cert.WeightColsIdeal.τ) (Cert.WeightColsIdeal.main (F := Ideal))) ⟨m, fun _ => 0, g⟩ (fun r => ∀ c : Dev Cert.WeightColsIdeal.nD,
          r.2.mem ((c.tc : Thread Cert.WeightColsIdeal.nD Cert.WeightColsIdeal.τ).loc Cert.WeightColsIdeal.main_v2) = v0 c
          ∧ r.2.mem ((c.tc : Thread Cert.WeightColsIdeal.nD Cert.WeightColsIdeal.τ).loc Cert.WeightColsIdeal.main_arg0) = m ((c.tc : Thread Cert.WeightColsIdeal.nD Cert.WeightColsIdeal.τ).loc Cert.WeightColsIdeal.main_arg0)
          ∧ r.2.mem ((c.tc : Thread Cert.WeightColsIdeal.nD Cert.WeightColsIdeal.τ).loc Cert.WeightColsIdeal.main_arg1) = m ((c.tc : Thread Cert.WeightColsIdeal.nD Cert.WeightColsIdeal.τ).loc Cert.WeightColsIdeal.main_arg1))
      ∧ θ_run (Cert.WeightColsRefIdeal.defs (F := Ideal)) (onTc (τ := Cert.WeightColsRefIdeal.τ) (Cert.WeightColsRefIdeal.main (F := Ideal))) ⟨m', fun _ => 0, g'⟩ (fun r => ∀ c : Dev Cert.WeightColsRefIdeal.nD,
          r.2.mem ((c.tc : Thread Cert.WeightColsRefIdeal.nD Cert.WeightColsRefIdeal.τ).loc Cert.WeightColsRefIdeal.main_v6) = v0 c
          ∧ r.2.mem ((c.tc : Thread Cert.WeightColsRefIdeal.nD Cert.WeightColsRefIdeal.τ).loc Cert.WeightColsRefIdeal.main_arg0) = m' ((c.tc : Thread Cert.WeightColsRefIdeal.nD Cert.WeightColsRefIdeal.τ).loc Cert.WeightColsRefIdeal.main_arg0)
          ∧ r.2.mem ((c.tc : Thread Cert.WeightColsRefIdeal.nD Cert.WeightColsRefIdeal.τ).loc Cert.WeightColsRefIdeal.main_arg1) = m' ((c.tc : Thread Cert.WeightColsRefIdeal.nD Cert.WeightColsRefIdeal.τ).loc Cert.WeightColsRefIdeal.main_arg1))

def preserves_WeightRows_WeightRowsIdeal : Prop :=
  True

def algebraic_WeightRowsIdeal_WeightRowsRefIdeal [hWeightRowsIdeal : Cert.WeightRowsIdeal.Facts] [hWeightRowsRefIdeal : Cert.WeightRowsRefIdeal.Facts] : Prop :=
  ∀ (m : (ℓ : Loc Cert.WeightRowsIdeal.nD Cert.WeightRowsIdeal.τ Cert.WeightRowsIdeal.sig) → Buf (Elt Ideal) ℓ) (g : Dev Cert.WeightRowsIdeal.nD → PrngReg)
    (m' : (ℓ : Loc Cert.WeightRowsRefIdeal.nD Cert.WeightRowsRefIdeal.τ Cert.WeightRowsRefIdeal.sig) → Buf (Elt Ideal) ℓ) (g' : Dev Cert.WeightRowsRefIdeal.nD → PrngReg), Pre_WeightRowsIdeal m →
    (∀ c : Dev Cert.WeightRowsIdeal.nD,
      m' ((c.tc : Thread Cert.WeightRowsRefIdeal.nD Cert.WeightRowsRefIdeal.τ).loc Cert.WeightRowsRefIdeal.main_arg0) = m ((c.tc : Thread Cert.WeightRowsIdeal.nD Cert.WeightRowsIdeal.τ).loc Cert.WeightRowsIdeal.main_arg0)
      ∧ m' ((c.tc : Thread Cert.WeightRowsRefIdeal.nD Cert.WeightRowsRefIdeal.τ).loc Cert.WeightRowsRefIdeal.main_arg1) = m ((c.tc : Thread Cert.WeightRowsIdeal.nD Cert.WeightRowsIdeal.τ).loc Cert.WeightRowsIdeal.main_arg1)) →
    ∃ (v0 : (c : Dev Cert.WeightRowsIdeal.nD) → Buf (Elt Ideal) ((c.tc : Thread Cert.WeightRowsIdeal.nD Cert.WeightRowsIdeal.τ).loc Cert.WeightRowsIdeal.main_v2)),
      θ_run (Cert.WeightRowsIdeal.defs (F := Ideal)) (onTc (τ := Cert.WeightRowsIdeal.τ) (Cert.WeightRowsIdeal.main (F := Ideal))) ⟨m, fun _ => 0, g⟩ (fun r => ∀ c : Dev Cert.WeightRowsIdeal.nD,
          r.2.mem ((c.tc : Thread Cert.WeightRowsIdeal.nD Cert.WeightRowsIdeal.τ).loc Cert.WeightRowsIdeal.main_v2) = v0 c
          ∧ r.2.mem ((c.tc : Thread Cert.WeightRowsIdeal.nD Cert.WeightRowsIdeal.τ).loc Cert.WeightRowsIdeal.main_arg0) = m ((c.tc : Thread Cert.WeightRowsIdeal.nD Cert.WeightRowsIdeal.τ).loc Cert.WeightRowsIdeal.main_arg0)
          ∧ r.2.mem ((c.tc : Thread Cert.WeightRowsIdeal.nD Cert.WeightRowsIdeal.τ).loc Cert.WeightRowsIdeal.main_arg1) = m ((c.tc : Thread Cert.WeightRowsIdeal.nD Cert.WeightRowsIdeal.τ).loc Cert.WeightRowsIdeal.main_arg1))
      ∧ θ_run (Cert.WeightRowsRefIdeal.defs (F := Ideal)) (onTc (τ := Cert.WeightRowsRefIdeal.τ) (Cert.WeightRowsRefIdeal.main (F := Ideal))) ⟨m', fun _ => 0, g'⟩ (fun r => ∀ c : Dev Cert.WeightRowsRefIdeal.nD,
          r.2.mem ((c.tc : Thread Cert.WeightRowsRefIdeal.nD Cert.WeightRowsRefIdeal.τ).loc Cert.WeightRowsRefIdeal.main_v5) = v0 c
          ∧ r.2.mem ((c.tc : Thread Cert.WeightRowsRefIdeal.nD Cert.WeightRowsRefIdeal.τ).loc Cert.WeightRowsRefIdeal.main_arg0) = m' ((c.tc : Thread Cert.WeightRowsRefIdeal.nD Cert.WeightRowsRefIdeal.τ).loc Cert.WeightRowsRefIdeal.main_arg0)
          ∧ r.2.mem ((c.tc : Thread Cert.WeightRowsRefIdeal.nD Cert.WeightRowsRefIdeal.τ).loc Cert.WeightRowsRefIdeal.main_arg1) = m' ((c.tc : Thread Cert.WeightRowsRefIdeal.nD Cert.WeightRowsRefIdeal.τ).loc Cert.WeightRowsRefIdeal.main_arg1))

def preserves_BlockWeights_BlockWeightsIdeal : Prop :=
  True

def algebraic_BlockWeightsIdeal_BlockWeightsRefIdeal [hBlockWeightsIdeal : Cert.BlockWeightsIdeal.Facts] [hBlockWeightsRefIdeal : Cert.BlockWeightsRefIdeal.Facts] : Prop :=
  ∀ (m : (ℓ : Loc Cert.BlockWeightsIdeal.nD Cert.BlockWeightsIdeal.τ Cert.BlockWeightsIdeal.sig) → Buf (Elt Ideal) ℓ) (g : Dev Cert.BlockWeightsIdeal.nD → PrngReg)
    (m' : (ℓ : Loc Cert.BlockWeightsRefIdeal.nD Cert.BlockWeightsRefIdeal.τ Cert.BlockWeightsRefIdeal.sig) → Buf (Elt Ideal) ℓ) (g' : Dev Cert.BlockWeightsRefIdeal.nD → PrngReg), Pre_BlockWeightsIdeal m →
    (∀ c : Dev Cert.BlockWeightsIdeal.nD,
      m' ((c.tc : Thread Cert.BlockWeightsRefIdeal.nD Cert.BlockWeightsRefIdeal.τ).loc Cert.BlockWeightsRefIdeal.main_arg0) = m ((c.tc : Thread Cert.BlockWeightsIdeal.nD Cert.BlockWeightsIdeal.τ).loc Cert.BlockWeightsIdeal.main_arg0)
      ∧ m' ((c.tc : Thread Cert.BlockWeightsRefIdeal.nD Cert.BlockWeightsRefIdeal.τ).loc Cert.BlockWeightsRefIdeal.main_arg1) = m ((c.tc : Thread Cert.BlockWeightsIdeal.nD Cert.BlockWeightsIdeal.τ).loc Cert.BlockWeightsIdeal.main_arg1)) →
    ∃ (v0 : (c : Dev Cert.BlockWeightsIdeal.nD) → Buf (Elt Ideal) ((c.tc : Thread Cert.BlockWeightsIdeal.nD Cert.BlockWeightsIdeal.τ).loc Cert.BlockWeightsIdeal.main_v0)),
      θ_run (Cert.BlockWeightsIdeal.defs (F := Ideal)) (onTc (τ := Cert.BlockWeightsIdeal.τ) (Cert.BlockWeightsIdeal.main (F := Ideal))) ⟨m, fun _ => 0, g⟩ (fun r => ∀ c : Dev Cert.BlockWeightsIdeal.nD,
          r.2.mem ((c.tc : Thread Cert.BlockWeightsIdeal.nD Cert.BlockWeightsIdeal.τ).loc Cert.BlockWeightsIdeal.main_v0) = v0 c
          ∧ r.2.mem ((c.tc : Thread Cert.BlockWeightsIdeal.nD Cert.BlockWeightsIdeal.τ).loc Cert.BlockWeightsIdeal.main_arg0) = m ((c.tc : Thread Cert.BlockWeightsIdeal.nD Cert.BlockWeightsIdeal.τ).loc Cert.BlockWeightsIdeal.main_arg0)
          ∧ r.2.mem ((c.tc : Thread Cert.BlockWeightsIdeal.nD Cert.BlockWeightsIdeal.τ).loc Cert.BlockWeightsIdeal.main_arg1) = m ((c.tc : Thread Cert.BlockWeightsIdeal.nD Cert.BlockWeightsIdeal.τ).loc Cert.BlockWeightsIdeal.main_arg1))
      ∧ θ_run (Cert.BlockWeightsRefIdeal.defs (F := Ideal)) (onTc (τ := Cert.BlockWeightsRefIdeal.τ) (Cert.BlockWeightsRefIdeal.main (F := Ideal))) ⟨m', fun _ => 0, g'⟩ (fun r => ∀ c : Dev Cert.BlockWeightsRefIdeal.nD,
          r.2.mem ((c.tc : Thread Cert.BlockWeightsRefIdeal.nD Cert.BlockWeightsRefIdeal.τ).loc Cert.BlockWeightsRefIdeal.main_v7) = v0 c
          ∧ r.2.mem ((c.tc : Thread Cert.BlockWeightsRefIdeal.nD Cert.BlockWeightsRefIdeal.τ).loc Cert.BlockWeightsRefIdeal.main_arg0) = m' ((c.tc : Thread Cert.BlockWeightsRefIdeal.nD Cert.BlockWeightsRefIdeal.τ).loc Cert.BlockWeightsRefIdeal.main_arg0)
          ∧ r.2.mem ((c.tc : Thread Cert.BlockWeightsRefIdeal.nD Cert.BlockWeightsRefIdeal.τ).loc Cert.BlockWeightsRefIdeal.main_arg1) = m' ((c.tc : Thread Cert.BlockWeightsRefIdeal.nD Cert.BlockWeightsRefIdeal.τ).loc Cert.BlockWeightsRefIdeal.main_arg1))

def preserves_AdamLarge_AdamLargeIdeal : Prop :=
  True

def algebraic_AdamLargeIdeal_AdamLargeRefIdeal [hAdamLargeIdeal : Cert.AdamLargeIdeal.Facts] [hAdamLargeRefIdeal : Cert.AdamLargeRefIdeal.Facts] : Prop :=
  ∀ (m : (ℓ : Loc Cert.AdamLargeIdeal.nD Cert.AdamLargeIdeal.τ Cert.AdamLargeIdeal.sig) → Buf (Elt Ideal) ℓ) (g : Dev Cert.AdamLargeIdeal.nD → PrngReg)
    (m' : (ℓ : Loc Cert.AdamLargeRefIdeal.nD Cert.AdamLargeRefIdeal.τ Cert.AdamLargeRefIdeal.sig) → Buf (Elt Ideal) ℓ) (g' : Dev Cert.AdamLargeRefIdeal.nD → PrngReg), Pre_AdamLargeIdeal m →
    (∀ c : Dev Cert.AdamLargeIdeal.nD,
      m' ((c.tc : Thread Cert.AdamLargeRefIdeal.nD Cert.AdamLargeRefIdeal.τ).loc Cert.AdamLargeRefIdeal.main_arg0) = m ((c.tc : Thread Cert.AdamLargeIdeal.nD Cert.AdamLargeIdeal.τ).loc Cert.AdamLargeIdeal.main_arg0)
      ∧ m' ((c.tc : Thread Cert.AdamLargeRefIdeal.nD Cert.AdamLargeRefIdeal.τ).loc Cert.AdamLargeRefIdeal.main_arg1) = m ((c.tc : Thread Cert.AdamLargeIdeal.nD Cert.AdamLargeIdeal.τ).loc Cert.AdamLargeIdeal.main_arg1)
      ∧ m' ((c.tc : Thread Cert.AdamLargeRefIdeal.nD Cert.AdamLargeRefIdeal.τ).loc Cert.AdamLargeRefIdeal.main_arg2) = m ((c.tc : Thread Cert.AdamLargeIdeal.nD Cert.AdamLargeIdeal.τ).loc Cert.AdamLargeIdeal.main_arg2)
      ∧ m' ((c.tc : Thread Cert.AdamLargeRefIdeal.nD Cert.AdamLargeRefIdeal.τ).loc Cert.AdamLargeRefIdeal.main_arg3) = m ((c.tc : Thread Cert.AdamLargeIdeal.nD Cert.AdamLargeIdeal.τ).loc Cert.AdamLargeIdeal.main_arg3)
      ∧ m' ((c.tc : Thread Cert.AdamLargeRefIdeal.nD Cert.AdamLargeRefIdeal.τ).loc Cert.AdamLargeRefIdeal.main_arg4) = m ((c.tc : Thread Cert.AdamLargeIdeal.nD Cert.AdamLargeIdeal.τ).loc Cert.AdamLargeIdeal.main_arg4)
      ∧ m' ((c.tc : Thread Cert.AdamLargeRefIdeal.nD Cert.AdamLargeRefIdeal.τ).loc Cert.AdamLargeRefIdeal.main_arg5) = m ((c.tc : Thread Cert.AdamLargeIdeal.nD Cert.AdamLargeIdeal.τ).loc Cert.AdamLargeIdeal.main_arg5)
      ∧ m' ((c.tc : Thread Cert.AdamLargeRefIdeal.nD Cert.AdamLargeRefIdeal.τ).loc Cert.AdamLargeRefIdeal.main_arg6) = m ((c.tc : Thread Cert.AdamLargeIdeal.nD Cert.AdamLargeIdeal.τ).loc Cert.AdamLargeIdeal.main_arg6)) →
    ∃ (v0 : (c : Dev Cert.AdamLargeIdeal.nD) → Buf (Elt Ideal) ((c.tc : Thread Cert.AdamLargeIdeal.nD Cert.AdamLargeIdeal.τ).loc Cert.AdamLargeIdeal.main_v0_0)) (v1 : (c : Dev Cert.AdamLargeIdeal.nD) → Buf (Elt Ideal) ((c.tc : Thread Cert.AdamLargeIdeal.nD Cert.AdamLargeIdeal.τ).loc Cert.AdamLargeIdeal.main_v0_1)) (v2 : (c : Dev Cert.AdamLargeIdeal.nD) → Buf (Elt Ideal) ((c.tc : Thread Cert.AdamLargeIdeal.nD Cert.AdamLargeIdeal.τ).loc Cert.AdamLargeIdeal.main_v0_2)) (v3 : (c : Dev Cert.AdamLargeIdeal.nD) → Buf (Elt Ideal) ((c.tc : Thread Cert.AdamLargeIdeal.nD Cert.AdamLargeIdeal.τ).loc Cert.AdamLargeIdeal.main_v0_3)),
      θ_run (Cert.AdamLargeIdeal.defs (F := Ideal)) (onTc (τ := Cert.AdamLargeIdeal.τ) (Cert.AdamLargeIdeal.main (F := Ideal))) ⟨m, fun _ => 0, g⟩ (fun r => ∀ c : Dev Cert.AdamLargeIdeal.nD,
          r.2.mem ((c.tc : Thread Cert.AdamLargeIdeal.nD Cert.AdamLargeIdeal.τ).loc Cert.AdamLargeIdeal.main_v0_0) = v0 c
          ∧ r.2.mem ((c.tc : Thread Cert.AdamLargeIdeal.nD Cert.AdamLargeIdeal.τ).loc Cert.AdamLargeIdeal.main_v0_1) = v1 c
          ∧ r.2.mem ((c.tc : Thread Cert.AdamLargeIdeal.nD Cert.AdamLargeIdeal.τ).loc Cert.AdamLargeIdeal.main_v0_2) = v2 c
          ∧ r.2.mem ((c.tc : Thread Cert.AdamLargeIdeal.nD Cert.AdamLargeIdeal.τ).loc Cert.AdamLargeIdeal.main_v0_3) = v3 c
          ∧ r.2.mem ((c.tc : Thread Cert.AdamLargeIdeal.nD Cert.AdamLargeIdeal.τ).loc Cert.AdamLargeIdeal.main_arg0) = m ((c.tc : Thread Cert.AdamLargeIdeal.nD Cert.AdamLargeIdeal.τ).loc Cert.AdamLargeIdeal.main_arg0)
          ∧ r.2.mem ((c.tc : Thread Cert.AdamLargeIdeal.nD Cert.AdamLargeIdeal.τ).loc Cert.AdamLargeIdeal.main_arg1) = m ((c.tc : Thread Cert.AdamLargeIdeal.nD Cert.AdamLargeIdeal.τ).loc Cert.AdamLargeIdeal.main_arg1)
          ∧ r.2.mem ((c.tc : Thread Cert.AdamLargeIdeal.nD Cert.AdamLargeIdeal.τ).loc Cert.AdamLargeIdeal.main_arg2) = m ((c.tc : Thread Cert.AdamLargeIdeal.nD Cert.AdamLargeIdeal.τ).loc Cert.AdamLargeIdeal.main_arg2)
          ∧ r.2.mem ((c.tc : Thread Cert.AdamLargeIdeal.nD Cert.AdamLargeIdeal.τ).loc Cert.AdamLargeIdeal.main_arg3) = m ((c.tc : Thread Cert.AdamLargeIdeal.nD Cert.AdamLargeIdeal.τ).loc Cert.AdamLargeIdeal.main_arg3)
          ∧ r.2.mem ((c.tc : Thread Cert.AdamLargeIdeal.nD Cert.AdamLargeIdeal.τ).loc Cert.AdamLargeIdeal.main_arg4) = m ((c.tc : Thread Cert.AdamLargeIdeal.nD Cert.AdamLargeIdeal.τ).loc Cert.AdamLargeIdeal.main_arg4)
          ∧ r.2.mem ((c.tc : Thread Cert.AdamLargeIdeal.nD Cert.AdamLargeIdeal.τ).loc Cert.AdamLargeIdeal.main_arg5) = m ((c.tc : Thread Cert.AdamLargeIdeal.nD Cert.AdamLargeIdeal.τ).loc Cert.AdamLargeIdeal.main_arg5)
          ∧ r.2.mem ((c.tc : Thread Cert.AdamLargeIdeal.nD Cert.AdamLargeIdeal.τ).loc Cert.AdamLargeIdeal.main_arg6) = m ((c.tc : Thread Cert.AdamLargeIdeal.nD Cert.AdamLargeIdeal.τ).loc Cert.AdamLargeIdeal.main_arg6))
      ∧ θ_run (Cert.AdamLargeRefIdeal.defs (F := Ideal)) (onTc (τ := Cert.AdamLargeRefIdeal.τ) (Cert.AdamLargeRefIdeal.main (F := Ideal))) ⟨m', fun _ => 0, g'⟩ (fun r => ∀ c : Dev Cert.AdamLargeRefIdeal.nD,
          r.2.mem ((c.tc : Thread Cert.AdamLargeRefIdeal.nD Cert.AdamLargeRefIdeal.τ).loc Cert.AdamLargeRefIdeal.main_v4) = v0 c
          ∧ r.2.mem ((c.tc : Thread Cert.AdamLargeRefIdeal.nD Cert.AdamLargeRefIdeal.τ).loc Cert.AdamLargeRefIdeal.main_v28) = v1 c
          ∧ r.2.mem ((c.tc : Thread Cert.AdamLargeRefIdeal.nD Cert.AdamLargeRefIdeal.τ).loc Cert.AdamLargeRefIdeal.main_v9) = v2 c
          ∧ r.2.mem ((c.tc : Thread Cert.AdamLargeRefIdeal.nD Cert.AdamLargeRefIdeal.τ).loc Cert.AdamLargeRefIdeal.main_v15) = v3 c
          ∧ r.2.mem ((c.tc : Thread Cert.AdamLargeRefIdeal.nD Cert.AdamLargeRefIdeal.τ).loc Cert.AdamLargeRefIdeal.main_arg0) = m' ((c.tc : Thread Cert.AdamLargeRefIdeal.nD Cert.AdamLargeRefIdeal.τ).loc Cert.AdamLargeRefIdeal.main_arg0)
          ∧ r.2.mem ((c.tc : Thread Cert.AdamLargeRefIdeal.nD Cert.AdamLargeRefIdeal.τ).loc Cert.AdamLargeRefIdeal.main_arg1) = m' ((c.tc : Thread Cert.AdamLargeRefIdeal.nD Cert.AdamLargeRefIdeal.τ).loc Cert.AdamLargeRefIdeal.main_arg1)
          ∧ r.2.mem ((c.tc : Thread Cert.AdamLargeRefIdeal.nD Cert.AdamLargeRefIdeal.τ).loc Cert.AdamLargeRefIdeal.main_arg2) = m' ((c.tc : Thread Cert.AdamLargeRefIdeal.nD Cert.AdamLargeRefIdeal.τ).loc Cert.AdamLargeRefIdeal.main_arg2)
          ∧ r.2.mem ((c.tc : Thread Cert.AdamLargeRefIdeal.nD Cert.AdamLargeRefIdeal.τ).loc Cert.AdamLargeRefIdeal.main_arg3) = m' ((c.tc : Thread Cert.AdamLargeRefIdeal.nD Cert.AdamLargeRefIdeal.τ).loc Cert.AdamLargeRefIdeal.main_arg3)
          ∧ r.2.mem ((c.tc : Thread Cert.AdamLargeRefIdeal.nD Cert.AdamLargeRefIdeal.τ).loc Cert.AdamLargeRefIdeal.main_arg4) = m' ((c.tc : Thread Cert.AdamLargeRefIdeal.nD Cert.AdamLargeRefIdeal.τ).loc Cert.AdamLargeRefIdeal.main_arg4)
          ∧ r.2.mem ((c.tc : Thread Cert.AdamLargeRefIdeal.nD Cert.AdamLargeRefIdeal.τ).loc Cert.AdamLargeRefIdeal.main_arg5) = m' ((c.tc : Thread Cert.AdamLargeRefIdeal.nD Cert.AdamLargeRefIdeal.τ).loc Cert.AdamLargeRefIdeal.main_arg5)
          ∧ r.2.mem ((c.tc : Thread Cert.AdamLargeRefIdeal.nD Cert.AdamLargeRefIdeal.τ).loc Cert.AdamLargeRefIdeal.main_arg6) = m' ((c.tc : Thread Cert.AdamLargeRefIdeal.nD Cert.AdamLargeRefIdeal.τ).loc Cert.AdamLargeRefIdeal.main_arg6))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AddPairs_AddPairsIdeal : Prop :=
  True

def algebraic_AddPairsIdeal_AddPairsRefIdeal [hAddPairsIdeal : Cert.AddPairsIdeal.Facts] [hAddPairsRefIdeal : Cert.AddPairsRefIdeal.Facts] : Prop :=
  ∀ (m : (ℓ : Loc Cert.AddPairsIdeal.nD Cert.AddPairsIdeal.τ Cert.AddPairsIdeal.sig) → Buf (Elt Ideal) ℓ) (g : Dev Cert.AddPairsIdeal.nD → PrngReg)
    (m' : (ℓ : Loc Cert.AddPairsRefIdeal.nD Cert.AddPairsRefIdeal.τ Cert.AddPairsRefIdeal.sig) → Buf (Elt Ideal) ℓ) (g' : Dev Cert.AddPairsRefIdeal.nD → PrngReg), Pre_AddPairsIdeal m →
    (∀ c : Dev Cert.AddPairsIdeal.nD,
      m' ((c.tc : Thread Cert.AddPairsRefIdeal.nD Cert.AddPairsRefIdeal.τ).loc Cert.AddPairsRefIdeal.main_arg0) = m ((c.tc : Thread Cert.AddPairsIdeal.nD Cert.AddPairsIdeal.τ).loc Cert.AddPairsIdeal.main_arg0)
      ∧ m' ((c.tc : Thread Cert.AddPairsRefIdeal.nD Cert.AddPairsRefIdeal.τ).loc Cert.AddPairsRefIdeal.main_arg1) = m ((c.tc : Thread Cert.AddPairsIdeal.nD Cert.AddPairsIdeal.τ).loc Cert.AddPairsIdeal.main_arg1)) →
    ∃ (v0 : (c : Dev Cert.AddPairsIdeal.nD) → Buf (Elt Ideal) ((c.tc : Thread Cert.AddPairsIdeal.nD Cert.AddPairsIdeal.τ).loc Cert.AddPairsIdeal.main_v0_0)),
      θ_run (Cert.AddPairsIdeal.defs (F := Ideal)) (onTc (τ := Cert.AddPairsIdeal.τ) (Cert.AddPairsIdeal.main (F := Ideal))) ⟨m, fun _ => 0, g⟩ (fun r => ∀ c : Dev Cert.AddPairsIdeal.nD,
          r.2.mem ((c.tc : Thread Cert.AddPairsIdeal.nD Cert.AddPairsIdeal.τ).loc Cert.AddPairsIdeal.main_v0_0) = v0 c
          ∧ r.2.mem ((c.tc : Thread Cert.AddPairsIdeal.nD Cert.AddPairsIdeal.τ).loc Cert.AddPairsIdeal.main_arg0) = m ((c.tc : Thread Cert.AddPairsIdeal.nD Cert.AddPairsIdeal.τ).loc Cert.AddPairsIdeal.main_arg0)
          ∧ r.2.mem ((c.tc : Thread Cert.AddPairsIdeal.nD Cert.AddPairsIdeal.τ).loc Cert.AddPairsIdeal.main_arg1) = m ((c.tc : Thread Cert.AddPairsIdeal.nD Cert.AddPairsIdeal.τ).loc Cert.AddPairsIdeal.main_arg1))
      ∧ θ_run (Cert.AddPairsRefIdeal.defs (F := Ideal)) (onTc (τ := Cert.AddPairsRefIdeal.τ) (Cert.AddPairsRefIdeal.main (F := Ideal))) ⟨m', fun _ => 0, g'⟩ (fun r => ∀ c : Dev Cert.AddPairsRefIdeal.nD,
          r.2.mem ((c.tc : Thread Cert.AddPairsRefIdeal.nD Cert.AddPairsRefIdeal.τ).loc Cert.AddPairsRefIdeal.main_v4) = v0 c
          ∧ r.2.mem ((c.tc : Thread Cert.AddPairsRefIdeal.nD Cert.AddPairsRefIdeal.τ).loc Cert.AddPairsRefIdeal.main_arg0) = m' ((c.tc : Thread Cert.AddPairsRefIdeal.nD Cert.AddPairsRefIdeal.τ).loc Cert.AddPairsRefIdeal.main_arg0)
          ∧ r.2.mem ((c.tc : Thread Cert.AddPairsRefIdeal.nD Cert.AddPairsRefIdeal.τ).loc Cert.AddPairsRefIdeal.main_arg1) = m' ((c.tc : Thread Cert.AddPairsRefIdeal.nD Cert.AddPairsRefIdeal.τ).loc Cert.AddPairsRefIdeal.main_arg1))

def preserves_SumChips_SumChipsIdeal : Prop :=
  True

def algebraic_SumChipsIdeal_SumChipsRefIdeal [hSumChipsIdeal : Cert.SumChipsIdeal.Facts] [hSumChipsRefIdeal : Cert.SumChipsRefIdeal.Facts] : Prop :=
  ∀ (m : (ℓ : Loc Cert.SumChipsIdeal.nD Cert.SumChipsIdeal.τ Cert.SumChipsIdeal.sig) → Buf (Elt Ideal) ℓ) (g : Dev Cert.SumChipsIdeal.nD → PrngReg)
    (m' : (ℓ : Loc Cert.SumChipsRefIdeal.nD Cert.SumChipsRefIdeal.τ Cert.SumChipsRefIdeal.sig) → Buf (Elt Ideal) ℓ) (g' : Dev Cert.SumChipsRefIdeal.nD → PrngReg), Pre_SumChipsIdeal m →
    (∀ c : Dev Cert.SumChipsIdeal.nD,
      m' ((c.tc : Thread Cert.SumChipsRefIdeal.nD Cert.SumChipsRefIdeal.τ).loc Cert.SumChipsRefIdeal.main_arg0) = m ((c.tc : Thread Cert.SumChipsIdeal.nD Cert.SumChipsIdeal.τ).loc Cert.SumChipsIdeal.main_arg0)) →
    ∃ (v0 : (c : Dev Cert.SumChipsIdeal.nD) → Buf (Elt Ideal) ((c.tc : Thread Cert.SumChipsIdeal.nD Cert.SumChipsIdeal.τ).loc Cert.SumChipsIdeal.main_v1)),
      θ_run (Cert.SumChipsIdeal.defs (F := Ideal)) (onTc (τ := Cert.SumChipsIdeal.τ) (Cert.SumChipsIdeal.main (F := Ideal))) ⟨m, fun _ => 0, g⟩ (fun r => ∀ c : Dev Cert.SumChipsIdeal.nD,
          r.2.mem ((c.tc : Thread Cert.SumChipsIdeal.nD Cert.SumChipsIdeal.τ).loc Cert.SumChipsIdeal.main_v1) = v0 c
          ∧ r.2.mem ((c.tc : Thread Cert.SumChipsIdeal.nD Cert.SumChipsIdeal.τ).loc Cert.SumChipsIdeal.main_arg0) = m ((c.tc : Thread Cert.SumChipsIdeal.nD Cert.SumChipsIdeal.τ).loc Cert.SumChipsIdeal.main_arg0))
      ∧ θ_run (Cert.SumChipsRefIdeal.defs (F := Ideal)) (onTc (τ := Cert.SumChipsRefIdeal.τ) (Cert.SumChipsRefIdeal.main (F := Ideal))) ⟨m', fun _ => 0, g'⟩ (fun r => ∀ c : Dev Cert.SumChipsRefIdeal.nD,
          r.2.mem ((c.tc : Thread Cert.SumChipsRefIdeal.nD Cert.SumChipsRefIdeal.τ).loc Cert.SumChipsRefIdeal.main_v1) = v0 c
          ∧ r.2.mem ((c.tc : Thread Cert.SumChipsRefIdeal.nD Cert.SumChipsRefIdeal.τ).loc Cert.SumChipsRefIdeal.main_arg0) = m' ((c.tc : Thread Cert.SumChipsRefIdeal.nD Cert.SumChipsRefIdeal.τ).loc Cert.SumChipsRefIdeal.main_arg0))

def preserves_CastPlace_CastPlaceIdeal : Prop :=
  True

def algebraic_CastPlaceIdeal_CastPlaceRefIdeal [hCastPlaceIdeal : Cert.CastPlaceIdeal.Facts] [hCastPlaceRefIdeal : Cert.CastPlaceRefIdeal.Facts] : Prop :=
  ∀ (m : (ℓ : Loc Cert.CastPlaceIdeal.nD Cert.CastPlaceIdeal.τ Cert.CastPlaceIdeal.sig) → Buf (Elt Ideal) ℓ) (g : Dev Cert.CastPlaceIdeal.nD → PrngReg)
    (m' : (ℓ : Loc Cert.CastPlaceRefIdeal.nD Cert.CastPlaceRefIdeal.τ Cert.CastPlaceRefIdeal.sig) → Buf (Elt Ideal) ℓ) (g' : Dev Cert.CastPlaceRefIdeal.nD → PrngReg), Pre_CastPlaceIdeal m →
    (∀ c : Dev Cert.CastPlaceIdeal.nD,
      m' ((c.tc : Thread Cert.CastPlaceRefIdeal.nD Cert.CastPlaceRefIdeal.τ).loc Cert.CastPlaceRefIdeal.main_arg0) = m ((c.tc : Thread Cert.CastPlaceIdeal.nD Cert.CastPlaceIdeal.τ).loc Cert.CastPlaceIdeal.main_arg0)) →
    ∃ (v0 : (c : Dev Cert.CastPlaceIdeal.nD) → Buf (Elt Ideal) ((c.tc : Thread Cert.CastPlaceIdeal.nD Cert.CastPlaceIdeal.τ).loc Cert.CastPlaceIdeal.main_v2)),
      θ_run (Cert.CastPlaceIdeal.defs (F := Ideal)) (onTc (τ := Cert.CastPlaceIdeal.τ) (Cert.CastPlaceIdeal.main (F := Ideal))) ⟨m, fun _ => 0, g⟩ (fun r => ∀ c : Dev Cert.CastPlaceIdeal.nD,
          r.2.mem ((c.tc : Thread Cert.CastPlaceIdeal.nD Cert.CastPlaceIdeal.τ).loc Cert.CastPlaceIdeal.main_v2) = v0 c
          ∧ r.2.mem ((c.tc : Thread Cert.CastPlaceIdeal.nD Cert.CastPlaceIdeal.τ).loc Cert.CastPlaceIdeal.main_arg0) = m ((c.tc : Thread Cert.CastPlaceIdeal.nD Cert.CastPlaceIdeal.τ).loc Cert.CastPlaceIdeal.main_arg0))
      ∧ θ_run (Cert.CastPlaceRefIdeal.defs (F := Ideal)) (onTc (τ := Cert.CastPlaceRefIdeal.τ) (Cert.CastPlaceRefIdeal.main (F := Ideal))) ⟨m', fun _ => 0, g'⟩ (fun r => ∀ c : Dev Cert.CastPlaceRefIdeal.nD,
          r.2.mem ((c.tc : Thread Cert.CastPlaceRefIdeal.nD Cert.CastPlaceRefIdeal.τ).loc Cert.CastPlaceRefIdeal.main_v2) = v0 c
          ∧ r.2.mem ((c.tc : Thread Cert.CastPlaceRefIdeal.nD Cert.CastPlaceRefIdeal.τ).loc Cert.CastPlaceRefIdeal.main_arg0) = m' ((c.tc : Thread Cert.CastPlaceRefIdeal.nD Cert.CastPlaceRefIdeal.τ).loc Cert.CastPlaceRefIdeal.main_arg0))

def Claim : Prop :=
  ∃ (hConvInput : Cert.ConvInput.Facts) (hConvInputIdeal : Cert.ConvInputIdeal.Facts) (hConvInputRefIdeal : Cert.ConvInputRefIdeal.Facts) (hScanGrad : Cert.ScanGrad.Facts) (hScanGradIdeal : Cert.ScanGradIdeal.Facts) (hScanGradRefIdeal : Cert.ScanGradRefIdeal.Facts) (hConvGate : Cert.ConvGate.Facts) (hConvGateIdeal : Cert.ConvGateIdeal.Facts) (hConvGateRefIdeal : Cert.ConvGateRefIdeal.Facts) (hGluGate : Cert.GluGate.Facts) (hGluGateIdeal : Cert.GluGateIdeal.Facts) (hGluGateRefIdeal : Cert.GluGateRefIdeal.Facts) (hNormGrad : Cert.NormGrad.Facts) (hNormGradIdeal : Cert.NormGradIdeal.Facts) (hNormGradRefIdeal : Cert.NormGradRefIdeal.Facts) (hLoss : Cert.Loss.Facts) (hLossIdeal : Cert.LossIdeal.Facts) (hLossRefIdeal : Cert.LossRefIdeal.Facts) (hSwigluGrad : Cert.SwigluGrad.Facts) (hSwigluGradIdeal : Cert.SwigluGradIdeal.Facts) (hSwigluGradRefIdeal : Cert.SwigluGradRefIdeal.Facts) (hGeluGrad : Cert.GeluGrad.Facts) (hGeluGradIdeal : Cert.GeluGradIdeal.Facts) (hGeluGradRefIdeal : Cert.GeluGradRefIdeal.Facts) (hReadGrad : Cert.ReadGrad.Facts) (hReadGradIdeal : Cert.ReadGradIdeal.Facts) (hReadGradRefIdeal : Cert.ReadGradRefIdeal.Facts) (hSkipGrad : Cert.SkipGrad.Facts) (hSkipGradIdeal : Cert.SkipGradIdeal.Facts) (hSkipGradRefIdeal : Cert.SkipGradRefIdeal.Facts) (hInputGrad : Cert.InputGrad.Facts) (hInputGradIdeal : Cert.InputGradIdeal.Facts) (hInputGradRefIdeal : Cert.InputGradRefIdeal.Facts) (hConvOut : Cert.ConvOut.Facts) (hConvOutIdeal : Cert.ConvOutIdeal.Facts) (hConvOutRefIdeal : Cert.ConvOutRefIdeal.Facts) (hSwigluUp : Cert.SwigluUp.Facts) (hSwigluUpIdeal : Cert.SwigluUpIdeal.Facts) (hSwigluUpRefIdeal : Cert.SwigluUpRefIdeal.Facts) (hDownNorm : Cert.DownNorm.Facts) (hDownNormIdeal : Cert.DownNormIdeal.Facts) (hDownNormRefIdeal : Cert.DownNormRefIdeal.Facts) (hReadOut : Cert.ReadOut.Facts) (hReadOutIdeal : Cert.ReadOutIdeal.Facts) (hReadOutRefIdeal : Cert.ReadOutRefIdeal.Facts) (hGluOut : Cert.GluOut.Facts) (hGluOutIdeal : Cert.GluOutIdeal.Facts) (hGluOutRefIdeal : Cert.GluOutRefIdeal.Facts) (hHalfSwap : Cert.HalfSwap.Facts) (hHalfSwapIdeal : Cert.HalfSwapIdeal.Facts) (hHalfSwapRefIdeal : Cert.HalfSwapRefIdeal.Facts) (hChipSwap : Cert.ChipSwap.Facts) (hChipSwapIdeal : Cert.ChipSwapIdeal.Facts) (hChipSwapRefIdeal : Cert.ChipSwapRefIdeal.Facts) (hJoinHalves : Cert.JoinHalves.Facts) (hJoinHalvesIdeal : Cert.JoinHalvesIdeal.Facts) (hJoinHalvesRefIdeal : Cert.JoinHalvesRefIdeal.Facts) (hChipGather : Cert.ChipGather.Facts) (hChipGatherIdeal : Cert.ChipGatherIdeal.Facts) (hChipGatherRefIdeal : Cert.ChipGatherRefIdeal.Facts) (hWeightCols : Cert.WeightCols.Facts) (hWeightColsIdeal : Cert.WeightColsIdeal.Facts) (hWeightColsRefIdeal : Cert.WeightColsRefIdeal.Facts) (hWeightRows : Cert.WeightRows.Facts) (hWeightRowsIdeal : Cert.WeightRowsIdeal.Facts) (hWeightRowsRefIdeal : Cert.WeightRowsRefIdeal.Facts) (hBlockWeights : Cert.BlockWeights.Facts) (hBlockWeightsIdeal : Cert.BlockWeightsIdeal.Facts) (hBlockWeightsRefIdeal : Cert.BlockWeightsRefIdeal.Facts) (hAdamLarge : Cert.AdamLarge.Facts) (hAdamLargeIdeal : Cert.AdamLargeIdeal.Facts) (hAdamLargeRefIdeal : Cert.AdamLargeRefIdeal.Facts) (hAdamSmall : Cert.AdamSmall.Facts) (hAdamSmallIdeal : Cert.AdamSmallIdeal.Facts) (hAdamSmallRefIdeal : Cert.AdamSmallRefIdeal.Facts) (hAddPairs : Cert.AddPairs.Facts) (hAddPairsIdeal : Cert.AddPairsIdeal.Facts) (hAddPairsRefIdeal : Cert.AddPairsRefIdeal.Facts) (hSumChips : Cert.SumChips.Facts) (hSumChipsIdeal : Cert.SumChipsIdeal.Facts) (hSumChipsRefIdeal : Cert.SumChipsRefIdeal.Facts) (hCastPlace : Cert.CastPlace.Facts) (hCastPlaceIdeal : Cert.CastPlaceIdeal.Facts) (hCastPlaceRefIdeal : Cert.CastPlaceRefIdeal.Facts) (hPre_finite_scan : Cert.Pre_finite_scan.Facts) (hPre_finite_gate : Cert.Pre_finite_gate.Facts) (hPre_finite_glu : Cert.Pre_finite_glu.Facts) (hPre_finite_ln : Cert.Pre_finite_ln.Facts) (hPre_finite_dact : Cert.Pre_finite_dact.Facts) (hPre_finite_dys : Cert.Pre_finite_dys.Facts) (hPre_finite_yout : Cert.Pre_finite_yout.Facts),
    quiescent_ConvInput (hConvInput := hConvInput)
    ∧ quiescent_ConvInputIdeal (hConvInputIdeal := hConvInputIdeal)
    ∧ quiescent_ConvInputRefIdeal (hConvInputRefIdeal := hConvInputRefIdeal)
    ∧ quiescent_ScanGrad (hScanGrad := hScanGrad)
    ∧ quiescent_ScanGradIdeal (hScanGradIdeal := hScanGradIdeal)
    ∧ quiescent_ScanGradIdeal_pre_finite_scan (hScanGradIdeal := hScanGradIdeal) (hPre_finite_scan := hPre_finite_scan)
    ∧ quiescent_ScanGradRefIdeal (hScanGradRefIdeal := hScanGradRefIdeal)
    ∧ quiescent_ScanGradRefIdeal_pre_finite_scan (hScanGradRefIdeal := hScanGradRefIdeal) (hPre_finite_scan := hPre_finite_scan)
    ∧ quiescent_ConvGate (hConvGate := hConvGate)
    ∧ quiescent_ConvGateIdeal (hConvGateIdeal := hConvGateIdeal)
    ∧ quiescent_ConvGateIdeal_pre_finite_gate (hConvGateIdeal := hConvGateIdeal) (hPre_finite_gate := hPre_finite_gate)
    ∧ quiescent_ConvGateRefIdeal (hConvGateRefIdeal := hConvGateRefIdeal)
    ∧ quiescent_ConvGateRefIdeal_pre_finite_gate (hConvGateRefIdeal := hConvGateRefIdeal) (hPre_finite_gate := hPre_finite_gate)
    ∧ quiescent_GluGate (hGluGate := hGluGate)
    ∧ quiescent_GluGateIdeal (hGluGateIdeal := hGluGateIdeal)
    ∧ quiescent_GluGateIdeal_pre_finite_glu (hGluGateIdeal := hGluGateIdeal) (hPre_finite_glu := hPre_finite_glu)
    ∧ quiescent_GluGateRefIdeal (hGluGateRefIdeal := hGluGateRefIdeal)
    ∧ quiescent_GluGateRefIdeal_pre_finite_glu (hGluGateRefIdeal := hGluGateRefIdeal) (hPre_finite_glu := hPre_finite_glu)
    ∧ quiescent_NormGrad (hNormGrad := hNormGrad)
    ∧ quiescent_NormGradIdeal (hNormGradIdeal := hNormGradIdeal)
    ∧ quiescent_NormGradIdeal_pre_finite_ln (hNormGradIdeal := hNormGradIdeal) (hPre_finite_ln := hPre_finite_ln)
    ∧ quiescent_NormGradRefIdeal (hNormGradRefIdeal := hNormGradRefIdeal)
    ∧ quiescent_NormGradRefIdeal_pre_finite_ln (hNormGradRefIdeal := hNormGradRefIdeal) (hPre_finite_ln := hPre_finite_ln)
    ∧ quiescent_Loss (hLoss := hLoss)
    ∧ quiescent_LossIdeal (hLossIdeal := hLossIdeal)
    ∧ quiescent_LossRefIdeal (hLossRefIdeal := hLossRefIdeal)
    ∧ quiescent_SwigluGrad (hSwigluGrad := hSwigluGrad)
    ∧ quiescent_SwigluGradIdeal (hSwigluGradIdeal := hSwigluGradIdeal)
    ∧ quiescent_SwigluGradIdeal_pre_finite_dact (hSwigluGradIdeal := hSwigluGradIdeal) (hPre_finite_dact := hPre_finite_dact)
    ∧ quiescent_SwigluGradRefIdeal (hSwigluGradRefIdeal := hSwigluGradRefIdeal)
    ∧ quiescent_SwigluGradRefIdeal_pre_finite_dact (hSwigluGradRefIdeal := hSwigluGradRefIdeal) (hPre_finite_dact := hPre_finite_dact)
    ∧ quiescent_GeluGrad (hGeluGrad := hGeluGrad)
    ∧ quiescent_GeluGradIdeal (hGeluGradIdeal := hGeluGradIdeal)
    ∧ quiescent_GeluGradIdeal_pre_finite_dys (hGeluGradIdeal := hGeluGradIdeal) (hPre_finite_dys := hPre_finite_dys)
    ∧ quiescent_GeluGradRefIdeal (hGeluGradRefIdeal := hGeluGradRefIdeal)
    ∧ quiescent_GeluGradRefIdeal_pre_finite_dys (hGeluGradRefIdeal := hGeluGradRefIdeal) (hPre_finite_dys := hPre_finite_dys)
    ∧ quiescent_ReadGrad (hReadGrad := hReadGrad)
    ∧ quiescent_ReadGradIdeal (hReadGradIdeal := hReadGradIdeal)
    ∧ quiescent_ReadGradRefIdeal (hReadGradRefIdeal := hReadGradRefIdeal)
    ∧ quiescent_SkipGrad (hSkipGrad := hSkipGrad)
    ∧ quiescent_SkipGradIdeal (hSkipGradIdeal := hSkipGradIdeal)
    ∧ quiescent_SkipGradRefIdeal (hSkipGradRefIdeal := hSkipGradRefIdeal)
    ∧ quiescent_InputGrad (hInputGrad := hInputGrad)
    ∧ quiescent_InputGradIdeal (hInputGradIdeal := hInputGradIdeal)
    ∧ quiescent_InputGradRefIdeal (hInputGradRefIdeal := hInputGradRefIdeal)
    ∧ quiescent_ConvOut (hConvOut := hConvOut)
    ∧ quiescent_ConvOutIdeal (hConvOutIdeal := hConvOutIdeal)
    ∧ quiescent_ConvOutRefIdeal (hConvOutRefIdeal := hConvOutRefIdeal)
    ∧ quiescent_SwigluUp (hSwigluUp := hSwigluUp)
    ∧ quiescent_SwigluUpIdeal (hSwigluUpIdeal := hSwigluUpIdeal)
    ∧ quiescent_SwigluUpRefIdeal (hSwigluUpRefIdeal := hSwigluUpRefIdeal)
    ∧ quiescent_DownNorm (hDownNorm := hDownNorm)
    ∧ quiescent_DownNormIdeal (hDownNormIdeal := hDownNormIdeal)
    ∧ quiescent_DownNormRefIdeal (hDownNormRefIdeal := hDownNormRefIdeal)
    ∧ quiescent_ReadOut (hReadOut := hReadOut)
    ∧ quiescent_ReadOutIdeal (hReadOutIdeal := hReadOutIdeal)
    ∧ quiescent_ReadOutIdeal_pre_finite_yout (hReadOutIdeal := hReadOutIdeal) (hPre_finite_yout := hPre_finite_yout)
    ∧ quiescent_ReadOutRefIdeal (hReadOutRefIdeal := hReadOutRefIdeal)
    ∧ quiescent_ReadOutRefIdeal_pre_finite_yout (hReadOutRefIdeal := hReadOutRefIdeal) (hPre_finite_yout := hPre_finite_yout)
    ∧ quiescent_GluOut (hGluOut := hGluOut)
    ∧ quiescent_GluOutIdeal (hGluOutIdeal := hGluOutIdeal)
    ∧ quiescent_GluOutRefIdeal (hGluOutRefIdeal := hGluOutRefIdeal)
    ∧ quiescent_HalfSwap (hHalfSwap := hHalfSwap)
    ∧ quiescent_HalfSwapIdeal (hHalfSwapIdeal := hHalfSwapIdeal)
    ∧ quiescent_HalfSwapRefIdeal (hHalfSwapRefIdeal := hHalfSwapRefIdeal)
    ∧ quiescent_ChipSwap (hChipSwap := hChipSwap)
    ∧ quiescent_ChipSwapIdeal (hChipSwapIdeal := hChipSwapIdeal)
    ∧ quiescent_ChipSwapRefIdeal (hChipSwapRefIdeal := hChipSwapRefIdeal)
    ∧ quiescent_JoinHalves (hJoinHalves := hJoinHalves)
    ∧ quiescent_JoinHalvesIdeal (hJoinHalvesIdeal := hJoinHalvesIdeal)
    ∧ quiescent_JoinHalvesRefIdeal (hJoinHalvesRefIdeal := hJoinHalvesRefIdeal)
    ∧ quiescent_ChipGather (hChipGather := hChipGather)
    ∧ quiescent_ChipGatherIdeal (hChipGatherIdeal := hChipGatherIdeal)
    ∧ quiescent_ChipGatherRefIdeal (hChipGatherRefIdeal := hChipGatherRefIdeal)
    ∧ quiescent_WeightCols (hWeightCols := hWeightCols)
    ∧ quiescent_WeightColsIdeal (hWeightColsIdeal := hWeightColsIdeal)
    ∧ quiescent_WeightColsRefIdeal (hWeightColsRefIdeal := hWeightColsRefIdeal)
    ∧ quiescent_WeightRows (hWeightRows := hWeightRows)
    ∧ quiescent_WeightRowsIdeal (hWeightRowsIdeal := hWeightRowsIdeal)
    ∧ quiescent_WeightRowsRefIdeal (hWeightRowsRefIdeal := hWeightRowsRefIdeal)
    ∧ quiescent_BlockWeights (hBlockWeights := hBlockWeights)
    ∧ quiescent_BlockWeightsIdeal (hBlockWeightsIdeal := hBlockWeightsIdeal)
    ∧ quiescent_BlockWeightsRefIdeal (hBlockWeightsRefIdeal := hBlockWeightsRefIdeal)
    ∧ quiescent_AdamLarge (hAdamLarge := hAdamLarge)
    ∧ quiescent_AdamLargeIdeal (hAdamLargeIdeal := hAdamLargeIdeal)
    ∧ quiescent_AdamLargeRefIdeal (hAdamLargeRefIdeal := hAdamLargeRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AddPairs (hAddPairs := hAddPairs)
    ∧ quiescent_AddPairsIdeal (hAddPairsIdeal := hAddPairsIdeal)
    ∧ quiescent_AddPairsRefIdeal (hAddPairsRefIdeal := hAddPairsRefIdeal)
    ∧ quiescent_SumChips (hSumChips := hSumChips)
    ∧ quiescent_SumChipsIdeal (hSumChipsIdeal := hSumChipsIdeal)
    ∧ quiescent_SumChipsRefIdeal (hSumChipsRefIdeal := hSumChipsRefIdeal)
    ∧ quiescent_CastPlace (hCastPlace := hCastPlace)
    ∧ quiescent_CastPlaceIdeal (hCastPlaceIdeal := hCastPlaceIdeal)
    ∧ quiescent_CastPlaceRefIdeal (hCastPlaceRefIdeal := hCastPlaceRefIdeal)
    ∧ preserves_ConvInput_ConvInputIdeal
    ∧ algebraic_ConvInputIdeal_ConvInputRefIdeal (hConvInputIdeal := hConvInputIdeal) (hConvInputRefIdeal := hConvInputRefIdeal)
    ∧ preserves_ScanGrad_ScanGradIdeal
    ∧ algebraic_ScanGradIdeal_ScanGradRefIdeal_pre_finite_scan (hScanGradIdeal := hScanGradIdeal) (hScanGradRefIdeal := hScanGradRefIdeal) (hPre_finite_scan := hPre_finite_scan)
    ∧ preserves_ConvGate_ConvGateIdeal
    ∧ algebraic_ConvGateIdeal_ConvGateRefIdeal_pre_finite_gate (hConvGateIdeal := hConvGateIdeal) (hConvGateRefIdeal := hConvGateRefIdeal) (hPre_finite_gate := hPre_finite_gate)
    ∧ preserves_GluGate_GluGateIdeal
    ∧ algebraic_GluGateIdeal_GluGateRefIdeal_pre_finite_glu (hGluGateIdeal := hGluGateIdeal) (hGluGateRefIdeal := hGluGateRefIdeal) (hPre_finite_glu := hPre_finite_glu)
    ∧ preserves_NormGrad_NormGradIdeal
    ∧ algebraic_NormGradIdeal_NormGradRefIdeal_pre_finite_ln (hNormGradIdeal := hNormGradIdeal) (hNormGradRefIdeal := hNormGradRefIdeal) (hPre_finite_ln := hPre_finite_ln)
    ∧ preserves_Loss_LossIdeal
    ∧ algebraic_LossIdeal_LossRefIdeal (hLossIdeal := hLossIdeal) (hLossRefIdeal := hLossRefIdeal)
    ∧ preserves_SwigluGrad_SwigluGradIdeal
    ∧ algebraic_SwigluGradIdeal_SwigluGradRefIdeal_pre_finite_dact (hSwigluGradIdeal := hSwigluGradIdeal) (hSwigluGradRefIdeal := hSwigluGradRefIdeal) (hPre_finite_dact := hPre_finite_dact)
    ∧ preserves_GeluGrad_GeluGradIdeal
    ∧ algebraic_GeluGradIdeal_GeluGradRefIdeal_pre_finite_dys (hGeluGradIdeal := hGeluGradIdeal) (hGeluGradRefIdeal := hGeluGradRefIdeal) (hPre_finite_dys := hPre_finite_dys)
    ∧ preserves_ReadGrad_ReadGradIdeal
    ∧ algebraic_ReadGradIdeal_ReadGradRefIdeal (hReadGradIdeal := hReadGradIdeal) (hReadGradRefIdeal := hReadGradRefIdeal)
    ∧ preserves_SkipGrad_SkipGradIdeal
    ∧ algebraic_SkipGradIdeal_SkipGradRefIdeal (hSkipGradIdeal := hSkipGradIdeal) (hSkipGradRefIdeal := hSkipGradRefIdeal)
    ∧ preserves_InputGrad_InputGradIdeal
    ∧ algebraic_InputGradIdeal_InputGradRefIdeal (hInputGradIdeal := hInputGradIdeal) (hInputGradRefIdeal := hInputGradRefIdeal)
    ∧ preserves_ConvOut_ConvOutIdeal
    ∧ algebraic_ConvOutIdeal_ConvOutRefIdeal (hConvOutIdeal := hConvOutIdeal) (hConvOutRefIdeal := hConvOutRefIdeal)
    ∧ preserves_SwigluUp_SwigluUpIdeal
    ∧ algebraic_SwigluUpIdeal_SwigluUpRefIdeal (hSwigluUpIdeal := hSwigluUpIdeal) (hSwigluUpRefIdeal := hSwigluUpRefIdeal)
    ∧ preserves_DownNorm_DownNormIdeal
    ∧ algebraic_DownNormIdeal_DownNormRefIdeal (hDownNormIdeal := hDownNormIdeal) (hDownNormRefIdeal := hDownNormRefIdeal)
    ∧ preserves_ReadOut_ReadOutIdeal
    ∧ algebraic_ReadOutIdeal_ReadOutRefIdeal_pre_finite_yout (hReadOutIdeal := hReadOutIdeal) (hReadOutRefIdeal := hReadOutRefIdeal) (hPre_finite_yout := hPre_finite_yout)
    ∧ preserves_GluOut_GluOutIdeal
    ∧ algebraic_GluOutIdeal_GluOutRefIdeal (hGluOutIdeal := hGluOutIdeal) (hGluOutRefIdeal := hGluOutRefIdeal)
    ∧ preserves_HalfSwap_HalfSwapIdeal
    ∧ algebraic_HalfSwapIdeal_HalfSwapRefIdeal (hHalfSwapIdeal := hHalfSwapIdeal) (hHalfSwapRefIdeal := hHalfSwapRefIdeal)
    ∧ preserves_ChipSwap_ChipSwapIdeal
    ∧ algebraic_ChipSwapIdeal_ChipSwapRefIdeal (hChipSwapIdeal := hChipSwapIdeal) (hChipSwapRefIdeal := hChipSwapRefIdeal)
    ∧ preserves_JoinHalves_JoinHalvesIdeal
    ∧ algebraic_JoinHalvesIdeal_JoinHalvesRefIdeal (hJoinHalvesIdeal := hJoinHalvesIdeal) (hJoinHalvesRefIdeal := hJoinHalvesRefIdeal)
    ∧ preserves_ChipGather_ChipGatherIdeal
    ∧ algebraic_ChipGatherIdeal_ChipGatherRefIdeal (hChipGatherIdeal := hChipGatherIdeal) (hChipGatherRefIdeal := hChipGatherRefIdeal)
    ∧ preserves_WeightCols_WeightColsIdeal
    ∧ algebraic_WeightColsIdeal_WeightColsRefIdeal (hWeightColsIdeal := hWeightColsIdeal) (hWeightColsRefIdeal := hWeightColsRefIdeal)
    ∧ preserves_WeightRows_WeightRowsIdeal
    ∧ algebraic_WeightRowsIdeal_WeightRowsRefIdeal (hWeightRowsIdeal := hWeightRowsIdeal) (hWeightRowsRefIdeal := hWeightRowsRefIdeal)
    ∧ preserves_BlockWeights_BlockWeightsIdeal
    ∧ algebraic_BlockWeightsIdeal_BlockWeightsRefIdeal (hBlockWeightsIdeal := hBlockWeightsIdeal) (hBlockWeightsRefIdeal := hBlockWeightsRefIdeal)
    ∧ preserves_AdamLarge_AdamLargeIdeal
    ∧ algebraic_AdamLargeIdeal_AdamLargeRefIdeal (hAdamLargeIdeal := hAdamLargeIdeal) (hAdamLargeRefIdeal := hAdamLargeRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AddPairs_AddPairsIdeal
    ∧ algebraic_AddPairsIdeal_AddPairsRefIdeal (hAddPairsIdeal := hAddPairsIdeal) (hAddPairsRefIdeal := hAddPairsRefIdeal)
    ∧ preserves_SumChips_SumChipsIdeal
    ∧ algebraic_SumChipsIdeal_SumChipsRefIdeal (hSumChipsIdeal := hSumChipsIdeal) (hSumChipsRefIdeal := hSumChipsRefIdeal)
    ∧ preserves_CastPlace_CastPlaceIdeal
    ∧ algebraic_CastPlaceIdeal_CastPlaceRefIdeal (hCastPlaceIdeal := hCastPlaceIdeal) (hCastPlaceRefIdeal := hCastPlaceRefIdeal)
-- ==== Pre_finite_dact.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩
abbrev S2048 : Shape := ⟨1, ![2048]⟩
abbrev S2048x1 : Shape := ⟨2, ![2048, 1]⟩
abbrev S5632 : Shape := ⟨1, ![5632]⟩
abbrev S1x5632 : Shape := ⟨2, ![1, 5632]⟩

class Facts : Prop where
  reducesTo_S2048x2048_S2048_d1 : S2048x2048.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S_S2048x5632 : S_.BroadcastsInDim S2048x5632 (![] : Fin 0 → Fin S2048x5632.rank)
  bcast_S2048x1_S2048x5632_0_1 : S2048x1.BroadcastsInDim S2048x5632 (![0, 1] : Fin 2 → Fin S2048x5632.rank)
  reducesTo_S5632x2048_S5632_d1 : S5632x2048.ReducesTo [1] S5632
  bcast_S_S5632 : S_.BroadcastsInDim S5632 (![] : Fin 0 → Fin S5632.rank)
  bcast_S5632_S1x5632_1 : S5632.BroadcastsInDim S1x5632 (![1] : Fin 1 → Fin S1x5632.rank)
  bcast_S1x5632_S2048x5632_0_1 : S1x5632.BroadcastsInDim S2048x5632 (![0, 1] : Fin 2 → Fin S2048x5632.rank)

variable [Facts]

def fn_part1 {F : FTy → Type} [FloatOps F] (main_v14 : IVec S2048x5632 1) (main_v17 : FVec F S5632 .f32) (main_cst_4 : FVec F S_ .f32) : IVec S2048x5632 1 :=
  let main_v18 : FVec F S5632 .f32 := broadcastInDim S5632 ![] bcast_S_S5632 main_cst_4
  let main_v19 : IVec S5632 1 := cmpf .olt main_v17 main_v18
  let main_v20 : IVec S1x5632 1 := broadcastInDim S1x5632 ![1] bcast_S5632_S1x5632_1 main_v19
  let main_v21 : IVec S2048x5632 1 := broadcastInDim S2048x5632 ![0, 1] bcast_S1x5632_S2048x5632_0_1 main_v20
  let main_v22 : IVec S2048x5632 1 := andi main_v14 main_v21
  main_v22

def fn {F : FTy → Type} [FloatOps F] (main_arg0 : FVec F S2048x2048 .f32) (main_arg1 : FVec F S2048x5632 .f32) (main_arg2 : FVec F S2048x5632 .f32) (main_arg3 : FVec F S5632x2048 .f32) : IVec S2048x5632 1 :=
  let main_v0 : FVec F S2048x2048 .f32 := Host.absf main_arg0
  let main_cst : FVec F S_ .f32 := constant S_ .f32 0x00000000#32
  let main_v1 : FVec F S2048 .f32 := (fun x v => Host.reduceAdd x v reducesTo_S2048x2048_S2048_d1 h_S_) main_v0 main_cst
  let main_v2 : FVec F S2048x1 .f32 := broadcastInDim S2048x1 ![0] bcast_S2048_S2048x1_0 main_v1
  let main_v3 : FVec F S2048x1 .f32 := Host.absf main_v2
  let main_cst_0 : FVec F S_ .f32 := constant S_ .f32 0x7F800000#32
  let main_v4 : FVec F S2048x1 .f32 := broadcastInDim S2048x1 ![] bcast_S_S2048x1 main_cst_0
  let main_v5 : IVec S2048x1 1 := cmpf .olt main_v3 main_v4
  let main_v6 : FVec F S2048x5632 .f32 := Host.absf main_arg1
  let main_cst_1 : FVec F S_ .f32 := constant S_ .f32 0x7F800000#32
  let main_v7 : FVec F S2048x5632 .f32 := broadcastInDim S2048x5632 ![] bcast_S_S2048x5632 main_cst_1
  let main_v8 : IVec S2048x5632 1 := cmpf .olt main_v6 main_v7
  let main_v9 : IVec S2048x5632 1 := broadcastInDim S2048x5632 ![0, 1] bcast_S2048x1_S2048x5632_0_1 main_v5
  let main_v10 : IVec S2048x5632 1 := andi main_v9 main_v8
  let main_v11 : FVec F S2048x5632 .f32 := Host.absf main_arg2
  let main_cst_2 : FVec F S_ .f32 := constant S_ .f32 0x7F800000#32
  let main_v12 : FVec F S2048x5632 .f32 := broadcastInDim S2048x5632 ![] bcast_S_S2048x5632 main_cst_2
  let main_v13 : IVec S2048x5632 1 := cmpf .olt main_v11 main_v12
  let main_v14 : IVec S2048x5632 1 := andi main_v10 main_v13
  let main_v15 : FVec F S5632x2048 .f32 := Host.absf main_arg3
  let main_cst_3 : FVec F S_ .f32 := constant S_ .f32 0x00000000#32
  let main_v16 : FVec F S5632 .f32 := (fun x v => Host.reduceAdd x v reducesTo_S5632x2048_S5632_d1 h_S_) main_v15 main_cst_3
  let main_v17 : FVec F S5632 .f32 := Host.absf main_v16
  let main_cst_4 : FVec F S_ .f32 := constant S_ .f32 0x7F800000#32
  fn_part1 (F := F) main_v14 main_v17 main_cst_4
-- ==== Pre_finite_dys.lean ====
abbrev S2048x1024 : Shape := ⟨2, ![2048, 1024]⟩
abbrev S1024x1024 : Shape := ⟨2, ![1024, 1024]⟩
abbrev S_ : Shape := ⟨0, ![]⟩
abbrev S1024 : Shape := ⟨1, ![1024]⟩
abbrev S1x1024 : Shape := ⟨2, ![1, 1024]⟩

class Facts : Prop where
  bcast_S_S2048x1024 : S_.BroadcastsInDim S2048x1024 (![] : Fin 0 → Fin S2048x1024.rank)
  reducesTo_S1024x1024_S1024_d1 : S1024x1024.ReducesTo [1] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)

variable [Facts]

def fn {F : FTy → Type} [FloatOps F] (main_arg0 : FVec F S2048x1024 .f32) (main_arg1 : FVec F S1024x1024 .f32) (main_arg2 : FVec F S2048x1024 .f32) (main_arg3 : FVec F S2048x1024 .f32) : IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024x1024 .f32 := Host.absf main_arg1
  let main_cst_0 : FVec F S_ .f32 := constant S_ .f32 0x00000000#32
  let main_v4 : FVec F S1024 .f32 := (fun x v => Host.reduceAdd x v reducesTo_S1024x1024_S1024_d1 h_S_) main_v3 main_cst_0
  let main_v5 : FVec F S1024 .f32 := Host.absf main_v4
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_v8 : IVec S1x1024 1 := broadcastInDim S1x1024 ![1] bcast_S1024_S1x1024_1 main_v7
  let main_v9 : IVec S2048x1024 1 := broadcastInDim S2048x1024 ![0, 1] bcast_S1x1024_S2048x1024_0_1 main_v8
  let main_v10 : IVec S2048x1024 1 := andi main_v2 main_v9
  let main_v11 : FVec F S2048x1024 .f32 := Host.absf main_arg2
  let main_cst_2 : FVec F S_ .f32 := constant S_ .f32 0x7F800000#32
  let main_v12 : FVec F S2048x1024 .f32 := broadcastInDim S2048x1024 ![] bcast_S_S2048x1024 main_cst_2
  let main_v13 : IVec S2048x1024 1 := cmpf .olt main_v11 main_v12
  let main_v14 : IVec S2048x1024 1 := andi main_v10 main_v13
  let main_v15 : FVec F S2048x1024 .f32 := Host.absf main_arg3
  let main_cst_3 : FVec F S_ .f32 := constant S_ .f32 0x7F800000#32
  let main_v16 : FVec F S2048x1024 .f32 := broadcastInDim S2048x1024 ![] bcast_S_S2048x1024 main_cst_3
  let main_v17 : IVec S2048x1024 1 := cmpf .olt main_v15 main_v16
  let main_v18 : IVec S2048x1024 1 := andi main_v14 main_v17
  main_v18
-- ==== Pre_finite_gate.lean ====
abbrev S2048x2048 : Shape := ⟨2, ![2048, 2048]⟩
abbrev S2048x4096 : Shape := ⟨2, ![2048, 4096]⟩
abbrev S3x1024 : Shape := ⟨2, ![3, 1024]⟩
abbrev S1024 : Shape := ⟨1, ![1024]⟩
abbrev S2048x1024 : Shape := ⟨2, ![2048, 1024]⟩
abbrev S_ : Shape := ⟨0, ![]⟩
abbrev S1x1024 : Shape := ⟨2, ![1, 1024]⟩

class Facts : Prop where
  slices_S2048x4096_S2048x1024_0_1024 : S2048x4096.Slices ![0, 1024] S2048x1024
  bcast_S_S2048x1024 : S_.BroadcastsInDim S2048x1024 (![] : Fin 0 → Fin S2048x1024.rank)
  slices_S2048x4096_S2048x1024_0_2048 : S2048x4096.Slices ![0, 2048] S2048x1024
  slices_S2048x4096_S2048x1024_0_3072 : S2048x4096.Slices ![0, 3072] S2048x1024
  slices_S3x1024_S1x1024_0_0 : S3x1024.Slices ![0, 0] S1x1024
  bcast_S_S1x1024 : S_.BroadcastsInDim S1x1024 (![] : Fin 0 → Fin S1x1024.rank)
  slices_S3x1024_S1x1024_1_0 : S3x1024.Slices ![1, 0] S1x1024
  slices_S3x1024_S1x1024_2_0 : S3x1024.Slices ![2, 0] S1x1024
  slices_S2048x2048_S2048x1024_0_1024 : S2048x2048.Slices ![0, 1024] S2048x1024
  bcast_S1x1024_S2048x1024_0_1 : S1x1024.BroadcastsInDim S2048x1024 (![0, 1] : Fin 2 → Fin S2048x1024.rank)
  bcast_S_S1024 : S_.BroadcastsInDim S1024 (![] : Fin 0 → Fin S1024.rank)
  bcast_S1024_S1x1024_1 : S1024.BroadcastsInDim S1x1024 (![1] : Fin 1 → Fin S1x1024.rank)

variable [Facts]

def fn_part2 {F : FTy → Type} [FloatOps F] (main_arg4 : FVec F S1024 .f32) (main_v34 : IVec S2048x1024 1) (main_v39 : IVec S2048x1024 1) : IVec S2048x1024 1 :=
  let main_v40 : IVec S2048x1024 1 := andi main_v34 main_v39
  let main_v41 : FVec F S1024 .f32 := Host.absf main_arg4
  let main_cst_7 : FVec F S_ .f32 := constant S_ .f32 0x7F800000#32
  let main_v42 : FVec F S1024 .f32 := broadcastInDim S1024 ![] bcast_S_S1024 main_cst_7
  let main_v43 : IVec S1024 1 := cmpf .olt main_v41 main_v42
  let main_v44 : IVec S1x1024 1 := broadcastInDim S1x1024 ![1] bcast_S1024_S1x1024_1 main_v43
  let main_v45 : IVec S2048x1024 1 := broadcastInDim S2048x1024 ![0, 1] bcast_S1x1024_S2048x1024_0_1 main_v44
  let main_v46 : IVec S2048x1024 1 := andi main_v40 main_v45
  main_v46

def fn_part1 {F : FTy → Type} [FloatOps F] (main_arg0 : FVec F S2048x2048 .f32) (main_arg2 : FVec F S3x1024 .f32) (main_arg3 : FVec F S1024 .f32) (main_arg4 : FVec F S1024 .f32) (main_v13 : IVec S2048x1024 1) (main_v17 : IVec S1x1024 1) (main_v19 : FVec F S1x1024 .f32) : IVec S2048x1024 1 :=
  let main_cst_3 : FVec F S_ .f32 := constant S_ .f32 0x7F800000#32
  let main_v20 : FVec F S1x1024 .f32 := broadcastInDim S1x1024 ![] bcast_S_S1x1024 main_cst_3
  let main_v21 : IVec S1x1024 1 := cmpf .olt main_v19 main_v20
  let main_v22 : IVec S1x1024 1 := andi main_v17 main_v21
  let main_v23 : FVec F S1x1024 .f32 := (extractStridedSlice S1x1024 ![2, 0] · slices_S3x1024_S1x1024_2_0) main_arg2
  let main_v24 : FVec F S1x1024 .f32 := Host.absf main_v23
  let main_cst_4 : FVec F S_ .f32 := constant S_ .f32 0x7F800000#32
  let main_v25 : FVec F S1x1024 .f32 := broadcastInDim S1x1024 ![] bcast_S_S1x1024 main_cst_4
  let main_v26 : IVec S1x1024 1 := cmpf .olt main_v24 main_v25
  let main_v27 : IVec S1x1024 1 := andi main_v22 main_v26
  let main_v28 : FVec F S2048x1024 .f32 := (extractStridedSlice S2048x1024 ![0, 1024] · slices_S2048x2048_S2048x1024_0_1024) main_arg0
  let main_v29 : FVec F S2048x1024 .f32 := Host.absf main_v28
  let main_cst_5 : FVec F S_ .f32 := constant S_ .f32 0x7F800000#32
  let main_v30 : FVec F S2048x1024 .f32 := broadcastInDim S2048x1024 ![] bcast_S_S2048x1024 main_cst_5
  let main_v31 : IVec S2048x1024 1 := cmpf .olt main_v29 main_v30
  let main_v32 : IVec S2048x1024 1 := andi main_v31 main_v13
  let main_v33 : IVec S2048x1024 1 := broadcastInDim S2048x1024 ![0, 1] bcast_S1x1024_S2048x1024_0_1 main_v27
  let main_v34 : IVec S2048x1024 1 := andi main_v32 main_v33
  let main_v35 : FVec F S1024 .f32 := Host.absf main_arg3
  let main_cst_6 : FVec F S_ .f32 := constant S_ .f32 0x7F800000#32
  let main_v36 : FVec F S1024 .f32 := broadcastInDim S1024 ![] bcast_S_S1024 main_cst_6
  let main_v37 : IVec S1024 1 := cmpf .olt main_v35 main_v36
  let main_v38 : IVec S1x1024 1 := broadcastInDim S1x1024 ![1] bcast_S1024_S1x1024_1 main_v37
  let main_v39 : IVec S2048x1024 1 := broadcastInDim S2048x1024 ![0, 1] bcast_S1x1024_S2048x1024_0_1 main_v38
  fn_part2 (F := F) main_arg4 main_v34 main_v39

def fn {F : FTy → Type} [FloatOps F] (main_arg0 : FVec F S2048x2048 .f32) (main_arg1 : FVec F S2048x4096 .f32) (main_arg2 : FVec F S3x1024 .f32) (main_arg3 : FVec F S1024 .f32) (main_arg4 : FVec F S1024 .f32) : IVec S2048x1024 1 :=
  let main_v0 : FVec F S2048x1024 .f32 := (extractStridedSlice S2048x1024 ![0, 1024] · slices_S2048x4096_S2048x1024_0_1024) main_arg1
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S2048x1024 .f32 := (extractStridedSlice S2048x1024 ![0, 2048] · slices_S2048x4096_S2048x1024_0_2048) main_arg1
  let main_v5 : FVec F S2048x1024 .f32 := Host.absf main_v4
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_v8 : IVec S2048x1024 1 := andi main_v3 main_v7
  let main_v9 : FVec F S2048x1024 .f32 := (extractStridedSlice S2048x1024 ![0, 3072] · slices_S2048x4096_S2048x1024_0_3072) main_arg1
  let main_v10 : FVec F S2048x1024 .f32 := Host.absf main_v9
  let main_cst_1 : FVec F S_ .f32 := constant S_ .f32 0x7F800000#32
  let main_v11 : FVec F S2048x1024 .f32 := broadcastInDim S2048x1024 ![] bcast_S_S2048x1024 main_cst_1
  let main_v12 : IVec S2048x1024 1 := cmpf .olt main_v10 main_v11
  let main_v13 : IVec S2048x1024 1 := andi main_v8 main_v12
  let main_v14 : FVec F S1x1024 .f32 := (extractStridedSlice S1x1024 ![0, 0] · slices_S3x1024_S1x1024_0_0) main_arg2
  let main_v15 : FVec F S1x1024 .f32 := Host.absf main_v14
  let main_cst_2 : FVec F S_ .f32 := constant S_ .f32 0x7F800000#32
  let main_v16 : FVec F S1x1024 .f32 := broadcastInDim S1x1024 ![] bcast_S_S1x1024 main_cst_2
  let main_v17 : IVec S1x1024 1 := cmpf .olt main_v15 main_v16
  let main_v18 : FVec F S1x1024 .f32 := (extractStridedSlice S1x1024 ![1, 0] · slices_S3x1024_S1x1024_1_0) main_arg2
  let main_v19 : FVec F S1x1024 .f32 := Host.absf main_v18
  fn_part1 (F := F) main_arg0 main_arg2 main_arg3 main_arg4 main_v13 main_v17 main_v19
-- ==== Pre_finite_glu.lean ====
abbrev S2048x2048 : Shape := ⟨2, ![2048, 2048]⟩
abbrev S2048x1024 : Shape := ⟨2, ![2048, 1024]⟩
abbrev S1024 : Shape := ⟨1, ![1024]⟩
abbrev S_ : Shape := ⟨0, ![]⟩
abbrev S1x1024 : Shape := ⟨2, ![1, 1024]⟩

class Facts : Prop where
  slices_S2048x2048_S2048x1024_0_0 : S2048x2048.Slices ![0, 0] S2048x1024
  bcast_S_S2048x1024 : S_.BroadcastsInDim S2048x1024 (![] : Fin 0 → Fin S2048x1024.rank)
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)

variable [Facts]

def fn {F : FTy → Type} [FloatOps F] (main_arg0 : FVec F S2048x2048 .f32) (main_arg1 : FVec F S2048x1024 .f32) (main_arg2 : FVec F S2048x1024 .f32) (main_arg3 : FVec F S1024 .f32) : IVec S2048x1024 1 :=
  let main_v0 : FVec F S2048x1024 .f32 := (extractStridedSlice S2048x1024 ![0, 0] · slices_S2048x2048_S2048x1024_0_0) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_v7 : IVec S2048x1024 1 := andi main_v3 main_v6
  let main_v8 : FVec F S2048x1024 .f32 := Host.absf main_arg2
  let main_cst_1 : FVec F S_ .f32 := constant S_ .f32 0x7F800000#32
  let main_v9 : FVec F S2048x1024 .f32 := broadcastInDim S2048x1024 ![] bcast_S_S2048x1024 main_cst_1
  let main_v10 : IVec S2048x1024 1 := cmpf .olt main_v8 main_v9
  let main_v11 : IVec S2048x1024 1 := andi main_v7 main_v10
  let main_v12 : FVec F S1024 .f32 := Host.absf main_arg3
  let main_cst_2 : FVec F S_ .f32 := constant S_ .f32 0x7F800000#32
  let main_v13 : FVec F S1024 .f32 := broadcastInDim S1024 ![] bcast_S_S1024 main_cst_2
  let main_v14 : IVec S1024 1 := cmpf .olt main_v12 main_v13
  let main_v15 : IVec S1x1024 1 := broadcastInDim S1x1024 ![1] bcast_S1024_S1x1024_1 main_v14
  let main_v16 : IVec S2048x1024 1 := broadcastInDim S2048x1024 ![0, 1] bcast_S1x1024_S2048x1024_0_1 main_v15
  let main_v17 : IVec S2048x1024 1 := andi main_v11 main_v16
  main_v17
-- ==== Pre_finite_ln.lean ====
abbrev S2048x2048 : Shape := ⟨2, ![2048, 2048]⟩
abbrev S2048 : Shape := ⟨1, ![2048]⟩
abbrev S_ : Shape := ⟨0, ![]⟩
abbrev S1x2048 : Shape := ⟨2, ![1, 2048]⟩

class Facts : Prop where
  bcast_S_S2048x2048 : S_.BroadcastsInDim S2048x2048 (![] : Fin 0 → Fin S2048x2048.rank)
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)

variable [Facts]

def fn {F : FTy → Type} [FloatOps F] (main_arg0 : FVec F S2048x2048 .f32) (main_arg1 : FVec F S2048x2048 .f32) (main_arg2 : FVec F S2048 .f32) (main_arg3 : FVec F S2048 .f32) (main_arg4 : FVec F S2048x2048 .f32) : IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : IVec S2048x2048 1 := andi main_v2 main_v5
  let main_v7 : FVec F S2048 .f32 := Host.absf main_arg2
  let main_cst_1 : FVec F S_ .f32 := constant S_ .f32 0x7F800000#32
  let main_v8 : FVec F S2048 .f32 := broadcastInDim S2048 ![] bcast_S_S2048 main_cst_1
  let main_v9 : IVec S2048 1 := cmpf .olt main_v7 main_v8
  let main_v10 : IVec S1x2048 1 := broadcastInDim S1x2048 ![1] bcast_S2048_S1x2048_1 main_v9
  let main_v11 : IVec S2048x2048 1 := broadcastInDim S2048x2048 ![0, 1] bcast_S1x2048_S2048x2048_0_1 main_v10
  let main_v12 : IVec S2048x2048 1 := andi main_v6 main_v11
  let main_v13 : FVec F S2048x2048 .f32 := Host.absf main_arg4
  let main_cst_2 : FVec F S_ .f32 := constant S_ .f32 0x7F800000#32
  let main_v14 : FVec F S2048x2048 .f32 := broadcastInDim S2048x2048 ![] bcast_S_S2048x2048 main_cst_2
  let main_v15 : IVec S2048x2048 1 := cmpf .olt main_v13 main_v14
  let main_v16 : IVec S2048x2048 1 := andi main_v12 main_v15
  main_v16
-- ==== Pre_finite_scan.lean ====
abbrev S1x4096 : Shape := ⟨2, ![1, 4096]⟩
abbrev S2048x4096 : Shape := ⟨2, ![2048, 4096]⟩
abbrev S_ : Shape := ⟨0, ![]⟩

class Facts : Prop where
  bcast_S_S1x4096 : S_.BroadcastsInDim S1x4096 (![] : Fin 0 → Fin S1x4096.rank)
  bcast_S_S2048x4096 : S_.BroadcastsInDim S2048x4096 (![] : Fin 0 → Fin S2048x4096.rank)
  bcast_S1x4096_S2048x4096_0_1 : S1x4096.BroadcastsInDim S2048x4096 (![0, 1] : Fin 2 → Fin S2048x4096.rank)

variable [Facts]

def fn_part1 {F : FTy → Type} [FloatOps F] (main_arg5 : FVec F S2048x4096 .f32) (main_v15 : IVec S2048x4096 1) (main_v18 : IVec S2048x4096 1) : IVec S2048x4096 1 :=
  let main_v19 : IVec S2048x4096 1 := andi main_v15 main_v18
  let main_v20 : FVec F S2048x4096 .f32 := Host.absf main_arg5
  let main_cst_4 : FVec F S_ .f32 := constant S_ .f32 0x7F800000#32
  let main_v21 : FVec F S2048x4096 .f32 := broadcastInDim S2048x4096 ![] bcast_S_S2048x4096 main_cst_4
  let main_v22 : IVec S2048x4096 1 := cmpf .olt main_v20 main_v21
  let main_v23 : IVec S2048x4096 1 := andi main_v19 main_v22
  main_v23

def fn {F : FTy → Type} [FloatOps F] (main_arg0 : FVec F S1x4096 .f32) (main_arg1 : FVec F S1x4096 .f32) (main_arg2 : FVec F S2048x4096 .f32) (main_arg3 : FVec F S2048x4096 .f32) (main_arg4 : FVec F S2048x4096 .f32) (main_arg5 : FVec F S2048x4096 .f32) : IVec S2048x4096 1 :=
  let main_v0 : FVec F S1x4096 .f32 := Host.absf main_arg0
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_v3 : FVec F S1x4096 .f32 := Host.absf main_arg1
  let main_cst_0 : FVec F S_ .f32 := constant S_ .f32 0x7F800000#32
  let main_v4 : FVec F S1x4096 .f32 := broadcastInDim S1x4096 ![] bcast_S_S1x4096 main_cst_0
  let main_v5 : IVec S1x4096 1 := cmpf .olt main_v3 main_v4
  let main_v6 : IVec S1x4096 1 := andi main_v2 main_v5
  let main_v7 : FVec F S2048x4096 .f32 := Host.absf main_arg2
  let main_cst_1 : FVec F S_ .f32 := constant S_ .f32 0x7F800000#32
  let main_v8 : FVec F S2048x4096 .f32 := broadcastInDim S2048x4096 ![] bcast_S_S2048x4096 main_cst_1
  let main_v9 : IVec S2048x4096 1 := cmpf .olt main_v7 main_v8
  let main_v10 : IVec S2048x4096 1 := broadcastInDim S2048x4096 ![0, 1] bcast_S1x4096_S2048x4096_0_1 main_v6
  let main_v11 : IVec S2048x4096 1 := andi main_v10 main_v9
  let main_v12 : FVec F S2048x4096 .f32 := Host.absf main_arg3
  let main_cst_2 : FVec F S_ .f32 := constant S_ .f32 0x7F800000#32
  let main_v13 : FVec F S2048x4096 .f32 := broadcastInDim S2048x4096 ![] bcast_S_S2048x4096 main_cst_2
  let main_v14 : IVec S2048x4096 1 := cmpf .olt main_v12 main_v13
  let main_v15 : IVec S2048x4096 1 := andi main_v11 main_v14
  let main_v16 : FVec F S2048x4096 .f32 := Host.absf main_arg4
  let main_cst_3 : FVec F S_ .f32 := constant S_ .f32 0x7F800000#32
  let main_v17 : FVec F S2048x4096 .f32 := broadcastInDim S2048x4096 ![] bcast_S_S2048x4096 main_cst_3
  let main_v18 : IVec S2048x4096 1 := cmpf .olt main_v16 main_v17
  fn_part1 (F := F) main_arg5 main_v15 main_v18
-- ==== Pre_finite_yout.lean ====
abbrev S2048x4096 : Shape := ⟨2, ![2048, 4096]⟩
abbrev S64x16x64 : Shape := ⟨3, ![64, 16, 64]⟩
abbrev S64x16 : Shape := ⟨2, ![64, 16]⟩
abbrev S_ : Shape := ⟨0, ![]⟩
abbrev S2048 : Shape := ⟨1, ![2048]⟩
abbrev S2048x1 : Shape := ⟨2, ![2048, 1]⟩
abbrev S1024x64 : Shape := ⟨2, ![1024, 64]⟩
abbrev S1024 : Shape := ⟨1, ![1024]⟩
abbrev S1x1024 : Shape := ⟨2, ![1, 1024]⟩
abbrev S2048x1024 : Shape := ⟨2, ![2048, 1024]⟩

class Facts : Prop where
  reducesTo_S2048x4096_S2048_d1 : S2048x4096.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  shapeCasts_S64x16x64_S1024x64 : S64x16x64.ShapeCasts S1024x64
  reducesTo_S1024x64_S1024_d1 : S1024x64.ReducesTo [1] S1024
  bcast_S_S1024 : S_.BroadcastsInDim S1024 (![] : Fin 0 → Fin S1024.rank)
  bcast_S1024_S1x1024_1 : S1024.BroadcastsInDim S1x1024 (![1] : Fin 1 → Fin S1x1024.rank)
  bcast_S2048x1_S2048x1024_0_1 : S2048x1.BroadcastsInDim S2048x1024 (![0, 1] : Fin 2 → Fin S2048x1024.rank)
  bcast_S1x1024_S2048x1024_0_1 : S1x1024.BroadcastsInDim S2048x1024 (![0, 1] : Fin 2 → Fin S2048x1024.rank)

variable [Facts]

def fn {F : FTy → Type} [FloatOps F] (main_arg0 : FVec F S2048x4096 .f32) (main_arg1 : FVec F S2048x4096 .f32) (main_arg2 : FVec F S2048x4096 .f32) (main_arg3 : FVec F S64x16x64 .f32) (main_arg4 : FVec F S64x16x64 .f32) (main_arg5 : FVec F S64x16 .f32) : IVec S2048x1024 1 :=
  let main_v0 : FVec F S2048x4096 .f32 := Host.absf main_arg1
  let main_cst : FVec F S_ .f32 := constant S_ .f32 0x00000000#32
  let main_v1 : FVec F S2048 .f32 := (fun x v => Host.reduceAdd x v reducesTo_S2048x4096_S2048_d1 h_S_) main_v0 main_cst
  let main_v2 : FVec F S2048x1 .f32 := broadcastInDim S2048x1 ![0] bcast_S2048_S2048x1_0 main_v1
  let main_v3 : FVec F S2048x1 .f32 := Host.absf main_v2
  let main_cst_0 : FVec F S_ .f32 := constant S_ .f32 0x7F800000#32
  let main_v4 : FVec F S2048x1 .f32 := broadcastInDim S2048x1 ![] bcast_S_S2048x1 main_cst_0
  let main_v5 : IVec S2048x1 1 := cmpf .olt main_v3 main_v4
  let main_v6 : FVec F S1024x64 .f32 := shapeCast S1024x64 main_arg4 shapeCasts_S64x16x64_S1024x64
  let main_v7 : FVec F S1024x64 .f32 := Host.absf main_v6
  let main_cst_1 : FVec F S_ .f32 := constant S_ .f32 0x00000000#32
  let main_v8 : FVec F S1024 .f32 := (fun x v => Host.reduceAdd x v reducesTo_S1024x64_S1024_d1 h_S_) main_v7 main_cst_1
  let main_v9 : FVec F S1024 .f32 := Host.absf main_v8
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : IVec S1x1024 1 := broadcastInDim S1x1024 ![1] bcast_S1024_S1x1024_1 main_v11
  let main_v13 : IVec S2048x1024 1 := broadcastInDim S2048x1024 ![0, 1] bcast_S2048x1_S2048x1024_0_1 main_v5
  let main_v14 : IVec S2048x1024 1 := broadcastInDim S2048x1024 ![0, 1] bcast_S1x1024_S2048x1024_0_1 main_v12
  let main_v15 : IVec S2048x1024 1 := andi main_v13 main_v14
  main_v15
-- ==== ConvInput.lean ====
abbrev S2048x4096 : Shape := ⟨2, ![2048, 4096]⟩
abbrev S3x1024 : Shape := ⟨2, ![3, 1024]⟩
abbrev S2048x1024 : Shape := ⟨2, ![2048, 1024]⟩
abbrev S256x1024 : Shape := ⟨2, ![256, 1024]⟩
abbrev S8x1024 : Shape := ⟨2, ![8, 1024]⟩
abbrev S264x1024 : Shape := ⟨2, ![264, 1024]⟩
abbrev S1x1024 : Shape := ⟨2, ![1, 1024]⟩

abbrev nBuf : Space → Nat
  | .hbm => 5
  | .vmem => 13
  | .smem => 0
  | _ => 0

abbrev bufTy : (tb : Table) → Fin (tcTables nBuf tb) → BufTy
  | .hbm, ⟨0, _⟩ => ⟨S2048x4096, .f32⟩
  | .hbm, ⟨1, _⟩ => ⟨S3x1024, .f32⟩
  | .hbm, ⟨2, _⟩ => ⟨S2048x1024, .f32⟩
  | .hbm, ⟨3, _⟩ => ⟨S2048x1024, .bf16⟩
  | .hbm, ⟨4, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S3x1024, .f32⟩
  | .local _ .vmem, ⟨7, _⟩ => ⟨S8x1024, .f32⟩
  | .local _ .vmem, ⟨8, _⟩ => ⟨S8x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvInputRefIdeal.lean ====
abbrev S2048x4096 : Shape := ⟨2, ![2048, 4096]⟩
abbrev S3x1024 : Shape := ⟨2, ![3, 1024]⟩
abbrev S2048x1024 : Shape := ⟨2, ![2048, 1024]⟩
abbrev S1x2048x1024 : Shape := ⟨3, ![1, 2048, 1024]⟩
abbrev S_ : Shape := ⟨0, ![]⟩
abbrev S1024 : Shape := ⟨1, ![1024]⟩
abbrev S1x2x1024 : Shape := ⟨3, ![1, 2, 1024]⟩
abbrev S1x2050x1024 : Shape := ⟨3, ![1, 2050, 1024]⟩
abbrev S1x1024 : Shape := ⟨2, ![1, 1024]⟩
abbrev S1x1x1024 : Shape := ⟨3, ![1, 1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S3x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S1x2048x1024, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S1x2x1024, .f32⟩
  | .hbm, ⟨11, _⟩ => ⟨S1x2050x1024, .f32⟩
  | .hbm, ⟨12, _⟩ => ⟨S_, .f32⟩
  | .hbm, ⟨13, _⟩ => ⟨S1x2x1024, .f32⟩
  | .hbm, ⟨14, _⟩ => ⟨S1x1024, .f32⟩
  | .hbm, ⟨15, _⟩ => ⟨S1024, .f32⟩
  | .hbm, ⟨16, _⟩ => ⟨S1x2048x1024, .f32⟩
  | .hbm, ⟨17, _⟩ => ⟨S1x1x1024, .f32⟩
  | .hbm, ⟨18, _⟩ => ⟨S1x2048x1024, .f32⟩
  | .hbm, ⟨19, _⟩ => ⟨S1x2048x1024, .f32⟩
  | .hbm, ⟨20, _⟩ => ⟨S1x1x1024, .f32⟩
  | .hbm, ⟨21, _⟩ => ⟨S1x2048x1024, .f32⟩
  | .hbm, ⟨22, _⟩ => ⟨S1x2048x1024, .f32⟩
  | .hbm, ⟨23, _⟩ => ⟨S1x1024, .f32⟩
  | .hbm, ⟨24, _⟩ => ⟨S1024, .f32⟩
  | .hbm, ⟨25, _⟩ => ⟨S1x2048x1024, .f32⟩
  | .hbm, ⟨26, _⟩ => ⟨S1x1x1024, .f32⟩
  | .hbm, ⟨27, _⟩ => ⟨S1x2048x1024, .f32⟩
  | .hbm, ⟨28, _⟩ => ⟨S1x2048x1024, .f32⟩
  | .hbm, ⟨29, _⟩ => ⟨S1x2048x1024, .f32⟩
  | .hbm, ⟨30, _⟩ => ⟨S1x1024, .f32⟩
  | .hbm, ⟨31, _⟩ => ⟨S1024, .f32⟩
  | .hbm, ⟨32, _⟩ => ⟨S1x2048x1024, .f32⟩
  | .hbm, ⟨33, _⟩ => ⟨S1x1x1024, .f32⟩
  | .hbm, ⟨34, _⟩ => ⟨S1x2048x1024, .f32⟩
  | .hbm, ⟨35, _⟩ => ⟨S1x2048x1024, .f32⟩
  | .hbm, ⟨36, _⟩ => ⟨S1x2048x1024, .f32⟩
  | .hbm, ⟨37, _⟩ => ⟨S2048x1024, .f32⟩
  | .hbm, ⟨38, _⟩ => ⟨S1x2048x1024, .f32⟩
  | .hbm, ⟨39, _⟩ => ⟨S1x2048x1024, .f32⟩
  | .hbm, ⟨40, _⟩ => ⟨S1x2048x1024, .f32⟩
  | .hbm, ⟨41, _⟩ => ⟨S_, .f32⟩
  | .hbm, ⟨42, _⟩ => ⟨S1x2050x1024, .f32⟩
  | .hbm, ⟨43, _⟩ => ⟨S1x2048x1024, .f32⟩
  | .hbm, ⟨44, _⟩ => ⟨S1x2048x1024, .f32⟩
  | .hbm, ⟨45, _⟩ => ⟨S_, .f32⟩
  | .hbm, ⟨46, _⟩ => ⟨S1x2050x1024, .f32⟩
  | .hbm, ⟨47, _⟩ => ⟨S1x2050x1024, .f32⟩
  | .hbm, ⟨48, _⟩ => ⟨S1x2048x1024, .f32⟩
  | .hbm, ⟨49, _⟩ => ⟨S1x2048x1024, .f32⟩
  | .hbm, ⟨50, _⟩ => ⟨S_, .f32⟩
  | .hbm, ⟨51, _⟩ => ⟨S1x2050x1024, .f32⟩
  | .hbm, ⟨52, _⟩ => ⟨S1x2050x1024, .f32⟩
  | .hbm, ⟨53, _⟩ => ⟨S1x2x1024, .f32⟩
  | .hbm, ⟨54, _⟩ => ⟨S1x2048x1024, .f32⟩
  | .hbm, ⟨55, _⟩ => ⟨S_, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .bf16⟩
  | .hbm, ⟨60, _⟩ => ⟨S2048x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩

abbrev nD : Nat := 1
abbrev τ : Topo := Topo.v7x

variable {F : FTy → Type} [FloatOps F]
-- ==== ScanGrad.lean ====
abbrev S1x4096 : Shape := ⟨2, ![1, 4096]⟩
abbrev S2048x4096 : Shape := ⟨2, ![2048, 4096]⟩
abbrev S1x512 : Shape := ⟨2, ![1, 512]⟩
abbrev S2048x512 : Shape := ⟨2, ![2048, 512]⟩
abbrev S8x512 : Shape := ⟨2, ![8, 512]⟩
abbrev S512 : Shape := ⟨1, ![512]⟩

abbrev nBuf : Space → Nat
  | .hbm => 13
  | .vmem => 32
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S2048x4096, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S1x4096, .f32⟩
  | .hbm, ⟨9, _⟩ => ⟨S2048x4096, .f32⟩
  | .hbm, ⟨10, _⟩ => ⟨S2048x4096, .f32⟩
  | .hbm, ⟨11, _⟩ => ⟨S1x4096, .f32⟩
  | .hbm, ⟨12, _⟩ => ⟨S1x4096, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S2048x512, .f32⟩
  | .local _ .vmem, ⟨11, _⟩ => ⟨S2048x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S2048x512, .f32⟩
  | .local _ .vmem, ⟨17, _⟩ => ⟨S2048x512, .f32⟩
  | .local _ .vmem, ⟨18, _⟩ => ⟨S2048x512, .f32⟩
  | .local _ .vmem, ⟨19, _⟩ => ⟨S2048x512, .f32⟩
  | .local _ .vmem, ⟨20, _⟩ => ⟨S2048x512, .f32⟩
  | .local _ .vmem, ⟨21, _⟩ => ⟨S2048x512, .f32⟩
  | .local _ .vmem, ⟨22, _⟩ => ⟨S2048x512, .f32⟩
  | .local _ .vmem, ⟨23, _⟩ => ⟨S2048x512, .f32⟩
  | .local _ .vmem, ⟨24, _⟩ => ⟨S2048x512, .f32⟩
  | .local _ .vmem, ⟨25, _⟩ => ⟨S2048x512, .f32⟩
  | .local _ .vmem, ⟨26, _⟩ => ⟨S2048x512, .f32⟩
  | .local _ .vmem, ⟨27, _⟩ => ⟨S2048x512, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_13 : BitVec 32 := 0#32
  let c256_i32 : BitVec 32 := 256#32
  let v128 : BitVec 32 := Scalar.addi c0_i32_13 c256_i32
  let c1_i32_14 : BitVec 32 := 1#32
  ⟨c0_i32_13, v128, c1_i32_14⟩
def k0_mult1 (k0_t1 : Fin k0_t1_loop.trips) : BitVec 32 :=
  let c0_i32_13 : BitVec 32 := 0#32
  let c1_i32_14 : BitVec 32 := 1#32
  let arg7 : BitVec 32 := Scf.iv c0_i32_13 c1_i32_14 k0_t1
  let c8_i32 : BitVec 32 := 8#32
  let v130 : BitVec 32 := Scalar.muli arg7 c8_i32
  v130
def k0_off1 (k0_t1 : Fin k0_t1_loop.trips) : Fin 2 → Nat :=
  let c0_i32_13 : BitVec 32 := 0#32
  let c1_i32_14 : BitVec 32 := 1#32
  let arg7 : BitVec 32 := Scf.iv c0_i32_13 c1_i32_14 k0_t1
  let c8_i32 : BitVec 32 := 8#32
  let v130 : BitVec 32 := Scalar.muli arg7 c8_i32
  let v131 : BitVec 32 := v130
  let v132 : Index := Scalar.indexCast v131
  let c0_16 : Index := 0#32
  ![v132.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

@[reducible] def k1_t1_loop : Scf.Loop 32 :=
  let c0_i32_14 : BitVec 32 := 0#32
  let c256_i32 : BitVec 32 := 256#32
  let v130 : BitVec 32 := Scalar.addi c0_i32_14 c256_i32
  let c1_i32_15 : BitVec 32 := 1#32
  ⟨c0_i32_14, v130, c1_i32_15⟩
def k1_mult1 (k1_t1 : Fin k1_t1_loop.trips) : BitVec 32 :=
  let c255_i32 : BitVec 32 := 255#32
  let c0_i32_14 : BitVec 32 := 0#32
  let c1_i32_15 : BitVec 32 := 1#32
  let arg11 : BitVec 32 := Scf.iv c0_i32_14 c1_i32_15 k1_t1
  let v138 : BitVec 32 := Scalar.subi c255_i32 arg11
  let c8_i32 : BitVec 32 := 8#32
  let v139 : BitVec 32 := Scalar.muli v138 c8_i32
  v139
def k1_off1 (k1_t1 : Fin k1_t1_loop.trips) : Fin 2 → Nat :=
  let c255_i32 : BitVec 32 := 255#32
  let c0_i32_14 : BitVec 32 := 0#32
  let c1_i32_15 : BitVec 32 := 1#32
  let arg11 : BitVec 32 := Scf.iv c0_i32_14 c1_i32_15 k1_t1
  let v138 : BitVec 32 := Scalar.subi c255_i32 arg11
  let c8_i32 : BitVec 32 := 8#32
  let v139 : BitVec 32 := Scalar.muli v138 c8_i32
  let v140 : BitVec 32 := v139
  let v141 : Index := Scalar.indexCast v140
  let c0_23 : Index := 0#32
  ![v141.toNat, 0]
def k1_mult2 (k1_t1 : Fin k1_t1_loop.trips) : BitVec 32 :=
  let c255_i32 : BitVec 32 := 255#32
  let c0_i32_14 : BitVec 32 := 0#32
  let c1_i32_15 : BitVec 32 := 1#32
  let arg11 : BitVec 32 := Scf.iv c0_i32_14 c1_i32_15 k1_t1
  let v138 : BitVec 32 := Scalar.subi c255_i32 arg11
  let c1_i32_42 : BitVec 32 := 1#32
  let v223 : BitVec 32 := Scalar.subi v138 c1_i32_42
  let c0_i32_43 : BitVec 32 := 0#32
  let v224 : BitVec 32 := Scalar.maxsi v223 c0_i32_43
  let c8_i32_44 : BitVec 32 := 8#32
  let v225 : BitVec 32 := Scalar.muli v224 c8_i32_44
  v225
def k1_off2 (k1_t1 : Fin k1_t1_loop.trips) : Fin 2 → Nat :=
  let c255_i32 : BitVec 32 := 255#32
  let c0_i32_14 : BitVec 32 := 0#32
  let c1_i32_15 : BitVec 32 := 1#32
  let arg11 : BitVec 32 := Scf.iv c0_i32_14 c1_i32_15 k1_t1
  let v138 : BitVec 32 := Scalar.subi c255_i32 arg11
  let c1_i32_42 : BitVec 32 := 1#32
  let v223 : BitVec 32 := Scalar.subi v138 c1_i32_42
  let c0_i32_43 : BitVec 32 := 0#32
  let v224 : BitVec 32 := Scalar.maxsi v223 c0_i32_43
  let c8_i32_44 : BitVec 32 := 8#32
  let v225 : BitVec 32 := Scalar.muli v224 c8_i32_44
  let v226 : BitVec 32 := v225
  let v230 : Index := Scalar.indexCast v226
  let c0_46 : Index := 0#32
  ![v230.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2048x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ScanGradRefIdeal.lean ====
abbrev S1x4096 : Shape := ⟨2, ![1, 4096]⟩
abbrev S2048x4096 : Shape := ⟨2, ![2048, 4096]⟩
abbrev S_ : Shape := ⟨0, ![]⟩
abbrev S2048x1x4096 : Shape := ⟨3, ![2048, 1, 4096]⟩
abbrev S1x1x4096 : Shape := ⟨3, ![1, 1, 4096]⟩

abbrev nBuf : Space → Nat
  | .hbm => 153
  | .vmem => 0
  | .smem => 0
  | _ => 0

abbrev hbmTy0_0 (i : Nat) : BufTy := match i % 128 with
  | 0 => ⟨S1x4096, .f32⟩
  | 1 => ⟨S1x4096, .f32⟩
  | 2 => ⟨S2048x4096, .f32⟩
  | 3 => ⟨S2048x4096, .f32⟩
  | 4 => ⟨S2048x4096, .f32⟩
  | 5 => ⟨S2048x4096, .f32⟩
  | 6 => ⟨S_, .f32⟩
  | 7 => ⟨S1x4096, .f32⟩
  | 8 => ⟨S2048x1x4096, .f32⟩
  | 9 => ⟨S2048x1x4096, .f32⟩
  | 10 => ⟨S_, .f32⟩
  | 11 => ⟨S2048x1x4096, .f32⟩
  | 12 => ⟨S_, .f32⟩
  | 13 => ⟨S2048x1x4096, .f32⟩
  | 14 => ⟨S_, .f32⟩
  | 15 => ⟨S2048x1x4096, .f32⟩
  | 16 => ⟨S_, .f32⟩
  | 17 => ⟨S2048x1x4096, .f32⟩
  | 18 => ⟨S_, .i32⟩
  | 19 => ⟨S2048x1x4096, .f32⟩
  | 20 => ⟨S2048x1x4096, .f32⟩
  | 21 => ⟨S1x4096, .f32⟩
  | 22 => ⟨S1x4096, .f32⟩
  | 23 => ⟨S_, .i32⟩
  | 24 => ⟨S1x4096, .f32⟩
  | 25 => ⟨S1x4096, .f32⟩
  | 26 => ⟨S2048x1x4096, .f32⟩
  | 27 => ⟨S2048x1x4096, .f32⟩
  | 28 => ⟨S2048x1x4096, .f32⟩
  | 29 => ⟨S2048x1x4096, .f32⟩
  | 30 => ⟨S_, .i32⟩
  | 31 => ⟨S_, .i1⟩
  | 32 => ⟨S_, .i32⟩
  | 33 => ⟨S_, .i32⟩
  | 34 => ⟨S1x1x4096, .f32⟩
  | 35 => ⟨S1x4096, .f32⟩
  | 36 => ⟨S_, .i32⟩
  | 37 => ⟨S_, .i32⟩
  | 38 => ⟨S1x1x4096, .f32⟩
  | 39 => ⟨S1x4096, .f32⟩
  | 40 => ⟨S1x4096, .f32⟩
  | 41 => ⟨S1x4096, .f32⟩
  | 42 => ⟨S1x4096, .f32⟩
  | 43 => ⟨S1x4096, .f32⟩
  | 44 => ⟨S1x4096, .f32⟩
  | 45 => ⟨S1x4096, .f32⟩
  | 46 => ⟨S1x4096, .f32⟩
  | 47 => ⟨S1x4096, .f32⟩
  | 48 => ⟨S1x1x4096, .f32⟩
  | 49 => ⟨S_, .i32⟩
  | 50 => ⟨S_, .i32⟩
  | 51 => ⟨S2048x1x4096, .f32⟩
  | 52 => ⟨S1x1x4096, .f32⟩
  | 53 => ⟨S_, .i32⟩
  | 54 => ⟨S_, .i32⟩
  | 55 => ⟨S2048x1x4096, .f32⟩
  | 56 => ⟨S1x1x4096, .f32⟩
  | 57 => ⟨S_, .i32⟩
  | 58 => ⟨S_, .i32⟩
  | 59 => ⟨S2048x1x4096, .f32⟩
  | 60 => ⟨S1x1x4096, .f32⟩
  | 61 => ⟨S_, .i32⟩
  | 62 => ⟨S_, .i32⟩
  | 63 => ⟨S2048x1x4096, .f32⟩
  | 64 => ⟨S_, .i32⟩
  | 65 => ⟨S_, .i32⟩
  | 66 => ⟨S2048x1x4096, .f32⟩
  | 67 => ⟨S2048x1x4096, .f32⟩
  | 68 => ⟨S_, .f32⟩
  | 69 => ⟨S1x4096, .f32⟩
  | 70 => ⟨S_, .f32⟩
  | 71 => ⟨S1x4096, .f32⟩
  | 72 => ⟨S_, .f32⟩
  | 73 => ⟨S1x4096, .f32⟩
  | 74 => ⟨S_, .f32⟩
  | 75 => ⟨S1x4096, .f32⟩
  | 76 => ⟨S_, .f32⟩
  | 77 => ⟨S1x4096, .f32⟩
  | 78 => ⟨S_, .f32⟩
  | 79 => ⟨S1x4096, .f32⟩
  | 80 => ⟨S_, .f32⟩
  | 81 => ⟨S2048x1x4096, .f32⟩
  | 82 => ⟨S_, .f32⟩
  | 83 => ⟨S2048x1x4096, .f32⟩
  | 84 => ⟨S_, .i32⟩
  | 85 => ⟨S2048x1x4096, .f32⟩
  | 86 => ⟨S2048x1x4096, .f32⟩
  | 87 => ⟨S2048x1x4096, .f32⟩
  | 88 => ⟨S2048x1x4096, .f32⟩
  | 89 => ⟨S1x4096, .f32⟩
  | 90 => ⟨S1x4096, .f32⟩
  | 91 => ⟨S_, .i32⟩
  | 92 => ⟨S1x4096, .f32⟩
  | 93 => ⟨S1x4096, .f32⟩
  | 94 => ⟨S1x4096, .f32⟩
  | 95 => ⟨S1x4096, .f32⟩
  | 96 => ⟨S2048x1x4096, .f32⟩
  | 97 => ⟨S2048x1x4096, .f32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S1x1x4096, .f32⟩
  | 107 => ⟨S1x4096, .f32⟩
  | 108 => ⟨S_, .i32⟩
  | 109 => ⟨S_, .i32⟩
  | 110 => ⟨S1x1x4096, .f32⟩
  | 111 => ⟨S1x4096, .f32⟩
  | 112 => ⟨S_, .i32⟩
  | 113 => ⟨S_, .i32⟩
  | 114 => ⟨S1x1x4096, .f32⟩
  | 115 => ⟨S1x4096, .f32⟩
  | 116 => ⟨S_, .i32⟩
  | 117 => ⟨S_, .i32⟩
  | 118 => ⟨S1x1x4096, .f32⟩
  | 119 => ⟨S1x4096, .f32⟩
  | 120 => ⟨S1x4096, .f32⟩
  | 121 => ⟨S1x4096, .f32⟩
  | 122 => ⟨S1x4096, .f32⟩
  | 123 => ⟨S1x4096, .f32⟩
  | 124 => ⟨S1x4096, .f32⟩
  | 125 => ⟨S1x4096, .f32⟩
  | 126 => ⟨S1x4096, .f32⟩
  | 127 => ⟨S1x4096, .f32⟩
  | _ => ⟨S1x4096, .f32⟩

abbrev hbmTy0_1 (i : Nat) : BufTy := match i % 128 with
  | 0 => ⟨S1x4096, .f32⟩
  | 1 => ⟨S1x4096, .f32⟩
  | 2 => ⟨S1x4096, .f32⟩
  | 3 => ⟨S1x4096, .f32⟩
  | 4 => ⟨S1x4096, .f32⟩
  | 5 => ⟨S1x4096, .f32⟩
  | 6 => ⟨S1x4096, .f32⟩
  | 7 => ⟨S1x4096, .f32⟩
  | 8 => ⟨S1x4096, .f32⟩
  | 9 => ⟨S1x1x4096, .f32⟩
  | 10 => ⟨S_, .i32⟩
  | 11 => ⟨S_, .i32⟩
  | 12 => ⟨S2048x1x4096, .f32⟩
  | 13 => ⟨S1x1x4096, .f32⟩
  | 14 => ⟨S_, .i32⟩
  | 15 => ⟨S_, .i32⟩
  | 16 => ⟨S2048x1x4096, .f32⟩
  | 17 => ⟨S_, .i32⟩
  | 18 => ⟨S_, .i32⟩
  | 19 => ⟨S_, .f32⟩
  | 20 => ⟨S2048x4096, .f32⟩
  | 21 => ⟨S_, .f32⟩
  | 22 => ⟨S2048x4096, .f32⟩
  | 23 => ⟨S2048x4096, .f32⟩
  | 24 => ⟨S2048x4096, .f32⟩
  | _ => ⟨S1x4096, .f32⟩

abbrev hbmTy (i : Nat) : BufTy := match i / 128 with
  | 0 => hbmTy0_0 i
  | 1 => hbmTy0_1 i
  | _ => ⟨S1x4096, .f32⟩

abbrev bufTy : (tb : Table) → Fin (tcTables nBuf tb) → BufTy
  | .hbm, ⟨i, _⟩ => hbmTy i
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_c : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v7_3 : Ref sig .tc := ⟨.hbm, 22, rfl⟩
abbrev main_v7_4 : Ref sig .tc := ⟨.hbm, 23, rfl⟩
abbrev main_v7_5 : Ref sig .tc := ⟨.hbm, 24, rfl⟩
abbrev main_v7_6 : Ref sig .tc := ⟨.hbm, 25, rfl⟩
abbrev main_v7_7 : Ref sig .tc := ⟨.hbm, 26, rfl⟩
abbrev main_v7_8 : Ref sig .tc := ⟨.hbm, 27, rfl⟩
abbrev main_v7_9 : Ref sig .tc := ⟨.hbm, 28, rfl⟩
abbrev main_v7_10 : Ref sig .tc := ⟨.hbm, 29, rfl⟩
abbrev main_while0c_c_25 : Ref sig .tc := ⟨.hbm, 30, rfl⟩
abbrev main_while0c_v23 : Ref sig .tc := ⟨.hbm, 31, rfl⟩
abbrev main_while0b_call0_c : Ref sig .tc := ⟨.hbm, 32, rfl⟩
abbrev main_while0b_call0_c_0 : Ref sig .tc := ⟨.hbm, 33, rfl⟩
abbrev main_while0b_call0_v0 : Ref sig .tc := ⟨.hbm, 34, rfl⟩
abbrev main_while0b_v23 : Ref sig .tc := ⟨.hbm, 35, rfl⟩
abbrev main_while0b_call1_c : Ref sig .tc := ⟨.hbm, 36, rfl⟩
abbrev main_while0b_call1_c_0 : Ref sig .tc := ⟨.hbm, 37, rfl⟩
abbrev main_while0b_call1_v0 : Ref sig .tc := ⟨.hbm, 38, rfl⟩
abbrev main_while0b_v24 : Ref sig .tc := ⟨.hbm, 39, rfl⟩
abbrev main_while0b_v25 : Ref sig .tc := ⟨.hbm, 40, rfl⟩
abbrev main_while0b_v26 : Ref sig .tc := ⟨.hbm, 41, rfl⟩
abbrev main_while0b_v27 : Ref sig .tc := ⟨.hbm, 42, rfl⟩
abbrev main_while0b_v28 : Ref sig .tc := ⟨.hbm, 43, rfl⟩
abbrev main_while0b_v29 : Ref sig .tc := ⟨.hbm, 44, rfl⟩
abbrev main_while0b_v30 : Ref sig .tc := ⟨.hbm, 45, rfl⟩
abbrev main_while0b_v31 : Ref sig .tc := ⟨.hbm, 46, rfl⟩
abbrev main_while0b_v32 : Ref sig .tc := ⟨.hbm, 47, rfl⟩
abbrev main_while0b_call2_v0 : Ref sig .tc := ⟨.hbm, 48, rfl⟩
abbrev main_while0b_call2_c : Ref sig .tc := ⟨.hbm, 49, rfl⟩
abbrev main_while0b_call2_c_0 : Ref sig .tc := ⟨.hbm, 50, rfl⟩
abbrev main_while0b_v33 : Ref sig .tc := ⟨.hbm, 51, rfl⟩
abbrev main_while0b_call3_v0 : Ref sig .tc := ⟨.hbm, 52, rfl⟩
abbrev main_while0b_call3_c : Ref sig .tc := ⟨.hbm, 53, rfl⟩
abbrev main_while0b_call3_c_0 : Ref sig .tc := ⟨.hbm, 54, rfl⟩
abbrev main_while0b_v34 : Ref sig .tc := ⟨.hbm, 55, rfl⟩
abbrev main_while0b_call4_v0 : Ref sig .tc := ⟨.hbm, 56, rfl⟩
abbrev main_while0b_call4_c : Ref sig .tc := ⟨.hbm, 57, rfl⟩
abbrev main_while0b_call4_c_0 : Ref sig .tc := ⟨.hbm, 58, rfl⟩
abbrev main_while0b_v35 : Ref sig .tc := ⟨.hbm, 59, rfl⟩
abbrev main_while0b_call5_v0 : Ref sig .tc := ⟨.hbm, 60, rfl⟩
abbrev main_while0b_call5_c : Ref sig .tc := ⟨.hbm, 61, rfl⟩
abbrev main_while0b_call5_c_0 : Ref sig .tc := ⟨.hbm, 62, rfl⟩
abbrev main_while0b_v36 : Ref sig .tc := ⟨.hbm, 63, rfl⟩
abbrev main_while0b_c_25 : Ref sig .tc := ⟨.hbm, 64, rfl⟩
abbrev main_while0b_v37 : Ref sig .tc := ⟨.hbm, 65, rfl⟩
abbrev main_v8 : Ref sig .tc := ⟨.hbm, 66, rfl⟩
abbrev main_v9 : Ref sig .tc := ⟨.hbm, 67, rfl⟩
abbrev main_cst_4 : Ref sig .tc := ⟨.hbm, 68, rfl⟩
abbrev main_v10 : Ref sig .tc := ⟨.hbm, 69, rfl⟩
abbrev main_cst_5 : Ref sig .tc := ⟨.hbm, 70, rfl⟩
abbrev main_v11 : Ref sig .tc := ⟨.hbm, 71, rfl⟩
abbrev main_cst_6 : Ref sig .tc := ⟨.hbm, 72, rfl⟩
abbrev main_v12 : Ref sig .tc := ⟨.hbm, 73, rfl⟩
abbrev main_cst_7 : Ref sig .tc := ⟨.hbm, 74, rfl⟩
abbrev main_v13 : Ref sig .tc := ⟨.hbm, 75, rfl⟩
abbrev main_cst_8 : Ref sig .tc := ⟨.hbm, 76, rfl⟩
abbrev main_v14 : Ref sig .tc := ⟨.hbm, 77, rfl⟩
abbrev main_cst_9 : Ref sig .tc := ⟨.hbm, 78, rfl⟩
abbrev main_v15 : Ref sig .tc := ⟨.hbm, 79, rfl⟩
abbrev main_cst_10 : Ref sig .tc := ⟨.hbm, 80, rfl⟩
abbrev main_v16 : Ref sig .tc := ⟨.hbm, 81, rfl⟩
abbrev main_cst_11 : Ref sig .tc := ⟨.hbm, 82, rfl⟩
abbrev main_v17 : Ref sig .tc := ⟨.hbm, 83, rfl⟩
abbrev main_c_12 : Ref sig .tc := ⟨.hbm, 84, rfl⟩
abbrev main_v18_0 : Ref sig .tc := ⟨.hbm, 85, rfl⟩
abbrev main_v18_1 : Ref sig .tc := ⟨.hbm, 86, rfl⟩
abbrev main_v18_2 : Ref sig .tc := ⟨.hbm, 87, rfl⟩
abbrev main_v18_3 : Ref sig .tc := ⟨.hbm, 88, rfl⟩
abbrev main_v18_4 : Ref sig .tc := ⟨.hbm, 89, rfl⟩
abbrev main_v18_5 : Ref sig .tc := ⟨.hbm, 90, rfl⟩
abbrev main_v18_6 : Ref sig .tc := ⟨.hbm, 91, rfl⟩
abbrev main_v18_7 : Ref sig .tc := ⟨.hbm, 92, rfl⟩
abbrev main_v18_8 : Ref sig .tc := ⟨.hbm, 93, rfl⟩
abbrev main_v18_9 : Ref sig .tc := ⟨.hbm, 94, rfl⟩
abbrev main_v18_10 : Ref sig .tc := ⟨.hbm, 95, rfl⟩
abbrev main_v18_11 : Ref sig .tc := ⟨.hbm, 96, rfl⟩
abbrev main_v18_12 : Ref sig .tc := ⟨.hbm, 97, rfl⟩
abbrev main_while1c_c_27 : Ref sig .tc := ⟨.hbm, 98, rfl⟩
abbrev main_while1c_v23 : Ref sig .tc := ⟨.hbm, 99, rfl⟩
abbrev main_while1b_c_27 : Ref sig .tc := ⟨.hbm, 100, rfl⟩
abbrev main_while1b_v23 : Ref sig .tc := ⟨.hbm, 101, rfl⟩
abbrev main_while1b_c_28 : Ref sig .tc := ⟨.hbm, 102, rfl⟩
abbrev main_while1b_v24 : Ref sig .tc := ⟨.hbm, 103, rfl⟩
abbrev main_while1b_call6_c : Ref sig .tc := ⟨.hbm, 104, rfl⟩
abbrev main_while1b_call6_c_0 : Ref sig .tc := ⟨.hbm, 105, rfl⟩
abbrev main_while1b_call6_v0 : Ref sig .tc := ⟨.hbm, 106, rfl⟩
abbrev main_while1b_v25 : Ref sig .tc := ⟨.hbm, 107, rfl⟩
abbrev main_while1b_call7_c : Ref sig .tc := ⟨.hbm, 108, rfl⟩
abbrev main_while1b_call7_c_0 : Ref sig .tc := ⟨.hbm, 109, rfl⟩
abbrev main_while1b_call7_v0 : Ref sig .tc := ⟨.hbm, 110, rfl⟩
abbrev main_while1b_v26 : Ref sig .tc := ⟨.hbm, 111, rfl⟩
abbrev main_while1b_call8_c : Ref sig .tc := ⟨.hbm, 112, rfl⟩
abbrev main_while1b_call8_c_0 : Ref sig .tc := ⟨.hbm, 113, rfl⟩
abbrev main_while1b_call8_v0 : Ref sig .tc := ⟨.hbm, 114, rfl⟩
abbrev main_while1b_v27 : Ref sig .tc := ⟨.hbm, 115, rfl⟩
abbrev main_while1b_call9_c : Ref sig .tc := ⟨.hbm, 116, rfl⟩
abbrev main_while1b_call9_c_0 : Ref sig .tc := ⟨.hbm, 117, rfl⟩
abbrev main_while1b_call9_v0 : Ref sig .tc := ⟨.hbm, 118, rfl⟩
abbrev main_while1b_v28 : Ref sig .tc := ⟨.hbm, 119, rfl⟩
abbrev main_while1b_v29 : Ref sig .tc := ⟨.hbm, 120, rfl⟩
abbrev main_while1b_v30 : Ref sig .tc := ⟨.hbm, 121, rfl⟩
abbrev main_while1b_v31 : Ref sig .tc := ⟨.hbm, 122, rfl⟩
abbrev main_while1b_v32 : Ref sig .tc := ⟨.hbm, 123, rfl⟩
abbrev main_while1b_v33 : Ref sig .tc := ⟨.hbm, 124, rfl⟩
abbrev main_while1b_v34 : Ref sig .tc := ⟨.hbm, 125, rfl⟩
abbrev main_while1b_v35 : Ref sig .tc := ⟨.hbm, 126, rfl⟩
abbrev main_while1b_v36 : Ref sig .tc := ⟨.hbm, 127, rfl⟩
abbrev main_while1b_v37 : Ref sig .tc := ⟨.hbm, 128, rfl⟩
abbrev main_while1b_v38 : Ref sig .tc := ⟨.hbm, 129, rfl⟩
abbrev main_while1b_v39 : Ref sig .tc := ⟨.hbm, 130, rfl⟩
abbrev main_while1b_v40 : Ref sig .tc := ⟨.hbm, 131, rfl⟩
abbrev main_while1b_v41 : Ref sig .tc := ⟨.hbm, 132, rfl⟩
abbrev main_while1b_v42 : Ref sig .tc := ⟨.hbm, 133, rfl⟩
abbrev main_while1b_v43 : Ref sig .tc := ⟨.hbm, 134, rfl⟩
abbrev main_while1b_v44 : Ref sig .tc := ⟨.hbm, 135, rfl⟩
abbrev main_while1b_v45 : Ref sig .tc := ⟨.hbm, 136, rfl⟩
abbrev main_while1b_call10_v0 : Ref sig .tc := ⟨.hbm, 137, rfl⟩
abbrev main_while1b_call10_c : Ref sig .tc := ⟨.hbm, 138, rfl⟩
abbrev main_while1b_call10_c_0 : Ref sig .tc := ⟨.hbm, 139, rfl⟩
abbrev main_while1b_v46 : Ref sig .tc := ⟨.hbm, 140, rfl⟩
abbrev main_while1b_call11_v0 : Ref sig .tc := ⟨.hbm, 141, rfl⟩
abbrev main_while1b_call11_c : Ref sig .tc := ⟨.hbm, 142, rfl⟩
abbrev main_while1b_call11_c_0 : Ref sig .tc := ⟨.hbm, 143, rfl⟩
abbrev main_while1b_v47 : Ref sig .tc := ⟨.hbm, 144, rfl⟩
abbrev main_while1b_c_29 : Ref sig .tc := ⟨.hbm, 145, rfl⟩
abbrev main_while1b_v48 : Ref sig .tc := ⟨.hbm, 146, rfl⟩
abbrev main_cst_13 : Ref sig .tc := ⟨.hbm, 147, rfl⟩
abbrev main_v19 : Ref sig .tc := ⟨.hbm, 148, rfl⟩
abbrev main_cst_14 : Ref sig .tc := ⟨.hbm, 149, rfl⟩
abbrev main_v20 : Ref sig .tc := ⟨.hbm, 150, rfl⟩
abbrev main_v21 : Ref sig .tc := ⟨.hbm, 151, rfl⟩
abbrev main_v22 : Ref sig .tc := ⟨.hbm, 152, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== ConvGate.lean ====
abbrev S2048x2048 : Shape := ⟨2, ![2048, 2048]⟩
abbrev S2048x4096 : Shape := ⟨2, ![2048, 4096]⟩
abbrev S3x1024 : Shape := ⟨2, ![3, 1024]⟩
abbrev S1024 : Shape := ⟨1, ![1024]⟩
abbrev S1x1024 : Shape := ⟨2, ![1, 1024]⟩
abbrev S2048x1024 : Shape := ⟨2, ![2048, 1024]⟩
abbrev S256x1024 : Shape := ⟨2, ![256, 1024]⟩
abbrev S8x1024 : Shape := ⟨2, ![8, 1024]⟩
abbrev S264x1024 : Shape := ⟨2, ![264, 1024]⟩
abbrev S256 : Shape := ⟨1, ![256]⟩
abbrev S256x1 : Shape := ⟨2, ![256, 1]⟩

abbrev nBuf : Space → Nat
  | .hbm => 14
  | .vmem => 24
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S3x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S2048x1024, .bf16⟩
  | .hbm, ⟨8, _⟩ => ⟨S2048x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S3x1024, .f32⟩
  | .local _ .vmem, ⟨9, _⟩ => ⟨S1x1024, .f32⟩
  | .local _ .vmem, ⟨10, _⟩ => ⟨S1x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v2_5 : Ref sig .tc := ⟨.hbm, 12, rfl⟩
abbrev main_v2_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_8 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ConvGateRefIdeal.lean ====
abbrev S2048x2048 : Shape := ⟨2, ![2048, 2048]⟩
abbrev S2048x4096 : Shape := ⟨2, ![2048, 4096]⟩
abbrev S3x1024 : Shape := ⟨2, ![3, 1024]⟩
abbrev S1024 : Shape := ⟨1, ![1024]⟩
abbrev S2048x3072 : Shape := ⟨2, ![2048, 3072]⟩
abbrev S2048x1024 : Shape := ⟨2, ![2048, 1024]⟩
abbrev S_ : Shape := ⟨0, ![]⟩
abbrev S1x2048x1024 : Shape := ⟨3, ![1, 2048, 1024]⟩
abbrev S1x2x1024 : Shape := ⟨3, ![1, 2, 1024]⟩
abbrev S1x2050x1024 : Shape := ⟨3, ![1, 2050, 1024]⟩
abbrev S1x1024 : Shape := ⟨2, ![1, 1024]⟩
abbrev S1x1x1024 : Shape := ⟨3, ![1, 1, 1024]⟩
abbrev S2048 : Shape := ⟨1, ![2048]⟩
abbrev S2048x1 : Shape := ⟨2, ![2048, 1]⟩

abbrev nBuf : Space → Nat
  | .hbm => 131
  | .vmem => 0
  | .smem => 0
  | _ => 0

abbrev hbmTy0_0 (i : Nat) : BufTy := match i % 128 with
  | 0 => ⟨S2048x2048, .f32⟩
  | 1 => ⟨S2048x4096, .f32⟩
  | 2 => ⟨S3x1024, .f32⟩
  | 3 => ⟨S1024, .f32⟩
  | 4 => ⟨S1024, .f32⟩
  | 5 => ⟨S2048x3072, .f32⟩
  | 6 => ⟨S2048x1024, .f32⟩
  | 7 => ⟨S2048x1024, .f32⟩
  | 8 => ⟨S2048x1024, .f32⟩
  | 9 => ⟨S_, .f32⟩
  | 10 => ⟨S2048x1024, .f32⟩
  | 11 => ⟨S2048x1024, .f32⟩
  | 12 => ⟨S1x2048x1024, .f32⟩
  | 13 => ⟨S_, .f32⟩
  | 14 => ⟨S1x2x1024, .f32⟩
  | 15 => ⟨S1x2050x1024, .f32⟩
  | 16 => ⟨S1x1024, .f32⟩
  | 17 => ⟨S1024, .f32⟩
  | 18 => ⟨S1x2048x1024, .f32⟩
  | 19 => ⟨S1x1x1024, .f32⟩
  | 20 => ⟨S1x2048x1024, .f32⟩
  | 21 => ⟨S1x2048x1024, .f32⟩
  | 22 => ⟨S1x1x1024, .f32⟩
  | 23 => ⟨S1x2048x1024, .f32⟩
  | 24 => ⟨S1x2048x1024, .f32⟩
  | 25 => ⟨S1x1024, .f32⟩
  | 26 => ⟨S1024, .f32⟩
  | 27 => ⟨S1x2048x1024, .f32⟩
  | 28 => ⟨S1x1x1024, .f32⟩
  | 29 => ⟨S1x2048x1024, .f32⟩
  | 30 => ⟨S1x2048x1024, .f32⟩
  | 31 => ⟨S1x2048x1024, .f32⟩
  | 32 => ⟨S1x1024, .f32⟩
  | 33 => ⟨S1024, .f32⟩
  | 34 => ⟨S1x2048x1024, .f32⟩
  | 35 => ⟨S1x1x1024, .f32⟩
  | 36 => ⟨S1x2048x1024, .f32⟩
  | 37 => ⟨S1x2048x1024, .f32⟩
  | 38 => ⟨S1x2048x1024, .f32⟩
  | 39 => ⟨S2048x1024, .f32⟩
  | 40 => ⟨S2048x1024, .f32⟩
  | 41 => ⟨S2048x1024, .f32⟩
  | 42 => ⟨S2048x1024, .f32⟩
  | 43 => ⟨S_, .f32⟩
  | 44 => ⟨S2048, .f32⟩
  | 45 => ⟨S2048x1, .f32⟩
  | 46 => ⟨S_, .f32⟩
  | 47 => ⟨S2048x1, .f32⟩
  | 48 => ⟨S2048x1, .f32⟩
  | 49 => ⟨S_, .f32⟩
  | 50 => ⟨S2048x1, .f32⟩
  | 51 => ⟨S2048x1, .f32⟩
  | 52 => ⟨S2048x1, .f32⟩
  | 53 => ⟨S2048x1, .f32⟩
  | 54 => ⟨S_, .f32⟩
  | 55 => ⟨S2048x1, .f32⟩
  | 56 => ⟨S2048x1, .f32⟩
  | 57 => ⟨S2048x1024, .f32⟩
  | 58 => ⟨S2048x1024, .f32⟩
  | 59 => ⟨S1x1024, .f32⟩
  | 60 => ⟨S2048x1024, .f32⟩
  | 61 => ⟨S2048x1024, .f32⟩
  | 62 => ⟨S2048x1024, .f32⟩
  | 63 => ⟨S2048x1024, .f32⟩
  | 64 => ⟨S_, .f32⟩
  | 65 => ⟨S1024, .f32⟩
  | 66 => ⟨S1x1024, .f32⟩
  | 67 => ⟨S2048x1024, .f32⟩
  | 68 => ⟨S2048x1024, .f32⟩
  | 69 => ⟨S_, .f32⟩
  | 70 => ⟨S1024, .f32⟩
  | 71 => ⟨S2048x1024, .f32⟩
  | 72 => ⟨S_, .f32⟩
  | 73 => ⟨S2048, .f32⟩
  | 74 => ⟨S2048x1, .f32⟩
  | 75 => ⟨S2048x1024, .f32⟩
  | 76 => ⟨S2048x1024, .f32⟩
  | 77 => ⟨S2048x1, .f32⟩
  | 78 => ⟨S_, .f32⟩
  | 79 => ⟨S2048x1, .f32⟩
  | 80 => ⟨S2048x1, .f32⟩
  | 81 => ⟨S_, .f32⟩
  | 82 => ⟨S2048, .f32⟩
  | 83 => ⟨S2048x1024, .f32⟩
  | 84 => ⟨S2048x1024, .f32⟩
  | 85 => ⟨S2048x1024, .f32⟩
  | 86 => ⟨S2048x1024, .f32⟩
  | 87 => ⟨S2048x1024, .f32⟩
  | 88 => ⟨S2048x1024, .f32⟩
  | 89 => ⟨S2048x1024, .f32⟩
  | 90 => ⟨S1x2048x1024, .f32⟩
  | 91 => ⟨S1x2048x1024, .f32⟩
  | 92 => ⟨S_, .f32⟩
  | 93 => ⟨S1x1024, .f32⟩
  | 94 => ⟨S1x1x1024, .f32⟩
  | 95 => ⟨S_, .f32⟩
  | 96 => ⟨S1024, .f32⟩
  | 97 => ⟨S1x1024, .f32⟩
  | 98 => ⟨S_, .f32⟩
  | 99 => ⟨S3x1024, .f32⟩
  | 100 => ⟨S1x2048x1024, .f32⟩
  | 101 => ⟨S_, .f32⟩
  | 102 => ⟨S1x1024, .f32⟩
  | 103 => ⟨S1x1x1024, .f32⟩
  | 104 => ⟨S_, .f32⟩
  | 105 => ⟨S1024, .f32⟩
  | 106 => ⟨S1x1024, .f32⟩
  | 107 => ⟨S_, .f32⟩
  | 108 => ⟨S3x1024, .f32⟩
  | 109 => ⟨S3x1024, .f32⟩
  | 110 => ⟨S_, .f32⟩
  | 111 => ⟨S1x1024, .f32⟩
  | 112 => ⟨S1x1x1024, .f32⟩
  | 113 => ⟨S_, .f32⟩
  | 114 => ⟨S1024, .f32⟩
  | 115 => ⟨S1x2048x1024, .f32⟩
  | 116 => ⟨S_, .f32⟩
  | 117 => ⟨S1x1024, .f32⟩
  | 118 => ⟨S1x1x1024, .f32⟩
  | 119 => ⟨S_, .f32⟩
  | 120 => ⟨S1024, .f32⟩
  | 121 => ⟨S1x1024, .f32⟩
  | 122 => ⟨S_, .f32⟩
  | 123 => ⟨S3x1024, .f32⟩
  | 124 => ⟨S3x1024, .f32⟩
  | 125 => ⟨S2048x1024, .bf16⟩
  | 126 => ⟨S1x1024, .f32⟩
  | 127 => ⟨S1x1024, .f32⟩
  | _ => ⟨S2048x2048, .f32⟩

abbrev hbmTy0_1 (i : Nat) : BufTy := match i % 128 with
  | 0 => ⟨S1x1024, .f32⟩
  | 1 => ⟨S1x1024, .f32⟩
  | 2 => ⟨S1x1024, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_1 : Ref sig .tc := ⟨.hbm, 43, rfl⟩
abbrev main_v36 : Ref sig .tc := ⟨.hbm, 44, rfl⟩
abbrev main_v37 : Ref sig .tc := ⟨.hbm, 45, rfl⟩
abbrev main_cst_2 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_4 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_5 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_6 : Ref sig .tc := ⟨.hbm, 69, rfl⟩
abbrev main_v57 : Ref sig .tc := ⟨.hbm, 70, rfl⟩
abbrev main_v58 : Ref sig .tc := ⟨.hbm, 71, rfl⟩
abbrev main_cst_7 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_8 : Ref sig .tc := ⟨.hbm, 78, rfl⟩
abbrev main_v64 : Ref sig .tc := ⟨.hbm, 79, rfl⟩
abbrev main_v65 : Ref sig .tc := ⟨.hbm, 80, rfl⟩
abbrev main_cst_9 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_10 : Ref sig .tc := ⟨.hbm, 92, rfl⟩
abbrev main_v76 : Ref sig .tc := ⟨.hbm, 93, rfl⟩
abbrev main_v77 : Ref sig .tc := ⟨.hbm, 94, rfl⟩
abbrev main_cst_11 : Ref sig .tc := ⟨.hbm, 95, rfl⟩
abbrev main_v78 : Ref sig .tc := ⟨.hbm, 96, rfl⟩
abbrev main_v79 : Ref sig .tc := ⟨.hbm, 97, rfl⟩
abbrev main_cst_12 : Ref sig .tc := ⟨.hbm, 98, rfl⟩
abbrev main_v80 : Ref sig .tc := ⟨.hbm, 99, rfl⟩
abbrev main_v81 : Ref sig .tc := ⟨.hbm, 100, rfl⟩
abbrev main_cst_13 : Ref sig .tc := ⟨.hbm, 101, rfl⟩
abbrev main_v82 : Ref sig .tc := ⟨.hbm, 102, rfl⟩
abbrev main_v83 : Ref sig .tc := ⟨.hbm, 103, rfl⟩
abbrev main_cst_14 : Ref sig .tc := ⟨.hbm, 104, rfl⟩
abbrev main_v84 : Ref sig .tc := ⟨.hbm, 105, rfl⟩
abbrev main_v85 : Ref sig .tc := ⟨.hbm, 106, rfl⟩
abbrev main_cst_15 : Ref sig .tc := ⟨.hbm, 107, rfl⟩
abbrev main_v86 : Ref sig .tc := ⟨.hbm, 108, rfl⟩
abbrev main_v87 : Ref sig .tc := ⟨.hbm, 109, rfl⟩
abbrev main_cst_16 : Ref sig .tc := ⟨.hbm, 110, rfl⟩
abbrev main_v88 : Ref sig .tc := ⟨.hbm, 111, rfl⟩
abbrev main_v89 : Ref sig .tc := ⟨.hbm, 112, rfl⟩
abbrev main_cst_17 : Ref sig .tc := ⟨.hbm, 113, rfl⟩
abbrev main_v90 : Ref sig .tc := ⟨.hbm, 114, rfl⟩
abbrev main_v91 : Ref sig .tc := ⟨.hbm, 115, rfl⟩
abbrev main_cst_18 : Ref sig .tc := ⟨.hbm, 116, rfl⟩
abbrev main_v92 : Ref sig .tc := ⟨.hbm, 117, rfl⟩
abbrev main_v93 : Ref sig .tc := ⟨.hbm, 118, rfl⟩
abbrev main_cst_19 : Ref sig .tc := ⟨.hbm, 119, rfl⟩
abbrev main_v94 : Ref sig .tc := ⟨.hbm, 120, rfl⟩
abbrev main_v95 : Ref sig .tc := ⟨.hbm, 121, rfl⟩
abbrev main_cst_20 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩

abbrev nD : Nat := 1
abbrev τ : Topo := Topo.v7x

variable {F : FTy → Type} [FloatOps F]
-- ==== GluGate.lean ====
abbrev S2048x2048 : Shape := ⟨2, ![2048, 2048]⟩
abbrev S2048x1024 : Shape := ⟨2, ![2048, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S1024, .f32⟩
  | .hbm, ⟨4, _⟩ => ⟨S1x1024, .f32⟩
  | .hbm, ⟨5, _⟩ => ⟨S2048x1024, .bf16⟩
  | .hbm, ⟨6, _⟩ => ⟨S2048x1024, .f32⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GluGateRefIdeal.lean ====
abbrev S2048x2048 : Shape := ⟨2, ![2048, 2048]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1024, .f32⟩
  | .hbm, ⟨33, _⟩ => ⟨S2048x1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S2048x1024, .f32⟩
  | .hbm, ⟨47, _⟩ => ⟨S_, .f32⟩
  | .hbm, ⟨48, _⟩ => ⟨S2048, .f32⟩
  | .hbm, ⟨49, _⟩ => ⟨S2048x1, .f32⟩
  | .hbm, ⟨50, _⟩ => ⟨S2048x1024, .f32⟩
  | .hbm, ⟨51, _⟩ => ⟨S2048x1024, .f32⟩
  | .hbm, ⟨52, _⟩ => ⟨S2048x1, .f32⟩
  | .hbm, ⟨53, _⟩ => ⟨S_, .f32⟩
  | .hbm, ⟨54, _⟩ => ⟨S2048x1, .f32⟩
  | .hbm, ⟨55, _⟩ => ⟨S2048x1, .f32⟩
  | .hbm, ⟨56, _⟩ => ⟨S_, .f32⟩
  | .hbm, ⟨57, _⟩ => ⟨S2048, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .bf16⟩
  | .hbm, ⟨67, _⟩ => ⟨S1x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== NormGrad.lean ====
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S2048x1 : Shape := ⟨2, ![2048, 1]⟩
abbrev S2048x128 : Shape := ⟨2, ![2048, 128]⟩
abbrev S256x2048 : Shape := ⟨2, ![256, 2048]⟩
abbrev S256x128 : Shape := ⟨2, ![256, 128]⟩
abbrev S256x1 : Shape := ⟨2, ![256, 1]⟩
abbrev S256 : Shape := ⟨1, ![256]⟩

abbrev nBuf : Space → Nat
  | .hbm => 42
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x128, .f32⟩
  | .hbm, ⟨37, _⟩ => ⟨S1x2048, .f32⟩
  | .hbm, ⟨38, _⟩ => ⟨S2048x2048, .f32⟩
  | .hbm, ⟨39, _⟩ => ⟨S2048x2048, .bf16⟩
  | .hbm, ⟨40, _⟩ => ⟨S1x2048, .f32⟩
  | .hbm, ⟨41, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x128, .f32⟩
  | .local _ .vmem, ⟨5, _⟩ => ⟨S256x128, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev main_v27_2 : Ref sig .tc := ⟨.hbm, 40, rfl⟩
abbrev main_v27_3 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormGradRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 88
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x2048, .f32⟩
  | .hbm, ⟨33, _⟩ => ⟨S2048x2048, .f32⟩
  | .hbm, ⟨34, _⟩ => ⟨S1x2048, .f32⟩
  | .hbm, ⟨35, _⟩ => ⟨S2048x2048, .f32⟩
  | .hbm, ⟨36, _⟩ => ⟨S2048x2048, .f32⟩
  | .hbm, ⟨37, _⟩ => ⟨S1x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S_, .f32⟩
  | .hbm, ⟨45, _⟩ => ⟨S2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x2048, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x2048, .f32⟩
  | .hbm, ⟨59, _⟩ => ⟨S2048x2048, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S_, .f32⟩
  | .hbm, ⟨73, _⟩ => ⟨S2048, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S_, .f32⟩
  | .hbm, ⟨79, _⟩ => ⟨S2048, .f32⟩
  | .hbm, ⟨80, _⟩ => ⟨S2048x2048, .f32⟩
  | .hbm, ⟨81, _⟩ => ⟨S2048x2048, .f32⟩
  | .hbm, ⟨82, _⟩ => ⟨S_, .f32⟩
  | .hbm, ⟨83, _⟩ => ⟨S2048x2048, .f32⟩
  | .hbm, ⟨84, _⟩ => ⟨S2048x2048, .f32⟩
  | .hbm, ⟨85, _⟩ => ⟨S2048x2048, .bf16⟩
  | .hbm, ⟨86, _⟩ => ⟨S1x2048, .f32⟩
  | .hbm, ⟨87, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_cst_12 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩

abbrev nD : Nat := 1
abbrev τ : Topo := Topo.v7x

variable {F : FTy → Type} [FloatOps F]
-- ==== Loss.lean ====
abbrev S2048x2048 : Shape := ⟨2, ![2048, 2048]⟩
abbrev S1x2048 : Shape := ⟨2, ![1, 2048]⟩
abbrev S256x2048 : Shape := ⟨2, ![256, 2048]⟩
abbrev S2048 : Shape := ⟨1, ![2048]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S_, .f32⟩
  | .hbm, ⟨5, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S2048x2048 : Shape := ⟨2, ![2048, 2048]⟩
abbrev S_ : Shape := ⟨0, ![]⟩
abbrev S2048 : Shape := ⟨1, ![2048]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x2048, .f32⟩
  | .hbm, ⟨24, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== SwigluGrad.lean ====
abbrev S2048x2048 : Shape := ⟨2, ![2048, 2048]⟩
abbrev S2048x5632 : Shape := ⟨2, ![2048, 5632]⟩
abbrev S5632x2048 : Shape := ⟨2, ![5632, 2048]⟩
abbrev S4x1408x2048 : Shape := ⟨3, ![4, 1408, 2048]⟩
abbrev S512x2048 : Shape := ⟨2, ![512, 2048]⟩
abbrev S1x1408x2048 : Shape := ⟨3, ![1, 1408, 2048]⟩
abbrev S512x1408 : Shape := ⟨2, ![512, 1408]⟩
abbrev S1408x2048 : Shape := ⟨2, ![1408, 2048]⟩

abbrev nBuf : Space → Nat
  | .hbm => 9
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048x2048, .bf16⟩
  | .hbm, ⟨5, _⟩ => ⟨S5632x2048, .bf16⟩
  | .hbm, ⟨6, _⟩ => ⟨S4x1408x2048, .bf16⟩
  | .hbm, ⟨7, _⟩ => ⟨S2048x5632, .bf16⟩
  | .hbm, ⟨8, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwigluGradRefIdeal.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x2048, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .bf16⟩
  | .hbm, ⟨27, _⟩ => ⟨S2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== GeluGrad.lean ====
abbrev S2048x1024 : Shape := ⟨2, ![2048, 1024]⟩
abbrev S1024x1024 : Shape := ⟨2, ![1024, 1024]⟩
abbrev S4x256x1024 : Shape := ⟨3, ![4, 256, 1024]⟩
abbrev S512x1024 : Shape := ⟨2, ![512, 1024]⟩
abbrev S1x256x1024 : Shape := ⟨3, ![1, 256, 1024]⟩
abbrev S512x256 : Shape := ⟨2, ![512, 256]⟩
abbrev S256x1024 : Shape := ⟨2, ![256, 1024]⟩

abbrev nBuf : Space → Nat
  | .hbm => 8
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S2048x1024, .bf16⟩
  | .hbm, ⟨5, _⟩ => ⟨S1024x1024, .bf16⟩
  | .hbm, ⟨6, _⟩ => ⟨S4x256x1024, .bf16⟩
  | .hbm, ⟨7, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GeluGradIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== GeluGradRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== ReadGrad.lean ====
abbrev S2048x4096 : Shape := ⟨2, ![2048, 4096]⟩
abbrev S2048x1024 : Shape := ⟨2, ![2048, 1024]⟩
abbrev S64x64x16 : Shape := ⟨3, ![64, 64, 16]⟩
abbrev S64x16 : Shape := ⟨2, ![64, 16]⟩
abbrev S8x8 : Shape := ⟨2, ![8, 8]⟩
abbrev S_ : Shape := ⟨0, ![]⟩
abbrev S8x8x64x16 : Shape := ⟨4, ![8, 8, 64, 16]⟩
abbrev S8x8x16x64 : Shape := ⟨4, ![8, 8, 16, 64]⟩
abbrev S8x8x16x1x64 : Shape := ⟨5, ![8, 8, 16, 1, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S1x1024 : Shape := ⟨2, ![1, 1024]⟩
abbrev S2048x512 : Shape := ⟨2, ![2048, 512]⟩
abbrev S1x128x512 : Shape := ⟨3, ![1, 128, 512]⟩
abbrev S2048x128 : Shape := ⟨2, ![2048, 128]⟩
abbrev S1x128 : Shape := ⟨2, ![1, 128]⟩
abbrev S128x512 : Shape := ⟨2, ![128, 512]⟩

abbrev nBuf : Space → Nat
  | .hbm => 38
  | .vmem => 14
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x1024, .f32⟩
  | .hbm, ⟨3, _⟩ => ⟨S64x64x16, .f32⟩
  | .hbm, ⟨4, _⟩ => ⟨S64x64x16, .f32⟩
  | .hbm, ⟨5, _⟩ => ⟨S64x16, .f32⟩
  | .hbm, ⟨6, _⟩ => ⟨S8x8, .i32⟩
  | .hbm, ⟨7, _⟩ => ⟨S8x8, .i32⟩
  | .hbm, ⟨8, _⟩ => ⟨S_, .i32⟩
  | .hbm, ⟨9, _⟩ => ⟨S8x8, .i32⟩
  | .hbm, ⟨10, _⟩ => ⟨S8x8, .i32⟩
  | .hbm, ⟨11, _⟩ => ⟨S8x8, .i1⟩
  | .hbm, ⟨12, _⟩ => ⟨S8x8, .f32⟩
  | .hbm, ⟨13, _⟩ => ⟨S8x8x64x16, .f32⟩
  | .hbm, ⟨14, _⟩ => ⟨S8x8x16x64, .f32⟩
  | .hbm, ⟨15, _⟩ => ⟨S8x8x16x1x64, .f32⟩
  | .hbm, ⟨16, _⟩ => ⟨S1x8x1x8x1, .f32⟩
  | .hbm, ⟨17, _⟩ => ⟨S8x8x16x8x64, .f32⟩
  | .hbm, ⟨18, _⟩ => ⟨S8x8x16x8x64, .f32⟩
  | .hbm, ⟨19, _⟩ => ⟨S8x8x16x8x64, .f32⟩
  | .hbm, ⟨20, _⟩ => ⟨S8x128x512, .f32⟩
  | .hbm, ⟨21, _⟩ => ⟨S8x8, .i32⟩
  | .hbm, ⟨22, _⟩ => ⟨S8x8, .i32⟩
  | .hbm, ⟨23, _⟩ => ⟨S_, .i32⟩
  | .hbm, ⟨24, _⟩ => ⟨S8x8, .i32⟩
  | .hbm, ⟨25, _⟩ => ⟨S8x8, .i32⟩
  | .hbm, ⟨26, _⟩ => ⟨S8x8, .i1⟩
  | .hbm, ⟨27, _⟩ => ⟨S8x8, .f32⟩
  | .hbm, ⟨28, _⟩ => ⟨S8x8x64x16, .f32⟩
  | .hbm, ⟨29, _⟩ => ⟨S8x8x16x64, .f32⟩
  | .hbm, ⟨30, _⟩ => ⟨S8x8x16x1x64, .f32⟩
  | .hbm, ⟨31, _⟩ => ⟨S1x8x1x8x1, .f32⟩
  | .hbm, ⟨32, _⟩ => ⟨S8x8x16x8x64, .f32⟩
  | .hbm, ⟨33, _⟩ => ⟨S8x8x16x8x64, .f32⟩
  | .hbm, ⟨34, _⟩ => ⟨S8x8x16x8x64, .f32⟩
  | .hbm, ⟨35, _⟩ => ⟨S8x128x512, .f32⟩
  | .hbm, ⟨36, _⟩ => ⟨S1x1024, .f32⟩
  | .hbm, ⟨37, _⟩ => ⟨S2048x1024, .bf16⟩
  | .local _ .vmem, ⟨0, _⟩ => ⟨S2048x512, .f32⟩
  | .local _ .vmem, ⟨1, _⟩ => ⟨S2048x512, .f32⟩
  | .local _ .vmem, ⟨2, _⟩ => ⟨S1x128x512, .f32⟩
  | .local _ .vmem, ⟨3, _⟩ => ⟨S1x128x512, .f32⟩
  | .local _ .vmem, ⟨4, _⟩ => ⟨S2048x512, .f32⟩
  | .local _ .vmem, ⟨5, _⟩ => ⟨S2048x512, .f32⟩
  | .local _ .vmem, ⟨6, _⟩ => ⟨S1x128x512, .f32⟩
  | .local _ .vmem, ⟨7, _⟩ => ⟨S1x128x512, .f32⟩
  | .local _ .vmem, ⟨8, _⟩ => ⟨S2048x128, .f32⟩
  | .local _ .vmem, ⟨9, _⟩ => ⟨S2048x128, .f32⟩
  | .local _ .vmem, ⟨10, _⟩ => ⟨S1x128, .f32⟩
  | .local _ .vmem, ⟨11, _⟩ => ⟨S1x128, .f32⟩
  | .local _ .vmem, ⟨12, _⟩ => ⟨S2048x128, .bf16⟩
  | .local _ .vmem, ⟨13, _⟩ => ⟨S2048x128, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReadGradRefIdeal.lean ====
abbrev S2048x4096 : Shape := ⟨2, ![2048, 4096]⟩
abbrev S2048x1024 : Shape := ⟨2, ![2048, 1024]⟩
abbrev S64x64x16 : Shape := ⟨3, ![64, 64, 16]⟩
abbrev S64x16 : Shape := ⟨2, ![64, 16]⟩
abbrev S_ : Shape := ⟨0, ![]⟩
abbrev S2048x64x16 : Shape := ⟨3, ![2048, 64, 16]⟩
abbrev S64x64x2048 : Shape := ⟨3, ![64, 64, 2048]⟩
abbrev S2048x64x64 : Shape := ⟨3, ![2048, 64, 64]⟩
abbrev S1x64x16 : Shape := ⟨3, ![1, 64, 16]⟩
abbrev S64x2048x16 : Shape := ⟨3, ![64, 2048, 16]⟩

abbrev nBuf : Space → Nat
  | .hbm => 31
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x1024, .f32⟩
  | .hbm, ⟨3, _⟩ => ⟨S64x64x16, .f32⟩
  | .hbm, ⟨4, _⟩ => ⟨S64x64x16, .f32⟩
  | .hbm, ⟨5, _⟩ => ⟨S64x16, .f32⟩
  | .hbm, ⟨6, _⟩ => ⟨S_, .f32⟩
  | .hbm, ⟨7, _⟩ => ⟨S2048x1024, .f32⟩
  | .hbm, ⟨8, _⟩ => ⟨S2048x64x16, .f32⟩
  | .hbm, ⟨9, _⟩ => ⟨S64x64x2048, .f32⟩
  | .hbm, ⟨10, _⟩ => ⟨S2048x64x64, .f32⟩
  | .hbm, ⟨11, _⟩ => ⟨S64x64x2048, .f32⟩
  | .hbm, ⟨12, _⟩ => ⟨S2048x64x64, .f32⟩
  | .hbm, ⟨13, _⟩ => ⟨S1x64x16, .f32⟩
  | .hbm, ⟨14, _⟩ => ⟨S2048x64x16, .f32⟩
  | .hbm, ⟨15, _⟩ => ⟨S2048x64x16, .f32⟩
  | .hbm, ⟨16, _⟩ => ⟨S2048x64x64, .f32⟩
  | .hbm, ⟨17, _⟩ => ⟨S2048x64x64, .f32⟩
  | .hbm, ⟨18, _⟩ => ⟨S2048x64x16, .f32⟩
  | .hbm, ⟨19, _⟩ => ⟨S2048x64x16, .f32⟩
  | .hbm, ⟨20, _⟩ => ⟨S2048x64x16, .f32⟩
  | .hbm, ⟨21, _⟩ => ⟨S64x64x2048, .f32⟩
  | .hbm, ⟨22, _⟩ => ⟨S64x2048x16, .f32⟩
  | .hbm, ⟨23, _⟩ => ⟨S2048x64x16, .f32⟩
  | .hbm, ⟨24, _⟩ => ⟨S2048x64x16, .f32⟩
  | .hbm, ⟨25, _⟩ => ⟨S64x64x2048, .f32⟩
  | .hbm, ⟨26, _⟩ => ⟨S64x2048x16, .f32⟩
  | .hbm, ⟨27, _⟩ => ⟨S2048x64x16, .f32⟩
  | .hbm, ⟨28, _⟩ => ⟨S2048x64x16, .f32⟩
  | .hbm, ⟨29, _⟩ => ⟨S2048x1024, .f32⟩
  | .hbm, ⟨30, _⟩ => ⟨S2048x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== SkipGrad.lean ====
abbrev S2048x1024 : Shape := ⟨2, ![2048, 1024]⟩
abbrev S2048x4096 : Shape := ⟨2, ![2048, 4096]⟩
abbrev S1x1024 : Shape := ⟨2, ![1, 1024]⟩
abbrev S256x1024 : Shape := ⟨2, ![256, 1024]⟩
abbrev S1024 : Shape := ⟨1, ![1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== SkipGradRefIdeal.lean ====
abbrev S2048x1024 : Shape := ⟨2, ![2048, 1024]⟩
abbrev S2048x4096 : Shape := ⟨2, ![2048, 4096]⟩
abbrev S_ : Shape := ⟨0, ![]⟩
abbrev S1024 : Shape := ⟨1, ![1024]⟩
abbrev S1x1024 : Shape := ⟨2, ![1, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x1024, .f32⟩
  | .hbm, ⟨3, _⟩ => ⟨S_, .f32⟩
  | .hbm, ⟨4, _⟩ => ⟨S1024, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S_, .f32⟩
  | .hbm, ⟨13, _⟩ => ⟨S1024, .f32⟩
  | .hbm, ⟨14, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== InputGrad.lean ====
abbrev S2048x2048 : Shape := ⟨2, ![2048, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S512x1408 : Shape := ⟨2, ![512, 1408]⟩
abbrev S1x2048x1408 : Shape := ⟨3, ![1, 2048, 1408]⟩
abbrev S512x2048 : Shape := ⟨2, ![512, 2048]⟩
abbrev S2048x1408 : Shape := ⟨2, ![2048, 1408]⟩

abbrev nBuf : Space → Nat
  | .hbm => 14
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S2048x5632, .bf16⟩
  | .hbm, ⟨6, _⟩ => ⟨S2048x5632, .bf16⟩
  | .hbm, ⟨7, _⟩ => ⟨S2048x5632, .bf16⟩
  | .hbm, ⟨8, _⟩ => ⟨S2048x4x1408, .bf16⟩
  | .hbm, ⟨9, _⟩ => ⟨S4x2048x1408, .bf16⟩
  | .hbm, ⟨10, _⟩ => ⟨S2048x5632, .bf16⟩
  | .hbm, ⟨11, _⟩ => ⟨S2048x4x1408, .bf16⟩
  | .hbm, ⟨12, _⟩ => ⟨S4x2048x1408, .bf16⟩
  | .hbm, ⟨13, _⟩ => ⟨S2048x2048, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_15 : BitVec 32 := 0#32
  let v21 : BitVec 1 := Scalar.cmpi .ne v20 c0_i32_15
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InputGradRefIdeal.lean ====
abbrev S2048x2048 : Shape := ⟨2, ![2048, 2048]⟩
abbrev S2048x5632 : Shape := ⟨2, ![2048, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S_, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x5632, .f32⟩
  | .hbm, ⟨11, _⟩ => ⟨S2048x5632, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== ConvOut.lean ====
abbrev S2048x4096 : Shape := ⟨2, ![2048, 4096]⟩
abbrev S3x1024 : Shape := ⟨2, ![3, 1024]⟩
abbrev S1024 : Shape := ⟨1, ![1024]⟩
abbrev S1x1024 : Shape := ⟨2, ![1, 1024]⟩
abbrev S2048x1024 : Shape := ⟨2, ![2048, 1024]⟩
abbrev S256x1024 : Shape := ⟨2, ![256, 1024]⟩
abbrev S8x1024 : Shape := ⟨2, ![8, 1024]⟩
abbrev S264x1024 : Shape := ⟨2, ![264, 1024]⟩
abbrev S256 : Shape := ⟨1, ![256]⟩
abbrev S256x1 : Shape := ⟨2, ![256, 1]⟩

abbrev nBuf : Space → Nat
  | .hbm => 7
  | .vmem => 15
  | .smem => 0
  | _ => 0

abbrev bufTy : (tb : Table) → Fin (tcTables nBuf tb) → BufTy
  | .hbm, ⟨0, _⟩ => ⟨S2048x4096, .f32⟩
  | .hbm, ⟨1, _⟩ => ⟨S3x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S3x1024, .f32⟩
  | .local _ .vmem, ⟨7, _⟩ => ⟨S1x1024, .f32⟩
  | .local _ .vmem, ⟨8, _⟩ => ⟨S1x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S256x1024, .bf16⟩
  | .local _ .vmem, ⟨14, _⟩ => ⟨S256x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_7 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvOutRefIdeal.lean ====
abbrev S2048x4096 : Shape := ⟨2, ![2048, 4096]⟩
abbrev S3x1024 : Shape := ⟨2, ![3, 1024]⟩
abbrev S1024 : Shape := ⟨1, ![1024]⟩
abbrev S2048x3072 : Shape := ⟨2, ![2048, 3072]⟩
abbrev S2048x1024 : Shape := ⟨2, ![2048, 1024]⟩
abbrev S1x2048x1024 : Shape := ⟨3, ![1, 2048, 1024]⟩
abbrev S_ : Shape := ⟨0, ![]⟩
abbrev S1x2x1024 : Shape := ⟨3, ![1, 2, 1024]⟩
abbrev S1x2050x1024 : Shape := ⟨3, ![1, 2050, 1024]⟩
abbrev S1x1024 : Shape := ⟨2, ![1, 1024]⟩
abbrev S1x1x1024 : Shape := ⟨3, ![1, 1, 1024]⟩
abbrev S2048 : Shape := ⟨1, ![2048]⟩
abbrev S2048x1 : Shape := ⟨2, ![2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S3x1024, .f32⟩
  | .hbm, ⟨2, _⟩ => ⟨S1024, .f32⟩
  | .hbm, ⟨3, _⟩ => ⟨S1024, .f32⟩
  | .hbm, ⟨4, _⟩ => ⟨S2048x3072, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S1x2048x1024, .f32⟩
  | .hbm, ⟨10, _⟩ => ⟨S_, .f32⟩
  | .hbm, ⟨11, _⟩ => ⟨S1x2x1024, .f32⟩
  | .hbm, ⟨12, _⟩ => ⟨S1x2050x1024, .f32⟩
  | .hbm, ⟨13, _⟩ => ⟨S1x1024, .f32⟩
  | .hbm, ⟨14, _⟩ => ⟨S1024, .f32⟩
  | .hbm, ⟨15, _⟩ => ⟨S1x2048x1024, .f32⟩
  | .hbm, ⟨16, _⟩ => ⟨S1x1x1024, .f32⟩
  | .hbm, ⟨17, _⟩ => ⟨S1x2048x1024, .f32⟩
  | .hbm, ⟨18, _⟩ => ⟨S1x2048x1024, .f32⟩
  | .hbm, ⟨19, _⟩ => ⟨S1x1x1024, .f32⟩
  | .hbm, ⟨20, _⟩ => ⟨S1x2048x1024, .f32⟩
  | .hbm, ⟨21, _⟩ => ⟨S1x2048x1024, .f32⟩
  | .hbm, ⟨22, _⟩ => ⟨S1x1024, .f32⟩
  | .hbm, ⟨23, _⟩ => ⟨S1024, .f32⟩
  | .hbm, ⟨24, _⟩ => ⟨S1x2048x1024, .f32⟩
  | .hbm, ⟨25, _⟩ => ⟨S1x1x1024, .f32⟩
  | .hbm, ⟨26, _⟩ => ⟨S1x2048x1024, .f32⟩
  | .hbm, ⟨27, _⟩ => ⟨S1x2048x1024, .f32⟩
  | .hbm, ⟨28, _⟩ => ⟨S1x2048x1024, .f32⟩
  | .hbm, ⟨29, _⟩ => ⟨S1x1024, .f32⟩
  | .hbm, ⟨30, _⟩ => ⟨S1024, .f32⟩
  | .hbm, ⟨31, _⟩ => ⟨S1x2048x1024, .f32⟩
  | .hbm, ⟨32, _⟩ => ⟨S1x1x1024, .f32⟩
  | .hbm, ⟨33, _⟩ => ⟨S1x2048x1024, .f32⟩
  | .hbm, ⟨34, _⟩ => ⟨S1x2048x1024, .f32⟩
  | .hbm, ⟨35, _⟩ => ⟨S1x2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S2048x1, .f32⟩
  | .hbm, ⟨49, _⟩ => ⟨S2048x1024, .f32⟩
  | .hbm, ⟨50, _⟩ => ⟨S2048x1024, .f32⟩
  | .hbm, ⟨51, _⟩ => ⟨S1x1024, .f32⟩
  | .hbm, ⟨52, _⟩ => ⟨S2048x1024, .f32⟩
  | .hbm, ⟨53, _⟩ => ⟨S2048x1024, .f32⟩
  | .hbm, ⟨54, _⟩ => ⟨S2048x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_0 : Ref sig .tc := ⟨.hbm, 39, rfl⟩
abbrev main_v34 : Ref sig .tc := ⟨.hbm, 40, rfl⟩
abbrev main_v35 : Ref sig .tc := ⟨.hbm, 41, rfl⟩
abbrev main_cst_1 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩

abbrev nD : Nat := 1
abbrev τ : Topo := Topo.v7x

variable {F : FTy → Type} [FloatOps F]
-- ==== SwigluUp.lean ====
abbrev S2048x2048 : Shape := ⟨2, ![2048, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 13
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x2048, .bf16⟩
  | .hbm, ⟨4, _⟩ => ⟨S2048x5632, .bf16⟩
  | .hbm, ⟨5, _⟩ => ⟨S2048x4x1408, .bf16⟩
  | .hbm, ⟨6, _⟩ => ⟨S4x2048x1408, .bf16⟩
  | .hbm, ⟨7, _⟩ => ⟨S2048x5632, .bf16⟩
  | .hbm, ⟨8, _⟩ => ⟨S2048x4x1408, .bf16⟩
  | .hbm, ⟨9, _⟩ => ⟨S4x2048x1408, .bf16⟩
  | .hbm, ⟨10, _⟩ => ⟨S2048x5632, .f32⟩
  | .hbm, ⟨11, _⟩ => ⟨S2048x5632, .f32⟩
  | .hbm, ⟨12, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwigluUpRefIdeal.lean ====
abbrev S2048x2048 : Shape := ⟨2, ![2048, 2048]⟩
abbrev S2048x5632 : Shape := ⟨2, ![2048, 5632]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S_, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S2048x5632, .f32⟩
  | .hbm, ⟨15, _⟩ => ⟨S2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== DownNorm.lean ====
abbrev S2048x2048 : Shape := ⟨2, ![2048, 2048]⟩
abbrev S2048x5632 : Shape := ⟨2, ![2048, 5632]⟩
abbrev S5632x2048 : Shape := ⟨2, ![5632, 2048]⟩
abbrev S2048 : Shape := ⟨1, ![2048]⟩
abbrev S4x1408x2048 : Shape := ⟨3, ![4, 1408, 2048]⟩
abbrev S1x2048 : Shape := ⟨2, ![1, 2048]⟩
abbrev S2048x128 : Shape := ⟨2, ![2048, 128]⟩
abbrev S512x1408 : Shape := ⟨2, ![512, 1408]⟩
abbrev S1x1408x2048 : Shape := ⟨3, ![1, 1408, 2048]⟩
abbrev S512x2048 : Shape := ⟨2, ![512, 2048]⟩
abbrev S512x128 : Shape := ⟨2, ![512, 128]⟩
abbrev S1408x2048 : Shape := ⟨2, ![1408, 2048]⟩
abbrev S512 : Shape := ⟨1, ![512]⟩
abbrev S512x1 : Shape := ⟨2, ![512, 1]⟩

abbrev nBuf : Space → Nat
  | .hbm => 14
  | .vmem => 17
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S5632x2048, .f32⟩
  | .hbm, ⟨3, _⟩ => ⟨S2048, .f32⟩
  | .hbm, ⟨4, _⟩ => ⟨S2048, .f32⟩
  | .hbm, ⟨5, _⟩ => ⟨S2048x5632, .bf16⟩
  | .hbm, ⟨6, _⟩ => ⟨S5632x2048, .bf16⟩
  | .hbm, ⟨7, _⟩ => ⟨S4x1408x2048, .bf16⟩
  | .hbm, ⟨8, _⟩ => ⟨S1x2048, .f32⟩
  | .hbm, ⟨9, _⟩ => ⟨S1x2048, .f32⟩
  | .hbm, ⟨10, _⟩ => ⟨S2048x2048, .f32⟩
  | .hbm, ⟨11, _⟩ => ⟨S2048x2048, .bf16⟩
  | .hbm, ⟨12, _⟩ => ⟨S2048x2048, .f32⟩
  | .hbm, ⟨13, _⟩ => ⟨S2048x128, .f32⟩
  | .local _ .vmem, ⟨0, _⟩ => ⟨S512x1408, .bf16⟩
  | .local _ .vmem, ⟨1, _⟩ => ⟨S512x1408, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | .local _ .vmem, ⟨13, _⟩ => ⟨S512x2048, .f32⟩
  | .local _ .vmem, ⟨14, _⟩ => ⟨S512x128, .f32⟩
  | .local _ .vmem, ⟨15, _⟩ => ⟨S512x128, .f32⟩
  | .local _ .vmem, ⟨16, _⟩ => ⟨S512x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== DownNormRefIdeal.lean ====
abbrev S2048x2048 : Shape := ⟨2, ![2048, 2048]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x128 : Shape := ⟨2, ![2048, 128]⟩

abbrev nBuf : Space → Nat
  | .hbm => 42
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S5632x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x2048, .f32⟩
  | .hbm, ⟨33, _⟩ => ⟨S2048x2048, .f32⟩
  | .hbm, ⟨34, _⟩ => ⟨S1x2048, .f32⟩
  | .hbm, ⟨35, _⟩ => ⟨S2048x2048, .f32⟩
  | .hbm, ⟨36, _⟩ => ⟨S2048x2048, .f32⟩
  | .hbm, ⟨37, _⟩ => ⟨S1x2048, .f32⟩
  | .hbm, ⟨38, _⟩ => ⟨S2048x2048, .f32⟩
  | .hbm, ⟨39, _⟩ => ⟨S2048x2048, .f32⟩
  | .hbm, ⟨40, _⟩ => ⟨S2048x2048, .bf16⟩
  | .hbm, ⟨41, _⟩ => ⟨S2048x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== ReadOut.lean ====
abbrev S2048x4096 : Shape := ⟨2, ![2048, 4096]⟩
abbrev S64x16x64 : Shape := ⟨3, ![64, 16, 64]⟩
abbrev S64x16 : Shape := ⟨2, ![64, 16]⟩
abbrev S64x64x16 : Shape := ⟨3, ![64, 64, 16]⟩
abbrev S8x8 : Shape := ⟨2, ![8, 8]⟩
abbrev S_ : Shape := ⟨0, ![]⟩
abbrev S8x8x64x16 : Shape := ⟨4, ![8, 8, 64, 16]⟩
abbrev S8x8x16x64 : Shape := ⟨4, ![8, 8, 16, 64]⟩
abbrev S8x8x16x1x64 : Shape := ⟨5, ![8, 8, 16, 1, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x512x128 : Shape := ⟨3, ![8, 512, 128]⟩
abbrev S1x1024 : Shape := ⟨2, ![1, 1024]⟩
abbrev S2048x1024 : Shape := ⟨2, ![2048, 1024]⟩
abbrev S2048x512 : Shape := ⟨2, ![2048, 512]⟩
abbrev S1x512x128 : Shape := ⟨3, ![1, 512, 128]⟩
abbrev S2048x128 : Shape := ⟨2, ![2048, 128]⟩
abbrev S1x128 : Shape := ⟨2, ![1, 128]⟩
abbrev S512x128 : Shape := ⟨2, ![512, 128]⟩

abbrev nBuf : Space → Nat
  | .hbm => 45
  | .vmem => 18
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S64x16x64, .f32⟩
  | .hbm, ⟨4, _⟩ => ⟨S64x16x64, .f32⟩
  | .hbm, ⟨5, _⟩ => ⟨S64x16, .f32⟩
  | .hbm, ⟨6, _⟩ => ⟨S64x64x16, .f32⟩
  | .hbm, ⟨7, _⟩ => ⟨S8x8, .i32⟩
  | .hbm, ⟨8, _⟩ => ⟨S8x8, .i32⟩
  | .hbm, ⟨9, _⟩ => ⟨S_, .i32⟩
  | .hbm, ⟨10, _⟩ => ⟨S8x8, .i32⟩
  | .hbm, ⟨11, _⟩ => ⟨S8x8, .i32⟩
  | .hbm, ⟨12, _⟩ => ⟨S8x8, .i1⟩
  | .hbm, ⟨13, _⟩ => ⟨S8x8, .f32⟩
  | .hbm, ⟨14, _⟩ => ⟨S8x8x64x16, .f32⟩
  | .hbm, ⟨15, _⟩ => ⟨S8x8x16x64, .f32⟩
  | .hbm, ⟨16, _⟩ => ⟨S8x8x16x1x64, .f32⟩
  | .hbm, ⟨17, _⟩ => ⟨S1x8x1x8x1, .f32⟩
  | .hbm, ⟨18, _⟩ => ⟨S8x8x16x8x64, .f32⟩
  | .hbm, ⟨19, _⟩ => ⟨S8x8x16x8x64, .f32⟩
  | .hbm, ⟨20, _⟩ => ⟨S8x8x16x8x64, .f32⟩
  | .hbm, ⟨21, _⟩ => ⟨S8x128x512, .f32⟩
  | .hbm, ⟨22, _⟩ => ⟨S8x512x128, .f32⟩
  | .hbm, ⟨23, _⟩ => ⟨S64x64x16, .f32⟩
  | .hbm, ⟨24, _⟩ => ⟨S8x8, .i32⟩
  | .hbm, ⟨25, _⟩ => ⟨S8x8, .i32⟩
  | .hbm, ⟨26, _⟩ => ⟨S_, .i32⟩
  | .hbm, ⟨27, _⟩ => ⟨S8x8, .i32⟩
  | .hbm, ⟨28, _⟩ => ⟨S8x8, .i32⟩
  | .hbm, ⟨29, _⟩ => ⟨S8x8, .i1⟩
  | .hbm, ⟨30, _⟩ => ⟨S8x8, .f32⟩
  | .hbm, ⟨31, _⟩ => ⟨S8x8x64x16, .f32⟩
  | .hbm, ⟨32, _⟩ => ⟨S8x8x16x64, .f32⟩
  | .hbm, ⟨33, _⟩ => ⟨S8x8x16x1x64, .f32⟩
  | .hbm, ⟨34, _⟩ => ⟨S1x8x1x8x1, .f32⟩
  | .hbm, ⟨35, _⟩ => ⟨S8x8x16x8x64, .f32⟩
  | .hbm, ⟨36, _⟩ => ⟨S8x8x16x8x64, .f32⟩
  | .hbm, ⟨37, _⟩ => ⟨S8x8x16x8x64, .f32⟩
  | .hbm, ⟨38, _⟩ => ⟨S8x128x512, .f32⟩
  | .hbm, ⟨39, _⟩ => ⟨S8x512x128, .f32⟩
  | .hbm, ⟨40, _⟩ => ⟨S8x512x128, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S2048x1024, .bf16⟩
  | .local _ .vmem, ⟨0, _⟩ => ⟨S2048x512, .f32⟩
  | .local _ .vmem, ⟨1, _⟩ => ⟨S2048x512, .f32⟩
  | .local _ .vmem, ⟨2, _⟩ => ⟨S1x512x128, .f32⟩
  | .local _ .vmem, ⟨3, _⟩ => ⟨S1x512x128, .f32⟩
  | .local _ .vmem, ⟨4, _⟩ => ⟨S2048x512, .f32⟩
  | .local _ .vmem, ⟨5, _⟩ => ⟨S2048x512, .f32⟩
  | .local _ .vmem, ⟨6, _⟩ => ⟨S1x512x128, .f32⟩
  | .local _ .vmem, ⟨7, _⟩ => ⟨S1x512x128, .f32⟩
  | .local _ .vmem, ⟨8, _⟩ => ⟨S2048x128, .f32⟩
  | .local _ .vmem, ⟨9, _⟩ => ⟨S2048x128, .f32⟩
  | .local _ .vmem, ⟨10, _⟩ => ⟨S1x128, .f32⟩
  | .local _ .vmem, ⟨11, _⟩ => ⟨S1x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .bf16⟩
  | .local _ .vmem, ⟨17, _⟩ => ⟨S2048x128, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34_0 : Ref sig .tc := ⟨.hbm, 42, rfl⟩
abbrev main_v34_1 : Ref sig .tc := ⟨.hbm, 43, rfl⟩
abbrev main_v34_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReadOutRefIdeal.lean ====
abbrev S2048x4096 : Shape := ⟨2, ![2048, 4096]⟩
abbrev S64x16x64 : Shape := ⟨3, ![64, 16, 64]⟩
abbrev S64x16 : Shape := ⟨2, ![64, 16]⟩
abbrev S2048x64x64 : Shape := ⟨3, ![2048, 64, 64]⟩
abbrev S64x16x2048 : Shape := ⟨3, ![64, 16, 2048]⟩
abbrev S2048x64x16 : Shape := ⟨3, ![2048, 64, 16]⟩
abbrev S2048x1024 : Shape := ⟨2, ![2048, 1024]⟩
abbrev S1x64x16 : Shape := ⟨3, ![1, 64, 16]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S64x16x64, .f32⟩
  | .hbm, ⟨4, _⟩ => ⟨S64x16x64, .f32⟩
  | .hbm, ⟨5, _⟩ => ⟨S64x16, .f32⟩
  | .hbm, ⟨6, _⟩ => ⟨S2048x64x64, .f32⟩
  | .hbm, ⟨7, _⟩ => ⟨S64x16x2048, .f32⟩
  | .hbm, ⟨8, _⟩ => ⟨S2048x64x16, .f32⟩
  | .hbm, ⟨9, _⟩ => ⟨S2048x64x64, .f32⟩
  | .hbm, ⟨10, _⟩ => ⟨S64x16x2048, .f32⟩
  | .hbm, ⟨11, _⟩ => ⟨S2048x64x16, .f32⟩
  | .hbm, ⟨12, _⟩ => ⟨S2048x64x16, .f32⟩
  | .hbm, ⟨13, _⟩ => ⟨S2048x1024, .f32⟩
  | .hbm, ⟨14, _⟩ => ⟨S2048x64x16, .f32⟩
  | .hbm, ⟨15, _⟩ => ⟨S1x64x16, .f32⟩
  | .hbm, ⟨16, _⟩ => ⟨S2048x64x16, .f32⟩
  | .hbm, ⟨17, _⟩ => ⟨S2048x64x16, .f32⟩
  | .hbm, ⟨18, _⟩ => ⟨S2048x64x16, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== GluOut.lean ====
abbrev S2048x1024 : Shape := ⟨2, ![2048, 1024]⟩
abbrev S1024x1024 : Shape := ⟨2, ![1024, 1024]⟩
abbrev S1024 : Shape := ⟨1, ![1024]⟩
abbrev S4x256x1024 : Shape := ⟨3, ![4, 256, 1024]⟩
abbrev S1x1024 : Shape := ⟨2, ![1, 1024]⟩
abbrev S512x256 : Shape := ⟨2, ![512, 256]⟩
abbrev S1x256x1024 : Shape := ⟨3, ![1, 256, 1024]⟩
abbrev S512x1024 : Shape := ⟨2, ![512, 1024]⟩
abbrev S256x1024 : Shape := ⟨2, ![256, 1024]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024, .f32⟩
  | .hbm, ⟨3, _⟩ => ⟨S2048x1024, .bf16⟩
  | .hbm, ⟨4, _⟩ => ⟨S1024x1024, .bf16⟩
  | .hbm, ⟨5, _⟩ => ⟨S4x256x1024, .bf16⟩
  | .hbm, ⟨6, _⟩ => ⟨S1x1024, .f32⟩
  | .hbm, ⟨7, _⟩ => ⟨S2048x1024, .f32⟩
  | .hbm, ⟨8, _⟩ => ⟨S2048x1024, .bf16⟩
  | .local _ .vmem, ⟨0, _⟩ => ⟨S512x256, .bf16⟩
  | .local _ .vmem, ⟨1, _⟩ => ⟨S512x256, .bf16⟩
  | .local _ .vmem, ⟨2, _⟩ => ⟨S1x256x1024, .bf16⟩
  | .local _ .vmem, ⟨3, _⟩ => ⟨S1x256x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== GluOutRefIdeal.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== HalfSwap.lean ====
abbrev S4x2048x1408 : Shape := ⟨3, ![4, 2048, 1408]⟩
abbrev S4x1408x2048 : Shape := ⟨3, ![4, 1408, 2048]⟩
abbrev S4x2048x1024 : Shape := ⟨3, ![4, 2048, 1024]⟩
abbrev S4x256x1024 : Shape := ⟨3, ![4, 256, 1024]⟩
abbrev S4x512x2048 : Shape := ⟨3, ![4, 512, 2048]⟩
abbrev S4x1024x1408 : Shape := ⟨3, ![4, 1024, 1408]⟩
abbrev S4x704x2048 : Shape := ⟨3, ![4, 704, 2048]⟩
abbrev S4x1024x1024 : Shape := ⟨3, ![4, 1024, 1024]⟩
abbrev S4x128x1024 : Shape := ⟨3, ![4, 128, 1024]⟩
abbrev S4x256x2048 : Shape := ⟨3, ![4, 256, 2048]⟩
abbrev S9 : Shape := ⟨1, ![9]⟩
abbrev S1 : Shape := ⟨1, ![1]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x1408, .bf16⟩
  | .hbm, ⟨1, _⟩ => ⟨S4x2048x1408, .bf16⟩
  | .hbm, ⟨2, _⟩ => ⟨S4x1408x2048, .bf16⟩
  | .hbm, ⟨3, _⟩ => ⟨S4x2048x1024, .bf16⟩
  | .hbm, ⟨4, _⟩ => ⟨S4x256x1024, .bf16⟩
  | .hbm, ⟨5, _⟩ => ⟨S4x512x2048, .bf16⟩
  | .hbm, ⟨6, _⟩ => ⟨S4x2048x1408, .bf16⟩
  | .hbm, ⟨7, _⟩ => ⟨S4x2048x1408, .bf16⟩
  | .hbm, ⟨8, _⟩ => ⟨S4x1408x2048, .bf16⟩
  | .hbm, ⟨9, _⟩ => ⟨S4x1024x1408, .bf16⟩
  | .hbm, ⟨10, _⟩ => ⟨S4x1024x1408, .bf16⟩
  | .hbm, ⟨11, _⟩ => ⟨S4x704x2048, .bf16⟩
  | .hbm, ⟨12, _⟩ => ⟨S4x1024x1024, .bf16⟩
  | .hbm, ⟨13, _⟩ => ⟨S4x128x1024, .bf16⟩
  | .hbm, ⟨14, _⟩ => ⟨S4x256x2048, .bf16⟩
  | .hbm, ⟨15, _⟩ => ⟨S4x1024x1408, .bf16⟩
  | .hbm, ⟨16, _⟩ => ⟨S4x1024x1408, .bf16⟩
  | .hbm, ⟨17, _⟩ => ⟨S4x704x2048, .bf16⟩
  | .hbm, ⟨18, _⟩ => ⟨S4x1024x1408, .bf16⟩
  | .hbm, ⟨19, _⟩ => ⟨S4x1024x1408, .bf16⟩
  | .hbm, ⟨20, _⟩ => ⟨S4x704x2048, .bf16⟩
  | .hbm, ⟨21, _⟩ => ⟨S4x1024x1024, .bf16⟩
  | .hbm, ⟨22, _⟩ => ⟨S4x128x1024, .bf16⟩
  | .hbm, ⟨23, _⟩ => ⟨S4x256x2048, .bf16⟩
  | .hbm, ⟨24, _⟩ => ⟨S4x1024x1408, .bf16⟩
  | .hbm, ⟨25, _⟩ => ⟨S4x1024x1408, .bf16⟩
  | .hbm, ⟨26, _⟩ => ⟨S4x704x2048, .bf16⟩
  | _, _ => ⟨S4x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev main_v1_7 : Ref sig .tc := ⟨.hbm, 16, rfl⟩
abbrev main_v1_8 : Ref sig .tc := ⟨.hbm, 17, rfl⟩
abbrev main_v1_9 : Ref sig .tc := ⟨.hbm, 18, rfl⟩
abbrev main_v1_10 : Ref sig .tc := ⟨.hbm, 19, rfl⟩
abbrev main_v1_11 : Ref sig .tc := ⟨.hbm, 20, rfl⟩
abbrev main_v1_12 : Ref sig .tc := ⟨.hbm, 21, rfl⟩
abbrev main_v1_13 : Ref sig .tc := ⟨.hbm, 22, rfl⟩
abbrev main_v1_14 : Ref sig .tc := ⟨.hbm, 23, rfl⟩
abbrev main_v1_15 : Ref sig .tc := ⟨.hbm, 24, rfl⟩
abbrev main_v1_16 : Ref sig .tc := ⟨.hbm, 25, rfl⟩
abbrev main_v1_17 : Ref sig .tc := ⟨.hbm, 26, rfl⟩

abbrev nD : Nat := 2
abbrev τ : Topo := Topo.v7x

variable {F : FTy → Type} [FloatOps F]

abbrev grid0 : Pipeline.Grid := .none

def k0_off1 (d0 : Dev nD) : Fin 3 → Nat :=
  let c0_i32_0 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1024_i32 : BitVec 32 := 1024#32
  let v3 : BitVec 32 := Scalar.muli v2 c1024_i32
  let c0_i32_1 : BitVec 32 := 0#32
  ![0, v3.toNat, 0]
def k0_off2 (d0 : Dev nD) : Fin 3 → Nat :=
  let c0_i32_9 : BitVec 32 := 0#32
  let c1_i32_2 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v7 : BitVec 32 := Scalar.subi c1_i32_2 v2
  let c1024_i32_3 : BitVec 32 := 1024#32
  let v8 : BitVec 32 := Scalar.muli v7 c1024_i32_3
  let c0_i32_10 : BitVec 32 := 0#32
  ![0, v8.toNat, 0]
def k0_dev1 (d0 : Dev nD) : Nat :=
  let c0_i32_8 : BitVec 32 := 0#32
  let c1_i32_4 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v9 : BitVec 32 := Scalar.subi c1_i32_4 v2
  let c1_i32_7 : BitVec 32 := 1#32
  let v10 : BitVec 32 := Scalar.muli v9 c1_i32_7
  let v11 : BitVec 32 := Scalar.addi c0_i32_8 v10
  v11.toNat
def k0_dev2 (d0 : Dev nD) : Nat :=
  let c0_i32_21 : BitVec 32 := 0#32
  let c1_i32_17 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v23 : BitVec 32 := Scalar.subi c1_i32_17 v2
  let c1_i32_20 : BitVec 32 := 1#32
  let v24 : BitVec 32 := Scalar.muli v23 c1_i32_20
  let v25 : BitVec 32 := Scalar.addi c0_i32_21 v24
  v25.toNat
def k0_off3 (d0 : Dev nD) : Fin 3 → Nat :=
  let c0_i32_25 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c704_i32 : BitVec 32 := 704#32
  let v31 : BitVec 32 := Scalar.muli v2 c704_i32
  let c0_i32_26 : BitVec 32 := 0#32
  ![0, v31.toNat, 0]
def k0_off4 (d0 : Dev nD) : Fin 3 → Nat :=
  let c0_i32_34 : BitVec 32 := 0#32
  let c1_i32_27 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v35 : BitVec 32 := Scalar.subi c1_i32_27 v2
  let c704_i32_28 : BitVec 32 := 704#32
  let v36 : BitVec 32 := Scalar.muli v35 c704_i32_28
  let c0_i32_35 : BitVec 32 := 0#32
  ![0, v36.toNat, 0]
def k0_dev3 (d0 : Dev nD) : Nat :=
  let c0_i32_33 : BitVec 32 := 0#32
  let c1_i32_29 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v37 : BitVec 32 := Scalar.subi c1_i32_29 v2
  let c1_i32_32 : BitVec 32 := 1#32
  let v38 : BitVec 32 := Scalar.muli v37 c1_i32_32
  let v39 : BitVec 32 := Scalar.addi c0_i32_33 v38
  v39.toNat
def k0_off5 (d0 : Dev nD) : Fin 3 → Nat :=
  let c0_i32_37 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1024_i32_36 : BitVec 32 := 1024#32
  let v45 : BitVec 32 := Scalar.muli v2 c1024_i32_36
  let c0_i32_38 : BitVec 32 := 0#32
  ![0, v45.toNat, 0]
def k0_off6 (d0 : Dev nD) : Fin 3 → Nat :=
  let c0_i32_46 : BitVec 32 := 0#32
  let c1_i32_39 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v49 : BitVec 32 := Scalar.subi c1_i32_39 v2
  let c1024_i32_40 : BitVec 32 := 1024#32
  let v50 : BitVec 32 := Scalar.muli v49 c1024_i32_40
  let c0_i32_47 : BitVec 32 := 0#32
  ![0, v50.toNat, 0]
def k0_dev4 (d0 : Dev nD) : Nat :=
  let c0_i32_45 : BitVec 32 := 0#32
  let c1_i32_41 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v51 : BitVec 32 := Scalar.subi c1_i32_41 v2
  let c1_i32_44 : BitVec 32 := 1#32
  let v52 : BitVec 32 := Scalar.muli v51 c1_i32_44
  let v53 : BitVec 32 := Scalar.addi c0_i32_45 v52
  v53.toNat
def k0_off7 (d0 : Dev nD) : Fin 3 → Nat :=
  let c0_i32_48 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c128_i32 : BitVec 32 := 128#32
  let v59 : BitVec 32 := Scalar.muli v2 c128_i32
  let c0_i32_49 : BitVec 32 := 0#32
  ![0, v59.toNat, 0]
def k0_off8 (d0 : Dev nD) : Fin 3 → Nat :=
  let c0_i32_57 : BitVec 32 := 0#32
  let c1_i32_50 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v63 : BitVec 32 := Scalar.subi c1_i32_50 v2
  let c128_i32_51 : BitVec 32 := 128#32
  let v64 : BitVec 32 := Scalar.muli v63 c128_i32_51
  let c0_i32_58 : BitVec 32 := 0#32
  ![0, v64.toNat, 0]
def k0_dev5 (d0 : Dev nD) : Nat :=
  let c0_i32_56 : BitVec 32 := 0#32
  let c1_i32_52 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v65 : BitVec 32 := Scalar.subi c1_i32_52 v2
  let c1_i32_55 : BitVec 32 := 1#32
  let v66 : BitVec 32 := Scalar.muli v65 c1_i32_55
  let v67 : BitVec 32 := Scalar.addi c0_i32_56 v66
  v67.toNat
def k0_off9 (d0 : Dev nD) : Fin 3 → Nat :=
  let c0_i32_59 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c256_i32 : BitVec 32 := 256#32
  let v73 : BitVec 32 := Scalar.muli v2 c256_i32
  let c0_i32_60 : BitVec 32 := 0#32
  ![0, v73.toNat, 0]
def k0_off10 (d0 : Dev nD) : Fin 3 → Nat :=
  let c0_i32_68 : BitVec 32 := 0#32
  let c1_i32_61 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v77 : BitVec 32 := Scalar.subi c1_i32_61 v2
  let c256_i32_62 : BitVec 32 := 256#32
  let v78 : BitVec 32 := Scalar.muli v77 c256_i32_62
  let c0_i32_69 : BitVec 32 := 0#32
  ![0, v78.toNat, 0]
def k0_dev6 (d0 : Dev nD) : Nat :=
  let c0_i32_67 : BitVec 32 := 0#32
  let c1_i32_63 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v79 : BitVec 32 := Scalar.subi c1_i32_63 v2
  let c1_i32_66 : BitVec 32 := 1#32
  let v80 : BitVec 32 := Scalar.muli v79 c1_i32_66
  let v81 : BitVec 32 := Scalar.addi c0_i32_67 v80
  v81.toNat
def k0_dev7 (d0 : Dev nD) : Nat :=
  let c0_i32_79 : BitVec 32 := 0#32
  let c1_i32_75 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v93 : BitVec 32 := Scalar.subi c1_i32_75 v2
  let c1_i32_78 : BitVec 32 := 1#32
  let v94 : BitVec 32 := Scalar.muli v93 c1_i32_78
  let v95 : BitVec 32 := Scalar.addi c0_i32_79 v94
  v95.toNat
def k0_dev8 (d0 : Dev nD) : Nat :=
  let c0_i32_91 : BitVec 32 := 0#32
  let c1_i32_87 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v107 : BitVec 32 := Scalar.subi c1_i32_87 v2
  let c1_i32_90 : BitVec 32 := 1#32
  let v108 : BitVec 32 := Scalar.muli v107 c1_i32_90
  let v109 : BitVec 32 := Scalar.addi c0_i32_91 v108
  v109.toNat
def k0_dev9 (d0 : Dev nD) : Nat :=
  let c0_i32_103 : BitVec 32 := 0#32
  let c1_i32_99 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v121 : BitVec 32 := Scalar.subi c1_i32_99 v2
  let c1_i32_102 : BitVec 32 := 1#32
  let v122 : BitVec 32 := Scalar.muli v121 c1_i32_102
  let v123 : BitVec 32 := Scalar.addi c0_i32_103 v122
  v123.toNat
-- ==== HalfSwapRefIdeal.lean ====
abbrev S8x2048x1408 : Shape := ⟨3, ![8, 2048, 1408]⟩
abbrev S8x1408x2048 : Shape := ⟨3, ![8, 1408, 2048]⟩
abbrev S8x2048x1024 : Shape := ⟨3, ![8, 2048, 1024]⟩
abbrev S8x256x1024 : Shape := ⟨3, ![8, 256, 1024]⟩
abbrev S8x512x2048 : Shape := ⟨3, ![8, 512, 2048]⟩
abbrev S4x1024x1408 : Shape := ⟨3, ![4, 1024, 1408]⟩
abbrev S8x1024x1408 : Shape := ⟨3, ![8, 1024, 1408]⟩
abbrev S4x704x2048 : Shape := ⟨3, ![4, 704, 2048]⟩
abbrev S8x704x2048 : Shape := ⟨3, ![8, 704, 2048]⟩
abbrev S4x1024x1024 : Shape := ⟨3, ![4, 1024, 1024]⟩
abbrev S8x1024x1024 : Shape := ⟨3, ![8, 1024, 1024]⟩
abbrev S4x128x1024 : Shape := ⟨3, ![4, 128, 1024]⟩
abbrev S8x128x1024 : Shape := ⟨3, ![8, 128, 1024]⟩
abbrev S4x256x2048 : Shape := ⟨3, ![4, 256, 2048]⟩
abbrev S8x256x2048 : Shape := ⟨3, ![8, 256, 2048]⟩

abbrev nBuf : Space → Nat
  | .hbm => 63
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S8x2048x1408, .bf16⟩
  | .hbm, ⟨2, _⟩ => ⟨S8x1408x2048, .bf16⟩
  | .hbm, ⟨3, _⟩ => ⟨S8x2048x1024, .bf16⟩
  | .hbm, ⟨4, _⟩ => ⟨S8x256x1024, .bf16⟩
  | .hbm, ⟨5, _⟩ => ⟨S8x512x2048, .bf16⟩
  | .hbm, ⟨6, _⟩ => ⟨S8x2048x1408, .bf16⟩
  | .hbm, ⟨7, _⟩ => ⟨S8x2048x1408, .bf16⟩
  | .hbm, ⟨8, _⟩ => ⟨S8x1408x2048, .bf16⟩
  | .hbm, ⟨9, _⟩ => ⟨S4x1024x1408, .bf16⟩
  | .hbm, ⟨10, _⟩ => ⟨S4x1024x1408, .bf16⟩
  | .hbm, ⟨11, _⟩ => ⟨S8x1024x1408, .bf16⟩
  | .hbm, ⟨12, _⟩ => ⟨S4x1024x1408, .bf16⟩
  | .hbm, ⟨13, _⟩ => ⟨S4x1024x1408, .bf16⟩
  | .hbm, ⟨14, _⟩ => ⟨S8x1024x1408, .bf16⟩
  | .hbm, ⟨15, _⟩ => ⟨S4x1024x1408, .bf16⟩
  | .hbm, ⟨16, _⟩ => ⟨S4x1024x1408, .bf16⟩
  | .hbm, ⟨17, _⟩ => ⟨S8x1024x1408, .bf16⟩
  | .hbm, ⟨18, _⟩ => ⟨S4x1024x1408, .bf16⟩
  | .hbm, ⟨19, _⟩ => ⟨S4x1024x1408, .bf16⟩
  | .hbm, ⟨20, _⟩ => ⟨S8x1024x1408, .bf16⟩
  | .hbm, ⟨21, _⟩ => ⟨S4x704x2048, .bf16⟩
  | .hbm, ⟨22, _⟩ => ⟨S4x704x2048, .bf16⟩
  | .hbm, ⟨23, _⟩ => ⟨S8x704x2048, .bf16⟩
  | .hbm, ⟨24, _⟩ => ⟨S4x704x2048, .bf16⟩
  | .hbm, ⟨25, _⟩ => ⟨S4x704x2048, .bf16⟩
  | .hbm, ⟨26, _⟩ => ⟨S8x704x2048, .bf16⟩
  | .hbm, ⟨27, _⟩ => ⟨S4x1024x1024, .bf16⟩
  | .hbm, ⟨28, _⟩ => ⟨S4x1024x1024, .bf16⟩
  | .hbm, ⟨29, _⟩ => ⟨S8x1024x1024, .bf16⟩
  | .hbm, ⟨30, _⟩ => ⟨S4x1024x1024, .bf16⟩
  | .hbm, ⟨31, _⟩ => ⟨S4x1024x1024, .bf16⟩
  | .hbm, ⟨32, _⟩ => ⟨S8x1024x1024, .bf16⟩
  | .hbm, ⟨33, _⟩ => ⟨S4x128x1024, .bf16⟩
  | .hbm, ⟨34, _⟩ => ⟨S4x128x1024, .bf16⟩
  | .hbm, ⟨35, _⟩ => ⟨S8x128x1024, .bf16⟩
  | .hbm, ⟨36, _⟩ => ⟨S4x128x1024, .bf16⟩
  | .hbm, ⟨37, _⟩ => ⟨S4x128x1024, .bf16⟩
  | .hbm, ⟨38, _⟩ => ⟨S8x128x1024, .bf16⟩
  | .hbm, ⟨39, _⟩ => ⟨S4x256x2048, .bf16⟩
  | .hbm, ⟨40, _⟩ => ⟨S4x256x2048, .bf16⟩
  | .hbm, ⟨41, _⟩ => ⟨S8x256x2048, .bf16⟩
  | .hbm, ⟨42, _⟩ => ⟨S4x256x2048, .bf16⟩
  | .hbm, ⟨43, _⟩ => ⟨S4x256x2048, .bf16⟩
  | .hbm, ⟨44, _⟩ => ⟨S8x256x2048, .bf16⟩
  | .hbm, ⟨45, _⟩ => ⟨S4x1024x1408, .bf16⟩
  | .hbm, ⟨46, _⟩ => ⟨S4x1024x1408, .bf16⟩
  | .hbm, ⟨47, _⟩ => ⟨S8x1024x1408, .bf16⟩
  | .hbm, ⟨48, _⟩ => ⟨S4x1024x1408, .bf16⟩
  | .hbm, ⟨49, _⟩ => ⟨S4x1024x1408, .bf16⟩
  | .hbm, ⟨50, _⟩ => ⟨S8x1024x1408, .bf16⟩
  | .hbm, ⟨51, _⟩ => ⟨S4x1024x1408, .bf16⟩
  | .hbm, ⟨52, _⟩ => ⟨S4x1024x1408, .bf16⟩
  | .hbm, ⟨53, _⟩ => ⟨S8x1024x1408, .bf16⟩
  | .hbm, ⟨54, _⟩ => ⟨S4x1024x1408, .bf16⟩
  | .hbm, ⟨55, _⟩ => ⟨S4x1024x1408, .bf16⟩
  | .hbm, ⟨56, _⟩ => ⟨S8x1024x1408, .bf16⟩
  | .hbm, ⟨57, _⟩ => ⟨S4x704x2048, .bf16⟩
  | .hbm, ⟨58, _⟩ => ⟨S4x704x2048, .bf16⟩
  | .hbm, ⟨59, _⟩ => ⟨S8x704x2048, .bf16⟩
  | .hbm, ⟨60, _⟩ => ⟨S4x704x2048, .bf16⟩
  | .hbm, ⟨61, _⟩ => ⟨S4x704x2048, .bf16⟩
  | .hbm, ⟨62, _⟩ => ⟨S8x704x2048, .bf16⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩

abbrev nD : Nat := 1
abbrev τ : Topo := Topo.v7x

variable {F : FTy → Type} [FloatOps F]
-- ==== ChipSwap.lean ====
abbrev S4x1024x1408 : Shape := ⟨3, ![4, 1024, 1408]⟩
abbrev S4x704x2048 : Shape := ⟨3, ![4, 704, 2048]⟩
abbrev S4x1024x1024 : Shape := ⟨3, ![4, 1024, 1024]⟩
abbrev S4x128x1024 : Shape := ⟨3, ![4, 128, 1024]⟩
abbrev S4x256x2048 : Shape := ⟨3, ![4, 256, 2048]⟩
abbrev S9x3 : Shape := ⟨2, ![9, 3]⟩
abbrev S9 : Shape := ⟨1, ![9]⟩
abbrev S1 : Shape := ⟨1, ![1]⟩
abbrev S_ : Shape := ⟨0, ![]⟩
abbrev S1x1024x1408 : Shape := ⟨3, ![1, 1024, 1408]⟩
abbrev S1024x1408 : Shape := ⟨2, ![1024, 1408]⟩
abbrev S1x704x2048 : Shape := ⟨3, ![1, 704, 2048]⟩
abbrev S704x2048 : Shape := ⟨2, ![704, 2048]⟩
abbrev S1x1024x1024 : Shape := ⟨3, ![1, 1024, 1024]⟩
abbrev S1024x1024 : Shape := ⟨2, ![1024, 1024]⟩
abbrev S1x128x1024 : Shape := ⟨3, ![1, 128, 1024]⟩
abbrev S128x1024 : Shape := ⟨2, ![128, 1024]⟩
abbrev S1x256x2048 : Shape := ⟨3, ![1, 256, 2048]⟩
abbrev S256x2048 : Shape := ⟨2, ![256, 2048]⟩
abbrev S1x1 : Shape := ⟨2, ![1, 1]⟩

abbrev nBuf : Space → Nat
  | .hbm => 18
  | .vmem => 0
  | .smem => 0
  | _ => 0

abbrev bufTy : (tb : Table) → Fin (tcTables nBuf tb) → BufTy
  | .hbm, ⟨0, _⟩ => ⟨S4x1024x1408, .bf16⟩
  | .hbm, ⟨1, _⟩ => ⟨S4x1024x1408, .bf16⟩
  | .hbm, ⟨2, _⟩ => ⟨S4x704x2048, .bf16⟩
  | .hbm, ⟨3, _⟩ => ⟨S4x1024x1024, .bf16⟩
  | .hbm, ⟨4, _⟩ => ⟨S4x128x1024, .bf16⟩
  | .hbm, ⟨5, _⟩ => ⟨S4x256x2048, .bf16⟩
  | .hbm, ⟨6, _⟩ => ⟨S4x1024x1408, .bf16⟩
  | .hbm, ⟨7, _⟩ => ⟨S4x1024x1408, .bf16⟩
  | .hbm, ⟨8, _⟩ => ⟨S4x704x2048, .bf16⟩
  | .hbm, ⟨9, _⟩ => ⟨S4x1024x1408, .bf16⟩
  | .hbm, ⟨10, _⟩ => ⟨S4x1024x1408, .bf16⟩
  | .hbm, ⟨11, _⟩ => ⟨S4x704x2048, .bf16⟩
  | .hbm, ⟨12, _⟩ => ⟨S4x1024x1024, .bf16⟩
  | .hbm, ⟨13, _⟩ => ⟨S4x128x1024, .bf16⟩
  | .hbm, ⟨14, _⟩ => ⟨S4x256x2048, .bf16⟩
  | .hbm, ⟨15, _⟩ => ⟨S4x1024x1408, .bf16⟩
  | .hbm, ⟨16, _⟩ => ⟨S4x1024x1408, .bf16⟩
  | .hbm, ⟨17, _⟩ => ⟨S4x704x2048, .bf16⟩
  | _, _ => ⟨S4x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev main_v1_7 : Ref sig .tc := ⟨.hbm, 16, rfl⟩
abbrev main_v1_8 : Ref sig .tc := ⟨.hbm, 17, rfl⟩

abbrev nD : Nat := 4
abbrev τ : Topo := Topo.v7x

variable {F : FTy → Type} [FloatOps F]

abbrev grid0 : Pipeline.Grid := .none

def k0_off1 (d0 : Dev nD) : Fin 3 → Nat :=
  let c2_i32_6 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v10 : BitVec 32 := Scalar.muli c2_i32_6 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v11 : BitVec 32 := Scalar.addi v10 v5
  let c0_i32_7 : BitVec 32 := 0#32
  let c0_i32_8 : BitVec 32 := 0#32
  ![v11.toNat, 0, 0]
def k0_off2 (d0 : Dev nD) : Fin 3 → Nat :=
  let c2_i32_6 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v10 : BitVec 32 := Scalar.muli c2_i32_6 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v11 : BitVec 32 := Scalar.addi v10 v5
  let c0_i32_17 : BitVec 32 := 0#32
  let c0_i32_18 : BitVec 32 := 0#32
  ![v11.toNat, 0, 0]
def k0_off3 (d0 : Dev nD) : Fin 3 → Nat :=
  let c2_i32_6 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v10 : BitVec 32 := Scalar.muli c2_i32_6 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v11 : BitVec 32 := Scalar.addi v10 v5
  let c0_i32_21 : BitVec 32 := 0#32
  let c0_i32_22 : BitVec 32 := 0#32
  ![v11.toNat, 0, 0]
def k0_off4 (d0 : Dev nD) : Fin 3 → Nat :=
  let c2_i32_6 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v10 : BitVec 32 := Scalar.muli c2_i32_6 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v11 : BitVec 32 := Scalar.addi v10 v5
  let c0_i32_25 : BitVec 32 := 0#32
  let c0_i32_26 : BitVec 32 := 0#32
  ![v11.toNat, 0, 0]
def k0_off5 (d0 : Dev nD) : Fin 3 → Nat :=
  let c2_i32_6 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v10 : BitVec 32 := Scalar.muli c2_i32_6 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v11 : BitVec 32 := Scalar.addi v10 v5
  let c0_i32_29 : BitVec 32 := 0#32
  let c0_i32_30 : BitVec 32 := 0#32
  ![v11.toNat, 0, 0]
def k0_off6 (d0 : Dev nD) : Fin 3 → Nat :=
  let c2_i32_45 : BitVec 32 := 2#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let v66 : BitVec 32 := Scalar.muli c2_i32_45 v6
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v67 : BitVec 32 := Scalar.addi v66 v5
  let c0_i32_55 : BitVec 32 := 0#32
  let c0_i32_56 : BitVec 32 := 0#32
  ![v67.toNat, 0, 0]
def k0_dev1 (d0 : Dev nD) : Nat :=
  let c0_i32_51 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_50 : BitVec 32 := 2#32
  let v68 : BitVec 32 := Scalar.muli v6 c2_i32_50
  let v69 : BitVec 32 := Scalar.addi c0_i32_51 v68
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_52 : BitVec 32 := 1#32
  let v70 : BitVec 32 := Scalar.muli v5 c1_i32_52
  let v71 : BitVec 32 := Scalar.addi v69 v70
  v71.toNat
def k0_off7 (d0 : Dev nD) : Fin 3 → Nat :=
  let c2_i32_57 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v80 : BitVec 32 := Scalar.muli c2_i32_57 v2
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let v81 : BitVec 32 := Scalar.addi v80 v7
  let c0_i32_67 : BitVec 32 := 0#32
  let c0_i32_68 : BitVec 32 := 0#32
  ![v81.toNat, 0, 0]
def k0_dev2 (d0 : Dev nD) : Nat :=
  let c0_i32_63 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_62 : BitVec 32 := 2#32
  let v82 : BitVec 32 := Scalar.muli v2 c2_i32_62
  let v83 : BitVec 32 := Scalar.addi c0_i32_63 v82
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_64 : BitVec 32 := 1#32
  let v84 : BitVec 32 := Scalar.muli v7 c1_i32_64
  let v85 : BitVec 32 := Scalar.addi v83 v84
  v85.toNat
def k0_off8 (d0 : Dev nD) : Fin 3 → Nat :=
  let c2_i32_69 : BitVec 32 := 2#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let v94 : BitVec 32 := Scalar.muli c2_i32_69 v8
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let v95 : BitVec 32 := Scalar.addi v94 v9
  let c0_i32_79 : BitVec 32 := 0#32
  let c0_i32_80 : BitVec 32 := 0#32
  ![v95.toNat, 0, 0]
def k0_dev3 (d0 : Dev nD) : Nat :=
  let c0_i32_75 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_74 : BitVec 32 := 2#32
  let v96 : BitVec 32 := Scalar.muli v8 c2_i32_74
  let v97 : BitVec 32 := Scalar.addi c0_i32_75 v96
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_76 : BitVec 32 := 1#32
  let v98 : BitVec 32 := Scalar.muli v9 c1_i32_76
  let v99 : BitVec 32 := Scalar.addi v97 v98
  v99.toNat
def k0_dev4 (d0 : Dev nD) : Nat :=
  let c0_i32_87 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_86 : BitVec 32 := 2#32
  let v110 : BitVec 32 := Scalar.muli v6 c2_i32_86
  let v111 : BitVec 32 := Scalar.addi c0_i32_87 v110
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_88 : BitVec 32 := 1#32
  let v112 : BitVec 32 := Scalar.muli v5 c1_i32_88
  let v113 : BitVec 32 := Scalar.addi v111 v112
  v113.toNat
def k0_dev5 (d0 : Dev nD) : Nat :=
  let c0_i32_99 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_98 : BitVec 32 := 2#32
  let v124 : BitVec 32 := Scalar.muli v2 c2_i32_98
  let v125 : BitVec 32 := Scalar.addi c0_i32_99 v124
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_100 : BitVec 32 := 1#32
  let v126 : BitVec 32 := Scalar.muli v7 c1_i32_100
  let v127 : BitVec 32 := Scalar.addi v125 v126
  v127.toNat
def k0_dev6 (d0 : Dev nD) : Nat :=
  let c0_i32_111 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_110 : BitVec 32 := 2#32
  let v138 : BitVec 32 := Scalar.muli v8 c2_i32_110
  let v139 : BitVec 32 := Scalar.addi c0_i32_111 v138
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_112 : BitVec 32 := 1#32
  let v140 : BitVec 32 := Scalar.muli v9 c1_i32_112
  let v141 : BitVec 32 := Scalar.addi v139 v140
  v141.toNat
def k0_off9 (d0 : Dev nD) : Fin 3 → Nat :=
  let c2_i32_117 : BitVec 32 := 2#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let v150 : BitVec 32 := Scalar.muli c2_i32_117 v6
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v151 : BitVec 32 := Scalar.addi v150 v5
  let c0_i32_127 : BitVec 32 := 0#32
  let c0_i32_128 : BitVec 32 := 0#32
  ![v151.toNat, 0, 0]
def k0_dev7 (d0 : Dev nD) : Nat :=
  let c0_i32_123 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_122 : BitVec 32 := 2#32
  let v152 : BitVec 32 := Scalar.muli v6 c2_i32_122
  let v153 : BitVec 32 := Scalar.addi c0_i32_123 v152
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_124 : BitVec 32 := 1#32
  let v154 : BitVec 32 := Scalar.muli v5 c1_i32_124
  let v155 : BitVec 32 := Scalar.addi v153 v154
  v155.toNat
def k0_off10 (d0 : Dev nD) : Fin 3 → Nat :=
  let c2_i32_129 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v164 : BitVec 32 := Scalar.muli c2_i32_129 v2
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let v165 : BitVec 32 := Scalar.addi v164 v7
  let c0_i32_139 : BitVec 32 := 0#32
  let c0_i32_140 : BitVec 32 := 0#32
  ![v165.toNat, 0, 0]
def k0_dev8 (d0 : Dev nD) : Nat :=
  let c0_i32_135 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_134 : BitVec 32 := 2#32
  let v166 : BitVec 32 := Scalar.muli v2 c2_i32_134
  let v167 : BitVec 32 := Scalar.addi c0_i32_135 v166
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_136 : BitVec 32 := 1#32
  let v168 : BitVec 32 := Scalar.muli v7 c1_i32_136
  let v169 : BitVec 32 := Scalar.addi v167 v168
  v169.toNat
def k0_off11 (d0 : Dev nD) : Fin 3 → Nat :=
  let c2_i32_141 : BitVec 32 := 2#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let v178 : BitVec 32 := Scalar.muli c2_i32_141 v8
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let v179 : BitVec 32 := Scalar.addi v178 v9
  let c0_i32_151 : BitVec 32 := 0#32
  let c0_i32_152 : BitVec 32 := 0#32
  ![v179.toNat, 0, 0]
def k0_dev9 (d0 : Dev nD) : Nat :=
  let c0_i32_147 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_146 : BitVec 32 := 2#32
  let v180 : BitVec 32 := Scalar.muli v8 c2_i32_146
  let v181 : BitVec 32 := Scalar.addi c0_i32_147 v180
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_148 : BitVec 32 := 1#32
  let v182 : BitVec 32 := Scalar.muli v9 c1_i32_148
  let v183 : BitVec 32 := Scalar.addi v181 v182
  v183.toNat
def k0_off12 (d0 : Dev nD) : Fin 3 → Nat :=
  let c2_i32_153 : BitVec 32 := 2#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let v192 : BitVec 32 := Scalar.muli c2_i32_153 v6
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v193 : BitVec 32 := Scalar.addi v192 v5
  let c0_i32_163 : BitVec 32 := 0#32
  let c0_i32_164 : BitVec 32 := 0#32
  ![v193.toNat, 0, 0]
def k0_dev10 (d0 : Dev nD) : Nat :=
  let c0_i32_159 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_158 : BitVec 32 := 2#32
  let v194 : BitVec 32 := Scalar.muli v6 c2_i32_158
  let v195 : BitVec 32 := Scalar.addi c0_i32_159 v194
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_160 : BitVec 32 := 1#32
  let v196 : BitVec 32 := Scalar.muli v5 c1_i32_160
  let v197 : BitVec 32 := Scalar.addi v195 v196
  v197.toNat
def k0_off13 (d0 : Dev nD) : Fin 3 → Nat :=
  let c2_i32_165 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v206 : BitVec 32 := Scalar.muli c2_i32_165 v2
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let v207 : BitVec 32 := Scalar.addi v206 v7
  let c0_i32_175 : BitVec 32 := 0#32
  let c0_i32_176 : BitVec 32 := 0#32
  ![v207.toNat, 0, 0]
def k0_dev11 (d0 : Dev nD) : Nat :=
  let c0_i32_171 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_170 : BitVec 32 := 2#32
  let v208 : BitVec 32 := Scalar.muli v2 c2_i32_170
  let v209 : BitVec 32 := Scalar.addi c0_i32_171 v208
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_172 : BitVec 32 := 1#32
  let v210 : BitVec 32 := Scalar.muli v7 c1_i32_172
  let v211 : BitVec 32 := Scalar.addi v209 v210
  v211.toNat
def k0_off14 (d0 : Dev nD) : Fin 3 → Nat :=
  let c2_i32_177 : BitVec 32 := 2#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let v220 : BitVec 32 := Scalar.muli c2_i32_177 v8
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let v221 : BitVec 32 := Scalar.addi v220 v9
  let c0_i32_187 : BitVec 32 := 0#32
  let c0_i32_188 : BitVec 32 := 0#32
  ![v221.toNat, 0, 0]
def k0_dev12 (d0 : Dev nD) : Nat :=
  let c0_i32_183 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_182 : BitVec 32 := 2#32
  let v222 : BitVec 32 := Scalar.muli v8 c2_i32_182
  let v223 : BitVec 32 := Scalar.addi c0_i32_183 v222
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_184 : BitVec 32 := 1#32
  let v224 : BitVec 32 := Scalar.muli v9 c1_i32_184
  let v225 : BitVec 32 := Scalar.addi v223 v224
  v225.toNat
def k0_off15 (d0 : Dev nD) : Fin 3 → Nat :=
  let c2_i32_189 : BitVec 32 := 2#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let v234 : BitVec 32 := Scalar.muli c2_i32_189 v6
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v235 : BitVec 32 := Scalar.addi v234 v5
  let c0_i32_199 : BitVec 32 := 0#32
  let c0_i32_200 : BitVec 32 := 0#32
  ![v235.toNat, 0, 0]
def k0_dev13 (d0 : Dev nD) : Nat :=
  let c0_i32_195 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_194 : BitVec 32 := 2#32
  let v236 : BitVec 32 := Scalar.muli v6 c2_i32_194
  let v237 : BitVec 32 := Scalar.addi c0_i32_195 v236
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_196 : BitVec 32 := 1#32
  let v238 : BitVec 32 := Scalar.muli v5 c1_i32_196
  let v239 : BitVec 32 := Scalar.addi v237 v238
  v239.toNat
def k0_off16 (d0 : Dev nD) : Fin 3 → Nat :=
  let c2_i32_201 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v248 : BitVec 32 := Scalar.muli c2_i32_201 v2
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let v249 : BitVec 32 := Scalar.addi v248 v7
  let c0_i32_211 : BitVec 32 := 0#32
  let c0_i32_212 : BitVec 32 := 0#32
  ![v249.toNat, 0, 0]
def k0_dev14 (d0 : Dev nD) : Nat :=
  let c0_i32_207 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_206 : BitVec 32 := 2#32
  let v250 : BitVec 32 := Scalar.muli v2 c2_i32_206
  let v251 : BitVec 32 := Scalar.addi c0_i32_207 v250
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_208 : BitVec 32 := 1#32
  let v252 : BitVec 32 := Scalar.muli v7 c1_i32_208
  let v253 : BitVec 32 := Scalar.addi v251 v252
  v253.toNat
def k0_off17 (d0 : Dev nD) : Fin 3 → Nat :=
  let c2_i32_213 : BitVec 32 := 2#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let v262 : BitVec 32 := Scalar.muli c2_i32_213 v8
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let v263 : BitVec 32 := Scalar.addi v262 v9
  let c0_i32_223 : BitVec 32 := 0#32
  let c0_i32_224 : BitVec 32 := 0#32
  ![v263.toNat, 0, 0]
def k0_dev15 (d0 : Dev nD) : Nat :=
  let c0_i32_219 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_218 : BitVec 32 := 2#32
  let v264 : BitVec 32 := Scalar.muli v8 c2_i32_218
  let v265 : BitVec 32 := Scalar.addi c0_i32_219 v264
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_220 : BitVec 32 := 1#32
  let v266 : BitVec 32 := Scalar.muli v9 c1_i32_220
  let v267 : BitVec 32 := Scalar.addi v265 v266
  v267.toNat
def k0_off18 (d0 : Dev nD) : Fin 3 → Nat :=
  let c2_i32_225 : BitVec 32 := 2#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let v276 : BitVec 32 := Scalar.muli c2_i32_225 v6
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v277 : BitVec 32 := Scalar.addi v276 v5
  let c0_i32_235 : BitVec 32 := 0#32
  let c0_i32_236 : BitVec 32 := 0#32
  ![v277.toNat, 0, 0]
def k0_dev16 (d0 : Dev nD) : Nat :=
  let c0_i32_231 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_230 : BitVec 32 := 2#32
  let v278 : BitVec 32 := Scalar.muli v6 c2_i32_230
  let v279 : BitVec 32 := Scalar.addi c0_i32_231 v278
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_232 : BitVec 32 := 1#32
  let v280 : BitVec 32 := Scalar.muli v5 c1_i32_232
  let v281 : BitVec 32 := Scalar.addi v279 v280
  v281.toNat
def k0_off19 (d0 : Dev nD) : Fin 3 → Nat :=
  let c2_i32_237 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v290 : BitVec 32 := Scalar.muli c2_i32_237 v2
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let v291 : BitVec 32 := Scalar.addi v290 v7
  let c0_i32_247 : BitVec 32 := 0#32
  let c0_i32_248 : BitVec 32 := 0#32
  ![v291.toNat, 0, 0]
def k0_dev17 (d0 : Dev nD) : Nat :=
  let c0_i32_243 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_242 : BitVec 32 := 2#32
  let v292 : BitVec 32 := Scalar.muli v2 c2_i32_242
  let v293 : BitVec 32 := Scalar.addi c0_i32_243 v292
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_244 : BitVec 32 := 1#32
  let v294 : BitVec 32 := Scalar.muli v7 c1_i32_244
  let v295 : BitVec 32 := Scalar.addi v293 v294
  v295.toNat
def k0_off20 (d0 : Dev nD) : Fin 3 → Nat :=
  let c2_i32_249 : BitVec 32 := 2#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let v304 : BitVec 32 := Scalar.muli c2_i32_249 v8
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let v305 : BitVec 32 := Scalar.addi v304 v9
  let c0_i32_259 : BitVec 32 := 0#32
  let c0_i32_260 : BitVec 32 := 0#32
  ![v305.toNat, 0, 0]
def k0_dev18 (d0 : Dev nD) : Nat :=
  let c0_i32_255 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_254 : BitVec 32 := 2#32
  let v306 : BitVec 32 := Scalar.muli v8 c2_i32_254
  let v307 : BitVec 32 := Scalar.addi c0_i32_255 v306
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_256 : BitVec 32 := 1#32
  let v308 : BitVec 32 := Scalar.muli v9 c1_i32_256
  let v309 : BitVec 32 := Scalar.addi v307 v308
  v309.toNat
def k0_dev19 (d0 : Dev nD) : Nat :=
  let c0_i32_267 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_266 : BitVec 32 := 2#32
  let v320 : BitVec 32 := Scalar.muli v6 c2_i32_266
  let v321 : BitVec 32 := Scalar.addi c0_i32_267 v320
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_268 : BitVec 32 := 1#32
  let v322 : BitVec 32 := Scalar.muli v5 c1_i32_268
  let v323 : BitVec 32 := Scalar.addi v321 v322
  v323.toNat
def k0_dev20 (d0 : Dev nD) : Nat :=
  let c0_i32_279 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_278 : BitVec 32 := 2#32
  let v334 : BitVec 32 := Scalar.muli v2 c2_i32_278
  let v335 : BitVec 32 := Scalar.addi c0_i32_279 v334
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_280 : BitVec 32 := 1#32
  let v336 : BitVec 32 := Scalar.muli v7 c1_i32_280
  let v337 : BitVec 32 := Scalar.addi v335 v336
  v337.toNat
def k0_dev21 (d0 : Dev nD) : Nat :=
  let c0_i32_291 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_290 : BitVec 32 := 2#32
  let v348 : BitVec 32 := Scalar.muli v8 c2_i32_290
  let v349 : BitVec 32 := Scalar.addi c0_i32_291 v348
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_292 : BitVec 32 := 1#32
  let v350 : BitVec 32 := Scalar.muli v9 c1_i32_292
  let v351 : BitVec 32 := Scalar.addi v349 v350
  v351.toNat
def k0_dev22 (d0 : Dev nD) : Nat :=
  let c0_i32_303 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_302 : BitVec 32 := 2#32
  let v362 : BitVec 32 := Scalar.muli v6 c2_i32_302
  let v363 : BitVec 32 := Scalar.addi c0_i32_303 v362
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_304 : BitVec 32 := 1#32
  let v364 : BitVec 32 := Scalar.muli v5 c1_i32_304
  let v365 : BitVec 32 := Scalar.addi v363 v364
  v365.toNat
def k0_dev23 (d0 : Dev nD) : Nat :=
  let c0_i32_315 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_314 : BitVec 32 := 2#32
  let v376 : BitVec 32 := Scalar.muli v2 c2_i32_314
  let v377 : BitVec 32 := Scalar.addi c0_i32_315 v376
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_316 : BitVec 32 := 1#32
  let v378 : BitVec 32 := Scalar.muli v7 c1_i32_316
  let v379 : BitVec 32 := Scalar.addi v377 v378
  v379.toNat
def k0_dev24 (d0 : Dev nD) : Nat :=
  let c0_i32_327 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_326 : BitVec 32 := 2#32
  let v390 : BitVec 32 := Scalar.muli v8 c2_i32_326
  let v391 : BitVec 32 := Scalar.addi c0_i32_327 v390
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_328 : BitVec 32 := 1#32
  let v392 : BitVec 32 := Scalar.muli v9 c1_i32_328
  let v393 : BitVec 32 := Scalar.addi v391 v392
  v393.toNat
def k0_dev25 (d0 : Dev nD) : Nat :=
  let c0_i32_339 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_338 : BitVec 32 := 2#32
  let v404 : BitVec 32 := Scalar.muli v6 c2_i32_338
  let v405 : BitVec 32 := Scalar.addi c0_i32_339 v404
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_340 : BitVec 32 := 1#32
  let v406 : BitVec 32 := Scalar.muli v5 c1_i32_340
  let v407 : BitVec 32 := Scalar.addi v405 v406
  v407.toNat
def k0_dev26 (d0 : Dev nD) : Nat :=
  let c0_i32_351 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_350 : BitVec 32 := 2#32
  let v418 : BitVec 32 := Scalar.muli v2 c2_i32_350
  let v419 : BitVec 32 := Scalar.addi c0_i32_351 v418
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_352 : BitVec 32 := 1#32
  let v420 : BitVec 32 := Scalar.muli v7 c1_i32_352
  let v421 : BitVec 32 := Scalar.addi v419 v420
  v421.toNat
def k0_dev27 (d0 : Dev nD) : Nat :=
  let c0_i32_363 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_362 : BitVec 32 := 2#32
  let v432 : BitVec 32 := Scalar.muli v8 c2_i32_362
  let v433 : BitVec 32 := Scalar.addi c0_i32_363 v432
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_364 : BitVec 32 := 1#32
  let v434 : BitVec 32 := Scalar.muli v9 c1_i32_364
  let v435 : BitVec 32 := Scalar.addi v433 v434
  v435.toNat
-- ==== ChipSwapRefIdeal.lean ====
abbrev S16x1024x1408 : Shape := ⟨3, ![16, 1024, 1408]⟩
abbrev S16x704x2048 : Shape := ⟨3, ![16, 704, 2048]⟩
abbrev S16x1024x1024 : Shape := ⟨3, ![16, 1024, 1024]⟩
abbrev S16x128x1024 : Shape := ⟨3, ![16, 128, 1024]⟩
abbrev S16x256x2048 : Shape := ⟨3, ![16, 256, 2048]⟩
abbrev S4x4x1024x1408 : Shape := ⟨4, ![4, 4, 1024, 1408]⟩
abbrev S4x4x704x2048 : Shape := ⟨4, ![4, 4, 704, 2048]⟩
abbrev S4x4x1024x1024 : Shape := ⟨4, ![4, 4, 1024, 1024]⟩
abbrev S4x4x128x1024 : Shape := ⟨4, ![4, 4, 128, 1024]⟩
abbrev S4x4x256x2048 : Shape := ⟨4, ![4, 4, 256, 2048]⟩

abbrev nBuf : Space → Nat
  | .hbm => 36
  | .vmem => 0
  | .smem => 0
  | _ => 0

abbrev bufTy : (tb : Table) → Fin (tcTables nBuf tb) → BufTy
  | .hbm, ⟨0, _⟩ => ⟨S16x1024x1408, .bf16⟩
  | .hbm, ⟨1, _⟩ => ⟨S16x1024x1408, .bf16⟩
  | .hbm, ⟨2, _⟩ => ⟨S16x704x2048, .bf16⟩
  | .hbm, ⟨3, _⟩ => ⟨S16x1024x1024, .bf16⟩
  | .hbm, ⟨4, _⟩ => ⟨S16x128x1024, .bf16⟩
  | .hbm, ⟨5, _⟩ => ⟨S16x256x2048, .bf16⟩
  | .hbm, ⟨6, _⟩ => ⟨S16x1024x1408, .bf16⟩
  | .hbm, ⟨7, _⟩ => ⟨S16x1024x1408, .bf16⟩
  | .hbm, ⟨8, _⟩ => ⟨S16x704x2048, .bf16⟩
  | .hbm, ⟨9, _⟩ => ⟨S4x4x1024x1408, .bf16⟩
  | .hbm, ⟨10, _⟩ => ⟨S4x4x1024x1408, .bf16⟩
  | .hbm, ⟨11, _⟩ => ⟨S16x1024x1408, .bf16⟩
  | .hbm, ⟨12, _⟩ => ⟨S4x4x1024x1408, .bf16⟩
  | .hbm, ⟨13, _⟩ => ⟨S4x4x1024x1408, .bf16⟩
  | .hbm, ⟨14, _⟩ => ⟨S16x1024x1408, .bf16⟩
  | .hbm, ⟨15, _⟩ => ⟨S4x4x704x2048, .bf16⟩
  | .hbm, ⟨16, _⟩ => ⟨S4x4x704x2048, .bf16⟩
  | .hbm, ⟨17, _⟩ => ⟨S16x704x2048, .bf16⟩
  | .hbm, ⟨18, _⟩ => ⟨S4x4x1024x1024, .bf16⟩
  | .hbm, ⟨19, _⟩ => ⟨S4x4x1024x1024, .bf16⟩
  | .hbm, ⟨20, _⟩ => ⟨S16x1024x1024, .bf16⟩
  | .hbm, ⟨21, _⟩ => ⟨S4x4x128x1024, .bf16⟩
  | .hbm, ⟨22, _⟩ => ⟨S4x4x128x1024, .bf16⟩
  | .hbm, ⟨23, _⟩ => ⟨S16x128x1024, .bf16⟩
  | .hbm, ⟨24, _⟩ => ⟨S4x4x256x2048, .bf16⟩
  | .hbm, ⟨25, _⟩ => ⟨S4x4x256x2048, .bf16⟩
  | .hbm, ⟨26, _⟩ => ⟨S16x256x2048, .bf16⟩
  | .hbm, ⟨27, _⟩ => ⟨S4x4x1024x1408, .bf16⟩
  | .hbm, ⟨28, _⟩ => ⟨S4x4x1024x1408, .bf16⟩
  | .hbm, ⟨29, _⟩ => ⟨S16x1024x1408, .bf16⟩
  | .hbm, ⟨30, _⟩ => ⟨S4x4x1024x1408, .bf16⟩
  | .hbm, ⟨31, _⟩ => ⟨S4x4x1024x1408, .bf16⟩
  | .hbm, ⟨32, _⟩ => ⟨S16x1024x1408, .bf16⟩
  | .hbm, ⟨33, _⟩ => ⟨S4x4x704x2048, .bf16⟩
  | .hbm, ⟨34, _⟩ => ⟨S4x4x704x2048, .bf16⟩
  | .hbm, ⟨35, _⟩ => ⟨S16x704x2048, .bf16⟩
  | _, _ => ⟨S16x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== JoinHalves.lean ====
abbrev S1024x1408 : Shape := ⟨2, ![1024, 1408]⟩
abbrev S704x2048 : Shape := ⟨2, ![704, 2048]⟩
abbrev S1024x1024 : Shape := ⟨2, ![1024, 1024]⟩
abbrev S128x1024 : Shape := ⟨2, ![128, 1024]⟩
abbrev S256x2048 : Shape := ⟨2, ![256, 2048]⟩
abbrev S2048x1408 : Shape := ⟨2, ![2048, 1408]⟩
abbrev S1408x2048 : Shape := ⟨2, ![1408, 2048]⟩
abbrev S2048x1024 : Shape := ⟨2, ![2048, 1024]⟩
abbrev S256x1024 : Shape := ⟨2, ![256, 1024]⟩
abbrev S512x2048 : Shape := ⟨2, ![512, 2048]⟩
abbrev S9 : Shape := ⟨1, ![9]⟩
abbrev S1 : Shape := ⟨1, ![1]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S704x2048, .f32⟩
  | .hbm, ⟨3, _⟩ => ⟨S1024x1024, .f32⟩
  | .hbm, ⟨4, _⟩ => ⟨S128x1024, .f32⟩
  | .hbm, ⟨5, _⟩ => ⟨S256x2048, .f32⟩
  | .hbm, ⟨6, _⟩ => ⟨S1024x1408, .f32⟩
  | .hbm, ⟨7, _⟩ => ⟨S1024x1408, .f32⟩
  | .hbm, ⟨8, _⟩ => ⟨S704x2048, .f32⟩
  | .hbm, ⟨9, _⟩ => ⟨S2048x1408, .f32⟩
  | .hbm, ⟨10, _⟩ => ⟨S2048x1408, .f32⟩
  | .hbm, ⟨11, _⟩ => ⟨S1408x2048, .f32⟩
  | .hbm, ⟨12, _⟩ => ⟨S2048x1024, .f32⟩
  | .hbm, ⟨13, _⟩ => ⟨S256x1024, .f32⟩
  | .hbm, ⟨14, _⟩ => ⟨S512x2048, .f32⟩
  | .hbm, ⟨15, _⟩ => ⟨S2048x1408, .f32⟩
  | .hbm, ⟨16, _⟩ => ⟨S2048x1408, .f32⟩
  | .hbm, ⟨17, _⟩ => ⟨S1408x2048, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev main_v1_7 : Ref sig .tc := ⟨.hbm, 16, rfl⟩
abbrev main_v1_8 : Ref sig .tc := ⟨.hbm, 17, rfl⟩

abbrev nD : Nat := 2
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1024_i32 : BitVec 32 := 1024#32
  let v3 : BitVec 32 := Scalar.muli v2 c1024_i32
  let c0_i32_0 : BitVec 32 := 0#32
  ![v3.toNat, 0]
def k0_dev1 (d0 : Dev nD) : Nat :=
  let c0_i32_6 : BitVec 32 := 0#32
  let c1_i32_2 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v8 : BitVec 32 := Scalar.subi c1_i32_2 v2
  let c1_i32_5 : BitVec 32 := 1#32
  let v9 : BitVec 32 := Scalar.muli v8 c1_i32_5
  let v10 : BitVec 32 := Scalar.addi c0_i32_6 v9
  v10.toNat
def k0_dev2 (d0 : Dev nD) : Nat :=
  let c0_i32_16 : BitVec 32 := 0#32
  let c1_i32_12 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v21 : BitVec 32 := Scalar.subi c1_i32_12 v2
  let c1_i32_15 : BitVec 32 := 1#32
  let v22 : BitVec 32 := Scalar.muli v21 c1_i32_15
  let v23 : BitVec 32 := Scalar.addi c0_i32_16 v22
  v23.toNat
def k0_off2 (d0 : Dev nD) : Fin 2 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c704_i32 : BitVec 32 := 704#32
  let v29 : BitVec 32 := Scalar.muli v2 c704_i32
  let c0_i32_19 : BitVec 32 := 0#32
  ![v29.toNat, 0]
def k0_dev3 (d0 : Dev nD) : Nat :=
  let c0_i32_25 : BitVec 32 := 0#32
  let c1_i32_21 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v34 : BitVec 32 := Scalar.subi c1_i32_21 v2
  let c1_i32_24 : BitVec 32 := 1#32
  let v35 : BitVec 32 := Scalar.muli v34 c1_i32_24
  let v36 : BitVec 32 := Scalar.addi c0_i32_25 v35
  v36.toNat
def k0_off3 (d0 : Dev nD) : Fin 2 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1024_i32_27 : BitVec 32 := 1024#32
  let v42 : BitVec 32 := Scalar.muli v2 c1024_i32_27
  let c0_i32_28 : BitVec 32 := 0#32
  ![v42.toNat, 0]
def k0_dev4 (d0 : Dev nD) : Nat :=
  let c0_i32_34 : BitVec 32 := 0#32
  let c1_i32_30 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v47 : BitVec 32 := Scalar.subi c1_i32_30 v2
  let c1_i32_33 : BitVec 32 := 1#32
  let v48 : BitVec 32 := Scalar.muli v47 c1_i32_33
  let v49 : BitVec 32 := Scalar.addi c0_i32_34 v48
  v49.toNat
def k0_off4 (d0 : Dev nD) : Fin 2 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c128_i32 : BitVec 32 := 128#32
  let v55 : BitVec 32 := Scalar.muli v2 c128_i32
  let c0_i32_36 : BitVec 32 := 0#32
  ![v55.toNat, 0]
def k0_dev5 (d0 : Dev nD) : Nat :=
  let c0_i32_42 : BitVec 32 := 0#32
  let c1_i32_38 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v60 : BitVec 32 := Scalar.subi c1_i32_38 v2
  let c1_i32_41 : BitVec 32 := 1#32
  let v61 : BitVec 32 := Scalar.muli v60 c1_i32_41
  let v62 : BitVec 32 := Scalar.addi c0_i32_42 v61
  v62.toNat
def k0_off5 (d0 : Dev nD) : Fin 2 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c256_i32 : BitVec 32 := 256#32
  let v68 : BitVec 32 := Scalar.muli v2 c256_i32
  let c0_i32_44 : BitVec 32 := 0#32
  ![v68.toNat, 0]
def k0_dev6 (d0 : Dev nD) : Nat :=
  let c0_i32_50 : BitVec 32 := 0#32
  let c1_i32_46 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v73 : BitVec 32 := Scalar.subi c1_i32_46 v2
  let c1_i32_49 : BitVec 32 := 1#32
  let v74 : BitVec 32 := Scalar.muli v73 c1_i32_49
  let v75 : BitVec 32 := Scalar.addi c0_i32_50 v74
  v75.toNat
def k0_dev7 (d0 : Dev nD) : Nat :=
  let c0_i32_59 : BitVec 32 := 0#32
  let c1_i32_55 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v86 : BitVec 32 := Scalar.subi c1_i32_55 v2
  let c1_i32_58 : BitVec 32 := 1#32
  let v87 : BitVec 32 := Scalar.muli v86 c1_i32_58
  let v88 : BitVec 32 := Scalar.addi c0_i32_59 v87
  v88.toNat
def k0_dev8 (d0 : Dev nD) : Nat :=
  let c0_i32_68 : BitVec 32 := 0#32
  let c1_i32_64 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v99 : BitVec 32 := Scalar.subi c1_i32_64 v2
  let c1_i32_67 : BitVec 32 := 1#32
  let v100 : BitVec 32 := Scalar.muli v99 c1_i32_67
  let v101 : BitVec 32 := Scalar.addi c0_i32_68 v100
  v101.toNat
def k0_dev9 (d0 : Dev nD) : Nat :=
  let c0_i32_77 : BitVec 32 := 0#32
  let c1_i32_73 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v112 : BitVec 32 := Scalar.subi c1_i32_73 v2
  let c1_i32_76 : BitVec 32 := 1#32
  let v113 : BitVec 32 := Scalar.muli v112 c1_i32_76
  let v114 : BitVec 32 := Scalar.addi c0_i32_77 v113
  v114.toNat
def k0_off6 (d0 : Dev nD) : Fin 2 → Nat :=
  let c1_i32_85 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v126 : BitVec 32 := Scalar.subi c1_i32_85 v2
  let c1024_i32_86 : BitVec 32 := 1024#32
  let v127 : BitVec 32 := Scalar.muli v126 c1024_i32_86
  let c0_i32_92 : BitVec 32 := 0#32
  ![v127.toNat, 0]
def k0_off7 (d0 : Dev nD) : Fin 2 → Nat :=
  let c1_i32_115 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v156 : BitVec 32 := Scalar.subi c1_i32_115 v2
  let c704_i32_116 : BitVec 32 := 704#32
  let v157 : BitVec 32 := Scalar.muli v156 c704_i32_116
  let c0_i32_122 : BitVec 32 := 0#32
  ![v157.toNat, 0]
def k0_off8 (d0 : Dev nD) : Fin 2 → Nat :=
  let c1_i32_130 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v171 : BitVec 32 := Scalar.subi c1_i32_130 v2
  let c1024_i32_131 : BitVec 32 := 1024#32
  let v172 : BitVec 32 := Scalar.muli v171 c1024_i32_131
  let c0_i32_137 : BitVec 32 := 0#32
  ![v172.toNat, 0]
def k0_off9 (d0 : Dev nD) : Fin 2 → Nat :=
  let c1_i32_145 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v186 : BitVec 32 := Scalar.subi c1_i32_145 v2
  let c128_i32_146 : BitVec 32 := 128#32
  let v187 : BitVec 32 := Scalar.muli v186 c128_i32_146
  let c0_i32_152 : BitVec 32 := 0#32
  ![v187.toNat, 0]
def k0_off10 (d0 : Dev nD) : Fin 2 → Nat :=
  let c1_i32_160 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v201 : BitVec 32 := Scalar.subi c1_i32_160 v2
  let c256_i32_161 : BitVec 32 := 256#32
  let v202 : BitVec 32 := Scalar.muli v201 c256_i32_161
  let c0_i32_167 : BitVec 32 := 0#32
  ![v202.toNat, 0]
-- ==== JoinHalvesRefIdeal.lean ====
abbrev S2048x1408 : Shape := ⟨2, ![2048, 1408]⟩
abbrev S1408x2048 : Shape := ⟨2, ![1408, 2048]⟩
abbrev S2048x1024 : Shape := ⟨2, ![2048, 1024]⟩
abbrev S256x1024 : Shape := ⟨2, ![256, 1024]⟩
abbrev S512x2048 : Shape := ⟨2, ![512, 2048]⟩
abbrev S4096x1408 : Shape := ⟨2, ![4096, 1408]⟩
abbrev S2816x2048 : Shape := ⟨2, ![2816, 2048]⟩
abbrev S4096x1024 : Shape := ⟨2, ![4096, 1024]⟩
abbrev S512x1024 : Shape := ⟨2, ![512, 1024]⟩
abbrev S1024x2048 : Shape := ⟨2, ![1024, 2048]⟩

abbrev nBuf : Space → Nat
  | .hbm => 18
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S1408x2048, .f32⟩
  | .hbm, ⟨3, _⟩ => ⟨S2048x1024, .f32⟩
  | .hbm, ⟨4, _⟩ => ⟨S256x1024, .f32⟩
  | .hbm, ⟨5, _⟩ => ⟨S512x2048, .f32⟩
  | .hbm, ⟨6, _⟩ => ⟨S2048x1408, .f32⟩
  | .hbm, ⟨7, _⟩ => ⟨S2048x1408, .f32⟩
  | .hbm, ⟨8, _⟩ => ⟨S1408x2048, .f32⟩
  | .hbm, ⟨9, _⟩ => ⟨S4096x1408, .f32⟩
  | .hbm, ⟨10, _⟩ => ⟨S4096x1408, .f32⟩
  | .hbm, ⟨11, _⟩ => ⟨S2816x2048, .f32⟩
  | .hbm, ⟨12, _⟩ => ⟨S4096x1024, .f32⟩
  | .hbm, ⟨13, _⟩ => ⟨S512x1024, .f32⟩
  | .hbm, ⟨14, _⟩ => ⟨S1024x2048, .f32⟩
  | .hbm, ⟨15, _⟩ => ⟨S4096x1408, .f32⟩
  | .hbm, ⟨16, _⟩ => ⟨S4096x1408, .f32⟩
  | .hbm, ⟨17, _⟩ => ⟨S2816x2048, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩

abbrev nD : Nat := 1
abbrev τ : Topo := Topo.v7x

variable {F : FTy → Type} [FloatOps F]
-- ==== ChipGather.lean ====
abbrev S2048x1408 : Shape := ⟨2, ![2048, 1408]⟩
abbrev S1408x2048 : Shape := ⟨2, ![1408, 2048]⟩
abbrev S2048x1024 : Shape := ⟨2, ![2048, 1024]⟩
abbrev S256x1024 : Shape := ⟨2, ![256, 1024]⟩
abbrev S512x2048 : Shape := ⟨2, ![512, 2048]⟩
abbrev S4x2048x1408 : Shape := ⟨3, ![4, 2048, 1408]⟩
abbrev S4x1408x2048 : Shape := ⟨3, ![4, 1408, 2048]⟩
abbrev S4x2048x1024 : Shape := ⟨3, ![4, 2048, 1024]⟩
abbrev S4x256x1024 : Shape := ⟨3, ![4, 256, 1024]⟩
abbrev S4x512x2048 : Shape := ⟨3, ![4, 512, 2048]⟩
abbrev S9x6 : Shape := ⟨2, ![9, 6]⟩
abbrev S9 : Shape := ⟨1, ![9]⟩
abbrev S1 : Shape := ⟨1, ![1]⟩
abbrev S_ : Shape := ⟨0, ![]⟩
abbrev S1x2048x1408 : Shape := ⟨3, ![1, 2048, 1408]⟩
abbrev S1x1408x2048 : Shape := ⟨3, ![1, 1408, 2048]⟩
abbrev S1x2048x1024 : Shape := ⟨3, ![1, 2048, 1024]⟩
abbrev S1x256x1024 : Shape := ⟨3, ![1, 256, 1024]⟩
abbrev S1x512x2048 : Shape := ⟨3, ![1, 512, 2048]⟩
abbrev S1x1 : Shape := ⟨2, ![1, 1]⟩
abbrev S1024x1408 : Shape := ⟨2, ![1024, 1408]⟩
abbrev S1x1024x1408 : Shape := ⟨3, ![1, 1024, 1408]⟩
abbrev S704x2048 : Shape := ⟨2, ![704, 2048]⟩
abbrev S1x704x2048 : Shape := ⟨3, ![1, 704, 2048]⟩
abbrev S1024x1024 : Shape := ⟨2, ![1024, 1024]⟩
abbrev S1x1024x1024 : Shape := ⟨3, ![1, 1024, 1024]⟩
abbrev S128x1024 : Shape := ⟨2, ![128, 1024]⟩
abbrev S1x128x1024 : Shape := ⟨3, ![1, 128, 1024]⟩
abbrev S256x2048 : Shape := ⟨2, ![256, 2048]⟩
abbrev S1x256x2048 : Shape := ⟨3, ![1, 256, 2048]⟩

abbrev nBuf : Space → Nat
  | .hbm => 18
  | .vmem => 0
  | .smem => 0
  | _ => 0

abbrev bufTy : (tb : Table) → Fin (tcTables nBuf tb) → BufTy
  | .hbm, ⟨0, _⟩ => ⟨S2048x1408, .bf16⟩
  | .hbm, ⟨1, _⟩ => ⟨S2048x1408, .bf16⟩
  | .hbm, ⟨2, _⟩ => ⟨S1408x2048, .bf16⟩
  | .hbm, ⟨3, _⟩ => ⟨S2048x1024, .bf16⟩
  | .hbm, ⟨4, _⟩ => ⟨S256x1024, .bf16⟩
  | .hbm, ⟨5, _⟩ => ⟨S512x2048, .bf16⟩
  | .hbm, ⟨6, _⟩ => ⟨S2048x1408, .bf16⟩
  | .hbm, ⟨7, _⟩ => ⟨S2048x1408, .bf16⟩
  | .hbm, ⟨8, _⟩ => ⟨S1408x2048, .bf16⟩
  | .hbm, ⟨9, _⟩ => ⟨S4x2048x1408, .bf16⟩
  | .hbm, ⟨10, _⟩ => ⟨S4x2048x1408, .bf16⟩
  | .hbm, ⟨11, _⟩ => ⟨S4x1408x2048, .bf16⟩
  | .hbm, ⟨12, _⟩ => ⟨S4x2048x1024, .bf16⟩
  | .hbm, ⟨13, _⟩ => ⟨S4x256x1024, .bf16⟩
  | .hbm, ⟨14, _⟩ => ⟨S4x512x2048, .bf16⟩
  | .hbm, ⟨15, _⟩ => ⟨S4x2048x1408, .bf16⟩
  | .hbm, ⟨16, _⟩ => ⟨S4x2048x1408, .bf16⟩
  | .hbm, ⟨17, _⟩ => ⟨S4x1408x2048, .bf16⟩
  | _, _ => ⟨S2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 117 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | _ => false

abbrev sig : RefSig :=
  ofTc nBuf bufTy 0 117 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev main_v1_7 : Ref sig .tc := ⟨.hbm, 16, rfl⟩
abbrev main_v1_8 : Ref sig .tc := ⟨.hbm, 17, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_9 : BitVec 32 := 0#32
  let c0_i32_10 : BitVec 32 := 0#32
  ![v14.toNat, 0, 0]
def k0_off2 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_15 : BitVec 32 := 0#32
  let c0_i32_16 : BitVec 32 := 0#32
  ![v14.toNat, 0, 0]
def k0_off3 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_17 : BitVec 32 := 0#32
  let c0_i32_18 : BitVec 32 := 0#32
  ![v14.toNat, 0, 0]
def k0_off4 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_20 : BitVec 32 := 0#32
  let c0_i32_21 : BitVec 32 := 0#32
  ![v14.toNat, 0, 0]
def k0_off5 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_22 : BitVec 32 := 0#32
  let c0_i32_23 : BitVec 32 := 0#32
  ![v14.toNat, 0, 0]
def k0_off6 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_30 : BitVec 32 := 1024#32
  let v53 : BitVec 32 := Scalar.muli v8 c1024_i32_30
  let c0_i32_41 : BitVec 32 := 0#32
  ![v53.toNat, 0]
def k0_off7 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_30 : BitVec 32 := 1024#32
  let v53 : BitVec 32 := Scalar.muli v8 c1024_i32_30
  let c0_i32_40 : BitVec 32 := 0#32
  ![v14.toNat, v53.toNat, 0]
def k0_dev1 (d0 : Dev nD) : Nat :=
  let c0_i32_36 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_35 : BitVec 32 := 4#32
  let v54 : BitVec 32 := Scalar.muli v9 c4_i32_35
  let v55 : BitVec 32 := Scalar.addi c0_i32_36 v54
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_37 : BitVec 32 := 2#32
  let v56 : BitVec 32 := Scalar.muli v5 c2_i32_37
  let v57 : BitVec 32 := Scalar.addi v55 v56
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_38 : BitVec 32 := 1#32
  let v58 : BitVec 32 := Scalar.muli v8 c1_i32_38
  let v59 : BitVec 32 := Scalar.addi v57 v58
  v59.toNat
def k0_dev2 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v70 : BitVec 32 := Scalar.muli v2 c4_i32_49
  let v71 : BitVec 32 := Scalar.addi c0_i32_50 v70
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_51 : BitVec 32 := 2#32
  let v72 : BitVec 32 := Scalar.muli v10 c2_i32_51
  let v73 : BitVec 32 := Scalar.addi v71 v72
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v74 : BitVec 32 := Scalar.muli v8 c1_i32_52
  let v75 : BitVec 32 := Scalar.addi v73 v74
  v75.toNat
def k0_dev3 (d0 : Dev nD) : Nat :=
  let c0_i32_64 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_63 : BitVec 32 := 4#32
  let v86 : BitVec 32 := Scalar.muli v11 c4_i32_63
  let v87 : BitVec 32 := Scalar.addi c0_i32_64 v86
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_65 : BitVec 32 := 2#32
  let v88 : BitVec 32 := Scalar.muli v12 c2_i32_65
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_66 : BitVec 32 := 1#32
  let v90 : BitVec 32 := Scalar.muli v8 c1_i32_66
  let v91 : BitVec 32 := Scalar.addi v89 v90
  v91.toNat
def k0_dev4 (d0 : Dev nD) : Nat :=
  let c0_i32_78 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_77 : BitVec 32 := 4#32
  let v102 : BitVec 32 := Scalar.muli v9 c4_i32_77
  let v103 : BitVec 32 := Scalar.addi c0_i32_78 v102
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_79 : BitVec 32 := 2#32
  let v104 : BitVec 32 := Scalar.muli v5 c2_i32_79
  let v105 : BitVec 32 := Scalar.addi v103 v104
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_80 : BitVec 32 := 1#32
  let v106 : BitVec 32 := Scalar.muli v8 c1_i32_80
  let v107 : BitVec 32 := Scalar.addi v105 v106
  v107.toNat
def k0_dev5 (d0 : Dev nD) : Nat :=
  let c0_i32_92 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_91 : BitVec 32 := 4#32
  let v118 : BitVec 32 := Scalar.muli v2 c4_i32_91
  let v119 : BitVec 32 := Scalar.addi c0_i32_92 v118
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_93 : BitVec 32 := 2#32
  let v120 : BitVec 32 := Scalar.muli v10 c2_i32_93
  let v121 : BitVec 32 := Scalar.addi v119 v120
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_94 : BitVec 32 := 1#32
  let v122 : BitVec 32 := Scalar.muli v8 c1_i32_94
  let v123 : BitVec 32 := Scalar.addi v121 v122
  v123.toNat
def k0_dev6 (d0 : Dev nD) : Nat :=
  let c0_i32_106 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_105 : BitVec 32 := 4#32
  let v134 : BitVec 32 := Scalar.muli v11 c4_i32_105
  let v135 : BitVec 32 := Scalar.addi c0_i32_106 v134
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_107 : BitVec 32 := 2#32
  let v136 : BitVec 32 := Scalar.muli v12 c2_i32_107
  let v137 : BitVec 32 := Scalar.addi v135 v136
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_108 : BitVec 32 := 1#32
  let v138 : BitVec 32 := Scalar.muli v8 c1_i32_108
  let v139 : BitVec 32 := Scalar.addi v137 v138
  v139.toNat
def k0_off8 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_113 : BitVec 32 := 704#32
  let v149 : BitVec 32 := Scalar.muli v8 c704_i32_113
  let c0_i32_124 : BitVec 32 := 0#32
  ![v149.toNat, 0]
def k0_off9 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_113 : BitVec 32 := 704#32
  let v149 : BitVec 32 := Scalar.muli v8 c704_i32_113
  let c0_i32_123 : BitVec 32 := 0#32
  ![v14.toNat, v149.toNat, 0]
def k0_dev7 (d0 : Dev nD) : Nat :=
  let c0_i32_119 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_118 : BitVec 32 := 4#32
  let v150 : BitVec 32 := Scalar.muli v9 c4_i32_118
  let v151 : BitVec 32 := Scalar.addi c0_i32_119 v150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_120 : BitVec 32 := 2#32
  let v152 : BitVec 32 := Scalar.muli v5 c2_i32_120
  let v153 : BitVec 32 := Scalar.addi v151 v152
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_121 : BitVec 32 := 1#32
  let v154 : BitVec 32 := Scalar.muli v8 c1_i32_121
  let v155 : BitVec 32 := Scalar.addi v153 v154
  v155.toNat
def k0_dev8 (d0 : Dev nD) : Nat :=
  let c0_i32_133 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_132 : BitVec 32 := 4#32
  let v166 : BitVec 32 := Scalar.muli v2 c4_i32_132
  let v167 : BitVec 32 := Scalar.addi c0_i32_133 v166
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_134 : BitVec 32 := 2#32
  let v168 : BitVec 32 := Scalar.muli v10 c2_i32_134
  let v169 : BitVec 32 := Scalar.addi v167 v168
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_135 : BitVec 32 := 1#32
  let v170 : BitVec 32 := Scalar.muli v8 c1_i32_135
  let v171 : BitVec 32 := Scalar.addi v169 v170
  v171.toNat
def k0_dev9 (d0 : Dev nD) : Nat :=
  let c0_i32_147 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_146 : BitVec 32 := 4#32
  let v182 : BitVec 32 := Scalar.muli v11 c4_i32_146
  let v183 : BitVec 32 := Scalar.addi c0_i32_147 v182
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_148 : BitVec 32 := 2#32
  let v184 : BitVec 32 := Scalar.muli v12 c2_i32_148
  let v185 : BitVec 32 := Scalar.addi v183 v184
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_149 : BitVec 32 := 1#32
  let v186 : BitVec 32 := Scalar.muli v8 c1_i32_149
  let v187 : BitVec 32 := Scalar.addi v185 v186
  v187.toNat
def k0_off10 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_155 : BitVec 32 := 1024#32
  let v197 : BitVec 32 := Scalar.muli v8 c1024_i32_155
  let c0_i32_166 : BitVec 32 := 0#32
  ![v197.toNat, 0]
def k0_off11 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_155 : BitVec 32 := 1024#32
  let v197 : BitVec 32 := Scalar.muli v8 c1024_i32_155
  let c0_i32_165 : BitVec 32 := 0#32
  ![v14.toNat, v197.toNat, 0]
def k0_dev10 (d0 : Dev nD) : Nat :=
  let c0_i32_161 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_160 : BitVec 32 := 4#32
  let v198 : BitVec 32 := Scalar.muli v9 c4_i32_160
  let v199 : BitVec 32 := Scalar.addi c0_i32_161 v198
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_162 : BitVec 32 := 2#32
  let v200 : BitVec 32 := Scalar.muli v5 c2_i32_162
  let v201 : BitVec 32 := Scalar.addi v199 v200
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_163 : BitVec 32 := 1#32
  let v202 : BitVec 32 := Scalar.muli v8 c1_i32_163
  let v203 : BitVec 32 := Scalar.addi v201 v202
  v203.toNat
def k0_dev11 (d0 : Dev nD) : Nat :=
  let c0_i32_175 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_174 : BitVec 32 := 4#32
  let v214 : BitVec 32 := Scalar.muli v2 c4_i32_174
  let v215 : BitVec 32 := Scalar.addi c0_i32_175 v214
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_176 : BitVec 32 := 2#32
  let v216 : BitVec 32 := Scalar.muli v10 c2_i32_176
  let v217 : BitVec 32 := Scalar.addi v215 v216
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_177 : BitVec 32 := 1#32
  let v218 : BitVec 32 := Scalar.muli v8 c1_i32_177
  let v219 : BitVec 32 := Scalar.addi v217 v218
  v219.toNat
def k0_dev12 (d0 : Dev nD) : Nat :=
  let c0_i32_189 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_188 : BitVec 32 := 4#32
  let v230 : BitVec 32 := Scalar.muli v11 c4_i32_188
  let v231 : BitVec 32 := Scalar.addi c0_i32_189 v230
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_190 : BitVec 32 := 2#32
  let v232 : BitVec 32 := Scalar.muli v12 c2_i32_190
  let v233 : BitVec 32 := Scalar.addi v231 v232
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_191 : BitVec 32 := 1#32
  let v234 : BitVec 32 := Scalar.muli v8 c1_i32_191
  let v235 : BitVec 32 := Scalar.addi v233 v234
  v235.toNat
def k0_off12 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_196 : BitVec 32 := 128#32
  let v245 : BitVec 32 := Scalar.muli v8 c128_i32_196
  let c0_i32_207 : BitVec 32 := 0#32
  ![v245.toNat, 0]
def k0_off13 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_196 : BitVec 32 := 128#32
  let v245 : BitVec 32 := Scalar.muli v8 c128_i32_196
  let c0_i32_206 : BitVec 32 := 0#32
  ![v14.toNat, v245.toNat, 0]
def k0_dev13 (d0 : Dev nD) : Nat :=
  let c0_i32_202 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_201 : BitVec 32 := 4#32
  let v246 : BitVec 32 := Scalar.muli v9 c4_i32_201
  let v247 : BitVec 32 := Scalar.addi c0_i32_202 v246
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_203 : BitVec 32 := 2#32
  let v248 : BitVec 32 := Scalar.muli v5 c2_i32_203
  let v249 : BitVec 32 := Scalar.addi v247 v248
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_204 : BitVec 32 := 1#32
  let v250 : BitVec 32 := Scalar.muli v8 c1_i32_204
  let v251 : BitVec 32 := Scalar.addi v249 v250
  v251.toNat
def k0_dev14 (d0 : Dev nD) : Nat :=
  let c0_i32_216 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_215 : BitVec 32 := 4#32
  let v262 : BitVec 32 := Scalar.muli v2 c4_i32_215
  let v263 : BitVec 32 := Scalar.addi c0_i32_216 v262
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_217 : BitVec 32 := 2#32
  let v264 : BitVec 32 := Scalar.muli v10 c2_i32_217
  let v265 : BitVec 32 := Scalar.addi v263 v264
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_218 : BitVec 32 := 1#32
  let v266 : BitVec 32 := Scalar.muli v8 c1_i32_218
  let v267 : BitVec 32 := Scalar.addi v265 v266
  v267.toNat
def k0_dev15 (d0 : Dev nD) : Nat :=
  let c0_i32_230 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_229 : BitVec 32 := 4#32
  let v278 : BitVec 32 := Scalar.muli v11 c4_i32_229
  let v279 : BitVec 32 := Scalar.addi c0_i32_230 v278
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_231 : BitVec 32 := 2#32
  let v280 : BitVec 32 := Scalar.muli v12 c2_i32_231
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_232 : BitVec 32 := 1#32
  let v282 : BitVec 32 := Scalar.muli v8 c1_i32_232
  let v283 : BitVec 32 := Scalar.addi v281 v282
  v283.toNat
def k0_off14 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_237 : BitVec 32 := 256#32
  let v293 : BitVec 32 := Scalar.muli v8 c256_i32_237
  let c0_i32_248 : BitVec 32 := 0#32
  ![v293.toNat, 0]
def k0_off15 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_237 : BitVec 32 := 256#32
  let v293 : BitVec 32 := Scalar.muli v8 c256_i32_237
  let c0_i32_247 : BitVec 32 := 0#32
  ![v14.toNat, v293.toNat, 0]
def k0_dev16 (d0 : Dev nD) : Nat :=
  let c0_i32_243 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_242 : BitVec 32 := 4#32
  let v294 : BitVec 32 := Scalar.muli v9 c4_i32_242
  let v295 : BitVec 32 := Scalar.addi c0_i32_243 v294
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_244 : BitVec 32 := 2#32
  let v296 : BitVec 32 := Scalar.muli v5 c2_i32_244
  let v297 : BitVec 32 := Scalar.addi v295 v296
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_245 : BitVec 32 := 1#32
  let v298 : BitVec 32 := Scalar.muli v8 c1_i32_245
  let v299 : BitVec 32 := Scalar.addi v297 v298
  v299.toNat
def k0_dev17 (d0 : Dev nD) : Nat :=
  let c0_i32_257 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_256 : BitVec 32 := 4#32
  let v310 : BitVec 32 := Scalar.muli v2 c4_i32_256
  let v311 : BitVec 32 := Scalar.addi c0_i32_257 v310
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_258 : BitVec 32 := 2#32
  let v312 : BitVec 32 := Scalar.muli v10 c2_i32_258
  let v313 : BitVec 32 := Scalar.addi v311 v312
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_259 : BitVec 32 := 1#32
  let v314 : BitVec 32 := Scalar.muli v8 c1_i32_259
  let v315 : BitVec 32 := Scalar.addi v313 v314
  v315.toNat
def k0_dev18 (d0 : Dev nD) : Nat :=
  let c0_i32_271 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_270 : BitVec 32 := 4#32
  let v326 : BitVec 32 := Scalar.muli v11 c4_i32_270
  let v327 : BitVec 32 := Scalar.addi c0_i32_271 v326
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_272 : BitVec 32 := 2#32
  let v328 : BitVec 32 := Scalar.muli v12 c2_i32_272
  let v329 : BitVec 32 := Scalar.addi v327 v328
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_273 : BitVec 32 := 1#32
  let v330 : BitVec 32 := Scalar.muli v8 c1_i32_273
  let v331 : BitVec 32 := Scalar.addi v329 v330
  v331.toNat
def k0_dev19 (d0 : Dev nD) : Nat :=
  let c0_i32_285 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_284 : BitVec 32 := 4#32
  let v342 : BitVec 32 := Scalar.muli v9 c4_i32_284
  let v343 : BitVec 32 := Scalar.addi c0_i32_285 v342
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_286 : BitVec 32 := 2#32
  let v344 : BitVec 32 := Scalar.muli v5 c2_i32_286
  let v345 : BitVec 32 := Scalar.addi v343 v344
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_287 : BitVec 32 := 1#32
  let v346 : BitVec 32 := Scalar.muli v8 c1_i32_287
  let v347 : BitVec 32 := Scalar.addi v345 v346
  v347.toNat
def k0_dev20 (d0 : Dev nD) : Nat :=
  let c0_i32_299 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_298 : BitVec 32 := 4#32
  let v358 : BitVec 32 := Scalar.muli v2 c4_i32_298
  let v359 : BitVec 32 := Scalar.addi c0_i32_299 v358
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_300 : BitVec 32 := 2#32
  let v360 : BitVec 32 := Scalar.muli v10 c2_i32_300
  let v361 : BitVec 32 := Scalar.addi v359 v360
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_301 : BitVec 32 := 1#32
  let v362 : BitVec 32 := Scalar.muli v8 c1_i32_301
  let v363 : BitVec 32 := Scalar.addi v361 v362
  v363.toNat
def k0_dev21 (d0 : Dev nD) : Nat :=
  let c0_i32_313 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_312 : BitVec 32 := 4#32
  let v374 : BitVec 32 := Scalar.muli v11 c4_i32_312
  let v375 : BitVec 32 := Scalar.addi c0_i32_313 v374
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_314 : BitVec 32 := 2#32
  let v376 : BitVec 32 := Scalar.muli v12 c2_i32_314
  let v377 : BitVec 32 := Scalar.addi v375 v376
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_315 : BitVec 32 := 1#32
  let v378 : BitVec 32 := Scalar.muli v8 c1_i32_315
  let v379 : BitVec 32 := Scalar.addi v377 v378
  v379.toNat
def k0_dev22 (d0 : Dev nD) : Nat :=
  let c0_i32_327 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_326 : BitVec 32 := 4#32
  let v390 : BitVec 32 := Scalar.muli v9 c4_i32_326
  let v391 : BitVec 32 := Scalar.addi c0_i32_327 v390
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_328 : BitVec 32 := 2#32
  let v392 : BitVec 32 := Scalar.muli v5 c2_i32_328
  let v393 : BitVec 32 := Scalar.addi v391 v392
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_329 : BitVec 32 := 1#32
  let v394 : BitVec 32 := Scalar.muli v8 c1_i32_329
  let v395 : BitVec 32 := Scalar.addi v393 v394
  v395.toNat
def k0_dev23 (d0 : Dev nD) : Nat :=
  let c0_i32_341 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_340 : BitVec 32 := 4#32
  let v406 : BitVec 32 := Scalar.muli v2 c4_i32_340
  let v407 : BitVec 32 := Scalar.addi c0_i32_341 v406
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_342 : BitVec 32 := 2#32
  let v408 : BitVec 32 := Scalar.muli v10 c2_i32_342
  let v409 : BitVec 32 := Scalar.addi v407 v408
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_343 : BitVec 32 := 1#32
  let v410 : BitVec 32 := Scalar.muli v8 c1_i32_343
  let v411 : BitVec 32 := Scalar.addi v409 v410
  v411.toNat
def k0_dev24 (d0 : Dev nD) : Nat :=
  let c0_i32_355 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_354 : BitVec 32 := 4#32
  let v422 : BitVec 32 := Scalar.muli v11 c4_i32_354
  let v423 : BitVec 32 := Scalar.addi c0_i32_355 v422
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_356 : BitVec 32 := 2#32
  let v424 : BitVec 32 := Scalar.muli v12 c2_i32_356
  let v425 : BitVec 32 := Scalar.addi v423 v424
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_357 : BitVec 32 := 1#32
  let v426 : BitVec 32 := Scalar.muli v8 c1_i32_357
  let v427 : BitVec 32 := Scalar.addi v425 v426
  v427.toNat
def k0_dev25 (d0 : Dev nD) : Nat :=
  let c0_i32_369 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_368 : BitVec 32 := 4#32
  let v438 : BitVec 32 := Scalar.muli v9 c4_i32_368
  let v439 : BitVec 32 := Scalar.addi c0_i32_369 v438
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_370 : BitVec 32 := 2#32
  let v440 : BitVec 32 := Scalar.muli v5 c2_i32_370
  let v441 : BitVec 32 := Scalar.addi v439 v440
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_371 : BitVec 32 := 1#32
  let v442 : BitVec 32 := Scalar.muli v8 c1_i32_371
  let v443 : BitVec 32 := Scalar.addi v441 v442
  v443.toNat
def k0_dev26 (d0 : Dev nD) : Nat :=
  let c0_i32_383 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_382 : BitVec 32 := 4#32
  let v454 : BitVec 32 := Scalar.muli v2 c4_i32_382
  let v455 : BitVec 32 := Scalar.addi c0_i32_383 v454
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_384 : BitVec 32 := 2#32
  let v456 : BitVec 32 := Scalar.muli v10 c2_i32_384
  let v457 : BitVec 32 := Scalar.addi v455 v456
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_385 : BitVec 32 := 1#32
  let v458 : BitVec 32 := Scalar.muli v8 c1_i32_385
  let v459 : BitVec 32 := Scalar.addi v457 v458
  v459.toNat
def k0_dev27 (d0 : Dev nD) : Nat :=
  let c0_i32_397 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_396 : BitVec 32 := 4#32
  let v470 : BitVec 32 := Scalar.muli v11 c4_i32_396
  let v471 : BitVec 32 := Scalar.addi c0_i32_397 v470
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_398 : BitVec 32 := 2#32
  let v472 : BitVec 32 := Scalar.muli v12 c2_i32_398
  let v473 : BitVec 32 := Scalar.addi v471 v472
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_399 : BitVec 32 := 1#32
  let v474 : BitVec 32 := Scalar.muli v8 c1_i32_399
  let v475 : BitVec 32 := Scalar.addi v473 v474
  v475.toNat
def k0_off16 (d0 : Dev nD) : Fin 3 → Nat :=
  let c2_i32_404 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v484 : BitVec 32 := Scalar.muli c2_i32_404 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v485 : BitVec 32 := Scalar.addi v484 v5
  let c0_i32_414 : BitVec 32 := 0#32
  let c0_i32_415 : BitVec 32 := 0#32
  ![v485.toNat, 0, 0]
def k0_off17 (d0 : Dev nD) : Fin 3 → Nat :=
  let c2_i32_404 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v484 : BitVec 32 := Scalar.muli c2_i32_404 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v485 : BitVec 32 := Scalar.addi v484 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_405 : BitVec 32 := 1024#32
  let v486 : BitVec 32 := Scalar.muli v8 c1024_i32_405
  let c0_i32_418 : BitVec 32 := 0#32
  ![v485.toNat, v486.toNat, 0]
def k0_dev28 (d0 : Dev nD) : Nat :=
  let c0_i32_425 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_424 : BitVec 32 := 4#32
  let v501 : BitVec 32 := Scalar.muli v2 c4_i32_424
  let v502 : BitVec 32 := Scalar.addi c0_i32_425 v501
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_426 : BitVec 32 := 2#32
  let v503 : BitVec 32 := Scalar.muli v5 c2_i32_426
  let v504 : BitVec 32 := Scalar.addi v502 v503
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_427 : BitVec 32 := 1#32
  let v505 : BitVec 32 := Scalar.muli v15 c1_i32_427
  let v506 : BitVec 32 := Scalar.addi v504 v505
  v506.toNat
def k0_off18 (d0 : Dev nD) : Fin 3 → Nat :=
  let c2_i32_434 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v517 : BitVec 32 := Scalar.muli c2_i32_434 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v518 : BitVec 32 := Scalar.addi v517 v10
  let c0_i32_444 : BitVec 32 := 0#32
  let c0_i32_445 : BitVec 32 := 0#32
  ![v518.toNat, 0, 0]
def k0_off19 (d0 : Dev nD) : Fin 3 → Nat :=
  let c2_i32_434 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v517 : BitVec 32 := Scalar.muli c2_i32_434 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v518 : BitVec 32 := Scalar.addi v517 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_435 : BitVec 32 := 1024#32
  let v519 : BitVec 32 := Scalar.muli v8 c1024_i32_435
  let c0_i32_448 : BitVec 32 := 0#32
  ![v518.toNat, v519.toNat, 0]
def k0_dev29 (d0 : Dev nD) : Nat :=
  let c0_i32_455 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_454 : BitVec 32 := 4#32
  let v534 : BitVec 32 := Scalar.muli v2 c4_i32_454
  let v535 : BitVec 32 := Scalar.addi c0_i32_455 v534
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_456 : BitVec 32 := 2#32
  let v536 : BitVec 32 := Scalar.muli v5 c2_i32_456
  let v537 : BitVec 32 := Scalar.addi v535 v536
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_457 : BitVec 32 := 1#32
  let v538 : BitVec 32 := Scalar.muli v15 c1_i32_457
  let v539 : BitVec 32 := Scalar.addi v537 v538
  v539.toNat
def k0_off20 (d0 : Dev nD) : Fin 3 → Nat :=
  let c2_i32_464 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v550 : BitVec 32 := Scalar.muli c2_i32_464 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v551 : BitVec 32 := Scalar.addi v550 v12
  let c0_i32_474 : BitVec 32 := 0#32
  let c0_i32_475 : BitVec 32 := 0#32
  ![v551.toNat, 0, 0]
def k0_off21 (d0 : Dev nD) : Fin 3 → Nat :=
  let c2_i32_464 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v550 : BitVec 32 := Scalar.muli c2_i32_464 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v551 : BitVec 32 := Scalar.addi v550 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_465 : BitVec 32 := 1024#32
  let v552 : BitVec 32 := Scalar.muli v8 c1024_i32_465
  let c0_i32_478 : BitVec 32 := 0#32
  ![v551.toNat, v552.toNat, 0]
def k0_dev30 (d0 : Dev nD) : Nat :=
  let c0_i32_485 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_484 : BitVec 32 := 4#32
  let v567 : BitVec 32 := Scalar.muli v2 c4_i32_484
  let v568 : BitVec 32 := Scalar.addi c0_i32_485 v567
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_486 : BitVec 32 := 2#32
  let v569 : BitVec 32 := Scalar.muli v5 c2_i32_486
  let v570 : BitVec 32 := Scalar.addi v568 v569
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_487 : BitVec 32 := 1#32
  let v571 : BitVec 32 := Scalar.muli v15 c1_i32_487
  let v572 : BitVec 32 := Scalar.addi v570 v571
  v572.toNat
def k0_dev31 (d0 : Dev nD) : Nat :=
  let c0_i32_515 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_514 : BitVec 32 := 4#32
  let v600 : BitVec 32 := Scalar.muli v2 c4_i32_514
  let v601 : BitVec 32 := Scalar.addi c0_i32_515 v600
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_516 : BitVec 32 := 2#32
  let v602 : BitVec 32 := Scalar.muli v5 c2_i32_516
  let v603 : BitVec 32 := Scalar.addi v601 v602
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_517 : BitVec 32 := 1#32
  let v604 : BitVec 32 := Scalar.muli v15 c1_i32_517
  let v605 : BitVec 32 := Scalar.addi v603 v604
  v605.toNat
def k0_dev32 (d0 : Dev nD) : Nat :=
  let c0_i32_545 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_544 : BitVec 32 := 4#32
  let v633 : BitVec 32 := Scalar.muli v2 c4_i32_544
  let v634 : BitVec 32 := Scalar.addi c0_i32_545 v633
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_546 : BitVec 32 := 2#32
  let v635 : BitVec 32 := Scalar.muli v5 c2_i32_546
  let v636 : BitVec 32 := Scalar.addi v634 v635
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_547 : BitVec 32 := 1#32
  let v637 : BitVec 32 := Scalar.muli v15 c1_i32_547
  let v638 : BitVec 32 := Scalar.addi v636 v637
  v638.toNat
def k0_dev33 (d0 : Dev nD) : Nat :=
  let c0_i32_575 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_574 : BitVec 32 := 4#32
  let v666 : BitVec 32 := Scalar.muli v2 c4_i32_574
  let v667 : BitVec 32 := Scalar.addi c0_i32_575 v666
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_576 : BitVec 32 := 2#32
  let v668 : BitVec 32 := Scalar.muli v5 c2_i32_576
  let v669 : BitVec 32 := Scalar.addi v667 v668
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_577 : BitVec 32 := 1#32
  let v670 : BitVec 32 := Scalar.muli v15 c1_i32_577
  let v671 : BitVec 32 := Scalar.addi v669 v670
  v671.toNat
def k0_off22 (d0 : Dev nD) : Fin 3 → Nat :=
  let c2_i32_584 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v682 : BitVec 32 := Scalar.muli c2_i32_584 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v683 : BitVec 32 := Scalar.addi v682 v5
  let c0_i32_594 : BitVec 32 := 0#32
  let c0_i32_595 : BitVec 32 := 0#32
  ![v683.toNat, 0, 0]
def k0_off23 (d0 : Dev nD) : Fin 3 → Nat :=
  let c2_i32_584 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v682 : BitVec 32 := Scalar.muli c2_i32_584 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v683 : BitVec 32 := Scalar.addi v682 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_585 : BitVec 32 := 704#32
  let v684 : BitVec 32 := Scalar.muli v8 c704_i32_585
  let c0_i32_598 : BitVec 32 := 0#32
  ![v683.toNat, v684.toNat, 0]
def k0_dev34 (d0 : Dev nD) : Nat :=
  let c0_i32_605 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_604 : BitVec 32 := 4#32
  let v699 : BitVec 32 := Scalar.muli v2 c4_i32_604
  let v700 : BitVec 32 := Scalar.addi c0_i32_605 v699
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_606 : BitVec 32 := 2#32
  let v701 : BitVec 32 := Scalar.muli v5 c2_i32_606
  let v702 : BitVec 32 := Scalar.addi v700 v701
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_607 : BitVec 32 := 1#32
  let v703 : BitVec 32 := Scalar.muli v15 c1_i32_607
  let v704 : BitVec 32 := Scalar.addi v702 v703
  v704.toNat
def k0_off24 (d0 : Dev nD) : Fin 3 → Nat :=
  let c2_i32_614 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v715 : BitVec 32 := Scalar.muli c2_i32_614 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v716 : BitVec 32 := Scalar.addi v715 v10
  let c0_i32_624 : BitVec 32 := 0#32
  let c0_i32_625 : BitVec 32 := 0#32
  ![v716.toNat, 0, 0]
def k0_off25 (d0 : Dev nD) : Fin 3 → Nat :=
  let c2_i32_614 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v715 : BitVec 32 := Scalar.muli c2_i32_614 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v716 : BitVec 32 := Scalar.addi v715 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_615 : BitVec 32 := 704#32
  let v717 : BitVec 32 := Scalar.muli v8 c704_i32_615
  let c0_i32_628 : BitVec 32 := 0#32
  ![v716.toNat, v717.toNat, 0]
def k0_dev35 (d0 : Dev nD) : Nat :=
  let c0_i32_635 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_634 : BitVec 32 := 4#32
  let v732 : BitVec 32 := Scalar.muli v2 c4_i32_634
  let v733 : BitVec 32 := Scalar.addi c0_i32_635 v732
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_636 : BitVec 32 := 2#32
  let v734 : BitVec 32 := Scalar.muli v5 c2_i32_636
  let v735 : BitVec 32 := Scalar.addi v733 v734
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_637 : BitVec 32 := 1#32
  let v736 : BitVec 32 := Scalar.muli v15 c1_i32_637
  let v737 : BitVec 32 := Scalar.addi v735 v736
  v737.toNat
def k0_off26 (d0 : Dev nD) : Fin 3 → Nat :=
  let c2_i32_644 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v748 : BitVec 32 := Scalar.muli c2_i32_644 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v749 : BitVec 32 := Scalar.addi v748 v12
  let c0_i32_654 : BitVec 32 := 0#32
  let c0_i32_655 : BitVec 32 := 0#32
  ![v749.toNat, 0, 0]
def k0_off27 (d0 : Dev nD) : Fin 3 → Nat :=
  let c2_i32_644 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v748 : BitVec 32 := Scalar.muli c2_i32_644 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v749 : BitVec 32 := Scalar.addi v748 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_645 : BitVec 32 := 704#32
  let v750 : BitVec 32 := Scalar.muli v8 c704_i32_645
  let c0_i32_658 : BitVec 32 := 0#32
  ![v749.toNat, v750.toNat, 0]
def k0_dev36 (d0 : Dev nD) : Nat :=
  let c0_i32_665 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_664 : BitVec 32 := 4#32
  let v765 : BitVec 32 := Scalar.muli v2 c4_i32_664
  let v766 : BitVec 32 := Scalar.addi c0_i32_665 v765
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_666 : BitVec 32 := 2#32
  let v767 : BitVec 32 := Scalar.muli v5 c2_i32_666
  let v768 : BitVec 32 := Scalar.addi v766 v767
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_667 : BitVec 32 := 1#32
  let v769 : BitVec 32 := Scalar.muli v15 c1_i32_667
  let v770 : BitVec 32 := Scalar.addi v768 v769
  v770.toNat
def k0_off28 (d0 : Dev nD) : Fin 3 → Nat :=
  let c2_i32_674 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v781 : BitVec 32 := Scalar.muli c2_i32_674 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v782 : BitVec 32 := Scalar.addi v781 v5
  let c0_i32_684 : BitVec 32 := 0#32
  let c0_i32_685 : BitVec 32 := 0#32
  ![v782.toNat, 0, 0]
def k0_off29 (d0 : Dev nD) : Fin 3 → Nat :=
  let c2_i32_674 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v781 : BitVec 32 := Scalar.muli c2_i32_674 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v782 : BitVec 32 := Scalar.addi v781 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_675 : BitVec 32 := 1024#32
  let v783 : BitVec 32 := Scalar.muli v8 c1024_i32_675
  let c0_i32_688 : BitVec 32 := 0#32
  ![v782.toNat, v783.toNat, 0]
def k0_dev37 (d0 : Dev nD) : Nat :=
  let c0_i32_695 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_694 : BitVec 32 := 4#32
  let v798 : BitVec 32 := Scalar.muli v2 c4_i32_694
  let v799 : BitVec 32 := Scalar.addi c0_i32_695 v798
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_696 : BitVec 32 := 2#32
  let v800 : BitVec 32 := Scalar.muli v5 c2_i32_696
  let v801 : BitVec 32 := Scalar.addi v799 v800
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_697 : BitVec 32 := 1#32
  let v802 : BitVec 32 := Scalar.muli v15 c1_i32_697
  let v803 : BitVec 32 := Scalar.addi v801 v802
  v803.toNat
def k0_off30 (d0 : Dev nD) : Fin 3 → Nat :=
  let c2_i32_704 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v814 : BitVec 32 := Scalar.muli c2_i32_704 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v815 : BitVec 32 := Scalar.addi v814 v10
  let c0_i32_714 : BitVec 32 := 0#32
  let c0_i32_715 : BitVec 32 := 0#32
  ![v815.toNat, 0, 0]
def k0_off31 (d0 : Dev nD) : Fin 3 → Nat :=
  let c2_i32_704 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v814 : BitVec 32 := Scalar.muli c2_i32_704 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v815 : BitVec 32 := Scalar.addi v814 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_705 : BitVec 32 := 1024#32
  let v816 : BitVec 32 := Scalar.muli v8 c1024_i32_705
  let c0_i32_718 : BitVec 32 := 0#32
  ![v815.toNat, v816.toNat, 0]
def k0_dev38 (d0 : Dev nD) : Nat :=
  let c0_i32_725 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_724 : BitVec 32 := 4#32
  let v831 : BitVec 32 := Scalar.muli v2 c4_i32_724
  let v832 : BitVec 32 := Scalar.addi c0_i32_725 v831
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_726 : BitVec 32 := 2#32
  let v833 : BitVec 32 := Scalar.muli v5 c2_i32_726
  let v834 : BitVec 32 := Scalar.addi v832 v833
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_727 : BitVec 32 := 1#32
  let v835 : BitVec 32 := Scalar.muli v15 c1_i32_727
  let v836 : BitVec 32 := Scalar.addi v834 v835
  v836.toNat
def k0_off32 (d0 : Dev nD) : Fin 3 → Nat :=
  let c2_i32_734 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v847 : BitVec 32 := Scalar.muli c2_i32_734 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v848 : BitVec 32 := Scalar.addi v847 v12
  let c0_i32_744 : BitVec 32 := 0#32
  let c0_i32_745 : BitVec 32 := 0#32
  ![v848.toNat, 0, 0]
def k0_off33 (d0 : Dev nD) : Fin 3 → Nat :=
  let c2_i32_734 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v847 : BitVec 32 := Scalar.muli c2_i32_734 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v848 : BitVec 32 := Scalar.addi v847 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_735 : BitVec 32 := 1024#32
  let v849 : BitVec 32 := Scalar.muli v8 c1024_i32_735
  let c0_i32_748 : BitVec 32 := 0#32
  ![v848.toNat, v849.toNat, 0]
def k0_dev39 (d0 : Dev nD) : Nat :=
  let c0_i32_755 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_754 : BitVec 32 := 4#32
  let v864 : BitVec 32 := Scalar.muli v2 c4_i32_754
  let v865 : BitVec 32 := Scalar.addi c0_i32_755 v864
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_756 : BitVec 32 := 2#32
  let v866 : BitVec 32 := Scalar.muli v5 c2_i32_756
  let v867 : BitVec 32 := Scalar.addi v865 v866
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_757 : BitVec 32 := 1#32
  let v868 : BitVec 32 := Scalar.muli v15 c1_i32_757
  let v869 : BitVec 32 := Scalar.addi v867 v868
  v869.toNat
def k0_off34 (d0 : Dev nD) : Fin 3 → Nat :=
  let c2_i32_764 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v880 : BitVec 32 := Scalar.muli c2_i32_764 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v881 : BitVec 32 := Scalar.addi v880 v5
  let c0_i32_774 : BitVec 32 := 0#32
  let c0_i32_775 : BitVec 32 := 0#32
  ![v881.toNat, 0, 0]
def k0_off35 (d0 : Dev nD) : Fin 3 → Nat :=
  let c2_i32_764 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v880 : BitVec 32 := Scalar.muli c2_i32_764 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v881 : BitVec 32 := Scalar.addi v880 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_765 : BitVec 32 := 128#32
  let v882 : BitVec 32 := Scalar.muli v8 c128_i32_765
  let c0_i32_778 : BitVec 32 := 0#32
  ![v881.toNat, v882.toNat, 0]
def k0_dev40 (d0 : Dev nD) : Nat :=
  let c0_i32_785 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_784 : BitVec 32 := 4#32
  let v897 : BitVec 32 := Scalar.muli v2 c4_i32_784
  let v898 : BitVec 32 := Scalar.addi c0_i32_785 v897
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_786 : BitVec 32 := 2#32
  let v899 : BitVec 32 := Scalar.muli v5 c2_i32_786
  let v900 : BitVec 32 := Scalar.addi v898 v899
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_787 : BitVec 32 := 1#32
  let v901 : BitVec 32 := Scalar.muli v15 c1_i32_787
  let v902 : BitVec 32 := Scalar.addi v900 v901
  v902.toNat
def k0_off36 (d0 : Dev nD) : Fin 3 → Nat :=
  let c2_i32_794 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v913 : BitVec 32 := Scalar.muli c2_i32_794 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v914 : BitVec 32 := Scalar.addi v913 v10
  let c0_i32_804 : BitVec 32 := 0#32
  let c0_i32_805 : BitVec 32 := 0#32
  ![v914.toNat, 0, 0]
def k0_off37 (d0 : Dev nD) : Fin 3 → Nat :=
  let c2_i32_794 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v913 : BitVec 32 := Scalar.muli c2_i32_794 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v914 : BitVec 32 := Scalar.addi v913 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_795 : BitVec 32 := 128#32
  let v915 : BitVec 32 := Scalar.muli v8 c128_i32_795
  let c0_i32_808 : BitVec 32 := 0#32
  ![v914.toNat, v915.toNat, 0]
def k0_dev41 (d0 : Dev nD) : Nat :=
  let c0_i32_815 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_814 : BitVec 32 := 4#32
  let v930 : BitVec 32 := Scalar.muli v2 c4_i32_814
  let v931 : BitVec 32 := Scalar.addi c0_i32_815 v930
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_816 : BitVec 32 := 2#32
  let v932 : BitVec 32 := Scalar.muli v5 c2_i32_816
  let v933 : BitVec 32 := Scalar.addi v931 v932
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_817 : BitVec 32 := 1#32
  let v934 : BitVec 32 := Scalar.muli v15 c1_i32_817
  let v935 : BitVec 32 := Scalar.addi v933 v934
  v935.toNat
def k0_off38 (d0 : Dev nD) : Fin 3 → Nat :=
  let c2_i32_824 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v946 : BitVec 32 := Scalar.muli c2_i32_824 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v947 : BitVec 32 := Scalar.addi v946 v12
  let c0_i32_834 : BitVec 32 := 0#32
  let c0_i32_835 : BitVec 32 := 0#32
  ![v947.toNat, 0, 0]
def k0_off39 (d0 : Dev nD) : Fin 3 → Nat :=
  let c2_i32_824 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v946 : BitVec 32 := Scalar.muli c2_i32_824 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v947 : BitVec 32 := Scalar.addi v946 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_825 : BitVec 32 := 128#32
  let v948 : BitVec 32 := Scalar.muli v8 c128_i32_825
  let c0_i32_838 : BitVec 32 := 0#32
  ![v947.toNat, v948.toNat, 0]
def k0_dev42 (d0 : Dev nD) : Nat :=
  let c0_i32_845 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_844 : BitVec 32 := 4#32
  let v963 : BitVec 32 := Scalar.muli v2 c4_i32_844
  let v964 : BitVec 32 := Scalar.addi c0_i32_845 v963
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_846 : BitVec 32 := 2#32
  let v965 : BitVec 32 := Scalar.muli v5 c2_i32_846
  let v966 : BitVec 32 := Scalar.addi v964 v965
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_847 : BitVec 32 := 1#32
  let v967 : BitVec 32 := Scalar.muli v15 c1_i32_847
  let v968 : BitVec 32 := Scalar.addi v966 v967
  v968.toNat
def k0_off40 (d0 : Dev nD) : Fin 3 → Nat :=
  let c2_i32_854 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v979 : BitVec 32 := Scalar.muli c2_i32_854 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v980 : BitVec 32 := Scalar.addi v979 v5
  let c0_i32_864 : BitVec 32 := 0#32
  let c0_i32_865 : BitVec 32 := 0#32
  ![v980.toNat, 0, 0]
def k0_off41 (d0 : Dev nD) : Fin 3 → Nat :=
  let c2_i32_854 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v979 : BitVec 32 := Scalar.muli c2_i32_854 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v980 : BitVec 32 := Scalar.addi v979 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_855 : BitVec 32 := 256#32
  let v981 : BitVec 32 := Scalar.muli v8 c256_i32_855
  let c0_i32_868 : BitVec 32 := 0#32
  ![v980.toNat, v981.toNat, 0]
def k0_dev43 (d0 : Dev nD) : Nat :=
  let c0_i32_875 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_874 : BitVec 32 := 4#32
  let v996 : BitVec 32 := Scalar.muli v2 c4_i32_874
  let v997 : BitVec 32 := Scalar.addi c0_i32_875 v996
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_876 : BitVec 32 := 2#32
  let v998 : BitVec 32 := Scalar.muli v5 c2_i32_876
  let v999 : BitVec 32 := Scalar.addi v997 v998
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_877 : BitVec 32 := 1#32
  let v1000 : BitVec 32 := Scalar.muli v15 c1_i32_877
  let v1001 : BitVec 32 := Scalar.addi v999 v1000
  v1001.toNat
def k0_off42 (d0 : Dev nD) : Fin 3 → Nat :=
  let c2_i32_884 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1012 : BitVec 32 := Scalar.muli c2_i32_884 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1013 : BitVec 32 := Scalar.addi v1012 v10
  let c0_i32_894 : BitVec 32 := 0#32
  let c0_i32_895 : BitVec 32 := 0#32
  ![v1013.toNat, 0, 0]
def k0_off43 (d0 : Dev nD) : Fin 3 → Nat :=
  let c2_i32_884 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1012 : BitVec 32 := Scalar.muli c2_i32_884 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1013 : BitVec 32 := Scalar.addi v1012 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_885 : BitVec 32 := 256#32
  let v1014 : BitVec 32 := Scalar.muli v8 c256_i32_885
  let c0_i32_898 : BitVec 32 := 0#32
  ![v1013.toNat, v1014.toNat, 0]
def k0_dev44 (d0 : Dev nD) : Nat :=
  let c0_i32_905 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_904 : BitVec 32 := 4#32
  let v1029 : BitVec 32 := Scalar.muli v2 c4_i32_904
  let v1030 : BitVec 32 := Scalar.addi c0_i32_905 v1029
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_906 : BitVec 32 := 2#32
  let v1031 : BitVec 32 := Scalar.muli v5 c2_i32_906
  let v1032 : BitVec 32 := Scalar.addi v1030 v1031
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_907 : BitVec 32 := 1#32
  let v1033 : BitVec 32 := Scalar.muli v15 c1_i32_907
  let v1034 : BitVec 32 := Scalar.addi v1032 v1033
  v1034.toNat
def k0_off44 (d0 : Dev nD) : Fin 3 → Nat :=
  let c2_i32_914 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1045 : BitVec 32 := Scalar.muli c2_i32_914 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1046 : BitVec 32 := Scalar.addi v1045 v12
  let c0_i32_924 : BitVec 32 := 0#32
  let c0_i32_925 : BitVec 32 := 0#32
  ![v1046.toNat, 0, 0]
def k0_off45 (d0 : Dev nD) : Fin 3 → Nat :=
  let c2_i32_914 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1045 : BitVec 32 := Scalar.muli c2_i32_914 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1046 : BitVec 32 := Scalar.addi v1045 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_915 : BitVec 32 := 256#32
  let v1047 : BitVec 32 := Scalar.muli v8 c256_i32_915
  let c0_i32_928 : BitVec 32 := 0#32
  ![v1046.toNat, v1047.toNat, 0]
def k0_dev45 (d0 : Dev nD) : Nat :=
  let c0_i32_935 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_934 : BitVec 32 := 4#32
  let v1062 : BitVec 32 := Scalar.muli v2 c4_i32_934
  let v1063 : BitVec 32 := Scalar.addi c0_i32_935 v1062
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_936 : BitVec 32 := 2#32
  let v1064 : BitVec 32 := Scalar.muli v5 c2_i32_936
  let v1065 : BitVec 32 := Scalar.addi v1063 v1064
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_937 : BitVec 32 := 1#32
  let v1066 : BitVec 32 := Scalar.muli v15 c1_i32_937
  let v1067 : BitVec 32 := Scalar.addi v1065 v1066
  v1067.toNat
def k0_dev46 (d0 : Dev nD) : Nat :=
  let c0_i32_965 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_964 : BitVec 32 := 4#32
  let v1095 : BitVec 32 := Scalar.muli v2 c4_i32_964
  let v1096 : BitVec 32 := Scalar.addi c0_i32_965 v1095
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_966 : BitVec 32 := 2#32
  let v1097 : BitVec 32 := Scalar.muli v5 c2_i32_966
  let v1098 : BitVec 32 := Scalar.addi v1096 v1097
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_967 : BitVec 32 := 1#32
  let v1099 : BitVec 32 := Scalar.muli v15 c1_i32_967
  let v1100 : BitVec 32 := Scalar.addi v1098 v1099
  v1100.toNat
def k0_dev47 (d0 : Dev nD) : Nat :=
  let c0_i32_995 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_994 : BitVec 32 := 4#32
  let v1128 : BitVec 32 := Scalar.muli v2 c4_i32_994
  let v1129 : BitVec 32 := Scalar.addi c0_i32_995 v1128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_996 : BitVec 32 := 2#32
  let v1130 : BitVec 32 := Scalar.muli v5 c2_i32_996
  let v1131 : BitVec 32 := Scalar.addi v1129 v1130
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_997 : BitVec 32 := 1#32
  let v1132 : BitVec 32 := Scalar.muli v15 c1_i32_997
  let v1133 : BitVec 32 := Scalar.addi v1131 v1132
  v1133.toNat
def k0_dev48 (d0 : Dev nD) : Nat :=
  let c0_i32_1025 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1024 : BitVec 32 := 4#32
  let v1161 : BitVec 32 := Scalar.muli v2 c4_i32_1024
  let v1162 : BitVec 32 := Scalar.addi c0_i32_1025 v1161
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1026 : BitVec 32 := 2#32
  let v1163 : BitVec 32 := Scalar.muli v5 c2_i32_1026
  let v1164 : BitVec 32 := Scalar.addi v1162 v1163
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_1027 : BitVec 32 := 1#32
  let v1165 : BitVec 32 := Scalar.muli v15 c1_i32_1027
  let v1166 : BitVec 32 := Scalar.addi v1164 v1165
  v1166.toNat
def k0_dev49 (d0 : Dev nD) : Nat :=
  let c0_i32_1055 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1054 : BitVec 32 := 4#32
  let v1194 : BitVec 32 := Scalar.muli v2 c4_i32_1054
  let v1195 : BitVec 32 := Scalar.addi c0_i32_1055 v1194
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1056 : BitVec 32 := 2#32
  let v1196 : BitVec 32 := Scalar.muli v5 c2_i32_1056
  let v1197 : BitVec 32 := Scalar.addi v1195 v1196
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_1057 : BitVec 32 := 1#32
  let v1198 : BitVec 32 := Scalar.muli v15 c1_i32_1057
  let v1199 : BitVec 32 := Scalar.addi v1197 v1198
  v1199.toNat
def k0_dev50 (d0 : Dev nD) : Nat :=
  let c0_i32_1085 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1084 : BitVec 32 := 4#32
  let v1227 : BitVec 32 := Scalar.muli v2 c4_i32_1084
  let v1228 : BitVec 32 := Scalar.addi c0_i32_1085 v1227
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1086 : BitVec 32 := 2#32
  let v1229 : BitVec 32 := Scalar.muli v5 c2_i32_1086
  let v1230 : BitVec 32 := Scalar.addi v1228 v1229
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_1087 : BitVec 32 := 1#32
  let v1231 : BitVec 32 := Scalar.muli v15 c1_i32_1087
  let v1232 : BitVec 32 := Scalar.addi v1230 v1231
  v1232.toNat
def k0_dev51 (d0 : Dev nD) : Nat :=
  let c0_i32_1115 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1114 : BitVec 32 := 4#32
  let v1260 : BitVec 32 := Scalar.muli v2 c4_i32_1114
  let v1261 : BitVec 32 := Scalar.addi c0_i32_1115 v1260
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1116 : BitVec 32 := 2#32
  let v1262 : BitVec 32 := Scalar.muli v5 c2_i32_1116
  let v1263 : BitVec 32 := Scalar.addi v1261 v1262
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_1117 : BitVec 32 := 1#32
  let v1264 : BitVec 32 := Scalar.muli v15 c1_i32_1117
  let v1265 : BitVec 32 := Scalar.addi v1263 v1264
  v1265.toNat
def k0_dev52 (d0 : Dev nD) : Nat :=
  let c0_i32_1145 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1144 : BitVec 32 := 4#32
  let v1293 : BitVec 32 := Scalar.muli v2 c4_i32_1144
  let v1294 : BitVec 32 := Scalar.addi c0_i32_1145 v1293
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1146 : BitVec 32 := 2#32
  let v1295 : BitVec 32 := Scalar.muli v5 c2_i32_1146
  let v1296 : BitVec 32 := Scalar.addi v1294 v1295
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_1147 : BitVec 32 := 1#32
  let v1297 : BitVec 32 := Scalar.muli v15 c1_i32_1147
  let v1298 : BitVec 32 := Scalar.addi v1296 v1297
  v1298.toNat
def k0_dev53 (d0 : Dev nD) : Nat :=
  let c0_i32_1175 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1174 : BitVec 32 := 4#32
  let v1326 : BitVec 32 := Scalar.muli v2 c4_i32_1174
  let v1327 : BitVec 32 := Scalar.addi c0_i32_1175 v1326
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1176 : BitVec 32 := 2#32
  let v1328 : BitVec 32 := Scalar.muli v5 c2_i32_1176
  let v1329 : BitVec 32 := Scalar.addi v1327 v1328
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_1177 : BitVec 32 := 1#32
  let v1330 : BitVec 32 := Scalar.muli v15 c1_i32_1177
  let v1331 : BitVec 32 := Scalar.addi v1329 v1330
  v1331.toNat
def k0_dev54 (d0 : Dev nD) : Nat :=
  let c0_i32_1205 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1204 : BitVec 32 := 4#32
  let v1359 : BitVec 32 := Scalar.muli v2 c4_i32_1204
  let v1360 : BitVec 32 := Scalar.addi c0_i32_1205 v1359
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1206 : BitVec 32 := 2#32
  let v1361 : BitVec 32 := Scalar.muli v5 c2_i32_1206
  let v1362 : BitVec 32 := Scalar.addi v1360 v1361
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_1207 : BitVec 32 := 1#32
  let v1363 : BitVec 32 := Scalar.muli v15 c1_i32_1207
  let v1364 : BitVec 32 := Scalar.addi v1362 v1363
  v1364.toNat
def k0_off46 (d0 : Dev nD) : Fin 2 → Nat :=
  let c1_i32_1215 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1377 : BitVec 32 := Scalar.subi c1_i32_1215 v8
  let c1024_i32_1216 : BitVec 32 := 1024#32
  let v1378 : BitVec 32 := Scalar.muli v1377 c1024_i32_1216
  let c0_i32_1227 : BitVec 32 := 0#32
  ![v1378.toNat, 0]
def k0_off47 (d0 : Dev nD) : Fin 3 → Nat :=
  let c2_i32_1214 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1375 : BitVec 32 := Scalar.muli c2_i32_1214 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1376 : BitVec 32 := Scalar.addi v1375 v5
  let c1_i32_1215 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1377 : BitVec 32 := Scalar.subi c1_i32_1215 v8
  let c1024_i32_1216 : BitVec 32 := 1024#32
  let v1378 : BitVec 32 := Scalar.muli v1377 c1024_i32_1216
  let c0_i32_1229 : BitVec 32 := 0#32
  ![v1376.toNat, v1378.toNat, 0]
def k0_off48 (d0 : Dev nD) : Fin 3 → Nat :=
  let c2_i32_1231 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1393 : BitVec 32 := Scalar.muli c2_i32_1231 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1394 : BitVec 32 := Scalar.addi v1393 v10
  let c1_i32_1232 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1395 : BitVec 32 := Scalar.subi c1_i32_1232 v8
  let c1024_i32_1233 : BitVec 32 := 1024#32
  let v1396 : BitVec 32 := Scalar.muli v1395 c1024_i32_1233
  let c0_i32_1246 : BitVec 32 := 0#32
  ![v1394.toNat, v1396.toNat, 0]
def k0_off49 (d0 : Dev nD) : Fin 3 → Nat :=
  let c2_i32_1248 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1411 : BitVec 32 := Scalar.muli c2_i32_1248 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1412 : BitVec 32 := Scalar.addi v1411 v12
  let c1_i32_1249 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1413 : BitVec 32 := Scalar.subi c1_i32_1249 v8
  let c1024_i32_1250 : BitVec 32 := 1024#32
  let v1414 : BitVec 32 := Scalar.muli v1413 c1024_i32_1250
  let c0_i32_1263 : BitVec 32 := 0#32
  ![v1412.toNat, v1414.toNat, 0]
def k0_off50 (d0 : Dev nD) : Fin 2 → Nat :=
  let c1_i32_1317 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1485 : BitVec 32 := Scalar.subi c1_i32_1317 v8
  let c704_i32_1318 : BitVec 32 := 704#32
  let v1486 : BitVec 32 := Scalar.muli v1485 c704_i32_1318
  let c0_i32_1329 : BitVec 32 := 0#32
  ![v1486.toNat, 0]
def k0_off51 (d0 : Dev nD) : Fin 3 → Nat :=
  let c2_i32_1316 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1483 : BitVec 32 := Scalar.muli c2_i32_1316 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1484 : BitVec 32 := Scalar.addi v1483 v5
  let c1_i32_1317 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1485 : BitVec 32 := Scalar.subi c1_i32_1317 v8
  let c704_i32_1318 : BitVec 32 := 704#32
  let v1486 : BitVec 32 := Scalar.muli v1485 c704_i32_1318
  let c0_i32_1331 : BitVec 32 := 0#32
  ![v1484.toNat, v1486.toNat, 0]
def k0_off52 (d0 : Dev nD) : Fin 3 → Nat :=
  let c2_i32_1333 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1501 : BitVec 32 := Scalar.muli c2_i32_1333 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1502 : BitVec 32 := Scalar.addi v1501 v10
  let c1_i32_1334 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1503 : BitVec 32 := Scalar.subi c1_i32_1334 v8
  let c704_i32_1335 : BitVec 32 := 704#32
  let v1504 : BitVec 32 := Scalar.muli v1503 c704_i32_1335
  let c0_i32_1348 : BitVec 32 := 0#32
  ![v1502.toNat, v1504.toNat, 0]
def k0_off53 (d0 : Dev nD) : Fin 3 → Nat :=
  let c2_i32_1350 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1519 : BitVec 32 := Scalar.muli c2_i32_1350 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1520 : BitVec 32 := Scalar.addi v1519 v12
  let c1_i32_1351 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1521 : BitVec 32 := Scalar.subi c1_i32_1351 v8
  let c704_i32_1352 : BitVec 32 := 704#32
  let v1522 : BitVec 32 := Scalar.muli v1521 c704_i32_1352
  let c0_i32_1365 : BitVec 32 := 0#32
  ![v1520.toNat, v1522.toNat, 0]
def k0_off54 (d0 : Dev nD) : Fin 2 → Nat :=
  let c1_i32_1368 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1539 : BitVec 32 := Scalar.subi c1_i32_1368 v8
  let c1024_i32_1369 : BitVec 32 := 1024#32
  let v1540 : BitVec 32 := Scalar.muli v1539 c1024_i32_1369
  let c0_i32_1380 : BitVec 32 := 0#32
  ![v1540.toNat, 0]
def k0_off55 (d0 : Dev nD) : Fin 3 → Nat :=
  let c2_i32_1367 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1537 : BitVec 32 := Scalar.muli c2_i32_1367 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1538 : BitVec 32 := Scalar.addi v1537 v5
  let c1_i32_1368 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1539 : BitVec 32 := Scalar.subi c1_i32_1368 v8
  let c1024_i32_1369 : BitVec 32 := 1024#32
  let v1540 : BitVec 32 := Scalar.muli v1539 c1024_i32_1369
  let c0_i32_1382 : BitVec 32 := 0#32
  ![v1538.toNat, v1540.toNat, 0]
def k0_off56 (d0 : Dev nD) : Fin 3 → Nat :=
  let c2_i32_1384 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1555 : BitVec 32 := Scalar.muli c2_i32_1384 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1556 : BitVec 32 := Scalar.addi v1555 v10
  let c1_i32_1385 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1557 : BitVec 32 := Scalar.subi c1_i32_1385 v8
  let c1024_i32_1386 : BitVec 32 := 1024#32
  let v1558 : BitVec 32 := Scalar.muli v1557 c1024_i32_1386
  let c0_i32_1399 : BitVec 32 := 0#32
  ![v1556.toNat, v1558.toNat, 0]
def k0_off57 (d0 : Dev nD) : Fin 3 → Nat :=
  let c2_i32_1401 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1573 : BitVec 32 := Scalar.muli c2_i32_1401 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1574 : BitVec 32 := Scalar.addi v1573 v12
  let c1_i32_1402 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1575 : BitVec 32 := Scalar.subi c1_i32_1402 v8
  let c1024_i32_1403 : BitVec 32 := 1024#32
  let v1576 : BitVec 32 := Scalar.muli v1575 c1024_i32_1403
  let c0_i32_1416 : BitVec 32 := 0#32
  ![v1574.toNat, v1576.toNat, 0]
def k0_off58 (d0 : Dev nD) : Fin 2 → Nat :=
  let c1_i32_1419 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1593 : BitVec 32 := Scalar.subi c1_i32_1419 v8
  let c128_i32_1420 : BitVec 32 := 128#32
  let v1594 : BitVec 32 := Scalar.muli v1593 c128_i32_1420
  let c0_i32_1431 : BitVec 32 := 0#32
  ![v1594.toNat, 0]
def k0_off59 (d0 : Dev nD) : Fin 3 → Nat :=
  let c2_i32_1418 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1591 : BitVec 32 := Scalar.muli c2_i32_1418 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1592 : BitVec 32 := Scalar.addi v1591 v5
  let c1_i32_1419 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1593 : BitVec 32 := Scalar.subi c1_i32_1419 v8
  let c128_i32_1420 : BitVec 32 := 128#32
  let v1594 : BitVec 32 := Scalar.muli v1593 c128_i32_1420
  let c0_i32_1433 : BitVec 32 := 0#32
  ![v1592.toNat, v1594.toNat, 0]
def k0_off60 (d0 : Dev nD) : Fin 3 → Nat :=
  let c2_i32_1435 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1609 : BitVec 32 := Scalar.muli c2_i32_1435 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1610 : BitVec 32 := Scalar.addi v1609 v10
  let c1_i32_1436 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1611 : BitVec 32 := Scalar.subi c1_i32_1436 v8
  let c128_i32_1437 : BitVec 32 := 128#32
  let v1612 : BitVec 32 := Scalar.muli v1611 c128_i32_1437
  let c0_i32_1450 : BitVec 32 := 0#32
  ![v1610.toNat, v1612.toNat, 0]
def k0_off61 (d0 : Dev nD) : Fin 3 → Nat :=
  let c2_i32_1452 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1627 : BitVec 32 := Scalar.muli c2_i32_1452 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1628 : BitVec 32 := Scalar.addi v1627 v12
  let c1_i32_1453 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1629 : BitVec 32 := Scalar.subi c1_i32_1453 v8
  let c128_i32_1454 : BitVec 32 := 128#32
  let v1630 : BitVec 32 := Scalar.muli v1629 c128_i32_1454
  let c0_i32_1467 : BitVec 32 := 0#32
  ![v1628.toNat, v1630.toNat, 0]
def k0_off62 (d0 : Dev nD) : Fin 2 → Nat :=
  let c1_i32_1470 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1647 : BitVec 32 := Scalar.subi c1_i32_1470 v8
  let c256_i32_1471 : BitVec 32 := 256#32
  let v1648 : BitVec 32 := Scalar.muli v1647 c256_i32_1471
  let c0_i32_1482 : BitVec 32 := 0#32
  ![v1648.toNat, 0]
def k0_off63 (d0 : Dev nD) : Fin 3 → Nat :=
  let c2_i32_1469 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1645 : BitVec 32 := Scalar.muli c2_i32_1469 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1646 : BitVec 32 := Scalar.addi v1645 v5
  let c1_i32_1470 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1647 : BitVec 32 := Scalar.subi c1_i32_1470 v8
  let c256_i32_1471 : BitVec 32 := 256#32
  let v1648 : BitVec 32 := Scalar.muli v1647 c256_i32_1471
  let c0_i32_1484 : BitVec 32 := 0#32
  ![v1646.toNat, v1648.toNat, 0]
def k0_off64 (d0 : Dev nD) : Fin 3 → Nat :=
  let c2_i32_1486 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1663 : BitVec 32 := Scalar.muli c2_i32_1486 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1664 : BitVec 32 := Scalar.addi v1663 v10
  let c1_i32_1487 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1665 : BitVec 32 := Scalar.subi c1_i32_1487 v8
  let c256_i32_1488 : BitVec 32 := 256#32
  let v1666 : BitVec 32 := Scalar.muli v1665 c256_i32_1488
  let c0_i32_1501 : BitVec 32 := 0#32
  ![v1664.toNat, v1666.toNat, 0]
def k0_off65 (d0 : Dev nD) : Fin 3 → Nat :=
  let c2_i32_1503 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1681 : BitVec 32 := Scalar.muli c2_i32_1503 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1682 : BitVec 32 := Scalar.addi v1681 v12
  let c1_i32_1504 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1683 : BitVec 32 := Scalar.subi c1_i32_1504 v8
  let c256_i32_1505 : BitVec 32 := 256#32
  let v1684 : BitVec 32 := Scalar.muli v1683 c256_i32_1505
  let c0_i32_1518 : BitVec 32 := 0#32
  ![v1682.toNat, v1684.toNat, 0]
-- ==== ChipGatherRefIdeal.lean ====
abbrev S8192x1408 : Shape := ⟨2, ![8192, 1408]⟩
abbrev S5632x2048 : Shape := ⟨2, ![5632, 2048]⟩
abbrev S8192x1024 : Shape := ⟨2, ![8192, 1024]⟩
abbrev S1024x1024 : Shape := ⟨2, ![1024, 1024]⟩
abbrev S2048x2048 : Shape := ⟨2, ![2048, 2048]⟩
abbrev S4x2048x1408 : Shape := ⟨3, ![4, 2048, 1408]⟩
abbrev S4x1408x2048 : Shape := ⟨3, ![4, 1408, 2048]⟩
abbrev S4x2048x1024 : Shape := ⟨3, ![4, 2048, 1024]⟩
abbrev S4x256x1024 : Shape := ⟨3, ![4, 256, 1024]⟩
abbrev S4x512x2048 : Shape := ⟨3, ![4, 512, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x1408, .bf16⟩
  | .hbm, ⟨1, _⟩ => ⟨S8192x1408, .bf16⟩
  | .hbm, ⟨2, _⟩ => ⟨S5632x2048, .bf16⟩
  | .hbm, ⟨3, _⟩ => ⟨S8192x1024, .bf16⟩
  | .hbm, ⟨4, _⟩ => ⟨S1024x1024, .bf16⟩
  | .hbm, ⟨5, _⟩ => ⟨S2048x2048, .bf16⟩
  | .hbm, ⟨6, _⟩ => ⟨S8192x1408, .bf16⟩
  | .hbm, ⟨7, _⟩ => ⟨S8192x1408, .bf16⟩
  | .hbm, ⟨8, _⟩ => ⟨S5632x2048, .bf16⟩
  | .hbm, ⟨9, _⟩ => ⟨S4x2048x1408, .bf16⟩
  | .hbm, ⟨10, _⟩ => ⟨S4x2048x1408, .bf16⟩
  | .hbm, ⟨11, _⟩ => ⟨S4x1408x2048, .bf16⟩
  | .hbm, ⟨12, _⟩ => ⟨S4x2048x1024, .bf16⟩
  | .hbm, ⟨13, _⟩ => ⟨S4x256x1024, .bf16⟩
  | .hbm, ⟨14, _⟩ => ⟨S4x512x2048, .bf16⟩
  | .hbm, ⟨15, _⟩ => ⟨S4x2048x1408, .bf16⟩
  | .hbm, ⟨16, _⟩ => ⟨S4x2048x1408, .bf16⟩
  | .hbm, ⟨17, _⟩ => ⟨S4x1408x2048, .bf16⟩
  | _, _ => ⟨S8192x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩

abbrev nD : Nat := 1
abbrev τ : Topo := Topo.v7x

variable {F : FTy → Type} [FloatOps F]
-- ==== WeightCols.lean ====
abbrev S2048x2048 : Shape := ⟨2, ![2048, 2048]⟩
abbrev S2048x5632 : Shape := ⟨2, ![2048, 5632]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x2048, .bf16⟩
  | .hbm, ⟨3, _⟩ => ⟨S2048x5632, .bf16⟩
  | .hbm, ⟨4, _⟩ => ⟨S4x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WeightColsRefIdeal.lean ====
abbrev S2048x2048 : Shape := ⟨2, ![2048, 2048]⟩
abbrev S2048x5632 : Shape := ⟨2, ![2048, 5632]⟩
abbrev S_ : Shape := ⟨0, ![]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S_, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S2048x5632, .f32⟩
  | .hbm, ⟨7, _⟩ => ⟨S2048x5632, .bf16⟩
  | .hbm, ⟨8, _⟩ => ⟨S2048x4x1408, .bf16⟩
  | .hbm, ⟨9, _⟩ => ⟨S4x2048x1408, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WeightRows.lean ====
abbrev S2048x5632 : Shape := ⟨2, ![2048, 5632]⟩
abbrev S2048x2048 : Shape := ⟨2, ![2048, 2048]⟩
abbrev S4x1408x2048 : Shape := ⟨3, ![4, 1408, 2048]⟩
abbrev S2048x1408 : Shape := ⟨2, ![2048, 1408]⟩
abbrev S1x1408x2048 : Shape := ⟨3, ![1, 1408, 2048]⟩
abbrev S1408x2048 : Shape := ⟨2, ![1408, 2048]⟩

abbrev nBuf : Space → Nat
  | .hbm => 5
  | .vmem => 5
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S2048x5632, .bf16⟩
  | .hbm, ⟨3, _⟩ => ⟨S2048x2048, .bf16⟩
  | .hbm, ⟨4, _⟩ => ⟨S4x1408x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x2048, .bf16⟩
  | .local _ .vmem, ⟨3, _⟩ => ⟨S1x1408x2048, .bf16⟩
  | .local _ .vmem, ⟨4, _⟩ => ⟨S1x1408x2048, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WeightRowsRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S4x1408x2048 : Shape := ⟨3, ![4, 1408, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S_, .f32⟩
  | .hbm, ⟨3, _⟩ => ⟨S5632x2048, .f32⟩
  | .hbm, ⟨4, _⟩ => ⟨S2048x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | .hbm, ⟨8, _⟩ => ⟨S4x1408x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BlockWeights.lean ====
abbrev S2048x1024 : Shape := ⟨2, ![2048, 1024]⟩
abbrev S2048x4096 : Shape := ⟨2, ![2048, 4096]⟩
abbrev S8x128x512 : Shape := ⟨3, ![8, 128, 512]⟩
abbrev S2048x128 : Shape := ⟨2, ![2048, 128]⟩
abbrev S2048x512 : Shape := ⟨2, ![2048, 512]⟩
abbrev S1x128x512 : Shape := ⟨3, ![1, 128, 512]⟩
abbrev S128x512 : Shape := ⟨2, ![128, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S8x128x512, .f32⟩
  | .local _ .vmem, ⟨0, _⟩ => ⟨S2048x128, .f32⟩
  | .local _ .vmem, ⟨1, _⟩ => ⟨S2048x128, .f32⟩
  | .local _ .vmem, ⟨2, _⟩ => ⟨S2048x512, .f32⟩
  | .local _ .vmem, ⟨3, _⟩ => ⟨S2048x512, .f32⟩
  | .local _ .vmem, ⟨4, _⟩ => ⟨S1x128x512, .f32⟩
  | .local _ .vmem, ⟨5, _⟩ => ⟨S1x128x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BlockWeightsRefIdeal.lean ====
abbrev S2048x1024 : Shape := ⟨2, ![2048, 1024]⟩
abbrev S2048x4096 : Shape := ⟨2, ![2048, 4096]⟩
abbrev S_ : Shape := ⟨0, ![]⟩
abbrev S8x128x512 : Shape := ⟨3, ![8, 128, 512]⟩
abbrev S2048x8x128 : Shape := ⟨3, ![2048, 8, 128]⟩
abbrev S8x512x2048 : Shape := ⟨3, ![8, 512, 2048]⟩
abbrev S2048x8x512 : Shape := ⟨3, ![2048, 8, 512]⟩
abbrev S8x512x128 : Shape := ⟨3, ![8, 512, 128]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S_, .f32⟩
  | .hbm, ⟨3, _⟩ => ⟨S8x128x512, .f32⟩
  | .hbm, ⟨4, _⟩ => ⟨S2048x8x128, .f32⟩
  | .hbm, ⟨5, _⟩ => ⟨S8x512x2048, .f32⟩
  | .hbm, ⟨6, _⟩ => ⟨S2048x8x512, .f32⟩
  | .hbm, ⟨7, _⟩ => ⟨S2048x8x512, .f32⟩
  | .hbm, ⟨8, _⟩ => ⟨S8x512x2048, .f32⟩
  | .hbm, ⟨9, _⟩ => ⟨S8x512x128, .f32⟩
  | .hbm, ⟨10, _⟩ => ⟨S8x128x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== AdamLarge.lean ====
abbrev S4x2048x1408 : Shape := ⟨3, ![4, 2048, 1408]⟩
abbrev S2048x1408 : Shape := ⟨2, ![2048, 1408]⟩
abbrev S1x128x1408 : Shape := ⟨3, ![1, 128, 1408]⟩
abbrev S128x1408 : Shape := ⟨2, ![128, 1408]⟩

abbrev nBuf : Space → Nat
  | .hbm => 11
  | .vmem => 22
  | .smem => 0
  | _ => 0

abbrev bufTy : (tb : Table) → Fin (tcTables nBuf tb) → BufTy
  | .hbm, ⟨0, _⟩ => ⟨S4x2048x1408, .f32⟩
  | .hbm, ⟨1, _⟩ => ⟨S4x2048x1408, .f32⟩
  | .hbm, ⟨2, _⟩ => ⟨S4x2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | .local _ .vmem, ⟨18, _⟩ => ⟨S1x128x1408, .f32⟩
  | .local _ .vmem, ⟨19, _⟩ => ⟨S1x128x1408, .f32⟩
  | .local _ .vmem, ⟨20, _⟩ => ⟨S1x128x1408, .f32⟩
  | .local _ .vmem, ⟨21, _⟩ => ⟨S1x128x1408, .f32⟩
  | _, _ => ⟨S4x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamLargeRefIdeal.lean ====
abbrev S4x2048x1408 : Shape := ⟨3, ![4, 2048, 1408]⟩
abbrev S2048x1408 : Shape := ⟨2, ![2048, 1408]⟩
abbrev S1x2048x1408 : Shape := ⟨3, ![1, 2048, 1408]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x1408, .f32⟩
  | .hbm, ⟨1, _⟩ => ⟨S4x2048x1408, .f32⟩
  | .hbm, ⟨2, _⟩ => ⟨S4x2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S1x2048x1408, .f32⟩
  | .hbm, ⟨8, _⟩ => ⟨S1x2048x1408, .f32⟩
  | .hbm, ⟨9, _⟩ => ⟨S1x2048x1408, .f32⟩
  | .hbm, ⟨10, _⟩ => ⟨S1x2048x1408, .f32⟩
  | .hbm, ⟨11, _⟩ => ⟨S4x2048x1408, .f32⟩
  | .hbm, ⟨12, _⟩ => ⟨S_, .f32⟩
  | .hbm, ⟨13, _⟩ => ⟨S4x2048x1408, .f32⟩
  | .hbm, ⟨14, _⟩ => ⟨S4x2048x1408, .f32⟩
  | .hbm, ⟨15, _⟩ => ⟨S_, .f32⟩
  | .hbm, ⟨16, _⟩ => ⟨S4x2048x1408, .f32⟩
  | .hbm, ⟨17, _⟩ => ⟨S4x2048x1408, .f32⟩
  | .hbm, ⟨18, _⟩ => ⟨S4x2048x1408, .f32⟩
  | .hbm, ⟨19, _⟩ => ⟨S_, .f32⟩
  | .hbm, ⟨20, _⟩ => ⟨S4x2048x1408, .f32⟩
  | .hbm, ⟨21, _⟩ => ⟨S4x2048x1408, .f32⟩
  | .hbm, ⟨22, _⟩ => ⟨S4x2048x1408, .f32⟩
  | .hbm, ⟨23, _⟩ => ⟨S_, .f32⟩
  | .hbm, ⟨24, _⟩ => ⟨S4x2048x1408, .f32⟩
  | .hbm, ⟨25, _⟩ => ⟨S4x2048x1408, .f32⟩
  | .hbm, ⟨26, _⟩ => ⟨S4x2048x1408, .f32⟩
  | .hbm, ⟨27, _⟩ => ⟨S_, .f32⟩
  | .hbm, ⟨28, _⟩ => ⟨S4x2048x1408, .f32⟩
  | .hbm, ⟨29, _⟩ => ⟨S4x2048x1408, .f32⟩
  | .hbm, ⟨30, _⟩ => ⟨S_, .f32⟩
  | .hbm, ⟨31, _⟩ => ⟨S4x2048x1408, .f32⟩
  | .hbm, ⟨32, _⟩ => ⟨S4x2048x1408, .f32⟩
  | .hbm, ⟨33, _⟩ => ⟨S4x2048x1408, .f32⟩
  | .hbm, ⟨34, _⟩ => ⟨S_, .f32⟩
  | .hbm, ⟨35, _⟩ => ⟨S4x2048x1408, .f32⟩
  | .hbm, ⟨36, _⟩ => ⟨S4x2048x1408, .f32⟩
  | .hbm, ⟨37, _⟩ => ⟨S4x2048x1408, .f32⟩
  | .hbm, ⟨38, _⟩ => ⟨S_, .f32⟩
  | .hbm, ⟨39, _⟩ => ⟨S4x2048x1408, .f32⟩
  | .hbm, ⟨40, _⟩ => ⟨S4x2048x1408, .f32⟩
  | .hbm, ⟨41, _⟩ => ⟨S4x2048x1408, .f32⟩
  | .hbm, ⟨42, _⟩ => ⟨S_, .f32⟩
  | .hbm, ⟨43, _⟩ => ⟨S4x2048x1408, .f32⟩
  | .hbm, ⟨44, _⟩ => ⟨S4x2048x1408, .f32⟩
  | _, _ => ⟨S4x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamSmall.lean ====
abbrev S8992x128 : Shape := ⟨2, ![8992, 128]⟩
abbrev S32x128 : Shape := ⟨2, ![32, 128]⟩

abbrev nBuf : Space → Nat
  | .hbm => 7
  | .vmem => 14
  | .smem => 0
  | _ => 0

abbrev bufTy : (tb : Table) → Fin (tcTables nBuf tb) → BufTy
  | .hbm, ⟨0, _⟩ => ⟨S8992x128, .f32⟩
  | .hbm, ⟨1, _⟩ => ⟨S8992x128, .f32⟩
  | .hbm, ⟨2, _⟩ => ⟨S8992x128, .f32⟩
  | .hbm, ⟨3, _⟩ => ⟨S8992x128, .f32⟩
  | .hbm, ⟨4, _⟩ => ⟨S8992x128, .f32⟩
  | .hbm, ⟨5, _⟩ => ⟨S8992x128, .f32⟩
  | .hbm, ⟨6, _⟩ => ⟨S8992x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | _, _ => ⟨S8992x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![281], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S8992x128 : Shape := ⟨2, ![8992, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8992x128, .f32⟩
  | .hbm, ⟨1, _⟩ => ⟨S8992x128, .f32⟩
  | .hbm, ⟨2, _⟩ => ⟨S8992x128, .f32⟩
  | .hbm, ⟨3, _⟩ => ⟨S8992x128, .f32⟩
  | .hbm, ⟨4, _⟩ => ⟨S_, .f32⟩
  | .hbm, ⟨5, _⟩ => ⟨S8992x128, .f32⟩
  | .hbm, ⟨6, _⟩ => ⟨S8992x128, .f32⟩
  | .hbm, ⟨7, _⟩ => ⟨S_, .f32⟩
  | .hbm, ⟨8, _⟩ => ⟨S8992x128, .f32⟩
  | .hbm, ⟨9, _⟩ => ⟨S8992x128, .f32⟩
  | .hbm, ⟨10, _⟩ => ⟨S8992x128, .f32⟩
  | .hbm, ⟨11, _⟩ => ⟨S_, .f32⟩
  | .hbm, ⟨12, _⟩ => ⟨S8992x128, .f32⟩
  | .hbm, ⟨13, _⟩ => ⟨S8992x128, .f32⟩
  | .hbm, ⟨14, _⟩ => ⟨S8992x128, .f32⟩
  | .hbm, ⟨15, _⟩ => ⟨S_, .f32⟩
  | .hbm, ⟨16, _⟩ => ⟨S8992x128, .f32⟩
  | .hbm, ⟨17, _⟩ => ⟨S8992x128, .f32⟩
  | .hbm, ⟨18, _⟩ => ⟨S8992x128, .f32⟩
  | .hbm, ⟨19, _⟩ => ⟨S_, .f32⟩
  | .hbm, ⟨20, _⟩ => ⟨S8992x128, .f32⟩
  | .hbm, ⟨21, _⟩ => ⟨S8992x128, .f32⟩
  | .hbm, ⟨22, _⟩ => ⟨S_, .f32⟩
  | .hbm, ⟨23, _⟩ => ⟨S8992x128, .f32⟩
  | .hbm, ⟨24, _⟩ => ⟨S8992x128, .f32⟩
  | .hbm, ⟨25, _⟩ => ⟨S8992x128, .f32⟩
  | .hbm, ⟨26, _⟩ => ⟨S_, .f32⟩
  | .hbm, ⟨27, _⟩ => ⟨S8992x128, .f32⟩
  | .hbm, ⟨28, _⟩ => ⟨S8992x128, .f32⟩
  | .hbm, ⟨29, _⟩ => ⟨S8992x128, .f32⟩
  | .hbm, ⟨30, _⟩ => ⟨S_, .f32⟩
  | .hbm, ⟨31, _⟩ => ⟨S8992x128, .f32⟩
  | .hbm, ⟨32, _⟩ => ⟨S8992x128, .f32⟩
  | .hbm, ⟨33, _⟩ => ⟨S8992x128, .f32⟩
  | .hbm, ⟨34, _⟩ => ⟨S_, .f32⟩
  | .hbm, ⟨35, _⟩ => ⟨S8992x128, .f32⟩
  | .hbm, ⟨36, _⟩ => ⟨S8992x128, .f32⟩
  | _, _ => ⟨S8992x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AddPairs.lean ====
abbrev S4x2048x1408 : Shape := ⟨3, ![4, 2048, 1408]⟩
abbrev S4x1024x1408 : Shape := ⟨3, ![4, 1024, 1408]⟩
abbrev S1x256x1408 : Shape := ⟨3, ![1, 256, 1408]⟩
abbrev S256x1408 : Shape := ⟨2, ![256, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4x2048x1408, .bf16⟩
  | .hbm, ⟨1, _⟩ => ⟨S4x1024x1408, .bf16⟩
  | .hbm, ⟨2, _⟩ => ⟨S4x1024x1408, .bf16⟩
  | .hbm, ⟨3, _⟩ => ⟨S4x1024x1408, .bf16⟩
  | .local _ .vmem, ⟨0, _⟩ => ⟨S1x256x1408, .bf16⟩
  | .local _ .vmem, ⟨1, _⟩ => ⟨S1x256x1408, .bf16⟩
  | .local _ .vmem, ⟨2, _⟩ => ⟨S1x256x1408, .bf16⟩
  | .local _ .vmem, ⟨3, _⟩ => ⟨S1x256x1408, .bf16⟩
  | .local _ .vmem, ⟨4, _⟩ => ⟨S1x256x1408, .bf16⟩
  | .local _ .vmem, ⟨5, _⟩ => ⟨S1x256x1408, .bf16⟩
  | .local _ .vmem, ⟨6, _⟩ => ⟨S1x256x1408, .bf16⟩
  | .local _ .vmem, ⟨7, _⟩ => ⟨S1x256x1408, .bf16⟩
  | _, _ => ⟨S4x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v11 : BitVec 1 := Scalar.cmpi .eq arg1 c0_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== AddPairsRefIdeal.lean ====
abbrev S4x2048x1408 : Shape := ⟨3, ![4, 2048, 1408]⟩
abbrev S4x1024x1408 : Shape := ⟨3, ![4, 1024, 1408]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x1408, .bf16⟩
  | .hbm, ⟨1, _⟩ => ⟨S4x1024x1408, .bf16⟩
  | .hbm, ⟨2, _⟩ => ⟨S4x1024x1408, .bf16⟩
  | .hbm, ⟨3, _⟩ => ⟨S4x1024x1408, .f32⟩
  | .hbm, ⟨4, _⟩ => ⟨S4x1024x1408, .f32⟩
  | .hbm, ⟨5, _⟩ => ⟨S4x1024x1408, .f32⟩
  | .hbm, ⟨6, _⟩ => ⟨S4x1024x1408, .bf16⟩
  | _, _ => ⟨S4x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SumChips.lean ====
abbrev S4x1024x1408 : Shape := ⟨3, ![4, 1024, 1408]⟩
abbrev S2048x1408 : Shape := ⟨2, ![2048, 1408]⟩
abbrev S4x256x1408 : Shape := ⟨3, ![4, 256, 1408]⟩
abbrev S256x1408 : Shape := ⟨2, ![256, 1408]⟩
abbrev S1x256x1408 : Shape := ⟨3, ![1, 256, 1408]⟩
abbrev S1024x1408 : Shape := ⟨2, ![1024, 1408]⟩

abbrev nBuf : Space → Nat
  | .hbm => 3
  | .vmem => 4
  | .smem => 0
  | _ => 0

abbrev bufTy : (tb : Table) → Fin (tcTables nBuf tb) → BufTy
  | .hbm, ⟨0, _⟩ => ⟨S4x1024x1408, .bf16⟩
  | .hbm, ⟨1, _⟩ => ⟨S2048x1408, .f32⟩
  | .hbm, ⟨2, _⟩ => ⟨S1024x1408, .f32⟩
  | .local _ .vmem, ⟨0, _⟩ => ⟨S4x256x1408, .bf16⟩
  | .local _ .vmem, ⟨1, _⟩ => ⟨S4x256x1408, .bf16⟩
  | .local _ .vmem, ⟨2, _⟩ => ⟨S256x1408, .f32⟩
  | .local _ .vmem, ⟨3, _⟩ => ⟨S256x1408, .f32⟩
  | _, _ => ⟨S4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumChipsRefIdeal.lean ====
abbrev S4x1024x1408 : Shape := ⟨3, ![4, 1024, 1408]⟩
abbrev S_ : Shape := ⟨0, ![]⟩
abbrev S1024x1408 : Shape := ⟨2, ![1024, 1408]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x1408, .bf16⟩
  | .hbm, ⟨1, _⟩ => ⟨S4x1024x1408, .f32⟩
  | .hbm, ⟨2, _⟩ => ⟨S_, .f32⟩
  | .hbm, ⟨3, _⟩ => ⟨S1024x1408, .f32⟩
  | _, _ => ⟨S4x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== CastPlace.lean ====
abbrev S4x2048x1408 : Shape := ⟨3, ![4, 2048, 1408]⟩
abbrev S1x256x1408 : Shape := ⟨3, ![1, 256, 1408]⟩
abbrev S256x1408 : Shape := ⟨2, ![256, 1408]⟩
abbrev S1x2048x1408 : Shape := ⟨3, ![1, 2048, 1408]⟩
abbrev S2048x1408 : Shape := ⟨2, ![2048, 1408]⟩

abbrev nBuf : Space → Nat
  | .hbm => 4
  | .vmem => 4
  | .smem => 0
  | _ => 0

abbrev bufTy : (tb : Table) → Fin (tcTables nBuf tb) → BufTy
  | .hbm, ⟨0, _⟩ => ⟨S4x2048x1408, .f32⟩
  | .hbm, ⟨1, _⟩ => ⟨S4x2048x1408, .bf16⟩
  | .hbm, ⟨2, _⟩ => ⟨S1x2048x1408, .bf16⟩
  | .hbm, ⟨3, _⟩ => ⟨S2048x1408, .bf16⟩
  | .local _ .vmem, ⟨0, _⟩ => ⟨S1x256x1408, .f32⟩
  | .local _ .vmem, ⟨1, _⟩ => ⟨S1x256x1408, .f32⟩
  | .local _ .vmem, ⟨2, _⟩ => ⟨S1x256x1408, .bf16⟩
  | .local _ .vmem, ⟨3, _⟩ => ⟨S1x256x1408, .bf16⟩
  | _, _ => ⟨S4x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastPlaceRefIdeal.lean ====
abbrev S4x2048x1408 : Shape := ⟨3, ![4, 2048, 1408]⟩
abbrev S1x2048x1408 : Shape := ⟨3, ![1, 2048, 1408]⟩
abbrev S2048x1408 : Shape := ⟨2, ![2048, 1408]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x1408, .f32⟩
  | .hbm, ⟨1, _⟩ => ⟨S1x2048x1408, .f32⟩
  | .hbm, ⟨2, _⟩ => ⟨S2048x1408, .f32⟩
  | .hbm, ⟨3, _⟩ => ⟨S2048x1408, .bf16⟩
  | _, _ => ⟨S4x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.ConvTaps.lean ====
/-
  The gradient of a short causal convolution with respect to its input, read at an index. The forward pass is
  `y[t] = w0 x[t-2] + w1 x[t-1] + w2 x[t]` in every channel, so the cotangent of `x[t]` is
  `w2 d[t] + w1 d[t+1] + w0 d[t+2]`, rows past the end counting as zero (`taps`). The kernel reads it tile by tile: a tile
  of 256 rows and the first eight rows of the next tile, multiplied by zero at the last tile.
-/
module

public import proofs.«01_k».proof.Defs
public import proofs.«01_k».proof.Proof.Gen.ConvInputIdeal.Value
public import proofs.«01_k».proof.Proof.Gen.ConvInputRefIdeal.Run
public import proofs.«01_k».proof.Proof.Gen.ConvInputRefIdeal.Read
public import Idealize.ShloMosaic.Lib.Pointwise
public import Idealize.ShloMosaic.Lib.KernelVsHost
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ConvInputIdeal.Taps

open Cert.ConvInputIdeal Cert.ConvInputIdeal.Gen

/-- Two functions of a pair of coordinates that agree at every pair are one. -/
theorem ext2 {α : Type} {n k : ℕ} {f g : (⟨2, ![n, k]⟩ : Shape).Idx → α} (h : ∀ (r : Fin n) (l : Fin k), f (ix2 r l) = g (ix2 r l)) :
    f = g := funext fun j => by rw [eq_ix2 j]; exact h _ _

/-- Row `r` of an array of 2048 rows, zero past its end. -/
def rowOr0 (d : S2048x1024.Idx → EReal) (r : ℕ) (l : Fin 1024) : EReal :=
  if h : r < 2048 then d (ix2 ⟨r, h⟩ l) else 0

/-- The cotangent of the convolution's input. -/
def taps (w : S3x1024.Idx → EReal) (d : S2048x1024.Idx → EReal) (r : Fin 2048) (l : Fin 1024) : EReal :=
  (w (ix2 2 l) * d (ix2 r l) + w (ix2 1 l) * rowOr0 d (r.val + 1) l) + w (ix2 0 l) * rowOr0 d (r.val + 2) l

theorem halo_mask : ∀ n : Fin 8, ((Scalar.extui (Scalar.cmpi .slt (BitVec.ofNat 32 n.val) 7#32) : BitVec 32)).toInt
    = if n.val < 7 then 1 else 0 := by decide

/-- Row `r + s` of a tile followed by the next tile's first rows, times the mask, is row `256 n + r + s` of the array. -/
theorem ext_row (d : S2048x1024.Idx → EReal) (n : Fin 8) (v0 : S256x1024.Idx → EReal) (v4 : S8x1024.Idx → EReal)
    (h0 : ∀ (r : Fin 256) (l : Fin 1024), v0 (ix2 r l) = rowOr0 d (256 * n.val + r.val) l)
    (h4 : n.val < 7 → ∀ (r : Fin 8) (l : Fin 1024), v4 (ix2 r l) = rowOr0 d (256 * (n.val + 1) + r.val) l)
    (k s : ℕ) (r : Fin 256) (l : Fin 1024) (hk : k = r.val + s) (hs : s ≤ 8) (hlt : ¬ k < 256 → k - 256 < 8) :
    (if h : k < 256 then v0 (ix2 ⟨k, h⟩ l)
      else v4 (ix2 ⟨k - 256, hlt h⟩ l) * (((if n.val < 7 then (1 : ℤ) else 0 : ℤ) : ℝ) : EReal))
      = rowOr0 d (256 * n.val + r.val + s) l := by
  subst hk
  by_cases h : r.val + s < 256
  · rw [dif_pos h, h0]; exact congrArg (rowOr0 d · l) (by show _ + (_ + _) = _; omega)
  · rw [dif_neg h]
    by_cases hn : n.val < 7
    · rw [if_pos hn, h4 hn]
      simp only [Int.cast_one, EReal.coe_one, mul_one]
      exact congrArg (rowOr0 d · l) (by show _ + (_ + _ - _) = _; omega)
    · rw [if_neg hn]
      simp only [Int.cast_zero, EReal.coe_zero, mul_zero]
      have : ¬ 256 * n.val + r.val + s < 2048 := by omega
      unfold rowOr0
      rw [dif_neg this]

theorem pay1_apply (i : grid0.Coords) (n : Fin 8) (hi : (i 0).val = n.val) (w : S3x1024.Idx → EReal) (d : S2048x1024.Idx → EReal)
    (v0 : Vec Ideal S256x1024 .f32) (v4 : Vec Ideal S8x1024 .f32)
    (h0 : ∀ (r : Fin 256) (l : Fin 1024), v0 (ix2 r l) = rowOr0 d (256 * n.val + r.val) l)
    (h4 : n.val < 7 → ∀ (r : Fin 8) (l : Fin 1024), v4 (ix2 r l) = rowOr0 d (256 * (n.val + 1) + r.val) l)
    (r : Fin 256) (l : Fin 1024) :
    k0_pay1 (F := Ideal) i v0 w v4 (ix2 r l) = taps w d ⟨256 * n.val + r.val, by omega⟩ l := by
  pointwise [k0_pay1]
  simp only [hi, halo_mask]
  rw [ext_row d n v0 v4 h0 h4 _ 1 r l (by omega) (by omega), ext_row d n v0 v4 h0 h4 _ 2 r l (by omega) (by omega), h0]
  unfold taps
  have : 256 * n.val + r.val < 2048 := by omega
  simp only [rowOr0, this, dif_pos]

variable (m : (ℓ : Loc nD τ sig) → Buf (Elt Ideal) ℓ)

/-! ## The windows' blocks at an index -/

theorem idx_facts : ∀ t : Fin cfg0.N, (grid0.coords t 0).val = t.val
    ∧ win0_0.index t (0 : Fin 2) = t.val ∧ win0_0.index t (1 : Fin 2) = 0
    ∧ win0_1.index t (0 : Fin 2) = t.val ∧ win0_1.index t (1 : Fin 2) = 2
    ∧ win0_2.index t (0 : Fin 2) = t.val ∧ win0_2.index t (1 : Fin 2) = 3
    ∧ win0_3.index t (0 : Fin 2) = 0 ∧ win0_3.index t (1 : Fin 2) = 0
    ∧ (t.val < 7 → win0_4.index t (0 : Fin 2) = 32 * (t.val + 1)) ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem lt_8 (t : Fin cfg0.N) : t.val < 8 := t.isLt

abbrev arg0 (c : Dev nD) : S2048x4096.Idx → EReal := m ((c : Thread nD τ).loc main_arg0)
abbrev arg1 (c : Dev nD) : S3x1024.Idx → EReal := m ((c : Thread nD τ).loc main_arg1)
abbrev arg2 (c : Dev nD) : S2048x1024.Idx → EReal := m ((c : Thread nD τ).loc main_arg2)

theorem blk0 (c : Dev nD) (t : Fin cfg0.N) (r : Fin 256) (l : Fin 1024) :
    iblk m c 0 t (ix2 r l) = rowOr0 (arg2 m c) (256 * t.val + r.val) l := by
  have ht := lt_8 t
  have h : 256 * t.val + r.val < 2048 := by omega
  unfold rowOr0
  rw [dif_pos h]
  show V m c main_arg2 (((cfg0.win 0).blk t).view.emb (ix2 r l)) = _
  refine congrArg (arg2 m c) ?_
  obtain ⟨_, e0, e1, _⟩ := idx_facts t
  funext a; apply Fin.ext
  match a with
  | ⟨0, _⟩ => show win0_0.index t (0 : Fin 2) * 256 + 1 * r.val = 256 * t.val + r.val; omega
  | ⟨1, _⟩ => show win0_0.index t (1 : Fin 2) * 1024 + 1 * l.val = l.val; omega

theorem blk1 (c : Dev nD) (t : Fin cfg0.N) (r : Fin 256) (l : Fin 1024) :
    iblk m c 1 t (ix2 r l) = arg0 m c (ix2 ⟨256 * t.val + r.val, by have := lt_8 t; omega⟩ ⟨2048 + l.val, by omega⟩) := by
  show V m c main_arg0 (((cfg0.win 1).blk t).view.emb (ix2 r l)) = _
  refine congrArg (arg0 m c) ?_
  obtain ⟨_, _, _, e0, e1, _⟩ := idx_facts t
  funext a; apply Fin.ext
  match a with
  | ⟨0, _⟩ => show win0_1.index t (0 : Fin 2) * 256 + 1 * r.val = 256 * t.val + r.val; omega
  | ⟨1, _⟩ => show win0_1.index t (1 : Fin 2) * 1024 + 1 * l.val = 2048 + l.val; omega

theorem blk2 (c : Dev nD) (t : Fin cfg0.N) (r : Fin 256) (l : Fin 1024) :
    iblk m c 2 t (ix2 r l) = arg0 m c (ix2 ⟨256 * t.val + r.val, by have := lt_8 t; omega⟩ ⟨3072 + l.val, by omega⟩) := by
  show V m c main_arg0 (((cfg0.win 2).blk t).view.emb (ix2 r l)) = _
  refine congrArg (arg0 m c) ?_
  obtain ⟨_, _, _, _, _, e0, e1, _⟩ := idx_facts t
  funext a; apply Fin.ext
  match a with
  | ⟨0, _⟩ => show win0_2.index t (0 : Fin 2) * 256 + 1 * r.val = 256 * t.val + r.val; omega
  | ⟨1, _⟩ => show win0_2.index t (1 : Fin 2) * 1024 + 1 * l.val = 3072 + l.val; omega

theorem blk3 (c : Dev nD) (t : Fin cfg0.N) : iblk m c 3 t = arg1 m c := by
  funext y
  show V m c main_arg1 (((cfg0.win 3).blk t).view.emb y) = _
  refine congrArg (arg1 m c) ?_
  obtain ⟨_, _, _, _, _, _, _, e0, e1, _⟩ := idx_facts t
  funext a; apply Fin.ext
  match a with
  | ⟨0, _⟩ => show win0_3.index t (0 : Fin 2) * 3 + 1 * (y 0).val = (y 0).val; omega
  | ⟨1, _⟩ => show win0_3.index t (1 : Fin 2) * 1024 + 1 * (y 1).val = (y 1).val; omega

theorem blk4 (c : Dev nD) (t : Fin cfg0.N) (ht : t.val < 7) (r : Fin 8) (l : Fin 1024) :
    iblk m c 4 t (ix2 r l) = rowOr0 (arg2 m c) (256 * (t.val + 1) + r.val) l := by
  have h : 256 * (t.val + 1) + r.val < 2048 := by omega
  unfold rowOr0
  rw [dif_pos h]
  show V m c main_arg2 (((cfg0.win 4).blk t).view.emb (ix2 r l)) = _
  refine congrArg (arg2 m c) ?_
  obtain ⟨_, _, _, _, _, _, _, _, _, e0, e1, _⟩ := idx_facts t
  have e0 := e0 ht
  funext a; apply Fin.ext
  match a with
  | ⟨0, _⟩ => show win0_4.index t (0 : Fin 2) * 8 + 1 * r.val = 256 * (t.val + 1) + r.val; omega
  | ⟨1, _⟩ => show win0_4.index t (1 : Fin 2) * 1024 + 1 * l.val = l.val; omega

/-! ## The results -/

/-- The cotangent of the gate: the convolution's input cotangent times `h`. -/
def dgate (p : S2048x4096.Idx → EReal) (w : S3x1024.Idx → EReal) (d : S2048x1024.Idx → EReal) : S2048x1024.Idx → EReal :=
  fun j => taps w d (j 0) (j 1) * p (ix2 (j 0) ⟨3072 + (j 1).val, by have : (j 1).val < 1024 := (j 1).isLt; omega⟩)

/-- The cotangent of `h`: the convolution's input cotangent times the gate. -/
def dhid (p : S2048x4096.Idx → EReal) (w : S3x1024.Idx → EReal) (d : S2048x1024.Idx → EReal) : S2048x1024.Idx → EReal :=
  fun j => taps w d (j 0) (j 1) * p (ix2 (j 0) ⟨2048 + (j 1).val, by have : (j 1).val < 1024 := (j 1).isLt; omega⟩)

theorem hz : (![0, 0] : Fin 2 → Nat) = fun _ => 0 := funext fun a => by fin_cases a <;> rfl

theorem emb5 (t : Fin cfg0.N) (y : S256x1024.Idx) : ((cfg0.win 5).blk t).view.emb y
    = ix2 (n0 := 2048) (n1 := 1024) ⟨256 * t.val + (y 0).val, by have := lt_8 t; have : (y 0).val < 256 := (y 0).isLt; omega⟩ (y 1) := by
  have e := idx_facts t
  funext a; apply Fin.ext
  match a with
  | ⟨0, _⟩ => show win0_5.index t (0 : Fin 2) * 256 + 1 * (y 0).val = 256 * t.val + (y 0).val; omega
  | ⟨1, _⟩ => show win0_5.index t (1 : Fin 2) * 1024 + 1 * (y 1).val = (y 1).val; omega

theorem emb6 (t : Fin cfg0.N) (y : S256x1024.Idx) : ((cfg0.win 6).blk t).view.emb y
    = ix2 (n0 := 2048) (n1 := 1024) ⟨256 * t.val + (y 0).val, by have := lt_8 t; have : (y 0).val < 256 := (y 0).isLt; omega⟩ (y 1) := by
  have e := idx_facts t
  funext a; apply Fin.ext
  match a with
  | ⟨0, _⟩ => show win0_6.index t (0 : Fin 2) * 256 + 1 * (y 0).val = 256 * t.val + (y 0).val; omega
  | ⟨1, _⟩ => show win0_6.index t (1 : Fin 2) * 1024 + 1 * (y 1).val = (y 1).val; omega

theorem pay1_at (c : Dev nD) (t : Fin cfg0.N) (y : S256x1024.Idx) :
    k0_pay1 (F := Ideal) (grid0.coords t) (iblk m c 0 t) (iblk m c 3 t) (iblk m c 4 t) y
      = taps (arg1 m c) (arg2 m c) ⟨256 * t.val + (y 0).val, by have := lt_8 t; have : (y 0).val < 256 := (y 0).isLt; omega⟩ (y 1) := by
  rw [eq_ix2 y, blk3]
  exact pay1_apply (grid0.coords t) ⟨t.val, lt_8 t⟩ (idx_facts t).1 (arg1 m c) (arg2 m c) (iblk m c 0 t) (iblk m c 4 t)
    (blk0 m c t) (fun h => blk4 m c t h) (y 0) (y 1)

theorem final5 (c : Dev nD) : (dats m 0 c).arrAt 5 cfg0.N = dgate (arg0 m c) (arg1 m c) (arg2 m c) := by
  refine (dats m 0 c).arrAt_eq_of_covers 5 _ (by decide +kernel) (fun t _ y => ?_)
  show (dats m 0 c).after 5 t y = _
  rw [after0_5]
  unfold out0_5
  rw [View.canon_unit_zero hz, View.ld_unit_zero hz, View.ld_unit_zero hz, View.ld_unit_zero hz, View.ld_unit_zero hz]
  rw [emb5]
  show k0_pay1 (F := Ideal) (grid0.coords t) (iblk m c 0 t) (iblk m c 3 t) (iblk m c 4 t) y * iblk m c 2 t y = _
  rw [pay1_at]
  exact congrArg (taps (arg1 m c) (arg2 m c) _ _ * ·) ((congrArg (iblk m c 2 t) (eq_ix2 (n0 := 256) (n1 := 1024) y)).trans (blk2 m c t (y 0) (y 1)))

theorem final6 (c : Dev nD) : (dats m 0 c).arrAt 6 cfg0.N = dhid (arg0 m c) (arg1 m c) (arg2 m c) := by
  refine (dats m 0 c).arrAt_eq_of_covers 6 _ (by decide +kernel) (fun t _ y => ?_)
  show (dats m 0 c).after 6 t y = _
  rw [after0_6]
  unfold out0_6
  rw [View.canon_unit_zero hz, View.ld_unit_zero hz, View.ld_unit_zero hz, View.ld_unit_zero hz, View.ld_unit_zero hz]
  rw [emb6]
  show k0_pay1 (F := Ideal) (grid0.coords t) (iblk m c 0 t) (iblk m c 3 t) (iblk m c 4 t) y * iblk m c 1 t y = _
  rw [pay1_at]
  exact congrArg (taps (arg1 m c) (arg2 m c) _ _ * ·) ((congrArg (iblk m c 1 t) (eq_ix2 (n0 := 256) (n1 := 1024) y)).trans (blk1 m c t (y 0) (y 1)))

end Cert.ConvInputIdeal.Taps

/-! ## The reference -/

namespace Cert.ConvInputRefIdeal.Taps

open Cert.ConvInputRefIdeal Cert.ConvInputRefIdeal.Value Cert.ConvInputRefIdeal.Read
open Cert.ConvInputIdeal.Taps (taps rowOr0 dgate dhid)

theorem ref46 (w : S3x1024.Idx → EReal) (d : S2048x1024.Idx → EReal) (r : Fin 2048) (l : Fin 1024) :
    val_main_v46 (F := Ideal) w d (ix2 r l) = taps w d r l := by
  pointwise [val_main_v46, val_main_v45, val_main_v43, val_main_v42, val_main_v41, val_main_v40, val_main_v39, val_main_v38, val_main_v37,
    val_main_v36, val_main_v35, val_main_v34, val_main_v33, val_main_v32, val_main_v27, val_main_v25, val_main_v24, val_main_v20, val_main_v18,
    val_main_v17, val_main_v11, val_main_v9, val_main_v8, val_main_cst_2, val_main_cst_3, val_main_cst_4, val_main_cst_5]
  refine (Fin.sum_univ_one _).trans ?_
  unfold taps
  congr 1
  · congr 1
    unfold rowOr0
    by_cases h : r.val + 1 < 2048
    · rw [dif_pos (by omega), dif_pos h]
      exact congrArg (fun k => w (ix2 1 l) * d (ix2 k l)) (Fin.ext (by show 2 + r.val - 1 = r.val + 1; omega))
    · rw [dif_neg (by omega), dif_neg h, mul_zero]
  · unfold rowOr0
    by_cases h : r.val + 2 < 2048
    · rw [dif_pos (by omega), dif_pos h]
      exact congrArg (fun k => w (ix2 0 l) * d (ix2 k l)) (Fin.ext (by show 2 + r.val = r.val + 2; omega))
    · rw [dif_neg (by omega), dif_neg h, mul_zero]

theorem ref49 (p : S2048x4096.Idx → EReal) (w : S3x1024.Idx → EReal) (d : S2048x1024.Idx → EReal) :
    val_main_v49 (F := Ideal) p w d = dgate p w d := by
  refine Cert.ConvInputIdeal.Taps.ext2 (n := 2048) (k := 1024) fun r l => ?_
  show val_main_v46 (F := Ideal) w d (ix2 r l) * val_main_v1 (F := Ideal) p (ix2 r l) = _
  rw [ref46]
  refine congrArg (taps w d _ _ * ·) ?_
  pointwise [val_main_v1]

theorem ref50 (p : S2048x4096.Idx → EReal) (w : S3x1024.Idx → EReal) (d : S2048x1024.Idx → EReal) :
    val_main_v50 (F := Ideal) p w d = dhid p w d := by
  refine Cert.ConvInputIdeal.Taps.ext2 (n := 2048) (k := 1024) fun r l => ?_
  show val_main_v0 (F := Ideal) p (ix2 r l) * val_main_v46 (F := Ideal) w d (ix2 r l) = _
  rw [ref46, mul_comm]
  refine congrArg (taps w d _ _ * ·) ?_
  pointwise [val_main_v0]

end Cert.ConvInputRefIdeal.Taps

/-! ## The claims -/

namespace Cert.Proof.ConvInputClaims

open Cert.ConvInputIdeal.Taps (dgate dhid arg0 arg1 arg2 final5 final6)

theorem frame_ref : Cert.quiescent_ConvInputRefIdeal := fun m ρ _ =>
  (θ_run Cert.ConvInputRefIdeal.defs _ _).mono (fun r h => ⟨fun c => (h c).2.2,
      Idealize.ShloMosaic.sem_eq_zero_of_no_sems (by decide) r.2⟩)
    (Cert.ConvInputRefIdeal.Value.run (F := Ideal) m ρ)

theorem algebraic : Cert.algebraic_ConvInputIdeal_ConvInputRefIdeal := by
  intro m ρ m' ρ' _ hagree
  refine ⟨fun c => dgate (arg0 m c) (arg1 m c) (arg2 m c), fun c => dhid (arg0 m c) (arg1 m c) (arg2 m c), ?_, ?_⟩
  · exact (θ_run Cert.ConvInputIdeal.defs _ _).mono
      (fun _ h c => ⟨(h c).1.trans (final5 m c), (h c).2.1.trans (final6 m c), (h c).2.2⟩)
      (Cert.ConvInputIdeal.Value.run_blocks (F := Ideal) m ρ)
  · refine (θ_run Cert.ConvInputRefIdeal.defs _ _).mono
      (fun _ h c => ⟨(h c).1.trans ?_, (h c).2.1.trans ?_, (h c).2.2⟩)
      (Cert.ConvInputRefIdeal.Value.run (F := Ideal) m' ρ')
    · rw [(hagree c).1, (hagree c).2.1, (hagree c).2.2]
      exact (Cert.ConvInputRefIdeal.Read.val_main_v49_eq _ _ _).trans (Cert.ConvInputRefIdeal.Taps.ref49 _ _ _)
    · rw [(hagree c).1, (hagree c).2.1, (hagree c).2.2]
      exact (Cert.ConvInputRefIdeal.Read.val_main_v50_eq _ _ _).trans (Cert.ConvInputRefIdeal.Taps.ref50 _ _ _)

end Cert.Proof.ConvInputClaims

end
-- ==== Proof.Recurrence.lean ====
/-
  The linear recurrence `s[n+1] = a s[n] + b[n]` over the complex numbers, and the eight-row tile that computes it: three
  rounds of "add `a^d` times the row `d` before" (`d = 1, 2, 4`) and then the carried state times the powers of `a`.
  `At u v z` says that the pair of extended reals `u, v` is the complex number `z`.
-/
module

public import Idealize.ShloMosaic.Lib.Pointwise
public import Idealize.ShloMosaic.Lib.KernelVsHost
public import Mathlib.Data.Complex.Basic
public import Mathlib.Data.Complex.BigOperators

@[expose] public section

noncomputable section

open Idealize.ShloMosaic

namespace Cert.Recurrence

/-- `u` and `v` are the real and imaginary part of `z`. -/
def At (u v : EReal) (z : ℂ) : Prop := u = ((z.re : ℝ) : EReal) ∧ v = ((z.im : ℝ) : EReal)

theorem At.mul {u v u' v' : EReal} {z w : ℂ} (h : At u v z) (h' : At u' v' w) : At (u * u' - v * v') (u * v' + v * u') (z * w) := by
  obtain ⟨rfl, rfl⟩ := h; obtain ⟨rfl, rfl⟩ := h'
  constructor <;> simp [Complex.mul_re, Complex.mul_im]

theorem At.add {u v u' v' : EReal} {z w : ℂ} (h : At u v z) (h' : At u' v' w) : At (u + u') (v + v') (z + w) := by
  obtain ⟨rfl, rfl⟩ := h; obtain ⟨rfl, rfl⟩ := h'
  constructor <;> simp

/-- The product of `z` with the conjugate of `w`, in the order the kernel adds it to a sum. -/
theorem At.addMulConj {p q u v u' v' : EReal} {y z w : ℂ} (hp : At p q y) (h : At u v z) (h' : At u' v' w) :
    At (p + u * u' + v * v') (q + v * u' - u * v') (y + z * (starRingEnd ℂ) w) := by
  obtain ⟨rfl, rfl⟩ := hp; obtain ⟨rfl, rfl⟩ := h; obtain ⟨rfl, rfl⟩ := h'
  constructor
  · rw [← EReal.coe_mul, ← EReal.coe_mul, ← EReal.coe_add, ← EReal.coe_add]
    refine congrArg _ ?_
    simp [Complex.mul_re]; ring
  · rw [← EReal.coe_mul, ← EReal.coe_mul, ← EReal.coe_add, ← EReal.coe_sub]
    refine congrArg _ ?_
    simp [Complex.mul_im]; ring

theorem At.zero : At 0 0 0 := ⟨rfl, rfl⟩

theorem At.sum {n : ℕ} {u v : Fin n → EReal} {z : Fin n → ℂ} (h : ∀ k, At (u k) (v k) (z k)) : At (∑ k, u k) (∑ k, v k) (∑ k, z k) := by
  have hu : u = fun k => (((z k).re : ℝ) : EReal) := funext fun k => (h k).1
  have hv : v = fun k => (((z k).im : ℝ) : EReal) := funext fun k => (h k).2
  subst hu hv
  constructor
  · rw [Complex.re_sum]; exact (map_sum (⟨⟨Real.toEReal, rfl⟩, EReal.coe_add⟩ : ℝ →+ EReal) _ _).symm
  · rw [Complex.im_sum]; exact (map_sum (⟨⟨Real.toEReal, rfl⟩, EReal.coe_add⟩ : ℝ →+ EReal) _ _).symm

/-- The state after `n` steps from `c`. -/
def run (a : ℂ) (b : ℕ → ℂ) (c : ℂ) : ℕ → ℂ
  | 0 => c
  | n + 1 => a * run a b c n + b n

theorem run_add (a : ℂ) (b : ℕ → ℂ) (c : ℂ) (m : ℕ) : ∀ n, run a b c (m + n) = run a (fun k => b (m + k)) (run a b c m) n
  | 0 => rfl
  | n + 1 => congrArg (a * · + b (m + n)) (run_add a b c m n)

/-- One round: the row `d` before, times `p`, where there is one. -/
def round (p : ℂ) (d : ℕ) (b : ℕ → ℂ) (r : ℕ) : ℂ := b r + if d ≤ r then p * b (r - d) else 0

/-- The three rounds and the carried state: the recurrence over eight rows. -/
theorem rounds_eq (a : ℂ) (b : ℕ → ℂ) (c : ℂ) (r : Fin 8) :
    round (a ^ 4) 4 (round (a ^ 2) 2 (round a 1 b)) r.val + a ^ (r.val + 1) * c = run a b c (r.val + 1) := by
  fin_cases r <;> simp [round, run] <;> ring

/-- A round as the kernel does it going down the rows: the tile rotated by `d`, times `p`, added where row `d` before exists. -/
theorem round_at {n : ℕ} (d : ℕ) (hd : d ≤ 8) {m : BitVec 32}
    (hm : ∀ r : Fin 8, IntOp.cmpi CmpIPredicate.sge (BitVec.ofNat 32 r.val) m = if d ≤ r.val then 1#1 else 0#1)
    {u v : EReal} {p : ℂ} (hp : At u v p) {x y : (⟨2, ![8, n]⟩ : Shape).Idx → EReal} {b : ℕ → ℂ} {l : Fin n}
    (hx : ∀ r : Fin 8, At (x (ix2 r l)) (y (ix2 r l)) (b r.val)) (r : Fin 8) (h : (r.val + 8 - d) % 8 < 8) :
    At (x (ix2 r l) + Scalar.select (IntOp.cmpi CmpIPredicate.sge (BitVec.ofNat 32 r.val) m)
          (u * x (ix2 ⟨(r.val + 8 - d) % 8, h⟩ l) - v * y (ix2 ⟨(r.val + 8 - d) % 8, h⟩ l)) 0)
       (y (ix2 r l) + Scalar.select (IntOp.cmpi CmpIPredicate.sge (BitVec.ofNat 32 r.val) m)
          (u * y (ix2 ⟨(r.val + 8 - d) % 8, h⟩ l) + v * x (ix2 ⟨(r.val + 8 - d) % 8, h⟩ l)) 0)
       (round p d b r.val) := by
  rw [hm r]
  unfold round
  refine (hx r).add ?_
  by_cases hr : d ≤ r.val
  · rw [if_pos hr, if_pos hr]
    have e : (r.val + 8 - d) % 8 = r.val - d := by have := r.isLt; omega
    exact hp.mul (e ▸ hx ⟨(r.val + 8 - d) % 8, h⟩)
  · rw [if_neg hr, if_neg hr]; exact At.zero

/-- The same going up the rows: row `r` of the tile is step `7 - r`. -/
theorem round_at_up {n : ℕ} (d : ℕ) (hd : d ≤ 8) {m : BitVec 32}
    (hm : ∀ r : Fin 8, IntOp.cmpi CmpIPredicate.slt (BitVec.ofNat 32 r.val) m = if r.val + d < 8 then 1#1 else 0#1)
    {u v : EReal} {p : ℂ} (hp : At u v p) {x y : (⟨2, ![8, n]⟩ : Shape).Idx → EReal} {b : ℕ → ℂ} {l : Fin n}
    (hx : ∀ r : Fin 8, At (x (ix2 r l)) (y (ix2 r l)) (b (7 - r.val))) (r : Fin 8) (h : (r.val + 8 - (8 - d)) % 8 < 8) :
    At (x (ix2 r l) + Scalar.select (IntOp.cmpi CmpIPredicate.slt (BitVec.ofNat 32 r.val) m)
          (u * x (ix2 ⟨(r.val + 8 - (8 - d)) % 8, h⟩ l) - v * y (ix2 ⟨(r.val + 8 - (8 - d)) % 8, h⟩ l)) 0)
       (y (ix2 r l) + Scalar.select (IntOp.cmpi CmpIPredicate.slt (BitVec.ofNat 32 r.val) m)
          (u * y (ix2 ⟨(r.val + 8 - (8 - d)) % 8, h⟩ l) + v * x (ix2 ⟨(r.val + 8 - (8 - d)) % 8, h⟩ l)) 0)
       (round p d b (7 - r.val)) := by
  rw [hm r]
  unfold round
  refine (hx r).add ?_
  have hr8 := r.isLt
  by_cases hr : r.val + d < 8
  · rw [if_pos hr, if_pos (by omega)]
    have e : 7 - (r.val + 8 - (8 - d)) % 8 = 7 - r.val - d := by omega
    exact hp.mul (e ▸ hx ⟨(r.val + 8 - (8 - d)) % 8, h⟩)
  · rw [if_neg hr, if_neg (by omega)]; exact At.zero

theorem sge_1 : ∀ r : Fin 8, IntOp.cmpi CmpIPredicate.sge (BitVec.ofNat 32 r.val) 1#32 = if 1 ≤ r.val then 1#1 else 0#1 := by decide
theorem sge_2 : ∀ r : Fin 8, IntOp.cmpi CmpIPredicate.sge (BitVec.ofNat 32 r.val) 2#32 = if 2 ≤ r.val then 1#1 else 0#1 := by decide
theorem sge_4 : ∀ r : Fin 8, IntOp.cmpi CmpIPredicate.sge (BitVec.ofNat 32 r.val) 4#32 = if 4 ≤ r.val then 1#1 else 0#1 := by decide
theorem slt_7 : ∀ r : Fin 8, IntOp.cmpi CmpIPredicate.slt (BitVec.ofNat 32 r.val) 7#32 = if r.val + 1 < 8 then 1#1 else 0#1 := by decide
theorem slt_6 : ∀ r : Fin 8, IntOp.cmpi CmpIPredicate.slt (BitVec.ofNat 32 r.val) 6#32 = if r.val + 2 < 8 then 1#1 else 0#1 := by decide
theorem slt_4 : ∀ r : Fin 8, IntOp.cmpi CmpIPredicate.slt (BitVec.ofNat 32 r.val) 4#32 = if r.val + 4 < 8 then 1#1 else 0#1 := by decide

end Cert.Recurrence
-- ==== Proof.ScanUp.lean ====
/-
  The first region of the scan: the states `s[t] = a s[t-1] + b[t]` of 512 columns, eight rows a trip.
-/
module

public import proofs.«01_k».proof.Proof.Gen.ScanGradIdeal.Frame
public import proofs.«01_k».proof.Proof.Recurrence
public import Idealize.ShloMosaic.Lib.WholeRead
public import Idealize.ShloMosaic.Lib.Pipeline.ReadBack

@[expose] public section
set_option maxRecDepth 16384
noncomputable section
open Idealize.ShloMosaic Idealize.ShloMosaic.TcCoe Idealize.SL.Sem
open Cert.Recurrence
namespace Cert.ScanGradIdeal.Up
open Cert.ScanGradIdeal Cert.ScanGradIdeal.Gen

/-- The rows of a tile, numbered. -/
abbrev rows : IVec S8x512 32 := iota .tc S8x512 32 [0] iota_S8x512_d0_w32

/-- A load of a whole one-row buffer is its contents. -/
theorem load_row (arg : Memref sig .tc .vmem S1x512 .f32) (harg : arg.IsWhole) (x : Vec Ideal S1x512 .f32)
    (h : ∀ a, (![0, 0] : Fin 2 → ℕ) a + S1x512.size a ≤ S1x512.size a) :
    View.readAt (Elt Ideal) arg.view (Rect.unit (s := S1x512) ![0, 0] S1x512.size h).toLoadRect (harg.unread x) = x := by
  funext j
  refine (harg.readAt_unread x _ j).trans (congrArg x ?_)
  funext a
  apply Fin.ext
  match a with
  | ⟨0, _⟩ => exact (Nat.zero_add _).trans (Nat.one_mul _)
  | ⟨1, _⟩ => exact (Nat.zero_add _).trans (Nat.one_mul _)

/-- A load of eight rows of a column block. -/
theorem load_tile (arg : Memref sig .tc .vmem S2048x512 .f32) (harg : arg.IsWhole) (x : Vec Ideal S2048x512 .f32) (off : Fin 2 → ℕ)
    (h : ∀ a, off a + S8x512.size a ≤ S2048x512.size a) (o : ℕ) (ho : off = ![o, 0]) (r : Fin 8) (l : Fin 512) (hr : o + r.val < 2048) :
    View.readAt (Elt Ideal) arg.view (Rect.unit (s := S2048x512) off S8x512.size h).toLoadRect (harg.unread x) (ix2 r l) = x (ix2 ⟨o + r.val, hr⟩ l) := by
  subst ho
  refine (harg.readAt_unread x _ _).trans (congrArg x ?_)
  funext a
  apply Fin.ext
  match a with
  | ⟨0, _⟩ => show o + 1 * r.val = _; simp
  | ⟨1, _⟩ => show 0 + 1 * l.val = _; simp

section Powers
variable {x0 x1 : Vec Ideal S1x512 .f32} {l : Fin 512} {a : ℂ} (ha : At (x0 (ix2 0 l)) (x1 (ix2 0 l)) a)
include ha

theorem pow2 : At (k0_pay21 (F := Ideal) x0 x1 (ix2 0 l)) (k0_pay22 (F := Ideal) x0 x1 (ix2 0 l)) (a ^ 2) := by
  pointwise [k0_pay21, k0_pay22]
  exact (pow_two a).symm ▸ ha.mul ha

theorem pow3 : At (k0_pay23 (F := Ideal) x0 x1 (ix2 0 l)) (k0_pay24 (F := Ideal) x0 x1 (ix2 0 l)) (a ^ 3) := by
  pointwise [k0_pay23, k0_pay24]
  exact (pow_succ a 2).symm ▸ (pow2 ha).mul ha

theorem pow4 : At (k0_pay25 (F := Ideal) x0 x1 (ix2 0 l)) (k0_pay26 (F := Ideal) x0 x1 (ix2 0 l)) (a ^ 4) := by
  pointwise [k0_pay25, k0_pay26]
  exact (pow_succ a 3).symm ▸ (pow3 ha).mul ha

theorem pow5 : At (k0_pay27 (F := Ideal) x0 x1 (ix2 0 l)) (k0_pay28 (F := Ideal) x0 x1 (ix2 0 l)) (a ^ 5) := by
  pointwise [k0_pay27, k0_pay28]
  exact (pow_succ a 4).symm ▸ (pow4 ha).mul ha

theorem pow6 : At (k0_pay29 (F := Ideal) x0 x1 (ix2 0 l)) (k0_pay30 (F := Ideal) x0 x1 (ix2 0 l)) (a ^ 6) := by
  pointwise [k0_pay29, k0_pay30]
  exact (pow_succ a 5).symm ▸ (pow5 ha).mul ha

theorem pow7 : At (k0_pay31 (F := Ideal) x0 x1 (ix2 0 l)) (k0_pay32 (F := Ideal) x0 x1 (ix2 0 l)) (a ^ 7) := by
  pointwise [k0_pay31, k0_pay32]
  exact (pow_succ a 6).symm ▸ (pow6 ha).mul ha

theorem pow8 : At (k0_pay33 (F := Ideal) x0 x1 (ix2 0 l)) (k0_pay34 (F := Ideal) x0 x1 (ix2 0 l)) (a ^ 8) := by
  pointwise [k0_pay33, k0_pay34]
  exact (pow_succ a 7).symm ▸ (pow7 ha).mul ha

/-- The table of powers: row `r` holds `a ^ (r + 1)`. -/
theorem table_at (r : Fin 8) : At (k0_pay1 (k0_pay31 x0 x1) (k0_pay33 x0 x1) rows (k0_pay38 (k0_pay21 x0 x1) (k0_pay23 x0 x1) (k0_pay25 x0 x1) (k0_pay27 x0 x1) (k0_pay29 x0 x1) rows (k0_pay36 x0)) (ix2 r l))
    (k0_pay2 (k0_pay30 x0 x1) (k0_pay32 x0 x1) (k0_pay34 x0 x1) rows (k0_pay37 x1 (k0_pay22 x0 x1) (k0_pay24 x0 x1) (k0_pay26 x0 x1) (k0_pay28 x0 x1) rows k0_pay35) (ix2 r l)) (a ^ (r.val + 1)) := by
  pointwise [k0_pay1, k0_pay2, k0_pay35, k0_pay36, k0_pay37, k0_pay38]
  fin_cases r
  · exact (pow_one a).symm ▸ ha
  · exact pow2 ha
  · exact pow3 ha
  · exact pow4 ha
  · exact pow5 ha
  · exact pow6 ha
  · exact pow7 ha
  · exact pow8 ha

end Powers

section Tile
variable {x0 x1 c0 c1 : Vec Ideal S1x512 .f32} {x y : Vec Ideal S8x512 .f32} {l : Fin 512} {a c : ℂ} {b : ℕ → ℂ}

/-- The tile a trip stores, real part. -/
abbrev tileRe (x0 x1 c0 c1 : Vec Ideal S1x512 .f32) (x y : Vec Ideal S8x512 .f32) : FVec Ideal S8x512 .f32 :=
  k0_pay7 (k0_pay25 x0 x1) (k0_pay26 x0 x1) (k0_pay30 x0 x1) (k0_pay31 x0 x1) (k0_pay32 x0 x1) (k0_pay33 x0 x1) (k0_pay34 x0 x1) rows (k0_pay37 x1 (k0_pay22 x0 x1) (k0_pay24 x0 x1) (k0_pay26 x0 x1) (k0_pay28 x0 x1) rows k0_pay35) (k0_pay38 (k0_pay21 x0 x1) (k0_pay23 x0 x1) (k0_pay25 x0 x1) (k0_pay27 x0 x1) (k0_pay29 x0 x1) rows (k0_pay36 x0)) c0 c1
    (k0_pay19 x0 x1 (k0_pay21 x0 x1) (k0_pay22 x0 x1) rows x y) (k0_pay20 x0 x1 (k0_pay21 x0 x1) (k0_pay22 x0 x1) rows x y)

/-- The tile a trip stores, imaginary part. -/
abbrev tileIm (x0 x1 c0 c1 : Vec Ideal S1x512 .f32) (x y : Vec Ideal S8x512 .f32) : FVec Ideal S8x512 .f32 :=
  k0_pay8 (k0_pay25 x0 x1) (k0_pay26 x0 x1) (k0_pay30 x0 x1) (k0_pay31 x0 x1) (k0_pay32 x0 x1) (k0_pay33 x0 x1) (k0_pay34 x0 x1) rows (k0_pay37 x1 (k0_pay22 x0 x1) (k0_pay24 x0 x1) (k0_pay26 x0 x1) (k0_pay28 x0 x1) rows k0_pay35) (k0_pay38 (k0_pay21 x0 x1) (k0_pay23 x0 x1) (k0_pay25 x0 x1) (k0_pay27 x0 x1) (k0_pay29 x0 x1) rows (k0_pay36 x0)) c0 c1
    (k0_pay19 x0 x1 (k0_pay21 x0 x1) (k0_pay22 x0 x1) rows x y) (k0_pay20 x0 x1 (k0_pay21 x0 x1) (k0_pay22 x0 x1) rows x y)

/-- Row `r` of the tile stored is the state after `r + 1` more steps. -/
theorem tile_at (ha : At (x0 (ix2 0 l)) (x1 (ix2 0 l)) a) (hc : At (c0 (ix2 0 l)) (c1 (ix2 0 l)) c)
    (hx : ∀ r : Fin 8, At (x (ix2 r l)) (y (ix2 r l)) (b r.val)) (r : Fin 8) :
    At (tileRe x0 x1 c0 c1 x y (ix2 r l)) (tileIm x0 x1 c0 c1 x y (ix2 r l)) (run a b c (r.val + 1)) := by
  have h1 : ∀ r : Fin 8, At (k0_pay14 x0 x1 rows x y (ix2 r l)) (k0_pay15 x0 x1 rows x y (ix2 r l)) (round a 1 b r.val) := by
    intro r
    pointwise [k0_pay14, k0_pay15, k0_pay11, k0_pay12, k0_pay13]
    exact round_at 1 (by decide) sge_1 ha hx r _
  have h2 : ∀ r : Fin 8, At (k0_pay19 x0 x1 (k0_pay21 x0 x1) (k0_pay22 x0 x1) rows x y (ix2 r l)) (k0_pay20 x0 x1 (k0_pay21 x0 x1) (k0_pay22 x0 x1) rows x y (ix2 r l))
      (round (a ^ 2) 2 (round a 1 b) r.val) := by
    intro r
    pointwise [k0_pay19, k0_pay20, k0_pay16, k0_pay17, k0_pay18]
    exact round_at 2 (by decide) sge_2 (pow2 ha) h1 r _
  have ht := table_at ha r
  rw [← rounds_eq]
  revert h2 ht
  unfold tileRe tileIm
  generalize k0_pay19 x0 x1 (k0_pay21 x0 x1) (k0_pay22 x0 x1) rows x y = X
  generalize k0_pay20 x0 x1 (k0_pay21 x0 x1) (k0_pay22 x0 x1) rows x y = Y
  unfold k0_pay7 k0_pay8
  generalize k0_pay1 (k0_pay31 x0 x1) (k0_pay33 x0 x1) rows (k0_pay38 (k0_pay21 x0 x1) (k0_pay23 x0 x1) (k0_pay25 x0 x1) (k0_pay27 x0 x1) (k0_pay29 x0 x1) rows (k0_pay36 x0)) = T
  generalize k0_pay2 (k0_pay30 x0 x1) (k0_pay32 x0 x1) (k0_pay34 x0 x1) rows (k0_pay37 x1 (k0_pay22 x0 x1) (k0_pay24 x0 x1) (k0_pay26 x0 x1) (k0_pay28 x0 x1) rows k0_pay35) = T'
  intro h2 ht
  pointwise [k0_pay4, k0_pay5, k0_pay6]
  exact (round_at 4 (by decide) sge_4 (pow4 ha) h2 r _).add (ht.mul hc)

end Tile

section Loop
variable (c : Dev nD) (i : grid0.Coords) (arg1 : Memref sig .tc .vmem S1x512 .f32) (harg1 : arg1.IsWhole) (arg2 : Memref sig .tc .vmem S1x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole)
  (x0 x1 : Vec Ideal S1x512 .f32) (x2 x3 : Vec Ideal S2048x512 .f32)

/-- The loop before trip `k`: the carried state and the tiles stored so far. -/
abbrev st (k : ℕ) := st_k0_t1 (F := Ideal) Variants.none c none i arg1 harg1 arg2 harg2 arg3 harg3 arg4 harg4 arg5 harg5 arg6 harg6 x0 x1 (k0_pay21 x0 x1) (k0_pay22 x0 x1) (k0_pay25 x0 x1) (k0_pay26 x0 x1) (k0_pay30 x0 x1) (k0_pay31 x0 x1) (k0_pay32 x0 x1) (k0_pay33 x0 x1) (k0_pay34 x0 x1) rows (k0_pay37 x1 (k0_pay22 x0 x1) (k0_pay24 x0 x1) (k0_pay26 x0 x1) (k0_pay28 x0 x1) rows k0_pay35) (k0_pay38 (k0_pay21 x0 x1) (k0_pay23 x0 x1) (k0_pay25 x0 x1) (k0_pay27 x0 x1) (k0_pay29 x0 x1) rows (k0_pay36 x0)) (harg3.unread x2) (harg4.unread x3) (k0_pay3, k0_pay3) k

theorem run_re : (kernelRun0_A c i arg1 harg1 arg2 harg2 arg3 harg3 arg4 harg4 arg5 harg5 arg6 harg6 x0 x1 x2 x3).1 = (st c i arg1 harg1 arg2 harg2 arg3 harg3 arg4 harg4 arg5 harg5 arg6 harg6 x0 x1 x2 x3 256).2.1 := by
  unfold kernelRun0_A
  dsimp only
  sl_unfold_words
  rw [load_row arg1 harg1 x0 inb_S1x512_S1x512_0_0, load_row arg2 harg2 x1 inb_S1x512_S1x512_0_0]
  rfl

theorem run_im : (kernelRun0_A c i arg1 harg1 arg2 harg2 arg3 harg3 arg4 harg4 arg5 harg5 arg6 harg6 x0 x1 x2 x3).2.1 = (st c i arg1 harg1 arg2 harg2 arg3 harg3 arg4 harg4 arg5 harg5 arg6 harg6 x0 x1 x2 x3 256).2.2 := by
  unfold kernelRun0_A
  dsimp only
  sl_unfold_words
  rw [load_row arg1 harg1 x0 inb_S1x512_S1x512_0_0, load_row arg2 harg2 x1 inb_S1x512_S1x512_0_0]
  rfl

theorem trips_eq (k : Fin k0_t1_loop.trips) : k.val < 256 := Nat.lt_of_lt_of_le k.isLt k0_t1_abs.2.1

/-- What a trip yields: the last row of its tile. -/
theorem trip_yield (k : Fin k0_t1_loop.trips) : ∃ x y : Vec Ideal S8x512 .f32,
    (∀ (r : Fin 8) (l : Fin 512) (h : 8 * k.val + r.val < 2048), x (ix2 r l) = x2 (ix2 ⟨8 * k.val + r.val, h⟩ l) ∧ y (ix2 r l) = x3 (ix2 ⟨8 * k.val + r.val, h⟩ l)) ∧
    (∀ l : Fin 512, (st c i arg1 harg1 arg2 harg2 arg3 harg3 arg4 harg4 arg5 harg5 arg6 harg6 x0 x1 x2 x3 (k.val + 1)).1.1 (ix2 0 l)
        = tileRe x0 x1 (st c i arg1 harg1 arg2 harg2 arg3 harg3 arg4 harg4 arg5 harg5 arg6 harg6 x0 x1 x2 x3 k.val).1.1 (st c i arg1 harg1 arg2 harg2 arg3 harg3 arg4 harg4 arg5 harg5 arg6 harg6 x0 x1 x2 x3 k.val).1.2 x y (ix2 7 l)
      ∧ (st c i arg1 harg1 arg2 harg2 arg3 harg3 arg4 harg4 arg5 harg5 arg6 harg6 x0 x1 x2 x3 (k.val + 1)).1.2 (ix2 0 l)
        = tileIm x0 x1 (st c i arg1 harg1 arg2 harg2 arg3 harg3 arg4 harg4 arg5 harg5 arg6 harg6 x0 x1 x2 x3 k.val).1.1 (st c i arg1 harg1 arg2 harg2 arg3 harg3 arg4 harg4 arg5 harg5 arg6 harg6 x0 x1 x2 x3 k.val).1.2 x y (ix2 7 l)) ∧
    (st c i arg1 harg1 arg2 harg2 arg3 harg3 arg4 harg4 arg5 harg5 arg6 harg6 x0 x1 x2 x3 (k.val + 1)).2.1
      = ⟨Rect.unit (s := S2048x512) (k0_off1 k) S8x512.size (k0_off1_inb k), tileRe x0 x1 (st c i arg1 harg1 arg2 harg2 arg3 harg3 arg4 harg4 arg5 harg5 arg6 harg6 x0 x1 x2 x3 k.val).1.1 (st c i arg1 harg1 arg2 harg2 arg3 harg3 arg4 harg4 arg5 harg5 arg6 harg6 x0 x1 x2 x3 k.val).1.2 x y⟩
        :: (st c i arg1 harg1 arg2 harg2 arg3 harg3 arg4 harg4 arg5 harg5 arg6 harg6 x0 x1 x2 x3 k.val).2.1 ∧
    (st c i arg1 harg1 arg2 harg2 arg3 harg3 arg4 harg4 arg5 harg5 arg6 harg6 x0 x1 x2 x3 (k.val + 1)).2.2
      = ⟨Rect.unit (s := S2048x512) (k0_off1 k) S8x512.size (k0_off1_inb k), tileIm x0 x1 (st c i arg1 harg1 arg2 harg2 arg3 harg3 arg4 harg4 arg5 harg5 arg6 harg6 x0 x1 x2 x3 k.val).1.1 (st c i arg1 harg1 arg2 harg2 arg3 harg3 arg4 harg4 arg5 harg5 arg6 harg6 x0 x1 x2 x3 k.val).1.2 x y⟩
        :: (st c i arg1 harg1 arg2 harg2 arg3 harg3 arg4 harg4 arg5 harg5 arg6 harg6 x0 x1 x2 x3 k.val).2.2 := by
  refine ⟨View.readAt (Elt Ideal) arg3.view (Rect.unit (s := S2048x512) (k0_off1 k) S8x512.size (k0_off1_inb k)).toLoadRect (harg3.unread x2),
    View.readAt (Elt Ideal) arg4.view (Rect.unit (s := S2048x512) (k0_off1 k) S8x512.size (k0_off1_inb k)).toLoadRect (harg4.unread x3), ?_, ?_, ?_, ?_⟩
  · exact fun r l h => ⟨load_tile _ _ _ _ _ _ (k0_off1_eq k) r l h, load_tile _ _ _ _ _ _ (k0_off1_eq k) r l h⟩
  · intro l
    unfold st
    rw [st_k0_t1_succ]
    unfold tripR_k0_t1 trip_k0_t1
    dsimp only
    sl_unfold_words
    constructor
    · pointwise [k0_pay9]
    · pointwise [k0_pay10]
  · unfold st
    rw [st_k0_t1_succ]
    unfold tripL_k0_t1 trip_k0_t1
    dsimp only
    sl_unfold_words
    rfl
  · unfold st
    rw [st_k0_t1_succ]
    unfold tripL_k0_t1 trip_k0_t1
    dsimp only
    sl_unfold_words
    rfl

variable {a : Fin 512 → ℂ} {b : Fin 512 → ℕ → ℂ}

/-- The state after row `t`. -/
def s (a : Fin 512 → ℂ) (b : Fin 512 → ℕ → ℂ) (t : ℕ) (l : Fin 512) : ℂ := run (a l) (b l) 0 (t + 1)

/-- A tile whose rows are rows `8 k + r` of `G` is the block of `G` that trip `k` stores. -/
theorem piece_at (k : Fin k0_t1_loop.trips) (X : S8x512.Idx → EReal) (G : ℕ → Fin 512 → EReal)
    (h : ∀ (r : Fin 8) (l : Fin 512), X (ix2 r l) = G (8 * k.val + r.val) l) (z : S8x512.Idx) :
    X z = (fun j : S2048x512.Idx => G (j 0).val (j 1)) ((Rect.unit (s := S2048x512) (k0_off1 k) S8x512.size (k0_off1_inb k)).emb z) := by
  have e0 : ((Rect.unit (s := S2048x512) (k0_off1 k) S8x512.size (k0_off1_inb k)).emb z 0).val = 8 * k.val + (z 0).val := by
    show k0_off1 k 0 + 1 * (z 0).val = _
    rw [k0_off1_eq]; show 8 * k.val + _ = _; omega
  have e1 : (Rect.unit (s := S2048x512) (k0_off1 k) S8x512.size (k0_off1_inb k)).emb z 1 = z 1 := by
    apply Fin.ext
    show k0_off1 k 1 + 1 * (z 1).val = _
    rw [k0_off1_eq]; show 0 + _ = _; omega
  show X z = G _ _
  rw [e0, e1]
  exact (congrArg X (eq_ix2 z)).trans (h _ _)

theorem inv (ha : ∀ l : Fin 512, At (x0 (ix2 0 l)) (x1 (ix2 0 l)) (a l))
    (hb : ∀ (t : Fin 2048) (l : Fin 512), At (x2 (ix2 t l)) (x3 (ix2 t l)) (b l t.val)) : ∀ k : ℕ, k ≤ 256 →
    (∀ l : Fin 512, At ((st c i arg1 harg1 arg2 harg2 arg3 harg3 arg4 harg4 arg5 harg5 arg6 harg6 x0 x1 x2 x3 k).1.1 (ix2 0 l)) ((st c i arg1 harg1 arg2 harg2 arg3 harg3 arg4 harg4 arg5 harg5 arg6 harg6 x0 x1 x2 x3 k).1.2 (ix2 0 l)) (run (a l) (b l) 0 (8 * k))) ∧
    View.PiecesOf (fun j : S2048x512.Idx => (((s a b (j 0).val (j 1)).re : ℝ) : EReal)) (st c i arg1 harg1 arg2 harg2 arg3 harg3 arg4 harg4 arg5 harg5 arg6 harg6 x0 x1 x2 x3 k).2.1 ∧
    View.PiecesOf (fun j : S2048x512.Idx => (((s a b (j 0).val (j 1)).im : ℝ) : EReal)) (st c i arg1 harg1 arg2 harg2 arg3 harg3 arg4 harg4 arg5 harg5 arg6 harg6 x0 x1 x2 x3 k).2.2
  | 0, _ => ⟨fun l => by
      show At (k0_pay3 (F := Ideal) (ix2 0 l)) (k0_pay3 (F := Ideal) (ix2 0 l)) 0
      pointwise [k0_pay3]
      exact At.zero, trivial, trivial⟩
  | k + 1, hk => by
    obtain ⟨hc, hre, him⟩ := inv ha hb k (by omega)
    have ht : k < k0_t1_loop.trips := by show k < 256; omega
    obtain ⟨x, y, hxy, hyield, hpre, hpim⟩ := trip_yield c i arg1 harg1 arg2 harg2 arg3 harg3 arg4 harg4 arg5 harg5 arg6 harg6 x0 x1 x2 x3 ⟨k, ht⟩
    have htile : ∀ (r : Fin 8) (l : Fin 512), At
        (tileRe x0 x1 (st c i arg1 harg1 arg2 harg2 arg3 harg3 arg4 harg4 arg5 harg5 arg6 harg6 x0 x1 x2 x3 k).1.1 (st c i arg1 harg1 arg2 harg2 arg3 harg3 arg4 harg4 arg5 harg5 arg6 harg6 x0 x1 x2 x3 k).1.2 x y (ix2 r l))
        (tileIm x0 x1 (st c i arg1 harg1 arg2 harg2 arg3 harg3 arg4 harg4 arg5 harg5 arg6 harg6 x0 x1 x2 x3 k).1.1 (st c i arg1 harg1 arg2 harg2 arg3 harg3 arg4 harg4 arg5 harg5 arg6 harg6 x0 x1 x2 x3 k).1.2 x y (ix2 r l)) (s a b (8 * k + r.val) l) := by
      intro r l
      have := tile_at (x := x) (y := y) (b := fun j => b l (8 * k + j)) (ha l) (hc l) (fun r => by
        have hr : 8 * k + r.val < 2048 := by have := r.isLt; omega
        rw [(hxy r l hr).1, (hxy r l hr).2]
        exact hb ⟨8 * k + r.val, hr⟩ l) r
      rw [← run_add] at this
      exact this
    refine ⟨fun l => ?_, ?_, ?_⟩
    · rw [(hyield l).1, (hyield l).2]
      exact htile 7 l
    · rw [hpre]
      refine ⟨fun z => ?_, hre⟩
      exact piece_at ⟨k, ht⟩ _ (fun t l => (((s a b t l).re : ℝ) : EReal)) (fun r l => (htile r l).1) z
    · rw [hpim]
      refine ⟨fun z => ?_, him⟩
      exact piece_at ⟨k, ht⟩ _ (fun t l => (((s a b t l).im : ℝ) : EReal)) (fun r l => (htile r l).2) z

/-- What the region leaves in the block of its first output. -/
theorem out_re (ha : ∀ l : Fin 512, At (x0 (ix2 0 l)) (x1 (ix2 0 l)) (a l))
    (hb : ∀ (t : Fin 2048) (l : Fin 512), At (x2 (ix2 t l)) (x3 (ix2 t l)) (b l t.val)) (j : S2048x512.Idx) :
    out0_A_4 c i arg1 harg1 arg2 harg2 arg3 harg3 arg4 harg4 arg5 harg5 arg6 harg6 x0 x1 x2 x3 j = (((s a b (j 0).val (j 1)).re : ℝ) : EReal) := by
  unfold out0_A_4
  rw [View.read_writes_junk_apply_eq_canon]
  obtain ⟨pc, hpc, hy⟩ := cover0_A_4 c i arg1 harg1 arg2 harg2 arg3 harg3 arg4 harg4 arg5 harg5 arg6 harg6 x0 x1 x2 x3 j
  rw [run_re] at hpc ⊢
  have := View.canon_append_of_piecesOf _ [] _ (inv c i arg1 harg1 arg2 harg2 arg3 harg3 arg4 harg4 arg5 harg5 arg6 harg6 x0 x1 x2 x3 ha hb 256 le_rfl).2.1 j ⟨pc, hpc, hy⟩
  rw [List.append_nil] at this
  exact this

/-- What the region leaves in the block of its second output. -/
theorem out_im (ha : ∀ l : Fin 512, At (x0 (ix2 0 l)) (x1 (ix2 0 l)) (a l))
    (hb : ∀ (t : Fin 2048) (l : Fin 512), At (x2 (ix2 t l)) (x3 (ix2 t l)) (b l t.val)) (j : S2048x512.Idx) :
    out0_A_5 c i arg1 harg1 arg2 harg2 arg3 harg3 arg4 harg4 arg5 harg5 arg6 harg6 x0 x1 x2 x3 j = (((s a b (j 0).val (j 1)).im : ℝ) : EReal) := by
  unfold out0_A_5
  rw [View.read_writes_junk_apply_eq_canon]
  obtain ⟨pc, hpc, hy⟩ := cover0_A_5 c i arg1 harg1 arg2 harg2 arg3 harg3 arg4 harg4 arg5 harg5 arg6 harg6 x0 x1 x2 x3 j
  rw [run_im] at hpc ⊢
  have := View.canon_append_of_piecesOf _ [] _ (inv c i arg1 harg1 arg2 harg2 arg3 harg3 arg4 harg4 arg5 harg5 arg6 harg6 x0 x1 x2 x3 ha hb 256 le_rfl).2.2 j ⟨pc, hpc, hy⟩
  rw [List.append_nil] at this
  exact this
end Loop
end Cert.ScanGradIdeal.Up
-- ==== Proof.ScanDown.lean ====
/-
  The second region of the scan: the adjoint recurrence `m[t] = g[t] + a' m[t+1]`, rows taken from the last to the first, and the
  sum over the rows of `m[t]` times the conjugate of the state one row before.
-/
module

public import proofs.«01_k».proof.Proof.ScanUp

@[expose] public section
set_option maxRecDepth 16384
noncomputable section
open Idealize.ShloMosaic Idealize.ShloMosaic.TcCoe Idealize.SL.Sem
open Cert.Recurrence
namespace Cert.ScanGradIdeal.Down
open Cert.ScanGradIdeal Cert.ScanGradIdeal.Gen
open Cert.ScanGradIdeal.Up (rows load_row load_tile)

section Powers
variable {x0 x1 : Vec Ideal S1x512 .f32} {l : Fin 512} {a : ℂ} (ha : At (x0 (ix2 0 l)) (x1 (ix2 0 l)) a)
include ha

theorem pow1 : At (x0 (ix2 0 l)) (k1_pay31 (F := Ideal) x1 (ix2 0 l)) a := by
  pointwise [k1_pay31]
  exact ha

theorem pow2 : At (k1_pay32 (F := Ideal) x0 x1 (ix2 0 l)) (k1_pay33 (F := Ideal) x0 x1 (ix2 0 l)) (a ^ 2) := by
  unfold k1_pay32 k1_pay33
  pointwise []
  exact (pow_two a).symm ▸ (pow1 ha).mul (pow1 ha)

theorem pow3 : At (k1_pay34 (F := Ideal) x0 x1 (ix2 0 l)) (k1_pay35 (F := Ideal) x0 x1 (ix2 0 l)) (a ^ 3) := by
  unfold k1_pay34 k1_pay35
  pointwise []
  exact (pow_succ a 2).symm ▸ (pow2 ha).mul (pow1 ha)

theorem pow4 : At (k1_pay36 (F := Ideal) x0 x1 (ix2 0 l)) (k1_pay37 (F := Ideal) x0 x1 (ix2 0 l)) (a ^ 4) := by
  unfold k1_pay36 k1_pay37
  pointwise []
  exact (pow_succ a 3).symm ▸ (pow3 ha).mul (pow1 ha)

theorem pow5 : At (k1_pay38 (F := Ideal) x0 x1 (ix2 0 l)) (k1_pay39 (F := Ideal) x0 x1 (ix2 0 l)) (a ^ 5) := by
  unfold k1_pay38 k1_pay39
  pointwise []
  exact (pow_succ a 4).symm ▸ (pow4 ha).mul (pow1 ha)

theorem pow6 : At (k1_pay40 (F := Ideal) x0 x1 (ix2 0 l)) (k1_pay41 (F := Ideal) x0 x1 (ix2 0 l)) (a ^ 6) := by
  unfold k1_pay40 k1_pay41
  pointwise []
  exact (pow_succ a 5).symm ▸ (pow5 ha).mul (pow1 ha)

theorem pow7 : At (k1_pay42 (F := Ideal) x0 x1 (ix2 0 l)) (k1_pay43 (F := Ideal) x0 x1 (ix2 0 l)) (a ^ 7) := by
  unfold k1_pay42 k1_pay43
  pointwise []
  exact (pow_succ a 6).symm ▸ (pow6 ha).mul (pow1 ha)

theorem pow8 : At (k1_pay42 (F := Ideal) x0 x1 (ix2 0 l) * x0 (ix2 0 l) - k1_pay43 (F := Ideal) x0 x1 (ix2 0 l) * k1_pay31 (F := Ideal) x1 (ix2 0 l))
    (k1_pay44 (F := Ideal) x0 x1 (ix2 0 l)) (a ^ 8) := by
  unfold k1_pay44
  pointwise []
  exact (pow_succ a 7).symm ▸ (pow7 ha).mul (pow1 ha)

/-- The table of powers: row `r` holds `a ^ (8 - r)`. -/
theorem table_at (r : Fin 8) : At (k1_pay1 x0 (k1_pay32 x0 x1) rows (k1_pay49 (k1_pay36 x0 x1) (k1_pay38 x0 x1) (k1_pay40 x0 x1) (k1_pay42 x0 x1) rows k1_pay45 k1_pay47 (k1_pay48 x0 x1)) (k1_pay51 rows) (k1_pay52 (k1_pay34 x0 x1)) (ix2 r l))
    (k1_pay2 (k1_pay31 x1) (k1_pay33 x0 x1) (k1_pay35 x0 x1) rows (k1_pay50 (k1_pay37 x0 x1) (k1_pay39 x0 x1) (k1_pay41 x0 x1) (k1_pay43 x0 x1) (k1_pay44 x0 x1) rows k1_pay46) (ix2 r l)) (a ^ (7 - r.val + 1)) := by
  pointwise [k1_pay1, k1_pay2, k1_pay45, k1_pay46, k1_pay47, k1_pay48, k1_pay49, k1_pay50, k1_pay51, k1_pay52]
  fin_cases r
  · exact pow8 ha
  · exact pow7 ha
  · exact pow6 ha
  · exact pow5 ha
  · exact pow4 ha
  · exact pow3 ha
  · exact pow2 ha
  · exact (pow_one a).symm ▸ pow1 ha

end Powers

section Tile
variable {x0 x1 c0 c1 : Vec Ideal S1x512 .f32} {x y : Vec Ideal S8x512 .f32} {l : Fin 512} {a c : ℂ} {b : ℕ → ℂ}

/-- The tile a trip stores, real part. -/
abbrev tileRe (x0 x1 c0 c1 : Vec Ideal S1x512 .f32) (x y : Vec Ideal S8x512 .f32) : FVec Ideal S8x512 .f32 :=
  k1_pay26 (k1_pay36 x0 x1) (k1_pay37 x0 x1) rows (k1_pay1 x0 (k1_pay32 x0 x1) rows (k1_pay49 (k1_pay36 x0 x1) (k1_pay38 x0 x1) (k1_pay40 x0 x1) (k1_pay42 x0 x1) rows k1_pay45 k1_pay47 (k1_pay48 x0 x1)) (k1_pay51 rows) (k1_pay52 (k1_pay34 x0 x1))) (k1_pay2 (k1_pay31 x1) (k1_pay33 x0 x1) (k1_pay35 x0 x1) rows (k1_pay50 (k1_pay37 x0 x1) (k1_pay39 x0 x1) (k1_pay41 x0 x1) (k1_pay43 x0 x1) (k1_pay44 x0 x1) rows k1_pay46)) c0 c1 (k1_pay15 x0 (k1_pay31 x1) rows x y) (k1_pay18 rows) (k1_pay19 x0 (k1_pay31 x1) (k1_pay32 x0 x1) (k1_pay33 x0 x1) rows x y) (k1_pay20 x0 (k1_pay31 x1) (k1_pay32 x0 x1) (k1_pay33 x0 x1) rows x y) k1_pay21

/-- The tile a trip stores, imaginary part. -/
abbrev tileIm (x0 x1 c0 c1 : Vec Ideal S1x512 .f32) (x y : Vec Ideal S8x512 .f32) : FVec Ideal S8x512 .f32 :=
  k1_pay27 (k1_pay36 x0 x1) (k1_pay37 x0 x1) rows (k1_pay1 x0 (k1_pay32 x0 x1) rows (k1_pay49 (k1_pay36 x0 x1) (k1_pay38 x0 x1) (k1_pay40 x0 x1) (k1_pay42 x0 x1) rows k1_pay45 k1_pay47 (k1_pay48 x0 x1)) (k1_pay51 rows) (k1_pay52 (k1_pay34 x0 x1))) (k1_pay2 (k1_pay31 x1) (k1_pay33 x0 x1) (k1_pay35 x0 x1) rows (k1_pay50 (k1_pay37 x0 x1) (k1_pay39 x0 x1) (k1_pay41 x0 x1) (k1_pay43 x0 x1) (k1_pay44 x0 x1) rows k1_pay46)) c0 c1 (k1_pay15 x0 (k1_pay31 x1) rows x y) (k1_pay18 rows) (k1_pay19 x0 (k1_pay31 x1) (k1_pay32 x0 x1) (k1_pay33 x0 x1) rows x y) (k1_pay20 x0 (k1_pay31 x1) (k1_pay32 x0 x1) (k1_pay33 x0 x1) rows x y) k1_pay21

/-- Row `r` of the tile stored is the state after `8 - r` more steps. -/
theorem tile_at (ha : At (x0 (ix2 0 l)) (x1 (ix2 0 l)) a) (hc : At (c0 (ix2 0 l)) (c1 (ix2 0 l)) c)
    (hx : ∀ r : Fin 8, At (x (ix2 r l)) (y (ix2 r l)) (b (7 - r.val))) (r : Fin 8) :
    At (tileRe x0 x1 c0 c1 x y (ix2 r l)) (tileIm x0 x1 c0 c1 x y (ix2 r l)) (run a b c (7 - r.val + 1)) := by
  have h1 : ∀ r : Fin 8, At (k1_pay14 x0 (k1_pay31 x1) rows x y (ix2 r l)) (k1_pay15 x0 (k1_pay31 x1) rows x y (ix2 r l)) (round a 1 b (7 - r.val)) := by
    intro r
    pointwise [k1_pay14, k1_pay15, k1_pay11, k1_pay12, k1_pay13]
    exact round_at_up 1 (by decide) slt_7 (pow1 ha) hx r _
  have h2 : ∀ r : Fin 8, At (k1_pay20 x0 (k1_pay31 x1) (k1_pay32 x0 x1) (k1_pay33 x0 x1) rows x y (ix2 r l)) (k1_pay22 (k1_pay15 x0 (k1_pay31 x1) rows x y) (k1_pay18 rows) (k1_pay19 x0 (k1_pay31 x1) (k1_pay32 x0 x1) (k1_pay33 x0 x1) rows x y) k1_pay21 (ix2 r l))
      (round (a ^ 2) 2 (round a 1 b) (7 - r.val)) := by
    intro r
    revert h1
    pointwise [k1_pay19, k1_pay22, k1_pay20, k1_pay16, k1_pay17, k1_pay18, k1_pay21]
    intro h1
    exact round_at_up 2 (by decide) slt_6 (pow2 ha) h1 r _
  have ht := table_at ha r
  have h8 : 7 - r.val < 8 := by omega
  rw [← rounds_eq a b c ⟨7 - r.val, h8⟩]
  revert h2 ht
  unfold tileRe tileIm k1_pay26 k1_pay27 k1_pay24 k1_pay23
  generalize k1_pay20 x0 (k1_pay31 x1) (k1_pay32 x0 x1) (k1_pay33 x0 x1) rows x y = X
  generalize k1_pay22 (k1_pay15 x0 (k1_pay31 x1) rows x y) (k1_pay18 rows) (k1_pay19 x0 (k1_pay31 x1) (k1_pay32 x0 x1) (k1_pay33 x0 x1) rows x y) k1_pay21 = Y
  generalize k1_pay1 x0 (k1_pay32 x0 x1) rows (k1_pay49 (k1_pay36 x0 x1) (k1_pay38 x0 x1) (k1_pay40 x0 x1) (k1_pay42 x0 x1) rows k1_pay45 k1_pay47 (k1_pay48 x0 x1)) (k1_pay51 rows) (k1_pay52 (k1_pay34 x0 x1)) = T
  generalize k1_pay2 (k1_pay31 x1) (k1_pay33 x0 x1) (k1_pay35 x0 x1) rows (k1_pay50 (k1_pay37 x0 x1) (k1_pay39 x0 x1) (k1_pay41 x0 x1) (k1_pay43 x0 x1) (k1_pay44 x0 x1) rows k1_pay46) = T'
  intro h2 ht
  pointwise [k1_pay25]
  exact (round_at_up 4 (by decide) slt_4 (pow4 ha) h2 r _).add (ht.mul hc)

end Tile
/-- The previous row's state, zero at the first row. -/
def prev (σ : ℕ → ℂ) (t : ℕ) : ℂ := if t = 0 then 0 else σ (t - 1)

theorem live_eq : ∀ k : Fin 256, ((Scalar.extui (Scalar.cmpi .sgt (Scalar.subi 255#32 (Scf.iv 0#32 1#32 k.val)) 0#32) : BitVec 32)).toInt
    = if k.val < 255 then 1 else 0 := by decide

section Prev
variable {p q : Vec Ideal S8x512 .f32} {l : Fin 512} {z w : Fin 8 → ℂ} {σ : ℕ → ℂ} {k : Fin 256}

/-- The two sums a trip adds to, row by row. -/
theorem acc_at {X Y u u' v v' : Vec Ideal S8x512 .f32} (hp : ∀ r : Fin 8, At (p (ix2 r l)) (q (ix2 r l)) (z r)) (hx : ∀ r : Fin 8, At (X (ix2 r l)) (Y (ix2 r l)) (w r))
    (hprev : k.val < 255 → At (u (ix2 7 l)) (u' (ix2 7 l)) (σ (8 * (254 - k.val) + 7)))
    (hcur : ∀ r : Fin 8, At (v (ix2 r l)) (v' (ix2 r l)) (σ (2040 - 8 * k.val + r.val))) (r : Fin 8) :
    At (k1_pay7 (F := Ideal) rows p X Y (k1_pay30 (Scalar.subi 255#32 (Scf.iv 0#32 1#32 k.val))) u u' v v' (ix2 r l))
       (k1_pay8 (F := Ideal) rows q X Y (k1_pay30 (Scalar.subi 255#32 (Scf.iv 0#32 1#32 k.val))) u u' v v' (ix2 r l))
       (z r + w r * (starRingEnd ℂ) (prev σ (2040 - 8 * k.val + r.val))) := by
  have hs : At (k1_pay5 (F := Ideal) rows (k1_pay30 (Scalar.subi 255#32 (Scf.iv 0#32 1#32 k.val))) u v (ix2 r l))
      (k1_pay6 (F := Ideal) rows (k1_pay30 (Scalar.subi 255#32 (Scf.iv 0#32 1#32 k.val))) u' v' (ix2 r l)) (prev σ (2040 - 8 * k.val + r.val)) := by
    have hl : k1_pay30 (F := Ideal) (Scalar.subi 255#32 (Scf.iv 0#32 1#32 k.val)) = (((if k.val < 255 then 1 else 0 : ℤ) : ℝ) : EReal) :=
      congrArg (fun n : ℤ => ((n : ℝ) : EReal)) (live_eq k)
    rw [hl]
    pointwise [k1_pay5, k1_pay6]
    have h0 : ∀ r : Fin 8, IntOp.cmpi CmpIPredicate.eq (BitVec.ofNat 32 r.val) 0#32 = if r.val = 0 then 1#1 else 0#1 := by decide
    rw [h0]
    have hr8 := r.isLt
    have hk := k.isLt
    unfold prev
    by_cases hr : r.val = 0
    · rw [if_pos hr]
      show At (u (ix2 7 l) * _) (u' (ix2 7 l) * _) _
      by_cases hkk : k.val < 255
      · rw [if_pos hkk, if_neg (by omega), show 2040 - 8 * k.val + r.val - 1 = 8 * (254 - k.val) + 7 by omega]
        simpa only [Int.cast_one, EReal.coe_one, mul_one] using hprev hkk
      · rw [if_neg hkk, if_pos (by omega)]
        simpa only [Int.cast_zero, EReal.coe_zero, mul_zero] using At.zero
    · rw [if_neg hr, if_neg (show ¬ (2040 - 8 * k.val + r.val = 0) by omega)]
      have := hcur ⟨r.val - 1, by omega⟩
      have e : (⟨(r.val + 8 - 1) % 8, by omega⟩ : Fin 8) = ⟨r.val - 1, by omega⟩ := Fin.ext (by show (r.val + 8 - 1) % 8 = r.val - 1; omega)
      show At (v (ix2 ⟨(r.val + 8 - 1) % 8, _⟩ l)) (v' (ix2 ⟨(r.val + 8 - 1) % 8, _⟩ l)) _
      rw [e, show 2040 - 8 * k.val + r.val - 1 = 2040 - 8 * k.val + (r.val - 1) by omega]
      exact this
  pointwise [k1_pay7, k1_pay8]
  exact (hp r).addMulConj (hx r) hs

end Prev

section Loop
variable (c : Dev nD) (i : grid1.Coords) (arg1 : Memref sig .tc .vmem S1x512 .f32) (harg1 : arg1.IsWhole) (arg2 : Memref sig .tc .vmem S1x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .f32) (harg8 : arg8.IsWhole) (arg9 : Memref sig .tc .vmem S1x512 .f32) (harg9 : arg9.IsWhole) (arg10 : Memref sig .tc .vmem S1x512 .f32) (harg10 : arg10.IsWhole)
  (x0 x1 : Vec Ideal S1x512 .f32) (x2 x3 x4 x5 : Vec Ideal S2048x512 .f32)

/-- The loop before trip `k`: the carried state, the two sums and the tiles stored so far. -/
abbrev st (k : ℕ) := st_k1_t1 (F := Ideal) Variants.none c none i arg1 harg1 arg2 harg2 arg3 harg3 arg4 harg4 arg5 harg5 arg6 harg6 arg7 harg7 arg8 harg8 arg9 harg9 arg10 harg10 x0 (k1_pay31 x1) (k1_pay32 x0 x1) (k1_pay33 x0 x1) (k1_pay35 x0 x1) (k1_pay36 x0 x1) (k1_pay37 x0 x1) rows (k1_pay49 (k1_pay36 x0 x1) (k1_pay38 x0 x1) (k1_pay40 x0 x1) (k1_pay42 x0 x1) rows k1_pay45 k1_pay47 (k1_pay48 x0 x1)) (k1_pay50 (k1_pay37 x0 x1) (k1_pay39 x0 x1) (k1_pay41 x0 x1) (k1_pay43 x0 x1) (k1_pay44 x0 x1) rows k1_pay46) (k1_pay51 rows) (k1_pay52 (k1_pay34 x0 x1)) (harg3.unread x2) (harg4.unread x3) (harg5.unread x4) (harg6.unread x5)
  (k1_pay3, k1_pay3, k1_pay4, k1_pay4) k

theorem run_re : (kernelRun1_A c i arg1 harg1 arg2 harg2 arg3 harg3 arg4 harg4 arg5 harg5 arg6 harg6 arg7 harg7 arg8 harg8 arg9 harg9 arg10 harg10 x0 x1 x2 x3 x4 x5).1 = (st c i arg1 harg1 arg2 harg2 arg3 harg3 arg4 harg4 arg5 harg5 arg6 harg6 arg7 harg7 arg8 harg8 arg9 harg9 arg10 harg10 x0 x1 x2 x3 x4 x5 256).2.1 := by
  unfold kernelRun1_A
  dsimp only
  sl_unfold_words
  rw [load_row arg1 harg1 x0 inb_S1x512_S1x512_0_0, load_row arg2 harg2 x1 inb_S1x512_S1x512_0_0]
  rfl

theorem run_im : (kernelRun1_A c i arg1 harg1 arg2 harg2 arg3 harg3 arg4 harg4 arg5 harg5 arg6 harg6 arg7 harg7 arg8 harg8 arg9 harg9 arg10 harg10 x0 x1 x2 x3 x4 x5).2.1 = (st c i arg1 harg1 arg2 harg2 arg3 harg3 arg4 harg4 arg5 harg5 arg6 harg6 arg7 harg7 arg8 harg8 arg9 harg9 arg10 harg10 x0 x1 x2 x3 x4 x5 256).2.2 := by
  unfold kernelRun1_A
  dsimp only
  sl_unfold_words
  rw [load_row arg1 harg1 x0 inb_S1x512_S1x512_0_0, load_row arg2 harg2 x1 inb_S1x512_S1x512_0_0]
  rfl

theorem run_sum_re : (kernelRun1_A c i arg1 harg1 arg2 harg2 arg3 harg3 arg4 harg4 arg5 harg5 arg6 harg6 arg7 harg7 arg8 harg8 arg9 harg9 arg10 harg10 x0 x1 x2 x3 x4 x5).2.2.1
    = [⟨Rect.unit (s := S1x512) ![0, 0] S1x512.size inb_S1x512_S1x512_0_0, k1_pay9 (st c i arg1 harg1 arg2 harg2 arg3 harg3 arg4 harg4 arg5 harg5 arg6 harg6 arg7 harg7 arg8 harg8 arg9 harg9 arg10 harg10 x0 x1 x2 x3 x4 x5 256).1.2.2.1⟩] := by
  unfold kernelRun1_A
  dsimp only
  sl_unfold_words
  rw [load_row arg1 harg1 x0 inb_S1x512_S1x512_0_0, load_row arg2 harg2 x1 inb_S1x512_S1x512_0_0]
  rfl

theorem run_sum_im : (kernelRun1_A c i arg1 harg1 arg2 harg2 arg3 harg3 arg4 harg4 arg5 harg5 arg6 harg6 arg7 harg7 arg8 harg8 arg9 harg9 arg10 harg10 x0 x1 x2 x3 x4 x5).2.2.2.1
    = [⟨Rect.unit (s := S1x512) ![0, 0] S1x512.size inb_S1x512_S1x512_0_0, k1_pay10 (st c i arg1 harg1 arg2 harg2 arg3 harg3 arg4 harg4 arg5 harg5 arg6 harg6 arg7 harg7 arg8 harg8 arg9 harg9 arg10 harg10 x0 x1 x2 x3 x4 x5 256).1.2.2.2⟩] := by
  unfold kernelRun1_A
  dsimp only
  sl_unfold_words
  rw [load_row arg1 harg1 x0 inb_S1x512_S1x512_0_0, load_row arg2 harg2 x1 inb_S1x512_S1x512_0_0]
  rfl

theorem off2_eq : ∀ k : Fin 256, k1_off2 k = ![8 * (254 - k.val), 0] := fun k => by
  have h : ∀ k : Fin 256, k1_off2 k 0 = 8 * (254 - k.val) := by decide +kernel
  funext a
  match a with
  | ⟨0, _⟩ => exact h k
  | ⟨1, _⟩ => rfl

/-- What a trip yields and stores, over the tiles it loads. -/
theorem trip_yield (k : Fin k1_t1_loop.trips) : ∃ x y u u' v v' : Vec Ideal S8x512 .f32,
    (∀ (r : Fin 8) (l : Fin 512) (h : 2040 - 8 * k.val + r.val < 2048), x (ix2 r l) = x2 (ix2 ⟨2040 - 8 * k.val + r.val, h⟩ l) ∧ y (ix2 r l) = x3 (ix2 ⟨2040 - 8 * k.val + r.val, h⟩ l)
      ∧ v (ix2 r l) = x4 (ix2 ⟨2040 - 8 * k.val + r.val, h⟩ l) ∧ v' (ix2 r l) = x5 (ix2 ⟨2040 - 8 * k.val + r.val, h⟩ l)) ∧
    (∀ (r : Fin 8) (l : Fin 512) (h : 8 * (254 - k.val) + r.val < 2048), u (ix2 r l) = x4 (ix2 ⟨8 * (254 - k.val) + r.val, h⟩ l)
      ∧ u' (ix2 r l) = x5 (ix2 ⟨8 * (254 - k.val) + r.val, h⟩ l)) ∧
    (∀ l : Fin 512, (st c i arg1 harg1 arg2 harg2 arg3 harg3 arg4 harg4 arg5 harg5 arg6 harg6 arg7 harg7 arg8 harg8 arg9 harg9 arg10 harg10 x0 x1 x2 x3 x4 x5 (k.val + 1)).1.1 (ix2 0 l) = tileRe x0 x1 (st c i arg1 harg1 arg2 harg2 arg3 harg3 arg4 harg4 arg5 harg5 arg6 harg6 arg7 harg7 arg8 harg8 arg9 harg9 arg10 harg10 x0 x1 x2 x3 x4 x5 k.val).1.1 (st c i arg1 harg1 arg2 harg2 arg3 harg3 arg4 harg4 arg5 harg5 arg6 harg6 arg7 harg7 arg8 harg8 arg9 harg9 arg10 harg10 x0 x1 x2 x3 x4 x5 k.val).1.2.1 x y (ix2 0 l)
      ∧ (st c i arg1 harg1 arg2 harg2 arg3 harg3 arg4 harg4 arg5 harg5 arg6 harg6 arg7 harg7 arg8 harg8 arg9 harg9 arg10 harg10 x0 x1 x2 x3 x4 x5 (k.val + 1)).1.2.1 (ix2 0 l) = tileIm x0 x1 (st c i arg1 harg1 arg2 harg2 arg3 harg3 arg4 harg4 arg5 harg5 arg6 harg6 arg7 harg7 arg8 harg8 arg9 harg9 arg10 harg10 x0 x1 x2 x3 x4 x5 k.val).1.1 (st c i arg1 harg1 arg2 harg2 arg3 harg3 arg4 harg4 arg5 harg5 arg6 harg6 arg7 harg7 arg8 harg8 arg9 harg9 arg10 harg10 x0 x1 x2 x3 x4 x5 k.val).1.2.1 x y (ix2 0 l)) ∧
    (st c i arg1 harg1 arg2 harg2 arg3 harg3 arg4 harg4 arg5 harg5 arg6 harg6 arg7 harg7 arg8 harg8 arg9 harg9 arg10 harg10 x0 x1 x2 x3 x4 x5 (k.val + 1)).1.2.2.1 = k1_pay7 rows (st c i arg1 harg1 arg2 harg2 arg3 harg3 arg4 harg4 arg5 harg5 arg6 harg6 arg7 harg7 arg8 harg8 arg9 harg9 arg10 harg10 x0 x1 x2 x3 x4 x5 k.val).1.2.2.1 (tileRe x0 x1 (st c i arg1 harg1 arg2 harg2 arg3 harg3 arg4 harg4 arg5 harg5 arg6 harg6 arg7 harg7 arg8 harg8 arg9 harg9 arg10 harg10 x0 x1 x2 x3 x4 x5 k.val).1.1 (st c i arg1 harg1 arg2 harg2 arg3 harg3 arg4 harg4 arg5 harg5 arg6 harg6 arg7 harg7 arg8 harg8 arg9 harg9 arg10 harg10 x0 x1 x2 x3 x4 x5 k.val).1.2.1 x y) (tileIm x0 x1 (st c i arg1 harg1 arg2 harg2 arg3 harg3 arg4 harg4 arg5 harg5 arg6 harg6 arg7 harg7 arg8 harg8 arg9 harg9 arg10 harg10 x0 x1 x2 x3 x4 x5 k.val).1.1 (st c i arg1 harg1 arg2 harg2 arg3 harg3 arg4 harg4 arg5 harg5 arg6 harg6 arg7 harg7 arg8 harg8 arg9 harg9 arg10 harg10 x0 x1 x2 x3 x4 x5 k.val).1.2.1 x y)
      (k1_pay30 (Scalar.subi 255#32 (Scf.iv 0#32 1#32 k.val))) u u' v v' ∧
    (st c i arg1 harg1 arg2 harg2 arg3 harg3 arg4 harg4 arg5 harg5 arg6 harg6 arg7 harg7 arg8 harg8 arg9 harg9 arg10 harg10 x0 x1 x2 x3 x4 x5 (k.val + 1)).1.2.2.2 = k1_pay8 rows (st c i arg1 harg1 arg2 harg2 arg3 harg3 arg4 harg4 arg5 harg5 arg6 harg6 arg7 harg7 arg8 harg8 arg9 harg9 arg10 harg10 x0 x1 x2 x3 x4 x5 k.val).1.2.2.2 (tileRe x0 x1 (st c i arg1 harg1 arg2 harg2 arg3 harg3 arg4 harg4 arg5 harg5 arg6 harg6 arg7 harg7 arg8 harg8 arg9 harg9 arg10 harg10 x0 x1 x2 x3 x4 x5 k.val).1.1 (st c i arg1 harg1 arg2 harg2 arg3 harg3 arg4 harg4 arg5 harg5 arg6 harg6 arg7 harg7 arg8 harg8 arg9 harg9 arg10 harg10 x0 x1 x2 x3 x4 x5 k.val).1.2.1 x y) (tileIm x0 x1 (st c i arg1 harg1 arg2 harg2 arg3 harg3 arg4 harg4 arg5 harg5 arg6 harg6 arg7 harg7 arg8 harg8 arg9 harg9 arg10 harg10 x0 x1 x2 x3 x4 x5 k.val).1.1 (st c i arg1 harg1 arg2 harg2 arg3 harg3 arg4 harg4 arg5 harg5 arg6 harg6 arg7 harg7 arg8 harg8 arg9 harg9 arg10 harg10 x0 x1 x2 x3 x4 x5 k.val).1.2.1 x y)
      (k1_pay30 (Scalar.subi 255#32 (Scf.iv 0#32 1#32 k.val))) u u' v v' ∧
    (st c i arg1 harg1 arg2 harg2 arg3 harg3 arg4 harg4 arg5 harg5 arg6 harg6 arg7 harg7 arg8 harg8 arg9 harg9 arg10 harg10 x0 x1 x2 x3 x4 x5 (k.val + 1)).2.1
      = ⟨Rect.unit (s := S2048x512) (k1_off1 k) S8x512.size (k1_off1_inb k), tileRe x0 x1 (st c i arg1 harg1 arg2 harg2 arg3 harg3 arg4 harg4 arg5 harg5 arg6 harg6 arg7 harg7 arg8 harg8 arg9 harg9 arg10 harg10 x0 x1 x2 x3 x4 x5 k.val).1.1 (st c i arg1 harg1 arg2 harg2 arg3 harg3 arg4 harg4 arg5 harg5 arg6 harg6 arg7 harg7 arg8 harg8 arg9 harg9 arg10 harg10 x0 x1 x2 x3 x4 x5 k.val).1.2.1 x y⟩ :: (st c i arg1 harg1 arg2 harg2 arg3 harg3 arg4 harg4 arg5 harg5 arg6 harg6 arg7 harg7 arg8 harg8 arg9 harg9 arg10 harg10 x0 x1 x2 x3 x4 x5 k.val).2.1 ∧
    (st c i arg1 harg1 arg2 harg2 arg3 harg3 arg4 harg4 arg5 harg5 arg6 harg6 arg7 harg7 arg8 harg8 arg9 harg9 arg10 harg10 x0 x1 x2 x3 x4 x5 (k.val + 1)).2.2
      = ⟨Rect.unit (s := S2048x512) (k1_off1 k) S8x512.size (k1_off1_inb k), tileIm x0 x1 (st c i arg1 harg1 arg2 harg2 arg3 harg3 arg4 harg4 arg5 harg5 arg6 harg6 arg7 harg7 arg8 harg8 arg9 harg9 arg10 harg10 x0 x1 x2 x3 x4 x5 k.val).1.1 (st c i arg1 harg1 arg2 harg2 arg3 harg3 arg4 harg4 arg5 harg5 arg6 harg6 arg7 harg7 arg8 harg8 arg9 harg9 arg10 harg10 x0 x1 x2 x3 x4 x5 k.val).1.2.1 x y⟩ :: (st c i arg1 harg1 arg2 harg2 arg3 harg3 arg4 harg4 arg5 harg5 arg6 harg6 arg7 harg7 arg8 harg8 arg9 harg9 arg10 harg10 x0 x1 x2 x3 x4 x5 k.val).2.2 := by
  refine ⟨View.readAt (Elt Ideal) arg3.view (Rect.unit (s := S2048x512) (k1_off1 k) S8x512.size (k1_off1_inb k)).toLoadRect (harg3.unread x2),
    View.readAt (Elt Ideal) arg4.view (Rect.unit (s := S2048x512) (k1_off1 k) S8x512.size (k1_off1_inb k)).toLoadRect (harg4.unread x3),
    View.readAt (Elt Ideal) arg5.view (Rect.unit (s := S2048x512) (k1_off2 k) S8x512.size (k1_off2_inb k)).toLoadRect (harg5.unread x4),
    View.readAt (Elt Ideal) arg6.view (Rect.unit (s := S2048x512) (k1_off2 k) S8x512.size (k1_off2_inb k)).toLoadRect (harg6.unread x5),
    View.readAt (Elt Ideal) arg5.view (Rect.unit (s := S2048x512) (k1_off1 k) S8x512.size (k1_off1_inb k)).toLoadRect (harg5.unread x4),
    View.readAt (Elt Ideal) arg6.view (Rect.unit (s := S2048x512) (k1_off1 k) S8x512.size (k1_off1_inb k)).toLoadRect (harg6.unread x5), ?_, ?_, ?_, ?_, ?_, ?_, ?_⟩
  · exact fun r l h => ⟨load_tile _ _ _ _ _ _ (k1_off1_eq k) r l h, load_tile _ _ _ _ _ _ (k1_off1_eq k) r l h,
      load_tile _ _ _ _ _ _ (k1_off1_eq k) r l h, load_tile _ _ _ _ _ _ (k1_off1_eq k) r l h⟩
  · exact fun r l h => ⟨load_tile _ _ _ _ _ _ (off2_eq k) r l h, load_tile _ _ _ _ _ _ (off2_eq k) r l h⟩
  · intro l
    unfold st
    rw [st_k1_t1_succ]
    unfold tripR_k1_t1 trip_k1_t1
    dsimp only
    sl_unfold_words
    constructor
    · pointwise [k1_pay28]
    · pointwise [k1_pay29]
  all_goals
    unfold st
    rw [st_k1_t1_succ]
    unfold tripR_k1_t1 tripL_k1_t1 trip_k1_t1
    dsimp only
    sl_unfold_words
    rfl

variable {a : Fin 512 → ℂ} {b σ : Fin 512 → ℕ → ℂ}

/-- The adjoint state of row `t`: `2048 - t` steps over the rows read backwards. -/
def m (a : Fin 512 → ℂ) (b : Fin 512 → ℕ → ℂ) (t : ℕ) (l : Fin 512) : ℂ := run (a l) (b l) 0 (2048 - t)

/-- A tile whose rows are rows `2040 - 8 k + r` of `G` is the block of `G` that trip `k` stores. -/
theorem piece_at (k : Fin k1_t1_loop.trips) (X : S8x512.Idx → EReal) (G : ℕ → Fin 512 → EReal)
    (h : ∀ (r : Fin 8) (l : Fin 512), X (ix2 r l) = G (2040 - 8 * k.val + r.val) l) (z : S8x512.Idx) :
    X z = (fun j : S2048x512.Idx => G (j 0).val (j 1)) ((Rect.unit (s := S2048x512) (k1_off1 k) S8x512.size (k1_off1_inb k)).emb z) := by
  have e0 : ((Rect.unit (s := S2048x512) (k1_off1 k) S8x512.size (k1_off1_inb k)).emb z 0).val = 2040 - 8 * k.val + (z 0).val := by
    show k1_off1 k 0 + 1 * (z 0).val = _
    rw [k1_off1_eq]; show 2040 - 8 * k.val + _ = _; omega
  have e1 : (Rect.unit (s := S2048x512) (k1_off1 k) S8x512.size (k1_off1_inb k)).emb z 1 = z 1 := by
    apply Fin.ext
    show k1_off1 k 1 + 1 * (z 1).val = _
    rw [k1_off1_eq]; show 0 + _ = _; omega
  show X z = G _ _
  rw [e0, e1]
  exact (congrArg X (eq_ix2 z)).trans (h _ _)

/-- What row `t` adds to the sum. -/
def term (a : Fin 512 → ℂ) (b σ : Fin 512 → ℕ → ℂ) (t : ℕ) (l : Fin 512) : ℂ := m a b t l * (starRingEnd ℂ) (prev (σ l) t)

theorem inv (ha : ∀ l : Fin 512, At (x0 (ix2 0 l)) (x1 (ix2 0 l)) (a l))
    (hb : ∀ (t : Fin 2048) (l : Fin 512), At (x2 (ix2 t l)) (x3 (ix2 t l)) (b l (2047 - t.val)))
    (hσ : ∀ (t : Fin 2048) (l : Fin 512), At (x4 (ix2 t l)) (x5 (ix2 t l)) (σ l t.val)) : ∀ k : ℕ, k ≤ 256 →
    (∀ l : Fin 512, At ((st c i arg1 harg1 arg2 harg2 arg3 harg3 arg4 harg4 arg5 harg5 arg6 harg6 arg7 harg7 arg8 harg8 arg9 harg9 arg10 harg10 x0 x1 x2 x3 x4 x5 k).1.1 (ix2 0 l)) ((st c i arg1 harg1 arg2 harg2 arg3 harg3 arg4 harg4 arg5 harg5 arg6 harg6 arg7 harg7 arg8 harg8 arg9 harg9 arg10 harg10 x0 x1 x2 x3 x4 x5 k).1.2.1 (ix2 0 l)) (run (a l) (b l) 0 (8 * k))) ∧
    (∀ (l : Fin 512) (r : Fin 8), At ((st c i arg1 harg1 arg2 harg2 arg3 harg3 arg4 harg4 arg5 harg5 arg6 harg6 arg7 harg7 arg8 harg8 arg9 harg9 arg10 harg10 x0 x1 x2 x3 x4 x5 k).1.2.2.1 (ix2 r l)) ((st c i arg1 harg1 arg2 harg2 arg3 harg3 arg4 harg4 arg5 harg5 arg6 harg6 arg7 harg7 arg8 harg8 arg9 harg9 arg10 harg10 x0 x1 x2 x3 x4 x5 k).1.2.2.2 (ix2 r l))
      (∑ n ∈ Finset.range k, term a b σ (2040 - 8 * n + r.val) l)) ∧
    View.PiecesOf (fun j : S2048x512.Idx => (((m a b (j 0).val (j 1)).re : ℝ) : EReal)) (st c i arg1 harg1 arg2 harg2 arg3 harg3 arg4 harg4 arg5 harg5 arg6 harg6 arg7 harg7 arg8 harg8 arg9 harg9 arg10 harg10 x0 x1 x2 x3 x4 x5 k).2.1 ∧
    View.PiecesOf (fun j : S2048x512.Idx => (((m a b (j 0).val (j 1)).im : ℝ) : EReal)) (st c i arg1 harg1 arg2 harg2 arg3 harg3 arg4 harg4 arg5 harg5 arg6 harg6 arg7 harg7 arg8 harg8 arg9 harg9 arg10 harg10 x0 x1 x2 x3 x4 x5 k).2.2
  | 0, _ => ⟨fun l => by
      show At (k1_pay3 (F := Ideal) (ix2 0 l)) (k1_pay3 (F := Ideal) (ix2 0 l)) 0
      pointwise [k1_pay3]
      exact At.zero, fun l r => by
      show At (k1_pay4 (F := Ideal) (ix2 r l)) (k1_pay4 (F := Ideal) (ix2 r l)) (∑ n ∈ Finset.range 0, _)
      rw [Finset.sum_range_zero]
      pointwise [k1_pay4]
      exact At.zero, trivial, trivial⟩
  | k + 1, hk => by
    obtain ⟨hc, hs, hre, him⟩ := inv ha hb hσ k (by omega)
    have ht : k < k1_t1_loop.trips := by show k < 256; omega
    obtain ⟨x, y, u, u', v, v', hxy, hu, hyield, hsr, hsi, hpre, hpim⟩ := trip_yield c i arg1 harg1 arg2 harg2 arg3 harg3 arg4 harg4 arg5 harg5 arg6 harg6 arg7 harg7 arg8 harg8 arg9 harg9 arg10 harg10 x0 x1 x2 x3 x4 x5 ⟨k, ht⟩
    have htile : ∀ (r : Fin 8) (l : Fin 512), At
        (tileRe x0 x1 (st c i arg1 harg1 arg2 harg2 arg3 harg3 arg4 harg4 arg5 harg5 arg6 harg6 arg7 harg7 arg8 harg8 arg9 harg9 arg10 harg10 x0 x1 x2 x3 x4 x5 k).1.1 (st c i arg1 harg1 arg2 harg2 arg3 harg3 arg4 harg4 arg5 harg5 arg6 harg6 arg7 harg7 arg8 harg8 arg9 harg9 arg10 harg10 x0 x1 x2 x3 x4 x5 k).1.2.1 x y (ix2 r l))
        (tileIm x0 x1 (st c i arg1 harg1 arg2 harg2 arg3 harg3 arg4 harg4 arg5 harg5 arg6 harg6 arg7 harg7 arg8 harg8 arg9 harg9 arg10 harg10 x0 x1 x2 x3 x4 x5 k).1.1 (st c i arg1 harg1 arg2 harg2 arg3 harg3 arg4 harg4 arg5 harg5 arg6 harg6 arg7 harg7 arg8 harg8 arg9 harg9 arg10 harg10 x0 x1 x2 x3 x4 x5 k).1.2.1 x y (ix2 r l)) (m a b (2040 - 8 * k + r.val) l) := by
      intro r l
      have := tile_at (x := x) (y := y) (b := fun j => b l (8 * k + j)) (ha l) (hc l) (fun r => by
        have hr8 := r.isLt
        have hr : 2040 - 8 * k + r.val < 2048 := by omega
        rw [(hxy r l hr).1, (hxy r l hr).2.1, show 8 * k + (7 - r.val) = 2047 - (2040 - 8 * k + r.val) by omega]
        exact hb ⟨2040 - 8 * k + r.val, hr⟩ l) r
      have hr8 := r.isLt
      rw [← run_add, show 8 * k + (7 - r.val + 1) = 2048 - (2040 - 8 * k + r.val) by omega] at this
      exact this
    refine ⟨fun l => ?_, fun l r => ?_, ?_, ?_⟩
    · rw [(hyield l).1, (hyield l).2]
      have := htile 0 l
      unfold m at this
      rw [show 2048 - (2040 - 8 * k + (0 : Fin 8).val) = 8 * (k + 1) by show 2048 - (2040 - 8 * k + 0) = _; omega] at this
      exact this
    · rw [hsr, hsi, Finset.sum_range_succ]
      exact acc_at (k := ⟨k, ht⟩) (w := fun r => m a b (2040 - 8 * k + r.val) l) (σ := σ l) (hs l) (fun r => htile r l)
        (fun hk => by
          have h : 8 * (254 - k) + 7 < 2048 := by omega
          rw [(hu 7 l h).1, (hu 7 l h).2]
          exact hσ ⟨8 * (254 - k) + 7, h⟩ l)
        (fun r => by
          have hr8 := r.isLt
          have hr : 2040 - 8 * k + r.val < 2048 := by omega
          rw [(hxy r l hr).2.2.1, (hxy r l hr).2.2.2]
          exact hσ ⟨2040 - 8 * k + r.val, hr⟩ l) r
    · rw [hpre]
      refine ⟨fun z => ?_, hre⟩
      exact piece_at ⟨k, ht⟩ _ (fun t l => (((m a b t l).re : ℝ) : EReal)) (fun r l => (htile r l).1) z
    · rw [hpim]
      refine ⟨fun z => ?_, him⟩
      exact piece_at ⟨k, ht⟩ _ (fun t l => (((m a b t l).im : ℝ) : EReal)) (fun r l => (htile r l).2) z

section Out
variable (ha : ∀ l : Fin 512, At (x0 (ix2 0 l)) (x1 (ix2 0 l)) (a l))
    (hb : ∀ (t : Fin 2048) (l : Fin 512), At (x2 (ix2 t l)) (x3 (ix2 t l)) (b l (2047 - t.val)))
    (hσ : ∀ (t : Fin 2048) (l : Fin 512), At (x4 (ix2 t l)) (x5 (ix2 t l)) (σ l t.val))
include ha hb hσ

theorem out_re (j : S2048x512.Idx) : out1_A_6 c i arg1 harg1 arg2 harg2 arg3 harg3 arg4 harg4 arg5 harg5 arg6 harg6 arg7 harg7 arg8 harg8 arg9 harg9 arg10 harg10 x0 x1 x2 x3 x4 x5 j = (((m a b (j 0).val (j 1)).re : ℝ) : EReal) := by
  unfold out1_A_6
  rw [View.read_writes_junk_apply_eq_canon]
  obtain ⟨pc, hpc, hy⟩ := cover1_A_6 c i arg1 harg1 arg2 harg2 arg3 harg3 arg4 harg4 arg5 harg5 arg6 harg6 arg7 harg7 arg8 harg8 arg9 harg9 arg10 harg10 x0 x1 x2 x3 x4 x5 j
  rw [run_re] at hpc ⊢
  have := View.canon_append_of_piecesOf _ [] _ (inv c i arg1 harg1 arg2 harg2 arg3 harg3 arg4 harg4 arg5 harg5 arg6 harg6 arg7 harg7 arg8 harg8 arg9 harg9 arg10 harg10 x0 x1 x2 x3 x4 x5 ha hb hσ 256 le_rfl).2.2.1 j ⟨pc, hpc, hy⟩
  rw [List.append_nil] at this
  exact this

theorem out_im (j : S2048x512.Idx) : out1_A_7 c i arg1 harg1 arg2 harg2 arg3 harg3 arg4 harg4 arg5 harg5 arg6 harg6 arg7 harg7 arg8 harg8 arg9 harg9 arg10 harg10 x0 x1 x2 x3 x4 x5 j = (((m a b (j 0).val (j 1)).im : ℝ) : EReal) := by
  unfold out1_A_7
  rw [View.read_writes_junk_apply_eq_canon]
  obtain ⟨pc, hpc, hy⟩ := cover1_A_7 c i arg1 harg1 arg2 harg2 arg3 harg3 arg4 harg4 arg5 harg5 arg6 harg6 arg7 harg7 arg8 harg8 arg9 harg9 arg10 harg10 x0 x1 x2 x3 x4 x5 j
  rw [run_im] at hpc ⊢
  have := View.canon_append_of_piecesOf _ [] _ (inv c i arg1 harg1 arg2 harg2 arg3 harg3 arg4 harg4 arg5 harg5 arg6 harg6 arg7 harg7 arg8 harg8 arg9 harg9 arg10 harg10 x0 x1 x2 x3 x4 x5 ha hb hσ 256 le_rfl).2.2.2 j ⟨pc, hpc, hy⟩
  rw [List.append_nil] at this
  exact this

theorem sums_at (l : Fin 512) : At (k1_pay9 (F := Ideal) (st c i arg1 harg1 arg2 harg2 arg3 harg3 arg4 harg4 arg5 harg5 arg6 harg6 arg7 harg7 arg8 harg8 arg9 harg9 arg10 harg10 x0 x1 x2 x3 x4 x5 256).1.2.2.1 (ix2 0 l)) (k1_pay10 (F := Ideal) (st c i arg1 harg1 arg2 harg2 arg3 harg3 arg4 harg4 arg5 harg5 arg6 harg6 arg7 harg7 arg8 harg8 arg9 harg9 arg10 harg10 x0 x1 x2 x3 x4 x5 256).1.2.2.2 (ix2 0 l))
    (∑ r : Fin 8, ∑ n ∈ Finset.range 256, term a b σ (2040 - 8 * n + r.val) l) := by
  have h := fun r => (inv c i arg1 harg1 arg2 harg2 arg3 harg3 arg4 harg4 arg5 harg5 arg6 harg6 arg7 harg7 arg8 harg8 arg9 harg9 arg10 harg10 x0 x1 x2 x3 x4 x5 ha hb hσ 256 le_rfl).2.1 l r
  generalize (st c i arg1 harg1 arg2 harg2 arg3 harg3 arg4 harg4 arg5 harg5 arg6 harg6 arg7 harg7 arg8 harg8 arg9 harg9 arg10 harg10 x0 x1 x2 x3 x4 x5 256).1.2.2.1 = X at h ⊢
  generalize (st c i arg1 harg1 arg2 harg2 arg3 harg3 arg4 harg4 arg5 harg5 arg6 harg6 arg7 harg7 arg8 harg8 arg9 harg9 arg10 harg10 x0 x1 x2 x3 x4 x5 256).1.2.2.2 = Y at h ⊢
  pointwise [k1_pay9, k1_pay10]
  exact At.sum h

theorem out_sum_re (l : Fin 512) : out1_A_8 c i arg1 harg1 arg2 harg2 arg3 harg3 arg4 harg4 arg5 harg5 arg6 harg6 arg7 harg7 arg8 harg8 arg9 harg9 arg10 harg10 x0 x1 x2 x3 x4 x5 (ix2 0 l)
    = (((∑ r : Fin 8, ∑ n ∈ Finset.range 256, term a b σ (2040 - 8 * n + r.val) l).re : ℝ) : EReal) := by
  unfold out1_A_8
  rw [View.read_writes_junk_apply_eq_canon, run_sum_re, View.canon_unit_zero (by decide)]
  exact (sums_at c i arg1 harg1 arg2 harg2 arg3 harg3 arg4 harg4 arg5 harg5 arg6 harg6 arg7 harg7 arg8 harg8 arg9 harg9 arg10 harg10 x0 x1 x2 x3 x4 x5 ha hb hσ l).1

theorem out_sum_im (l : Fin 512) : out1_A_9 c i arg1 harg1 arg2 harg2 arg3 harg3 arg4 harg4 arg5 harg5 arg6 harg6 arg7 harg7 arg8 harg8 arg9 harg9 arg10 harg10 x0 x1 x2 x3 x4 x5 (ix2 0 l)
    = (((∑ r : Fin 8, ∑ n ∈ Finset.range 256, term a b σ (2040 - 8 * n + r.val) l).im : ℝ) : EReal) := by
  unfold out1_A_9
  rw [View.read_writes_junk_apply_eq_canon, run_sum_im, View.canon_unit_zero (by decide)]
  exact (sums_at c i arg1 harg1 arg2 harg2 arg3 harg3 arg4 harg4 arg5 harg5 arg6 harg6 arg7 harg7 arg8 harg8 arg9 harg9 arg10 harg10 x0 x1 x2 x3 x4 x5 ha hb hσ l).2

end Out

end Loop

end Cert.ScanGradIdeal.Down
-- ==== Proof.ScanRun.lean ====
/-
  What the two regions of the scan leave in their arrays, read at an index. Every grid point holds 512 columns with all
  their rows, so the blocks are side by side: column `512 t + l` of an array is column `l` of point `t`'s block.
-/
module

public import proofs.«01_k».proof.Proof.ScanDown
public import Idealize.ShloMosaic.Lib.Pipeline.ValueKit
public import Idealize.ShloMosaic.Lib.Pointwise
public import Idealize.ShloMosaic.Lib.KernelVsHost

@[expose] public section
set_option maxRecDepth 16384
noncomputable section
open Idealize.ShloMosaic Idealize.ShloMosaic.TcCoe Idealize.SL.Sem
open Idealize.ShloMosaic.Pipeline (Dat)
open Cert.Recurrence
namespace Cert.ScanGradIdeal.Arrays
open Cert.ScanGradIdeal Cert.ScanGradIdeal.Gen

/-- Column `l` of the block of point `t`, as a column of the array. -/
def col (t : Fin 8) (l : Fin 512) : Fin 4096 := ⟨512 * t.val + l.val, by omega⟩

section Blocks
variable (V : (c : Dev nD) → (b : Ref sig .tc) → Buf (Elt Ideal) ((c : Thread nD τ).loc b)) (c : Dev nD)

theorem idx_facts0 : ∀ t : Fin cfg0.N, win0_0.index t (0 : Fin 2) = 0 ∧ win0_0.index t (1 : Fin 2) = t.val ∧ win0_1.index t (0 : Fin 2) = 0 ∧ win0_1.index t (1 : Fin 2) = t.val ∧ win0_2.index t (0 : Fin 2) = 0 ∧ win0_2.index t (1 : Fin 2) = t.val ∧ win0_3.index t (0 : Fin 2) = 0 ∧ win0_3.index t (1 : Fin 2) = t.val ∧ win0_4.index t (0 : Fin 2) = 0 ∧ win0_4.index t (1 : Fin 2) = t.val ∧ win0_5.index t (0 : Fin 2) = 0 ∧ win0_5.index t (1 : Fin 2) = t.val :=
  (by decide +kernel : ∀ t : Fin grid0.N, _)

theorem blk0_0 (t : Fin cfg0.N) (l : Fin 512) :
    iblk0 V c 0 t (ix2 0 l) = (V c main_arg0 : S1x4096.Idx → EReal) (ix2 0 (col t l)) := by
  show V c main_arg0 (((cfg0.win 0).blk t).view.emb (ix2 0 l)) = _
  refine congrArg (V c main_arg0 : S1x4096.Idx → EReal) ?_
  obtain ⟨e0, e1, _⟩ := idx_facts0 t
  funext a; apply Fin.ext
  match a with
  | ⟨0, _⟩ => show win0_0.index t (0 : Fin 2) * 1 + 1 * 0 = 0; omega
  | ⟨1, _⟩ => show win0_0.index t (1 : Fin 2) * 512 + 1 * l.val = 512 * t.val + l.val; omega

theorem blk0_1 (t : Fin cfg0.N) (l : Fin 512) :
    iblk0 V c 1 t (ix2 0 l) = (V c main_arg1 : S1x4096.Idx → EReal) (ix2 0 (col t l)) := by
  show V c main_arg1 (((cfg0.win 1).blk t).view.emb (ix2 0 l)) = _
  refine congrArg (V c main_arg1 : S1x4096.Idx → EReal) ?_
  obtain ⟨_, _, e0, e1, _⟩ := idx_facts0 t
  funext a; apply Fin.ext
  match a with
  | ⟨0, _⟩ => show win0_1.index t (0 : Fin 2) * 1 + 1 * 0 = 0; omega
  | ⟨1, _⟩ => show win0_1.index t (1 : Fin 2) * 512 + 1 * l.val = 512 * t.val + l.val; omega

theorem blk0_2 (t : Fin cfg0.N) (r : Fin 2048) (l : Fin 512) :
    iblk0 V c 2 t (ix2 r l) = (V c main_arg2 : S2048x4096.Idx → EReal) (ix2 r (col t l)) := by
  show V c main_arg2 (((cfg0.win 2).blk t).view.emb (ix2 r l)) = _
  refine congrArg (V c main_arg2 : S2048x4096.Idx → EReal) ?_
  obtain ⟨_, _, _, _, e0, e1, _⟩ := idx_facts0 t
  funext a; apply Fin.ext
  match a with
  | ⟨0, _⟩ => show win0_2.index t (0 : Fin 2) * 2048 + 1 * r.val = r.val; omega
  | ⟨1, _⟩ => show win0_2.index t (1 : Fin 2) * 512 + 1 * l.val = 512 * t.val + l.val; omega

theorem blk0_3 (t : Fin cfg0.N) (r : Fin 2048) (l : Fin 512) :
    iblk0 V c 3 t (ix2 r l) = (V c main_arg3 : S2048x4096.Idx → EReal) (ix2 r (col t l)) := by
  show V c main_arg3 (((cfg0.win 3).blk t).view.emb (ix2 r l)) = _
  refine congrArg (V c main_arg3 : S2048x4096.Idx → EReal) ?_
  obtain ⟨_, _, _, _, _, _, e0, e1, _⟩ := idx_facts0 t
  funext a; apply Fin.ext
  match a with
  | ⟨0, _⟩ => show win0_3.index t (0 : Fin 2) * 2048 + 1 * r.val = r.val; omega
  | ⟨1, _⟩ => show win0_3.index t (1 : Fin 2) * 512 + 1 * l.val = 512 * t.val + l.val; omega

theorem emb0_4 (t : Fin cfg0.N) (y : (⟨2, ![2048, 512]⟩ : Shape).Idx) : ((cfg0.win 4).blk t).view.emb y
    = ix2 (n0 := 2048) (n1 := 4096) (y 0) (col t (y 1)) := by
  obtain ⟨_, _, _, _, _, _, _, _, e0, e1, _⟩ := idx_facts0 t
  funext a; apply Fin.ext
  match a with
  | ⟨0, _⟩ => show win0_4.index t (0 : Fin 2) * 2048 + 1 * (y 0).val = (y 0).val; omega
  | ⟨1, _⟩ => show win0_4.index t (1 : Fin 2) * 512 + 1 * (y 1).val = 512 * t.val + (y 1).val; omega

theorem emb0_5 (t : Fin cfg0.N) (y : (⟨2, ![2048, 512]⟩ : Shape).Idx) : ((cfg0.win 5).blk t).view.emb y
    = ix2 (n0 := 2048) (n1 := 4096) (y 0) (col t (y 1)) := by
  obtain ⟨_, _, _, _, _, _, _, _, _, _, e0, e1⟩ := idx_facts0 t
  funext a; apply Fin.ext
  match a with
  | ⟨0, _⟩ => show win0_5.index t (0 : Fin 2) * 2048 + 1 * (y 0).val = (y 0).val; omega
  | ⟨1, _⟩ => show win0_5.index t (1 : Fin 2) * 512 + 1 * (y 1).val = 512 * t.val + (y 1).val; omega

theorem idx_facts1 : ∀ t : Fin cfg1.N, win1_0.index t (0 : Fin 2) = 0 ∧ win1_0.index t (1 : Fin 2) = t.val ∧ win1_1.index t (0 : Fin 2) = 0 ∧ win1_1.index t (1 : Fin 2) = t.val ∧ win1_2.index t (0 : Fin 2) = 0 ∧ win1_2.index t (1 : Fin 2) = t.val ∧ win1_3.index t (0 : Fin 2) = 0 ∧ win1_3.index t (1 : Fin 2) = t.val ∧ win1_4.index t (0 : Fin 2) = 0 ∧ win1_4.index t (1 : Fin 2) = t.val ∧ win1_5.index t (0 : Fin 2) = 0 ∧ win1_5.index t (1 : Fin 2) = t.val ∧ win1_6.index t (0 : Fin 2) = 0 ∧ win1_6.index t (1 : Fin 2) = t.val ∧ win1_7.index t (0 : Fin 2) = 0 ∧ win1_7.index t (1 : Fin 2) = t.val ∧ win1_8.index t (0 : Fin 2) = 0 ∧ win1_8.index t (1 : Fin 2) = t.val ∧ win1_9.index t (0 : Fin 2) = 0 ∧ win1_9.index t (1 : Fin 2) = t.val :=
  (by decide +kernel : ∀ t : Fin grid1.N, _)

theorem blk1_0 (t : Fin cfg1.N) (l : Fin 512) :
    iblk1 V c 0 t (ix2 0 l) = (V c main_arg0 : S1x4096.Idx → EReal) (ix2 0 (col t l)) := by
  show V c main_arg0 (((cfg1.win 0).blk t).view.emb (ix2 0 l)) = _
  refine congrArg (V c main_arg0 : S1x4096.Idx → EReal) ?_
  obtain ⟨e0, e1, _⟩ := idx_facts1 t
  funext a; apply Fin.ext
  match a with
  | ⟨0, _⟩ => show win1_0.index t (0 : Fin 2) * 1 + 1 * 0 = 0; omega
  | ⟨1, _⟩ => show win1_0.index t (1 : Fin 2) * 512 + 1 * l.val = 512 * t.val + l.val; omega

theorem blk1_1 (t : Fin cfg1.N) (l : Fin 512) :
    iblk1 V c 1 t (ix2 0 l) = (V c main_v1 : S1x4096.Idx → EReal) (ix2 0 (col t l)) := by
  show V c main_v1 (((cfg1.win 1).blk t).view.emb (ix2 0 l)) = _
  refine congrArg (V c main_v1 : S1x4096.Idx → EReal) ?_
  obtain ⟨_, _, e0, e1, _⟩ := idx_facts1 t
  funext a; apply Fin.ext
  match a with
  | ⟨0, _⟩ => show win1_1.index t (0 : Fin 2) * 1 + 1 * 0 = 0; omega
  | ⟨1, _⟩ => show win1_1.index t (1 : Fin 2) * 512 + 1 * l.val = 512 * t.val + l.val; omega

theorem blk1_2 (t : Fin cfg1.N) (r : Fin 2048) (l : Fin 512) :
    iblk1 V c 2 t (ix2 r l) = (V c main_arg4 : S2048x4096.Idx → EReal) (ix2 r (col t l)) := by
  show V c main_arg4 (((cfg1.win 2).blk t).view.emb (ix2 r l)) = _
  refine congrArg (V c main_arg4 : S2048x4096.Idx → EReal) ?_
  obtain ⟨_, _, _, _, e0, e1, _⟩ := idx_facts1 t
  funext a; apply Fin.ext
  match a with
  | ⟨0, _⟩ => show win1_2.index t (0 : Fin 2) * 2048 + 1 * r.val = r.val; omega
  | ⟨1, _⟩ => show win1_2.index t (1 : Fin 2) * 512 + 1 * l.val = 512 * t.val + l.val; omega

theorem blk1_3 (t : Fin cfg1.N) (r : Fin 2048) (l : Fin 512) :
    iblk1 V c 3 t (ix2 r l) = (V c main_arg5 : S2048x4096.Idx → EReal) (ix2 r (col t l)) := by
  show V c main_arg5 (((cfg1.win 3).blk t).view.emb (ix2 r l)) = _
  refine congrArg (V c main_arg5 : S2048x4096.Idx → EReal) ?_
  obtain ⟨_, _, _, _, _, _, e0, e1, _⟩ := idx_facts1 t
  funext a; apply Fin.ext
  match a with
  | ⟨0, _⟩ => show win1_3.index t (0 : Fin 2) * 2048 + 1 * r.val = r.val; omega
  | ⟨1, _⟩ => show win1_3.index t (1 : Fin 2) * 512 + 1 * l.val = 512 * t.val + l.val; omega

theorem blk1_4 (t : Fin cfg1.N) (r : Fin 2048) (l : Fin 512) :
    iblk1 V c 4 t (ix2 r l) = (V c main_v0_0 : S2048x4096.Idx → EReal) (ix2 r (col t l)) := by
  show V c main_v0_0 (((cfg1.win 4).blk t).view.emb (ix2 r l)) = _
  refine congrArg (V c main_v0_0 : S2048x4096.Idx → EReal) ?_
  obtain ⟨_, _, _, _, _, _, _, _, e0, e1, _⟩ := idx_facts1 t
  funext a; apply Fin.ext
  match a with
  | ⟨0, _⟩ => show win1_4.index t (0 : Fin 2) * 2048 + 1 * r.val = r.val; omega
  | ⟨1, _⟩ => show win1_4.index t (1 : Fin 2) * 512 + 1 * l.val = 512 * t.val + l.val; omega

theorem blk1_5 (t : Fin cfg1.N) (r : Fin 2048) (l : Fin 512) :
    iblk1 V c 5 t (ix2 r l) = (V c main_v0_1 : S2048x4096.Idx → EReal) (ix2 r (col t l)) := by
  show V c main_v0_1 (((cfg1.win 5).blk t).view.emb (ix2 r l)) = _
  refine congrArg (V c main_v0_1 : S2048x4096.Idx → EReal) ?_
  obtain ⟨_, _, _, _, _, _, _, _, _, _, e0, e1, _⟩ := idx_facts1 t
  funext a; apply Fin.ext
  match a with
  | ⟨0, _⟩ => show win1_5.index t (0 : Fin 2) * 2048 + 1 * r.val = r.val; omega
  | ⟨1, _⟩ => show win1_5.index t (1 : Fin 2) * 512 + 1 * l.val = 512 * t.val + l.val; omega

theorem emb1_6 (t : Fin cfg1.N) (y : (⟨2, ![2048, 512]⟩ : Shape).Idx) : ((cfg1.win 6).blk t).view.emb y
    = ix2 (n0 := 2048) (n1 := 4096) (y 0) (col t (y 1)) := by
  obtain ⟨_, _, _, _, _, _, _, _, _, _, _, _, e0, e1, _⟩ := idx_facts1 t
  funext a; apply Fin.ext
  match a with
  | ⟨0, _⟩ => show win1_6.index t (0 : Fin 2) * 2048 + 1 * (y 0).val = (y 0).val; omega
  | ⟨1, _⟩ => show win1_6.index t (1 : Fin 2) * 512 + 1 * (y 1).val = 512 * t.val + (y 1).val; omega

theorem emb1_7 (t : Fin cfg1.N) (y : (⟨2, ![2048, 512]⟩ : Shape).Idx) : ((cfg1.win 7).blk t).view.emb y
    = ix2 (n0 := 2048) (n1 := 4096) (y 0) (col t (y 1)) := by
  obtain ⟨_, _, _, _, _, _, _, _, _, _, _, _, _, _, e0, e1, _⟩ := idx_facts1 t
  funext a; apply Fin.ext
  match a with
  | ⟨0, _⟩ => show win1_7.index t (0 : Fin 2) * 2048 + 1 * (y 0).val = (y 0).val; omega
  | ⟨1, _⟩ => show win1_7.index t (1 : Fin 2) * 512 + 1 * (y 1).val = 512 * t.val + (y 1).val; omega

theorem emb1_8 (t : Fin cfg1.N) (y : (⟨2, ![1, 512]⟩ : Shape).Idx) : ((cfg1.win 8).blk t).view.emb y
    = ix2 (n0 := 1) (n1 := 4096) (y 0) (col t (y 1)) := by
  obtain ⟨_, _, _, _, _, _, _, _, _, _, _, _, _, _, _, _, e0, e1, _⟩ := idx_facts1 t
  funext a; apply Fin.ext
  match a with
  | ⟨0, _⟩ => show win1_8.index t (0 : Fin 2) * 1 + 1 * (y 0).val = (y 0).val; omega
  | ⟨1, _⟩ => show win1_8.index t (1 : Fin 2) * 512 + 1 * (y 1).val = 512 * t.val + (y 1).val; omega

theorem emb1_9 (t : Fin cfg1.N) (y : (⟨2, ![1, 512]⟩ : Shape).Idx) : ((cfg1.win 9).blk t).view.emb y
    = ix2 (n0 := 1) (n1 := 4096) (y 0) (col t (y 1)) := by
  obtain ⟨_, _, _, _, _, _, _, _, _, _, _, _, _, _, _, _, _, _, e0, e1⟩ := idx_facts1 t
  funext a; apply Fin.ext
  match a with
  | ⟨0, _⟩ => show win1_9.index t (0 : Fin 2) * 1 + 1 * (y 0).val = (y 0).val; omega
  | ⟨1, _⟩ => show win1_9.index t (1 : Fin 2) * 512 + 1 * (y 1).val = 512 * t.val + (y 1).val; omega

end Blocks

section States
variable (V : (c : Dev nD) → (b : Ref sig .tc) → Buf (Elt Ideal) ((c : Thread nD τ).loc b)) (c : Dev nD)
variable {a : Fin 4096 → ℂ} {b : Fin 4096 → ℕ → ℂ}
  (ha : ∀ l : Fin 4096, At ((V c main_arg0 : S1x4096.Idx → EReal) (ix2 0 l)) ((V c main_arg1 : S1x4096.Idx → EReal) (ix2 0 l)) (a l))
  (hb : ∀ (t : Fin 2048) (l : Fin 4096), At ((V c main_arg2 : S2048x4096.Idx → EReal) (ix2 t l)) ((V c main_arg3 : S2048x4096.Idx → EReal) (ix2 t l)) (b l t.val))
include ha hb

/-- The state after row `t` of a column. -/
def state (a : Fin 4096 → ℂ) (b : Fin 4096 → ℕ → ℂ) (t : ℕ) (l : Fin 4096) : ℂ := run (a l) (b l) 0 (t + 1)

theorem state_re : (dat0 V c).arrAt 4 cfg0.N = fun j : S2048x4096.Idx => (((state a b (j 0).val (j 1)).re : ℝ) : EReal) := by
  refine (dat0 V c).arrAt_eq_of_covers 4 _ (by decide +kernel) (fun t _ y => ?_)
  show (dat0 V c).after 4 t y = _
  rw [after0_4]
  unfold outsAt0
  refine (Up.out_re c _ _ _ _ _ _ _ _ _ _ _ _ _ _ _ _ _ (a := fun l => a (col t l)) (b := fun l => b (col t l))
    (fun l => ?_) (fun r l => ?_) y).trans ?_
  · rw [blk0_0, blk0_1]; exact ha _
  · rw [blk0_2, blk0_3]; exact hb _ _
  · rw [emb0_4]; rfl

theorem state_im : (dat0 V c).arrAt 5 cfg0.N = fun j : S2048x4096.Idx => (((state a b (j 0).val (j 1)).im : ℝ) : EReal) := by
  refine (dat0 V c).arrAt_eq_of_covers 5 _ (by decide +kernel) (fun t _ y => ?_)
  show (dat0 V c).after 5 t y = _
  rw [after0_5]
  unfold outsAt0
  refine (Up.out_im c _ _ _ _ _ _ _ _ _ _ _ _ _ _ _ _ _ (a := fun l => a (col t l)) (b := fun l => b (col t l))
    (fun l => ?_) (fun r l => ?_) y).trans ?_
  · rw [blk0_0, blk0_1]; exact ha _
  · rw [blk0_2, blk0_3]; exact hb _ _
  · rw [emb0_5]; rfl

end States

/-- An index of an array of one row is its column. -/
theorem eq_row {n : ℕ} (y : (⟨2, ![1, n]⟩ : Shape).Idx) : y = ix2 0 (y 1) :=
  (eq_ix2 y).trans (congrArg (ix2 · (y 1)) (Subsingleton.elim (α := Fin 1) _ _))

theorem sum_rows (f : ℕ → ℂ) : ∀ N : ℕ, (∑ r : Fin 8, ∑ n ∈ Finset.range N, f (8 * n + r.val)) = ∑ t ∈ Finset.range (8 * N), f t
  | 0 => by simp
  | N + 1 => by
    rw [Nat.mul_succ, Finset.sum_range_add, ← sum_rows f N, ← Fin.sum_univ_eq_sum_range (fun x => f (8 * N + x)), ← Finset.sum_add_distrib]
    exact Finset.sum_congr rfl fun r _ => Finset.sum_range_succ _ _

/-- The kernel's order of the rows, eight residues each taken from the last tile to the first, is all the rows. -/
theorem sum_tiles (f : ℕ → ℂ) : (∑ r : Fin 8, ∑ n ∈ Finset.range 256, f (2040 - 8 * n + r.val)) = ∑ t ∈ Finset.range 2048, f t := by
  rw [show 2048 = 8 * 256 from rfl, ← sum_rows f 256]
  refine Finset.sum_congr rfl fun r _ => ?_
  rw [← Finset.sum_range_reflect]
  refine Finset.sum_congr rfl fun n hn => ?_
  have := Finset.mem_range.1 hn
  exact congrArg f (by omega)

section Adjoint
variable (V : (c : Dev nD) → (b : Ref sig .tc) → Buf (Elt Ideal) ((c : Thread nD τ).loc b)) (c : Dev nD)
variable {a : Fin 4096 → ℂ} {b σ : Fin 4096 → ℕ → ℂ}
  (ha : ∀ l : Fin 4096, At ((V c main_arg0 : S1x4096.Idx → EReal) (ix2 0 l)) ((V c main_v1 : S1x4096.Idx → EReal) (ix2 0 l)) (a l))
  (hb : ∀ (t : Fin 2048) (l : Fin 4096), At ((V c main_arg4 : S2048x4096.Idx → EReal) (ix2 t l)) ((V c main_arg5 : S2048x4096.Idx → EReal) (ix2 t l)) (b l (2047 - t.val)))
  (hσ : ∀ (t : Fin 2048) (l : Fin 4096), At ((V c main_v0_0 : S2048x4096.Idx → EReal) (ix2 t l)) ((V c main_v0_1 : S2048x4096.Idx → EReal) (ix2 t l)) (σ l t.val))
include ha hb hσ

/-- The adjoint state at row `t` of a column. -/
def adj (a : Fin 4096 → ℂ) (b : Fin 4096 → ℕ → ℂ) (t : ℕ) (l : Fin 4096) : ℂ := run (a l) (b l) 0 (2048 - t)

/-- The gradient of a column's multiplier: the adjoint at every row times the conjugate of the state one row before. -/
def total (a : Fin 4096 → ℂ) (b σ : Fin 4096 → ℕ → ℂ) (l : Fin 4096) : ℂ :=
  ∑ t ∈ Finset.range 2048, adj a b t l * (starRingEnd ℂ) (Down.prev (σ l) t)

omit ha hb hσ in
theorem tiles_total (t : Fin 8) (l : Fin 512) :
    (∑ r : Fin 8, ∑ n ∈ Finset.range 256, Down.term (fun l => a (col t l)) (fun l => b (col t l)) (fun l => σ (col t l)) (2040 - 8 * n + r.val) l)
      = total a b σ (col t l) :=
  sum_tiles fun q => Down.term (fun l => a (col t l)) (fun l => b (col t l)) (fun l => σ (col t l)) q l

attribute [local irreducible] total

theorem adj_re : (dat1 V c).arrAt 6 cfg1.N = fun j : S2048x4096.Idx => (((adj a b (j 0).val (j 1)).re : ℝ) : EReal) := by
  refine (dat1 V c).arrAt_eq_of_covers 6 _ (by decide +kernel) (fun t _ y => ?_)
  show (dat1 V c).after 6 t y = _
  rw [after1_6]
  unfold outsAt1
  dsimp only
  refine (Down.out_re c _ _ _ _ _ _ _ _ _ _ _ _ _ _ _ _ _ _ _ _ _ _ _ _ _ _ _ (a := fun l => a (col t l)) (b := fun l => b (col t l)) (σ := fun l => σ (col t l))
    (fun l => ?_) (fun r l => ?_) (fun r l => ?_) y).trans ?_
  · rw [blk1_0, blk1_1]; exact ha _
  · rw [blk1_2, blk1_3]; exact hb _ _
  · rw [blk1_4, blk1_5]; exact hσ _ _
  · rw [emb1_6]; rfl

theorem adj_im : (dat1 V c).arrAt 7 cfg1.N = fun j : S2048x4096.Idx => (((adj a b (j 0).val (j 1)).im : ℝ) : EReal) := by
  refine (dat1 V c).arrAt_eq_of_covers 7 _ (by decide +kernel) (fun t _ y => ?_)
  show (dat1 V c).after 7 t y = _
  rw [after1_7]
  unfold outsAt1
  dsimp only
  refine (Down.out_im c _ _ _ _ _ _ _ _ _ _ _ _ _ _ _ _ _ _ _ _ _ _ _ _ _ _ _ (a := fun l => a (col t l)) (b := fun l => b (col t l)) (σ := fun l => σ (col t l))
    (fun l => ?_) (fun r l => ?_) (fun r l => ?_) y).trans ?_
  · rw [blk1_0, blk1_1]; exact ha _
  · rw [blk1_2, blk1_3]; exact hb _ _
  · rw [blk1_4, blk1_5]; exact hσ _ _
  · rw [emb1_7]; rfl

theorem total_re : (dat1 V c).arrAt 8 cfg1.N = fun j : S1x4096.Idx => (((total a b σ (j 1)).re : ℝ) : EReal) := by
  refine (dat1 V c).arrAt_eq_of_covers 8 _ (by decide +kernel) (fun t _ y => ?_)
  show (dat1 V c).after 8 t y = _
  rw [after1_8]
  unfold outsAt1
  dsimp only
  obtain ⟨l, rfl⟩ : ∃ l : Fin 512, y = ix2 0 l := ⟨y 1, eq_row (n := 512) y⟩
  refine (Down.out_sum_re c _ _ _ _ _ _ _ _ _ _ _ _ _ _ _ _ _ _ _ _ _ _ _ _ _ _ _ (a := fun l => a (col t l)) (b := fun l => b (col t l)) (σ := fun l => σ (col t l))
    (fun l => ?_) (fun r l => ?_) (fun r l => ?_) l).trans ?_
  · rw [blk1_0, blk1_1]; exact ha _
  · rw [blk1_2, blk1_3]; exact hb _ _
  · rw [blk1_4, blk1_5]; exact hσ _ _
  · rw [emb1_8]; exact congrArg (fun z : ℂ => ((z.re : ℝ) : EReal)) (tiles_total (a := a) (b := b) (σ := σ) t l)

theorem total_im : (dat1 V c).arrAt 9 cfg1.N = fun j : S1x4096.Idx => (((total a b σ (j 1)).im : ℝ) : EReal) := by
  refine (dat1 V c).arrAt_eq_of_covers 9 _ (by decide +kernel) (fun t _ y => ?_)
  show (dat1 V c).after 9 t y = _
  rw [after1_9]
  unfold outsAt1
  dsimp only
  obtain ⟨l, rfl⟩ : ∃ l : Fin 512, y = ix2 0 l := ⟨y 1, eq_row (n := 512) y⟩
  refine (Down.out_sum_im c _ _ _ _ _ _ _ _ _ _ _ _ _ _ _ _ _ _ _ _ _ _ _ _ _ _ _ (a := fun l => a (col t l)) (b := fun l => b (col t l)) (σ := fun l => σ (col t l))
    (fun l => ?_) (fun r l => ?_) (fun r l => ?_) l).trans ?_
  · rw [blk1_0, blk1_1]; exact ha _
  · rw [blk1_2, blk1_3]; exact hb _ _
  · rw [blk1_4, blk1_5]; exact hσ _ _
  · rw [emb1_9]; exact congrArg (fun z : ℂ => ((z.im : ℝ) : EReal)) (tiles_total (a := a) (b := b) (σ := σ) t l)

end Adjoint
-- ==== Proof.ScanLaunch.lean ====
/-
  What a run of the two scans leaves: every buffer of the TensorCore at the contents of the last boundary (`Gen.W3`), from which the four
  results are read as the adjoint states and their sums against the states.
-/
module

public import proofs.«01_k».proof.Proof.ScanRun

@[expose] public section
set_option maxRecDepth 16384
noncomputable section
open Idealize.ShloMosaic Idealize.ShloMosaic.TcCoe Idealize.SL Idealize.SL.BI
open Idealize.SL.BI.BIBase Idealize.SL.BI.Laws Idealize.SL.ProofMode Idealize.SL.Sem
open Idealize.ShloMosaic.Rounds
open Idealize.ShloMosaic.Pipeline (Dat)
open Cert.Recurrence
namespace Cert.ScanGradIdeal.Launched
open Cert.ScanGradIdeal Cert.ScanGradIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with each buffer of the TensorCore as the last boundary has it, and every semaphore at zero. -/
theorem ends : θ_run defs (onTc (τ := τ) (main (F := Ideal))) ⟨m, fun _ => 0, ρ⟩ (fun r =>
    (∀ c : Dev nD, ∀ b ∈ Pipeline.ucRefs τ sig, r.2.mem (((c : Thread nD τ)).1, b) = W3 m ρ c b) ∧ r.2.sem = fun _ => 0) := by
  let toks : UR sig nD τ := initOf (Pipeline.cells cfgs cellOf_inj) (Pipeline.launchToks cfgs cellOf_inj)
  refine Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := toks) (hu₀ := ?_)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩) (hinit := ?_)
    (QY := fun c s => ∀ b ∈ Pipeline.ucRefs τ sig, s.mem (((c : Thread nD τ)).1, b) = W3 m ρ c b) (hfin := ?_)
    (hQ := fun s h hz => ⟨h, funext fun g => hz g (.inr (no_unscoped g.2))⟩)
  · iintro Hu; imodintro
    isplitl [Hu]
    · iapply (show (ownU toks : sProp 𝕄) ⊢ BI.own (emb₁ toks) from .rfl)
      iexact Hu
    · iapply (show (BI.emp : sProp 𝕄) ⊢ bigSep Finset.univ (fun _ : Dev nD => (BI.emp : sProp 𝕄)) from by rw [BI.bigSep_emp_const])
      iempintro
  · refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]; · iexact Hh
    isplitl [Hp]; · iexists _; iexact Hp
    iexists ∅; iexact HO
  · intro c s'
    iintro ⟨⟨Hh, -⟩, HSI⟩
    unfold StableHlo.held
    imodintro
    iapply (pointsTo_read_all (Pipeline.ucRefs τ sig) (fun b => (((c : Thread nD τ)).1, b)) (W3 m ρ c) s')
    isplitl [Hh] <;> iassumption

section Values
variable (c : Dev nD) {a : Fin 4096 → ℂ} {b d : Fin 4096 → ℕ → ℂ}
  (ha : ∀ l : Fin 4096, At ((m ((c : Thread nD τ).loc main_arg0) : S1x4096.Idx → EReal) (ix2 0 l)) ((m ((c : Thread nD τ).loc main_arg1) : S1x4096.Idx → EReal) (ix2 0 l)) (a l))
  (hb : ∀ (t : Fin 2048) (l : Fin 4096), At ((m ((c : Thread nD τ).loc main_arg2) : S2048x4096.Idx → EReal) (ix2 t l)) ((m ((c : Thread nD τ).loc main_arg3) : S2048x4096.Idx → EReal) (ix2 t l)) (b l t.val))
  (hd : ∀ (t : Fin 2048) (l : Fin 4096), At ((m ((c : Thread nD τ).loc main_arg4) : S2048x4096.Idx → EReal) (ix2 t l)) ((m ((c : Thread nD τ).loc main_arg5) : S2048x4096.Idx → EReal) (ix2 t l)) (d l (2047 - t.val)))
include ha hb hd

/-- The conjugate of the columns' multiplier. -/
def conjA (a : Fin 4096 → ℂ) (l : Fin 4096) : ℂ := (starRingEnd ℂ) (a l)

/-- The states of a column, by row. -/
def states (a : Fin 4096 → ℂ) (b : Fin 4096 → ℕ → ℂ) (l : Fin 4096) (t : ℕ) : ℂ := Arrays.state a b t l

/-- A row with every sign changed. -/
def minus (x : S1x4096.Idx → EReal) : S1x4096.Idx → EReal := fun j => -x j

omit hb hd in
theorem mult (l : Fin 4096) : At ((V2 m ρ c main_arg0 : S1x4096.Idx → EReal) (ix2 0 l)) ((V2 m ρ c main_v1 : S1x4096.Idx → EReal) (ix2 0 l)) (conjA a l) := by
  have h0 : V2 m ρ c main_arg0 = m ((c : Thread nD τ).loc main_arg0) := W2_args m ρ c main_arg0 (by decide)
  have h1 : (V2 m ρ c main_v1 : S1x4096.Idx → EReal) = minus (m ((c : Thread nD τ).loc main_arg1)) := by
    show StableHlo.after hostOps1 (W1 m ρ c) (Proc.devRef .tc main_v1) = _
    rw [← W1_args m ρ c main_arg1 (by decide)]
    after_results; rfl
  rw [h1, h0]
  obtain ⟨e0, e1⟩ := ha l
  exact ⟨e0, (congrArg (fun x : EReal => -x) e1).trans rfl⟩

omit hd in
theorem saved (t : Fin 2048) (l : Fin 4096) : At ((V2 m ρ c main_v0_0 : S2048x4096.Idx → EReal) (ix2 t l)) ((V2 m ρ c main_v0_1 : S2048x4096.Idx → EReal) (ix2 t l)) (states a b l t.val) := by
  have h0 : V2 m ρ c main_v0_0 = (dat0 (V0 m ρ) c).arrAt 4 cfg0.N := (W2_of m ρ c main_v0_0 (by decide)).trans (W1_arr m ρ c 4)
  have h1 : V2 m ρ c main_v0_1 = (dat0 (V0 m ρ) c).arrAt 5 cfg0.N := (W2_of m ρ c main_v0_1 (by decide)).trans (W1_arr m ρ c 5)
  rw [h0, h1, Arrays.state_re (V0 m ρ) c ha hb, Arrays.state_im (V0 m ρ) c ha hb]
  exact ⟨rfl, rfl⟩

omit ha hb in
theorem cotangent (t : Fin 2048) (l : Fin 4096) : At ((V2 m ρ c main_arg4 : S2048x4096.Idx → EReal) (ix2 t l)) ((V2 m ρ c main_arg5 : S2048x4096.Idx → EReal) (ix2 t l)) (d l (2047 - t.val)) := by
  have h0 : V2 m ρ c main_arg4 = m ((c : Thread nD τ).loc main_arg4) := W2_args m ρ c main_arg4 (by decide)
  have h1 : V2 m ρ c main_arg5 = m ((c : Thread nD τ).loc main_arg5) := W2_args m ρ c main_arg5 (by decide)
  rw [h0, h1]; exact hd t l

theorem result0 : W3 m ρ c (Proc.devRef .tc main_v2_0) = fun j : S2048x4096.Idx => (((Arrays.adj (conjA a) d (j 0).val (j 1)).re : ℝ) : EReal) :=
  (W3_arr m ρ c 6).trans (Arrays.adj_re (V2 m ρ) c (mult m ρ c ha) (cotangent m ρ c hd) (saved m ρ c ha hb))
theorem result1 : W3 m ρ c (Proc.devRef .tc main_v2_1) = fun j : S2048x4096.Idx => (((Arrays.adj (conjA a) d (j 0).val (j 1)).im : ℝ) : EReal) :=
  (W3_arr m ρ c 7).trans (Arrays.adj_im (V2 m ρ) c (mult m ρ c ha) (cotangent m ρ c hd) (saved m ρ c ha hb))
theorem result2 : W3 m ρ c (Proc.devRef .tc main_v2_2) = fun j : S1x4096.Idx => (((Arrays.total (conjA a) d (states a b) (j 1)).re : ℝ) : EReal) :=
  (W3_arr m ρ c 8).trans (Arrays.total_re (V2 m ρ) c (mult m ρ c ha) (cotangent m ρ c hd) (saved m ρ c ha hb))
theorem result3 : W3 m ρ c (Proc.devRef .tc main_v2_3) = fun j : S1x4096.Idx => (((Arrays.total (conjA a) d (states a b) (j 1)).im : ℝ) : EReal) :=
  (W3_arr m ρ c 9).trans (Arrays.total_im (V2 m ρ) c (mult m ρ c ha) (cotangent m ρ c hd) (saved m ρ c ha hb))

omit hd in
theorem result4 : W3 m ρ c (Proc.devRef .tc main_v0_0) = fun j : S2048x4096.Idx => (((Arrays.state a b (j 0).val (j 1)).re : ℝ) : EReal) :=
  (W3_of m ρ c main_v0_0 (by decide)).trans ((W2_of m ρ c main_v0_0 (by decide)).trans ((W1_arr m ρ c 4).trans (Arrays.state_re (V0 m ρ) c ha hb)))

omit hd in
theorem result5 : W3 m ρ c (Proc.devRef .tc main_v0_1) = fun j : S2048x4096.Idx => (((Arrays.state a b (j 0).val (j 1)).im : ℝ) : EReal) :=
  (W3_of m ρ c main_v0_1 (by decide)).trans ((W2_of m ρ c main_v0_1 (by decide)).trans ((W1_arr m ρ c 5).trans (Arrays.state_im (V0 m ρ) c ha hb)))

end Values
-- ==== Proof.ScanRefOps.lean ====
/-
  The reference of the scan as lists of operations: before, between and after its two loops, and a trip of each.
-/
module

public import proofs.«01_k».proof.Proof.Gen.ScanGradRefIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section
noncomputable section
namespace Cert.ScanGradRefIdeal.Ops
open Cert.ScanGradRefIdeal Cert.ScanGradRefIdeal.Gen
open Idealize.ShloMosaic Idealize.ShloMosaic.TcCoe
open Idealize.SL.Sem

variable {F : FTy → Type} [FloatOps F]

/-- before the first loop, its own operations -/
abbrev pre0 : List (HloOp τ sig (Elt F)) :=
  [ StableHlo.nullary main_cst (constant S_ .f32 0x00000000#32),
    StableHlo.unary main_cst main_v0 (broadcastInDim S1x4096 ![] bcast_S_S1x4096 : (⟨S_, .f32⟩ : BufTy).Contents (Elt F) → (⟨S1x4096, .f32⟩ : BufTy).Contents (Elt F)),
    StableHlo.unary main_arg2 main_v1 (broadcastInDim S2048x1x4096 ![0, 2] bcast_S2048x4096_S2048x1x4096_0_2 : (⟨S2048x4096, .f32⟩ : BufTy).Contents (Elt F) → (⟨S2048x1x4096, .f32⟩ : BufTy).Contents (Elt F)),
    StableHlo.unary main_arg3 main_v2 (broadcastInDim S2048x1x4096 ![0, 2] bcast_S2048x4096_S2048x1x4096_0_2 : (⟨S2048x4096, .f32⟩ : BufTy).Contents (Elt F) → (⟨S2048x1x4096, .f32⟩ : BufTy).Contents (Elt F)),
    StableHlo.nullary main_cst_0 (constant S_ .f32 0x00000000#32),
    StableHlo.unary main_cst_0 main_v3 (broadcastInDim S2048x1x4096 ![] bcast_S_S2048x1x4096 : (⟨S_, .f32⟩ : BufTy).Contents (Elt F) → (⟨S2048x1x4096, .f32⟩ : BufTy).Contents (Elt F)),
    StableHlo.nullary main_cst_1 (constant S_ .f32 0x00000000#32),
    StableHlo.unary main_cst_1 main_v4 (broadcastInDim S2048x1x4096 ![] bcast_S_S2048x1x4096 : (⟨S_, .f32⟩ : BufTy).Contents (Elt F) → (⟨S2048x1x4096, .f32⟩ : BufTy).Contents (Elt F)),
    StableHlo.nullary main_cst_2 (constant S_ .f32 0x00000000#32),
    StableHlo.unary main_cst_2 main_v5 (broadcastInDim S2048x1x4096 ![] bcast_S_S2048x1x4096 : (⟨S_, .f32⟩ : BufTy).Contents (Elt F) → (⟨S2048x1x4096, .f32⟩ : BufTy).Contents (Elt F)),
    StableHlo.nullary main_cst_3 (constant S_ .f32 0x00000000#32),
    StableHlo.unary main_cst_3 main_v6 (broadcastInDim S2048x1x4096 ![] bcast_S_S2048x1x4096 : (⟨S_, .f32⟩ : BufTy).Contents (Elt F) → (⟨S2048x1x4096, .f32⟩ : BufTy).Contents (Elt F)),
    StableHlo.nullary main_c (constantI S_ 32 0#32),
    StableHlo.unary main_v1 main_v7_0 id,
    StableHlo.unary main_v2 main_v7_1 id,
    StableHlo.unary main_arg0 main_v7_2 id,
    StableHlo.unary main_arg1 main_v7_3 id,
    StableHlo.unary main_c main_v7_4 id,
    StableHlo.unary main_v0 main_v7_5 id,
    StableHlo.unary main_v0 main_v7_6 id,
    StableHlo.unary main_v3 main_v7_7 id,
    StableHlo.unary main_v4 main_v7_8 id,
    StableHlo.unary main_v5 main_v7_9 id,
    StableHlo.unary main_v6 main_v7_10 id ]
theorem pre0_sub : (pre0 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem pre0_fresh : (pre0 : List (HloOp τ sig (Elt F))).Forall fun op => op.fresh = ∅ := StableHlo.forall_fresh_of_map rfl
/-- What it writes. -/
abbrev pre0_W : List (Ref sig .tc) := [main_cst, main_v0, main_v1, main_v2, main_cst_0, main_v3, main_cst_1, main_v4, main_cst_2, main_v5, main_cst_3, main_v6, main_c, main_v7_0, main_v7_1, main_v7_2, main_v7_3, main_v7_4, main_v7_5, main_v7_6, main_v7_7, main_v7_8, main_v7_9, main_v7_10]
theorem pre0_writes : (pre0 : List (HloOp τ sig (Elt F))).Forall fun op => op.writes ⊆ (pre0_W.map (Proc.devRef (τ := τ) .tc)).toFinset :=
  StableHlo.forall_writes_sub_of_map rfl

/-- between the loops, its own operations -/
abbrev mid0 : List (HloOp τ sig (Elt F)) :=
  [ StableHlo.unary main_arg4 main_v8 (broadcastInDim S2048x1x4096 ![0, 2] bcast_S2048x4096_S2048x1x4096_0_2 : (⟨S2048x4096, .f32⟩ : BufTy).Contents (Elt F) → (⟨S2048x1x4096, .f32⟩ : BufTy).Contents (Elt F)),
    StableHlo.unary main_arg5 main_v9 (broadcastInDim S2048x1x4096 ![0, 2] bcast_S2048x4096_S2048x1x4096_0_2 : (⟨S2048x4096, .f32⟩ : BufTy).Contents (Elt F) → (⟨S2048x1x4096, .f32⟩ : BufTy).Contents (Elt F)),
    StableHlo.nullary main_cst_4 (constant S_ .f32 0x00000000#32),
    StableHlo.unary main_cst_4 main_v10 (broadcastInDim S1x4096 ![] bcast_S_S1x4096 : (⟨S_, .f32⟩ : BufTy).Contents (Elt F) → (⟨S1x4096, .f32⟩ : BufTy).Contents (Elt F)),
    StableHlo.nullary main_cst_5 (constant S_ .f32 0x00000000#32),
    StableHlo.unary main_cst_5 main_v11 (broadcastInDim S1x4096 ![] bcast_S_S1x4096 : (⟨S_, .f32⟩ : BufTy).Contents (Elt F) → (⟨S1x4096, .f32⟩ : BufTy).Contents (Elt F)),
    StableHlo.nullary main_cst_6 (constant S_ .f32 0x00000000#32),
    StableHlo.unary main_cst_6 main_v12 (broadcastInDim S1x4096 ![] bcast_S_S1x4096 : (⟨S_, .f32⟩ : BufTy).Contents (Elt F) → (⟨S1x4096, .f32⟩ : BufTy).Contents (Elt F)),
    StableHlo.nullary main_cst_7 (constant S_ .f32 0x00000000#32),
    StableHlo.unary main_cst_7 main_v13 (broadcastInDim S1x4096 ![] bcast_S_S1x4096 : (⟨S_, .f32⟩ : BufTy).Contents (Elt F) → (⟨S1x4096, .f32⟩ : BufTy).Contents (Elt F)),
    StableHlo.nullary main_cst_8 (constant S_ .f32 0x00000000#32),
    StableHlo.unary main_cst_8 main_v14 (broadcastInDim S1x4096 ![] bcast_S_S1x4096 : (⟨S_, .f32⟩ : BufTy).Contents (Elt F) → (⟨S1x4096, .f32⟩ : BufTy).Contents (Elt F)),
    StableHlo.nullary main_cst_9 (constant S_ .f32 0x00000000#32),
    StableHlo.unary main_cst_9 main_v15 (broadcastInDim S1x4096 ![] bcast_S_S1x4096 : (⟨S_, .f32⟩ : BufTy).Contents (Elt F) → (⟨S1x4096, .f32⟩ : BufTy).Contents (Elt F)),
    StableHlo.nullary main_cst_10 (constant S_ .f32 0x00000000#32),
    StableHlo.unary main_cst_10 main_v16 (broadcastInDim S2048x1x4096 ![] bcast_S_S2048x1x4096 : (⟨S_, .f32⟩ : BufTy).Contents (Elt F) → (⟨S2048x1x4096, .f32⟩ : BufTy).Contents (Elt F)),
    StableHlo.nullary main_cst_11 (constant S_ .f32 0x00000000#32),
    StableHlo.unary main_cst_11 main_v17 (broadcastInDim S2048x1x4096 ![] bcast_S_S2048x1x4096 : (⟨S_, .f32⟩ : BufTy).Contents (Elt F) → (⟨S2048x1x4096, .f32⟩ : BufTy).Contents (Elt F)),
    StableHlo.nullary main_c_12 (constantI S_ 32 0#32),
    StableHlo.unary main_v8 main_v18_0 id,
    StableHlo.unary main_v9 main_v18_1 id,
    StableHlo.unary main_v7_9 main_v18_2 id,
    StableHlo.unary main_v7_10 main_v18_3 id,
    StableHlo.unary main_arg0 main_v18_4 id,
    StableHlo.unary main_arg1 main_v18_5 id,
    StableHlo.unary main_c_12 main_v18_6 id,
    StableHlo.unary main_v14 main_v18_7 id,
    StableHlo.unary main_v15 main_v18_8 id,
    StableHlo.unary main_v12 main_v18_9 id,
    StableHlo.unary main_v13 main_v18_10 id,
    StableHlo.unary main_v16 main_v18_11 id,
    StableHlo.unary main_v17 main_v18_12 id ]
theorem mid0_sub : (mid0 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem mid0_fresh : (mid0 : List (HloOp τ sig (Elt F))).Forall fun op => op.fresh = ∅ := StableHlo.forall_fresh_of_map rfl
/-- What it writes. -/
abbrev mid0_W : List (Ref sig .tc) := [main_v8, main_v9, main_cst_4, main_v10, main_cst_5, main_v11, main_cst_6, main_v12, main_cst_7, main_v13, main_cst_8, main_v14, main_cst_9, main_v15, main_cst_10, main_v16, main_cst_11, main_v17, main_c_12, main_v18_0, main_v18_1, main_v18_2, main_v18_3, main_v18_4, main_v18_5, main_v18_6, main_v18_7, main_v18_8, main_v18_9, main_v18_10, main_v18_11, main_v18_12]
theorem mid0_writes : (mid0 : List (HloOp τ sig (Elt F))).Forall fun op => op.writes ⊆ (mid0_W.map (Proc.devRef (τ := τ) .tc)).toFinset :=
  StableHlo.forall_writes_sub_of_map rfl

/-- after the second loop, its own operations -/
abbrev post0 : List (HloOp τ sig (Elt F)) :=
  [ StableHlo.nullary main_cst_13 (constant S_ .f32 0x00000000#32),
    StableHlo.binary main_v18_12 main_cst_13 main_v19 ((fun x v => Host.reduceAdd x v reducesTo_S2048x1x4096_S2048x4096_d1 h_S_) : (⟨S2048x1x4096, .f32⟩ : BufTy).Contents (Elt F) → (⟨S_, .f32⟩ : BufTy).Contents (Elt F) → (⟨S2048x4096, .f32⟩ : BufTy).Contents (Elt F)) ]
theorem post0_sub : (post0 : List (HloOp τ sig (Elt F))).Forall fun op => op.bufs ⊆ StableHlo.tcRefs τ sig :=
  ⟨StableHlo.nullary_bufs_sub .., StableHlo.binary_bufs_sub ..⟩
theorem post0_fresh : (post0 : List (HloOp τ sig (Elt F))).Forall fun op => op.fresh = ∅ := StableHlo.forall_fresh_of_map rfl
/-- What it writes. -/
abbrev post0_W : List (Ref sig .tc) := [main_cst_13, main_v19]
theorem post0_writes : (post0 : List (HloOp τ sig (Elt F))).Forall fun op => op.writes ⊆ (post0_W.map (Proc.devRef (τ := τ) .tc)).toFinset :=
  StableHlo.forall_writes_sub_of_map rfl

/-- after the second loop, its own operations -/
abbrev post1 : List (HloOp τ sig (Elt F)) :=
  [ StableHlo.nullary main_cst_14 (constant S_ .f32 0x00000000#32),
    StableHlo.binary main_v18_11 main_cst_14 main_v20 ((fun x v => Host.reduceAdd x v reducesTo_S2048x1x4096_S2048x4096_d1 h_S_) : (⟨S2048x1x4096, .f32⟩ : BufTy).Contents (Elt F) → (⟨S_, .f32⟩ : BufTy).Contents (Elt F) → (⟨S2048x4096, .f32⟩ : BufTy).Contents (Elt F)),
    StableHlo.reshape main_v7_7 main_v21 (rfl : (.f32 : EltTy) = .f32) shapeCasts_S2048x1x4096_S2048x4096,
    StableHlo.reshape main_v7_8 main_v22 (rfl : (.f32 : EltTy) = .f32) shapeCasts_S2048x1x4096_S2048x4096 ]
theorem post1_sub : (post1 : List (HloOp τ sig (Elt F))).Forall fun op => op.bufs ⊆ StableHlo.tcRefs τ sig :=
  ⟨StableHlo.nullary_bufs_sub .., StableHlo.binary_bufs_sub .., StableHlo.reshape_bufs_sub .., StableHlo.reshape_bufs_sub ..⟩
theorem post1_fresh : (post1 : List (HloOp τ sig (Elt F))).Forall fun op => op.fresh = ∅ := StableHlo.forall_fresh_of_map rfl
/-- What it writes. -/
abbrev post1_W : List (Ref sig .tc) := [main_cst_14, main_v20, main_v21, main_v22]
theorem post1_writes : (post1 : List (HloOp τ sig (Elt F))).Forall fun op => op.writes ⊆ (post1_W.map (Proc.devRef (τ := τ) .tc)).toFinset :=
  StableHlo.forall_writes_sub_of_map rfl

/-- a trip of the first loop, a row read or written -/
abbrev up0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v7_0 : StableHlo.TRef sig ⟨S2048x1x4096, .f32⟩) ![(.of main_v7_4 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x1x4096, .f32⟩) (fun x i => Host.dynamicSlice S1x1x4096 x (fun k => (i k (Shape.Idx.first h_S_)).toInt) sliceFits_S2048x1x4096_S1x1x4096),
    StableHlo.TRef.reshape (.of main_while0b_call0_v0 : StableHlo.TRef sig ⟨S1x1x4096, .f32⟩) (.of main_while0b_v23 : StableHlo.TRef sig ⟨S1x4096, .f32⟩) (rfl : (.f32 : EltTy) = .f32) shapeCasts_S1x1x4096_S1x4096 ]
theorem up0_sub : (up0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem up0_fresh : (up0 : List (HloOp τ sig (Elt F))).Forall fun op => op.fresh = ∅ := StableHlo.forall_fresh_of_map rfl
/-- What it writes. -/
abbrev up0_W : List (Ref sig .tc) := [main_while0b_call0_c, main_while0b_call0_c_0, main_while0b_call0_v0, main_while0b_v23]
theorem up0_writes : (up0 : List (HloOp τ sig (Elt F))).Forall fun op => op.writes ⊆ (up0_W.map (Proc.devRef (τ := τ) .tc)).toFinset :=
  StableHlo.forall_writes_sub_of_map rfl

/-- a trip of the first loop, a row read or written -/
abbrev up1 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.unaryIndexed (.of main_v7_1 : StableHlo.TRef sig ⟨S2048x1x4096, .f32⟩) ![(.of main_v7_4 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x1x4096, .f32⟩) (fun x i => Host.dynamicSlice S1x1x4096 x (fun k => (i k (Shape.Idx.first h_S_)).toInt) sliceFits_S2048x1x4096_S1x1x4096),
    StableHlo.TRef.reshape (.of main_while0b_call1_v0 : StableHlo.TRef sig ⟨S1x1x4096, .f32⟩) (.of main_while0b_v24 : StableHlo.TRef sig ⟨S1x4096, .f32⟩) (rfl : (.f32 : EltTy) = .f32) shapeCasts_S1x1x4096_S1x4096 ]
theorem up1_sub : (up1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem up1_fresh : (up1 : List (HloOp τ sig (Elt F))).Forall fun op => op.fresh = ∅ := StableHlo.forall_fresh_of_map rfl
/-- What it writes. -/
abbrev up1_W : List (Ref sig .tc) := [main_while0b_call1_c, main_while0b_call1_c_0, main_while0b_call1_v0, main_while0b_v24]
theorem up1_writes : (up1 : List (HloOp τ sig (Elt F))).Forall fun op => op.writes ⊆ (up1_W.map (Proc.devRef (τ := τ) .tc)).toFinset :=
  StableHlo.forall_writes_sub_of_map rfl

/-- a trip of the first loop, its own operations -/
abbrev up2 : List (HloOp τ sig (Elt F)) :=
  [ StableHlo.binary main_v7_2 main_v7_5 main_while0b_v25 (mulf : (⟨S1x4096, .f32⟩ : BufTy).Contents (Elt F) → (⟨S1x4096, .f32⟩ : BufTy).Contents (Elt F) → (⟨S1x4096, .f32⟩ : BufTy).Contents (Elt F)),
    StableHlo.binary main_v7_3 main_v7_6 main_while0b_v26 (mulf : (⟨S1x4096, .f32⟩ : BufTy).Contents (Elt F) → (⟨S1x4096, .f32⟩ : BufTy).Contents (Elt F) → (⟨S1x4096, .f32⟩ : BufTy).Contents (Elt F)),
    StableHlo.binary main_while0b_v25 main_while0b_v26 main_while0b_v27 (subf : (⟨S1x4096, .f32⟩ : BufTy).Contents (Elt F) → (⟨S1x4096, .f32⟩ : BufTy).Contents (Elt F) → (⟨S1x4096, .f32⟩ : BufTy).Contents (Elt F)),
    StableHlo.binary main_while0b_v27 main_while0b_v23 main_while0b_v28 (addf : (⟨S1x4096, .f32⟩ : BufTy).Contents (Elt F) → (⟨S1x4096, .f32⟩ : BufTy).Contents (Elt F) → (⟨S1x4096, .f32⟩ : BufTy).Contents (Elt F)),
    StableHlo.binary main_v7_2 main_v7_6 main_while0b_v29 (mulf : (⟨S1x4096, .f32⟩ : BufTy).Contents (Elt F) → (⟨S1x4096, .f32⟩ : BufTy).Contents (Elt F) → (⟨S1x4096, .f32⟩ : BufTy).Contents (Elt F)),
    StableHlo.binary main_v7_3 main_v7_5 main_while0b_v30 (mulf : (⟨S1x4096, .f32⟩ : BufTy).Contents (Elt F) → (⟨S1x4096, .f32⟩ : BufTy).Contents (Elt F) → (⟨S1x4096, .f32⟩ : BufTy).Contents (Elt F)),
    StableHlo.binary main_while0b_v29 main_while0b_v30 main_while0b_v31 (addf : (⟨S1x4096, .f32⟩ : BufTy).Contents (Elt F) → (⟨S1x4096, .f32⟩ : BufTy).Contents (Elt F) → (⟨S1x4096, .f32⟩ : BufTy).Contents (Elt F)),
    StableHlo.binary main_while0b_v31 main_while0b_v24 main_while0b_v32 (addf : (⟨S1x4096, .f32⟩ : BufTy).Contents (Elt F) → (⟨S1x4096, .f32⟩ : BufTy).Contents (Elt F) → (⟨S1x4096, .f32⟩ : BufTy).Contents (Elt F)) ]
theorem up2_sub : (up2 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub ..⟩
theorem up2_fresh : (up2 : List (HloOp τ sig (Elt F))).Forall fun op => op.fresh = ∅ := StableHlo.forall_fresh_of_map rfl
/-- What it writes. -/
abbrev up2_W : List (Ref sig .tc) := [main_while0b_v25, main_while0b_v26, main_while0b_v27, main_while0b_v28, main_while0b_v29, main_while0b_v30, main_while0b_v31, main_while0b_v32]
theorem up2_writes : (up2 : List (HloOp τ sig (Elt F))).Forall fun op => op.writes ⊆ (up2_W.map (Proc.devRef (τ := τ) .tc)).toFinset :=
  StableHlo.forall_writes_sub_of_map rfl

/-- a trip of the first loop, a row read or written -/
abbrev up3 : List (HloOp τ sig (Elt F)) :=
  [ StableHlo.TRef.unary (.of main_while0b_v28 : StableHlo.TRef sig ⟨S1x4096, .f32⟩) (.of main_while0b_call2_v0 : StableHlo.TRef sig ⟨S1x1x4096, .f32⟩) (broadcastInDim S1x1x4096 ![1, 2] bcast_S1x4096_S1x1x4096_1_2),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.binaryIndexed (.of main_v7_7 : StableHlo.TRef sig ⟨S2048x1x4096, .f32⟩) (.of main_while0b_call2_v0 : StableHlo.TRef sig ⟨S1x1x4096, .f32⟩) ![(.of main_v7_4 : StableHlo.TRef sig ⟨S_, .i32⟩), (.of main_while0b_call2_c : StableHlo.TRef sig ⟨S_, .i32⟩), (.of main_while0b_call2_c_0 : StableHlo.TRef sig ⟨S_, .i32⟩)] (.of main_while0b_v33 : StableHlo.TRef sig ⟨S2048x1x4096, .f32⟩) (fun x u i => Host.dynamicUpdateSlice x u (fun k => (i k (Shape.Idx.first h_S_)).toInt) updateFits_S2048x1x4096_S1x1x4096) ]
theorem up3_sub : (up3 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem up3_fresh : (up3 : List (HloOp τ sig (Elt F))).Forall fun op => op.fresh = ∅ := StableHlo.forall_fresh_of_map rfl
/-- What it writes. -/
abbrev up3_W : List (Ref sig .tc) := [main_while0b_call2_v0, main_while0b_call2_c, main_while0b_call2_c_0, main_while0b_v33]
theorem up3_writes : (up3 : List (HloOp τ sig (Elt F))).Forall fun op => op.writes ⊆ (up3_W.map (Proc.devRef (τ := τ) .tc)).toFinset :=
  StableHlo.forall_writes_sub_of_map rfl

/-- a trip of the first loop, a row read or written -/
abbrev up4 : List (HloOp τ sig (Elt F)) :=
  [ StableHlo.TRef.unary (.of main_while0b_v32 : StableHlo.TRef sig ⟨S1x4096, .f32⟩) (.of main_while0b_call3_v0 : StableHlo.TRef sig ⟨S1x1x4096, .f32⟩) (broadcastInDim S1x1x4096 ![1, 2] bcast_S1x4096_S1x1x4096_1_2),
    StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.binaryIndexed (.of main_v7_8 : StableHlo.TRef sig ⟨S2048x1x4096, .f32⟩) (.of main_while0b_call3_v0 : StableHlo.TRef sig ⟨S1x1x4096, .f32⟩) ![(.of main_v7_4 : StableHlo.TRef sig ⟨S_, .i32⟩), (.of main_while0b_call3_c : StableHlo.TRef sig ⟨S_, .i32⟩), (.of main_while0b_call3_c_0 : StableHlo.TRef sig ⟨S_, .i32⟩)] (.of main_while0b_v34 : StableHlo.TRef sig ⟨S2048x1x4096, .f32⟩) (fun x u i => Host.dynamicUpdateSlice x u (fun k => (i k (Shape.Idx.first h_S_)).toInt) updateFits_S2048x1x4096_S1x1x4096) ]
theorem up4_sub : (up4 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem up4_fresh : (up4 : List (HloOp τ sig (Elt F))).Forall fun op => op.fresh = ∅ := StableHlo.forall_fresh_of_map rfl
/-- What it writes. -/
abbrev up4_W : List (Ref sig .tc) := [main_while0b_call3_v0, main_while0b_call3_c, main_while0b_call3_c_0, main_while0b_v34]
theorem up4_writes : (up4 : List (HloOp τ sig (Elt F))).Forall fun op => op.writes ⊆ (up4_W.map (Proc.devRef (τ := τ) .tc)).toFinset :=
  StableHlo.forall_writes_sub_of_map rfl

/-- a trip of the first loop, a row read or written -/
abbrev up5 : List (HloOp τ sig (Elt F)) :=
  [ StableHlo.TRef.unary (.of main_v7_5 : StableHlo.TRef sig ⟨S1x4096, .f32⟩) (.of main_while0b_call4_v0 : StableHlo.TRef sig ⟨S1x1x4096, .f32⟩) (broadcastInDim S1x1x4096 ![1, 2] bcast_S1x4096_S1x1x4096_1_2),
    StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.binaryIndexed (.of main_v7_9 : StableHlo.TRef sig ⟨S2048x1x4096, .f32⟩) (.of main_while0b_call4_v0 : StableHlo.TRef sig ⟨S1x1x4096, .f32⟩) ![(.of main_v7_4 : StableHlo.TRef sig ⟨S_, .i32⟩), (.of main_while0b_call4_c : StableHlo.TRef sig ⟨S_, .i32⟩), (.of main_while0b_call4_c_0 : StableHlo.TRef sig ⟨S_, .i32⟩)] (.of main_while0b_v35 : StableHlo.TRef sig ⟨S2048x1x4096, .f32⟩) (fun x u i => Host.dynamicUpdateSlice x u (fun k => (i k (Shape.Idx.first h_S_)).toInt) updateFits_S2048x1x4096_S1x1x4096) ]
theorem up5_sub : (up5 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem up5_fresh : (up5 : List (HloOp τ sig (Elt F))).Forall fun op => op.fresh = ∅ := StableHlo.forall_fresh_of_map rfl
/-- What it writes. -/
abbrev up5_W : List (Ref sig .tc) := [main_while0b_call4_v0, main_while0b_call4_c, main_while0b_call4_c_0, main_while0b_v35]
theorem up5_writes : (up5 : List (HloOp τ sig (Elt F))).Forall fun op => op.writes ⊆ (up5_W.map (Proc.devRef (τ := τ) .tc)).toFinset :=
  StableHlo.forall_writes_sub_of_map rfl

/-- a trip of the first loop, a row read or written -/
abbrev up6 : List (HloOp τ sig (Elt F)) :=
  [ StableHlo.TRef.unary (.of main_v7_6 : StableHlo.TRef sig ⟨S1x4096, .f32⟩) (.of main_while0b_call5_v0 : StableHlo.TRef sig ⟨S1x1x4096, .f32⟩) (broadcastInDim S1x1x4096 ![1, 2] bcast_S1x4096_S1x1x4096_1_2),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.binaryIndexed (.of main_v7_10 : StableHlo.TRef sig ⟨S2048x1x4096, .f32⟩) (.of main_while0b_call5_v0 : StableHlo.TRef sig ⟨S1x1x4096, .f32⟩) ![(.of main_v7_4 : StableHlo.TRef sig ⟨S_, .i32⟩), (.of main_while0b_call5_c : StableHlo.TRef sig ⟨S_, .i32⟩), (.of main_while0b_call5_c_0 : StableHlo.TRef sig ⟨S_, .i32⟩)] (.of main_while0b_v36 : StableHlo.TRef sig ⟨S2048x1x4096, .f32⟩) (fun x u i => Host.dynamicUpdateSlice x u (fun k => (i k (Shape.Idx.first h_S_)).toInt) updateFits_S2048x1x4096_S1x1x4096) ]
theorem up6_sub : (up6 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem up6_fresh : (up6 : List (HloOp τ sig (Elt F))).Forall fun op => op.fresh = ∅ := StableHlo.forall_fresh_of_map rfl
/-- What it writes. -/
abbrev up6_W : List (Ref sig .tc) := [main_while0b_call5_v0, main_while0b_call5_c, main_while0b_call5_c_0, main_while0b_v36]
theorem up6_writes : (up6 : List (HloOp τ sig (Elt F))).Forall fun op => op.writes ⊆ (up6_W.map (Proc.devRef (τ := τ) .tc)).toFinset :=
  StableHlo.forall_writes_sub_of_map rfl

/-- a trip of the first loop, its own operations -/
abbrev up7 : List (HloOp τ sig (Elt F)) :=
  [ StableHlo.nullary main_while0b_c_25 (constantI S_ 32 1#32),
    StableHlo.binary main_v7_4 main_while0b_c_25 main_while0b_v37 (addi : (⟨S_, .i32⟩ : BufTy).Contents (Elt F) → (⟨S_, .i32⟩ : BufTy).Contents (Elt F) → (⟨S_, .i32⟩ : BufTy).Contents (Elt F)),
    StableHlo.unary main_while0b_v37 main_v7_4 id,
    StableHlo.unary main_while0b_v28 main_v7_5 id,
    StableHlo.unary main_while0b_v32 main_v7_6 id,
    StableHlo.unary main_while0b_v33 main_v7_7 id,
    StableHlo.unary main_while0b_v34 main_v7_8 id,
    StableHlo.unary main_while0b_v35 main_v7_9 id,
    StableHlo.unary main_while0b_v36 main_v7_10 id ]
theorem up7_sub : (up7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem up7_fresh : (up7 : List (HloOp τ sig (Elt F))).Forall fun op => op.fresh = ∅ := StableHlo.forall_fresh_of_map rfl
/-- What it writes. -/
abbrev up7_W : List (Ref sig .tc) := [main_while0b_c_25, main_while0b_v37, main_v7_4, main_v7_5, main_v7_6, main_v7_7, main_v7_8, main_v7_9, main_v7_10]
theorem up7_writes : (up7 : List (HloOp τ sig (Elt F))).Forall fun op => op.writes ⊆ (up7_W.map (Proc.devRef (τ := τ) .tc)).toFinset :=
  StableHlo.forall_writes_sub_of_map rfl

/-- a trip of the second loop, its own operations -/
abbrev down0 : List (HloOp τ sig (Elt F)) :=
  [ StableHlo.nullary main_while1b_c_27 (constantI S_ 32 2048#32),
    StableHlo.binary main_while1b_c_27 main_v18_6 main_while1b_v23 (subi : (⟨S_, .i32⟩ : BufTy).Contents (Elt F) → (⟨S_, .i32⟩ : BufTy).Contents (Elt F) → (⟨S_, .i32⟩ : BufTy).Contents (Elt F)),
    StableHlo.nullary main_while1b_c_28 (constantI S_ 32 1#32),
    StableHlo.binary main_while1b_v23 main_while1b_c_28 main_while1b_v24 (subi : (⟨S_, .i32⟩ : BufTy).Contents (Elt F) → (⟨S_, .i32⟩ : BufTy).Contents (Elt F) → (⟨S_, .i32⟩ : BufTy).Contents (Elt F)) ]
theorem down0_sub : (down0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
theorem down0_fresh : (down0 : List (HloOp τ sig (Elt F))).Forall fun op => op.fresh = ∅ := StableHlo.forall_fresh_of_map rfl
/-- What it writes. -/
abbrev down0_W : List (Ref sig .tc) := [main_while1b_c_27, main_while1b_v23, main_while1b_c_28, main_while1b_v24]
theorem down0_writes : (down0 : List (HloOp τ sig (Elt F))).Forall fun op => op.writes ⊆ (down0_W.map (Proc.devRef (τ := τ) .tc)).toFinset :=
  StableHlo.forall_writes_sub_of_map rfl

/-- a trip of the second loop, a row read or written -/
abbrev down1 : List (HloOp τ sig (Elt F)) :=
  [ StableHlo.TRef.nullary (.of main_while1b_call6_c : StableHlo.TRef sig ⟨S_, .i32⟩) (constantI S_ 32 0#32),
    StableHlo.TRef.nullary (.of main_while1b_call6_c_0 : StableHlo.TRef sig ⟨S_, .i32⟩) (constantI S_ 32 0#32),
    StableHlo.TRef.unaryIndexed (.of main_v18_0 : StableHlo.TRef sig ⟨S2048x1x4096, .f32⟩) ![(.of main_while1b_v24 : StableHlo.TRef sig ⟨S_, .i32⟩), (.of main_while1b_call6_c : StableHlo.TRef sig ⟨S_, .i32⟩), (.of main_while1b_call6_c_0 : StableHlo.TRef sig ⟨S_, .i32⟩)] (.of main_while1b_call6_v0 : StableHlo.TRef sig ⟨S1x1x4096, .f32⟩) (fun x i => Host.dynamicSlice S1x1x4096 x (fun k => (i k (Shape.Idx.first h_S_)).toInt) sliceFits_S2048x1x4096_S1x1x4096),
    StableHlo.TRef.reshape (.of main_while1b_call6_v0 : StableHlo.TRef sig ⟨S1x1x4096, .f32⟩) (.of main_while1b_v25 : StableHlo.TRef sig ⟨S1x4096, .f32⟩) (rfl : (.f32 : EltTy) = .f32) shapeCasts_S1x1x4096_S1x4096 ]
theorem down1_sub : (down1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem down1_fresh : (down1 : List (HloOp τ sig (Elt F))).Forall fun op => op.fresh = ∅ := StableHlo.forall_fresh_of_map rfl
/-- What it writes. -/
abbrev down1_W : List (Ref sig .tc) := [main_while1b_call6_c, main_while1b_call6_c_0, main_while1b_call6_v0, main_while1b_v25]
theorem down1_writes : (down1 : List (HloOp τ sig (Elt F))).Forall fun op => op.writes ⊆ (down1_W.map (Proc.devRef (τ := τ) .tc)).toFinset :=
  StableHlo.forall_writes_sub_of_map rfl

/-- a trip of the second loop, a row read or written -/
abbrev down2 : List (HloOp τ sig (Elt F)) :=
  [ StableHlo.TRef.nullary (.of main_while1b_call7_c : StableHlo.TRef sig ⟨S_, .i32⟩) (constantI S_ 32 0#32),
    StableHlo.TRef.nullary (.of main_while1b_call7_c_0 : StableHlo.TRef sig ⟨S_, .i32⟩) (constantI S_ 32 0#32),
    StableHlo.TRef.unaryIndexed (.of main_v18_1 : StableHlo.TRef sig ⟨S2048x1x4096, .f32⟩) ![(.of main_while1b_v24 : StableHlo.TRef sig ⟨S_, .i32⟩), (.of main_while1b_call7_c : StableHlo.TRef sig ⟨S_, .i32⟩), (.of main_while1b_call7_c_0 : StableHlo.TRef sig ⟨S_, .i32⟩)] (.of main_while1b_call7_v0 : StableHlo.TRef sig ⟨S1x1x4096, .f32⟩) (fun x i => Host.dynamicSlice S1x1x4096 x (fun k => (i k (Shape.Idx.first h_S_)).toInt) sliceFits_S2048x1x4096_S1x1x4096),
    StableHlo.TRef.reshape (.of main_while1b_call7_v0 : StableHlo.TRef sig ⟨S1x1x4096, .f32⟩) (.of main_while1b_v26 : StableHlo.TRef sig ⟨S1x4096, .f32⟩) (rfl : (.f32 : EltTy) = .f32) shapeCasts_S1x1x4096_S1x4096 ]
theorem down2_sub : (down2 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem down2_fresh : (down2 : List (HloOp τ sig (Elt F))).Forall fun op => op.fresh = ∅ := StableHlo.forall_fresh_of_map rfl
/-- What it writes. -/
abbrev down2_W : List (Ref sig .tc) := [main_while1b_call7_c, main_while1b_call7_c_0, main_while1b_call7_v0, main_while1b_v26]
theorem down2_writes : (down2 : List (HloOp τ sig (Elt F))).Forall fun op => op.writes ⊆ (down2_W.map (Proc.devRef (τ := τ) .tc)).toFinset :=
  StableHlo.forall_writes_sub_of_map rfl

/-- a trip of the second loop, a row read or written -/
abbrev down3 : List (HloOp τ sig (Elt F)) :=
  [ StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.unaryIndexed (.of main_v18_2 : StableHlo.TRef sig ⟨S2048x1x4096, .f32⟩) ![(.of main_while1b_v24 : StableHlo.TRef sig ⟨S_, .i32⟩), (.of main_while1b_call8_c : StableHlo.TRef sig ⟨S_, .i32⟩), (.of main_while1b_call8_c_0 : StableHlo.TRef sig ⟨S_, .i32⟩)] (.of main_while1b_call8_v0 : StableHlo.TRef sig ⟨S1x1x4096, .f32⟩) (fun x i => Host.dynamicSlice S1x1x4096 x (fun k => (i k (Shape.Idx.first h_S_)).toInt) sliceFits_S2048x1x4096_S1x1x4096),
    StableHlo.TRef.reshape (.of main_while1b_call8_v0 : StableHlo.TRef sig ⟨S1x1x4096, .f32⟩) (.of main_while1b_v27 : StableHlo.TRef sig ⟨S1x4096, .f32⟩) (rfl : (.f32 : EltTy) = .f32) shapeCasts_S1x1x4096_S1x4096 ]
theorem down3_sub : (down3 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem down3_fresh : (down3 : List (HloOp τ sig (Elt F))).Forall fun op => op.fresh = ∅ := StableHlo.forall_fresh_of_map rfl
/-- What it writes. -/
abbrev down3_W : List (Ref sig .tc) := [main_while1b_call8_c, main_while1b_call8_c_0, main_while1b_call8_v0, main_while1b_v27]
theorem down3_writes : (down3 : List (HloOp τ sig (Elt F))).Forall fun op => op.writes ⊆ (down3_W.map (Proc.devRef (τ := τ) .tc)).toFinset :=
  StableHlo.forall_writes_sub_of_map rfl

/-- a trip of the second loop, a row read or written -/
abbrev down4 : List (HloOp τ sig (Elt F)) :=
  [ StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.unaryIndexed (.of main_v18_3 : StableHlo.TRef sig ⟨S2048x1x4096, .f32⟩) ![(.of main_while1b_v24 : StableHlo.TRef sig ⟨S_, .i32⟩), (.of main_while1b_call9_c : StableHlo.TRef sig ⟨S_, .i32⟩), (.of main_while1b_call9_c_0 : StableHlo.TRef sig ⟨S_, .i32⟩)] (.of main_while1b_call9_v0 : StableHlo.TRef sig ⟨S1x1x4096, .f32⟩) (fun x i => Host.dynamicSlice S1x1x4096 x (fun k => (i k (Shape.Idx.first h_S_)).toInt) sliceFits_S2048x1x4096_S1x1x4096),
    StableHlo.TRef.reshape (.of main_while1b_call9_v0 : StableHlo.TRef sig ⟨S1x1x4096, .f32⟩) (.of main_while1b_v28 : StableHlo.TRef sig ⟨S1x4096, .f32⟩) (rfl : (.f32 : EltTy) = .f32) shapeCasts_S1x1x4096_S1x4096 ]
theorem down4_sub : (down4 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem down4_fresh : (down4 : List (HloOp τ sig (Elt F))).Forall fun op => op.fresh = ∅ := StableHlo.forall_fresh_of_map rfl
/-- What it writes. -/
abbrev down4_W : List (Ref sig .tc) := [main_while1b_call9_c, main_while1b_call9_c_0, main_while1b_call9_v0, main_while1b_v28]
theorem down4_writes : (down4 : List (HloOp τ sig (Elt F))).Forall fun op => op.writes ⊆ (down4_W.map (Proc.devRef (τ := τ) .tc)).toFinset :=
  StableHlo.forall_writes_sub_of_map rfl

/-- a trip of the second loop, its own operations -/
abbrev down5 : List (HloOp τ sig (Elt F)) :=
  [ StableHlo.binary main_v18_9 main_while1b_v25 main_while1b_v29 (addf : (⟨S1x4096, .f32⟩ : BufTy).Contents (Elt F) → (⟨S1x4096, .f32⟩ : BufTy).Contents (Elt F) → (⟨S1x4096, .f32⟩ : BufTy).Contents (Elt F)),
    StableHlo.binary main_v18_10 main_while1b_v26 main_while1b_v30 (addf : (⟨S1x4096, .f32⟩ : BufTy).Contents (Elt F) → (⟨S1x4096, .f32⟩ : BufTy).Contents (Elt F) → (⟨S1x4096, .f32⟩ : BufTy).Contents (Elt F)),
    StableHlo.binary main_v18_5 main_while1b_v30 main_while1b_v31 (mulf : (⟨S1x4096, .f32⟩ : BufTy).Contents (Elt F) → (⟨S1x4096, .f32⟩ : BufTy).Contents (Elt F) → (⟨S1x4096, .f32⟩ : BufTy).Contents (Elt F)),
    StableHlo.binary main_while1b_v30 main_while1b_v27 main_while1b_v32 (mulf : (⟨S1x4096, .f32⟩ : BufTy).Contents (Elt F) → (⟨S1x4096, .f32⟩ : BufTy).Contents (Elt F) → (⟨S1x4096, .f32⟩ : BufTy).Contents (Elt F)),
    StableHlo.binary main_v18_8 main_while1b_v32 main_while1b_v33 (addf : (⟨S1x4096, .f32⟩ : BufTy).Contents (Elt F) → (⟨S1x4096, .f32⟩ : BufTy).Contents (Elt F) → (⟨S1x4096, .f32⟩ : BufTy).Contents (Elt F)),
    StableHlo.binary main_v18_4 main_while1b_v30 main_while1b_v34 (mulf : (⟨S1x4096, .f32⟩ : BufTy).Contents (Elt F) → (⟨S1x4096, .f32⟩ : BufTy).Contents (Elt F) → (⟨S1x4096, .f32⟩ : BufTy).Contents (Elt F)),
    StableHlo.binary main_while1b_v30 main_while1b_v28 main_while1b_v35 (mulf : (⟨S1x4096, .f32⟩ : BufTy).Contents (Elt F) → (⟨S1x4096, .f32⟩ : BufTy).Contents (Elt F) → (⟨S1x4096, .f32⟩ : BufTy).Contents (Elt F)),
    StableHlo.binary main_v18_7 main_while1b_v35 main_while1b_v36 (addf : (⟨S1x4096, .f32⟩ : BufTy).Contents (Elt F) → (⟨S1x4096, .f32⟩ : BufTy).Contents (Elt F) → (⟨S1x4096, .f32⟩ : BufTy).Contents (Elt F)),
    StableHlo.unary main_while1b_v29 main_while1b_v37 (Host.negf : (⟨S1x4096, .f32⟩ : BufTy).Contents (Elt F) → (⟨S1x4096, .f32⟩ : BufTy).Contents (Elt F)),
    StableHlo.binary main_v18_5 main_while1b_v37 main_while1b_v38 (mulf : (⟨S1x4096, .f32⟩ : BufTy).Contents (Elt F) → (⟨S1x4096, .f32⟩ : BufTy).Contents (Elt F) → (⟨S1x4096, .f32⟩ : BufTy).Contents (Elt F)),
    StableHlo.binary main_while1b_v34 main_while1b_v38 main_while1b_v39 (addf : (⟨S1x4096, .f32⟩ : BufTy).Contents (Elt F) → (⟨S1x4096, .f32⟩ : BufTy).Contents (Elt F) → (⟨S1x4096, .f32⟩ : BufTy).Contents (Elt F)),
    StableHlo.binary main_while1b_v37 main_while1b_v28 main_while1b_v40 (mulf : (⟨S1x4096, .f32⟩ : BufTy).Contents (Elt F) → (⟨S1x4096, .f32⟩ : BufTy).Contents (Elt F) → (⟨S1x4096, .f32⟩ : BufTy).Contents (Elt F)),
    StableHlo.binary main_while1b_v33 main_while1b_v40 main_while1b_v41 (addf : (⟨S1x4096, .f32⟩ : BufTy).Contents (Elt F) → (⟨S1x4096, .f32⟩ : BufTy).Contents (Elt F) → (⟨S1x4096, .f32⟩ : BufTy).Contents (Elt F)),
    StableHlo.binary main_v18_4 main_while1b_v29 main_while1b_v42 (mulf : (⟨S1x4096, .f32⟩ : BufTy).Contents (Elt F) → (⟨S1x4096, .f32⟩ : BufTy).Contents (Elt F) → (⟨S1x4096, .f32⟩ : BufTy).Contents (Elt F)),
    StableHlo.binary main_while1b_v31 main_while1b_v42 main_while1b_v43 (addf : (⟨S1x4096, .f32⟩ : BufTy).Contents (Elt F) → (⟨S1x4096, .f32⟩ : BufTy).Contents (Elt F) → (⟨S1x4096, .f32⟩ : BufTy).Contents (Elt F)),
    StableHlo.binary main_while1b_v29 main_while1b_v27 main_while1b_v44 (mulf : (⟨S1x4096, .f32⟩ : BufTy).Contents (Elt F) → (⟨S1x4096, .f32⟩ : BufTy).Contents (Elt F) → (⟨S1x4096, .f32⟩ : BufTy).Contents (Elt F)),
    StableHlo.binary main_while1b_v36 main_while1b_v44 main_while1b_v45 (addf : (⟨S1x4096, .f32⟩ : BufTy).Contents (Elt F) → (⟨S1x4096, .f32⟩ : BufTy).Contents (Elt F) → (⟨S1x4096, .f32⟩ : BufTy).Contents (Elt F)) ]
theorem down5_sub : (down5 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub ..⟩
theorem down5_fresh : (down5 : List (HloOp τ sig (Elt F))).Forall fun op => op.fresh = ∅ := StableHlo.forall_fresh_of_map rfl
/-- What it writes. -/
abbrev down5_W : List (Ref sig .tc) := [main_while1b_v29, main_while1b_v30, main_while1b_v31, main_while1b_v32, main_while1b_v33, main_while1b_v34, main_while1b_v35, main_while1b_v36, main_while1b_v37, main_while1b_v38, main_while1b_v39, main_while1b_v40, main_while1b_v41, main_while1b_v42, main_while1b_v43, main_while1b_v44, main_while1b_v45]
theorem down5_writes : (down5 : List (HloOp τ sig (Elt F))).Forall fun op => op.writes ⊆ (down5_W.map (Proc.devRef (τ := τ) .tc)).toFinset :=
  StableHlo.forall_writes_sub_of_map rfl

/-- a trip of the second loop, a row read or written -/
abbrev down6 : List (HloOp τ sig (Elt F)) :=
  [ StableHlo.TRef.unary (.of main_while1b_v29 : StableHlo.TRef sig ⟨S1x4096, .f32⟩) (.of main_while1b_call10_v0 : StableHlo.TRef sig ⟨S1x1x4096, .f32⟩) (broadcastInDim S1x1x4096 ![1, 2] bcast_S1x4096_S1x1x4096_1_2),
    StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.binaryIndexed (.of main_v18_11 : StableHlo.TRef sig ⟨S2048x1x4096, .f32⟩) (.of main_while1b_call10_v0 : StableHlo.TRef sig ⟨S1x1x4096, .f32⟩) ![(.of main_while1b_v24 : StableHlo.TRef sig ⟨S_, .i32⟩), (.of main_while1b_call10_c : StableHlo.TRef sig ⟨S_, .i32⟩), (.of main_while1b_call10_c_0 : StableHlo.TRef sig ⟨S_, .i32⟩)] (.of main_while1b_v46 : StableHlo.TRef sig ⟨S2048x1x4096, .f32⟩) (fun x u i => Host.dynamicUpdateSlice x u (fun k => (i k (Shape.Idx.first h_S_)).toInt) updateFits_S2048x1x4096_S1x1x4096) ]
theorem down6_sub : (down6 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem down6_fresh : (down6 : List (HloOp τ sig (Elt F))).Forall fun op => op.fresh = ∅ := StableHlo.forall_fresh_of_map rfl
/-- What it writes. -/
abbrev down6_W : List (Ref sig .tc) := [main_while1b_call10_v0, main_while1b_call10_c, main_while1b_call10_c_0, main_while1b_v46]
theorem down6_writes : (down6 : List (HloOp τ sig (Elt F))).Forall fun op => op.writes ⊆ (down6_W.map (Proc.devRef (τ := τ) .tc)).toFinset :=
  StableHlo.forall_writes_sub_of_map rfl

/-- a trip of the second loop, a row read or written -/
abbrev down7 : List (HloOp τ sig (Elt F)) :=
  [ StableHlo.TRef.unary (.of main_while1b_v30 : StableHlo.TRef sig ⟨S1x4096, .f32⟩) (.of main_while1b_call11_v0 : StableHlo.TRef sig ⟨S1x1x4096, .f32⟩) (broadcastInDim S1x1x4096 ![1, 2] bcast_S1x4096_S1x1x4096_1_2),
    StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.binaryIndexed (.of main_v18_12 : StableHlo.TRef sig ⟨S2048x1x4096, .f32⟩) (.of main_while1b_call11_v0 : StableHlo.TRef sig ⟨S1x1x4096, .f32⟩) ![(.of main_while1b_v24 : StableHlo.TRef sig ⟨S_, .i32⟩), (.of main_while1b_call11_c : StableHlo.TRef sig ⟨S_, .i32⟩), (.of main_while1b_call11_c_0 : StableHlo.TRef sig ⟨S_, .i32⟩)] (.of main_while1b_v47 : StableHlo.TRef sig ⟨S2048x1x4096, .f32⟩) (fun x u i => Host.dynamicUpdateSlice x u (fun k => (i k (Shape.Idx.first h_S_)).toInt) updateFits_S2048x1x4096_S1x1x4096) ]
theorem down7_sub : (down7 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem down7_fresh : (down7 : List (HloOp τ sig (Elt F))).Forall fun op => op.fresh = ∅ := StableHlo.forall_fresh_of_map rfl
/-- What it writes. -/
abbrev down7_W : List (Ref sig .tc) := [main_while1b_call11_v0, main_while1b_call11_c, main_while1b_call11_c_0, main_while1b_v47]
theorem down7_writes : (down7 : List (HloOp τ sig (Elt F))).Forall fun op => op.writes ⊆ (down7_W.map (Proc.devRef (τ := τ) .tc)).toFinset :=
  StableHlo.forall_writes_sub_of_map rfl

/-- a trip of the second loop, its own operations -/
abbrev down8 : List (HloOp τ sig (Elt F)) :=
  [ StableHlo.nullary main_while1b_c_29 (constantI S_ 32 1#32),
    StableHlo.binary main_v18_6 main_while1b_c_29 main_while1b_v48 (addi : (⟨S_, .i32⟩ : BufTy).Contents (Elt F) → (⟨S_, .i32⟩ : BufTy).Contents (Elt F) → (⟨S_, .i32⟩ : BufTy).Contents (Elt F)),
    StableHlo.unary main_while1b_v48 main_v18_6 id,
    StableHlo.unary main_while1b_v45 main_v18_7 id,
    StableHlo.unary main_while1b_v41 main_v18_8 id,
    StableHlo.unary main_while1b_v43 main_v18_9 id,
    StableHlo.unary main_while1b_v39 main_v18_10 id,
    StableHlo.unary main_while1b_v46 main_v18_11 id,
    StableHlo.unary main_while1b_v47 main_v18_12 id ]
theorem down8_sub : (down8 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem down8_fresh : (down8 : List (HloOp τ sig (Elt F))).Forall fun op => op.fresh = ∅ := StableHlo.forall_fresh_of_map rfl
/-- What it writes. -/
abbrev down8_W : List (Ref sig .tc) := [main_while1b_c_29, main_while1b_v48, main_v18_6, main_v18_7, main_v18_8, main_v18_9, main_v18_10, main_v18_11, main_v18_12]
theorem down8_writes : (down8 : List (HloOp τ sig (Elt F))).Forall fun op => op.writes ⊆ (down8_W.map (Proc.devRef (τ := τ) .tc)).toFinset :=
  StableHlo.forall_writes_sub_of_map rfl

theorem main_chain (c : Dev nD) : main (F := F) c = (Pipeline.chain [ StableHlo.seq pre0, HostLoop.enter 0, StableHlo.seq mid0, HostLoop.enter 1, StableHlo.seq post0, StableHlo.seq post1 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons, StableHlo.chain_seq_cons]
  chain_rfl

theorem up_chain : main_while0_body (F := F) = (Pipeline.chain [ StableHlo.seq up0, StableHlo.seq up1, StableHlo.seq up2, StableHlo.seq up3, StableHlo.seq up4, StableHlo.seq up5, StableHlo.seq up6, StableHlo.seq up7 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, Pipeline.chain_cons, Pipeline.chain_cons, Pipeline.chain_cons, StableHlo.chain_seq_cons]
  chain_rfl

theorem down_chain : main_while1_body (F := F) = (Pipeline.chain [ StableHlo.seq down0, StableHlo.seq down1, StableHlo.seq down2, StableHlo.seq down3, StableHlo.seq down4, StableHlo.seq down5, StableHlo.seq down6, StableHlo.seq down7, StableHlo.seq down8 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, StableHlo.chain_seq_cons, Pipeline.chain_cons, Pipeline.chain_cons, StableHlo.chain_seq_cons]
  chain_rfl

abbrev preI : List (List (HloOp τ sig (Elt F))) := [pre0]
theorem preI_plain : StableHlo.Plain (preI (F := F)) := .cons pre0_sub (hf := List.forall_iff_forall_mem.mp pre0_fresh) (.nil)

abbrev midI : List (List (HloOp τ sig (Elt F))) := [mid0]
theorem midI_plain : StableHlo.Plain (midI (F := F)) := .cons mid0_sub (hf := List.forall_iff_forall_mem.mp mid0_fresh) (.nil)

abbrev postI : List (List (HloOp τ sig (Elt F))) := [post0, post1]
theorem postI_plain : StableHlo.Plain (postI (F := F)) := .cons post0_sub (hf := List.forall_iff_forall_mem.mp post0_fresh) (.cons post1_sub (hf := List.forall_iff_forall_mem.mp post1_fresh) (.nil))

abbrev upI : List (List (HloOp τ sig (Elt F))) := [up0, up1, up2, up3, up4, up5, up6, up7]
theorem upI_plain : StableHlo.Plain (upI (F := F)) := .cons up0_sub (hf := List.forall_iff_forall_mem.mp up0_fresh) (.cons up1_sub (hf := List.forall_iff_forall_mem.mp up1_fresh) (.cons up2_sub (hf := List.forall_iff_forall_mem.mp up2_fresh) (.cons up3_sub (hf := List.forall_iff_forall_mem.mp up3_fresh) (.cons up4_sub (hf := List.forall_iff_forall_mem.mp up4_fresh) (.cons up5_sub (hf := List.forall_iff_forall_mem.mp up5_fresh) (.cons up6_sub (hf := List.forall_iff_forall_mem.mp up6_fresh) (.cons up7_sub (hf := List.forall_iff_forall_mem.mp up7_fresh) (.nil))))))))

abbrev downI : List (List (HloOp τ sig (Elt F))) := [down0, down1, down2, down3, down4, down5, down6, down7, down8]
theorem downI_plain : StableHlo.Plain (downI (F := F)) := .cons down0_sub (hf := List.forall_iff_forall_mem.mp down0_fresh) (.cons down1_sub (hf := List.forall_iff_forall_mem.mp down1_fresh) (.cons down2_sub (hf := List.forall_iff_forall_mem.mp down2_fresh) (.cons down3_sub (hf := List.forall_iff_forall_mem.mp down3_fresh) (.cons down4_sub (hf := List.forall_iff_forall_mem.mp down4_fresh) (.cons down5_sub (hf := List.forall_iff_forall_mem.mp down5_fresh) (.cons down6_sub (hf := List.forall_iff_forall_mem.mp down6_fresh) (.cons down7_sub (hf := List.forall_iff_forall_mem.mp down7_fresh) (.cons down8_sub (hf := List.forall_iff_forall_mem.mp down8_fresh) (.nil)))))))))

abbrev cond0 : List (HloOp τ sig (Elt F)) :=
  [ StableHlo.nullary main_while0c_c_25 (constantI S_ 32 2048#32),
    StableHlo.binary main_v7_4 main_while0c_c_25 main_while0c_v23 (cmpi .slt : (⟨S_, .i32⟩ : BufTy).Contents (Elt F) → (⟨S_, .i32⟩ : BufTy).Contents (Elt F) → (⟨S_, .i1⟩ : BufTy).Contents (Elt F)) ]
abbrev cond0_W : List (Ref sig .tc) := [main_while0c_c_25, main_while0c_v23]
theorem cond0_writes : (cond0 : List (HloOp τ sig (Elt F))).Forall fun op => op.writes ⊆ (cond0_W.map (Proc.devRef (τ := τ) .tc)).toFinset :=
  StableHlo.forall_writes_sub_of_map rfl

abbrev cond1 : List (HloOp τ sig (Elt F)) :=
  [ StableHlo.nullary main_while1c_c_27 (constantI S_ 32 2048#32),
    StableHlo.binary main_v18_6 main_while1c_c_27 main_while1c_v23 (cmpi .slt : (⟨S_, .i32⟩ : BufTy).Contents (Elt F) → (⟨S_, .i32⟩ : BufTy).Contents (Elt F) → (⟨S_, .i1⟩ : BufTy).Contents (Elt F)) ]
abbrev cond1_W : List (Ref sig .tc) := [main_while1c_c_27, main_while1c_v23]
theorem cond1_writes : (cond1 : List (HloOp τ sig (Elt F))).Forall fun op => op.writes ⊆ (cond1_W.map (Proc.devRef (τ := τ) .tc)).toFinset :=
  StableHlo.forall_writes_sub_of_map rfl

end Cert.ScanGradRefIdeal.Ops
-- ==== Proof.ScanRefTrip.lean ====
/-
  What one trip of each loop of the reference leaves in the buffers it carries.
-/
module

public import proofs.«01_k».proof.Proof.ScanRefOps
public import Idealize.ShloMosaic.Lib.DynamicIndex
public import Idealize.ShloMosaic.Lib.WordCmp
public import Idealize.ShloMosaic.Lib.Pipeline.Value
public import Idealize.ShloMosaic.Lib.Pointwise.Index

@[expose] public section
set_option maxRecDepth 100000
noncomputable section
namespace Cert.ScanGradRefIdeal.Trip
open Cert.ScanGradRefIdeal Cert.ScanGradRefIdeal.Gen Cert.ScanGradRefIdeal.Ops
open Idealize.ShloMosaic Idealize.ShloMosaic.TcCoe
open Idealize.ShloMosaic.StableHlo
open Idealize.SL.Sem

variable {F : FTy → Type} [FloatOps F] (V : Valuation τ sig (Elt F))

/-- The starts of a one-row window at row `i`. -/
def starts (i : IVec S_ 32) : Fin 3 → Int :=
  fun k => ((![i, constantI S_ 32 0#32, constantI S_ 32 0#32] k) (Shape.Idx.first h_S_)).toInt

/-- Row `i` of a stack of rows. -/
def rowOf (b : FVec F S2048x1x4096 .f32) (i : IVec S_ 32) : FVec F S1x4096 .f32 :=
  shapeCast S1x4096 (Host.dynamicSlice S1x1x4096 b (starts i) sliceFits_S2048x1x4096_S1x1x4096) shapeCasts_S1x1x4096_S1x4096

/-- A stack of rows with row `i` replaced. -/
def setRow (b : FVec F S2048x1x4096 .f32) (x : FVec F S1x4096 .f32) (i : IVec S_ 32) : FVec F S2048x1x4096 .f32 :=
  Host.dynamicUpdateSlice b (broadcastInDim S1x1x4096 ![1, 2] bcast_S1x4096_S1x1x4096_1_2 x) (starts i) updateFits_S2048x1x4096_S1x1x4096

theorem starts_eq (i : IVec S_ 32) (k : ℕ) (hk : k < 2048) (hi : i = fun _ => BitVec.ofNat 32 k) (a : Fin 3) :
    starts i a = ((![k, 0, 0] : Fin 3 → ℕ) a : Int) := by
  subst hi
  match a with
  | ⟨0, _⟩ => show (BitVec.ofNat 32 k).toInt = (k : Int); rw [BitVec.toInt_ofNat', Int.bmod_def]; omega
  | ⟨1, _⟩ => rfl
  | ⟨2, _⟩ => rfl

theorem fits (k : ℕ) (hk : k < 2048) : S2048x1x4096.Slices (![k, 0, 0] : Fin 3 → ℕ) S1x1x4096 :=
  ⟨rfl, fun a => match a with
    | ⟨0, _⟩ => (by show k + 1 ≤ 2048; omega)
    | ⟨1, _⟩ => (by show 0 + 1 ≤ 1; omega)
    | ⟨2, _⟩ => (by show 0 + 4096 ≤ 4096; omega)⟩

/-- Reading a row. -/
theorem rowOf_apply (b : FVec F S2048x1x4096 .f32) (i : IVec S_ 32) (k : Fin 2048) (hi : i = fun _ => BitVec.ofNat 32 k.val) (l : Fin 4096) :
    rowOf b i (ix2 0 l) = b (ix3 k 0 l) := by
  unfold rowOf
  rw [Host.dynamicSlice_eq_extractStridedSlice S1x1x4096 b (starts i) ![k.val, 0, 0] _ (fits k.val k.isLt) (starts_eq i k.val k.isLt hi)]
  refine (shapeCast_dropUnit_apply ![1, 4096] _ shapeCasts_S1x1x4096_S1x4096 (ix2 0 l)).trans ?_
  unfold extractStridedSlice
  refine congrArg b (funext fun a => Fin.ext ?_)
  match a with
  | ⟨0, _⟩ => rfl
  | ⟨1, _⟩ => rfl
  | ⟨2, _⟩ => show 0 + l.val = l.val; omega

/-- Reading a stack with a row replaced. -/
theorem setRow_apply (b : FVec F S2048x1x4096 .f32) (x : FVec F S1x4096 .f32) (i : IVec S_ 32) (k t : Fin 2048) (hi : i = fun _ => BitVec.ofNat 32 k.val)
    (l : Fin 4096) : setRow b x i (ix3 t 0 l) = if t = k then x (ix2 0 l) else b (ix3 t 0 l) := by
  unfold setRow
  rw [WordCmp.dynamicUpdateSlice_eq_update b _ (starts i) _ ![k.val, 0, 0] (fits k.val k.isLt) (starts_eq i k.val k.isLt hi)]
  unfold updateSlice
  split
  · rename_i h
    have h0 : k.val ≤ t.val ∧ t.val < k.val + 1 := h (0 : Fin 3)
    rw [if_pos (Fin.ext (by omega))]
    refine congrArg x (funext fun a => Fin.ext ?_)
    match a with
    | ⟨0, _⟩ => rfl
    | ⟨1, _⟩ => rfl
  · rename_i h
    rw [if_neg]
    rintro rfl
    refine h fun a => ?_
    match a with
    | ⟨0, _⟩ => exact ⟨le_refl _, Nat.lt_succ_self _⟩
    | ⟨1, _⟩ => exact ⟨le_refl _, Nat.lt_succ_self _⟩
    | ⟨2, _⟩ => exact ⟨Nat.zero_le _, (Nat.zero_add 4096).symm ▸ l.isLt⟩

theorem keep_up0 {r : Ref sig .tc} (h : r ∉ up0_W) : after up0 V (Proc.devRef .tc r) = V (Proc.devRef .tc r) := after_of_writes_sub up0 V up0_writes h
theorem keep_up1 {r : Ref sig .tc} (h : r ∉ up1_W) : after up1 V (Proc.devRef .tc r) = V (Proc.devRef .tc r) := after_of_writes_sub up1 V up1_writes h
theorem keep_up2 {r : Ref sig .tc} (h : r ∉ up2_W) : after up2 V (Proc.devRef .tc r) = V (Proc.devRef .tc r) := after_of_writes_sub up2 V up2_writes h
theorem keep_up3 {r : Ref sig .tc} (h : r ∉ up3_W) : after up3 V (Proc.devRef .tc r) = V (Proc.devRef .tc r) := after_of_writes_sub up3 V up3_writes h
theorem keep_up4 {r : Ref sig .tc} (h : r ∉ up4_W) : after up4 V (Proc.devRef .tc r) = V (Proc.devRef .tc r) := after_of_writes_sub up4 V up4_writes h
theorem keep_up5 {r : Ref sig .tc} (h : r ∉ up5_W) : after up5 V (Proc.devRef .tc r) = V (Proc.devRef .tc r) := after_of_writes_sub up5 V up5_writes h
theorem keep_up6 {r : Ref sig .tc} (h : r ∉ up6_W) : after up6 V (Proc.devRef .tc r) = V (Proc.devRef .tc r) := after_of_writes_sub up6 V up6_writes h
theorem keep_up7 {r : Ref sig .tc} (h : r ∉ up7_W) : after up7 V (Proc.devRef .tc r) = V (Proc.devRef .tc r) := after_of_writes_sub up7 V up7_writes h
theorem keep_down0 {r : Ref sig .tc} (h : r ∉ down0_W) : after down0 V (Proc.devRef .tc r) = V (Proc.devRef .tc r) := after_of_writes_sub down0 V down0_writes h
theorem keep_down1 {r : Ref sig .tc} (h : r ∉ down1_W) : after down1 V (Proc.devRef .tc r) = V (Proc.devRef .tc r) := after_of_writes_sub down1 V down1_writes h
theorem keep_down2 {r : Ref sig .tc} (h : r ∉ down2_W) : after down2 V (Proc.devRef .tc r) = V (Proc.devRef .tc r) := after_of_writes_sub down2 V down2_writes h
theorem keep_down3 {r : Ref sig .tc} (h : r ∉ down3_W) : after down3 V (Proc.devRef .tc r) = V (Proc.devRef .tc r) := after_of_writes_sub down3 V down3_writes h
theorem keep_down4 {r : Ref sig .tc} (h : r ∉ down4_W) : after down4 V (Proc.devRef .tc r) = V (Proc.devRef .tc r) := after_of_writes_sub down4 V down4_writes h
theorem keep_down5 {r : Ref sig .tc} (h : r ∉ down5_W) : after down5 V (Proc.devRef .tc r) = V (Proc.devRef .tc r) := after_of_writes_sub down5 V down5_writes h
theorem keep_down6 {r : Ref sig .tc} (h : r ∉ down6_W) : after down6 V (Proc.devRef .tc r) = V (Proc.devRef .tc r) := after_of_writes_sub down6 V down6_writes h
theorem keep_down7 {r : Ref sig .tc} (h : r ∉ down7_W) : after down7 V (Proc.devRef .tc r) = V (Proc.devRef .tc r) := after_of_writes_sub down7 V down7_writes h
theorem keep_down8 {r : Ref sig .tc} (h : r ∉ down8_W) : after down8 V (Proc.devRef .tc r) = V (Proc.devRef .tc r) := after_of_writes_sub down8 V down8_writes h
theorem keep_cond0 {r : Ref sig .tc} (h : r ∉ cond0_W) : after cond0 V (Proc.devRef .tc r) = V (Proc.devRef .tc r) := after_of_writes_sub cond0 V cond0_writes h
theorem keep_cond1 {r : Ref sig .tc} (h : r ∉ cond1_W) : after cond1 V (Proc.devRef .tc r) = V (Proc.devRef .tc r) := after_of_writes_sub cond1 V cond1_writes h

/-! ## The first loop, stretch by stretch -/

theorem up0_row : after up0 V (Proc.devRef .tc main_while0b_v23) = rowOf (V (Proc.devRef .tc main_v7_0)) (V (Proc.devRef .tc main_v7_4)) := by
  after_results
  refine congrArg (fun j : Fin 3 → Int => shapeCast S1x4096 (Host.dynamicSlice S1x1x4096 (V (Proc.devRef .tc main_v7_0)) j sliceFits_S2048x1x4096_S1x1x4096) shapeCasts_S1x1x4096_S1x4096) (funext fun k => ?_)
  match k with
  | ⟨0, _⟩ => rfl
  | ⟨1, _⟩ => rfl
  | ⟨2, _⟩ => rfl
theorem up1_row : after up1 V (Proc.devRef .tc main_while0b_v24) = rowOf (V (Proc.devRef .tc main_v7_1)) (V (Proc.devRef .tc main_v7_4)) := by
  after_results
  refine congrArg (fun j : Fin 3 → Int => shapeCast S1x4096 (Host.dynamicSlice S1x1x4096 (V (Proc.devRef .tc main_v7_1)) j sliceFits_S2048x1x4096_S1x1x4096) shapeCasts_S1x1x4096_S1x4096) (funext fun k => ?_)
  match k with
  | ⟨0, _⟩ => rfl
  | ⟨1, _⟩ => rfl
  | ⟨2, _⟩ => rfl
theorem up3_put : after up3 V (Proc.devRef .tc main_while0b_v33) = setRow (V (Proc.devRef .tc main_v7_7)) (V (Proc.devRef .tc main_while0b_v28)) (V (Proc.devRef .tc main_v7_4)) := by
  after_results
  refine congrArg (fun j : Fin 3 → Int => Host.dynamicUpdateSlice (V (Proc.devRef .tc main_v7_7)) (broadcastInDim S1x1x4096 ![1, 2] bcast_S1x4096_S1x1x4096_1_2 (V (Proc.devRef .tc main_while0b_v28))) j updateFits_S2048x1x4096_S1x1x4096) (funext fun k => ?_)
  match k with
  | ⟨0, _⟩ => rfl
  | ⟨1, _⟩ => rfl
  | ⟨2, _⟩ => rfl
theorem up4_put : after up4 V (Proc.devRef .tc main_while0b_v34) = setRow (V (Proc.devRef .tc main_v7_8)) (V (Proc.devRef .tc main_while0b_v32)) (V (Proc.devRef .tc main_v7_4)) := by
  after_results
  refine congrArg (fun j : Fin 3 → Int => Host.dynamicUpdateSlice (V (Proc.devRef .tc main_v7_8)) (broadcastInDim S1x1x4096 ![1, 2] bcast_S1x4096_S1x1x4096_1_2 (V (Proc.devRef .tc main_while0b_v32))) j updateFits_S2048x1x4096_S1x1x4096) (funext fun k => ?_)
  match k with
  | ⟨0, _⟩ => rfl
  | ⟨1, _⟩ => rfl
  | ⟨2, _⟩ => rfl
theorem up5_put : after up5 V (Proc.devRef .tc main_while0b_v35) = setRow (V (Proc.devRef .tc main_v7_9)) (V (Proc.devRef .tc main_v7_5)) (V (Proc.devRef .tc main_v7_4)) := by
  after_results
  refine congrArg (fun j : Fin 3 → Int => Host.dynamicUpdateSlice (V (Proc.devRef .tc main_v7_9)) (broadcastInDim S1x1x4096 ![1, 2] bcast_S1x4096_S1x1x4096_1_2 (V (Proc.devRef .tc main_v7_5))) j updateFits_S2048x1x4096_S1x1x4096) (funext fun k => ?_)
  match k with
  | ⟨0, _⟩ => rfl
  | ⟨1, _⟩ => rfl
  | ⟨2, _⟩ => rfl
theorem up6_put : after up6 V (Proc.devRef .tc main_while0b_v36) = setRow (V (Proc.devRef .tc main_v7_10)) (V (Proc.devRef .tc main_v7_6)) (V (Proc.devRef .tc main_v7_4)) := by
  after_results
  refine congrArg (fun j : Fin 3 → Int => Host.dynamicUpdateSlice (V (Proc.devRef .tc main_v7_10)) (broadcastInDim S1x1x4096 ![1, 2] bcast_S1x4096_S1x1x4096_1_2 (V (Proc.devRef .tc main_v7_6))) j updateFits_S2048x1x4096_S1x1x4096) (funext fun k => ?_)
  match k with
  | ⟨0, _⟩ => rfl
  | ⟨1, _⟩ => rfl
  | ⟨2, _⟩ => rfl
theorem up2_re : after up2 V (Proc.devRef .tc main_while0b_v28) = addf (subf (mulf (V (Proc.devRef .tc main_v7_2)) (V (Proc.devRef .tc main_v7_5))) (mulf (V (Proc.devRef .tc main_v7_3)) (V (Proc.devRef .tc main_v7_6)))) (V (Proc.devRef .tc main_while0b_v23)) := by
  after_results
theorem up2_im : after up2 V (Proc.devRef .tc main_while0b_v32) = addf (addf (mulf (V (Proc.devRef .tc main_v7_2)) (V (Proc.devRef .tc main_v7_6))) (mulf (V (Proc.devRef .tc main_v7_3)) (V (Proc.devRef .tc main_v7_5)))) (V (Proc.devRef .tc main_while0b_v24)) := by
  after_results
theorem up7_ctr : after up7 V (Proc.devRef .tc main_v7_4) = addi (V (Proc.devRef .tc main_v7_4)) (constantI S_ 32 1#32) := by
  after_results
  rfl
theorem up7_re : after up7 V (Proc.devRef .tc main_v7_5) = V (Proc.devRef .tc main_while0b_v28) := by
  after_results
  rfl
theorem up7_im : after up7 V (Proc.devRef .tc main_v7_6) = V (Proc.devRef .tc main_while0b_v32) := by
  after_results
  rfl
theorem up7_nre : after up7 V (Proc.devRef .tc main_v7_7) = V (Proc.devRef .tc main_while0b_v33) := by
  after_results
  rfl
theorem up7_nim : after up7 V (Proc.devRef .tc main_v7_8) = V (Proc.devRef .tc main_while0b_v34) := by
  after_results
  rfl
theorem up7_sre : after up7 V (Proc.devRef .tc main_v7_9) = V (Proc.devRef .tc main_while0b_v35) := by
  after_results
  rfl
theorem up7_sim : after up7 V (Proc.devRef .tc main_v7_10) = V (Proc.devRef .tc main_while0b_v36) := by
  after_results
  rfl

/-! ## The first loop, one trip -/

theorem up_keep {r : Ref sig .tc} (h0 : r ∉ up0_W) (h1 : r ∉ up1_W) (h2 : r ∉ up2_W) (h3 : r ∉ up3_W) (h4 : r ∉ up4_W) (h5 : r ∉ up5_W) (h6 : r ∉ up6_W)
    (h7 : r ∉ up7_W) : afterL upI V (Proc.devRef .tc r) = V (Proc.devRef .tc r) := by
  simp only [afterL_cons, afterL_nil]
  rw [keep_up7 _ h7, keep_up6 _ h6, keep_up5 _ h5, keep_up4 _ h4, keep_up3 _ h3, keep_up2 _ h2, keep_up1 _ h1, keep_up0 _ h0]
theorem up_head {r : Ref sig .tc} (h0 : r ∉ up0_W) (h1 : r ∉ up1_W) : after up1 (after up0 V) (Proc.devRef .tc r) = V (Proc.devRef .tc r) := by
  rw [keep_up1 _ h1, keep_up0 _ h0]
theorem up_before {r : Ref sig .tc} (h0 : r ∉ up0_W) (h1 : r ∉ up1_W) (h2 : r ∉ up2_W) (h3 : r ∉ up3_W) (h4 : r ∉ up4_W) :
    after up4 (after up3 (after up2 (after up1 (after up0 V)))) (Proc.devRef .tc r) = V (Proc.devRef .tc r) := by
  rw [keep_up4 _ h4, keep_up3 _ h3, keep_up2 _ h2, up_head _ h0 h1]
theorem up_row21 : after up1 (after up0 V) (Proc.devRef .tc main_while0b_v23) = rowOf (V (Proc.devRef .tc main_v7_0)) (V (Proc.devRef .tc main_v7_4)) :=
  (keep_up1 _ (by decide +kernel)).trans (up0_row V)
theorem up_row22 : after up1 (after up0 V) (Proc.devRef .tc main_while0b_v24) = rowOf (V (Proc.devRef .tc main_v7_1)) (V (Proc.devRef .tc main_v7_4)) := by
  rw [up1_row, keep_up0 (r := main_v7_1) _ (by decide +kernel), keep_up0 (r := main_v7_4) _ (by decide +kernel)]
theorem up_ctr : afterL upI V (Proc.devRef .tc main_v7_4) = addi (V (Proc.devRef .tc main_v7_4)) (constantI S_ 32 1#32) := by
  simp only [afterL_cons, afterL_nil]
  refine (up7_ctr _).trans ?_
  exact congrArg (fun z => addi z (constantI S_ 32 1#32)) (by refine (keep_up6 _ (by decide +kernel)).trans ?_; refine (keep_up5 _ (by decide +kernel)).trans ?_; refine (keep_up4 _ (by decide +kernel)).trans ?_; refine (keep_up3 _ (by decide +kernel)).trans ?_; refine (keep_up2 _ (by decide +kernel)).trans ?_; refine (keep_up1 _ (by decide +kernel)).trans ?_; exact keep_up0 _ (by decide +kernel))
theorem up_re : afterL upI V (Proc.devRef .tc main_v7_5) = addf (subf (mulf (V (Proc.devRef .tc main_v7_2)) (V (Proc.devRef .tc main_v7_5))) (mulf (V (Proc.devRef .tc main_v7_3)) (V (Proc.devRef .tc main_v7_6)))) (rowOf (V (Proc.devRef .tc main_v7_0)) (V (Proc.devRef .tc main_v7_4))) := by
  simp only [afterL_cons, afterL_nil]
  refine (up7_re _).trans ?_
  refine (keep_up6 _ (by decide +kernel)).trans ?_
  refine (keep_up5 _ (by decide +kernel)).trans ?_
  refine (keep_up4 _ (by decide +kernel)).trans ?_
  refine (keep_up3 _ (by decide +kernel)).trans ?_
  refine (up2_re _).trans ?_
  rw [up_head (r := main_v7_2) _ (by decide +kernel) (by decide +kernel), up_head (r := main_v7_3) _ (by decide +kernel) (by decide +kernel), up_head (r := main_v7_5) _ (by decide +kernel) (by decide +kernel), up_head (r := main_v7_6) _ (by decide +kernel) (by decide +kernel), up_row21]
theorem up_im : afterL upI V (Proc.devRef .tc main_v7_6) = addf (addf (mulf (V (Proc.devRef .tc main_v7_2)) (V (Proc.devRef .tc main_v7_6))) (mulf (V (Proc.devRef .tc main_v7_3)) (V (Proc.devRef .tc main_v7_5)))) (rowOf (V (Proc.devRef .tc main_v7_1)) (V (Proc.devRef .tc main_v7_4))) := by
  simp only [afterL_cons, afterL_nil]
  refine (up7_im _).trans ?_
  refine (keep_up6 _ (by decide +kernel)).trans ?_
  refine (keep_up5 _ (by decide +kernel)).trans ?_
  refine (keep_up4 _ (by decide +kernel)).trans ?_
  refine (keep_up3 _ (by decide +kernel)).trans ?_
  refine (up2_im _).trans ?_
  rw [up_head (r := main_v7_2) _ (by decide +kernel) (by decide +kernel), up_head (r := main_v7_3) _ (by decide +kernel) (by decide +kernel), up_head (r := main_v7_5) _ (by decide +kernel) (by decide +kernel), up_head (r := main_v7_6) _ (by decide +kernel) (by decide +kernel), up_row22]
theorem up_nre : afterL upI V (Proc.devRef .tc main_v7_7) = setRow (V (Proc.devRef .tc main_v7_7)) (afterL upI V (Proc.devRef .tc main_v7_5)) (V (Proc.devRef .tc main_v7_4)) := by
  simp only [afterL_cons, afterL_nil]
  rw [up7_nre, up7_re, keep_up6 (r := main_while0b_v33) _ (by decide +kernel), keep_up5 (r := main_while0b_v33) _ (by decide +kernel), keep_up4 (r := main_while0b_v33) _ (by decide +kernel), up3_put,
    keep_up6 (r := main_while0b_v28) _ (by decide +kernel), keep_up5 (r := main_while0b_v28) _ (by decide +kernel), keep_up4 (r := main_while0b_v28) _ (by decide +kernel), keep_up3 (r := main_while0b_v28) _ (by decide +kernel),
    keep_up2 (r := main_v7_7) _ (by decide +kernel), keep_up2 (r := main_v7_4) _ (by decide +kernel), up_head (r := main_v7_7) _ (by decide +kernel) (by decide +kernel), up_head (r := main_v7_4) _ (by decide +kernel) (by decide +kernel)]
theorem up_nim : afterL upI V (Proc.devRef .tc main_v7_8) = setRow (V (Proc.devRef .tc main_v7_8)) (afterL upI V (Proc.devRef .tc main_v7_6)) (V (Proc.devRef .tc main_v7_4)) := by
  simp only [afterL_cons, afterL_nil]
  rw [up7_nim, up7_im, keep_up6 (r := main_while0b_v34) _ (by decide +kernel), keep_up5 (r := main_while0b_v34) _ (by decide +kernel), up4_put,
    keep_up6 (r := main_while0b_v32) _ (by decide +kernel), keep_up5 (r := main_while0b_v32) _ (by decide +kernel), keep_up4 (r := main_while0b_v32) _ (by decide +kernel), keep_up3 (r := main_v7_8) _ (by decide +kernel),
    keep_up3 (r := main_v7_4) _ (by decide +kernel), keep_up2 (r := main_v7_8) _ (by decide +kernel), keep_up2 (r := main_v7_4) _ (by decide +kernel), up_head (r := main_v7_8) _ (by decide +kernel) (by decide +kernel), up_head (r := main_v7_4) _ (by decide +kernel) (by decide +kernel)]
theorem up_sre : afterL upI V (Proc.devRef .tc main_v7_9) = setRow (V (Proc.devRef .tc main_v7_9)) (V (Proc.devRef .tc main_v7_5)) (V (Proc.devRef .tc main_v7_4)) := by
  simp only [afterL_cons, afterL_nil]
  refine (up7_sre _).trans ?_
  refine (keep_up6 _ (by decide +kernel)).trans ?_
  refine (up5_put _).trans ?_
  rw [up_before (r := main_v7_9) _ (by decide +kernel) (by decide +kernel) (by decide +kernel) (by decide +kernel) (by decide +kernel), up_before (r := main_v7_5) _ (by decide +kernel) (by decide +kernel) (by decide +kernel) (by decide +kernel) (by decide +kernel), up_before (r := main_v7_4) _ (by decide +kernel) (by decide +kernel) (by decide +kernel) (by decide +kernel) (by decide +kernel)]
theorem up_sim : afterL upI V (Proc.devRef .tc main_v7_10) = setRow (V (Proc.devRef .tc main_v7_10)) (V (Proc.devRef .tc main_v7_6)) (V (Proc.devRef .tc main_v7_4)) := by
  simp only [afterL_cons, afterL_nil]
  refine (up7_sim _).trans ?_
  refine (up6_put _).trans ?_
  rw [keep_up5 (r := main_v7_10) _ (by decide +kernel), keep_up5 (r := main_v7_6) _ (by decide +kernel), keep_up5 (r := main_v7_4) _ (by decide +kernel), up_before (r := main_v7_10) _ (by decide +kernel) (by decide +kernel) (by decide +kernel) (by decide +kernel) (by decide +kernel), up_before (r := main_v7_6) _ (by decide +kernel) (by decide +kernel) (by decide +kernel) (by decide +kernel) (by decide +kernel), up_before (r := main_v7_4) _ (by decide +kernel) (by decide +kernel) (by decide +kernel) (by decide +kernel) (by decide +kernel)]

/-! ## The second loop, stretch by stretch -/

theorem down0_row : after down0 V (Proc.devRef .tc main_while1b_v24) = subi (subi (constantI S_ 32 2048#32) (V (Proc.devRef .tc main_v18_6))) (constantI S_ 32 1#32) := by
  after_results
theorem down1_row : after down1 V (Proc.devRef .tc main_while1b_v25) = rowOf (V (Proc.devRef .tc main_v18_0)) (V (Proc.devRef .tc main_while1b_v24)) := by
  after_results
  refine congrArg (fun j : Fin 3 → Int => shapeCast S1x4096 (Host.dynamicSlice S1x1x4096 (V (Proc.devRef .tc main_v18_0)) j sliceFits_S2048x1x4096_S1x1x4096) shapeCasts_S1x1x4096_S1x4096) (funext fun k => ?_)
  match k with
  | ⟨0, _⟩ => rfl
  | ⟨1, _⟩ => rfl
  | ⟨2, _⟩ => rfl
theorem down2_row : after down2 V (Proc.devRef .tc main_while1b_v26) = rowOf (V (Proc.devRef .tc main_v18_1)) (V (Proc.devRef .tc main_while1b_v24)) := by
  after_results
  refine congrArg (fun j : Fin 3 → Int => shapeCast S1x4096 (Host.dynamicSlice S1x1x4096 (V (Proc.devRef .tc main_v18_1)) j sliceFits_S2048x1x4096_S1x1x4096) shapeCasts_S1x1x4096_S1x4096) (funext fun k => ?_)
  match k with
  | ⟨0, _⟩ => rfl
  | ⟨1, _⟩ => rfl
  | ⟨2, _⟩ => rfl
theorem down3_row : after down3 V (Proc.devRef .tc main_while1b_v27) = rowOf (V (Proc.devRef .tc main_v18_2)) (V (Proc.devRef .tc main_while1b_v24)) := by
  after_results
  refine congrArg (fun j : Fin 3 → Int => shapeCast S1x4096 (Host.dynamicSlice S1x1x4096 (V (Proc.devRef .tc main_v18_2)) j sliceFits_S2048x1x4096_S1x1x4096) shapeCasts_S1x1x4096_S1x4096) (funext fun k => ?_)
  match k with
  | ⟨0, _⟩ => rfl
  | ⟨1, _⟩ => rfl
  | ⟨2, _⟩ => rfl
theorem down4_row : after down4 V (Proc.devRef .tc main_while1b_v28) = rowOf (V (Proc.devRef .tc main_v18_3)) (V (Proc.devRef .tc main_while1b_v24)) := by
  after_results
  refine congrArg (fun j : Fin 3 → Int => shapeCast S1x4096 (Host.dynamicSlice S1x1x4096 (V (Proc.devRef .tc main_v18_3)) j sliceFits_S2048x1x4096_S1x1x4096) shapeCasts_S1x1x4096_S1x4096) (funext fun k => ?_)
  match k with
  | ⟨0, _⟩ => rfl
  | ⟨1, _⟩ => rfl
  | ⟨2, _⟩ => rfl
theorem down5_27 : after down5 V (Proc.devRef .tc main_while1b_v29) = addf (V (Proc.devRef .tc main_v18_9)) (V (Proc.devRef .tc main_while1b_v25)) := by
  after_results
theorem down5_28 : after down5 V (Proc.devRef .tc main_while1b_v30) = addf (V (Proc.devRef .tc main_v18_10)) (V (Proc.devRef .tc main_while1b_v26)) := by
  after_results
theorem down5_37 : after down5 V (Proc.devRef .tc main_while1b_v39) = addf (mulf (V (Proc.devRef .tc main_v18_4)) (addf (V (Proc.devRef .tc main_v18_10)) (V (Proc.devRef .tc main_while1b_v26)))) (mulf (V (Proc.devRef .tc main_v18_5)) (Host.negf (addf (V (Proc.devRef .tc main_v18_9)) (V (Proc.devRef .tc main_while1b_v25))))) := by
  after_results
theorem down5_39 : after down5 V (Proc.devRef .tc main_while1b_v41) = addf (addf (V (Proc.devRef .tc main_v18_8)) (mulf (addf (V (Proc.devRef .tc main_v18_10)) (V (Proc.devRef .tc main_while1b_v26))) (V (Proc.devRef .tc main_while1b_v27)))) (mulf (Host.negf (addf (V (Proc.devRef .tc main_v18_9)) (V (Proc.devRef .tc main_while1b_v25)))) (V (Proc.devRef .tc main_while1b_v28))) := by
  after_results
theorem down5_41 : after down5 V (Proc.devRef .tc main_while1b_v43) = addf (mulf (V (Proc.devRef .tc main_v18_5)) (addf (V (Proc.devRef .tc main_v18_10)) (V (Proc.devRef .tc main_while1b_v26)))) (mulf (V (Proc.devRef .tc main_v18_4)) (addf (V (Proc.devRef .tc main_v18_9)) (V (Proc.devRef .tc main_while1b_v25)))) := by
  after_results
theorem down5_43 : after down5 V (Proc.devRef .tc main_while1b_v45) = addf (addf (V (Proc.devRef .tc main_v18_7)) (mulf (addf (V (Proc.devRef .tc main_v18_10)) (V (Proc.devRef .tc main_while1b_v26))) (V (Proc.devRef .tc main_while1b_v28)))) (mulf (addf (V (Proc.devRef .tc main_v18_9)) (V (Proc.devRef .tc main_while1b_v25))) (V (Proc.devRef .tc main_while1b_v27))) := by
  after_results
theorem down6_put : after down6 V (Proc.devRef .tc main_while1b_v46) = setRow (V (Proc.devRef .tc main_v18_11)) (V (Proc.devRef .tc main_while1b_v29)) (V (Proc.devRef .tc main_while1b_v24)) := by
  after_results
  refine congrArg (fun j : Fin 3 → Int => Host.dynamicUpdateSlice (V (Proc.devRef .tc main_v18_11)) (broadcastInDim S1x1x4096 ![1, 2] bcast_S1x4096_S1x1x4096_1_2 (V (Proc.devRef .tc main_while1b_v29))) j updateFits_S2048x1x4096_S1x1x4096) (funext fun k => ?_)
  match k with
  | ⟨0, _⟩ => rfl
  | ⟨1, _⟩ => rfl
  | ⟨2, _⟩ => rfl
theorem down7_put : after down7 V (Proc.devRef .tc main_while1b_v47) = setRow (V (Proc.devRef .tc main_v18_12)) (V (Proc.devRef .tc main_while1b_v30)) (V (Proc.devRef .tc main_while1b_v24)) := by
  after_results
  refine congrArg (fun j : Fin 3 → Int => Host.dynamicUpdateSlice (V (Proc.devRef .tc main_v18_12)) (broadcastInDim S1x1x4096 ![1, 2] bcast_S1x4096_S1x1x4096_1_2 (V (Proc.devRef .tc main_while1b_v30))) j updateFits_S2048x1x4096_S1x1x4096) (funext fun k => ?_)
  match k with
  | ⟨0, _⟩ => rfl
  | ⟨1, _⟩ => rfl
  | ⟨2, _⟩ => rfl
theorem down8_6 : after down8 V (Proc.devRef .tc main_v18_6) = addi (V (Proc.devRef .tc main_v18_6)) (constantI S_ 32 1#32) := by
  after_results
  rfl
theorem down8_7 : after down8 V (Proc.devRef .tc main_v18_7) = V (Proc.devRef .tc main_while1b_v45) := by
  after_results
  rfl
theorem down8_8 : after down8 V (Proc.devRef .tc main_v18_8) = V (Proc.devRef .tc main_while1b_v41) := by
  after_results
  rfl
theorem down8_9 : after down8 V (Proc.devRef .tc main_v18_9) = V (Proc.devRef .tc main_while1b_v43) := by
  after_results
  rfl
theorem down8_10 : after down8 V (Proc.devRef .tc main_v18_10) = V (Proc.devRef .tc main_while1b_v39) := by
  after_results
  rfl
theorem down8_11 : after down8 V (Proc.devRef .tc main_v18_11) = V (Proc.devRef .tc main_while1b_v46) := by
  after_results
  rfl
theorem down8_12 : after down8 V (Proc.devRef .tc main_v18_12) = V (Proc.devRef .tc main_while1b_v47) := by
  after_results
  rfl

/-! ## The second loop, one trip -/

/-- The row the trip works on: the last one first. -/
def back (i : IVec S_ 32) : IVec S_ 32 := subi (subi (constantI S_ 32 2048#32) i) (constantI S_ 32 1#32)

theorem down_keep {r : Ref sig .tc} (h0 : r ∉ down0_W) (h1 : r ∉ down1_W) (h2 : r ∉ down2_W) (h3 : r ∉ down3_W) (h4 : r ∉ down4_W) (h5 : r ∉ down5_W)
    (h6 : r ∉ down6_W) (h7 : r ∉ down7_W) (h8 : r ∉ down8_W) : afterL downI V (Proc.devRef .tc r) = V (Proc.devRef .tc r) := by
  simp only [afterL_cons, afterL_nil]
  rw [keep_down8 _ h8, keep_down7 _ h7, keep_down6 _ h6, keep_down5 _ h5, keep_down4 _ h4, keep_down3 _ h3, keep_down2 _ h2, keep_down1 _ h1, keep_down0 _ h0]
theorem down_head {r : Ref sig .tc} (h0 : r ∉ down0_W) (h1 : r ∉ down1_W) (h2 : r ∉ down2_W) (h3 : r ∉ down3_W) (h4 : r ∉ down4_W) :
    after down4 (after down3 (after down2 (after down1 (after down0 V)))) (Proc.devRef .tc r) = V (Proc.devRef .tc r) := by
  rw [keep_down4 _ h4, keep_down3 _ h3, keep_down2 _ h2, keep_down1 _ h1, keep_down0 _ h0]
theorem down_at : after down4 (after down3 (after down2 (after down1 (after down0 V)))) (Proc.devRef .tc main_while1b_v24) = back (V (Proc.devRef .tc main_v18_6)) := by
  refine (keep_down4 _ (by decide +kernel)).trans ?_
  refine (keep_down3 _ (by decide +kernel)).trans ?_
  refine (keep_down2 _ (by decide +kernel)).trans ?_
  refine (keep_down1 _ (by decide +kernel)).trans ?_
  exact down0_row V
theorem down_row23 : after down4 (after down3 (after down2 (after down1 (after down0 V)))) (Proc.devRef .tc main_while1b_v25) = rowOf (V (Proc.devRef .tc main_v18_0)) (back (V (Proc.devRef .tc main_v18_6))) := by
  refine (keep_down4 _ (by decide +kernel)).trans ?_
  refine (keep_down3 _ (by decide +kernel)).trans ?_
  refine (keep_down2 _ (by decide +kernel)).trans ?_
  refine (down1_row _).trans ?_
  rw [keep_down0 (r := main_v18_0) _ (by decide +kernel), down0_row]; try rfl
theorem down_row24 : after down4 (after down3 (after down2 (after down1 (after down0 V)))) (Proc.devRef .tc main_while1b_v26) = rowOf (V (Proc.devRef .tc main_v18_1)) (back (V (Proc.devRef .tc main_v18_6))) := by
  refine (keep_down4 _ (by decide +kernel)).trans ?_
  refine (keep_down3 _ (by decide +kernel)).trans ?_
  refine (down2_row _).trans ?_
  rw [keep_down1 (r := main_v18_1) _ (by decide +kernel), keep_down0 (r := main_v18_1) _ (by decide +kernel), keep_down1 (r := main_while1b_v24) _ (by decide +kernel), down0_row]; try rfl
theorem down_row25 : after down4 (after down3 (after down2 (after down1 (after down0 V)))) (Proc.devRef .tc main_while1b_v27) = rowOf (V (Proc.devRef .tc main_v18_2)) (back (V (Proc.devRef .tc main_v18_6))) := by
  refine (keep_down4 _ (by decide +kernel)).trans ?_
  refine (down3_row _).trans ?_
  rw [keep_down2 (r := main_v18_2) _ (by decide +kernel), keep_down1 (r := main_v18_2) _ (by decide +kernel), keep_down0 (r := main_v18_2) _ (by decide +kernel), keep_down2 (r := main_while1b_v24) _ (by decide +kernel), keep_down1 (r := main_while1b_v24) _ (by decide +kernel), down0_row]; try rfl
theorem down_row26 : after down4 (after down3 (after down2 (after down1 (after down0 V)))) (Proc.devRef .tc main_while1b_v28) = rowOf (V (Proc.devRef .tc main_v18_3)) (back (V (Proc.devRef .tc main_v18_6))) := by
  refine (down4_row _).trans ?_
  rw [keep_down3 (r := main_v18_3) _ (by decide +kernel), keep_down2 (r := main_v18_3) _ (by decide +kernel), keep_down1 (r := main_v18_3) _ (by decide +kernel), keep_down0 (r := main_v18_3) _ (by decide +kernel), keep_down3 (r := main_while1b_v24) _ (by decide +kernel), keep_down2 (r := main_while1b_v24) _ (by decide +kernel), keep_down1 (r := main_while1b_v24) _ (by decide +kernel), down0_row]; try rfl
theorem down_v27 : after down5 (after down4 (after down3 (after down2 (after down1 (after down0 V))))) (Proc.devRef .tc main_while1b_v29) = addf (V (Proc.devRef .tc main_v18_9)) (rowOf (V (Proc.devRef .tc main_v18_0)) (back (V (Proc.devRef .tc main_v18_6)))) :=
  (down5_27 _).trans <| by rw [down_head (r := main_v18_9) _ (by decide +kernel) (by decide +kernel) (by decide +kernel) (by decide +kernel) (by decide +kernel), down_row23]
theorem down_v28 : after down5 (after down4 (after down3 (after down2 (after down1 (after down0 V))))) (Proc.devRef .tc main_while1b_v30) = addf (V (Proc.devRef .tc main_v18_10)) (rowOf (V (Proc.devRef .tc main_v18_1)) (back (V (Proc.devRef .tc main_v18_6)))) :=
  (down5_28 _).trans <| by rw [down_head (r := main_v18_10) _ (by decide +kernel) (by decide +kernel) (by decide +kernel) (by decide +kernel) (by decide +kernel), down_row24]
theorem down_v37 : after down5 (after down4 (after down3 (after down2 (after down1 (after down0 V))))) (Proc.devRef .tc main_while1b_v39) = addf (mulf (V (Proc.devRef .tc main_v18_4)) (addf (V (Proc.devRef .tc main_v18_10)) (rowOf (V (Proc.devRef .tc main_v18_1)) (back (V (Proc.devRef .tc main_v18_6)))))) (mulf (V (Proc.devRef .tc main_v18_5)) (Host.negf (addf (V (Proc.devRef .tc main_v18_9)) (rowOf (V (Proc.devRef .tc main_v18_0)) (back (V (Proc.devRef .tc main_v18_6))))))) :=
  (down5_37 _).trans <| by rw [down_head (r := main_v18_4) _ (by decide +kernel) (by decide +kernel) (by decide +kernel) (by decide +kernel) (by decide +kernel), down_head (r := main_v18_5) _ (by decide +kernel) (by decide +kernel) (by decide +kernel) (by decide +kernel) (by decide +kernel), down_head (r := main_v18_9) _ (by decide +kernel) (by decide +kernel) (by decide +kernel) (by decide +kernel) (by decide +kernel), down_head (r := main_v18_10) _ (by decide +kernel) (by decide +kernel) (by decide +kernel) (by decide +kernel) (by decide +kernel), down_row23, down_row24]
theorem down_v39 : after down5 (after down4 (after down3 (after down2 (after down1 (after down0 V))))) (Proc.devRef .tc main_while1b_v41) = addf (addf (V (Proc.devRef .tc main_v18_8)) (mulf (addf (V (Proc.devRef .tc main_v18_10)) (rowOf (V (Proc.devRef .tc main_v18_1)) (back (V (Proc.devRef .tc main_v18_6))))) (rowOf (V (Proc.devRef .tc main_v18_2)) (back (V (Proc.devRef .tc main_v18_6)))))) (mulf (Host.negf (addf (V (Proc.devRef .tc main_v18_9)) (rowOf (V (Proc.devRef .tc main_v18_0)) (back (V (Proc.devRef .tc main_v18_6)))))) (rowOf (V (Proc.devRef .tc main_v18_3)) (back (V (Proc.devRef .tc main_v18_6))))) :=
  (down5_39 _).trans <| by rw [down_head (r := main_v18_8) _ (by decide +kernel) (by decide +kernel) (by decide +kernel) (by decide +kernel) (by decide +kernel), down_head (r := main_v18_9) _ (by decide +kernel) (by decide +kernel) (by decide +kernel) (by decide +kernel) (by decide +kernel), down_head (r := main_v18_10) _ (by decide +kernel) (by decide +kernel) (by decide +kernel) (by decide +kernel) (by decide +kernel), down_row23, down_row24, down_row25, down_row26]
theorem down_v41 : after down5 (after down4 (after down3 (after down2 (after down1 (after down0 V))))) (Proc.devRef .tc main_while1b_v43) = addf (mulf (V (Proc.devRef .tc main_v18_5)) (addf (V (Proc.devRef .tc main_v18_10)) (rowOf (V (Proc.devRef .tc main_v18_1)) (back (V (Proc.devRef .tc main_v18_6)))))) (mulf (V (Proc.devRef .tc main_v18_4)) (addf (V (Proc.devRef .tc main_v18_9)) (rowOf (V (Proc.devRef .tc main_v18_0)) (back (V (Proc.devRef .tc main_v18_6)))))) :=
  (down5_41 _).trans <| by rw [down_head (r := main_v18_4) _ (by decide +kernel) (by decide +kernel) (by decide +kernel) (by decide +kernel) (by decide +kernel), down_head (r := main_v18_5) _ (by decide +kernel) (by decide +kernel) (by decide +kernel) (by decide +kernel) (by decide +kernel), down_head (r := main_v18_9) _ (by decide +kernel) (by decide +kernel) (by decide +kernel) (by decide +kernel) (by decide +kernel), down_head (r := main_v18_10) _ (by decide +kernel) (by decide +kernel) (by decide +kernel) (by decide +kernel) (by decide +kernel), down_row23, down_row24]
theorem down_v43 : after down5 (after down4 (after down3 (after down2 (after down1 (after down0 V))))) (Proc.devRef .tc main_while1b_v45) = addf (addf (V (Proc.devRef .tc main_v18_7)) (mulf (addf (V (Proc.devRef .tc main_v18_10)) (rowOf (V (Proc.devRef .tc main_v18_1)) (back (V (Proc.devRef .tc main_v18_6))))) (rowOf (V (Proc.devRef .tc main_v18_3)) (back (V (Proc.devRef .tc main_v18_6)))))) (mulf (addf (V (Proc.devRef .tc main_v18_9)) (rowOf (V (Proc.devRef .tc main_v18_0)) (back (V (Proc.devRef .tc main_v18_6))))) (rowOf (V (Proc.devRef .tc main_v18_2)) (back (V (Proc.devRef .tc main_v18_6))))) :=
  (down5_43 _).trans <| by rw [down_head (r := main_v18_7) _ (by decide +kernel) (by decide +kernel) (by decide +kernel) (by decide +kernel) (by decide +kernel), down_head (r := main_v18_9) _ (by decide +kernel) (by decide +kernel) (by decide +kernel) (by decide +kernel) (by decide +kernel), down_head (r := main_v18_10) _ (by decide +kernel) (by decide +kernel) (by decide +kernel) (by decide +kernel) (by decide +kernel), down_row23, down_row24, down_row25, down_row26]
theorem down_at5 : after down5 (after down4 (after down3 (after down2 (after down1 (after down0 V))))) (Proc.devRef .tc main_while1b_v24) = back (V (Proc.devRef .tc main_v18_6)) :=
  (keep_down5 _ (by decide +kernel)).trans (down_at V)
theorem down_6 : afterL downI V (Proc.devRef .tc main_v18_6) = addi (V (Proc.devRef .tc main_v18_6)) (constantI S_ 32 1#32) := by
  simp only [afterL_cons, afterL_nil]
  refine (down8_6 _).trans ?_
  exact congrArg (fun z => addi z (constantI S_ 32 1#32)) (by refine (keep_down7 _ (by decide +kernel)).trans ?_; refine (keep_down6 _ (by decide +kernel)).trans ?_; refine (keep_down5 _ (by decide +kernel)).trans ?_; refine (keep_down4 _ (by decide +kernel)).trans ?_; refine (keep_down3 _ (by decide +kernel)).trans ?_; refine (keep_down2 _ (by decide +kernel)).trans ?_; refine (keep_down1 _ (by decide +kernel)).trans ?_; exact keep_down0 _ (by decide +kernel))
theorem down_7 : afterL downI V (Proc.devRef .tc main_v18_7) = addf (addf (V (Proc.devRef .tc main_v18_7)) (mulf (addf (V (Proc.devRef .tc main_v18_10)) (rowOf (V (Proc.devRef .tc main_v18_1)) (back (V (Proc.devRef .tc main_v18_6))))) (rowOf (V (Proc.devRef .tc main_v18_3)) (back (V (Proc.devRef .tc main_v18_6)))))) (mulf (addf (V (Proc.devRef .tc main_v18_9)) (rowOf (V (Proc.devRef .tc main_v18_0)) (back (V (Proc.devRef .tc main_v18_6))))) (rowOf (V (Proc.devRef .tc main_v18_2)) (back (V (Proc.devRef .tc main_v18_6))))) := by
  simp only [afterL_cons, afterL_nil]
  refine (down8_7 _).trans ?_
  refine (keep_down7 _ (by decide +kernel)).trans ?_
  refine (keep_down6 _ (by decide +kernel)).trans ?_
  exact down_v43 V
theorem down_8 : afterL downI V (Proc.devRef .tc main_v18_8) = addf (addf (V (Proc.devRef .tc main_v18_8)) (mulf (addf (V (Proc.devRef .tc main_v18_10)) (rowOf (V (Proc.devRef .tc main_v18_1)) (back (V (Proc.devRef .tc main_v18_6))))) (rowOf (V (Proc.devRef .tc main_v18_2)) (back (V (Proc.devRef .tc main_v18_6)))))) (mulf (Host.negf (addf (V (Proc.devRef .tc main_v18_9)) (rowOf (V (Proc.devRef .tc main_v18_0)) (back (V (Proc.devRef .tc main_v18_6)))))) (rowOf (V (Proc.devRef .tc main_v18_3)) (back (V (Proc.devRef .tc main_v18_6))))) := by
  simp only [afterL_cons, afterL_nil]
  refine (down8_8 _).trans ?_
  refine (keep_down7 _ (by decide +kernel)).trans ?_
  refine (keep_down6 _ (by decide +kernel)).trans ?_
  exact down_v39 V
theorem down_9 : afterL downI V (Proc.devRef .tc main_v18_9) = addf (mulf (V (Proc.devRef .tc main_v18_5)) (addf (V (Proc.devRef .tc main_v18_10)) (rowOf (V (Proc.devRef .tc main_v18_1)) (back (V (Proc.devRef .tc main_v18_6)))))) (mulf (V (Proc.devRef .tc main_v18_4)) (addf (V (Proc.devRef .tc main_v18_9)) (rowOf (V (Proc.devRef .tc main_v18_0)) (back (V (Proc.devRef .tc main_v18_6)))))) := by
  simp only [afterL_cons, afterL_nil]
  refine (down8_9 _).trans ?_
  refine (keep_down7 _ (by decide +kernel)).trans ?_
  refine (keep_down6 _ (by decide +kernel)).trans ?_
  exact down_v41 V
theorem down_10 : afterL downI V (Proc.devRef .tc main_v18_10) = addf (mulf (V (Proc.devRef .tc main_v18_4)) (addf (V (Proc.devRef .tc main_v18_10)) (rowOf (V (Proc.devRef .tc main_v18_1)) (back (V (Proc.devRef .tc main_v18_6)))))) (mulf (V (Proc.devRef .tc main_v18_5)) (Host.negf (addf (V (Proc.devRef .tc main_v18_9)) (rowOf (V (Proc.devRef .tc main_v18_0)) (back (V (Proc.devRef .tc main_v18_6))))))) := by
  simp only [afterL_cons, afterL_nil]
  refine (down8_10 _).trans ?_
  refine (keep_down7 _ (by decide +kernel)).trans ?_
  refine (keep_down6 _ (by decide +kernel)).trans ?_
  exact down_v37 V
theorem down_11 : afterL downI V (Proc.devRef .tc main_v18_11) = setRow (V (Proc.devRef .tc main_v18_11)) (addf (V (Proc.devRef .tc main_v18_9)) (rowOf (V (Proc.devRef .tc main_v18_0)) (back (V (Proc.devRef .tc main_v18_6))))) (back (V (Proc.devRef .tc main_v18_6))) := by
  simp only [afterL_cons, afterL_nil]
  refine (down8_11 _).trans ?_
  refine (keep_down7 _ (by decide +kernel)).trans ?_
  refine (down6_put _).trans ?_
  rw [keep_down5 (r := main_v18_11) _ (by decide +kernel), down_head (r := main_v18_11) _ (by decide +kernel) (by decide +kernel) (by decide +kernel) (by decide +kernel) (by decide +kernel), down_v27, down_at5]
theorem down_12 : afterL downI V (Proc.devRef .tc main_v18_12) = setRow (V (Proc.devRef .tc main_v18_12)) (addf (V (Proc.devRef .tc main_v18_10)) (rowOf (V (Proc.devRef .tc main_v18_1)) (back (V (Proc.devRef .tc main_v18_6))))) (back (V (Proc.devRef .tc main_v18_6))) := by
  simp only [afterL_cons, afterL_nil]
  refine (down8_12 _).trans ?_
  refine (down7_put _).trans ?_
  rw [keep_down6 (r := main_v18_12) _ (by decide +kernel), keep_down5 (r := main_v18_12) _ (by decide +kernel), down_head (r := main_v18_12) _ (by decide +kernel) (by decide +kernel) (by decide +kernel) (by decide +kernel) (by decide +kernel), keep_down6 (r := main_while1b_v30) _ (by decide +kernel), keep_down6 (r := main_while1b_v24) _ (by decide +kernel), down_v28, down_at5]

end Cert.ScanGradRefIdeal.Trip
-- ==== Proof.TwoLoops.lean ====
/-
  The run of a program of host operations with two counted loops, one after the other: the operations before the first,
  the loop, the operations between, the second loop, the operations after. Each loop runs its condition once more than
  its body. The kit's segments for lists of operations and for a loop are the library's; here five of them are chained.
-/
module

public import Idealize.ShloMosaic.Lib.StableHlo.RunLoop

@[expose] public section
noncomputable section
namespace Cert.TwoLoops

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg Ticket PCfg ucRefs)
open Idealize.ShloMosaic.StableHlo

variable {nD : Nat} {τ : Topo} {sig : RefSig} {F : FTy → Type} {Λ₀ : Labels}

local notation "𝕄" => MT nD τ sig Unit (Elt F) ℕ (Option PUnit) ℕ

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

/-- There is no pipeline, so nothing to admit. -/
abbrev none₀ : (p : Fin 0) → (pcs p).Adm := fun p => p.elim0
/-- Nor any ticket. -/
abbrev noTicket : Fin 0 → Ticket (Ix := Unit) (Name := ℕ) (U := Option PUnit) (Lvl := ℕ) (nD := nD) (τ := τ) pcs (none₀ pcs) := fun j => j.elim0
abbrev noCell : GSem nD τ sig → Finset Unit := fun _ => ∅
abbrev level0 : GSem nD τ sig → Unit → ℕ := fun _ _ => 0

/-- What a core carries beside its buffers: that it owes nothing. -/
abbrev Free (c : Dev nD) : sProp 𝕄 := iprop(∃ W, owes (c : Thread nD τ) (0 : CellTallies nD τ sig Unit) W)

/-- What a loop's condition must do, with the buffers alone, is what it must do with `Free` carried past it. -/
theorem carry {cond : Prog (TpuEff nD τ sig (Elt F) (HostLoop.Sig (Pipeline.Sig Λ₀ (Fin 0) fun p => (pcs p).Adm) nL) .tc) (Elt F .i1)}
    {ops : List (HloOp τ sig (Elt F))} {body : List (List (HloOp τ sig (Elt F)))} {W : Dev nD → Valuation τ sig (Elt F)} {n : ℕ}
    (h : CondSpec pcs defs₀ loops cond ops body W n) : LoopCond pcs defs₀ Variants.none loops Free cond ops body W n := by
  intro k hk c bd
  have post : ∀ v : Elt F .i1,
      iprop(iprop(⌜v = 1#1 ↔ k < n⌝ ∗ boundary (c : Thread nD τ) ∗ held (c : Thread nD τ) (ucRefs τ sig) (after ops (atTrip ops body W k c))) ∗ Free c)
        ⊢ iprop(⌜v = 1#1 ↔ k < n⌝ ∗ boundary (c : Thread nD τ) ∗ held (c : Thread nD τ) (ucRefs τ sig) (after ops (atTrip ops body W k c)) ∗ Free c) := by
    intro v
    iintro ⟨⟨%hv, Hb, Hh⟩, Hf⟩
    isplitr
    · ipureintro; exact hv
    isplitl [Hb]
    · iexact Hb
    isplitl [Hh] <;> iassumption
  refine BIBase.Entails.trans ?_ (((sep_mono_left (h k hk c bd)).trans (wp_frame_r _ _ _)).trans (wp_mono _ _ _ post))
  iintro ⟨Hb, Hh, Hf⟩
  isplitl [Hb Hh]
  · isplitl [Hb] <;> iassumption
  · iexact Hf

/-- One loop as this module takes it: its place among the program's loops, its condition and body, the same as
    operations, and its number of trips. -/
structure Loop where
  l : Fin nL
  cond : Prog (TpuEff nD τ sig (Elt F) (HostLoop.Sig (Pipeline.Sig Λ₀ (Fin 0) fun p => (pcs p).Adm) nL) .tc) (Elt F .i1)
  body : Prog (TpuEff nD τ sig (Elt F) (HostLoop.Sig (Pipeline.Sig Λ₀ (Fin 0) fun p => (pcs p).Adm) nL) .tc) PUnit
  isLoop : loops l = HostLoop.step l cond body
  condOps : List (HloOp τ sig (Elt F))
  bodyOps : List (List (HloOp τ sig (Elt F)))
  plain : Plain bodyOps
  isBody : body = Pipeline.chain (bodyOps.map fun ops => (seq ops : Prog _ PUnit))
  n : ℕ

variable {pcs loops}

/-- The buffers after a loop entered at `W`. -/
abbrev Loop.out (A : Loop (nD := nD) (F := F) pcs loops) (W : Dev nD → Valuation τ sig (Elt F)) : Dev nD → Valuation τ sig (Elt F) :=
  fun c => after A.condOps (atTrip A.condOps A.bodyOps W A.n c)

variable (A B : Loop (nD := nD) (τ := τ) (F := F) pcs loops)
  (pre mid post : List (List (HloOp τ sig (Elt F)))) (m : (ℓ : Loc nD τ sig) → Buf (Elt F) ℓ)

/-- The buffers at each boundary: where the first loop is entered, where it is left, the same of the second, and the end. -/
abbrev V₁ : Dev nD → Valuation τ sig (Elt F) := fun c => afterL pre (launchContents m c)
abbrev V₂ : Dev nD → Valuation τ sig (Elt F) := A.out (V₁ pre m)
abbrev V₃ : Dev nD → Valuation τ sig (Elt F) := fun c => afterL mid (V₂ A pre m c)
abbrev V₄ : Dev nD → Valuation τ sig (Elt F) := B.out (V₃ A pre mid m)
abbrev V₅ : Dev nD → Valuation τ sig (Elt F) := fun c => afterL post (V₄ A B pre mid m c)

variable (hpre : Plain pre) (hmid : Plain mid) (hpost : Plain post)
  (hA : CondSpec pcs defs₀ loops A.cond A.condOps A.bodyOps (V₁ pre m) A.n)
  (hB : CondSpec pcs defs₀ loops B.cond B.condOps B.bodyOps (V₃ A pre mid m) B.n)

/-- A list of operation lists as segments from the buffers at `V`. -/
abbrev straight (items : List (List (HloOp τ sig (Elt F)))) (h : Plain items) (V : Dev nD → Valuation τ sig (Elt F)) :
    List (CSeg pcs (none₀ pcs) defs₀ Variants.none noCell level0 loops (noTicket (τ := τ) (nD := nD) pcs)) :=
  segsOf pcs (none₀ pcs) defs₀ Variants.none noCell level0 loops (noTicket pcs) Free items h V

/-- A loop as a segment from the buffers at `V`. -/
abbrev looped (A : Loop (nD := nD) (τ := τ) (F := F) pcs loops) (V : Dev nD → Valuation τ sig (Elt F))
    (h : CondSpec pcs defs₀ loops A.cond A.condOps A.bodyOps V A.n) :
    CSeg pcs (none₀ pcs) defs₀ Variants.none noCell level0 loops (noTicket (τ := τ) (nD := nD) pcs) :=
  loopSeg pcs (none₀ pcs) defs₀ Variants.none noCell level0 loops (noTicket pcs) A.l A.cond A.body A.isLoop A.condOps A.bodyOps A.plain
    A.isBody A.n V Free (carry pcs defs₀ loops h)

variable (pcs nL) in
/-- Operation lists as programs. -/
abbrev progs (items : List (List (HloOp τ sig (Elt F)))) :
    List (Prog (TpuEff nD τ sig (Elt F) (HostLoop.Sig (Pipeline.Sig Λ₀ (Fin 0) fun p => (pcs p).Adm) nL) .tc) PUnit) :=
  items.map fun ops => seq ops

/-- The program of the five parts. -/
abbrev whole : List (Prog (TpuEff nD τ sig (Elt F) (HostLoop.Sig (Pipeline.Sig Λ₀ (Fin 0) fun p => (pcs p).Adm) nL) .tc) PUnit) :=
  progs pcs nL pre ++ HostLoop.enter A.l :: (progs pcs nL mid ++ HostLoop.enter B.l :: progs pcs nL post)

/-- The whole program as segments. -/
def parts : List (CSeg pcs (none₀ pcs) defs₀ Variants.none noCell level0 loops (noTicket (τ := τ) (nD := nD) pcs)) :=
  straight defs₀ pre hpre (launchContents m)
    ++ looped defs₀ A (V₁ pre m) hA :: (straight defs₀ mid hmid (V₂ A pre m)
      ++ looped defs₀ B (V₃ A pre mid m) hB :: straight defs₀ post hpost (V₄ A B pre mid m))

theorem parts_prog : (parts defs₀ A B pre mid post m hpre hmid hpost hA hB).map CSeg.prog
    = whole A B pre mid post := by
  unfold parts straight
  rw [List.map_append, List.map_cons, List.map_append, List.map_cons, segsOf_prog, segsOf_prog, segsOf_prog]
  rfl

theorem parts_chain : CSeg.Chains (fun c => iprop(held (c : Thread nD τ) (ucRefs τ sig) (launchContents m c) ∗ Free c))
    (parts defs₀ A B pre mid post m hpre hmid hpost hA hB)
    (fun c => iprop(iprop(held (c : Thread nD τ) (ucRefs τ sig) (V₅ A B pre mid post m c)) ∗ ∃ W, owes (c : Thread nD τ) (0 : CellTallies nD τ sig Unit) W)) := by
  unfold parts straight
  exact CSeg.Chains.append (segsOf_chains _ _ _ _ _ _ _ _ Free pre hpre _) ⟨fun _ => .rfl,
    CSeg.Chains.append (segsOf_chains _ _ _ _ _ _ _ _ Free mid hmid _) ⟨fun _ => .rfl, segsOf_chains _ _ _ _ _ _ _ _ Free post hpost _⟩⟩

include hpre hmid hpost hA hB in
/-- Every run ends with every buffer of the program at the last boundary's contents. -/
theorem ends [∀ e, Nonempty (Elt F e)]
    (main : Dev nD → Prog (TpuEff nD τ sig (Elt F) (HostLoop.Sig (Pipeline.Sig Λ₀ (Fin 0) fun p => (pcs p).Adm) nL) .tc) PUnit)
    (hmain : ∀ c, main c = Pipeline.chain (whole A B pre mid post))
    (ρ : Dev nD → PrngReg) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = V₅ A B pre mid post m c (Proc.devRef .tc b)) := by
  refine Pipeline.θ_run_regions_loop_kit (Ix := Unit) (Name := ℕ) (U := Option PUnit) (Lvl := ℕ) (J := Fin 0) (P := Fin 0) (Val := Elt F)
    pcs (none₀ pcs) (fun k => k.1.elim0) defs₀ Variants.none noCell level0 loops (noTicket pcs) m ρ main
    (parts defs₀ A B pre mid post m hpre hmid hpost hA hB)
    (fun c Q => ?_) (Pipeline.CSeg.pairwise_disjoint_of_T_empty _ fun s _ => Finset.eq_empty_of_isEmpty s.T)
    (O₀ := 0) (hL := fun _ _ => rfl) (G := fun _ => iprop(emp)) (u₀ := 1) (hu₀ := ?_)
    (T₀ := fun c => iprop(held (c : Thread nD τ) (ucRefs τ sig) (launchContents m c) ∗ Free c))
    (Tₙ := fun c => iprop(held (c : Thread nD τ) (ucRefs τ sig) (V₅ A B pre mid post m c)))
    (hch := parts_chain defs₀ A B pre mid post m hpre hmid hpost hA hB) (hinit := ?_)
    (QY := fun c s => ∀ b ∈ ucRefs τ sig, s.mem ((c : Dev nD), b) = V₅ A B pre mid post m c b) (hfin := fun c s' => ?_)
    (hQ := fun _ h c b hb => h c _ (devRef_mem_ucRefs b hb))
  · rw [hmain c]
    show wp _ _ _ (Pipeline.chain ((parts defs₀ A B pre mid post m hpre hmid hpost hA hB).map CSeg.prog)) Q ⊢ _
    rw [parts_prog]
  · iintro -
    imodintro
    isplitl []
    · rw [Finset.univ_eq_empty, BI.bigSep_empty]; iempintro
    · iapply (show (BI.emp : sProp 𝕄) ⊢ bigSep Finset.univ (fun _ : Dev nD => (BI.emp : sProp 𝕄)) from by rw [BI.bigSep_emp_const])
      iempintro
  · refine Pipeline.initEach noCell level0 fun c => ?_
    rw [show unscopedBufs c (fun b => m ((c : Thread nD τ).loc b)) = held (c : Thread nD τ) (ucRefs τ sig) (launchContents m c)
      from Pipeline.unscopedBufs_held c (launchContents m c)]
    iintro ⟨⟨Hh, -, HO, -, -, -⟩, -⟩
    imodintro
    isplitl [Hh]
    · iexact Hh
    · iexists ∅; iexact HO
  · unfold held
    iintro ⟨Hh, HSI⟩
    ihave Hr := (pointsTo_read_all (ucRefs τ sig) (fun b => ((c : Dev nD), b)) (fun b => V₅ A B pre mid post m c b) s') $$ [Hh HSI]
    · isplitl [Hh] <;> iassumption
    icases Hr with ⟨%h, HSI⟩
    imodintro
    isplitr
    · ipureintro; exact h
    · iexact HSI

end Cert.TwoLoops
-- ==== Proof.ScanRefRun.lean ====
/-
  The run of the reference of the recurrence's gradient: its two loops entered, counted and left.
-/
module

public import proofs.«01_k».proof.Proof.ScanRefTrip
public import proofs.«01_k».proof.Proof.TwoLoops
public import Idealize.ShloMosaic.Lib.StableHlo.RunRead
public import Idealize.ShloMosaic.Lib.Scf.ExitTest
public import Idealize.ShloMosaic.Lib.Scf.Counter
public import Idealize.ShloMosaic.Lib.Quiescent

@[expose] public section
noncomputable section
namespace Cert.ScanGradRefIdeal.Run
open Cert.ScanGradRefIdeal Cert.ScanGradRefIdeal.Gen Cert.ScanGradRefIdeal.Ops Cert.ScanGradRefIdeal.Trip
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs sub_ucRefs)
open Idealize.ShloMosaic.StableHlo
open Cert.TwoLoops

variable {F : FTy → Type} [FloatOps F]

section First
variable (W : Dev nD → Valuation τ sig (Elt F)) (h0 : ∀ c, W c (Proc.devRef .tc main_v7_4) = fun _ => (0#32 : BitVec 32))
include h0

/-- The counter before trip `k`. -/
theorem up_ctr (c : Dev nD) : ∀ k, atTrip cond0 upI W k c (Proc.devRef .tc main_v7_4) = fun _ => Scf.iv 0#32 1#32 k
  | 0 => by rw [atTrip_zero, h0, Scf.iv_zero]
  | k + 1 => by
    rw [atTrip_succ, Trip.up_ctr, keep_cond0 _ (by decide +kernel), up_ctr c k, Scf.iv_succ]
    rfl

set_option backward.isDefEq.respectTransparency.types false in
/-- The condition holds before the first 2048 trips and fails after them. -/
theorem up_cond : CondSpec (pcfgs (F := F)) defs₀ loops (main_while0_cond (F := F)) cond0 upI W 2048 := by
  intro k hk c bd
  have hctr := up_ctr W h0 c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]
    · iexact Hb
    iexact Hh
  iintro ⟨Hb, Hh⟩
  rw [wp_ret]
  imodintro
  iapply (wp_hlo_within (Variants.lift Variants.none) (c : Thread nD τ) bd Set.univ (sub_ucRefs _ (binary_bufs_sub ..))) $$ [Hb Hh]
  · isplitl [Hb]
    · iexact Hb
    iexact Hh
  iintro ⟨Hb, Hh⟩
  rw [HostLoop.elt_apply, wp_ret]
  imodintro
  isplitr
  · ipureintro
    show Iff (IntOp.cmpi .slt (HloOp.result _ (atTrip cond0 upI W k c) main_v7_4 HostLoop.idx0)
      (HloOp.result _ (atTrip cond0 upI W k c) main_while0c_c_25 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]
  · iexact Hb
  rw [after_cons, after_cons, after_nil]
  iexact Hh

end First

section Second
variable (W : Dev nD → Valuation τ sig (Elt F)) (h0 : ∀ c, W c (Proc.devRef .tc main_v18_6) = fun _ => (0#32 : BitVec 32))
include h0

/-- The counter before trip `k`. -/
theorem down_ctr (c : Dev nD) : ∀ k, atTrip cond1 downI W k c (Proc.devRef .tc main_v18_6) = fun _ => Scf.iv 0#32 1#32 k
  | 0 => by rw [atTrip_zero, h0, Scf.iv_zero]
  | k + 1 => by
    rw [atTrip_succ, Trip.down_6, keep_cond1 _ (by decide +kernel), down_ctr c k, Scf.iv_succ]
    rfl

set_option backward.isDefEq.respectTransparency.types false in
/-- The condition holds before the first 2048 trips and fails after them. -/
theorem down_cond : CondSpec (pcfgs (F := F)) defs₀ loops (main_while1_cond (F := F)) cond1 downI W 2048 := by
  intro k hk c bd
  have hctr := down_ctr W h0 c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]
    · iexact Hb
    iexact Hh
  iintro ⟨Hb, Hh⟩
  rw [wp_ret]
  imodintro
  iapply (wp_hlo_within (Variants.lift Variants.none) (c : Thread nD τ) bd Set.univ (sub_ucRefs _ (binary_bufs_sub ..))) $$ [Hb Hh]
  · isplitl [Hb]
    · iexact Hb
    iexact Hh
  iintro ⟨Hb, Hh⟩
  rw [HostLoop.elt_apply, wp_ret]
  imodintro
  isplitr
  · ipureintro
    show Iff (IntOp.cmpi .slt (HloOp.result _ (atTrip cond1 downI W k c) main_v18_6 HostLoop.idx0)
      (HloOp.result _ (atTrip cond1 downI W k c) main_while1c_c_27 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]
  · iexact Hb
  rw [after_cons, after_cons, after_nil]
  iexact Hh

end Second

/-- The first loop: forward in time. -/
def up : Loop (nD := nD) (τ := τ) (F := F) pcfgs loops where
  l := 0
  cond := main_while0_cond
  body := main_while0_body
  isLoop := rfl
  condOps := cond0
  bodyOps := upI
  plain := upI_plain
  isBody := by rw [up_chain]; rfl
  n := 2048

/-- The second loop: backward in time. -/
def down : Loop (nD := nD) (τ := τ) (F := F) pcfgs loops where
  l := 1
  cond := main_while1_cond
  body := main_while1_body
  isLoop := rfl
  condOps := cond1
  bodyOps := downI
  plain := downI_plain
  isBody := by rw [down_chain]; rfl
  n := 2048

variable (m : (ℓ : Loc nD τ sig) → Buf (Elt F) ℓ) (ρ : Dev nD → PrngReg)

theorem entry_ctr (c : Dev nD) : V₁ preI m c (Proc.devRef .tc main_v7_4) = fun _ => (0#32 : BitVec 32) := by
  simp only [V₁, afterL_cons, afterL_nil]
  after_reads_simp
  rfl

theorem again_ctr (V : Valuation τ sig (Elt F)) : afterL midI V (Proc.devRef .tc main_v18_6) = fun _ => (0#32 : BitVec 32) := by
  simp only [afterL_cons, afterL_nil]
  after_reads_simp
  rfl

/-- The buffers when the program has ended. -/
abbrev last : Dev nD → Valuation τ sig (Elt F) := V₅ up down preI midI postI m

theorem ends [∀ e, Nonempty (Elt F e)] : θ_run defs (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = last m c (Proc.devRef .tc b)) :=
  TwoLoops.ends defs₀ up down preI midI postI m preI_plain midI_plain postI_plain (up_cond _ (entry_ctr m)) (down_cond _ fun c => again_ctr _)
    main (fun c => by rw [main_chain]; rfl) ρ

end Cert.ScanGradRefIdeal.Run
-- ==== Proof.ScanRefValue.lean ====
/-
  The values of the reference of the recurrence's gradient, column by column as one complex recurrence forward in time
  and one backward.
-/
module

public import proofs.«01_k».proof.Proof.ScanRefRun
public import proofs.«01_k».proof.Proof.Recurrence
public import Idealize.ShloMosaic.Lib.Pointwise

@[expose] public section
noncomputable section
namespace Cert.ScanGradRefIdeal.Value
open Cert.ScanGradRefIdeal Cert.ScanGradRefIdeal.Gen Cert.ScanGradRefIdeal.Ops Cert.ScanGradRefIdeal.Trip
open Idealize.ShloMosaic Idealize.ShloMosaic.TcCoe
open Idealize.ShloMosaic.StableHlo
open Idealize.SL.Sem
open Cert.TwoLoops Cert.Recurrence

/-- The product with a conjugate, as the backward loop writes it. -/
theorem conj_mul {u v p q : EReal} {z w : ℂ} (h : At u v z) (h' : At p q w) : At (v * q + u * p) (u * q + v * -p) ((starRingEnd ℂ) z * w) := by
  obtain ⟨rfl, rfl⟩ := h; obtain ⟨rfl, rfl⟩ := h'
  constructor
  · rw [← EReal.coe_mul, ← EReal.coe_mul, ← EReal.coe_add]
    refine congrArg _ ?_
    simp [Complex.mul_re]; ring
  · rw [← EReal.coe_neg, ← EReal.coe_mul, ← EReal.coe_mul, ← EReal.coe_add]
    refine congrArg _ ?_
    simp [Complex.mul_im]

/-- A sum of products with conjugates, one term on, as the backward loop writes it. -/
theorem add_mul_conj {p q u v s s' : EReal} {y z w : ℂ} (hp : At p q y) (h : At u v z) (h' : At s s' w) :
    At (p + v * s' + u * s) (q + v * s + -u * s') (y + z * (starRingEnd ℂ) w) := by
  obtain ⟨rfl, rfl⟩ := hp; obtain ⟨rfl, rfl⟩ := h; obtain ⟨rfl, rfl⟩ := h'
  constructor
  · rw [← EReal.coe_mul, ← EReal.coe_mul, ← EReal.coe_add, ← EReal.coe_add]
    refine congrArg _ ?_
    simp [Complex.mul_re]; ring
  · rw [← EReal.coe_neg, ← EReal.coe_mul, ← EReal.coe_mul, ← EReal.coe_add, ← EReal.coe_add]
    refine congrArg _ ?_
    simp [Complex.mul_im]; ring

theorem iv_eq (k : ℕ) : (fun _ : S_.Idx => Scf.iv 0#32 1#32 k) = fun _ => BitVec.ofNat 32 k := by
  funext _; simp [Scf.iv]

theorem back_eq (k : ℕ) (hk : k < 2048) : back (fun _ : S_.Idx => Scf.iv 0#32 1#32 k) = fun _ => BitVec.ofNat 32 (2047 - k) := by
  rw [iv_eq]
  funext _
  show (2048#32 - BitVec.ofNat 32 k) - 1#32 = _
  apply BitVec.eq_of_toNat_eq
  simp only [BitVec.toNat_sub, BitVec.toNat_ofNat]
  omega

/-- A row read off a stack of complex rows. -/
theorem row_at (k : Fin 2048) {i : IVec S_ 32} (hi : i = fun _ => BitVec.ofNat 32 k.val) {x y : S2048x1x4096.Idx → EReal} {l : Fin 4096} {z : ℂ}
    (h : At (x (ix3 k 0 l)) (y (ix3 k 0 l)) z) : At (rowOf (F := Ideal) x i (ix2 0 l)) (rowOf (F := Ideal) y i (ix2 0 l)) z := by
  rw [rowOf_apply _ _ k hi l, rowOf_apply _ _ k hi l]
  exact h

/-- A row read off a stack of complex rows with one row replaced. -/
theorem set_at (k t : Fin 2048) {i : IVec S_ 32} (hi : i = fun _ => BitVec.ofNat 32 k.val) {x y : S2048x1x4096.Idx → EReal} {p q : S1x4096.Idx → EReal}
    {l : Fin 4096} {z : ℂ} (h₁ : t = k → At (p (ix2 0 l)) (q (ix2 0 l)) z) (h₂ : t ≠ k → At (x (ix3 t 0 l)) (y (ix3 t 0 l)) z) :
    At (setRow (F := Ideal) x p i (ix3 t 0 l)) (setRow (F := Ideal) y q i (ix3 t 0 l)) z := by
  rw [setRow_apply _ _ _ k t hi l, setRow_apply _ _ _ k t hi l]
  by_cases h : t = k
  · rw [if_pos h, if_pos h]
    exact h₁ h
  · rw [if_neg h, if_neg h]
    exact h₂ h

section First
variable (W : Dev nD → Valuation τ sig (Elt Ideal)) (c : Dev nD)

/-- The buffers before trip `k` of the first loop. -/
abbrev upTo (k : ℕ) : Valuation τ sig (Elt Ideal) := atTrip cond0 upI W k c

abbrev up_W : List (Ref sig .tc) := cond0_W ++ (up0_W ++ (up1_W ++ (up2_W ++ (up3_W ++ (up4_W ++ (up5_W ++ (up6_W ++ up7_W)))))))

theorem up_same {r : Ref sig .tc} (h : r ∉ up_W) : ∀ k, upTo W c k (Proc.devRef .tc r) = W c (Proc.devRef .tc r)
  | 0 => rfl
  | k + 1 => by
    have hr := h
    simp only [up_W, List.mem_append, not_or] at h
    obtain ⟨hc, h0, h1, h2, h3, h4, h5, h6, h7⟩ := h
    show afterL upI (after cond0 (upTo W c k)) (Proc.devRef .tc r) = _
    rw [up_keep _ h0 h1 h2 h3 h4 h5 h6 h7, keep_cond0 _ hc, up_same hr k]

variable (h0 : ∀ c, W c (Proc.devRef .tc main_v7_4) = fun _ => (0#32 : BitVec 32))
  {a : Fin 4096 → ℂ} {b : Fin 4096 → ℕ → ℂ}
  (hA : ∀ l, At (W c (Proc.devRef .tc main_v7_2) (ix2 0 l)) (W c (Proc.devRef .tc main_v7_3) (ix2 0 l)) (a l))
  (hB : ∀ (t : Fin 2048) l, At (W c (Proc.devRef .tc main_v7_0) (ix3 t 0 l)) (W c (Proc.devRef .tc main_v7_1) (ix3 t 0 l)) (b l t.val))
  (hS : ∀ l, At (W c (Proc.devRef .tc main_v7_5) (ix2 0 l)) (W c (Proc.devRef .tc main_v7_6) (ix2 0 l)) 0)
include h0 hA hB hS

theorem up_state : ∀ k, k ≤ 2048 → ∀ l, At (upTo W c k (Proc.devRef .tc main_v7_5) (ix2 0 l)) (upTo W c k (Proc.devRef .tc main_v7_6) (ix2 0 l)) (run (a l) (b l) 0 k)
  | 0, _ => hS
  | k + 1, hk => fun l => by
    have ih := up_state k (by omega) l
    have hctr : upTo W c k (Proc.devRef .tc main_v7_4) = _ := Run.up_ctr W h0 c k
    show At (afterL upI (after cond0 (upTo W c k)) (Proc.devRef .tc main_v7_5) (ix2 0 l)) (afterL upI (after cond0 (upTo W c k)) (Proc.devRef .tc main_v7_6) (ix2 0 l)) _
    rw [Trip.up_re, Trip.up_im, keep_cond0 (r := main_v7_0) _ (by decide +kernel), keep_cond0 (r := main_v7_1) _ (by decide +kernel),
      keep_cond0 (r := main_v7_2) _ (by decide +kernel), keep_cond0 (r := main_v7_3) _ (by decide +kernel), keep_cond0 (r := main_v7_4) _ (by decide +kernel),
      keep_cond0 (r := main_v7_5) _ (by decide +kernel), keep_cond0 (r := main_v7_6) _ (by decide +kernel), hctr,
      up_same W c (r := main_v7_0) (by decide +kernel), up_same W c (r := main_v7_1) (by decide +kernel),
      up_same W c (r := main_v7_2) (by decide +kernel), up_same W c (r := main_v7_3) (by decide +kernel)]
    have hb := hB ⟨k, by omega⟩ l
    exact ((hA l).mul ih).add (row_at ⟨k, by omega⟩ (iv_eq k) hb)

theorem up_rows : ∀ k, k ≤ 2048 → ∀ (t : Fin 2048), t.val < k → ∀ l, At (upTo W c k (Proc.devRef .tc main_v7_9) (ix3 t 0 l)) (upTo W c k (Proc.devRef .tc main_v7_10) (ix3 t 0 l)) (run (a l) (b l) 0 t.val)
  | 0, _ => fun t ht => absurd ht (Nat.not_lt_zero _)
  | k + 1, hk => fun t ht l => by
    have ih := up_rows k (by omega) t
    have hs := up_state W c h0 hA hB hS k (by omega) l
    have hctr : upTo W c k (Proc.devRef .tc main_v7_4) = _ := Run.up_ctr W h0 c k
    show At (afterL upI (after cond0 (upTo W c k)) (Proc.devRef .tc main_v7_9) (ix3 t 0 l)) (afterL upI (after cond0 (upTo W c k)) (Proc.devRef .tc main_v7_10) (ix3 t 0 l)) _
    rw [Trip.up_sre, Trip.up_sim, keep_cond0 (r := main_v7_4) _ (by decide +kernel),
      keep_cond0 (r := main_v7_5) _ (by decide +kernel), keep_cond0 (r := main_v7_6) _ (by decide +kernel), keep_cond0 (r := main_v7_9) _ (by decide +kernel),
      keep_cond0 (r := main_v7_10) _ (by decide +kernel), hctr]
    have hne : t ≠ ⟨k, by omega⟩ → t.val ≠ k := fun h e => h (Fin.ext e)
    refine set_at ⟨k, by omega⟩ t (iv_eq k) (fun h => ?_) (fun h => ih (by have := hne h; omega) l)
    have e : t.val = k := by rw [h]
    rw [e]
    exact hs

theorem up_after : ∀ k, k ≤ 2048 → ∀ (t : Fin 2048), t.val < k → ∀ l, At (upTo W c k (Proc.devRef .tc main_v7_7) (ix3 t 0 l)) (upTo W c k (Proc.devRef .tc main_v7_8) (ix3 t 0 l)) (run (a l) (b l) 0 (t.val + 1))
  | 0, _ => fun t ht => absurd ht (Nat.not_lt_zero _)
  | k + 1, hk => fun t ht l => by
    have ih := up_after k (by omega) t
    have hs : At (afterL upI (after cond0 (upTo W c k)) (Proc.devRef .tc main_v7_5) (ix2 0 l)) (afterL upI (after cond0 (upTo W c k)) (Proc.devRef .tc main_v7_6) (ix2 0 l)) _ :=
      up_state W c h0 hA hB hS (k + 1) hk l
    have hctr : upTo W c k (Proc.devRef .tc main_v7_4) = _ := Run.up_ctr W h0 c k
    show At (afterL upI (after cond0 (upTo W c k)) (Proc.devRef .tc main_v7_7) (ix3 t 0 l)) (afterL upI (after cond0 (upTo W c k)) (Proc.devRef .tc main_v7_8) (ix3 t 0 l)) _
    rw [Trip.up_nre, Trip.up_nim, keep_cond0 (r := main_v7_4) _ (by decide +kernel), keep_cond0 (r := main_v7_7) _ (by decide +kernel), keep_cond0 (r := main_v7_8) _ (by decide +kernel), hctr]
    have hne : t ≠ ⟨k, by omega⟩ → t.val ≠ k := fun h e => h (Fin.ext e)
    refine set_at ⟨k, by omega⟩ t (iv_eq k) (fun h => ?_) (fun h => ih (by have := hne h; omega) l)
    have e : t.val = k := by rw [h]
    rw [e]
    exact hs
end First

section Second
variable (W : Dev nD → Valuation τ sig (Elt Ideal)) (c : Dev nD)

/-- The buffers before trip `k` of the second loop. -/
abbrev downTo (k : ℕ) : Valuation τ sig (Elt Ideal) := atTrip cond1 downI W k c

abbrev down_W : List (Ref sig .tc) := cond1_W ++ (down0_W ++ (down1_W ++ (down2_W ++ (down3_W ++ (down4_W ++ (down5_W ++ (down6_W ++ (down7_W ++ down8_W))))))))

theorem down_same {r : Ref sig .tc} (h : r ∉ down_W) : ∀ k, downTo W c k (Proc.devRef .tc r) = W c (Proc.devRef .tc r)
  | 0 => rfl
  | k + 1 => by
    have hr := h
    simp only [down_W, List.mem_append, not_or] at h
    obtain ⟨hc, h0, h1, h2, h3, h4, h5, h6, h7, h8⟩ := h
    show afterL downI (after cond1 (downTo W c k)) (Proc.devRef .tc r) = _
    rw [down_keep _ h0 h1 h2 h3 h4 h5 h6 h7 h8, keep_cond1 _ hc, down_same hr k]

variable (h0 : ∀ c, W c (Proc.devRef .tc main_v18_6) = fun _ => (0#32 : BitVec 32))
  {a : Fin 4096 → ℂ} {d : Fin 4096 → ℕ → ℂ} {s : Fin 4096 → ℕ → ℂ}
  (hA : ∀ l, At (W c (Proc.devRef .tc main_v18_4) (ix2 0 l)) (W c (Proc.devRef .tc main_v18_5) (ix2 0 l)) (a l))
  (hD : ∀ (t : Fin 2048) l, At (W c (Proc.devRef .tc main_v18_0) (ix3 t 0 l)) (W c (Proc.devRef .tc main_v18_1) (ix3 t 0 l)) (d l (2047 - t.val)))
  (hS : ∀ (t : Fin 2048) l, At (W c (Proc.devRef .tc main_v18_2) (ix3 t 0 l)) (W c (Proc.devRef .tc main_v18_3) (ix3 t 0 l)) (s l t.val))
  (hC : ∀ l, At (W c (Proc.devRef .tc main_v18_9) (ix2 0 l)) (W c (Proc.devRef .tc main_v18_10) (ix2 0 l)) 0)
  (hT : ∀ l, At (W c (Proc.devRef .tc main_v18_7) (ix2 0 l)) (W c (Proc.devRef .tc main_v18_8) (ix2 0 l)) 0)

/-- The adjoint a trip adds to, from the carried part. -/
theorem down_adj (k : ℕ) (hk : k < 2048) (l : Fin 4096) (a : ℂ) (d : ℕ → ℂ) {x y : S2048x1x4096.Idx → EReal} {u v : EReal}
    (hc : At u v ((starRingEnd ℂ) a * run ((starRingEnd ℂ) a) d 0 k))
    (hd : At (x (ix3 ⟨2047 - k, by omega⟩ 0 l)) (y (ix3 ⟨2047 - k, by omega⟩ 0 l)) (d (2047 - (2047 - k)))) :
    At (u + rowOf (F := Ideal) x (back fun _ => Scf.iv 0#32 1#32 k) (ix2 0 l)) (v + rowOf (F := Ideal) y (back fun _ => Scf.iv 0#32 1#32 k) (ix2 0 l))
      (run ((starRingEnd ℂ) a) d 0 (k + 1)) := by
  have e : 2047 - (2047 - k) = k := by omega
  rw [e] at hd
  exact hc.add (row_at ⟨2047 - k, by omega⟩ (back_eq k hk) hd)

include h0 hA hD hC in
theorem down_carry : ∀ k, k ≤ 2048 → ∀ l, At (downTo W c k (Proc.devRef .tc main_v18_9) (ix2 0 l)) (downTo W c k (Proc.devRef .tc main_v18_10) (ix2 0 l))
    ((starRingEnd ℂ) (a l) * run ((starRingEnd ℂ) (a l)) (d l) 0 k)
  | 0, _ => fun l => by rw [run, mul_zero]; exact hC l
  | k + 1, hk => fun l => by
    have ih := down_carry k (by omega) l
    have hctr : downTo W c k (Proc.devRef .tc main_v18_6) = _ := Run.down_ctr W h0 c k
    show At (afterL downI (after cond1 (downTo W c k)) (Proc.devRef .tc main_v18_9) (ix2 0 l)) (afterL downI (after cond1 (downTo W c k)) (Proc.devRef .tc main_v18_10) (ix2 0 l)) _
    rw [Trip.down_9, Trip.down_10, keep_cond1 (r := main_v18_0) _ (by decide +kernel), keep_cond1 (r := main_v18_1) _ (by decide +kernel),
      keep_cond1 (r := main_v18_4) _ (by decide +kernel), keep_cond1 (r := main_v18_5) _ (by decide +kernel), keep_cond1 (r := main_v18_6) _ (by decide +kernel),
      keep_cond1 (r := main_v18_9) _ (by decide +kernel), keep_cond1 (r := main_v18_10) _ (by decide +kernel), hctr,
      down_same W c (r := main_v18_0) (by decide +kernel), down_same W c (r := main_v18_1) (by decide +kernel),
      down_same W c (r := main_v18_4) (by decide +kernel), down_same W c (r := main_v18_5) (by decide +kernel)]
    exact conj_mul (hA l) (down_adj k (by omega) l (a l) (d l) ih (hD ⟨2047 - k, by omega⟩ l))

include h0 hA hD hC in
theorem down_rows : ∀ k, k ≤ 2048 → ∀ t : Fin 2048, 2048 - k ≤ t.val → ∀ l,
    At (downTo W c k (Proc.devRef .tc main_v18_11) (ix3 t 0 l)) (downTo W c k (Proc.devRef .tc main_v18_12) (ix3 t 0 l)) (run ((starRingEnd ℂ) (a l)) (d l) 0 (2048 - t.val))
  | 0, _ => fun t ht => absurd t.isLt (by omega)
  | k + 1, hk => fun t ht l => by
    have ih := down_rows k (by omega) t
    have hs := down_carry W c h0 hA hD hC k (by omega) l
    have hctr : downTo W c k (Proc.devRef .tc main_v18_6) = _ := Run.down_ctr W h0 c k
    show At (afterL downI (after cond1 (downTo W c k)) (Proc.devRef .tc main_v18_11) (ix3 t 0 l)) (afterL downI (after cond1 (downTo W c k)) (Proc.devRef .tc main_v18_12) (ix3 t 0 l)) _
    rw [Trip.down_11, Trip.down_12, keep_cond1 (r := main_v18_0) _ (by decide +kernel), keep_cond1 (r := main_v18_1) _ (by decide +kernel),
      keep_cond1 (r := main_v18_6) _ (by decide +kernel),
      keep_cond1 (r := main_v18_9) _ (by decide +kernel), keep_cond1 (r := main_v18_10) _ (by decide +kernel),
      keep_cond1 (r := main_v18_11) _ (by decide +kernel), keep_cond1 (r := main_v18_12) _ (by decide +kernel), hctr,
      down_same W c (r := main_v18_0) (by decide +kernel), down_same W c (r := main_v18_1) (by decide +kernel)]
    have hne : t ≠ ⟨2047 - k, by omega⟩ → t.val ≠ 2047 - k := fun h e => h (Fin.ext e)
    refine set_at ⟨2047 - k, by omega⟩ t (back_eq k (by omega)) (fun h => ?_) (fun h => ih (by have := hne h; omega) l)
    have e : 2048 - t.val = k + 1 := by rw [h]; show 2048 - (2047 - k) = k + 1; omega
    rw [e]
    exact down_adj k (by omega) l (a l) (d l) hs (hD ⟨2047 - k, by omega⟩ l)

include h0 hA hD hC hS hT in
theorem down_sums : ∀ k, k ≤ 2048 → ∀ l, At (downTo W c k (Proc.devRef .tc main_v18_7) (ix2 0 l)) (downTo W c k (Proc.devRef .tc main_v18_8) (ix2 0 l))
    (∑ i ∈ Finset.range k, run ((starRingEnd ℂ) (a l)) (d l) 0 (i + 1) * (starRingEnd ℂ) (s l (2047 - i)))
  | 0, _ => fun l => by rw [Finset.range_zero, Finset.sum_empty]; exact hT l
  | k + 1, hk => fun l => by
    have ih := down_sums k (by omega) l
    have hs := down_carry W c h0 hA hD hC k (by omega) l
    have hctr : downTo W c k (Proc.devRef .tc main_v18_6) = _ := Run.down_ctr W h0 c k
    show At (afterL downI (after cond1 (downTo W c k)) (Proc.devRef .tc main_v18_7) (ix2 0 l)) (afterL downI (after cond1 (downTo W c k)) (Proc.devRef .tc main_v18_8) (ix2 0 l)) _
    rw [Finset.sum_range_succ, Trip.down_7, Trip.down_8, keep_cond1 (r := main_v18_0) _ (by decide +kernel), keep_cond1 (r := main_v18_1) _ (by decide +kernel),
      keep_cond1 (r := main_v18_2) _ (by decide +kernel), keep_cond1 (r := main_v18_3) _ (by decide +kernel),
      keep_cond1 (r := main_v18_6) _ (by decide +kernel), keep_cond1 (r := main_v18_7) _ (by decide +kernel), keep_cond1 (r := main_v18_8) _ (by decide +kernel),
      keep_cond1 (r := main_v18_9) _ (by decide +kernel), keep_cond1 (r := main_v18_10) _ (by decide +kernel), hctr,
      down_same W c (r := main_v18_0) (by decide +kernel), down_same W c (r := main_v18_1) (by decide +kernel),
      down_same W c (r := main_v18_2) (by decide +kernel), down_same W c (r := main_v18_3) (by decide +kernel)]
    have hr := hS ⟨2047 - k, by omega⟩ l
    exact add_mul_conj ih (down_adj k (by omega) l (a l) (d l) hs (hD ⟨2047 - k, by omega⟩ l)) (row_at ⟨2047 - k, by omega⟩ (back_eq k (by omega)) hr)
end Second

/-! ## The whole program -/

variable (m : (ℓ : Loc nD τ sig) → Buf (Elt Ideal) ℓ) (c : Dev nD)

/-- Argument `b` at the launch. -/
abbrev given (b : Ref sig .tc) := m ((c.tc : Thread nD τ).loc b)

/-- The buffers the first loop leaves, and those the second is entered at. -/
abbrev left₁ : Valuation τ sig (Elt Ideal) := V₂ Run.up preI m c
abbrev in₂ : Dev nD → Valuation τ sig (Elt Ideal) := V₃ Run.up preI midI m

theorem keep_pre {r : Ref sig .tc} (h : r ∉ pre0_W) : V₁ preI m c (Proc.devRef .tc r) = given m c r :=
  after_of_writes_sub pre0 _ pre0_writes h

theorem keep_mid (V : Valuation τ sig (Elt Ideal)) {r : Ref sig .tc} (h : r ∉ mid0_W) : afterL midI V (Proc.devRef .tc r) = V (Proc.devRef .tc r) :=
  after_of_writes_sub mid0 _ mid0_writes h

theorem keep_post (V : Valuation τ sig (Elt Ideal)) {r : Ref sig .tc} (h : r ∉ post0_W) (h' : r ∉ post1_W) : afterL postI V (Proc.devRef .tc r) = V (Proc.devRef .tc r) :=
  (after_of_writes_sub post1 _ post1_writes h').trans (after_of_writes_sub post0 _ post0_writes h)

theorem keep_first {r : Ref sig .tc} (h : r ∉ up_W) (h' : r ∉ cond0_W) : left₁ m c (Proc.devRef .tc r) = V₁ preI m c (Proc.devRef .tc r) :=
  (keep_cond0 _ h').trans (up_same (V₁ preI m) c h 2048)

theorem keep_second {r : Ref sig .tc} (h : r ∉ down_W) (h' : r ∉ cond1_W) : V₄ Run.up Run.down preI midI m c (Proc.devRef .tc r) = in₂ m c (Proc.devRef .tc r) :=
  (keep_cond1 _ h').trans (down_same (in₂ m) c h 2048)

/-- A buffer nothing writes is as it was. -/
theorem keep_all {r : Ref sig .tc} (h₁ : r ∉ pre0_W) (h₂ : r ∉ up_W) (h₂' : r ∉ cond0_W) (h₃ : r ∉ mid0_W) (h₄ : r ∉ down_W) (h₄' : r ∉ cond1_W)
    (h₅ : r ∉ post0_W) (h₅' : r ∉ post1_W) : Run.last m c (Proc.devRef .tc r) = given m c r :=
  (keep_post _ h₅ h₅').trans ((keep_second m c h₄ h₄').trans ((keep_mid _ h₃).trans ((keep_first m c h₂ h₂').trans (keep_pre m c h₁))))

/-- An argument at the second loop's entry. -/
theorem arg_left {r : Ref sig .tc} (h₁ : r ∉ pre0_W) (h₂ : r ∉ up_W) (h₂' : r ∉ cond0_W) : left₁ m c (Proc.devRef .tc r) = given m c r :=
  (keep_first m c h₂ h₂').trans (keep_pre m c h₁)

section Entry
variable (V : Valuation τ sig (Elt Ideal))
theorem pre_bu_re (t : Fin 2048) (l : Fin 4096) : after pre0 V (Proc.devRef .tc main_v7_0) (ix3 t 0 l) = V (Proc.devRef .tc main_arg2) (ix2 t l) := by
  after_reads_simp
  exact congrArg (V (Proc.devRef .tc main_arg2)) (funext fun k => match k with | ⟨0, _⟩ => rfl | ⟨1, _⟩ => rfl)
theorem pre_bu_im (t : Fin 2048) (l : Fin 4096) : after pre0 V (Proc.devRef .tc main_v7_1) (ix3 t 0 l) = V (Proc.devRef .tc main_arg3) (ix2 t l) := by
  after_reads_simp
  exact congrArg (V (Proc.devRef .tc main_arg3)) (funext fun k => match k with | ⟨0, _⟩ => rfl | ⟨1, _⟩ => rfl)
theorem pre_a_re : after pre0 V (Proc.devRef .tc main_v7_2) = V (Proc.devRef .tc main_arg0) := by
  after_reads_simp
  rfl
theorem pre_a_im : after pre0 V (Proc.devRef .tc main_v7_3) = V (Proc.devRef .tc main_arg1) := by
  after_reads_simp
  rfl
theorem pre_s (l : Fin 4096) : At (after pre0 V (Proc.devRef .tc main_v7_5) (ix2 0 l)) (after pre0 V (Proc.devRef .tc main_v7_6) (ix2 0 l)) 0 := by
  after_reads_simp
  exact ⟨Ideal.ofBits_zero_f32, Ideal.ofBits_zero_f32⟩
theorem mid_ds_re (t : Fin 2048) (l : Fin 4096) : after mid0 V (Proc.devRef .tc main_v18_0) (ix3 t 0 l) = V (Proc.devRef .tc main_arg4) (ix2 t l) := by
  after_reads_simp
  exact congrArg (V (Proc.devRef .tc main_arg4)) (funext fun k => match k with | ⟨0, _⟩ => rfl | ⟨1, _⟩ => rfl)
theorem mid_ds_im (t : Fin 2048) (l : Fin 4096) : after mid0 V (Proc.devRef .tc main_v18_1) (ix3 t 0 l) = V (Proc.devRef .tc main_arg5) (ix2 t l) := by
  after_reads_simp
  exact congrArg (V (Proc.devRef .tc main_arg5)) (funext fun k => match k with | ⟨0, _⟩ => rfl | ⟨1, _⟩ => rfl)
theorem mid_s_re : after mid0 V (Proc.devRef .tc main_v18_2) = V (Proc.devRef .tc main_v7_9) := by
  after_reads_simp
  rfl
theorem mid_s_im : after mid0 V (Proc.devRef .tc main_v18_3) = V (Proc.devRef .tc main_v7_10) := by
  after_reads_simp
  rfl
theorem mid_a_re : after mid0 V (Proc.devRef .tc main_v18_4) = V (Proc.devRef .tc main_arg0) := by
  after_reads_simp
  rfl
theorem mid_a_im : after mid0 V (Proc.devRef .tc main_v18_5) = V (Proc.devRef .tc main_arg1) := by
  after_reads_simp
  rfl
theorem mid_sum (l : Fin 4096) : At (after mid0 V (Proc.devRef .tc main_v18_7) (ix2 0 l)) (after mid0 V (Proc.devRef .tc main_v18_8) (ix2 0 l)) 0 := by
  after_reads_simp
  exact ⟨Ideal.ofBits_zero_f32, Ideal.ofBits_zero_f32⟩
theorem mid_carry (l : Fin 4096) : At (after mid0 V (Proc.devRef .tc main_v18_9) (ix2 0 l)) (after mid0 V (Proc.devRef .tc main_v18_10) (ix2 0 l)) 0 := by
  after_reads_simp
  exact ⟨Ideal.ofBits_zero_f32, Ideal.ofBits_zero_f32⟩
/-- A sum over an axis of one entry. -/
theorem sum_one (x : S2048x1x4096.Idx → EReal) (t : Fin 2048) (l : Fin 4096) :
    Host.reduceAdd (F := Ideal) (φ := .f32) x (constant S_ .f32 0#32) reducesTo_S2048x1x4096_S2048x4096_d1 h_S_ (ix2 t l) = x (ix3 t 0 l) := by
  pointwise []
  exact Fin.sum_univ_one _
theorem post_im (t : Fin 2048) (l : Fin 4096) : afterL postI V (Proc.devRef .tc main_v19) (ix2 t l) = V (Proc.devRef .tc main_v18_12) (ix3 t 0 l) := by
  refine (congrFun (after_of_writes_sub post1 (after post0 V) post1_writes (r := main_v19) (by decide +kernel)) (ix2 t l)).trans ?_
  after_reads_simp
  exact sum_one _ t l
theorem post_re (t : Fin 2048) (l : Fin 4096) : afterL postI V (Proc.devRef .tc main_v20) (ix2 t l) = V (Proc.devRef .tc main_v18_11) (ix3 t 0 l) := by
  have e : after post1 (after post0 V) (Proc.devRef .tc main_v20) (ix2 t l) = after post0 V (Proc.devRef .tc main_v18_11) (ix3 t 0 l) := by
    generalize after post0 V = U
    after_reads_simp
    exact sum_one _ t l
  refine e.trans (congrFun (after_of_writes_sub post0 V post0_writes (r := main_v18_11) (by decide +kernel)) (ix3 t 0 l))
theorem post_s_re (t : Fin 2048) (l : Fin 4096) : afterL postI V (Proc.devRef .tc main_v21) (ix2 t l) = V (Proc.devRef .tc main_v7_7) (ix3 t 0 l) := by
  have e : after post1 (after post0 V) (Proc.devRef .tc main_v21) (ix2 t l) = after post0 V (Proc.devRef .tc main_v7_7) (ix3 t 0 l) := by
    generalize after post0 V = U
    after_reads_simp
    pointwise []
  refine e.trans (congrFun (after_of_writes_sub post0 V post0_writes (r := main_v7_7) (by decide +kernel)) (ix3 t 0 l))
theorem post_s_im (t : Fin 2048) (l : Fin 4096) : afterL postI V (Proc.devRef .tc main_v22) (ix2 t l) = V (Proc.devRef .tc main_v7_8) (ix3 t 0 l) := by
  have e : after post1 (after post0 V) (Proc.devRef .tc main_v22) (ix2 t l) = after post0 V (Proc.devRef .tc main_v7_8) (ix3 t 0 l) := by
    generalize after post0 V = U
    after_reads_simp
    pointwise []
  refine e.trans (congrFun (after_of_writes_sub post0 V post0_writes (r := main_v7_8) (by decide +kernel)) (ix3 t 0 l))
end Entry

section Results
variable {a : Fin 4096 → ℂ} {b d : Fin 4096 → ℕ → ℂ}
  (ha : ∀ l, At (given m c main_arg0 (ix2 0 l)) (given m c main_arg1 (ix2 0 l)) (a l))
  (hb : ∀ (t : Fin 2048) l, At (given m c main_arg2 (ix2 t l)) (given m c main_arg3 (ix2 t l)) (b l t.val))
  (hd : ∀ (t : Fin 2048) l, At (given m c main_arg4 (ix2 t l)) (given m c main_arg5 (ix2 t l)) (d l (2047 - t.val)))

include ha in
theorem first_a (l : Fin 4096) : At (V₁ preI m c (Proc.devRef .tc main_v7_2) (ix2 0 l)) (V₁ preI m c (Proc.devRef .tc main_v7_3) (ix2 0 l)) (a l) := by
  show At (after pre0 (launchContents m c) (Proc.devRef .tc main_v7_2) (ix2 0 l)) (after pre0 (launchContents m c) (Proc.devRef .tc main_v7_3) (ix2 0 l)) _
  rw [pre_a_re, pre_a_im]; exact ha l

include hb in
theorem first_b (t : Fin 2048) (l : Fin 4096) : At (V₁ preI m c (Proc.devRef .tc main_v7_0) (ix3 t 0 l)) (V₁ preI m c (Proc.devRef .tc main_v7_1) (ix3 t 0 l)) (b l t.val) := by
  show At (after pre0 (launchContents m c) (Proc.devRef .tc main_v7_0) (ix3 t 0 l)) (after pre0 (launchContents m c) (Proc.devRef .tc main_v7_1) (ix3 t 0 l)) _
  rw [pre_bu_re, pre_bu_im]; exact hb t l

include ha hb in
/-- The first loop leaves the state before every step. -/
theorem states_at (t : Fin 2048) (l : Fin 4096) :
    At (left₁ m c (Proc.devRef .tc main_v7_9) (ix3 t 0 l)) (left₁ m c (Proc.devRef .tc main_v7_10) (ix3 t 0 l)) (run (a l) (b l) 0 t.val) := by
  show At (after cond0 (upTo (V₁ preI m) c 2048) (Proc.devRef .tc main_v7_9) (ix3 t 0 l)) (after cond0 (upTo (V₁ preI m) c 2048) (Proc.devRef .tc main_v7_10) (ix3 t 0 l)) _
  rw [keep_cond0 (r := main_v7_9) _ (by decide +kernel), keep_cond0 (r := main_v7_10) _ (by decide +kernel)]
  exact up_rows (V₁ preI m) c (Run.entry_ctr m) (first_a m c ha) (first_b m c hb) (fun l => pre_s _ l) 2048 le_rfl t t.isLt l

include ha hb in
/-- The state after every step. -/
theorem new_at (t : Fin 2048) (l : Fin 4096) :
    At (Run.last m c (Proc.devRef .tc main_v21) (ix2 t l)) (Run.last m c (Proc.devRef .tc main_v22) (ix2 t l)) (run (a l) (b l) 0 (t.val + 1)) := by
  show At (afterL postI (V₄ Run.up Run.down preI midI m c) (Proc.devRef .tc main_v21) (ix2 t l)) (afterL postI (V₄ Run.up Run.down preI midI m c) (Proc.devRef .tc main_v22) (ix2 t l)) _
  rw [post_s_re, post_s_im, keep_second m c (r := main_v7_7) (by decide +kernel) (by decide +kernel), keep_second m c (r := main_v7_8) (by decide +kernel) (by decide +kernel)]
  show At (afterL midI (left₁ m c) (Proc.devRef .tc main_v7_7) (ix3 t 0 l)) (afterL midI (left₁ m c) (Proc.devRef .tc main_v7_8) (ix3 t 0 l)) _
  rw [keep_mid _ (r := main_v7_7) (by decide +kernel), keep_mid _ (r := main_v7_8) (by decide +kernel)]
  show At (after cond0 (upTo (V₁ preI m) c 2048) (Proc.devRef .tc main_v7_7) (ix3 t 0 l)) (after cond0 (upTo (V₁ preI m) c 2048) (Proc.devRef .tc main_v7_8) (ix3 t 0 l)) _
  rw [keep_cond0 (r := main_v7_7) _ (by decide +kernel), keep_cond0 (r := main_v7_8) _ (by decide +kernel)]
  exact up_after (V₁ preI m) c (Run.entry_ctr m) (first_a m c ha) (first_b m c hb) (fun l => pre_s _ l) 2048 le_rfl t t.isLt l

include ha in
theorem in_a (l : Fin 4096) : At (in₂ m c (Proc.devRef .tc main_v18_4) (ix2 0 l)) (in₂ m c (Proc.devRef .tc main_v18_5) (ix2 0 l)) (a l) := by
  show At (after mid0 (left₁ m c) (Proc.devRef .tc main_v18_4) (ix2 0 l)) (after mid0 (left₁ m c) (Proc.devRef .tc main_v18_5) (ix2 0 l)) _
  rw [mid_a_re, mid_a_im, arg_left m c (r := main_arg0) (by decide +kernel) (by decide +kernel) (by decide +kernel),
    arg_left m c (r := main_arg1) (by decide +kernel) (by decide +kernel) (by decide +kernel)]
  exact ha l

include hd in
theorem in_d (t : Fin 2048) (l : Fin 4096) : At (in₂ m c (Proc.devRef .tc main_v18_0) (ix3 t 0 l)) (in₂ m c (Proc.devRef .tc main_v18_1) (ix3 t 0 l)) (d l (2047 - t.val)) := by
  show At (after mid0 (left₁ m c) (Proc.devRef .tc main_v18_0) (ix3 t 0 l)) (after mid0 (left₁ m c) (Proc.devRef .tc main_v18_1) (ix3 t 0 l)) _
  rw [mid_ds_re, mid_ds_im, arg_left m c (r := main_arg4) (by decide +kernel) (by decide +kernel) (by decide +kernel),
    arg_left m c (r := main_arg5) (by decide +kernel) (by decide +kernel) (by decide +kernel)]
  exact hd t l

include ha hb in
theorem in_s (t : Fin 2048) (l : Fin 4096) :
    At (in₂ m c (Proc.devRef .tc main_v18_2) (ix3 t 0 l)) (in₂ m c (Proc.devRef .tc main_v18_3) (ix3 t 0 l)) (run (a l) (b l) 0 t.val) := by
  show At (after mid0 (left₁ m c) (Proc.devRef .tc main_v18_2) (ix3 t 0 l)) (after mid0 (left₁ m c) (Proc.devRef .tc main_v18_3) (ix3 t 0 l)) _
  rw [mid_s_re, mid_s_im]
  exact states_at m c ha hb t l

include ha hd in
/-- The gradient of every step's input. -/
theorem adj_at (t : Fin 2048) (l : Fin 4096) : At (Run.last m c (Proc.devRef .tc main_v20) (ix2 t l)) (Run.last m c (Proc.devRef .tc main_v19) (ix2 t l))
    (run ((starRingEnd ℂ) (a l)) (d l) 0 (2048 - t.val)) := by
  have h := down_rows (in₂ m) c (fun c => Run.again_ctr _) (in_a m c ha) (in_d m c hd) (fun l => mid_carry _ l) 2048 le_rfl t (by omega) l
  show At (afterL postI (V₄ Run.up Run.down preI midI m c) (Proc.devRef .tc main_v20) (ix2 t l)) (afterL postI (V₄ Run.up Run.down preI midI m c) (Proc.devRef .tc main_v19) (ix2 t l)) _
  rw [post_re, post_im]
  show At (after cond1 (downTo (in₂ m) c 2048) (Proc.devRef .tc main_v18_11) (ix3 t 0 l)) (after cond1 (downTo (in₂ m) c 2048) (Proc.devRef .tc main_v18_12) (ix3 t 0 l)) _
  rw [keep_cond1 (r := main_v18_11) _ (by decide +kernel), keep_cond1 (r := main_v18_12) _ (by decide +kernel)]
  exact h

include ha hb hd in
/-- The gradient of the multiplier. -/
theorem sum_at (l : Fin 4096) : At (Run.last m c (Proc.devRef .tc main_v18_7) (ix2 0 l)) (Run.last m c (Proc.devRef .tc main_v18_8) (ix2 0 l))
    (∑ i ∈ Finset.range 2048, run ((starRingEnd ℂ) (a l)) (d l) 0 (i + 1) * (starRingEnd ℂ) (run (a l) (b l) 0 (2047 - i))) := by
  have h := down_sums (in₂ m) c (fun c => Run.again_ctr _) (s := fun l => run (a l) (b l) 0) (in_a m c ha) (in_d m c hd) (in_s m c ha hb)
    (fun l => mid_carry _ l) (fun l => mid_sum _ l) 2048 le_rfl l
  show At (afterL postI (V₄ Run.up Run.down preI midI m c) (Proc.devRef .tc main_v18_7) (ix2 0 l)) (afterL postI (V₄ Run.up Run.down preI midI m c) (Proc.devRef .tc main_v18_8) (ix2 0 l)) _
  rw [keep_post (r := main_v18_7) _ (by decide +kernel) (by decide +kernel), keep_post (r := main_v18_8) _ (by decide +kernel) (by decide +kernel)]
  show At (after cond1 (downTo (in₂ m) c 2048) (Proc.devRef .tc main_v18_7) (ix2 0 l)) (after cond1 (downTo (in₂ m) c 2048) (Proc.devRef .tc main_v18_8) (ix2 0 l)) _
  rw [keep_cond1 (r := main_v18_7) _ (by decide +kernel), keep_cond1 (r := main_v18_8) _ (by decide +kernel)]
  exact h
end Results

end Cert.ScanGradRefIdeal.Value
-- ==== Proof.Finite.lean ====
/-
  A float whose absolute value compares below infinity is a real number; the preconditions of this file read at an index.
-/
module

public import proofs.«01_k».proof.Defs
public import Idealize.ShloMosaic.Lib.Pointwise
public import Idealize.ShloMosaic.Lib.KernelVsHost

@[expose] public section
noncomputable section
open Idealize.ShloMosaic Idealize.ShloMosaic.TcCoe Idealize.SL.Sem
namespace Cert.Finite

theorem andi_one {a b : BitVec 1} : IntOp.andi a b = 1#1 → a = 1#1 ∧ b = 1#1 := by revert a b; decide

/-- The comparison `|x| < ∞`, as the printed predicates spell it. -/
def below (x : EReal) : BitVec 1 := Ideal.cmp .olt (max x (-x)) (Ideal.ofBits .f32 0x7F800000#32)

/-- A value that compares below infinity in absolute value is the real number it denotes. -/
theorem real_of_below {x : EReal} (h : below x = 1#1) : ((x.toReal : ℝ) : EReal) = x := by
  have htop : Ideal.ofBits .f32 0x7F800000#32 = ⊤ := by simp [Ideal.ofBits, Ideal.ieee]
  unfold below at h
  rw [htop] at h
  induction x using EReal.rec with
  | bot => exact absurd h (by simp [Ideal.cmp])
  | top => exact absurd h (by simp [Ideal.cmp])
  | coe r => rfl

/-- Where a sum of absolute values is a real number, so is every term. -/
theorem real_of_sum {n : ℕ} {f : Fin n → EReal} (h : below (∑ k, max (f k) (-f k)) = 1#1) (k : Fin n) : ∃ r : ℝ, f k = (r : EReal) := by
  have pos : ∀ x : EReal, 0 ≤ max x (-x) := fun x => by
    rcases le_total 0 x with hx | hx
    · exact le_max_of_le_left hx
    · exact le_max_of_le_right (EReal.neg_nonneg.mpr hx)
  have le : max (f k) (-f k) ≤ ∑ k, max (f k) (-f k) := Finset.single_le_sum (f := fun k => max (f k) (-f k)) (fun i _ => pos _) (Finset.mem_univ k)
  have h := real_of_below h
  generalize (∑ k, max (f k) (-f k)) = s at h le
  generalize f k = x at le ⊢
  induction x using EReal.rec with
  | coe r => exact ⟨r, rfl⟩
  | bot => rw [EReal.neg_bot, max_eq_right bot_le, top_le_iff] at le; rw [le] at h; simp at h
  | top => rw [max_eq_left le_top, top_le_iff] at le; rw [le] at h; simp at h

/-- An index of an array of one row, however its first coordinate is written. -/
theorem row_idx {n : ℕ} (j : (⟨2, ![1, n]⟩ : Shape).Idx) (l : Fin n) (h : (j 1).val = l.val) : j = ix2 0 l := by
  funext a; apply Fin.ext
  match a with
  | ⟨0, _⟩ => have : (j 0).val < 1 := (j 0).isLt; show (j 0).val = 0; omega
  | ⟨1, _⟩ => exact h

/-- What `finite_scan` says of its six arrays at row `t` and column `l`. -/
theorem scan_finite [hP : Cert.Pre_finite_scan.Facts] (x0 x1 : FVec Ideal Cert.Pre_finite_scan.S1x4096 .f32) (x2 x3 x4 x5 : FVec Ideal Cert.Pre_finite_scan.S2048x4096 .f32)
    (h : Cert.Pre_finite_scan.fn (F := Ideal) x0 x1 x2 x3 x4 x5 = fun _ => 1#1) (t : Fin 2048) (l : Fin 4096) :
    (below (x0 (ix2 0 l)) = 1#1 ∧ below (x1 (ix2 0 l)) = 1#1) ∧ (below (x2 (ix2 t l)) = 1#1 ∧ below (x3 (ix2 t l)) = 1#1)
      ∧ below (x4 (ix2 t l)) = 1#1 ∧ below (x5 (ix2 t l)) = 1#1 := by
  have pre := congrFun h (ix2 t l)
  simp only [Cert.Pre_finite_scan.fn, Cert.Pre_finite_scan.fn_part1] at pre
  obtain ⟨h, h5⟩ := andi_one pre
  obtain ⟨h, h4⟩ := andi_one h
  obtain ⟨h, h3⟩ := andi_one h
  obtain ⟨h, h2⟩ := andi_one h
  obtain ⟨h0, h1⟩ := andi_one h
  refine ⟨⟨?_, ?_⟩, ⟨h2, h3⟩, h4, h5⟩
  · exact (congrArg (fun j => below (x0 j)) (row_idx _ l rfl).symm).trans h0
  · exact (congrArg (fun j => below (x1 j)) (row_idx _ l rfl).symm).trans h1
-- ==== Proof.ScanClaims.lean ====
/-
  The claims about the diagonal recurrence and its gradient. Where every given value is finite, a column is a recurrence over
  the complex numbers; kernel and reference both end with its state and its adjoint at every row, and with the sum of the adjoint times the
  conjugate of the state one row before.
-/
module

public import proofs.«01_k».proof.Defs
public import proofs.«01_k».proof.Proof.ScanLaunch
public import proofs.«01_k».proof.Proof.ScanRefValue
public import proofs.«01_k».proof.Proof.Finite
public import Idealize.ShloMosaic.Lib.Quiescent

@[expose] public section
noncomputable section
open Idealize.ShloMosaic Idealize.ShloMosaic.TcCoe Idealize.SL.Sem
open Cert.Recurrence Cert.Finite

namespace Cert.Proof.ScanClaims

/-- The shapes of the finiteness test. -/
theorem pre_facts : Cert.Pre_finite_scan.Facts where
  bcast_S_S1x4096 := by decide
  bcast_S_S2048x4096 := by decide
  bcast_S1x4096_S2048x4096_0_1 := by decide

section Reference
open Cert.ScanGradRefIdeal Cert.ScanGradRefIdeal.Gen Cert.ScanGradRefIdeal.Value

/-- The six arguments end as they were given. -/
theorem ref_args (m : (ℓ : Loc nD τ sig) → Buf (Elt Ideal) ℓ) (c : Dev nD) :
    (Run.last m c (Proc.devRef .tc main_arg0) = given m c main_arg0 ∧ Run.last m c (Proc.devRef .tc main_arg1) = given m c main_arg1
      ∧ Run.last m c (Proc.devRef .tc main_arg2) = given m c main_arg2 ∧ Run.last m c (Proc.devRef .tc main_arg3) = given m c main_arg3
      ∧ Run.last m c (Proc.devRef .tc main_arg4) = given m c main_arg4 ∧ Run.last m c (Proc.devRef .tc main_arg5) = given m c main_arg5) := by
  refine ⟨?_, ?_, ?_, ?_, ?_, ?_⟩ <;> exact keep_all m c (by decide +kernel) (by decide +kernel) (by decide +kernel) (by decide +kernel)
    (by decide +kernel) (by decide +kernel) (by decide +kernel) (by decide +kernel)

theorem frame_ref : Cert.quiescent_ScanGradRefIdeal := fun m ρ _ =>
  (θ_run Cert.ScanGradRefIdeal.defs _ _).mono (fun r h => ⟨fun c =>
    ⟨(h c main_arg0 rfl).trans (ref_args m c).1, (h c main_arg1 rfl).trans (ref_args m c).2.1, (h c main_arg2 rfl).trans (ref_args m c).2.2.1,
      (h c main_arg3 rfl).trans (ref_args m c).2.2.2.1, (h c main_arg4 rfl).trans (ref_args m c).2.2.2.2.1, (h c main_arg5 rfl).trans (ref_args m c).2.2.2.2.2⟩,
      Idealize.ShloMosaic.sem_eq_zero_of_no_sems (by decide) r.2⟩)
    (Run.ends (F := Ideal) m ρ)
end Reference

/-- The reference adds the terms from the last row to the first. -/
theorem total_eq (a : Fin 4096 → ℂ) (b d : Fin 4096 → ℕ → ℂ) (l : Fin 4096) :
    Cert.ScanGradIdeal.Arrays.total (Cert.ScanGradIdeal.Launched.conjA a) d (Cert.ScanGradIdeal.Launched.states a b) l
      = ∑ i ∈ Finset.range 2048, run ((starRingEnd ℂ) (a l)) (d l) 0 (i + 1) * (starRingEnd ℂ) (run (a l) (b l) 0 (2047 - i)) := by
  rw [← Finset.sum_range_reflect]
  unfold Cert.ScanGradIdeal.Arrays.total
  refine Finset.sum_congr rfl fun t ht => ?_
  have ht := Finset.mem_range.mp ht
  have e1 : 2048 - 1 - t + 1 = 2048 - t := by omega
  have e2 : 2047 - (2048 - 1 - t) = t := by omega
  rw [e1, e2]
  refine congrArg (fun z => _ * (starRingEnd ℂ) z) ?_
  cases t with
  | zero => rfl
  | succ t => rfl

section Both
open Cert.ScanGradIdeal Cert.ScanGradIdeal.Gen
variable (m : (ℓ : Loc nD τ sig) → Buf (Elt Ideal) ℓ) (c : Dev nD)

/-- A pair of extended reals as a complex number. -/
def toC (u v : EReal) : ℂ := ⟨u.toReal, v.toReal⟩

theorem at_toC {u v : EReal} (hu : below u = 1#1) (hv : below v = 1#1) : At u v (toC u v) :=
  ⟨(real_of_below hu).symm, (real_of_below hv).symm⟩

/-- The recurrence's numbers of a memory: the multiplier, the inputs by row, the cotangents by distance from the last row. -/
def mulOf (l : Fin 4096) : ℂ := toC (m ((c.tc : Thread nD τ).loc main_arg0) (ix2 0 l)) (m ((c.tc : Thread nD τ).loc main_arg1) (ix2 0 l))
def inOf (l : Fin 4096) (t : ℕ) : ℂ :=
  if h : t < 2048 then toC (m ((c.tc : Thread nD τ).loc main_arg2) (ix2 ⟨t, h⟩ l)) (m ((c.tc : Thread nD τ).loc main_arg3) (ix2 ⟨t, h⟩ l)) else 0
def cotOf (l : Fin 4096) (k : ℕ) : ℂ :=
  toC (m ((c.tc : Thread nD τ).loc main_arg4) (ix2 ⟨2047 - k, by omega⟩ l)) (m ((c.tc : Thread nD τ).loc main_arg5) (ix2 ⟨2047 - k, by omega⟩ l))

variable [hP : Cert.Pre_finite_scan.Facts] (h : Cert.Pre_ScanGradIdeal_finite_scan m)
include h

theorem mul_at (l : Fin 4096) : At (m ((c.tc : Thread nD τ).loc main_arg0) (ix2 0 l)) (m ((c.tc : Thread nD τ).loc main_arg1) (ix2 0 l)) (mulOf m c l) := by
  obtain ⟨⟨h0, h1⟩, -, -⟩ := scan_finite _ _ _ _ _ _ (h c) 0 l
  exact at_toC h0 h1

theorem in_at (t : Fin 2048) (l : Fin 4096) :
    At (m ((c.tc : Thread nD τ).loc main_arg2) (ix2 t l)) (m ((c.tc : Thread nD τ).loc main_arg3) (ix2 t l)) (inOf m c l t.val) := by
  obtain ⟨-, ⟨h2, h3⟩, -⟩ := scan_finite _ _ _ _ _ _ (h c) t l
  rw [inOf, dif_pos t.isLt]
  exact at_toC h2 h3

theorem cot_at (t : Fin 2048) (l : Fin 4096) :
    At (m ((c.tc : Thread nD τ).loc main_arg4) (ix2 t l)) (m ((c.tc : Thread nD τ).loc main_arg5) (ix2 t l)) (cotOf m c l (2047 - t.val)) := by
  obtain ⟨-, -, h4, h5⟩ := scan_finite _ _ _ _ _ _ (h c) t l
  have e : (⟨2047 - (2047 - t.val), by omega⟩ : Fin 2048) = t := Fin.ext (by show 2047 - (2047 - t.val) = t.val; omega)
  unfold cotOf
  rw [e]
  exact at_toC h4 h5
end Both

theorem algebraic [hP : Cert.Pre_finite_scan.Facts] : Cert.algebraic_ScanGradIdeal_ScanGradRefIdeal_pre_finite_scan := by
  intro m ρ m' ρ' hpre hagree
  refine ⟨fun c j => (((Cert.ScanGradIdeal.Arrays.adj (Cert.ScanGradIdeal.Launched.conjA (mulOf m c)) (cotOf m c) (j 0).val (j 1)).re : ℝ) : EReal),
    fun c j => (((Cert.ScanGradIdeal.Arrays.adj (Cert.ScanGradIdeal.Launched.conjA (mulOf m c)) (cotOf m c) (j 0).val (j 1)).im : ℝ) : EReal),
    fun c j => (((Cert.ScanGradIdeal.Arrays.total (Cert.ScanGradIdeal.Launched.conjA (mulOf m c)) (cotOf m c) (Cert.ScanGradIdeal.Launched.states (mulOf m c) (inOf m c)) (j 1)).re : ℝ) : EReal),
    fun c j => (((Cert.ScanGradIdeal.Arrays.total (Cert.ScanGradIdeal.Launched.conjA (mulOf m c)) (cotOf m c) (Cert.ScanGradIdeal.Launched.states (mulOf m c) (inOf m c)) (j 1)).im : ℝ) : EReal),
    fun c j => (((Cert.ScanGradIdeal.Arrays.state (mulOf m c) (inOf m c) (j 0).val (j 1)).re : ℝ) : EReal),
    fun c j => (((Cert.ScanGradIdeal.Arrays.state (mulOf m c) (inOf m c) (j 0).val (j 1)).im : ℝ) : EReal), ?_, ?_⟩
  · open Cert.ScanGradIdeal Cert.ScanGradIdeal.Gen in
    refine (θ_run Cert.ScanGradIdeal.defs _ _).mono (fun r h c => ?_) (Cert.ScanGradIdeal.Launched.ends m ρ)
    have e (b : Ref sig .tc) (hb : ¬ (Proc.devRef .tc b : DevRef τ sig).isScoped) := h.1 c _ (mem_uc b hb)
    have ha := mul_at m c hpre
    have hb := in_at m c hpre
    have hd := cot_at m c hpre
    exact ⟨(e main_v2_0 (by decide)).trans (Launched.result0 m ρ c ha hb hd), (e main_v2_1 (by decide)).trans (Launched.result1 m ρ c ha hb hd),
      (e main_v2_2 (by decide)).trans (Launched.result2 m ρ c ha hb hd), (e main_v2_3 (by decide)).trans (Launched.result3 m ρ c ha hb hd),
      (e main_v0_0 (by decide)).trans (Launched.result4 m ρ c ha hb), (e main_v0_1 (by decide)).trans (Launched.result5 m ρ c ha hb),
      (e main_arg0 (by decide)).trans (W3_main_arg0 m ρ c), (e main_arg1 (by decide)).trans (W3_main_arg1 m ρ c),
      (e main_arg2 (by decide)).trans (W3_main_arg2 m ρ c), (e main_arg3 (by decide)).trans (W3_main_arg3 m ρ c),
      (e main_arg4 (by decide)).trans (W3_main_arg4 m ρ c), (e main_arg5 (by decide)).trans (W3_main_arg5 m ρ c)⟩
  · open Cert.ScanGradRefIdeal Cert.ScanGradRefIdeal.Gen in
    refine (θ_run Cert.ScanGradRefIdeal.defs _ _).mono (fun r h c => ?_) (Cert.ScanGradRefIdeal.Run.ends (F := Ideal) m' ρ')
    obtain ⟨g0, g1, g2, g3, g4, g5⟩ := hagree c
    have ha : ∀ l, At (Value.given m' c main_arg0 (ix2 0 l)) (Value.given m' c main_arg1 (ix2 0 l)) (mulOf m c l) := fun l => by
      unfold Value.given; rw [g0, g1]; exact mul_at m c hpre l
    have hb : ∀ (t : Fin 2048) l, At (Value.given m' c main_arg2 (ix2 t l)) (Value.given m' c main_arg3 (ix2 t l)) (inOf m c l t.val) := fun t l => by
      unfold Value.given; rw [g2, g3]; exact in_at m c hpre t l
    have hd : ∀ (t : Fin 2048) l, At (Value.given m' c main_arg4 (ix2 t l)) (Value.given m' c main_arg5 (ix2 t l)) (cotOf m c l (2047 - t.val)) := fun t l => by
      unfold Value.given; rw [g4, g5]; exact cot_at m c hpre t l
    refine ⟨(h c main_v20 rfl).trans ?_, (h c main_v19 rfl).trans ?_, (h c main_v18_7 rfl).trans ?_, (h c main_v18_8 rfl).trans ?_,
      (h c main_v21 rfl).trans ?_, (h c main_v22 rfl).trans ?_,
      (h c main_arg0 rfl).trans (ref_args m' c).1, (h c main_arg1 rfl).trans (ref_args m' c).2.1, (h c main_arg2 rfl).trans (ref_args m' c).2.2.1,
      (h c main_arg3 rfl).trans (ref_args m' c).2.2.2.1, (h c main_arg4 rfl).trans (ref_args m' c).2.2.2.2.1, (h c main_arg5 rfl).trans (ref_args m' c).2.2.2.2.2⟩
    · funext j
      obtain ⟨t, l, rfl⟩ : ∃ t l, j = ix2 t l := ⟨_, _, eq_ix2 j⟩
      exact (Value.adj_at m' c ha hd t l).1
    · funext j
      obtain ⟨t, l, rfl⟩ : ∃ t l, j = ix2 t l := ⟨_, _, eq_ix2 j⟩
      exact (Value.adj_at m' c ha hd t l).2
    · funext j
      obtain ⟨l, rfl⟩ : ∃ l, j = ix2 0 l := ⟨j 1, row_idx j (j 1) rfl⟩
      exact ((Value.sum_at m' c ha hb hd l).1).trans (congrArg (fun z : ℂ => ((z.re : ℝ) : EReal)) (total_eq _ _ _ l).symm)
    · funext j
      obtain ⟨l, rfl⟩ : ∃ l, j = ix2 0 l := ⟨j 1, row_idx j (j 1) rfl⟩
      exact ((Value.sum_at m' c ha hb hd l).2).trans (congrArg (fun z : ℂ => ((z.im : ℝ) : EReal)) (total_eq _ _ _ l).symm)
    · funext j
      obtain ⟨t, l, rfl⟩ : ∃ t l, j = ix2 t l := ⟨_, _, eq_ix2 j⟩
      exact (Value.new_at m' c ha hb t l).1
    · funext j
      obtain ⟨t, l, rfl⟩ : ∃ t l, j = ix2 t l := ⟨_, _, eq_ix2 j⟩
      exact (Value.new_at m' c ha hb t l).2

end Cert.Proof.ScanClaims
-- ==== Proof.Norms.lean ====
/-
  The gradient of an RMS norm, as the kernel writes it and as the chain rule writes it, over the extended reals; the two agree
  where the values are real numbers. Also: the operations at real numbers.
-/
module

public import Idealize.ShloMosaic.Lib.Pointwise
public import Idealize.ShloMosaic.Lib.KernelVsHost

@[expose] public section
noncomputable section
open Idealize.ShloMosaic

namespace Cert.Norms

/-! ## Operations at real numbers -/

theorem div_real (a : ℝ) {b : ℝ} (h : b ≠ 0) : Ideal.div (a : EReal) (b : EReal) = ((a / b : ℝ) : EReal) := by
  rw [Ideal.div_coe h, ← EReal.coe_mul]; congr 1; ring

theorem rsqrt_real {a : ℝ} (h : 0 < a) : Ideal.rsqrt (a : EReal) = (((Real.sqrt a)⁻¹ : ℝ) : EReal) := by
  rw [Ideal.rsqrt_coe, if_neg (not_lt.mpr h.le), if_neg h.ne']

theorem sum_real {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of products of real numbers is a real number. -/
theorem dot_real {n : ℕ} {f g : Fin n → EReal} (hf : ∀ k, ∃ r : ℝ, f k = (r : EReal)) (hg : ∀ k, ∃ r : ℝ, g k = (r : EReal)) :
    ∃ r : ℝ, ∑ k, f k * g k = (r : EReal) := by
  choose f' hf using hf
  choose g' hg using hg
  refine ⟨∑ k, f' k * g' k, ?_⟩
  rw [← sum_real]
  exact Finset.sum_congr rfl fun k _ => by rw [hf, hg, EReal.coe_mul]

/-- The width of a row, as the programs spell it. -/
def width : EReal := Ideal.ofBits .f32 0x44800000#32
/-- The small number added to the mean of the squares, as the programs spell it. -/
def eps : EReal := Ideal.ofBits .f32 0x358637BD#32
/-- Minus one half, as the programs spell it. -/
def minusHalf : EReal := Ideal.ofBits .f32 0xBF000000#32
/-- One, as the programs spell it. -/
def one : EReal := Ideal.ofBits .f32 0x3F800000#32

theorem width_eq : width = ((1024 : ℝ) : EReal) := by
  unfold width; simp [Ideal.ofBits, Ideal.ieee, ← EReal.coe_mul]; norm_num
theorem minusHalf_eq : minusHalf = ((-(1 / 2) : ℝ) : EReal) := by
  unfold minusHalf; simp [Ideal.ofBits, Ideal.ieee, ← EReal.coe_mul]; norm_num
theorem one_eq : one = ((1 : ℝ) : EReal) := by
  unfold one; simp [Ideal.ofBits, Ideal.ieee, ← EReal.coe_mul]; norm_num
theorem eps_eq : ∃ e : ℝ, 0 < e ∧ eps = (e : EReal) := by
  refine ⟨_, ?_, (by unfold eps; simp [Ideal.ofBits, Ideal.ieee]; rfl)⟩
  norm_num

/-! ## The RMS norm -/

/-- The reciprocal of the root of the mean square of a row. -/
def inv (x : Fin 1024 → EReal) : EReal := Ideal.rsqrt (Ideal.div (∑ k, x k * x k) width + eps)

/-- The gradient of the norm's input, as the kernel writes it. -/
def back (d g x : Fin 1024 → EReal) (l : Fin 1024) : EReal :=
  inv x * (d l * g l) - x l * (inv x * inv x * inv x) * Ideal.div (∑ k, d k * g k * x k) width

/-- The part of the gradient that comes through the mean square. -/
def through (d g x : Fin 1024 → EReal) : EReal :=
  Ideal.div ((∑ k, x k * (d k * g k)) * (minusHalf * Ideal.div (inv x) (Ideal.div (∑ k, x k * x k) width + eps))) width

/-- The gradient of the norm's input, as the chain rule writes it. -/
def chain (d g x : Fin 1024 → EReal) (l : Fin 1024) : EReal :=
  d l * g l * inv x + x l * through d g x + through d g x * x l

/-- The mean square of real numbers, with the small number added, is a positive real number. -/
theorem mean_pos (x : Fin 1024 → ℝ) : ∃ μ : ℝ, 0 < μ ∧ Ideal.div (∑ k, (x k : EReal) * (x k : EReal)) width + eps = (μ : EReal) := by
  obtain ⟨e, he, h⟩ := eps_eq
  refine ⟨(∑ k, x k * x k) / 1024 + e, ?_, ?_⟩
  · have : 0 ≤ ∑ k, x k * x k := Finset.sum_nonneg fun k _ => mul_self_nonneg (x k)
    positivity
  · simp only [← EReal.coe_mul]
    rw [sum_real, width_eq, h, div_real _ (by norm_num), ← EReal.coe_add]

theorem inv_real (x : Fin 1024 → ℝ) : ∃ ρ : ℝ, inv (fun k => (x k : EReal)) = (ρ : EReal) := by
  obtain ⟨μ, hμ, e⟩ := mean_pos x
  exact ⟨_, by unfold inv; rw [e, rsqrt_real hμ]⟩

/-- The two ways to write the gradient agree at real numbers, and are real. -/
theorem back_chain (d g x : Fin 1024 → ℝ) (l : Fin 1024) :
    ∃ z : ℝ, back (fun k => (d k : EReal)) (fun k => (g k : EReal)) (fun k => (x k : EReal)) l = (z : EReal)
      ∧ chain (fun k => (d k : EReal)) (fun k => (g k : EReal)) (fun k => (x k : EReal)) l = (z : EReal) := by
  obtain ⟨μ, hμ, e⟩ := mean_pos x
  have hi : inv (fun k => (x k : EReal)) = (((Real.sqrt μ)⁻¹ : ℝ) : EReal) := by unfold inv; rw [e, rsqrt_real hμ]
  have hs : 0 < Real.sqrt μ := Real.sqrt_pos.mpr hμ
  have hq : Real.sqrt μ * Real.sqrt μ = μ := Real.mul_self_sqrt hμ.le
  have sum_eq : ∑ k, x k * (d k * g k) = ∑ k, d k * g k * x k := Finset.sum_congr rfl fun k _ => by ring
  refine ⟨(Real.sqrt μ)⁻¹ * (d l * g l) - x l * ((Real.sqrt μ)⁻¹ * (Real.sqrt μ)⁻¹ * (Real.sqrt μ)⁻¹) * ((∑ k, d k * g k * x k) / 1024), ?_, ?_⟩
  · unfold back
    rw [hi]
    simp only [← EReal.coe_mul]
    rw [sum_real, width_eq, div_real _ (by norm_num), ← EReal.coe_mul, ← EReal.coe_sub]
  · unfold chain through
    rw [e, hi]
    simp only [← EReal.coe_mul]
    rw [sum_real, width_eq, minusHalf_eq, div_real _ hμ.ne', ← EReal.coe_mul, ← EReal.coe_mul, div_real _ (by norm_num), ← EReal.coe_mul,
      ← EReal.coe_mul, ← EReal.coe_add, ← EReal.coe_add, sum_eq]
    congr 1
    generalize ∑ k, d k * g k * x k = S
    rw [show (Real.sqrt μ)⁻¹ / μ = (Real.sqrt μ)⁻¹ * (Real.sqrt μ)⁻¹ * (Real.sqrt μ)⁻¹ by rw [div_eq_mul_inv, show μ⁻¹ = (Real.sqrt μ)⁻¹ * (Real.sqrt μ)⁻¹ by rw [← mul_inv, hq]]; ring]
    ring

/-- Where every number is real the kernel's gradient is the chain rule's. -/
theorem back_eq_chain {d g x : Fin 1024 → EReal} (hd : ∀ k, ∃ r : ℝ, d k = (r : EReal)) (hg : ∀ k, ∃ r : ℝ, g k = (r : EReal))
    (hx : ∀ k, ∃ r : ℝ, x k = (r : EReal)) (l : Fin 1024) : back d g x l = chain d g x l := by
  choose d' hd using hd
  choose g' hg using hg
  choose x' hx using hx
  obtain ⟨z, h1, h2⟩ := back_chain d' g' x' l
  rw [funext hd, funext hg, funext hx, h1, h2]

/-- The gate `1 / (1 + exp (-t))`. -/
def sigm (t : EReal) : EReal := Ideal.div 1 (1 + Ideal.exp (-t))

theorem sigm_real (t : ℝ) : ∃ s : ℝ, sigm (t : EReal) = (s : EReal) := by
  unfold sigm
  rw [← EReal.coe_neg, Ideal.exp_coe, ← EReal.coe_one, ← EReal.coe_add, div_real _ (by positivity)]
  exact ⟨_, rfl⟩

end Cert.Norms
end
-- ==== Proof.ConvGate.lean ====
/-
  The gradient of a gated short convolution under an RMS norm. The forward pass is `z = B · (w * (C · h) + b)` and
  `z · inv(z) · g` in every row, the convolution going back two rows. The kernel goes through tiles of 256 rows, reads the last
  eight rows of the previous tile, and keeps five sums over rows in buffers of their own.
-/
module

public import proofs.«01_k».proof.Defs
public import proofs.«01_k».proof.Proof.Gen.ConvGateIdeal.Value
public import proofs.«01_k».proof.Proof.Gen.ConvGateRefIdeal.Run
public import proofs.«01_k».proof.Proof.Gen.ConvGateRefIdeal.Read
public import proofs.«01_k».proof.Proof.Norms
public import proofs.«01_k».proof.Proof.Finite
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ConvGateIdeal.Rows

open Cert.ConvGateIdeal Cert.ConvGateIdeal.Gen
open Cert.Norms

/-- A column of quarter `q`. -/
def quarter (q : ℕ) (hq : q < 4) (k : Fin 1024) : Fin 4096 := ⟨1024 * q + k.val, by omega⟩

/-- The convolution's input, `s` rows back; zero before the first row. -/
def delayed (p : S2048x4096.Idx → EReal) (s : ℕ) (r : Fin 2048) (l : Fin 1024) : EReal :=
  if h : s ≤ r.val then p (ix2 ⟨r.val - s, by omega⟩ (quarter 2 (by decide) l)) * p (ix2 ⟨r.val - s, by omega⟩ (quarter 3 (by decide) l)) else 0

/-- The convolution's input. -/
def input (p : S2048x4096.Idx → EReal) (r : Fin 2048) (l : Fin 1024) : EReal :=
  p (ix2 r (quarter 2 (by decide) l)) * p (ix2 r (quarter 3 (by decide) l))

/-- The convolution. -/
def conv (p : S2048x4096.Idx → EReal) (w : S3x1024.Idx → EReal) (b : S1024.Idx → EReal) (r : Fin 2048) (l : Fin 1024) : EReal :=
  w (ix2 0 l) * delayed p 2 r l + w (ix2 1 l) * delayed p 1 r l + w (ix2 2 l) * input p r l + b (ix1 l)

variable (m : (ℓ : Loc nD τ sig) → Buf (Elt Ideal) ℓ)

abbrev arg0 (c : Dev nD) : S2048x2048.Idx → EReal := m ((c : Thread nD τ).loc main_arg0)
abbrev arg1 (c : Dev nD) : S2048x4096.Idx → EReal := m ((c : Thread nD τ).loc main_arg1)
abbrev arg2 (c : Dev nD) : S3x1024.Idx → EReal := m ((c : Thread nD τ).loc main_arg2)
abbrev arg3 (c : Dev nD) : S1024.Idx → EReal := m ((c : Thread nD τ).loc main_arg3)
abbrev arg4 (c : Dev nD) : S1024.Idx → EReal := m ((c : Thread nD τ).loc main_arg4)

/-! ## The windows' blocks at an index -/

theorem idx_facts : ∀ t : Fin cfg0.N, (grid0.coords t 0).val = t.val
    ∧ win0_0.index t (0 : Fin 2) = t.val ∧ win0_0.index t (1 : Fin 2) = 1
    ∧ win0_1.index t (0 : Fin 2) = t.val ∧ win0_1.index t (1 : Fin 2) = 1
    ∧ win0_2.index t (0 : Fin 2) = t.val ∧ win0_2.index t (1 : Fin 2) = 2
    ∧ win0_3.index t (0 : Fin 2) = t.val ∧ win0_3.index t (1 : Fin 2) = 3
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 32 * t.val - 1 ∧ win0_7.index t (1 : Fin 2) = 2
    ∧ win0_8.index t (0 : Fin 2) = 32 * t.val - 1 ∧ win0_8.index t (1 : Fin 2) = 3
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0 :=
  (by decide +kernel : ∀ t : Fin grid0.N, _)

theorem lt_8 (t : Fin cfg0.N) : t.val < 8 := t.isLt

/-- Row `r` of tile `t`. -/
def row (t : Fin cfg0.N) (r : Fin 256) : Fin 2048 := ⟨256 * t.val + r.val, by have := lt_8 t; omega⟩

/-- Row `r` of the eight rows before tile `t`. -/
def before (t : Fin cfg0.N) (r : Fin 8) : Fin 2048 := ⟨8 * (32 * t.val - 1) + r.val, by have := lt_8 t; omega⟩

/-- A column of the second half. -/
def right (k : Fin 1024) : Fin 2048 := ⟨1024 + k.val, by omega⟩

theorem blk0 (c : Dev nD) (t : Fin cfg0.N) (r : Fin 256) (l : Fin 1024) : iblk m c 0 t (ix2 r l) = arg0 m c (ix2 (row t r) (right l)) := by
  blk_ext! [iblk, V, idx_facts t, row, right]

theorem blk1 (c : Dev nD) (t : Fin cfg0.N) (r : Fin 256) (l : Fin 1024) :
    iblk m c 1 t (ix2 r l) = arg1 m c (ix2 (row t r) (quarter 1 (by decide) l)) := by
  blk_ext! [iblk, V, idx_facts t, row, quarter]

theorem blk2 (c : Dev nD) (t : Fin cfg0.N) (r : Fin 256) (l : Fin 1024) :
    iblk m c 2 t (ix2 r l) = arg1 m c (ix2 (row t r) (quarter 2 (by decide) l)) := by
  blk_ext! [iblk, V, idx_facts t, row, quarter]

theorem blk3 (c : Dev nD) (t : Fin cfg0.N) (r : Fin 256) (l : Fin 1024) :
    iblk m c 3 t (ix2 r l) = arg1 m c (ix2 (row t r) (quarter 3 (by decide) l)) := by
  blk_ext! [iblk, V, idx_facts t, row, quarter]

theorem blk4 (c : Dev nD) (t : Fin cfg0.N) (k : Fin 3) (l : Fin 1024) : iblk m c 4 t (ix2 k l) = arg2 m c (ix2 k l) := by
  blk_ext! [iblk, V, idx_facts t]

theorem blk5 (c : Dev nD) (t : Fin cfg0.N) (l : Fin 1024) : iblk m c 5 t (ix2 0 l) = arg3 m c (ix1 l) := by
  blk_ext! [iblk, V, idx_facts t]

theorem blk6 (c : Dev nD) (t : Fin cfg0.N) (l : Fin 1024) : iblk m c 6 t (ix2 0 l) = arg4 m c (ix1 l) := by
  blk_ext! [iblk, V, idx_facts t]

theorem blk7 (c : Dev nD) (t : Fin cfg0.N) (r : Fin 8) (l : Fin 1024) :
    iblk m c 7 t (ix2 r l) = arg1 m c (ix2 (before t r) (quarter 2 (by decide) l)) := by
  blk_ext! [iblk, V, idx_facts t, before, quarter]

theorem blk8 (c : Dev nD) (t : Fin cfg0.N) (r : Fin 8) (l : Fin 1024) :
    iblk m c 8 t (ix2 r l) = arg1 m c (ix2 (before t r) (quarter 3 (by decide) l)) := by
  blk_ext! [iblk, V, idx_facts t, before, quarter]

/-! ## The convolution -/

theorem mask : ∀ n : Fin 8, ((Scalar.extui (Scalar.cmpi .sgt (BitVec.ofNat 32 n.val) 0#32) : BitVec 32)).toInt
    = if 0 < n.val then 1 else 0 := by decide

theorem pay12_at (c : Dev nD) (t : Fin cfg0.N) (r : Fin 256) (l : Fin 1024) :
    k0_pay12 (F := Ideal) (iblk m c 2 t) (iblk m c 3 t) (ix2 r l) = input (arg1 m c) (row t r) l := by
  pointwise [k0_pay12]
  rw [blk2, blk3]; rfl

/-- Row `8 + r - s` of the previous tile's last rows (times the mask) followed by the tile is the input `s` rows back. -/
theorem ext_row (c : Dev nD) (t : Fin cfg0.N) (k s : ℕ) (r : Fin 256) (l : Fin 1024) (hk : k + s = 8 + r.val) (hlt : ¬ k < 8 → k - 8 < 256)
    (v7 v8 : S8x1024.Idx → EReal) (h7 : v7 = iblk m c 7 t) (h8 : v8 = iblk m c 8 t) :
    (if h : k < 8 then v7 (ix2 ⟨k, h⟩ l) * v8 (ix2 ⟨k, h⟩ l)
          * (((if 0 < t.val then (1 : ℤ) else 0 : ℤ) : ℝ) : EReal)
      else k0_pay12 (F := Ideal) (iblk m c 2 t) (iblk m c 3 t) (ix2 ⟨k - 8, hlt h⟩ l)) = delayed (arg1 m c) s (row t r) l := by
  have ht := lt_8 t
  subst h7 h8
  by_cases h : k < 8
  · rw [dif_pos h, blk7, blk8]
    by_cases h0 : 0 < t.val
    · rw [if_pos h0]
      simp only [Int.cast_one, EReal.coe_one, mul_one]
      have hs : s ≤ (row t r).val := by show s ≤ 256 * t.val + r.val; omega
      have e : before t ⟨k, h⟩ = ⟨(row t r).val - s, by omega⟩ :=
        Fin.ext (by show 8 * (32 * t.val - 1) + k = 256 * t.val + r.val - s; omega)
      unfold delayed
      rw [dif_pos hs, e]
    · rw [if_neg h0]
      simp only [Int.cast_zero, EReal.coe_zero, mul_zero]
      have hs : ¬ s ≤ (row t r).val := by show ¬ s ≤ 256 * t.val + r.val; omega
      unfold delayed
      rw [dif_neg hs]
  · rw [dif_neg h, pay12_at]
    have hs : s ≤ (row t r).val := by show s ≤ 256 * t.val + r.val; omega
    have e : row t ⟨k - 8, hlt h⟩ = ⟨(row t r).val - s, by omega⟩ :=
      Fin.ext (by show 256 * t.val + (k - 8) = 256 * t.val + r.val - s; omega)
    unfold delayed input
    rw [dif_pos hs, e]

theorem pay14_at (c : Dev nD) (t : Fin cfg0.N) (r : Fin 256) (l : Fin 1024) :
    k0_pay14 (F := Ideal) (grid0.coords t) (iblk m c 2 t) (iblk m c 3 t) (iblk m c 7 t) (iblk m c 8 t) (ix2 r l) = delayed (arg1 m c) 1 (row t r) l := by
  pointwise [k0_pay14, k0_pay13]
  simp only [(idx_facts t).1, mask ⟨t.val, lt_8 t⟩]
  exact ext_row m c t _ 1 r l (by omega) (by omega) _ _ rfl rfl

theorem pay15_at (c : Dev nD) (t : Fin cfg0.N) (r : Fin 256) (l : Fin 1024) :
    k0_pay15 (F := Ideal) (grid0.coords t) (iblk m c 2 t) (iblk m c 3 t) (iblk m c 7 t) (iblk m c 8 t) (ix2 r l) = delayed (arg1 m c) 2 (row t r) l := by
  pointwise [k0_pay15, k0_pay13]
  simp only [(idx_facts t).1, mask ⟨t.val, lt_8 t⟩]
  exact ext_row m c t _ 2 r l (by omega) (by omega) _ _ rfl rfl

/-- The convolution over tile `t`, as the kernel holds it. -/
abbrev cblk (c : Dev nD) (t : Fin cfg0.N) : S256x1024.Idx → EReal := k0_pay16 (F := Ideal) (grid0.coords t) (iblk m c 2 t) (iblk m c 3 t) (iblk m c 4 t) (iblk m c 5 t) (iblk m c 7 t) (iblk m c 8 t)

/-- The norm's input over tile `t`, as the kernel holds it. -/
abbrev zblk (c : Dev nD) (t : Fin cfg0.N) : S256x1024.Idx → EReal := k0_pay17 (F := Ideal) (grid0.coords t) (iblk m c 1 t) (iblk m c 2 t) (iblk m c 3 t) (iblk m c 4 t) (iblk m c 5 t) (iblk m c 7 t) (iblk m c 8 t)

/-- Its squares. -/
abbrev qblk (c : Dev nD) (t : Fin cfg0.N) : S256x1024.Idx → EReal := k0_pay18 (F := Ideal) (grid0.coords t) (iblk m c 1 t) (iblk m c 2 t) (iblk m c 3 t) (iblk m c 4 t) (iblk m c 5 t) (iblk m c 7 t) (iblk m c 8 t)

theorem cblk_at (c : Dev nD) (t : Fin cfg0.N) (r : Fin 256) (l : Fin 1024) :
    cblk m c t (ix2 r l) = conv (arg1 m c) (arg2 m c) (arg3 m c) (row t r) l := by
  pointwise [k0_pay16]
  simp only [pay15_at, pay14_at, pay12_at, blk4, blk5]
  rfl

/-- A row before the norm. -/
def gated (p : S2048x4096.Idx → EReal) (w : S3x1024.Idx → EReal) (b : S1024.Idx → EReal) (r : Fin 2048) (l : Fin 1024) : EReal :=
  p (ix2 r (quarter 1 (by decide) l)) * conv p w b r l

theorem zblk_at (c : Dev nD) (t : Fin cfg0.N) (r : Fin 256) (l : Fin 1024) :
    zblk m c t (ix2 r l) = gated (arg1 m c) (arg2 m c) (arg3 m c) (row t r) l := by
  have e := cblk_at m c t r l
  unfold cblk at e
  pointwise [k0_pay17]
  rw [e, blk1]; rfl

theorem qblk_at (c : Dev nD) (t : Fin cfg0.N) (r : Fin 256) (l : Fin 1024) :
    qblk m c t (ix2 r l) = gated (arg1 m c) (arg2 m c) (arg3 m c) (row t r) l * gated (arg1 m c) (arg2 m c) (arg3 m c) (row t r) l := by
  have e := zblk_at m c t r l
  unfold zblk at e
  pointwise [k0_pay18]
  rw [e]

/-! ## The results -/

/-- The gradient of the norm's input. -/
def dnorm (d : S2048x2048.Idx → EReal) (p : S2048x4096.Idx → EReal) (w : S3x1024.Idx → EReal) (b g : S1024.Idx → EReal) (r : Fin 2048) (l : Fin 1024) : EReal :=
  back (fun k => d (ix2 r (right k))) (fun k => g (ix1 k)) (gated p w b r) l

/-- The cotangent of the gate `B`. -/
def dgate (d : S2048x2048.Idx → EReal) (p : S2048x4096.Idx → EReal) (w : S3x1024.Idx → EReal) (b g : S1024.Idx → EReal) (j : S2048x1024.Idx) : EReal :=
  dnorm d p w b g (j 0) (j 1) * conv p w b (j 0) (j 1)

/-- The cotangent of the convolution. -/
def dconv (d : S2048x2048.Idx → EReal) (p : S2048x4096.Idx → EReal) (w : S3x1024.Idx → EReal) (b g : S1024.Idx → EReal) (j : S2048x1024.Idx) : EReal :=
  dnorm d p w b g (j 0) (j 1) * p (ix2 (j 0) (quarter 1 (by decide) (j 1)))

/-- A sum over all rows. -/
def total (f : Fin 2048 → Fin 1024 → EReal) (j : S1x1024.Idx) : EReal := ∑ r, f r (j 1)

/-- A row's part of the cotangent of `g`. -/
def part (d : S2048x2048.Idx → EReal) (p : S2048x4096.Idx → EReal) (w : S3x1024.Idx → EReal) (b : S1024.Idx → EReal) (r : Fin 2048) (l : Fin 1024) : EReal :=
  d (ix2 r (right l)) * gated p w b r l * inv (gated p w b r)

theorem pay20_at (c : Dev nD) (t : Fin cfg0.N) (r : Fin 256) (l : Fin 1024) :
    k0_pay20 (F := Ideal) (iblk m c 0 t) (k0_pay11 (iblk m c 6 t)) (zblk m c t) (qblk m c t) (ix2 r l)
      = dnorm (arg0 m c) (arg1 m c) (arg2 m c) (arg3 m c) (arg4 m c) (row t r) l := by
  have ez := zblk_at m c t
  have eq := qblk_at m c t
  generalize zblk m c t = z at *
  generalize qblk m c t = q at *
  pointwise [k0_pay20, k0_pay19, k0_pay11]
  simp only [ez, eq, blk0, blk6]
  rfl

theorem pay21_at (c : Dev nD) (t : Fin cfg0.N) (r : Fin 256) (l : Fin 1024) :
    k0_pay21 (F := Ideal) (iblk m c 0 t) (iblk m c 1 t) (k0_pay11 (iblk m c 6 t)) (zblk m c t) (qblk m c t) (ix2 r l)
      = dconv (arg0 m c) (arg1 m c) (arg2 m c) (arg3 m c) (arg4 m c) (ix2 (row t r) l) := by
  have e := pay20_at m c t r l
  generalize zblk m c t = z at *
  generalize qblk m c t = q at *
  pointwise [k0_pay21]
  rw [e, blk1]; rfl

theorem pay27_at (c : Dev nD) (t : Fin cfg0.N) (r : Fin 256) (l : Fin 1024) :
    k0_pay27 (F := Ideal) (iblk m c 0 t) (k0_pay11 (iblk m c 6 t)) (cblk m c t) (zblk m c t) (qblk m c t) (ix2 r l)
      = dgate (arg0 m c) (arg1 m c) (arg2 m c) (arg3 m c) (arg4 m c) (ix2 (row t r) l) := by
  have e := pay20_at m c t r l
  have e' := cblk_at m c t r l
  generalize cblk m c t = v at *
  generalize zblk m c t = z at *
  generalize qblk m c t = q at *
  pointwise [k0_pay27]
  rw [e, e']; rfl

theorem emb9 (t : Fin cfg0.N) (y : S256x1024.Idx) : ((cfg0.win 9).blk t).view.emb y = ix2 (n0 := 2048) (n1 := 1024) (row t (y 0)) (y 1) := by
  have e := idx_facts t
  funext a; apply Fin.ext
  match a with
  | ⟨0, _⟩ => show win0_9.index t (0 : Fin 2) * 256 + 1 * (y 0).val = 256 * t.val + (y 0).val; omega
  | ⟨1, _⟩ => show win0_9.index t (1 : Fin 2) * 1024 + 1 * (y 1).val = (y 1).val; omega

theorem emb10 (t : Fin cfg0.N) (y : S256x1024.Idx) : ((cfg0.win 10).blk t).view.emb y = ix2 (n0 := 2048) (n1 := 1024) (row t (y 0)) (y 1) := by
  have e := idx_facts t
  funext a; apply Fin.ext
  match a with
  | ⟨0, _⟩ => show win0_10.index t (0 : Fin 2) * 256 + 1 * (y 0).val = 256 * t.val + (y 0).val; omega
  | ⟨1, _⟩ => show win0_10.index t (1 : Fin 2) * 1024 + 1 * (y 1).val = (y 1).val; omega

theorem out9 (c : Dev nD) (t : Fin cfg0.N) (y : S256x1024.Idx) : (outsAt0 m c t.val t.isLt).1 y
    = k0_pay27 (F := Ideal) (iblk m c 0 t) (k0_pay11 (iblk m c 6 t)) (cblk m c t) (zblk m c t) (qblk m c t) y := by
  by_cases h : t.val % 8 = 0
  · rw [outsAt0_A m c t h]; frame_out
  · rw [outsAt0_B m c t h]; frame_out

theorem out10 (c : Dev nD) (t : Fin cfg0.N) (y : S256x1024.Idx) : (outsAt0 m c t.val t.isLt).2.1 y
    = k0_pay21 (F := Ideal) (iblk m c 0 t) (iblk m c 1 t) (k0_pay11 (iblk m c 6 t)) (zblk m c t) (qblk m c t) y := by
  by_cases h : t.val % 8 = 0
  · rw [outsAt0_A m c t h]; frame_out
  · rw [outsAt0_B m c t h]; frame_out

theorem final9 (c : Dev nD) : (dats m 0 c).arrAt 9 cfg0.N = dgate (arg0 m c) (arg1 m c) (arg2 m c) (arg3 m c) (arg4 m c) := by
  refine (dats m 0 c).arrAt_eq_of_covers 9 _ (by decide +kernel) (fun t _ y => ?_)
  show (dats m 0 c).after 9 t y = _
  rw [after0_9, emb9, out9]
  exact (congrArg (k0_pay27 (F := Ideal) _ _ (cblk m c t) (zblk m c t) (qblk m c t)) (eq_ix2 (n0 := 256) (n1 := 1024) y)).trans (pay27_at m c t (y 0) (y 1))

theorem final10 (c : Dev nD) : (dats m 0 c).arrAt 10 cfg0.N = dconv (arg0 m c) (arg1 m c) (arg2 m c) (arg3 m c) (arg4 m c) := by
  refine (dats m 0 c).arrAt_eq_of_covers 10 _ (by decide +kernel) (fun t _ y => ?_)
  show (dats m 0 c).after 10 t y = _
  rw [after0_10, emb10, out10]
  exact (congrArg (k0_pay21 (F := Ideal) _ _ _ (zblk m c t) (qblk m c t)) (eq_ix2 (n0 := 256) (n1 := 1024) y)).trans (pay21_at m c t (y 0) (y 1))

/-! ## The sums over rows -/

/-- A buffer that starts at zero and takes the sum over the tile's rows at every tile holds the sum over all rows in the end. -/
theorem total_of_steps (o : (n : ℕ) → n < cfg0.N → S1x1024.Idx → EReal) (f : Fin 2048 → Fin 1024 → EReal)
    (hA : ∀ t : Fin cfg0.N, t.val % 8 = 0 → ∀ l, o t.val t.isLt (ix2 0 l) = 0 + ∑ r : Fin 256, f (row t r) l)
    (hB : ∀ t : Fin cfg0.N, ¬ t.val % 8 = 0 → ∀ l, o t.val t.isLt (ix2 0 l)
      = o (t.val - 1) (Nat.lt_of_le_of_lt (Nat.sub_le _ _) t.isLt) (ix2 0 l) + ∑ r : Fin 256, f (row t r) l)
    (t : Fin cfg0.N) (ht : t.val + 1 = cfg0.N) (y : S1x1024.Idx) : o t.val t.isLt y = total f y := by
  obtain ⟨l, rfl⟩ : ∃ l : Fin 1024, y = ix2 0 l := ⟨y 1, Cert.Finite.row_idx y (y 1) rfl⟩
  rw [Pipeline.eq_sum_fin_of_reset_step_apply_last (M := EReal) (fun n h (l : Fin 1024) => o n h (ix2 0 l)) 8 (fun _ => 0) _ hA hB
    (le_of_eq N_0) t ht l, zero_add]
  unfold total
  refine Fin.sum_mul_add_congr (S := 8) (n := 256) fun s k hl => ?_
  have e : row s k = ⟨s.val * 256 + k.val, hl⟩ := Fin.ext (by show 256 * s.val + k.val = s.val * 256 + k.val; omega)
  exact congrArg (f · l) e

theorem pay22_at (c : Dev nD) (t : Fin cfg0.N) (l : Fin 1024) :
    k0_pay22 (F := Ideal) (iblk m c 0 t) (zblk m c t) (qblk m c t) (ix2 0 l) = ∑ r : Fin 256, part (arg0 m c) (arg1 m c) (arg2 m c) (arg3 m c) (row t r) l := by
  have ez := zblk_at m c t
  have eq := qblk_at m c t
  generalize zblk m c t = z at *
  generalize qblk m c t = q at *
  pointwise [k0_pay22, k0_pay19]
  simp only [ez, eq, blk0]
  rfl

theorem pay23_at (c : Dev nD) (t : Fin cfg0.N) (l : Fin 1024) :
    k0_pay23 (F := Ideal) (iblk m c 0 t) (iblk m c 1 t) (k0_pay11 (iblk m c 6 t)) (zblk m c t) (qblk m c t) (ix2 0 l)
      = ∑ r : Fin 256, dconv (arg0 m c) (arg1 m c) (arg2 m c) (arg3 m c) (arg4 m c) (ix2 (row t r) l) := by
  have e := fun r => pay21_at m c t r l
  generalize zblk m c t = z at *
  generalize qblk m c t = q at *
  pointwise [k0_pay23]
  simp only [e]

theorem pay24_at (c : Dev nD) (t : Fin cfg0.N) (l : Fin 1024) :
    k0_pay24 (F := Ideal) (iblk m c 0 t) (iblk m c 1 t) (k0_pay11 (iblk m c 6 t)) (k0_pay15 (grid0.coords t) (iblk m c 2 t) (iblk m c 3 t) (iblk m c 7 t) (iblk m c 8 t)) (zblk m c t) (qblk m c t) (ix2 0 l)
      = ∑ r : Fin 256, dconv (arg0 m c) (arg1 m c) (arg2 m c) (arg3 m c) (arg4 m c) (ix2 (row t r) l) * delayed (arg1 m c) 2 (row t r) l := by
  have e := fun r => pay21_at m c t r l
  generalize zblk m c t = z at *
  generalize qblk m c t = q at *
  pointwise [k0_pay24]
  simp only [e, pay15_at]

theorem pay25_at (c : Dev nD) (t : Fin cfg0.N) (l : Fin 1024) :
    k0_pay25 (F := Ideal) (iblk m c 0 t) (iblk m c 1 t) (k0_pay11 (iblk m c 6 t)) (k0_pay14 (grid0.coords t) (iblk m c 2 t) (iblk m c 3 t) (iblk m c 7 t) (iblk m c 8 t)) (zblk m c t) (qblk m c t) (ix2 0 l)
      = ∑ r : Fin 256, dconv (arg0 m c) (arg1 m c) (arg2 m c) (arg3 m c) (arg4 m c) (ix2 (row t r) l) * delayed (arg1 m c) 1 (row t r) l := by
  have e := fun r => pay21_at m c t r l
  generalize zblk m c t = z at *
  generalize qblk m c t = q at *
  pointwise [k0_pay25]
  simp only [e, pay14_at]

theorem pay26_at (c : Dev nD) (t : Fin cfg0.N) (l : Fin 1024) :
    k0_pay26 (F := Ideal) (iblk m c 0 t) (iblk m c 1 t) (k0_pay11 (iblk m c 6 t)) (k0_pay12 (iblk m c 2 t) (iblk m c 3 t)) (zblk m c t) (qblk m c t) (ix2 0 l)
      = ∑ r : Fin 256, dconv (arg0 m c) (arg1 m c) (arg2 m c) (arg3 m c) (arg4 m c) (ix2 (row t r) l) * input (arg1 m c) (row t r) l := by
  have e := fun r => pay21_at m c t r l
  generalize zblk m c t = z at *
  generalize qblk m c t = q at *
  pointwise [k0_pay26]
  simp only [e, pay12_at]

theorem final11 (c : Dev nD) : (dats m 0 c).arrAt 11 cfg0.N = total (part (arg0 m c) (arg1 m c) (arg2 m c) (arg3 m c)) := by
  refine (dats m 0 c).arrAt_eq_of_covers 11 _ (by decide +kernel) (fun t hf y => ?_)
  have ht : t.val + 1 = cfg0.N := by have := (flush0_11 t).mp hf; have := lt_8 t; show t.val + 1 = 8; omega
  have ey : ((cfg0.win 11).blk t).view.emb y = y := by
    have e := idx_facts t
    funext a; apply Fin.ext
    match a with
    | ⟨0, _⟩ => show win0_11.index t (0 : Fin 2) * 1 + 1 * (y 0).val = (y 0).val; omega
    | ⟨1, _⟩ => show win0_11.index t (1 : Fin 2) * 1024 + 1 * (y 1).val = (y 1).val; omega
  show (dats m 0 c).after 11 t y = _
  rw [after0_11, ey]
  refine total_of_steps (fun n h => (outsAt0 m c n h).2.2.1) _ (fun t h l => ?_) (fun t h l => ?_) t ht y
  · rw [← pay22_at m c t l]
    rw [outsAt0_A m c t h]; frame_out; pointwise [k0_pay6, k0_pay1]
  · rw [← pay22_at m c t l]
    rw [outsAt0_B m c t h]; frame_out; pointwise [k0_pay6]

theorem final12 (c : Dev nD) : (dats m 0 c).arrAt 12 cfg0.N = total (fun r l => dconv (arg0 m c) (arg1 m c) (arg2 m c) (arg3 m c) (arg4 m c) (ix2 r l)) := by
  refine (dats m 0 c).arrAt_eq_of_covers 12 _ (by decide +kernel) (fun t hf y => ?_)
  have ht : t.val + 1 = cfg0.N := by have := (flush0_12 t).mp hf; have := lt_8 t; show t.val + 1 = 8; omega
  have ey : ((cfg0.win 12).blk t).view.emb y = y := by
    have e := idx_facts t
    funext a; apply Fin.ext
    match a with
    | ⟨0, _⟩ => show win0_12.index t (0 : Fin 2) * 1 + 1 * (y 0).val = (y 0).val; omega
    | ⟨1, _⟩ => show win0_12.index t (1 : Fin 2) * 1024 + 1 * (y 1).val = (y 1).val; omega
  show (dats m 0 c).after 12 t y = _
  rw [after0_12, ey]
  refine total_of_steps (fun n h => (outsAt0 m c n h).2.2.2.1) _ (fun t h l => ?_) (fun t h l => ?_) t ht y
  · rw [← pay23_at m c t l]
    rw [outsAt0_A m c t h]; frame_out; pointwise [k0_pay7, k0_pay2]
  · rw [← pay23_at m c t l]
    rw [outsAt0_B m c t h]; frame_out; pointwise [k0_pay7]

theorem final13 (c : Dev nD) : (dats m 0 c).arrAt 13 cfg0.N = total (fun r l => dconv (arg0 m c) (arg1 m c) (arg2 m c) (arg3 m c) (arg4 m c) (ix2 r l) * delayed (arg1 m c) 2 r l) := by
  refine (dats m 0 c).arrAt_eq_of_covers 13 _ (by decide +kernel) (fun t hf y => ?_)
  have ht : t.val + 1 = cfg0.N := by have := (flush0_13 t).mp hf; have := lt_8 t; show t.val + 1 = 8; omega
  have ey : ((cfg0.win 13).blk t).view.emb y = y := by
    have e := idx_facts t
    funext a; apply Fin.ext
    match a with
    | ⟨0, _⟩ => show win0_13.index t (0 : Fin 2) * 1 + 1 * (y 0).val = (y 0).val; omega
    | ⟨1, _⟩ => show win0_13.index t (1 : Fin 2) * 1024 + 1 * (y 1).val = (y 1).val; omega
  show (dats m 0 c).after 13 t y = _
  rw [after0_13, ey]
  refine total_of_steps (fun n h => (outsAt0 m c n h).2.2.2.2.1) _ (fun t h l => ?_) (fun t h l => ?_) t ht y
  · rw [← pay24_at m c t l]
    rw [outsAt0_A m c t h]; frame_out; pointwise [k0_pay8, k0_pay3]
  · rw [← pay24_at m c t l]
    rw [outsAt0_B m c t h]; frame_out; pointwise [k0_pay8]

theorem final14 (c : Dev nD) : (dats m 0 c).arrAt 14 cfg0.N = total (fun r l => dconv (arg0 m c) (arg1 m c) (arg2 m c) (arg3 m c) (arg4 m c) (ix2 r l) * delayed (arg1 m c) 1 r l) := by
  refine (dats m 0 c).arrAt_eq_of_covers 14 _ (by decide +kernel) (fun t hf y => ?_)
  have ht : t.val + 1 = cfg0.N := by have := (flush0_14 t).mp hf; have := lt_8 t; show t.val + 1 = 8; omega
  have ey : ((cfg0.win 14).blk t).view.emb y = y := by
    have e := idx_facts t
    funext a; apply Fin.ext
    match a with
    | ⟨0, _⟩ => show win0_14.index t (0 : Fin 2) * 1 + 1 * (y 0).val = (y 0).val; omega
    | ⟨1, _⟩ => show win0_14.index t (1 : Fin 2) * 1024 + 1 * (y 1).val = (y 1).val; omega
  show (dats m 0 c).after 14 t y = _
  rw [after0_14, ey]
  refine total_of_steps (fun n h => (outsAt0 m c n h).2.2.2.2.2.1) _ (fun t h l => ?_) (fun t h l => ?_) t ht y
  · rw [← pay25_at m c t l]
    rw [outsAt0_A m c t h]; frame_out; pointwise [k0_pay9, k0_pay4]
  · rw [← pay25_at m c t l]
    rw [outsAt0_B m c t h]; frame_out; pointwise [k0_pay9]

theorem final15 (c : Dev nD) : (dats m 0 c).arrAt 15 cfg0.N = total (fun r l => dconv (arg0 m c) (arg1 m c) (arg2 m c) (arg3 m c) (arg4 m c) (ix2 r l) * input (arg1 m c) r l) := by
  refine (dats m 0 c).arrAt_eq_of_covers 15 _ (by decide +kernel) (fun t hf y => ?_)
  have ht : t.val + 1 = cfg0.N := by have := (flush0_15 t).mp hf; have := lt_8 t; show t.val + 1 = 8; omega
  have ey : ((cfg0.win 15).blk t).view.emb y = y := by
    have e := idx_facts t
    funext a; apply Fin.ext
    match a with
    | ⟨0, _⟩ => show win0_15.index t (0 : Fin 2) * 1 + 1 * (y 0).val = (y 0).val; omega
    | ⟨1, _⟩ => show win0_15.index t (1 : Fin 2) * 1024 + 1 * (y 1).val = (y 1).val; omega
  show (dats m 0 c).after 15 t y = _
  rw [after0_15, ey]
  refine total_of_steps (fun n h => (outsAt0 m c n h).2.2.2.2.2.2) _ (fun t h l => ?_) (fun t h l => ?_) t ht y
  · rw [← pay26_at m c t l]
    rw [outsAt0_A m c t h]; frame_out; pointwise [k0_pay10, k0_pay5]
  · rw [← pay26_at m c t l]
    rw [outsAt0_B m c t h]; frame_out; pointwise [k0_pay10]

end Cert.ConvGateIdeal.Rows

/-! ## The reference -/

namespace Cert.ConvGateRefIdeal.Rows

open Cert.ConvGateRefIdeal Cert.ConvGateRefIdeal.Value Cert.ConvGateRefIdeal.Read
open Cert.Norms
open Cert.ConvGateIdeal.Rows (quarter right delayed input conv gated)

/-- A sum over two axes of size one is the entry. -/
theorem reduce_units (h : S1x1x1024.ReducesTo [0, 1] S1024) (v : S1x1x1024.Idx → EReal) (l : Fin 1024) :
    Ideal.hostReduceAdd h v 0 (ix1 l) = v (ix3 0 0 l) := by
  have key : Finset.univ.filter (fun i => h.drop i = ix1 l) = {ix3 0 0 l} := by
    ext i
    rw [Finset.mem_filter, Finset.mem_singleton]
    constructor
    · rintro ⟨_, e⟩
      funext a; apply Fin.ext
      match a with
      | ⟨0, _⟩ => have : (i 0).val < 1 := (i 0).isLt; show (i 0).val = 0; omega
      | ⟨1, _⟩ => have : (i 1).val < 1 := (i 1).isLt; show (i 1).val = 0; omega
      | ⟨2, _⟩ => exact congrArg Fin.val (congrFun e 0)
    · rintro rfl
      refine ⟨Finset.mem_univ _, ?_⟩
      funext b; apply Fin.ext
      match b with
      | ⟨0, _⟩ => rfl
  unfold Ideal.hostReduceAdd
  rw [key, Finset.sum_singleton, zero_add]

/-- The padded convolution input `k + 2` rows after its start. -/
theorem delayed_eq (p : S2048x4096.Idx → EReal) (s k : ℕ) (r : Fin 2048) (l : Fin 1024) (e : k + s = r.val + 2) (a b : Fin 4096)
    (ha : a = quarter 2 (by decide) l) (hb : b = quarter 3 (by decide) l) (hlt : k - 2 < 2048) (z : EReal) (hz : z = 0) :
    (if h : k < 2 then z else p (ix2 ⟨k - 2, hlt⟩ a) * p (ix2 ⟨k - 2, hlt⟩ b)) = delayed p s r l := by
  subst ha hb hz
  unfold delayed
  by_cases h : s ≤ r.val
  · have e' : (⟨k - 2, hlt⟩ : Fin 2048) = ⟨r.val - s, by omega⟩ := Fin.ext (by show k - 2 = r.val - s; omega)
    rw [dif_neg (by omega), dif_pos h, e']
  · rw [dif_pos (by omega), dif_neg h]

theorem quarter2 (l : Fin 1024) (h : 1024 + (1024 + l.val) < 4096) : (⟨1024 + (1024 + l.val), h⟩ : Fin 4096) = quarter 2 (by decide) l :=
  Fin.ext (by show 1024 + (1024 + l.val) = 1024 * 2 + l.val; omega)

theorem quarter3 (l : Fin 1024) (h : 1024 + (2048 + l.val) < 4096) : (⟨1024 + (2048 + l.val), h⟩ : Fin 4096) = quarter 3 (by decide) l :=
  Fin.ext (by show 1024 + (2048 + l.val) = 1024 * 3 + l.val; omega)

theorem ref33 (p : S2048x4096.Idx → EReal) (w : S3x1024.Idx → EReal) (b : S1024.Idx → EReal) (r : Fin 2048) (l : Fin 1024) :
    val_main_v33 (F := Ideal) p w b (ix2 r l) = conv p w b r l := by
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v0, val_main_cst, val_main_cst, val_main_cst_0]
  have e2 := delayed_eq p 2 r.val r l (by omega) _ _ (quarter2 l (by omega)) (quarter3 l (by omega)) (by omega) 0 rfl
  have e1 := delayed_eq p 1 (1 + r.val) r l (by omega) _ _ (quarter2 l (by omega)) (quarter3 l (by omega)) (by omega) 0 rfl
  rw [e2, e1, quarter2, quarter3]
  unfold conv
  rw [add_assoc, add_assoc, add_comm, ← add_assoc]
  rfl

theorem ref71 (d : S2048x2048.Idx → EReal) (p : S2048x4096.Idx → EReal) (w : S3x1024.Idx → EReal) (b g : S1024.Idx → EReal) (r : Fin 2048) (l : Fin 1024) :
    val_main_v71 (F := Ideal) d p w b g (ix2 r l) = chain (fun k => d (ix2 r (right k))) (fun k => g (ix1 k)) (gated p w b r) l := by
  pointwise [val_main_v71, val_main_v70, val_main_v69, val_main_v68, val_main_v67, val_main_v66, val_main_v65, val_main_v64, val_main_v63, val_main_v62, val_main_v61, val_main_v60, val_main_v59, val_main_v58, val_main_v56, val_main_v55, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v1, val_main_v0, val_main_cst_1, val_main_cst_2, val_main_cst_3, val_main_cst_4, val_main_cst_5, val_main_cst_6, val_main_cst_7, val_main_cst_8, val_main_cst_9]
  simp only [ref33, Fin.sum_univ_one]
  rfl

theorem ref99 (d : S2048x2048.Idx → EReal) (p : S2048x4096.Idx → EReal) (w : S3x1024.Idx → EReal) (b : S1024.Idx → EReal) (l : Fin 1024) :
    val_main_v99 (F := Ideal) d p w b (ix2 0 l) = ∑ r : Fin 2048, gated p w b r l * inv (gated p w b r) * d (ix2 r (right l)) := by
  pointwise [val_main_v99, val_main_v57, val_main_v54, val_main_v53, val_main_v52, val_main_v51, val_main_v47, val_main_v46, val_main_v45, val_main_v44, val_main_v43, val_main_v42, val_main_v41, val_main_v40, val_main_v39, val_main_v38, val_main_v37, val_main_v36, val_main_v35, val_main_v34, val_main_v1, val_main_v0, val_main_cst_1, val_main_cst_2, val_main_cst_3, val_main_cst_4, val_main_cst_5, val_main_cst_6]
  simp only [ref33, Fin.sum_univ_one]
  rfl

theorem ref100 (d : S2048x2048.Idx → EReal) (p : S2048x4096.Idx → EReal) (w : S3x1024.Idx → EReal) (b g : S1024.Idx → EReal) (l : Fin 1024) :
    val_main_v100 (F := Ideal) d p w b g (ix2 0 l) = ∑ r : Fin 2048, val_main_v72 (F := Ideal) d p w b g (ix2 r l) := by
  pointwise [val_main_v100, val_main_v90, val_main_v89, val_main_v88, val_main_v74, val_main_cst_16, val_main_cst_17]
  rw [reduce_units]
  pointwise []

theorem ref103 (d : S2048x2048.Idx → EReal) (p : S2048x4096.Idx → EReal) (w : S3x1024.Idx → EReal) (b g : S1024.Idx → EReal) (l : Fin 1024) :
    val_main_v103 (F := Ideal) d p w b g (ix2 0 l) = ∑ r : Fin 2048, val_main_v72 (F := Ideal) d p w b g (ix2 r l) * input p r l := by
  pointwise [val_main_v103, val_main_v97, val_main_v96, val_main_v95, val_main_v94, val_main_v93, val_main_v92, val_main_v91, val_main_v87, val_main_v86, val_main_v85, val_main_v84, val_main_v83, val_main_v82, val_main_v81, val_main_v80, val_main_v79, val_main_v78, val_main_v77, val_main_v76, val_main_v75, val_main_v74, val_main_v27, val_main_v20, val_main_v11, val_main_v8, val_main_v7, val_main_v6, val_main_v5, val_main_v3, val_main_v2, val_main_v0, val_main_cst, val_main_cst_10, val_main_cst_11, val_main_cst_12, val_main_cst_13, val_main_cst_14, val_main_cst_15, val_main_cst_16, val_main_cst_17, val_main_cst_18, val_main_cst_19, val_main_cst_20]
  rw [reduce_units]
  pointwise []
  simp only [quarter2, quarter3]
  rfl

theorem ref102 (d : S2048x2048.Idx → EReal) (p : S2048x4096.Idx → EReal) (w : S3x1024.Idx → EReal) (b g : S1024.Idx → EReal) (l : Fin 1024) :
    val_main_v102 (F := Ideal) d p w b g (ix2 0 l) = ∑ r : Fin 2048, val_main_v72 (F := Ideal) d p w b g (ix2 r l) * delayed p 1 r l := by
  pointwise [val_main_v102, val_main_v97, val_main_v96, val_main_v95, val_main_v94, val_main_v93, val_main_v92, val_main_v91, val_main_v87, val_main_v86, val_main_v85, val_main_v84, val_main_v83, val_main_v82, val_main_v81, val_main_v80, val_main_v79, val_main_v78, val_main_v77, val_main_v76, val_main_v75, val_main_v74, val_main_v27, val_main_v20, val_main_v11, val_main_v8, val_main_v7, val_main_v6, val_main_v5, val_main_v3, val_main_v2, val_main_v0, val_main_cst, val_main_cst_10, val_main_cst_11, val_main_cst_12, val_main_cst_13, val_main_cst_14, val_main_cst_15, val_main_cst_16, val_main_cst_17, val_main_cst_18, val_main_cst_19, val_main_cst_20]
  rw [reduce_units]
  pointwise []
  refine Finset.sum_congr rfl fun r _ => ?_
  rw [delayed_eq p 1 (1 + r.val) r l (by omega) _ _ (quarter2 l (by omega)) (quarter3 l (by omega)) (by omega) _ (by pointwise [val_main_cst_0])]

theorem ref101 (d : S2048x2048.Idx → EReal) (p : S2048x4096.Idx → EReal) (w : S3x1024.Idx → EReal) (b g : S1024.Idx → EReal) (l : Fin 1024) :
    val_main_v101 (F := Ideal) d p w b g (ix2 0 l) = ∑ r : Fin 2048, val_main_v72 (F := Ideal) d p w b g (ix2 r l) * delayed p 2 r l := by
  pointwise [val_main_v101, val_main_v97, val_main_v96, val_main_v95, val_main_v94, val_main_v93, val_main_v92, val_main_v91, val_main_v87, val_main_v86, val_main_v85, val_main_v84, val_main_v83, val_main_v82, val_main_v81, val_main_v80, val_main_v79, val_main_v78, val_main_v77, val_main_v76, val_main_v75, val_main_v74, val_main_v27, val_main_v20, val_main_v11, val_main_v8, val_main_v7, val_main_v6, val_main_v5, val_main_v3, val_main_v2, val_main_v0, val_main_cst, val_main_cst_10, val_main_cst_11, val_main_cst_12, val_main_cst_13, val_main_cst_14, val_main_cst_15, val_main_cst_16, val_main_cst_17, val_main_cst_18, val_main_cst_19, val_main_cst_20]
  rw [reduce_units]
  pointwise []
  refine Eq.trans ?_ (Fin.sum_univ_add (a := 2) (b := 2046) fun r : Fin 2048 => val_main_v72 (F := Ideal) d p w b g (ix2 r l) * delayed p 2 r l).symm
  have hz : val_main_cst_0 (F := Ideal) ix0 = 0 := by pointwise [val_main_cst_0]
  refine congrArg₂ (· + ·) (Finset.sum_congr rfl fun r _ => ?_) (Finset.sum_congr rfl fun r _ => ?_)
  · have e : delayed p 2 (Fin.castAdd 2046 r) l = 0 := dif_neg (by show ¬ 2 ≤ r.val; omega)
    rw [hz, e]
    rfl
  · have e : delayed p 2 (Fin.natAdd 2 r) l = _ := dif_pos (by show 2 ≤ 2 + r.val; omega)
    have er : (⟨r.val, by omega⟩ : Fin 2048) = ⟨(Fin.natAdd 2 r : Fin 2048).val - 2, by omega⟩ := Fin.ext (by show r.val = 2 + r.val - 2; omega)
    rw [e, er, quarter2, quarter3]
    rfl

end Cert.ConvGateRefIdeal.Rows

/-! ## The claims -/

namespace Cert.Proof.ConvGateClaims

open Cert.ConvGateIdeal.Rows
open Cert.ConvGateIdeal (S2048x2048 S2048x4096 S2048x1024 S3x1024 S1024 S1x1024)
open Cert.ConvGateRefIdeal.Read
open Cert.Norms Cert.Finite

/-- The shapes of the finiteness test. -/
theorem pre_facts : Cert.Pre_finite_gate.Facts where
  slices_S2048x4096_S2048x1024_0_1024 := by decide
  bcast_S_S2048x1024 := by decide
  slices_S2048x4096_S2048x1024_0_2048 := by decide
  slices_S2048x4096_S2048x1024_0_3072 := by decide
  slices_S3x1024_S1x1024_0_0 := by decide
  bcast_S_S1x1024 := by decide
  slices_S3x1024_S1x1024_1_0 := by decide
  slices_S3x1024_S1x1024_2_0 := by decide
  slices_S2048x2048_S2048x1024_0_1024 := by decide
  bcast_S1x1024_S2048x1024_0_1 := by decide
  bcast_S_S1024 := by decide
  bcast_S1024_S1x1024_1 := by decide

section
variable [hP : Cert.Pre_finite_gate.Facts] (d : S2048x2048.Idx → EReal) (p : S2048x4096.Idx → EReal) (w : S3x1024.Idx → EReal) (b g : S1024.Idx → EReal)
  (h : Cert.Pre_finite_gate.fn (F := Ideal) d p w b g = fun _ => 1#1)
include h

/-- What `finite_gate` says of its five arrays at row `r` and column `l`. -/
theorem finite (r : Fin 2048) (l : Fin 1024) :
    ((∃ v : ℝ, d (ix2 r (right l)) = (v : EReal)) ∧ (∃ v : ℝ, b (ix1 l) = (v : EReal)) ∧ ∃ v : ℝ, g (ix1 l) = (v : EReal))
      ∧ ((∃ v : ℝ, p (ix2 r (quarter 1 (by decide) l)) = (v : EReal)) ∧ (∃ v : ℝ, p (ix2 r (quarter 2 (by decide) l)) = (v : EReal))
        ∧ ∃ v : ℝ, p (ix2 r (quarter 3 (by decide) l)) = (v : EReal))
      ∧ (∃ v : ℝ, w (ix2 0 l) = (v : EReal)) ∧ (∃ v : ℝ, w (ix2 1 l) = (v : EReal)) ∧ ∃ v : ℝ, w (ix2 2 l) = (v : EReal) := by
  have pre := congrFun h (ix2 r l)
  simp only [Cert.Pre_finite_gate.fn, Cert.Pre_finite_gate.fn_part1, Cert.Pre_finite_gate.fn_part2] at pre
  obtain ⟨pre, h4⟩ := andi_one pre
  obtain ⟨pre, h3⟩ := andi_one pre
  obtain ⟨pre, hw⟩ := andi_one pre
  obtain ⟨h0, hp⟩ := andi_one pre
  obtain ⟨hp, hp3⟩ := andi_one hp
  obtain ⟨hp1, hp2⟩ := andi_one hp
  have e0 : below (d (ix2 r (right l))) = 1#1 := (by pointwise; rfl : below (d (ix2 r (right l))) = _).trans h0
  have e3 : below (b (ix1 l)) = 1#1 := (by pointwise; rfl : below (b (ix1 l)) = _).trans h3
  have e4 : below (g (ix1 l)) = 1#1 := (by pointwise; rfl : below (g (ix1 l)) = _).trans h4
  have f1 : below (p (ix2 r (quarter 1 (by decide) l))) = 1#1 := (by pointwise; rfl : below (p (ix2 r (quarter 1 (by decide) l))) = _).trans hp1
  have f2 : below (p (ix2 r (quarter 2 (by decide) l))) = 1#1 := (by pointwise; rfl : below (p (ix2 r (quarter 2 (by decide) l))) = _).trans hp2
  have f3 : below (p (ix2 r (quarter 3 (by decide) l))) = 1#1 := (by pointwise; rfl : below (p (ix2 r (quarter 3 (by decide) l))) = _).trans hp3
  have hw' : IntOp.andi (IntOp.andi (below (w (ix2 0 l))) (below (w (ix2 1 l)))) (below (w (ix2 2 l))) = 1#1 :=
    (by pointwise; rfl : IntOp.andi (IntOp.andi (below (w (ix2 0 l))) (below (w (ix2 1 l)))) (below (w (ix2 2 l))) = _).trans hw
  obtain ⟨hw', w2⟩ := andi_one hw'
  obtain ⟨w0, w1⟩ := andi_one hw'
  exact ⟨⟨⟨_, (real_of_below e0).symm⟩, ⟨_, (real_of_below e3).symm⟩, ⟨_, (real_of_below e4).symm⟩⟩,
    ⟨⟨_, (real_of_below f1).symm⟩, ⟨_, (real_of_below f2).symm⟩, ⟨_, (real_of_below f3).symm⟩⟩,
    ⟨_, (real_of_below w0).symm⟩, ⟨_, (real_of_below w1).symm⟩, ⟨_, (real_of_below w2).symm⟩⟩

theorem delayed_real (s : ℕ) (r : Fin 2048) (l : Fin 1024) : ∃ v : ℝ, delayed p s r l = (v : EReal) := by
  unfold delayed
  by_cases hs : s ≤ r.val
  · rw [dif_pos hs]
    obtain ⟨_, ⟨_, ⟨x, hx⟩, ⟨y, hy⟩⟩, _⟩ := finite d p w b g h ⟨r.val - s, by omega⟩ l
    exact ⟨x * y, by rw [hx, hy, EReal.coe_mul]⟩
  · rw [dif_neg hs]
    exact ⟨0, EReal.coe_zero.symm⟩

theorem gated_real (r : Fin 2048) (l : Fin 1024) : ∃ v : ℝ, gated p w b r l = (v : EReal) := by
  obtain ⟨⟨_, ⟨u, hu⟩, _⟩, ⟨⟨a, ha⟩, ⟨x, hx⟩, ⟨y, hy⟩⟩, ⟨w0, h0⟩, ⟨w1, h1⟩, ⟨w2, h2⟩⟩ := finite d p w b g h r l
  obtain ⟨p2, k2⟩ := delayed_real d p w b g h 2 r l
  obtain ⟨p1, k1⟩ := delayed_real d p w b g h 1 r l
  refine ⟨a * (w0 * p2 + w1 * p1 + w2 * (x * y) + u), ?_⟩
  unfold gated conv input
  rw [hu, ha, hx, hy, h0, h1, h2, k1, k2]
  simp only [EReal.coe_mul, EReal.coe_add]

theorem ref71 (r : Fin 2048) (l : Fin 1024) : val_main_v71 (F := Ideal) d p w b g (ix2 r l) = dnorm d p w b g r l := by
  rw [Cert.ConvGateRefIdeal.Rows.ref71]
  exact (back_eq_chain (fun k => (finite d p w b g h r k).1.1) (fun k => (finite d p w b g h r k).1.2.2) (fun k => gated_real d p w b g h r k) l).symm

theorem ref98 : val_main_v98 (F := Ideal) d p w b g = dgate d p w b g := by
  funext j
  obtain ⟨r, l, rfl⟩ : ∃ r l, j = ix2 r l := ⟨_, _, eq_ix2 (n0 := 2048) (n1 := 1024) j⟩
  pointwise [val_main_v98, val_main_v73]
  rw [ref71 d p w b g h, Cert.ConvGateRefIdeal.Rows.ref33]
  rfl

theorem ref72 : val_main_v72 (F := Ideal) d p w b g = dconv d p w b g := by
  funext j
  obtain ⟨r, l, rfl⟩ : ∃ r l, j = ix2 r l := ⟨_, _, eq_ix2 (n0 := 2048) (n1 := 1024) j⟩
  pointwise [val_main_v72, val_main_v1, val_main_v0]
  rw [ref71 d p w b g h, mul_comm]
  rfl

theorem ref100 : val_main_v100 (F := Ideal) d p w b g = total (fun r l => dconv d p w b g (ix2 r l)) := by
  funext j
  obtain ⟨l, rfl⟩ : ∃ l : Fin 1024, j = ix2 0 l := ⟨j 1, row_idx j (j 1) rfl⟩
  rw [Cert.ConvGateRefIdeal.Rows.ref100, ref72 d p w b g h]
  rfl

theorem ref101 : val_main_v101 (F := Ideal) d p w b g = total (fun r l => dconv d p w b g (ix2 r l) * delayed p 2 r l) := by
  funext j
  obtain ⟨l, rfl⟩ : ∃ l : Fin 1024, j = ix2 0 l := ⟨j 1, row_idx j (j 1) rfl⟩
  rw [Cert.ConvGateRefIdeal.Rows.ref101, ref72 d p w b g h]
  rfl

theorem ref102 : val_main_v102 (F := Ideal) d p w b g = total (fun r l => dconv d p w b g (ix2 r l) * delayed p 1 r l) := by
  funext j
  obtain ⟨l, rfl⟩ : ∃ l : Fin 1024, j = ix2 0 l := ⟨j 1, row_idx j (j 1) rfl⟩
  rw [Cert.ConvGateRefIdeal.Rows.ref102, ref72 d p w b g h]
  rfl

theorem ref103 : val_main_v103 (F := Ideal) d p w b g = total (fun r l => dconv d p w b g (ix2 r l) * input p r l) := by
  funext j
  obtain ⟨l, rfl⟩ : ∃ l : Fin 1024, j = ix2 0 l := ⟨j 1, row_idx j (j 1) rfl⟩
  rw [Cert.ConvGateRefIdeal.Rows.ref103, ref72 d p w b g h]
  rfl

end

theorem ref99 (d : S2048x2048.Idx → EReal) (p : S2048x4096.Idx → EReal) (w : S3x1024.Idx → EReal) (b : S1024.Idx → EReal) :
    val_main_v99 (F := Ideal) d p w b = total (part d p w b) := by
  funext j
  obtain ⟨l, rfl⟩ : ∃ l : Fin 1024, j = ix2 0 l := ⟨j 1, row_idx j (j 1) rfl⟩
  rw [Cert.ConvGateRefIdeal.Rows.ref99]
  refine Finset.sum_congr rfl fun r _ => ?_
  unfold part
  rw [mul_comm, ← mul_assoc]
  rfl

theorem frame_ref : Cert.quiescent_ConvGateRefIdeal := fun m ρ _ =>
  (θ_run Cert.ConvGateRefIdeal.defs _ _).mono (fun r h => ⟨fun c => (h c).2.2.2.2.2.2.2,
      Idealize.ShloMosaic.sem_eq_zero_of_no_sems (by decide) r.2⟩)
    (Cert.ConvGateRefIdeal.Value.run (F := Ideal) m ρ)

theorem algebraic [hP : Cert.Pre_finite_gate.Facts] : Cert.algebraic_ConvGateIdeal_ConvGateRefIdeal_pre_finite_gate := by
  intro m ρ m' ρ' hpre hagree
  refine ⟨fun c => dgate (arg0 m c) (arg1 m c) (arg2 m c) (arg3 m c) (arg4 m c), fun c => dconv (arg0 m c) (arg1 m c) (arg2 m c) (arg3 m c) (arg4 m c),
    fun c => total (part (arg0 m c) (arg1 m c) (arg2 m c) (arg3 m c)),
    fun c => total (fun r l => dconv (arg0 m c) (arg1 m c) (arg2 m c) (arg3 m c) (arg4 m c) (ix2 r l)),
    fun c => total (fun r l => dconv (arg0 m c) (arg1 m c) (arg2 m c) (arg3 m c) (arg4 m c) (ix2 r l) * delayed (arg1 m c) 2 r l),
    fun c => total (fun r l => dconv (arg0 m c) (arg1 m c) (arg2 m c) (arg3 m c) (arg4 m c) (ix2 r l) * delayed (arg1 m c) 1 r l),
    fun c => total (fun r l => dconv (arg0 m c) (arg1 m c) (arg2 m c) (arg3 m c) (arg4 m c) (ix2 r l) * input (arg1 m c) r l), ?_, ?_⟩
  · exact (θ_run Cert.ConvGateIdeal.defs _ _).mono
      (fun _ h c => ⟨(h c).1.trans (final9 m c), (h c).2.1.trans (final10 m c), (h c).2.2.1.trans (final11 m c), (h c).2.2.2.1.trans (final12 m c),
        (h c).2.2.2.2.1.trans (final13 m c), (h c).2.2.2.2.2.1.trans (final14 m c), (h c).2.2.2.2.2.2.1.trans (final15 m c), (h c).2.2.2.2.2.2.2⟩)
      (Cert.ConvGateIdeal.Value.run_blocks (F := Ideal) m ρ)
  · refine (θ_run Cert.ConvGateRefIdeal.defs _ _).mono
      (fun _ h c => ⟨(h c).1.trans ?_, (h c).2.1.trans ?_, (h c).2.2.1.trans ?_, (h c).2.2.2.1.trans ?_, (h c).2.2.2.2.1.trans ?_,
        (h c).2.2.2.2.2.1.trans ?_, (h c).2.2.2.2.2.2.1.trans ?_, (h c).2.2.2.2.2.2.2⟩)
      (Cert.ConvGateRefIdeal.Value.run (F := Ideal) m' ρ')
    · refine (val_main_v98_eq _).trans ?_
      show val_main_v98 (F := Ideal) (m' ((c.tc : Thread Cert.ConvGateRefIdeal.nD Cert.ConvGateRefIdeal.τ).loc Cert.ConvGateRefIdeal.main_arg0)) (m' ((c.tc : Thread Cert.ConvGateRefIdeal.nD Cert.ConvGateRefIdeal.τ).loc Cert.ConvGateRefIdeal.main_arg1)) (m' ((c.tc : Thread Cert.ConvGateRefIdeal.nD Cert.ConvGateRefIdeal.τ).loc Cert.ConvGateRefIdeal.main_arg2)) (m' ((c.tc : Thread Cert.ConvGateRefIdeal.nD Cert.ConvGateRefIdeal.τ).loc Cert.ConvGateRefIdeal.main_arg3)) (m' ((c.tc : Thread Cert.ConvGateRefIdeal.nD Cert.ConvGateRefIdeal.τ).loc Cert.ConvGateRefIdeal.main_arg4)) = _
      rw [(hagree c).1, (hagree c).2.1, (hagree c).2.2.1, (hagree c).2.2.2.1, (hagree c).2.2.2.2]
      exact ref98 _ _ _ _ _ (hpre c)
    · refine (val_main_v72_eq _).trans ?_
      show val_main_v72 (F := Ideal) (m' ((c.tc : Thread Cert.ConvGateRefIdeal.nD Cert.ConvGateRefIdeal.τ).loc Cert.ConvGateRefIdeal.main_arg0)) (m' ((c.tc : Thread Cert.ConvGateRefIdeal.nD Cert.ConvGateRefIdeal.τ).loc Cert.ConvGateRefIdeal.main_arg1)) (m' ((c.tc : Thread Cert.ConvGateRefIdeal.nD Cert.ConvGateRefIdeal.τ).loc Cert.ConvGateRefIdeal.main_arg2)) (m' ((c.tc : Thread Cert.ConvGateRefIdeal.nD Cert.ConvGateRefIdeal.τ).loc Cert.ConvGateRefIdeal.main_arg3)) (m' ((c.tc : Thread Cert.ConvGateRefIdeal.nD Cert.ConvGateRefIdeal.τ).loc Cert.ConvGateRefIdeal.main_arg4)) = _
      rw [(hagree c).1, (hagree c).2.1, (hagree c).2.2.1, (hagree c).2.2.2.1, (hagree c).2.2.2.2]
      exact ref72 _ _ _ _ _ (hpre c)
    · refine (val_main_v99_eq _).trans ((ref99 _ _ _ _).trans ?_)
      show total (part (m' ((c.tc : Thread Cert.ConvGateRefIdeal.nD Cert.ConvGateRefIdeal.τ).loc Cert.ConvGateRefIdeal.main_arg0)) (m' ((c.tc : Thread Cert.ConvGateRefIdeal.nD Cert.ConvGateRefIdeal.τ).loc Cert.ConvGateRefIdeal.main_arg1)) (m' ((c.tc : Thread Cert.ConvGateRefIdeal.nD Cert.ConvGateRefIdeal.τ).loc Cert.ConvGateRefIdeal.main_arg2)) (m' ((c.tc : Thread Cert.ConvGateRefIdeal.nD Cert.ConvGateRefIdeal.τ).loc Cert.ConvGateRefIdeal.main_arg3))) = _
      rw [(hagree c).1, (hagree c).2.1, (hagree c).2.2.1, (hagree c).2.2.2.1]
    · refine (val_main_v100_eq _).trans ?_
      show val_main_v100 (F := Ideal) (m' ((c.tc : Thread Cert.ConvGateRefIdeal.nD Cert.ConvGateRefIdeal.τ).loc Cert.ConvGateRefIdeal.main_arg0)) (m' ((c.tc : Thread Cert.ConvGateRefIdeal.nD Cert.ConvGateRefIdeal.τ).loc Cert.ConvGateRefIdeal.main_arg1)) (m' ((c.tc : Thread Cert.ConvGateRefIdeal.nD Cert.ConvGateRefIdeal.τ).loc Cert.ConvGateRefIdeal.main_arg2)) (m' ((c.tc : Thread Cert.ConvGateRefIdeal.nD Cert.ConvGateRefIdeal.τ).loc Cert.ConvGateRefIdeal.main_arg3)) (m' ((c.tc : Thread Cert.ConvGateRefIdeal.nD Cert.ConvGateRefIdeal.τ).loc Cert.ConvGateRefIdeal.main_arg4)) = _
      rw [(hagree c).1, (hagree c).2.1, (hagree c).2.2.1, (hagree c).2.2.2.1, (hagree c).2.2.2.2]
      exact ref100 _ _ _ _ _ (hpre c)
    · refine (val_main_v101_eq _).trans ?_
      show val_main_v101 (F := Ideal) (m' ((c.tc : Thread Cert.ConvGateRefIdeal.nD Cert.ConvGateRefIdeal.τ).loc Cert.ConvGateRefIdeal.main_arg0)) (m' ((c.tc : Thread Cert.ConvGateRefIdeal.nD Cert.ConvGateRefIdeal.τ).loc Cert.ConvGateRefIdeal.main_arg1)) (m' ((c.tc : Thread Cert.ConvGateRefIdeal.nD Cert.ConvGateRefIdeal.τ).loc Cert.ConvGateRefIdeal.main_arg2)) (m' ((c.tc : Thread Cert.ConvGateRefIdeal.nD Cert.ConvGateRefIdeal.τ).loc Cert.ConvGateRefIdeal.main_arg3)) (m' ((c.tc : Thread Cert.ConvGateRefIdeal.nD Cert.ConvGateRefIdeal.τ).loc Cert.ConvGateRefIdeal.main_arg4)) = _
      rw [(hagree c).1, (hagree c).2.1, (hagree c).2.2.1, (hagree c).2.2.2.1, (hagree c).2.2.2.2]
      exact ref101 _ _ _ _ _ (hpre c)
    · refine (val_main_v102_eq _).trans ?_
      show val_main_v102 (F := Ideal) (m' ((c.tc : Thread Cert.ConvGateRefIdeal.nD Cert.ConvGateRefIdeal.τ).loc Cert.ConvGateRefIdeal.main_arg0)) (m' ((c.tc : Thread Cert.ConvGateRefIdeal.nD Cert.ConvGateRefIdeal.τ).loc Cert.ConvGateRefIdeal.main_arg1)) (m' ((c.tc : Thread Cert.ConvGateRefIdeal.nD Cert.ConvGateRefIdeal.τ).loc Cert.ConvGateRefIdeal.main_arg2)) (m' ((c.tc : Thread Cert.ConvGateRefIdeal.nD Cert.ConvGateRefIdeal.τ).loc Cert.ConvGateRefIdeal.main_arg3)) (m' ((c.tc : Thread Cert.ConvGateRefIdeal.nD Cert.ConvGateRefIdeal.τ).loc Cert.ConvGateRefIdeal.main_arg4)) = _
      rw [(hagree c).1, (hagree c).2.1, (hagree c).2.2.1, (hagree c).2.2.2.1, (hagree c).2.2.2.2]
      exact ref102 _ _ _ _ _ (hpre c)
    · refine (val_main_v103_eq _).trans ?_
      show val_main_v103 (F := Ideal) (m' ((c.tc : Thread Cert.ConvGateRefIdeal.nD Cert.ConvGateRefIdeal.τ).loc Cert.ConvGateRefIdeal.main_arg0)) (m' ((c.tc : Thread Cert.ConvGateRefIdeal.nD Cert.ConvGateRefIdeal.τ).loc Cert.ConvGateRefIdeal.main_arg1)) (m' ((c.tc : Thread Cert.ConvGateRefIdeal.nD Cert.ConvGateRefIdeal.τ).loc Cert.ConvGateRefIdeal.main_arg2)) (m' ((c.tc : Thread Cert.ConvGateRefIdeal.nD Cert.ConvGateRefIdeal.τ).loc Cert.ConvGateRefIdeal.main_arg3)) (m' ((c.tc : Thread Cert.ConvGateRefIdeal.nD Cert.ConvGateRefIdeal.τ).loc Cert.ConvGateRefIdeal.main_arg4)) = _
      rw [(hagree c).1, (hagree c).2.1, (hagree c).2.2.1, (hagree c).2.2.2.1, (hagree c).2.2.2.2]
      exact ref103 _ _ _ _ _ (hpre c)

end Cert.Proof.ConvGateClaims
end
-- ==== Proof.GluGate.lean ====
/-
  The gradient of a gated RMS norm. The forward pass is `s = y · σ(t)` and `s · inv(s) · g` in every row; the cotangents of `t`
  and `y` are the norm's gradient times the gate's derivative and times the gate, and that of `g` is a sum over all rows. The
  kernel goes through tiles of 256 rows and keeps the sum over rows in one buffer.
-/
module

public import proofs.«01_k».proof.Defs
public import proofs.«01_k».proof.Proof.Gen.GluGateIdeal.Value
public import proofs.«01_k».proof.Proof.Gen.GluGateRefIdeal.Run
public import proofs.«01_k».proof.Proof.Gen.GluGateRefIdeal.Read
public import proofs.«01_k».proof.Proof.Norms
public import proofs.«01_k».proof.Proof.Finite
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GluGateIdeal.Rows

open Cert.GluGateIdeal Cert.GluGateIdeal.Gen
open Cert.Norms

/-- A row before the norm. -/
def gated {n : ℕ} (y t : (⟨2, ![n, 1024]⟩ : Shape).Idx → EReal) (r : Fin n) (k : Fin 1024) : EReal := y (ix2 r k) * sigm (t (ix2 r k))

theorem pay5_at (v2 : Vec Ideal S256x1024 .f32) (r : Fin 256) (l : Fin 1024) : k0_pay5 (F := Ideal) v2 (ix2 r l) = sigm (v2 (ix2 r l)) := by
  pointwise [k0_pay5]
  rw [zero_sub]; rfl

theorem pay8_at (v0 v1 v2 : Vec Ideal S256x1024 .f32) (v3 : Vec Ideal S1x1024 .f32) (r : Fin 256) (l : Fin 1024) :
    k0_pay8 (F := Ideal) v0 v1 v2 v3 (ix2 r l) = back (fun k => v0 (ix2 r k)) (fun k => v3 (ix2 0 k)) (gated v1 v2 r) l := by
  pointwise [k0_pay8, k0_pay7, k0_pay6]
  simp only [pay5_at]
  rfl

theorem pay9_at (v0 v1 v2 : Vec Ideal S256x1024 .f32) (v3 : Vec Ideal S1x1024 .f32) (r : Fin 256) (l : Fin 1024) :
    k0_pay2 (k0_pay9 (F := Ideal) v0 v1 v2 v3) (ix2 r l) = back (fun k => v0 (ix2 r k)) (fun k => v3 (ix2 0 k)) (gated v1 v2 r) l * v1 (ix2 r l)
      * sigm (v2 (ix2 r l)) * (1 - sigm (v2 (ix2 r l))) := by
  pointwise [k0_pay2, k0_pay9]
  simp only [pay5_at, pay8_at]

theorem pay1_at (v0 v1 v2 : Vec Ideal S256x1024 .f32) (v3 : Vec Ideal S1x1024 .f32) (r : Fin 256) (l : Fin 1024) :
    k0_pay1 (k0_pay5 v2) (k0_pay8 (F := Ideal) v0 v1 v2 v3) (ix2 r l)
      = back (fun k => v0 (ix2 r k)) (fun k => v3 (ix2 0 k)) (gated v1 v2 r) l * sigm (v2 (ix2 r l)) := by
  pointwise [k0_pay1]
  simp only [pay5_at, pay8_at]

/-- A row's part of the cotangent of `g`. -/
def part {n : ℕ} (d : Fin 1024 → EReal) (y t : (⟨2, ![n, 1024]⟩ : Shape).Idx → EReal) (r : Fin n) (l : Fin 1024) : EReal :=
  d l * gated y t r l * inv (gated y t r)

theorem pay4_at (v0 : Vec Ideal S256x1024 .f32) (v1 v2 : Vec Ideal S256x1024 .f32) (v54 : Vec Ideal S1x1024 .f32) (j : S1x1024.Idx) :
    k0_pay4 (F := Ideal) v0 (k0_pay6 v1 v2) (k0_pay7 v1 v2) v54 j
      = v54 j + ∑ r : Fin 256, part (fun k => v0 (ix2 r k)) v1 v2 r (j 1) := by
  obtain ⟨l, rfl⟩ : ∃ l : Fin 1024, j = ix2 0 l := ⟨j 1, Cert.Finite.row_idx j (j 1) rfl⟩
  pointwise [k0_pay4, k0_pay7, k0_pay6]
  simp only [pay5_at]
  rfl

theorem pay3_at (j : S1x1024.Idx) : k0_pay3 (F := Ideal) j = 0 := by
  rw [eq_ix2 j]
  pointwise [k0_pay3]

variable (m : (ℓ : Loc nD τ sig) → Buf (Elt Ideal) ℓ)

abbrev arg0 (c : Dev nD) : S2048x2048.Idx → EReal := m ((c : Thread nD τ).loc main_arg0)
abbrev arg1 (c : Dev nD) : S2048x1024.Idx → EReal := m ((c : Thread nD τ).loc main_arg1)
abbrev arg2 (c : Dev nD) : S2048x1024.Idx → EReal := m ((c : Thread nD τ).loc main_arg2)
abbrev arg3 (c : Dev nD) : S1024.Idx → EReal := m ((c : Thread nD τ).loc main_arg3)

/-! ## The windows' blocks at an index -/

theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0 :=
  (by decide +kernel : ∀ t : Fin grid0.N, _)

theorem lt_8 (t : Fin cfg0.N) : t.val < 8 := t.isLt

/-- Row `r` of tile `t`. -/
def row (t : Fin cfg0.N) (r : Fin 256) : Fin 2048 := ⟨256 * t.val + r.val, by have := lt_8 t; omega⟩

/-- A column of the first half. -/
def left (k : Fin 1024) : Fin 2048 := ⟨k.val, by omega⟩

theorem blk0 (c : Dev nD) (t : Fin cfg0.N) (r : Fin 256) (l : Fin 1024) : iblk m c 0 t (ix2 r l) = arg0 m c (ix2 (row t r) (left l)) := by
  blk_ext! [iblk, V, idx_facts t, row, left]

theorem blk1 (c : Dev nD) (t : Fin cfg0.N) (r : Fin 256) (l : Fin 1024) : iblk m c 1 t (ix2 r l) = arg1 m c (ix2 (row t r) l) := by
  blk_ext! [iblk, V, idx_facts t, row]

theorem blk2 (c : Dev nD) (t : Fin cfg0.N) (r : Fin 256) (l : Fin 1024) : iblk m c 2 t (ix2 r l) = arg2 m c (ix2 (row t r) l) := by
  blk_ext! [iblk, V, idx_facts t, row]

theorem blk3 (c : Dev nD) (t : Fin cfg0.N) (l : Fin 1024) : iblk m c 3 t (ix2 0 l) = arg3 m c (ix1 l) := by
  blk_ext! [iblk, V, idx_facts t]

theorem emb4 (t : Fin cfg0.N) (y : S256x1024.Idx) : ((cfg0.win 4).blk t).view.emb y = ix2 (n0 := 2048) (n1 := 1024) (row t (y 0)) (y 1) := by
  have e := idx_facts t
  funext a; apply Fin.ext
  match a with
  | ⟨0, _⟩ => show win0_4.index t (0 : Fin 2) * 256 + 1 * (y 0).val = 256 * t.val + (y 0).val; omega
  | ⟨1, _⟩ => show win0_4.index t (1 : Fin 2) * 1024 + 1 * (y 1).val = (y 1).val; omega

theorem emb5 (t : Fin cfg0.N) (y : S256x1024.Idx) : ((cfg0.win 5).blk t).view.emb y = ix2 (n0 := 2048) (n1 := 1024) (row t (y 0)) (y 1) := by
  have e := idx_facts t
  funext a; apply Fin.ext
  match a with
  | ⟨0, _⟩ => show win0_5.index t (0 : Fin 2) * 256 + 1 * (y 0).val = 256 * t.val + (y 0).val; omega
  | ⟨1, _⟩ => show win0_5.index t (1 : Fin 2) * 1024 + 1 * (y 1).val = (y 1).val; omega

theorem emb6 (t : Fin cfg0.N) (y : S1x1024.Idx) : ((cfg0.win 6).blk t).view.emb y = y := by
  have e := idx_facts t
  funext a; apply Fin.ext
  match a with
  | ⟨0, _⟩ => show win0_6.index t (0 : Fin 2) * 1 + 1 * (y 0).val = (y 0).val; omega
  | ⟨1, _⟩ => show win0_6.index t (1 : Fin 2) * 1024 + 1 * (y 1).val = (y 1).val; omega

/-! ## The results -/

/-- The gradient of the norm's input. -/
def dnorm (d : S2048x2048.Idx → EReal) (y t : S2048x1024.Idx → EReal) (g : S1024.Idx → EReal) (r : Fin 2048) (l : Fin 1024) : EReal :=
  back (fun k => d (ix2 r (left k))) (fun k => g (ix1 k)) (gated y t r) l

/-- The cotangent of `t`. -/
def dgate (d : S2048x2048.Idx → EReal) (y t : S2048x1024.Idx → EReal) (g : S1024.Idx → EReal) (j : S2048x1024.Idx) : EReal :=
  dnorm d y t g (j 0) (j 1) * y (ix2 (j 0) (j 1)) * sigm (t (ix2 (j 0) (j 1))) * (1 - sigm (t (ix2 (j 0) (j 1))))

/-- The cotangent of `y`. -/
def dinput (d : S2048x2048.Idx → EReal) (y t : S2048x1024.Idx → EReal) (g : S1024.Idx → EReal) (j : S2048x1024.Idx) : EReal :=
  dnorm d y t g (j 0) (j 1) * sigm (t (ix2 (j 0) (j 1)))

/-- The cotangent of `g`. -/
def dscale (d : S2048x2048.Idx → EReal) (y t : S2048x1024.Idx → EReal) (j : S1x1024.Idx) : EReal :=
  ∑ r : Fin 2048, part (fun k => d (ix2 r (left k))) y t r (j 1)

theorem gated_at (c : Dev nD) (t : Fin cfg0.N) (r : Fin 256) :
    gated (iblk m c 1 t) (iblk m c 2 t) r = gated (arg1 m c) (arg2 m c) (row t r) :=
  funext fun k => by unfold gated; rw [blk1, blk2]

theorem back_at (c : Dev nD) (t : Fin cfg0.N) (r : Fin 256) (l : Fin 1024) :
    back (fun k => iblk m c 0 t (ix2 r k)) (fun k => iblk m c 3 t (ix2 0 k)) (gated (iblk m c 1 t) (iblk m c 2 t) r) l
      = dnorm (arg0 m c) (arg1 m c) (arg2 m c) (arg3 m c) (row t r) l := by
  simp only [gated_at, blk0, blk3]; rfl

theorem out4 (c : Dev nD) (t : Fin cfg0.N) (y : S256x1024.Idx) :
    (outsAt0 m c t.val t.isLt).1 y = k0_pay2 (k0_pay9 (F := Ideal) (iblk m c 0 t) (iblk m c 1 t) (iblk m c 2 t) (iblk m c 3 t)) y := by
  by_cases h : t.val % 8 = 0
  · rw [outsAt0_A m c t h]; frame_out
  · rw [outsAt0_B m c t h]; frame_out

theorem out5 (c : Dev nD) (t : Fin cfg0.N) (y : S256x1024.Idx) :
    (outsAt0 m c t.val t.isLt).2.1 y
      = k0_pay1 (k0_pay5 (iblk m c 2 t)) (k0_pay8 (F := Ideal) (iblk m c 0 t) (iblk m c 1 t) (iblk m c 2 t) (iblk m c 3 t)) y := by
  by_cases h : t.val % 8 = 0
  · rw [outsAt0_A m c t h]; frame_out
  · rw [outsAt0_B m c t h]; frame_out

theorem final4 (c : Dev nD) : (dats m 0 c).arrAt 4 cfg0.N = dgate (arg0 m c) (arg1 m c) (arg2 m c) (arg3 m c) := by
  have key (t : Fin cfg0.N) (r : Fin 256) (l : Fin 1024) : (outsAt0 m c t.val t.isLt).1 (ix2 r l)
      = dgate (arg0 m c) (arg1 m c) (arg2 m c) (arg3 m c) (ix2 (row t r) l) := by
    rw [out4, pay9_at, back_at, blk1, blk2]; rfl
  refine (dats m 0 c).arrAt_eq_of_covers 4 _ (by decide +kernel) (fun t _ y => ?_)
  show (dats m 0 c).after 4 t y = _
  rw [after0_4, emb4]
  exact (congrArg (outsAt0 m c t.val t.isLt).1 (eq_ix2 (n0 := 256) (n1 := 1024) y)).trans (key t (y 0) (y 1))

theorem final5 (c : Dev nD) : (dats m 0 c).arrAt 5 cfg0.N = dinput (arg0 m c) (arg1 m c) (arg2 m c) (arg3 m c) := by
  have key (t : Fin cfg0.N) (r : Fin 256) (l : Fin 1024) : (outsAt0 m c t.val t.isLt).2.1 (ix2 r l)
      = dinput (arg0 m c) (arg1 m c) (arg2 m c) (arg3 m c) (ix2 (row t r) l) := by
    rw [out5, pay1_at, back_at, blk2]; rfl
  refine (dats m 0 c).arrAt_eq_of_covers 5 _ (by decide +kernel) (fun t _ y => ?_)
  show (dats m 0 c).after 5 t y = _
  rw [after0_5, emb5]
  exact (congrArg (outsAt0 m c t.val t.isLt).2.1 (eq_ix2 (n0 := 256) (n1 := 1024) y)).trans (key t (y 0) (y 1))

theorem part_at (c : Dev nD) (t : Fin cfg0.N) (r : Fin 256) (l : Fin 1024) :
    part (fun k => iblk m c 0 t (ix2 r k)) (iblk m c 1 t) (iblk m c 2 t) r l
      = part (fun k => arg0 m c (ix2 (row t r) (left k))) (arg1 m c) (arg2 m c) (row t r) l := by
  unfold part; rw [gated_at]; simp only [blk0]

theorem final6 (c : Dev nD) : (dats m 0 c).arrAt 6 cfg0.N = dscale (arg0 m c) (arg1 m c) (arg2 m c) := by
  refine (dats m 0 c).arrAt_eq_of_covers 6 _ (by decide +kernel) (fun t hf y => ?_)
  show (dats m 0 c).after 6 t y = _
  have ht : t.val + 1 = cfg0.N := by have := (flush0_6 t).mp hf; have := lt_8 t; show t.val + 1 = 8; omega
  rw [after0_6, emb6]
  rw [Pipeline.eq_sum_fin_of_reset_step_apply_last (M := EReal) (fun n h => (outsAt0 m c n h).2.2) 8 (fun _ => 0) _
    (fun t h j => by rw [outsAt0_A m c t h]; frame_out; rw [pay4_at, pay3_at])
    (fun t h j => by rw [outsAt0_B m c t h]; frame_out; rw [pay4_at])
    (le_of_eq N_0) t ht y, zero_add]
  unfold dscale
  refine Fin.sum_mul_add_congr (S := 8) (n := 256) fun s k hl => ?_
  have e : row s k = ⟨s.val * 256 + k.val, hl⟩ := Fin.ext (by show 256 * s.val + k.val = s.val * 256 + k.val; omega)
  exact (part_at m c s k (y 1)).trans (congrArg (fun i => part (fun k => arg0 m c (ix2 i (left k))) (arg1 m c) (arg2 m c) i (y 1)) e)

end Cert.GluGateIdeal.Rows

/-! ## The reference -/

namespace Cert.GluGateRefIdeal.Rows

open Cert.GluGateRefIdeal Cert.GluGateRefIdeal.Value Cert.GluGateRefIdeal.Read
open Cert.Norms
open Cert.GluGateIdeal.Rows (gated part left)

theorem sig_at (t : S2048x1024.Idx → EReal) (r : Fin 2048) (l : Fin 1024) : val_main_v5 (F := Ideal) t (ix2 r l) = sigm (t (ix2 r l)) := by
  pointwise [val_main_v5, val_main_v4, val_main_v3, val_main_v2, val_main_v1, val_main_v0, val_main_cst, val_main_cst_0]
  rfl

theorem ref46 (d : S2048x2048.Idx → EReal) (y t : S2048x1024.Idx → EReal) (g : S1024.Idx → EReal) (r : Fin 2048) (l : Fin 1024) :
    val_main_v46 (F := Ideal) d y t g (ix2 r l) = chain (fun k => d (ix2 r (left k))) (fun k => g (ix1 k)) (gated y t r) l := by
  pointwise [val_main_v46, val_main_v45, val_main_v44, val_main_v43, val_main_v42, val_main_v41, val_main_v40, val_main_v39, val_main_v38,
    val_main_v37, val_main_v36, val_main_v35, val_main_v34, val_main_v33, val_main_v31, val_main_v30, val_main_v26, val_main_v23, val_main_v20,
    val_main_v19, val_main_v18, val_main_v17, val_main_v16, val_main_v15, val_main_v14, val_main_v13, val_main_v12, val_main_v11,
    val_main_v10, val_main_v9, val_main_cst_2, val_main_cst_3, val_main_cst_4, val_main_cst_5, val_main_cst_8, val_main_cst_9, val_main_cst_10]
  simp only [sig_at, Fin.sum_univ_one]
  rfl

theorem ref51 (d : S2048x2048.Idx → EReal) (y t : S2048x1024.Idx → EReal) (l : Fin 1024) :
    val_main_v51 (F := Ideal) d y t (ix2 0 l) = ∑ r : Fin 2048, gated y t r l * inv (gated y t r) * d (ix2 r (left l)) := by
  pointwise [val_main_v51, val_main_v32, val_main_v29, val_main_v28, val_main_v27, val_main_v26, val_main_v22, val_main_v21, val_main_v17, val_main_v16, val_main_v15,
    val_main_v14, val_main_v13, val_main_v12, val_main_v11, val_main_v10, val_main_v9, val_main_cst_2, val_main_cst_3, val_main_cst_4, val_main_cst_6, val_main_cst_7]
  simp only [sig_at, Fin.sum_univ_one]
  rfl

end Cert.GluGateRefIdeal.Rows

/-! ## The claims -/

namespace Cert.Proof.GluGateClaims

open Cert.GluGateIdeal.Rows
open Cert.GluGateIdeal (S2048x2048 S2048x1024 S1024 S1x1024)
open Cert.Norms Cert.Finite

/-- The shapes of the finiteness test. -/
theorem pre_facts : Cert.Pre_finite_glu.Facts where
  slices_S2048x2048_S2048x1024_0_0 := by decide
  bcast_S_S2048x1024 := by decide
  bcast_S_S1024 := by decide
  bcast_S1024_S1x1024_1 := by decide
  bcast_S1x1024_S2048x1024_0_1 := by decide

/-- What `finite_glu` says of its four arrays at row `r` and column `l`. -/
theorem finite [hP : Cert.Pre_finite_glu.Facts] (d : S2048x2048.Idx → EReal) (y t : S2048x1024.Idx → EReal) (g : S1024.Idx → EReal)
    (h : Cert.Pre_finite_glu.fn (F := Ideal) d y t g = fun _ => 1#1) (r : Fin 2048) (l : Fin 1024) :
    (∃ v : ℝ, d (ix2 r (left l)) = (v : EReal)) ∧ (∃ v : ℝ, y (ix2 r l) = (v : EReal)) ∧ (∃ v : ℝ, t (ix2 r l) = (v : EReal))
      ∧ ∃ v : ℝ, g (ix1 l) = (v : EReal) := by
  have pre := congrFun h (ix2 r l)
  simp only [Cert.Pre_finite_glu.fn] at pre
  obtain ⟨h, h3⟩ := andi_one pre
  obtain ⟨h, h2⟩ := andi_one h
  obtain ⟨h0, h1⟩ := andi_one h
  have e0 : below (d (ix2 r (left l))) = 1#1 := (by pointwise; rfl : below (d (ix2 r (left l))) = _).trans h0
  have e3 : below (g (ix1 l)) = 1#1 := (by pointwise; rfl : below (g (ix1 l)) = _).trans h3
  exact ⟨⟨_, (real_of_below e0).symm⟩, ⟨_, (real_of_below h1).symm⟩, ⟨_, (real_of_below h2).symm⟩, ⟨_, (real_of_below e3).symm⟩⟩

theorem gated_real {y t : EReal} (hy : ∃ v : ℝ, y = (v : EReal)) (ht : ∃ v : ℝ, t = (v : EReal)) : ∃ v : ℝ, y * sigm t = (v : EReal) := by
  obtain ⟨a, rfl⟩ := hy
  obtain ⟨b, rfl⟩ := ht
  obtain ⟨s, e⟩ := sigm_real b
  exact ⟨a * s, by rw [e, EReal.coe_mul]⟩

section
variable [hP : Cert.Pre_finite_glu.Facts] (d : S2048x2048.Idx → EReal) (y t : S2048x1024.Idx → EReal) (g : S1024.Idx → EReal)
  (h : Cert.Pre_finite_glu.fn (F := Ideal) d y t g = fun _ => 1#1)
include h

theorem ref46 (r : Fin 2048) (l : Fin 1024) :
    Cert.GluGateRefIdeal.Read.val_main_v46 (F := Ideal) d y t g (ix2 r l) = dnorm d y t g r l := by
  rw [Cert.GluGateRefIdeal.Rows.ref46]
  exact (back_eq_chain (fun k => (finite d y t g h r k).1) (fun k => (finite d y t g h r k).2.2.2)
    (fun k => gated_real (finite d y t g h r k).2.1 (finite d y t g h r k).2.2.1) l).symm

theorem ref50 : Cert.GluGateRefIdeal.Read.val_main_v50 (F := Ideal) d y t g = dgate d y t g := by
  funext j
  obtain ⟨r, l, rfl⟩ : ∃ r l, j = ix2 r l := ⟨_, _, eq_ix2 (n0 := 2048) (n1 := 1024) j⟩
  pointwise [Cert.GluGateRefIdeal.Read.val_main_v50, Cert.GluGateRefIdeal.Read.val_main_v49, Cert.GluGateRefIdeal.Read.val_main_v47,
    Cert.GluGateRefIdeal.Read.val_main_v8, Cert.GluGateRefIdeal.Read.val_main_v7, Cert.GluGateRefIdeal.Read.val_main_v6, Cert.GluGateRefIdeal.Read.val_main_cst_1]
  rw [ref46 d y t g h, Cert.GluGateRefIdeal.Rows.sig_at, mul_comm (y _), ← mul_assoc]
  rfl

theorem ref48 : Cert.GluGateRefIdeal.Read.val_main_v48 (F := Ideal) d y t g = dinput d y t g := by
  funext j
  obtain ⟨r, l, rfl⟩ : ∃ r l, j = ix2 r l := ⟨_, _, eq_ix2 (n0 := 2048) (n1 := 1024) j⟩
  pointwise [Cert.GluGateRefIdeal.Read.val_main_v48]
  rw [ref46 d y t g h, Cert.GluGateRefIdeal.Rows.sig_at]
  rfl
end

theorem ref51 (d : S2048x2048.Idx → EReal) (y t : S2048x1024.Idx → EReal) :
    Cert.GluGateRefIdeal.Read.val_main_v51 (F := Ideal) d y t = dscale d y t := by
  funext j
  obtain ⟨l, rfl⟩ : ∃ l : Fin 1024, j = ix2 0 l := ⟨j 1, row_idx j (j 1) rfl⟩
  rw [Cert.GluGateRefIdeal.Rows.ref51]
  refine Finset.sum_congr rfl fun r _ => ?_
  unfold part
  rw [mul_comm, ← mul_assoc]
  rfl

theorem frame_ref : Cert.quiescent_GluGateRefIdeal := fun m ρ _ =>
  (θ_run Cert.GluGateRefIdeal.defs _ _).mono (fun r h => ⟨fun c => (h c).2.2.2,
      Idealize.ShloMosaic.sem_eq_zero_of_no_sems (by decide) r.2⟩)
    (Cert.GluGateRefIdeal.Value.run (F := Ideal) m ρ)

theorem algebraic [hP : Cert.Pre_finite_glu.Facts] : Cert.algebraic_GluGateIdeal_GluGateRefIdeal_pre_finite_glu := by
  intro m ρ m' ρ' hpre hagree
  refine ⟨fun c => dgate (arg0 m c) (arg1 m c) (arg2 m c) (arg3 m c), fun c => dinput (arg0 m c) (arg1 m c) (arg2 m c) (arg3 m c),
    fun c => dscale (arg0 m c) (arg1 m c) (arg2 m c), ?_, ?_⟩
  · exact (θ_run Cert.GluGateIdeal.defs _ _).mono
      (fun _ h c => ⟨(h c).1.trans (final4 m c), (h c).2.1.trans (final5 m c), (h c).2.2.1.trans (final6 m c), (h c).2.2.2⟩)
      (Cert.GluGateIdeal.Value.run_blocks (F := Ideal) m ρ)
  · refine (θ_run Cert.GluGateRefIdeal.defs _ _).mono
      (fun _ h c => ⟨(h c).1.trans ?_, (h c).2.1.trans ?_, (h c).2.2.1.trans ?_, (h c).2.2.2⟩)
      (Cert.GluGateRefIdeal.Value.run (F := Ideal) m' ρ')
    · refine (Cert.GluGateRefIdeal.Read.val_main_v50_eq _ _).trans ?_
      rw [(hagree c).1, (hagree c).2.1, (hagree c).2.2.1, (hagree c).2.2.2]
      exact ref50 _ _ _ _ (hpre c)
    · refine (Cert.GluGateRefIdeal.Read.val_main_v48_eq _ _).trans ?_
      rw [(hagree c).1, (hagree c).2.1, (hagree c).2.2.1, (hagree c).2.2.2]
      exact ref48 _ _ _ _ (hpre c)
    · refine (Cert.GluGateRefIdeal.Read.val_main_v51_eq _ _ _).trans ((ref51 _ _ _).trans ?_)
      rw [(hagree c).1, (hagree c).2.1, (hagree c).2.2.1]

end Cert.Proof.GluGateClaims
end
-- ==== Proof.NormGrad.lean ====
/-
  The gradient of a layer norm over rows of 2048. The kernel takes the normalised rows and the reciprocals of their deviations as the
  forward pass leaves them, goes through tiles of 256 rows, and keeps two sums over rows in buffers of their own.
-/
module

public import proofs.«01_k».proof.Defs
public import proofs.«01_k».proof.Proof.Gen.NormGradIdeal.Value
public import proofs.«01_k».proof.Proof.Gen.NormGradRefIdeal.Run
public import proofs.«01_k».proof.Proof.Gen.NormGradRefIdeal.Read
public import proofs.«01_k».proof.Proof.Norms
public import proofs.«01_k».proof.Proof.Finite
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The layer norm -/

namespace Cert.LayerNorm
open Cert.Norms

/-- The width of a row, as the programs spell it. -/
def wide : EReal := Ideal.ofBits .f32 0x45000000#32
/-- The small number added to the variance, as the programs spell it. -/
def eps5 : EReal := Ideal.ofBits .f32 0x3727C5AC#32
/-- One half, as the programs spell it. -/
def half : EReal := Ideal.ofBits .f32 0x3F000000#32

theorem wide_eq : wide = ((2048 : ℝ) : EReal) := by
  unfold wide; simp [Ideal.ofBits, Ideal.ieee, ← EReal.coe_mul]; norm_num
theorem half_eq : half = ((1 / 2 : ℝ) : EReal) := by
  unfold half; simp [Ideal.ofBits, Ideal.ieee, ← EReal.coe_mul]; norm_num
theorem eps5_eq : ∃ e : ℝ, 0 < e ∧ eps5 = (e : EReal) := by
  refine ⟨_, ?_, (by unfold eps5; simp [Ideal.ofBits, Ideal.ieee]; rfl)⟩
  norm_num

/-- A row less its mean. -/
def cen (x : Fin 2048 → EReal) (l : Fin 2048) : EReal := x l - Ideal.div (∑ k, x k) wide

/-- The mean square of a centred row, with the small number added. -/
def var (x : Fin 2048 → EReal) : EReal := Ideal.div (∑ k, x k * x k) wide + eps5

/-- The reciprocal of the deviation of a centred row. -/
def linv (x : Fin 2048 → EReal) : EReal := Ideal.rsqrt (var x)

/-- The gradient of a row, as the kernel writes it: from the normalised row `y` and the reciprocal deviation `s`. -/
def lnback (d g y : Fin 2048 → EReal) (s : EReal) (l : Fin 2048) : EReal :=
  s * ((d l * g l - Ideal.div (∑ k, d k * g k) wide) - y l * Ideal.div (∑ k, d k * g k * y k) wide)

/-- The part that comes through the variance, as the chain rule writes it; `x` is the centred row. -/
def lthrough (d g x : Fin 2048 → EReal) : EReal :=
  Ideal.div ((∑ k, x k * (d k * g k)) * (minusHalf * Ideal.div (linv x) (var x))) wide

/-- The gradient of the centred row. -/
def lcen (d g x : Fin 2048 → EReal) (l : Fin 2048) : EReal := d l * g l * linv x + x l * lthrough d g x + lthrough d g x * x l

/-- The gradient of the row, as the chain rule writes it. -/
def lnchain (d g x : Fin 2048 → EReal) (l : Fin 2048) : EReal := lcen d g x l + Ideal.div (∑ k, -lcen d g x k) wide

theorem cen_real (x : Fin 2048 → ℝ) : ∃ y : Fin 2048 → ℝ, (∑ k, y k = 0) ∧ cen (fun k => (x k : EReal)) = fun k => (y k : EReal) := by
  refine ⟨fun l => x l - (∑ k, x k) / 2048, ?_, ?_⟩
  · rw [Finset.sum_sub_distrib, Finset.sum_const, Finset.card_univ, Fintype.card_fin, nsmul_eq_mul]; push_cast; ring
  · funext l; unfold cen; rw [sum_real, wide_eq, div_real _ (by norm_num), ← EReal.coe_sub]

theorem var_real (x : Fin 2048 → ℝ) : ∃ v : ℝ, 0 < v ∧ var (fun k => (x k : EReal)) = (v : EReal) := by
  obtain ⟨e, he, h⟩ := eps5_eq
  refine ⟨(∑ k, x k * x k) / 2048 + e, ?_, ?_⟩
  · have : 0 ≤ ∑ k, x k * x k := Finset.sum_nonneg fun k _ => mul_self_nonneg (x k)
    positivity
  · unfold var; simp only [← EReal.coe_mul]
    rw [sum_real, wide_eq, h, div_real _ (by norm_num), ← EReal.coe_add]

/-- At real numbers the kernel's gradient is the chain rule's. -/
theorem back_chain (d g x : Fin 2048 → ℝ) (hx : ∑ k, x k = 0) (l : Fin 2048) :
    lnback (fun k => (d k : EReal)) (fun k => (g k : EReal)) (fun k => (x k : EReal) * linv (fun k => (x k : EReal))) (linv (fun k => (x k : EReal))) l
      = lnchain (fun k => (d k : EReal)) (fun k => (g k : EReal)) (fun k => (x k : EReal)) l := by
  obtain ⟨v, hv, e⟩ := var_real x
  have hi : linv (fun k => (x k : EReal)) = (((Real.sqrt v)⁻¹ : ℝ) : EReal) := by unfold linv; rw [e, rsqrt_real hv]
  have hq : v⁻¹ = (Real.sqrt v)⁻¹ * (Real.sqrt v)⁻¹ := by rw [← mul_inv, Real.mul_self_sqrt hv.le]
  unfold lnback lnchain lcen lthrough
  rw [e, hi]
  generalize (Real.sqrt v)⁻¹ = s at *
  rw [wide_eq, minusHalf_eq, div_real _ hv.ne']
  simp only [← EReal.coe_mul, sum_real, div_real _ (by norm_num : (2048 : ℝ) ≠ 0), ← EReal.coe_sub, ← EReal.coe_add, ← EReal.coe_neg]
  rw [EReal.coe_eq_coe_iff, div_eq_mul_inv s v, hq]
  have e1 : ∑ k, d k * g k * (x k * s) = (∑ k, x k * (d k * g k)) * s := by
    rw [Finset.sum_mul]; exact Finset.sum_congr rfl fun k _ => by ring
  rw [e1]
  generalize ∑ k, x k * (d k * g k) = A
  generalize ht : A * (-(1 / 2) * (s * (s * s))) / 2048 = t
  have e2 : ∑ k, -(d k * g k * s + x k * t + t * x k) = -((∑ k, d k * g k) * s) := by
    rw [Finset.sum_neg_distrib, Finset.sum_add_distrib, Finset.sum_add_distrib, ← Finset.sum_mul, ← Finset.sum_mul, ← Finset.mul_sum, hx]
    ring
  rw [e2, ← ht]
  ring

/-- The same for rows of the extended reals that are real: `x` is the row before it is centred. -/
theorem back_eq_chain {d g x : Fin 2048 → EReal} (hd : ∀ k, ∃ r : ℝ, d k = (r : EReal)) (hg : ∀ k, ∃ r : ℝ, g k = (r : EReal))
    (hx : ∀ k, ∃ r : ℝ, x k = (r : EReal)) (l : Fin 2048) :
    lnback d g (fun k => cen x k * linv (cen x)) (linv (cen x)) l = lnchain d g (cen x) l := by
  choose d' hd using hd
  choose g' hg using hg
  choose x' hx using hx
  obtain ⟨y, h0, h1⟩ := cen_real x'
  rw [funext hd, funext hg, funext hx, h1]
  exact back_chain d' g' y h0 l

end Cert.LayerNorm

namespace Cert.NormGradIdeal.Rows

open Cert.NormGradIdeal Cert.NormGradIdeal.Gen
open Cert.Norms Cert.LayerNorm

variable (m : (ℓ : Loc nD τ sig) → Buf (Elt Ideal) ℓ)

abbrev arg0 (c : Dev nD) : S2048x2048.Idx → EReal := m ((c : Thread nD τ).loc main_arg0)
abbrev arg1 (c : Dev nD) : S2048x2048.Idx → EReal := m ((c : Thread nD τ).loc main_arg1)
abbrev arg2 (c : Dev nD) : S2048.Idx → EReal := m ((c : Thread nD τ).loc main_arg2)
abbrev arg4 (c : Dev nD) : S2048x2048.Idx → EReal := m ((c : Thread nD τ).loc main_arg4)

/-- The norm's input: the residual stream and half the branch. -/
def stream (x f : S2048x2048.Idx → EReal) (r l : Fin 2048) : EReal := x (ix2 r l) + half * f (ix2 r l)

/-- The normalised rows. -/
def normed (x f : S2048x2048.Idx → EReal) (r l : Fin 2048) : EReal := cen (stream x f r) l * linv (cen (stream x f r))

/-! ## What the forward pass leaves -/

theorem saved_rows (c : Dev nD) (r l : Fin 2048) : (V m c main_v20 : S2048x2048.Idx → EReal) (ix2 r l) = normed (arg0 m c) (arg1 m c) r l := by
  show (StableHlo.after hostOps0 (fun b => m (c, b)) (Proc.devRef .tc main_v20) : S2048x2048.Idx → EReal) (ix2 r l) = _
  after_results
  pointwise []
  rfl

theorem saved_dev (c : Dev nD) (r : Fin 2048) (l : Fin 128) : (V m c main_v25 : S2048x128.Idx → EReal) (ix2 r l) = linv (cen (stream (arg0 m c) (arg1 m c) r)) := by
  show (StableHlo.after hostOps0 (fun b => m (c, b)) (Proc.devRef .tc main_v25) : S2048x128.Idx → EReal) (ix2 r l) = _
  after_results
  pointwise []
  rfl

theorem scales (c : Dev nD) (l : Fin 2048) : (V m c main_v26 : S1x2048.Idx → EReal) (ix2 0 l) = arg2 m c (ix1 l) := by
  show (StableHlo.after hostOps0 (fun b => m (c, b)) (Proc.devRef .tc main_v26) : S1x2048.Idx → EReal) (ix2 0 l) = _
  after_results
  pointwise []

/-! ## The windows' blocks at an index -/

theorem idx_facts : ∀ t : Fin cfg0.N, (grid0.coords t 0).val = t.val
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem lt_8 (t : Fin cfg0.N) : t.val < 8 := t.isLt

/-- Row `r` of tile `t`. -/
def row (t : Fin cfg0.N) (r : Fin 256) : Fin 2048 := ⟨256 * t.val + r.val, by have := lt_8 t; omega⟩

theorem blk0 (c : Dev nD) (t : Fin cfg0.N) (r : Fin 256) (l : Fin 2048) : iblk m c 0 t (ix2 r l) = arg4 m c (ix2 (row t r) l) := by
  blk_ext! [iblk, V, idx_facts t, row]

theorem emb1 (t : Fin cfg0.N) (y : S256x2048.Idx) : ((cfg0.win 1).blk t).view.emb y = ix2 (n0 := 2048) (n1 := 2048) (row t (y 0)) (y 1) := by
  have e := idx_facts t
  funext a; apply Fin.ext
  match a with
  | ⟨0, _⟩ => show win0_1.index t (0 : Fin 2) * 256 + 1 * (y 0).val = 256 * t.val + (y 0).val; omega
  | ⟨1, _⟩ => show win0_1.index t (1 : Fin 2) * 2048 + 1 * (y 1).val = (y 1).val; omega

theorem emb2 (t : Fin cfg0.N) (y : S256x128.Idx) : ((cfg0.win 2).blk t).view.emb y = ix2 (n0 := 2048) (n1 := 128) (row t (y 0)) (y 1) := by
  have e := idx_facts t
  funext a; apply Fin.ext
  match a with
  | ⟨0, _⟩ => show win0_2.index t (0 : Fin 2) * 256 + 1 * (y 0).val = 256 * t.val + (y 0).val; omega
  | ⟨1, _⟩ => show win0_2.index t (1 : Fin 2) * 128 + 1 * (y 1).val = (y 1).val; omega

theorem emb3 (t : Fin cfg0.N) (y : S1x2048.Idx) : ((cfg0.win 3).blk t).view.emb y = y := by
  have e := idx_facts t
  funext a; apply Fin.ext
  match a with
  | ⟨0, _⟩ => show win0_3.index t (0 : Fin 2) * 1 + 1 * (y 0).val = (y 0).val; omega
  | ⟨1, _⟩ => show win0_3.index t (1 : Fin 2) * 2048 + 1 * (y 1).val = (y 1).val; omega

theorem blk1 (c : Dev nD) (t : Fin cfg0.N) (r : Fin 256) (l : Fin 2048) : iblk m c 1 t (ix2 r l) = normed (arg0 m c) (arg1 m c) (row t r) l := by
  show (V m c main_v20 : S2048x2048.Idx → EReal) (((cfg0.win 1).blk t).view.emb (ix2 r l)) = _
  rw [emb1]; exact saved_rows m c _ _

theorem blk2 (c : Dev nD) (t : Fin cfg0.N) (r : Fin 256) (l : Fin 128) : iblk m c 2 t (ix2 r l) = linv (cen (stream (arg0 m c) (arg1 m c) (row t r))) := by
  show (V m c main_v25 : S2048x128.Idx → EReal) (((cfg0.win 2).blk t).view.emb (ix2 r l)) = _
  rw [emb2]; exact saved_dev m c _ _

theorem blk3 (c : Dev nD) (t : Fin cfg0.N) (l : Fin 2048) : iblk m c 3 t (ix2 0 l) = arg2 m c (ix1 l) := by
  show (V m c main_v26 : S1x2048.Idx → EReal) (((cfg0.win 3).blk t).view.emb (ix2 0 l)) = _
  rw [emb3]; exact scales m c l

/-! ## The results -/

/-- The gradient of the norm's input. -/
def dstream (x f : S2048x2048.Idx → EReal) (g : S2048.Idx → EReal) (d : S2048x2048.Idx → EReal) (j : S2048x2048.Idx) : EReal :=
  lnback (fun k => d (ix2 (j 0) k)) (fun k => g (ix1 k)) (normed x f (j 0)) (linv (cen (stream x f (j 0)))) (j 1)

/-- The gradient of the branch. -/
def dbranch (x f : S2048x2048.Idx → EReal) (g : S2048.Idx → EReal) (d : S2048x2048.Idx → EReal) (j : S2048x2048.Idx) : EReal :=
  half * dstream x f g d j

/-- A sum over all rows. -/
def total (f : Fin 2048 → Fin 2048 → EReal) (j : S1x2048.Idx) : EReal := ∑ r, f r (j 1)

/-- A row's part of the gradient of the scale. -/
def part (x f d : S2048x2048.Idx → EReal) (r l : Fin 2048) : EReal := d (ix2 r l) * normed x f r l

theorem pay6_at (c : Dev nD) (t : Fin cfg0.N) (r : Fin 256) (l : Fin 2048) :
    k0_pay6 (F := Ideal) (iblk m c 0 t) (iblk m c 1 t) (iblk m c 2 t) (iblk m c 3 t) (ix2 r l)
      = dstream (arg0 m c) (arg1 m c) (arg2 m c) (arg4 m c) (ix2 (row t r) l) := by
  pointwise [k0_pay6, k0_pay5]
  simp only [blk0, blk1, blk2, blk3]
  rfl

theorem pay9_at (c : Dev nD) (t : Fin cfg0.N) (r : Fin 256) (l : Fin 2048) :
    k0_pay9 (F := Ideal) (iblk m c 0 t) (iblk m c 1 t) (iblk m c 2 t) (iblk m c 3 t) (ix2 r l)
      = dbranch (arg0 m c) (arg1 m c) (arg2 m c) (arg4 m c) (ix2 (row t r) l) := by
  pointwise [k0_pay9]
  rw [pay6_at]; rfl

theorem emb4 (t : Fin cfg0.N) (y : S256x2048.Idx) : ((cfg0.win 4).blk t).view.emb y = ix2 (n0 := 2048) (n1 := 2048) (row t (y 0)) (y 1) := by
  have e := idx_facts t
  funext a; apply Fin.ext
  match a with
  | ⟨0, _⟩ => show win0_4.index t (0 : Fin 2) * 256 + 1 * (y 0).val = 256 * t.val + (y 0).val; omega
  | ⟨1, _⟩ => show win0_4.index t (1 : Fin 2) * 2048 + 1 * (y 1).val = (y 1).val; omega

theorem emb5 (t : Fin cfg0.N) (y : S256x2048.Idx) : ((cfg0.win 5).blk t).view.emb y = ix2 (n0 := 2048) (n1 := 2048) (row t (y 0)) (y 1) := by
  have e := idx_facts t
  funext a; apply Fin.ext
  match a with
  | ⟨0, _⟩ => show win0_5.index t (0 : Fin 2) * 256 + 1 * (y 0).val = 256 * t.val + (y 0).val; omega
  | ⟨1, _⟩ => show win0_5.index t (1 : Fin 2) * 2048 + 1 * (y 1).val = (y 1).val; omega

theorem out4 (c : Dev nD) (t : Fin cfg0.N) (y : S256x2048.Idx) : (outsAt0 m c t.val t.isLt).1 y
    = k0_pay6 (F := Ideal) (iblk m c 0 t) (iblk m c 1 t) (iblk m c 2 t) (iblk m c 3 t) y := by
  by_cases h : t.val % 8 = 0
  · rw [outsAt0_A m c t h]; frame_out
  · rw [outsAt0_B m c t h]; frame_out

theorem out5 (c : Dev nD) (t : Fin cfg0.N) (y : S256x2048.Idx) : (outsAt0 m c t.val t.isLt).2.1 y
    = k0_pay9 (F := Ideal) (iblk m c 0 t) (iblk m c 1 t) (iblk m c 2 t) (iblk m c 3 t) y := by
  by_cases h : t.val % 8 = 0
  · rw [outsAt0_A m c t h]; frame_out
  · rw [outsAt0_B m c t h]; frame_out

theorem final4 (c : Dev nD) : (dats m 0 c).arrAt 4 cfg0.N = dstream (arg0 m c) (arg1 m c) (arg2 m c) (arg4 m c) := by
  refine (dats m 0 c).arrAt_eq_of_covers 4 _ (by decide +kernel) (fun t _ y => ?_)
  show (dats m 0 c).after 4 t y = _
  rw [after0_4, emb4, out4]
  exact (congrArg (k0_pay6 (F := Ideal) (iblk m c 0 t) (iblk m c 1 t) (iblk m c 2 t) (iblk m c 3 t)) (eq_ix2 (n0 := 256) (n1 := 2048) y)).trans (pay6_at m c t (y 0) (y 1))

theorem final5 (c : Dev nD) : (dats m 0 c).arrAt 5 cfg0.N = dbranch (arg0 m c) (arg1 m c) (arg2 m c) (arg4 m c) := by
  refine (dats m 0 c).arrAt_eq_of_covers 5 _ (by decide +kernel) (fun t _ y => ?_)
  show (dats m 0 c).after 5 t y = _
  rw [after0_5, emb5, out5]
  exact (congrArg (k0_pay9 (F := Ideal) (iblk m c 0 t) (iblk m c 1 t) (iblk m c 2 t) (iblk m c 3 t)) (eq_ix2 (n0 := 256) (n1 := 2048) y)).trans (pay9_at m c t (y 0) (y 1))

/-! ## The sums over rows -/

/-- A buffer that starts at zero and takes the sum over the tile's rows at every tile holds the sum over all rows in the end. -/
theorem total_of_steps (o : (n : ℕ) → n < cfg0.N → S1x2048.Idx → EReal) (f : Fin 2048 → Fin 2048 → EReal)
    (hA : ∀ t : Fin cfg0.N, t.val % 8 = 0 → ∀ l, o t.val t.isLt (ix2 0 l) = 0 + ∑ r : Fin 256, f (row t r) l)
    (hB : ∀ t : Fin cfg0.N, ¬ t.val % 8 = 0 → ∀ l, o t.val t.isLt (ix2 0 l)
      = o (t.val - 1) (Nat.lt_of_le_of_lt (Nat.sub_le _ _) t.isLt) (ix2 0 l) + ∑ r : Fin 256, f (row t r) l)
    (t : Fin cfg0.N) (ht : t.val + 1 = cfg0.N) (y : S1x2048.Idx) : o t.val t.isLt y = total f y := by
  obtain ⟨l, rfl⟩ : ∃ l : Fin 2048, y = ix2 0 l := ⟨y 1, Cert.Finite.row_idx y (y 1) rfl⟩
  rw [Pipeline.eq_sum_fin_of_reset_step_apply_last (M := EReal) (fun n h (l : Fin 2048) => o n h (ix2 0 l)) 8 (fun _ => 0) _ hA hB
    (le_of_eq N_0) t ht l, zero_add]
  unfold total
  refine Fin.sum_mul_add_congr (S := 8) (n := 256) fun s k hl => ?_
  have e : row s k = ⟨s.val * 256 + k.val, hl⟩ := Fin.ext (by show 256 * s.val + k.val = s.val * 256 + k.val; omega)
  exact congrArg (f · l) e

theorem pay7_at (c : Dev nD) (t : Fin cfg0.N) (l : Fin 2048) :
    k0_pay7 (F := Ideal) (iblk m c 0 t) (iblk m c 1 t) (ix2 0 l) = ∑ r : Fin 256, part (arg0 m c) (arg1 m c) (arg4 m c) (row t r) l := by
  pointwise [k0_pay7, k0_pay5]
  simp only [blk0, blk1]
  rfl

theorem pay8_at (c : Dev nD) (t : Fin cfg0.N) (l : Fin 2048) :
    k0_pay8 (F := Ideal) (iblk m c 0 t) (ix2 0 l) = ∑ r : Fin 256, arg4 m c (ix2 (row t r) l) := by
  pointwise [k0_pay8]
  simp only [blk0]

theorem final6 (c : Dev nD) : (dats m 0 c).arrAt 6 cfg0.N = total (part (arg0 m c) (arg1 m c) (arg4 m c)) := by
  refine (dats m 0 c).arrAt_eq_of_covers 6 _ (by decide +kernel) (fun t hf y => ?_)
  have ht : t.val + 1 = cfg0.N := by have := (flush0_6 t).mp hf; have := lt_8 t; show t.val + 1 = 8; omega
  have ey : ((cfg0.win 6).blk t).view.emb y = y := by
    have e := idx_facts t
    funext a; apply Fin.ext
    match a with
    | ⟨0, _⟩ => show win0_6.index t (0 : Fin 2) * 1 + 1 * (y 0).val = (y 0).val; omega
    | ⟨1, _⟩ => show win0_6.index t (1 : Fin 2) * 2048 + 1 * (y 1).val = (y 1).val; omega
  show (dats m 0 c).after 6 t y = _
  rw [after0_6, ey]
  refine total_of_steps (fun n h => (outsAt0 m c n h).2.2.1) _ (fun t h l => ?_) (fun t h l => ?_) t ht y
  · rw [← pay7_at m c t l]
    rw [outsAt0_A m c t h]; frame_out; pointwise [k0_pay3, k0_pay1]
  · rw [← pay7_at m c t l]
    rw [outsAt0_B m c t h]; frame_out; pointwise [k0_pay3]

theorem final7 (c : Dev nD) : (dats m 0 c).arrAt 7 cfg0.N = total (fun r l => arg4 m c (ix2 r l)) := by
  refine (dats m 0 c).arrAt_eq_of_covers 7 _ (by decide +kernel) (fun t hf y => ?_)
  have ht : t.val + 1 = cfg0.N := by have := (flush0_7 t).mp hf; have := lt_8 t; show t.val + 1 = 8; omega
  have ey : ((cfg0.win 7).blk t).view.emb y = y := by
    have e := idx_facts t
    funext a; apply Fin.ext
    match a with
    | ⟨0, _⟩ => show win0_7.index t (0 : Fin 2) * 1 + 1 * (y 0).val = (y 0).val; omega
    | ⟨1, _⟩ => show win0_7.index t (1 : Fin 2) * 2048 + 1 * (y 1).val = (y 1).val; omega
  show (dats m 0 c).after 7 t y = _
  rw [after0_7, ey]
  refine total_of_steps (fun n h => (outsAt0 m c n h).2.2.2) _ (fun t h l => ?_) (fun t h l => ?_) t ht y
  · rw [← pay8_at m c t l]
    rw [outsAt0_A m c t h]; frame_out; pointwise [k0_pay4, k0_pay2]
  · rw [← pay8_at m c t l]
    rw [outsAt0_B m c t h]; frame_out; pointwise [k0_pay4]

end Cert.NormGradIdeal.Rows

/-! ## The reference -/

namespace Cert.NormGradRefIdeal.Rows

open Cert.NormGradRefIdeal Cert.NormGradRefIdeal.Value Cert.NormGradRefIdeal.Read
open Cert.Norms Cert.LayerNorm
open Cert.NormGradIdeal.Rows (stream normed)

theorem ref59 (x f : S2048x2048.Idx → EReal) (g : S2048.Idx → EReal) (d : S2048x2048.Idx → EReal) (r l : Fin 2048) :
    val_main_v59 (F := Ideal) x f g d (ix2 r l) = lnchain (fun k => d (ix2 r k)) (fun k => g (ix1 k)) (cen (stream x f r)) l := by
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v36, val_main_v35, val_main_v28, val_main_v23, val_main_v22, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16]
  simp only [Fin.sum_univ_one]
  rfl

theorem ref63 (x f d : S2048x2048.Idx → EReal) (l : Fin 2048) :
    val_main_v63 (F := Ideal) x f d (ix2 0 l) = ∑ r : Fin 2048, normed x f r l * d (ix2 r l) := by
  pointwise [val_main_v63, val_main_v37, val_main_v34, val_main_v33, val_main_v32, val_main_v28, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16]
  simp only [Fin.sum_univ_one]
  rfl

theorem ref64 (d : S2048x2048.Idx → EReal) (l : Fin 2048) :
    val_main_v64 (F := Ideal) d (ix2 0 l) = ∑ r : Fin 2048, d (ix2 r l) := by
  pointwise [val_main_v64, val_main_v31, val_main_v30, val_main_v29, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16]
  simp only [Fin.sum_univ_one]

end Cert.NormGradRefIdeal.Rows

/-! ## The claims -/

namespace Cert.Proof.NormGradClaims

open Cert.NormGradIdeal.Rows
open Cert.NormGradIdeal (S2048x2048 S2048 S1x2048)
open Cert.NormGradRefIdeal.Read
open Cert.Norms Cert.LayerNorm Cert.Finite

/-- The shapes of the finiteness test. -/
theorem pre_facts : Cert.Pre_finite_ln.Facts where
  bcast_S_S2048x2048 := by decide
  bcast_S_S2048 := by decide
  bcast_S2048_S1x2048_1 := by decide
  bcast_S1x2048_S2048x2048_0_1 := by decide

section
variable [hP : Cert.Pre_finite_ln.Facts] (x f : S2048x2048.Idx → EReal) (g b : S2048.Idx → EReal) (d : S2048x2048.Idx → EReal)
  (h : Cert.Pre_finite_ln.fn (F := Ideal) x f g b d = fun _ => 1#1)
include h

/-- What `finite_ln` says of its four arrays at row `r` and column `l`. -/
theorem finite (r l : Fin 2048) : (∃ v : ℝ, x (ix2 r l) = (v : EReal)) ∧ (∃ v : ℝ, f (ix2 r l) = (v : EReal))
    ∧ (∃ v : ℝ, g (ix1 l) = (v : EReal)) ∧ ∃ v : ℝ, d (ix2 r l) = (v : EReal) := by
  have pre := congrFun h (ix2 r l)
  simp only [Cert.Pre_finite_ln.fn] at pre
  obtain ⟨pre, h4⟩ := andi_one pre
  obtain ⟨pre, h2⟩ := andi_one pre
  obtain ⟨h0, h1⟩ := andi_one pre
  have e0 : below (x (ix2 r l)) = 1#1 := (by pointwise; rfl : below (x (ix2 r l)) = _).trans h0
  have e1 : below (f (ix2 r l)) = 1#1 := (by pointwise; rfl : below (f (ix2 r l)) = _).trans h1
  have e2 : below (g (ix1 l)) = 1#1 := (by pointwise; rfl : below (g (ix1 l)) = _).trans h2
  have e4 : below (d (ix2 r l)) = 1#1 := (by pointwise; rfl : below (d (ix2 r l)) = _).trans h4
  exact ⟨⟨_, (real_of_below e0).symm⟩, ⟨_, (real_of_below e1).symm⟩, ⟨_, (real_of_below e2).symm⟩, ⟨_, (real_of_below e4).symm⟩⟩

theorem stream_real (r l : Fin 2048) : ∃ v : ℝ, stream x f r l = (v : EReal) := by
  obtain ⟨⟨a, ha⟩, ⟨b, hb⟩, _⟩ := finite x f g b d h r l
  exact ⟨a + 1 / 2 * b, by unfold stream; rw [ha, hb, half_eq, ← EReal.coe_mul, ← EReal.coe_add]⟩

theorem ref59 : val_main_v59 (F := Ideal) x f g d = dstream x f g d := by
  funext j
  obtain ⟨r, l, rfl⟩ : ∃ r l, j = ix2 r l := ⟨_, _, eq_ix2 (n0 := 2048) (n1 := 2048) j⟩
  rw [Cert.NormGradRefIdeal.Rows.ref59]
  exact (back_eq_chain (fun k => (finite x f g b d h r k).2.2.2) (fun k => (finite x f g b d h r k).2.2.1) (fun k => stream_real x f g b d h r k) l).symm

theorem ref62 : val_main_v62 (F := Ideal) x f g d = dbranch x f g d := by
  funext j
  obtain ⟨r, l, rfl⟩ : ∃ r l, j = ix2 r l := ⟨_, _, eq_ix2 (n0 := 2048) (n1 := 2048) j⟩
  pointwise [val_main_v62, val_main_v61, val_main_v60, val_main_cst_16]
  rw [ref59 x f g b d h]
  rfl

end

theorem ref63 (x f d : S2048x2048.Idx → EReal) : val_main_v63 (F := Ideal) x f d = total (part x f d) := by
  funext j
  obtain ⟨l, rfl⟩ : ∃ l : Fin 2048, j = ix2 0 l := ⟨j 1, row_idx j (j 1) rfl⟩
  rw [Cert.NormGradRefIdeal.Rows.ref63]
  exact Finset.sum_congr rfl fun r _ => mul_comm _ _

theorem ref64 (d : S2048x2048.Idx → EReal) : val_main_v64 (F := Ideal) d = total (fun r l => d (ix2 r l)) := by
  funext j
  obtain ⟨l, rfl⟩ : ∃ l : Fin 2048, j = ix2 0 l := ⟨j 1, row_idx j (j 1) rfl⟩
  rw [Cert.NormGradRefIdeal.Rows.ref64]
  rfl

theorem frame_ref : Cert.quiescent_NormGradRefIdeal := fun m ρ _ =>
  (θ_run Cert.NormGradRefIdeal.defs _ _).mono (fun r h => ⟨fun c => (h c).2.2.2.2,
      Idealize.ShloMosaic.sem_eq_zero_of_no_sems (by decide) r.2⟩)
    (Cert.NormGradRefIdeal.Value.run (F := Ideal) m ρ)

theorem algebraic [hP : Cert.Pre_finite_ln.Facts] : Cert.algebraic_NormGradIdeal_NormGradRefIdeal_pre_finite_ln := by
  intro m ρ m' ρ' hpre hagree
  refine ⟨fun c => dstream (arg0 m c) (arg1 m c) (arg2 m c) (arg4 m c), fun c => dbranch (arg0 m c) (arg1 m c) (arg2 m c) (arg4 m c),
    fun c => total (part (arg0 m c) (arg1 m c) (arg4 m c)), fun c => total (fun r l => arg4 m c (ix2 r l)), ?_, ?_⟩
  · exact (θ_run Cert.NormGradIdeal.defs _ _).mono
      (fun _ h c => ⟨(h c).1.trans (final4 m c), (h c).2.1.trans (final5 m c), (h c).2.2.1.trans (final6 m c), (h c).2.2.2.1.trans (final7 m c), (h c).2.2.2.2⟩)
      (Cert.NormGradIdeal.Value.run_blocks (F := Ideal) m ρ)
  · refine (θ_run Cert.NormGradRefIdeal.defs _ _).mono
      (fun _ h c => ⟨(h c).1.trans ?_, (h c).2.1.trans ?_, (h c).2.2.1.trans ?_, (h c).2.2.2.1.trans ?_, (h c).2.2.2.2⟩)
      (Cert.NormGradRefIdeal.Value.run (F := Ideal) m' ρ')
    · refine (val_main_v59_eq _ _).trans ?_
      rw [(hagree c).1, (hagree c).2.1, (hagree c).2.2.1, (hagree c).2.2.2.2]
      exact ref59 _ _ _ _ _ (hpre c)
    · refine (val_main_v62_eq _ _).trans ?_
      rw [(hagree c).1, (hagree c).2.1, (hagree c).2.2.1, (hagree c).2.2.2.2]
      exact ref62 _ _ _ _ _ (hpre c)
    · refine ((val_main_v63_eq _ _ _).trans (ref63 _ _ _)).trans ?_
      rw [(hagree c).1, (hagree c).2.1, (hagree c).2.2.2.2]
    · refine ((val_main_v64_eq _).trans (ref64 _)).trans ?_
      rw [(hagree c).2.2.2.2]

end Cert.Proof.NormGradClaims
end
-- ==== Proof.Loss.lean ====
/-
  The loss: half the mean square of the error, summed over rows, and its gradient. The kernel goes through tiles of 256 rows and keeps
  the sums over rows, column by column, in a buffer of its own; the host adds up the columns. Nothing needs to be finite: the terms of
  the sums are not negative.
-/
module

public import proofs.«01_k».proof.Defs
public import proofs.«01_k».proof.Proof.Gen.LossIdeal.Frame
public import proofs.«01_k».proof.Proof.Gen.LossRefIdeal.Run
public import proofs.«01_k».proof.Proof.Gen.LossRefIdeal.Read
public import proofs.«01_k».proof.Proof.Norms
public import proofs.«01_k».proof.Proof.Finite
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.LossIdeal.Rows

open Cert.LossIdeal Cert.LossIdeal.Gen

variable (m : (ℓ : Loc nD τ sig) → Buf (Elt Ideal) ℓ)

abbrev arg0 (c : Dev nD) : S2048x2048.Idx → EReal := m ((c : Thread nD τ).loc main_arg0)
abbrev arg1 (c : Dev nD) : S2048x2048.Idx → EReal := m ((c : Thread nD τ).loc main_arg1)

/-- One over the width, as the kernel spells it. -/
def share : EReal := Ideal.ofBits .f32 0x3A000000#32
/-- One half. -/
def half : EReal := Ideal.ofBits .f32 0x3F000000#32

theorem share_eq : share = ((1 / 2048 : ℝ) : EReal) := by
  unfold share; simp [Ideal.ofBits, Ideal.ieee, ← EReal.coe_mul]; norm_num
theorem half_eq : half = ((1 / 2 : ℝ) : EReal) := by
  unfold half; simp [Ideal.ofBits, Ideal.ieee, ← EReal.coe_mul]; norm_num

/-- The error. -/
def err (x y : S2048x2048.Idx → EReal) (r l : Fin 2048) : EReal := x (ix2 r l) - y (ix2 r l)

/-- The gradient. -/
def grad (x y : S2048x2048.Idx → EReal) (j : S2048x2048.Idx) : EReal := err x y (j 0) (j 1) * share

/-- An entry's part of the loss. -/
def part (x y : S2048x2048.Idx → EReal) (r l : Fin 2048) : EReal := half * err x y r l * err x y r l * share

/-- A sum over all rows. -/
def total (f : Fin 2048 → Fin 2048 → EReal) (j : S1x2048.Idx) : EReal := ∑ r, f r (j 1)

/-- The loss. -/
def loss (x y : S2048x2048.Idx → EReal) (_ : S_.Idx) : EReal := ∑ l, ∑ r, part x y r l

theorem idx_facts : ∀ t : Fin cfg0.N, (grid0.coords t 0).val = t.val
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

theorem lt_8 (t : Fin cfg0.N) : t.val < 8 := t.isLt

/-- Row `r` of tile `t`. -/
def row (t : Fin cfg0.N) (r : Fin 256) : Fin 2048 := ⟨256 * t.val + r.val, by have := lt_8 t; omega⟩

theorem blk0 (c : Dev nD) (t : Fin cfg0.N) (r : Fin 256) (l : Fin 2048) : iblk m c 0 t (ix2 r l) = arg0 m c (ix2 (row t r) l) := by
  blk_ext! [iblk, V, idx_facts t, row]

theorem blk1 (c : Dev nD) (t : Fin cfg0.N) (r : Fin 256) (l : Fin 2048) : iblk m c 1 t (ix2 r l) = arg1 m c (ix2 (row t r) l) := by
  blk_ext! [iblk, V, idx_facts t, row]

theorem pay2_at (c : Dev nD) (t : Fin cfg0.N) (r : Fin 256) (l : Fin 2048) :
    k0_pay2 (F := Ideal) (iblk m c 0 t) (iblk m c 1 t) (ix2 r l) = grad (arg0 m c) (arg1 m c) (ix2 (row t r) l) := by
  pointwise [k0_pay2, k0_pay1]
  rw [blk0, blk1]; rfl

theorem emb2 (t : Fin cfg0.N) (y : S256x2048.Idx) : ((cfg0.win 2).blk t).view.emb y = ix2 (n0 := 2048) (n1 := 2048) (row t (y 0)) (y 1) := by
  have e := idx_facts t
  funext a; apply Fin.ext
  match a with
  | ⟨0, _⟩ => show win0_2.index t (0 : Fin 2) * 256 + 1 * (y 0).val = 256 * t.val + (y 0).val; omega
  | ⟨1, _⟩ => show win0_2.index t (1 : Fin 2) * 2048 + 1 * (y 1).val = (y 1).val; omega

theorem out2 (c : Dev nD) (t : Fin cfg0.N) (y : S256x2048.Idx) : (outsAt0 m c t.val t.isLt).1 y
    = k0_pay2 (F := Ideal) (iblk m c 0 t) (iblk m c 1 t) y := by
  by_cases h : t.val % 8 = 0
  · rw [outsAt0_A m c t h]; frame_out
  · rw [outsAt0_B m c t h]; frame_out

theorem final2 (c : Dev nD) : (dats m 0 c).arrAt 2 cfg0.N = grad (arg0 m c) (arg1 m c) := by
  refine (dats m 0 c).arrAt_eq_of_covers 2 _ (by decide +kernel) (fun t _ y => ?_)
  show (dats m 0 c).after 2 t y = _
  rw [after0_2, emb2, out2]
  exact (congrArg (k0_pay2 (F := Ideal) (iblk m c 0 t) (iblk m c 1 t)) (eq_ix2 (n0 := 256) (n1 := 2048) y)).trans (pay2_at m c t (y 0) (y 1))

/-- A buffer that starts at zero and takes the sum over the tile's rows at every tile holds the sum over all rows in the end. -/
theorem total_of_steps (o : (n : ℕ) → n < cfg0.N → S1x2048.Idx → EReal) (f : Fin 2048 → Fin 2048 → EReal)
    (hA : ∀ t : Fin cfg0.N, t.val % 8 = 0 → ∀ l, o t.val t.isLt (ix2 0 l) = 0 + ∑ r : Fin 256, f (row t r) l)
    (hB : ∀ t : Fin cfg0.N, ¬ t.val % 8 = 0 → ∀ l, o t.val t.isLt (ix2 0 l)
      = o (t.val - 1) (Nat.lt_of_le_of_lt (Nat.sub_le _ _) t.isLt) (ix2 0 l) + ∑ r : Fin 256, f (row t r) l)
    (t : Fin cfg0.N) (ht : t.val + 1 = cfg0.N) (y : S1x2048.Idx) : o t.val t.isLt y = total f y := by
  obtain ⟨l, rfl⟩ : ∃ l : Fin 2048, y = ix2 0 l := ⟨y 1, Cert.Finite.row_idx y (y 1) rfl⟩
  rw [Pipeline.eq_sum_fin_of_reset_step_apply_last (M := EReal) (fun n h (l : Fin 2048) => o n h (ix2 0 l)) 8 (fun _ => 0) _ hA hB
    (le_of_eq N_0) t ht l, zero_add]
  unfold total
  refine Fin.sum_mul_add_congr (S := 8) (n := 256) fun s k hl => ?_
  have e : row s k = ⟨s.val * 256 + k.val, hl⟩ := Fin.ext (by show 256 * s.val + k.val = s.val * 256 + k.val; omega)
  exact congrArg (f · l) e

theorem pay4_at (c : Dev nD) (t : Fin cfg0.N) (v : S1x2048.Idx → EReal) (l : Fin 2048) :
    k0_pay4 (F := Ideal) (iblk m c 0 t) (iblk m c 1 t) v (ix2 0 l) = v (ix2 0 l) + ∑ r : Fin 256, part (arg0 m c) (arg1 m c) (row t r) l := by
  pointwise [k0_pay4, k0_pay1]
  simp only [blk0, blk1]
  rfl

theorem final3 (c : Dev nD) : (dats m 0 c).arrAt 3 cfg0.N = total (part (arg0 m c) (arg1 m c)) := by
  refine (dats m 0 c).arrAt_eq_of_covers 3 _ (by decide +kernel) (fun t hf y => ?_)
  have ht : t.val + 1 = cfg0.N := by have := (flush0_3 t).mp hf; have := lt_8 t; show t.val + 1 = 8; omega
  have ey : ((cfg0.win 3).blk t).view.emb y = y := by
    have e := idx_facts t
    funext a; apply Fin.ext
    match a with
    | ⟨0, _⟩ => show win0_3.index t (0 : Fin 2) * 1 + 1 * (y 0).val = (y 0).val; omega
    | ⟨1, _⟩ => show win0_3.index t (1 : Fin 2) * 2048 + 1 * (y 1).val = (y 1).val; omega
  show (dats m 0 c).after 3 t y = _
  rw [after0_3, ey]
  refine total_of_steps (fun n h => (outsAt0 m c n h).2) _ (fun t h l => ?_) (fun t h l => ?_) t ht y
  · rw [outsAt0_A m c t h]; frame_out
    refine (pay4_at m c t _ l).trans ?_
    pointwise [k0_pay3]
  · rw [outsAt0_B m c t h]; frame_out
    exact pay4_at m c t _ l

/-- A sum over both axes of a row is the sum over its columns. -/
theorem reduce_row (h : S1x2048.ReducesTo [0, 1] S_) (v : S1x2048.Idx → EReal) (i : S_.Idx) :
    Ideal.hostReduceAdd h v 0 i = ∑ l : Fin 2048, v (ix2 0 l) := by
  have key : Finset.univ.filter (fun j => h.drop j = i) = Finset.univ.image (fun l : Fin 2048 => (ix2 0 l : S1x2048.Idx)) := by
    ext j
    rw [Finset.mem_filter, Finset.mem_image]
    constructor
    · intro _; exact ⟨j 1, Finset.mem_univ _, (Cert.Finite.row_idx j (j 1) rfl).symm⟩
    · intro _; exact ⟨Finset.mem_univ _, funext fun a => a.elim0⟩
  unfold Ideal.hostReduceAdd
  rw [key, Finset.sum_image, zero_add]
  intro a _ b _ e
  exact congrFun e 1

/-- What the host leaves in the scalar. -/
theorem tail (c : Dev nD) : Pipeline.afterTail₀ cfgs (dats m) 0 (V0 m) [hostOps1] c main_v1 = loss (arg0 m c) (arg1 m c) := by
  show StableHlo.after hostOps1 (Pipeline.withArrays (cfgs 0).spec c (V0 m c) fun w => (dats m 0 c).arrAt w (cfgs 0).N) (Proc.devRef .tc main_v1) = _
  after_results
  have e : Pipeline.withArrays (cfgs 0).spec c (V0 m c) (fun w => (dats m 0 c).arrAt w (cfgs 0).N) (Proc.devRef .tc main_v0_1) = total (part (arg0 m c) (arg1 m c)) :=
    (Pipeline.withArrays_arr spec0 (by decide) c (V0 m c) (fun w => (dats m 0 c).arrAt w (cfgs 0).N) 3).trans (final3 m c)
  rw [e]
  funext i
  refine Eq.trans ?_ (reduce_row reducesTo_S1x2048_S_d0_1 (total (part (arg0 m c) (arg1 m c))) i)
  pointwise []

end Cert.LossIdeal.Rows

/-! ## The claims -/

namespace Cert.Proof.LossClaims

open Cert.LossIdeal.Rows
open Cert.LossIdeal (S2048x2048 S_)
open Cert.LossRefIdeal.Read
open Cert.Norms

/-- The width of a row. -/
def wide : EReal := Ideal.ofBits .f32 0x45000000#32
/-- Two. -/
def two : EReal := Ideal.ofBits .f32 0x40000000#32
theorem wide_eq : wide = ((2048 : ℝ) : EReal) := by
  unfold wide; simp [Ideal.ofBits, Ideal.ieee, ← EReal.coe_mul]; norm_num
theorem two_eq : two = ((2 : ℝ) : EReal) := by
  unfold two; simp [Ideal.ofBits, Ideal.ieee, ← EReal.coe_mul]; norm_num

theorem sq_nonneg (x : EReal) : 0 ≤ x * x := by
  rcases le_total 0 x with h | h
  · exact mul_nonneg h h
  · have h' : 0 ≤ -x := EReal.neg_nonneg.mpr h
    have e : x * x = (-x) * (-x) := by rw [EReal.neg_mul, mul_comm x (-x), EReal.neg_mul, neg_neg]
    rw [e]; exact mul_nonneg h' h'

/-- A factor goes into a sum of terms that are not negative. -/
theorem mul_sum {ι : Type} (s : Finset ι) (k : EReal) (f : ι → EReal) (h : ∀ i, 0 ≤ f i) : k * ∑ i ∈ s, f i = ∑ i ∈ s, k * f i := by
  classical
  induction s using Finset.induction_on with
  | empty => simp
  | insert a s ha ih => rw [Finset.sum_insert ha, Finset.sum_insert ha, EReal.left_distrib_of_nonneg (h a) (Finset.sum_nonneg fun i _ => h i), ih]

theorem ref14 (x y : S2048x2048.Idx → EReal) : val_main_v14 (F := Ideal) x y = grad x y := by
  funext j
  obtain ⟨r, l, rfl⟩ : ∃ r l, j = ix2 r l := ⟨_, _, eq_ix2 (n0 := 2048) (n1 := 2048) j⟩
  pointwise [val_main_v14, val_main_v13, val_main_v12, val_main_v11, val_main_v10, val_main_v9, val_main_v3, val_main_v2, val_main_v0, val_main_cst, val_main_cst_0, val_main_cst_1, val_main_cst_2, val_main_cst_3, val_main_cst_4, val_main_cst_5, val_main_cst_6]
  show Ideal.div half wide * (two * err x y r l) = err x y r l * share
  rw [half_eq, wide_eq, two_eq, share_eq, div_real _ (by norm_num), ← mul_assoc, ← EReal.coe_mul, mul_comm]
  congr 2; norm_num

theorem ref8 (x y : S2048x2048.Idx → EReal) : val_main_v8 (F := Ideal) x y = loss x y := by
  funext j
  obtain rfl : j = ix0 := funext fun a => a.elim0
  pointwise [val_main_v8, val_main_v7, val_main_v6, val_main_v5, val_main_v4, val_main_v1, val_main_v0, val_main_cst, val_main_cst_0, val_main_cst_1, val_main_cst_2, val_main_cst_3, val_main_cst_4, val_main_cst_5, val_main_cst_6]
  show half * ∑ r : Fin 2048, Ideal.div (∑ l : Fin 2048, err x y r l * err x y r l) wide = ∑ l : Fin 2048, ∑ r : Fin 2048, part x y r l
  rw [wide_eq, Finset.sum_comm]
  have hk : (0 : EReal) ≤ ((1 / 2048 : ℝ) : EReal) := EReal.coe_nonneg.mpr (by norm_num)
  have e : ∀ r, Ideal.div (∑ l : Fin 2048, err x y r l * err x y r l) ((2048 : ℝ) : EReal) = ∑ l : Fin 2048, ((1 / 2048 : ℝ) : EReal) * (err x y r l * err x y r l) := fun r => by
    rw [Ideal.div_coe (by norm_num), mul_comm, ← mul_sum _ _ _ fun l => sq_nonneg _]
  simp only [e]
  rw [mul_sum _ _ _ fun r => Finset.sum_nonneg fun l _ => mul_nonneg hk (sq_nonneg _)]
  refine Finset.sum_congr rfl fun r _ => ?_
  rw [mul_sum _ _ _ fun l => mul_nonneg hk (sq_nonneg _)]
  refine Finset.sum_congr rfl fun l _ => ?_
  unfold part
  rw [share_eq, mul_comm ((1 / 2048 : ℝ) : EReal), ← mul_assoc, ← mul_assoc]

theorem frame_ref : Cert.quiescent_LossRefIdeal := fun m ρ _ =>
  (θ_run Cert.LossRefIdeal.defs _ _).mono (fun r h => ⟨fun c => (h c).2.2,
      Idealize.ShloMosaic.sem_eq_zero_of_no_sems (by decide) r.2⟩)
    (Cert.LossRefIdeal.Value.run (F := Ideal) m ρ)

theorem algebraic : Cert.algebraic_LossIdeal_LossRefIdeal := by
  intro m ρ m' ρ' _ hagree
  refine ⟨fun c => grad (arg0 m c) (arg1 m c), fun c => loss (arg0 m c) (arg1 m c), ?_, ?_⟩
  · exact (θ_run Cert.LossIdeal.defs _ _).mono
      (fun _ h c => ⟨(h.1 c).1 2 |>.trans (final2 m c), ((h.1 c).2 Cert.LossIdeal.main_v1 (by decide)).trans (tail m c), h.2 c⟩)
      (θ_run_and (Cert.LossIdeal.Gen.run_main (F := Ideal) m ρ) (Cert.LossIdeal.Gen.unchanged (F := Ideal) m ρ))
  · refine (θ_run Cert.LossRefIdeal.defs _ _).mono
      (fun _ h c => ⟨(h c).1.trans ?_, (h c).2.1.trans ?_, (h c).2.2⟩)
      (Cert.LossRefIdeal.Value.run (F := Ideal) m' ρ')
    · refine ((val_main_v14_eq _ _).trans (ref14 _ _)).trans ?_
      rw [(hagree c).1, (hagree c).2]
    · refine ((val_main_v8_eq _ _).trans (ref8 _ _)).trans ?_
      rw [(hagree c).1, (hagree c).2]

end Cert.Proof.LossClaims
end
-- ==== Proof.SwigluGrad.lean ====
/-
  The gradient of a gated product, fused with the product that brings the cotangent to it: the cotangent's rows times the transposed
  down projection, then the gradients of the gate's and of the linear half. The kernel goes through four shards of 1408 columns and
  four tiles of 512 rows.
-/
module

public import proofs.«01_k».proof.Defs
public import proofs.«01_k».proof.Proof.Gen.SwigluGradIdeal.Value
public import proofs.«01_k».proof.Proof.Gen.SwigluGradRefIdeal.Run
public import proofs.«01_k».proof.Proof.Gen.SwigluGradRefIdeal.Read
public import proofs.«01_k».proof.Proof.Norms
public import proofs.«01_k».proof.Proof.Finite
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The gate -/

namespace Cert.Swiglu
open Cert.Norms

/-- The gradient of the gate's argument, as the kernel writes it: `a` is the cotangent, `h` the argument, `u` the linear half. -/
def dgate (a h u : EReal) : EReal := a * u * (sigm h * (1 + h * (1 - sigm h)))

/-- The gradient of the gate's argument, as the chain rule writes it. -/
def dchain (a h u : EReal) : EReal := a * u * sigm h + h * (a * u) * (sigm h * (1 - sigm h))

/-- At real numbers the two agree. -/
theorem dgate_eq {a h u : EReal} (ha : ∃ r : ℝ, a = (r : EReal)) (hh : ∃ r : ℝ, h = (r : EReal)) (hu : ∃ r : ℝ, u = (r : EReal)) :
    dgate a h u = dchain a h u := by
  obtain ⟨a, rfl⟩ := ha
  obtain ⟨h, rfl⟩ := hh
  obtain ⟨u, rfl⟩ := hu
  obtain ⟨s, hs⟩ := sigm_real h
  unfold dgate dchain
  rw [hs, ← EReal.coe_one]
  simp only [← EReal.coe_mul, ← EReal.coe_sub, ← EReal.coe_add]
  rw [EReal.coe_eq_coe_iff]
  ring

end Cert.Swiglu

namespace Cert.SwigluGradIdeal.Tiles

open Cert.SwigluGradIdeal Cert.SwigluGradIdeal.Gen
open Cert.Norms Cert.Swiglu

variable (m : (ℓ : Loc nD τ sig) → Buf (Elt Ideal) ℓ)

abbrev arg0 (c : Dev nD) : S2048x2048.Idx → EReal := m ((c : Thread nD τ).loc main_arg0)
abbrev arg1 (c : Dev nD) : S2048x5632.Idx → EReal := m ((c : Thread nD τ).loc main_arg1)
abbrev arg2 (c : Dev nD) : S2048x5632.Idx → EReal := m ((c : Thread nD τ).loc main_arg2)
abbrev arg3 (c : Dev nD) : S5632x2048.Idx → EReal := m ((c : Thread nD τ).loc main_arg3)

/-! ## What the host leaves -/

theorem cast0 (c : Dev nD) (r l : Fin 2048) : (V m c main_v0 : S2048x2048.Idx → EReal) (ix2 r l) = arg0 m c (ix2 r l) := by
  show (StableHlo.after hostOps0 (fun b => m (c, b)) (Proc.devRef .tc main_v0) : S2048x2048.Idx → EReal) (ix2 r l) = _
  after_results
  pointwise []

theorem shards (c : Dev nD) (s : Fin 4) (l : Fin 1408) (k : Fin 2048) : (V m c main_v2 : S4x1408x2048.Idx → EReal) (ix3 s l k)
    = arg3 m c (ix2 ⟨s.val * 1408 + l.val, by omega⟩ k) := by
  show (StableHlo.after hostOps0 (fun b => m (c, b)) (Proc.devRef .tc main_v2) : S4x1408x2048.Idx → EReal) (ix3 s l k) = _
  after_results
  pointwise []

/-! ## The windows' blocks at an index -/

theorem idx_facts : ∀ t : Fin cfg0.N,
    win0_0.index t (0 : Fin 2) = t.val % 4 ∧ win0_0.index t (1 : Fin 2) = 0
    ∧ win0_1.index t (0 : Fin 3) = t.val / 4 ∧ win0_1.index t (1 : Fin 3) = 0 ∧ win0_1.index t (2 : Fin 3) = 0
    ∧ win0_2.index t (0 : Fin 2) = t.val % 4 ∧ win0_2.index t (1 : Fin 2) = t.val / 4
    ∧ win0_3.index t (0 : Fin 2) = t.val % 4 ∧ win0_3.index t (1 : Fin 2) = t.val / 4
    ∧ win0_4.index t (0 : Fin 2) = t.val % 4 ∧ win0_4.index t (1 : Fin 2) = t.val / 4
    ∧ win0_5.index t (0 : Fin 2) = t.val % 4 ∧ win0_5.index t (1 : Fin 2) = t.val / 4 :=
  (by decide +kernel : ∀ t : Fin grid0.N, _)

theorem lt_16 (t : Fin cfg0.N) : t.val < 16 := t.isLt

/-- Row `r` of the tile at point `t`. -/
def row (t : Fin cfg0.N) (r : Fin 512) : Fin 2048 := ⟨512 * (t.val % 4) + r.val, by omega⟩

/-- Column `l` of the shard at point `t`. -/
def col (t : Fin cfg0.N) (l : Fin 1408) : Fin 5632 := ⟨t.val / 4 * 1408 + l.val, by have := lt_16 t; omega⟩

theorem emb0 (t : Fin cfg0.N) (y : S512x2048.Idx) : ((cfg0.win 0).blk t).view.emb y = ix2 (n0 := 2048) (n1 := 2048) (row t (y 0)) (y 1) := by
  have e := idx_facts t
  funext a; apply Fin.ext
  match a with
  | ⟨0, _⟩ => show win0_0.index t (0 : Fin 2) * 512 + 1 * (y 0).val = 512 * (t.val % 4) + (y 0).val; omega
  | ⟨1, _⟩ => show win0_0.index t (1 : Fin 2) * 2048 + 1 * (y 1).val = (y 1).val; omega

theorem emb1 (t : Fin cfg0.N) (y : S1x1408x2048.Idx) : ((cfg0.win 1).blk t).view.emb y
    = ix3 (n0 := 4) (n1 := 1408) (n2 := 2048) ⟨t.val / 4, by have := lt_16 t; omega⟩ (y 1) (y 2) := by
  have e := idx_facts t
  have h0 : (y 0).val < 1 := (y 0).isLt
  funext a; apply Fin.ext
  match a with
  | ⟨0, _⟩ => show win0_1.index t (0 : Fin 3) * 1 + 1 * (y 0).val = t.val / 4; omega
  | ⟨1, _⟩ => show win0_1.index t (1 : Fin 3) * 1408 + 1 * (y 1).val = (y 1).val; omega
  | ⟨2, _⟩ => show win0_1.index t (2 : Fin 3) * 2048 + 1 * (y 2).val = (y 2).val; omega

theorem blk0 (c : Dev nD) (t : Fin cfg0.N) (r : Fin 512) (k : Fin 2048) : iblk m c 0 t (ix2 r k) = arg0 m c (ix2 (row t r) k) := by
  show (V m c main_v0 : S2048x2048.Idx → EReal) (((cfg0.win 0).blk t).view.emb (ix2 r k)) = _
  rw [emb0]; exact cast0 m c _ _

theorem blk1 (c : Dev nD) (t : Fin cfg0.N) (l : Fin 1408) (k : Fin 2048) : iblk m c 1 t (ix3 0 l k) = arg3 m c (ix2 (col t l) k) := by
  show (V m c main_v2 : S4x1408x2048.Idx → EReal) (((cfg0.win 1).blk t).view.emb (ix3 0 l k)) = _
  rw [emb1]; exact shards m c _ _ _

theorem blk2 (c : Dev nD) (t : Fin cfg0.N) (r : Fin 512) (l : Fin 1408) : iblk m c 2 t (ix2 r l) = arg1 m c (ix2 (row t r) (col t l)) := by
  blk_ext! [iblk, V, idx_facts t, row, col]

theorem blk3 (c : Dev nD) (t : Fin cfg0.N) (r : Fin 512) (l : Fin 1408) : iblk m c 3 t (ix2 r l) = arg2 m c (ix2 (row t r) (col t l)) := by
  blk_ext! [iblk, V, idx_facts t, row, col]

/-! ## The results -/

/-- The cotangent of the gated product. -/
def back (d : S2048x2048.Idx → EReal) (w : S5632x2048.Idx → EReal) (r : Fin 2048) (l : Fin 5632) : EReal := ∑ k, d (ix2 r k) * w (ix2 l k)

/-- The gradient of the gate's argument. -/
def dhg (d : S2048x2048.Idx → EReal) (hg hu : S2048x5632.Idx → EReal) (w : S5632x2048.Idx → EReal) (j : S2048x5632.Idx) : EReal :=
  dgate (back d w (j 0) (j 1)) (hg (ix2 (j 0) (j 1))) (hu (ix2 (j 0) (j 1)))

/-- The gradient of the linear half. -/
def dhu (d : S2048x2048.Idx → EReal) (hg : S2048x5632.Idx → EReal) (w : S5632x2048.Idx → EReal) (j : S2048x5632.Idx) : EReal :=
  back d w (j 0) (j 1) * (hg (ix2 (j 0) (j 1)) * sigm (hg (ix2 (j 0) (j 1))))

theorem pay1_at (c : Dev nD) (t : Fin cfg0.N) (r : Fin 512) (l : Fin 1408) :
    k0_pay1 (F := Ideal) (iblk m c 0 t) (iblk m c 1 t) (ix2 r l) = back (arg0 m c) (arg3 m c) (row t r) (col t l) := by
  pointwise [k0_pay1]
  simp only [blk0, blk1]
  rfl

theorem pay3_at (c : Dev nD) (t : Fin cfg0.N) (r : Fin 512) (l : Fin 1408) :
    k0_pay3 (F := Ideal) (iblk m c 0 t) (iblk m c 1 t) (iblk m c 2 t) (iblk m c 3 t) (ix2 r l)
      = dhg (arg0 m c) (arg1 m c) (arg2 m c) (arg3 m c) (ix2 (row t r) (col t l)) := by
  pointwise [k0_pay3, k0_pay2]
  rw [pay1_at]
  simp only [blk2, blk3, zero_sub]
  rfl

theorem pay4_at (c : Dev nD) (t : Fin cfg0.N) (r : Fin 512) (l : Fin 1408) :
    k0_pay4 (F := Ideal) (iblk m c 0 t) (iblk m c 1 t) (iblk m c 2 t) (ix2 r l)
      = dhu (arg0 m c) (arg1 m c) (arg3 m c) (ix2 (row t r) (col t l)) := by
  pointwise [k0_pay4, k0_pay2]
  rw [pay1_at]
  simp only [blk2, zero_sub]
  rfl

theorem emb4 (t : Fin cfg0.N) (y : S512x1408.Idx) : ((cfg0.win 4).blk t).view.emb y = ix2 (n0 := 2048) (n1 := 5632) (row t (y 0)) (col t (y 1)) := by
  have e := idx_facts t
  funext a; apply Fin.ext
  match a with
  | ⟨0, _⟩ => show win0_4.index t (0 : Fin 2) * 512 + 1 * (y 0).val = 512 * (t.val % 4) + (y 0).val; omega
  | ⟨1, _⟩ => show win0_4.index t (1 : Fin 2) * 1408 + 1 * (y 1).val = t.val / 4 * 1408 + (y 1).val; omega

theorem emb5 (t : Fin cfg0.N) (y : S512x1408.Idx) : ((cfg0.win 5).blk t).view.emb y = ix2 (n0 := 2048) (n1 := 5632) (row t (y 0)) (col t (y 1)) := by
  have e := idx_facts t
  funext a; apply Fin.ext
  match a with
  | ⟨0, _⟩ => show win0_5.index t (0 : Fin 2) * 512 + 1 * (y 0).val = 512 * (t.val % 4) + (y 0).val; omega
  | ⟨1, _⟩ => show win0_5.index t (1 : Fin 2) * 1408 + 1 * (y 1).val = t.val / 4 * 1408 + (y 1).val; omega

theorem final4 (c : Dev nD) : (dats m 0 c).arrAt 4 cfg0.N = dhg (arg0 m c) (arg1 m c) (arg2 m c) (arg3 m c) := by
  refine (dats m 0 c).arrAt_eq_of_covers 4 _ (by decide +kernel) (fun t _ y => ?_)
  show (dats m 0 c).after 4 t y = _
  rw [after0_4, emb4]
  frame_out
  exact (congrArg (k0_pay3 (F := Ideal) (iblk m c 0 t) (iblk m c 1 t) (iblk m c 2 t) (iblk m c 3 t)) (eq_ix2 (n0 := 512) (n1 := 1408) y)).trans (pay3_at m c t (y 0) (y 1))

theorem final5 (c : Dev nD) : (dats m 0 c).arrAt 5 cfg0.N = dhu (arg0 m c) (arg1 m c) (arg3 m c) := by
  refine (dats m 0 c).arrAt_eq_of_covers 5 _ (by decide +kernel) (fun t _ y => ?_)
  show (dats m 0 c).after 5 t y = _
  rw [after0_5, emb5]
  frame_out
  exact (congrArg (k0_pay4 (F := Ideal) (iblk m c 0 t) (iblk m c 1 t) (iblk m c 2 t)) (eq_ix2 (n0 := 512) (n1 := 1408) y)).trans (pay4_at m c t (y 0) (y 1))

end Cert.SwigluGradIdeal.Tiles

/-! ## The reference -/

namespace Cert.SwigluGradRefIdeal.Tiles

open Cert.SwigluGradRefIdeal Cert.SwigluGradRefIdeal.Value Cert.SwigluGradRefIdeal.Read
open Cert.Norms Cert.Swiglu
open Cert.SwigluGradIdeal.Tiles (back)

theorem ref3 (d : S2048x2048.Idx → EReal) (w : S5632x2048.Idx → EReal) (r : Fin 2048) (l : Fin 5632) :
    val_main_v3 (F := Ideal) d w (ix2 r l) = back d w r l := by
  pointwise [val_main_v3]
  rfl

theorem ref7 (d : S2048x2048.Idx → EReal) (hg hu : S2048x5632.Idx → EReal) (w : S5632x2048.Idx → EReal) (r : Fin 2048) (l : Fin 5632) :
    val_main_v7 (F := Ideal) d hg hu w (ix2 r l) = dchain (back d w r l) (hg (ix2 r l)) (hu (ix2 r l)) := by
  pointwise [val_main_v7, val_main_v6, val_main_call1_v2, val_main_call1_v1, val_main_call1_v0, val_main_v5, val_main_v0_1, val_main_call0_v7, val_main_call0_v6, val_main_call0_cst_1, val_main_v0_2, val_main_call0_v4, val_main_call0_cst_0, val_main_call0_v3, val_main_call0_v2, val_main_call0_cst, val_main_call0_v1, val_main_call0_v0]
  rw [ref3]
  rfl

theorem ref8 (d : S2048x2048.Idx → EReal) (hg : S2048x5632.Idx → EReal) (w : S5632x2048.Idx → EReal) (r : Fin 2048) (l : Fin 5632) :
    val_main_v8 (F := Ideal) d hg w (ix2 r l) = hg (ix2 r l) * sigm (hg (ix2 r l)) * back d w r l := by
  pointwise [val_main_v8, val_main_v4, val_main_v0_0, val_main_v0_2, val_main_call0_v4, val_main_call0_cst_0, val_main_call0_v3, val_main_call0_v2, val_main_call0_cst, val_main_call0_v1, val_main_call0_v0]
  rw [ref3]
  rfl

end Cert.SwigluGradRefIdeal.Tiles

/-! ## The claims -/

namespace Cert.Proof.SwigluGradClaims

open Cert.SwigluGradIdeal.Tiles
open Cert.SwigluGradIdeal (S2048x2048 S2048x5632 S5632x2048)
open Cert.SwigluGradRefIdeal.Read
open Cert.Norms Cert.Swiglu Cert.Finite

/-- The shapes of the finiteness test. -/
theorem pre_facts : Cert.Pre_finite_dact.Facts where
  reducesTo_S2048x2048_S2048_d1 := by decide
  h_S_ := by decide
  bcast_S2048_S2048x1_0 := by decide
  bcast_S_S2048x1 := by decide
  bcast_S_S2048x5632 := by decide
  bcast_S2048x1_S2048x5632_0_1 := by decide
  reducesTo_S5632x2048_S5632_d1 := by decide
  bcast_S_S5632 := by decide
  bcast_S5632_S1x5632_1 := by decide
  bcast_S1x5632_S2048x5632_0_1 := by decide

section
variable [hP : Cert.Pre_finite_dact.Facts] (d : S2048x2048.Idx → EReal) (hg hu : S2048x5632.Idx → EReal) (w : S5632x2048.Idx → EReal)
  (h : Cert.Pre_finite_dact.fn (F := Ideal) d hg hu w = fun _ => 1#1)
include h

/-- What `finite_dact` says of its four arrays at row `r` and column `l`. -/
theorem finite (r : Fin 2048) (l : Fin 5632) : (∀ k, ∃ v : ℝ, d (ix2 r k) = (v : EReal)) ∧ (∃ v : ℝ, hg (ix2 r l) = (v : EReal))
    ∧ (∃ v : ℝ, hu (ix2 r l) = (v : EReal)) ∧ ∀ k, ∃ v : ℝ, w (ix2 l k) = (v : EReal) := by
  have pre := congrFun h (ix2 r l)
  simp only [Cert.Pre_finite_dact.fn, Cert.Pre_finite_dact.fn_part1] at pre
  obtain ⟨pre, h3⟩ := andi_one pre
  obtain ⟨pre, h2⟩ := andi_one pre
  obtain ⟨h0, h1⟩ := andi_one pre
  have e0 : below (∑ k : Fin 2048, max (d (ix2 r k)) (-d (ix2 r k))) = 1#1 := (by pointwise; rfl : below (∑ k : Fin 2048, max (d (ix2 r k)) (-d (ix2 r k))) = _).trans h0
  have e1 : below (hg (ix2 r l)) = 1#1 := (by pointwise; rfl : below (hg (ix2 r l)) = _).trans h1
  have e2 : below (hu (ix2 r l)) = 1#1 := (by pointwise; rfl : below (hu (ix2 r l)) = _).trans h2
  have e3 : below (∑ k : Fin 2048, max (w (ix2 l k)) (-w (ix2 l k))) = 1#1 := (by pointwise; rfl : below (∑ k : Fin 2048, max (w (ix2 l k)) (-w (ix2 l k))) = _).trans h3
  exact ⟨real_of_sum e0, ⟨_, (real_of_below e1).symm⟩, ⟨_, (real_of_below e2).symm⟩, real_of_sum e3⟩

theorem ref7 : val_main_v7 (F := Ideal) d hg hu w = dhg d hg hu w := by
  funext j
  obtain ⟨r, l, rfl⟩ : ∃ r l, j = ix2 r l := ⟨_, _, eq_ix2 (n0 := 2048) (n1 := 5632) j⟩
  rw [Cert.SwigluGradRefIdeal.Tiles.ref7]
  obtain ⟨h0, h1, h2, h3⟩ := finite d hg hu w h r l
  exact (dgate_eq (dot_real h0 h3) h1 h2).symm

end

theorem ref8 (d : S2048x2048.Idx → EReal) (hg : S2048x5632.Idx → EReal) (w : S5632x2048.Idx → EReal) : val_main_v8 (F := Ideal) d hg w = dhu d hg w := by
  funext j
  obtain ⟨r, l, rfl⟩ : ∃ r l, j = ix2 r l := ⟨_, _, eq_ix2 (n0 := 2048) (n1 := 5632) j⟩
  rw [Cert.SwigluGradRefIdeal.Tiles.ref8]
  exact mul_comm _ _

theorem frame_ref : Cert.quiescent_SwigluGradRefIdeal := fun m ρ _ =>
  (θ_run Cert.SwigluGradRefIdeal.defs _ _).mono (fun r h => ⟨fun c => (h c).2.2,
      Idealize.ShloMosaic.sem_eq_zero_of_no_sems (by decide) r.2⟩)
    (Cert.SwigluGradRefIdeal.Value.run (F := Ideal) m ρ)

theorem algebraic [hP : Cert.Pre_finite_dact.Facts] : Cert.algebraic_SwigluGradIdeal_SwigluGradRefIdeal_pre_finite_dact := by
  intro m ρ m' ρ' hpre hagree
  refine ⟨fun c => dhg (arg0 m c) (arg1 m c) (arg2 m c) (arg3 m c), fun c => dhu (arg0 m c) (arg1 m c) (arg3 m c), ?_, ?_⟩
  · exact (θ_run Cert.SwigluGradIdeal.defs _ _).mono
      (fun _ h c => ⟨(h c).1.trans (final4 m c), (h c).2.1.trans (final5 m c), (h c).2.2⟩)
      (Cert.SwigluGradIdeal.Value.run_blocks (F := Ideal) m ρ)
  · refine (θ_run Cert.SwigluGradRefIdeal.defs _ _).mono
      (fun _ h c => ⟨(h c).1.trans ?_, (h c).2.1.trans ?_, (h c).2.2⟩)
      (Cert.SwigluGradRefIdeal.Value.run (F := Ideal) m' ρ')
    · refine (val_main_v7_eq _ _ _ _).trans ?_
      rw [(hagree c).1, (hagree c).2.1, (hagree c).2.2.1, (hagree c).2.2.2]
      exact ref7 _ _ _ _ (hpre c)
    · refine ((val_main_v8_eq _ _ _).trans (ref8 _ _ _)).trans ?_
      rw [(hagree c).1, (hagree c).2.1, (hagree c).2.2.2]

end Cert.Proof.SwigluGradClaims
end
-- ==== Proof.GeluGrad.lean ====
/-
  The gradient of the tanh form of gelu, fused with the product that brings the cotangent to it: the cotangent's rows times the
  transposed gate weights, added to the cotangent of the gated half, then times the derivative. The kernel goes through four tiles of
  512 rows and four shards of 256 columns.
-/
module

public import proofs.«01_k».proof.Defs
public import proofs.«01_k».proof.Proof.Gen.GeluGradIdeal.Value
public import proofs.«01_k».proof.Proof.Gen.GeluGradRefIdeal.Run
public import proofs.«01_k».proof.Proof.Gen.GeluGradRefIdeal.Read
public import proofs.«01_k».proof.Proof.Norms
public import proofs.«01_k».proof.Proof.Finite
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The derivative -/

namespace Cert.Gelu
open Cert.Norms

/-- The root of two over pi, as the programs spell it. -/
def root : EReal := Ideal.ofBits .f32 0x3F4C422A#32
/-- One half, as the programs spell it. -/
def half : EReal := Ideal.ofBits .f32 0x3F000000#32
/-- Three, as the reference spells it. -/
def three : EReal := Ideal.ofBits .f32 0x40400000#32
/-- The cubic coefficient, as the kernel's table names it. -/
def cubic : EReal := ((8943 / 200000 : ℝ) : EReal)
/-- Three times the cubic coefficient, as the kernel's table names it. -/
def cubic3 : EReal := ((26829 / 200000 : ℝ) : EReal)
/-- The cubic coefficient, as the reference computes it. -/
def quot : EReal := Ideal.div (Ideal.ofBits .f32 0x472EAB00#32) (Ideal.ofBits .f32 0x49742400#32)

theorem half_eq : half = ((1 / 2 : ℝ) : EReal) := by
  unfold half; simp [Ideal.ofBits, Ideal.ieee, ← EReal.coe_mul]; norm_num
theorem three_eq : three = ((3 : ℝ) : EReal) := by
  unfold three; simp [Ideal.ofBits, Ideal.ieee, ← EReal.coe_mul]; norm_num
theorem root_eq : ∃ k : ℝ, root = (k : EReal) := ⟨_, by unfold root; simp [Ideal.ofBits, Ideal.ieee]; rfl⟩
theorem quot_eq : quot = cubic := by
  have e1 : Ideal.ofBits .f32 0x472EAB00#32 = ((44715 : ℝ) : EReal) := by simp [Ideal.ofBits, Ideal.ieee, ← EReal.coe_mul]; norm_num
  have e2 : Ideal.ofBits .f32 0x49742400#32 = ((1000000 : ℝ) : EReal) := by simp [Ideal.ofBits, Ideal.ieee, ← EReal.coe_mul]; norm_num
  unfold quot cubic
  rw [e1, e2, div_real _ (by norm_num)]
  norm_num

/-- The hyperbolic tangent inside, as the kernel writes its argument. -/
def inner (x : EReal) : EReal := Ideal.tanh (root * (x + cubic * x * x * x))

/-- The gradient, as the kernel writes it: `a` is the cotangent, `x` the argument. -/
def dgelu (a x : EReal) : EReal :=
  a * (half * (1 + inner x) + half * x * (1 - inner x * inner x) * root * (1 + cubic3 * x * x))

/-- The hyperbolic tangent inside, as the reference writes its argument. -/
def rinner (x : EReal) : EReal := Ideal.tanh (root * (x + quot * (x * x * x)))

/-- The part that comes through the tangent, as the chain rule writes it. -/
def through (a x : EReal) : EReal := root * (half * (x * a) * ((1 + rinner x) * (1 - rinner x)))

/-- The gradient, as the chain rule writes it. -/
def dchain (a x : EReal) : EReal := a * (half * (1 + rinner x)) + through a x + quot * through a x * (three * (x * x))

/-- At real numbers the two agree. -/
theorem dgelu_eq {a x : EReal} (ha : ∃ r : ℝ, a = (r : EReal)) (hx : ∃ r : ℝ, x = (r : EReal)) : dgelu a x = dchain a x := by
  obtain ⟨a, rfl⟩ := ha
  obtain ⟨x, rfl⟩ := hx
  obtain ⟨k, hk⟩ := root_eq
  have e : rinner x = inner x := by unfold rinner inner; rw [quot_eq, mul_assoc cubic, mul_assoc cubic]
  unfold dgelu dchain through
  rw [e]
  obtain ⟨t, ht⟩ : ∃ t : ℝ, inner x = (t : EReal) := by
    unfold inner cubic
    rw [hk]
    simp only [← EReal.coe_mul, ← EReal.coe_add]
    exact ⟨_, Ideal.tanh_coe _⟩
  rw [ht, quot_eq, hk, half_eq, three_eq, ← EReal.coe_one]
  unfold cubic cubic3
  simp only [← EReal.coe_mul, ← EReal.coe_sub, ← EReal.coe_add]
  rw [EReal.coe_eq_coe_iff]
  ring

end Cert.Gelu

namespace Cert.GeluGradIdeal.Tiles

open Cert.GeluGradIdeal Cert.GeluGradIdeal.Gen
open Cert.Norms Cert.Gelu

variable (m : (ℓ : Loc nD τ sig) → Buf (Elt Ideal) ℓ)

abbrev arg0 (c : Dev nD) : S2048x1024.Idx → EReal := m ((c : Thread nD τ).loc main_arg0)
abbrev arg1 (c : Dev nD) : S1024x1024.Idx → EReal := m ((c : Thread nD τ).loc main_arg1)
abbrev arg2 (c : Dev nD) : S2048x1024.Idx → EReal := m ((c : Thread nD τ).loc main_arg2)
abbrev arg3 (c : Dev nD) : S2048x1024.Idx → EReal := m ((c : Thread nD τ).loc main_arg3)

/-- The kernel's first named constant, by its table. -/
theorem named_c : Named.named (F := Ideal) Cert.GeluGradIdeal.κ "gelu_c" (φ := .f32) 0x3D372713#32 = cubic :=
  IdealRules.named_const.ideal_named_scalar _ _ _ _ rfl

/-- The kernel's second named constant, by its table. -/
theorem named_3c : Named.named (F := Ideal) Cert.GeluGradIdeal.κ "gelu_3c" (φ := .f32) 0x3E095D4F#32 = cubic3 :=
  IdealRules.named_const.ideal_named_scalar _ _ _ _ rfl

/-! ## What the host leaves -/

theorem cast0 (c : Dev nD) (r : Fin 2048) (l : Fin 1024) : (V m c main_v0 : S2048x1024.Idx → EReal) (ix2 r l) = arg3 m c (ix2 r l) := by
  show (StableHlo.after hostOps0 (fun b => m (c, b)) (Proc.devRef .tc main_v0) : S2048x1024.Idx → EReal) (ix2 r l) = _
  after_results
  pointwise []

theorem shards (c : Dev nD) (s : Fin 4) (l : Fin 256) (k : Fin 1024) : (V m c main_v2 : S4x256x1024.Idx → EReal) (ix3 s l k)
    = arg1 m c (ix2 ⟨s.val * 256 + l.val, by omega⟩ k) := by
  show (StableHlo.after hostOps0 (fun b => m (c, b)) (Proc.devRef .tc main_v2) : S4x256x1024.Idx → EReal) (ix3 s l k) = _
  after_results
  pointwise []

/-! ## The windows' blocks at an index -/

theorem idx_facts : ∀ t : Fin cfg0.N,
    win0_0.index t (0 : Fin 2) = t.val % 4 ∧ win0_0.index t (1 : Fin 2) = 0
    ∧ win0_1.index t (0 : Fin 3) = t.val / 4 ∧ win0_1.index t (1 : Fin 3) = 0 ∧ win0_1.index t (2 : Fin 3) = 0
    ∧ win0_2.index t (0 : Fin 2) = t.val % 4 ∧ win0_2.index t (1 : Fin 2) = t.val / 4
    ∧ win0_3.index t (0 : Fin 2) = t.val % 4 ∧ win0_3.index t (1 : Fin 2) = t.val / 4
    ∧ win0_4.index t (0 : Fin 2) = t.val % 4 ∧ win0_4.index t (1 : Fin 2) = t.val / 4 :=
  (by decide +kernel : ∀ t : Fin grid0.N, _)

theorem lt_16 (t : Fin cfg0.N) : t.val < 16 := t.isLt

/-- Row `r` of the tile at point `t`. -/
def row (t : Fin cfg0.N) (r : Fin 512) : Fin 2048 := ⟨512 * (t.val % 4) + r.val, by omega⟩

/-- Column `l` of the shard at point `t`. -/
def col (t : Fin cfg0.N) (l : Fin 256) : Fin 1024 := ⟨t.val / 4 * 256 + l.val, by have := lt_16 t; omega⟩

theorem emb0 (t : Fin cfg0.N) (y : S512x1024.Idx) : ((cfg0.win 0).blk t).view.emb y = ix2 (n0 := 2048) (n1 := 1024) (row t (y 0)) (y 1) := by
  have e := idx_facts t
  funext a; apply Fin.ext
  match a with
  | ⟨0, _⟩ => show win0_0.index t (0 : Fin 2) * 512 + 1 * (y 0).val = 512 * (t.val % 4) + (y 0).val; omega
  | ⟨1, _⟩ => show win0_0.index t (1 : Fin 2) * 1024 + 1 * (y 1).val = (y 1).val; omega

theorem emb1 (t : Fin cfg0.N) (y : S1x256x1024.Idx) : ((cfg0.win 1).blk t).view.emb y
    = ix3 (n0 := 4) (n1 := 256) (n2 := 1024) ⟨t.val / 4, by have := lt_16 t; omega⟩ (y 1) (y 2) := by
  have e := idx_facts t
  have h0 : (y 0).val < 1 := (y 0).isLt
  funext a; apply Fin.ext
  match a with
  | ⟨0, _⟩ => show win0_1.index t (0 : Fin 3) * 1 + 1 * (y 0).val = t.val / 4; omega
  | ⟨1, _⟩ => show win0_1.index t (1 : Fin 3) * 256 + 1 * (y 1).val = (y 1).val; omega
  | ⟨2, _⟩ => show win0_1.index t (2 : Fin 3) * 1024 + 1 * (y 2).val = (y 2).val; omega

theorem blk0 (c : Dev nD) (t : Fin cfg0.N) (r : Fin 512) (k : Fin 1024) : iblk m c 0 t (ix2 r k) = arg3 m c (ix2 (row t r) k) := by
  show (V m c main_v0 : S2048x1024.Idx → EReal) (((cfg0.win 0).blk t).view.emb (ix2 r k)) = _
  rw [emb0]; exact cast0 m c _ _

theorem blk1 (c : Dev nD) (t : Fin cfg0.N) (l : Fin 256) (k : Fin 1024) : iblk m c 1 t (ix3 0 l k) = arg1 m c (ix2 (col t l) k) := by
  show (V m c main_v2 : S4x256x1024.Idx → EReal) (((cfg0.win 1).blk t).view.emb (ix3 0 l k)) = _
  rw [emb1]; exact shards m c _ _ _

theorem blk2 (c : Dev nD) (t : Fin cfg0.N) (r : Fin 512) (l : Fin 256) : iblk m c 2 t (ix2 r l) = arg2 m c (ix2 (row t r) (col t l)) := by
  blk_ext! [iblk, V, idx_facts t, row, col]

theorem blk3 (c : Dev nD) (t : Fin cfg0.N) (r : Fin 512) (l : Fin 256) : iblk m c 3 t (ix2 r l) = arg0 m c (ix2 (row t r) (col t l)) := by
  blk_ext! [iblk, V, idx_facts t, row, col]

/-! ## The result -/

/-- The cotangent that comes through the product. -/
def back (d : S2048x1024.Idx → EReal) (w : S1024x1024.Idx → EReal) (r : Fin 2048) (l : Fin 1024) : EReal := ∑ k, d (ix2 r k) * w (ix2 l k)

/-- The gradient of the argument. -/
def dys (x : S2048x1024.Idx → EReal) (w : S1024x1024.Idx → EReal) (e d : S2048x1024.Idx → EReal) (j : S2048x1024.Idx) : EReal :=
  dgelu (back d w (j 0) (j 1) + e (ix2 (j 0) (j 1))) (x (ix2 (j 0) (j 1)))

theorem pay1_at (c : Dev nD) (t : Fin cfg0.N) (r : Fin 512) (l : Fin 256) :
    k0_pay1 (F := Ideal) (iblk m c 0 t) (iblk m c 1 t) (iblk m c 2 t) (iblk m c 3 t) (ix2 r l)
      = dys (arg0 m c) (arg1 m c) (arg2 m c) (arg3 m c) (ix2 (row t r) (col t l)) := by
  pointwise [k0_pay1]
  simp only [blk0, blk1, blk2, blk3, named_c, named_3c]
  rfl

theorem emb4 (t : Fin cfg0.N) (y : S512x256.Idx) : ((cfg0.win 4).blk t).view.emb y = ix2 (n0 := 2048) (n1 := 1024) (row t (y 0)) (col t (y 1)) := by
  have e := idx_facts t
  funext a; apply Fin.ext
  match a with
  | ⟨0, _⟩ => show win0_4.index t (0 : Fin 2) * 512 + 1 * (y 0).val = 512 * (t.val % 4) + (y 0).val; omega
  | ⟨1, _⟩ => show win0_4.index t (1 : Fin 2) * 256 + 1 * (y 1).val = t.val / 4 * 256 + (y 1).val; omega

theorem final4 (c : Dev nD) : (dats m 0 c).arrAt 4 cfg0.N = dys (arg0 m c) (arg1 m c) (arg2 m c) (arg3 m c) := by
  refine (dats m 0 c).arrAt_eq_of_covers 4 _ (by decide +kernel) (fun t _ y => ?_)
  show (dats m 0 c).after 4 t y = _
  rw [after0_4, emb4]
  frame_out
  exact (congrArg (k0_pay1 (F := Ideal) (iblk m c 0 t) (iblk m c 1 t) (iblk m c 2 t) (iblk m c 3 t)) (eq_ix2 (n0 := 512) (n1 := 256) y)).trans (pay1_at m c t (y 0) (y 1))

end Cert.GeluGradIdeal.Tiles

/-! ## The reference -/

namespace Cert.GeluGradRefIdeal.Tiles

open Cert.GeluGradRefIdeal Cert.GeluGradRefIdeal.Value Cert.GeluGradRefIdeal.Read
open Cert.Norms Cert.Gelu
open Cert.GeluGradIdeal.Tiles (back)

theorem ref23 (w : S1024x1024.Idx → EReal) (d : S2048x1024.Idx → EReal) (r : Fin 2048) (l : Fin 1024) :
    val_main_v23 (F := Ideal) w d (ix2 r l) = back d w r l := by
  pointwise [val_main_v23]
  rfl

theorem ref36 (x : S2048x1024.Idx → EReal) (w : S1024x1024.Idx → EReal) (e d : S2048x1024.Idx → EReal) (r : Fin 2048) (l : Fin 1024) :
    val_main_v36 (F := Ideal) x w e d (ix2 r l) = dchain (e (ix2 r l) + back d w r l) (x (ix2 r l)) := by
  pointwise [val_main_v36, val_main_v35, val_main_v34, val_main_v33, val_main_v32, val_main_v31, val_main_v30, val_main_cst_8, val_main_v29, val_main_v28, val_main_v27, val_main_cst_7, val_main_v26, val_main_v25, val_main_v24, val_main_v20, val_main_v19, val_main_cst_6, val_main_v18, val_main_v17, val_main_cst_5, val_main_v16, val_main_v15, val_main_v14, val_main_cst_4, val_main_v13, val_main_v12, val_main_cst_3, val_main_v11, val_main_v10, val_main_v9, val_main_cst_2, val_main_v8, val_main_v7, val_main_v6, val_main_v5, val_main_v4, val_main_cst_1, val_main_v3, val_main_v2, val_main_v1, val_main_v0, val_main_cst, val_main_cst_0]
  rw [ref23]
  rfl

end Cert.GeluGradRefIdeal.Tiles

/-! ## The claims -/

namespace Cert.Proof.GeluGradClaims

open Cert.GeluGradIdeal.Tiles
open Cert.GeluGradIdeal (S2048x1024 S1024x1024)
open Cert.GeluGradRefIdeal.Read
open Cert.Norms Cert.Gelu Cert.Finite

/-- The shapes of the finiteness test. -/
theorem pre_facts : Cert.Pre_finite_dys.Facts where
  bcast_S_S2048x1024 := by decide
  reducesTo_S1024x1024_S1024_d1 := by decide
  h_S_ := by decide
  bcast_S_S1024 := by decide
  bcast_S1024_S1x1024_1 := by decide
  bcast_S1x1024_S2048x1024_0_1 := by decide

section
variable [hP : Cert.Pre_finite_dys.Facts] (x : S2048x1024.Idx → EReal) (w : S1024x1024.Idx → EReal) (e d : S2048x1024.Idx → EReal)
  (h : Cert.Pre_finite_dys.fn (F := Ideal) x w e d = fun _ => 1#1)
include h

/-- What `finite_dys` says of its four arrays at row `r` and column `l`. -/
theorem finite (r : Fin 2048) (l : Fin 1024) : (∃ v : ℝ, x (ix2 r l) = (v : EReal)) ∧ (∀ k, ∃ v : ℝ, w (ix2 l k) = (v : EReal))
    ∧ (∃ v : ℝ, e (ix2 r l) = (v : EReal)) ∧ ∃ v : ℝ, d (ix2 r l) = (v : EReal) := by
  have pre := congrFun h (ix2 r l)
  simp only [Cert.Pre_finite_dys.fn] at pre
  obtain ⟨pre, h3⟩ := andi_one pre
  obtain ⟨pre, h2⟩ := andi_one pre
  obtain ⟨h0, h1⟩ := andi_one pre
  have e0 : below (x (ix2 r l)) = 1#1 := (by pointwise; rfl : below (x (ix2 r l)) = _).trans h0
  have e1 : below (∑ k : Fin 1024, max (w (ix2 l k)) (-w (ix2 l k))) = 1#1 := (by pointwise; rfl : below (∑ k : Fin 1024, max (w (ix2 l k)) (-w (ix2 l k))) = _).trans h1
  have e2 : below (e (ix2 r l)) = 1#1 := (by pointwise; rfl : below (e (ix2 r l)) = _).trans h2
  have e3 : below (d (ix2 r l)) = 1#1 := (by pointwise; rfl : below (d (ix2 r l)) = _).trans h3
  exact ⟨⟨_, (real_of_below e0).symm⟩, real_of_sum e1, ⟨_, (real_of_below e2).symm⟩, ⟨_, (real_of_below e3).symm⟩⟩

theorem ref36 : val_main_v36 (F := Ideal) x w e d = dys x w e d := by
  funext j
  obtain ⟨r, l, rfl⟩ : ∃ r l, j = ix2 r l := ⟨_, _, eq_ix2 (n0 := 2048) (n1 := 1024) j⟩
  rw [Cert.GeluGradRefIdeal.Tiles.ref36, add_comm]
  obtain ⟨h0, h1, ⟨v, h2⟩, -⟩ := finite x w e d h r l
  obtain ⟨u, hu⟩ := dot_real (fun k => (finite x w e d h r k).2.2.2) h1
  exact (dgelu_eq ⟨u + v, (congrArg₂ (· + ·) hu h2).trans (EReal.coe_add u v).symm⟩ h0).symm

end

theorem frame_ref : Cert.quiescent_GeluGradRefIdeal := fun m ρ _ =>
  (θ_run Cert.GeluGradRefIdeal.defs _ _).mono (fun r h => ⟨fun c => (h c).2,
      Idealize.ShloMosaic.sem_eq_zero_of_no_sems (by decide) r.2⟩)
    (Cert.GeluGradRefIdeal.Value.run (F := Ideal) m ρ)

theorem preserves : Cert.preserves_GeluGrad_GeluGradIdeal :=
  ⟨IdealRules.named_const.statement _ _ _ _ _ rfl, IdealRules.named_const.statement _ _ _ _ _ rfl⟩

theorem algebraic [hP : Cert.Pre_finite_dys.Facts] : Cert.algebraic_GeluGradIdeal_GeluGradRefIdeal_pre_finite_dys := by
  intro m ρ m' ρ' hpre hagree
  refine ⟨fun c => dys (arg0 m c) (arg1 m c) (arg2 m c) (arg3 m c), ?_, ?_⟩
  · exact (θ_run Cert.GeluGradIdeal.defs _ _).mono (fun _ h c => ⟨(h c).1.trans (final4 m c), (h c).2⟩)
      (Cert.GeluGradIdeal.Value.run_blocks (F := Ideal) m ρ)
  · refine (θ_run Cert.GeluGradRefIdeal.defs _ _).mono (fun _ h c => ⟨(h c).1.trans ?_, (h c).2⟩)
      (Cert.GeluGradRefIdeal.Value.run (F := Ideal) m' ρ')
    refine (val_main_v36_eq _ _).trans ?_
    rw [(hagree c).1, (hagree c).2.1, (hagree c).2.2.1, (hagree c).2.2.2]
    exact ref36 _ _ _ _ (hpre c)

end Cert.Proof.GeluGradClaims
end
-- ==== Proof.Groups.lean ====
/-
  Products with block-diagonal matrices: eight groups stand side by side in a block, and the entries off the diagonal groups are zero,
  so that a sum over the whole block is the sum over the entry's own group.
-/
module

public import proofs.«01_k».proof.Proof.Norms
public import Idealize.ShloMosaic.Lib.Pipeline.ValueKit

@[expose] public section

noncomputable section

open Idealize.ShloMosaic

namespace Cert.Groups

/-- The entry of the identity matrix, as the host computes it from two counters. -/
abbrev eye (a b : ℕ) : EReal := FloatOps.uitofp (F := Ideal) .f32 (IntOp.cmpi .eq (IntOp.addi (BitVec.ofNat 32 a) 0#32) (BitVec.ofNat 32 b))

theorem bit : ∀ a b : Fin 8, IntOp.cmpi .eq (IntOp.addi (BitVec.ofNat 32 a.val) 0#32) (BitVec.ofNat 32 b.val) = if a = b then 1#1 else 0#1 := by decide

theorem eye_self (a : Fin 8) : eye a.val a.val = 1 := by
  unfold eye
  rw [bit a a, if_pos rfl]
  show (((1#1 : BitVec 1).toNat : ℝ) : EReal) = 1
  norm_num

theorem eye_ne {a b : Fin 8} (h : a ≠ b) : eye a.val b.val = 0 := by
  unfold eye
  rw [bit a b, if_neg h]
  show (((0#1 : BitVec 1).toNat : ℝ) : EReal) = 0
  norm_num

/-- A sum over a block of eight groups of `n` entries, each times the entry of the identity matrix at its group, is the sum over group `g`. -/
theorem sum_group {n L : ℕ} (hL : 8 * n = L) (g : Fin 8) (f : Fin 8 → Fin n → EReal) (F : Fin L → EReal)
    (hF : ∀ (s : Fin 8) (k : Fin n) (hl : s.val * n + k.val < L), F ⟨s.val * n + k.val, hl⟩ = f s k * eye g.val s.val) :
    ∑ q, F q = ∑ k, f g k := by
  subst hL
  refine (Fin.sum_mul_add_congr (S := 8) (n := n) (h := fun s k hl => (hF s k hl).symm)).symm.trans ?_
  rw [Finset.sum_eq_single g]
  · exact Finset.sum_congr rfl fun k _ => by rw [eye_self, mul_one]
  · intro s _ hs
    exact Finset.sum_eq_zero fun k _ => by rw [eye_ne (Ne.symm hs), mul_zero]
  · exact fun h => absurd (Finset.mem_univ g) h

/-- A sum of negated real numbers. -/
theorem neg_sum {n : ℕ} {f : Fin n → EReal} (h : ∀ k, ∃ v : ℝ, f k = (v : EReal)) : ∑ k, -f k = -∑ k, f k := by
  choose v hv using h
  simp only [hv, ← EReal.coe_neg, Cert.Norms.sum_real]
  rw [Finset.sum_neg_distrib]

end Cert.Groups
end
-- ==== Proof.ReadGrad.lean ====
/-
  The gradient at the recurrence's input: the two parts of the state's gradient carried back through the groups' input matrices, which
  the kernel holds as block-diagonal matrices of eight groups, and the skip connection.
-/
module

public import proofs.«01_k».proof.Defs
public import proofs.«01_k».proof.Proof.Gen.ReadGradIdeal.Value
public import proofs.«01_k».proof.Proof.Gen.ReadGradRefIdeal.Run
public import proofs.«01_k».proof.Proof.Gen.ReadGradRefIdeal.Read
public import proofs.«01_k».proof.Proof.Groups
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The kernel -/

namespace Cert.ReadGradIdeal.Tiles

open Cert.ReadGradIdeal Cert.ReadGradIdeal.Gen
open Cert.Groups

variable (m : (ℓ : Loc nD τ sig) → Buf (Elt Ideal) ℓ)

abbrev arg0 (c : Dev nD) : S2048x4096.Idx → EReal := m ((c : Thread nD τ).loc main_arg0)
abbrev arg1 (c : Dev nD) : S2048x4096.Idx → EReal := m ((c : Thread nD τ).loc main_arg1)
abbrev arg2 (c : Dev nD) : S2048x1024.Idx → EReal := m ((c : Thread nD τ).loc main_arg2)
abbrev arg3 (c : Dev nD) : S64x64x16.Idx → EReal := m ((c : Thread nD τ).loc main_arg3)
abbrev arg4 (c : Dev nD) : S64x64x16.Idx → EReal := m ((c : Thread nD τ).loc main_arg4)
abbrev arg5 (c : Dev nD) : S64x16.Idx → EReal := m ((c : Thread nD τ).loc main_arg5)

theorem weights3 (c : Dev nD) (s : Fin 8) (i : Fin 128) (j : Fin 512) : (V m c main_v13 : S8x128x512.Idx → EReal) (ix3 s i j)
    = arg3 m c (ix3 ⟨s.val * 8 + i.val / 16, by omega⟩ ⟨j.val % 64, Nat.mod_lt _ (by decide)⟩ ⟨i.val % 16, Nat.mod_lt _ (by decide)⟩) * eye (i.val / 16) (j.val / 64) := by
  show (StableHlo.after hostOps0 (fun b => m (c, b)) (Proc.devRef .tc main_v13) : S8x128x512.Idx → EReal) (ix3 s i j) = _
  after_results
  pointwise []

theorem weights4 (c : Dev nD) (s : Fin 8) (i : Fin 128) (j : Fin 512) : (V m c main_v27 : S8x128x512.Idx → EReal) (ix3 s i j)
    = arg4 m c (ix3 ⟨s.val * 8 + i.val / 16, by omega⟩ ⟨j.val % 64, Nat.mod_lt _ (by decide)⟩ ⟨i.val % 16, Nat.mod_lt _ (by decide)⟩) * eye (i.val / 16) (j.val / 64) := by
  show (StableHlo.after hostOps0 (fun b => m (c, b)) (Proc.devRef .tc main_v27) : S8x128x512.Idx → EReal) (ix3 s i j) = _
  after_results
  pointwise []

theorem skip (c : Dev nD) (q : Fin 1024) : (V m c main_v28 : S1x1024.Idx → EReal) (ix2 0 q)
    = arg5 m c (ix2 ⟨q.val / 16, by omega⟩ ⟨q.val % 16, Nat.mod_lt _ (by decide)⟩) := by
  show (StableHlo.after hostOps0 (fun b => m (c, b)) (Proc.devRef .tc main_v28) : S1x1024.Idx → EReal) (ix2 0 q) = _
  after_results
  pointwise []

theorem idx_facts : ∀ t : Fin cfg0.N,
    win0_0.index t (0 : Fin 2) = 0 ∧ win0_0.index t (1 : Fin 2) = t.val
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = t.val
    ∧ win0_3.index t (0 : Fin 3) = t.val ∧ win0_3.index t (1 : Fin 3) = 0 ∧ win0_3.index t (2 : Fin 3) = 0
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

theorem lt_8 (t : Fin cfg0.N) : t.val < 8 := t.isLt

/-- State `k` of block `t`. -/
def state (t : Fin cfg0.N) (k : Fin 512) : Fin 4096 := ⟨512 * t.val + k.val, by have := lt_8 t; omega⟩

/-- Channel `i` of block `t`. -/
def chan (t : Fin cfg0.N) (i : Fin 128) : Fin 1024 := ⟨128 * t.val + i.val, by have := lt_8 t; omega⟩

theorem emb1 (t : Fin cfg0.N) (y : S1x128x512.Idx) : ((cfg0.win 1).blk t).view.emb y
    = ix3 (n0 := 8) (n1 := 128) (n2 := 512) ⟨t.val, lt_8 t⟩ (y 1) (y 2) := by
  have e := idx_facts t
  have h0 : (y 0).val < 1 := (y 0).isLt
  funext a; apply Fin.ext
  match a with
  | ⟨0, _⟩ => show win0_1.index t (0 : Fin 3) * 1 + 1 * (y 0).val = t.val; omega
  | ⟨1, _⟩ => show win0_1.index t (1 : Fin 3) * 128 + 1 * (y 1).val = (y 1).val; omega
  | ⟨2, _⟩ => show win0_1.index t (2 : Fin 3) * 512 + 1 * (y 2).val = (y 2).val; omega

theorem emb3 (t : Fin cfg0.N) (y : S1x128x512.Idx) : ((cfg0.win 3).blk t).view.emb y
    = ix3 (n0 := 8) (n1 := 128) (n2 := 512) ⟨t.val, lt_8 t⟩ (y 1) (y 2) := by
  have e := idx_facts t
  have h0 : (y 0).val < 1 := (y 0).isLt
  funext a; apply Fin.ext
  match a with
  | ⟨0, _⟩ => show win0_3.index t (0 : Fin 3) * 1 + 1 * (y 0).val = t.val; omega
  | ⟨1, _⟩ => show win0_3.index t (1 : Fin 3) * 128 + 1 * (y 1).val = (y 1).val; omega
  | ⟨2, _⟩ => show win0_3.index t (2 : Fin 3) * 512 + 1 * (y 2).val = (y 2).val; omega

theorem emb5 (t : Fin cfg0.N) (y : S1x128.Idx) : ((cfg0.win 5).blk t).view.emb y = ix2 (n0 := 1) (n1 := 1024) 0 (chan t (y 1)) := by
  have e := idx_facts t
  have h0 : (y 0).val < 1 := (y 0).isLt
  funext a; apply Fin.ext
  match a with
  | ⟨0, _⟩ => show win0_5.index t (0 : Fin 2) * 1 + 1 * (y 0).val = 0; omega
  | ⟨1, _⟩ => show win0_5.index t (1 : Fin 2) * 128 + 1 * (y 1).val = 128 * t.val + (y 1).val; omega

theorem emb6 (t : Fin cfg0.N) (y : S2048x128.Idx) : ((cfg0.win 6).blk t).view.emb y = ix2 (n0 := 2048) (n1 := 1024) (y 0) (chan t (y 1)) := by
  have e := idx_facts t
  funext a; apply Fin.ext
  match a with
  | ⟨0, _⟩ => show win0_6.index t (0 : Fin 2) * 2048 + 1 * (y 0).val = (y 0).val; omega
  | ⟨1, _⟩ => show win0_6.index t (1 : Fin 2) * 128 + 1 * (y 1).val = 128 * t.val + (y 1).val; omega

theorem blk0 (c : Dev nD) (t : Fin cfg0.N) (r : Fin 2048) (k : Fin 512) : iblk m c 0 t (ix2 r k) = arg0 m c (ix2 r (state t k)) := by
  blk_ext! [iblk, V, idx_facts t, state]

theorem blk1 (c : Dev nD) (t : Fin cfg0.N) (i : Fin 128) (k : Fin 512) : iblk m c 1 t (ix3 0 i k)
    = arg3 m c (ix3 ⟨t.val * 8 + i.val / 16, by have := lt_8 t; omega⟩ ⟨k.val % 64, Nat.mod_lt _ (by decide)⟩ ⟨i.val % 16, Nat.mod_lt _ (by decide)⟩) * eye (i.val / 16) (k.val / 64) := by
  show (V m c main_v13 : S8x128x512.Idx → EReal) (((cfg0.win 1).blk t).view.emb (ix3 0 i k)) = _
  rw [emb1]; exact weights3 m c _ _ _

theorem blk2 (c : Dev nD) (t : Fin cfg0.N) (r : Fin 2048) (k : Fin 512) : iblk m c 2 t (ix2 r k) = arg1 m c (ix2 r (state t k)) := by
  blk_ext! [iblk, V, idx_facts t, state]

theorem blk3 (c : Dev nD) (t : Fin cfg0.N) (i : Fin 128) (k : Fin 512) : iblk m c 3 t (ix3 0 i k)
    = arg4 m c (ix3 ⟨t.val * 8 + i.val / 16, by have := lt_8 t; omega⟩ ⟨k.val % 64, Nat.mod_lt _ (by decide)⟩ ⟨i.val % 16, Nat.mod_lt _ (by decide)⟩) * eye (i.val / 16) (k.val / 64) := by
  show (V m c main_v27 : S8x128x512.Idx → EReal) (((cfg0.win 3).blk t).view.emb (ix3 0 i k)) = _
  rw [emb3]; exact weights4 m c _ _ _

theorem blk4 (c : Dev nD) (t : Fin cfg0.N) (r : Fin 2048) (i : Fin 128) : iblk m c 4 t (ix2 r i) = arg2 m c (ix2 r (chan t i)) := by
  blk_ext! [iblk, V, idx_facts t, chan]

theorem blk5 (c : Dev nD) (t : Fin cfg0.N) (i : Fin 128) : iblk m c 5 t (ix2 0 i)
    = arg5 m c (ix2 ⟨(chan t i).val / 16, by omega⟩ ⟨(chan t i).val % 16, Nat.mod_lt _ (by decide)⟩) := by
  show (V m c main_v28 : S1x1024.Idx → EReal) (((cfg0.win 5).blk t).view.emb (ix2 0 i)) = _
  rw [emb5]; exact skip m c _

/-- The group of a channel, its place in the group, and a group's states. -/
def grp (q : Fin 1024) : Fin 64 := ⟨q.val / 16, by omega⟩
def pos (q : Fin 1024) : Fin 16 := ⟨q.val % 16, by omega⟩
def own (g n : Fin 64) : Fin 4096 := ⟨g.val * 64 + n.val, by omega⟩

/-- The product with a group's matrix. -/
def back (s : S2048x4096.Idx → EReal) (b : S64x64x16.Idx → EReal) (r : Fin 2048) (q : Fin 1024) : EReal :=
  ∑ n, s (ix2 r (own (grp q) n)) * b (ix3 (grp q) n (pos q))

theorem sum_block (s : S2048x4096.Idx → EReal) (b : S64x64x16.Idx → EReal) (t : Fin cfg0.N) (r : Fin 2048) (i : Fin 128) :
    ∑ k : Fin 512, s (ix2 r (state t k)) * (b (ix3 ⟨t.val * 8 + i.val / 16, by have := lt_8 t; omega⟩ ⟨k.val % 64, Nat.mod_lt _ (by decide)⟩
      ⟨i.val % 16, Nat.mod_lt _ (by decide)⟩) * eye (i.val / 16) (k.val / 64)) = back s b r (chan t i) := by
  have ht := lt_8 t
  refine (sum_group (n := 64) rfl (⟨i.val / 16, by omega⟩ : Fin 8) (fun g n => s (ix2 r (state t ⟨g.val * 64 + n.val, by omega⟩))
    * b (ix3 ⟨t.val * 8 + i.val / 16, by omega⟩ n ⟨i.val % 16, Nat.mod_lt _ (by decide)⟩)) _ fun g n hl => ?_).trans ?_
  · have e1 : (⟨(g.val * 64 + n.val) % 64, Nat.mod_lt _ (by decide)⟩ : Fin 64) = n := Fin.ext (by show (g.val * 64 + n.val) % 64 = n.val; omega)
    have e2 : (g.val * 64 + n.val) / 64 = g.val := by omega
    show s _ * (b (ix3 _ ⟨(g.val * 64 + n.val) % 64, _⟩ _) * eye (i.val / 16) ((g.val * 64 + n.val) / 64)) = _
    rw [e1, e2, mul_assoc]
  · unfold back
    refine Finset.sum_congr rfl fun n _ => ?_
    have e1 : grp (chan t i) = ⟨t.val * 8 + i.val / 16, by omega⟩ := Fin.ext (by show (128 * t.val + i.val) / 16 = t.val * 8 + i.val / 16; omega)
    have e2 : pos (chan t i) = ⟨i.val % 16, Nat.mod_lt _ (by decide)⟩ := Fin.ext (by show (128 * t.val + i.val) % 16 = i.val % 16; omega)
    have e3 : own (grp (chan t i)) n = state t ⟨i.val / 16 * 64 + n.val, by omega⟩ :=
      Fin.ext (by show (128 * t.val + i.val) / 16 * 64 + n.val = 512 * t.val + (i.val / 16 * 64 + n.val); omega)
    rw [e3, e1, e2]

/-- The result: both products and the skip connection. -/
def du (lr li : S2048x4096.Idx → EReal) (d : S2048x1024.Idx → EReal) (br bi : S64x64x16.Idx → EReal) (k : S64x16.Idx → EReal) (j : S2048x1024.Idx) : EReal :=
  back lr br (j 0) (j 1) + back li bi (j 0) (j 1) + k (ix2 (grp (j 1)) (pos (j 1))) * d j

theorem pay1_at (c : Dev nD) (t : Fin cfg0.N) (r : Fin 2048) (i : Fin 128) :
    k0_pay1 (F := Ideal) (iblk m c 0 t) (iblk m c 1 t) (iblk m c 2 t) (iblk m c 3 t) (iblk m c 4 t) (iblk m c 5 t) (ix2 r i)
      = du (arg0 m c) (arg1 m c) (arg2 m c) (arg3 m c) (arg4 m c) (arg5 m c) (ix2 r (chan t i)) := by
  pointwise [k0_pay1]
  simp only [blk0, blk1, blk2, blk3, blk4, blk5, sum_block]
  rfl

theorem final6 (c : Dev nD) : (dats m 0 c).arrAt 6 cfg0.N = du (arg0 m c) (arg1 m c) (arg2 m c) (arg3 m c) (arg4 m c) (arg5 m c) := by
  refine (dats m 0 c).arrAt_eq_of_covers 6 _ (by decide +kernel) (fun t _ y => ?_)
  show (dats m 0 c).after 6 t y = _
  rw [after0_6, emb6]
  frame_out
  exact (congrArg (k0_pay1 (F := Ideal) (iblk m c 0 t) (iblk m c 1 t) (iblk m c 2 t) (iblk m c 3 t) (iblk m c 4 t) (iblk m c 5 t))
    (eq_ix2 (n0 := 2048) (n1 := 128) y)).trans (pay1_at m c t (y 0) (y 1))

end Cert.ReadGradIdeal.Tiles

/-! ## The reference and the claims -/

namespace Cert.Proof.ReadGradClaims

open Cert.ReadGradIdeal.Tiles
open Cert.ReadGradIdeal (S2048x4096 S2048x1024 S64x64x16 S64x16)
open Cert.ReadGradRefIdeal.Read

theorem ref23 (lr li : S2048x4096.Idx → EReal) (d : S2048x1024.Idx → EReal) (br bi : S64x64x16.Idx → EReal) (k : S64x16.Idx → EReal) :
    val_main_v23 (F := Ideal) lr li d br bi k = du lr li d br bi k := by
  funext j
  obtain ⟨r, q, rfl⟩ : ∃ r q, j = ix2 r q := ⟨_, _, eq_ix2 (n0 := 2048) (n1 := 1024) j⟩
  pointwise [val_main_v23, val_main_v22, val_main_v21, val_main_v20, val_main_v19, val_main_v18, val_main_v17, val_main_v16, val_main_v15, val_main_v14, val_main_v13, val_main_v12, val_main_v11, val_main_v10, val_main_v9, val_main_v6]
  rw [add_comm, add_comm (k _ * _), ← add_assoc]
  rfl

theorem frame_ref : Cert.quiescent_ReadGradRefIdeal := fun m ρ _ =>
  (θ_run Cert.ReadGradRefIdeal.defs _ _).mono (fun r h => ⟨fun c => (h c).2,
      Idealize.ShloMosaic.sem_eq_zero_of_no_sems (by decide) r.2⟩)
    (Cert.ReadGradRefIdeal.Value.run (F := Ideal) m ρ)

theorem algebraic : Cert.algebraic_ReadGradIdeal_ReadGradRefIdeal := by
  intro m ρ m' ρ' _ hagree
  refine ⟨fun c => du (arg0 m c) (arg1 m c) (arg2 m c) (arg3 m c) (arg4 m c) (arg5 m c), ?_, ?_⟩
  · exact (θ_run Cert.ReadGradIdeal.defs _ _).mono (fun _ h c => ⟨(h c).1.trans (final6 m c), (h c).2⟩)
      (Cert.ReadGradIdeal.Value.run_blocks (F := Ideal) m ρ)
  · refine (θ_run Cert.ReadGradRefIdeal.defs _ _).mono (fun _ h c => ⟨(h c).1.trans ?_, (h c).2⟩)
      (Cert.ReadGradRefIdeal.Value.run (F := Ideal) m' ρ')
    refine ((val_main_v23_eq _ _ _ _ _ _).trans (ref23 _ _ _ _ _ _)).trans ?_
    rw [(hagree c).1, (hagree c).2.1, (hagree c).2.2.1, (hagree c).2.2.2.1, (hagree c).2.2.2.2.1, (hagree c).2.2.2.2.2]

end Cert.Proof.ReadGradClaims
end
-- ==== Proof.SkipGrad.lean ====
/-
  The gradient of the recurrence's skip coefficients: the sum over the rows of the cotangent times the input, in tiles of 256 rows.
-/
module

public import proofs.«01_k».proof.Defs
public import proofs.«01_k».proof.Proof.Gen.SkipGradIdeal.Value
public import proofs.«01_k».proof.Proof.Gen.SkipGradRefIdeal.Run
public import proofs.«01_k».proof.Proof.Gen.SkipGradRefIdeal.Read
public import proofs.«01_k».proof.Proof.Finite
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The kernel -/

namespace Cert.SkipGradIdeal.Rows

open Cert.SkipGradIdeal Cert.SkipGradIdeal.Gen

variable (m : (ℓ : Loc nD τ sig) → Buf (Elt Ideal) ℓ)

abbrev arg0 (c : Dev nD) : S2048x1024.Idx → EReal := m ((c : Thread nD τ).loc main_arg0)
abbrev arg1 (c : Dev nD) : S2048x4096.Idx → EReal := m ((c : Thread nD τ).loc main_arg1)

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

theorem lt_8 (t : Fin cfg0.N) : t.val < 8 := t.isLt

/-- Row `r` of tile `t`. -/
def row (t : Fin cfg0.N) (r : Fin 256) : Fin 2048 := ⟨256 * t.val + r.val, by have := lt_8 t; omega⟩

/-- A column of the first quarter of the projection. -/
def first (l : Fin 1024) : Fin 4096 := ⟨l.val, by omega⟩

theorem blk0 (c : Dev nD) (t : Fin cfg0.N) (r : Fin 256) (l : Fin 1024) : iblk m c 0 t (ix2 r l) = arg0 m c (ix2 (row t r) l) := by
  blk_ext! [iblk, V, idx_facts t, row]

theorem blk1 (c : Dev nD) (t : Fin cfg0.N) (r : Fin 256) (l : Fin 1024) : iblk m c 1 t (ix2 r l) = arg1 m c (ix2 (row t r) (first l)) := by
  blk_ext! [iblk, V, idx_facts t, row, first]

/-- The sum over the rows of the cotangent times the input. -/
def dd (d : S2048x1024.Idx → EReal) (p : S2048x4096.Idx → EReal) (j : S1x1024.Idx) : EReal :=
  ∑ r : Fin 2048, d (ix2 r (j 1)) * p (ix2 r (first (j 1)))

theorem pay2_at (c : Dev nD) (t : Fin cfg0.N) (a : S1x1024.Idx → EReal) (l : Fin 1024) :
    k0_pay2 (F := Ideal) (iblk m c 0 t) (iblk m c 1 t) a (ix2 0 l)
      = a (ix2 0 l) + ∑ r : Fin 256, arg0 m c (ix2 (row t r) l) * arg1 m c (ix2 (row t r) (first l)) := by
  pointwise [k0_pay2]
  simp only [blk0, blk1]

theorem final2 (c : Dev nD) : (dats m 0 c).arrAt 2 cfg0.N = dd (arg0 m c) (arg1 m c) := by
  refine (dats m 0 c).arrAt_eq_of_covers 2 _ (by decide +kernel) (fun t hf y => ?_)
  have ht : t.val + 1 = cfg0.N := by have := (flush0_2 t).mp hf; have := lt_8 t; show t.val + 1 = 8; omega
  have ey : ((cfg0.win 2).blk t).view.emb y = y := by
    have e := idx_facts t
    funext a; apply Fin.ext
    match a with
    | ⟨0, _⟩ => show win0_2.index t (0 : Fin 2) * 1 + 1 * (y 0).val = (y 0).val; omega
    | ⟨1, _⟩ => show win0_2.index t (1 : Fin 2) * 1024 + 1 * (y 1).val = (y 1).val; omega
  show (dats m 0 c).after 2 t y = _
  rw [after0_2, ey]
  obtain ⟨l, rfl⟩ : ∃ l : Fin 1024, y = ix2 0 l := ⟨y 1, Cert.Finite.row_idx y (y 1) rfl⟩
  rw [Pipeline.eq_sum_fin_of_reset_step_apply_last (M := EReal) (fun n h (l : Fin 1024) => outsAt0 m c n h (ix2 0 l)) 8 (fun _ => 0)
    (fun s l => ∑ r : Fin 256, arg0 m c (ix2 (row s r) l) * arg1 m c (ix2 (row s r) (first l)))
    (fun s h l => by
      show outsAt0 m c s.val s.isLt (ix2 0 l) = _
      rw [outsAt0_A m c s h]; frame_out
      refine (pay2_at m c s _ l).trans ?_
      pointwise [k0_pay1])
    (fun s h l => by
      show outsAt0 m c s.val s.isLt (ix2 0 l) = _
      rw [outsAt0_B m c s h]; frame_out
      exact pay2_at m c s _ l)
    (le_of_eq N_0) t ht l, zero_add]
  unfold dd
  refine Fin.sum_mul_add_congr (S := 8) (n := 256) fun s k hl => ?_
  have e : row s k = ⟨s.val * 256 + k.val, hl⟩ := Fin.ext (by show 256 * s.val + k.val = s.val * 256 + k.val; omega)
  rw [e]
  rfl

end Cert.SkipGradIdeal.Rows

/-! ## The reference and the claims -/

namespace Cert.Proof.SkipGradClaims

open Cert.SkipGradIdeal.Rows
open Cert.SkipGradIdeal (S2048x4096 S2048x1024 S1x1024)
open Cert.SkipGradRefIdeal.Read

theorem ref9 (d : S2048x1024.Idx → EReal) (p : S2048x4096.Idx → EReal) : val_main_v9 (F := Ideal) d p = dd d p := by
  funext j
  obtain ⟨l, rfl⟩ : ∃ l : Fin 1024, j = ix2 0 l := ⟨j 1, Cert.Finite.row_idx j (j 1) rfl⟩
  pointwise [val_main_v9, val_main_v8, val_main_v7, val_main_v6, val_main_v5, val_main_v0, val_main_cst_0, val_main_cst_1]
  simp only [Fin.sum_univ_one]
  rfl

theorem frame_ref : Cert.quiescent_SkipGradRefIdeal := fun m ρ _ =>
  (θ_run Cert.SkipGradRefIdeal.defs _ _).mono (fun r h => ⟨fun c => (h c).2,
      Idealize.ShloMosaic.sem_eq_zero_of_no_sems (by decide) r.2⟩)
    (Cert.SkipGradRefIdeal.Value.run (F := Ideal) m ρ)

theorem algebraic : Cert.algebraic_SkipGradIdeal_SkipGradRefIdeal := by
  intro m ρ m' ρ' _ hagree
  refine ⟨fun c => dd (arg0 m c) (arg1 m c), ?_, ?_⟩
  · exact (θ_run Cert.SkipGradIdeal.defs _ _).mono (fun _ h c => ⟨(h c).1.trans (final2 m c), (h c).2⟩)
      (Cert.SkipGradIdeal.Value.run_blocks (F := Ideal) m ρ)
  · refine (θ_run Cert.SkipGradRefIdeal.defs _ _).mono (fun _ h c => ⟨(h c).1.trans ?_, (h c).2⟩)
      (Cert.SkipGradRefIdeal.Value.run (F := Ideal) m' ρ')
    refine ((val_main_v9_eq _ _).trans (ref9 _ _)).trans ?_
    rw [(hagree c).1, (hagree c).2]

end Cert.Proof.SkipGradClaims
end
-- ==== Proof.Steps.lean ====
/-
  Sums taken over the four shards of a product: an accumulator that starts at zero with the first shard of a tile and adds one shard at
  each step holds, at the tile's last step, the sum over the whole contracted axis.
-/
module

public import proofs.«01_k».proof.Defs
public import Idealize.ShloMosaic.Lib.Pipeline.ValueKit

@[expose] public section

noncomputable section

open Idealize.ShloMosaic

namespace Cert.Steps

/-- Four steps of an accumulator: point `t` is the last step of its tile. -/
theorem four {N : ℕ} (o : (n : ℕ) → n < N → EReal) (g : Fin 4 → EReal) (t : Fin N) (h3 : t.val % 4 = 3)
    (hA : ∀ s : Fin N, s.val / 4 = t.val / 4 → s.val % 4 = 0 → o s.val s.isLt = 0 + g 0)
    (hB : ∀ s : Fin N, s.val / 4 = t.val / 4 → ∀ h : ¬ s.val % 4 = 0, o s.val s.isLt
      = o (s.val - 1) (Nat.lt_of_le_of_lt (Nat.sub_le _ _) s.isLt) + g ⟨s.val % 4, Nat.mod_lt _ (by decide)⟩) :
    o t.val t.isLt = ∑ k, g k := by
  have ht := t.isLt
  obtain ⟨n, e0⟩ : ∃ n, t.val = 4 * n + 3 := ⟨t.val / 4, by omega⟩
  have a := hA ⟨4 * n, by omega⟩ (by show 4 * n / 4 = _; omega) (by show 4 * n % 4 = 0; omega)
  have b1 := hB ⟨4 * n + 1, by omega⟩ (by show (4 * n + 1) / 4 = _; omega) (by show ¬ (4 * n + 1) % 4 = 0; omega)
  have b2 := hB ⟨4 * n + 2, by omega⟩ (by show (4 * n + 2) / 4 = _; omega) (by show ¬ (4 * n + 2) % 4 = 0; omega)
  have b3 := hB t rfl (by omega)
  have i1 : (⟨(4 * n + 1) % 4, Nat.mod_lt _ (by decide)⟩ : Fin 4) = 1 := Fin.ext (by show (4 * n + 1) % 4 = 1; omega)
  have i2 : (⟨(4 * n + 2) % 4, Nat.mod_lt _ (by decide)⟩ : Fin 4) = 2 := Fin.ext (by show (4 * n + 2) % 4 = 2; omega)
  have i3 : (⟨t.val % 4, Nat.mod_lt _ (by decide)⟩ : Fin 4) = 3 := Fin.ext (by show t.val % 4 = 3; omega)
  have m3 : ∀ (k : ℕ) (hk : k < N) (e : k = 4 * n + 2), o k hk = o (4 * n + 2) (by omega) := fun k hk e => by subst e; rfl
  rw [b3, i3, m3 (t.val - 1) _ (by omega), Fin.sum_univ_four]
  refine congrArg (· + g 3) (b2.trans ?_)
  rw [i2]
  refine congrArg (· + g 2) (b1.trans ?_)
  rw [i1]
  exact congrArg (· + g 1) (a.trans (zero_add _))

end Cert.Steps
end
-- ==== Proof.InputGrad.lean ====
/-
  The gradient at the input of the feed-forward block: the residual branch scaled, and the two gate gradients carried back through the
  gate's matrices. The matrices are in four shards of columns; an accumulator takes one shard at each step.
-/
module

public import proofs.«01_k».proof.Defs
public import proofs.«01_k».proof.Proof.Gen.InputGradIdeal.Value
public import proofs.«01_k».proof.Proof.Gen.InputGradRefIdeal.Run
public import proofs.«01_k».proof.Proof.Gen.InputGradRefIdeal.Read
public import proofs.«01_k».proof.Proof.Steps
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The kernel -/

namespace Cert.InputGradIdeal.Tiles

open Cert.InputGradIdeal Cert.InputGradIdeal.Gen

variable (m : (ℓ : Loc nD τ sig) → Buf (Elt Ideal) ℓ)

abbrev arg0 (c : Dev nD) : S2048x2048.Idx → EReal := m ((c : Thread nD τ).loc main_arg0)
abbrev arg1 (c : Dev nD) : S2048x5632.Idx → EReal := m ((c : Thread nD τ).loc main_arg1)
abbrev arg2 (c : Dev nD) : S2048x5632.Idx → EReal := m ((c : Thread nD τ).loc main_arg2)
abbrev arg3 (c : Dev nD) : S2048x5632.Idx → EReal := m ((c : Thread nD τ).loc main_arg3)
abbrev arg4 (c : Dev nD) : S2048x5632.Idx → EReal := m ((c : Thread nD τ).loc main_arg4)

theorem cast1 (c : Dev nD) (r : Fin 2048) (l : Fin 5632) : (V m c main_v0 : S2048x5632.Idx → EReal) (ix2 r l) = arg1 m c (ix2 r l) := by
  show (StableHlo.after hostOps0 (fun b => m (c, b)) (Proc.devRef .tc main_v0) : S2048x5632.Idx → EReal) (ix2 r l) = _
  after_results
  pointwise []

theorem cast2 (c : Dev nD) (r : Fin 2048) (l : Fin 5632) : (V m c main_v1 : S2048x5632.Idx → EReal) (ix2 r l) = arg2 m c (ix2 r l) := by
  show (StableHlo.after hostOps0 (fun b => m (c, b)) (Proc.devRef .tc main_v1) : S2048x5632.Idx → EReal) (ix2 r l) = _
  after_results
  pointwise []

theorem shards3 (c : Dev nD) (s : Fin 4) (k : Fin 2048) (l : Fin 1408) : (V m c main_v4 : S4x2048x1408.Idx → EReal) (ix3 s k l)
    = arg3 m c (ix2 k ⟨s.val * 1408 + l.val, by omega⟩) := by
  show (StableHlo.after hostOps0 (fun b => m (c, b)) (Proc.devRef .tc main_v4) : S4x2048x1408.Idx → EReal) (ix3 s k l) = _
  after_results
  pointwise []

theorem shards4 (c : Dev nD) (s : Fin 4) (k : Fin 2048) (l : Fin 1408) : (V m c main_v7 : S4x2048x1408.Idx → EReal) (ix3 s k l)
    = arg4 m c (ix2 k ⟨s.val * 1408 + l.val, by omega⟩) := by
  show (StableHlo.after hostOps0 (fun b => m (c, b)) (Proc.devRef .tc main_v7) : S4x2048x1408.Idx → EReal) (ix3 s k l) = _
  after_results
  pointwise []

theorem idx_facts : ∀ t : Fin cfg0.N,
    win0_0.index t (0 : Fin 2) = t.val / 4 ∧ win0_0.index t (1 : Fin 2) = t.val % 4
    ∧ win0_1.index t (0 : Fin 2) = t.val / 4 ∧ win0_1.index t (1 : Fin 2) = t.val % 4
    ∧ win0_2.index t (0 : Fin 3) = t.val % 4 ∧ win0_2.index t (1 : Fin 3) = 0 ∧ win0_2.index t (2 : Fin 3) = 0
    ∧ win0_3.index t (0 : Fin 3) = t.val % 4 ∧ win0_3.index t (1 : Fin 3) = 0 ∧ win0_3.index t (2 : Fin 3) = 0
    ∧ win0_4.index t (0 : Fin 2) = t.val / 4 ∧ win0_4.index t (1 : Fin 2) = 0
    ∧ win0_5.index t (0 : Fin 2) = t.val / 4 ∧ win0_5.index t (1 : Fin 2) = 0 :=
  (by decide +kernel : ∀ t : Fin grid0.N, _)

theorem lt_16 (t : Fin cfg0.N) : t.val < 16 := t.isLt

/-- Row `r` of the tile at point `t`. -/
def row (t : Fin cfg0.N) (r : Fin 512) : Fin 2048 := ⟨512 * (t.val / 4) + r.val, by have := lt_16 t; omega⟩

/-- Column `l` of shard `s`. -/
def col (s : Fin 4) (l : Fin 1408) : Fin 5632 := ⟨s.val * 1408 + l.val, by omega⟩

/-- The shard at point `t`. -/
def shard (t : Fin cfg0.N) : Fin 4 := ⟨t.val % 4, Nat.mod_lt _ (by decide)⟩

theorem emb0 (t : Fin cfg0.N) (y : S512x1408.Idx) : ((cfg0.win 0).blk t).view.emb y = ix2 (n0 := 2048) (n1 := 5632) (row t (y 0)) (col (shard t) (y 1)) := by
  have e := idx_facts t
  funext a; apply Fin.ext
  match a with
  | ⟨0, _⟩ => show win0_0.index t (0 : Fin 2) * 512 + 1 * (y 0).val = 512 * (t.val / 4) + (y 0).val; omega
  | ⟨1, _⟩ => show win0_0.index t (1 : Fin 2) * 1408 + 1 * (y 1).val = t.val % 4 * 1408 + (y 1).val; omega

theorem emb1 (t : Fin cfg0.N) (y : S512x1408.Idx) : ((cfg0.win 1).blk t).view.emb y = ix2 (n0 := 2048) (n1 := 5632) (row t (y 0)) (col (shard t) (y 1)) := by
  have e := idx_facts t
  funext a; apply Fin.ext
  match a with
  | ⟨0, _⟩ => show win0_1.index t (0 : Fin 2) * 512 + 1 * (y 0).val = 512 * (t.val / 4) + (y 0).val; omega
  | ⟨1, _⟩ => show win0_1.index t (1 : Fin 2) * 1408 + 1 * (y 1).val = t.val % 4 * 1408 + (y 1).val; omega

theorem emb2 (t : Fin cfg0.N) (y : S1x2048x1408.Idx) : ((cfg0.win 2).blk t).view.emb y
    = ix3 (n0 := 4) (n1 := 2048) (n2 := 1408) (shard t) (y 1) (y 2) := by
  have e := idx_facts t
  have h0 : (y 0).val < 1 := (y 0).isLt
  funext a; apply Fin.ext
  match a with
  | ⟨0, _⟩ => show win0_2.index t (0 : Fin 3) * 1 + 1 * (y 0).val = t.val % 4; omega
  | ⟨1, _⟩ => show win0_2.index t (1 : Fin 3) * 2048 + 1 * (y 1).val = (y 1).val; omega
  | ⟨2, _⟩ => show win0_2.index t (2 : Fin 3) * 1408 + 1 * (y 2).val = (y 2).val; omega

theorem emb3 (t : Fin cfg0.N) (y : S1x2048x1408.Idx) : ((cfg0.win 3).blk t).view.emb y
    = ix3 (n0 := 4) (n1 := 2048) (n2 := 1408) (shard t) (y 1) (y 2) := by
  have e := idx_facts t
  have h0 : (y 0).val < 1 := (y 0).isLt
  funext a; apply Fin.ext
  match a with
  | ⟨0, _⟩ => show win0_3.index t (0 : Fin 3) * 1 + 1 * (y 0).val = t.val % 4; omega
  | ⟨1, _⟩ => show win0_3.index t (1 : Fin 3) * 2048 + 1 * (y 1).val = (y 1).val; omega
  | ⟨2, _⟩ => show win0_3.index t (2 : Fin 3) * 1408 + 1 * (y 2).val = (y 2).val; omega

theorem emb5 (t : Fin cfg0.N) (y : S512x2048.Idx) : ((cfg0.win 5).blk t).view.emb y = ix2 (n0 := 2048) (n1 := 2048) (row t (y 0)) (y 1) := by
  have e := idx_facts t
  funext a; apply Fin.ext
  match a with
  | ⟨0, _⟩ => show win0_5.index t (0 : Fin 2) * 512 + 1 * (y 0).val = 512 * (t.val / 4) + (y 0).val; omega
  | ⟨1, _⟩ => show win0_5.index t (1 : Fin 2) * 2048 + 1 * (y 1).val = (y 1).val; omega

theorem blk0 (c : Dev nD) (t : Fin cfg0.N) (r : Fin 512) (k : Fin 1408) : iblk m c 0 t (ix2 r k) = arg1 m c (ix2 (row t r) (col (shard t) k)) := by
  show (V m c main_v0 : S2048x5632.Idx → EReal) (((cfg0.win 0).blk t).view.emb (ix2 r k)) = _
  rw [emb0]; exact cast1 m c _ _

theorem blk1 (c : Dev nD) (t : Fin cfg0.N) (r : Fin 512) (k : Fin 1408) : iblk m c 1 t (ix2 r k) = arg2 m c (ix2 (row t r) (col (shard t) k)) := by
  show (V m c main_v1 : S2048x5632.Idx → EReal) (((cfg0.win 1).blk t).view.emb (ix2 r k)) = _
  rw [emb1]; exact cast2 m c _ _

theorem blk2 (c : Dev nD) (t : Fin cfg0.N) (k : Fin 2048) (l : Fin 1408) : iblk m c 2 t (ix3 0 k l) = arg3 m c (ix2 k (col (shard t) l)) := by
  show (V m c main_v4 : S4x2048x1408.Idx → EReal) (((cfg0.win 2).blk t).view.emb (ix3 0 k l)) = _
  rw [emb2]; exact shards3 m c _ _ _

theorem blk3 (c : Dev nD) (t : Fin cfg0.N) (k : Fin 2048) (l : Fin 1408) : iblk m c 3 t (ix3 0 k l) = arg4 m c (ix2 k (col (shard t) l)) := by
  show (V m c main_v7 : S4x2048x1408.Idx → EReal) (((cfg0.win 3).blk t).view.emb (ix3 0 k l)) = _
  rw [emb3]; exact shards4 m c _ _ _

theorem blk4 (c : Dev nD) (t : Fin cfg0.N) (r : Fin 512) (l : Fin 2048) : iblk m c 4 t (ix2 r l) = arg0 m c (ix2 (row t r) l) := by
  blk_ext! [iblk, V, idx_facts t, row]

/-- The factor of the residual branch. -/
def alpha : EReal := Ideal.ofBits .f32 0x3FD744FD#32

/-- One shard's share of the two products. -/
def part (hg hu wg wu : S2048x5632.Idx → EReal) (r l : Fin 2048) (s : Fin 4) : EReal :=
  ∑ k, hg (ix2 r (col s k)) * wg (ix2 l (col s k)) + ∑ k, hu (ix2 r (col s k)) * wu (ix2 l (col s k))

/-- The two products. -/
def both (hg hu wg wu : S2048x5632.Idx → EReal) (r l : Fin 2048) : EReal :=
  ∑ k, hg (ix2 r k) * wg (ix2 l k) + ∑ k, hu (ix2 r k) * wu (ix2 l k)

theorem sum_part (hg hu wg wu : S2048x5632.Idx → EReal) (r l : Fin 2048) : ∑ s, part hg hu wg wu r l s = both hg hu wg wu r l := by
  unfold part both
  rw [Finset.sum_add_distrib]
  exact congrArg₂ (· + ·)
    (Fin.sum_mul_add_congr (S := 4) (n := 1408) (f := fun k : Fin 5632 => hg (ix2 r k) * wg (ix2 l k)) fun s k hl => rfl)
    (Fin.sum_mul_add_congr (S := 4) (n := 1408) (f := fun k : Fin 5632 => hu (ix2 r k) * wu (ix2 l k)) fun s k hl => rfl)

theorem pay2_at (c : Dev nD) (t : Fin cfg0.N) (a : S512x2048.Idx → EReal) (r : Fin 512) (l : Fin 2048) :
    k0_pay2 (F := Ideal) (iblk m c 0 t) (iblk m c 2 t) (iblk m c 1 t) (iblk m c 3 t) a (ix2 r l)
      = a (ix2 r l) + part (arg1 m c) (arg2 m c) (arg3 m c) (arg4 m c) (row t r) l (shard t) := by
  pointwise [k0_pay2]
  simp only [blk0, blk1, blk2, blk3]
  rfl

theorem row_eq {t s : Fin cfg0.N} (h : s.val / 4 = t.val / 4) (r : Fin 512) : row s r = row t r :=
  Fin.ext (by show 512 * (s.val / 4) + r.val = 512 * (t.val / 4) + r.val; omega)

/-- The accumulator after a tile's last shard. -/
theorem acc_at (c : Dev nD) (t : Fin cfg0.N) (h3 : t.val % 4 = 3) (r : Fin 512) (l : Fin 2048) :
    (outsAt0 m c t.val t.isLt).2 (ix2 r l) = both (arg1 m c) (arg2 m c) (arg3 m c) (arg4 m c) (row t r) l := by
  rw [← sum_part]
  refine Cert.Steps.four (fun n h => (outsAt0 m c n h).2 (ix2 r l)) _ t h3 (fun s e h0 => ?_) (fun s e h0 => ?_)
  · have es : shard s = 0 := Fin.ext h0
    rw [← row_eq e, ← es]
    rw [outsAt0_A m c s h0 (by omega)]; frame_out
    refine (pay2_at m c s _ r l).trans ?_
    pointwise [k0_pay1]
  · rw [← row_eq e]
    by_cases h1 : s.val % 4 = 3
    · rw [outsAt0_C m c s h0 h1]; frame_out
      refine (congrArg (fun a => k0_pay2 (F := Ideal) (iblk m c 0 s) (iblk m c 2 s) (iblk m c 1 s) (iblk m c 3 s) a (ix2 r l))
        ((Memref.isWhole_whole cc0_scratch0).read_unread _)).trans ?_
      exact pay2_at m c s _ r l
    · rw [outsAt0_B m c s h0 h1]; frame_out
      refine (congrArg (fun a => k0_pay2 (F := Ideal) (iblk m c 0 s) (iblk m c 2 s) (iblk m c 1 s) (iblk m c 3 s) a (ix2 r l))
        ((Memref.isWhole_whole cc0_scratch0).read_unread _)).trans ?_
      exact pay2_at m c s _ r l

/-- The result: the residual branch scaled, and the two products. -/
def dx (dr : S2048x2048.Idx → EReal) (hg hu wg wu : S2048x5632.Idx → EReal) (j : S2048x2048.Idx) : EReal :=
  alpha * dr j + both hg hu wg wu (j 0) (j 1)

theorem out_eq (c : Dev nD) (t : Fin cfg0.N) (h3 : t.val % 4 = 3) :
    (outsAt0 m c t.val t.isLt).1 = k0_pay3 (F := Ideal) (outsAt0 m c t.val t.isLt).2 (iblk m c 4 t) := by
  rw [outsAt0_C m c t (by omega) h3]
  frame_out

theorem pay3_at (c : Dev nD) (t : Fin cfg0.N) (a : S512x2048.Idx → EReal)
    (ea : ∀ r l, a (ix2 r l) = both (arg1 m c) (arg2 m c) (arg3 m c) (arg4 m c) (row t r) l) (r : Fin 512) (l : Fin 2048) :
    k0_pay3 (F := Ideal) a (iblk m c 4 t) (ix2 r l) = dx (arg0 m c) (arg1 m c) (arg2 m c) (arg3 m c) (arg4 m c) (ix2 (row t r) l) := by
  pointwise [k0_pay3]
  rw [ea, blk4]
  rfl

theorem final5 (c : Dev nD) : (dats m 0 c).arrAt 5 cfg0.N = dx (arg0 m c) (arg1 m c) (arg2 m c) (arg3 m c) (arg4 m c) := by
  refine (dats m 0 c).arrAt_eq_of_covers 5 _ (by decide +kernel) (fun t hf y => ?_)
  have h3 : t.val % 4 = 3 := (flush0_5 t).mp hf
  show (dats m 0 c).after 5 t y = _
  rw [after0_5, emb5, out_eq m c t h3]
  have ea := acc_at m c t h3
  generalize (outsAt0 m c t.val t.isLt).2 = a at ea ⊢
  exact (congrArg (k0_pay3 (F := Ideal) a (iblk m c 4 t)) (eq_ix2 (n0 := 512) (n1 := 2048) y)).trans (pay3_at m c t a ea (y 0) (y 1))

end Cert.InputGradIdeal.Tiles

/-! ## The reference and the claims -/

namespace Cert.Proof.InputGradClaims

open Cert.InputGradIdeal.Tiles
open Cert.InputGradIdeal (S2048x2048 S2048x5632)
open Cert.InputGradRefIdeal.Read

theorem ref10 (dr : S2048x2048.Idx → EReal) (hg hu wg wu : S2048x5632.Idx → EReal) :
    val_main_v10 (F := Ideal) dr hg hu wg wu = dx dr hg hu wg wu := by
  funext j
  obtain ⟨r, l, rfl⟩ : ∃ r l, j = ix2 r l := ⟨_, _, eq_ix2 (n0 := 2048) (n1 := 2048) j⟩
  pointwise [val_main_v10, val_main_v9, val_main_v8, val_main_v7, val_main_v6, val_main_v5, val_main_cst_1]
  rw [add_comm, add_comm (∑ k, hu (ix2 r k) * wu (ix2 l k))]
  rfl

theorem frame_ref : Cert.quiescent_InputGradRefIdeal := fun m ρ _ =>
  (θ_run Cert.InputGradRefIdeal.defs _ _).mono (fun r h => ⟨fun c => (h c).2,
      Idealize.ShloMosaic.sem_eq_zero_of_no_sems (by decide) r.2⟩)
    (Cert.InputGradRefIdeal.Value.run (F := Ideal) m ρ)

theorem algebraic : Cert.algebraic_InputGradIdeal_InputGradRefIdeal := by
  intro m ρ m' ρ' _ hagree
  refine ⟨fun c => dx (arg0 m c) (arg1 m c) (arg2 m c) (arg3 m c) (arg4 m c), ?_, ?_⟩
  · exact (θ_run Cert.InputGradIdeal.defs _ _).mono (fun _ h c => ⟨(h c).1.trans (final5 m c), (h c).2⟩)
      (Cert.InputGradIdeal.Value.run_blocks (F := Ideal) m ρ)
  · refine (θ_run Cert.InputGradRefIdeal.defs _ _).mono (fun _ h c => ⟨(h c).1.trans ?_, (h c).2⟩)
      (Cert.InputGradRefIdeal.Value.run (F := Ideal) m' ρ')
    refine ((val_main_v10_eq _ _ _ _ _).trans (ref10 _ _ _ _ _)).trans ?_
    rw [(hagree c).1, (hagree c).2.1, (hagree c).2.2.1, (hagree c).2.2.2.1, (hagree c).2.2.2.2]

end Cert.Proof.InputGradClaims
end
-- ==== Proof.ConvOut.lean ====
/-
  The forward pass of the gated short convolution: the product of two inputs, a causal convolution of width three along the rows, a
  gate and a norm over the columns, in tiles of 256 rows; the two rows before a tile come with the eight rows that precede it.
-/
module

public import proofs.«01_k».proof.Defs
public import proofs.«01_k».proof.Proof.Gen.ConvOutIdeal.Value
public import proofs.«01_k».proof.Proof.Gen.ConvOutRefIdeal.Run
public import proofs.«01_k».proof.Proof.Gen.ConvOutRefIdeal.Read
public import proofs.«01_k».proof.Proof.ConvGate
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The kernel -/

namespace Cert.ConvOutIdeal.Rows

open Cert.ConvOutIdeal Cert.ConvOutIdeal.Gen
open Cert.Norms
open Cert.ConvGateIdeal.Rows (quarter delayed input conv gated mask)

variable (m : (ℓ : Loc nD τ sig) → Buf (Elt Ideal) ℓ)

abbrev arg0 (c : Dev nD) : S2048x4096.Idx → EReal := m ((c : Thread nD τ).loc main_arg0)
abbrev arg1 (c : Dev nD) : S3x1024.Idx → EReal := m ((c : Thread nD τ).loc main_arg1)
abbrev arg2 (c : Dev nD) : S1024.Idx → EReal := m ((c : Thread nD τ).loc main_arg2)
abbrev arg3 (c : Dev nD) : S1024.Idx → EReal := m ((c : Thread nD τ).loc main_arg3)

theorem idx_facts : ∀ t : Fin cfg0.N, (grid0.coords t 0).val = t.val
    ∧ win0_0.index t (0 : Fin 2) = t.val ∧ win0_0.index t (1 : Fin 2) = 1
    ∧ win0_1.index t (0 : Fin 2) = t.val ∧ win0_1.index t (1 : Fin 2) = 2
    ∧ win0_2.index t (0 : Fin 2) = t.val ∧ win0_2.index t (1 : Fin 2) = 3
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 32 * t.val - 1 ∧ win0_6.index t (1 : Fin 2) = 2
    ∧ win0_7.index t (0 : Fin 2) = 32 * t.val - 1 ∧ win0_7.index t (1 : Fin 2) = 3
    ∧ win0_8.index t (0 : Fin 2) = t.val ∧ win0_8.index t (1 : Fin 2) = 0 :=
  (by decide +kernel : ∀ t : Fin grid0.N, _)

theorem lt_8 (t : Fin cfg0.N) : t.val < 8 := t.isLt

/-- Row `r` of tile `t`. -/
def row (t : Fin cfg0.N) (r : Fin 256) : Fin 2048 := ⟨256 * t.val + r.val, by have := lt_8 t; omega⟩

/-- Row `r` of the eight rows before tile `t`. -/
def before (t : Fin cfg0.N) (r : Fin 8) : Fin 2048 := ⟨8 * (32 * t.val - 1) + r.val, by have := lt_8 t; omega⟩

theorem blk0 (c : Dev nD) (t : Fin cfg0.N) (r : Fin 256) (l : Fin 1024) :
    iblk m c 0 t (ix2 r l) = arg0 m c (ix2 (row t r) (quarter 1 (by decide) l)) := by
  blk_ext! [iblk, V, idx_facts t, row, quarter]

theorem blk1 (c : Dev nD) (t : Fin cfg0.N) (r : Fin 256) (l : Fin 1024) :
    iblk m c 1 t (ix2 r l) = arg0 m c (ix2 (row t r) (quarter 2 (by decide) l)) := by
  blk_ext! [iblk, V, idx_facts t, row, quarter]

theorem blk2 (c : Dev nD) (t : Fin cfg0.N) (r : Fin 256) (l : Fin 1024) :
    iblk m c 2 t (ix2 r l) = arg0 m c (ix2 (row t r) (quarter 3 (by decide) l)) := by
  blk_ext! [iblk, V, idx_facts t, row, quarter]

theorem blk3 (c : Dev nD) (t : Fin cfg0.N) (k : Fin 3) (l : Fin 1024) : iblk m c 3 t (ix2 k l) = arg1 m c (ix2 k l) := by
  blk_ext! [iblk, V, idx_facts t]

theorem blk4 (c : Dev nD) (t : Fin cfg0.N) (l : Fin 1024) : iblk m c 4 t (ix2 0 l) = arg2 m c (ix1 l) := by
  blk_ext! [iblk, V, idx_facts t]

theorem blk5 (c : Dev nD) (t : Fin cfg0.N) (l : Fin 1024) : iblk m c 5 t (ix2 0 l) = arg3 m c (ix1 l) := by
  blk_ext! [iblk, V, idx_facts t]

theorem blk6 (c : Dev nD) (t : Fin cfg0.N) (r : Fin 8) (l : Fin 1024) :
    iblk m c 6 t (ix2 r l) = arg0 m c (ix2 (before t r) (quarter 2 (by decide) l)) := by
  blk_ext! [iblk, V, idx_facts t, before, quarter]

theorem blk7 (c : Dev nD) (t : Fin cfg0.N) (r : Fin 8) (l : Fin 1024) :
    iblk m c 7 t (ix2 r l) = arg0 m c (ix2 (before t r) (quarter 3 (by decide) l)) := by
  blk_ext! [iblk, V, idx_facts t, before, quarter]

/-- The last eight rows of the tile before, masked at the first tile, followed by the tile's rows: row `8 + r - s` is the input `s` rows back. -/
theorem rows_back (c : Dev nD) (t : Fin cfg0.N) (k s : ℕ) (r : Fin 256) (l : Fin 1024) (hk : k + s = 8 + r.val) (hlt : ¬ k < 8 → k - 8 < 256)
    (v1 v2 : S256x1024.Idx → EReal) (v6 v7 : S8x1024.Idx → EReal)
    (h1 : v1 = iblk m c 1 t) (h2 : v2 = iblk m c 2 t) (h6 : v6 = iblk m c 6 t) (h7 : v7 = iblk m c 7 t) :
    (if h : k < 8 then v6 (ix2 ⟨k, h⟩ l) * v7 (ix2 ⟨k, h⟩ l) * (((if 0 < t.val then (1 : ℤ) else 0 : ℤ) : ℝ) : EReal)
      else v1 (ix2 ⟨k - 8, hlt h⟩ l) * v2 (ix2 ⟨k - 8, hlt h⟩ l)) = delayed (arg0 m c) s (row t r) l := by
  have ht := lt_8 t
  subst h1 h2 h6 h7
  unfold delayed
  by_cases h : k < 8
  · rw [dif_pos h, blk6, blk7]
    by_cases h0 : 0 < t.val
    · have hs : s ≤ (row t r).val := by show s ≤ 256 * t.val + r.val; omega
      have e : before t ⟨k, h⟩ = ⟨(row t r).val - s, by omega⟩ :=
        Fin.ext (by show 8 * (32 * t.val - 1) + k = 256 * t.val + r.val - s; omega)
      rw [if_pos h0, dif_pos hs, e, Int.cast_one, EReal.coe_one, mul_one]
    · have hs : ¬ s ≤ (row t r).val := by show ¬ s ≤ 256 * t.val + r.val; omega
      rw [if_neg h0, dif_neg hs, Int.cast_zero, EReal.coe_zero, mul_zero]
  · have hs : s ≤ (row t r).val := by show s ≤ 256 * t.val + r.val; omega
    have e : row t ⟨k - 8, hlt h⟩ = ⟨(row t r).val - s, by omega⟩ :=
      Fin.ext (by show 256 * t.val + (k - 8) = 256 * t.val + r.val - s; omega)
    rw [dif_neg h, blk1, blk2, dif_pos hs, e]

/-- The norm's input over tile `t`, as the kernel holds it. -/
abbrev zblk (c : Dev nD) (t : Fin cfg0.N) : S256x1024.Idx → EReal :=
  k0_pay3 (F := Ideal) (grid0.coords t) (iblk m c 0 t) (iblk m c 1 t) (iblk m c 2 t) (iblk m c 3 t) (iblk m c 4 t) (iblk m c 6 t) (iblk m c 7 t)

/-- The sum of its squares in each row. -/
abbrev qblk (c : Dev nD) (t : Fin cfg0.N) : S256x1.Idx → EReal :=
  k0_pay4 (F := Ideal) (grid0.coords t) (iblk m c 0 t) (iblk m c 1 t) (iblk m c 2 t) (iblk m c 3 t) (iblk m c 4 t) (iblk m c 6 t) (iblk m c 7 t)

theorem zblk_at (c : Dev nD) (t : Fin cfg0.N) (r : Fin 256) (l : Fin 1024) :
    zblk m c t (ix2 r l) = gated (arg0 m c) (arg1 m c) (arg2 m c) (row t r) l := by
  pointwise [k0_pay3]
  simp only [(idx_facts t).1, mask ⟨t.val, lt_8 t⟩]
  have e1 := rows_back m c t ((8 + r.val + 264 - 1) % 264) 1 r l (by omega) (by omega) _ _ _ _ rfl rfl rfl rfl
  have e2 := rows_back m c t ((8 + r.val + 264 - 2) % 264) 2 r l (by omega) (by omega) _ _ _ _ rfl rfl rfl rfl
  rw [blk0, blk1, blk2, blk3, blk3, blk3, blk4]
  unfold gated conv
  rw [← e1, ← e2]
  rfl

theorem qblk_at (c : Dev nD) (t : Fin cfg0.N) (r : Fin 256) :
    qblk m c t (ix2 r 0) = ∑ k, gated (arg0 m c) (arg1 m c) (arg2 m c) (row t r) k * gated (arg0 m c) (arg1 m c) (arg2 m c) (row t r) k := by
  have e := zblk_at m c t r
  unfold zblk at e
  pointwise [k0_pay4]
  simp only [e]

/-- The result: a norm of the gated convolution. -/
def out (p : S2048x4096.Idx → EReal) (w : S3x1024.Idx → EReal) (b g : S1024.Idx → EReal) (j : S2048x1024.Idx) : EReal :=
  gated p w b (j 0) (j 1) * inv (gated p w b (j 0)) * g (ix1 (j 1))

theorem pay1_at (c : Dev nD) (t : Fin cfg0.N) (r : Fin 256) (l : Fin 1024) :
    k0_pay1 (F := Ideal) (k0_pay2 (iblk m c 5 t)) (zblk m c t) (qblk m c t) (ix2 r l) = out (arg0 m c) (arg1 m c) (arg2 m c) (arg3 m c) (ix2 (row t r) l) := by
  have ez := zblk_at m c t
  have eq := qblk_at m c t
  generalize zblk m c t = z at *
  generalize qblk m c t = q at *
  pointwise [k0_pay1, k0_pay2]
  simp only [ez, eq, blk5]
  rfl

theorem emb8 (t : Fin cfg0.N) (y : S256x1024.Idx) : ((cfg0.win 8).blk t).view.emb y = ix2 (n0 := 2048) (n1 := 1024) (row t (y 0)) (y 1) := by
  have e := idx_facts t
  funext a; apply Fin.ext
  match a with
  | ⟨0, _⟩ => show win0_8.index t (0 : Fin 2) * 256 + 1 * (y 0).val = 256 * t.val + (y 0).val; omega
  | ⟨1, _⟩ => show win0_8.index t (1 : Fin 2) * 1024 + 1 * (y 1).val = (y 1).val; omega

theorem final8 (c : Dev nD) : (dats m 0 c).arrAt 8 cfg0.N = out (arg0 m c) (arg1 m c) (arg2 m c) (arg3 m c) := by
  refine (dats m 0 c).arrAt_eq_of_covers 8 _ (by decide +kernel) (fun t _ y => ?_)
  show (dats m 0 c).after 8 t y = _
  rw [after0_8, emb8]
  frame_out
  exact (congrArg (k0_pay1 (F := Ideal) _ (zblk m c t) (qblk m c t)) (eq_ix2 (n0 := 256) (n1 := 1024) y)).trans (pay1_at m c t (y 0) (y 1))

end Cert.ConvOutIdeal.Rows

/-! ## The reference and the claims -/

namespace Cert.Proof.ConvOutClaims

open Cert.ConvOutIdeal.Rows
open Cert.ConvOutIdeal (S2048x4096 S2048x1024 S3x1024 S1024)
open Cert.ConvOutRefIdeal.Read
open Cert.Norms
open Cert.ConvGateIdeal.Rows (quarter delayed input conv gated)
open Cert.ConvGateRefIdeal.Rows (delayed_eq quarter2 quarter3)

theorem ref32 (p : S2048x4096.Idx → EReal) (w : S3x1024.Idx → EReal) (b : S1024.Idx → EReal) (r : Fin 2048) (l : Fin 1024) :
    val_main_v32 (F := Ideal) p w b (ix2 r l) = gated p w b r l := by
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v6, val_main_v5, val_main_v4, val_main_v3, val_main_v2, val_main_v1, val_main_v0, val_main_v7, val_main_cst]
  have e2 := delayed_eq p 2 r.val r l (by omega) _ _ (quarter2 l (by omega)) (quarter3 l (by omega)) (by omega) 0 rfl
  have e1 := delayed_eq p 1 (1 + r.val) r l (by omega) _ _ (quarter2 l (by omega)) (quarter3 l (by omega)) (by omega) 0 rfl
  rw [e2, e1, quarter2, quarter3]
  unfold gated conv
  rw [add_assoc, add_assoc, add_comm (b (ix1 l)), ← add_assoc]
  rfl

theorem ref46 (p : S2048x4096.Idx → EReal) (w : S3x1024.Idx → EReal) (b g : S1024.Idx → EReal) : val_main_v46 (F := Ideal) p w b g = out p w b g := by
  funext j
  obtain ⟨r, l, rfl⟩ : ∃ r l, j = ix2 r l := ⟨_, _, eq_ix2 (n0 := 2048) (n1 := 1024) j⟩
  pointwise [val_main_v46, val_main_v45, val_main_v44, val_main_v43, val_main_v42, val_main_v41, val_main_v40, val_main_v39, val_main_v38, val_main_v37, val_main_v36, val_main_v35, val_main_v34, val_main_v33, val_main_cst_0, val_main_cst_1, val_main_cst_2]
  simp only [ref32]
  rfl

theorem frame_ref : Cert.quiescent_ConvOutRefIdeal := fun m ρ _ =>
  (θ_run Cert.ConvOutRefIdeal.defs _ _).mono (fun r h => ⟨fun c => (h c).2,
      Idealize.ShloMosaic.sem_eq_zero_of_no_sems (by decide) r.2⟩)
    (Cert.ConvOutRefIdeal.Value.run (F := Ideal) m ρ)

theorem algebraic : Cert.algebraic_ConvOutIdeal_ConvOutRefIdeal := by
  intro m ρ m' ρ' _ hagree
  refine ⟨fun c => out (arg0 m c) (arg1 m c) (arg2 m c) (arg3 m c), ?_, ?_⟩
  · exact (θ_run Cert.ConvOutIdeal.defs _ _).mono (fun _ h c => ⟨(h c).1.trans (final8 m c), (h c).2⟩)
      (Cert.ConvOutIdeal.Value.run_blocks (F := Ideal) m ρ)
  · refine (θ_run Cert.ConvOutRefIdeal.defs _ _).mono (fun _ h c => ⟨(h c).1.trans ?_, (h c).2⟩)
      (Cert.ConvOutRefIdeal.Value.run (F := Ideal) m' ρ')
    refine ((val_main_v46_eq _ _).trans (ref46 _ _ _ _)).trans ?_
    rw [(hagree c).1, (hagree c).2.1, (hagree c).2.2.1, (hagree c).2.2.2]

end Cert.Proof.ConvOutClaims
end
-- ==== Proof.SwigluUp.lean ====
/-
  The up projections of a gated feed-forward layer, with the gate in the same pass: two products of the same rows with two sharded
  weights, and the gated product. The kernel goes through four shards of 1408 columns and four tiles of 512 rows.
-/
module

public import proofs.«01_k».proof.Defs
public import proofs.«01_k».proof.Proof.Gen.SwigluUpIdeal.Value
public import proofs.«01_k».proof.Proof.Gen.SwigluUpRefIdeal.Run
public import proofs.«01_k».proof.Proof.Gen.SwigluUpRefIdeal.Read
public import proofs.«01_k».proof.Proof.Norms
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The kernel -/

namespace Cert.SwigluUpIdeal.Tiles

open Cert.SwigluUpIdeal Cert.SwigluUpIdeal.Gen
open Cert.Norms

variable (m : (ℓ : Loc nD τ sig) → Buf (Elt Ideal) ℓ)

abbrev arg0 (c : Dev nD) : S2048x2048.Idx → EReal := m ((c : Thread nD τ).loc main_arg0)
abbrev arg1 (c : Dev nD) : S2048x5632.Idx → EReal := m ((c : Thread nD τ).loc main_arg1)
abbrev arg2 (c : Dev nD) : S2048x5632.Idx → EReal := m ((c : Thread nD τ).loc main_arg2)

theorem cast0 (c : Dev nD) (r l : Fin 2048) : (V m c main_v0 : S2048x2048.Idx → EReal) (ix2 r l) = arg0 m c (ix2 r l) := by
  show (StableHlo.after hostOps0 (fun b => m (c, b)) (Proc.devRef .tc main_v0) : S2048x2048.Idx → EReal) (ix2 r l) = _
  after_results
  pointwise []

theorem shards1 (c : Dev nD) (s : Fin 4) (k : Fin 2048) (l : Fin 1408) : (V m c main_v3 : S4x2048x1408.Idx → EReal) (ix3 s k l)
    = arg1 m c (ix2 k ⟨s.val * 1408 + l.val, by omega⟩) := by
  show (StableHlo.after hostOps0 (fun b => m (c, b)) (Proc.devRef .tc main_v3) : S4x2048x1408.Idx → EReal) (ix3 s k l) = _
  after_results
  pointwise []

theorem shards2 (c : Dev nD) (s : Fin 4) (k : Fin 2048) (l : Fin 1408) : (V m c main_v6 : S4x2048x1408.Idx → EReal) (ix3 s k l)
    = arg2 m c (ix2 k ⟨s.val * 1408 + l.val, by omega⟩) := by
  show (StableHlo.after hostOps0 (fun b => m (c, b)) (Proc.devRef .tc main_v6) : S4x2048x1408.Idx → EReal) (ix3 s k l) = _
  after_results
  pointwise []

theorem idx_facts : ∀ t : Fin cfg0.N,
    win0_0.index t (0 : Fin 2) = t.val % 4 ∧ win0_0.index t (1 : Fin 2) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 2) = t.val % 4 ∧ win0_3.index t (1 : Fin 2) = t.val / 4
    ∧ win0_4.index t (0 : Fin 2) = t.val % 4 ∧ win0_4.index t (1 : Fin 2) = t.val / 4
    ∧ win0_5.index t (0 : Fin 2) = t.val % 4 ∧ win0_5.index t (1 : Fin 2) = t.val / 4 :=
  (by decide +kernel : ∀ t : Fin grid0.N, _)

theorem lt_16 (t : Fin cfg0.N) : t.val < 16 := t.isLt

/-- Row `r` of the tile at point `t`. -/
def row (t : Fin cfg0.N) (r : Fin 512) : Fin 2048 := ⟨512 * (t.val % 4) + r.val, by omega⟩

/-- Column `l` of the shard at point `t`. -/
def col (t : Fin cfg0.N) (l : Fin 1408) : Fin 5632 := ⟨t.val / 4 * 1408 + l.val, by have := lt_16 t; omega⟩

theorem emb0 (t : Fin cfg0.N) (y : S512x2048.Idx) : ((cfg0.win 0).blk t).view.emb y = ix2 (n0 := 2048) (n1 := 2048) (row t (y 0)) (y 1) := by
  have e := idx_facts t
  funext a; apply Fin.ext
  match a with
  | ⟨0, _⟩ => show win0_0.index t (0 : Fin 2) * 512 + 1 * (y 0).val = 512 * (t.val % 4) + (y 0).val; omega
  | ⟨1, _⟩ => show win0_0.index t (1 : Fin 2) * 2048 + 1 * (y 1).val = (y 1).val; omega

theorem emb1 (t : Fin cfg0.N) (y : S1x2048x1408.Idx) : ((cfg0.win 1).blk t).view.emb y
    = ix3 (n0 := 4) (n1 := 2048) (n2 := 1408) ⟨t.val / 4, by have := lt_16 t; omega⟩ (y 1) (y 2) := by
  have e := idx_facts t
  have h0 : (y 0).val < 1 := (y 0).isLt
  funext a; apply Fin.ext
  match a with
  | ⟨0, _⟩ => show win0_1.index t (0 : Fin 3) * 1 + 1 * (y 0).val = t.val / 4; omega
  | ⟨1, _⟩ => show win0_1.index t (1 : Fin 3) * 2048 + 1 * (y 1).val = (y 1).val; omega
  | ⟨2, _⟩ => show win0_1.index t (2 : Fin 3) * 1408 + 1 * (y 2).val = (y 2).val; omega

theorem emb2 (t : Fin cfg0.N) (y : S1x2048x1408.Idx) : ((cfg0.win 2).blk t).view.emb y
    = ix3 (n0 := 4) (n1 := 2048) (n2 := 1408) ⟨t.val / 4, by have := lt_16 t; omega⟩ (y 1) (y 2) := by
  have e := idx_facts t
  have h0 : (y 0).val < 1 := (y 0).isLt
  funext a; apply Fin.ext
  match a with
  | ⟨0, _⟩ => show win0_2.index t (0 : Fin 3) * 1 + 1 * (y 0).val = t.val / 4; omega
  | ⟨1, _⟩ => show win0_2.index t (1 : Fin 3) * 2048 + 1 * (y 1).val = (y 1).val; omega
  | ⟨2, _⟩ => show win0_2.index t (2 : Fin 3) * 1408 + 1 * (y 2).val = (y 2).val; omega

theorem blk0 (c : Dev nD) (t : Fin cfg0.N) (r : Fin 512) (k : Fin 2048) : iblk m c 0 t (ix2 r k) = arg0 m c (ix2 (row t r) k) := by
  show (V m c main_v0 : S2048x2048.Idx → EReal) (((cfg0.win 0).blk t).view.emb (ix2 r k)) = _
  rw [emb0]; exact cast0 m c _ _

theorem blk1 (c : Dev nD) (t : Fin cfg0.N) (k : Fin 2048) (l : Fin 1408) : iblk m c 1 t (ix3 0 k l) = arg1 m c (ix2 k (col t l)) := by
  show (V m c main_v3 : S4x2048x1408.Idx → EReal) (((cfg0.win 1).blk t).view.emb (ix3 0 k l)) = _
  rw [emb1]; exact shards1 m c _ _ _

theorem blk2 (c : Dev nD) (t : Fin cfg0.N) (k : Fin 2048) (l : Fin 1408) : iblk m c 2 t (ix3 0 k l) = arg2 m c (ix2 k (col t l)) := by
  show (V m c main_v6 : S4x2048x1408.Idx → EReal) (((cfg0.win 2).blk t).view.emb (ix3 0 k l)) = _
  rw [emb2]; exact shards2 m c _ _ _

/-! ## The results -/

/-- A product. -/
def prod (x : S2048x2048.Idx → EReal) (w : S2048x5632.Idx → EReal) (j : S2048x5632.Idx) : EReal := ∑ k, x (ix2 (j 0) k) * w (ix2 k (j 1))

/-- The gated product. -/
def act (x : S2048x2048.Idx → EReal) (wg wu : S2048x5632.Idx → EReal) (j : S2048x5632.Idx) : EReal :=
  prod x wg j * sigm (prod x wg j) * prod x wu j

theorem pay2_at (c : Dev nD) (t : Fin cfg0.N) (r : Fin 512) (l : Fin 1408) :
    k0_pay2 (F := Ideal) (iblk m c 0 t) (iblk m c 1 t) (ix2 r l) = prod (arg0 m c) (arg1 m c) (ix2 (row t r) (col t l)) := by
  pointwise [k0_pay2, k0_pay1]
  simp only [blk0, blk1]
  rfl

theorem pay3_at (c : Dev nD) (t : Fin cfg0.N) (r : Fin 512) (l : Fin 1408) :
    k0_pay3 (F := Ideal) (iblk m c 0 t) (iblk m c 2 t) (ix2 r l) = prod (arg0 m c) (arg2 m c) (ix2 (row t r) (col t l)) := by
  pointwise [k0_pay3, k0_pay1]
  simp only [blk0, blk2]
  rfl

theorem pay4_at (c : Dev nD) (t : Fin cfg0.N) (r : Fin 512) (l : Fin 1408) :
    k0_pay4 (F := Ideal) (iblk m c 0 t) (iblk m c 1 t) (iblk m c 2 t) (ix2 r l)
      = act (arg0 m c) (arg1 m c) (arg2 m c) (ix2 (row t r) (col t l)) := by
  pointwise [k0_pay4]
  rw [pay2_at, pay3_at]
  simp only [zero_sub]
  rfl

theorem emb3 (t : Fin cfg0.N) (y : S512x1408.Idx) : ((cfg0.win 3).blk t).view.emb y = ix2 (n0 := 2048) (n1 := 5632) (row t (y 0)) (col t (y 1)) := by
  have e := idx_facts t
  funext a; apply Fin.ext
  match a with
  | ⟨0, _⟩ => show win0_3.index t (0 : Fin 2) * 512 + 1 * (y 0).val = 512 * (t.val % 4) + (y 0).val; omega
  | ⟨1, _⟩ => show win0_3.index t (1 : Fin 2) * 1408 + 1 * (y 1).val = t.val / 4 * 1408 + (y 1).val; omega

theorem emb4 (t : Fin cfg0.N) (y : S512x1408.Idx) : ((cfg0.win 4).blk t).view.emb y = ix2 (n0 := 2048) (n1 := 5632) (row t (y 0)) (col t (y 1)) := by
  have e := idx_facts t
  funext a; apply Fin.ext
  match a with
  | ⟨0, _⟩ => show win0_4.index t (0 : Fin 2) * 512 + 1 * (y 0).val = 512 * (t.val % 4) + (y 0).val; omega
  | ⟨1, _⟩ => show win0_4.index t (1 : Fin 2) * 1408 + 1 * (y 1).val = t.val / 4 * 1408 + (y 1).val; omega

theorem emb5 (t : Fin cfg0.N) (y : S512x1408.Idx) : ((cfg0.win 5).blk t).view.emb y = ix2 (n0 := 2048) (n1 := 5632) (row t (y 0)) (col t (y 1)) := by
  have e := idx_facts t
  funext a; apply Fin.ext
  match a with
  | ⟨0, _⟩ => show win0_5.index t (0 : Fin 2) * 512 + 1 * (y 0).val = 512 * (t.val % 4) + (y 0).val; omega
  | ⟨1, _⟩ => show win0_5.index t (1 : Fin 2) * 1408 + 1 * (y 1).val = t.val / 4 * 1408 + (y 1).val; omega

theorem final3 (c : Dev nD) : (dats m 0 c).arrAt 3 cfg0.N = prod (arg0 m c) (arg1 m c) := by
  refine (dats m 0 c).arrAt_eq_of_covers 3 _ (by decide +kernel) (fun t _ y => ?_)
  show (dats m 0 c).after 3 t y = _
  rw [after0_3, emb3]
  frame_out
  exact (congrArg (k0_pay2 (F := Ideal) (iblk m c 0 t) (iblk m c 1 t)) (eq_ix2 (n0 := 512) (n1 := 1408) y)).trans (pay2_at m c t (y 0) (y 1))

theorem final4 (c : Dev nD) : (dats m 0 c).arrAt 4 cfg0.N = prod (arg0 m c) (arg2 m c) := by
  refine (dats m 0 c).arrAt_eq_of_covers 4 _ (by decide +kernel) (fun t _ y => ?_)
  show (dats m 0 c).after 4 t y = _
  rw [after0_4, emb4]
  frame_out
  exact (congrArg (k0_pay3 (F := Ideal) (iblk m c 0 t) (iblk m c 2 t)) (eq_ix2 (n0 := 512) (n1 := 1408) y)).trans (pay3_at m c t (y 0) (y 1))

theorem final5 (c : Dev nD) : (dats m 0 c).arrAt 5 cfg0.N = act (arg0 m c) (arg1 m c) (arg2 m c) := by
  refine (dats m 0 c).arrAt_eq_of_covers 5 _ (by decide +kernel) (fun t _ y => ?_)
  show (dats m 0 c).after 5 t y = _
  rw [after0_5, emb5]
  frame_out
  exact (congrArg (k0_pay4 (F := Ideal) (iblk m c 0 t) (iblk m c 1 t) (iblk m c 2 t)) (eq_ix2 (n0 := 512) (n1 := 1408) y)).trans (pay4_at m c t (y 0) (y 1))

end Cert.SwigluUpIdeal.Tiles

/-! ## The reference and the claims -/

namespace Cert.Proof.SwigluUpClaims

open Cert.SwigluUpIdeal.Tiles
open Cert.SwigluUpIdeal (S2048x2048 S2048x5632)
open Cert.SwigluUpRefIdeal.Value Cert.SwigluUpRefIdeal.Read
open Cert.Norms

theorem ref0 (x : S2048x2048.Idx → EReal) (w : S2048x5632.Idx → EReal) : val_main_v0 (F := Ideal) x w = prod x w := by
  funext j
  obtain ⟨r, l, rfl⟩ : ∃ r l, j = ix2 r l := ⟨_, _, eq_ix2 (n0 := 2048) (n1 := 5632) j⟩
  pointwise [val_main_v0]
  rfl

theorem ref1 (x : S2048x2048.Idx → EReal) (w : S2048x5632.Idx → EReal) : val_main_v1 (F := Ideal) x w = prod x w := by
  funext j
  obtain ⟨r, l, rfl⟩ : ∃ r l, j = ix2 r l := ⟨_, _, eq_ix2 (n0 := 2048) (n1 := 5632) j⟩
  pointwise [val_main_v1]
  rfl

theorem ref4 (x : S2048x2048.Idx → EReal) (wg wu : S2048x5632.Idx → EReal) : val_main_v4 (F := Ideal) x wg wu = act x wg wu := by
  funext j
  obtain ⟨r, l, rfl⟩ : ∃ r l, j = ix2 r l := ⟨_, _, eq_ix2 (n0 := 2048) (n1 := 5632) j⟩
  pointwise [val_main_v4, val_main_v3, val_main_v2, val_main_call0_v5, val_main_call0_v4, val_main_call0_cst_0, val_main_call0_v3, val_main_call0_v2, val_main_call0_cst, val_main_call0_v1, val_main_call0_v0]
  rw [ref0, ref1]
  rfl

theorem frame_ref : Cert.quiescent_SwigluUpRefIdeal := fun m ρ _ =>
  (θ_run Cert.SwigluUpRefIdeal.defs _ _).mono (fun r h => ⟨fun c => (h c).2.2.2,
      Idealize.ShloMosaic.sem_eq_zero_of_no_sems (by decide) r.2⟩)
    (Cert.SwigluUpRefIdeal.Value.run (F := Ideal) m ρ)

theorem algebraic : Cert.algebraic_SwigluUpIdeal_SwigluUpRefIdeal := by
  intro m ρ m' ρ' _ hagree
  refine ⟨fun c => prod (arg0 m c) (arg1 m c), fun c => prod (arg0 m c) (arg2 m c), fun c => act (arg0 m c) (arg1 m c) (arg2 m c), ?_, ?_⟩
  · exact (θ_run Cert.SwigluUpIdeal.defs _ _).mono
      (fun _ h c => ⟨(h c).1.trans (final3 m c), (h c).2.1.trans (final4 m c), (h c).2.2.1.trans (final5 m c), (h c).2.2.2⟩)
      (Cert.SwigluUpIdeal.Value.run_blocks (F := Ideal) m ρ)
  · refine (θ_run Cert.SwigluUpRefIdeal.defs _ _).mono
      (fun _ h c => ⟨(h c).1.trans ?_, (h c).2.1.trans ?_, (h c).2.2.1.trans ?_, (h c).2.2.2⟩)
      (Cert.SwigluUpRefIdeal.Value.run (F := Ideal) m' ρ')
    · refine ((val_main_v0_eq _ _).trans (ref0 _ _)).trans ?_
      rw [(hagree c).1, (hagree c).2.1]
    · refine ((val_main_v1_eq _ _).trans (ref1 _ _)).trans ?_
      rw [(hagree c).1, (hagree c).2.2]
    · refine ((val_main_v4_eq _ _ _).trans (ref4 _ _ _)).trans ?_
      rw [(hagree c).1, (hagree c).2.1, (hagree c).2.2]

end Cert.Proof.SwigluUpClaims
end
-- ==== Proof.DownNorm.lean ====
/-
  The end of the feed-forward block, forward: the product with the block's second matrix taken in four shards of its rows, the residual
  branch added, and the norm of the sum with its normalised rows and row statistics.
-/
module

public import proofs.«01_k».proof.Defs
public import proofs.«01_k».proof.Proof.Gen.DownNormIdeal.Value
public import proofs.«01_k».proof.Proof.Gen.DownNormRefIdeal.Run
public import proofs.«01_k».proof.Proof.Gen.DownNormRefIdeal.Read
public import proofs.«01_k».proof.Proof.Steps
public import proofs.«01_k».proof.Proof.Norms
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The kernel -/

namespace Cert.DownNormIdeal.Tiles

open Cert.DownNormIdeal Cert.DownNormIdeal.Gen
open Cert.Norms

variable (m : (ℓ : Loc nD τ sig) → Buf (Elt Ideal) ℓ)

abbrev arg0 (c : Dev nD) : S2048x2048.Idx → EReal := m ((c : Thread nD τ).loc main_arg0)
abbrev arg1 (c : Dev nD) : S2048x5632.Idx → EReal := m ((c : Thread nD τ).loc main_arg1)
abbrev arg2 (c : Dev nD) : S5632x2048.Idx → EReal := m ((c : Thread nD τ).loc main_arg2)
abbrev arg3 (c : Dev nD) : S2048.Idx → EReal := m ((c : Thread nD τ).loc main_arg3)
abbrev arg4 (c : Dev nD) : S2048.Idx → EReal := m ((c : Thread nD τ).loc main_arg4)

theorem cast1 (c : Dev nD) (r : Fin 2048) (l : Fin 5632) : (V m c main_v0 : S2048x5632.Idx → EReal) (ix2 r l) = arg1 m c (ix2 r l) := by
  show (StableHlo.after hostOps0 (fun b => m (c, b)) (Proc.devRef .tc main_v0) : S2048x5632.Idx → EReal) (ix2 r l) = _
  after_results
  pointwise []

theorem shards2 (c : Dev nD) (s : Fin 4) (k : Fin 1408) (l : Fin 2048) : (V m c main_v2 : S4x1408x2048.Idx → EReal) (ix3 s k l)
    = arg2 m c (ix2 ⟨s.val * 1408 + k.val, by omega⟩ l) := by
  show (StableHlo.after hostOps0 (fun b => m (c, b)) (Proc.devRef .tc main_v2) : S4x1408x2048.Idx → EReal) (ix3 s k l) = _
  after_results
  pointwise []

theorem idx_facts : ∀ t : Fin cfg0.N,
    win0_0.index t (0 : Fin 2) = t.val / 4 ∧ win0_0.index t (1 : Fin 2) = t.val % 4
    ∧ win0_1.index t (0 : Fin 3) = t.val % 4 ∧ win0_1.index t (1 : Fin 3) = 0 ∧ win0_1.index t (2 : Fin 3) = 0
    ∧ win0_2.index t (0 : Fin 2) = t.val / 4 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 4 ∧ win0_5.index t (1 : Fin 2) = 0
    ∧ win0_6.index t (0 : Fin 2) = t.val / 4 ∧ win0_6.index t (1 : Fin 2) = 0
    ∧ win0_7.index t (0 : Fin 2) = t.val / 4 ∧ win0_7.index t (1 : Fin 2) = 0
    ∧ win0_8.index t (0 : Fin 2) = t.val / 4 ∧ win0_8.index t (1 : Fin 2) = 0 :=
  (by decide +kernel : ∀ t : Fin grid0.N, _)

theorem lt_16 (t : Fin cfg0.N) : t.val < 16 := t.isLt

/-- Row `r` of the tile at point `t`. -/
def row (t : Fin cfg0.N) (r : Fin 512) : Fin 2048 := ⟨512 * (t.val / 4) + r.val, by have := lt_16 t; omega⟩

/-- Entry `l` of shard `s`. -/
def col (s : Fin 4) (l : Fin 1408) : Fin 5632 := ⟨s.val * 1408 + l.val, by omega⟩

/-- The shard at point `t`. -/
def shard (t : Fin cfg0.N) : Fin 4 := ⟨t.val % 4, Nat.mod_lt _ (by decide)⟩

theorem emb0 (t : Fin cfg0.N) (y : S512x1408.Idx) : ((cfg0.win 0).blk t).view.emb y = ix2 (n0 := 2048) (n1 := 5632) (row t (y 0)) (col (shard t) (y 1)) := by
  have e := idx_facts t
  funext a; apply Fin.ext
  match a with
  | ⟨0, _⟩ => show win0_0.index t (0 : Fin 2) * 512 + 1 * (y 0).val = 512 * (t.val / 4) + (y 0).val; omega
  | ⟨1, _⟩ => show win0_0.index t (1 : Fin 2) * 1408 + 1 * (y 1).val = t.val % 4 * 1408 + (y 1).val; omega

theorem emb1 (t : Fin cfg0.N) (y : S1x1408x2048.Idx) : ((cfg0.win 1).blk t).view.emb y
    = ix3 (n0 := 4) (n1 := 1408) (n2 := 2048) (shard t) (y 1) (y 2) := by
  have e := idx_facts t
  have h0 : (y 0).val < 1 := (y 0).isLt
  funext a; apply Fin.ext
  match a with
  | ⟨0, _⟩ => show win0_1.index t (0 : Fin 3) * 1 + 1 * (y 0).val = t.val % 4; omega
  | ⟨1, _⟩ => show win0_1.index t (1 : Fin 3) * 1408 + 1 * (y 1).val = (y 1).val; omega
  | ⟨2, _⟩ => show win0_1.index t (2 : Fin 3) * 2048 + 1 * (y 2).val = (y 2).val; omega

theorem emb5 (t : Fin cfg0.N) (y : S512x2048.Idx) : ((cfg0.win 5).blk t).view.emb y = ix2 (n0 := 2048) (n1 := 2048) (row t (y 0)) (y 1) := by
  have e := idx_facts t
  funext a; apply Fin.ext
  match a with
  | ⟨0, _⟩ => show win0_5.index t (0 : Fin 2) * 512 + 1 * (y 0).val = 512 * (t.val / 4) + (y 0).val; omega
  | ⟨1, _⟩ => show win0_5.index t (1 : Fin 2) * 2048 + 1 * (y 1).val = (y 1).val; omega

theorem emb6 (t : Fin cfg0.N) (y : S512x2048.Idx) : ((cfg0.win 6).blk t).view.emb y = ix2 (n0 := 2048) (n1 := 2048) (row t (y 0)) (y 1) := by
  have e := idx_facts t
  funext a; apply Fin.ext
  match a with
  | ⟨0, _⟩ => show win0_6.index t (0 : Fin 2) * 512 + 1 * (y 0).val = 512 * (t.val / 4) + (y 0).val; omega
  | ⟨1, _⟩ => show win0_6.index t (1 : Fin 2) * 2048 + 1 * (y 1).val = (y 1).val; omega

theorem emb7 (t : Fin cfg0.N) (y : S512x2048.Idx) : ((cfg0.win 7).blk t).view.emb y = ix2 (n0 := 2048) (n1 := 2048) (row t (y 0)) (y 1) := by
  have e := idx_facts t
  funext a; apply Fin.ext
  match a with
  | ⟨0, _⟩ => show win0_7.index t (0 : Fin 2) * 512 + 1 * (y 0).val = 512 * (t.val / 4) + (y 0).val; omega
  | ⟨1, _⟩ => show win0_7.index t (1 : Fin 2) * 2048 + 1 * (y 1).val = (y 1).val; omega

theorem emb8 (t : Fin cfg0.N) (y : S512x128.Idx) : ((cfg0.win 8).blk t).view.emb y = ix2 (n0 := 2048) (n1 := 128) (row t (y 0)) (y 1) := by
  have e := idx_facts t
  funext a; apply Fin.ext
  match a with
  | ⟨0, _⟩ => show win0_8.index t (0 : Fin 2) * 512 + 1 * (y 0).val = 512 * (t.val / 4) + (y 0).val; omega
  | ⟨1, _⟩ => show win0_8.index t (1 : Fin 2) * 128 + 1 * (y 1).val = (y 1).val; omega

theorem blk0 (c : Dev nD) (t : Fin cfg0.N) (r : Fin 512) (k : Fin 1408) : iblk m c 0 t (ix2 r k) = arg1 m c (ix2 (row t r) (col (shard t) k)) := by
  show (V m c main_v0 : S2048x5632.Idx → EReal) (((cfg0.win 0).blk t).view.emb (ix2 r k)) = _
  rw [emb0]; exact cast1 m c _ _

theorem blk1 (c : Dev nD) (t : Fin cfg0.N) (k : Fin 1408) (l : Fin 2048) : iblk m c 1 t (ix3 0 k l) = arg2 m c (ix2 (col (shard t) k) l) := by
  show (V m c main_v2 : S4x1408x2048.Idx → EReal) (((cfg0.win 1).blk t).view.emb (ix3 0 k l)) = _
  rw [emb1]; exact shards2 m c _ _ _

theorem blk2 (c : Dev nD) (t : Fin cfg0.N) (r : Fin 512) (l : Fin 2048) : iblk m c 2 t (ix2 r l) = arg0 m c (ix2 (row t r) l) := by
  blk_ext! [iblk, V, idx_facts t, row]

theorem blk3 (c : Dev nD) (t : Fin cfg0.N) (l : Fin 2048) : iblk m c 3 t (ix2 0 l) = arg3 m c (ix1 l) := by
  blk_ext! [iblk, V, idx_facts t]

theorem blk4 (c : Dev nD) (t : Fin cfg0.N) (l : Fin 2048) : iblk m c 4 t (ix2 0 l) = arg4 m c (ix1 l) := by
  blk_ext! [iblk, V, idx_facts t]

/-- The product of a row of `x` with a column of `w`. -/
def dot (x : S2048x5632.Idx → EReal) (w : S5632x2048.Idx → EReal) (r : Fin 2048) (l : Fin 2048) : EReal := ∑ k, x (ix2 r k) * w (ix2 k l)

/-- One shard's share of it. -/
def part (x : S2048x5632.Idx → EReal) (w : S5632x2048.Idx → EReal) (r : Fin 2048) (l : Fin 2048) (s : Fin 4) : EReal :=
  ∑ k, x (ix2 r (col s k)) * w (ix2 (col s k) l)

theorem sum_part (x : S2048x5632.Idx → EReal) (w : S5632x2048.Idx → EReal) (r : Fin 2048) (l : Fin 2048) : ∑ s, part x w r l s = dot x w r l :=
  Fin.sum_mul_add_congr (S := 4) (n := 1408) (f := fun k : Fin 5632 => x (ix2 r k) * w (ix2 k l)) fun s k hl => rfl

theorem pay2_at (c : Dev nD) (t : Fin cfg0.N) (a : S512x2048.Idx → EReal) (r : Fin 512) (l : Fin 2048) :
    k0_pay2 (F := Ideal) (iblk m c 0 t) (iblk m c 1 t) a (ix2 r l) = a (ix2 r l) + part (arg1 m c) (arg2 m c) (row t r) l (shard t) := by
  pointwise [k0_pay2]
  simp only [blk0, blk1]
  rfl

theorem row_eq {t s : Fin cfg0.N} (h : s.val / 4 = t.val / 4) (r : Fin 512) : row s r = row t r :=
  Fin.ext (by show 512 * (s.val / 4) + r.val = 512 * (t.val / 4) + r.val; omega)

/-- The accumulator. -/
abbrev acc (c : Dev nD) (t : Fin cfg0.N) : S512x2048.Idx → EReal := (outsAt0 m c t.val t.isLt).2.2.2.2

/-- The accumulator after a tile's last shard. -/
theorem acc_at (c : Dev nD) (t : Fin cfg0.N) (h3 : t.val % 4 = 3) (r : Fin 512) (l : Fin 2048) :
    acc m c t (ix2 r l) = dot (arg1 m c) (arg2 m c) (row t r) l := by
  rw [← sum_part]
  refine Cert.Steps.four (fun n h => (outsAt0 m c n h).2.2.2.2 (ix2 r l)) _ t h3 (fun s e h0 => ?_) (fun s e h0 => ?_)
  · have es : shard s = 0 := Fin.ext h0
    rw [← row_eq e, ← es]
    rw [outsAt0_A m c s h0 (by omega)]; frame_out
    refine (pay2_at m c s _ r l).trans ?_
    pointwise [k0_pay1]
  · rw [← row_eq e]
    by_cases h1 : s.val % 4 = 3
    · rw [outsAt0_C m c s h0 h1]; frame_out
      refine (congrArg (fun a => k0_pay2 (F := Ideal) (iblk m c 0 s) (iblk m c 1 s) a (ix2 r l))
        ((Memref.isWhole_whole cc0_scratch0).read_unread _)).trans ?_
      exact pay2_at m c s _ r l
    · rw [outsAt0_B m c s h0 h1]; frame_out
      refine (congrArg (fun a => k0_pay2 (F := Ideal) (iblk m c 0 s) (iblk m c 1 s) a (ix2 r l))
        ((Memref.isWhole_whole cc0_scratch0).read_unread _)).trans ?_
      exact pay2_at m c s _ r l

/-- The factor of the residual branch, and one half. -/
def alpha : EReal := Ideal.ofBits .f32 0x3FD744FD#32
def half : EReal := Ideal.ofBits .f32 0x3F000000#32

/-- The norm's input, a row at a time. -/
def sumRow (x : S2048x2048.Idx → EReal) (a : S2048x5632.Idx → EReal) (w : S5632x2048.Idx → EReal) (r l : Fin 2048) : EReal := alpha * x (ix2 r l) + half * dot a w r l

/-- A row less its mean. -/
def centred (v : Fin 2048 → EReal) (l : Fin 2048) : EReal := v l - Ideal.div (∑ k, v k) (Ideal.ofBits .f32 0x45000000#32)

/-- One over the square root of the variance. -/
def rstd (v : Fin 2048 → EReal) : EReal :=
  Ideal.rsqrt (Ideal.div (∑ k, centred v k * centred v k) (Ideal.ofBits .f32 0x45000000#32) + Ideal.ofBits .f32 0x3727C5AC#32)

/-- The normalised row. -/
def xhat (x : S2048x2048.Idx → EReal) (a : S2048x5632.Idx → EReal) (w : S5632x2048.Idx → EReal) (j : S2048x2048.Idx) : EReal := centred (sumRow x a w (j 0)) (j 1) * rstd (sumRow x a w (j 0))

/-- The norm's result. -/
def out (x : S2048x2048.Idx → EReal) (a : S2048x5632.Idx → EReal) (w : S5632x2048.Idx → EReal) (g b : S2048.Idx → EReal) (j : S2048x2048.Idx) : EReal := xhat x a w j * g (ix1 (j 1)) + b (ix1 (j 1))

/-- The row statistic, in every lane. -/
def stat (x : S2048x2048.Idx → EReal) (a : S2048x5632.Idx → EReal) (w : S5632x2048.Idx → EReal) (j : S2048x128.Idx) : EReal := rstd (sumRow x a w (j 0))

theorem pay3_at (c : Dev nD) (t : Fin cfg0.N) (a : S512x2048.Idx → EReal)
    (ea : ∀ r l, a (ix2 r l) = dot (arg1 m c) (arg2 m c) (row t r) l) (r : Fin 512) (l : Fin 2048) :
    k0_pay3 (F := Ideal) a (iblk m c 2 t) (ix2 r l) = centred (sumRow (arg0 m c) (arg1 m c) (arg2 m c) (row t r)) l := by
  pointwise [k0_pay3]
  simp only [ea, blk2]
  rfl

theorem pay4_at (c : Dev nD) (t : Fin cfg0.N) (a : S512x2048.Idx → EReal)
    (ea : ∀ r l, a (ix2 r l) = dot (arg1 m c) (arg2 m c) (row t r) l) (r : Fin 512) :
    k0_pay4 (F := Ideal) a (iblk m c 2 t) (ix2 r 0) = rstd (sumRow (arg0 m c) (arg1 m c) (arg2 m c) (row t r)) := by
  have e := pay3_at m c t a ea
  pointwise [k0_pay4]
  simp only [e]
  rfl

theorem xhat_at (c : Dev nD) (t : Fin cfg0.N) (a : S512x2048.Idx → EReal)
    (ea : ∀ r l, a (ix2 r l) = dot (arg1 m c) (arg2 m c) (row t r) l) (r : Fin 512) (l : Fin 2048) :
    k0_pay5 (F := Ideal) a (iblk m c 2 t) (ix2 r l) = xhat (arg0 m c) (arg1 m c) (arg2 m c) (ix2 (row t r) l) := by
  pointwise [k0_pay5]
  rw [pay3_at m c t a ea, pay4_at m c t a ea]
  rfl

theorem out_at (c : Dev nD) (t : Fin cfg0.N) (a : S512x2048.Idx → EReal)
    (ea : ∀ r l, a (ix2 r l) = dot (arg1 m c) (arg2 m c) (row t r) l) (r : Fin 512) (l : Fin 2048) :
    k0_pay6 (F := Ideal) a (iblk m c 2 t) (iblk m c 3 t) (iblk m c 4 t) (ix2 r l) = out (arg0 m c) (arg1 m c) (arg2 m c) (arg3 m c) (arg4 m c) (ix2 (row t r) l) := by
  pointwise [k0_pay6]
  rw [xhat_at m c t a ea, blk3, blk4]
  rfl

theorem cast_at (c : Dev nD) (t : Fin cfg0.N) (a : S512x2048.Idx → EReal)
    (ea : ∀ r l, a (ix2 r l) = dot (arg1 m c) (arg2 m c) (row t r) l) (r : Fin 512) (l : Fin 2048) :
    k0_pay8 (F := Ideal) a (iblk m c 2 t) (iblk m c 3 t) (iblk m c 4 t) (ix2 r l) = out (arg0 m c) (arg1 m c) (arg2 m c) (arg3 m c) (arg4 m c) (ix2 (row t r) l) := by
  pointwise [k0_pay8]
  exact out_at m c t a ea r l

theorem stat_at (c : Dev nD) (t : Fin cfg0.N) (a : S512x2048.Idx → EReal)
    (ea : ∀ r l, a (ix2 r l) = dot (arg1 m c) (arg2 m c) (row t r) l) (r : Fin 512) (l : Fin 128) :
    k0_pay7 (F := Ideal) a (iblk m c 2 t) (ix2 r l) = stat (arg0 m c) (arg1 m c) (arg2 m c) (ix2 (row t r) l) := by
  pointwise [k0_pay7]
  exact pay4_at m c t a ea r

theorem out5_eq (c : Dev nD) (t : Fin cfg0.N) (h3 : t.val % 4 = 3) : (outsAt0 m c t.val t.isLt).1 = k0_pay6 (F := Ideal) (acc m c t) (iblk m c 2 t) (iblk m c 3 t) (iblk m c 4 t) := by
  unfold acc
  rw [outsAt0_C m c t (by omega) h3]
  frame_out

theorem final5 (c : Dev nD) : (dats m 0 c).arrAt 5 cfg0.N = out (arg0 m c) (arg1 m c) (arg2 m c) (arg3 m c) (arg4 m c) := by
  refine (dats m 0 c).arrAt_eq_of_covers 5 _ (by decide +kernel) (fun t hf y => ?_)
  have h3 : t.val % 4 = 3 := (flush0_5 t).mp hf
  show (dats m 0 c).after 5 t y = _
  rw [after0_5, emb5, out5_eq m c t h3]
  have ea := acc_at m c t h3
  generalize acc m c t = a at ea ⊢
  exact (congrArg (k0_pay6 (F := Ideal) a (iblk m c 2 t) (iblk m c 3 t) (iblk m c 4 t)) (eq_ix2 (n0 := 512) (n1 := 2048) y)).trans (out_at m c t a ea (y 0) (y 1))

theorem out6_eq (c : Dev nD) (t : Fin cfg0.N) (h3 : t.val % 4 = 3) : (outsAt0 m c t.val t.isLt).2.1 = k0_pay8 (F := Ideal) (acc m c t) (iblk m c 2 t) (iblk m c 3 t) (iblk m c 4 t) := by
  unfold acc
  rw [outsAt0_C m c t (by omega) h3]
  frame_out

theorem final6 (c : Dev nD) : (dats m 0 c).arrAt 6 cfg0.N = out (arg0 m c) (arg1 m c) (arg2 m c) (arg3 m c) (arg4 m c) := by
  refine (dats m 0 c).arrAt_eq_of_covers 6 _ (by decide +kernel) (fun t hf y => ?_)
  have h3 : t.val % 4 = 3 := (flush0_6 t).mp hf
  show (dats m 0 c).after 6 t y = _
  rw [after0_6, emb6, out6_eq m c t h3]
  have ea := acc_at m c t h3
  generalize acc m c t = a at ea ⊢
  exact (congrArg (k0_pay8 (F := Ideal) a (iblk m c 2 t) (iblk m c 3 t) (iblk m c 4 t)) (eq_ix2 (n0 := 512) (n1 := 2048) y)).trans (cast_at m c t a ea (y 0) (y 1))

theorem out7_eq (c : Dev nD) (t : Fin cfg0.N) (h3 : t.val % 4 = 3) : (outsAt0 m c t.val t.isLt).2.2.1 = k0_pay5 (F := Ideal) (acc m c t) (iblk m c 2 t) := by
  unfold acc
  rw [outsAt0_C m c t (by omega) h3]
  frame_out

theorem final7 (c : Dev nD) : (dats m 0 c).arrAt 7 cfg0.N = xhat (arg0 m c) (arg1 m c) (arg2 m c) := by
  refine (dats m 0 c).arrAt_eq_of_covers 7 _ (by decide +kernel) (fun t hf y => ?_)
  have h3 : t.val % 4 = 3 := (flush0_7 t).mp hf
  show (dats m 0 c).after 7 t y = _
  rw [after0_7, emb7, out7_eq m c t h3]
  have ea := acc_at m c t h3
  generalize acc m c t = a at ea ⊢
  exact (congrArg (k0_pay5 (F := Ideal) a (iblk m c 2 t)) (eq_ix2 (n0 := 512) (n1 := 2048) y)).trans (xhat_at m c t a ea (y 0) (y 1))

theorem out8_eq (c : Dev nD) (t : Fin cfg0.N) (h3 : t.val % 4 = 3) : (outsAt0 m c t.val t.isLt).2.2.2.1 = k0_pay7 (F := Ideal) (acc m c t) (iblk m c 2 t) := by
  unfold acc
  rw [outsAt0_C m c t (by omega) h3]
  frame_out

theorem final8 (c : Dev nD) : (dats m 0 c).arrAt 8 cfg0.N = stat (arg0 m c) (arg1 m c) (arg2 m c) := by
  refine (dats m 0 c).arrAt_eq_of_covers 8 _ (by decide +kernel) (fun t hf y => ?_)
  have h3 : t.val % 4 = 3 := (flush0_8 t).mp hf
  show (dats m 0 c).after 8 t y = _
  rw [after0_8, emb8, out8_eq m c t h3]
  have ea := acc_at m c t h3
  generalize acc m c t = a at ea ⊢
  exact (congrArg (k0_pay7 (F := Ideal) a (iblk m c 2 t)) (eq_ix2 (n0 := 512) (n1 := 128) y)).trans (stat_at m c t a ea (y 0) (y 1))

end Cert.DownNormIdeal.Tiles

/-! ## The reference and the claims -/

namespace Cert.Proof.DownNormClaims

open Cert.DownNormIdeal.Tiles
open Cert.DownNormIdeal (S2048x2048 S2048x5632 S5632x2048 S2048 S2048x128)
open Cert.DownNormRefIdeal.Read

theorem ref11 (x : S2048x2048.Idx → EReal) (a : S2048x5632.Idx → EReal) (w : S5632x2048.Idx → EReal) (r l : Fin 2048) : val_main_v11 (F := Ideal) x a w (ix2 r l) = centred (sumRow x a w r) l := by
  pointwise [val_main_v11, val_main_v10, val_main_v9, val_main_v8, val_main_v7, val_main_v6, val_main_v5, val_main_v4, val_main_v3, val_main_v2, val_main_v1, val_main_v0, val_main_cst, val_main_cst_1, val_main_cst_2, val_main_cst_0]
  rfl

theorem ref19 (x : S2048x2048.Idx → EReal) (a : S2048x5632.Idx → EReal) (w : S5632x2048.Idx → EReal) (r : Fin 2048) : val_main_v19 (F := Ideal) x a w (ix2 r 0) = rstd (sumRow x a w r) := by
  pointwise [val_main_v19, val_main_v18, val_main_v17, val_main_v16, val_main_v15, val_main_v14, val_main_v13, val_main_v12, val_main_cst_3, val_main_cst_4, val_main_cst_5]
  simp only [ref11]
  rfl

theorem ref21_at (x : S2048x2048.Idx → EReal) (a : S2048x5632.Idx → EReal) (w : S5632x2048.Idx → EReal) (r l : Fin 2048) : val_main_v21 (F := Ideal) x a w (ix2 r l) = xhat x a w (ix2 r l) := by
  pointwise [val_main_v21, val_main_v20]
  rw [ref11, ref19]
  rfl

theorem ref27_at (x : S2048x2048.Idx → EReal) (a : S2048x5632.Idx → EReal) (w : S5632x2048.Idx → EReal) (g b : S2048.Idx → EReal) (r l : Fin 2048) :
    val_main_v27 (F := Ideal) x a w g b (ix2 r l) = out x a w g b (ix2 r l) := by
  pointwise [val_main_v27, val_main_v26, val_main_v25, val_main_v24, val_main_v23, val_main_v22]
  rw [ref21_at]
  rfl

theorem ref21 (x : S2048x2048.Idx → EReal) (a : S2048x5632.Idx → EReal) (w : S5632x2048.Idx → EReal) : val_main_v21 (F := Ideal) x a w = xhat x a w := by
  funext j
  obtain ⟨r, l, rfl⟩ : ∃ r l, j = ix2 r l := ⟨_, _, eq_ix2 (n0 := 2048) (n1 := 2048) j⟩
  exact ref21_at x a w r l

theorem ref27 (x : S2048x2048.Idx → EReal) (a : S2048x5632.Idx → EReal) (w : S5632x2048.Idx → EReal) (g b : S2048.Idx → EReal) : val_main_v27 (F := Ideal) x a w g b = out x a w g b := by
  funext j
  obtain ⟨r, l, rfl⟩ : ∃ r l, j = ix2 r l := ⟨_, _, eq_ix2 (n0 := 2048) (n1 := 2048) j⟩
  exact ref27_at x a w g b r l

theorem ref28 (x : S2048x2048.Idx → EReal) (a : S2048x5632.Idx → EReal) (w : S5632x2048.Idx → EReal) (g b : S2048.Idx → EReal) : val_main_v28 (F := Ideal) x a w g b = out x a w g b := by
  funext j
  obtain ⟨r, l, rfl⟩ : ∃ r l, j = ix2 r l := ⟨_, _, eq_ix2 (n0 := 2048) (n1 := 2048) j⟩
  pointwise [val_main_v28]
  exact ref27_at x a w g b r l

theorem ref29 (x : S2048x2048.Idx → EReal) (a : S2048x5632.Idx → EReal) (w : S5632x2048.Idx → EReal) : val_main_v29 (F := Ideal) x a w = stat x a w := by
  funext j
  obtain ⟨r, l, rfl⟩ : ∃ r l, j = ix2 r l := ⟨_, _, eq_ix2 (n0 := 2048) (n1 := 128) j⟩
  pointwise [val_main_v29]
  exact ref19 x a w r

theorem frame_ref : Cert.quiescent_DownNormRefIdeal := fun m ρ _ =>
  (θ_run Cert.DownNormRefIdeal.defs _ _).mono (fun r h => ⟨fun c => (h c).2.2.2.2,
      Idealize.ShloMosaic.sem_eq_zero_of_no_sems (by decide) r.2⟩)
    (Cert.DownNormRefIdeal.Value.run (F := Ideal) m ρ)

theorem algebraic : Cert.algebraic_DownNormIdeal_DownNormRefIdeal := by
  intro m ρ m' ρ' _ hagree
  refine ⟨fun c => out (arg0 m c) (arg1 m c) (arg2 m c) (arg3 m c) (arg4 m c), fun c => out (arg0 m c) (arg1 m c) (arg2 m c) (arg3 m c) (arg4 m c), fun c => xhat (arg0 m c) (arg1 m c) (arg2 m c), fun c => stat (arg0 m c) (arg1 m c) (arg2 m c), ?_, ?_⟩
  · exact (θ_run Cert.DownNormIdeal.defs _ _).mono (fun _ h c => ⟨(h c).1.trans (final5 m c), (h c).2.1.trans (final6 m c),
        (h c).2.2.1.trans (final7 m c), (h c).2.2.2.1.trans (final8 m c), (h c).2.2.2.2⟩)
      (Cert.DownNormIdeal.Value.run_blocks (F := Ideal) m ρ)
  · refine (θ_run Cert.DownNormRefIdeal.defs _ _).mono
      (fun _ h c => ⟨(h c).1.trans ?_, (h c).2.1.trans ?_, (h c).2.2.1.trans ?_, (h c).2.2.2.1.trans ?_, (h c).2.2.2.2⟩)
      (Cert.DownNormRefIdeal.Value.run (F := Ideal) m' ρ')
    · refine ((val_main_v27_eq _ _ _ _ _).trans (ref27 _ _ _ _ _)).trans ?_
      rw [(hagree c).1, (hagree c).2.1, (hagree c).2.2.1, (hagree c).2.2.2.1, (hagree c).2.2.2.2]
    · refine ((val_main_v28_eq _ _ _ _ _).trans (ref28 _ _ _ _ _)).trans ?_
      rw [(hagree c).1, (hagree c).2.1, (hagree c).2.2.1, (hagree c).2.2.2.1, (hagree c).2.2.2.2]
    · refine ((val_main_v21_eq _ _ _).trans (ref21 _ _ _)).trans ?_
      rw [(hagree c).1, (hagree c).2.1, (hagree c).2.2.1]
    · refine ((val_main_v29_eq _ _ _).trans (ref29 _ _ _)).trans ?_
      rw [(hagree c).1, (hagree c).2.1, (hagree c).2.2.1]

end Cert.Proof.DownNormClaims
end
-- ==== Proof.ReadOut.lean ====
/-
  The recurrence's output: the real part of the product of the states with the groups' output matrices, which the kernel holds as
  block-diagonal matrices of eight groups, the skip connection, and its gelu in two formats.
-/
module

public import proofs.«01_k».proof.Defs
public import proofs.«01_k».proof.Proof.Gen.ReadOutIdeal.Value
public import proofs.«01_k».proof.Proof.Gen.ReadOutRefIdeal.Run
public import proofs.«01_k».proof.Proof.Gen.ReadOutRefIdeal.Read
public import proofs.«01_k».proof.Proof.Groups
public import proofs.«01_k».proof.Proof.Finite
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The kernel -/

namespace Cert.ReadOutIdeal.Tiles

open Cert.ReadOutIdeal Cert.ReadOutIdeal.Gen
open Cert.Groups

variable (m : (ℓ : Loc nD τ sig) → Buf (Elt Ideal) ℓ)

abbrev arg0 (c : Dev nD) : S2048x4096.Idx → EReal := m ((c : Thread nD τ).loc main_arg0)
abbrev arg1 (c : Dev nD) : S2048x4096.Idx → EReal := m ((c : Thread nD τ).loc main_arg1)
abbrev arg2 (c : Dev nD) : S2048x4096.Idx → EReal := m ((c : Thread nD τ).loc main_arg2)
abbrev arg3 (c : Dev nD) : S64x16x64.Idx → EReal := m ((c : Thread nD τ).loc main_arg3)
abbrev arg4 (c : Dev nD) : S64x16x64.Idx → EReal := m ((c : Thread nD τ).loc main_arg4)
abbrev arg5 (c : Dev nD) : S64x16.Idx → EReal := m ((c : Thread nD τ).loc main_arg5)

theorem weights3 (c : Dev nD) (s : Fin 8) (j : Fin 512) (i : Fin 128) : (V m c main_v15 : S8x512x128.Idx → EReal) (ix3 s j i)
    = arg3 m c (ix3 ⟨s.val * 8 + i.val / 16, by omega⟩ ⟨i.val % 16, Nat.mod_lt _ (by decide)⟩ ⟨j.val % 64, Nat.mod_lt _ (by decide)⟩) * eye (i.val / 16) (j.val / 64) := by
  show (StableHlo.after hostOps0 (fun b => m (c, b)) (Proc.devRef .tc main_v15) : S8x512x128.Idx → EReal) (ix3 s j i) = _
  after_results
  pointwise []

theorem weights4 (c : Dev nD) (s : Fin 8) (j : Fin 512) (i : Fin 128) : (V m c main_v32 : S8x512x128.Idx → EReal) (ix3 s j i)
    = -arg4 m c (ix3 ⟨s.val * 8 + i.val / 16, by omega⟩ ⟨i.val % 16, Nat.mod_lt _ (by decide)⟩ ⟨j.val % 64, Nat.mod_lt _ (by decide)⟩) * eye (i.val / 16) (j.val / 64) := by
  show (StableHlo.after hostOps0 (fun b => m (c, b)) (Proc.devRef .tc main_v32) : S8x512x128.Idx → EReal) (ix3 s j i) = _
  after_results
  pointwise []
  exact (EReal.neg_mul _ _).symm

theorem skip (c : Dev nD) (q : Fin 1024) : (V m c main_v33 : S1x1024.Idx → EReal) (ix2 0 q)
    = arg5 m c (ix2 ⟨q.val / 16, by omega⟩ ⟨q.val % 16, Nat.mod_lt _ (by decide)⟩) := by
  show (StableHlo.after hostOps0 (fun b => m (c, b)) (Proc.devRef .tc main_v33) : S1x1024.Idx → EReal) (ix2 0 q) = _
  after_results
  pointwise []

theorem idx_facts : ∀ t : Fin cfg0.N,
    win0_0.index t (0 : Fin 2) = 0 ∧ win0_0.index t (1 : Fin 2) = t.val
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = t.val
    ∧ win0_3.index t (0 : Fin 3) = t.val ∧ win0_3.index t (1 : Fin 3) = 0 ∧ win0_3.index t (2 : Fin 3) = 0
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val
    ∧ win0_8.index t (0 : Fin 2) = 0 ∧ win0_8.index t (1 : Fin 2) = t.val :=
  (by decide +kernel : ∀ t : Fin grid0.N, _)

theorem lt_8 (t : Fin cfg0.N) : t.val < 8 := t.isLt

/-- State `k` of block `t`, and channel `i` of it. -/
def state (t : Fin cfg0.N) (k : Fin 512) : Fin 4096 := ⟨512 * t.val + k.val, by have := lt_8 t; omega⟩
def chan (t : Fin cfg0.N) (i : Fin 128) : Fin 1024 := ⟨128 * t.val + i.val, by have := lt_8 t; omega⟩

/-- A channel as a column of the projection. -/
def col (q : Fin 1024) : Fin 4096 := ⟨q.val, by omega⟩

theorem emb1 (t : Fin cfg0.N) (y : S1x512x128.Idx) : ((cfg0.win 1).blk t).view.emb y
    = ix3 (n0 := 8) (n1 := 512) (n2 := 128) ⟨t.val, lt_8 t⟩ (y 1) (y 2) := by
  have e := idx_facts t
  have h0 : (y 0).val < 1 := (y 0).isLt
  funext a; apply Fin.ext
  match a with
  | ⟨0, _⟩ => show win0_1.index t (0 : Fin 3) * 1 + 1 * (y 0).val = t.val; omega
  | ⟨1, _⟩ => show win0_1.index t (1 : Fin 3) * 512 + 1 * (y 1).val = (y 1).val; omega
  | ⟨2, _⟩ => show win0_1.index t (2 : Fin 3) * 128 + 1 * (y 2).val = (y 2).val; omega

theorem emb3 (t : Fin cfg0.N) (y : S1x512x128.Idx) : ((cfg0.win 3).blk t).view.emb y
    = ix3 (n0 := 8) (n1 := 512) (n2 := 128) ⟨t.val, lt_8 t⟩ (y 1) (y 2) := by
  have e := idx_facts t
  have h0 : (y 0).val < 1 := (y 0).isLt
  funext a; apply Fin.ext
  match a with
  | ⟨0, _⟩ => show win0_3.index t (0 : Fin 3) * 1 + 1 * (y 0).val = t.val; omega
  | ⟨1, _⟩ => show win0_3.index t (1 : Fin 3) * 512 + 1 * (y 1).val = (y 1).val; omega
  | ⟨2, _⟩ => show win0_3.index t (2 : Fin 3) * 128 + 1 * (y 2).val = (y 2).val; omega

theorem emb5 (t : Fin cfg0.N) (y : S1x128.Idx) : ((cfg0.win 5).blk t).view.emb y = ix2 (n0 := 1) (n1 := 1024) 0 (chan t (y 1)) := by
  have e := idx_facts t
  have h0 : (y 0).val < 1 := (y 0).isLt
  funext a; apply Fin.ext
  match a with
  | ⟨0, _⟩ => show win0_5.index t (0 : Fin 2) * 1 + 1 * (y 0).val = 0; omega
  | ⟨1, _⟩ => show win0_5.index t (1 : Fin 2) * 128 + 1 * (y 1).val = 128 * t.val + (y 1).val; omega

theorem emb6 (t : Fin cfg0.N) (y : S2048x128.Idx) : ((cfg0.win 6).blk t).view.emb y = ix2 (n0 := 2048) (n1 := 1024) (y 0) (chan t (y 1)) := by
  have e := idx_facts t
  funext a; apply Fin.ext
  match a with
  | ⟨0, _⟩ => show win0_6.index t (0 : Fin 2) * 2048 + 1 * (y 0).val = (y 0).val; omega
  | ⟨1, _⟩ => show win0_6.index t (1 : Fin 2) * 128 + 1 * (y 1).val = 128 * t.val + (y 1).val; omega

theorem emb7 (t : Fin cfg0.N) (y : S2048x128.Idx) : ((cfg0.win 7).blk t).view.emb y = ix2 (n0 := 2048) (n1 := 1024) (y 0) (chan t (y 1)) := by
  have e := idx_facts t
  funext a; apply Fin.ext
  match a with
  | ⟨0, _⟩ => show win0_7.index t (0 : Fin 2) * 2048 + 1 * (y 0).val = (y 0).val; omega
  | ⟨1, _⟩ => show win0_7.index t (1 : Fin 2) * 128 + 1 * (y 1).val = 128 * t.val + (y 1).val; omega

theorem emb8 (t : Fin cfg0.N) (y : S2048x128.Idx) : ((cfg0.win 8).blk t).view.emb y = ix2 (n0 := 2048) (n1 := 1024) (y 0) (chan t (y 1)) := by
  have e := idx_facts t
  funext a; apply Fin.ext
  match a with
  | ⟨0, _⟩ => show win0_8.index t (0 : Fin 2) * 2048 + 1 * (y 0).val = (y 0).val; omega
  | ⟨1, _⟩ => show win0_8.index t (1 : Fin 2) * 128 + 1 * (y 1).val = 128 * t.val + (y 1).val; omega

theorem blk0 (c : Dev nD) (t : Fin cfg0.N) (r : Fin 2048) (k : Fin 512) : iblk m c 0 t (ix2 r k) = arg0 m c (ix2 r (state t k)) := by
  blk_ext! [iblk, V, idx_facts t, state]

theorem blk1 (c : Dev nD) (t : Fin cfg0.N) (k : Fin 512) (i : Fin 128) : iblk m c 1 t (ix3 0 k i)
    = arg3 m c (ix3 ⟨t.val * 8 + i.val / 16, by have := lt_8 t; omega⟩ ⟨i.val % 16, Nat.mod_lt _ (by decide)⟩ ⟨k.val % 64, Nat.mod_lt _ (by decide)⟩) * eye (i.val / 16) (k.val / 64) := by
  show (V m c main_v15 : S8x512x128.Idx → EReal) (((cfg0.win 1).blk t).view.emb (ix3 0 k i)) = _
  rw [emb1]; exact weights3 m c _ _ _

theorem blk2 (c : Dev nD) (t : Fin cfg0.N) (r : Fin 2048) (k : Fin 512) : iblk m c 2 t (ix2 r k) = arg1 m c (ix2 r (state t k)) := by
  blk_ext! [iblk, V, idx_facts t, state]

theorem blk3 (c : Dev nD) (t : Fin cfg0.N) (k : Fin 512) (i : Fin 128) : iblk m c 3 t (ix3 0 k i)
    = -arg4 m c (ix3 ⟨t.val * 8 + i.val / 16, by have := lt_8 t; omega⟩ ⟨i.val % 16, Nat.mod_lt _ (by decide)⟩ ⟨k.val % 64, Nat.mod_lt _ (by decide)⟩) * eye (i.val / 16) (k.val / 64) := by
  show (V m c main_v32 : S8x512x128.Idx → EReal) (((cfg0.win 3).blk t).view.emb (ix3 0 k i)) = _
  rw [emb3]; exact weights4 m c _ _ _

theorem blk4 (c : Dev nD) (t : Fin cfg0.N) (r : Fin 2048) (i : Fin 128) : iblk m c 4 t (ix2 r i) = arg2 m c (ix2 r (col (chan t i))) := by
  blk_ext! [iblk, V, idx_facts t, chan, col]

theorem blk5 (c : Dev nD) (t : Fin cfg0.N) (i : Fin 128) : iblk m c 5 t (ix2 0 i)
    = arg5 m c (ix2 ⟨(chan t i).val / 16, by omega⟩ ⟨(chan t i).val % 16, Nat.mod_lt _ (by decide)⟩) := by
  show (V m c main_v33 : S1x1024.Idx → EReal) (((cfg0.win 5).blk t).view.emb (ix2 0 i)) = _
  rw [emb5]; exact skip m c _

/-- The group of a channel, its place in the group, and a group's states. -/
def grp (q : Fin 1024) : Fin 64 := ⟨q.val / 16, by omega⟩
def pos (q : Fin 1024) : Fin 16 := ⟨q.val % 16, by omega⟩
def own (g n : Fin 64) : Fin 4096 := ⟨g.val * 64 + n.val, by omega⟩

/-- The product of a group's states with its matrix. -/
def out (s : S2048x4096.Idx → EReal) (b : S64x16x64.Idx → EReal) (r : Fin 2048) (q : Fin 1024) : EReal :=
  ∑ n, s (ix2 r (own (grp q) n)) * b (ix3 (grp q) (pos q) n)

theorem sum_block (s : S2048x4096.Idx → EReal) (b : S64x16x64.Idx → EReal) (t : Fin cfg0.N) (r : Fin 2048) (i : Fin 128) :
    ∑ k : Fin 512, s (ix2 r (state t k)) * (b (ix3 ⟨t.val * 8 + i.val / 16, by have := lt_8 t; omega⟩ ⟨i.val % 16, Nat.mod_lt _ (by decide)⟩
      ⟨k.val % 64, Nat.mod_lt _ (by decide)⟩) * eye (i.val / 16) (k.val / 64)) = out s b r (chan t i) := by
  have ht := lt_8 t
  refine (sum_group (n := 64) rfl (⟨i.val / 16, by omega⟩ : Fin 8) (fun g n => s (ix2 r (state t ⟨g.val * 64 + n.val, by omega⟩))
    * b (ix3 ⟨t.val * 8 + i.val / 16, by omega⟩ ⟨i.val % 16, Nat.mod_lt _ (by decide)⟩ n)) _ fun g n hl => ?_).trans ?_
  · have e1 : (⟨(g.val * 64 + n.val) % 64, Nat.mod_lt _ (by decide)⟩ : Fin 64) = n := Fin.ext (by show (g.val * 64 + n.val) % 64 = n.val; omega)
    have e2 : (g.val * 64 + n.val) / 64 = g.val := by omega
    show s _ * (b (ix3 _ _ ⟨(g.val * 64 + n.val) % 64, _⟩) * eye (i.val / 16) ((g.val * 64 + n.val) / 64)) = _
    rw [e1, e2, mul_assoc]
  · unfold out
    refine Finset.sum_congr rfl fun n _ => ?_
    have e1 : grp (chan t i) = ⟨t.val * 8 + i.val / 16, by omega⟩ := Fin.ext (by show (128 * t.val + i.val) / 16 = t.val * 8 + i.val / 16; omega)
    have e2 : pos (chan t i) = ⟨i.val % 16, Nat.mod_lt _ (by decide)⟩ := Fin.ext (by show (128 * t.val + i.val) % 16 = i.val % 16; omega)
    have e3 : own (grp (chan t i)) n = state t ⟨i.val / 16 * 64 + n.val, by omega⟩ :=
      Fin.ext (by show (128 * t.val + i.val) / 16 * 64 + n.val = 512 * t.val + (i.val / 16 * 64 + n.val); omega)
    rw [e3, e1, e2]

/-- The output: the real part of the product of the states with the output matrix, and the skip connection. -/
def ys (s t u : S2048x4096.Idx → EReal) (a b : S64x16x64.Idx → EReal) (d : S64x16.Idx → EReal) (j : S2048x1024.Idx) : EReal :=
  out s a (j 0) (j 1) + out t (fun i => -b i) (j 0) (j 1) + d (ix2 (grp (j 1)) (pos (j 1))) * u (ix2 (j 0) (col (j 1)))

/-- The tanh form of gelu. -/
def gelu (x : EReal) : EReal :=
  Ideal.ofBits .f32 0x3F000000#32 * x * (1 + Ideal.tanh (Ideal.ofBits .f32 0x3F4C422A#32 * (x + Ideal.ofBits .f32 0x3D372713#32 * x * x * x)))

theorem pay2_at (c : Dev nD) (t : Fin cfg0.N) (r : Fin 2048) (i : Fin 128) :
    k0_pay2 (F := Ideal) (iblk m c 0 t) (iblk m c 1 t) (iblk m c 2 t) (iblk m c 3 t) (iblk m c 4 t) (iblk m c 5 t) (ix2 r i)
      = ys (arg0 m c) (arg1 m c) (arg2 m c) (arg3 m c) (arg4 m c) (arg5 m c) (ix2 r (chan t i)) := by
  pointwise [k0_pay2]
  simp only [blk0, blk1, blk2, blk3, blk4, blk5, sum_block, sum_block (arg1 m c) (fun j => -arg4 m c j)]
  rfl

theorem pay3_at (c : Dev nD) (t : Fin cfg0.N) (r : Fin 2048) (i : Fin 128) :
    k0_pay3 (F := Ideal) (iblk m c 0 t) (iblk m c 1 t) (iblk m c 2 t) (iblk m c 3 t) (iblk m c 4 t) (iblk m c 5 t) (ix2 r i)
      = gelu (ys (arg0 m c) (arg1 m c) (arg2 m c) (arg3 m c) (arg4 m c) (arg5 m c) (ix2 r (chan t i))) := by
  pointwise [k0_pay3]
  simp only [pay2_at]
  rfl

theorem pay1_at (c : Dev nD) (t : Fin cfg0.N) (r : Fin 2048) (i : Fin 128) :
    k0_pay1 (F := Ideal) (k0_pay4 (iblk m c 0 t) (iblk m c 1 t) (iblk m c 2 t) (iblk m c 3 t) (iblk m c 4 t) (iblk m c 5 t))
      (k0_pay5 (iblk m c 0 t) (iblk m c 1 t) (iblk m c 2 t) (iblk m c 3 t) (iblk m c 4 t) (iblk m c 5 t)) (Ideal.ofBits .f32 0x3F4C422A#32) (ix2 r i)
      = gelu (ys (arg0 m c) (arg1 m c) (arg2 m c) (arg3 m c) (arg4 m c) (arg5 m c) (ix2 r (chan t i))) := by
  pointwise [k0_pay1, k0_pay4, k0_pay5]
  simp only [pay2_at]
  rfl

theorem final6 (c : Dev nD) : (dats m 0 c).arrAt 6 cfg0.N = ys (arg0 m c) (arg1 m c) (arg2 m c) (arg3 m c) (arg4 m c) (arg5 m c) := by
  refine (dats m 0 c).arrAt_eq_of_covers 6 _ (by decide +kernel) (fun t _ y => ?_)
  show (dats m 0 c).after 6 t y = _
  rw [after0_6, emb6]
  frame_out
  exact (congrArg (k0_pay2 (F := Ideal) (iblk m c 0 t) (iblk m c 1 t) (iblk m c 2 t) (iblk m c 3 t) (iblk m c 4 t) (iblk m c 5 t))
    (eq_ix2 (n0 := 2048) (n1 := 128) y)).trans (pay2_at m c t (y 0) (y 1))

theorem final7 (c : Dev nD) : (dats m 0 c).arrAt 7 cfg0.N = fun j => gelu (ys (arg0 m c) (arg1 m c) (arg2 m c) (arg3 m c) (arg4 m c) (arg5 m c) j) := by
  refine (dats m 0 c).arrAt_eq_of_covers 7 _ (by decide +kernel) (fun t _ y => ?_)
  show (dats m 0 c).after 7 t y = _
  rw [after0_7, emb7]
  frame_out
  exact (congrArg (k0_pay3 (F := Ideal) (iblk m c 0 t) (iblk m c 1 t) (iblk m c 2 t) (iblk m c 3 t) (iblk m c 4 t) (iblk m c 5 t))
    (eq_ix2 (n0 := 2048) (n1 := 128) y)).trans (pay3_at m c t (y 0) (y 1))

theorem final8 (c : Dev nD) : (dats m 0 c).arrAt 8 cfg0.N = fun j => gelu (ys (arg0 m c) (arg1 m c) (arg2 m c) (arg3 m c) (arg4 m c) (arg5 m c) j) := by
  refine (dats m 0 c).arrAt_eq_of_covers 8 _ (by decide +kernel) (fun t _ y => ?_)
  show (dats m 0 c).after 8 t y = _
  rw [after0_8, emb8]
  frame_out
  exact (congrArg (k0_pay1 (F := Ideal) (k0_pay4 (iblk m c 0 t) (iblk m c 1 t) (iblk m c 2 t) (iblk m c 3 t) (iblk m c 4 t) (iblk m c 5 t)) (k0_pay5 (iblk m c 0 t) (iblk m c 1 t) (iblk m c 2 t) (iblk m c 3 t) (iblk m c 4 t) (iblk m c 5 t)) (Ideal.ofBits .f32 0x3F4C422A#32))
    (eq_ix2 (n0 := 2048) (n1 := 128) y)).trans (pay1_at m c t (y 0) (y 1))

end Cert.ReadOutIdeal.Tiles

/-! ## The reference and the claims -/

namespace Cert.Proof.ReadOutClaims

open Cert.ReadOutIdeal.Tiles
open Cert.ReadOutIdeal (S2048x4096 S2048x1024 S64x16x64 S64x16)
open Cert.ReadOutRefIdeal.Read
open Cert.Finite

/-- The shapes of the finiteness test. -/
theorem pre_facts : Cert.Pre_finite_yout.Facts where
  reducesTo_S2048x4096_S2048_d1 := by decide
  h_S_ := by decide
  bcast_S2048_S2048x1_0 := by decide
  bcast_S_S2048x1 := by decide
  shapeCasts_S64x16x64_S1024x64 := by decide
  reducesTo_S1024x64_S1024_d1 := by decide
  bcast_S_S1024 := by decide
  bcast_S1024_S1x1024_1 := by decide
  bcast_S2048x1_S2048x1024_0_1 := by decide
  bcast_S1x1024_S2048x1024_0_1 := by decide

variable [hP : Cert.Pre_finite_yout.Facts] (s t u : S2048x4096.Idx → EReal) (a b : S64x16x64.Idx → EReal) (d : S64x16.Idx → EReal)

section
variable (h : Cert.Pre_finite_yout.fn (F := Ideal) s t u a b d = fun _ => 1#1)
include h

/-- What `finite_yout` says of the imaginary parts at row `r` and channel `q`. -/
theorem finite (r : Fin 2048) (q : Fin 1024) : (∀ k, ∃ v : ℝ, t (ix2 r k) = (v : EReal)) ∧ ∀ n, ∃ v : ℝ, b (ix3 (grp q) (pos q) n) = (v : EReal) := by
  have pre := congrFun h (ix2 r q)
  simp only [Cert.Pre_finite_yout.fn] at pre
  obtain ⟨h0, h1⟩ := andi_one pre
  have e0 : below (∑ k : Fin 4096, max (t (ix2 r k)) (-t (ix2 r k))) = 1#1 :=
    (by pointwise; rfl : below (∑ k : Fin 4096, max (t (ix2 r k)) (-t (ix2 r k))) = _).trans h0
  have e1 : below (∑ n : Fin 64, max (b (ix3 (grp q) (pos q) n)) (-b (ix3 (grp q) (pos q) n))) = 1#1 :=
    (by pointwise; rfl : below (∑ n : Fin 64, max (b (ix3 (grp q) (pos q) n)) (-b (ix3 (grp q) (pos q) n))) = _).trans h1
  exact ⟨real_of_sum e0, real_of_sum e1⟩

theorem ref13_at (r : Fin 2048) (q : Fin 1024) : val_main_v13 (F := Ideal) s t u a b d (ix2 r q) = ys s t u a b d (ix2 r q) := by
  obtain ⟨ht, hb⟩ := finite s t u a b d h r q
  have e : out t (fun i => -b i) r q = -out t b r q := by
    show ∑ n, t (ix2 r (own (grp q) n)) * -b (ix3 (grp q) (pos q) n) = -∑ n, t (ix2 r (own (grp q) n)) * b (ix3 (grp q) (pos q) n)
    simp only [mul_neg]
    refine Cert.Groups.neg_sum fun n => ?_
    obtain ⟨x, hx⟩ := ht (own (grp q) n)
    obtain ⟨y, hy⟩ := hb n
    exact ⟨x * y, by rw [hx, hy, EReal.coe_mul]⟩
  show _ = out s a r q + out t (fun i => -b i) r q + _
  rw [e, ← sub_eq_add_neg]
  pointwise [val_main_v0, val_main_v1, val_main_v2, val_main_v3, val_main_v4, val_main_v5, val_main_v6, val_main_v7, val_main_v8, val_main_v9, val_main_v10, val_main_v11, val_main_v12, val_main_v13]
  simp only [mul_comm (a _), mul_comm (b _)]
  rfl

theorem ref13 : val_main_v13 (F := Ideal) s t u a b d = ys s t u a b d := by
  funext j
  rw [eq_ix2 (n0 := 2048) (n1 := 1024) j]
  exact ref13_at s t u a b d h _ _

theorem ref26 : val_main_v26 (F := Ideal) s t u a b d = fun j => gelu (ys s t u a b d j) := by
  funext j
  obtain ⟨r, q, rfl⟩ : ∃ r q, j = ix2 r q := ⟨_, _, eq_ix2 (n0 := 2048) (n1 := 1024) j⟩
  pointwise [val_main_v14, val_main_v15, val_main_v16, val_main_v17, val_main_v18, val_main_v19, val_main_v20, val_main_v21, val_main_v22, val_main_v23, val_main_v24, val_main_v25, val_main_v26, val_main_cst, val_main_cst_0, val_main_cst_1, val_main_cst_2]
  rw [ref13_at s t u a b d h]
  unfold gelu
  simp only [← mul_assoc]
  rw [mul_comm (ys s t u a b d (ix2 r q)) (Ideal.ofBits .f32 0x3F000000#32)]

theorem ref27 : val_main_v27 (F := Ideal) s t u a b d = fun j => gelu (ys s t u a b d j) := by
  funext j
  obtain ⟨r, q, rfl⟩ : ∃ r q, j = ix2 r q := ⟨_, _, eq_ix2 (n0 := 2048) (n1 := 1024) j⟩
  exact (show val_main_v27 (F := Ideal) s t u a b d (ix2 r q) = val_main_v26 (F := Ideal) s t u a b d (ix2 r q) by pointwise [val_main_v27]).trans
    (congrFun (ref26 s t u a b d h) _)

end

theorem frame_ref : Cert.quiescent_ReadOutRefIdeal := fun m ρ _ =>
  (θ_run Cert.ReadOutRefIdeal.defs _ _).mono (fun r h => ⟨fun c => (h c).2.2.2,
      Idealize.ShloMosaic.sem_eq_zero_of_no_sems (by decide) r.2⟩)
    (Cert.ReadOutRefIdeal.Value.run (F := Ideal) m ρ)

theorem algebraic : Cert.algebraic_ReadOutIdeal_ReadOutRefIdeal_pre_finite_yout := by
  intro m ρ m' ρ' hpre hagree
  refine ⟨fun c => ys (arg0 m c) (arg1 m c) (arg2 m c) (arg3 m c) (arg4 m c) (arg5 m c), fun c j => gelu (ys (arg0 m c) (arg1 m c) (arg2 m c) (arg3 m c) (arg4 m c) (arg5 m c) j), fun c j => gelu (ys (arg0 m c) (arg1 m c) (arg2 m c) (arg3 m c) (arg4 m c) (arg5 m c) j), ?_, ?_⟩
  · exact (θ_run Cert.ReadOutIdeal.defs _ _).mono (fun _ h c => ⟨(h c).1.trans (final6 m c), (h c).2.1.trans (final7 m c),
      (h c).2.2.1.trans (final8 m c), (h c).2.2.2⟩) (Cert.ReadOutIdeal.Value.run_blocks (F := Ideal) m ρ)
  · refine (θ_run Cert.ReadOutRefIdeal.defs _ _).mono (fun _ h c => ⟨(h c).1.trans ?_, (h c).2.1.trans ?_, (h c).2.2.1.trans ?_, (h c).2.2.2⟩)
      (Cert.ReadOutRefIdeal.Value.run (F := Ideal) m' ρ')
    all_goals have hp := hpre c
    · refine (val_main_v13_eq _ _ _ _ _ _).trans ?_
      rw [(hagree c).1, (hagree c).2.1, (hagree c).2.2.1, (hagree c).2.2.2.1, (hagree c).2.2.2.2.1, (hagree c).2.2.2.2.2]
      exact ref13 _ _ _ _ _ _ hp
    · refine (val_main_v26_eq _ _).trans ?_
      rw [(hagree c).1, (hagree c).2.1, (hagree c).2.2.1, (hagree c).2.2.2.1, (hagree c).2.2.2.2.1, (hagree c).2.2.2.2.2]
      exact ref26 _ _ _ _ _ _ hp
    · refine (val_main_v27_eq _ _).trans ?_
      rw [(hagree c).1, (hagree c).2.1, (hagree c).2.2.1, (hagree c).2.2.2.1, (hagree c).2.2.2.2.1, (hagree c).2.2.2.2.2]
      exact ref27 _ _ _ _ _ _ hp

end Cert.Proof.ReadOutClaims
end
-- ==== Proof.GluOut.lean ====
/-
  The gate after the recurrence, forward: a product with the gate's matrix taken in four shards of its rows, the gated row, and its norm.
-/
module

public import proofs.«01_k».proof.Defs
public import proofs.«01_k».proof.Proof.Gen.GluOutIdeal.Value
public import proofs.«01_k».proof.Proof.Gen.GluOutRefIdeal.Run
public import proofs.«01_k».proof.Proof.Gen.GluOutRefIdeal.Read
public import proofs.«01_k».proof.Proof.Steps
public import proofs.«01_k».proof.Proof.Norms
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The kernel -/

namespace Cert.GluOutIdeal.Tiles

open Cert.GluOutIdeal Cert.GluOutIdeal.Gen
open Cert.Norms

variable (m : (ℓ : Loc nD τ sig) → Buf (Elt Ideal) ℓ)

abbrev arg0 (c : Dev nD) : S2048x1024.Idx → EReal := m ((c : Thread nD τ).loc main_arg0)
abbrev arg1 (c : Dev nD) : S1024x1024.Idx → EReal := m ((c : Thread nD τ).loc main_arg1)
abbrev arg2 (c : Dev nD) : S1024.Idx → EReal := m ((c : Thread nD τ).loc main_arg2)

theorem cast0 (c : Dev nD) (r : Fin 2048) (l : Fin 1024) : (V m c main_v0 : S2048x1024.Idx → EReal) (ix2 r l) = arg0 m c (ix2 r l) := by
  show (StableHlo.after hostOps0 (fun b => m (c, b)) (Proc.devRef .tc main_v0) : S2048x1024.Idx → EReal) (ix2 r l) = _
  after_results
  pointwise []

theorem shards1 (c : Dev nD) (s : Fin 4) (k : Fin 256) (l : Fin 1024) : (V m c main_v2 : S4x256x1024.Idx → EReal) (ix3 s k l)
    = arg1 m c (ix2 ⟨s.val * 256 + k.val, by omega⟩ l) := by
  show (StableHlo.after hostOps0 (fun b => m (c, b)) (Proc.devRef .tc main_v2) : S4x256x1024.Idx → EReal) (ix3 s k l) = _
  after_results
  pointwise []

theorem idx_facts : ∀ t : Fin cfg0.N,
    win0_0.index t (0 : Fin 2) = t.val / 4 ∧ win0_0.index t (1 : Fin 2) = t.val % 4
    ∧ win0_1.index t (0 : Fin 3) = t.val % 4 ∧ win0_1.index t (1 : Fin 3) = 0 ∧ win0_1.index t (2 : Fin 3) = 0
    ∧ win0_2.index t (0 : Fin 2) = t.val / 4 ∧ win0_2.index t (1 : Fin 2) = 0
    ∧ win0_3.index t (0 : Fin 2) = 0 ∧ win0_3.index t (1 : Fin 2) = 0
    ∧ win0_4.index t (0 : Fin 2) = t.val / 4 ∧ win0_4.index t (1 : Fin 2) = 0
    ∧ win0_5.index t (0 : Fin 2) = t.val / 4 ∧ win0_5.index t (1 : Fin 2) = 0 :=
  (by decide +kernel : ∀ t : Fin grid0.N, _)

theorem lt_16 (t : Fin cfg0.N) : t.val < 16 := t.isLt

/-- Row `r` of the tile at point `t`. -/
def row (t : Fin cfg0.N) (r : Fin 512) : Fin 2048 := ⟨512 * (t.val / 4) + r.val, by have := lt_16 t; omega⟩

/-- Entry `l` of shard `s`. -/
def col (s : Fin 4) (l : Fin 256) : Fin 1024 := ⟨s.val * 256 + l.val, by omega⟩

/-- The shard at point `t`. -/
def shard (t : Fin cfg0.N) : Fin 4 := ⟨t.val % 4, Nat.mod_lt _ (by decide)⟩

theorem emb0 (t : Fin cfg0.N) (y : S512x256.Idx) : ((cfg0.win 0).blk t).view.emb y = ix2 (n0 := 2048) (n1 := 1024) (row t (y 0)) (col (shard t) (y 1)) := by
  have e := idx_facts t
  funext a; apply Fin.ext
  match a with
  | ⟨0, _⟩ => show win0_0.index t (0 : Fin 2) * 512 + 1 * (y 0).val = 512 * (t.val / 4) + (y 0).val; omega
  | ⟨1, _⟩ => show win0_0.index t (1 : Fin 2) * 256 + 1 * (y 1).val = t.val % 4 * 256 + (y 1).val; omega

theorem emb1 (t : Fin cfg0.N) (y : S1x256x1024.Idx) : ((cfg0.win 1).blk t).view.emb y
    = ix3 (n0 := 4) (n1 := 256) (n2 := 1024) (shard t) (y 1) (y 2) := by
  have e := idx_facts t
  have h0 : (y 0).val < 1 := (y 0).isLt
  funext a; apply Fin.ext
  match a with
  | ⟨0, _⟩ => show win0_1.index t (0 : Fin 3) * 1 + 1 * (y 0).val = t.val % 4; omega
  | ⟨1, _⟩ => show win0_1.index t (1 : Fin 3) * 256 + 1 * (y 1).val = (y 1).val; omega
  | ⟨2, _⟩ => show win0_1.index t (2 : Fin 3) * 1024 + 1 * (y 2).val = (y 2).val; omega

theorem emb4 (t : Fin cfg0.N) (y : S512x1024.Idx) : ((cfg0.win 4).blk t).view.emb y = ix2 (n0 := 2048) (n1 := 1024) (row t (y 0)) (y 1) := by
  have e := idx_facts t
  funext a; apply Fin.ext
  match a with
  | ⟨0, _⟩ => show win0_4.index t (0 : Fin 2) * 512 + 1 * (y 0).val = 512 * (t.val / 4) + (y 0).val; omega
  | ⟨1, _⟩ => show win0_4.index t (1 : Fin 2) * 1024 + 1 * (y 1).val = (y 1).val; omega

theorem emb5 (t : Fin cfg0.N) (y : S512x1024.Idx) : ((cfg0.win 5).blk t).view.emb y = ix2 (n0 := 2048) (n1 := 1024) (row t (y 0)) (y 1) := by
  have e := idx_facts t
  funext a; apply Fin.ext
  match a with
  | ⟨0, _⟩ => show win0_5.index t (0 : Fin 2) * 512 + 1 * (y 0).val = 512 * (t.val / 4) + (y 0).val; omega
  | ⟨1, _⟩ => show win0_5.index t (1 : Fin 2) * 1024 + 1 * (y 1).val = (y 1).val; omega

theorem blk0 (c : Dev nD) (t : Fin cfg0.N) (r : Fin 512) (k : Fin 256) : iblk m c 0 t (ix2 r k) = arg0 m c (ix2 (row t r) (col (shard t) k)) := by
  show (V m c main_v0 : S2048x1024.Idx → EReal) (((cfg0.win 0).blk t).view.emb (ix2 r k)) = _
  rw [emb0]; exact cast0 m c _ _

theorem blk1 (c : Dev nD) (t : Fin cfg0.N) (k : Fin 256) (l : Fin 1024) : iblk m c 1 t (ix3 0 k l) = arg1 m c (ix2 (col (shard t) k) l) := by
  show (V m c main_v2 : S4x256x1024.Idx → EReal) (((cfg0.win 1).blk t).view.emb (ix3 0 k l)) = _
  rw [emb1]; exact shards1 m c _ _ _

theorem blk2 (c : Dev nD) (t : Fin cfg0.N) (r : Fin 512) (l : Fin 1024) : iblk m c 2 t (ix2 r l) = arg0 m c (ix2 (row t r) l) := by
  blk_ext! [iblk, V, idx_facts t, row]

theorem blk3 (c : Dev nD) (t : Fin cfg0.N) (l : Fin 1024) : iblk m c 3 t (ix2 0 l) = arg2 m c (ix1 l) := by
  blk_ext! [iblk, V, idx_facts t]

/-- The product of a row of `x` with a column of `w`. -/
def dot (x : S2048x1024.Idx → EReal) (w : S1024x1024.Idx → EReal) (r : Fin 2048) (l : Fin 1024) : EReal := ∑ k, x (ix2 r k) * w (ix2 k l)

/-- One shard's share of it. -/
def part (x : S2048x1024.Idx → EReal) (w : S1024x1024.Idx → EReal) (r : Fin 2048) (l : Fin 1024) (s : Fin 4) : EReal :=
  ∑ k, x (ix2 r (col s k)) * w (ix2 (col s k) l)

theorem sum_part (x : S2048x1024.Idx → EReal) (w : S1024x1024.Idx → EReal) (r : Fin 2048) (l : Fin 1024) : ∑ s, part x w r l s = dot x w r l :=
  Fin.sum_mul_add_congr (S := 4) (n := 256) (f := fun k : Fin 1024 => x (ix2 r k) * w (ix2 k l)) fun s k hl => rfl

theorem pay2_at (c : Dev nD) (t : Fin cfg0.N) (a : S512x1024.Idx → EReal) (r : Fin 512) (l : Fin 1024) :
    k0_pay2 (F := Ideal) (iblk m c 0 t) (iblk m c 1 t) a (ix2 r l) = a (ix2 r l) + part (arg0 m c) (arg1 m c) (row t r) l (shard t) := by
  pointwise [k0_pay2]
  simp only [blk0, blk1]
  rfl

theorem row_eq {t s : Fin cfg0.N} (h : s.val / 4 = t.val / 4) (r : Fin 512) : row s r = row t r :=
  Fin.ext (by show 512 * (s.val / 4) + r.val = 512 * (t.val / 4) + r.val; omega)

/-- The accumulator. -/
abbrev acc (c : Dev nD) (t : Fin cfg0.N) : S512x1024.Idx → EReal := (outsAt0 m c t.val t.isLt).2.2

/-- The accumulator after a tile's last shard. -/
theorem acc_at (c : Dev nD) (t : Fin cfg0.N) (h3 : t.val % 4 = 3) (r : Fin 512) (l : Fin 1024) :
    acc m c t (ix2 r l) = dot (arg0 m c) (arg1 m c) (row t r) l := by
  rw [← sum_part]
  refine Cert.Steps.four (fun n h => (outsAt0 m c n h).2.2 (ix2 r l)) _ t h3 (fun s e h0 => ?_) (fun s e h0 => ?_)
  · have es : shard s = 0 := Fin.ext h0
    rw [← row_eq e, ← es]
    rw [outsAt0_A m c s h0 (by omega)]; frame_out
    refine (pay2_at m c s _ r l).trans ?_
    pointwise [k0_pay1]
  · rw [← row_eq e]
    by_cases h1 : s.val % 4 = 3
    · rw [outsAt0_C m c s h0 h1]; frame_out
      refine (congrArg (fun a => k0_pay2 (F := Ideal) (iblk m c 0 s) (iblk m c 1 s) a (ix2 r l))
        ((Memref.isWhole_whole cc0_scratch0).read_unread _)).trans ?_
      exact pay2_at m c s _ r l
    · rw [outsAt0_B m c s h0 h1]; frame_out
      refine (congrArg (fun a => k0_pay2 (F := Ideal) (iblk m c 0 s) (iblk m c 1 s) a (ix2 r l))
        ((Memref.isWhole_whole cc0_scratch0).read_unread _)).trans ?_
      exact pay2_at m c s _ r l

/-- The gate's product. -/
def prod (y : S2048x1024.Idx → EReal) (w : S1024x1024.Idx → EReal) (j : S2048x1024.Idx) : EReal := dot y w (j 0) (j 1)

/-- The gated row. -/
def gatedRow (y : S2048x1024.Idx → EReal) (w : S1024x1024.Idx → EReal) (r : Fin 2048) (l : Fin 1024) : EReal := y (ix2 r l) * sigm (dot y w r l)

/-- Its norm. -/
def normed (y : S2048x1024.Idx → EReal) (w : S1024x1024.Idx → EReal) (g : S1024.Idx → EReal) (j : S2048x1024.Idx) : EReal :=
  gatedRow y w (j 0) (j 1) * inv (gatedRow y w (j 0)) * g (ix1 (j 1))

theorem prod_at (c : Dev nD) (t : Fin cfg0.N) (a : S512x1024.Idx → EReal)
    (ea : ∀ r l, a (ix2 r l) = dot (arg0 m c) (arg1 m c) (row t r) l) (r : Fin 512) (l : Fin 1024) :
    a (ix2 r l) = prod (arg0 m c) (arg1 m c) (ix2 (row t r) l) := ea r l

theorem normed_at (c : Dev nD) (t : Fin cfg0.N) (a : S512x1024.Idx → EReal)
    (ea : ∀ r l, a (ix2 r l) = dot (arg0 m c) (arg1 m c) (row t r) l) (r : Fin 512) (l : Fin 1024) :
    k0_pay3 (F := Ideal) a (iblk m c 2 t) (iblk m c 3 t) (ix2 r l) = normed (arg0 m c) (arg1 m c) (arg2 m c) (ix2 (row t r) l) := by
  pointwise [k0_pay3]
  simp only [ea, blk2, blk3, zero_sub]
  rfl

theorem out4_eq (c : Dev nD) (t : Fin cfg0.N) (h3 : t.val % 4 = 3) : (outsAt0 m c t.val t.isLt).1 = acc m c t := by
  unfold acc
  rw [outsAt0_C m c t (by omega) h3]
  frame_out

theorem final4 (c : Dev nD) : (dats m 0 c).arrAt 4 cfg0.N = prod (arg0 m c) (arg1 m c) := by
  refine (dats m 0 c).arrAt_eq_of_covers 4 _ (by decide +kernel) (fun t hf y => ?_)
  have h3 : t.val % 4 = 3 := (flush0_4 t).mp hf
  show (dats m 0 c).after 4 t y = _
  rw [after0_4, emb4, out4_eq m c t h3]
  have ea := acc_at m c t h3
  generalize acc m c t = a at ea ⊢
  exact (congrArg (a) (eq_ix2 (n0 := 512) (n1 := 1024) y)).trans (prod_at m c t a ea (y 0) (y 1))

theorem out5_eq (c : Dev nD) (t : Fin cfg0.N) (h3 : t.val % 4 = 3) : (outsAt0 m c t.val t.isLt).2.1 = k0_pay3 (F := Ideal) (acc m c t) (iblk m c 2 t) (iblk m c 3 t) := by
  unfold acc
  rw [outsAt0_C m c t (by omega) h3]
  frame_out

theorem final5 (c : Dev nD) : (dats m 0 c).arrAt 5 cfg0.N = normed (arg0 m c) (arg1 m c) (arg2 m c) := by
  refine (dats m 0 c).arrAt_eq_of_covers 5 _ (by decide +kernel) (fun t hf y => ?_)
  have h3 : t.val % 4 = 3 := (flush0_5 t).mp hf
  show (dats m 0 c).after 5 t y = _
  rw [after0_5, emb5, out5_eq m c t h3]
  have ea := acc_at m c t h3
  generalize acc m c t = a at ea ⊢
  exact (congrArg (k0_pay3 (F := Ideal) a (iblk m c 2 t) (iblk m c 3 t)) (eq_ix2 (n0 := 512) (n1 := 1024) y)).trans (normed_at m c t a ea (y 0) (y 1))

end Cert.GluOutIdeal.Tiles

/-! ## The reference and the claims -/

namespace Cert.Proof.GluOutClaims

open Cert.GluOutIdeal.Tiles
open Cert.GluOutIdeal (S2048x1024 S1024x1024 S1024)
open Cert.GluOutRefIdeal.Read
open Cert.Norms

theorem ref0 (y : S2048x1024.Idx → EReal) (w : S1024x1024.Idx → EReal) : val_main_v0 (F := Ideal) y w = prod y w := by
  funext j
  obtain ⟨r, l, rfl⟩ : ∃ r l, j = ix2 r l := ⟨_, _, eq_ix2 (n0 := 2048) (n1 := 1024) j⟩
  pointwise [val_main_v0]
  rfl

theorem ref7 (y : S2048x1024.Idx → EReal) (w : S1024x1024.Idx → EReal) (r : Fin 2048) (l : Fin 1024) :
    val_main_v7 (F := Ideal) y w (ix2 r l) = gatedRow y w r l := by
  pointwise [val_main_v7, val_main_v6, val_main_v5, val_main_v4, val_main_v3, val_main_v2, val_main_v1, val_main_v0, val_main_cst, val_main_cst_0]
  rfl

theorem ref21 (y : S2048x1024.Idx → EReal) (w : S1024x1024.Idx → EReal) (g : S1024.Idx → EReal) : val_main_v21 (F := Ideal) y w g = normed y w g := by
  funext j
  obtain ⟨r, l, rfl⟩ : ∃ r l, j = ix2 r l := ⟨_, _, eq_ix2 (n0 := 2048) (n1 := 1024) j⟩
  pointwise [val_main_v21, val_main_v20, val_main_v19, val_main_v18, val_main_v17, val_main_v16, val_main_v15, val_main_v14, val_main_v13, val_main_v12, val_main_v11, val_main_v10, val_main_v9, val_main_v8, val_main_cst_1, val_main_cst_2, val_main_cst_3]
  simp only [ref7]
  rfl

theorem frame_ref : Cert.quiescent_GluOutRefIdeal := fun m ρ _ =>
  (θ_run Cert.GluOutRefIdeal.defs _ _).mono (fun r h => ⟨fun c => (h c).2.2,
      Idealize.ShloMosaic.sem_eq_zero_of_no_sems (by decide) r.2⟩)
    (Cert.GluOutRefIdeal.Value.run (F := Ideal) m ρ)

theorem algebraic : Cert.algebraic_GluOutIdeal_GluOutRefIdeal := by
  intro m ρ m' ρ' _ hagree
  refine ⟨fun c => prod (arg0 m c) (arg1 m c), fun c => normed (arg0 m c) (arg1 m c) (arg2 m c), ?_, ?_⟩
  · exact (θ_run Cert.GluOutIdeal.defs _ _).mono (fun _ h c => ⟨(h c).1.trans (final4 m c), (h c).2.1.trans (final5 m c), (h c).2.2⟩)
      (Cert.GluOutIdeal.Value.run_blocks (F := Ideal) m ρ)
  · refine (θ_run Cert.GluOutRefIdeal.defs _ _).mono (fun _ h c => ⟨(h c).1.trans ?_, (h c).2.1.trans ?_, (h c).2.2⟩)
      (Cert.GluOutRefIdeal.Value.run (F := Ideal) m' ρ')
    · refine ((val_main_v0_eq _ _).trans (ref0 _ _)).trans ?_
      rw [(hagree c).1, (hagree c).2.1]
    · refine ((val_main_v21_eq _ _ _).trans (ref21 _ _ _)).trans ?_
      rw [(hagree c).1, (hagree c).2.1, (hagree c).2.2]

end Cert.Proof.GluOutClaims
end
-- ==== Proof.Exchange.lean ====
/- Calls that only copy: each device starts copies within its own memory and copies into its peers' results, and then
   waits for all of them. There is no handshake: the sender holds the part of the peer's result that it writes from
   the launch on, so a copy may land before the peer enters the call.

   Protocol. One cell for each local copy, two for each remote one, each with one duty in round 0:
   * the local copy's cell: paid by the device's own copy, hands back the part that it wrote;
   * the send cell: paid when the source has been read, hands back nothing;
   * the receive cell: paid by the peer's copy, hands over the part that the peer wrote.
   A device owes its peers' receive cells the copies' credits from the launch on, starts all copies, and waits for its
   own cells when it owes nothing any more. -/
module

public import Idealize.ShloMosaic.Lib.Pipeline.Launch
public import Idealize.ShloMosaic.Lib.Pipeline.Kit
public import Idealize.ShloMosaic.Lib.Pipeline.BigSepL
public import Idealize.ShloMosaic.Lib.Quiescent
public import Idealize.ShloMosaic.Lib.Tactic

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The copies of a call: `I` within a device, `J` to a peer. -/
structure Plan (nD : ℕ) (τ : Topo) (sig : RefSig) (I J : Type) where
  /-- extents and element types of what is copied -/
  sI : I → Shape
  eI : I → EltTy
  sJ : J → Shape
  eJ : J → EltTy
  /-- source and destination of each copy that device `c` starts -/
  srcI : Dev nD → (i : I) → Memref sig .tc .hbm (sI i) (eI i)
  dstI : Dev nD → (i : I) → Memref sig .tc .hbm (sI i) (eI i)
  srcJ : Dev nD → (j : J) → Memref sig .tc .hbm (sJ j) (eJ j)
  dstJ : Dev nD → (j : J) → Memref sig .tc .hbm (sJ j) (eJ j)
  /-- what the wait for the peer's copy names -/
  gotA : Dev nD → (j : J) → Memref sig .tc .hbm (sJ j) (eJ j)
  gotB : Dev nD → (j : J) → Memref sig .tc .hbm (sJ j) (eJ j)
  wordsI : ∀ c i, (srcI c i).view.WordExact ∧ (dstI c i).view.WordExact
  wordsJ : ∀ c j, (srcJ c j).view.WordExact ∧ (dstJ c j).view.WordExact
  wordsG : ∀ c j, (gotA c j).view.WordExact ∧ (gotB c j).view.WordExact
  unshared : ∀ c j, (dstJ c j).view.ref.isScScratch = false
  /-- the peer that copy `j` goes to, and how the call names it -/
  peer : J → Dev nD ≃ Dev nD
  named : Dev nD → J → Dev nD
  named_eq : ∀ c j, named c j = peer j c
  route : ∀ c d : Dev nD, τ.routes (c : Thread nD τ) (d : Thread nD τ) = true
  /-- the semaphores: the local copies', the sends', the receives' -/
  sem : I ⊕ (J ⊕ J) → DmaSem sig
  sem_inj : Function.Injective sem
  /-- the copies' credits -/
  nI : I → ℕ
  nJ : J → ℕ
  posI : ∀ i, 0 < nI i
  posJ : ∀ j, 0 < nJ j
  creditI : ∀ c i, (dstI c i).view.dmaCredit = nI i
  creditS : ∀ c j, (srcJ c j).view.dmaCredit = nJ j
  creditJ : ∀ c j, (dstJ c j).view.dmaCredit = nJ j
  creditG : ∀ c j, (gotB c j).view.dmaCredit = nJ j
  /-- the share of its source that a copy reads from -/
  qI : I → PosShare TreeShare
  qJ : J → PosShare TreeShare
  /-- the order of the starts, and of the waits -/
  starts : List (I ⊕ J)
  waits : List (I ⊕ (J ⊕ J))
  /-- the copies that pass on what another one brought: after the first starts each device waits for that one and starts this one, in the order given -/
  late : J → Bool := fun _ => false
  orig : J → J := id
  relays : List J := []
  /-- what the source of a copy holds when it starts -/
  fill {F : FTy → Type} (m : (ℓ : Loc nD τ sig) → Buf (Elt F) ℓ) (d : Dev nD) (j : J) : Buf (Elt F) ((srcJ d j).view.loc (d : Thread nD τ)) := m _

variable {nD : ℕ} {τ : Topo} {sig : RefSig} {I J : Type} [Fintype I] [Fintype J] [DecidableEq I] [DecidableEq J]
variable {F : FTy → Type}

/-- The ghost state: the launch's copy and the protocol's. -/
abbrev UU (nD : ℕ) (τ : Topo) (sig : RefSig) : Type := UR sig nD τ × UR sig nD τ

local notation "𝕄" => MT nD τ sig Unit (Elt F) ℕ (UU nD τ sig) ℕ
local notation "𝕂" => I ⊕ (J ⊕ J)

abbrev EP : Emb (UR sig nD τ) (MT nD τ sig Unit (Elt F) ℕ (UU nD τ sig) ℕ) := embL
abbrev ER : Emb (UR sig nD τ) (MT nD τ sig Unit (Elt F) ℕ (UU nD τ sig) ℕ) := embR

namespace Plan

variable (P : Plan nD τ sig I J) (m : (ℓ : Loc nD τ sig) → Buf (Elt F) ℓ) (ρ : Dev nD → PrngReg)

/-! ## The call's program -/

section Program
variable {Λ : Labels}

abbrev start (c : Dev nD) (k : Prog (TpuEff nD τ sig (Elt F) Λ .tc) PUnit) : I ⊕ J → Prog (TpuEff nD τ sig (Elt F) Λ .tc) PUnit
  | .inl i => .op (.enqueueDma (P.srcI c i) (.here (P.dstI c i)) (.dma (P.sem (.inl i))) (P.wordsI c i).1 (P.wordsI c i).2 ⟨Or.inl rfl, trivial⟩) fun _ => k
  | .inr j => .op (.enqueueDma (P.srcJ c j) (.remote (Dev.tc (P.named c j) : Thread nD τ) (P.dstJ c j) (.dma (P.sem (.inr (.inl j)))) (P.unshared c j))
      (.dma (P.sem (.inr (.inr j)))) (P.wordsJ c j).1 (P.wordsJ c j).2 ⟨⟨rfl, Or.inl rfl⟩, trivial⟩) fun _ => k
abbrev wait (c : Dev nD) (k : Prog (TpuEff nD τ sig (Elt F) Λ .tc) PUnit) : 𝕂 → Prog (TpuEff nD τ sig (Elt F) Λ .tc) PUnit
  | .inl i => .op (.waitDma2 (P.sem (.inl i)) (P.srcI c i) (P.dstI c i) (P.wordsI c i).1 (P.wordsI c i).2) fun _ => k
  | .inr (.inl j) => .op (.waitDma2 (P.sem (.inr (.inl j))) (P.dstJ c j) (P.srcJ c j) (P.wordsJ c j).2 (P.wordsJ c j).1) fun _ => k
  | .inr (.inr j) => .op (.waitDma2 (P.sem (.inr (.inr j))) (P.gotA c j) (P.gotB c j) (P.wordsG c j).1 (P.wordsG c j).2) fun _ => k
theorem start_peer (c : Dev nD) (k : Prog (TpuEff nD τ sig (Elt F) Λ .tc) PUnit) (j : J) :
    P.start c k (.inr j) = .op (.enqueueDma (P.srcJ c j) (.remote (Dev.tc (P.peer j c) : Thread nD τ) (P.dstJ c j) (.dma (P.sem (.inr (.inl j)))) (P.unshared c j))
      (.dma (P.sem (.inr (.inr j)))) (P.wordsJ c j).1 (P.wordsJ c j).2 ⟨⟨rfl, Or.inl rfl⟩, trivial⟩) fun _ => k := by
  have h : ∀ n, n = P.peer j c → (Prog.op (.enqueueDma (P.srcJ c j) (.remote (Dev.tc n : Thread nD τ) (P.dstJ c j) (.dma (P.sem (.inr (.inl j)))) (P.unshared c j))
      (.dma (P.sem (.inr (.inr j)))) (P.wordsJ c j).1 (P.wordsJ c j).2 ⟨⟨rfl, Or.inl rfl⟩, trivial⟩) fun _ => k : Prog (TpuEff nD τ sig (Elt F) Λ .tc) PUnit)
      = .op (.enqueueDma (P.srcJ c j) (.remote (Dev.tc (P.peer j c) : Thread nD τ) (P.dstJ c j) (.dma (P.sem (.inr (.inl j)))) (P.unshared c j))
      (.dma (P.sem (.inr (.inr j)))) (P.wordsJ c j).1 (P.wordsJ c j).2 ⟨⟨rfl, Or.inl rfl⟩, trivial⟩) fun _ => k := by
    rintro _ rfl; rfl
  exact h _ (P.named_eq c j)
/-- All first starts, then the copies that are passed on, then all waits that are left. -/
def prog (c : Dev nD) : Prog (TpuEff nD τ sig (Elt F) Λ .tc) PUnit :=
  P.starts.foldr (fun s k => P.start c k s) (P.relays.foldr (fun j k => P.wait c (P.start c k (.inr j)) (.inr (.inr (P.orig j))))
    (P.waits.foldr (fun s k => P.wait c k s) (.ret ⟨⟩)))
end Program

/-! ## Cells and contents -/

abbrev osem (k : 𝕂) : SemLoc sig := .dma (P.sem k)
abbrev cell (ck : Dev nD × 𝕂) : GSem nD τ sig := ((ck.1 : Thread nD τ), P.osem ck.2)
theorem osem_inj : Function.Injective P.osem := fun _ _ h => P.sem_inj (SemLoc.dma.inj h)
theorem cell_inj : Function.Injective P.cell := by
  rintro ⟨c, k⟩ ⟨c', k'⟩ h
  have h1 : c = c' := congrArg (fun g : GSem nD τ sig => g.1.1) h
  have h2 : k = k' := P.osem_inj (congrArg Prod.snd h)
  rw [h1, h2]
abbrev N : 𝕂 → ℕ
  | .inl i => P.nI i
  | .inr (.inl j) => P.nJ j
  | .inr (.inr j) => P.nJ j
theorem N_pos : ∀ k, 0 < P.N k
  | .inl i => P.posI i
  | .inr (.inl j) => P.posJ j
  | .inr (.inr j) => P.posJ j

/-- What local copy `i` of device `c` leaves. -/
def put (c : Dev nD) (i : I) : Buf (Elt F) ((P.dstI c i).view.loc (c : Thread nD τ)) :=
  (P.dstI c i).view.write (Elt F) (m ((P.dstI c i).view.loc (c : Thread nD τ))) ((P.srcI c i).view.read (Elt F) (m ((P.srcI c i).view.loc (c : Thread nD τ)))) Finset.univ
/-- What copy `j` of device `d` leaves on device `c`. -/
def sent (d : Dev nD) (j : J) (c : Dev nD) : Buf (Elt F) ((P.dstJ d j).view.loc (c : Thread nD τ)) :=
  (P.dstJ d j).view.write (Elt F) (m ((P.dstJ d j).view.loc (c : Thread nD τ))) ((P.srcJ d j).view.read (Elt F) (P.fill m d j)) Finset.univ
/-- The part of its result that local copy `i` writes, at contents `f`, and the part of device `c`'s that copy `j` of `d` does. -/
def atI (c : Dev nD) (i : I) (f : Buf (Elt F) ((P.dstI c i).view.loc (c : Thread nD τ))) : sProp 𝕄 := ((P.dstI c i).view.loc (c : Thread nD τ)) ↦[(P.dstI c i).view.set]{fullShare} f
def atJ (d : Dev nD) (j : J) (c : Dev nD) (f : Buf (Elt F) ((P.dstJ d j).view.loc (c : Thread nD τ))) : sProp 𝕄 := ((P.dstJ d j).view.loc (c : Thread nD τ)) ↦[(P.dstJ d j).view.set]{fullShare} f
/-- What the peer's copy `j` leaves on device `c`, at a share of it. -/
def landed (q : PosShare TreeShare) (c : Dev nD) (j : J) : sProp 𝕄 :=
  ((P.dstJ ((P.peer j).symm c) j).view.loc (c : Thread nD τ)) ↦[(P.dstJ ((P.peer j).symm c) j).view.set]{q} P.sent m ((P.peer j).symm c) j c
/-- The sources, as they are when the copies start; of a copy that is passed on nothing is there at the launch. -/
def fromI (c : Dev nD) (i : I) : sProp 𝕄 := ((P.srcI c i).view.loc (c : Thread nD τ)) ↦[(P.srcI c i).view.set]{P.qI i} m ((P.srcI c i).view.loc (c : Thread nD τ))
def fromJ (c : Dev nD) (j : J) : sProp 𝕄 := ((P.srcJ c j).view.loc (c : Thread nD τ)) ↦[(P.srcJ c j).view.set]{P.qJ j} P.fill m c j
def early (c : Dev nD) (j : J) : sProp 𝕄 := cond (P.late j) iprop(emp) (P.fromJ m c j)

/-! ## The schedule -/

abbrev IsCell (g : GSem nD τ sig) : Prop := g.1.2 = .tc ∧ ∃ k, g.2 = P.osem k

/-- What each cell hands over. -/
def pay (c : Dev nD) : 𝕂 → sProp 𝕄
  | .inl i => P.atI c i (P.put m c i)
  | .inr (.inl j) => iprop(emp)
  | .inr (.inr j) => P.landed m fullShare c j

open Classical in
def sched : Rounds.Schedule (GSem nD τ sig) Unit 𝕄 where
  duties g r := if r = 0 ∧ P.IsCell g then {()} else ∅
  unitless _ := False
  amount g _ _ := if h : ∃ k, g.2 = P.osem k then P.N h.choose else 1
  payload g _ _ := if h : ∃ k, g.2 = P.osem k then P.pay m g.1.1 h.choose else iprop(emp)
  amount_pos g _ _ _ := by
    split
    · exact P.N_pos _
    · exact Nat.one_pos

instance sched_storable (g : GSem nD τ sig) (r : ℕ) (d : Unit) : BI.Storable (upEmb : UEmb _ 𝕄) ((P.sched (F := F) m).payload g r d) := by
  show BI.Storable upEmb (if h : ∃ k, g.2 = P.osem k then P.pay m g.1.1 h.choose else iprop(emp))
  split
  · rename_i h; generalize h.choose = k
    match k with
    | .inl _ => unfold pay atI; infer_instance
    | .inr (.inl _) => unfold pay; infer_instance
    | .inr (.inr _) => unfold pay landed; infer_instance
  · infer_instance

section Sched
variable (c : Dev nD) (k : I ⊕ (J ⊕ J))

theorem chosen : (⟨k, rfl⟩ : ∃ k', (P.cell (c, k)).2 = P.osem k').choose = k := (P.osem_inj (Exists.choose_spec (⟨k, rfl⟩ : ∃ k', (P.cell (c, k)).2 = P.osem k'))).symm
theorem duty : () ∈ (P.sched (F := F) m).duties (P.cell (c, k)) 0 := by
  show () ∈ (if _ then _ else _); rw [if_pos ⟨rfl, rfl, k, rfl⟩]; exact Finset.mem_singleton_self _
theorem duties_zero : (P.sched (F := F) m).duties (P.cell (c, k)) 0 = {()} := if_pos ⟨rfl, rfl, k, rfl⟩
theorem duties_later (g : GSem nD τ sig) : ∀ r, 1 ≤ r → (P.sched (F := F) m).duties g r = ∅ :=
  fun r hr => if_neg fun h => by omega
theorem amount_eq (u : Unit) : (P.sched (F := F) m).amount (P.cell (c, k)) 0 u = P.N k :=
  (dif_pos ⟨k, rfl⟩).trans (congrArg P.N (P.chosen c k))
theorem expect_zero : (P.sched (F := F) m).expect (P.cell (c, k)) 0 = P.N k := by
  unfold Schedule.expect Schedule.amountOf; rw [duties_zero, Finset.sum_singleton]; exact P.amount_eq m c k ()
theorem payload_eq (u : Unit) : (P.sched (F := F) m).payload (P.cell (c, k)) 0 u = P.pay m c k :=
  (dif_pos ⟨k, rfl⟩).trans (congrArg (P.pay m c) (P.chosen c k))
theorem rest_eq : bigSep ((P.sched (F := F) m).duties (P.cell (c, k)) 0 \ ∅) (fun u => (P.sched (F := F) m).payload (P.cell (c, k)) 0 u) = P.pay m c k := by
  rw [Finset.sdiff_empty, duties_zero, bigSep_singleton, payload_eq]
end Sched

/-! ## What a device owes -/

/-- The credit that a start pays to a peer. -/
def due (c : Dev nD) : I ⊕ J → CellTallies nD τ sig Unit
  | .inl _ => 0
  | .inr j => tallyAt (P.cell (P.peer j c, .inr (.inr j))) () (P.nJ j)
/-- What device `c` owes before the starts `l`. -/
def owed (c : Dev nD) (l : List (I ⊕ J)) : CellTallies nD τ sig Unit := (l.map (P.due c)).sum
abbrev O₀ (c : Dev nD) : CellTallies nD τ sig Unit := P.owed c (P.starts ++ P.relays.map .inr)
theorem owed_append (c : Dev nD) (l l' : List (I ⊕ J)) : P.owed c (l ++ l') = P.owed c l + P.owed c l' := by unfold owed; rw [List.map_append, List.sum_append]
theorem owed_cons (c : Dev nD) (s : I ⊕ J) (l : List (I ⊕ J)) : P.owed c (s :: l) = P.due c s + P.owed c l := by unfold owed; rw [List.map_cons, List.sum_cons]
theorem owed_pos (c : Dev nD) (g : GSem nD τ sig) (u : Unit) (l : List (I ⊕ J)) (h : 0 < P.owed c l g u) : ∃ j, .inr j ∈ l ∧ g = P.cell (P.peer j c, .inr (.inr j)) := by
  induction l with
  | nil => exact absurd h (Nat.lt_irrefl 0)
  | cons s l ih =>
    rw [owed_cons] at h
    rcases Pipeline.add_pos_cases h with h | h
    · match s with
      | .inl _ => exact absurd h (Nat.lt_irrefl 0)
      | .inr j =>
        refine ⟨j, List.mem_cons_self, ?_⟩
        by_contra hg
        have h0 : P.due c (.inr j) g u = 0 := by
          show tallyAt (P.cell (P.peer j c, .inr (.inr j))) () (P.nJ j) g u = 0
          rw [tallyAt_apply, if_neg fun h' => hg h'.1]
        omega
    · obtain ⟨j, hj, e⟩ := ih h
      exact ⟨j, List.mem_cons_of_mem _ hj, e⟩

/-- The levels: a wait for a first copy may come while copies that pass something on are owed. -/
def levL (g : GSem nD τ sig) : Finset Unit := if g.1.2 = .tc then Finset.univ else ∅
theorem levL_tc (c : Dev nD) (b : SemLoc sig) : () ∈ levL ((c : Thread nD τ), b) := Finset.mem_univ ()
open Classical in
def lev (g : GSem nD τ sig) (_ : Unit) : ℕ := if ∃ j, P.late j = true ∧ g.2 = P.osem (.inr (.inr j)) then 1 else 0
abbrev levs : sProp 𝕄 := levAts levL P.lev
theorem mayWait (c : Dev nD) (j : J) (hj : P.late j = false) (l : List J) (hl : ∀ i ∈ l, P.late i = true) :
    (P.levs : sProp 𝕄) ⊢ MayWait (c : Thread nD τ) (P.osem (.inr (.inr j))) () (P.owed c (l.map .inr)) := by
  refine Pipeline.mayWait_of_levAts (levL_tc c _) fun g i hg => ?_
  obtain ⟨j', hj', rfl⟩ := P.owed_pos c g i _ hg
  obtain ⟨i', hi', e⟩ := List.mem_map.mp hj'
  obtain rfl := Sum.inr.inj e
  refine ⟨levL_tc (P.peer i' c) _, ?_⟩
  have h0 : P.lev ((c : Thread nD τ), P.osem (.inr (.inr j))) () = 0 := if_neg (by
    rintro ⟨k, hk, e⟩
    obtain rfl := Sum.inr.inj (Sum.inr.inj (P.osem_inj e))
    rw [hj] at hk; cases hk)
  have h1 : P.lev (P.cell (P.peer i' c, .inr (.inr i'))) i = 1 := if_pos ⟨i', hl i' hi', rfl⟩
  rw [h0, h1]; exact Nat.zero_lt_one

/-! ## The body -/

/-- The cells' invariants, each under a name of its own, that every cell's round 0 is reached, and the levels. -/
def invs (K : Dev nD × 𝕂 → ℕ) : sProp 𝕄 :=
  iprop((bigSep Finset.univ fun ck : Dev nD × 𝕂 => cellInv ER (P.sched m) (K ck) (P.cell ck)) ∗ (bigSep Finset.univ fun ck : Dev nD × 𝕂 => reached ER (P.cell ck) 0) ∗ P.levs)
instance invs_persistent (K : Dev nD × 𝕂 → ℕ) : BI.Persistent (P.invs (F := F) m K) := by unfold invs; infer_instance

/-- What a start takes, and what is left of it for the wait. -/
def before (c : Dev nD) : I ⊕ J → sProp 𝕄
  | .inl i => iprop(dutyTok ER (P.cell (c, .inl i)) 0 () ∗ P.fromI m c i ∗ P.atI c i (m ((P.dstI c i).view.loc (c : Thread nD τ))))
  | .inr j => iprop((dutyTok ER (P.cell (c, .inr (.inl j))) 0 () ∗ dutyTok ER (P.cell (P.peer j c, .inr (.inr j))) 0 ())
      ∗ P.early m c j ∗ P.atJ c j (P.peer j c) (m ((P.dstJ c j).view.loc (P.peer j c : Thread nD τ))))
/-- The same once its source is there. -/
def ready (c : Dev nD) : I ⊕ J → sProp 𝕄
  | .inl i => P.before m c (.inl i)
  | .inr j => iprop((dutyTok ER (P.cell (c, .inr (.inl j))) 0 () ∗ dutyTok ER (P.cell (P.peer j c, .inr (.inr j))) 0 ())
      ∗ P.fromJ m c j ∗ P.atJ c j (P.peer j c) (m ((P.dstJ c j).view.loc (P.peer j c : Thread nD τ))))
theorem ready_first (c : Dev nD) : ∀ s : I ⊕ J, (∀ j, s = .inr j → P.late j = false) → P.before (F := F) m c s = P.ready m c s
  | .inl _, _ => rfl
  | .inr j, h => by dsimp only [before, ready, early]; rw [h j rfl]; rfl
theorem ready_late (c : Dev nD) (j : J) (h : P.late j = true) : iprop(P.before (F := F) m c (.inr j) ∗ P.fromJ m c j) ⊢ P.ready m c (.inr j) := by
  dsimp only [before, ready]
  iintro ⟨⟨Ht, -, Hd⟩, Hs⟩
  isplitl [Ht]; · iexact Ht
  isplitl [Hs] <;> iassumption
abbrev credit (c : Dev nD) (k : 𝕂) : sProp 𝕄 := cred (tallyAt (P.cell (c, k)) () (P.N k))
def after (c : Dev nD) : I ⊕ J → sProp 𝕄
  | .inl i => P.credit c (.inl i)
  | .inr j => P.credit c (.inr (.inl j))
/-- What a wait takes, and what it gives. -/
def due1 (c : Dev nD) (k : 𝕂) : sProp 𝕄 := iprop(atPos ER (P.cell (c, k)) 0 ∅ 0 ∗ P.credit c k)
def got (c : Dev nD) (k : 𝕂) : sProp 𝕄 := iprop(P.pay m c k ∗ semVal (P.cell (c, k)) 0)
/-- What is kept of what came, where the other half of its share goes into a copy that passes it on. -/
def half (c : Dev nD) : 𝕂 → sProp 𝕄
  | .inl i => P.atI c i (P.put m c i)
  | .inr (.inl _) => iprop(emp)
  | .inr (.inr j) => P.landed m fullShare.left c j
def had (c : Dev nD) (k : 𝕂) : sProp 𝕄 := iprop(P.half m c k ∗ semVal (P.cell (c, k)) 0)
theorem halved (c : Dev nD) (j : J) : P.landed (F := F) m fullShare c j ⊢ iprop(P.landed m fullShare.left c j ∗ P.landed m fullShare.right c j) := by
  unfold landed; exact (pointsTo_share (PosShare.mem_left_op_right fullShare)).1
theorem half_of (c : Dev nD) : ∀ k, P.got (F := F) m c k ⊢ P.had m c k
  | .inl _ => BI.Entails.refl _
  | .inr (.inl _) => BI.Entails.refl _
  | .inr (.inr j) => by
    unfold got had pay half
    iintro ⟨H, Hz⟩
    ihave H := (P.halved m c j) $$ H
    icases H with ⟨H, -⟩
    isplitl [H] <;> iassumption

theorem keep {A : Type} [DecidableEq A] {s t : Finset A} (h : t ⊆ s) (Φ : A → sProp 𝕄) : bigSep s Φ ⊢ bigSep t Φ := bigSep_subset h
theorem bigSep_at {A : Type} [Fintype A] [DecidableEq A] (Φ : A → sProp 𝕄) (i : A) : bigSep Finset.univ Φ ⊢ Φ i := bigSep_elim (Finset.mem_univ i)
theorem inv_at (K : Dev nD × 𝕂 → ℕ) (ck : Dev nD × 𝕂) : P.invs (F := F) m K ⊢ cellInv ER (P.sched m) (K ck) (P.cell ck) := by
  unfold invs; iintro ⟨H, -⟩
  iapply (bigSep_at (fun ck : Dev nD × 𝕂 => cellInv ER (P.sched m) (K ck) (P.cell ck)) ck); iexact H
theorem reached_at (K : Dev nD × 𝕂 → ℕ) (ck : Dev nD × 𝕂) : P.invs (F := F) m K ⊢ reached ER (P.cell ck) 0 := by
  unfold invs; iintro ⟨-, H, -⟩
  iapply (bigSep_at (fun ck : Dev nD × 𝕂 => (reached ER (P.cell ck) 0 : sProp 𝕄)) ck); iexact H

theorem levs_at (K : Dev nD × 𝕂 → ℕ) : P.invs (F := F) m K ⊢ P.levs := by unfold invs; iintro ⟨-, -, H⟩; iexact H

section Body
variable {Λ₀ : Labels} (defs₀ : Defs nD τ sig (Elt F) Λ₀) (𝒱₀ : Variants)

/-- One start. -/
theorem wp_start (K : Dev nD × 𝕂 → ℕ) (c : Dev nD) (s : I ⊕ J) (O : CellTallies nD τ sig Unit) (W : Waits sig Unit)
    (k : Prog (TpuEff nD τ sig (Elt F) Λ₀ .tc) PUnit) (Q : PUnit → sProp 𝕄) :
    iprop(P.invs m K ∗ P.ready m c s ∗ owes (c : Thread nD τ) (P.due c s + O) W)
      ⊢ iprop(((P.after c s ∗ owes (c : Thread nD τ) O W) -∗ wp frame (wpE defs₀ 𝒱₀ (c : Thread nD τ) none) Set.univ k Q)
          -∗ wp frame (wpE defs₀ 𝒱₀ (c : Thread nD τ) none) Set.univ (P.start c k s) Q) := by
  match s with
  | .inl i =>
    dsimp only [ready, before, after, due, fromI, atI, start]
    iintro ⟨#HI, ⟨Ht, Hs, Hd⟩, HO⟩ Hk
    ihave #HI0 := (P.inv_at m K (c, .inl i)) $$ HI
    ihave #HR0 := (P.reached_at m K (c, .inl i)) $$ HI
    iapply (Rounds.wp_copy_pointsTo 𝒱₀ ER (P.sched m) (c : Thread nD τ) none (src := P.srcI c i) (dst := P.dstI c i) (sem := P.osem (.inl i)) (κ := K (c, .inl i)) (r := 0) (d := ())
        (fd := m ((P.dstI c i).view.loc (c : Thread nD τ))) (fs := m ((P.srcI c i).view.loc (c : Thread nD τ))) (q := P.qI i)
        (P.duty m c _) () (P.nI i) (P.creditI c i) (P.amount_eq m c (.inl i) ())
        (by rw [P.payload_eq]; show _ ⊢ P.atI c i (P.put m c i); unfold atI put; iintro ⟨H, -⟩; iexact H)) $$ [Ht Hs Hd]
    · isplitr; · iexact HI0
      isplitl [Hs]; · iexact Hs
      isplitl [Hd]; · iexact Hd
      isplitl [Ht]; · iexact Ht
      iexact HR0
    iintro Hc
    iapply Hk
    isplitl [Hc]; · iexact Hc
    rw [zero_add]; iexact HO
  | .inr j =>
    rw [start_peer]
    dsimp only [ready, after, due, fromJ, atJ]
    iintro ⟨#HI, ⟨⟨Ht1, Ht2⟩, Hs, Hd⟩, HO⟩ Hk
    ihave #HI1 := (P.inv_at m K (c, .inr (.inl j))) $$ HI
    ihave #HI2 := (P.inv_at m K (P.peer j c, .inr (.inr j))) $$ HI
    ihave #HR1 := (P.reached_at m K (c, .inr (.inl j))) $$ HI
    ihave #HR2 := (P.reached_at m K (P.peer j c, .inr (.inr j))) $$ HI
    have hp : iprop(((P.srcJ c j).view.loc (c : Thread nD τ) ↦[(P.srcJ c j).view.set]{P.qJ j} P.fill m c j : sProp 𝕄))
        ⊢ (P.sched m).payload (P.cell (c, .inr (.inl j))) 0 () := by
      rw [payload_eq]; show _ ⊢ iprop(emp); iintro -; iempintro
    have hl : ((P.dstJ c j).view.loc (P.peer j c : Thread nD τ) ↦[(P.dstJ c j).view.set]{fullShare} (P.sent m c j (P.peer j c)) : sProp 𝕄)
        ⊢ (P.sched m).payload (P.cell (P.peer j c, .inr (.inr j))) 0 () := by
      rw [payload_eq]; show _ ⊢ P.atJ ((P.peer j).symm (P.peer j c)) j (P.peer j c) (P.sent m ((P.peer j).symm (P.peer j c)) j (P.peer j c))
      rw [Equiv.symm_apply_apply]; unfold atJ; iintro H; iexact H
    have hcall := Rounds.wp_send_pointsTo (Γ := []) (Q := Q) (defs := defs₀) 𝒱₀ ER (P.sched m) (c : Thread nD τ) none (κ₁ := K (c, .inr (.inl j))) (κ₂ := K (P.peer j c, .inr (.inr j))) (k := fun _ => k)
        (src := P.srcJ c j) (c' := (P.peer j c : Thread nD τ)) (dst := P.dstJ c j) (sS := P.osem (.inr (.inl j))) (sem := P.osem (.inr (.inr j))) (hsc := P.unshared c j)
        (hsrc := (P.wordsJ c j).1) (hdst := (P.wordsJ c j).2) (hsem := ⟨⟨rfl, Or.inl rfl⟩, trivial⟩)
        (P.duty m c _) (P.duty m (P.peer j c) _) () () (P.nJ j) (P.creditJ c j) (P.amount_eq m c (.inr (.inl j)) ()) (P.amount_eq m (P.peer j c) (.inr (.inr j)) ())
        O (add_comm _ _) (W := W) hp hl (Es := Set.univ) (P.route c (P.peer j c))
    iapply hcall $$ [Ht1 Ht2 Hs Hd HO]
    · isplitr; · iexact HI1
      isplitr; · iexact HI2
      isplitl [Hs]; · iexact Hs
      isplitl [Hd]; · iexact Hd
      isplitl [HO]; · iexact HO
      isplitl [Ht1]; · iexact Ht1
      isplitr; · iexact HR1
      isplitl [Ht2]; · iexact Ht2
      iexact HR2
    iexact Hk

/-- The first starts. -/
theorem wp_starts (K : Dev nD × 𝕂 → ℕ) (c : Dev nD) (O : CellTallies nD τ sig Unit) (W : Waits sig Unit) (k : Prog (TpuEff nD τ sig (Elt F) Λ₀ .tc) PUnit) (Q : PUnit → sProp 𝕄)
    (l : List (I ⊕ J)) (hl : ∀ j, .inr j ∈ l → P.late j = false) :
    iprop(P.invs m K ∗ bigSepL l (P.before m c) ∗ owes (c : Thread nD τ) (P.owed c l + O) W)
      ⊢ iprop(((bigSepL l (P.after c) ∗ owes (c : Thread nD τ) O W) -∗ wp frame (wpE defs₀ 𝒱₀ (c : Thread nD τ) none) Set.univ k Q)
          -∗ wp frame (wpE defs₀ 𝒱₀ (c : Thread nD τ) none) Set.univ (l.foldr (fun s k => P.start c k s) k) Q) := by
  induction l with
  | nil =>
    rw [bigSepL_nil, bigSepL_nil, List.foldr_nil, show P.owed c [] = 0 from rfl, zero_add]
    iintro ⟨-, H, HO⟩ Hk
    iapply Hk; isplitl [H] <;> iassumption
  | cons s l ih =>
    rw [bigSepL_cons', bigSepL_cons', List.foldr_cons, owed_cons, add_assoc, P.ready_first m c s fun j e => hl j (e ▸ List.mem_cons_self)]
    iintro ⟨#HI, ⟨Hs, Hl⟩, HO⟩ Hk
    iapply (P.wp_start m defs₀ 𝒱₀ K c s (P.owed c l + O) W _ Q) $$ [Hs HO]
    · isplitr; · iexact HI
      isplitl [Hs] <;> iassumption
    iintro ⟨Hs, HO⟩
    iapply (ih fun j h => hl j (List.mem_cons_of_mem _ h)) $$ [Hl HO]
    · isplitr; · iexact HI
      isplitl [Hl] <;> iassumption
    iintro ⟨Hl, HO⟩
    iapply Hk
    isplitr [HO]
    · isplitl [Hs] <;> iassumption
    iexact HO

/-- One wait; then its cell is closed, the counter at zero. -/
theorem wp_wait (K : Dev nD × 𝕂 → ℕ) (c : Dev nD) (s : 𝕂) (O : CellTallies nD τ sig Unit)
    (hO : (P.levs : sProp 𝕄) ⊢ MayWait (c : Thread nD τ) (P.osem s) () O) (k : Prog (TpuEff nD τ sig (Elt F) Λ₀ .tc) PUnit) (Q : PUnit → sProp 𝕄) :
    iprop(P.invs m K ∗ P.due1 c s ∗ ∃ W, owes (c : Thread nD τ) O W)
      ⊢ iprop(((P.got m c s ∗ ∃ W, owes (c : Thread nD τ) O W) -∗ wp frame (wpE defs₀ 𝒱₀ (c : Thread nD τ) none) Set.univ k Q)
          -∗ wp frame (wpE defs₀ 𝒱₀ (c : Thread nD τ) none) Set.univ (P.wait c k s) Q) := by
  have main {s₁ s₂ : Shape} {e₁ e₂ : EltTy} (a : Memref sig .tc .hbm s₁ e₁) (b : Memref sig .tc .hbm s₂ e₂) (ha : a.view.WordExact) (hb : b.view.WordExact) (hN : b.view.dmaCredit = P.N s) :
      iprop(P.invs m K ∗ P.due1 c s ∗ ∃ W, owes (c : Thread nD τ) O W)
      ⊢ iprop(((P.got m c s ∗ ∃ W, owes (c : Thread nD τ) O W) -∗ wp frame (wpE defs₀ 𝒱₀ (c : Thread nD τ) none) Set.univ k Q)
          -∗ wp frame (wpE defs₀ 𝒱₀ (c : Thread nD τ) none) Set.univ (.op (.waitDma2 (P.sem s) a b ha hb) fun _ => k) Q) := by
    unfold due1 got
    iintro ⟨#HI, ⟨Ha, Hc⟩, ⟨%W, HO⟩⟩ Hk
    ihave #HI0 := (P.inv_at m K (c, s)) $$ HI
    iapply (Rounds.wp_wait_rest_token 𝒱₀ ER (P.sched m) (c : Thread nD τ) none (κ := K (c, s))
        (wpE_waitDma2_eq 𝒱₀ (c : Thread nD τ) none Set.univ) (Set.mem_univ _) () (O := O) (W := W) (R := 0) (m := 0) (T := ∅)
        (by rw [Nat.zero_add]; exact hN.trans (P.expect_zero m c s).symm)) $$ [Hc HO Ha]
    · isplitr; · iexact HI0
      isplitl [Hc]; · rw [hN]; iexact Hc
      isplitl [HO]; · iexact HO
      isplitr; · iapply hO; iapply (P.levs_at m K); iexact HI
      iexact Ha
    iintro ⟨HO, Ha, -, Hpay⟩
    ihave Hp := (Entails.of_eq (P.rest_eq m c s)) $$ Hpay
    imod (Rounds.cell_close ER (P.sched m) (Set.mem_univ (K (c, s))) (fun h => h) (R := 0 + 1) (P.duties_later m (P.cell (c, s)))) $$ [Ha] with Hz
    · isplitr; · iexact HI0
      iexact Ha
    iapply Hk
    isplitr [HO]
    · isplitl [Hp] <;> iassumption
    iexists (insert (P.osem s, ()) W); iexact HO
  match s with
  | .inl i => exact main _ _ _ _ (P.creditI c i)
  | .inr (.inl j) => exact main _ _ _ _ (P.creditS c j)
  | .inr (.inr j) => exact main _ _ _ _ (P.creditG c j)

/-- All waits. -/
theorem wp_waits (K : Dev nD × 𝕂 → ℕ) (c : Dev nD) (k : Prog (TpuEff nD τ sig (Elt F) Λ₀ .tc) PUnit) (Q : PUnit → sProp 𝕄) (l : List 𝕂) :
    iprop(P.invs m K ∗ bigSepL l (P.due1 c) ∗ ∃ W, owes (c : Thread nD τ) (0 : CellTallies nD τ sig Unit) W)
      ⊢ iprop(((bigSepL l (P.got m c) ∗ ∃ W, owes (c : Thread nD τ) (0 : CellTallies nD τ sig Unit) W) -∗ wp frame (wpE defs₀ 𝒱₀ (c : Thread nD τ) none) Set.univ k Q)
          -∗ wp frame (wpE defs₀ 𝒱₀ (c : Thread nD τ) none) Set.univ (l.foldr (fun s k => P.wait c k s) k) Q) := by
  induction l with
  | nil =>
    rw [bigSepL_nil, bigSepL_nil, List.foldr_nil]
    iintro ⟨-, H, HO⟩ Hk
    iapply Hk; isplitl [H] <;> iassumption
  | cons s l ih =>
    rw [bigSepL_cons', bigSepL_cons', List.foldr_cons]
    iintro ⟨#HI, ⟨Hs, Hl⟩, HO⟩ Hk
    iapply (P.wp_wait m defs₀ 𝒱₀ K c s 0 (by rw [MayWait_zero]; iintro -; iempintro) _ Q) $$ [Hs HO]
    · isplitr; · iexact HI
      isplitl [Hs] <;> iassumption
    iintro ⟨Hs, HO⟩
    iapply ih $$ [Hl HO]
    · isplitr; · iexact HI
      isplitl [Hl] <;> iassumption
    iintro ⟨Hl, HO⟩
    iapply Hk
    isplitr [HO]
    · isplitl [Hs] <;> iassumption
    iexact HO

/-- The copies that are passed on, each after the wait for what it passes on. -/
theorem wp_relays (hr : ∀ c j, P.late j = true → P.landed (F := F) m fullShare.right c (P.orig j) ⊢ P.fromJ m c j)
    (K : Dev nD × 𝕂 → ℕ) (c : Dev nD) (k : Prog (TpuEff nD τ sig (Elt F) Λ₀ .tc) PUnit) (Q : PUnit → sProp 𝕄) (l : List J) (hl : ∀ j ∈ l, P.late j = true)
    (ho : ∀ j ∈ l, P.late (P.orig j) = false) :
    iprop(P.invs m K ∗ bigSepL l (fun j => iprop(P.due1 c (.inr (.inr (P.orig j))) ∗ P.before m c (.inr j))) ∗ ∃ W, owes (c : Thread nD τ) (P.owed c (l.map .inr)) W)
      ⊢ iprop(((bigSepL l (fun j => iprop(P.had m c (.inr (.inr (P.orig j))) ∗ P.after c (.inr j))) ∗ ∃ W, owes (c : Thread nD τ) (0 : CellTallies nD τ sig Unit) W)
            -∗ wp frame (wpE defs₀ 𝒱₀ (c : Thread nD τ) none) Set.univ k Q)
          -∗ wp frame (wpE defs₀ 𝒱₀ (c : Thread nD τ) none) Set.univ (l.foldr (fun j k => P.wait c (P.start c k (.inr j)) (.inr (.inr (P.orig j)))) k) Q) := by
  induction l with
  | nil =>
    rw [bigSepL_nil, bigSepL_nil, List.foldr_nil, show P.owed c (([] : List J).map .inr) = 0 from rfl]
    iintro ⟨-, H, HO⟩ Hk
    iapply Hk; isplitl [H] <;> iassumption
  | cons j l ih =>
    have hj := hl j List.mem_cons_self
    rw [bigSepL_cons', bigSepL_cons', List.foldr_cons]
    iintro ⟨#HI, ⟨⟨Hw, Hb⟩, Hl⟩, HO⟩ Hk
    iapply (P.wp_wait m defs₀ 𝒱₀ K c (.inr (.inr (P.orig j))) (P.owed c ((j :: l).map .inr)) (P.mayWait c (P.orig j) (ho j List.mem_cons_self) (j :: l) hl) _ Q) $$ [Hw HO]
    · isplitr; · iexact HI
      isplitl [Hw] <;> iassumption
    rw [List.map_cons, owed_cons]
    unfold got; dsimp only [pay]
    iintro ⟨⟨Hp, Hz⟩, ⟨%W, HO⟩⟩
    ihave Hp := (P.halved m c (P.orig j)) $$ Hp
    icases Hp with ⟨Hp, Hq⟩
    ihave Hq := (hr c j hj) $$ Hq
    iapply (P.wp_start m defs₀ 𝒱₀ K c (.inr j) (P.owed c (l.map .inr)) W _ Q) $$ [Hb Hq HO]
    · isplitr; · iexact HI
      isplitr [HO]
      · iapply (P.ready_late m c j hj); isplitl [Hb] <;> iassumption
      iexact HO
    iintro ⟨Hs, HO⟩
    iapply (ih (fun i h => hl i (List.mem_cons_of_mem _ h)) fun i h => ho i (List.mem_cons_of_mem _ h)) $$ [Hl HO]
    · isplitr; · iexact HI
      isplitl [Hl]; · iexact Hl
      iexists W; iexact HO
    iintro ⟨Hl, HO⟩
    iapply Hk
    isplitr [HO]
    · isplitr [Hl]
      · unfold had half
        isplitr [Hs]
        · isplitl [Hp] <;> iassumption
        iexact Hs
      iexact Hl
    iexact HO

end Body

end Plan

end Cert.Exchange

end
-- ==== Proof.ExchangeRun.lean ====
/- The run of a call that only copies: every device's memory, semaphores and ghost state dealt at the launch, the
   body run, and what the devices hold at the end read off the final memory. -/
module

public import proofs.«01_k».proof.Proof.Exchange

@[expose] public section

noncomputable section

namespace Cert.Exchange.Plan

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {nD : ℕ} {τ : Topo} {sig : RefSig} {I J : Type} [Fintype I] [Fintype J] [DecidableEq I] [DecidableEq J]
variable {F : FTy → Type}

local notation "𝕄" => MT nD τ sig Unit (Elt F) ℕ (UU nD τ sig) ℕ
local notation "𝕂" => I ⊕ (J ⊕ J)

variable (P : Plan nD τ sig I J) (m : (ℓ : Loc nD τ sig) → Buf (Elt F) ℓ) (ρ : Dev nD → PrngReg)

/-! ## What a device holds -/

variable (R : Dev nD → sProp (MT nD τ sig Unit (Elt F) ℕ (UU nD τ sig) ℕ))

/-- Before the call: the invariants, its cells' positions, what its starts take, and what it keeps aside. -/
def held (c : Dev nD) : sProp 𝕄 :=
  iprop((∃ K, P.invs m K) ∗ (bigSep Finset.univ fun k : 𝕂 => atPos ER (P.cell (c, k)) 0 ∅ 0) ∗ bigSep Finset.univ (P.before m c) ∗ R c)
def creds (c : Dev nD) : sProp 𝕄 := bigSep Finset.univ fun j : J => P.credit c (.inr (.inr j))
def first (c : Dev nD) : sProp 𝕄 := iprop(P.held m R c ∗ P.creds (F := F) c)
/-- At the end: what it kept aside, and all that was copied. -/
def final (c : Dev nD) : sProp 𝕄 :=
  iprop(R c ∗ (bigSep Finset.univ fun i : I => P.atI c i (P.put m c i)) ∗ bigSep Finset.univ fun j : J => P.landed m fullShare.left c j)
def sems0 (c : Dev nD) : sProp 𝕄 := bigSep Finset.univ fun k : 𝕂 => semVal (P.cell (c, k)) 0

theorem by_sum {A B : Type} [Fintype A] [Fintype B] [DecidableEq A] [DecidableEq B] (Φ : A ⊕ B → sProp 𝕄) :
    bigSep Finset.univ Φ = iprop((bigSep Finset.univ fun a => Φ (.inl a)) ∗ bigSep Finset.univ fun b => Φ (.inr b)) := BI.bigSep_univ_sum Φ
theorem by_kind (Φ : I ⊕ (J ⊕ J) → sProp 𝕄) : bigSep Finset.univ Φ = iprop((bigSep Finset.univ fun i => Φ (.inl i)) ∗ (bigSep Finset.univ fun j => Φ (.inr (.inl j))) ∗ bigSep Finset.univ fun j => Φ (.inr (.inr j))) := by
  rw [by_sum, by_sum]
theorem listed {A : Type} [Fintype A] [DecidableEq A] (l : List A) (hl : l.Nodup) (h : ∀ a, a ∈ l) (Φ : A → sProp 𝕄) : bigSep Finset.univ Φ = bigSepL l Φ :=
  bigSep_univ_eq_bigSepL l (Finset.ext fun a => by simp [h a]) hl Φ

theorem paired {A : Type} (l : List A) (Φ Ψ : A → sProp 𝕄) : bigSepL l (fun a => iprop(Φ a ∗ Ψ a)) = iprop(bigSepL l Φ ∗ bigSepL l Ψ) := by
  induction l with
  | nil => rw [bigSepL_nil, bigSepL_nil, bigSepL_nil]; exact (equiv_iff.mp BI.emp_sep).symm
  | cons a l ih =>
    rw [bigSepL_cons', bigSepL_cons', bigSepL_cons', ih]
    refine BI.Entails.antisymm ?_ ?_
    · show iprop((Φ a ∗ Ψ a) ∗ bigSepL l Φ ∗ bigSepL l Ψ) ⊢ iprop((Φ a ∗ bigSepL l Φ) ∗ Ψ a ∗ bigSepL l Ψ)
      iintro ⟨⟨H1, H2⟩, H3, H4⟩
      isplitl [H1 H3]
      · isplitl [H1] <;> iassumption
      isplitl [H2] <;> iassumption
    · show iprop((Φ a ∗ bigSepL l Φ) ∗ Ψ a ∗ bigSepL l Ψ) ⊢ iprop((Φ a ∗ Ψ a) ∗ bigSepL l Φ ∗ bigSepL l Ψ)
      iintro ⟨⟨H1, H3⟩, H2, H4⟩
      isplitl [H1 H2]
      · isplitl [H1] <;> iassumption
      isplitl [H3] <;> iassumption

/-- What a call needs of its surroundings. -/
structure Fits {Λ₀ : Labels} (cfg0 : Cfg sig Λ₀) (main : Dev nD → Prog (TpuEff nD τ sig (Elt F) (Pipeline.Sig Λ₀ (Fin 1) fun p => ((fun _ : Fin 1 => cfg0.toPCfg (Val := Elt F)) p).Adm) .tc) PUnit) : Prop where
  starts_nodup : (P.starts ++ P.relays.map Sum.inr).Nodup
  starts_all : ∀ s, s ∈ P.starts ++ P.relays.map Sum.inr
  waits_nodup : (P.waits ++ P.relays.map fun j => Sum.inr (Sum.inr (P.orig j))).Nodup
  waits_all : ∀ k, k ∈ P.waits ++ P.relays.map fun j => Sum.inr (Sum.inr (P.orig j))
  starts_first : ∀ j, .inr j ∈ P.starts → P.late j = false
  relays_late : ∀ j ∈ P.relays, P.late j = true
  orig_first : ∀ j ∈ P.relays, P.late (P.orig j) = false
  noWindow : cfg0.W = 0
  one : cfg0.N = 1
  cellOf_inj : Function.Injective (Pipeline.cellOf (nD := nD) (τ := τ) fun _ : Fin 1 => cfg0)
  win : Pipeline.WinFacts cfg0.spec
  whole : ∀ w s, ((cfg0.spec w).stage s).IsWhole
  pos : ∀ w, 0 < (cfg0.spec w).block.numel
  own : Pipeline.OwnSemFacts cfg0.spec P.osem
  allScoped : ∀ sm : SemLoc sig, sm.isScoped .tc = true
  rest : ∀ c : Dev nD, (Pipeline.scopedRest (Ix := Unit) (Name := ℕ) (U := UU nD τ sig) (Lvl := ℕ) (Val := Elt F) cfg0.spec c : sProp 𝕄) = BI.emp
  main_eq : ∀ c, main c = .op (.customCall (Pipeline.entry 0) ()) fun _ => .ret ⟨⟩

/-- That what a copy passes on is what the other one brought. -/
abbrev PassesOn : Prop := ∀ c j, P.late j = true → P.landed (F := F) m fullShare.right c (P.orig j) ⊢ P.fromJ m c j

variable {Λ₀ : Labels} (defs₀ : Defs nD τ sig (Elt F) Λ₀) (cfg0 : Cfg sig Λ₀)
  (main : Dev nD → Prog (TpuEff nD τ sig (Elt F) (Pipeline.Sig Λ₀ (Fin 1) fun p => ((fun _ : Fin 1 => cfg0.toPCfg (Val := Elt F)) p).Adm) .tc) PUnit)

abbrev 𝒱₀ : Variants := Variants.none
abbrev cfgs : Fin 1 → Cfg sig Λ₀ := fun _ => cfg0
abbrev defs : Defs nD τ sig (Elt F) (Pipeline.Sig Λ₀ (Fin 1) fun p => ((fun _ : Fin 1 => cfg0.toPCfg (Val := Elt F)) p).Adm) :=
  Pipeline.defs (fun p => (cfgs cfg0 p).toPCfg) defs₀

variable {cfg0 main}
variable (H : P.Fits (F := F) cfg0 main) (hr : P.PassesOn m)
include H

include hr in
/-- The body: the first starts, the copies passed on, then the waits that are left. -/
theorem sound_body (c : Dev nD) (Kt : PUnit → sProp 𝕄) :
    iprop((P.first m R c ∗ ∃ W, owes (c : Thread nD τ) (P.O₀ c) W)
        ∗ (((P.final m R c ∗ P.sems0 (F := F) c) ∗ ∃ W, owes (c : Thread nD τ) (0 : CellTallies nD τ sig Unit) W) -∗ Kt ⟨⟩))
      ⊢ wp frame (wpE defs₀ 𝒱₀ (c : Thread nD τ) none) Set.univ (P.prog c) Kt := by
  have app {A : Type} (l l' : List A) (Φ : A → sProp 𝕄) : bigSepL (l ++ l') Φ = iprop(bigSepL l Φ ∗ bigSepL l' Φ) := bigSepL_append l l' Φ
  have nil {A : Type} (l : List A) (Φ : A → sProp 𝕄) (h : ∀ a ∈ l, Φ a = BI.emp) : bigSepL l Φ = BI.emp := by
    induction l with
    | nil => rfl
    | cons a l ih => rw [bigSepL_cons', h a List.mem_cons_self, ih fun b hb => h b (List.mem_cons_of_mem _ hb)]; exact equiv_iff.mp BI.emp_sep
  have split (Φ : I ⊕ (J ⊕ J) → sProp 𝕄) : bigSep Finset.univ Φ = iprop(bigSepL P.waits Φ ∗ bigSepL P.relays fun j => Φ (.inr (.inr (P.orig j)))) := by
    rw [listed _ H.waits_nodup H.waits_all, app, bigSepL_map]
  have hbefore : bigSep Finset.univ (P.before (F := F) m c) = iprop(bigSepL P.starts (P.before m c) ∗ bigSepL P.relays fun j => P.before m c (.inr j)) := by
    rw [listed _ H.starts_nodup H.starts_all, app, bigSepL_map]
  have hafter : iprop(bigSepL P.starts (P.after (F := F) c) ∗ bigSepL P.relays fun j => P.after (F := F) c (.inr j))
      = iprop((bigSep Finset.univ fun i => P.credit c (.inl i)) ∗ bigSep Finset.univ fun j => P.credit c (.inr (.inl j))) := by
    rw [← bigSepL_map Sum.inr P.relays (P.after (F := F) c), ← app, ← listed _ H.starts_nodup H.starts_all, by_sum]; rfl
  have hhad : iprop(bigSepL P.waits (P.had (F := F) m c) ∗ bigSepL P.relays fun j => P.had (F := F) m c (.inr (.inr (P.orig j))))
      ⊢ iprop(((bigSep Finset.univ fun i : I => P.atI c i (P.put m c i)) ∗ bigSep Finset.univ fun j : J => P.landed m fullShare.left c j) ∗ P.sems0 (F := F) c) := by
    rw [← split]; unfold had sems0; rw [bigSep_sep', by_kind (P.half m c)]
    iintro ⟨⟨H1, -, H2⟩, H3⟩
    isplitr [H3]
    · isplitl [H1]; · iexact H1
      iexact H2
    iexact H3
  classical
  -- the credit of what is waited for before a copy passes it on, apart from the others
  let mid (k : I ⊕ (J ⊕ J)) : Prop := k ∈ P.relays.map fun j => (Sum.inr (Sum.inr (P.orig j)) : I ⊕ (J ⊕ J))
  let inn (k : I ⊕ (J ⊕ J)) : sProp 𝕄 := if mid k then P.credit (F := F) c k else BI.emp
  let out (k : I ⊕ (J ⊕ J)) : sProp 𝕄 := if mid k then BI.emp else P.credit (F := F) c k
  have hmid (k : I ⊕ (J ⊕ J)) (h : ∀ j, k ≠ .inr (.inr j)) : ¬ mid k := fun hk => by obtain ⟨j, -, e⟩ := List.mem_map.mp hk; exact h _ e.symm
  have hwait (k : I ⊕ (J ⊕ J)) (hk : k ∈ P.waits) : ¬ mid k := fun hm => (List.nodup_append.mp H.waits_nodup).2.2 k hk k hm rfl
  have hrel (j : J) (hj : j ∈ P.relays) : mid (.inr (.inr (P.orig j))) := List.mem_map.mpr ⟨j, hj, rfl⟩
  have hcred : P.creds (F := F) c ⊢ iprop((bigSep Finset.univ fun j => out (.inr (.inr j))) ∗ bigSepL P.relays fun j => P.credit c (.inr (.inr (P.orig j)))) := by
    have e : bigSepL P.relays (fun j => P.credit (F := F) c (.inr (.inr (P.orig j)))) = bigSep Finset.univ fun j => inn (.inr (.inr j)) := by
      have h1 : bigSep Finset.univ inn = bigSep Finset.univ fun j => inn (.inr (.inr j)) := by
        rw [by_kind, bigSep_congr (Ψ := fun _ : I => (BI.emp : sProp 𝕄)) fun i _ => if_neg (hmid (.inl i) (by simp)), BI.bigSep_emp_const,
          bigSep_congr (Ψ := fun _ : J => (BI.emp : sProp 𝕄)) fun j _ => if_neg (hmid (.inr (.inl j)) (by simp)), BI.bigSep_emp_const]
        exact (equiv_iff.mp BI.emp_sep).trans (equiv_iff.mp BI.emp_sep)
      rw [← h1, split, nil P.waits inn fun k hk => if_neg (hwait k hk)]
      refine Eq.trans ?_ (equiv_iff.mp BI.emp_sep).symm
      exact BI.Entails.antisymm (bigSepL_mono fun j hj => Entails.of_eq (if_pos (hrel j hj)).symm) (bigSepL_mono fun j hj => Entails.of_eq (if_pos (hrel j hj)))
    rw [e, ← bigSep_sep']; unfold creds
    refine bigSep_mono fun j _ => ?_
    by_cases h : mid (.inr (.inr j))
    · rw [show out (.inr (.inr j)) = BI.emp from if_pos h, show inn (.inr (.inr j)) = P.credit c (.inr (.inr j)) from if_pos h]
      exact Entails.of_eq (equiv_iff.mp BI.emp_sep).symm
    · rw [show out (.inr (.inr j)) = P.credit c (.inr (.inr j)) from if_neg h, show inn (.inr (.inr j)) = BI.emp from if_neg h]
      exact Entails.of_eq (equiv_iff.mp BI.sep_emp).symm
  have hout : iprop((bigSep Finset.univ fun i => P.credit (F := F) c (.inl i)) ∗ (bigSep Finset.univ fun j => P.credit c (.inr (.inl j))) ∗ bigSep Finset.univ fun j => out (.inr (.inr j)))
      ⊢ bigSepL P.waits (P.credit (F := F) c) := by
    rw [bigSep_congr fun (i : I) _ => (if_neg (hmid (.inl i) (by simp)) : out (.inl i) = P.credit c (.inl i)).symm,
      bigSep_congr fun (j : J) _ => (if_neg (hmid (.inr (.inl j)) (by simp)) : out (.inr (.inl j)) = P.credit c (.inr (.inl j))).symm, ← by_kind out, split]
    iintro ⟨H, -⟩
    iapply (bigSepL_mono fun k hk => Entails.of_eq (if_neg (hwait k hk))); iexact H
  unfold prog first held final
  rw [hbefore, O₀, owed_append, split]
  iintro ⟨⟨⟨⟨⟨%K, #HI⟩, ⟨Ha, Ha'⟩, ⟨Hb, Hb'⟩, HR⟩, Hc⟩, ⟨%W, HO⟩⟩, Hk⟩
  ihave Hc := hcred $$ Hc
  icases Hc with ⟨Hc, Hc'⟩
  iapply (P.wp_starts m defs₀ 𝒱₀ K c (P.owed c (P.relays.map .inr)) W _ Kt P.starts H.starts_first) $$ [Hb HO]
  · isplitr; · iexact HI
    isplitl [Hb] <;> iassumption
  iintro ⟨Hf, HO⟩
  iapply (P.wp_relays m defs₀ 𝒱₀ hr K c _ Kt P.relays H.relays_late H.orig_first) $$ [Ha' Hb' Hc' HO]
  · isplitr; · iexact HI
    isplitr [HO]
    · unfold due1; rw [paired, paired]
      isplitl [Ha' Hc']
      · isplitl [Ha'] <;> iassumption
      iexact Hb'
    iexists W; iexact HO
  rw [paired]
  iintro ⟨⟨Hp', Hf'⟩, HO⟩
  ihave Hf := (Entails.of_eq hafter) $$ [Hf Hf']
  · isplitl [Hf] <;> iassumption
  icases Hf with ⟨Hf1, Hf2⟩
  iapply (P.wp_waits m defs₀ 𝒱₀ K c _ Kt P.waits) $$ [Ha Hf1 Hf2 Hc HO]
  · isplitr; · iexact HI
    isplitr [HO]
    · unfold due1; rw [paired]
      isplitl [Ha]; · iexact Ha
      iapply hout
      isplitl [Hf1]; · iexact Hf1
      isplitl [Hf2] <;> iassumption
    iexact HO
  iintro ⟨Hg, HO⟩
  ihave Hg := (bigSepL_mono (Ψ := P.had m c) fun k _ => P.half_of m c k) $$ Hg
  ihave Hg := hhad $$ [Hg Hp']
  · isplitl [Hg] <;> iassumption
  icases Hg with ⟨Hp, Hz⟩
  rw [wp_ret]; imodintro
  iapply Hk
  isplitr [HO]
  · isplitl [HR Hp]; · isplitl [HR] <;> iassumption
    iexact Hz
  iexact HO

/-! ## The call as a pipeline of one point and no window -/

theorem elimW (w : Fin cfg0.W) : False := Nat.not_lt_zero w.val (H.noWindow ▸ w.isLt)

def dats (_ : Fin 1) (c : Dev nD) : Dat τ (Elt F) Unit ℕ (UU nD τ sig) ℕ cfg0 c where
  A w := (P.elimW H w).elim
  after w _ := (P.elimW H w).elim
  Φ t := if t.val = 0 then P.first m R c else iprop(P.final m R c ∗ P.sems0 (F := F) c)
  q w := (P.elimW H w).elim
  owed t := if t.val = 0 then P.O₀ c else 0

theorem bigSep_W (Φ : Fin cfg0.W → sProp 𝕄) : bigSep Finset.univ Φ = BI.emp := by
  rw [show (Finset.univ : Finset (Fin cfg0.W)) = ∅ from Finset.eq_empty_of_forall_notMem fun w _ => P.elimW H w, BI.bigSep_empty]

/-- That the call's body is the plan's program. -/
abbrev Runs (P : Plan nD τ sig I J) (defs₀ : Defs nD τ sig (Elt F) Λ₀) (cfg0 : Cfg sig Λ₀) : Prop := ∀ (c : Dev nD) (t : Fin cfg0.N) (X : sProp 𝕄),
  wp frame (wpE defs₀ 𝒱₀ (c : Thread nD τ) none) Set.univ (P.prog c) (fun _ => X) ⊢ wp frame (wpE defs₀ 𝒱₀ (c : Thread nD τ) none) Set.univ (defs₀ .tc cfg0.body (cfg0.bodyArgs t (cfg0.slots t))) fun _ => X
variable (hprog : Runs (F := F) P defs₀ cfg0)

include hprog hr in
theorem body_obligation (c : Dev nD) : BodyObligation (P.dats m R H 0 c) defs₀ 𝒱₀ () Set.univ := fun t => by
  have h0 : t.castSucc.val = 0 := by have := t.isLt; have := H.one; show t.val = 0; omega
  have h1 : ¬ t.succ.val = 0 := Nat.succ_ne_zero _
  rw [P.bigSep_W H, P.bigSep_W H]
  unfold Dat.owesAt Pipeline.owesWithin
  rw [show (P.dats m R H 0 c).owed t.castSucc = P.O₀ c from if_pos (e := 0) h0, show (P.dats m R H 0 c).owed t.succ = 0 from if_neg (t := P.O₀ c) h1,
    show (P.dats m R H 0 c).Φ t.castSucc = P.first m R c from if_pos (e := iprop(P.final m R c ∗ P.sems0 (F := F) c)) h0, show (P.dats m R H 0 c).Φ t.succ = iprop(P.final m R c ∗ P.sems0 (F := F) c) from if_neg (t := P.first m R c) h1]
  iintro ⟨Hs, ⟨%W, -, HO⟩, -⟩
  iapply (hprog c t _)
  iapply (P.sound_body m R defs₀ H hr c _)
  isplitr []
  · isplitl [Hs]; · iexact Hs
    iexists W; iexact HO
  · iintro ⟨HF, ⟨%W', HO⟩⟩
    isplitl [HF]; · iexact HF
    isplitl [HO]
    · iexists W'
      isplitr; · ipureintro; exact fun _ _ => Or.inl trivial
      iexact HO
    iempintro

/-! ## The launch: every device's memory, semaphores and ghost state regrouped at once -/
omit H

def allCells : Finset (GSem nD τ sig) := Finset.univ.map ⟨P.cell, P.cell_inj⟩
def allToks : Finset (GSem nD τ sig × ℕ × Unit) :=
  Finset.univ.map ⟨fun ck : Dev nD × 𝕂 => (P.cell ck, 0, ()), fun _ _ h => P.cell_inj (congrArg Prod.fst h)⟩

/-- The protocol's ghost state of one device's cells, before the invariants are made. -/
def ghost (c : Dev nD) : sProp 𝕄 :=
  iprop((bigSep Finset.univ fun k : 𝕂 => roundState ER (P.sched m) (P.cell (c, k)) 0)
    ∗ (bigSep Finset.univ fun k : 𝕂 => atPos ER (P.cell (c, k)) 0 ∅ 0)
    ∗ (bigSep Finset.univ fun k : 𝕂 => reached ER (P.cell (c, k)) 0)
    ∗ bigSep Finset.univ fun k : 𝕂 => dutyTok ER (P.cell (c, k)) 0 ())

theorem fund_cells : BI.own (ER (initOf P.allCells P.allToks)) ⊢ (|==> bigSep Finset.univ (P.ghost m) : sProp 𝕄) := by
  have hX (Φ : GSem nD τ sig → sProp 𝕄) : bigSep P.allCells Φ = bigSep Finset.univ fun c : Dev nD => bigSep Finset.univ fun k : I ⊕ (J ⊕ J) => Φ (P.cell (c, k)) := by
    unfold allCells; rw [bigSep_map, bigSep_univ_prod]; rfl
  have hT : bigSep P.allToks (fun x => (dutyTok ER x.1 x.2.1 x.2.2 : sProp 𝕄))
      = bigSep Finset.univ fun c : Dev nD => bigSep Finset.univ fun k : I ⊕ (J ⊕ J) => dutyTok ER (P.cell (c, k)) 0 () := by
    unfold allToks; rw [bigSep_map, bigSep_univ_prod]; rfl
  iintro HX
  imod (Rounds.fund ER (P.sched m) P.allCells P.allToks) $$ HX with ⟨Hst, Hr, Hat, Htok⟩
  imodintro
  ihave Hst' := (Entails.of_eq (hX fun g => roundState ER (P.sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold ghost; simp only [bigSep_sep']
  isplitl [Hst']; · iexact Hst'
  isplitl [Hat']; · iexact Hat'
  isplitl [Hr'] <;> iassumption

/-- A device's memory as it is at the launch: what it keeps, the ends of its own copies, and where its peers' land. -/
def mem₁ (c : Dev nD) : sProp 𝕄 :=
  iprop(R c ∗ (bigSep Finset.univ fun i : I => iprop(P.fromI m c i ∗ P.atI c i (m ((P.dstI c i).view.loc (c : Thread nD τ)))))
    ∗ (bigSep Finset.univ fun j : J => P.early m c j)
    ∗ bigSep Finset.univ fun j : J => P.atJ ((P.peer j).symm c) j c (m ((P.dstJ ((P.peer j).symm c) j).view.loc (c : Thread nD τ))))

/-- The invariants of all cells made, each under a name of its own. -/
theorem all_invs : iprop((bigSep Finset.univ fun c : Dev nD => bigSep Finset.univ fun k : I ⊕ (J ⊕ J) => semVal (P.cell (c, k)) 0)
      ∗ bigSep Finset.univ fun c : Dev nD => bigSep Finset.univ fun k : I ⊕ (J ⊕ J) => roundState ER (P.sched m) (P.cell (c, k)) 0)
    ⊢ (|={Set.univ}=> iprop(∃ K : Dev nD × (I ⊕ (J ⊕ J)) → ℕ, bigSep Finset.univ fun ck : Dev nD × (I ⊕ (J ⊕ J)) => cellInv ER (P.sched m) (K ck) (P.cell ck)) : sProp 𝕄) := by
  rw [← bigSep_univ_prod (fun ck : Dev nD × (I ⊕ (J ⊕ J)) => (semVal (P.cell ck) 0 : sProp 𝕄)),
    ← bigSep_univ_prod (fun ck : Dev nD × (I ⊕ (J ⊕ J)) => roundState ER (P.sched m) (P.cell ck) 0), ← bigSep_sep']
  exact ((bigSep_mono fun ck _ => (Rounds.body_intro ER (P.sched m) (P.cell ck)).trans inv_alloc).trans (bigSep_fupd _ _)).trans
    (BI.fupd_mono (BI.bigSep_exists_pi Finset.univ fun (ck : Dev nD × (I ⊕ (J ⊕ J))) (κ : ℕ) => (cellInv ER (P.sched m) κ (P.cell ck) : sProp 𝕄)))

/-- Handed from every device to its peer, copy by copy. -/
def across : Dev nD × J ≃ Dev nD × J where
  toFun x := (P.peer x.2 x.1, x.2)
  invFun x := ((P.peer x.2).symm x.1, x.2)
  left_inv x := by simp
  right_inv x := by simp
theorem handed (Φ : Dev nD → J → sProp 𝕄) : (bigSep Finset.univ fun c : Dev nD => bigSep Finset.univ fun j : J => Φ c j)
    = bigSep Finset.univ fun c : Dev nD => bigSep Finset.univ fun j : J => Φ (P.peer j c) j := by
  rw [← bigSep_univ_prod (fun x : Dev nD × J => Φ x.1 x.2), ← bigSep_univ_prod (fun x : Dev nD × J => Φ (P.peer x.2 x.1) x.2), bigSep_univ_equiv P.across]; rfl

/-- Every cell given its level. -/
theorem levels_made : (bigSep Finset.univ fun c : Dev nD => (levels0 c : sProp 𝕄)) ⊢ (|==> P.levs : sProp 𝕄) := by
  refine (bigSep_mono (Ψ := fun c : Dev nD => (iprop(|==> ((bigSep Finset.univ fun sm : SemLoc sig => levels ((c : Thread nD τ), sm) (levL ((c : Thread nD τ), sm))) ∗ coreLevAts (c : Thread nD τ) levL P.lev)) : sProp 𝕄))
    fun c _ => lev_assign_cells (c : Thread nD τ) levL P.lev).trans ((BI.bigSep_bupd _ _).trans (BI.bupd_mono ?_))
  have hsc : (bigSep Finset.univ fun d : Dev nD => bigSep (Finset.univ.erase Proc.tc) fun p => (coreLevAts ((d, p) : Thread nD τ) levL P.lev : sProp 𝕄)) = BI.emp := by
    rw [bigSep_congr (Ψ := fun _ : Dev nD => (BI.emp : sProp 𝕄)) fun d _ => (bigSep_congr (Ψ := fun _ : Proc τ => (BI.emp : sProp 𝕄)) fun p hp => by
      unfold coreLevAts
      rw [bigSep_congr (Ψ := fun _ : SemLoc sig => (BI.emp : sProp 𝕄)) fun sm _ => by
        rw [show levL (((d, p) : Thread nD τ), sm) = ∅ from if_neg (Finset.ne_of_mem_erase hp), BI.bigSep_empty], BI.bigSep_emp_const]).trans (BI.bigSep_emp_const _), BI.bigSep_emp_const]
  rw [show (P.levs : sProp 𝕄) = bigSep Finset.univ fun c : Thread nD τ => coreLevAts c levL P.lev
    from (bigSep_univ_prod fun g : GSem nD τ sig => bigSep (levL g) fun ι => levAt g ι (P.lev g ι)), bigSep_threads (fun c : Thread nD τ => coreLevAts c levL P.lev), hsc, bigSep_sep']
  have drop (X Y : sProp 𝕄) : iprop(X ∗ Y) ⊢ iprop(Y ∗ BI.emp) := by
    iintro ⟨-, H⟩
    isplitl [H]; · iexact H
    iempintro
  exact drop _ _

/-- Every device's holdings dealt: a receive cell's token and the part that is written go to the peer that sends. -/
theorem deal : iprop((bigSep Finset.univ fun c : Dev nD => P.sems0 (F := F) c) ∗ (bigSep Finset.univ fun c : Dev nD => P.mem₁ m R c) ∗ (bigSep Finset.univ (P.ghost m)) ∗ P.levs)
    ⊢ (|={Set.univ}=> bigSep Finset.univ (P.held m R) : sProp 𝕄) := by
  have kinds (Φ : Dev nD × (I ⊕ (J ⊕ J)) → sProp 𝕄) : (bigSep Finset.univ fun c : Dev nD => bigSep Finset.univ fun k : I ⊕ (J ⊕ J) => Φ (c, k))
      = iprop((bigSep Finset.univ fun c : Dev nD => bigSep Finset.univ fun i => Φ (c, .inl i)) ∗ (bigSep Finset.univ fun c : Dev nD => bigSep Finset.univ fun j => Φ (c, .inr (.inl j)))
        ∗ bigSep Finset.univ fun c : Dev nD => bigSep Finset.univ fun j => Φ (c, .inr (.inr j))) := by
    rw [bigSep_congr fun (c : Dev nD) _ => by_kind (fun k => Φ (c, k))]; simp only [bigSep_sep']
  have hland (c : Dev nD) (j : J) : P.atJ ((P.peer j).symm (P.peer j c)) j (P.peer j c) (m ((P.dstJ ((P.peer j).symm (P.peer j c)) j).view.loc (P.peer j c : Thread nD τ)))
      = (P.atJ c j (P.peer j c) (m ((P.dstJ c j).view.loc (P.peer j c : Thread nD τ))) : sProp 𝕄) := by rw [Equiv.symm_apply_apply]
  have hbefore : (bigSep Finset.univ fun c : Dev nD => bigSep Finset.univ (P.before (F := F) m c))
      = iprop((bigSep Finset.univ fun c : Dev nD => bigSep Finset.univ fun i => P.before m c (.inl i)) ∗ bigSep Finset.univ fun c : Dev nD => bigSep Finset.univ fun j => P.before m c (.inr j)) := by
    rw [bigSep_congr fun (c : Dev nD) _ => by_sum (P.before (F := F) m c), bigSep_sep']
  unfold ghost mem₁ sems0 held
  simp only [bigSep_sep']
  rw [hbefore]
  dsimp only [before]
  simp only [bigSep_sep']
  iintro ⟨Hv, ⟨HR, ⟨Hs1, Hd1⟩, Hs2, Hd2⟩, ⟨Hst, Hat, Hr, Htok⟩, #HL⟩
  imod (P.all_invs m) $$ [Hv Hst] with ⟨%K, #HI⟩
  · isplitl [Hv] <;> iassumption
  imodintro
  ihave #Hr := (Entails.of_eq (bigSep_univ_prod (fun ck : Dev nD × (I ⊕ (J ⊕ J)) => (reached ER (P.cell ck) 0 : sProp 𝕄))).symm) $$ Hr
  ihave Htok := (Entails.of_eq (kinds fun ck => dutyTok ER (P.cell ck) 0 ())) $$ Htok
  icases Htok with ⟨Ht0, Ht1, Ht2⟩
  ihave Ht2 := (Entails.of_eq (P.handed (fun c j => (dutyTok ER (P.cell (c, .inr (.inr j))) 0 () : sProp 𝕄)))) $$ Ht2
  ihave Hd2 := (Entails.of_eq ((P.handed (fun c j => P.atJ ((P.peer j).symm c) j c (m ((P.dstJ ((P.peer j).symm c) j).view.loc (c : Thread nD τ))))).trans
    (bigSep_congr fun c _ => bigSep_congr fun j _ => hland c j))) $$ Hd2
  isplitr
  · iapply (BI.bigSep_intro_persistent (S := Finset.univ) fun (c : Dev nD) _ =>
      (show iprop((bigSep Finset.univ fun ck : Dev nD × (I ⊕ (J ⊕ J)) => cellInv ER (P.sched m) (K ck) (P.cell ck)) ∗ (bigSep Finset.univ fun ck : Dev nD × (I ⊕ (J ⊕ J)) => (reached ER (P.cell ck) 0 : sProp 𝕄)) ∗ P.levs)
        ⊢ iprop(∃ K, P.invs m K) from by unfold invs; iintro H; iexists K; iexact H))
    isplitl; · iexact HI
    isplitl; · iexact Hr
    iexact HL
  isplitl [Hat]; · iexact Hat
  isplitr [HR]
  · isplitl [Ht0 Hs1 Hd1]
    · isplitl [Ht0]; · iexact Ht0
      isplitl [Hs1] <;> iassumption
    isplitl [Ht1 Ht2]
    · isplitl [Ht1] <;> iassumption
    isplitl [Hs2] <;> iassumption
  iexact HR

/-! ### The launch credit -/
include H

theorem owed_recv (d c : Dev nD) (j : J) : P.O₀ d (P.cell (c, .inr (.inr j))) () = if d = (P.peer j).symm c then P.nJ j else 0 := by
  have hs : P.O₀ d = ∑ s : I ⊕ J, P.due d s := by
    unfold O₀ owed
    rw [show (Finset.univ : Finset (I ⊕ J)) = (P.starts ++ P.relays.map Sum.inr).toFinset from Finset.ext fun a => iff_of_true (Finset.mem_univ a) (List.mem_toFinset.mpr (H.starts_all a)),
      List.sum_toFinset _ H.starts_nodup]
  rw [hs, Fintype.sum_sum_type, Finset.sum_eq_zero (s := Finset.univ) (f := fun i => P.due d (.inl i)) (fun _ _ => rfl), zero_add, Finset.sum_apply, Finsupp.finset_sum_apply]
  have h (s : J) : P.due d (.inr s) (P.cell (c, .inr (.inr j))) () = if s = j then (if d = (P.peer j).symm c then P.nJ j else 0) else 0 := by
    show tallyAt (P.cell (P.peer s d, .inr (.inr s))) () (P.nJ s) (P.cell (c, .inr (.inr j))) () = _
    rw [tallyAt_apply]
    by_cases hs : s = j
    · subst hs; rw [if_pos rfl]
      by_cases h : d = (P.peer s).symm c
      · subst h; rw [Equiv.apply_symm_apply, if_pos ⟨rfl, rfl⟩, if_pos rfl]
      · rw [if_neg (fun h1 => h (by
          have h2 : c = P.peer s d := congrArg (fun g : GSem nD τ sig => g.1.1) h1.1
          rw [h2, Equiv.symm_apply_apply])), if_neg h]
    · rw [if_neg hs, if_neg (fun h1 => hs (Sum.inr.inj (Sum.inr.inj (congrArg Prod.snd (P.cell_inj h1.1)))).symm)]
  rw [Finset.sum_congr rfl fun s _ => h s, Finset.sum_ite_eq' Finset.univ j, if_pos (Finset.mem_univ _)]
theorem launch_creds (c : Dev nD) : (Pipeline.launchCred P.O₀ c : sProp 𝕄) ⊢ P.creds c := by
  have h (j : J) : tallyOn (P.cell (c, .inr (.inr j))) (launchCredit (Pipeline.owing P.O₀) 0 (P.cell (c, .inr (.inr j)))) = (tallyAt (P.cell (c, .inr (.inr j))) () (P.nJ j) : CellTallies nD τ sig Unit) := by
    unfold tallyAt; refine congrArg _ (Finsupp.ext fun u => ?_); cases u
    rw [Pipeline.launchCredit_owing, Finsupp.single_eq_same, Finset.sum_congr rfl fun d _ => P.owed_recv H d c j, Finset.sum_ite_eq' Finset.univ ((P.peer j).symm c) fun _ => P.nJ j,
      if_pos (Finset.mem_univ _)]
  have hinj : Set.InjOn (fun j : J => P.osem (.inr (.inr j))) (Finset.univ : Finset J) := fun s _ t _ e => Sum.inr.inj (Sum.inr.inj (P.osem_inj e))
  unfold creds credit; rw [bigSep_congr fun t _ => congrArg (fun x => (cred x : sProp 𝕄)) (h t).symm]
  unfold Pipeline.launchCred
  refine (keep (Finset.subset_univ (Finset.univ.image fun j : J => P.osem (.inr (.inr j)))) _).trans (Entails.of_eq ?_)
  exact bigSep_image_of_injOn hinj _

/-! ## The run -/

/-- What a device holds when @main begins, and when it has returned. -/
def pre (c : Dev nD) : sProp 𝕄 :=
  iprop(scopedBufs (c : Thread nD τ) ∗ Pipeline.cellsSems0 (cfgs cfg0) 0 c ∗ Pipeline.idleSems0 (cfgs cfg0) H.cellOf_inj 0 H.own c ∗ owes (c : Thread nD τ) (P.O₀ c) ∅
    ∗ Pipeline.launchCred P.O₀ c ∗ Pipeline.cellsGhost (cfgs cfg0) EP 0 c ∗ Pipeline.toksInit (cfgs cfg0) EP 0 c ∗ P.held m R c)
omit H in
def fin (c : Dev nD) : sProp 𝕄 := iprop(P.final m R c ∗ scopedSems0 (c : Thread nD τ))
def u₀ : UU nD τ sig := (initOf (Pipeline.cells (cfgs cfg0) H.cellOf_inj) (Pipeline.launchToks (cfgs cfg0) H.cellOf_inj), initOf P.allCells P.allToks)

theorem sems_split (c : Dev nD) : (scopedSems0 (c : Thread nD τ) : sProp 𝕄)
    = iprop((Pipeline.cellsSems0 (cfgs cfg0) 0 c ∗ P.sems0 (F := F) c) ∗ Pipeline.idleSems0 (cfgs cfg0) H.cellOf_inj 0 H.own c) :=
  Pipeline.scopedSems0_split (cfgs cfg0) H.cellOf_inj 0 H.win.to₀ H.own c
theorem bufs_split (c : Dev nD) : (scopedBufs (c : Thread nD τ) : sProp 𝕄) = iprop(Dat.staging cfg0 c ∗ Pipeline.scopedRest cfg0.spec c) :=
  Pipeline.scopedBufs_split (cfgs cfg0) 0 H.win.stage_scoped H.win.stage_inj H.whole c

variable (hmem : ∀ c : Dev nD, (unscopedBufs c (fun b => m ((c : Thread nD τ).loc b)) : sProp (MT nD τ sig Unit (Elt F) ℕ (UU nD τ sig) ℕ)) ⊢ P.mem₁ m R c)

include hmem in
/-- One device's share of the launch. -/
theorem core_init (c : Dev nD) :
    (coreInit (Pipeline.owing P.O₀) 0 (⟨m, fun _ => 0, ρ⟩ : MemSt nD τ sig (Elt F)) (c : Thread nD τ) : sProp 𝕄)
      ⊢ iprop((scopedBufs (c : Thread nD τ) ∗ Pipeline.cellsSems0 (cfgs cfg0) 0 c ∗ Pipeline.idleSems0 (cfgs cfg0) H.cellOf_inj 0 H.own c ∗ owes (c : Thread nD τ) (P.O₀ c) ∅
          ∗ Pipeline.launchCred P.O₀ c) ∗ P.sems0 (F := F) c ∗ P.mem₁ m R c ∗ levels0 c) := by
  refine (Pipeline.coreInit_boundary_owing P.O₀ m ρ c).trans ?_
  unfold boundary
  rw [P.sems_split H]
  iintro ⟨⟨Hsc, ⟨⟨Hcells, Hos⟩, Hidle⟩, -⟩, Hub, -, HO, HL, -, Hcr⟩
  isplitr [Hos Hub HL]
  · isplitl [Hsc]; · iexact Hsc
    isplitl [Hcells]; · iexact Hcells
    isplitl [Hidle]; · iexact Hidle
    isplitl [HO] <;> iassumption
  isplitl [Hos]; · iexact Hos
  isplitl [Hub]; · iapply (hmem c); iexact Hub
  iexact HL

include hmem in
/-- The launch of the machine: every device gets what it begins with. -/
theorem launch : iprop((bigSep Finset.univ fun d : Dev nD => coreInit (Pipeline.owing P.O₀) 0 (⟨m, fun _ => 0, ρ⟩ : MemSt nD τ sig (Elt F)) (d : Thread nD τ)) ∗ ownU (P.u₀ H))
    ⊢ (|={Set.univ}=> iprop(∃ _ : Unit, bigSep Finset.univ (P.pre m R H) ∗ emp) : sProp 𝕄) := by
  have hcores : (bigSep Finset.univ fun c : Dev nD => (coreInit (Pipeline.owing P.O₀) 0 (⟨m, fun _ => 0, ρ⟩ : MemSt nD τ sig (Elt F)) (c : Thread nD τ) : sProp 𝕄)) ⊢ _ :=
    bigSep_mono fun c _ => P.core_init m ρ R H hmem c
  simp only [bigSep_sep'] at hcores
  have hpick (Φ : Fin 1 → Dev nD → sProp 𝕄) :
      (bigSep Finset.univ fun c : Dev nD => bigSep Finset.univ fun p => Φ p c) ⊢ bigSep Finset.univ fun c : Dev nD => Φ 0 c :=
    bigSep_mono fun c _ => bigSep_elim (Finset.mem_univ 0)
  iintro ⟨Hcores, Hu⟩
  ihave Hc := hcores $$ Hcores
  icases Hc with ⟨⟨Hsc, Hcells, Hidle, HO, Hcr⟩, Hos, Hm, HL⟩
  imod P.levels_made $$ HL with HL
  unfold u₀
  ihave H := (ownU_pair _ _) $$ Hu
  icases H with ⟨HP, HX⟩
  imod (P.fund_cells m) $$ HX with HG
  imod (Pipeline.fund_ghost (cfgs cfg0) EP H.cellOf_inj) $$ HP with ⟨Hg, Ht⟩
  imod (P.deal m R) $$ [Hos Hm HG HL] with Hheld
  · isplitl [Hos]; · iexact Hos
    isplitl [Hm]; · iexact Hm
    isplitl [HG] <;> iassumption
  imodintro
  iexists ()
  isplitl
  · unfold pre; simp only [bigSep_sep']
    isplitl [Hsc]; · iexact Hsc
    isplitl [Hcells]; · iexact Hcells
    isplitl [Hidle]; · iexact Hidle
    isplitl [HO]; · iexact HO
    isplitl [Hcr]; · iexact Hcr
    isplitl [Hg]; · iapply (hpick fun p c => Pipeline.cellsGhost (cfgs cfg0) EP p c); iexact Hg
    isplitl [Ht]; · iapply (hpick fun p c => Pipeline.toksInit (cfgs cfg0) EP p c); iexact Ht
    iexact Hheld
  · iempintro

variable [FloatOps F]

include hprog hr in
/-- One device's run of @main: the call, then the return. -/
theorem core_run (c : Dev nD) :
    P.pre m R H c ⊢ wp frame (wpE (defs defs₀ cfg0) (Variants.lift 𝒱₀) (c : Thread nD τ) none) Set.univ (main c) (fun _ => post (liftTc (P.fin m R) BI.emp) (c : Thread nD τ)) := by
  have hΦ0 : (P.dats m R H 0 c).Φ 0 = P.first m R c := if_pos (c := (0 : Fin (cfg0.N + 1)).val = 0) (e := iprop(P.final m R c ∗ P.sems0 (F := F) c)) rfl
  have hΦ1 : (P.dats m R H 0 c).Φ (Fin.last cfg0.N) = iprop(P.final m R c ∗ P.sems0 (F := F) c) := if_neg (by show ¬ cfg0.N = 0; rw [H.one]; decide)
  have hO0 : (P.dats m R H 0 c).owed 0 = P.O₀ c := if_pos (c := (0 : Fin (cfg0.N + 1)).val = 0) (e := 0) rfl
  have hO1 : (P.dats m R H 0 c).owed (Fin.last cfg0.N) = 0 := if_neg (by show ¬ cfg0.N = 0; rw [H.one]; decide)
  have hout : iprop((P.dats m R H 0 c).Φ (Fin.last cfg0.N) ∗ Pipeline.cellsSems0 (cfgs cfg0) 0 c ∗ Dat.staging cfg0 c ∗ Pipeline.idleSems0 (cfgs cfg0) H.cellOf_inj 0 H.own c)
      ⊢ iprop(P.final m R c ∗ scopedSems0 (c : Thread nD τ) ∗ scopedBufs (c : Thread nD τ)) := by
    rw [hΦ1, P.sems_split H, P.bufs_split H, H.rest]
    iintro ⟨⟨HF, Hos⟩, Hcells, Hst, Hidle⟩
    isplitl [HF]; · iexact HF
    isplitl [Hcells Hos Hidle]
    · isplitl [Hcells Hos]; · isplitl [Hcells] <;> iassumption
      iexact Hidle
    isplitl [Hst]; · iexact Hst
    iempintro
  have hwaits : (iprop(⌜True⌝) : sProp 𝕄) ⊢ Pipeline.cellsWaits (cfgs cfg0) (P.dats m R H) () 0 c :=
    Pipeline.cellsWaits_intro (cfgs cfg0) (P.dats m R H) () 0 c fun w => (P.elimW H w).elim
  unfold pre
  rw [H.main_eq]
  iintro ⟨Hsc, Hcells, Hidle, HO, Hcr, Hg, Ht, Hheld⟩
  iapply (fupd_wp frame (wpE (defs defs₀ cfg0) (Variants.lift 𝒱₀) (c : Thread nD τ) none) Set.univ _ _)
  imod (Pipeline.cellsInit_alloc (cfgs cfg0) (P.dats m R H) EP H.cellOf_inj 0 c) $$ [Hcells Hg] with ⟨%κ, -, Hinit⟩
  · isplitl [Hcells] <;> iassumption
  imodintro
  ihave Hcr := (P.launch_creds H c) $$ Hcr
  have hin : iprop(P.first m R c ∗ Pipeline.prefHeld ((cfgs cfg0 0).toPCfg (Val := Elt F)).pre c (fun k => k.elim0) (((cfgs cfg0 0).toPCfg_adm (Val := Elt F)).1) ∗ Pipeline.scopedRest cfg0.spec c)
      ⊢ (P.dats m R H 0 c).Φ 0 := by
    rw [hΦ0]; iintro ⟨H, -⟩; iexact H
  have hcall := Pipeline.wp_customCall_entry_frame (fun p => (cfgs cfg0 p).toPCfg (Val := Elt F)) (fun p => (cfgs cfg0 p).toPCfg_adm) (P.dats m R H) () EP κ H.cellOf_inj 0 defs₀ 𝒱₀
      (fun k => k.elim0) c Set.univ (fun _ _ => Set.mem_univ _) (P.body_obligation m R defs₀ H hr hprog c).loose H.pos none (fun u h => nomatch h)
      (X := P.first m R c) (Y := P.final m R c) (R := Pipeline.scopedRest cfg0.spec c) (I := Pipeline.idleSems0 (cfgs cfg0) H.cellOf_inj 0 H.own c)
      (Entails.of_eq (P.bufs_split H c)) hin hout
      (k := fun _ => (Prog.ret PUnit.unit : Prog (TpuEff nD τ sig (Elt F) _ _) PUnit)) (Q := fun _ => post (liftTc (P.fin m R) BI.emp) (c : Thread nD τ))
  iapply hcall $$ [HO Hinit Ht Hcr Hheld Hidle Hsc]
  · isplitl [HO Hinit Ht]
    · unfold Pipeline.EntryPre Pipeline.PerCore.EntryPre Dat.owesAt Pipeline.owesWithin
      isplitr
      · unfold Dat.arrays; rw [P.bigSep_W H]; iempintro
      isplitl [HO]
      · iexists ∅; isplitr; · ipureintro; rw [Finset.coe_empty]; exact Set.empty_subset _
        rw [show (P.dats m R H 0 c).owed 0 = P.O₀ c from hO0]; iexact HO
      isplitr; · iapply hwaits; ipureintro; trivial
      isplitl [Hinit] <;> iassumption
    isplitr
    · unfold Pipeline.prefHeld
      rw [show (Finset.univ : Finset (Fin 0)) = ∅ from rfl, BI.bigSep_empty]; iempintro
    isplitl [Hcr Hheld]
    · unfold first; isplitl [Hheld] <;> iassumption
    isplitl [Hidle] <;> iassumption
  iintro ⟨Hpost, HF, Hss, -⟩
  rw [wp_ret]; imodintro
  unfold post; simp only [liftTc_tc, fin]
  unfold Pipeline.EntryPost Pipeline.PerCore.EntryPost Dat.owesAt Pipeline.owesWithin
  icases Hpost with ⟨-, ⟨%W, -, HO⟩⟩
  isplitr [HO]
  · isplitl [HF] <;> iassumption
  · iexists W; rw [← hO1]; iexact HO

variable (Ends : Dev nD → MemSt nD τ sig (Elt F) → Prop)
variable (hread : ∀ (c : Dev nD) (s' : Phys nD τ sig (Elt F)), iprop(P.final m R c ∗ SI s') ⊢ |={Set.univ}=> iprop(⌜Ends c s'.mem⌝ ∗ SI s'))

omit H in
include hread in
theorem core_read (c : Dev nD) (s' : Phys nD τ sig (Elt F)) : iprop(P.fin m R c ∗ SI s') ⊢ |={Set.univ}=>
    iprop(⌜Ends c s'.mem ∧ ∀ sm : SemLoc sig, sm.isScoped .tc = true → s'.mem.sem ((c : Thread nD τ), sm) = 0⌝ ∗ SI s') := by
  unfold fin
  iintro ⟨⟨HF, Hss⟩, HSI⟩
  ihave %hz := (tcScoped_read_pers c s') $$ [Hss HSI]
  · isplitl [Hss] <;> iassumption
  imod (hread c s') $$ [HF HSI] with ⟨%he, HSI⟩
  · isplitl [HF] <;> iassumption
  imodintro
  isplitr
  · ipureintro; exact ⟨he, hz⟩
  iexact HSI

include hprog hr hmem hread in
/-- From any memory with zero counters every device's @main ends, with what was copied as named, and every counter at zero. -/
theorem run_main : θ_run (defs defs₀ cfg0) (onTc (τ := τ) main) (⟨m, fun _ => 0, ρ⟩ : MemSt nD τ sig (Elt F)) (fun r => (∀ c, Ends c r.2) ∧ r.2.sem = fun _ => 0) := by
  refine (θ_run _ _ _).mono (Q := fun r => (∀ c : Dev nD, Ends c r.2 ∧ ∀ sm : SemLoc sig, sm.isScoped .tc = true → r.2.sem ((c : Thread nD τ), sm) = 0)
      ∧ ∀ g' : GSem nD τ sig, g'.1.2 ≠ .tc → r.2.sem g' = 0)
    (fun r hr => ⟨fun c => (hr.1 c).1, sem_eq_zero_of_scoped H.allScoped (sems_of_reads (fun c => (hr.1 c).2) hr.2)⟩)
    (adequate_tpu _ _ _ _ (reflect_intro_fupd_tc_sems (X := Unit) (Variants.lift 𝒱₀) (Pipeline.owing P.O₀) 0 (noBookings fun _ => le_rfl)
      (Pipeline.owing_of_ne P.O₀) (P.u₀ H) (fun _ => P.pre m R H) (fun _ => P.fin m R) (fun _ => iprop(emp)) Set.univ (P.launch m ρ R H hmem) (fun _ c => P.core_run m R defs₀ H hr hprog c) fun _ => ?_))
  iintro ⟨H, -, Hsc⟩ %s' HSI
  ihave %hsc := (scSems_read_zero m ρ s') $$ [Hsc HSI]
  · isplitl [Hsc] <;> iassumption
  imod (posts_fupd Finset.univ (P.core_read m R Ends hread) s') $$ [H HSI] with %h
  · isplitl [H] <;> iassumption
  imodintro
  ipureintro
  exact ⟨fun c => h c (Finset.mem_univ c), hsc⟩

end Cert.Exchange.Plan

end
-- ==== Proof.ExchangeMem.lean ====
/- What a call that only copies leaves in memory, as reads through the copies' views; and how a device's memory is
   dealt to its copies, array by array. -/
module

public import proofs.«01_k».proof.Proof.ExchangeRun
public import Idealize.ShloMosaic.Lib.ReshapeSlab

@[expose] public section

noncomputable section

namespace Cert.Exchange.Plan

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Cfg)

variable {nD : ℕ} {τ : Topo} {sig : RefSig}
variable {F : FTy → Type}

local notation "𝕄" => MT nD τ sig Unit (Elt F) ℕ (UU nD τ sig) ℕ

/-- Held parts of buffers are what the memory holds there. -/
theorem parts_read {A : Type} [DecidableEq A] (S : Finset A) (ℓ : A → Loc nD τ sig) (K : (a : A) → Finset (Idx (ℓ a))) (q : PosShare TreeShare)
    (f : (a : A) → Buf (Elt F) (ℓ a)) (s' : Phys nD τ sig (Elt F)) :
    iprop((bigSep S fun a => ((ℓ a) ↦[K a]{q} f a : sProp 𝕄)) ∗ SI s') ⊢ iprop(⌜∀ a ∈ S, ∀ x ∈ K a, s'.mem.mem (ℓ a) x = f a x⌝ ∗ SI s') := by
  induction S using Finset.induction_on with
  | empty =>
    iintro ⟨-, HSI⟩
    isplitr; · ipureintro; simp
    iexact HSI
  | insert a S ha ih =>
    rw [bigSep_insert ha]
    refine (show iprop((((ℓ a) ↦[K a]{q} f a) ∗ bigSep S fun a => ((ℓ a) ↦[K a]{q} f a : sProp 𝕄)) ∗ SI s') ⊢ _ from ?_)
    iintro ⟨⟨Hi, HS⟩, HSI⟩
    icombine HSI Hi gives %h
    ihave H := ih $$ [HS HSI]
    · isplitl [HS] <;> iassumption
    icases H with ⟨%hS, HSI⟩
    isplitr
    · ipureintro
      intro b hb
      rcases Finset.mem_insert.mp hb with rfl | hb
      exacts [h, hS b hb]
    · iexact HSI

/-- A part of a buffer, the rest dropped. -/
theorem part (ℓ : Loc nD τ sig) (K : Finset (Idx ℓ)) (q : PosShare TreeShare) (f : Buf (Elt F) ℓ) : (ℓ ↦{q} f : sProp 𝕄) ⊢ ℓ ↦[K]{q} f := by
  refine (pointsTo_split_subset (I := K) (Finset.subset_univ K)).1.trans ?_
  iintro ⟨H, -⟩; iexact H
/-- A buffer cut into disjoint parts, what is left over dropped. -/
theorem cut {A : Type} [Fintype A] [DecidableEq A] (ℓ : Loc nD τ sig) (K : A → Finset (Idx ℓ)) (q : PosShare TreeShare) (f : Buf (Elt F) ℓ)
    (h : ∀ a b, a ≠ b → Disjoint (K a) (K b)) : (ℓ ↦{q} f : sProp 𝕄) ⊢ bigSep Finset.univ fun a => ℓ ↦[K a]{q} f := by
  rw [← pointsTo_biUnion Finset.univ K fun a _ b _ => h a b]
  exact part ℓ _ q f
theorem halve (ℓ : Loc nD τ sig) (q : PosShare TreeShare) (f : Buf (Elt F) ℓ) : (ℓ ↦{q} f : sProp 𝕄) ⊢ iprop((ℓ ↦{q.left} f) ∗ ℓ ↦{q.right} f) :=
  (pointsTo_share (PosShare.mem_left_op_right q)).1

theorem over_unit (Φ : Unit → sProp 𝕄) : bigSep Finset.univ Φ = Φ () := (bigSep_univ_eq_bigSepL [()] (by decide) (by decide) Φ).trans (by rfl)
theorem over_three (Φ : Fin 3 → sProp 𝕄) : bigSep Finset.univ Φ = iprop(Φ 0 ∗ Φ 1 ∗ Φ 2) := bigSep_univ_eq_bigSepL [0, 1, 2] (by decide) (by decide) Φ
theorem over_two (Φ : Fin 2 → sProp 𝕄) : bigSep Finset.univ Φ = iprop(Φ 0 ∗ Φ 1) := bigSep_univ_eq_bigSepL [0, 1] (by decide) (by decide) Φ

/-- Two parts of one view that share no entry. -/
def Apart {κ : Kind} {sp : Space} {s : Shape} {e : EltTy} (v : View sig κ sp s e) (r₁ r₂ : Rect s) : Prop := Disjoint (v.slice r₁).set (v.slice r₂).set
/-- The same of two parts, each read at another shape. -/
def ApartAs {κ : Kind} {sp : Space} {s : Shape} {e : EltTy} (v : View sig κ sp s e) (r₁ r₂ : Rect s) (s' : Shape) (h₁ : s'.numel = r₁.shape.numel) (h₂ : s'.numel = r₂.shape.numel) : Prop :=
  Disjoint ((v.slice r₁).reshape s' h₁).set ((v.slice r₂).reshape s' h₂).set
theorem Apart.as {κ : Kind} {sp : Space} {s : Shape} {e : EltTy} {v : View sig κ sp s e} {r₁ r₂ : Rect s} (h : Apart v r₁ r₂) {s' : Shape} (h₁ : s'.numel = r₁.shape.numel)
    (h₂ : s'.numel = r₂.shape.numel) : ApartAs v r₁ r₂ s' h₁ h₂ := by
  unfold ApartAs; rw [View.set_reshape, View.set_reshape]; exact h

/-- The same of two parts read at shapes of their own. -/
def ApartEach {κ : Kind} {sp : Space} {s : Shape} {e : EltTy} (v : View sig κ sp s e) (r₁ r₂ : Rect s) (s₁ s₂ : Shape) (h₁ : s₁.numel = r₁.shape.numel) (h₂ : s₂.numel = r₂.shape.numel) : Prop :=
  Disjoint ((v.slice r₁).reshape s₁ h₁).set ((v.slice r₂).reshape s₂ h₂).set
theorem Apart.each {κ : Kind} {sp : Space} {s : Shape} {e : EltTy} {v : View sig κ sp s e} {r₁ r₂ : Rect s} (h : Apart v r₁ r₂) {s₁ s₂ : Shape} (h₁ : s₁.numel = r₁.shape.numel)
    (h₂ : s₂.numel = r₂.shape.numel) : ApartEach v r₁ r₂ s₁ s₂ h₁ h₂ := by
  unfold ApartEach; rw [View.set_reshape, View.set_reshape]; exact h

/-- The argument lent to two copies and kept, and its result cut into the two landing places. -/
theorem deal_two (c : Dev nD) (buf : Fin 2 → Ref sig .tc) (K₁ K₂ : Finset (Idx ((c : Thread nD τ).loc (buf 0)))) (D₁ D₂ : Finset (Idx ((c : Thread nD τ).loc (buf 1))))
    (hD : Disjoint D₁ D₂) (m : (ℓ : Loc nD τ sig) → Buf (Elt F) ℓ) :
    (bigSep Finset.univ fun k : Fin 2 => (((c : Thread nD τ).loc (buf k)) ↦{fullShare} m ((c : Thread nD τ).loc (buf k)) : sProp 𝕄))
      ⊢ iprop((((c : Thread nD τ).loc (buf 0)) ↦{fullShare.right} m ((c : Thread nD τ).loc (buf 0)))
        ∗ ((((c : Thread nD τ).loc (buf 0)) ↦[K₁]{fullShare.left.left} m ((c : Thread nD τ).loc (buf 0))) ∗ (((c : Thread nD τ).loc (buf 1)) ↦[D₁]{fullShare} m ((c : Thread nD τ).loc (buf 1))))
        ∗ (bigSep Finset.univ fun _ : Unit => (((c : Thread nD τ).loc (buf 0)) ↦[K₂]{fullShare.left.right} m ((c : Thread nD τ).loc (buf 0)) : sProp 𝕄))
        ∗ bigSep Finset.univ fun _ : Unit => (((c : Thread nD τ).loc (buf 1)) ↦[D₂]{fullShare} m ((c : Thread nD τ).loc (buf 1)) : sProp 𝕄)) := by
  rw [over_two, over_unit, over_unit]
  iintro ⟨Ha, Ho⟩
  ihave Ha := (halve _ _ _) $$ Ha
  icases Ha with ⟨Hl, Hr⟩
  ihave Hl := (halve _ _ _) $$ Hl
  icases Hl with ⟨H1, H2⟩
  ihave H1 := (part _ K₁ _ _) $$ H1
  ihave H2 := (part _ K₂ _ _) $$ H2
  ihave Ho := (part _ (D₁ ∪ D₂) _ _) $$ Ho
  ihave Ho := (pointsTo_union hD).1 $$ Ho
  icases Ho with ⟨Ho1, Ho2⟩
  isplitl [Hr]; · iexact Hr
  isplitl [H1 Ho1]
  · isplitl [H1] <;> iassumption
  isplitl [H2] <;> iassumption

/-- The same with a result of its own for each copy. -/
theorem deal_three (c : Dev nD) (buf : Fin 3 → Ref sig .tc) (K₁ K₂ : Finset (Idx ((c : Thread nD τ).loc (buf 0)))) (D₁ : Finset (Idx ((c : Thread nD τ).loc (buf 1))))
    (D₂ : Finset (Idx ((c : Thread nD τ).loc (buf 2)))) (m : (ℓ : Loc nD τ sig) → Buf (Elt F) ℓ) :
    (bigSep Finset.univ fun k : Fin 3 => (((c : Thread nD τ).loc (buf k)) ↦{fullShare} m ((c : Thread nD τ).loc (buf k)) : sProp 𝕄))
      ⊢ iprop((((c : Thread nD τ).loc (buf 0)) ↦{fullShare.right} m ((c : Thread nD τ).loc (buf 0)))
        ∗ ((((c : Thread nD τ).loc (buf 0)) ↦[K₁]{fullShare.left.left} m ((c : Thread nD τ).loc (buf 0))) ∗ (((c : Thread nD τ).loc (buf 1)) ↦[D₁]{fullShare} m ((c : Thread nD τ).loc (buf 1))))
        ∗ (bigSep Finset.univ fun _ : Unit => (((c : Thread nD τ).loc (buf 0)) ↦[K₂]{fullShare.left.right} m ((c : Thread nD τ).loc (buf 0)) : sProp 𝕄))
        ∗ bigSep Finset.univ fun _ : Unit => (((c : Thread nD τ).loc (buf 2)) ↦[D₂]{fullShare} m ((c : Thread nD τ).loc (buf 2)) : sProp 𝕄)) := by
  rw [over_three, over_unit, over_unit]
  iintro ⟨Ha, Ho, Hp⟩
  ihave Ha := (halve _ _ _) $$ Ha
  icases Ha with ⟨Hl, Hr⟩
  ihave Hl := (halve _ _ _) $$ Hl
  icases Hl with ⟨H1, H2⟩
  ihave H1 := (part _ K₁ _ _) $$ H1
  ihave H2 := (part _ K₂ _ _) $$ H2
  ihave Ho := (part _ D₁ _ _) $$ Ho
  ihave Hp := (part _ D₂ _ _) $$ Hp
  isplitl [Hr]; · iexact Hr
  isplitl [H1 Ho]
  · isplitl [H1] <;> iassumption
  isplitl [H2] <;> iassumption

/-- The shares that three further copies read at. -/
abbrev share : Fin 3 → PosShare TreeShare := ![fullShare.left.right.left, fullShare.left.right.right.left, fullShare.left.right.right.right]

/-- The argument lent to four copies and kept, and its result cut into landing places. -/
theorem deal_four {B : Type} [Fintype B] [DecidableEq B] (c : Dev nD) (buf : Fin 2 → Ref sig .tc) (K₁ : Finset (Idx ((c : Thread nD τ).loc (buf 0)))) (K : Fin 3 → Finset (Idx ((c : Thread nD τ).loc (buf 0))))
    (D₁ : Finset (Idx ((c : Thread nD τ).loc (buf 1)))) (D : B → Finset (Idx ((c : Thread nD τ).loc (buf 1))))
    (h₁ : ∀ k, Disjoint D₁ (D k)) (h : ∀ k l, k ≠ l → Disjoint (D k) (D l)) (m : (ℓ : Loc nD τ sig) → Buf (Elt F) ℓ) :
    (bigSep Finset.univ fun k : Fin 2 => (((c : Thread nD τ).loc (buf k)) ↦{fullShare} m ((c : Thread nD τ).loc (buf k)) : sProp 𝕄))
      ⊢ iprop((((c : Thread nD τ).loc (buf 0)) ↦{fullShare.right} m ((c : Thread nD τ).loc (buf 0)))
        ∗ ((((c : Thread nD τ).loc (buf 0)) ↦[K₁]{fullShare.left.left} m ((c : Thread nD τ).loc (buf 0))) ∗ (((c : Thread nD τ).loc (buf 1)) ↦[D₁]{fullShare} m ((c : Thread nD τ).loc (buf 1))))
        ∗ (bigSep Finset.univ fun l : Fin 3 => (((c : Thread nD τ).loc (buf 0)) ↦[K l]{share l} m ((c : Thread nD τ).loc (buf 0)) : sProp 𝕄))
        ∗ bigSep Finset.univ fun l : B => (((c : Thread nD τ).loc (buf 1)) ↦[D l]{fullShare} m ((c : Thread nD τ).loc (buf 1)) : sProp 𝕄)) := by
  rw [over_two, over_three]
  iintro ⟨Ha, Ho⟩
  ihave Ha := (halve _ _ _) $$ Ha
  icases Ha with ⟨Hl, Hr⟩
  ihave Hl := (halve _ _ _) $$ Hl
  icases Hl with ⟨H1, H2⟩
  ihave H1 := (part _ K₁ _ _) $$ H1
  ihave H2 := (halve _ _ _) $$ H2
  icases H2 with ⟨Ha, H2⟩
  ihave H2 := (halve _ _ _) $$ H2
  icases H2 with ⟨Hb, Hc⟩
  ihave Ha := (part _ (K 0) _ _) $$ Ha
  ihave Hb := (part _ (K 1) _ _) $$ Hb
  ihave Hc := (part _ (K 2) _ _) $$ Hc
  ihave Ho := (part _ (D₁ ∪ Finset.univ.biUnion D) _ _) $$ Ho
  ihave Ho := (pointsTo_union ((Finset.disjoint_biUnion_right _ _ _).mpr fun k _ => h₁ k)).1 $$ Ho
  icases Ho with ⟨Ho1, Ho2⟩
  ihave Ho2 := (show _ ⊢ _ from (pointsTo_biUnion (Finset.univ : Finset B) D fun k _ l _ => h k l).le) $$ Ho2
  isplitl [Hr]; · iexact Hr
  isplitl [H1 Ho1]
  · isplitl [H1] <;> iassumption
  isplitl [Ha Hb Hc]
  · isplitl [Ha]; · iexact Ha
    isplitl [Hb]; · iexact Hb
    iexact Hc
  iexact Ho2

variable {T L : Type} [Fintype T] [Fintype L] [DecidableEq T] [DecidableEq L]
variable (P : Plan nD τ sig T (T × L)) (m : (ℓ : Loc nD τ sig) → Buf (Elt F) ℓ) (ρ : Dev nD → PrngReg)
variable (arg : T → Ref sig .tc)

/-- What a device keeps aside: a share of every argument. -/
def kept1 (c : Dev nD) (t : T) : sProp 𝕄 := ((c : Thread nD τ).loc (arg t)) ↦{fullShare.right} m ((c : Thread nD τ).loc (arg t))
def kept (c : Dev nD) : sProp 𝕄 := bigSep Finset.univ (kept1 (τ := τ) m arg c)

/-- What a final memory holds on device `c`: the arguments as they were, and behind every destination what its source held. -/
def Ends (c : Dev nD) (s : MemSt nD τ sig (Elt F)) : Prop :=
  (∀ t, s.mem ((c : Thread nD τ).loc (arg t)) = m ((c : Thread nD τ).loc (arg t)))
    ∧ (∀ t, (P.dstI c t).view.read (Elt F) (s.mem ((P.dstI c t).view.loc (c : Thread nD τ))) = (P.srcI c t).view.read (Elt F) (m ((P.srcI c t).view.loc (c : Thread nD τ))))
    ∧ ∀ j d, (P.peer j).symm c = d → (P.dstJ d j).view.read (Elt F) (s.mem ((P.dstJ d j).view.loc (c : Thread nD τ)))
        = (P.srcJ d j).view.read (Elt F) (P.fill m d j)

theorem final_read (c : Dev nD) (s' : Phys nD τ sig (Elt F)) : iprop(P.final m (kept (τ := τ) m arg) c ∗ SI s') ⊢ |={Set.univ}=> iprop(⌜P.Ends m arg c s'.mem⌝ ∗ SI s') := by
  have hA := pointsTo_read_all (Ix := Unit) (Name := ℕ) (U := UU nD τ sig) (Lvl := ℕ) (Finset.univ : Finset T) (fun t => (c : Thread nD τ).loc (arg t)) (fun t => m ((c : Thread nD τ).loc (arg t))) s' fullShare.right
  have hI := parts_read (F := F) (Finset.univ : Finset T) (fun t => (P.dstI c t).view.loc (c : Thread nD τ)) (fun t => (P.dstI c t).view.set) fullShare (P.put m c) s'
  have hJ := parts_read (F := F) (Finset.univ : Finset (T × L)) (fun j => (P.dstJ ((P.peer j).symm c) j).view.loc (c : Thread nD τ)) (fun j => (P.dstJ ((P.peer j).symm c) j).view.set) fullShare.left
    (fun j => P.sent m ((P.peer j).symm c) j c) s'
  unfold final kept kept1 atI landed
  iintro ⟨⟨H0, H1, H2⟩, HSI⟩
  ihave Hr := hA $$ [H0 HSI]
  · isplitl [H0] <;> iassumption
  icases Hr with ⟨%h0, HSI⟩
  ihave Hr := hI $$ [H1 HSI]
  · isplitl [H1] <;> iassumption
  icases Hr with ⟨%h1, HSI⟩
  ihave Hr := hJ $$ [H2 HSI]
  · isplitl [H2] <;> iassumption
  icases Hr with ⟨%h2, HSI⟩
  imodintro
  isplitr
  · ipureintro
    refine ⟨fun t => h0 t (Finset.mem_univ t), fun t => ?_, ?_⟩
    · exact (View.read_congr fun x hx => h1 t (Finset.mem_univ t) x hx).trans (View.read_write_univ _ _)
    · rintro j _ rfl
      exact (View.read_congr fun x hx => h2 j (Finset.mem_univ j) x hx).trans (View.read_write_univ _ _)
  iexact HSI

/-- What array `t` of device `c` is dealt to. -/
def dealt (c : Dev nD) (t : T) : sProp 𝕄 :=
  iprop(kept1 (τ := τ) m arg c t ∗ (P.fromI m c t ∗ P.atI c t (m ((P.dstI c t).view.loc (c : Thread nD τ)))) ∗ (bigSep Finset.univ fun l : L => P.early m c (t, l))
    ∗ bigSep Finset.univ fun l : L => P.atJ ((P.peer (t, l)).symm c) (t, l) c (m ((P.dstJ ((P.peer (t, l)).symm c) (t, l)).view.loc (c : Thread nD τ))))

/-- The same where the copies to peers are of two kinds, the second passed on. -/
theorem dealt_late {A B : Type} [Fintype A] [DecidableEq A] [Fintype B] [DecidableEq B] (P : Plan nD τ sig T (T × (A ⊕ B))) (hA : ∀ t a, P.late (t, .inl a) = false) (hB : ∀ t b, P.late (t, .inr b) = true)
    (c : Dev nD) (t : T) :
    iprop(kept1 (τ := τ) m arg c t ∗ (P.fromI m c t ∗ P.atI c t (m ((P.dstI c t).view.loc (c : Thread nD τ)))) ∗ (bigSep Finset.univ fun a : A => P.fromJ m c (t, .inl a))
      ∗ bigSep Finset.univ fun l : A ⊕ B => P.atJ ((P.peer (t, l)).symm c) (t, l) c (m ((P.dstJ ((P.peer (t, l)).symm c) (t, l)).view.loc (c : Thread nD τ)))) ⊢ P.dealt m arg c t := by
  have e : (bigSep Finset.univ fun l : A ⊕ B => P.early m c (t, l)) = iprop((bigSep Finset.univ fun a : A => P.fromJ m c (t, .inl a)) ∗ emp) := by
    rw [by_sum]; unfold early
    rw [bigSep_congr (Ψ := fun a : A => P.fromJ m c (t, .inl a)) fun (a : A) _ => (by rw [hA t a]; rfl), bigSep_congr (Ψ := fun _ : B => (BI.emp : sProp 𝕄)) fun (b : B) _ => (by rw [hB t b]; rfl), BI.bigSep_emp_const]
    rfl
  unfold dealt; rw [e]
  iintro ⟨H1, H2, H3, H4⟩
  isplitl [H1]; · iexact H1
  isplitl [H2]; · iexact H2
  isplitl [H3]
  · isplitl [H3]; · iexact H3
    iempintro
  iexact H4

/-- A device's memory dealt, given how each array's buffers are. -/
theorem mem_dealt {Q : Type} [Fintype Q] [DecidableEq Q] (buf : T × Q → Ref sig .tc) (hinj : Function.Injective buf) (hun : ∀ x, ¬ (buf x).isScoped) (c : Dev nD)
    (h : ∀ t, (bigSep Finset.univ fun k : Q => (((c : Thread nD τ).loc (buf (t, k))) ↦{fullShare} m ((c : Thread nD τ).loc (buf (t, k))) : sProp 𝕄)) ⊢ P.dealt m arg c t) :
    (unscopedBufs c (fun b => m ((c : Thread nD τ).loc b)) : sProp 𝕄) ⊢ P.mem₁ m (kept (τ := τ) m arg) c := by
  have hs : Finset.univ.image buf ⊆ Finset.univ.filter fun b : Ref sig .tc => ¬ b.isScoped := fun b hb => by
    obtain ⟨tk, -, rfl⟩ := Finset.mem_image.mp hb
    exact Finset.mem_filter.mpr ⟨Finset.mem_univ _, hun tk⟩
  have hi : Set.InjOn buf (Finset.univ : Finset (T × Q)) := fun s _ t _ e => hinj e
  have hall : (bigSep Finset.univ fun x : T × Q => (((c : Thread nD τ).loc (buf x)) ↦{fullShare} m ((c : Thread nD τ).loc (buf x)) : sProp 𝕄)) ⊢ bigSep Finset.univ (P.dealt m arg c) := by
    rw [bigSep_univ_prod]; exact bigSep_mono fun t _ => h t
  unfold unscopedBufs
  refine (keep hs _).trans ?_
  rw [bigSep_image_of_injOn hi]
  refine hall.trans ?_
  unfold dealt mem₁ kept
  simp only [bigSep_sep']
  rw [bigSep_univ_prod (fun j : T × L => P.early m c j), bigSep_univ_prod (fun j : T × L => P.atJ ((P.peer j).symm c) j c (m ((P.dstJ ((P.peer j).symm c) j).view.loc (c : Thread nD τ))))]

variable {Λ₀ : Labels} (defs₀ : Defs nD τ sig (Elt F) Λ₀) {cfg0 : Cfg sig Λ₀}
  {main : Dev nD → Prog (TpuEff nD τ sig (Elt F) (Pipeline.Sig Λ₀ (Fin 1) fun p => ((fun _ : Fin 1 => cfg0.toPCfg (Val := Elt F)) p).Adm) .tc) PUnit}

/-- From any memory with zero counters every device's @main ends, the copies made, and every counter at zero. -/
theorem ends [FloatOps F] (H : P.Fits (F := F) cfg0 main) (hr : P.PassesOn m) (hprog : Runs (F := F) P defs₀ cfg0) {Q : Type} [Fintype Q] [DecidableEq Q] (buf : T × Q → Ref sig .tc) (hinj : Function.Injective buf)
    (hun : ∀ x, ¬ (buf x).isScoped)
    (h : ∀ (c : Dev nD) t, (bigSep Finset.univ fun k : Q => (((c : Thread nD τ).loc (buf (t, k))) ↦{fullShare} m ((c : Thread nD τ).loc (buf (t, k))) : sProp 𝕄)) ⊢ P.dealt m arg c t) :
    θ_run (defs defs₀ cfg0) (onTc (τ := τ) main) (⟨m, fun _ => 0, ρ⟩ : MemSt nD τ sig (Elt F)) (fun r => (∀ c, P.Ends m arg c r.2) ∧ r.2.sem = fun _ => 0) :=
  P.run_main m ρ _ defs₀ H hr hprog (fun c => P.mem_dealt m arg buf hinj hun c (h c)) (P.Ends m arg) (P.final_read m arg)

end Cert.Exchange.Plan

end
-- ==== Proof.HalfSwap.lean ====
/- The swap of the halves of nine gradients between the two cores of a chip: of each array a core copies its own half
   to one result and sends the other half into its sibling's other result. -/
module

public import proofs.«01_k».proof.Proof.ExchangeMem
public import proofs.«01_k».proof.Proof.Gen.HalfSwapIdeal
public import proofs.«01_k».proof.Proof.Gen.HalfSwapIdeal.Skeleton
public import proofs.«01_k».proof.Proof.Gen.HalfSwapIdeal.Launch

@[expose] public section

noncomputable section

namespace Cert.Swap

open Cert.HalfSwapIdeal Cert.HalfSwapIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange

variable {F : FTy → Type} [FloatOps F]

/-- The other core of the chip, and exchanging the cores. -/
def peer (c : Dev nD) : Dev nD := ⟨1 - c.val, by have := c.isLt; revert this; generalize c.val = v; decide +revert⟩
theorem peer_peer (c : Dev nD) : peer (peer c) = c := by revert c; decide
def swap : Dev nD ≃ Dev nD := ⟨peer, peer, peer_peer, peer_peer⟩

/-- Rows and columns of array `t`, and the rows of its halves. -/
abbrev G : Fin 9 → ℕ := ![2048, 2048, 1408, 2048, 256, 512, 2048, 2048, 1408]
abbrev H : Fin 9 → ℕ := ![1024, 1024, 704, 1024, 128, 256, 1024, 1024, 704]
abbrev W : Fin 9 → ℕ := ![1408, 1408, 2048, 1024, 1024, 2048, 1408, 1408, 2048]
abbrev SG (t : Fin 9) : Shape := ⟨3, ![4, G t, W t]⟩
abbrev SH (t : Fin 9) : Shape := ⟨3, ![4, H t, W t]⟩

/-- Array `t`, the core's own half of it, and the sibling's half. -/
abbrev gR : Fin 9 → Ref sig .tc
  | 0 => main_arg0
  | 1 => main_arg1
  | 2 => main_arg2
  | 3 => main_arg3
  | 4 => main_arg4
  | 5 => main_arg5
  | 6 => main_arg6
  | 7 => main_arg7
  | 8 => main_arg8
abbrev mineR : Fin 9 → Ref sig .tc
  | 0 => main_v1_0
  | 1 => main_v1_1
  | 2 => main_v1_2
  | 3 => main_v1_3
  | 4 => main_v1_4
  | 5 => main_v1_5
  | 6 => main_v1_6
  | 7 => main_v1_7
  | 8 => main_v1_8
abbrev theirsR : Fin 9 → Ref sig .tc
  | 0 => main_v1_9
  | 1 => main_v1_10
  | 2 => main_v1_11
  | 3 => main_v1_12
  | 4 => main_v1_13
  | 5 => main_v1_14
  | 6 => main_v1_15
  | 7 => main_v1_16
  | 8 => main_v1_17
abbrev gM : (t : Fin 9) → Memref sig .tc .hbm (SG t) .bf16
  | 0 => Memref.whole main_arg0
  | 1 => Memref.whole main_arg1
  | 2 => Memref.whole main_arg2
  | 3 => Memref.whole main_arg3
  | 4 => Memref.whole main_arg4
  | 5 => Memref.whole main_arg5
  | 6 => Memref.whole main_arg6
  | 7 => Memref.whole main_arg7
  | 8 => Memref.whole main_arg8
abbrev mineM : (t : Fin 9) → Memref sig .tc .hbm (SH t) .bf16
  | 0 => Memref.whole main_v1_0
  | 1 => Memref.whole main_v1_1
  | 2 => Memref.whole main_v1_2
  | 3 => Memref.whole main_v1_3
  | 4 => Memref.whole main_v1_4
  | 5 => Memref.whole main_v1_5
  | 6 => Memref.whole main_v1_6
  | 7 => Memref.whole main_v1_7
  | 8 => Memref.whole main_v1_8
abbrev theirsM : (t : Fin 9) → Memref sig .tc .hbm (SH t) .bf16
  | 0 => Memref.whole main_v1_9
  | 1 => Memref.whole main_v1_10
  | 2 => Memref.whole main_v1_11
  | 3 => Memref.whole main_v1_12
  | 4 => Memref.whole main_v1_13
  | 5 => Memref.whole main_v1_14
  | 6 => Memref.whole main_v1_15
  | 7 => Memref.whole main_v1_16
  | 8 => Memref.whole main_v1_17
theorem whole_g : ∀ t, (gM t).IsWhole
  | 0 | 1 | 2 | 3 | 4 | 5 | 6 | 7 | 8 => Memref.isWhole_whole _
theorem whole_mine : ∀ t, (mineM t).IsWhole
  | 0 | 1 | 2 | 3 | 4 | 5 | 6 | 7 | 8 => Memref.isWhole_whole _
theorem whole_theirs : ∀ t, (theirsM t).IsWhole
  | 0 | 1 | 2 | 3 | 4 | 5 | 6 | 7 | 8 => Memref.isWhole_whole _
/-- Where the own half begins, and the sent one. -/
abbrev offOwn (c : Dev nD) : Fin 9 → Fin 3 → ℕ
  | 0 => k0_off1 c
  | 1 => k0_off1 c
  | 2 => k0_off3 c
  | 3 => k0_off5 c
  | 4 => k0_off7 c
  | 5 => k0_off9 c
  | 6 => k0_off1 c
  | 7 => k0_off1 c
  | 8 => k0_off3 c
abbrev offSent (c : Dev nD) : Fin 9 → Fin 3 → ℕ
  | 0 => k0_off2 c
  | 1 => k0_off2 c
  | 2 => k0_off4 c
  | 3 => k0_off6 c
  | 4 => k0_off8 c
  | 5 => k0_off10 c
  | 6 => k0_off2 c
  | 7 => k0_off2 c
  | 8 => k0_off4 c
theorem own_off : ∀ (c : Dev nD) t, offOwn c t = ![0, H t * c.val, 0] := by decide +kernel
theorem sent_off : ∀ (c : Dev nD) t, offSent c t = ![0, H t * (peer c).val, 0] := by decide +kernel
theorem back_off (c : Dev nD) (t : Fin 9) : offSent (peer c) t = ![0, H t * c.val, 0] := by rw [sent_off, peer_peer]
theorem own_inb : ∀ (c : Dev nD) t a, offOwn c t a + (SH t).size a ≤ (SG t).size a := by decide +kernel
theorem sent_inb : ∀ (c : Dev nD) t a, offSent c t a + (SH t).size a ≤ (SG t).size a := by decide +kernel
theorem own_words : ∀ (c : Dev nD) t, (Rect.unit (s := SG t) (offOwn c t) (SH t).size (own_inb c t)).WholeWords (EltTy.packing .bf16) := by decide +kernel
theorem sent_words : ∀ (c : Dev nD) t, (Rect.unit (s := SG t) (offSent c t) (SH t).size (sent_inb c t)).WholeWords (EltTy.packing .bf16) := by decide +kernel
/-- The sibling, as copy `t` names it. -/
abbrev dev (c : Dev nD) : Fin 9 → Dev nD
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩
  | 4 => ⟨k0_dev5 c, k0_dev5_lt c⟩
  | 5 => ⟨k0_dev6 c, k0_dev6_lt c⟩
  | 6 => ⟨k0_dev7 c, k0_dev7_lt c⟩
  | 7 => ⟨k0_dev8 c, k0_dev8_lt c⟩
  | 8 => ⟨k0_dev9 c, k0_dev9_lt c⟩
theorem dev_eq : ∀ (c : Dev nD) t, dev c t = peer c := by decide +kernel
/-- Core `c`'s own half of array `t`, and the half it sends. -/
abbrev ownM (c : Dev nD) (t : Fin 9) : Memref sig .tc .hbm (SH t) .bf16 := (gM t).slice (Rect.unit (s := SG t) (offOwn c t) (SH t).size (own_inb c t)) (fun _ => rfl)
abbrev sentM (c : Dev nD) (t : Fin 9) : Memref sig .tc .hbm (SH t) .bf16 := (gM t).slice (Rect.unit (s := SG t) (offSent c t) (SH t).size (sent_inb c t)) (fun _ => rfl)

/-- The semaphores: the local copies', the sends', the receives'. -/
abbrev dsem : Fin 9 ⊕ (Fin 9 × Unit ⊕ Fin 9 × Unit) → DmaSem sig
  | .inl t => ⟨18 + t.val, by have := t.isLt; show _ < 27; omega⟩
  | .inr (.inl t) => ⟨t.1.val, by have := t.1.isLt; show _ < 27; omega⟩
  | .inr (.inr t) => ⟨9 + t.1.val, by have := t.1.isLt; show _ < 27; omega⟩

/-- A half's credit. -/
abbrev N (t : Fin 9) : ℕ := (mineM t).view.dmaCredit
theorem credit_theirs : ∀ t : Fin 9, (theirsM t).view.dmaCredit = N t
  | 0 | 1 | 2 | 3 | 4 | 5 | 6 | 7 | 8 => rfl
theorem credit_sent (c : Dev nD) : ∀ t : Fin 9, (sentM c t).view.dmaCredit = N t
  | 0 | 1 | 2 | 3 | 4 | 5 | 6 | 7 | 8 => rfl
theorem exact_own (c : Dev nD) (t : Fin 9) : (ownM c t).view.WordExact := (whole_g t).wordExact_slice rfl _ (own_words c t)
theorem exact_sent (c : Dev nD) (t : Fin 9) : (sentM c t).view.WordExact := (whole_g t).wordExact_slice rfl _ (sent_words c t)
theorem unshared : ∀ t, (theirsM t).view.ref.isScScratch = false
  | 0 | 1 | 2 | 3 | 4 | 5 | 6 | 7 | 8 => rfl

/-- The copies of the call. -/
abbrev plan : Plan nD τ sig (Fin 9) (Fin 9 × Unit) where
  sI := SH
  eI _ := .bf16
  sJ j := SH j.1
  eJ _ := .bf16
  srcI c t := ownM c t
  dstI _ t := mineM t
  srcJ c j := sentM c j.1
  dstJ _ j := theirsM j.1
  gotA c j := sentM c j.1
  gotB _ j := theirsM j.1
  wordsI c t := ⟨exact_own c t, (whole_mine t).wordExact⟩
  wordsJ c j := ⟨exact_sent c j.1, (whole_theirs j.1).wordExact⟩
  wordsG c j := ⟨exact_sent c j.1, (whole_theirs j.1).wordExact⟩
  unshared _ j := unshared j.1
  peer _ := swap
  named c j := dev c j.1
  named_eq c j := dev_eq c j.1
  route := by decide
  sem := dsem
  sem_inj := by decide
  nI t := N t
  nJ j := N j.1
  posI t := View.dmaCredit_pos _ (by revert t; decide)
  posJ j := View.dmaCredit_pos _ (by revert j; decide)
  creditI _ _ := rfl
  creditS c j := credit_sent c j.1
  creditJ _ j := credit_theirs j.1
  creditG _ j := credit_theirs j.1
  qI _ := fullShare.left.left
  qJ _ := fullShare.left.right
  starts := ([0, 1, 2, 3, 4, 5, 6, 7, 8] : List (Fin 9)).flatMap fun t => [.inl t, .inr (t, ())]
  waits := ([0, 1, 2, 3, 4, 5, 6, 7, 8] : List (Fin 9)).flatMap fun t => [.inl t, .inr (.inl (t, ())), .inr (.inr (t, ()))]

theorem all9 : ∀ t : Fin 9, t ∈ ([0, 1, 2, 3, 4, 5, 6, 7, 8] : List (Fin 9)) := by decide

theorem fits : plan.Fits (F := F) cfg0 main where
  starts_nodup := by decide
  starts_all := by rintro (t | ⟨t, ⟨⟩⟩) <;> exact List.mem_append_left _ (List.mem_flatMap.mpr ⟨t, all9 t, by simp⟩)
  waits_nodup := by decide
  waits_all := by rintro (t | ⟨t, ⟨⟩⟩ | ⟨t, ⟨⟩⟩) <;> exact List.mem_append_left _ (List.mem_flatMap.mpr ⟨t, all9 t, by simp⟩)
  starts_first _ _ := rfl
  relays_late := nofun
  orig_first := nofun
  noWindow := rfl
  one := N_0
  cellOf_inj := cellOf_inj
  win := winFacts0
  whole := stage_whole0
  pos := block_pos0
  own := by decide
  allScoped := by decide
  rest := fun c => scopedRest0_eq c
  main_eq := fun _ => rfl

set_option maxHeartbeats 4000000 in
/-- The body is the starts and the waits. -/
theorem body_runs : Plan.Runs (F := F) plan defs₀ cfg0 := by
  intro c t X
  rw [fin_N0 t]
  show _ ⊢ wp frame (wpE (defs₀ (F := F)) Plan.𝒱₀ c none) Set.univ (cc0_red_swap (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole main_v1_7) (Memref.isWhole_whole _) (Memref.whole main_v1_8) (Memref.isWhole_whole _) (Memref.whole main_v1_9) (Memref.isWhole_whole _) (Memref.whole main_v1_10) (Memref.isWhole_whole _) (Memref.whole main_v1_11) (Memref.isWhole_whole _) (Memref.whole main_v1_12) (Memref.isWhole_whole _) (Memref.whole main_v1_13) (Memref.isWhole_whole _) (Memref.whole main_v1_14) (Memref.isWhole_whole _) (Memref.whole main_v1_15) (Memref.isWhole_whole _) (Memref.whole main_v1_16) (Memref.isWhole_whole _) (Memref.whole main_v1_17) (Memref.isWhole_whole _) cc0_scratch0 cc0_scratch1 cc0_scratch2) _
  simp only [cc0_red_swap_eq_skeleton]; unfold cc0_red_swap_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [Prog.lift, Prog.bind_op, Prog.bind_ret, Prog.pure_eq_ret, wp_deviceId]
  exact .rfl

/-! ## The run -/

abbrev buf (x : Fin 9 × Fin 3) : Ref sig .tc := ![gR x.1, mineR x.1, theirsR x.1] x.2

variable (m : (ℓ : Loc nD τ sig) → Buf (Elt F) ℓ) (ρ : Dev nD → PrngReg)

theorem dealt (c : Dev nD) : ∀ t : Fin 9, (bigSep Finset.univ fun k : Fin 3 => (((c : Thread nD τ).loc (buf (t, k))) ↦{fullShare} m ((c : Thread nD τ).loc (buf (t, k))) : sProp (MT nD τ sig Unit (Elt F) ℕ (UU nD τ sig) ℕ)))
    ⊢ Plan.dealt plan m gR c t
  | 0 => Plan.deal_three c ![main_arg0, main_v1_0, main_v1_9] (ownM c 0).view.set (sentM c 0).view.set (mineM 0).view.set (theirsM 0).view.set m
  | 1 => Plan.deal_three c ![main_arg1, main_v1_1, main_v1_10] (ownM c 1).view.set (sentM c 1).view.set (mineM 1).view.set (theirsM 1).view.set m
  | 2 => Plan.deal_three c ![main_arg2, main_v1_2, main_v1_11] (ownM c 2).view.set (sentM c 2).view.set (mineM 2).view.set (theirsM 2).view.set m
  | 3 => Plan.deal_three c ![main_arg3, main_v1_3, main_v1_12] (ownM c 3).view.set (sentM c 3).view.set (mineM 3).view.set (theirsM 3).view.set m
  | 4 => Plan.deal_three c ![main_arg4, main_v1_4, main_v1_13] (ownM c 4).view.set (sentM c 4).view.set (mineM 4).view.set (theirsM 4).view.set m
  | 5 => Plan.deal_three c ![main_arg5, main_v1_5, main_v1_14] (ownM c 5).view.set (sentM c 5).view.set (mineM 5).view.set (theirsM 5).view.set m
  | 6 => Plan.deal_three c ![main_arg6, main_v1_6, main_v1_15] (ownM c 6).view.set (sentM c 6).view.set (mineM 6).view.set (theirsM 6).view.set m
  | 7 => Plan.deal_three c ![main_arg7, main_v1_7, main_v1_16] (ownM c 7).view.set (sentM c 7).view.set (mineM 7).view.set (theirsM 7).view.set m
  | 8 => Plan.deal_three c ![main_arg8, main_v1_8, main_v1_17] (ownM c 8).view.set (sentM c 8).view.set (mineM 8).view.set (theirsM 8).view.set m

theorem run_main : θ_run (defs (F := F)) (onTc (τ := τ) (main (F := F))) (⟨m, fun _ => 0, ρ⟩ : MemSt nD τ sig (Elt F)) (fun r => (∀ c, Plan.Ends plan m gR c r.2) ∧ r.2.sem = fun _ => 0) :=
  Plan.ends plan m ρ gR defs₀ fits (fun _ _ h => nomatch h) body_runs buf (by decide) (by decide) (dealt m)

end Cert.Swap

end
-- ==== Proof.HalfSwapClaims.lean ====
/-
  The claims about the exchange of the halves of nine gradients between the two cores of a chip: both frames from the one run,
  and each core's results as its part of the arrays that the reference puts together.
-/
module

public import proofs.«01_k».proof.Defs
public import proofs.«01_k».proof.Proof.HalfSwap
public import proofs.«01_k».proof.Proof.Gen.HalfSwap
public import proofs.«01_k».proof.Proof.Gen.HalfSwapRefIdeal.Run
public import proofs.«01_k».proof.Proof.Gen.HalfSwapRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

namespace Cert.Proof.HalfSwapClaims

open Cert.HalfSwapRefIdeal.Read

open Cert.HalfSwapIdeal (nD τ sig)

/-- What the end of a run says of the nine arguments, one by one. -/
theorem args_kept {F : FTy → Type} [FloatOps F] {m : (ℓ : Loc nD τ sig) → Buf (Elt F) ℓ} {c : Dev nD} {s : MemSt nD τ sig (Elt F)}
    (h : Cert.Exchange.Plan.Ends Cert.Swap.plan m Cert.Swap.gR c s) :
    s.mem ((c : Thread nD τ).loc Cert.HalfSwapIdeal.main_arg0) = m ((c : Thread nD τ).loc Cert.HalfSwapIdeal.main_arg0)
      ∧ s.mem ((c : Thread nD τ).loc Cert.HalfSwapIdeal.main_arg1) = m ((c : Thread nD τ).loc Cert.HalfSwapIdeal.main_arg1)
      ∧ s.mem ((c : Thread nD τ).loc Cert.HalfSwapIdeal.main_arg2) = m ((c : Thread nD τ).loc Cert.HalfSwapIdeal.main_arg2)
      ∧ s.mem ((c : Thread nD τ).loc Cert.HalfSwapIdeal.main_arg3) = m ((c : Thread nD τ).loc Cert.HalfSwapIdeal.main_arg3)
      ∧ s.mem ((c : Thread nD τ).loc Cert.HalfSwapIdeal.main_arg4) = m ((c : Thread nD τ).loc Cert.HalfSwapIdeal.main_arg4)
      ∧ s.mem ((c : Thread nD τ).loc Cert.HalfSwapIdeal.main_arg5) = m ((c : Thread nD τ).loc Cert.HalfSwapIdeal.main_arg5)
      ∧ s.mem ((c : Thread nD τ).loc Cert.HalfSwapIdeal.main_arg6) = m ((c : Thread nD τ).loc Cert.HalfSwapIdeal.main_arg6)
      ∧ s.mem ((c : Thread nD τ).loc Cert.HalfSwapIdeal.main_arg7) = m ((c : Thread nD τ).loc Cert.HalfSwapIdeal.main_arg7)
      ∧ s.mem ((c : Thread nD τ).loc Cert.HalfSwapIdeal.main_arg8) = m ((c : Thread nD τ).loc Cert.HalfSwapIdeal.main_arg8) :=
  ⟨h.1 0, h.1 1, h.1 2, h.1 3, h.1 4, h.1 5, h.1 6, h.1 7, h.1 8⟩

theorem frame_kernel : Cert.quiescent_HalfSwap := fun m ρ _ =>
  (θ_run Cert.HalfSwapIdeal.defs _ _).mono (fun _ h => ⟨fun c => args_kept (h.1 c), h.2⟩) (Cert.Swap.run_main (F := Bits) m ρ)

theorem frame_ideal : Cert.quiescent_HalfSwapIdeal := fun m ρ _ =>
  (θ_run Cert.HalfSwapIdeal.defs _ _).mono (fun _ h => ⟨fun c => args_kept (h.1 c), h.2⟩) (Cert.Swap.run_main (F := Ideal) m ρ)

theorem frame_ref : Cert.quiescent_HalfSwapRefIdeal := fun m ρ _ =>
  (θ_run Cert.HalfSwapRefIdeal.defs _ _).mono (fun r h => ⟨fun c => (h c).2.2.2.2.2.2.2.2.2.2.2.2.2.2.2.2.2.2,
      Idealize.ShloMosaic.sem_eq_zero_of_no_sems (by decide) r.2⟩)
    (Cert.HalfSwapRefIdeal.Value.run (F := Ideal) m ρ)

/-- One entry of an array put together from two blocks of four slabs: the upper halves of the slabs from `p` on, and the
    lower halves of those from `q` on. -/
theorem joined_at (G H W : ℕ) (p q : ℕ) (x : (⟨3, ![8, G, W]⟩ : Shape).Idx → EReal) (h1 h2 h5)
    (r : Fin 8) (t : Fin H) (l : Fin W) (r' : Fin 8) (t' : Fin G)
    (hr : r'.val = if r.val < 4 then p + r.val else q + (r.val - 4)) (ht : t'.val = if r.val < 4 then t.val else H + t.val) :
    concatenate (α := EReal) ⟨3, ![8, H, W]⟩ 0 [⟨⟨3, ![4, H, W]⟩, extractStridedSlice ⟨3, ![4, H, W]⟩ ![p, 0, 0] x h1⟩,
      ⟨⟨3, ![4, H, W]⟩, extractStridedSlice ⟨3, ![4, H, W]⟩ ![q, H, 0] x h2⟩] h5 (ix3 r t l) = x (ix3 r' t' l) := by
  pointwise []
  split_ifs with h
  · rw [if_pos h] at hr ht
    refine congrArg x (funext fun a => Fin.ext ?_)
    fin_cases a
    · show p + r.val = r'.val; omega
    · show 0 + t.val = t'.val; omega
    · show 0 + l.val = l.val; omega
  · rw [if_neg h] at hr ht
    refine congrArg x (funext fun a => Fin.ext ?_)
    fin_cases a
    · show q + (r.val - 4) = r'.val; omega
    · show H + t.val = t'.val; omega
    · show 0 + l.val = l.val; omega

/-- One entry of core `c`'s part of an array cut between the two cores. -/
theorem block_at (H W : ℕ) (h : Layout.Tiles ⟨3, ![4, H, W]⟩ ⟨3, ![8, H, W]⟩ 0 2) (v : (⟨3, ![8, H, W]⟩ : Shape).Idx → EReal) (c : Fin 2)
    (r : Fin 4) (t : Fin H) (l : Fin W) (r' : Fin 8) (hr : r'.val = 4 * c.val + r.val) :
    Layout.block ⟨3, ![4, H, W]⟩ ⟨3, ![8, H, W]⟩ 0 2 c v h (ix3 r t l) = v (ix3 r' t l) := by
  have key : ∀ a : Fin 3, (h.idx c (ix3 r t l) a).val = (ix3 r' t l a).val := fun a => by
    fin_cases a
    · show c.val * 4 + r.val = r'.val; omega
    · rfl
    · rfl
  exact congrArg v (funext fun a => Fin.ext (key a))

/-- The half that core `c` ends with, taken from the part `f` of core `d`, is core `c`'s part of the array put together. -/
theorem half_block {G H W p q : ℕ} {x : (⟨3, ![8, G, W]⟩ : Shape).Idx → EReal} {h1 h2 h5} {o : Fin 3 → ℕ}
    {inb : ∀ a, o a + (⟨3, ![4, H, W]⟩ : Shape).size a ≤ (⟨3, ![4, G, W]⟩ : Shape).size a}
    {f : (⟨3, ![4, G, W]⟩ : Shape).Idx → EReal} {hf : Layout.Tiles ⟨3, ![4, G, W]⟩ ⟨3, ![8, G, W]⟩ 0 2} {hv : Layout.Tiles ⟨3, ![4, H, W]⟩ ⟨3, ![8, H, W]⟩ 0 2}
    (c d : Fin 2) (hpq : (if c.val = 0 then p else q) = 4 * d.val) (ho : o = ![0, H * c.val, 0])
    (hx : f = Layout.block ⟨3, ![4, G, W]⟩ ⟨3, ![8, G, W]⟩ 0 2 d x hf) :
    (fun i => f ((Rect.unit (s := ⟨3, ![4, G, W]⟩) o (⟨3, ![4, H, W]⟩ : Shape).size inb).emb i))
      = Layout.block ⟨3, ![4, H, W]⟩ ⟨3, ![8, H, W]⟩ 0 2 c
        (concatenate (α := EReal) ⟨3, ![8, H, W]⟩ 0 [⟨⟨3, ![4, H, W]⟩, extractStridedSlice ⟨3, ![4, H, W]⟩ ![p, 0, 0] x h1⟩,
          ⟨⟨3, ![4, H, W]⟩, extractStridedSlice ⟨3, ![4, H, W]⟩ ![q, H, 0] x h2⟩] h5) hv := by
  subst ho
  funext i
  obtain ⟨r, t, l, rfl⟩ : ∃ r t l, i = ix3 r t l := ⟨_, _, _, eq_ix3 i⟩
  have hc : c.val < 2 := c.isLt
  have hd : d.val < 2 := d.isLt
  have hG : H * c.val + H ≤ G := inb 1
  have ht : H * c.val + t.val < G := by have := t.isLt; omega
  have key : ∀ a : Fin 3, (![0, H * c.val, 0] : Fin 3 → ℕ) a + 1 * (ix3 r t l a).val = (ix3 r (⟨H * c.val + t.val, ht⟩ : Fin G) l a).val := fun a => by
    fin_cases a
    · show 0 + 1 * r.val = r.val; omega
    · show H * c.val + 1 * t.val = H * c.val + t.val; omega
    · show 0 + 1 * l.val = l.val; omega
  refine (congrArg f (funext fun a => Fin.ext (key a))).trans ?_
  rw [hx, block_at G W hf x d r _ l ⟨4 * d.val + r.val, by omega⟩ rfl, block_at H W hv _ c r t l ⟨4 * c.val + r.val, by omega⟩ rfl]
  refine (joined_at G H W p q x h1 h2 h5 _ t l _ _ ?_ ?_).symm
  · show 4 * d.val + r.val = if 4 * c.val + r.val < 4 then p + (4 * c.val + r.val) else q + (4 * c.val + r.val - 4)
    split_ifs at hpq ⊢ <;> omega
  · show H * c.val + t.val = if 4 * c.val + r.val < 4 then t.val else H + t.val
    rcases (by omega : c.val = 0 ∨ c.val = 1) with h | h <;> rw [h] <;> split_ifs <;> omega

theorem own_pieces (c : Fin 2) : (if c.val = 0 then 0 else 4) = 4 * c.val := by revert c; decide
theorem sent_pieces (c : Fin 2) : (if c.val = 0 then 4 else 0) = 4 * (Cert.Swap.peer c).val := by revert c; decide

theorem algebraic : Cert.algebraic_HalfSwapIdeal_HalfSwapRefIdeal := by
  intro m ρ m' ρ' _ hagree
  refine ⟨val_main_v2 (F := Ideal) (m' ((0 : Dev Cert.HalfSwapRefIdeal.nD).tc.loc Cert.HalfSwapRefIdeal.main_arg0)),
    val_main_v8 (F := Ideal) (m' ((0 : Dev Cert.HalfSwapRefIdeal.nD).tc.loc Cert.HalfSwapRefIdeal.main_arg1)),
    val_main_v14 (F := Ideal) (m' ((0 : Dev Cert.HalfSwapRefIdeal.nD).tc.loc Cert.HalfSwapRefIdeal.main_arg2)),
    val_main_v20 (F := Ideal) (m' ((0 : Dev Cert.HalfSwapRefIdeal.nD).tc.loc Cert.HalfSwapRefIdeal.main_arg3)),
    val_main_v26 (F := Ideal) (m' ((0 : Dev Cert.HalfSwapRefIdeal.nD).tc.loc Cert.HalfSwapRefIdeal.main_arg4)),
    val_main_v32 (F := Ideal) (m' ((0 : Dev Cert.HalfSwapRefIdeal.nD).tc.loc Cert.HalfSwapRefIdeal.main_arg5)),
    val_main_v38 (F := Ideal) (m' ((0 : Dev Cert.HalfSwapRefIdeal.nD).tc.loc Cert.HalfSwapRefIdeal.main_arg6)),
    val_main_v44 (F := Ideal) (m' ((0 : Dev Cert.HalfSwapRefIdeal.nD).tc.loc Cert.HalfSwapRefIdeal.main_arg7)),
    val_main_v50 (F := Ideal) (m' ((0 : Dev Cert.HalfSwapRefIdeal.nD).tc.loc Cert.HalfSwapRefIdeal.main_arg8)),
    val_main_v5 (F := Ideal) (m' ((0 : Dev Cert.HalfSwapRefIdeal.nD).tc.loc Cert.HalfSwapRefIdeal.main_arg0)),
    val_main_v11 (F := Ideal) (m' ((0 : Dev Cert.HalfSwapRefIdeal.nD).tc.loc Cert.HalfSwapRefIdeal.main_arg1)),
    val_main_v17 (F := Ideal) (m' ((0 : Dev Cert.HalfSwapRefIdeal.nD).tc.loc Cert.HalfSwapRefIdeal.main_arg2)),
    val_main_v23 (F := Ideal) (m' ((0 : Dev Cert.HalfSwapRefIdeal.nD).tc.loc Cert.HalfSwapRefIdeal.main_arg3)),
    val_main_v29 (F := Ideal) (m' ((0 : Dev Cert.HalfSwapRefIdeal.nD).tc.loc Cert.HalfSwapRefIdeal.main_arg4)),
    val_main_v35 (F := Ideal) (m' ((0 : Dev Cert.HalfSwapRefIdeal.nD).tc.loc Cert.HalfSwapRefIdeal.main_arg5)),
    val_main_v41 (F := Ideal) (m' ((0 : Dev Cert.HalfSwapRefIdeal.nD).tc.loc Cert.HalfSwapRefIdeal.main_arg6)),
    val_main_v47 (F := Ideal) (m' ((0 : Dev Cert.HalfSwapRefIdeal.nD).tc.loc Cert.HalfSwapRefIdeal.main_arg7)),
    val_main_v53 (F := Ideal) (m' ((0 : Dev Cert.HalfSwapRefIdeal.nD).tc.loc Cert.HalfSwapRefIdeal.main_arg8)), ?_, ?_⟩
  · refine (θ_run Cert.HalfSwapIdeal.defs _ _).mono (fun _ h c => ⟨?_, ?_, ?_, ?_, ?_, ?_, ?_, ?_, ?_, ?_, ?_, ?_, ?_, ?_, ?_, ?_, ?_, ?_, args_kept (h.1 c)⟩) (Cert.Swap.run_main (F := Ideal) m ρ)
    · exact ((h.1 c).2.1 0).trans (half_block c c (own_pieces c) (Cert.Swap.own_off c 0) (hagree c).1)
    · exact ((h.1 c).2.1 1).trans (half_block c c (own_pieces c) (Cert.Swap.own_off c 1) (hagree c).2.1)
    · exact ((h.1 c).2.1 2).trans (half_block c c (own_pieces c) (Cert.Swap.own_off c 2) (hagree c).2.2.1)
    · exact ((h.1 c).2.1 3).trans (half_block c c (own_pieces c) (Cert.Swap.own_off c 3) (hagree c).2.2.2.1)
    · exact ((h.1 c).2.1 4).trans (half_block c c (own_pieces c) (Cert.Swap.own_off c 4) (hagree c).2.2.2.2.1)
    · exact ((h.1 c).2.1 5).trans (half_block c c (own_pieces c) (Cert.Swap.own_off c 5) (hagree c).2.2.2.2.2.1)
    · exact ((h.1 c).2.1 6).trans (half_block c c (own_pieces c) (Cert.Swap.own_off c 6) (hagree c).2.2.2.2.2.2.1)
    · exact ((h.1 c).2.1 7).trans (half_block c c (own_pieces c) (Cert.Swap.own_off c 7) (hagree c).2.2.2.2.2.2.2.1)
    · exact ((h.1 c).2.1 8).trans (half_block c c (own_pieces c) (Cert.Swap.own_off c 8) (hagree c).2.2.2.2.2.2.2.2)
    · exact ((h.1 c).2.2 (0, ()) _ rfl).trans (half_block c (Cert.Swap.peer c) (sent_pieces c) (Cert.Swap.back_off c 0) (hagree _).1)
    · exact ((h.1 c).2.2 (1, ()) _ rfl).trans (half_block c (Cert.Swap.peer c) (sent_pieces c) (Cert.Swap.back_off c 1) (hagree _).2.1)
    · exact ((h.1 c).2.2 (2, ()) _ rfl).trans (half_block c (Cert.Swap.peer c) (sent_pieces c) (Cert.Swap.back_off c 2) (hagree _).2.2.1)
    · exact ((h.1 c).2.2 (3, ()) _ rfl).trans (half_block c (Cert.Swap.peer c) (sent_pieces c) (Cert.Swap.back_off c 3) (hagree _).2.2.2.1)
    · exact ((h.1 c).2.2 (4, ()) _ rfl).trans (half_block c (Cert.Swap.peer c) (sent_pieces c) (Cert.Swap.back_off c 4) (hagree _).2.2.2.2.1)
    · exact ((h.1 c).2.2 (5, ()) _ rfl).trans (half_block c (Cert.Swap.peer c) (sent_pieces c) (Cert.Swap.back_off c 5) (hagree _).2.2.2.2.2.1)
    · exact ((h.1 c).2.2 (6, ()) _ rfl).trans (half_block c (Cert.Swap.peer c) (sent_pieces c) (Cert.Swap.back_off c 6) (hagree _).2.2.2.2.2.2.1)
    · exact ((h.1 c).2.2 (7, ()) _ rfl).trans (half_block c (Cert.Swap.peer c) (sent_pieces c) (Cert.Swap.back_off c 7) (hagree _).2.2.2.2.2.2.2.1)
    · exact ((h.1 c).2.2 (8, ()) _ rfl).trans (half_block c (Cert.Swap.peer c) (sent_pieces c) (Cert.Swap.back_off c 8) (hagree _).2.2.2.2.2.2.2.2)
  · exact (θ_run Cert.HalfSwapRefIdeal.defs _ _).mono (fun _ h => ⟨(h 0).1.trans (val_main_v2_eq _),
        (h 0).2.1.trans (val_main_v8_eq _),
        (h 0).2.2.1.trans (val_main_v14_eq _),
        (h 0).2.2.2.1.trans (val_main_v20_eq _),
        (h 0).2.2.2.2.1.trans (val_main_v26_eq _),
        (h 0).2.2.2.2.2.1.trans (val_main_v32_eq _),
        (h 0).2.2.2.2.2.2.1.trans (val_main_v38_eq _),
        (h 0).2.2.2.2.2.2.2.1.trans (val_main_v44_eq _),
        (h 0).2.2.2.2.2.2.2.2.1.trans (val_main_v50_eq _),
        (h 0).2.2.2.2.2.2.2.2.2.1.trans (val_main_v5_eq _),
        (h 0).2.2.2.2.2.2.2.2.2.2.1.trans (val_main_v11_eq _),
        (h 0).2.2.2.2.2.2.2.2.2.2.2.1.trans (val_main_v17_eq _),
        (h 0).2.2.2.2.2.2.2.2.2.2.2.2.1.trans (val_main_v23_eq _),
        (h 0).2.2.2.2.2.2.2.2.2.2.2.2.2.1.trans (val_main_v29_eq _),
        (h 0).2.2.2.2.2.2.2.2.2.2.2.2.2.2.1.trans (val_main_v35_eq _),
        (h 0).2.2.2.2.2.2.2.2.2.2.2.2.2.2.2.1.trans (val_main_v41_eq _),
        (h 0).2.2.2.2.2.2.2.2.2.2.2.2.2.2.2.2.1.trans (val_main_v47_eq _),
        (h 0).2.2.2.2.2.2.2.2.2.2.2.2.2.2.2.2.2.1.trans (val_main_v53_eq _), (h 0).2.2.2.2.2.2.2.2.2.2.2.2.2.2.2.2.2.2⟩)
      (Cert.HalfSwapRefIdeal.Value.run (F := Ideal) m' ρ')

end Cert.Proof.HalfSwapClaims
end
-- ==== Proof.ChipSwap.lean ====
/- The exchange of nine arrays' slabs between the four chips: of each array chip `c` keeps slab `c` and sends every
   other slab to the chip it is numbered after, where it lands as slab `c` of the result. -/
module

public import proofs.«01_k».proof.Proof.ExchangeMem
public import proofs.«01_k».proof.Proof.Gen.ChipSwapIdeal
public import proofs.«01_k».proof.Proof.Gen.ChipSwapIdeal.Skeleton
public import proofs.«01_k».proof.Proof.Gen.ChipSwapIdeal.Launch

@[expose] public section

noncomputable section

namespace Cert.Chips

open Cert.ChipSwapIdeal Cert.ChipSwapIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange

variable {F : FTy → Type} [FloatOps F]

/-- The three other chips, seen from chip `c`: across the first axis, across the second, across both. -/
def flip (k : Fin 3) (c : Dev nD) : Dev nD :=
  ⟨(![2, 1, 3] : Fin 3 → ℕ) k ^^^ c.val, Nat.xor_lt_two_pow (n := 2) (by revert k; decide) c.isLt⟩
theorem flip_flip (k : Fin 3) (c : Dev nD) : flip k (flip k c) = c := by revert k c; decide
theorem flip_ne (k : Fin 3) (c : Dev nD) : flip k c ≠ c := by revert k c; decide
theorem flip_inj (c : Dev nD) (k l : Fin 3) : k ≠ l → flip k c ≠ flip l c := by revert c k l; decide
def across (k : Fin 3) : Dev nD ≃ Dev nD := ⟨flip k, flip k, flip_flip k, flip_flip k⟩

/-- Rows and columns of a slab of array `t`. -/
abbrev H : Fin 9 → ℕ := ![1024, 1024, 704, 1024, 128, 256, 1024, 1024, 704]
abbrev W : Fin 9 → ℕ := ![1408, 1408, 2048, 1024, 1024, 2048, 1408, 1408, 2048]
abbrev SH (t : Fin 9) : Shape := ⟨2, ![H t, W t]⟩
abbrev S1 (t : Fin 9) : Shape := ⟨3, ![1, H t, W t]⟩
abbrev SG (t : Fin 9) : Shape := ⟨3, ![4, H t, W t]⟩
theorem squeezes : ∀ t, (S1 t).Squeezes (SH t) := by decide

/-- Array `t` and its result. -/
abbrev gR : Fin 9 → Ref sig .tc
  | 0 => main_arg0
  | 1 => main_arg1
  | 2 => main_arg2
  | 3 => main_arg3
  | 4 => main_arg4
  | 5 => main_arg5
  | 6 => main_arg6
  | 7 => main_arg7
  | 8 => main_arg8
abbrev oR : Fin 9 → Ref sig .tc
  | 0 => main_v1_0
  | 1 => main_v1_1
  | 2 => main_v1_2
  | 3 => main_v1_3
  | 4 => main_v1_4
  | 5 => main_v1_5
  | 6 => main_v1_6
  | 7 => main_v1_7
  | 8 => main_v1_8
abbrev gM : (t : Fin 9) → Memref sig .tc .hbm (SG t) .bf16
  | 0 => Memref.whole main_arg0
  | 1 => Memref.whole main_arg1
  | 2 => Memref.whole main_arg2
  | 3 => Memref.whole main_arg3
  | 4 => Memref.whole main_arg4
  | 5 => Memref.whole main_arg5
  | 6 => Memref.whole main_arg6
  | 7 => Memref.whole main_arg7
  | 8 => Memref.whole main_arg8
abbrev oM : (t : Fin 9) → Memref sig .tc .hbm (SG t) .bf16
  | 0 => Memref.whole main_v1_0
  | 1 => Memref.whole main_v1_1
  | 2 => Memref.whole main_v1_2
  | 3 => Memref.whole main_v1_3
  | 4 => Memref.whole main_v1_4
  | 5 => Memref.whole main_v1_5
  | 6 => Memref.whole main_v1_6
  | 7 => Memref.whole main_v1_7
  | 8 => Memref.whole main_v1_8
theorem whole_g : ∀ t, (gM t).IsWhole
  | 0 | 1 | 2 | 3 | 4 | 5 | 6 | 7 | 8 => Memref.isWhole_whole _
theorem whole_o : ∀ t, (oM t).IsWhole
  | 0 | 1 | 2 | 3 | 4 | 5 | 6 | 7 | 8 => Memref.isWhole_whole _
/-- Where the own slab begins, and those of the other chips. -/
abbrev offOwn (c : Dev nD) : Fin 9 → Fin 3 → ℕ
  | 0 => k0_off1 c
  | 1 => k0_off1 c
  | 2 => k0_off2 c
  | 3 => k0_off3 c
  | 4 => k0_off4 c
  | 5 => k0_off5 c
  | 6 => k0_off1 c
  | 7 => k0_off1 c
  | 8 => k0_off2 c
abbrev offOther (c : Dev nD) : Fin 9 → Fin 3 → Fin 3 → ℕ
  | 0 => ![k0_off6 c, k0_off7 c, k0_off8 c]
  | 1 => ![k0_off6 c, k0_off7 c, k0_off8 c]
  | 2 => ![k0_off9 c, k0_off10 c, k0_off11 c]
  | 3 => ![k0_off12 c, k0_off13 c, k0_off14 c]
  | 4 => ![k0_off15 c, k0_off16 c, k0_off17 c]
  | 5 => ![k0_off18 c, k0_off19 c, k0_off20 c]
  | 6 => ![k0_off6 c, k0_off7 c, k0_off8 c]
  | 7 => ![k0_off6 c, k0_off7 c, k0_off8 c]
  | 8 => ![k0_off9 c, k0_off10 c, k0_off11 c]
theorem own_off : ∀ (c : Dev nD) t, offOwn c t = ![c.val, 0, 0] := by decide +kernel
theorem other_off : ∀ (c : Dev nD) t k, offOther c t k = ![(flip k c).val, 0, 0] := by decide +kernel
theorem own_inb : ∀ (c : Dev nD) t a, offOwn c t a + (S1 t).size a ≤ (SG t).size a := by decide +kernel
theorem other_inb : ∀ (c : Dev nD) t k a, offOther c t k a + (S1 t).size a ≤ (SG t).size a := by decide +kernel
theorem own_words : ∀ (c : Dev nD) t, (Rect.unit (s := SG t) (offOwn c t) (S1 t).size (own_inb c t)).WholeWords (EltTy.packing .bf16) := by decide +kernel
theorem other_words : ∀ (c : Dev nD) t k, (Rect.unit (s := SG t) (offOther c t k) (S1 t).size (other_inb c t k)).WholeWords (EltTy.packing .bf16) := by decide +kernel
/-- The other chips, as the copies of array `t` name them. -/
abbrev dev (c : Dev nD) : Fin 9 → Fin 3 → Dev nD
  | 0 => ![⟨k0_dev1 c, k0_dev1_lt c⟩, ⟨k0_dev2 c, k0_dev2_lt c⟩, ⟨k0_dev3 c, k0_dev3_lt c⟩]
  | 1 => ![⟨k0_dev4 c, k0_dev4_lt c⟩, ⟨k0_dev5 c, k0_dev5_lt c⟩, ⟨k0_dev6 c, k0_dev6_lt c⟩]
  | 2 => ![⟨k0_dev7 c, k0_dev7_lt c⟩, ⟨k0_dev8 c, k0_dev8_lt c⟩, ⟨k0_dev9 c, k0_dev9_lt c⟩]
  | 3 => ![⟨k0_dev10 c, k0_dev10_lt c⟩, ⟨k0_dev11 c, k0_dev11_lt c⟩, ⟨k0_dev12 c, k0_dev12_lt c⟩]
  | 4 => ![⟨k0_dev13 c, k0_dev13_lt c⟩, ⟨k0_dev14 c, k0_dev14_lt c⟩, ⟨k0_dev15 c, k0_dev15_lt c⟩]
  | 5 => ![⟨k0_dev16 c, k0_dev16_lt c⟩, ⟨k0_dev17 c, k0_dev17_lt c⟩, ⟨k0_dev18 c, k0_dev18_lt c⟩]
  | 6 => ![⟨k0_dev19 c, k0_dev19_lt c⟩, ⟨k0_dev20 c, k0_dev20_lt c⟩, ⟨k0_dev21 c, k0_dev21_lt c⟩]
  | 7 => ![⟨k0_dev22 c, k0_dev22_lt c⟩, ⟨k0_dev23 c, k0_dev23_lt c⟩, ⟨k0_dev24 c, k0_dev24_lt c⟩]
  | 8 => ![⟨k0_dev25 c, k0_dev25_lt c⟩, ⟨k0_dev26 c, k0_dev26_lt c⟩, ⟨k0_dev27 c, k0_dev27_lt c⟩]
theorem dev_eq : ∀ (c : Dev nD) t k, dev c t k = flip k c := by decide +kernel

/-- Slab `c` of array `t` and of its result, and the slab of the array that is for another chip. -/
abbrev keptM (c : Dev nD) (t : Fin 9) : Memref sig .tc .hbm (SH t) .bf16 :=
  ((gM t).slice (Rect.unit (s := SG t) (offOwn c t) (S1 t).size (own_inb c t)) (fun _ => rfl)).squeeze (SH t) (squeezes t)
abbrev sentM (c : Dev nD) (t : Fin 9) (k : Fin 3) : Memref sig .tc .hbm (SH t) .bf16 :=
  ((gM t).slice (Rect.unit (s := SG t) (offOther c t k) (S1 t).size (other_inb c t k)) (fun _ => rfl)).squeeze (SH t) (squeezes t)
abbrev ownM (c : Dev nD) (t : Fin 9) : Memref sig .tc .hbm (SH t) .bf16 :=
  ((oM t).slice (Rect.unit (s := SG t) (offOwn c t) (S1 t).size (own_inb c t)) (fun _ => rfl)).squeeze (SH t) (squeezes t)

/-- The semaphores: the local copies', the sends', the receives'. -/
abbrev dsem : Fin 9 ⊕ (Fin 9 × Fin 3 ⊕ Fin 9 × Fin 3) → DmaSem sig
  | .inl t => ⟨54 + t.val, by have := t.isLt; show _ < 63; omega⟩
  | .inr (.inl t) => ⟨3 * t.1.val + t.2.val, by have := t.1.isLt; have := t.2.isLt; show _ < 63; omega⟩
  | .inr (.inr t) => ⟨27 + (3 * t.1.val + t.2.val), by have := t.1.isLt; have := t.2.isLt; show _ < 63; omega⟩

/-- A slab's credit. -/
abbrev N (t : Fin 9) : ℕ := (ownM 0 t).view.dmaCredit
theorem credit_own (c : Dev nD) : ∀ t : Fin 9, (ownM c t).view.dmaCredit = N t
  | 0 | 1 | 2 | 3 | 4 | 5 | 6 | 7 | 8 => rfl
theorem credit_sent (c : Dev nD) (k : Fin 3) : ∀ t : Fin 9, (sentM c t k).view.dmaCredit = N t
  | 0 | 1 | 2 | 3 | 4 | 5 | 6 | 7 | 8 => rfl
theorem exact_kept (c : Dev nD) (t : Fin 9) : (keptM c t).view.WordExact := ((whole_g t).wordExact_slice rfl _ (own_words c t)).reshape _ _
theorem exact_sent (c : Dev nD) (t : Fin 9) (k : Fin 3) : (sentM c t k).view.WordExact := ((whole_g t).wordExact_slice rfl _ (other_words c t k)).reshape _ _
theorem exact_own (c : Dev nD) (t : Fin 9) : (ownM c t).view.WordExact := ((whole_o t).wordExact_slice rfl _ (own_words c t)).reshape _ _
theorem unshared : ∀ t, (oM t).view.ref.isScScratch = false
  | 0 | 1 | 2 | 3 | 4 | 5 | 6 | 7 | 8 => rfl

abbrev arrays : List (Fin 9) := [0, 1, 2, 3, 4, 5, 6, 7, 8]
abbrev others : List (Fin 9 × Fin 3) := arrays.flatMap fun t => [(t, 0), (t, 1), (t, 2)]
theorem arrays_all : ∀ t, t ∈ arrays := by decide
theorem others_all : ∀ j, j ∈ others := by decide

/-- The copies of the call. -/
abbrev plan : Plan nD τ sig (Fin 9) (Fin 9 × Fin 3) where
  sI := SH
  eI _ := .bf16
  sJ j := SH j.1
  eJ _ := .bf16
  srcI c t := keptM c t
  dstI c t := ownM c t
  srcJ c j := sentM c j.1 j.2
  dstJ c j := ownM c j.1
  gotA c j := sentM c j.1 j.2
  gotB c j := ownM c j.1
  wordsI c t := ⟨exact_kept c t, exact_own c t⟩
  wordsJ c j := ⟨exact_sent c j.1 j.2, exact_own c j.1⟩
  wordsG c j := ⟨exact_sent c j.1 j.2, exact_own c j.1⟩
  unshared _ j := unshared j.1
  peer j := across j.2
  named c j := dev c j.1 j.2
  named_eq c j := dev_eq c j.1 j.2
  route := by decide
  sem := dsem
  sem_inj := by decide
  nI t := N t
  nJ j := N j.1
  posI t := View.dmaCredit_pos _ (by revert t; decide)
  posJ j := View.dmaCredit_pos _ (by revert j; decide)
  creditI c t := credit_own c t
  creditS c j := credit_sent c j.2 j.1
  creditJ c j := credit_own c j.1
  creditG c j := credit_own c j.1
  qI _ := fullShare.left.left
  qJ j := Plan.share j.2
  starts := arrays.map .inl ++ others.map .inr
  waits := arrays.map .inl ++ others.flatMap fun j => [.inr (.inl j), .inr (.inr j)]

theorem fits : plan.Fits (F := F) cfg0 main where
  starts_nodup := by decide
  starts_all := by
    rintro (t | j)
    · exact List.mem_append_left _ (List.mem_append_left _ (List.mem_map_of_mem (arrays_all t)))
    · exact List.mem_append_left _ (List.mem_append_right _ (List.mem_map_of_mem (others_all j)))
  waits_nodup := by decide
  waits_all := by
    rintro (t | j | j)
    · exact List.mem_append_left _ (List.mem_append_left _ (List.mem_map_of_mem (arrays_all t)))
    all_goals exact List.mem_append_left _ (List.mem_append_right _ (List.mem_flatMap.mpr ⟨j, others_all j, by simp⟩))
  starts_first _ _ := rfl
  relays_late := nofun
  orig_first := nofun
  noWindow := rfl
  one := N_0
  cellOf_inj := cellOf_inj
  win := winFacts0
  whole := stage_whole0
  pos := block_pos0
  own := by decide
  allScoped := by decide
  rest := fun c => scopedRest0_eq c
  main_eq := fun _ => rfl

set_option maxRecDepth 65536 in
set_option maxHeartbeats 8000000 in
/-- The body is the starts and the waits. -/
theorem body_runs : Plan.Runs (F := F) plan defs₀ cfg0 := by
  intro c t X
  rw [fin_N0 t]
  show _ ⊢ wp frame (wpE (defs₀ (F := F)) Plan.𝒱₀ c none) Set.univ (cc0_red_xchg (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole main_v1_7) (Memref.isWhole_whole _) (Memref.whole main_v1_8) (Memref.isWhole_whole _) cc0_scratch0 cc0_scratch1 cc0_scratch2) _
  simp only [cc0_red_xchg_eq_skeleton]; unfold cc0_red_xchg_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [k0_part10_eq_skeleton]; unfold k0_part10_skel
  simp only [k0_part11_eq_skeleton]; unfold k0_part11_skel
  simp only [k0_part12_eq_skeleton]; unfold k0_part12_skel
  simp only [k0_part13_eq_skeleton]; unfold k0_part13_skel
  simp only [k0_part14_eq_skeleton]; unfold k0_part14_skel
  simp only [k0_part15_eq_skeleton]; unfold k0_part15_skel
  simp only [k0_part16_eq_skeleton]; unfold k0_part16_skel
  simp only [k0_part17_eq_skeleton]; unfold k0_part17_skel
  simp only [k0_part18_eq_skeleton]; unfold k0_part18_skel
  simp only [k0_part19_eq_skeleton]; unfold k0_part19_skel
  simp only [k0_part20_eq_skeleton]; unfold k0_part20_skel
  simp only [k0_part21_eq_skeleton]; unfold k0_part21_skel
  simp only [k0_part22_eq_skeleton]; unfold k0_part22_skel
  simp only [k0_part23_eq_skeleton]; unfold k0_part23_skel
  simp only [k0_part24_eq_skeleton]; unfold k0_part24_skel
  simp only [k0_part25_eq_skeleton]; unfold k0_part25_skel
  simp only [k0_part26_eq_skeleton]; unfold k0_part26_skel
  simp only [k0_part27_eq_skeleton]; unfold k0_part27_skel
  simp only [k0_part28_eq_skeleton]; unfold k0_part28_skel
  simp only [k0_part29_eq_skeleton]; unfold k0_part29_skel
  simp only [k0_part30_eq_skeleton]; unfold k0_part30_skel
  simp only [k0_part31_eq_skeleton]; unfold k0_part31_skel
  simp only [k0_part32_eq_skeleton]; unfold k0_part32_skel
  simp only [k0_part33_eq_skeleton]; unfold k0_part33_skel
  simp only [Prog.lift, Prog.bind_op, Prog.bind_ret, Prog.pure_eq_ret, wp_deviceId]
  exact .rfl

/-! ## The run -/

theorem own_apart (c d : Dev nD) (h : c ≠ d) (t : Fin 9) : Plan.ApartAs (oM t).view (Rect.unit (s := SG t) (offOwn c t) (S1 t).size (own_inb c t))
    (Rect.unit (s := SG t) (offOwn d t) (S1 t).size (own_inb d t)) (SH t) (squeezes t).numel_eq (squeezes t).numel_eq := by
  refine Plan.Apart.as (View.disjoint_slice_of_sep _ _ _ (0 : Fin 3) rfl rfl ?_) _ _
  have h1 : offOwn c t 0 = c.val := congrFun (own_off c t) 0
  have h2 : offOwn d t 0 = d.val := congrFun (own_off d t) 0
  show offOwn c t 0 + 1 ≤ offOwn d t 0 ∨ offOwn d t 0 + 1 ≤ offOwn c t 0
  have h3 : c.val ≠ d.val := fun e => h (Fin.ext e)
  rw [h1, h2]; omega

abbrev buf (x : Fin 9 × Fin 2) : Ref sig .tc := ![gR x.1, oR x.1] x.2

variable (m : (ℓ : Loc nD τ sig) → Buf (Elt F) ℓ) (ρ : Dev nD → PrngReg)

theorem dealt (c : Dev nD) : ∀ t : Fin 9, (bigSep Finset.univ fun k : Fin 2 => (((c : Thread nD τ).loc (buf (t, k))) ↦{fullShare} m ((c : Thread nD τ).loc (buf (t, k))) : sProp (MT nD τ sig Unit (Elt F) ℕ (UU nD τ sig) ℕ)))
    ⊢ Plan.dealt plan m gR c t
  | 0 => Plan.deal_four c ![main_arg0, main_v1_0] (keptM c 0).view.set (fun k => (sentM c 0 k).view.set) (ownM c 0).view.set (fun k => (ownM (flip k c) 0).view.set)
      (fun k => own_apart _ _ (flip_ne k c).symm 0) (fun k l h => own_apart _ _ (flip_inj c k l h) 0) m
  | 1 => Plan.deal_four c ![main_arg1, main_v1_1] (keptM c 1).view.set (fun k => (sentM c 1 k).view.set) (ownM c 1).view.set (fun k => (ownM (flip k c) 1).view.set)
      (fun k => own_apart _ _ (flip_ne k c).symm 1) (fun k l h => own_apart _ _ (flip_inj c k l h) 1) m
  | 2 => Plan.deal_four c ![main_arg2, main_v1_2] (keptM c 2).view.set (fun k => (sentM c 2 k).view.set) (ownM c 2).view.set (fun k => (ownM (flip k c) 2).view.set)
      (fun k => own_apart _ _ (flip_ne k c).symm 2) (fun k l h => own_apart _ _ (flip_inj c k l h) 2) m
  | 3 => Plan.deal_four c ![main_arg3, main_v1_3] (keptM c 3).view.set (fun k => (sentM c 3 k).view.set) (ownM c 3).view.set (fun k => (ownM (flip k c) 3).view.set)
      (fun k => own_apart _ _ (flip_ne k c).symm 3) (fun k l h => own_apart _ _ (flip_inj c k l h) 3) m
  | 4 => Plan.deal_four c ![main_arg4, main_v1_4] (keptM c 4).view.set (fun k => (sentM c 4 k).view.set) (ownM c 4).view.set (fun k => (ownM (flip k c) 4).view.set)
      (fun k => own_apart _ _ (flip_ne k c).symm 4) (fun k l h => own_apart _ _ (flip_inj c k l h) 4) m
  | 5 => Plan.deal_four c ![main_arg5, main_v1_5] (keptM c 5).view.set (fun k => (sentM c 5 k).view.set) (ownM c 5).view.set (fun k => (ownM (flip k c) 5).view.set)
      (fun k => own_apart _ _ (flip_ne k c).symm 5) (fun k l h => own_apart _ _ (flip_inj c k l h) 5) m
  | 6 => Plan.deal_four c ![main_arg6, main_v1_6] (keptM c 6).view.set (fun k => (sentM c 6 k).view.set) (ownM c 6).view.set (fun k => (ownM (flip k c) 6).view.set)
      (fun k => own_apart _ _ (flip_ne k c).symm 6) (fun k l h => own_apart _ _ (flip_inj c k l h) 6) m
  | 7 => Plan.deal_four c ![main_arg7, main_v1_7] (keptM c 7).view.set (fun k => (sentM c 7 k).view.set) (ownM c 7).view.set (fun k => (ownM (flip k c) 7).view.set)
      (fun k => own_apart _ _ (flip_ne k c).symm 7) (fun k l h => own_apart _ _ (flip_inj c k l h) 7) m
  | 8 => Plan.deal_four c ![main_arg8, main_v1_8] (keptM c 8).view.set (fun k => (sentM c 8 k).view.set) (ownM c 8).view.set (fun k => (ownM (flip k c) 8).view.set)
      (fun k => own_apart _ _ (flip_ne k c).symm 8) (fun k l h => own_apart _ _ (flip_inj c k l h) 8) m

theorem run_main : θ_run (defs (F := F)) (onTc (τ := τ) (main (F := F))) (⟨m, fun _ => 0, ρ⟩ : MemSt nD τ sig (Elt F)) (fun r => (∀ c, Plan.Ends plan m gR c r.2) ∧ r.2.sem = fun _ => 0) :=
  Plan.ends plan m ρ gR defs₀ fits (fun _ _ h => nomatch h) body_runs buf (by decide) (by decide) (dealt m)

end Cert.Chips

end
-- ==== Proof.ChipSwapClaims.lean ====
/-
  The claims about the exchange of nine arrays' slabs between the four chips: both frames from the one run, and each chip's
  results as its part of the arrays with their two slab axes exchanged.
-/
module

public import proofs.«01_k».proof.Defs
public import proofs.«01_k».proof.Proof.ChipSwap
public import proofs.«01_k».proof.Proof.Gen.ChipSwap
public import proofs.«01_k».proof.Proof.Gen.ChipSwapRefIdeal.Run
public import proofs.«01_k».proof.Proof.Gen.ChipSwapRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

namespace Cert.Proof.ChipSwapClaims

open Cert.ChipSwapRefIdeal.Read
open Cert.ChipSwapIdeal (nD τ sig)

/-- What the end of a run says of the nine arguments, one by one. -/
theorem args_kept {F : FTy → Type} [FloatOps F] {m : (ℓ : Loc nD τ sig) → Buf (Elt F) ℓ} {c : Dev nD} {s : MemSt nD τ sig (Elt F)}
    (h : Cert.Exchange.Plan.Ends Cert.Chips.plan m Cert.Chips.gR c s) :
    s.mem ((c : Thread nD τ).loc Cert.ChipSwapIdeal.main_arg0) = m ((c : Thread nD τ).loc Cert.ChipSwapIdeal.main_arg0)
      ∧ s.mem ((c : Thread nD τ).loc Cert.ChipSwapIdeal.main_arg1) = m ((c : Thread nD τ).loc Cert.ChipSwapIdeal.main_arg1)
      ∧ s.mem ((c : Thread nD τ).loc Cert.ChipSwapIdeal.main_arg2) = m ((c : Thread nD τ).loc Cert.ChipSwapIdeal.main_arg2)
      ∧ s.mem ((c : Thread nD τ).loc Cert.ChipSwapIdeal.main_arg3) = m ((c : Thread nD τ).loc Cert.ChipSwapIdeal.main_arg3)
      ∧ s.mem ((c : Thread nD τ).loc Cert.ChipSwapIdeal.main_arg4) = m ((c : Thread nD τ).loc Cert.ChipSwapIdeal.main_arg4)
      ∧ s.mem ((c : Thread nD τ).loc Cert.ChipSwapIdeal.main_arg5) = m ((c : Thread nD τ).loc Cert.ChipSwapIdeal.main_arg5)
      ∧ s.mem ((c : Thread nD τ).loc Cert.ChipSwapIdeal.main_arg6) = m ((c : Thread nD τ).loc Cert.ChipSwapIdeal.main_arg6)
      ∧ s.mem ((c : Thread nD τ).loc Cert.ChipSwapIdeal.main_arg7) = m ((c : Thread nD τ).loc Cert.ChipSwapIdeal.main_arg7)
      ∧ s.mem ((c : Thread nD τ).loc Cert.ChipSwapIdeal.main_arg8) = m ((c : Thread nD τ).loc Cert.ChipSwapIdeal.main_arg8) :=
  ⟨h.1 0, h.1 1, h.1 2, h.1 3, h.1 4, h.1 5, h.1 6, h.1 7, h.1 8⟩

theorem frame_kernel : Cert.quiescent_ChipSwap := fun m ρ _ =>
  (θ_run Cert.ChipSwapIdeal.defs _ _).mono (fun _ h => ⟨fun c => args_kept (h.1 c), h.2⟩) (Cert.Chips.run_main (F := Bits) m ρ)

theorem frame_ideal : Cert.quiescent_ChipSwapIdeal := fun m ρ _ =>
  (θ_run Cert.ChipSwapIdeal.defs _ _).mono (fun _ h => ⟨fun c => args_kept (h.1 c), h.2⟩) (Cert.Chips.run_main (F := Ideal) m ρ)

theorem frame_ref : Cert.quiescent_ChipSwapRefIdeal := fun m ρ _ =>
  (θ_run Cert.ChipSwapRefIdeal.defs _ _).mono (fun r h => ⟨fun c => (h c).2.2.2.2.2.2.2.2.2, Idealize.ShloMosaic.sem_eq_zero_of_no_sems (by decide) r.2⟩)
    (Cert.ChipSwapRefIdeal.Value.run (F := Ideal) m ρ)

/-- One entry of chip `c`'s part of an array cut between the four chips. -/
theorem block_at {H W : ℕ} (h : Layout.Tiles ⟨3, ![4, H, W]⟩ ⟨3, ![16, H, W]⟩ 0 4) (v : (⟨3, ![16, H, W]⟩ : Shape).Idx → EReal) (c k : Fin 4)
    (r : Fin H) (l : Fin W) (q : Fin 16) (hq : q.val = 4 * c.val + k.val) :
    Layout.block ⟨3, ![4, H, W]⟩ ⟨3, ![16, H, W]⟩ 0 4 c v h (ix3 k r l) = v (ix3 q r l) := by
  have key : ∀ a : Fin 3, (h.idx c (ix3 k r l) a).val = (ix3 q r l a).val := fun a => by
    fin_cases a
    · show c.val * 4 + k.val = q.val; omega
    · rfl
    · rfl
  exact congrArg v (funext fun a => Fin.ext (key a))

/-- The array with its two slab axes exchanged: slab `4 a + b` is slab `4 b + a` of the array. -/
theorem swapped_at {H W : ℕ} (p : (⟨3, ![16, H, W]⟩ : Shape).Idx → EReal) (h1 h2 h3) (a b : Fin 4) (q q' : Fin 16) (hq : q.val = 4 * a.val + b.val)
    (hq' : q'.val = 4 * b.val + a.val) (r : Fin H) (l : Fin W) :
    shapeCast (s := ⟨4, ![4, 4, H, W]⟩) ⟨3, ![16, H, W]⟩ (transpose (s := ⟨4, ![4, 4, H, W]⟩) ⟨4, ![4, 4, H, W]⟩ [1, 0, 2, 3]
      (shapeCast (s := ⟨3, ![16, H, W]⟩) ⟨4, ![4, 4, H, W]⟩ p h1) h2) h3 (ix3 q r l) = p (ix3 q' r l) := by
  have e3 : Shape.reshapeEquiv h3 (ix3 q r l) = ix4 a b r l := Shape.reshapeEquiv_eq_of_rowMajor h3 (by
    rw [rowMajor_val3 _ (H * W) W rfl rfl, rowMajor_val4 _ (4 * (H * W)) (H * W) W rfl rfl rfl]
    show a.val * (4 * (H * W)) + b.val * (H * W) + r.val * W + l.val = q.val * (H * W) + r.val * W + l.val
    rw [hq]; ring)
  have e1 : Shape.reshapeEquiv h1 (ix4 b a r l) = ix3 q' r l := Shape.reshapeEquiv_eq_of_rowMajor h1 (by
    rw [rowMajor_val3 _ (H * W) W rfl rfl, rowMajor_val4 _ (4 * (H * W)) (H * W) W rfl rfl rfl]
    show q'.val * (H * W) + r.val * W + l.val = b.val * (4 * (H * W)) + a.val * (H * W) + r.val * W + l.val
    rw [hq']; ring)
  show p (Shape.reshapeEquiv h1 (h2.src (Shape.reshapeEquiv h3 (ix3 q r l)))) = _
  rw [e3, ← e1]
  refine congrArg (fun i => p (Shape.reshapeEquiv h1 i)) (funext fun a => Fin.ext ?_)
  fin_cases a <;> rfl

/-- A slab of one array that holds a slab of another, both read at the shape of a slab alone. -/
theorem slab_at {H W : ℕ} {s f : (⟨3, ![4, H, W]⟩ : Shape).Idx → EReal} {o₁ o₂ : Fin 3 → ℕ}
    {inb₁ : ∀ a, o₁ a + (⟨3, ![1, H, W]⟩ : Shape).size a ≤ (⟨3, ![4, H, W]⟩ : Shape).size a} {inb₂ : ∀ a, o₂ a + (⟨3, ![1, H, W]⟩ : Shape).size a ≤ (⟨3, ![4, H, W]⟩ : Shape).size a}
    {hn : (⟨2, ![H, W]⟩ : Shape).numel = (⟨3, ![1, H, W]⟩ : Shape).numel} (k c : Fin 4) (h₁ : o₁ = ![k.val, 0, 0]) (h₂ : o₂ = ![c.val, 0, 0])
    (h : (fun i => s ((Rect.unit (s := ⟨3, ![4, H, W]⟩) o₁ (⟨3, ![1, H, W]⟩ : Shape).size inb₁).emb (Shape.reshapeEquiv hn i)))
      = fun i => f ((Rect.unit (s := ⟨3, ![4, H, W]⟩) o₂ (⟨3, ![1, H, W]⟩ : Shape).size inb₂).emb (Shape.reshapeEquiv hn i)))
    (r : Fin H) (l : Fin W) : s (ix3 k r l) = f (ix3 c r l) := by
  subst h₁ h₂
  have hi := congrFun h ((Shape.reshapeEquiv hn).symm (ix3 (0 : Fin 1) r l))
  simp only [Equiv.apply_symm_apply] at hi
  refine Eq.trans (congrArg s (funext fun a => Fin.ext ?_)) (hi.trans (congrArg f (funext fun a => Fin.ext ?_)))
  · fin_cases a
    · show k.val = k.val + 1 * 0; omega
    · show r.val = 0 + 1 * r.val; omega
    · show l.val = 0 + 1 * l.val; omega
  · fin_cases a
    · show c.val + 1 * 0 = c.val; omega
    · show 0 + 1 * r.val = r.val; omega
    · show 0 + 1 * l.val = l.val; omega

theorem covered : ∀ c d : Fin 4, d = c ∨ ∃ k, Cert.Chips.flip k c = d := by decide

/-- A result whose own slab is the array's and whose other slabs came from the other chips is the chip's part of the array with
    its two slab axes exchanged. -/
theorem chips_block {H W : ℕ} {p : (⟨3, ![16, H, W]⟩ : Shape).Idx → EReal} {s : (⟨3, ![4, H, W]⟩ : Shape).Idx → EReal} {h1 h2 h3}
    {hT hv : Layout.Tiles ⟨3, ![4, H, W]⟩ ⟨3, ![16, H, W]⟩ 0 4} {hn : (⟨2, ![H, W]⟩ : Shape).numel = (⟨3, ![1, H, W]⟩ : Shape).numel}
    {fs : Fin 4 → (⟨3, ![4, H, W]⟩ : Shape).Idx → EReal} (hp : ∀ d, fs d = Layout.block ⟨3, ![4, H, W]⟩ ⟨3, ![16, H, W]⟩ 0 4 d p hT)
    {own : Fin 4 → Fin 3 → ℕ} {other : Fin 4 → Fin 3 → Fin 3 → ℕ} (ho : ∀ c, own c = ![c.val, 0, 0]) (hq : ∀ c k, other c k = ![(Cert.Chips.flip k c).val, 0, 0])
    {inb₁ : ∀ c a, own c a + (⟨3, ![1, H, W]⟩ : Shape).size a ≤ (⟨3, ![4, H, W]⟩ : Shape).size a}
    {inb₂ : ∀ c k a, other c k a + (⟨3, ![1, H, W]⟩ : Shape).size a ≤ (⟨3, ![4, H, W]⟩ : Shape).size a} (c : Fin 4)
    (hs₁ : (fun i => s ((Rect.unit (s := ⟨3, ![4, H, W]⟩) (own c) (⟨3, ![1, H, W]⟩ : Shape).size (inb₁ c)).emb (Shape.reshapeEquiv hn i)))
      = fun i => fs c ((Rect.unit (s := ⟨3, ![4, H, W]⟩) (own c) (⟨3, ![1, H, W]⟩ : Shape).size (inb₁ c)).emb (Shape.reshapeEquiv hn i)))
    (hs₂ : ∀ k d, Cert.Chips.flip k c = d → (fun i => s ((Rect.unit (s := ⟨3, ![4, H, W]⟩) (own d) (⟨3, ![1, H, W]⟩ : Shape).size (inb₁ d)).emb (Shape.reshapeEquiv hn i)))
      = fun i => fs d ((Rect.unit (s := ⟨3, ![4, H, W]⟩) (other d k) (⟨3, ![1, H, W]⟩ : Shape).size (inb₂ d k)).emb (Shape.reshapeEquiv hn i))) :
    s = Layout.block ⟨3, ![4, H, W]⟩ ⟨3, ![16, H, W]⟩ 0 4 c (shapeCast (s := ⟨4, ![4, 4, H, W]⟩) ⟨3, ![16, H, W]⟩
      (transpose (s := ⟨4, ![4, 4, H, W]⟩) ⟨4, ![4, 4, H, W]⟩ [1, 0, 2, 3] (shapeCast (s := ⟨3, ![16, H, W]⟩) ⟨4, ![4, 4, H, W]⟩ p h1) h2) h3) hv := by
  funext i
  obtain ⟨d, r, l, rfl⟩ : ∃ d r l, i = ix3 d r l := ⟨_, _, _, eq_ix3 i⟩
  have hc : c.val < 4 := c.isLt
  have hd : d.val < 4 := d.isLt
  rw [block_at hv _ c d r l ⟨4 * c.val + d.val, by omega⟩ rfl, swapped_at p h1 h2 h3 c d _ ⟨4 * d.val + c.val, by omega⟩ rfl rfl r l,
    ← block_at hT p d c r l _ rfl, ← hp d]
  rcases covered c d with rfl | ⟨k, hk⟩
  · exact slab_at _ _ (ho _) (ho _) hs₁ r l
  · refine slab_at _ _ (ho _) ((hq d k).trans ?_) (hs₂ k d hk) r l
    rw [← hk, Cert.Chips.flip_flip]

theorem algebraic : Cert.algebraic_ChipSwapIdeal_ChipSwapRefIdeal := by
  intro m ρ m' ρ' _ hagree
  refine ⟨val_main_v2 (F := Ideal) (m' ((0 : Dev Cert.ChipSwapRefIdeal.nD).tc.loc Cert.ChipSwapRefIdeal.main_arg0)),
    val_main_v5 (F := Ideal) (m' ((0 : Dev Cert.ChipSwapRefIdeal.nD).tc.loc Cert.ChipSwapRefIdeal.main_arg1)),
    val_main_v8 (F := Ideal) (m' ((0 : Dev Cert.ChipSwapRefIdeal.nD).tc.loc Cert.ChipSwapRefIdeal.main_arg2)),
    val_main_v11 (F := Ideal) (m' ((0 : Dev Cert.ChipSwapRefIdeal.nD).tc.loc Cert.ChipSwapRefIdeal.main_arg3)),
    val_main_v14 (F := Ideal) (m' ((0 : Dev Cert.ChipSwapRefIdeal.nD).tc.loc Cert.ChipSwapRefIdeal.main_arg4)),
    val_main_v17 (F := Ideal) (m' ((0 : Dev Cert.ChipSwapRefIdeal.nD).tc.loc Cert.ChipSwapRefIdeal.main_arg5)),
    val_main_v20 (F := Ideal) (m' ((0 : Dev Cert.ChipSwapRefIdeal.nD).tc.loc Cert.ChipSwapRefIdeal.main_arg6)),
    val_main_v23 (F := Ideal) (m' ((0 : Dev Cert.ChipSwapRefIdeal.nD).tc.loc Cert.ChipSwapRefIdeal.main_arg7)),
    val_main_v26 (F := Ideal) (m' ((0 : Dev Cert.ChipSwapRefIdeal.nD).tc.loc Cert.ChipSwapRefIdeal.main_arg8)), ?_, ?_⟩
  · refine (θ_run Cert.ChipSwapIdeal.defs _ _).mono (fun _ h c => ⟨?_, ?_, ?_, ?_, ?_, ?_, ?_, ?_, ?_, args_kept (h.1 c)⟩) (Cert.Chips.run_main (F := Ideal) m ρ)
    · exact chips_block (inb₁ := fun d => Cert.Chips.own_inb d 0) (fun d => (hagree d).1) (fun d => Cert.Chips.own_off d 0) (fun d => Cert.Chips.other_off d 0) c ((h.1 c).2.1 0) fun k => (h.1 c).2.2 (0, k)
    · exact chips_block (inb₁ := fun d => Cert.Chips.own_inb d 1) (fun d => (hagree d).2.1) (fun d => Cert.Chips.own_off d 1) (fun d => Cert.Chips.other_off d 1) c ((h.1 c).2.1 1) fun k => (h.1 c).2.2 (1, k)
    · exact chips_block (inb₁ := fun d => Cert.Chips.own_inb d 2) (fun d => (hagree d).2.2.1) (fun d => Cert.Chips.own_off d 2) (fun d => Cert.Chips.other_off d 2) c ((h.1 c).2.1 2) fun k => (h.1 c).2.2 (2, k)
    · exact chips_block (inb₁ := fun d => Cert.Chips.own_inb d 3) (fun d => (hagree d).2.2.2.1) (fun d => Cert.Chips.own_off d 3) (fun d => Cert.Chips.other_off d 3) c ((h.1 c).2.1 3) fun k => (h.1 c).2.2 (3, k)
    · exact chips_block (inb₁ := fun d => Cert.Chips.own_inb d 4) (fun d => (hagree d).2.2.2.2.1) (fun d => Cert.Chips.own_off d 4) (fun d => Cert.Chips.other_off d 4) c ((h.1 c).2.1 4) fun k => (h.1 c).2.2 (4, k)
    · exact chips_block (inb₁ := fun d => Cert.Chips.own_inb d 5) (fun d => (hagree d).2.2.2.2.2.1) (fun d => Cert.Chips.own_off d 5) (fun d => Cert.Chips.other_off d 5) c ((h.1 c).2.1 5) fun k => (h.1 c).2.2 (5, k)
    · exact chips_block (inb₁ := fun d => Cert.Chips.own_inb d 6) (fun d => (hagree d).2.2.2.2.2.2.1) (fun d => Cert.Chips.own_off d 6) (fun d => Cert.Chips.other_off d 6) c ((h.1 c).2.1 6) fun k => (h.1 c).2.2 (6, k)
    · exact chips_block (inb₁ := fun d => Cert.Chips.own_inb d 7) (fun d => (hagree d).2.2.2.2.2.2.2.1) (fun d => Cert.Chips.own_off d 7) (fun d => Cert.Chips.other_off d 7) c ((h.1 c).2.1 7) fun k => (h.1 c).2.2 (7, k)
    · exact chips_block (inb₁ := fun d => Cert.Chips.own_inb d 8) (fun d => (hagree d).2.2.2.2.2.2.2.2) (fun d => Cert.Chips.own_off d 8) (fun d => Cert.Chips.other_off d 8) c ((h.1 c).2.1 8) fun k => (h.1 c).2.2 (8, k)
  · exact (θ_run Cert.ChipSwapRefIdeal.defs _ _).mono (fun _ h => ⟨(h 0).1.trans (val_main_v2_eq _),
        (h 0).2.1.trans (val_main_v5_eq _),
        (h 0).2.2.1.trans (val_main_v8_eq _),
        (h 0).2.2.2.1.trans (val_main_v11_eq _),
        (h 0).2.2.2.2.1.trans (val_main_v14_eq _),
        (h 0).2.2.2.2.2.1.trans (val_main_v17_eq _),
        (h 0).2.2.2.2.2.2.1.trans (val_main_v20_eq _),
        (h 0).2.2.2.2.2.2.2.1.trans (val_main_v23_eq _),
        (h 0).2.2.2.2.2.2.2.2.1.trans (val_main_v26_eq _), (h 0).2.2.2.2.2.2.2.2.2⟩)
      (Cert.ChipSwapRefIdeal.Value.run (F := Ideal) m' ρ')

end Cert.Proof.ChipSwapClaims
end
-- ==== Proof.JoinHalves.lean ====
/- The joining of the halves of nine arrays on the two cores of a chip: of each array a core copies its own half to
   its place in the result and sends it to the same place in its sibling's result. -/
module

public import proofs.«01_k».proof.Proof.ExchangeMem
public import proofs.«01_k».proof.Proof.Gen.JoinHalvesIdeal
public import proofs.«01_k».proof.Proof.Gen.JoinHalvesIdeal.Skeleton
public import proofs.«01_k».proof.Proof.Gen.JoinHalvesIdeal.Launch

@[expose] public section

noncomputable section

namespace Cert.Join

open Cert.JoinHalvesIdeal Cert.JoinHalvesIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange

variable {F : FTy → Type} [FloatOps F]

/-- The other core of the chip, and exchanging the cores. -/
def peer (c : Dev nD) : Dev nD := ⟨1 - c.val, by have := c.isLt; revert this; generalize c.val = v; decide +revert⟩
theorem peer_peer (c : Dev nD) : peer (peer c) = c := by revert c; decide
def swap : Dev nD ≃ Dev nD := ⟨peer, peer, peer_peer, peer_peer⟩

/-- Rows of a half of array `t`, and its columns. -/
abbrev H : Fin 9 → ℕ := ![1024, 1024, 704, 1024, 128, 256, 1024, 1024, 704]
abbrev W : Fin 9 → ℕ := ![1408, 1408, 2048, 1024, 1024, 2048, 1408, 1408, 2048]
abbrev SH (t : Fin 9) : Shape := ⟨2, ![H t, W t]⟩
abbrev SG (t : Fin 9) : Shape := ⟨2, ![2 * H t, W t]⟩

/-- Array `t` and its result. -/
abbrev gR : Fin 9 → Ref sig .tc
  | 0 => main_arg0
  | 1 => main_arg1
  | 2 => main_arg2
  | 3 => main_arg3
  | 4 => main_arg4
  | 5 => main_arg5
  | 6 => main_arg6
  | 7 => main_arg7
  | 8 => main_arg8
abbrev oR : Fin 9 → Ref sig .tc
  | 0 => main_v1_0
  | 1 => main_v1_1
  | 2 => main_v1_2
  | 3 => main_v1_3
  | 4 => main_v1_4
  | 5 => main_v1_5
  | 6 => main_v1_6
  | 7 => main_v1_7
  | 8 => main_v1_8
abbrev gM : (t : Fin 9) → Memref sig .tc .hbm (SH t) .f32
  | 0 => Memref.whole main_arg0
  | 1 => Memref.whole main_arg1
  | 2 => Memref.whole main_arg2
  | 3 => Memref.whole main_arg3
  | 4 => Memref.whole main_arg4
  | 5 => Memref.whole main_arg5
  | 6 => Memref.whole main_arg6
  | 7 => Memref.whole main_arg7
  | 8 => Memref.whole main_arg8
abbrev oM : (t : Fin 9) → Memref sig .tc .hbm (SG t) .f32
  | 0 => Memref.whole main_v1_0
  | 1 => Memref.whole main_v1_1
  | 2 => Memref.whole main_v1_2
  | 3 => Memref.whole main_v1_3
  | 4 => Memref.whole main_v1_4
  | 5 => Memref.whole main_v1_5
  | 6 => Memref.whole main_v1_6
  | 7 => Memref.whole main_v1_7
  | 8 => Memref.whole main_v1_8
/-- Where the own half begins, and the other one. -/
abbrev offOwn (c : Dev nD) : Fin 9 → Fin 2 → ℕ
  | 0 => k0_off1 c
  | 1 => k0_off1 c
  | 2 => k0_off2 c
  | 3 => k0_off3 c
  | 4 => k0_off4 c
  | 5 => k0_off5 c
  | 6 => k0_off1 c
  | 7 => k0_off1 c
  | 8 => k0_off2 c
abbrev offGot (c : Dev nD) : Fin 9 → Fin 2 → ℕ
  | 0 => k0_off6 c
  | 1 => k0_off6 c
  | 2 => k0_off7 c
  | 3 => k0_off8 c
  | 4 => k0_off9 c
  | 5 => k0_off10 c
  | 6 => k0_off6 c
  | 7 => k0_off6 c
  | 8 => k0_off7 c
theorem offOwn_inb (c : Dev nD) : ∀ t a, offOwn c t a + (SH t).size a ≤ (SG t).size a
  | 0 => k0_off1_inb c
  | 1 => k0_off1_inb c
  | 2 => k0_off2_inb c
  | 3 => k0_off3_inb c
  | 4 => k0_off4_inb c
  | 5 => k0_off5_inb c
  | 6 => k0_off1_inb c
  | 7 => k0_off1_inb c
  | 8 => k0_off2_inb c
theorem offGot_inb (c : Dev nD) : ∀ t a, offGot c t a + (SH t).size a ≤ (SG t).size a
  | 0 => k0_off6_inb c
  | 1 => k0_off6_inb c
  | 2 => k0_off7_inb c
  | 3 => k0_off8_inb c
  | 4 => k0_off9_inb c
  | 5 => k0_off10_inb c
  | 6 => k0_off6_inb c
  | 7 => k0_off6_inb c
  | 8 => k0_off7_inb c
/-- The sibling, as copy `t` names it. -/
abbrev dev (c : Dev nD) : Fin 9 → Dev nD
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩
  | 4 => ⟨k0_dev5 c, k0_dev5_lt c⟩
  | 5 => ⟨k0_dev6 c, k0_dev6_lt c⟩
  | 6 => ⟨k0_dev7 c, k0_dev7_lt c⟩
  | 7 => ⟨k0_dev8 c, k0_dev8_lt c⟩
  | 8 => ⟨k0_dev9 c, k0_dev9_lt c⟩
theorem dev_eq (c : Dev nD) : ∀ t, dev c t = peer c
  | 0 => Fin.ext (k0_dev1_eq c)
  | 1 => Fin.ext (k0_dev2_eq c)
  | 2 => Fin.ext (k0_dev3_eq c)
  | 3 => Fin.ext (k0_dev4_eq c)
  | 4 => Fin.ext (k0_dev5_eq c)
  | 5 => Fin.ext (k0_dev6_eq c)
  | 6 => Fin.ext (k0_dev7_eq c)
  | 7 => Fin.ext (k0_dev8_eq c)
  | 8 => Fin.ext (k0_dev9_eq c)
/-- The own half of result `t`, and the other one. -/
abbrev ownM (c : Dev nD) (t : Fin 9) : Memref sig .tc .hbm (SH t) .f32 := (oM t).slice (Rect.unit (s := SG t) (offOwn c t) (SH t).size (offOwn_inb c t)) (fun _ => rfl)
abbrev gotM (c : Dev nD) (t : Fin 9) : Memref sig .tc .hbm (SH t) .f32 := (oM t).slice (Rect.unit (s := SG t) (offGot c t) (SH t).size (offGot_inb c t)) (fun _ => rfl)

/-- The semaphores: the local copies', the sends', the receives'. -/
abbrev dsem : Fin 9 ⊕ (Fin 9 × Unit ⊕ Fin 9 × Unit) → DmaSem sig
  | .inl t => ⟨18 + t.val, by have := t.isLt; show _ < 27; omega⟩
  | .inr (.inl t) => ⟨t.1.val, by have := t.1.isLt; show _ < 27; omega⟩
  | .inr (.inr t) => ⟨9 + t.1.val, by have := t.1.isLt; show _ < 27; omega⟩

theorem credit_own (c : Dev nD) : ∀ t : Fin 9, (ownM c t).view.dmaCredit = (gM t).view.dmaCredit
  | 0 | 1 | 2 | 3 | 4 | 5 | 6 | 7 | 8 => rfl
theorem credit_got (c : Dev nD) : ∀ t : Fin 9, (gotM c t).view.dmaCredit = (gM t).view.dmaCredit
  | 0 | 1 | 2 | 3 | 4 | 5 | 6 | 7 | 8 => rfl
theorem exact_g : ∀ t, (gM t).view.WordExact
  | 0 | 1 | 2 | 3 | 4 | 5 | 6 | 7 | 8 => View.wordExact_bits rfl
theorem exact_own (c : Dev nD) : ∀ t, (ownM c t).view.WordExact
  | 0 | 1 | 2 | 3 | 4 | 5 | 6 | 7 | 8 => View.wordExact_bits rfl
theorem exact_got (c : Dev nD) : ∀ t, (gotM c t).view.WordExact
  | 0 | 1 | 2 | 3 | 4 | 5 | 6 | 7 | 8 => View.wordExact_bits rfl
theorem unshared : ∀ t, (oM t).view.ref.isScScratch = false
  | 0 | 1 | 2 | 3 | 4 | 5 | 6 | 7 | 8 => rfl

/-- The copies of the call. -/
abbrev plan : Plan nD τ sig (Fin 9) (Fin 9 × Unit) where
  sI := SH
  eI _ := .f32
  sJ j := SH j.1
  eJ _ := .f32
  srcI _ t := gM t
  dstI c t := ownM c t
  srcJ _ j := gM j.1
  dstJ c j := ownM c j.1
  gotA c j := gotM c j.1
  gotB c j := gotM c j.1
  wordsI c t := ⟨exact_g t, exact_own c t⟩
  wordsJ c j := ⟨exact_g j.1, exact_own c j.1⟩
  wordsG c j := ⟨exact_got c j.1, exact_got c j.1⟩
  unshared _ j := unshared j.1
  peer _ := swap
  named c j := dev c j.1
  named_eq c j := dev_eq c j.1
  route := by decide
  sem := dsem
  sem_inj := by decide
  nI t := (gM t).view.dmaCredit
  nJ j := (gM j.1).view.dmaCredit
  posI t := View.dmaCredit_pos _ (by revert t; decide)
  posJ j := View.dmaCredit_pos _ (by revert j; decide)
  creditI c t := credit_own c t
  creditS _ _ := rfl
  creditJ c j := credit_own c j.1
  creditG c j := credit_got c j.1
  qI _ := fullShare.left.left
  qJ _ := fullShare.left.right
  starts := ([0, 1, 2, 3, 4, 5, 6, 7, 8] : List (Fin 9)).flatMap fun t => [.inl t, .inr (t, ())]
  waits := ([0, 1, 2, 3, 4, 5, 6, 7, 8] : List (Fin 9)).flatMap fun t => [.inl t, .inr (.inl (t, ())), .inr (.inr (t, ()))]

theorem all9 : ∀ t : Fin 9, t ∈ ([0, 1, 2, 3, 4, 5, 6, 7, 8] : List (Fin 9)) := by decide

theorem fits : plan.Fits (F := F) cfg0 main where
  starts_nodup := by decide
  starts_all := by rintro (t | ⟨t, ⟨⟩⟩) <;> exact List.mem_append_left _ (List.mem_flatMap.mpr ⟨t, all9 t, by simp⟩)
  waits_nodup := by decide
  waits_all := by rintro (t | ⟨t, ⟨⟩⟩ | ⟨t, ⟨⟩⟩) <;> exact List.mem_append_left _ (List.mem_flatMap.mpr ⟨t, all9 t, by simp⟩)
  starts_first _ _ := rfl
  relays_late := nofun
  orig_first := nofun
  noWindow := rfl
  one := N_0
  cellOf_inj := cellOf_inj
  win := winFacts0
  whole := stage_whole0
  pos := block_pos0
  own := by decide
  allScoped := by decide
  rest := fun c => scopedRest0_eq c
  main_eq := fun _ => rfl

set_option maxHeartbeats 4000000 in
/-- The body is the starts and the waits. -/
theorem body_runs : Plan.Runs (F := F) plan defs₀ cfg0 := by
  intro c t X
  rw [fin_N0 t]
  show _ ⊢ wp frame (wpE (defs₀ (F := F)) Plan.𝒱₀ c none) Set.univ (cc0_red_join (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole main_v1_7) (Memref.isWhole_whole _) (Memref.whole main_v1_8) (Memref.isWhole_whole _) cc0_scratch0 cc0_scratch1 cc0_scratch2) _
  simp only [cc0_red_join_eq_skeleton]; unfold cc0_red_join_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [Prog.lift, Prog.bind_op, Prog.bind_ret, Prog.pure_eq_ret, wp_deviceId]
  exact .rfl

/-! ## The run -/

theorem own_off (c : Dev nD) : ∀ t, offOwn c t = ![H t * c.val, 0]
  | 0 => k0_off1_eq c
  | 1 => k0_off1_eq c
  | 2 => k0_off2_eq c
  | 3 => k0_off3_eq c
  | 4 => k0_off4_eq c
  | 5 => k0_off5_eq c
  | 6 => k0_off1_eq c
  | 7 => k0_off1_eq c
  | 8 => k0_off2_eq c
theorem sep_of (h v : ℕ) (hv : v < 2) : h * v + h ≤ h * (1 - v) ∨ h * (1 - v) + h ≤ h * v := by
  rcases (by omega : v = 0 ∨ v = 1) with e | e <;> rw [e] <;> omega
theorem own_sep (c : Dev nD) (t : Fin 9) : offOwn c t 0 + H t ≤ offOwn (peer c) t 0 ∨ offOwn (peer c) t 0 + H t ≤ offOwn c t 0 := by
  have h1 : offOwn c t 0 = H t * c.val := congrFun (own_off c t) 0
  have h2 : offOwn (peer c) t 0 = H t * (1 - c.val) := congrFun (own_off (peer c) t) 0
  rw [h1, h2]
  exact sep_of (H t) c.val c.isLt
theorem own_apart (c : Dev nD) (t : Fin 9) : Plan.Apart (oM t).view (Rect.unit (s := SG t) (offOwn c t) (SH t).size (offOwn_inb c t)) (Rect.unit (s := SG t) (offOwn (peer c) t) (SH t).size (offOwn_inb (peer c) t)) :=
  View.disjoint_slice_of_sep _ _ _ (0 : Fin 2) rfl rfl (own_sep c t)

abbrev buf (x : Fin 9 × Fin 2) : Ref sig .tc := ![gR x.1, oR x.1] x.2

variable (m : (ℓ : Loc nD τ sig) → Buf (Elt F) ℓ) (ρ : Dev nD → PrngReg)

theorem dealt (c : Dev nD) : ∀ t : Fin 9, (bigSep Finset.univ fun k : Fin 2 => (((c : Thread nD τ).loc (buf (t, k))) ↦{fullShare} m ((c : Thread nD τ).loc (buf (t, k))) : sProp (MT nD τ sig Unit (Elt F) ℕ (UU nD τ sig) ℕ)))
    ⊢ Plan.dealt plan m gR c t
  | 0 => Plan.deal_two c ![main_arg0, main_v1_0] (gM 0).view.set (gM 0).view.set (ownM c 0).view.set (ownM (peer c) 0).view.set (own_apart c 0) m
  | 1 => Plan.deal_two c ![main_arg1, main_v1_1] (gM 1).view.set (gM 1).view.set (ownM c 1).view.set (ownM (peer c) 1).view.set (own_apart c 1) m
  | 2 => Plan.deal_two c ![main_arg2, main_v1_2] (gM 2).view.set (gM 2).view.set (ownM c 2).view.set (ownM (peer c) 2).view.set (own_apart c 2) m
  | 3 => Plan.deal_two c ![main_arg3, main_v1_3] (gM 3).view.set (gM 3).view.set (ownM c 3).view.set (ownM (peer c) 3).view.set (own_apart c 3) m
  | 4 => Plan.deal_two c ![main_arg4, main_v1_4] (gM 4).view.set (gM 4).view.set (ownM c 4).view.set (ownM (peer c) 4).view.set (own_apart c 4) m
  | 5 => Plan.deal_two c ![main_arg5, main_v1_5] (gM 5).view.set (gM 5).view.set (ownM c 5).view.set (ownM (peer c) 5).view.set (own_apart c 5) m
  | 6 => Plan.deal_two c ![main_arg6, main_v1_6] (gM 6).view.set (gM 6).view.set (ownM c 6).view.set (ownM (peer c) 6).view.set (own_apart c 6) m
  | 7 => Plan.deal_two c ![main_arg7, main_v1_7] (gM 7).view.set (gM 7).view.set (ownM c 7).view.set (ownM (peer c) 7).view.set (own_apart c 7) m
  | 8 => Plan.deal_two c ![main_arg8, main_v1_8] (gM 8).view.set (gM 8).view.set (ownM c 8).view.set (ownM (peer c) 8).view.set (own_apart c 8) m

theorem run_main : θ_run (defs (F := F)) (onTc (τ := τ) (main (F := F))) (⟨m, fun _ => 0, ρ⟩ : MemSt nD τ sig (Elt F)) (fun r => (∀ c, Plan.Ends plan m gR c r.2) ∧ r.2.sem = fun _ => 0) :=
  Plan.ends plan m ρ gR defs₀ fits (fun _ _ h => nomatch h) body_runs buf (by decide) (by decide) (dealt m)

end Cert.Join

end
-- ==== Proof.JoinHalvesClaims.lean ====
/-
  The claims about the joining of the halves of nine arrays on the two cores of a chip: both frames from the one run, and each
  core's results as its part of the arrays that the reference puts together.
-/
module

public import proofs.«01_k».proof.Defs
public import proofs.«01_k».proof.Proof.JoinHalves
public import proofs.«01_k».proof.Proof.Gen.JoinHalves
public import proofs.«01_k».proof.Proof.Gen.JoinHalvesRefIdeal.Run
public import proofs.«01_k».proof.Proof.Gen.JoinHalvesRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

namespace Cert.Proof.JoinHalvesClaims

open Cert.JoinHalvesRefIdeal.Read
open Cert.JoinHalvesIdeal (nD τ sig)

/-- What the end of a run says of the nine arguments, one by one. -/
theorem args_kept {F : FTy → Type} [FloatOps F] {m : (ℓ : Loc nD τ sig) → Buf (Elt F) ℓ} {c : Dev nD} {s : MemSt nD τ sig (Elt F)}
    (h : Cert.Exchange.Plan.Ends Cert.Join.plan m Cert.Join.gR c s) :
    s.mem ((c : Thread nD τ).loc Cert.JoinHalvesIdeal.main_arg0) = m ((c : Thread nD τ).loc Cert.JoinHalvesIdeal.main_arg0)
      ∧ s.mem ((c : Thread nD τ).loc Cert.JoinHalvesIdeal.main_arg1) = m ((c : Thread nD τ).loc Cert.JoinHalvesIdeal.main_arg1)
      ∧ s.mem ((c : Thread nD τ).loc Cert.JoinHalvesIdeal.main_arg2) = m ((c : Thread nD τ).loc Cert.JoinHalvesIdeal.main_arg2)
      ∧ s.mem ((c : Thread nD τ).loc Cert.JoinHalvesIdeal.main_arg3) = m ((c : Thread nD τ).loc Cert.JoinHalvesIdeal.main_arg3)
      ∧ s.mem ((c : Thread nD τ).loc Cert.JoinHalvesIdeal.main_arg4) = m ((c : Thread nD τ).loc Cert.JoinHalvesIdeal.main_arg4)
      ∧ s.mem ((c : Thread nD τ).loc Cert.JoinHalvesIdeal.main_arg5) = m ((c : Thread nD τ).loc Cert.JoinHalvesIdeal.main_arg5)
      ∧ s.mem ((c : Thread nD τ).loc Cert.JoinHalvesIdeal.main_arg6) = m ((c : Thread nD τ).loc Cert.JoinHalvesIdeal.main_arg6)
      ∧ s.mem ((c : Thread nD τ).loc Cert.JoinHalvesIdeal.main_arg7) = m ((c : Thread nD τ).loc Cert.JoinHalvesIdeal.main_arg7)
      ∧ s.mem ((c : Thread nD τ).loc Cert.JoinHalvesIdeal.main_arg8) = m ((c : Thread nD τ).loc Cert.JoinHalvesIdeal.main_arg8) :=
  ⟨h.1 0, h.1 1, h.1 2, h.1 3, h.1 4, h.1 5, h.1 6, h.1 7, h.1 8⟩

theorem frame_kernel : Cert.quiescent_JoinHalves := fun m ρ _ =>
  (θ_run Cert.JoinHalvesIdeal.defs _ _).mono (fun _ h => ⟨fun c => args_kept (h.1 c), h.2⟩) (Cert.Join.run_main (F := Bits) m ρ)

theorem frame_ideal : Cert.quiescent_JoinHalvesIdeal := fun m ρ _ =>
  (θ_run Cert.JoinHalvesIdeal.defs _ _).mono (fun _ h => ⟨fun c => args_kept (h.1 c), h.2⟩) (Cert.Join.run_main (F := Ideal) m ρ)

theorem frame_ref : Cert.quiescent_JoinHalvesRefIdeal := fun m ρ _ =>
  (θ_run Cert.JoinHalvesRefIdeal.defs _ _).mono (fun r h => ⟨fun c => (h c).2.2.2.2.2.2.2.2.2, Idealize.ShloMosaic.sem_eq_zero_of_no_sems (by decide) r.2⟩)
    (Cert.JoinHalvesRefIdeal.Value.run (F := Ideal) m ρ)

/-- One entry of core `c`'s part of an array cut between the two cores. -/
theorem block_at {H G W : ℕ} (h : Layout.Tiles ⟨2, ![H, W]⟩ ⟨2, ![G, W]⟩ 0 2) (v : (⟨2, ![G, W]⟩ : Shape).Idx → EReal) (c : Fin 2)
    (r : Fin H) (l : Fin W) (r' : Fin G) (hr : r'.val = c.val * H + r.val) :
    Layout.block ⟨2, ![H, W]⟩ ⟨2, ![G, W]⟩ 0 2 c v h (ix2 r l) = v (ix2 r' l) := by
  have key : ∀ a : Fin 2, (h.idx c (ix2 r l) a).val = (ix2 r' l a).val := fun a => by
    fin_cases a
    · show c.val * H + r.val = r'.val; omega
    · rfl
  exact congrArg v (funext fun a => Fin.ext (key a))

/-- An array twice over, below the first copy and in the second. -/
theorem twice_at {G E W : ℕ} (p : (⟨2, ![G, W]⟩ : Shape).Idx → EReal) (h) (r : Fin E) (l : Fin W) (r' : Fin G) (hr : r'.val = if r.val < G then r.val else r.val - G) :
    concatenate (α := EReal) ⟨2, ![E, W]⟩ 0 [⟨⟨2, ![G, W]⟩, p⟩, ⟨⟨2, ![G, W]⟩, p⟩] h (ix2 r l) = p (ix2 r' l) := by
  pointwise []
  split_ifs with hlt
  · rw [if_pos hlt] at hr
    refine congrArg p (funext fun a => Fin.ext ?_)
    fin_cases a
    · show r.val = r'.val; omega
    · rfl
  · rw [if_neg hlt] at hr
    refine congrArg p (funext fun a => Fin.ext ?_)
    fin_cases a
    · show r.val - G = r'.val; omega
    · rfl

/-- The half behind offset `e * H` holds the rows of the whole array that it stands for. -/
theorem half_at {G H W : ℕ} {p s : (⟨2, ![G, W]⟩ : Shape).Idx → EReal} {f : (⟨2, ![H, W]⟩ : Shape).Idx → EReal} {hf : Layout.Tiles ⟨2, ![H, W]⟩ ⟨2, ![G, W]⟩ 0 2}
    {o : Fin 2 → ℕ} {inb : ∀ a, o a + (⟨2, ![H, W]⟩ : Shape).size a ≤ (⟨2, ![G, W]⟩ : Shape).size a} (e : Fin 2) (ho : o = ![H * e.val, 0])
    (hp : f = Layout.block ⟨2, ![H, W]⟩ ⟨2, ![G, W]⟩ 0 2 e p hf)
    (hs : (fun i => s ((Rect.unit (s := ⟨2, ![G, W]⟩) o (⟨2, ![H, W]⟩ : Shape).size inb).emb i)) = f)
    (r : Fin G) (l : Fin W) (h1 : e.val * H ≤ r.val) (h2 : r.val < e.val * H + H) : s (ix2 r l) = p (ix2 r l) := by
  subst ho
  have hr : r.val - e.val * H < H := by omega
  have hi := congrFun hs (ix2 ⟨r.val - e.val * H, hr⟩ l)
  rw [hp, block_at hf p e _ l r (by show r.val = e.val * H + (r.val - e.val * H); omega)] at hi
  refine Eq.trans (congrArg s (funext fun a => Fin.ext ?_)) hi
  fin_cases a
  · show r.val = H * e.val + 1 * (r.val - e.val * H)
    rw [Nat.mul_comm H]; omega
  · show l.val = 0 + 1 * l.val; omega

/-- A result whose two halves are the cores' two parts of one array is either core's part of that array twice over. -/
theorem join_block {G H W E : ℕ} (hG : G = 2 * H) (hE : E = 2 * G) {p s : (⟨2, ![G, W]⟩ : Shape).Idx → EReal} {f g : (⟨2, ![H, W]⟩ : Shape).Idx → EReal}
    {hf hg : Layout.Tiles ⟨2, ![H, W]⟩ ⟨2, ![G, W]⟩ 0 2} {hv : Layout.Tiles ⟨2, ![G, W]⟩ ⟨2, ![E, W]⟩ 0 2} {h5}
    {o₁ o₂ : Fin 2 → ℕ} {inb₁ : ∀ a, o₁ a + (⟨2, ![H, W]⟩ : Shape).size a ≤ (⟨2, ![G, W]⟩ : Shape).size a} {inb₂ : ∀ a, o₂ a + (⟨2, ![H, W]⟩ : Shape).size a ≤ (⟨2, ![G, W]⟩ : Shape).size a}
    (c d : Fin 2) (hd : d.val = 1 - c.val) (ho₁ : o₁ = ![H * c.val, 0]) (ho₂ : o₂ = ![H * d.val, 0])
    (hp₁ : f = Layout.block ⟨2, ![H, W]⟩ ⟨2, ![G, W]⟩ 0 2 c p hf) (hp₂ : g = Layout.block ⟨2, ![H, W]⟩ ⟨2, ![G, W]⟩ 0 2 d p hg)
    (hs₁ : (fun i => s ((Rect.unit (s := ⟨2, ![G, W]⟩) o₁ (⟨2, ![H, W]⟩ : Shape).size inb₁).emb i)) = f)
    (hs₂ : (fun i => s ((Rect.unit (s := ⟨2, ![G, W]⟩) o₂ (⟨2, ![H, W]⟩ : Shape).size inb₂).emb i)) = g) :
    s = Layout.block ⟨2, ![G, W]⟩ ⟨2, ![E, W]⟩ 0 2 c (concatenate (α := EReal) ⟨2, ![E, W]⟩ 0 [⟨⟨2, ![G, W]⟩, p⟩, ⟨⟨2, ![G, W]⟩, p⟩] h5) hv := by
  funext i
  obtain ⟨r, l, rfl⟩ : ∃ r l, i = ix2 r l := ⟨_, _, eq_ix2 i⟩
  have hc : c.val < 2 := c.isLt
  have hr : r.val < G := r.isLt
  have hcr : c.val * G + r.val < E := by rcases (by omega : c.val = 0 ∨ c.val = 1) with e | e <;> rw [e] <;> omega
  rw [block_at hv _ c r l ⟨c.val * G + r.val, hcr⟩ rfl, twice_at p h5 _ l r (by
    show r.val = if c.val * G + r.val < G then c.val * G + r.val else c.val * G + r.val - G
    rcases (by omega : c.val = 0 ∨ c.val = 1) with e | e <;> rw [e] <;> split_ifs <;> omega)]
  by_cases h : c.val * H ≤ r.val ∧ r.val < c.val * H + H
  · exact half_at c ho₁ hp₁ hs₁ r l h.1 h.2
  · refine half_at d ho₂ hp₂ hs₂ r l ?_ ?_ <;> rw [hd] <;> revert h <;> rcases (by omega : c.val = 0 ∨ c.val = 1) with e | e <;> rw [e] <;> omega

theorem algebraic : Cert.algebraic_JoinHalvesIdeal_JoinHalvesRefIdeal := by
  intro m ρ m' ρ' _ hagree
  refine ⟨val_main_v0 (F := Ideal) (m' ((0 : Dev Cert.JoinHalvesRefIdeal.nD).tc.loc Cert.JoinHalvesRefIdeal.main_arg0)),
    val_main_v1 (F := Ideal) (m' ((0 : Dev Cert.JoinHalvesRefIdeal.nD).tc.loc Cert.JoinHalvesRefIdeal.main_arg1)),
    val_main_v2 (F := Ideal) (m' ((0 : Dev Cert.JoinHalvesRefIdeal.nD).tc.loc Cert.JoinHalvesRefIdeal.main_arg2)),
    val_main_v3 (F := Ideal) (m' ((0 : Dev Cert.JoinHalvesRefIdeal.nD).tc.loc Cert.JoinHalvesRefIdeal.main_arg3)),
    val_main_v4 (F := Ideal) (m' ((0 : Dev Cert.JoinHalvesRefIdeal.nD).tc.loc Cert.JoinHalvesRefIdeal.main_arg4)),
    val_main_v5 (F := Ideal) (m' ((0 : Dev Cert.JoinHalvesRefIdeal.nD).tc.loc Cert.JoinHalvesRefIdeal.main_arg5)),
    val_main_v6 (F := Ideal) (m' ((0 : Dev Cert.JoinHalvesRefIdeal.nD).tc.loc Cert.JoinHalvesRefIdeal.main_arg6)),
    val_main_v7 (F := Ideal) (m' ((0 : Dev Cert.JoinHalvesRefIdeal.nD).tc.loc Cert.JoinHalvesRefIdeal.main_arg7)),
    val_main_v8 (F := Ideal) (m' ((0 : Dev Cert.JoinHalvesRefIdeal.nD).tc.loc Cert.JoinHalvesRefIdeal.main_arg8)), ?_, ?_⟩
  · refine (θ_run Cert.JoinHalvesIdeal.defs _ _).mono (fun _ h c => ⟨?_, ?_, ?_, ?_, ?_, ?_, ?_, ?_, ?_, args_kept (h.1 c)⟩) (Cert.Join.run_main (F := Ideal) m ρ)
    · exact join_block rfl rfl c (Cert.Join.peer c) rfl (Cert.Join.own_off c 0) (Cert.Join.own_off _ 0) (hagree c).1 (hagree _).1 ((h.1 c).2.1 0) ((h.1 c).2.2 (0, ()) _ rfl)
    · exact join_block rfl rfl c (Cert.Join.peer c) rfl (Cert.Join.own_off c 1) (Cert.Join.own_off _ 1) (hagree c).2.1 (hagree _).2.1 ((h.1 c).2.1 1) ((h.1 c).2.2 (1, ()) _ rfl)
    · exact join_block rfl rfl c (Cert.Join.peer c) rfl (Cert.Join.own_off c 2) (Cert.Join.own_off _ 2) (hagree c).2.2.1 (hagree _).2.2.1 ((h.1 c).2.1 2) ((h.1 c).2.2 (2, ()) _ rfl)
    · exact join_block rfl rfl c (Cert.Join.peer c) rfl (Cert.Join.own_off c 3) (Cert.Join.own_off _ 3) (hagree c).2.2.2.1 (hagree _).2.2.2.1 ((h.1 c).2.1 3) ((h.1 c).2.2 (3, ()) _ rfl)
    · exact join_block rfl rfl c (Cert.Join.peer c) rfl (Cert.Join.own_off c 4) (Cert.Join.own_off _ 4) (hagree c).2.2.2.2.1 (hagree _).2.2.2.2.1 ((h.1 c).2.1 4) ((h.1 c).2.2 (4, ()) _ rfl)
    · exact join_block rfl rfl c (Cert.Join.peer c) rfl (Cert.Join.own_off c 5) (Cert.Join.own_off _ 5) (hagree c).2.2.2.2.2.1 (hagree _).2.2.2.2.2.1 ((h.1 c).2.1 5) ((h.1 c).2.2 (5, ()) _ rfl)
    · exact join_block rfl rfl c (Cert.Join.peer c) rfl (Cert.Join.own_off c 6) (Cert.Join.own_off _ 6) (hagree c).2.2.2.2.2.2.1 (hagree _).2.2.2.2.2.2.1 ((h.1 c).2.1 6) ((h.1 c).2.2 (6, ()) _ rfl)
    · exact join_block rfl rfl c (Cert.Join.peer c) rfl (Cert.Join.own_off c 7) (Cert.Join.own_off _ 7) (hagree c).2.2.2.2.2.2.2.1 (hagree _).2.2.2.2.2.2.2.1 ((h.1 c).2.1 7) ((h.1 c).2.2 (7, ()) _ rfl)
    · exact join_block rfl rfl c (Cert.Join.peer c) rfl (Cert.Join.own_off c 8) (Cert.Join.own_off _ 8) (hagree c).2.2.2.2.2.2.2.2 (hagree _).2.2.2.2.2.2.2.2 ((h.1 c).2.1 8) ((h.1 c).2.2 (8, ()) _ rfl)
  · exact (θ_run Cert.JoinHalvesRefIdeal.defs _ _).mono (fun _ h => ⟨(h 0).1.trans (val_main_v0_eq _),
        (h 0).2.1.trans (val_main_v1_eq _),
        (h 0).2.2.1.trans (val_main_v2_eq _),
        (h 0).2.2.2.1.trans (val_main_v3_eq _),
        (h 0).2.2.2.2.1.trans (val_main_v4_eq _),
        (h 0).2.2.2.2.2.1.trans (val_main_v5_eq _),
        (h 0).2.2.2.2.2.2.1.trans (val_main_v6_eq _),
        (h 0).2.2.2.2.2.2.2.1.trans (val_main_v7_eq _),
        (h 0).2.2.2.2.2.2.2.2.1.trans (val_main_v8_eq _), (h 0).2.2.2.2.2.2.2.2.2⟩)
      (Cert.JoinHalvesRefIdeal.Value.run (F := Ideal) m' ρ')

end Cert.Proof.JoinHalvesClaims
end
-- ==== Proof.ChipGather.lean ====
/- The gathering of nine arrays from the four chips: each device lays its own slab into its result and sends half of
   it, which half by its core, to the same core of every other chip; a half that has come it passes on to the other
   core of its chip. -/
module

public import proofs.«01_k».proof.Proof.ExchangeMem
public import proofs.«01_k».proof.Proof.Gen.ChipGatherIdeal
public import proofs.«01_k».proof.Proof.Gen.ChipGatherIdeal.Skeleton
public import proofs.«01_k».proof.Proof.Gen.ChipGatherIdeal.Launch

@[expose] public section

noncomputable section

namespace Cert.Gather

open Cert.ChipGatherIdeal Cert.ChipGatherIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange

variable {F : FTy → Type} [FloatOps F]

/-- The same core of the three other chips, seen from device `c`: across the first axis, across the second, across both;
    and the other core of its chip. -/
def flip (k : Fin 3) (c : Dev nD) : Dev nD :=
  ⟨(![4, 2, 6] : Fin 3 → ℕ) k ^^^ c.val, Nat.xor_lt_two_pow (n := 3) (by revert k; decide) c.isLt⟩
def sib (c : Dev nD) : Dev nD := ⟨1 ^^^ c.val, Nat.xor_lt_two_pow (n := 3) (by decide) c.isLt⟩
theorem flip_flip (k : Fin 3) (c : Dev nD) : flip k (flip k c) = c := by revert k c; decide
theorem sib_sib (c : Dev nD) : sib (sib c) = c := by revert c; decide
def across (k : Fin 3) : Dev nD ≃ Dev nD := ⟨flip k, flip k, flip_flip k, flip_flip k⟩
def beside : Dev nD ≃ Dev nD := ⟨sib, sib, sib_sib, sib_sib⟩

/-- Rows and columns of array `t`, and the rows of half of it. -/
abbrev H : Fin 9 → ℕ := ![2048, 2048, 1408, 2048, 256, 512, 2048, 2048, 1408]
abbrev HH : Fin 9 → ℕ := ![1024, 1024, 704, 1024, 128, 256, 1024, 1024, 704]
abbrev W : Fin 9 → ℕ := ![1408, 1408, 2048, 1024, 1024, 2048, 1408, 1408, 2048]
abbrev SA (t : Fin 9) : Shape := ⟨2, ![H t, W t]⟩
abbrev SH (t : Fin 9) : Shape := ⟨2, ![HH t, W t]⟩
abbrev S1 (t : Fin 9) : Shape := ⟨3, ![1, H t, W t]⟩
abbrev S2 (t : Fin 9) : Shape := ⟨3, ![1, HH t, W t]⟩
abbrev SG (t : Fin 9) : Shape := ⟨3, ![4, H t, W t]⟩
theorem squeezes : ∀ t, (S1 t).Squeezes (SA t) := by decide
theorem squeezes₂ : ∀ t, (S2 t).Squeezes (SH t) := by decide
theorem half_rows : ∀ t, H t = 2 * HH t := by decide

/-- Array `t` and its result. -/
abbrev gR : Fin 9 → Ref sig .tc
  | 0 => main_arg0
  | 1 => main_arg1
  | 2 => main_arg2
  | 3 => main_arg3
  | 4 => main_arg4
  | 5 => main_arg5
  | 6 => main_arg6
  | 7 => main_arg7
  | 8 => main_arg8
abbrev oR : Fin 9 → Ref sig .tc
  | 0 => main_v1_0
  | 1 => main_v1_1
  | 2 => main_v1_2
  | 3 => main_v1_3
  | 4 => main_v1_4
  | 5 => main_v1_5
  | 6 => main_v1_6
  | 7 => main_v1_7
  | 8 => main_v1_8
abbrev gM : (t : Fin 9) → Memref sig .tc .hbm (SA t) .bf16
  | 0 => Memref.whole main_arg0
  | 1 => Memref.whole main_arg1
  | 2 => Memref.whole main_arg2
  | 3 => Memref.whole main_arg3
  | 4 => Memref.whole main_arg4
  | 5 => Memref.whole main_arg5
  | 6 => Memref.whole main_arg6
  | 7 => Memref.whole main_arg7
  | 8 => Memref.whole main_arg8
abbrev oM : (t : Fin 9) → Memref sig .tc .hbm (SG t) .bf16
  | 0 => Memref.whole main_v1_0
  | 1 => Memref.whole main_v1_1
  | 2 => Memref.whole main_v1_2
  | 3 => Memref.whole main_v1_3
  | 4 => Memref.whole main_v1_4
  | 5 => Memref.whole main_v1_5
  | 6 => Memref.whole main_v1_6
  | 7 => Memref.whole main_v1_7
  | 8 => Memref.whole main_v1_8
theorem whole_g : ∀ t, (gM t).IsWhole
  | 0 | 1 | 2 | 3 | 4 | 5 | 6 | 7 | 8 => Memref.isWhole_whole _
theorem whole_o : ∀ t, (oM t).IsWhole
  | 0 | 1 | 2 | 3 | 4 | 5 | 6 | 7 | 8 => Memref.isWhole_whole _
/-- Where the own slab begins, the half of the array that is sent, where it lands, the halves that are passed on, and
    the halves that the other core passes on. -/
abbrev offOwn (c : Dev nD) : Fin 9 → Fin 3 → ℕ
  | 0 => k0_off1 c
  | 1 => k0_off1 c
  | 2 => k0_off2 c
  | 3 => k0_off3 c
  | 4 => k0_off4 c
  | 5 => k0_off5 c
  | 6 => k0_off1 c
  | 7 => k0_off1 c
  | 8 => k0_off2 c
abbrev offFrom (c : Dev nD) : Fin 9 → Fin 2 → ℕ
  | 0 => k0_off6 c
  | 1 => k0_off6 c
  | 2 => k0_off8 c
  | 3 => k0_off10 c
  | 4 => k0_off12 c
  | 5 => k0_off14 c
  | 6 => k0_off6 c
  | 7 => k0_off6 c
  | 8 => k0_off8 c
abbrev offTo (c : Dev nD) : Fin 9 → Fin 3 → ℕ
  | 0 => k0_off7 c
  | 1 => k0_off7 c
  | 2 => k0_off9 c
  | 3 => k0_off11 c
  | 4 => k0_off13 c
  | 5 => k0_off15 c
  | 6 => k0_off7 c
  | 7 => k0_off7 c
  | 8 => k0_off9 c
abbrev offPass (c : Dev nD) : Fin 9 → Fin 3 → Fin 3 → ℕ
  | 0 => ![k0_off17 c, k0_off19 c, k0_off21 c]
  | 1 => ![k0_off17 c, k0_off19 c, k0_off21 c]
  | 2 => ![k0_off23 c, k0_off25 c, k0_off27 c]
  | 3 => ![k0_off29 c, k0_off31 c, k0_off33 c]
  | 4 => ![k0_off35 c, k0_off37 c, k0_off39 c]
  | 5 => ![k0_off41 c, k0_off43 c, k0_off45 c]
  | 6 => ![k0_off17 c, k0_off19 c, k0_off21 c]
  | 7 => ![k0_off17 c, k0_off19 c, k0_off21 c]
  | 8 => ![k0_off23 c, k0_off25 c, k0_off27 c]
abbrev offTheirs (c : Dev nD) : Fin 9 → Fin 3 → Fin 3 → ℕ
  | 0 => ![k0_off47 c, k0_off48 c, k0_off49 c]
  | 1 => ![k0_off47 c, k0_off48 c, k0_off49 c]
  | 2 => ![k0_off51 c, k0_off52 c, k0_off53 c]
  | 3 => ![k0_off55 c, k0_off56 c, k0_off57 c]
  | 4 => ![k0_off59 c, k0_off60 c, k0_off61 c]
  | 5 => ![k0_off63 c, k0_off64 c, k0_off65 c]
  | 6 => ![k0_off47 c, k0_off48 c, k0_off49 c]
  | 7 => ![k0_off47 c, k0_off48 c, k0_off49 c]
  | 8 => ![k0_off51 c, k0_off52 c, k0_off53 c]
/-- The place of half `b` of the slab of chip `a`. -/
abbrev place (a b : ℕ) (t : Fin 9) : Fin 3 → ℕ := ![a, b * HH t, 0]
theorem own_off : ∀ (c : Dev nD) t, offOwn c t = ![c.val / 2, 0, 0] := by decide +kernel
theorem from_off : ∀ (c : Dev nD) t, offFrom c t = ![c.val % 2 * HH t, 0] := by decide +kernel
theorem to_off : ∀ (c : Dev nD) t, offTo c t = place (c.val / 2) (c.val % 2) t := by decide +kernel
theorem pass_off : ∀ (c : Dev nD) t k, offPass c t k = offTo (flip k c) t := by decide +kernel
theorem theirs_off : ∀ (c : Dev nD) t k, offTheirs c t k = place ((flip k c).val / 2) (1 - c.val % 2) t := by decide +kernel
theorem own_inb : ∀ (c : Dev nD) t a, offOwn c t a + (S1 t).size a ≤ (SG t).size a := by decide +kernel
theorem from_inb : ∀ (c : Dev nD) t a, offFrom c t a + (SH t).size a ≤ (SA t).size a := by decide +kernel
theorem to_inb : ∀ (c : Dev nD) t a, offTo c t a + (S2 t).size a ≤ (SG t).size a := by decide +kernel
theorem pass_inb : ∀ (c : Dev nD) t k a, offPass c t k a + (S2 t).size a ≤ (SG t).size a := by decide +kernel
theorem theirs_inb : ∀ (c : Dev nD) t k a, offTheirs c t k a + (S2 t).size a ≤ (SG t).size a := by decide +kernel
theorem own_words : ∀ (c : Dev nD) t, (Rect.unit (s := SG t) (offOwn c t) (S1 t).size (own_inb c t)).WholeWords (EltTy.packing .bf16) := by decide +kernel
theorem from_words : ∀ (c : Dev nD) t, (Rect.unit (s := SA t) (offFrom c t) (SH t).size (from_inb c t)).WholeWords (EltTy.packing .bf16) := by decide +kernel
theorem to_words : ∀ (c : Dev nD) t, (Rect.unit (s := SG t) (offTo c t) (S2 t).size (to_inb c t)).WholeWords (EltTy.packing .bf16) := by decide +kernel
theorem pass_words : ∀ (c : Dev nD) t k, (Rect.unit (s := SG t) (offPass c t k) (S2 t).size (pass_inb c t k)).WholeWords (EltTy.packing .bf16) := by decide +kernel
theorem theirs_words : ∀ (c : Dev nD) t k, (Rect.unit (s := SG t) (offTheirs c t k) (S2 t).size (theirs_inb c t k)).WholeWords (EltTy.packing .bf16) := by decide +kernel
/-- The other chips and the other core, as the copies of array `t` name them. -/
abbrev dev (c : Dev nD) : Fin 9 → Fin 3 → Dev nD
  | 0 => ![⟨k0_dev1 c, k0_dev1_lt c⟩, ⟨k0_dev2 c, k0_dev2_lt c⟩, ⟨k0_dev3 c, k0_dev3_lt c⟩]
  | 1 => ![⟨k0_dev4 c, k0_dev4_lt c⟩, ⟨k0_dev5 c, k0_dev5_lt c⟩, ⟨k0_dev6 c, k0_dev6_lt c⟩]
  | 2 => ![⟨k0_dev7 c, k0_dev7_lt c⟩, ⟨k0_dev8 c, k0_dev8_lt c⟩, ⟨k0_dev9 c, k0_dev9_lt c⟩]
  | 3 => ![⟨k0_dev10 c, k0_dev10_lt c⟩, ⟨k0_dev11 c, k0_dev11_lt c⟩, ⟨k0_dev12 c, k0_dev12_lt c⟩]
  | 4 => ![⟨k0_dev13 c, k0_dev13_lt c⟩, ⟨k0_dev14 c, k0_dev14_lt c⟩, ⟨k0_dev15 c, k0_dev15_lt c⟩]
  | 5 => ![⟨k0_dev16 c, k0_dev16_lt c⟩, ⟨k0_dev17 c, k0_dev17_lt c⟩, ⟨k0_dev18 c, k0_dev18_lt c⟩]
  | 6 => ![⟨k0_dev19 c, k0_dev19_lt c⟩, ⟨k0_dev20 c, k0_dev20_lt c⟩, ⟨k0_dev21 c, k0_dev21_lt c⟩]
  | 7 => ![⟨k0_dev22 c, k0_dev22_lt c⟩, ⟨k0_dev23 c, k0_dev23_lt c⟩, ⟨k0_dev24 c, k0_dev24_lt c⟩]
  | 8 => ![⟨k0_dev25 c, k0_dev25_lt c⟩, ⟨k0_dev26 c, k0_dev26_lt c⟩, ⟨k0_dev27 c, k0_dev27_lt c⟩]
abbrev devPass (c : Dev nD) : Fin 9 → Fin 3 → Dev nD
  | 0 => ![⟨k0_dev28 c, k0_dev28_lt c⟩, ⟨k0_dev29 c, k0_dev29_lt c⟩, ⟨k0_dev30 c, k0_dev30_lt c⟩]
  | 1 => ![⟨k0_dev31 c, k0_dev31_lt c⟩, ⟨k0_dev32 c, k0_dev32_lt c⟩, ⟨k0_dev33 c, k0_dev33_lt c⟩]
  | 2 => ![⟨k0_dev34 c, k0_dev34_lt c⟩, ⟨k0_dev35 c, k0_dev35_lt c⟩, ⟨k0_dev36 c, k0_dev36_lt c⟩]
  | 3 => ![⟨k0_dev37 c, k0_dev37_lt c⟩, ⟨k0_dev38 c, k0_dev38_lt c⟩, ⟨k0_dev39 c, k0_dev39_lt c⟩]
  | 4 => ![⟨k0_dev40 c, k0_dev40_lt c⟩, ⟨k0_dev41 c, k0_dev41_lt c⟩, ⟨k0_dev42 c, k0_dev42_lt c⟩]
  | 5 => ![⟨k0_dev43 c, k0_dev43_lt c⟩, ⟨k0_dev44 c, k0_dev44_lt c⟩, ⟨k0_dev45 c, k0_dev45_lt c⟩]
  | 6 => ![⟨k0_dev46 c, k0_dev46_lt c⟩, ⟨k0_dev47 c, k0_dev47_lt c⟩, ⟨k0_dev48 c, k0_dev48_lt c⟩]
  | 7 => ![⟨k0_dev49 c, k0_dev49_lt c⟩, ⟨k0_dev50 c, k0_dev50_lt c⟩, ⟨k0_dev51 c, k0_dev51_lt c⟩]
  | 8 => ![⟨k0_dev52 c, k0_dev52_lt c⟩, ⟨k0_dev53 c, k0_dev53_lt c⟩, ⟨k0_dev54 c, k0_dev54_lt c⟩]
theorem dev_eq : ∀ (c : Dev nD) t k, dev c t k = flip k c := by decide +kernel
theorem devPass_eq : ∀ (c : Dev nD) t k, devPass c t k = sib c := by decide +kernel

/-- A slab of the result of array `t`, and half of one. -/
abbrev slabM (t : Fin 9) (o : Fin 3 → ℕ) (h : ∀ a, o a + (S1 t).size a ≤ (SG t).size a) : Memref sig .tc .hbm (SA t) .bf16 :=
  ((oM t).slice (Rect.unit (s := SG t) o (S1 t).size h) (fun _ => rfl)).squeeze (SA t) (squeezes t)
abbrev halfM (t : Fin 9) (o : Fin 3 → ℕ) (h : ∀ a, o a + (S2 t).size a ≤ (SG t).size a) : Memref sig .tc .hbm (SH t) .bf16 :=
  ((oM t).slice (Rect.unit (s := SG t) o (S2 t).size h) (fun _ => rfl)).squeeze (SH t) (squeezes₂ t)
/-- The own slab of the result; the half of the array that is sent and where it lands; what is passed on; what the other core passes on. -/
abbrev ownM (c : Dev nD) (t : Fin 9) := slabM t (offOwn c t) (own_inb c t)
abbrev fromM (c : Dev nD) (t : Fin 9) : Memref sig .tc .hbm (SH t) .bf16 :=
  (gM t).slice (Rect.unit (s := SA t) (offFrom c t) (SH t).size (from_inb c t)) (fun _ => rfl)
abbrev toM (c : Dev nD) (t : Fin 9) := halfM t (offTo c t) (to_inb c t)
abbrev passM (c : Dev nD) (t : Fin 9) (k : Fin 3) := halfM t (offPass c t k) (pass_inb c t k)
abbrev theirsM (c : Dev nD) (t : Fin 9) (k : Fin 3) := halfM t (offTheirs c t k) (theirs_inb c t k)

/-- The copies to peers: to the other chips, and passed on to the other core. -/
abbrev J : Type := Fin 9 × (Fin 3 ⊕ Fin 3)
/-- The semaphores: the local copies', the sends', the receives'. -/
abbrev place₆ : Fin 3 ⊕ Fin 3 → Fin 6
  | .inl k => ⟨k.val, by have := k.isLt; omega⟩
  | .inr k => ⟨3 + k.val, by have := k.isLt; omega⟩
abbrev dsem : Fin 9 ⊕ (J ⊕ J) → DmaSem sig
  | .inl t => ⟨108 + t.val, by have := t.isLt; show _ < 117; omega⟩
  | .inr (.inl j) => ⟨6 * j.1.val + (place₆ j.2).val, by have := j.1.isLt; have := (place₆ j.2).isLt; show _ < 117; omega⟩
  | .inr (.inr j) => ⟨54 + (6 * j.1.val + (place₆ j.2).val), by have := j.1.isLt; have := (place₆ j.2).isLt; show _ < 117; omega⟩

/-- The credits of a slab and of half of one. -/
abbrev N (t : Fin 9) : ℕ := (ownM 0 t).view.dmaCredit
abbrev N₂ (t : Fin 9) : ℕ := (toM 0 t).view.dmaCredit
theorem credit_own (c : Dev nD) : ∀ t : Fin 9, (ownM c t).view.dmaCredit = N t
  | 0 | 1 | 2 | 3 | 4 | 5 | 6 | 7 | 8 => rfl
theorem credit_from (c : Dev nD) : ∀ t : Fin 9, (fromM c t).view.dmaCredit = N₂ t
  | 0 | 1 | 2 | 3 | 4 | 5 | 6 | 7 | 8 => rfl
theorem credit_half : ∀ (t : Fin 9) o h, (halfM t o h).view.dmaCredit = N₂ t
  | 0 | 1 | 2 | 3 | 4 | 5 | 6 | 7 | 8 => fun _ _ => rfl
theorem exact_own (c : Dev nD) (t : Fin 9) : (ownM c t).view.WordExact := ((whole_o t).wordExact_slice rfl _ (own_words c t)).reshape _ _
theorem exact_from (c : Dev nD) (t : Fin 9) : (fromM c t).view.WordExact := (whole_g t).wordExact_slice rfl _ (from_words c t)
theorem exact_to (c : Dev nD) (t : Fin 9) : (toM c t).view.WordExact := ((whole_o t).wordExact_slice rfl _ (to_words c t)).reshape _ _
theorem exact_pass (c : Dev nD) (t : Fin 9) (k : Fin 3) : (passM c t k).view.WordExact := ((whole_o t).wordExact_slice rfl _ (pass_words c t k)).reshape _ _
theorem exact_theirs (c : Dev nD) (t : Fin 9) (k : Fin 3) : (theirsM c t k).view.WordExact := ((whole_o t).wordExact_slice rfl _ (theirs_words c t k)).reshape _ _
theorem unshared : ∀ t, (oM t).view.ref.isScScratch = false
  | 0 | 1 | 2 | 3 | 4 | 5 | 6 | 7 | 8 => rfl

abbrev arrays : List (Fin 9) := [0, 1, 2, 3, 4, 5, 6, 7, 8]
abbrev firsts : List J := arrays.flatMap fun t => [(t, .inl 0), (t, .inl 1), (t, .inl 2)]
abbrev passed : List J := arrays.flatMap fun t => [(t, .inr 0), (t, .inr 1), (t, .inr 2)]
theorem arrays_all : ∀ t, t ∈ arrays := by decide
theorem firsts_all : ∀ t k, (t, .inl k) ∈ firsts := fun t k => List.mem_flatMap.mpr ⟨t, arrays_all t, by fin_cases k <;> simp⟩
theorem passed_all : ∀ t k, (t, .inr k) ∈ passed := fun t k => List.mem_flatMap.mpr ⟨t, arrays_all t, by fin_cases k <;> simp⟩

/-- What has come from chip `k` when device `c` passes it on. -/
def came (m : (ℓ : Loc nD τ sig) → Buf (Elt F) ℓ) (c : Dev nD) (t : Fin 9) (k : Fin 3) : Buf (Elt F) ((passM c t k).view.loc (c : Thread nD τ)) :=
  (toM (flip k c) t).view.write (Elt F) (m ((oM t).view.loc (c : Thread nD τ))) ((fromM (flip k c) t).view.read (Elt F) (m ((gM t).view.loc (flip k c : Thread nD τ)))) Finset.univ

/-- The copies of the call. -/
abbrev plan : Plan nD τ sig (Fin 9) J where
  sI := SA
  eI _ := .bf16
  sJ j := SH j.1
  eJ _ := .bf16
  srcI c t := gM t
  dstI c t := ownM c t
  srcJ c
    | (t, .inl _) => fromM c t
    | (t, .inr k) => passM c t k
  dstJ c
    | (t, .inl _) => toM c t
    | (t, .inr k) => passM c t k
  gotA c
    | (t, .inl k) => passM c t k
    | (t, .inr k) => theirsM c t k
  gotB c
    | (t, .inl k) => passM c t k
    | (t, .inr k) => theirsM c t k
  wordsI c t := ⟨(whole_g t).wordExact, exact_own c t⟩
  wordsJ c
    | (t, .inl _) => ⟨exact_from c t, exact_to c t⟩
    | (t, .inr k) => ⟨exact_pass c t k, exact_pass c t k⟩
  wordsG c
    | (t, .inl k) => ⟨exact_pass c t k, exact_pass c t k⟩
    | (t, .inr k) => ⟨exact_theirs c t k, exact_theirs c t k⟩
  unshared c
    | (t, .inl _) => unshared t
    | (t, .inr _) => unshared t
  peer
    | (_, .inl k) => across k
    | (_, .inr _) => beside
  named c
    | (t, .inl k) => dev c t k
    | (t, .inr k) => devPass c t k
  named_eq c
    | (t, .inl k) => dev_eq c t k
    | (t, .inr k) => devPass_eq c t k
  route := by decide
  sem := dsem
  sem_inj := by decide +kernel
  nI t := N t
  nJ j := N₂ j.1
  posI t := View.dmaCredit_pos _ (by revert t; decide)
  posJ j := View.dmaCredit_pos _ (by revert j; decide)
  creditI c t := credit_own c t
  creditS c
    | (t, .inl _) => credit_from c t
    | (t, .inr _) => credit_half t _ _
  creditJ c
    | (t, .inl _) => credit_half t _ _
    | (t, .inr _) => credit_half t _ _
  creditG c
    | (t, .inl _) => credit_half t _ _
    | (t, .inr _) => credit_half t _ _
  qI _ := fullShare.left.left
  qJ
    | (_, .inl k) => Plan.share k
    | (_, .inr _) => fullShare.right
  starts := arrays.map .inl ++ firsts.map .inr
  waits := passed.map (fun j => .inr (.inr j)) ++ arrays.map .inl ++ firsts.map (fun j => .inr (.inl j)) ++ passed.map (fun j => .inr (.inl j))
  late
    | (_, .inl _) => false
    | (_, .inr _) => true
  orig
    | (t, .inl k) => (t, .inl k)
    | (t, .inr k) => (t, .inl k)
  relays := passed
  fill m c
    | (t, .inl _) => m _
    | (t, .inr k) => came m c t k

theorem fits : plan.Fits (F := F) cfg0 main where
  starts_nodup := by decide +kernel
  starts_all := by
    rintro (t | ⟨t, k | k⟩)
    · exact List.mem_append_left _ (List.mem_append_left _ (List.mem_map_of_mem (arrays_all t)))
    · exact List.mem_append_left _ (List.mem_append_right _ (List.mem_map_of_mem (firsts_all t k)))
    · exact List.mem_append_right _ (List.mem_map_of_mem (passed_all t k))
  waits_nodup := by decide +kernel
  waits_all := by
    rintro (t | ⟨t, k | k⟩ | ⟨t, k | k⟩)
    · exact List.mem_append_left _ (List.mem_append_left _ (List.mem_append_left _ (List.mem_append_right _ (List.mem_map_of_mem (arrays_all t)))))
    · exact List.mem_append_left _ (List.mem_append_left _ (List.mem_append_right _ (List.mem_map_of_mem (firsts_all t k))))
    · exact List.mem_append_left _ (List.mem_append_right _ (List.mem_map_of_mem (passed_all t k)))
    · exact List.mem_append_right _ (List.mem_map.mpr ⟨(t, .inr k), passed_all t k, rfl⟩)
    · exact List.mem_append_left _ (List.mem_append_left _ (List.mem_append_left _ (List.mem_append_left _ (List.mem_map_of_mem (passed_all t k)))))
  starts_first j h := by
    rcases List.mem_append.mp h with h | h
    · obtain ⟨_, _, e⟩ := List.mem_map.mp h; cases e
    · obtain ⟨i, hi, e⟩ := List.mem_map.mp h; cases e
      exact (by decide : ∀ i ∈ firsts, plan.late i = false) _ hi
  relays_late := by decide +kernel
  orig_first := by decide +kernel
  noWindow := rfl
  one := N_0
  cellOf_inj := cellOf_inj
  win := winFacts0
  whole := stage_whole0
  pos := block_pos0
  own := by decide
  allScoped := by decide
  rest := fun c => scopedRest0_eq c
  main_eq := fun _ => rfl

set_option maxRecDepth 65536 in
set_option maxHeartbeats 16000000 in
/-- The body is the first starts, the copies passed on, and the waits. -/
theorem body_runs : Plan.Runs (F := F) plan defs₀ cfg0 := by
  intro c t X
  rw [fin_N0 t]
  show _ ⊢ wp frame (wpE (defs₀ (F := F)) Plan.𝒱₀ c none) Set.univ (cc0_gather (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole main_v1_7) (Memref.isWhole_whole _) (Memref.whole main_v1_8) (Memref.isWhole_whole _) cc0_scratch0 cc0_scratch1 cc0_scratch2) _
  simp only [cc0_gather_eq_skeleton]; unfold cc0_gather_skel
  simp only [k0_part79_eq_skeleton]; unfold k0_part79_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]; unfold k0_part1_skel k0_part2_skel k0_part3_skel k0_part4_skel k0_part5_skel k0_part6_skel k0_part7_skel k0_part8_skel k0_part9_skel k0_part10_skel
  simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]; unfold k0_part11_skel k0_part12_skel k0_part13_skel k0_part14_skel k0_part15_skel k0_part16_skel k0_part17_skel k0_part18_skel k0_part19_skel k0_part20_skel
  simp only [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]; unfold k0_part21_skel k0_part22_skel k0_part23_skel k0_part24_skel k0_part25_skel k0_part26_skel k0_part27_skel k0_part28_skel k0_part29_skel k0_part30_skel
  simp only [k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]; unfold k0_part31_skel k0_part32_skel k0_part33_skel k0_part34_skel k0_part35_skel k0_part36_skel k0_part37_skel k0_part38_skel k0_part39_skel k0_part40_skel
  simp only [k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]; unfold k0_part41_skel k0_part42_skel k0_part43_skel k0_part44_skel k0_part45_skel k0_part46_skel k0_part47_skel k0_part48_skel k0_part49_skel k0_part50_skel
  simp only [k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]; unfold k0_part51_skel k0_part52_skel k0_part53_skel k0_part54_skel k0_part55_skel k0_part56_skel k0_part57_skel k0_part58_skel k0_part59_skel k0_part60_skel
  simp only [k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton]; unfold k0_part61_skel k0_part62_skel k0_part63_skel k0_part64_skel k0_part65_skel k0_part66_skel k0_part67_skel k0_part68_skel k0_part69_skel k0_part70_skel
  simp only [k0_part71_eq_skeleton, k0_part72_eq_skeleton, k0_part73_eq_skeleton, k0_part74_eq_skeleton, k0_part75_eq_skeleton, k0_part76_eq_skeleton, k0_part77_eq_skeleton, k0_part78_eq_skeleton]; unfold k0_part71_skel k0_part72_skel k0_part73_skel k0_part74_skel k0_part75_skel k0_part76_skel k0_part77_skel k0_part78_skel
  simp only [Prog.lift, Prog.bind_op, Prog.bind_ret, Prog.pure_eq_ret, wp_deviceId]
  exact .rfl

/-! ## The run -/

variable (m : (ℓ : Loc nD τ sig) → Buf (Elt F) ℓ) (ρ : Dev nD → PrngReg)

/-- Two halves that begin at the same place are one. -/
theorem half_set (t : Fin 9) (o o' : Fin 3 → ℕ) (h : ∀ a, o a + (S2 t).size a ≤ (SG t).size a) (h' : ∀ a, o' a + (S2 t).size a ≤ (SG t).size a) (e : o = o') :
    (halfM t o h).view.set = (halfM t o' h').view.set := by subst e; rfl

theorem passesOn : plan.PassesOn (F := F) m := by
  rintro c ⟨t, k | k⟩ h
  · cases h
  · refine Entails.of_eq ?_
    have e := half_set t _ _ (to_inb (flip k c) t) (pass_inb c t k) (pass_off c t k).symm
    show ((((toM (flip k c) t).view.loc (c : Thread nD τ)) ↦[(toM (flip k c) t).view.set]{fullShare.right} came m c t k) : sProp (MT nD τ sig Unit (Elt F) ℕ (UU nD τ sig) ℕ)) = _
    exact congrArg (fun K => ((((oM t).view.loc (c : Thread nD τ)) ↦[K]{fullShare.right} came m c t k) : sProp (MT nD τ sig Unit (Elt F) ℕ (UU nD τ sig) ℕ))) e

/-- Where on device `c` a copy lands: half `b` of the slab of chip `a`. -/
abbrev landing (c : Dev nD) (t : Fin 9) : Fin 3 ⊕ Fin 3 → Finset (Idx ((oM t).view.loc (c : Thread nD τ)))
  | .inl k => (toM (flip k c) t).view.set
  | .inr k => (passM (sib c) t k).view.set
theorem to_place (c : Dev nD) (t : Fin 9) (k : Fin 3) : offTo (flip k c) t = place (c.val / 2 ^^^ ![2, 1, 3] k) (c.val % 2) t := by
  rw [to_off]; revert c k; decide +revert +kernel
theorem pass_place (c : Dev nD) (t : Fin 9) (k : Fin 3) : offPass (sib c) t k = place (c.val / 2 ^^^ ![2, 1, 3] k) (1 - c.val % 2) t := by
  rw [pass_off, to_off]; revert c k; decide +revert +kernel
/-- Halves at different places, and a slab and a half of another one, share no entry. -/
theorem halves_apart (t : Fin 9) (o o' : Fin 3 → ℕ) (h : ∀ a, o a + (S2 t).size a ≤ (SG t).size a) (h' : ∀ a, o' a + (S2 t).size a ≤ (SG t).size a) (a a' b b' : ℕ)
    (e : o = place a b t) (e' : o' = place a' b' t) (hab : a ≠ a' ∨ b ≠ b') : Disjoint (halfM t o h).view.set (halfM t o' h').view.set := by
  subst e e'
  refine Plan.Apart.each (v := (oM t).view) ?_ (squeezes₂ t).numel_eq (squeezes₂ t).numel_eq
  rcases hab with hab | hab
  · refine View.disjoint_slice_of_sep _ _ _ (0 : Fin 3) rfl rfl ?_
    show a + 1 ≤ a' ∨ a' + 1 ≤ a
    omega
  · refine View.disjoint_slice_of_sep _ _ _ (1 : Fin 3) rfl rfl ?_
    show b * HH t + HH t ≤ b' * HH t ∨ b' * HH t + HH t ≤ b * HH t
    rcases Nat.lt_or_gt_of_ne hab with h | h
    · exact .inl (Nat.succ_mul b (HH t) ▸ Nat.mul_le_mul_right _ h)
    · exact .inr (Nat.succ_mul b' (HH t) ▸ Nat.mul_le_mul_right _ h)
theorem slab_apart (c : Dev nD) (t : Fin 9) (o : Fin 3 → ℕ) (h : ∀ a, o a + (S2 t).size a ≤ (SG t).size a) (a b : ℕ) (e : o = place a b t) (ha : c.val / 2 ≠ a) :
    Disjoint (ownM c t).view.set (halfM t o h).view.set := by
  subst e
  refine Plan.Apart.each (v := (oM t).view) (View.disjoint_slice_of_sep _ _ _ (0 : Fin 3) rfl rfl ?_) (squeezes t).numel_eq (squeezes₂ t).numel_eq
  show offOwn c t 0 + 1 ≤ a ∨ a + 1 ≤ offOwn c t 0
  rw [show offOwn c t 0 = c.val / 2 from congrFun (own_off c t) 0]; omega
theorem chip_ne (c : Dev nD) (k : Fin 3) : c.val / 2 ≠ c.val / 2 ^^^ ![2, 1, 3] k := by revert c k; decide +kernel
theorem chips_ne (c : Dev nD) (k l : Fin 3) : k ≠ l → c.val / 2 ^^^ ![2, 1, 3] k ≠ c.val / 2 ^^^ ![2, 1, 3] l := by revert c k l; decide +kernel
theorem cores_ne (c : Dev nD) : c.val % 2 ≠ 1 - c.val % 2 := by omega
theorem landing_own (c : Dev nD) (t : Fin 9) : ∀ l, Disjoint (ownM c t).view.set (landing c t l)
  | .inl k => slab_apart c t _ _ _ _ (to_place c t k) (chip_ne c k)
  | .inr k => slab_apart c t _ _ _ _ (pass_place c t k) (chip_ne c k)
theorem landing_apart (c : Dev nD) (t : Fin 9) : ∀ l l', l ≠ l' → Disjoint (landing c t l) (landing c t l')
  | .inl k, .inl l, h => halves_apart t _ _ _ _ _ _ _ _ (to_place c t k) (to_place c t l) (.inl (chips_ne c k l fun e => h (e ▸ rfl)))
  | .inl k, .inr l, _ => halves_apart t _ _ _ _ _ _ _ _ (to_place c t k) (pass_place c t l) (.inr (cores_ne c))
  | .inr k, .inl l, _ => halves_apart t _ _ _ _ _ _ _ _ (pass_place c t k) (to_place c t l) (.inr (cores_ne c).symm)
  | .inr k, .inr l, h => halves_apart t _ _ _ _ _ _ _ _ (pass_place c t k) (pass_place c t l) (.inl (chips_ne c k l fun e => h (e ▸ rfl)))

abbrev buf (x : Fin 9 × Fin 2) : Ref sig .tc := ![gR x.1, oR x.1] x.2

theorem dealt (c : Dev nD) : ∀ t : Fin 9, (bigSep Finset.univ fun k : Fin 2 => (((c : Thread nD τ).loc (buf (t, k))) ↦{fullShare} m ((c : Thread nD τ).loc (buf (t, k))) : sProp (MT nD τ sig Unit (Elt F) ℕ (UU nD τ sig) ℕ)))
    ⊢ Plan.dealt plan m gR c t
  | 0 => (Plan.deal_four c ![main_arg0, main_v1_0] (gM 0).view.set (fun _ => (fromM c 0).view.set) (ownM c 0).view.set (landing c 0) (landing_own c 0) (landing_apart c 0) m).trans
      (Plan.dealt_late m gR plan (fun _ _ => rfl) (fun _ _ => rfl) c 0)
  | 1 => (Plan.deal_four c ![main_arg1, main_v1_1] (gM 1).view.set (fun _ => (fromM c 1).view.set) (ownM c 1).view.set (landing c 1) (landing_own c 1) (landing_apart c 1) m).trans
      (Plan.dealt_late m gR plan (fun _ _ => rfl) (fun _ _ => rfl) c 1)
  | 2 => (Plan.deal_four c ![main_arg2, main_v1_2] (gM 2).view.set (fun _ => (fromM c 2).view.set) (ownM c 2).view.set (landing c 2) (landing_own c 2) (landing_apart c 2) m).trans
      (Plan.dealt_late m gR plan (fun _ _ => rfl) (fun _ _ => rfl) c 2)
  | 3 => (Plan.deal_four c ![main_arg3, main_v1_3] (gM 3).view.set (fun _ => (fromM c 3).view.set) (ownM c 3).view.set (landing c 3) (landing_own c 3) (landing_apart c 3) m).trans
      (Plan.dealt_late m gR plan (fun _ _ => rfl) (fun _ _ => rfl) c 3)
  | 4 => (Plan.deal_four c ![main_arg4, main_v1_4] (gM 4).view.set (fun _ => (fromM c 4).view.set) (ownM c 4).view.set (landing c 4) (landing_own c 4) (landing_apart c 4) m).trans
      (Plan.dealt_late m gR plan (fun _ _ => rfl) (fun _ _ => rfl) c 4)
  | 5 => (Plan.deal_four c ![main_arg5, main_v1_5] (gM 5).view.set (fun _ => (fromM c 5).view.set) (ownM c 5).view.set (landing c 5) (landing_own c 5) (landing_apart c 5) m).trans
      (Plan.dealt_late m gR plan (fun _ _ => rfl) (fun _ _ => rfl) c 5)
  | 6 => (Plan.deal_four c ![main_arg6, main_v1_6] (gM 6).view.set (fun _ => (fromM c 6).view.set) (ownM c 6).view.set (landing c 6) (landing_own c 6) (landing_apart c 6) m).trans
      (Plan.dealt_late m gR plan (fun _ _ => rfl) (fun _ _ => rfl) c 6)
  | 7 => (Plan.deal_four c ![main_arg7, main_v1_7] (gM 7).view.set (fun _ => (fromM c 7).view.set) (ownM c 7).view.set (landing c 7) (landing_own c 7) (landing_apart c 7) m).trans
      (Plan.dealt_late m gR plan (fun _ _ => rfl) (fun _ _ => rfl) c 7)
  | 8 => (Plan.deal_four c ![main_arg8, main_v1_8] (gM 8).view.set (fun _ => (fromM c 8).view.set) (ownM c 8).view.set (landing c 8) (landing_own c 8) (landing_apart c 8) m).trans
      (Plan.dealt_late m gR plan (fun _ _ => rfl) (fun _ _ => rfl) c 8)

set_option maxRecDepth 65536 in
theorem run_main : θ_run (defs (F := F)) (onTc (τ := τ) (main (F := F))) (⟨m, fun _ => 0, ρ⟩ : MemSt nD τ sig (Elt F)) (fun r => (∀ c, Plan.Ends plan m gR c r.2) ∧ r.2.sem = fun _ => 0) :=
  Plan.ends plan m ρ gR defs₀ fits (passesOn m) body_runs buf (by decide) (by decide) (dealt m)

end Cert.Gather

end
-- ==== Proof.ChipGatherClaims.lean ====
/-
  The claims about the gathering of nine arrays from the four chips: both frames from the one run, and on every device each
  result as the whole array, one slab for each chip.
-/
module

public import proofs.«01_k».proof.Defs
public import proofs.«01_k».proof.Proof.ChipGather
public import proofs.«01_k».proof.Proof.Gen.ChipGather
public import proofs.«01_k».proof.Proof.Gen.ChipGatherRefIdeal.Run
public import proofs.«01_k».proof.Proof.Gen.ChipGatherRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

namespace Cert.Proof.ChipGatherClaims

open Cert.ChipGatherRefIdeal.Read
open Cert.Gather (sib)
open Cert.ChipGatherIdeal (nD τ sig)

/-- What the end of a run says of the nine arguments, one by one. -/
theorem args_kept {F : FTy → Type} [FloatOps F] {m : (ℓ : Loc nD τ sig) → Buf (Elt F) ℓ} {c : Dev nD} {s : MemSt nD τ sig (Elt F)}
    (h : Cert.Exchange.Plan.Ends Cert.Gather.plan m Cert.Gather.gR c s) :
    s.mem ((c : Thread nD τ).loc Cert.ChipGatherIdeal.main_arg0) = m ((c : Thread nD τ).loc Cert.ChipGatherIdeal.main_arg0)
      ∧ s.mem ((c : Thread nD τ).loc Cert.ChipGatherIdeal.main_arg1) = m ((c : Thread nD τ).loc Cert.ChipGatherIdeal.main_arg1)
      ∧ s.mem ((c : Thread nD τ).loc Cert.ChipGatherIdeal.main_arg2) = m ((c : Thread nD τ).loc Cert.ChipGatherIdeal.main_arg2)
      ∧ s.mem ((c : Thread nD τ).loc Cert.ChipGatherIdeal.main_arg3) = m ((c : Thread nD τ).loc Cert.ChipGatherIdeal.main_arg3)
      ∧ s.mem ((c : Thread nD τ).loc Cert.ChipGatherIdeal.main_arg4) = m ((c : Thread nD τ).loc Cert.ChipGatherIdeal.main_arg4)
      ∧ s.mem ((c : Thread nD τ).loc Cert.ChipGatherIdeal.main_arg5) = m ((c : Thread nD τ).loc Cert.ChipGatherIdeal.main_arg5)
      ∧ s.mem ((c : Thread nD τ).loc Cert.ChipGatherIdeal.main_arg6) = m ((c : Thread nD τ).loc Cert.ChipGatherIdeal.main_arg6)
      ∧ s.mem ((c : Thread nD τ).loc Cert.ChipGatherIdeal.main_arg7) = m ((c : Thread nD τ).loc Cert.ChipGatherIdeal.main_arg7)
      ∧ s.mem ((c : Thread nD τ).loc Cert.ChipGatherIdeal.main_arg8) = m ((c : Thread nD τ).loc Cert.ChipGatherIdeal.main_arg8) :=
  ⟨h.1 0, h.1 1, h.1 2, h.1 3, h.1 4, h.1 5, h.1 6, h.1 7, h.1 8⟩

theorem frame_kernel : Cert.quiescent_ChipGather := fun m ρ _ =>
  (θ_run Cert.ChipGatherIdeal.defs _ _).mono (fun _ h => ⟨fun c => args_kept (h.1 c), h.2⟩) (Cert.Gather.run_main (F := Bits) m ρ)

theorem frame_ideal : Cert.quiescent_ChipGatherIdeal := fun m ρ _ =>
  (θ_run Cert.ChipGatherIdeal.defs _ _).mono (fun _ h => ⟨fun c => args_kept (h.1 c), h.2⟩) (Cert.Gather.run_main (F := Ideal) m ρ)

theorem frame_ref : Cert.quiescent_ChipGatherRefIdeal := fun m ρ _ =>
  (θ_run Cert.ChipGatherRefIdeal.defs _ _).mono (fun r h => ⟨fun c => (h c).2.2.2.2.2.2.2.2.2, Idealize.ShloMosaic.sem_eq_zero_of_no_sems (by decide) r.2⟩)
    (Cert.ChipGatherRefIdeal.Value.run (F := Ideal) m ρ)

/-- One entry of device `d`'s part of an array cut between the four chips. -/
theorem part_at {H K W : ℕ} (h : Layout.TilesN ⟨2, ![H, W]⟩ ⟨2, ![K, W]⟩ (fun b => Layout.cutSize [2, 2, 2] ((![[0, 1], []] : Fin 2 → List ℕ) b)))
    (v : (⟨2, ![K, W]⟩ : Shape).Idx → EReal) (d : Fin 8) (r : Fin H) (l : Fin W) (q : Fin K) (hq : q.val = d.val / 2 * H + r.val) :
    Layout.blockN ⟨2, ![H, W]⟩ ⟨2, ![K, W]⟩ (Layout.meshBlock [2, 2, 2] ![[0, 1], []] d) v h (ix2 r l) = v (ix2 q l) := by
  have hd : ∀ d : Fin 8, Layout.meshLin [2, 2, 2] d.val [0, 1] = d.val / 2 := by decide
  have key : ∀ a : Fin 2, (h.idx (Layout.meshBlock [2, 2, 2] ![[0, 1], []] d) (ix2 r l) a).val = (ix2 q l a).val := fun a => by
    fin_cases a
    · show Layout.meshLin [2, 2, 2] d.val [0, 1] * H + r.val = q.val
      rw [hd, hq]
    · show 0 * W + l.val = l.val
      omega
  exact congrArg v (funext fun a => Fin.ext (key a))

/-- The array with one slab for each chip: row `r` of slab `a` is row `a H + r`. -/
theorem slabs_at {H K W : ℕ} (p : (⟨2, ![K, W]⟩ : Shape).Idx → EReal) (h1) (a : Fin 4) (r : Fin H) (l : Fin W) (q : Fin K) (hq : q.val = a.val * H + r.val) :
    shapeCast (s := ⟨2, ![K, W]⟩) ⟨3, ![4, H, W]⟩ p h1 (ix3 a r l) = p (ix2 q l) := by
  have e : Shape.reshapeEquiv h1 (ix3 a r l) = ix2 q l := Shape.reshapeEquiv_eq_of_rowMajor h1 (by
    rw [rowMajor_val3 _ (H * W) W rfl rfl, rowMajor_val2 _ W rfl]
    show q.val * W + l.val = a.val * (H * W) + r.val * W + l.val
    rw [hq]; ring)
  exact congrArg p e

/-- A slab of a result that holds an array of its shape. -/
theorem slab_at {H W : ℕ} {s : (⟨3, ![4, H, W]⟩ : Shape).Idx → EReal} {f : (⟨2, ![H, W]⟩ : Shape).Idx → EReal} {o : Fin 3 → ℕ}
    {inb : ∀ a, o a + (⟨3, ![1, H, W]⟩ : Shape).size a ≤ (⟨3, ![4, H, W]⟩ : Shape).size a}
    {hn : (⟨2, ![H, W]⟩ : Shape).numel = (⟨3, ![1, H, W]⟩ : Shape).numel} (a : Fin 4) (ho : o = ![a.val, 0, 0])
    (h : (fun i => s ((Rect.unit (s := ⟨3, ![4, H, W]⟩) o (⟨3, ![1, H, W]⟩ : Shape).size inb).emb (Shape.reshapeEquiv hn i))) = fun i => f i)
    (r : Fin H) (l : Fin W) : s (ix3 a r l) = f (ix2 r l) := by
  subst ho
  have e : Shape.reshapeEquiv hn (ix2 r l) = ix3 (0 : Fin 1) r l := Shape.reshapeEquiv_eq_of_rowMajor hn (by
    rw [rowMajor_val3 _ (H * W) W rfl rfl, rowMajor_val2 _ W rfl]
    show 0 * (H * W) + r.val * W + l.val = r.val * W + l.val
    ring)
  have hi := congrFun h (ix2 r l)
  rw [e] at hi
  refine Eq.trans (congrArg s (funext fun b => Fin.ext ?_)) hi
  fin_cases b
  · show a.val = a.val + 1 * 0; omega
  · show r.val = 0 + 1 * r.val; omega
  · show l.val = 0 + 1 * l.val; omega

/-- Half of a slab of a result that holds half of an array. -/
theorem half_at {H E W : ℕ} {s : (⟨3, ![4, H, W]⟩ : Shape).Idx → EReal} {f : (⟨2, ![H, W]⟩ : Shape).Idx → EReal} {o : Fin 3 → ℕ} {o' : Fin 2 → ℕ}
    {inb : ∀ a, o a + (⟨3, ![1, E, W]⟩ : Shape).size a ≤ (⟨3, ![4, H, W]⟩ : Shape).size a}
    {inb' : ∀ a, o' a + (⟨2, ![E, W]⟩ : Shape).size a ≤ (⟨2, ![H, W]⟩ : Shape).size a}
    {hn : (⟨2, ![E, W]⟩ : Shape).numel = (⟨3, ![1, E, W]⟩ : Shape).numel} (a : Fin 4) (b : ℕ) (ho : o = ![a.val, b * E, 0]) (ho' : o' = ![b * E, 0])
    (h : (fun i => s ((Rect.unit (s := ⟨3, ![4, H, W]⟩) o (⟨3, ![1, E, W]⟩ : Shape).size inb).emb (Shape.reshapeEquiv hn i)))
      = fun i => f ((Rect.unit (s := ⟨2, ![H, W]⟩) o' (⟨2, ![E, W]⟩ : Shape).size inb').emb i))
    (r : Fin H) (l : Fin W) (x : Fin E) (hr : r.val = b * E + x.val) : s (ix3 a r l) = f (ix2 r l) := by
  subst ho ho'
  have e : Shape.reshapeEquiv hn (ix2 x l) = ix3 (0 : Fin 1) x l := Shape.reshapeEquiv_eq_of_rowMajor hn (by
    rw [rowMajor_val3 _ (E * W) W rfl rfl, rowMajor_val2 _ W rfl]
    show 0 * (E * W) + x.val * W + l.val = x.val * W + l.val
    ring)
  have hi := congrFun h (ix2 x l)
  rw [e] at hi
  refine Eq.trans (congrArg s (funext fun d => Fin.ext ?_)) (hi.trans (congrArg f (funext fun d => Fin.ext ?_)))
  · fin_cases d
    · show a.val = a.val + 1 * 0; omega
    · show r.val = b * E + 1 * x.val; omega
    · show l.val = 0 + 1 * l.val; omega
  · fin_cases d
    · show b * E + 1 * x.val = r.val; omega
    · show 0 + 1 * l.val = l.val; omega

theorem covered : ∀ (c : Fin 8) (a : Fin 4), a.val = c.val / 2 ∨ ∃ k, (Cert.Gather.flip k c).val / 2 = a.val := by decide
theorem core_kept : ∀ (c : Fin 8) k, (Cert.Gather.flip k c).val % 2 = c.val % 2 := by decide
theorem chip_kept : ∀ (c : Fin 8) k, (Cert.Gather.flip k (sib c)).val / 2 = (Cert.Gather.flip k c).val / 2 := by decide
theorem core_other : ∀ (c : Fin 8) k, (Cert.Gather.flip k (sib c)).val % 2 = 1 - c.val % 2 := by decide

/-- A result whose own slab is the device's array, and whose other slabs came half from the same core of the other chip and half
    from the other core, is the whole array with one slab for each chip. -/
theorem gathered {H E K W : ℕ} {p : (⟨2, ![K, W]⟩ : Shape).Idx → EReal} {s : (⟨3, ![4, H, W]⟩ : Shape).Idx → EReal} {h1}
    {hT : Layout.TilesN ⟨2, ![H, W]⟩ ⟨2, ![K, W]⟩ (fun b => Layout.cutSize [2, 2, 2] ((![[0, 1], []] : Fin 2 → List ℕ) b))}
    {hn : (⟨2, ![H, W]⟩ : Shape).numel = (⟨3, ![1, H, W]⟩ : Shape).numel} {hn₂ : (⟨2, ![E, W]⟩ : Shape).numel = (⟨3, ![1, E, W]⟩ : Shape).numel}
    (hH : H = 2 * E) (hK : K = 4 * H) {fs : Fin 8 → (⟨2, ![H, W]⟩ : Shape).Idx → EReal}
    (hp : ∀ d, fs d = Layout.blockN ⟨2, ![H, W]⟩ ⟨2, ![K, W]⟩ (Layout.meshBlock [2, 2, 2] ![[0, 1], []] d) p hT)
    {own to' : Fin 8 → Fin 3 → ℕ} {from' : Fin 8 → Fin 2 → ℕ} {pass : Fin 8 → Fin 3 → Fin 3 → ℕ}
    (ho : ∀ c, own c = ![c.val / 2, 0, 0]) (hf : ∀ c, from' c = ![c.val % 2 * E, 0]) (ht : ∀ c, to' c = ![c.val / 2, c.val % 2 * E, 0])
    (hq : ∀ c k, pass c k = to' (Cert.Gather.flip k c))
    {inb₁ : ∀ c a, own c a + (⟨3, ![1, H, W]⟩ : Shape).size a ≤ (⟨3, ![4, H, W]⟩ : Shape).size a}
    {inb₂ : ∀ c a, to' c a + (⟨3, ![1, E, W]⟩ : Shape).size a ≤ (⟨3, ![4, H, W]⟩ : Shape).size a}
    {inb₃ : ∀ c k a, pass c k a + (⟨3, ![1, E, W]⟩ : Shape).size a ≤ (⟨3, ![4, H, W]⟩ : Shape).size a}
    {inb₄ : ∀ c a, from' c a + (⟨2, ![E, W]⟩ : Shape).size a ≤ (⟨2, ![H, W]⟩ : Shape).size a} (c : Fin 8)
    (hs₁ : (fun i => s ((Rect.unit (s := ⟨3, ![4, H, W]⟩) (own c) (⟨3, ![1, H, W]⟩ : Shape).size (inb₁ c)).emb (Shape.reshapeEquiv hn i))) = fun i => fs c i)
    (hs₂ : ∀ k d, Cert.Gather.flip k c = d → (fun i => s ((Rect.unit (s := ⟨3, ![4, H, W]⟩) (to' d) (⟨3, ![1, E, W]⟩ : Shape).size (inb₂ d)).emb (Shape.reshapeEquiv hn₂ i)))
      = fun i => fs d ((Rect.unit (s := ⟨2, ![H, W]⟩) (from' d) (⟨2, ![E, W]⟩ : Shape).size (inb₄ d)).emb i))
    (hs₃ : ∀ k d, sib c = d → (fun i => s ((Rect.unit (s := ⟨3, ![4, H, W]⟩) (pass d k) (⟨3, ![1, E, W]⟩ : Shape).size (inb₃ d k)).emb (Shape.reshapeEquiv hn₂ i)))
      = fun i => fs (Cert.Gather.flip k d) ((Rect.unit (s := ⟨2, ![H, W]⟩) (from' (Cert.Gather.flip k d)) (⟨2, ![E, W]⟩ : Shape).size (inb₄ (Cert.Gather.flip k d))).emb i)) :
    s = shapeCast (s := ⟨2, ![K, W]⟩) ⟨3, ![4, H, W]⟩ p h1 := by
  funext i
  obtain ⟨a, r, l, rfl⟩ : ∃ a r l, i = ix3 a r l := ⟨_, _, _, eq_ix3 i⟩
  have hr := r.isLt
  have hq4 : a.val * H + r.val < K := by
    have : a.val * H ≤ 3 * H := Nat.mul_le_mul_right _ (by omega)
    omega
  have key : ∀ d : Fin 8, d.val / 2 = a.val → s (ix3 a r l) = fs d (ix2 r l) → s (ix3 a r l) = shapeCast (s := ⟨2, ![K, W]⟩) ⟨3, ![4, H, W]⟩ p h1 (ix3 a r l) := fun d hd e => by
    rw [e, hp d, part_at hT p d r l ⟨a.val * H + r.val, hq4⟩ (by rw [hd]), slabs_at p h1 a r l ⟨a.val * H + r.val, hq4⟩ rfl]
  rcases covered c a with ha | ⟨k, hk⟩
  · exact key c ha.symm (slab_at a ((ho c).trans (by rw [ha])) hs₁ r l)
  · have hb : r.val / E = c.val % 2 ∨ r.val / E = 1 - c.val % 2 := by
      have : r.val / E < 2 := Nat.div_lt_of_lt_mul (by omega)
      generalize r.val / E = b at this ⊢
      omega
    have hE : 0 < E := by omega
    have hx : r.val = r.val / E * E + r.val % E := by rw [Nat.mul_comm]; exact (Nat.div_add_mod _ _).symm
    rcases hb with hb | hb
    · rw [hb] at hx
      exact key (Cert.Gather.flip k c) hk (half_at a (c.val % 2) ((ht _).trans (by rw [hk, core_kept])) ((hf _).trans (by rw [core_kept])) (hs₂ k _ rfl) r l ⟨r.val % E, Nat.mod_lt _ hE⟩ hx)
    · rw [hb] at hx
      exact key (Cert.Gather.flip k (sib c)) ((chip_kept c k).trans hk) (half_at a (1 - c.val % 2) ((hq _ k).trans ((ht _).trans (by rw [chip_kept, hk, core_other])))
        ((hf _).trans (by rw [core_other])) (hs₃ k _ rfl) r l ⟨r.val % E, Nat.mod_lt _ hE⟩ hx)

/-- What is passed on is what has come. -/
theorem read_put {F : FTy → Type} (t : Fin 9) (c : Dev nD) (o o' : Fin 3 → ℕ) (h h') (e : o = o') (f : Buf (Elt F) ((Cert.Gather.oM t).view.loc (c : Thread nD τ)))
    (w : (Cert.Gather.SH t).Idx → Elt F .bf16) :
    (Cert.Gather.halfM t o' h').view.read (Elt F) ((Cert.Gather.halfM t o h).view.write (Elt F) f w Finset.univ) = w := by
  subst e
  exact View.read_write_univ _ _
theorem came_read {F : FTy → Type} [FloatOps F] (m : (ℓ : Loc nD τ sig) → Buf (Elt F) ℓ) (c : Dev nD) (t : Fin 9) (k : Fin 3) :
    (Cert.Gather.passM c t k).view.read (Elt F) (Cert.Gather.came m c t k)
      = (Cert.Gather.fromM (Cert.Gather.flip k c) t).view.read (Elt F) (m ((Cert.Gather.gM t).view.loc (Cert.Gather.flip k c : Thread nD τ))) :=
  read_put t c _ _ _ _ (Cert.Gather.pass_off c t k).symm _ _

theorem algebraic : Cert.algebraic_ChipGatherIdeal_ChipGatherRefIdeal := by
  intro m ρ m' ρ' _ hagree
  refine ⟨val_main_v0 (F := Ideal) (m' ((0 : Dev Cert.ChipGatherRefIdeal.nD).tc.loc Cert.ChipGatherRefIdeal.main_arg0)),
    val_main_v1 (F := Ideal) (m' ((0 : Dev Cert.ChipGatherRefIdeal.nD).tc.loc Cert.ChipGatherRefIdeal.main_arg1)),
    val_main_v2 (F := Ideal) (m' ((0 : Dev Cert.ChipGatherRefIdeal.nD).tc.loc Cert.ChipGatherRefIdeal.main_arg2)),
    val_main_v3 (F := Ideal) (m' ((0 : Dev Cert.ChipGatherRefIdeal.nD).tc.loc Cert.ChipGatherRefIdeal.main_arg3)),
    val_main_v4 (F := Ideal) (m' ((0 : Dev Cert.ChipGatherRefIdeal.nD).tc.loc Cert.ChipGatherRefIdeal.main_arg4)),
    val_main_v5 (F := Ideal) (m' ((0 : Dev Cert.ChipGatherRefIdeal.nD).tc.loc Cert.ChipGatherRefIdeal.main_arg5)),
    val_main_v6 (F := Ideal) (m' ((0 : Dev Cert.ChipGatherRefIdeal.nD).tc.loc Cert.ChipGatherRefIdeal.main_arg6)),
    val_main_v7 (F := Ideal) (m' ((0 : Dev Cert.ChipGatherRefIdeal.nD).tc.loc Cert.ChipGatherRefIdeal.main_arg7)),
    val_main_v8 (F := Ideal) (m' ((0 : Dev Cert.ChipGatherRefIdeal.nD).tc.loc Cert.ChipGatherRefIdeal.main_arg8)), ?_, ?_⟩
  · refine (θ_run Cert.ChipGatherIdeal.defs _ _).mono (fun _ h c => ?_) (Cert.Gather.run_main (F := Ideal) m ρ)
    have late := fun t k d (hd : sib c = d) => ((h.1 c).2.2 (t, .inr k) d hd).trans (came_read m d t k)
    refine ⟨?_, ?_, ?_, ?_, ?_, ?_, ?_, ?_, ?_, args_kept (h.1 c)⟩
    · exact gathered (hn₂ := (Cert.Gather.squeezes₂ 0).numel_eq) (Cert.Gather.half_rows 0) rfl (inb₁ := fun d => Cert.Gather.own_inb d 0) (inb₂ := fun d => Cert.Gather.to_inb d 0) (inb₃ := fun d => Cert.Gather.pass_inb d 0) (inb₄ := fun d => Cert.Gather.from_inb d 0)
        (hp := fun d => (hagree d).1) (fun d => Cert.Gather.own_off d 0) (fun d => Cert.Gather.from_off d 0) (fun d => Cert.Gather.to_off d 0) (fun d => Cert.Gather.pass_off d 0) c ((h.1 c).2.1 0) (fun k => (h.1 c).2.2 (0, .inl k)) (late 0)
    · exact gathered (hn₂ := (Cert.Gather.squeezes₂ 1).numel_eq) (Cert.Gather.half_rows 1) rfl (inb₁ := fun d => Cert.Gather.own_inb d 1) (inb₂ := fun d => Cert.Gather.to_inb d 1) (inb₃ := fun d => Cert.Gather.pass_inb d 1) (inb₄ := fun d => Cert.Gather.from_inb d 1)
        (hp := fun d => (hagree d).2.1) (fun d => Cert.Gather.own_off d 1) (fun d => Cert.Gather.from_off d 1) (fun d => Cert.Gather.to_off d 1) (fun d => Cert.Gather.pass_off d 1) c ((h.1 c).2.1 1) (fun k => (h.1 c).2.2 (1, .inl k)) (late 1)
    · exact gathered (hn₂ := (Cert.Gather.squeezes₂ 2).numel_eq) (Cert.Gather.half_rows 2) rfl (inb₁ := fun d => Cert.Gather.own_inb d 2) (inb₂ := fun d => Cert.Gather.to_inb d 2) (inb₃ := fun d => Cert.Gather.pass_inb d 2) (inb₄ := fun d => Cert.Gather.from_inb d 2)
        (hp := fun d => (hagree d).2.2.1) (fun d => Cert.Gather.own_off d 2) (fun d => Cert.Gather.from_off d 2) (fun d => Cert.Gather.to_off d 2) (fun d => Cert.Gather.pass_off d 2) c ((h.1 c).2.1 2) (fun k => (h.1 c).2.2 (2, .inl k)) (late 2)
    · exact gathered (hn₂ := (Cert.Gather.squeezes₂ 3).numel_eq) (Cert.Gather.half_rows 3) rfl (inb₁ := fun d => Cert.Gather.own_inb d 3) (inb₂ := fun d => Cert.Gather.to_inb d 3) (inb₃ := fun d => Cert.Gather.pass_inb d 3) (inb₄ := fun d => Cert.Gather.from_inb d 3)
        (hp := fun d => (hagree d).2.2.2.1) (fun d => Cert.Gather.own_off d 3) (fun d => Cert.Gather.from_off d 3) (fun d => Cert.Gather.to_off d 3) (fun d => Cert.Gather.pass_off d 3) c ((h.1 c).2.1 3) (fun k => (h.1 c).2.2 (3, .inl k)) (late 3)
    · exact gathered (hn₂ := (Cert.Gather.squeezes₂ 4).numel_eq) (Cert.Gather.half_rows 4) rfl (inb₁ := fun d => Cert.Gather.own_inb d 4) (inb₂ := fun d => Cert.Gather.to_inb d 4) (inb₃ := fun d => Cert.Gather.pass_inb d 4) (inb₄ := fun d => Cert.Gather.from_inb d 4)
        (hp := fun d => (hagree d).2.2.2.2.1) (fun d => Cert.Gather.own_off d 4) (fun d => Cert.Gather.from_off d 4) (fun d => Cert.Gather.to_off d 4) (fun d => Cert.Gather.pass_off d 4) c ((h.1 c).2.1 4) (fun k => (h.1 c).2.2 (4, .inl k)) (late 4)
    · exact gathered (hn₂ := (Cert.Gather.squeezes₂ 5).numel_eq) (Cert.Gather.half_rows 5) rfl (inb₁ := fun d => Cert.Gather.own_inb d 5) (inb₂ := fun d => Cert.Gather.to_inb d 5) (inb₃ := fun d => Cert.Gather.pass_inb d 5) (inb₄ := fun d => Cert.Gather.from_inb d 5)
        (hp := fun d => (hagree d).2.2.2.2.2.1) (fun d => Cert.Gather.own_off d 5) (fun d => Cert.Gather.from_off d 5) (fun d => Cert.Gather.to_off d 5) (fun d => Cert.Gather.pass_off d 5) c ((h.1 c).2.1 5) (fun k => (h.1 c).2.2 (5, .inl k)) (late 5)
    · exact gathered (hn₂ := (Cert.Gather.squeezes₂ 6).numel_eq) (Cert.Gather.half_rows 6) rfl (inb₁ := fun d => Cert.Gather.own_inb d 6) (inb₂ := fun d => Cert.Gather.to_inb d 6) (inb₃ := fun d => Cert.Gather.pass_inb d 6) (inb₄ := fun d => Cert.Gather.from_inb d 6)
        (hp := fun d => (hagree d).2.2.2.2.2.2.1) (fun d => Cert.Gather.own_off d 6) (fun d => Cert.Gather.from_off d 6) (fun d => Cert.Gather.to_off d 6) (fun d => Cert.Gather.pass_off d 6) c ((h.1 c).2.1 6) (fun k => (h.1 c).2.2 (6, .inl k)) (late 6)
    · exact gathered (hn₂ := (Cert.Gather.squeezes₂ 7).numel_eq) (Cert.Gather.half_rows 7) rfl (inb₁ := fun d => Cert.Gather.own_inb d 7) (inb₂ := fun d => Cert.Gather.to_inb d 7) (inb₃ := fun d => Cert.Gather.pass_inb d 7) (inb₄ := fun d => Cert.Gather.from_inb d 7)
        (hp := fun d => (hagree d).2.2.2.2.2.2.2.1) (fun d => Cert.Gather.own_off d 7) (fun d => Cert.Gather.from_off d 7) (fun d => Cert.Gather.to_off d 7) (fun d => Cert.Gather.pass_off d 7) c ((h.1 c).2.1 7) (fun k => (h.1 c).2.2 (7, .inl k)) (late 7)
    · exact gathered (hn₂ := (Cert.Gather.squeezes₂ 8).numel_eq) (Cert.Gather.half_rows 8) rfl (inb₁ := fun d => Cert.Gather.own_inb d 8) (inb₂ := fun d => Cert.Gather.to_inb d 8) (inb₃ := fun d => Cert.Gather.pass_inb d 8) (inb₄ := fun d => Cert.Gather.from_inb d 8)
        (hp := fun d => (hagree d).2.2.2.2.2.2.2.2) (fun d => Cert.Gather.own_off d 8) (fun d => Cert.Gather.from_off d 8) (fun d => Cert.Gather.to_off d 8) (fun d => Cert.Gather.pass_off d 8) c ((h.1 c).2.1 8) (fun k => (h.1 c).2.2 (8, .inl k)) (late 8)
  · exact (θ_run Cert.ChipGatherRefIdeal.defs _ _).mono (fun _ h => ⟨(h 0).1.trans (val_main_v0_eq _),
        (h 0).2.1.trans (val_main_v1_eq _),
        (h 0).2.2.1.trans (val_main_v2_eq _),
        (h 0).2.2.2.1.trans (val_main_v3_eq _),
        (h 0).2.2.2.2.1.trans (val_main_v4_eq _),
        (h 0).2.2.2.2.2.1.trans (val_main_v5_eq _),
        (h 0).2.2.2.2.2.2.1.trans (val_main_v6_eq _),
        (h 0).2.2.2.2.2.2.2.1.trans (val_main_v7_eq _),
        (h 0).2.2.2.2.2.2.2.2.1.trans (val_main_v8_eq _), (h 0).2.2.2.2.2.2.2.2.2⟩)
      (Cert.ChipGatherRefIdeal.Value.run (F := Ideal) m' ρ')

end Cert.Proof.ChipGatherClaims
end
-- ==== Proof.WeightCols.lean ====
/-
  The gradient of a weight that is cut by its columns between the chips: a product of the transposed rows with the cotangent,
  computed for each chip's 1408 columns in two tiles of 1024 rows of the weight.
-/
module

public import proofs.«01_k».proof.Defs
public import proofs.«01_k».proof.Proof.Gen.WeightColsIdeal.Value
public import proofs.«01_k».proof.Proof.Gen.WeightColsRefIdeal.Run
public import proofs.«01_k».proof.Proof.Gen.WeightColsRefIdeal.Read
public import proofs.«01_k».proof.Proof.Norms
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The kernel -/

namespace Cert.WeightColsIdeal.Tiles

open Cert.WeightColsIdeal Cert.WeightColsIdeal.Gen

variable (m : (ℓ : Loc nD τ sig) → Buf (Elt Ideal) ℓ)

abbrev arg0 (c : Dev nD) : S2048x2048.Idx → EReal := m ((c : Thread nD τ).loc main_arg0)
abbrev arg1 (c : Dev nD) : S2048x5632.Idx → EReal := m ((c : Thread nD τ).loc main_arg1)

/-- The gradient of part `j 0` of the weight. -/
def grad (x : S2048x2048.Idx → EReal) (y : S2048x5632.Idx → EReal) (j : S4x2048x1408.Idx) : EReal :=
  ∑ k : Fin 2048, x (ix2 k (j 1)) * y (ix2 k (⟨(j 0).val * 1408 + (j 2).val, by have h : (j 0).val < 4 := (j 0).isLt; have h₂ : (j 2).val < 1408 := (j 2).isLt; omega⟩ : Fin 5632))

theorem idx_facts : ∀ t : Fin cfg0.N,
    win0_0.index t (0 : Fin 2) = 0 ∧ win0_0.index t (1 : Fin 2) = t.val % 2
    ∧ win0_1.index t (0 : Fin 2) = 0 ∧ win0_1.index t (1 : Fin 2) = t.val / 2
    ∧ win0_2.index t (0 : Fin 3) = t.val / 2 ∧ win0_2.index t (1 : Fin 3) = t.val % 2 ∧ win0_2.index t (2 : Fin 3) = 0 :=
  (by decide +kernel : ∀ t : Fin grid0.N, _)

theorem lt_points (t : Fin cfg0.N) : t.val < 8 := t.isLt

theorem cast0 (c : Dev nD) (k : Fin 2048) (l : Fin 2048) : (V m c main_v0 : S2048x2048.Idx → EReal) (ix2 k l) = arg0 m c (ix2 k l) := by
  show (StableHlo.after hostOps0 (fun b => m (c, b)) (Proc.devRef .tc main_v0) : S2048x2048.Idx → EReal) (ix2 k l) = _
  after_results
  pointwise []

theorem cast1 (c : Dev nD) (k : Fin 2048) (l : Fin 5632) : (V m c main_v1 : S2048x5632.Idx → EReal) (ix2 k l) = arg1 m c (ix2 k l) := by
  show (StableHlo.after hostOps0 (fun b => m (c, b)) (Proc.devRef .tc main_v1) : S2048x5632.Idx → EReal) (ix2 k l) = _
  after_results
  pointwise []

theorem blk0 (c : Dev nD) (t : Fin cfg0.N) (k : Fin 2048) (r : Fin 1024) : iblk m c 0 t (ix2 k r)
    = arg0 m c (ix2 k ⟨t.val % 2 * 1024 + r.val, by have := lt_points t; omega⟩) := by
  have e := idx_facts t
  have he : ((cfg0.win 0).blk t).view.emb (ix2 k r) = ix2 (n0 := 2048) (n1 := 2048) k ⟨t.val % 2 * 1024 + r.val, by have := lt_points t; omega⟩ := by
    funext a; apply Fin.ext
    match a with
    | ⟨0, _⟩ => show win0_0.index t (0 : Fin 2) * 2048 + 1 * k.val = k.val; omega
    | ⟨1, _⟩ => show win0_0.index t (1 : Fin 2) * 1024 + 1 * r.val = t.val % 2 * 1024 + r.val; omega
  show (V m c main_v0 : S2048x2048.Idx → EReal) (((cfg0.win 0).blk t).view.emb (ix2 k r)) = _
  rw [he]; exact cast0 m c _ _

theorem blk1 (c : Dev nD) (t : Fin cfg0.N) (k : Fin 2048) (l : Fin 1408) : iblk m c 1 t (ix2 k l)
    = arg1 m c (ix2 k ⟨t.val / 2 * 1408 + l.val, by have := lt_points t; omega⟩) := by
  have e := idx_facts t
  have he : ((cfg0.win 1).blk t).view.emb (ix2 k l) = ix2 (n0 := 2048) (n1 := 5632) k ⟨t.val / 2 * 1408 + l.val, by have := lt_points t; omega⟩ := by
    funext a; apply Fin.ext
    match a with
    | ⟨0, _⟩ => show win0_1.index t (0 : Fin 2) * 2048 + 1 * k.val = k.val; omega
    | ⟨1, _⟩ => show win0_1.index t (1 : Fin 2) * 1408 + 1 * l.val = t.val / 2 * 1408 + l.val; omega
  show (V m c main_v1 : S2048x5632.Idx → EReal) (((cfg0.win 1).blk t).view.emb (ix2 k l)) = _
  rw [he]; exact cast1 m c _ _

theorem emb2 (t : Fin cfg0.N) (r : Fin 1024) (l : Fin 1408) : ((cfg0.win 2).blk t).view.emb (ix3 (0 : Fin 1) r l)
    = ix3 (n0 := 4) (n1 := 2048) (n2 := 1408) ⟨t.val / 2, by have := lt_points t; omega⟩ ⟨t.val % 2 * 1024 + r.val, by have := lt_points t; omega⟩ l := by
  have e := idx_facts t
  funext a; apply Fin.ext
  match a with
  | ⟨0, _⟩ => show win0_2.index t (0 : Fin 3) * 1 + 1 * 0 = t.val / 2; omega
  | ⟨1, _⟩ => show win0_2.index t (1 : Fin 3) * 1024 + 1 * r.val = t.val % 2 * 1024 + r.val; omega
  | ⟨2, _⟩ => show win0_2.index t (2 : Fin 3) * 1408 + 1 * l.val = l.val; omega

theorem pay_at (c : Dev nD) (t : Fin cfg0.N) (r : Fin 1024) (l : Fin 1408) : k0_pay1 (F := Ideal) (iblk m c 0 t) (iblk m c 1 t) (ix3 (0 : Fin 1) r l)
    = grad (arg0 m c) (arg1 m c) (((cfg0.win 2).blk t).view.emb (ix3 (0 : Fin 1) r l)) := by
  rw [emb2]
  pointwise [k0_pay1]
  simp only [blk0, blk1]
  rfl

theorem final2 (c : Dev nD) : (dats m 0 c).arrAt 2 cfg0.N = grad (arg0 m c) (arg1 m c) := by
  refine (dats m 0 c).arrAt_eq_of_covers 2 _ (by decide +kernel) (fun t _ y => ?_)
  obtain ⟨o, r, l, rfl⟩ : ∃ o r l, y = ix3 o r l := ⟨_, _, _, eq_ix3 (n0 := 1) (n1 := 1024) (n2 := 1408) y⟩
  obtain rfl : o = 0 := Subsingleton.elim _ _
  show (dats m 0 c).after 2 t (ix3 0 r l) = _
  rw [after0_2]
  frame_out
  exact pay_at m c t r l

end Cert.WeightColsIdeal.Tiles

/-! ## The reference and the claims -/

namespace Cert.Proof.WeightColsClaims

open Cert.WeightColsIdeal.Tiles
open Cert.WeightColsIdeal (S2048x2048 S2048x5632 S4x2048x1408)
open Cert.WeightColsRefIdeal.Value Cert.WeightColsRefIdeal.Read

theorem ref_eq (x : S2048x2048.Idx → EReal) (y : S2048x5632.Idx → EReal) : val_main_v6 (F := Ideal) x y = grad x y := by
  funext j
  obtain ⟨s, r, l, rfl⟩ : ∃ s r l, j = ix3 s r l := ⟨_, _, _, eq_ix3 (n0 := 4) (n1 := 2048) (n2 := 1408) j⟩
  pointwise [val_main_v6, val_main_v5, val_main_v4, val_main_v3, val_main_v2]
  exact Finset.sum_congr rfl fun k _ => mul_comm _ _

theorem frame_ref : Cert.quiescent_WeightColsRefIdeal := fun m ρ _ =>
  (θ_run Cert.WeightColsRefIdeal.defs _ _).mono (fun r h => ⟨fun c => (h c).2,
      Idealize.ShloMosaic.sem_eq_zero_of_no_sems (by decide) r.2⟩)
    (Cert.WeightColsRefIdeal.Value.run (F := Ideal) m ρ)

theorem algebraic : Cert.algebraic_WeightColsIdeal_WeightColsRefIdeal := by
  intro m ρ m' ρ' _ hagree
  refine ⟨fun c => grad (arg0 m c) (arg1 m c), ?_, ?_⟩
  · exact (θ_run Cert.WeightColsIdeal.defs _ _).mono (fun _ h c => ⟨(h c).1.trans (final2 m c), (h c).2⟩)
      (Cert.WeightColsIdeal.Value.run_blocks (F := Ideal) m ρ)
  · refine (θ_run Cert.WeightColsRefIdeal.defs _ _).mono (fun _ h c => ⟨(h c).1.trans ?_, (h c).2⟩)
      (Cert.WeightColsRefIdeal.Value.run (F := Ideal) m' ρ')
    refine ((val_main_v6_eq _ _).trans (ref_eq _ _)).trans ?_
    rw [(hagree c).1, (hagree c).2]

end Cert.Proof.WeightColsClaims
end
-- ==== Proof.WeightRows.lean ====
/-
  The gradient of a weight that is cut by its rows between the chips: for each chip's 1408 rows one product of the transposed
  columns of the layer's input with the cotangent.
-/
module

public import proofs.«01_k».proof.Defs
public import proofs.«01_k».proof.Proof.Gen.WeightRowsIdeal.Value
public import proofs.«01_k».proof.Proof.Gen.WeightRowsRefIdeal.Run
public import proofs.«01_k».proof.Proof.Gen.WeightRowsRefIdeal.Read
public import proofs.«01_k».proof.Proof.Norms
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The kernel -/

namespace Cert.WeightRowsIdeal.Tiles

open Cert.WeightRowsIdeal Cert.WeightRowsIdeal.Gen

variable (m : (ℓ : Loc nD τ sig) → Buf (Elt Ideal) ℓ)

abbrev arg0 (c : Dev nD) : S2048x5632.Idx → EReal := m ((c : Thread nD τ).loc main_arg0)
abbrev arg1 (c : Dev nD) : S2048x2048.Idx → EReal := m ((c : Thread nD τ).loc main_arg1)

/-- The gradient of part `j 0` of the weight. -/
def grad (x : S2048x5632.Idx → EReal) (y : S2048x2048.Idx → EReal) (j : S4x1408x2048.Idx) : EReal :=
  ∑ k : Fin 2048, x (ix2 k (⟨(j 0).val * 1408 + (j 1).val, by have h : (j 0).val < 4 := (j 0).isLt; have h₂ : (j 1).val < 1408 := (j 1).isLt; omega⟩ : Fin 5632)) * y (ix2 k (j 2))

theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

theorem lt_points (t : Fin cfg0.N) : t.val < 4 := t.isLt

theorem cast0 (c : Dev nD) (k : Fin 2048) (l : Fin 5632) : (V m c main_v0 : S2048x5632.Idx → EReal) (ix2 k l) = arg0 m c (ix2 k l) := by
  show (StableHlo.after hostOps0 (fun b => m (c, b)) (Proc.devRef .tc main_v0) : S2048x5632.Idx → EReal) (ix2 k l) = _
  after_results
  pointwise []

theorem cast1 (c : Dev nD) (k : Fin 2048) (l : Fin 2048) : (V m c main_v1 : S2048x2048.Idx → EReal) (ix2 k l) = arg1 m c (ix2 k l) := by
  show (StableHlo.after hostOps0 (fun b => m (c, b)) (Proc.devRef .tc main_v1) : S2048x2048.Idx → EReal) (ix2 k l) = _
  after_results
  pointwise []

theorem blk0 (c : Dev nD) (t : Fin cfg0.N) (k : Fin 2048) (r : Fin 1408) : iblk m c 0 t (ix2 k r)
    = arg0 m c (ix2 k ⟨t.val * 1408 + r.val, by have := lt_points t; omega⟩) := by
  have e := idx_facts t
  have he : ((cfg0.win 0).blk t).view.emb (ix2 k r) = ix2 (n0 := 2048) (n1 := 5632) k ⟨t.val * 1408 + r.val, by have := lt_points t; omega⟩ := by
    funext a; apply Fin.ext
    match a with
    | ⟨0, _⟩ => show win0_0.index t (0 : Fin 2) * 2048 + 1 * k.val = k.val; omega
    | ⟨1, _⟩ => show win0_0.index t (1 : Fin 2) * 1408 + 1 * r.val = t.val * 1408 + r.val; omega
  show (V m c main_v0 : S2048x5632.Idx → EReal) (((cfg0.win 0).blk t).view.emb (ix2 k r)) = _
  rw [he]; exact cast0 m c _ _

theorem blk1 (c : Dev nD) (t : Fin cfg0.N) (k : Fin 2048) (l : Fin 2048) : iblk m c 1 t (ix2 k l)
    = arg1 m c (ix2 k ⟨0 * 2048 + l.val, by have := lt_points t; omega⟩) := by
  have e := idx_facts t
  have he : ((cfg0.win 1).blk t).view.emb (ix2 k l) = ix2 (n0 := 2048) (n1 := 2048) k ⟨0 * 2048 + l.val, by have := lt_points t; omega⟩ := by
    funext a; apply Fin.ext
    match a with
    | ⟨0, _⟩ => show win0_1.index t (0 : Fin 2) * 2048 + 1 * k.val = k.val; omega
    | ⟨1, _⟩ => show win0_1.index t (1 : Fin 2) * 2048 + 1 * l.val = 0 * 2048 + l.val; omega
  show (V m c main_v1 : S2048x2048.Idx → EReal) (((cfg0.win 1).blk t).view.emb (ix2 k l)) = _
  rw [he]; exact cast1 m c _ _

theorem emb2 (t : Fin cfg0.N) (r : Fin 1408) (l : Fin 2048) : ((cfg0.win 2).blk t).view.emb (ix3 (0 : Fin 1) r l)
    = ix3 (n0 := 4) (n1 := 1408) (n2 := 2048) ⟨t.val, by have := lt_points t; omega⟩ ⟨0 * 1408 + r.val, by have := lt_points t; omega⟩ l := by
  have e := idx_facts t
  funext a; apply Fin.ext
  match a with
  | ⟨0, _⟩ => show win0_2.index t (0 : Fin 3) * 1 + 1 * 0 = t.val; omega
  | ⟨1, _⟩ => show win0_2.index t (1 : Fin 3) * 1408 + 1 * r.val = 0 * 1408 + r.val; omega
  | ⟨2, _⟩ => show win0_2.index t (2 : Fin 3) * 2048 + 1 * l.val = l.val; omega

theorem pay_at (c : Dev nD) (t : Fin cfg0.N) (r : Fin 1408) (l : Fin 2048) : k0_pay1 (F := Ideal) (iblk m c 0 t) (iblk m c 1 t) (ix3 (0 : Fin 1) r l)
    = grad (arg0 m c) (arg1 m c) (((cfg0.win 2).blk t).view.emb (ix3 (0 : Fin 1) r l)) := by
  rw [emb2]
  pointwise [k0_pay1]
  simp only [blk0, blk1]
  simp only [Nat.zero_mul, Nat.zero_add]
  rfl

theorem final2 (c : Dev nD) : (dats m 0 c).arrAt 2 cfg0.N = grad (arg0 m c) (arg1 m c) := by
  refine (dats m 0 c).arrAt_eq_of_covers 2 _ (by decide +kernel) (fun t _ y => ?_)
  obtain ⟨o, r, l, rfl⟩ : ∃ o r l, y = ix3 o r l := ⟨_, _, _, eq_ix3 (n0 := 1) (n1 := 1408) (n2 := 2048) y⟩
  obtain rfl : o = 0 := Subsingleton.elim _ _
  show (dats m 0 c).after 2 t (ix3 0 r l) = _
  rw [after0_2]
  frame_out
  exact pay_at m c t r l

end Cert.WeightRowsIdeal.Tiles

/-! ## The reference and the claims -/

namespace Cert.Proof.WeightRowsClaims

open Cert.WeightRowsIdeal.Tiles
open Cert.WeightRowsIdeal (S2048x2048 S2048x5632 S4x1408x2048)
open Cert.WeightRowsRefIdeal.Value Cert.WeightRowsRefIdeal.Read

theorem ref_eq (x : S2048x5632.Idx → EReal) (y : S2048x2048.Idx → EReal) : val_main_v5 (F := Ideal) x y = grad x y := by
  funext j
  obtain ⟨s, r, l, rfl⟩ : ∃ s r l, j = ix3 s r l := ⟨_, _, _, eq_ix3 (n0 := 4) (n1 := 1408) (n2 := 2048) j⟩
  pointwise [val_main_v5, val_main_v4, val_main_v3, val_main_v2]
  exact Finset.sum_congr rfl fun k _ => mul_comm _ _

theorem frame_ref : Cert.quiescent_WeightRowsRefIdeal := fun m ρ _ =>
  (θ_run Cert.WeightRowsRefIdeal.defs _ _).mono (fun r h => ⟨fun c => (h c).2,
      Idealize.ShloMosaic.sem_eq_zero_of_no_sems (by decide) r.2⟩)
    (Cert.WeightRowsRefIdeal.Value.run (F := Ideal) m ρ)

theorem algebraic : Cert.algebraic_WeightRowsIdeal_WeightRowsRefIdeal := by
  intro m ρ m' ρ' _ hagree
  refine ⟨fun c => grad (arg0 m c) (arg1 m c), ?_, ?_⟩
  · exact (θ_run Cert.WeightRowsIdeal.defs _ _).mono (fun _ h c => ⟨(h c).1.trans (final2 m c), (h c).2⟩)
      (Cert.WeightRowsIdeal.Value.run_blocks (F := Ideal) m ρ)
  · refine (θ_run Cert.WeightRowsRefIdeal.defs _ _).mono (fun _ h c => ⟨(h c).1.trans ?_, (h c).2⟩)
      (Cert.WeightRowsRefIdeal.Value.run (F := Ideal) m' ρ')
    refine ((val_main_v5_eq _ _).trans (ref_eq _ _)).trans ?_
    rw [(hagree c).1, (hagree c).2]

end Cert.Proof.WeightRowsClaims
end
-- ==== Proof.BlockWeights.lean ====
/-
  The gradient of a block matrix at the recurrence's input: for each of the eight blocks one product of its transposed 128
  columns of the input with its 512 columns of the cotangent.
-/
module

public import proofs.«01_k».proof.Defs
public import proofs.«01_k».proof.Proof.Gen.BlockWeightsIdeal.Value
public import proofs.«01_k».proof.Proof.Gen.BlockWeightsRefIdeal.Run
public import proofs.«01_k».proof.Proof.Gen.BlockWeightsRefIdeal.Read
public import proofs.«01_k».proof.Proof.Norms
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The kernel -/

namespace Cert.BlockWeightsIdeal.Tiles

open Cert.BlockWeightsIdeal Cert.BlockWeightsIdeal.Gen

variable (m : (ℓ : Loc nD τ sig) → Buf (Elt Ideal) ℓ)

abbrev arg0 (c : Dev nD) : S2048x1024.Idx → EReal := m ((c : Thread nD τ).loc main_arg0)
abbrev arg1 (c : Dev nD) : S2048x4096.Idx → EReal := m ((c : Thread nD τ).loc main_arg1)

/-- The gradient of block `j 0`. -/
def grad (x : S2048x1024.Idx → EReal) (y : S2048x4096.Idx → EReal) (j : S8x128x512.Idx) : EReal :=
  ∑ k : Fin 2048, x (ix2 k (⟨(j 0).val * 128 + (j 1).val, by have h : (j 0).val < 8 := (j 0).isLt; have h₂ : (j 1).val < 128 := (j 1).isLt; omega⟩ : Fin 1024)) * y (ix2 k (⟨(j 0).val * 512 + (j 2).val, by have h : (j 0).val < 8 := (j 0).isLt; have h₂ : (j 2).val < 512 := (j 2).isLt; omega⟩ : Fin 4096))

theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 3) = t.val ∧ win0_2.index t (1 : Fin 3) = 0 ∧ win0_2.index t (2 : Fin 3) = 0 :=
  (by decide +kernel : ∀ t : Fin grid0.N, _)

theorem lt_points (t : Fin cfg0.N) : t.val < 8 := t.isLt

theorem blk0 (c : Dev nD) (t : Fin cfg0.N) (k : Fin 2048) (r : Fin 128) : iblk m c 0 t (ix2 k r)
    = arg0 m c (ix2 k ⟨t.val * 128 + r.val, by have := lt_points t; omega⟩) := by
  have e := idx_facts t
  have he : ((cfg0.win 0).blk t).view.emb (ix2 k r) = ix2 (n0 := 2048) (n1 := 1024) k ⟨t.val * 128 + r.val, by have := lt_points t; omega⟩ := by
    funext a; apply Fin.ext
    match a with
    | ⟨0, _⟩ => show win0_0.index t (0 : Fin 2) * 2048 + 1 * k.val = k.val; omega
    | ⟨1, _⟩ => show win0_0.index t (1 : Fin 2) * 128 + 1 * r.val = t.val * 128 + r.val; omega
  show (V m c main_arg0 : S2048x1024.Idx → EReal) (((cfg0.win 0).blk t).view.emb (ix2 k r)) = _
  rw [he]

theorem blk1 (c : Dev nD) (t : Fin cfg0.N) (k : Fin 2048) (l : Fin 512) : iblk m c 1 t (ix2 k l)
    = arg1 m c (ix2 k ⟨t.val * 512 + l.val, by have := lt_points t; omega⟩) := by
  have e := idx_facts t
  have he : ((cfg0.win 1).blk t).view.emb (ix2 k l) = ix2 (n0 := 2048) (n1 := 4096) k ⟨t.val * 512 + l.val, by have := lt_points t; omega⟩ := by
    funext a; apply Fin.ext
    match a with
    | ⟨0, _⟩ => show win0_1.index t (0 : Fin 2) * 2048 + 1 * k.val = k.val; omega
    | ⟨1, _⟩ => show win0_1.index t (1 : Fin 2) * 512 + 1 * l.val = t.val * 512 + l.val; omega
  show (V m c main_arg1 : S2048x4096.Idx → EReal) (((cfg0.win 1).blk t).view.emb (ix2 k l)) = _
  rw [he]

theorem emb2 (t : Fin cfg0.N) (r : Fin 128) (l : Fin 512) : ((cfg0.win 2).blk t).view.emb (ix3 (0 : Fin 1) r l)
    = ix3 (n0 := 8) (n1 := 128) (n2 := 512) ⟨t.val, by have := lt_points t; omega⟩ ⟨0 * 128 + r.val, by have := lt_points t; omega⟩ l := by
  have e := idx_facts t
  funext a; apply Fin.ext
  match a with
  | ⟨0, _⟩ => show win0_2.index t (0 : Fin 3) * 1 + 1 * 0 = t.val; omega
  | ⟨1, _⟩ => show win0_2.index t (1 : Fin 3) * 128 + 1 * r.val = 0 * 128 + r.val; omega
  | ⟨2, _⟩ => show win0_2.index t (2 : Fin 3) * 512 + 1 * l.val = l.val; omega

theorem pay_at (c : Dev nD) (t : Fin cfg0.N) (r : Fin 128) (l : Fin 512) : k0_pay1 (F := Ideal) (iblk m c 0 t) (iblk m c 1 t) (ix3 (0 : Fin 1) r l)
    = grad (arg0 m c) (arg1 m c) (((cfg0.win 2).blk t).view.emb (ix3 (0 : Fin 1) r l)) := by
  rw [emb2]
  pointwise [k0_pay1]
  refine Finset.sum_congr rfl fun k _ => (congrArg₂ (fun a b : EReal => a * b) (blk0 m c t k r) (blk1 m c t k l)).trans ?_
  simp only [Nat.zero_mul, Nat.zero_add]
  rfl

theorem final2 (c : Dev nD) : (dats m 0 c).arrAt 2 cfg0.N = grad (arg0 m c) (arg1 m c) := by
  refine (dats m 0 c).arrAt_eq_of_covers 2 _ (by decide +kernel) (fun t _ y => ?_)
  obtain ⟨o, r, l, rfl⟩ : ∃ o r l, y = ix3 o r l := ⟨_, _, _, eq_ix3 (n0 := 1) (n1 := 128) (n2 := 512) y⟩
  obtain rfl : o = 0 := Subsingleton.elim _ _
  show (dats m 0 c).after 2 t (ix3 0 r l) = _
  rw [after0_2]
  frame_out
  exact pay_at m c t r l

end Cert.BlockWeightsIdeal.Tiles

/-! ## The reference and the claims -/

namespace Cert.Proof.BlockWeightsClaims

open Cert.BlockWeightsIdeal.Tiles
open Cert.BlockWeightsIdeal (S2048x1024 S2048x4096 S8x128x512)
open Cert.BlockWeightsRefIdeal.Value Cert.BlockWeightsRefIdeal.Read

theorem ref_eq (x : S2048x1024.Idx → EReal) (y : S2048x4096.Idx → EReal) : val_main_v7 (F := Ideal) x y = grad x y := by
  funext j
  obtain ⟨s, r, l, rfl⟩ : ∃ s r l, j = ix3 s r l := ⟨_, _, _, eq_ix3 (n0 := 8) (n1 := 128) (n2 := 512) j⟩
  pointwise [val_main_v7, val_main_v6, val_main_v5, val_main_v4, val_main_v1]
  exact Finset.sum_congr rfl fun k _ => mul_comm _ _

theorem frame_ref : Cert.quiescent_BlockWeightsRefIdeal := fun m ρ _ =>
  (θ_run Cert.BlockWeightsRefIdeal.defs _ _).mono (fun r h => ⟨fun c => (h c).2,
      Idealize.ShloMosaic.sem_eq_zero_of_no_sems (by decide) r.2⟩)
    (Cert.BlockWeightsRefIdeal.Value.run (F := Ideal) m ρ)

theorem algebraic : Cert.algebraic_BlockWeightsIdeal_BlockWeightsRefIdeal := by
  intro m ρ m' ρ' _ hagree
  refine ⟨fun c => grad (arg0 m c) (arg1 m c), ?_, ?_⟩
  · exact (θ_run Cert.BlockWeightsIdeal.defs _ _).mono (fun _ h c => ⟨(h c).1.trans (final2 m c), (h c).2⟩)
      (Cert.BlockWeightsIdeal.Value.run_blocks (F := Ideal) m ρ)
  · refine (θ_run Cert.BlockWeightsRefIdeal.defs _ _).mono (fun _ h c => ⟨(h c).1.trans ?_, (h c).2⟩)
      (Cert.BlockWeightsRefIdeal.Value.run (F := Ideal) m' ρ')
    refine ((val_main_v7_eq _ _).trans (ref_eq _ _)).trans ?_
    rw [(hagree c).1, (hagree c).2]

end Cert.Proof.BlockWeightsClaims
end
-- ==== Proof.Adam.lean ====
/-
  One step of AdamW for a single entry, as the programs spell it.
-/
module

public import Idealize.ShloMosaic.Lib.Pointwise
public import Idealize.ShloMosaic.Lib.KernelVsHost

@[expose] public section
noncomputable section
open Idealize.ShloMosaic

namespace Cert.Adam

/-- The new first moment. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- What is added to the weight. -/
def delta (w g m v : EReal) : EReal := Ideal.ofBits .f32 0xBA83126F#32
  * (Ideal.div (Ideal.div (first g m) (Ideal.ofBits .f32 0x3F26BD02#32))
      (Ideal.sqrt (Ideal.div (second g v) (Ideal.ofBits .f32 0x3C231ACC#32)) + Ideal.ofBits .f32 0x322BCC77#32)
    + Ideal.ofBits .f32 0x3C23D70A#32 * w)

end Cert.Adam
end
-- ==== Proof.AdamLarge.lean ====
/-
  The optimiser's step of a weight of the four layers: the kernel takes the layers' gradients as four arrays, goes through each layer in
  tiles of 128 rows, and picks the layer's gradient from the four. It also gives the four gradients as one array.
-/
module

public import proofs.«01_k».proof.Defs
public import proofs.«01_k».proof.Proof.Gen.AdamLargeIdeal.Value
public import proofs.«01_k».proof.Proof.Gen.AdamLargeRefIdeal.Run
public import proofs.«01_k».proof.Proof.Gen.AdamLargeRefIdeal.Read
public import proofs.«01_k».proof.Proof.Adam
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The kernel -/

namespace Cert.AdamLargeIdeal.Tiles

open Cert.AdamLargeIdeal Cert.AdamLargeIdeal.Gen

variable (m : (ℓ : Loc nD τ sig) → Buf (Elt Ideal) ℓ)

abbrev arg0 (c : Dev nD) : S4x2048x1408.Idx → EReal := m ((c : Thread nD τ).loc main_arg0)
abbrev arg1 (c : Dev nD) : S4x2048x1408.Idx → EReal := m ((c : Thread nD τ).loc main_arg1)
abbrev arg2 (c : Dev nD) : S4x2048x1408.Idx → EReal := m ((c : Thread nD τ).loc main_arg2)

/-- The four layers' gradients. -/
def layers (c : Dev nD) : Fin 4 → S2048x1408.Idx → EReal := ![m ((c : Thread nD τ).loc main_arg3), m ((c : Thread nD τ).loc main_arg4),
  m ((c : Thread nD τ).loc main_arg5), m ((c : Thread nD τ).loc main_arg6)]

/-- The gradients as one array. -/
def grad (g : Fin 4 → S2048x1408.Idx → EReal) (j : S4x2048x1408.Idx) : EReal := g (j 0) (ix2 (j 1) (j 2))

/-- What is added to the weight, and the two new moments. -/
def delta (x0 x1 x2 : S4x2048x1408.Idx → EReal) (g : Fin 4 → S2048x1408.Idx → EReal) (j : S4x2048x1408.Idx) : EReal :=
  Cert.Adam.delta (x0 j) (grad g j) (x1 j) (x2 j)
def first (x1 : S4x2048x1408.Idx → EReal) (g : Fin 4 → S2048x1408.Idx → EReal) (j : S4x2048x1408.Idx) : EReal :=
  Cert.Adam.first (grad g j) (x1 j)
def second (x2 : S4x2048x1408.Idx → EReal) (g : Fin 4 → S2048x1408.Idx → EReal) (j : S4x2048x1408.Idx) : EReal :=
  Cert.Adam.second (grad g j) (x2 j)

theorem lt_64 (t : Fin cfg0.N) : t.val < 64 := t.isLt

theorem idx_facts : ∀ t : Fin cfg0.N, ∀ a : Fin 3, win0_0.index t a = ![t.val / 16, t.val % 16, 0] a
    ∧ win0_1.index t a = ![t.val / 16, t.val % 16, 0] a ∧ win0_2.index t a = ![t.val / 16, t.val % 16, 0] a
    ∧ win0_7.index t a = ![t.val / 16, t.val % 16, 0] a ∧ win0_8.index t a = ![t.val / 16, t.val % 16, 0] a
    ∧ win0_9.index t a = ![t.val / 16, t.val % 16, 0] a ∧ win0_10.index t a = ![t.val / 16, t.val % 16, 0] a :=
  (by decide +kernel : ∀ t : Fin grid0.N, _)

/-- A layer's gradient is cut into the tiles while the layer's turn is on. -/
theorem idx_grad : ∀ t : Fin cfg0.N, (grid0.coords t 0).val = t.val / 16
    ∧ win0_3.index t (1 : Fin 2) = 0 ∧ win0_4.index t (1 : Fin 2) = 0 ∧ win0_5.index t (1 : Fin 2) = 0 ∧ win0_6.index t (1 : Fin 2) = 0
    ∧ (t.val / 16 = 0 → win0_3.index t (0 : Fin 2) = t.val % 16) ∧ (t.val / 16 = 1 → win0_4.index t (0 : Fin 2) = t.val % 16)
    ∧ (t.val / 16 = 2 → win0_5.index t (0 : Fin 2) = t.val % 16) ∧ (t.val / 16 = 3 → win0_6.index t (0 : Fin 2) = t.val % 16) :=
  (by decide +kernel : ∀ t : Fin grid0.N, _)

/-- The layer of tile `t`, and row `r` of the tile. -/
def layer (t : Fin cfg0.N) : Fin 4 := ⟨t.val / 16, by have := lt_64 t; omega⟩
def row (t : Fin cfg0.N) (r : Fin 128) : Fin 2048 := ⟨t.val % 16 * 128 + r.val, by omega⟩

/-- Where an entry of tile `t` lies in an array of four layers. -/
theorem place (t : Fin cfg0.N) (r : Fin 128) (l : Fin 1408) (a : Fin 3) (n : ℕ) (h : n = ![t.val / 16, t.val % 16, 0] a) :
    n * S1x128x1408.size a + 1 * (ix3 (n0 := 1) (n1 := 128) (n2 := 1408) 0 r l a).val
      = (ix3 (n0 := 4) (n1 := 2048) (n2 := 1408) (layer t) (row t r) l a).val := by
  subst h
  match a with
  | ⟨0, _⟩ => show t.val / 16 * 1 + 1 * 0 = t.val / 16; omega
  | ⟨1, _⟩ => show t.val % 16 * 128 + 1 * r.val = t.val % 16 * 128 + r.val; omega
  | ⟨2, _⟩ => show 0 * 1408 + 1 * l.val = l.val; omega

theorem blk0 (c : Dev nD) (t : Fin cfg0.N) (r : Fin 128) (l : Fin 1408) :
    iblk m c 0 t (ix3 0 r l) = arg0 m c (ix3 (layer t) (row t r) l) :=
  congrArg (arg0 m c) (funext fun a => Fin.ext (place t r l a _ (idx_facts t a).1))
theorem blk1 (c : Dev nD) (t : Fin cfg0.N) (r : Fin 128) (l : Fin 1408) :
    iblk m c 1 t (ix3 0 r l) = arg1 m c (ix3 (layer t) (row t r) l) :=
  congrArg (arg1 m c) (funext fun a => Fin.ext (place t r l a _ (idx_facts t a).2.1))
theorem blk2 (c : Dev nD) (t : Fin cfg0.N) (r : Fin 128) (l : Fin 1408) :
    iblk m c 2 t (ix3 0 r l) = arg2 m c (ix3 (layer t) (row t r) l) :=
  congrArg (arg2 m c) (funext fun a => Fin.ext (place t r l a _ (idx_facts t a).2.2.1))
theorem emb7 (t : Fin cfg0.N) (r : Fin 128) (l : Fin 1408) :
    ((cfg0.win 7).blk t).view.emb (ix3 (0 : Fin 1) r l) = ix3 (n0 := 4) (n1 := 2048) (n2 := 1408) (layer t) (row t r) l :=
  funext fun a => Fin.ext (place t r l a _ (idx_facts t a).2.2.2.1)
theorem emb8 (t : Fin cfg0.N) (r : Fin 128) (l : Fin 1408) :
    ((cfg0.win 8).blk t).view.emb (ix3 (0 : Fin 1) r l) = ix3 (n0 := 4) (n1 := 2048) (n2 := 1408) (layer t) (row t r) l :=
  funext fun a => Fin.ext (place t r l a _ (idx_facts t a).2.2.2.2.1)
theorem emb9 (t : Fin cfg0.N) (r : Fin 128) (l : Fin 1408) :
    ((cfg0.win 9).blk t).view.emb (ix3 (0 : Fin 1) r l) = ix3 (n0 := 4) (n1 := 2048) (n2 := 1408) (layer t) (row t r) l :=
  funext fun a => Fin.ext (place t r l a _ (idx_facts t a).2.2.2.2.2.1)
theorem emb10 (t : Fin cfg0.N) (r : Fin 128) (l : Fin 1408) :
    ((cfg0.win 10).blk t).view.emb (ix3 (0 : Fin 1) r l) = ix3 (n0 := 4) (n1 := 2048) (n2 := 1408) (layer t) (row t r) l :=
  funext fun a => Fin.ext (place t r l a _ (idx_facts t a).2.2.2.2.2.2)

/-- The chain of selections picks the layer's gradient. -/
theorem pick (i : grid0.Coords) (s : Fin 4) (h : (i 0).val = s.val) (v0 v1 v2 v3 : S128x1408.Idx → EReal) :
    k0_pay5 (F := Ideal) i v0 v1 v2 v3 = (![v0, v1, v2, v3] : Fin 4 → S128x1408.Idx → EReal) s := by
  unfold k0_pay5
  rw [h]
  fin_cases s <;> rfl

/-- Where an entry of tile `t` lies in an array of one layer. -/
theorem place2 (t : Fin cfg0.N) (r : Fin 128) (l : Fin 1408) (a : Fin 2) (n : Fin 2 → ℕ) (h₀ : n 0 = t.val % 16) (h₁ : n 1 = 0) :
    n a * S128x1408.size a + 1 * (ix2 (n0 := 128) (n1 := 1408) r l a).val = (ix2 (n0 := 2048) (n1 := 1408) (row t r) l a).val := by
  match a with
  | ⟨0, _⟩ => show n 0 * 128 + 1 * r.val = t.val % 16 * 128 + r.val; omega
  | ⟨1, _⟩ => show n 1 * 1408 + 1 * l.val = l.val; omega

theorem pay5_at (c : Dev nD) (t : Fin cfg0.N) (r : Fin 128) (l : Fin 1408) :
    k0_pay5 (F := Ideal) (grid0.coords t) (iblk m c 3 t) (iblk m c 4 t) (iblk m c 5 t) (iblk m c 6 t) (ix2 r l)
      = layers m c (layer t) (ix2 (row t r) l) := by
  obtain ⟨h, z3, z4, z5, z6, i3, i4, i5, i6⟩ := idx_grad t
  refine (congrFun (pick (grid0.coords t) (layer t) h _ _ _ _) (ix2 r l)).trans ?_
  have hl : (layer t).val = t.val / 16 := rfl
  generalize layer t = s at hl ⊢
  match s, hl with
  | ⟨0, _⟩, hl => exact congrArg (m ((c : Thread nD τ).loc main_arg3)) (funext fun a => Fin.ext (place2 t r l a (win0_3.index t) (i3 hl.symm) z3))
  | ⟨1, _⟩, hl => exact congrArg (m ((c : Thread nD τ).loc main_arg4)) (funext fun a => Fin.ext (place2 t r l a (win0_4.index t) (i4 hl.symm) z4))
  | ⟨2, _⟩, hl => exact congrArg (m ((c : Thread nD τ).loc main_arg5)) (funext fun a => Fin.ext (place2 t r l a (win0_5.index t) (i5 hl.symm) z5))
  | ⟨3, _⟩, hl => exact congrArg (m ((c : Thread nD τ).loc main_arg6)) (funext fun a => Fin.ext (place2 t r l a (win0_6.index t) (i6 hl.symm) z6))

/-- An entry of a tile of one layer. -/
theorem entry (y : S1x128x1408.Idx) : ∃ r l, y = ix3 0 r l :=
  ⟨y 1, y 2, (eq_ix3 (n0 := 1) (n1 := 128) (n2 := 1408) y).trans
    (congrArg (fun o : Fin 1 => ix3 o (y 1) (y 2)) (Subsingleton.elim (α := Fin 1) (y 0) 0))⟩

theorem final7 (c : Dev nD) : (dats m 0 c).arrAt 7 cfg0.N = grad (layers m c) := by
  refine (dats m 0 c).arrAt_eq_of_covers 7 _ (by decide +kernel) (fun t _ y => ?_)
  obtain ⟨r, l, rfl⟩ := entry y
  show (dats m 0 c).after 7 t (ix3 0 r l) = _
  rw [after0_7, emb7]
  frame_out
  pointwise [k0_pay1]
  exact pay5_at m c t r l

theorem final9 (c : Dev nD) : (dats m 0 c).arrAt 9 cfg0.N = first (arg1 m c) (layers m c) := by
  refine (dats m 0 c).arrAt_eq_of_covers 9 _ (by decide +kernel) (fun t _ y => ?_)
  obtain ⟨r, l, rfl⟩ := entry y
  show (dats m 0 c).after 9 t (ix3 0 r l) = _
  rw [after0_9, emb9]
  frame_out
  pointwise [k0_pay3, k0_pay7]
  rw [pay5_at, blk1]
  rfl

theorem final10 (c : Dev nD) : (dats m 0 c).arrAt 10 cfg0.N = second (arg2 m c) (layers m c) := by
  refine (dats m 0 c).arrAt_eq_of_covers 10 _ (by decide +kernel) (fun t _ y => ?_)
  obtain ⟨r, l, rfl⟩ := entry y
  show (dats m 0 c).after 10 t (ix3 0 r l) = _
  rw [after0_10, emb10]
  frame_out
  pointwise [k0_pay4, k0_pay8]
  rw [pay5_at, blk2]
  rfl

theorem final8 (c : Dev nD) : (dats m 0 c).arrAt 8 cfg0.N = delta (arg0 m c) (arg1 m c) (arg2 m c) (layers m c) := by
  refine (dats m 0 c).arrAt_eq_of_covers 8 _ (by decide +kernel) (fun t _ y => ?_)
  obtain ⟨r, l, rfl⟩ := entry y
  show (dats m 0 c).after 8 t (ix3 0 r l) = _
  rw [after0_8, emb8]
  frame_out
  pointwise [k0_pay2, k0_pay6, k0_pay9, k0_pay10, k0_pay8, k0_pay7]
  rw [pay5_at, blk0, blk1, blk2]
  rfl

end Cert.AdamLargeIdeal.Tiles

/-! ## The reference and the claims -/

namespace Cert.Proof.AdamLargeClaims

open Cert.AdamLargeIdeal.Tiles
open Cert.AdamLargeIdeal (S4x2048x1408 S2048x1408)
open Cert.AdamLargeRefIdeal.Value Cert.AdamLargeRefIdeal.Read

variable (x0 x1 x2 : S4x2048x1408.Idx → EReal) (g : Fin 4 → S2048x1408.Idx → EReal)

theorem ref_grad : val_main_v4 (F := Ideal) (g 0) (g 1) (g 2) (g 3) = grad g := by
  funext j
  obtain ⟨s, r, l, rfl⟩ : ∃ s r l, j = ix3 s r l := ⟨_, _, _, eq_ix3 (n0 := 4) (n1 := 2048) (n2 := 1408) j⟩
  fin_cases s <;> (pointwise [val_main_v4, val_main_v3, val_main_v2, val_main_v1, val_main_v0]; rfl)

theorem ref_first : val_main_v9 (F := Ideal) x1 (g 0) (g 1) (g 2) (g 3) = first x1 g := by
  funext j
  pointwise [val_main_v9, val_main_v8, val_main_v7, val_main_v6, val_main_v5, val_main_cst_0, val_main_cst]
  rw [ref_grad]; rfl

theorem ref_second : val_main_v15 (F := Ideal) x2 (g 0) (g 1) (g 2) (g 3) = second x2 g := by
  funext j
  pointwise [val_main_v15, val_main_v14, val_main_v13, val_main_v12, val_main_v11, val_main_v10, val_main_cst_1, val_main_cst_2]
  rw [ref_grad]; rfl

theorem ref_delta : val_main_v28 (F := Ideal) x0 x1 x2 (g 0) (g 1) (g 2) (g 3) = delta x0 x1 x2 g := by
  funext j
  pointwise [val_main_v28, val_main_v27, val_main_v26, val_main_v25, val_main_v24, val_main_v23, val_main_v22, val_main_v21,
    val_main_v20, val_main_v19, val_main_v18, val_main_v17, val_main_v16, val_main_cst_3, val_main_cst_4, val_main_cst_5,
    val_main_cst_6, val_main_cst_7]
  rw [ref_first, ref_second]; rfl

theorem frame_ref : Cert.quiescent_AdamLargeRefIdeal := fun m ρ _ =>
  (θ_run Cert.AdamLargeRefIdeal.defs _ _).mono (fun r h => ⟨fun c => (h c).2.2.2.2,
      Idealize.ShloMosaic.sem_eq_zero_of_no_sems (by decide) r.2⟩)
    (Cert.AdamLargeRefIdeal.Value.run (F := Ideal) m ρ)

theorem algebraic : Cert.algebraic_AdamLargeIdeal_AdamLargeRefIdeal := by
  intro m ρ m' ρ' _ hagree
  refine ⟨fun c => grad (layers m c), fun c => delta (arg0 m c) (arg1 m c) (arg2 m c) (layers m c),
    fun c => first (arg1 m c) (layers m c), fun c => second (arg2 m c) (layers m c), ?_, ?_⟩
  · exact (θ_run Cert.AdamLargeIdeal.defs _ _).mono (fun _ h c => ⟨(h c).1.trans (final7 m c), (h c).2.1.trans (final8 m c),
        (h c).2.2.1.trans (final9 m c), (h c).2.2.2.1.trans (final10 m c), (h c).2.2.2.2⟩)
      (Cert.AdamLargeIdeal.Value.run_blocks (F := Ideal) m ρ)
  · refine (θ_run Cert.AdamLargeRefIdeal.defs _ _).mono (fun _ h c => ?_) (Cert.AdamLargeRefIdeal.Value.run (F := Ideal) m' ρ')
    obtain ⟨a0, a1, a2, a3, a4, a5, a6⟩ := hagree c
    refine ⟨(h c).1.trans ?_, (h c).2.1.trans ?_, (h c).2.2.1.trans ?_, (h c).2.2.2.1.trans ?_, (h c).2.2.2.2⟩
    · rw [val_main_v4_eq, a3, a4, a5, a6]; exact ref_grad (layers m c)
    · rw [val_main_v28_eq, a0, a1, a2, a3, a4, a5, a6]; exact ref_delta _ _ _ (layers m c)
    · rw [val_main_v9_eq, a1, a3, a4, a5, a6]; exact ref_first _ (layers m c)
    · rw [val_main_v15_eq, a2, a3, a4, a5, a6]; exact ref_second _ (layers m c)

end Cert.Proof.AdamLargeClaims
end
-- ==== Proof.AdamSmall.lean ====
/-
  The optimiser's step of the small weights, packed into rows of 128: the kernel goes through tiles of 32 rows, every entry by itself.
-/
module

public import proofs.«01_k».proof.Defs
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Adam
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The kernel -/

namespace Cert.AdamSmallIdeal.Tiles

open Cert.AdamSmallIdeal Cert.AdamSmallIdeal.Gen

variable (m : (ℓ : Loc nD τ sig) → Buf (Elt Ideal) ℓ)

abbrev arg0 (c : Dev nD) : S8992x128.Idx → EReal := m ((c : Thread nD τ).loc main_arg0)
abbrev arg1 (c : Dev nD) : S8992x128.Idx → EReal := m ((c : Thread nD τ).loc main_arg1)
abbrev arg2 (c : Dev nD) : S8992x128.Idx → EReal := m ((c : Thread nD τ).loc main_arg2)
abbrev arg3 (c : Dev nD) : S8992x128.Idx → EReal := m ((c : Thread nD τ).loc main_arg3)

/-- What is added to the weights, and the two new moments. -/
def delta (x0 x1 x2 x3 : S8992x128.Idx → EReal) (j : S8992x128.Idx) : EReal := Cert.Adam.delta (x0 j) (x1 j) (x2 j) (x3 j)
def first (x1 x2 : S8992x128.Idx → EReal) (j : S8992x128.Idx) : EReal := Cert.Adam.first (x1 j) (x2 j)
def second (x1 x3 : S8992x128.Idx → EReal) (j : S8992x128.Idx) : EReal := Cert.Adam.second (x1 j) (x3 j)

theorem idx_facts : ∀ t : Fin cfg0.N, ∀ a : Fin 2, win0_0.index t a = win0_4.index t a ∧ win0_1.index t a = win0_4.index t a
    ∧ win0_2.index t a = win0_4.index t a ∧ win0_3.index t a = win0_4.index t a
    ∧ win0_5.index t a = win0_4.index t a ∧ win0_6.index t a = win0_4.index t a :=
  (by decide +kernel : ∀ t : Fin grid0.N, _)

/-- Where entry `y` of tile `t` lies; all seven arrays are cut in the same way. -/
def place (t : Fin cfg0.N) (y : S32x128.Idx) : S8992x128.Idx := ((cfg0.win 4).blk t).view.emb y

theorem blk0 (c : Dev nD) (t : Fin cfg0.N) (y : S32x128.Idx) : iblk m c 0 t y = arg0 m c (place t y) := by
  refine congrArg (arg0 m c) (funext fun a => Fin.ext ?_)
  have e := idx_facts t a
  show win0_0.index t a * S32x128.size a + 1 * (y a).val = win0_4.index t a * S32x128.size a + 1 * (y a).val
  rw [e.1]

theorem blk1 (c : Dev nD) (t : Fin cfg0.N) (y : S32x128.Idx) : iblk m c 1 t y = arg1 m c (place t y) := by
  refine congrArg (arg1 m c) (funext fun a => Fin.ext ?_)
  have e := idx_facts t a
  show win0_1.index t a * S32x128.size a + 1 * (y a).val = win0_4.index t a * S32x128.size a + 1 * (y a).val
  rw [e.2.1]

theorem blk2 (c : Dev nD) (t : Fin cfg0.N) (y : S32x128.Idx) : iblk m c 2 t y = arg2 m c (place t y) := by
  refine congrArg (arg2 m c) (funext fun a => Fin.ext ?_)
  have e := idx_facts t a
  show win0_2.index t a * S32x128.size a + 1 * (y a).val = win0_4.index t a * S32x128.size a + 1 * (y a).val
  rw [e.2.2.1]

theorem blk3 (c : Dev nD) (t : Fin cfg0.N) (y : S32x128.Idx) : iblk m c 3 t y = arg3 m c (place t y) := by
  refine congrArg (arg3 m c) (funext fun a => Fin.ext ?_)
  have e := idx_facts t a
  show win0_3.index t a * S32x128.size a + 1 * (y a).val = win0_4.index t a * S32x128.size a + 1 * (y a).val
  rw [e.2.2.2.1]

theorem emb5 (t : Fin cfg0.N) (y : S32x128.Idx) : ((cfg0.win 5).blk t).view.emb y = place t y := by
  refine funext fun a => Fin.ext ?_
  have e := idx_facts t a
  show win0_5.index t a * S32x128.size a + 1 * (y a).val = win0_4.index t a * S32x128.size a + 1 * (y a).val
  rw [e.2.2.2.2.1]

theorem emb6 (t : Fin cfg0.N) (y : S32x128.Idx) : ((cfg0.win 6).blk t).view.emb y = place t y := by
  refine funext fun a => Fin.ext ?_
  have e := idx_facts t a
  show win0_6.index t a * S32x128.size a + 1 * (y a).val = win0_4.index t a * S32x128.size a + 1 * (y a).val
  rw [e.2.2.2.2.2]

theorem final4 (c : Dev nD) : (dats m 0 c).arrAt 4 cfg0.N = delta (arg0 m c) (arg1 m c) (arg2 m c) (arg3 m c) := by
  refine (dats m 0 c).arrAt_eq_of_covers 4 _ (by decide +kernel) (fun t _ y => ?_)
  show (dats m 0 c).after 4 t y = delta _ _ _ _ (place t y)
  rw [after0_4]
  frame_out
  pointwise [k0_pay3, k0_pay2, k0_pay1]
  simp only [blk0, blk1, blk2, blk3]
  rfl

theorem final5 (c : Dev nD) : (dats m 0 c).arrAt 5 cfg0.N = first (arg1 m c) (arg2 m c) := by
  refine (dats m 0 c).arrAt_eq_of_covers 5 _ (by decide +kernel) (fun t _ y => ?_)
  show (dats m 0 c).after 5 t y = _
  rw [after0_5, emb5]
  frame_out
  pointwise [k0_pay1]
  simp only [blk1, blk2]
  rfl

theorem final6 (c : Dev nD) : (dats m 0 c).arrAt 6 cfg0.N = second (arg1 m c) (arg3 m c) := by
  refine (dats m 0 c).arrAt_eq_of_covers 6 _ (by decide +kernel) (fun t _ y => ?_)
  show (dats m 0 c).after 6 t y = _
  rw [after0_6, emb6]
  frame_out
  pointwise [k0_pay2]
  simp only [blk1, blk3]
  rfl

end Cert.AdamSmallIdeal.Tiles

/-! ## The reference and the claims -/

namespace Cert.Proof.AdamSmallClaims

open Cert.AdamSmallIdeal.Tiles
open Cert.AdamSmallIdeal (S8992x128)
open Cert.AdamSmallRefIdeal.Value Cert.AdamSmallRefIdeal.Read

variable (x0 x1 x2 x3 : S8992x128.Idx → EReal)

theorem ref_first : val_main_v4 (F := Ideal) x1 x2 = first x1 x2 := by
  funext j
  pointwise [val_main_v4, val_main_v3, val_main_v2, val_main_v1, val_main_v0, val_main_cst_0, val_main_cst]
  rfl

theorem ref_second : val_main_v10 (F := Ideal) x1 x3 = second x1 x3 := by
  funext j
  pointwise [val_main_v10, val_main_v9, val_main_v8, val_main_v7, val_main_v6, val_main_v5, val_main_cst_1, val_main_cst_2]
  rfl

theorem ref_delta : val_main_v23 (F := Ideal) x0 x1 x2 x3 = delta x0 x1 x2 x3 := by
  funext j
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7]
  rw [ref_first, ref_second]
  rfl

theorem frame_ref : Cert.quiescent_AdamSmallRefIdeal := fun m ρ _ =>
  (θ_run Cert.AdamSmallRefIdeal.defs _ _).mono (fun r h => ⟨fun c => (h c).2.2.2,
      Idealize.ShloMosaic.sem_eq_zero_of_no_sems (by decide) r.2⟩)
    (Cert.AdamSmallRefIdeal.Value.run (F := Ideal) m ρ)

theorem algebraic : Cert.algebraic_AdamSmallIdeal_AdamSmallRefIdeal := by
  intro m ρ m' ρ' _ hagree
  refine ⟨fun c => delta (arg0 m c) (arg1 m c) (arg2 m c) (arg3 m c), fun c => first (arg1 m c) (arg2 m c),
    fun c => second (arg1 m c) (arg3 m c), ?_, ?_⟩
  · exact (θ_run Cert.AdamSmallIdeal.defs _ _).mono (fun _ h c => ⟨(h c).1.trans (final4 m c), (h c).2.1.trans (final5 m c),
        (h c).2.2.1.trans (final6 m c), (h c).2.2.2⟩)
      (Cert.AdamSmallIdeal.Value.run_blocks (F := Ideal) m ρ)
  · refine (θ_run Cert.AdamSmallRefIdeal.defs _ _).mono (fun _ h c => ⟨(h c).1.trans ?_, (h c).2.1.trans ?_, (h c).2.2.1.trans ?_,
        (h c).2.2.2⟩)
      (Cert.AdamSmallRefIdeal.Value.run (F := Ideal) m' ρ')
    · refine ((val_main_v23_eq _ _ _ _).trans (ref_delta _ _ _ _)).trans ?_
      rw [(hagree c).1, (hagree c).2.1, (hagree c).2.2.1, (hagree c).2.2.2]
    · refine ((val_main_v4_eq _ _).trans (ref_first _ _)).trans ?_
      rw [(hagree c).2.1, (hagree c).2.2.1]
    · refine ((val_main_v10_eq _ _).trans (ref_second _ _)).trans ?_
      rw [(hagree c).2.1, (hagree c).2.2.2]

end Cert.Proof.AdamSmallClaims
end
-- ==== Proof.AddPairsClaims.lean ====
/-
  The sum of two chips' gradients, a step of the sum over all chips: the kernel goes through tiles of 256 rows and adds its own
  gradient to the one received. It has a second result, into which only every fourth point stores; what that one ends with is not stated.
-/
module

public import proofs.«01_k».proof.Defs
public import proofs.«01_k».proof.Proof.Gen.AddPairs
public import proofs.«01_k».proof.Proof.Gen.AddPairsIdeal.Frame
public import proofs.«01_k».proof.Proof.Gen.AddPairsRefIdeal.Run
public import proofs.«01_k».proof.Proof.Gen.AddPairsRefIdeal.Read
public import proofs.«01_k».proof.Proof.Norms
public import Idealize.ShloMosaic.Lib.Pipeline.ValueKit
public import Idealize.ShloMosaic.Lib.VecWindow
public import Idealize.ShloMosaic.Lib.Quiescent

@[expose] public section

set_option maxRecDepth 16384

noncomputable section

/-! ## The kernel's run -/

namespace Cert.AddPairsIdeal.Hand

open Cert.AddPairsIdeal Cert.AddPairsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The sum of two tiles, made in the wider format and rounded back. -/
def tileSum (x0 x1 : Vec F S1x256x1408 .bf16) : Vec F S1x256x1408 .bf16 :=
  shapeCast S1x256x1408 (truncf .bf16 (addf (extf .f32 (shapeCast S256x1408 x0 shapeCasts_S1x256x1408_S256x1408 : FVec F S256x1408 .bf16) bitsLt_bf16_f32)
    (extf .f32 (shapeCast S256x1408 x1 shapeCasts_S1x256x1408_S256x1408 : FVec F S256x1408 .bf16) bitsLt_bf16_f32)) bitsLt_bf16_f32 : FVec F S256x1408 .bf16)
    shapeCasts_S256x1408_S1x256x1408

set_option maxHeartbeats 1000000 in
/-- The body on whole buffers: it keeps its two inputs, leaves their sum in the first output and something in the second. -/
theorem body_run (c : Dev nD) (i : grid0.Coords) (a2 : Memref sig .tc .vmem S1x256x1408 .bf16) (h2 : a2.IsWhole)
    (a3 : Memref sig .tc .vmem S1x256x1408 .bf16) (h3 : a3.IsWhole) (a4 : Memref sig .tc .vmem S1x256x1408 .bf16) (h4 : a4.IsWhole)
    (a5 : Memref sig .tc .vmem S1x256x1408 .bf16) (h5 : a5.IsWhole) (x0 x1 : Vec F S1x256x1408 .bf16)
    (E : Set ℕ) (K : PUnit → sProp (MT nD τ sig Unit (Elt F) ℕ (UR sig nD τ) ℕ)) :
    iprop(owns (c : Thread nD τ) a2 fullShare x0 ∗ owns (c : Thread nD τ) a3 fullShare x1 ∗ (∃ d, owns (c : Thread nD τ) a4 fullShare d)
        ∗ (∃ d, owns (c : Thread nD τ) a5 fullShare d)
        ∗ (iprop(owns (c : Thread nD τ) a2 fullShare x0 ∗ owns (c : Thread nD τ) a3 fullShare x1 ∗ owns (c : Thread nD τ) a4 fullShare (tileSum x0 x1)
            ∗ (∃ d, owns (c : Thread nD τ) a5 fullShare d)) -∗ K ⟨⟩))
      ⊢ wp frame (wpE (defs₀ (F := F)) Variants.none c none) E (cc0_l0_red i a2 h2 a3 h3 a4 h4 a5 h5) K := by
  unfold cc0_l0_red
  unfold owns
  iintro ⟨⟨%f0, %hf0, H0⟩, ⟨%f1, %hf1, H1⟩, ⟨%d2, %f2, -, H2⟩, ⟨%d3, %f3, -, H3⟩, Hk⟩
  obtain rfl := h2.eq_unread hf0; obtain rfl := h3.eq_unread hf1
  by_cases hc : k0_cond1 i = 1#1
  · sl_exec (disch := first | sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr
      swap; · iexact H2
      ipureintro
      refine (View.read_writes_full _ _ _ _ _).trans ?_
      frame_out
      rfl
    iexists _; iexists _; isplitr
    swap; · iexact H3
    ipureintro; rfl
  · sl_exec (disch := first | sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr
      swap; · iexact H2
      ipureintro
      refine (View.read_writes_full _ _ _ _ _).trans ?_
      frame_out
      rfl
    iexists _; iexists _; isplitr
    swap; · iexact H3
    ipureintro; rfl

variable (m : (ℓ : Loc nD τ sig) → Buf (Elt F) ℓ) (ρ : Dev nD → PrngReg)

/-- What the pipeline's buffers hold: after a point the inputs' blocks and the sum of them; of the second output nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileSum (iblk m c 0 t) (iblk m c 1 t)
    | ⟨3, _⟩ => tileSum (iblk m c 0 t) (iblk m c 1 t)
  Φ _ := Pipeline.ΦA spec0 c
  q _ := fullShare
  owed _ := 0

/-- The second output is left out. -/
def left : Fin cfg0.W → Bool
  | ⟨3, _⟩ => true
  | _ => false

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = tileSum (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at a point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- What it hands back. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩, ⟨%d3, H3⟩⟩
  iapply (body_run c (grid0.coords t) _ _ _ _ _ _ _ _ (iblk m c 0 t) (iblk m c 1 t) Set.univ _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ left := fun t => by
  rw [bigSep_W0, bigSep_W0, defs₀_row]
  exact triple_restated (sound_body m c t) rfl .rfl fun _ => .rfl

set_option backward.isDefEq.respectTransparency.types false in
set_option maxHeartbeats 800000 in
/-- The run: the pipeline's arrays end at what the points leave, of the second output nothing is said, and all counters are zero. -/
theorem run_main : θ_run defs (onTc (τ := τ) (main (F := F))) (s₀ m ρ)
    (fun r => (Pipeline.RDat.FramePost cfg0 (fun c => (dats m 0 c).toRForget left) (V m)) r ∧ r.2.sem = fun _ => 0) :=
  Pipeline.θ_run_frame_forget (Q' := _) cfgs (dats m) (0 : Fin 1) launch0 defs₀ Variants.none left m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The first result, and the arguments kept. -/
theorem run_blocks : θ_run defs (onTc (τ := τ) (main (F := F))) ⟨m, fun _ => 0, ρ⟩ (fun r => (∀ c : Dev nD,
      r.2.mem ((c.tc : Thread nD τ).loc main_v0_0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((dats m 0 c).toRForget_arrAt_iff (fgt := left) (w := 2) rfl _ _).mp ((h.1 c).1 2),
      (h.1.arr_in c 0 rfl).trans ((A_eq m c 0).trans (V_main_arg0 m c)),
      (h.1.arr_in c 1 rfl).trans ((A_eq m c 1).trans (V_main_arg1 m c))⟩, h.2⟩) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run_blocks m ρ)

end Cert.AddPairsIdeal.Hand

open Idealize.ShloMosaic Idealize.ShloMosaic.TcCoe Idealize.SL.Sem
open Idealize.ShloMosaic.Pipeline (Dat)

/-! ## The tiles over the extended reals -/

namespace Cert.AddPairsIdeal.Tiles

open Cert.AddPairsIdeal Cert.AddPairsIdeal.Gen Cert.AddPairsIdeal.Hand

variable (m : (ℓ : Loc nD τ sig) → Buf (Elt Ideal) ℓ)

abbrev arg0 (c : Dev nD) : S4x2048x1408.Idx → EReal := m ((c : Thread nD τ).loc main_arg0)
abbrev arg1 (c : Dev nD) : S4x1024x1408.Idx → EReal := m ((c : Thread nD τ).loc main_arg1)

/-- The sum: of the own gradient the first half of the rows. -/
def total (x : S4x2048x1408.Idx → EReal) (y : S4x1024x1408.Idx → EReal) (j : S4x1024x1408.Idx) : EReal :=
  x (ix3 (⟨(j 0).val, (j 0).isLt⟩ : Fin 4) (⟨(j 1).val, by have h : (j 1).val < 1024 := (j 1).isLt; omega⟩ : Fin 2048) (⟨(j 2).val, (j 2).isLt⟩ : Fin 1408)) + y j

theorem idx_facts : ∀ t : Fin cfg0.N, ∀ a : Fin 3, win0_0.index t a = win0_2.index t a ∧ win0_1.index t a = win0_2.index t a :=
  (by decide +kernel : ∀ t : Fin grid0.N, _)

theorem blk0 (c : Dev nD) (t : Fin cfg0.N) (y : S1x256x1408.Idx) : iblk m c 0 t y
    = arg0 m c (ix3 (⟨(((cfg0.win 2).blk t).view.emb y 0).val, (((cfg0.win 2).blk t).view.emb y 0).isLt⟩ : Fin 4)
        (⟨(((cfg0.win 2).blk t).view.emb y 1).val, by have h : (((cfg0.win 2).blk t).view.emb y 1).val < 1024 := (((cfg0.win 2).blk t).view.emb y 1).isLt; omega⟩ : Fin 2048)
        (⟨(((cfg0.win 2).blk t).view.emb y 2).val, (((cfg0.win 2).blk t).view.emb y 2).isLt⟩ : Fin 1408)) := by
  refine congrArg (arg0 m c) (funext fun a => Fin.ext ?_)
  match a with
  | ⟨0, _⟩ => show win0_0.index t (0 : Fin 3) * 1 + 1 * (y 0).val = win0_2.index t (0 : Fin 3) * 1 + 1 * (y 0).val; rw [(idx_facts t 0).1]
  | ⟨1, _⟩ => show win0_0.index t (1 : Fin 3) * 256 + 1 * (y 1).val = win0_2.index t (1 : Fin 3) * 256 + 1 * (y 1).val; rw [(idx_facts t 1).1]
  | ⟨2, _⟩ => show win0_0.index t (2 : Fin 3) * 1408 + 1 * (y 2).val = win0_2.index t (2 : Fin 3) * 1408 + 1 * (y 2).val; rw [(idx_facts t 2).1]

theorem blk1 (c : Dev nD) (t : Fin cfg0.N) (y : S1x256x1408.Idx) : iblk m c 1 t y = arg1 m c (((cfg0.win 2).blk t).view.emb y) := by
  refine congrArg (arg1 m c) (funext fun a => Fin.ext ?_)
  show win0_1.index t a * S1x256x1408.size a + 1 * (y a).val = win0_2.index t a * S1x256x1408.size a + 1 * (y a).val
  rw [(idx_facts t a).2]

theorem tileSum_at (x0 x1 : Vec Ideal S1x256x1408 .bf16) (y : S1x256x1408.Idx) : tileSum (F := Ideal) x0 x1 y = (x0 y + x1 y : EReal) := by
  obtain ⟨o, r, l, rfl⟩ : ∃ o r l, y = ix3 o r l := ⟨_, _, _, eq_ix3 (n0 := 1) (n1 := 256) (n2 := 1408) y⟩
  obtain rfl : o = 0 := Subsingleton.elim _ _
  pointwise [tileSum]

theorem final2 (c : Dev nD) : (dats m 0 c).arrAt 2 cfg0.N = total (arg0 m c) (arg1 m c) := by
  refine (dats m 0 c).arrAt_eq_of_covers 2 _ (by decide +kernel) (fun t _ y => ?_)
  show (dats m 0 c).after 2 t y = _
  rw [after0_2]
  refine (tileSum_at _ _ y).trans ?_
  exact congrArg₂ (fun a b : EReal => a + b) (blk0 m c t y) (blk1 m c t y)

end Cert.AddPairsIdeal.Tiles

/-! ## The reference and the claims -/

namespace Cert.Proof.AddPairsClaims

open Cert.AddPairsIdeal.Tiles
open Cert.AddPairsIdeal (S4x2048x1408 S4x1024x1408)
open Cert.AddPairsRefIdeal.Value Cert.AddPairsRefIdeal.Read

theorem ref_eq (x : S4x2048x1408.Idx → EReal) (y : S4x1024x1408.Idx → EReal) : val_main_v4 (F := Ideal) x y = total x y := by
  funext j
  obtain ⟨s, r, l, rfl⟩ : ∃ s r l, j = ix3 s r l := ⟨_, _, _, eq_ix3 (n0 := 4) (n1 := 1024) (n2 := 1408) j⟩
  pointwise [val_main_v4, val_main_v3, val_main_v2, val_main_v1, val_main_v0, total]

theorem frame_ideal : Cert.quiescent_AddPairsIdeal := fun m ρ _ => Cert.AddPairsIdeal.Hand.frame (F := Ideal) m ρ

/-- The kernel and the one read over the extended reals have the same text. -/
theorem same_defs : Cert.AddPairs.defs (F := Bits) = Cert.AddPairsIdeal.defs (F := Bits) := by sl_kernel_rfl

theorem frame_kernel : Cert.quiescent_AddPairs := fun m ρ _ => by
  rw [same_defs]
  exact Cert.AddPairsIdeal.Hand.frame (F := Bits) m ρ

theorem frame_ref : Cert.quiescent_AddPairsRefIdeal := fun m ρ _ =>
  (θ_run Cert.AddPairsRefIdeal.defs _ _).mono (fun r h => ⟨fun c => (h c).2,
      Idealize.ShloMosaic.sem_eq_zero_of_no_sems (by decide) r.2⟩)
    (Cert.AddPairsRefIdeal.Value.run (F := Ideal) m ρ)

theorem algebraic : Cert.algebraic_AddPairsIdeal_AddPairsRefIdeal := by
  intro m ρ m' ρ' _ hagree
  refine ⟨fun c => total (arg0 m c) (arg1 m c), ?_, ?_⟩
  · exact (θ_run Cert.AddPairsIdeal.defs _ _).mono (fun _ h c => ⟨(h.1 c).1.trans (final2 m c), (h.1 c).2⟩)
      (Cert.AddPairsIdeal.Hand.run_blocks (F := Ideal) m ρ)
  · refine (θ_run Cert.AddPairsRefIdeal.defs _ _).mono (fun _ h c => ⟨(h c).1.trans ?_, (h c).2⟩)
      (Cert.AddPairsRefIdeal.Value.run (F := Ideal) m' ρ')
    refine ((val_main_v4_eq _ _).trans (ref_eq _ _)).trans ?_
    rw [(hagree c).1, (hagree c).2]

end Cert.Proof.AddPairsClaims
end
-- ==== Proof.SumChips.lean ====
/-
  The sum of the four chips' parts of a gradient: the kernel goes through tiles of 256 rows and stores into its own half of a
  result of twice the rows. The half is what the host takes.
-/
module

public import proofs.«01_k».proof.Defs
public import proofs.«01_k».proof.Proof.Gen.SumChipsIdeal.Frame
public import proofs.«01_k».proof.Proof.Gen.SumChipsRefIdeal.Run
public import proofs.«01_k».proof.Proof.Gen.SumChipsRefIdeal.Read
public import proofs.«01_k».proof.Proof.Norms
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The kernel -/

namespace Cert.SumChipsIdeal.Tiles

open Cert.SumChipsIdeal Cert.SumChipsIdeal.Gen

variable (m : (ℓ : Loc nD τ sig) → Buf (Elt Ideal) ℓ)

abbrev arg0 (c : Dev nD) : S4x1024x1408.Idx → EReal := m ((c : Thread nD τ).loc main_arg0)

/-- The sum of the four parts. -/
def total (x : S4x1024x1408.Idx → EReal) (r : Fin 1024) (l : Fin 1408) : EReal := ∑ b : Fin 4, x (ix3 b r l)

/-- The same over the larger result: the row is counted from the start of its half. -/
def wide (x : S4x1024x1408.Idx → EReal) (j : S2048x1408.Idx) : EReal :=
  total x ⟨(j 0).val % 1024, Nat.mod_lt _ (by decide)⟩ ⟨(j 1).val, (j 1).isLt⟩

theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0 :=
  (by decide +kernel : ∀ t : Fin grid0.N, _)

theorem lt_points (t : Fin cfg0.N) : t.val < 4 := t.isLt

theorem blk0 (c : Dev nD) (t : Fin cfg0.N) (b : Fin 4) (r : Fin 256) (l : Fin 1408) : iblk m c 0 t (ix3 b r l)
    = arg0 m c (ix3 b ⟨t.val * 256 + r.val, by have := lt_points t; omega⟩ l) := by
  have e := idx_facts t
  have he : ((cfg0.win 0).blk t).view.emb (ix3 b r l) = ix3 (n0 := 4) (n1 := 1024) (n2 := 1408) b ⟨t.val * 256 + r.val, by have := lt_points t; omega⟩ l := by
    funext a; apply Fin.ext
    match a with
    | ⟨0, _⟩ => show win0_0.index t (0 : Fin 3) * 4 + 1 * b.val = b.val; omega
    | ⟨1, _⟩ => show win0_0.index t (1 : Fin 3) * 256 + 1 * r.val = t.val * 256 + r.val; omega
    | ⟨2, _⟩ => show win0_0.index t (2 : Fin 3) * 1408 + 1 * l.val = l.val; omega
  show (V0 m c main_arg0 : S4x1024x1408.Idx → EReal) (((cfg0.win 0).blk t).view.emb (ix3 b r l)) = _
  rw [he]
  rfl

theorem emb1 (t : Fin cfg0.N) (r : Fin 256) (l : Fin 1408) : ((cfg0.win 1).blk t).view.emb (ix2 r l)
    = ix2 (n0 := 2048) (n1 := 1408) ⟨t.val * 256 + r.val, by have := lt_points t; omega⟩ l := by
  have e := idx_facts t
  funext a; apply Fin.ext
  match a with
  | ⟨0, _⟩ => show win0_1.index t (0 : Fin 2) * 256 + 1 * r.val = t.val * 256 + r.val; omega
  | ⟨1, _⟩ => show win0_1.index t (1 : Fin 2) * 1408 + 1 * l.val = l.val; omega

/-- What a tile holds. -/
theorem tile_at (c : Dev nD) (t : Fin cfg0.N) (r : Fin 256) (l : Fin 1408) :
    out0_1 (F := Ideal) (iblk m c 0 t) (ix2 r l) = wide (arg0 m c) (((cfg0.win 1).blk t).view.emb (ix2 r l)) := by
  rw [emb1]
  have ht := lt_points t
  have hr : (⟨(t.val * 256 + r.val) % 1024, Nat.mod_lt _ (by decide)⟩ : Fin 1024) = ⟨t.val * 256 + r.val, by omega⟩ :=
    Fin.ext (Nat.mod_eq_of_lt (by omega))
  show _ = total (arg0 m c) ⟨(t.val * 256 + r.val) % 1024, _⟩ l
  rw [hr, total, Fin.sum_univ_four, ← blk0, ← blk0, ← blk0, ← blk0]
  frame_out
  pointwise [k0_pay1]

theorem final1 (c : Dev nD) : (dats m 0 c).arrAt 1 cfg0.N
    = fun i : S2048x1408.Idx => if (i 0).val / 256 < 4 then wide (arg0 m c) i else (dats m 0 c).A 1 i := by
  refine (dats m 0 c).arrAt_eq_of_coversWhere 1 _ (fun β => β (0 : Fin 2) < 4) (by decide +kernel) (fun t _ y => ?_) (fun j => Iff.rfl)
  obtain ⟨r, l, rfl⟩ : ∃ r l, y = ix2 r l := ⟨_, _, eq_ix2 (n0 := 256) (n1 := 1408) y⟩
  show (dats m 0 c).after 1 t (ix2 r l) = _
  rw [after0_1]
  exact tile_at m c t r l

/-- The half that the host takes. -/
theorem tail (c : Dev nD) : Pipeline.afterTail₀ cfgs (dats m) 0 (V0 m) [hostOps1] c main_v1
    = fun j : S1024x1408.Idx => total (arg0 m c) ⟨(j 0).val, (j 0).isLt⟩ ⟨(j 1).val, (j 1).isLt⟩ := by
  show StableHlo.after hostOps1 (Pipeline.withArrays (cfgs 0).spec c (V0 m c) fun w => (dats m 0 c).arrAt w (cfgs 0).N) (Proc.devRef .tc main_v1) = _
  after_results
  have e : Pipeline.withArrays (cfgs 0).spec c (V0 m c) (fun w => (dats m 0 c).arrAt w (cfgs 0).N) (Proc.devRef .tc main_v0) = _ :=
    (Pipeline.withArrays_arr spec0 (by decide) c (V0 m c) (fun w => (dats m 0 c).arrAt w (cfgs 0).N) 1).trans (final1 m c)
  rw [e]
  funext j
  obtain ⟨r, l, rfl⟩ : ∃ r l, j = ix2 r l := ⟨_, _, eq_ix2 (n0 := 1024) (n1 := 1408) j⟩
  pointwise []
  rw [if_pos (by have := r.isLt; omega)]
  show total (arg0 m c) ⟨r.val % 1024, _⟩ l = _
  simp only [Nat.mod_eq_of_lt r.isLt]

end Cert.SumChipsIdeal.Tiles

/-! ## The reference and the claims -/

namespace Cert.Proof.SumChipsClaims

open Cert.SumChipsIdeal.Tiles
open Cert.SumChipsIdeal (S4x1024x1408 S1024x1408)
open Cert.SumChipsRefIdeal.Value Cert.SumChipsRefIdeal.Read

theorem ref_eq (x : S4x1024x1408.Idx → EReal) : val_main_v1 (F := Ideal) x
    = fun j : S1024x1408.Idx => total x ⟨(j 0).val, (j 0).isLt⟩ ⟨(j 1).val, (j 1).isLt⟩ := by
  funext j
  obtain ⟨r, l, rfl⟩ : ∃ r l, j = ix2 r l := ⟨_, _, eq_ix2 (n0 := 1024) (n1 := 1408) j⟩
  pointwise [val_main_v1, val_main_v0, val_main_cst]
  rfl

theorem frame_ref : Cert.quiescent_SumChipsRefIdeal := fun m ρ _ =>
  (θ_run Cert.SumChipsRefIdeal.defs _ _).mono (fun r h => ⟨fun c => (h c).2,
      Idealize.ShloMosaic.sem_eq_zero_of_no_sems (by decide) r.2⟩)
    (Cert.SumChipsRefIdeal.Value.run (F := Ideal) m ρ)

theorem algebraic : Cert.algebraic_SumChipsIdeal_SumChipsRefIdeal := by
  intro m ρ m' ρ' _ hagree
  refine ⟨fun c => fun j : S1024x1408.Idx => total (arg0 m c) ⟨(j 0).val, (j 0).isLt⟩ ⟨(j 1).val, (j 1).isLt⟩, ?_, ?_⟩
  · exact (θ_run Cert.SumChipsIdeal.defs _ _).mono
      (fun _ h c => ⟨((h.1 c).2 Cert.SumChipsIdeal.main_v1 (by decide)).trans (tail m c), h.2 c⟩)
      (θ_run_and (Cert.SumChipsIdeal.Gen.run_main (F := Ideal) m ρ) (Cert.SumChipsIdeal.Gen.unchanged (F := Ideal) m ρ))
  · refine (θ_run Cert.SumChipsRefIdeal.defs _ _).mono (fun _ h c => ⟨(h c).1.trans ?_, (h c).2⟩)
      (Cert.SumChipsRefIdeal.Value.run (F := Ideal) m' ρ')
    refine ((val_main_v1_eq _).trans (ref_eq _)).trans ?_
    rw [hagree c]

end Cert.Proof.SumChipsClaims
end
-- ==== Proof.CastPlace.lean ====
/-
  The cast of a layer's weight to bfloat16: the kernel goes through tiles of rows of the one layer and stores into the slab of its
  own chip, the first of four. The slab is what the host takes.
-/
module

public import proofs.«01_k».proof.Defs
public import proofs.«01_k».proof.Proof.Gen.CastPlaceIdeal.Frame
public import proofs.«01_k».proof.Proof.Gen.CastPlaceRefIdeal.Run
public import proofs.«01_k».proof.Proof.Gen.CastPlaceRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The kernel -/

namespace Cert.CastPlaceIdeal.Tiles

open Cert.CastPlaceIdeal Cert.CastPlaceIdeal.Gen

variable (m : (ℓ : Loc nD τ sig) → Buf (Elt Ideal) ℓ)

abbrev arg0 (c : Dev nD) : S4x2048x1408.Idx → EReal := m ((c : Thread nD τ).loc main_arg0)

/-- Entry `(r, l)` of the last layer. -/
def entry (x : S4x2048x1408.Idx → EReal) (r : Fin 2048) (l : Fin 1408) : EReal := x (ix3 3 r l)

/-- The same in every slab. -/
def slabs (x : S4x2048x1408.Idx → EReal) (j : S4x2048x1408.Idx) : EReal := entry x ⟨(j 1).val, (j 1).isLt⟩ ⟨(j 2).val, (j 2).isLt⟩

theorem idx_facts : ∀ t : Fin cfg0.N,
    win0_0.index t (0 : Fin 3) = 3 ∧ win0_0.index t (1 : Fin 3) = win0_1.index t (1 : Fin 3) ∧ win0_0.index t (2 : Fin 3) = win0_1.index t (2 : Fin 3) :=
  (by decide +kernel : ∀ t : Fin grid0.N, _)

theorem blk0 (c : Dev nD) (t : Fin cfg0.N) (y : S1x256x1408.Idx) :
    iblk m c 0 t y = slabs (arg0 m c) (((cfg0.win 1).blk t).view.emb y) := by
  have e := idx_facts t
  refine congrArg (arg0 m c) (funext fun a => Fin.ext ?_)
  match a with
  | ⟨0, _⟩ => show win0_0.index t (0 : Fin 3) * 1 + 1 * (y 0).val = 3; have h : (y 0).val < 1 := (y 0).isLt; omega
  | ⟨1, _⟩ => show win0_0.index t (1 : Fin 3) * 256 + 1 * (y 1).val = win0_1.index t (1 : Fin 3) * 256 + 1 * (y 1).val; omega
  | ⟨2, _⟩ => show win0_0.index t (2 : Fin 3) * 1408 + 1 * (y 2).val = win0_1.index t (2 : Fin 3) * 1408 + 1 * (y 2).val; omega

/-- Over the reals a cast leaves its argument. -/
theorem cast_at (x : Vec Ideal S1x256x1408 .f32) (y : S1x256x1408.Idx) : k0_pay1 (F := Ideal) x y = (x y : EReal) := by
  obtain ⟨o, r, l, rfl⟩ : ∃ o r l, y = ix3 o r l := ⟨_, _, _, eq_ix3 (n0 := 1) (n1 := 256) (n2 := 1408) y⟩
  obtain rfl : o = 0 := Subsingleton.elim _ _
  pointwise [k0_pay1]

theorem final1 (c : Dev nD) : (dats m 0 c).arrAt 1 cfg0.N
    = fun i : S4x2048x1408.Idx => if (i 0).val / 1 < 1 then slabs (arg0 m c) i else (dats m 0 c).A 1 i := by
  refine (dats m 0 c).arrAt_eq_of_coversWhere 1 _ (fun β => β (0 : Fin 3) < 1) (by decide +kernel) (fun t _ y => ?_) (fun j => Iff.rfl)
  show (dats m 0 c).after 1 t y = _
  rw [after0_1]
  frame_out
  exact (cast_at _ y).trans (blk0 m c t y)

/-- The slab that the host takes. -/
theorem tail (c : Dev nD) : Pipeline.afterTail₀ cfgs (dats m) 0 (V0 m) [hostOps1] c main_v2
    = fun j : S2048x1408.Idx => entry (arg0 m c) ⟨(j 0).val, (j 0).isLt⟩ ⟨(j 1).val, (j 1).isLt⟩ := by
  show StableHlo.after hostOps1 (Pipeline.withArrays (cfgs 0).spec c (V0 m c) fun w => (dats m 0 c).arrAt w (cfgs 0).N) (Proc.devRef .tc main_v2) = _
  after_results
  have e : Pipeline.withArrays (cfgs 0).spec c (V0 m c) (fun w => (dats m 0 c).arrAt w (cfgs 0).N) (Proc.devRef .tc main_v0) = _ :=
    (Pipeline.withArrays_arr spec0 (by decide) c (V0 m c) (fun w => (dats m 0 c).arrAt w (cfgs 0).N) 1).trans (final1 m c)
  rw [e]
  funext j
  obtain ⟨r, l, rfl⟩ : ∃ r l, j = ix2 r l := ⟨_, _, eq_ix2 (n0 := 2048) (n1 := 1408) j⟩
  pointwise []
  rfl

end Cert.CastPlaceIdeal.Tiles

/-! ## The reference and the claims -/

namespace Cert.Proof.CastPlaceClaims

open Cert.CastPlaceIdeal.Tiles
open Cert.CastPlaceIdeal (S4x2048x1408 S2048x1408)
open Cert.CastPlaceRefIdeal.Value Cert.CastPlaceRefIdeal.Read

theorem ref_eq (x : S4x2048x1408.Idx → EReal) : val_main_v2 (F := Ideal) x
    = fun j : S2048x1408.Idx => entry x ⟨(j 0).val, (j 0).isLt⟩ ⟨(j 1).val, (j 1).isLt⟩ := by
  funext j
  obtain ⟨r, l, rfl⟩ : ∃ r l, j = ix2 r l := ⟨_, _, eq_ix2 (n0 := 2048) (n1 := 1408) j⟩
  pointwise [val_main_v2, val_main_v1, val_main_v0]
  rfl

theorem frame_ref : Cert.quiescent_CastPlaceRefIdeal := fun m ρ _ =>
  (θ_run Cert.CastPlaceRefIdeal.defs _ _).mono (fun r h => ⟨fun c => (h c).2,
      Idealize.ShloMosaic.sem_eq_zero_of_no_sems (by decide) r.2⟩)
    (Cert.CastPlaceRefIdeal.Value.run (F := Ideal) m ρ)

theorem algebraic : Cert.algebraic_CastPlaceIdeal_CastPlaceRefIdeal := by
  intro m ρ m' ρ' _ hagree
  refine ⟨fun c => fun j : S2048x1408.Idx => entry (arg0 m c) ⟨(j 0).val, (j 0).isLt⟩ ⟨(j 1).val, (j 1).isLt⟩, ?_, ?_⟩
  · exact (θ_run Cert.CastPlaceIdeal.defs _ _).mono
      (fun _ h c => ⟨((h.1 c).2 Cert.CastPlaceIdeal.main_v2 (by decide)).trans (tail m c), h.2 c⟩)
      (θ_run_and (Cert.CastPlaceIdeal.Gen.run_main (F := Ideal) m ρ) (Cert.CastPlaceIdeal.Gen.unchanged (F := Ideal) m ρ))
  · refine (θ_run Cert.CastPlaceRefIdeal.defs _ _).mono (fun _ h c => ⟨(h c).1.trans ?_, (h c).2⟩)
      (Cert.CastPlaceRefIdeal.Value.run (F := Ideal) m' ρ')
    refine ((val_main_v2_eq _).trans (ref_eq _)).trans ?_
    rw [hagree c]

end Cert.Proof.CastPlaceClaims
end
-- ==== Proof.lean ====
/- The claims about the calls' gradients, put together. -/
module

public import proofs.«01_k».proof.Defs
public import proofs.«01_k».proof.Proof.Gen.ConvInput.Frame
public import proofs.«01_k».proof.Proof.Gen.ConvInputIdeal.Frame
public import proofs.«01_k».proof.Proof.Gen.ConvInputIdeal.Value
public import proofs.«01_k».proof.Proof.Gen.ConvInputRefIdeal.Run
public import proofs.«01_k».proof.Proof.Gen.ConvInputRefIdeal.Read
public import proofs.«01_k».proof.Proof.ConvTaps
public import proofs.«01_k».proof.Proof.Gen.ScanGrad.Frame
public import proofs.«01_k».proof.Proof.Gen.ScanGradIdeal.Frame
public import proofs.«01_k».proof.Proof.Gen.ScanGradRefIdeal
public import proofs.«01_k».proof.Proof.ScanClaims
public import proofs.«01_k».proof.Proof.Gen.ConvGate.Frame
public import proofs.«01_k».proof.Proof.Gen.ConvGateIdeal.Frame
public import proofs.«01_k».proof.Proof.Gen.ConvGateIdeal.Value
public import proofs.«01_k».proof.Proof.Gen.ConvGateRefIdeal.Run
public import proofs.«01_k».proof.Proof.Gen.ConvGateRefIdeal.Read
public import proofs.«01_k».proof.Proof.ConvGate
public import proofs.«01_k».proof.Proof.Gen.GluGate.Frame
public import proofs.«01_k».proof.Proof.Gen.GluGateIdeal.Frame
public import proofs.«01_k».proof.Proof.Gen.GluGateIdeal.Value
public import proofs.«01_k».proof.Proof.Gen.GluGateRefIdeal.Run
public import proofs.«01_k».proof.Proof.Gen.GluGateRefIdeal.Read
public import proofs.«01_k».proof.Proof.GluGate
public import proofs.«01_k».proof.Proof.Gen.NormGrad.Frame
public import proofs.«01_k».proof.Proof.Gen.NormGradIdeal.Frame
public import proofs.«01_k».proof.Proof.Gen.NormGradIdeal.Value
public import proofs.«01_k».proof.Proof.Gen.NormGradRefIdeal.Run
public import proofs.«01_k».proof.Proof.Gen.NormGradRefIdeal.Read
public import proofs.«01_k».proof.Proof.NormGrad
public import proofs.«01_k».proof.Proof.Gen.Loss.Frame
public import proofs.«01_k».proof.Proof.Gen.LossIdeal.Frame
public import proofs.«01_k».proof.Proof.Gen.LossRefIdeal.Run
public import proofs.«01_k».proof.Proof.Gen.LossRefIdeal.Read
public import proofs.«01_k».proof.Proof.Loss
public import proofs.«01_k».proof.Proof.Gen.SwigluGrad.Frame
public import proofs.«01_k».proof.Proof.Gen.SwigluGradIdeal.Frame
public import proofs.«01_k».proof.Proof.Gen.SwigluGradIdeal.Value
public import proofs.«01_k».proof.Proof.Gen.SwigluGradRefIdeal.Run
public import proofs.«01_k».proof.Proof.Gen.SwigluGradRefIdeal.Read
public import proofs.«01_k».proof.Proof.SwigluGrad
public import proofs.«01_k».proof.Proof.Gen.GeluGrad.Frame
public import proofs.«01_k».proof.Proof.Gen.GeluGradIdeal.Frame
public import proofs.«01_k».proof.Proof.Gen.GeluGradIdeal.Value
public import proofs.«01_k».proof.Proof.Gen.GeluGradRefIdeal.Run
public import proofs.«01_k».proof.Proof.Gen.GeluGradRefIdeal.Read
public import proofs.«01_k».proof.Proof.GeluGrad
public import proofs.«01_k».proof.Proof.Gen.ReadGrad.Frame
public import proofs.«01_k».proof.Proof.Gen.ReadGradIdeal.Frame
public import proofs.«01_k».proof.Proof.Gen.ReadGradIdeal.Value
public import proofs.«01_k».proof.Proof.Gen.ReadGradRefIdeal.Run
public import proofs.«01_k».proof.Proof.Gen.ReadGradRefIdeal.Read
public import proofs.«01_k».proof.Proof.ReadGrad
public import proofs.«01_k».proof.Proof.Gen.SkipGrad.Frame
public import proofs.«01_k».proof.Proof.Gen.SkipGradIdeal.Frame
public import proofs.«01_k».proof.Proof.Gen.SkipGradIdeal.Value
public import proofs.«01_k».proof.Proof.Gen.SkipGradRefIdeal.Run
public import proofs.«01_k».proof.Proof.Gen.SkipGradRefIdeal.Read
public import proofs.«01_k».proof.Proof.SkipGrad
public import proofs.«01_k».proof.Proof.Gen.InputGrad.Frame
public import proofs.«01_k».proof.Proof.Gen.InputGradIdeal.Frame
public import proofs.«01_k».proof.Proof.Gen.InputGradIdeal.Value
public import proofs.«01_k».proof.Proof.Gen.InputGradRefIdeal.Run
public import proofs.«01_k».proof.Proof.Gen.InputGradRefIdeal.Read
public import proofs.«01_k».proof.Proof.InputGrad
public import proofs.«01_k».proof.Proof.Gen.ConvOut.Frame
public import proofs.«01_k».proof.Proof.Gen.ConvOutIdeal.Frame
public import proofs.«01_k».proof.Proof.Gen.ConvOutIdeal.Value
public import proofs.«01_k».proof.Proof.Gen.ConvOutRefIdeal.Run
public import proofs.«01_k».proof.Proof.Gen.ConvOutRefIdeal.Read
public import proofs.«01_k».proof.Proof.ConvOut
public import proofs.«01_k».proof.Proof.Gen.SwigluUp.Frame
public import proofs.«01_k».proof.Proof.Gen.SwigluUpIdeal.Frame
public import proofs.«01_k».proof.Proof.Gen.SwigluUpIdeal.Value
public import proofs.«01_k».proof.Proof.Gen.SwigluUpRefIdeal.Run
public import proofs.«01_k».proof.Proof.Gen.SwigluUpRefIdeal.Read
public import proofs.«01_k».proof.Proof.SwigluUp
public import proofs.«01_k».proof.Proof.Gen.DownNorm.Frame
public import proofs.«01_k».proof.Proof.Gen.DownNormIdeal.Frame
public import proofs.«01_k».proof.Proof.Gen.DownNormIdeal.Value
public import proofs.«01_k».proof.Proof.Gen.DownNormRefIdeal.Run
public import proofs.«01_k».proof.Proof.Gen.DownNormRefIdeal.Read
public import proofs.«01_k».proof.Proof.DownNorm
public import proofs.«01_k».proof.Proof.Gen.ReadOut.Frame
public import proofs.«01_k».proof.Proof.Gen.ReadOutIdeal.Frame
public import proofs.«01_k».proof.Proof.Gen.ReadOutIdeal.Value
public import proofs.«01_k».proof.Proof.Gen.ReadOutRefIdeal.Run
public import proofs.«01_k».proof.Proof.Gen.ReadOutRefIdeal.Read
public import proofs.«01_k».proof.Proof.ReadOut
public import proofs.«01_k».proof.Proof.Gen.GluOut.Frame
public import proofs.«01_k».proof.Proof.Gen.GluOutIdeal.Frame
public import proofs.«01_k».proof.Proof.Gen.GluOutIdeal.Value
public import proofs.«01_k».proof.Proof.Gen.GluOutRefIdeal.Run
public import proofs.«01_k».proof.Proof.Gen.GluOutRefIdeal.Read
public import proofs.«01_k».proof.Proof.GluOut
public import proofs.«01_k».proof.Proof.Gen.HalfSwap
public import proofs.«01_k».proof.Proof.Gen.HalfSwapRefIdeal.Run
public import proofs.«01_k».proof.Proof.Gen.HalfSwapRefIdeal.Read
public import proofs.«01_k».proof.Proof.HalfSwapClaims
public import proofs.«01_k».proof.Proof.Gen.ChipSwap
public import proofs.«01_k».proof.Proof.Gen.ChipSwapRefIdeal.Run
public import proofs.«01_k».proof.Proof.Gen.ChipSwapRefIdeal.Read
public import proofs.«01_k».proof.Proof.ChipSwapClaims
public import proofs.«01_k».proof.Proof.Gen.JoinHalves
public import proofs.«01_k».proof.Proof.Gen.JoinHalvesRefIdeal.Run
public import proofs.«01_k».proof.Proof.Gen.JoinHalvesRefIdeal.Read
public import proofs.«01_k».proof.Proof.JoinHalvesClaims
public import proofs.«01_k».proof.Proof.Gen.ChipGather
public import proofs.«01_k».proof.Proof.Gen.ChipGatherRefIdeal.Run
public import proofs.«01_k».proof.Proof.Gen.ChipGatherRefIdeal.Read
public import proofs.«01_k».proof.Proof.ChipGatherClaims
public import proofs.«01_k».proof.Proof.Gen.WeightCols.Frame
public import proofs.«01_k».proof.Proof.Gen.WeightColsIdeal.Frame
public import proofs.«01_k».proof.Proof.Gen.WeightColsIdeal.Value
public import proofs.«01_k».proof.Proof.Gen.WeightColsRefIdeal.Run
public import proofs.«01_k».proof.Proof.Gen.WeightColsRefIdeal.Read
public import proofs.«01_k».proof.Proof.WeightCols
public import proofs.«01_k».proof.Proof.Gen.WeightRows.Frame
public import proofs.«01_k».proof.Proof.Gen.WeightRowsIdeal.Frame
public import proofs.«01_k».proof.Proof.Gen.WeightRowsIdeal.Value
public import proofs.«01_k».proof.Proof.Gen.WeightRowsRefIdeal.Run
public import proofs.«01_k».proof.Proof.Gen.WeightRowsRefIdeal.Read
public import proofs.«01_k».proof.Proof.WeightRows
public import proofs.«01_k».proof.Proof.Gen.BlockWeights.Frame
public import proofs.«01_k».proof.Proof.Gen.BlockWeightsIdeal.Frame
public import proofs.«01_k».proof.Proof.Gen.BlockWeightsIdeal.Value
public import proofs.«01_k».proof.Proof.Gen.BlockWeightsRefIdeal.Run
public import proofs.«01_k».proof.Proof.Gen.BlockWeightsRefIdeal.Read
public import proofs.«01_k».proof.Proof.BlockWeights
public import proofs.«01_k».proof.Proof.Gen.AdamLarge.Frame
public import proofs.«01_k».proof.Proof.Gen.AdamLargeIdeal.Frame
public import proofs.«01_k».proof.Proof.Gen.AdamLargeIdeal.Value
public import proofs.«01_k».proof.Proof.Gen.AdamLargeRefIdeal.Run
public import proofs.«01_k».proof.Proof.Gen.AdamLargeRefIdeal.Read
public import proofs.«01_k».proof.Proof.AdamLarge
public import proofs.«01_k».proof.Proof.Gen.AdamSmall.Frame
public import proofs.«01_k».proof.Proof.Gen.AdamSmallIdeal.Frame
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.AdamSmall
public import proofs.«01_k».proof.Proof.Gen.AddPairs
public import proofs.«01_k».proof.Proof.Gen.AddPairsRefIdeal.Run
public import proofs.«01_k».proof.Proof.Gen.AddPairsRefIdeal.Read
public import proofs.«01_k».proof.Proof.AddPairsClaims
public import proofs.«01_k».proof.Proof.Gen.SumChips.Frame
public import proofs.«01_k».proof.Proof.Gen.SumChipsIdeal.Frame
public import proofs.«01_k».proof.Proof.Gen.SumChipsRefIdeal.Run
public import proofs.«01_k».proof.Proof.Gen.SumChipsRefIdeal.Read
public import proofs.«01_k».proof.Proof.SumChips
public import proofs.«01_k».proof.Proof.Gen.CastPlace.Frame
public import proofs.«01_k».proof.Proof.Gen.CastPlaceIdeal.Frame
public import proofs.«01_k».proof.Proof.Gen.CastPlaceRefIdeal.Run
public import proofs.«01_k».proof.Proof.Gen.CastPlaceRefIdeal.Read
public import proofs.«01_k».proof.Proof.CastPlace
public import Idealize.ShloMosaic.Adequacy
public import Idealize.ShloMosaic.Init

@[expose] public section

noncomputable section

namespace Cert.Proof

open Idealize.ShloMosaic Idealize.SL.Sem

theorem claim : Cert.Claim :=
  haveI := ScanClaims.pre_facts
  haveI := ConvGateClaims.pre_facts
  haveI := GluGateClaims.pre_facts
  haveI := NormGradClaims.pre_facts
  haveI := SwigluGradClaims.pre_facts
  haveI := GeluGradClaims.pre_facts
  haveI := ReadOutClaims.pre_facts
  ⟨Cert.ConvInput.Gen.facts, Cert.ConvInputIdeal.Gen.facts, Cert.ConvInputRefIdeal.Gen.facts,
  Cert.ScanGrad.Gen.facts, Cert.ScanGradIdeal.Gen.facts, Cert.ScanGradRefIdeal.Gen.facts,
  Cert.ConvGate.Gen.facts, Cert.ConvGateIdeal.Gen.facts, Cert.ConvGateRefIdeal.Gen.facts,
  Cert.GluGate.Gen.facts, Cert.GluGateIdeal.Gen.facts, Cert.GluGateRefIdeal.Gen.facts,
  Cert.NormGrad.Gen.facts, Cert.NormGradIdeal.Gen.facts, Cert.NormGradRefIdeal.Gen.facts,
  Cert.Loss.Gen.facts, Cert.LossIdeal.Gen.facts, Cert.LossRefIdeal.Gen.facts,
  Cert.SwigluGrad.Gen.facts, Cert.SwigluGradIdeal.Gen.facts, Cert.SwigluGradRefIdeal.Gen.facts,
  Cert.GeluGrad.Gen.facts, Cert.GeluGradIdeal.Gen.facts, Cert.GeluGradRefIdeal.Gen.facts,
  Cert.ReadGrad.Gen.facts, Cert.ReadGradIdeal.Gen.facts, Cert.ReadGradRefIdeal.Gen.facts,
  Cert.SkipGrad.Gen.facts, Cert.SkipGradIdeal.Gen.facts, Cert.SkipGradRefIdeal.Gen.facts,
  Cert.InputGrad.Gen.facts, Cert.InputGradIdeal.Gen.facts, Cert.InputGradRefIdeal.Gen.facts,
  Cert.ConvOut.Gen.facts, Cert.ConvOutIdeal.Gen.facts, Cert.ConvOutRefIdeal.Gen.facts,
  Cert.SwigluUp.Gen.facts, Cert.SwigluUpIdeal.Gen.facts, Cert.SwigluUpRefIdeal.Gen.facts,
  Cert.DownNorm.Gen.facts, Cert.DownNormIdeal.Gen.facts, Cert.DownNormRefIdeal.Gen.facts,
  Cert.ReadOut.Gen.facts, Cert.ReadOutIdeal.Gen.facts, Cert.ReadOutRefIdeal.Gen.facts,
  Cert.GluOut.Gen.facts, Cert.GluOutIdeal.Gen.facts, Cert.GluOutRefIdeal.Gen.facts,
  Cert.HalfSwap.Gen.facts, Cert.HalfSwapIdeal.Gen.facts, Cert.HalfSwapRefIdeal.Gen.facts,
  Cert.ChipSwap.Gen.facts, Cert.ChipSwapIdeal.Gen.facts, Cert.ChipSwapRefIdeal.Gen.facts,
  Cert.JoinHalves.Gen.facts, Cert.JoinHalvesIdeal.Gen.facts, Cert.JoinHalvesRefIdeal.Gen.facts,
  Cert.ChipGather.Gen.facts, Cert.ChipGatherIdeal.Gen.facts, Cert.ChipGatherRefIdeal.Gen.facts,
  Cert.WeightCols.Gen.facts, Cert.WeightColsIdeal.Gen.facts, Cert.WeightColsRefIdeal.Gen.facts,
  Cert.WeightRows.Gen.facts, Cert.WeightRowsIdeal.Gen.facts, Cert.WeightRowsRefIdeal.Gen.facts,
  Cert.BlockWeights.Gen.facts, Cert.BlockWeightsIdeal.Gen.facts, Cert.BlockWeightsRefIdeal.Gen.facts,
  Cert.AdamLarge.Gen.facts, Cert.AdamLargeIdeal.Gen.facts, Cert.AdamLargeRefIdeal.Gen.facts,
  Cert.AdamSmall.Gen.facts, Cert.AdamSmallIdeal.Gen.facts, Cert.AdamSmallRefIdeal.Gen.facts,
  Cert.AddPairs.Gen.facts, Cert.AddPairsIdeal.Gen.facts, Cert.AddPairsRefIdeal.Gen.facts,
  Cert.SumChips.Gen.facts, Cert.SumChipsIdeal.Gen.facts, Cert.SumChipsRefIdeal.Gen.facts,
  Cert.CastPlace.Gen.facts, Cert.CastPlaceIdeal.Gen.facts, Cert.CastPlaceRefIdeal.Gen.facts,
  ScanClaims.pre_facts, ConvGateClaims.pre_facts, GluGateClaims.pre_facts, NormGradClaims.pre_facts, SwigluGradClaims.pre_facts, GeluGradClaims.pre_facts, ReadOutClaims.pre_facts,
  fun m ρ _ => Cert.ConvInput.Gen.frame m ρ,
  fun m ρ _ => Cert.ConvInputIdeal.Gen.frame m ρ,
  ConvInputClaims.frame_ref,
  fun m ρ _ => Cert.ScanGrad.Gen.frame m ρ,
  fun m ρ _ => Cert.ScanGradIdeal.Gen.frame m ρ,
  fun m ρ _ => Cert.ScanGradIdeal.Gen.frame m ρ,
  ScanClaims.frame_ref,
  fun m ρ _ => ScanClaims.frame_ref m ρ trivial,
  fun m ρ _ => Cert.ConvGate.Gen.frame m ρ,
  fun m ρ _ => Cert.ConvGateIdeal.Gen.frame m ρ,
  fun m ρ _ => Cert.ConvGateIdeal.Gen.frame m ρ,
  ConvGateClaims.frame_ref,
  fun m ρ _ => ConvGateClaims.frame_ref m ρ trivial,
  fun m ρ _ => Cert.GluGate.Gen.frame m ρ,
  fun m ρ _ => Cert.GluGateIdeal.Gen.frame m ρ,
  fun m ρ _ => Cert.GluGateIdeal.Gen.frame m ρ,
  GluGateClaims.frame_ref,
  fun m ρ _ => GluGateClaims.frame_ref m ρ trivial,
  fun m ρ _ => Cert.NormGrad.Gen.frame m ρ,
  fun m ρ _ => Cert.NormGradIdeal.Gen.frame m ρ,
  fun m ρ _ => Cert.NormGradIdeal.Gen.frame m ρ,
  NormGradClaims.frame_ref,
  fun m ρ _ => NormGradClaims.frame_ref m ρ trivial,
  fun m ρ _ => Cert.Loss.Gen.frame m ρ,
  fun m ρ _ => Cert.LossIdeal.Gen.frame m ρ,
  LossClaims.frame_ref,
  fun m ρ _ => Cert.SwigluGrad.Gen.frame m ρ,
  fun m ρ _ => Cert.SwigluGradIdeal.Gen.frame m ρ,
  fun m ρ _ => Cert.SwigluGradIdeal.Gen.frame m ρ,
  SwigluGradClaims.frame_ref,
  fun m ρ _ => SwigluGradClaims.frame_ref m ρ trivial,
  fun m ρ _ => Cert.GeluGrad.Gen.frame m ρ,
  fun m ρ _ => Cert.GeluGradIdeal.Gen.frame m ρ,
  fun m ρ _ => Cert.GeluGradIdeal.Gen.frame m ρ,
  GeluGradClaims.frame_ref,
  fun m ρ _ => GeluGradClaims.frame_ref m ρ trivial,
  fun m ρ _ => Cert.ReadGrad.Gen.frame m ρ,
  fun m ρ _ => Cert.ReadGradIdeal.Gen.frame m ρ,
  ReadGradClaims.frame_ref,
  fun m ρ _ => Cert.SkipGrad.Gen.frame m ρ,
  fun m ρ _ => Cert.SkipGradIdeal.Gen.frame m ρ,
  SkipGradClaims.frame_ref,
  fun m ρ _ => Cert.InputGrad.Gen.frame m ρ,
  fun m ρ _ => Cert.InputGradIdeal.Gen.frame m ρ,
  InputGradClaims.frame_ref,
  fun m ρ _ => Cert.ConvOut.Gen.frame m ρ,
  fun m ρ _ => Cert.ConvOutIdeal.Gen.frame m ρ,
  ConvOutClaims.frame_ref,
  fun m ρ _ => Cert.SwigluUp.Gen.frame m ρ,
  fun m ρ _ => Cert.SwigluUpIdeal.Gen.frame m ρ,
  SwigluUpClaims.frame_ref,
  fun m ρ _ => Cert.DownNorm.Gen.frame m ρ,
  fun m ρ _ => Cert.DownNormIdeal.Gen.frame m ρ,
  DownNormClaims.frame_ref,
  fun m ρ _ => Cert.ReadOut.Gen.frame m ρ,
  fun m ρ _ => Cert.ReadOutIdeal.Gen.frame m ρ,
  fun m ρ _ => Cert.ReadOutIdeal.Gen.frame m ρ,
  ReadOutClaims.frame_ref,
  fun m ρ _ => ReadOutClaims.frame_ref m ρ trivial,
  fun m ρ _ => Cert.GluOut.Gen.frame m ρ,
  fun m ρ _ => Cert.GluOutIdeal.Gen.frame m ρ,
  GluOutClaims.frame_ref,
  HalfSwapClaims.frame_kernel,
  HalfSwapClaims.frame_ideal,
  HalfSwapClaims.frame_ref,
  ChipSwapClaims.frame_kernel,
  ChipSwapClaims.frame_ideal,
  ChipSwapClaims.frame_ref,
  JoinHalvesClaims.frame_kernel,
  JoinHalvesClaims.frame_ideal,
  JoinHalvesClaims.frame_ref,
  ChipGatherClaims.frame_kernel,
  ChipGatherClaims.frame_ideal,
  ChipGatherClaims.frame_ref,
  fun m ρ _ => Cert.WeightCols.Gen.frame m ρ,
  fun m ρ _ => Cert.WeightColsIdeal.Gen.frame m ρ,
  WeightColsClaims.frame_ref,
  fun m ρ _ => Cert.WeightRows.Gen.frame m ρ,
  fun m ρ _ => Cert.WeightRowsIdeal.Gen.frame m ρ,
  WeightRowsClaims.frame_ref,
  fun m ρ _ => Cert.BlockWeights.Gen.frame m ρ,
  fun m ρ _ => Cert.BlockWeightsIdeal.Gen.frame m ρ,
  BlockWeightsClaims.frame_ref,
  fun m ρ _ => Cert.AdamLarge.Gen.frame m ρ,
  fun m ρ _ => Cert.AdamLargeIdeal.Gen.frame m ρ,
  AdamLargeClaims.frame_ref,
  fun m ρ _ => Cert.AdamSmall.Gen.frame m ρ,
  fun m ρ _ => Cert.AdamSmallIdeal.Gen.frame m ρ,
  AdamSmallClaims.frame_ref,
  AddPairsClaims.frame_kernel,
  AddPairsClaims.frame_ideal,
  AddPairsClaims.frame_ref,
  fun m ρ _ => Cert.SumChips.Gen.frame m ρ,
  fun m ρ _ => Cert.SumChipsIdeal.Gen.frame m ρ,
  SumChipsClaims.frame_ref,
  fun m ρ _ => Cert.CastPlace.Gen.frame m ρ,
  fun m ρ _ => Cert.CastPlaceIdeal.Gen.frame m ρ,
  CastPlaceClaims.frame_ref,
  trivial, ConvInputClaims.algebraic,
  trivial, ScanClaims.algebraic,
  trivial, ConvGateClaims.algebraic,
  trivial, GluGateClaims.algebraic,
  trivial, NormGradClaims.algebraic,
  trivial, LossClaims.algebraic,
  trivial, SwigluGradClaims.algebraic,
  GeluGradClaims.preserves, GeluGradClaims.algebraic,
  trivial, ReadGradClaims.algebraic,
  trivial, SkipGradClaims.algebraic,
  trivial, InputGradClaims.algebraic,
  trivial, ConvOutClaims.algebraic,
  trivial, SwigluUpClaims.algebraic,
  trivial, DownNormClaims.algebraic,
  trivial, ReadOutClaims.algebraic,
  trivial, GluOutClaims.algebraic,
  trivial, HalfSwapClaims.algebraic,
  trivial, ChipSwapClaims.algebraic,
  trivial, JoinHalvesClaims.algebraic,
  trivial, ChipGatherClaims.algebraic,
  trivial, WeightColsClaims.algebraic,
  trivial, WeightRowsClaims.algebraic,
  trivial, BlockWeightsClaims.algebraic,
  trivial, AdamLargeClaims.algebraic,
  trivial, AdamSmallClaims.algebraic,
  trivial, AddPairsClaims.algebraic,
  trivial, SumChipsClaims.algebraic,
  trivial, CastPlaceClaims.algebraic⟩

end Cert.Proof

end
